-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2)) (m ((c.tc : Thread Cert.Reference.nD Cert.Reference.τ).loc Cert.Reference.main_arg3)) (m ((c.tc : Thread Cert.Reference.nD Cert.Reference.τ).loc Cert.Reference.main_arg4))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)
      ∧ m' ((c.tc : Thread Cert.Reference.nD Cert.Reference.τ).loc Cert.Reference.main_arg3) = m ((c.tc : Thread Cert.Kernel.nD Cert.Kernel.τ).loc Cert.Kernel.main_arg3)
      ∧ m' ((c.tc : Thread Cert.Reference.nD Cert.Reference.τ).loc Cert.Reference.main_arg4) = m ((c.tc : Thread Cert.Kernel.nD Cert.Kernel.τ).loc Cert.Kernel.main_arg4)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2)
          ∧ r.2.mem ((c.tc : Thread Cert.Kernel.nD Cert.Kernel.τ).loc Cert.Kernel.main_arg3) = m ((c.tc : Thread Cert.Kernel.nD Cert.Kernel.τ).loc Cert.Kernel.main_arg3)
          ∧ r.2.mem ((c.tc : Thread Cert.Kernel.nD Cert.Kernel.τ).loc Cert.Kernel.main_arg4) = m ((c.tc : Thread Cert.Kernel.nD Cert.Kernel.τ).loc Cert.Kernel.main_arg4))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v27) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2)
          ∧ r.2.mem ((c.tc : Thread Cert.Reference.nD Cert.Reference.τ).loc Cert.Reference.main_arg3) = m' ((c.tc : Thread Cert.Reference.nD Cert.Reference.τ).loc Cert.Reference.main_arg3)
          ∧ r.2.mem ((c.tc : Thread Cert.Reference.nD Cert.Reference.τ).loc Cert.Reference.main_arg4) = m' ((c.tc : Thread Cert.Reference.nD Cert.Reference.τ).loc Cert.Reference.main_arg4))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
    ∧ bitexact_Kernel_Reference (hKernel := hKernel) (hReference := hReference) (hPre_in_range := hPre_in_range)
-- ==== Pre_in_range.lean ====
abbrev S4096x128 : Shape := ⟨2, ![4096, 128]⟩
abbrev S1000000 : Shape := ⟨1, ![1000000]⟩
abbrev S20 : Shape := ⟨1, ![20]⟩
abbrev S_ : Shape := ⟨0, ![]⟩

class Facts : Prop where
  bcast_S_S1000000 : S_.BroadcastsInDim S1000000 (![] : Fin 0 → Fin S1000000.rank)
  reducesTo_S1000000_S_d0 : S1000000.ReducesTo [0] S_
  h_S_ : 0 < S_.numel

variable [Facts]

def fn {F : FTy → Type} [FloatOps F] (main_arg0 : FVec F S4096x128 .f32) (main_arg1 : IVec S1000000 32) (main_arg2 : IVec S1000000 32) (main_arg3 : IVec S1000000 32) (main_arg4 : FVec F S20 .f32) : IVec S_ 1 :=
  let main_c : IVec S_ 32 := constantI S_ 32 0#32
  let main_v0 : IVec S1000000 32 := broadcastInDim S1000000 ![] bcast_S_S1000000 main_c
  let main_v1 : IVec S1000000 1 := cmpi .sge main_arg1 main_v0
  let main_c_0 : IVec S_ 32 := constantI S_ 32 4096#32
  let main_v2 : IVec S1000000 32 := broadcastInDim S1000000 ![] bcast_S_S1000000 main_c_0
  let main_v3 : IVec S1000000 1 := cmpi .slt main_arg1 main_v2
  let main_v4 : IVec S1000000 1 := andi main_v1 main_v3
  let main_c_1 : IVec S_ 1 := constantI S_ 1 1#1
  let main_v5 : IVec S_ 1 := (fun x v => Host.reduce IntOp.andi x v reducesTo_S1000000_S_d0 h_S_) main_v4 main_c_1
  let main_c_2 : IVec S_ 32 := constantI S_ 32 0#32
  let main_v6 : IVec S1000000 32 := broadcastInDim S1000000 ![] bcast_S_S1000000 main_c_2
  let main_v7 : IVec S1000000 1 := cmpi .sge main_arg2 main_v6
  let main_c_3 : IVec S_ 32 := constantI S_ 32 4096#32
  let main_v8 : IVec S1000000 32 := broadcastInDim S1000000 ![] bcast_S_S1000000 main_c_3
  let main_v9 : IVec S1000000 1 := cmpi .slt main_arg2 main_v8
  let main_v10 : IVec S1000000 1 := andi main_v7 main_v9
  let main_c_4 : IVec S_ 1 := constantI S_ 1 1#1
  let main_v11 : IVec S_ 1 := (fun x v => Host.reduce IntOp.andi x v reducesTo_S1000000_S_d0 h_S_) main_v10 main_c_4
  let main_v12 : IVec S_ 1 := andi main_v5 main_v11
  main_v12
-- ==== Kernel.lean ====
abbrev S4096x128 : Shape := ⟨2, ![4096, 128]⟩
abbrev S1000000 : Shape := ⟨1, ![1000000]⟩
abbrev S20 : Shape := ⟨1, ![20]⟩
abbrev S1024 : Shape := ⟨1, ![1024]⟩
abbrev S32 : Shape := ⟨1, ![32]⟩
abbrev S16 : Shape := ⟨1, ![16]⟩
abbrev S_ : Shape := ⟨0, ![]⟩
abbrev S544 : Shape := ⟨1, ![544]⟩
abbrev S1010688 : Shape := ⟨1, ![1010688]⟩
abbrev S31520 : Shape := ⟨1, ![31520]⟩
abbrev S16777216 : Shape := ⟨1, ![16777216]⟩
abbrev S65536 : Shape := ⟨1, ![65536]⟩
abbrev S57344 : Shape := ⟨1, ![57344]⟩
abbrev S2048 : Shape := ⟨1, ![2048]⟩
abbrev S4096x4096 : Shape := ⟨2, ![4096, 4096]⟩

abbrev nBuf : Table → Nat
  | .hbm => 9
  | .local .scVector .vmem => 15
  | _ => 0

abbrev bufTy : (tb : Table) → Fin (nBuf tb) → BufTy
  | .hbm, ⟨0, _⟩ => ⟨S4096x128, .f32⟩
  | .hbm, ⟨1, _⟩ => ⟨S1000000, .i32⟩
  | .hbm, ⟨2, _⟩ => ⟨S1000000, .i32⟩
  | .hbm, ⟨3, _⟩ => ⟨S1000000, .i32⟩
  | .hbm, ⟨4, _⟩ => ⟨S20, .f32⟩
  | .hbm, ⟨5, _⟩ => ⟨S1024, .i32⟩
  | .hbm, ⟨6, _⟩ => ⟨S1010688, .i32⟩
  | .hbm, ⟨7, _⟩ => ⟨S16777216, .f32⟩
  | .hbm, ⟨8, _⟩ => ⟨S4096x4096, .f32⟩
  | .local .scVector .vmem, ⟨0, _⟩ => ⟨S1024, .i32⟩
  | .local .scVector .vmem, ⟨1, _⟩ => ⟨S32, .i32⟩
  | .local .scVector .vmem, ⟨2, _⟩ => ⟨S32, .i32⟩
  | .local .scVector .vmem, ⟨3, _⟩ => ⟨S32, .i32⟩
  | .local .scVector .vmem, ⟨4, _⟩ => ⟨S1024, .i32⟩
  | .local .scVector .vmem, ⟨5, _⟩ => ⟨S1024, .i32⟩
  | .local .scVector .vmem, ⟨6, _⟩ => ⟨S1024, .i32⟩
  | .local .scVector .vmem, ⟨7, _⟩ => ⟨S31520, .i32⟩
  | .local .scVector .vmem, ⟨8, _⟩ => ⟨S65536, .f32⟩
  | .local .scVector .vmem, ⟨9, _⟩ => ⟨S1024, .i32⟩
  | .local .scVector .vmem, ⟨10, _⟩ => ⟨S32, .i32⟩
  | .local .scVector .vmem, ⟨11, _⟩ => ⟨S32, .i32⟩
  | .local .scVector .vmem, ⟨12, _⟩ => ⟨S57344, .i32⟩
  | .local .scVector .vmem, ⟨13, _⟩ => ⟨S2048, .i32⟩
  | .local .scVector .vmem, ⟨14, _⟩ => ⟨S32, .f32⟩
  | _, _ => ⟨S4096x128, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 19 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => false
  | ⟨17, _⟩ => false
  | ⟨18, _⟩ => false
  | _ => false

abbrev sig : RefSig :=
  ofTables nBuf rfl bufTy 4 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_arg1_scv : Ref sig .scVector := ⟨.hbm, 1, rfl⟩
abbrev main_v0_scv : Ref sig .scVector := ⟨.hbm, 5, rfl⟩
abbrev main_arg2_scv : Ref sig .scVector := ⟨.hbm, 2, rfl⟩
abbrev main_arg3_scv : Ref sig .scVector := ⟨.hbm, 3, rfl⟩
abbrev main_v1_scv : Ref sig .scVector := ⟨.hbm, 6, rfl⟩
abbrev main_arg4_scv : Ref sig .scVector := ⟨.hbm, 4, rfl⟩
abbrev main_v2_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc1_scratch0 : Ref sig .scVector := ⟨.vmem, 2, rfl⟩
abbrev cc1_scratch1 : Ref sig .scVector := ⟨.vmem, 3, rfl⟩
abbrev cc1_scratch2 : Ref sig .scVector := ⟨.vmem, 4, rfl⟩
abbrev cc1_scratch3 : Ref sig .scVector := ⟨.vmem, 5, rfl⟩
abbrev cc1_scratch4 : Ref sig .scVector := ⟨.vmem, 6, rfl⟩
abbrev cc1_scratch5 : Ref sig .scVector := ⟨.vmem, 7, rfl⟩
abbrev cc2_scratch0 : Ref sig .scVector := ⟨.vmem, 8, rfl⟩
abbrev cc2_scratch1 : Ref sig .scVector := ⟨.vmem, 9, rfl⟩
abbrev cc2_scratch2 : Ref sig .scVector := ⟨.vmem, 10, rfl⟩
abbrev cc2_scratch3 : Ref sig .scVector := ⟨.vmem, 11, rfl⟩
abbrev cc2_scratch4 : Ref sig .scVector := ⟨.vmem, 12, rfl⟩
abbrev cc2_scratch5 : Ref sig .scVector := ⟨.vmem, 13, rfl⟩
abbrev cc2_scratch6 : Ref sig .scVector := ⟨.vmem, 14, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32_2 : BitVec 32 := 0#32
  let c30_i32 : BitVec 32 := 30#32
  let v8 : BitVec 32 := Scalar.addi c0_i32_2 c30_i32
  let c1_i32_3 : BitVec 32 := 1#32
  ⟨c0_i32_2, v8, c1_i32_3⟩
def k0_off1 (i : grid0.Coords) (k0_t1 : Fin k0_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1954_i32 : BitVec 32 := 1954#32
  let v2 : BitVec 32 := Scalar.muli v1 c1954_i32
  let c0_i32_2 : BitVec 32 := 0#32
  let c1_i32_3 : BitVec 32 := 1#32
  let arg6 : BitVec 32 := Scf.iv c0_i32_2 c1_i32_3 k0_t1
  let c64_i32 : BitVec 32 := 64#32
  let v219 : BitVec 32 := Scalar.muli arg6 c64_i32
  let v220 : BitVec 32 := Scalar.addi v2 v219
  let c16_i32_48 : BitVec 32 := 16#32
  let v221 : BitVec 32 := Scalar.muli v220 c16_i32_48
  ![v221.toNat]

def k0_chk1 (v224 : IVec S16 32) : Prop :=
  (∀ a x, ((![v224] : Fin 1 → IVec S16 32) a x).toNat < S32.size a)
theorem k0_idx1_inb : ∀ (v224 : IVec S16 32) (k0_hw1 : k0_chk1 v224), ∀ a x, ((![v224] : Fin 1 → IVec S16 32) a x).toNat < S32.size a := fun v224 k0_hw1 => k0_hw1

def k0_chk2 (v227 : IVec S16 32) : Prop :=
  (∀ a x, ((![v227] : Fin 1 → IVec S16 32) a x).toNat < S32.size a)
theorem k0_idx2_inb : ∀ (v227 : IVec S16 32) (k0_hw2 : k0_chk2 v227), ∀ a x, ((![v227] : Fin 1 → IVec S16 32) a x).toNat < S32.size a := fun v227 k0_hw2 => k0_hw2

def k0_chk3 (v230 : IVec S16 32) : Prop :=
  (∀ a x, ((![v230] : Fin 1 → IVec S16 32) a x).toNat < S32.size a)
theorem k0_idx3_inb : ∀ (v230 : IVec S16 32) (k0_hw3 : k0_chk3 v230), ∀ a x, ((![v230] : Fin 1 → IVec S16 32) a x).toNat < S32.size a := fun v230 k0_hw3 => k0_hw3

def k0_chk4 (v233 : IVec S16 32) : Prop :=
  (∀ a x, ((![v233] : Fin 1 → IVec S16 32) a x).toNat < S32.size a)
theorem k0_idx4_inb : ∀ (v233 : IVec S16 32) (k0_hw4 : k0_chk4 v233), ∀ a x, ((![v233] : Fin 1 → IVec S16 32) a x).toNat < S32.size a := fun v233 k0_hw4 => k0_hw4

def k0_chk5 (v236 : IVec S16 32) : Prop :=
  (∀ a x, ((![v236] : Fin 1 → IVec S16 32) a x).toNat < S32.size a)
theorem k0_idx5_inb : ∀ (v236 : IVec S16 32) (k0_hw5 : k0_chk5 v236), ∀ a x, ((![v236] : Fin 1 → IVec S16 32) a x).toNat < S32.size a := fun v236 k0_hw5 => k0_hw5

def k0_chk6 (v239 : IVec S16 32) : Prop :=
  (∀ a x, ((![v239] : Fin 1 → IVec S16 32) a x).toNat < S32.size a)
theorem k0_idx6_inb : ∀ (v239 : IVec S16 32) (k0_hw6 : k0_chk6 v239), ∀ a x, ((![v239] : Fin 1 → IVec S16 32) a x).toNat < S32.size a := fun v239 k0_hw6 => k0_hw6

def k0_chk7 (v242 : IVec S16 32) : Prop :=
  (∀ a x, ((![v242] : Fin 1 → IVec S16 32) a x).toNat < S32.size a)
theorem k0_idx7_inb : ∀ (v242 : IVec S16 32) (k0_hw7 : k0_chk7 v242), ∀ a x, ((![v242] : Fin 1 → IVec S16 32) a x).toNat < S32.size a := fun v242 k0_hw7 => k0_hw7

def k0_chk8 (v245 : IVec S16 32) : Prop :=
  (∀ a x, ((![v245] : Fin 1 → IVec S16 32) a x).toNat < S32.size a)
theorem k0_idx8_inb : ∀ (v245 : IVec S16 32) (k0_hw8 : k0_chk8 v245), ∀ a x, ((![v245] : Fin 1 → IVec S16 32) a x).toNat < S32.size a := fun v245 k0_hw8 => k0_hw8

def k0_chk9 (v248 : IVec S16 32) : Prop :=
  (∀ a x, ((![v248] : Fin 1 → IVec S16 32) a x).toNat < S32.size a)
theorem k0_idx9_inb : ∀ (v248 : IVec S16 32) (k0_hw9 : k0_chk9 v248), ∀ a x, ((![v248] : Fin 1 → IVec S16 32) a x).toNat < S32.size a := fun v248 k0_hw9 => k0_hw9

def k0_chk10 (v251 : IVec S16 32) : Prop :=
  (∀ a x, ((![v251] : Fin 1 → IVec S16 32) a x).toNat < S32.size a)
theorem k0_idx10_inb : ∀ (v251 : IVec S16 32) (k0_hw10 : k0_chk10 v251), ∀ a x, ((![v251] : Fin 1 → IVec S16 32) a x).toNat < S32.size a := fun v251 k0_hw10 => k0_hw10

def k0_chk11 (v254 : IVec S16 32) : Prop :=
  (∀ a x, ((![v254] : Fin 1 → IVec S16 32) a x).toNat < S32.size a)
theorem k0_idx11_inb : ∀ (v254 : IVec S16 32) (k0_hw11 : k0_chk11 v254), ∀ a x, ((![v254] : Fin 1 → IVec S16 32) a x).toNat < S32.size a := fun v254 k0_hw11 => k0_hw11

def k0_chk12 (v257 : IVec S16 32) : Prop :=
  (∀ a x, ((![v257] : Fin 1 → IVec S16 32) a x).toNat < S32.size a)
theorem k0_idx12_inb : ∀ (v257 : IVec S16 32) (k0_hw12 : k0_chk12 v257), ∀ a x, ((![v257] : Fin 1 → IVec S16 32) a x).toNat < S32.size a := fun v257 k0_hw12 => k0_hw12

def k0_chk13 (v260 : IVec S16 32) : Prop :=
  (∀ a x, ((![v260] : Fin 1 → IVec S16 32) a x).toNat < S32.size a)
theorem k0_idx13_inb : ∀ (v260 : IVec S16 32) (k0_hw13 : k0_chk13 v260), ∀ a x, ((![v260] : Fin 1 → IVec S16 32) a x).toNat < S32.size a := fun v260 k0_hw13 => k0_hw13

def k0_chk14 (v263 : IVec S16 32) : Prop :=
  (∀ a x, ((![v263] : Fin 1 → IVec S16 32) a x).toNat < S32.size a)
theorem k0_idx14_inb : ∀ (v263 : IVec S16 32) (k0_hw14 : k0_chk14 v263), ∀ a x, ((![v263] : Fin 1 → IVec S16 32) a x).toNat < S32.size a := fun v263 k0_hw14 => k0_hw14

def k0_chk15 (v266 : IVec S16 32) : Prop :=
  (∀ a x, ((![v266] : Fin 1 → IVec S16 32) a x).toNat < S32.size a)
theorem k0_idx15_inb : ∀ (v266 : IVec S16 32) (k0_hw15 : k0_chk15 v266), ∀ a x, ((![v266] : Fin 1 → IVec S16 32) a x).toNat < S32.size a := fun v266 k0_hw15 => k0_hw15

def k0_chk16 (v269 : IVec S16 32) : Prop :=
  (∀ a x, ((![v269] : Fin 1 → IVec S16 32) a x).toNat < S32.size a)
theorem k0_idx16_inb : ∀ (v269 : IVec S16 32) (k0_hw16 : k0_chk16 v269), ∀ a x, ((![v269] : Fin 1 → IVec S16 32) a x).toNat < S32.size a := fun v269 k0_hw16 => k0_hw16

def k0_chk17 (v272 : IVec S16 32) : Prop :=
  (∀ a x, ((![v272] : Fin 1 → IVec S16 32) a x).toNat < S32.size a)
theorem k0_idx17_inb : ∀ (v272 : IVec S16 32) (k0_hw17 : k0_chk17 v272), ∀ a x, ((![v272] : Fin 1 → IVec S16 32) a x).toNat < S32.size a := fun v272 k0_hw17 => k0_hw17

def k0_chk18 (v275 : IVec S16 32) : Prop :=
  (∀ a x, ((![v275] : Fin 1 → IVec S16 32) a x).toNat < S32.size a)
theorem k0_idx18_inb : ∀ (v275 : IVec S16 32) (k0_hw18 : k0_chk18 v275), ∀ a x, ((![v275] : Fin 1 → IVec S16 32) a x).toNat < S32.size a := fun v275 k0_hw18 => k0_hw18

def k0_chk19 (v278 : IVec S16 32) : Prop :=
  (∀ a x, ((![v278] : Fin 1 → IVec S16 32) a x).toNat < S32.size a)
theorem k0_idx19_inb : ∀ (v278 : IVec S16 32) (k0_hw19 : k0_chk19 v278), ∀ a x, ((![v278] : Fin 1 → IVec S16 32) a x).toNat < S32.size a := fun v278 k0_hw19 => k0_hw19

def k0_chk20 (v281 : IVec S16 32) : Prop :=
  (∀ a x, ((![v281] : Fin 1 → IVec S16 32) a x).toNat < S32.size a)
theorem k0_idx20_inb : ∀ (v281 : IVec S16 32) (k0_hw20 : k0_chk20 v281), ∀ a x, ((![v281] : Fin 1 → IVec S16 32) a x).toNat < S32.size a := fun v281 k0_hw20 => k0_hw20

def k0_chk21 (v284 : IVec S16 32) : Prop :=
  (∀ a x, ((![v284] : Fin 1 → IVec S16 32) a x).toNat < S32.size a)
theorem k0_idx21_inb : ∀ (v284 : IVec S16 32) (k0_hw21 : k0_chk21 v284), ∀ a x, ((![v284] : Fin 1 → IVec S16 32) a x).toNat < S32.size a := fun v284 k0_hw21 => k0_hw21

def k0_chk22 (v287 : IVec S16 32) : Prop :=
  (∀ a x, ((![v287] : Fin 1 → IVec S16 32) a x).toNat < S32.size a)
theorem k0_idx22_inb : ∀ (v287 : IVec S16 32) (k0_hw22 : k0_chk22 v287), ∀ a x, ((![v287] : Fin 1 → IVec S16 32) a x).toNat < S32.size a := fun v287 k0_hw22 => k0_hw22

def k0_chk23 (v290 : IVec S16 32) : Prop :=
  (∀ a x, ((![v290] : Fin 1 → IVec S16 32) a x).toNat < S32.size a)
theorem k0_idx23_inb : ∀ (v290 : IVec S16 32) (k0_hw23 : k0_chk23 v290), ∀ a x, ((![v290] : Fin 1 → IVec S16 32) a x).toNat < S32.size a := fun v290 k0_hw23 => k0_hw23

def k0_chk24 (v293 : IVec S16 32) : Prop :=
  (∀ a x, ((![v293] : Fin 1 → IVec S16 32) a x).toNat < S32.size a)
theorem k0_idx24_inb : ∀ (v293 : IVec S16 32) (k0_hw24 : k0_chk24 v293), ∀ a x, ((![v293] : Fin 1 → IVec S16 32) a x).toNat < S32.size a := fun v293 k0_hw24 => k0_hw24

def k0_chk25 (v296 : IVec S16 32) : Prop :=
  (∀ a x, ((![v296] : Fin 1 → IVec S16 32) a x).toNat < S32.size a)
theorem k0_idx25_inb : ∀ (v296 : IVec S16 32) (k0_hw25 : k0_chk25 v296), ∀ a x, ((![v296] : Fin 1 → IVec S16 32) a x).toNat < S32.size a := fun v296 k0_hw25 => k0_hw25

def k0_chk26 (v299 : IVec S16 32) : Prop :=
  (∀ a x, ((![v299] : Fin 1 → IVec S16 32) a x).toNat < S32.size a)
theorem k0_idx26_inb : ∀ (v299 : IVec S16 32) (k0_hw26 : k0_chk26 v299), ∀ a x, ((![v299] : Fin 1 → IVec S16 32) a x).toNat < S32.size a := fun v299 k0_hw26 => k0_hw26

def k0_chk27 (v302 : IVec S16 32) : Prop :=
  (∀ a x, ((![v302] : Fin 1 → IVec S16 32) a x).toNat < S32.size a)
theorem k0_idx27_inb : ∀ (v302 : IVec S16 32) (k0_hw27 : k0_chk27 v302), ∀ a x, ((![v302] : Fin 1 → IVec S16 32) a x).toNat < S32.size a := fun v302 k0_hw27 => k0_hw27

def k0_chk28 (v305 : IVec S16 32) : Prop :=
  (∀ a x, ((![v305] : Fin 1 → IVec S16 32) a x).toNat < S32.size a)
theorem k0_idx28_inb : ∀ (v305 : IVec S16 32) (k0_hw28 : k0_chk28 v305), ∀ a x, ((![v305] : Fin 1 → IVec S16 32) a x).toNat < S32.size a := fun v305 k0_hw28 => k0_hw28

def k0_chk29 (v308 : IVec S16 32) : Prop :=
  (∀ a x, ((![v308] : Fin 1 → IVec S16 32) a x).toNat < S32.size a)
theorem k0_idx29_inb : ∀ (v308 : IVec S16 32) (k0_hw29 : k0_chk29 v308), ∀ a x, ((![v308] : Fin 1 → IVec S16 32) a x).toNat < S32.size a := fun v308 k0_hw29 => k0_hw29

def k0_chk30 (v311 : IVec S16 32) : Prop :=
  (∀ a x, ((![v311] : Fin 1 → IVec S16 32) a x).toNat < S32.size a)
theorem k0_idx30_inb : ∀ (v311 : IVec S16 32) (k0_hw30 : k0_chk30 v311), ∀ a x, ((![v311] : Fin 1 → IVec S16 32) a x).toNat < S32.size a := fun v311 k0_hw30 => k0_hw30

def k0_chk31 (v314 : IVec S16 32) : Prop :=
  (∀ a x, ((![v314] : Fin 1 → IVec S16 32) a x).toNat < S32.size a)
theorem k0_idx31_inb : ∀ (v314 : IVec S16 32) (k0_hw31 : k0_chk31 v314), ∀ a x, ((![v314] : Fin 1 → IVec S16 32) a x).toNat < S32.size a := fun v314 k0_hw31 => k0_hw31

def k0_chk32 (v317 : IVec S16 32) : Prop :=
  (∀ a x, ((![v317] : Fin 1 → IVec S16 32) a x).toNat < S32.size a)
theorem k0_idx32_inb : ∀ (v317 : IVec S16 32) (k0_hw32 : k0_chk32 v317), ∀ a x, ((![v317] : Fin 1 → IVec S16 32) a x).toNat < S32.size a := fun v317 k0_hw32 => k0_hw32

def k0_chk33 (v320 : IVec S16 32) : Prop :=
  (∀ a x, ((![v320] : Fin 1 → IVec S16 32) a x).toNat < S32.size a)
theorem k0_idx33_inb : ∀ (v320 : IVec S16 32) (k0_hw33 : k0_chk33 v320), ∀ a x, ((![v320] : Fin 1 → IVec S16 32) a x).toNat < S32.size a := fun v320 k0_hw33 => k0_hw33

def k0_chk34 (v323 : IVec S16 32) : Prop :=
  (∀ a x, ((![v323] : Fin 1 → IVec S16 32) a x).toNat < S32.size a)
theorem k0_idx34_inb : ∀ (v323 : IVec S16 32) (k0_hw34 : k0_chk34 v323), ∀ a x, ((![v323] : Fin 1 → IVec S16 32) a x).toNat < S32.size a := fun v323 k0_hw34 => k0_hw34

def k0_chk35 (v326 : IVec S16 32) : Prop :=
  (∀ a x, ((![v326] : Fin 1 → IVec S16 32) a x).toNat < S32.size a)
theorem k0_idx35_inb : ∀ (v326 : IVec S16 32) (k0_hw35 : k0_chk35 v326), ∀ a x, ((![v326] : Fin 1 → IVec S16 32) a x).toNat < S32.size a := fun v326 k0_hw35 => k0_hw35

def k0_chk36 (v329 : IVec S16 32) : Prop :=
  (∀ a x, ((![v329] : Fin 1 → IVec S16 32) a x).toNat < S32.size a)
theorem k0_idx36_inb : ∀ (v329 : IVec S16 32) (k0_hw36 : k0_chk36 v329), ∀ a x, ((![v329] : Fin 1 → IVec S16 32) a x).toNat < S32.size a := fun v329 k0_hw36 => k0_hw36

def k0_chk37 (v332 : IVec S16 32) : Prop :=
  (∀ a x, ((![v332] : Fin 1 → IVec S16 32) a x).toNat < S32.size a)
theorem k0_idx37_inb : ∀ (v332 : IVec S16 32) (k0_hw37 : k0_chk37 v332), ∀ a x, ((![v332] : Fin 1 → IVec S16 32) a x).toNat < S32.size a := fun v332 k0_hw37 => k0_hw37

def k0_chk38 (v335 : IVec S16 32) : Prop :=
  (∀ a x, ((![v335] : Fin 1 → IVec S16 32) a x).toNat < S32.size a)
theorem k0_idx38_inb : ∀ (v335 : IVec S16 32) (k0_hw38 : k0_chk38 v335), ∀ a x, ((![v335] : Fin 1 → IVec S16 32) a x).toNat < S32.size a := fun v335 k0_hw38 => k0_hw38

def k0_chk39 (v338 : IVec S16 32) : Prop :=
  (∀ a x, ((![v338] : Fin 1 → IVec S16 32) a x).toNat < S32.size a)
theorem k0_idx39_inb : ∀ (v338 : IVec S16 32) (k0_hw39 : k0_chk39 v338), ∀ a x, ((![v338] : Fin 1 → IVec S16 32) a x).toNat < S32.size a := fun v338 k0_hw39 => k0_hw39

def k0_chk40 (v341 : IVec S16 32) : Prop :=
  (∀ a x, ((![v341] : Fin 1 → IVec S16 32) a x).toNat < S32.size a)
theorem k0_idx40_inb : ∀ (v341 : IVec S16 32) (k0_hw40 : k0_chk40 v341), ∀ a x, ((![v341] : Fin 1 → IVec S16 32) a x).toNat < S32.size a := fun v341 k0_hw40 => k0_hw40

def k0_chk41 (v344 : IVec S16 32) : Prop :=
  (∀ a x, ((![v344] : Fin 1 → IVec S16 32) a x).toNat < S32.size a)
theorem k0_idx41_inb : ∀ (v344 : IVec S16 32) (k0_hw41 : k0_chk41 v344), ∀ a x, ((![v344] : Fin 1 → IVec S16 32) a x).toNat < S32.size a := fun v344 k0_hw41 => k0_hw41

def k0_chk42 (v347 : IVec S16 32) : Prop :=
  (∀ a x, ((![v347] : Fin 1 → IVec S16 32) a x).toNat < S32.size a)
theorem k0_idx42_inb : ∀ (v347 : IVec S16 32) (k0_hw42 : k0_chk42 v347), ∀ a x, ((![v347] : Fin 1 → IVec S16 32) a x).toNat < S32.size a := fun v347 k0_hw42 => k0_hw42

def k0_chk43 (v350 : IVec S16 32) : Prop :=
  (∀ a x, ((![v350] : Fin 1 → IVec S16 32) a x).toNat < S32.size a)
theorem k0_idx43_inb : ∀ (v350 : IVec S16 32) (k0_hw43 : k0_chk43 v350), ∀ a x, ((![v350] : Fin 1 → IVec S16 32) a x).toNat < S32.size a := fun v350 k0_hw43 => k0_hw43

def k0_chk44 (v353 : IVec S16 32) : Prop :=
  (∀ a x, ((![v353] : Fin 1 → IVec S16 32) a x).toNat < S32.size a)
theorem k0_idx44_inb : ∀ (v353 : IVec S16 32) (k0_hw44 : k0_chk44 v353), ∀ a x, ((![v353] : Fin 1 → IVec S16 32) a x).toNat < S32.size a := fun v353 k0_hw44 => k0_hw44

def k0_chk45 (v356 : IVec S16 32) : Prop :=
  (∀ a x, ((![v356] : Fin 1 → IVec S16 32) a x).toNat < S32.size a)
theorem k0_idx45_inb : ∀ (v356 : IVec S16 32) (k0_hw45 : k0_chk45 v356), ∀ a x, ((![v356] : Fin 1 → IVec S16 32) a x).toNat < S32.size a := fun v356 k0_hw45 => k0_hw45

def k0_chk46 (v359 : IVec S16 32) : Prop :=
  (∀ a x, ((![v359] : Fin 1 → IVec S16 32) a x).toNat < S32.size a)
theorem k0_idx46_inb : ∀ (v359 : IVec S16 32) (k0_hw46 : k0_chk46 v359), ∀ a x, ((![v359] : Fin 1 → IVec S16 32) a x).toNat < S32.size a := fun v359 k0_hw46 => k0_hw46

def k0_chk47 (v362 : IVec S16 32) : Prop :=
  (∀ a x, ((![v362] : Fin 1 → IVec S16 32) a x).toNat < S32.size a)
theorem k0_idx47_inb : ∀ (v362 : IVec S16 32) (k0_hw47 : k0_chk47 v362), ∀ a x, ((![v362] : Fin 1 → IVec S16 32) a x).toNat < S32.size a := fun v362 k0_hw47 => k0_hw47

def k0_chk48 (v365 : IVec S16 32) : Prop :=
  (∀ a x, ((![v365] : Fin 1 → IVec S16 32) a x).toNat < S32.size a)
theorem k0_idx48_inb : ∀ (v365 : IVec S16 32) (k0_hw48 : k0_chk48 v365), ∀ a x, ((![v365] : Fin 1 → IVec S16 32) a x).toNat < S32.size a := fun v365 k0_hw48 => k0_hw48

def k0_chk49 (v368 : IVec S16 32) : Prop :=
  (∀ a x, ((![v368] : Fin 1 → IVec S16 32) a x).toNat < S32.size a)
theorem k0_idx49_inb : ∀ (v368 : IVec S16 32) (k0_hw49 : k0_chk49 v368), ∀ a x, ((![v368] : Fin 1 → IVec S16 32) a x).toNat < S32.size a := fun v368 k0_hw49 => k0_hw49

def k0_chk50 (v371 : IVec S16 32) : Prop :=
  (∀ a x, ((![v371] : Fin 1 → IVec S16 32) a x).toNat < S32.size a)
theorem k0_idx50_inb : ∀ (v371 : IVec S16 32) (k0_hw50 : k0_chk50 v371), ∀ a x, ((![v371] : Fin 1 → IVec S16 32) a x).toNat < S32.size a := fun v371 k0_hw50 => k0_hw50

def k0_chk51 (v374 : IVec S16 32) : Prop :=
  (∀ a x, ((![v374] : Fin 1 → IVec S16 32) a x).toNat < S32.size a)
theorem k0_idx51_inb : ∀ (v374 : IVec S16 32) (k0_hw51 : k0_chk51 v374), ∀ a x, ((![v374] : Fin 1 → IVec S16 32) a x).toNat < S32.size a := fun v374 k0_hw51 => k0_hw51

def k0_chk52 (v377 : IVec S16 32) : Prop :=
  (∀ a x, ((![v377] : Fin 1 → IVec S16 32) a x).toNat < S32.size a)
theorem k0_idx52_inb : ∀ (v377 : IVec S16 32) (k0_hw52 : k0_chk52 v377), ∀ a x, ((![v377] : Fin 1 → IVec S16 32) a x).toNat < S32.size a := fun v377 k0_hw52 => k0_hw52

def k0_chk53 (v380 : IVec S16 32) : Prop :=
  (∀ a x, ((![v380] : Fin 1 → IVec S16 32) a x).toNat < S32.size a)
theorem k0_idx53_inb : ∀ (v380 : IVec S16 32) (k0_hw53 : k0_chk53 v380), ∀ a x, ((![v380] : Fin 1 → IVec S16 32) a x).toNat < S32.size a := fun v380 k0_hw53 => k0_hw53

def k0_chk54 (v383 : IVec S16 32) : Prop :=
  (∀ a x, ((![v383] : Fin 1 → IVec S16 32) a x).toNat < S32.size a)
theorem k0_idx54_inb : ∀ (v383 : IVec S16 32) (k0_hw54 : k0_chk54 v383), ∀ a x, ((![v383] : Fin 1 → IVec S16 32) a x).toNat < S32.size a := fun v383 k0_hw54 => k0_hw54

def k0_chk55 (v386 : IVec S16 32) : Prop :=
  (∀ a x, ((![v386] : Fin 1 → IVec S16 32) a x).toNat < S32.size a)
theorem k0_idx55_inb : ∀ (v386 : IVec S16 32) (k0_hw55 : k0_chk55 v386), ∀ a x, ((![v386] : Fin 1 → IVec S16 32) a x).toNat < S32.size a := fun v386 k0_hw55 => k0_hw55

def k0_chk56 (v389 : IVec S16 32) : Prop :=
  (∀ a x, ((![v389] : Fin 1 → IVec S16 32) a x).toNat < S32.size a)
theorem k0_idx56_inb : ∀ (v389 : IVec S16 32) (k0_hw56 : k0_chk56 v389), ∀ a x, ((![v389] : Fin 1 → IVec S16 32) a x).toNat < S32.size a := fun v389 k0_hw56 => k0_hw56

def k0_chk57 (v392 : IVec S16 32) : Prop :=
  (∀ a x, ((![v392] : Fin 1 → IVec S16 32) a x).toNat < S32.size a)
theorem k0_idx57_inb : ∀ (v392 : IVec S16 32) (k0_hw57 : k0_chk57 v392), ∀ a x, ((![v392] : Fin 1 → IVec S16 32) a x).toNat < S32.size a := fun v392 k0_hw57 => k0_hw57

def k0_chk58 (v395 : IVec S16 32) : Prop :=
  (∀ a x, ((![v395] : Fin 1 → IVec S16 32) a x).toNat < S32.size a)
theorem k0_idx58_inb : ∀ (v395 : IVec S16 32) (k0_hw58 : k0_chk58 v395), ∀ a x, ((![v395] : Fin 1 → IVec S16 32) a x).toNat < S32.size a := fun v395 k0_hw58 => k0_hw58

def k0_chk59 (v398 : IVec S16 32) : Prop :=
  (∀ a x, ((![v398] : Fin 1 → IVec S16 32) a x).toNat < S32.size a)
theorem k0_idx59_inb : ∀ (v398 : IVec S16 32) (k0_hw59 : k0_chk59 v398), ∀ a x, ((![v398] : Fin 1 → IVec S16 32) a x).toNat < S32.size a := fun v398 k0_hw59 => k0_hw59

def k0_chk60 (v401 : IVec S16 32) : Prop :=
  (∀ a x, ((![v401] : Fin 1 → IVec S16 32) a x).toNat < S32.size a)
theorem k0_idx60_inb : ∀ (v401 : IVec S16 32) (k0_hw60 : k0_chk60 v401), ∀ a x, ((![v401] : Fin 1 → IVec S16 32) a x).toNat < S32.size a := fun v401 k0_hw60 => k0_hw60

def k0_chk61 (v404 : IVec S16 32) : Prop :=
  (∀ a x, ((![v404] : Fin 1 → IVec S16 32) a x).toNat < S32.size a)
theorem k0_idx61_inb : ∀ (v404 : IVec S16 32) (k0_hw61 : k0_chk61 v404), ∀ a x, ((![v404] : Fin 1 → IVec S16 32) a x).toNat < S32.size a := fun v404 k0_hw61 => k0_hw61

def k0_chk62 (v407 : IVec S16 32) : Prop :=
  (∀ a x, ((![v407] : Fin 1 → IVec S16 32) a x).toNat < S32.size a)
theorem k0_idx62_inb : ∀ (v407 : IVec S16 32) (k0_hw62 : k0_chk62 v407), ∀ a x, ((![v407] : Fin 1 → IVec S16 32) a x).toNat < S32.size a := fun v407 k0_hw62 => k0_hw62

def k0_chk63 (v410 : IVec S16 32) : Prop :=
  (∀ a x, ((![v410] : Fin 1 → IVec S16 32) a x).toNat < S32.size a)
theorem k0_idx63_inb : ∀ (v410 : IVec S16 32) (k0_hw63 : k0_chk63 v410), ∀ a x, ((![v410] : Fin 1 → IVec S16 32) a x).toNat < S32.size a := fun v410 k0_hw63 => k0_hw63

def k0_chk64 (v413 : IVec S16 32) : Prop :=
  (∀ a x, ((![v413] : Fin 1 → IVec S16 32) a x).toNat < S32.size a)
theorem k0_idx64_inb : ∀ (v413 : IVec S16 32) (k0_hw64 : k0_chk64 v413), ∀ a x, ((![v413] : Fin 1 → IVec S16 32) a x).toNat < S32.size a := fun v413 k0_hw64 => k0_hw64
def k0_off2 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1954_i32 : BitVec 32 := 1954#32
  let v2 : BitVec 32 := Scalar.muli v1 c1954_i32
  let c1920_i32 : BitVec 32 := 1920#32
  let v9 : BitVec 32 := Scalar.addi v2 c1920_i32
  let c62466_i32 : BitVec 32 := 62466#32
  let v10 : BitVec 32 := Scalar.minsi v9 c62466_i32
  let c16_i32_6 : BitVec 32 := 16#32
  let v13 : BitVec 32 := Scalar.muli v10 c16_i32_6
  ![v13.toNat]

def k0_chk65 (v19 : IVec S16 32) : Prop :=
  (∀ a x, ((![v19] : Fin 1 → IVec S16 32) a x).toNat < S32.size a)
theorem k0_idx65_inb : ∀ (v19 : IVec S16 32) (k0_hw65 : k0_chk65 v19), ∀ a x, ((![v19] : Fin 1 → IVec S16 32) a x).toNat < S32.size a := fun v19 k0_hw65 => k0_hw65

def k0_chk66 (v25 : IVec S16 32) : Prop :=
  (∀ a x, ((![v25] : Fin 1 → IVec S16 32) a x).toNat < S32.size a)
theorem k0_idx66_inb : ∀ (v25 : IVec S16 32) (k0_hw66 : k0_chk66 v25), ∀ a x, ((![v25] : Fin 1 → IVec S16 32) a x).toNat < S32.size a := fun v25 k0_hw66 => k0_hw66

def k0_chk67 (v31 : IVec S16 32) : Prop :=
  (∀ a x, ((![v31] : Fin 1 → IVec S16 32) a x).toNat < S32.size a)
theorem k0_idx67_inb : ∀ (v31 : IVec S16 32) (k0_hw67 : k0_chk67 v31), ∀ a x, ((![v31] : Fin 1 → IVec S16 32) a x).toNat < S32.size a := fun v31 k0_hw67 => k0_hw67

def k0_chk68 (v37 : IVec S16 32) : Prop :=
  (∀ a x, ((![v37] : Fin 1 → IVec S16 32) a x).toNat < S32.size a)
theorem k0_idx68_inb : ∀ (v37 : IVec S16 32) (k0_hw68 : k0_chk68 v37), ∀ a x, ((![v37] : Fin 1 → IVec S16 32) a x).toNat < S32.size a := fun v37 k0_hw68 => k0_hw68

def k0_chk69 (v43 : IVec S16 32) : Prop :=
  (∀ a x, ((![v43] : Fin 1 → IVec S16 32) a x).toNat < S32.size a)
theorem k0_idx69_inb : ∀ (v43 : IVec S16 32) (k0_hw69 : k0_chk69 v43), ∀ a x, ((![v43] : Fin 1 → IVec S16 32) a x).toNat < S32.size a := fun v43 k0_hw69 => k0_hw69

def k0_chk70 (v49 : IVec S16 32) : Prop :=
  (∀ a x, ((![v49] : Fin 1 → IVec S16 32) a x).toNat < S32.size a)
theorem k0_idx70_inb : ∀ (v49 : IVec S16 32) (k0_hw70 : k0_chk70 v49), ∀ a x, ((![v49] : Fin 1 → IVec S16 32) a x).toNat < S32.size a := fun v49 k0_hw70 => k0_hw70

def k0_chk71 (v55 : IVec S16 32) : Prop :=
  (∀ a x, ((![v55] : Fin 1 → IVec S16 32) a x).toNat < S32.size a)
theorem k0_idx71_inb : ∀ (v55 : IVec S16 32) (k0_hw71 : k0_chk71 v55), ∀ a x, ((![v55] : Fin 1 → IVec S16 32) a x).toNat < S32.size a := fun v55 k0_hw71 => k0_hw71

def k0_chk72 (v61 : IVec S16 32) : Prop :=
  (∀ a x, ((![v61] : Fin 1 → IVec S16 32) a x).toNat < S32.size a)
theorem k0_idx72_inb : ∀ (v61 : IVec S16 32) (k0_hw72 : k0_chk72 v61), ∀ a x, ((![v61] : Fin 1 → IVec S16 32) a x).toNat < S32.size a := fun v61 k0_hw72 => k0_hw72

def k0_chk73 (v67 : IVec S16 32) : Prop :=
  (∀ a x, ((![v67] : Fin 1 → IVec S16 32) a x).toNat < S32.size a)
theorem k0_idx73_inb : ∀ (v67 : IVec S16 32) (k0_hw73 : k0_chk73 v67), ∀ a x, ((![v67] : Fin 1 → IVec S16 32) a x).toNat < S32.size a := fun v67 k0_hw73 => k0_hw73

def k0_chk74 (v73 : IVec S16 32) : Prop :=
  (∀ a x, ((![v73] : Fin 1 → IVec S16 32) a x).toNat < S32.size a)
theorem k0_idx74_inb : ∀ (v73 : IVec S16 32) (k0_hw74 : k0_chk74 v73), ∀ a x, ((![v73] : Fin 1 → IVec S16 32) a x).toNat < S32.size a := fun v73 k0_hw74 => k0_hw74

def k0_chk75 (v79 : IVec S16 32) : Prop :=
  (∀ a x, ((![v79] : Fin 1 → IVec S16 32) a x).toNat < S32.size a)
theorem k0_idx75_inb : ∀ (v79 : IVec S16 32) (k0_hw75 : k0_chk75 v79), ∀ a x, ((![v79] : Fin 1 → IVec S16 32) a x).toNat < S32.size a := fun v79 k0_hw75 => k0_hw75

def k0_chk76 (v85 : IVec S16 32) : Prop :=
  (∀ a x, ((![v85] : Fin 1 → IVec S16 32) a x).toNat < S32.size a)
theorem k0_idx76_inb : ∀ (v85 : IVec S16 32) (k0_hw76 : k0_chk76 v85), ∀ a x, ((![v85] : Fin 1 → IVec S16 32) a x).toNat < S32.size a := fun v85 k0_hw76 => k0_hw76

def k0_chk77 (v91 : IVec S16 32) : Prop :=
  (∀ a x, ((![v91] : Fin 1 → IVec S16 32) a x).toNat < S32.size a)
theorem k0_idx77_inb : ∀ (v91 : IVec S16 32) (k0_hw77 : k0_chk77 v91), ∀ a x, ((![v91] : Fin 1 → IVec S16 32) a x).toNat < S32.size a := fun v91 k0_hw77 => k0_hw77

def k0_chk78 (v97 : IVec S16 32) : Prop :=
  (∀ a x, ((![v97] : Fin 1 → IVec S16 32) a x).toNat < S32.size a)
theorem k0_idx78_inb : ∀ (v97 : IVec S16 32) (k0_hw78 : k0_chk78 v97), ∀ a x, ((![v97] : Fin 1 → IVec S16 32) a x).toNat < S32.size a := fun v97 k0_hw78 => k0_hw78

def k0_chk79 (v103 : IVec S16 32) : Prop :=
  (∀ a x, ((![v103] : Fin 1 → IVec S16 32) a x).toNat < S32.size a)
theorem k0_idx79_inb : ∀ (v103 : IVec S16 32) (k0_hw79 : k0_chk79 v103), ∀ a x, ((![v103] : Fin 1 → IVec S16 32) a x).toNat < S32.size a := fun v103 k0_hw79 => k0_hw79

def k0_chk80 (v109 : IVec S16 32) : Prop :=
  (∀ a x, ((![v109] : Fin 1 → IVec S16 32) a x).toNat < S32.size a)
theorem k0_idx80_inb : ∀ (v109 : IVec S16 32) (k0_hw80 : k0_chk80 v109), ∀ a x, ((![v109] : Fin 1 → IVec S16 32) a x).toNat < S32.size a := fun v109 k0_hw80 => k0_hw80

def k0_chk81 (v115 : IVec S16 32) : Prop :=
  (∀ a x, ((![v115] : Fin 1 → IVec S16 32) a x).toNat < S32.size a)
theorem k0_idx81_inb : ∀ (v115 : IVec S16 32) (k0_hw81 : k0_chk81 v115), ∀ a x, ((![v115] : Fin 1 → IVec S16 32) a x).toNat < S32.size a := fun v115 k0_hw81 => k0_hw81

def k0_chk82 (v121 : IVec S16 32) : Prop :=
  (∀ a x, ((![v121] : Fin 1 → IVec S16 32) a x).toNat < S32.size a)
theorem k0_idx82_inb : ∀ (v121 : IVec S16 32) (k0_hw82 : k0_chk82 v121), ∀ a x, ((![v121] : Fin 1 → IVec S16 32) a x).toNat < S32.size a := fun v121 k0_hw82 => k0_hw82

def k0_chk83 (v127 : IVec S16 32) : Prop :=
  (∀ a x, ((![v127] : Fin 1 → IVec S16 32) a x).toNat < S32.size a)
theorem k0_idx83_inb : ∀ (v127 : IVec S16 32) (k0_hw83 : k0_chk83 v127), ∀ a x, ((![v127] : Fin 1 → IVec S16 32) a x).toNat < S32.size a := fun v127 k0_hw83 => k0_hw83

def k0_chk84 (v133 : IVec S16 32) : Prop :=
  (∀ a x, ((![v133] : Fin 1 → IVec S16 32) a x).toNat < S32.size a)
theorem k0_idx84_inb : ∀ (v133 : IVec S16 32) (k0_hw84 : k0_chk84 v133), ∀ a x, ((![v133] : Fin 1 → IVec S16 32) a x).toNat < S32.size a := fun v133 k0_hw84 => k0_hw84

def k0_chk85 (v139 : IVec S16 32) : Prop :=
  (∀ a x, ((![v139] : Fin 1 → IVec S16 32) a x).toNat < S32.size a)
theorem k0_idx85_inb : ∀ (v139 : IVec S16 32) (k0_hw85 : k0_chk85 v139), ∀ a x, ((![v139] : Fin 1 → IVec S16 32) a x).toNat < S32.size a := fun v139 k0_hw85 => k0_hw85

def k0_chk86 (v145 : IVec S16 32) : Prop :=
  (∀ a x, ((![v145] : Fin 1 → IVec S16 32) a x).toNat < S32.size a)
theorem k0_idx86_inb : ∀ (v145 : IVec S16 32) (k0_hw86 : k0_chk86 v145), ∀ a x, ((![v145] : Fin 1 → IVec S16 32) a x).toNat < S32.size a := fun v145 k0_hw86 => k0_hw86

def k0_chk87 (v151 : IVec S16 32) : Prop :=
  (∀ a x, ((![v151] : Fin 1 → IVec S16 32) a x).toNat < S32.size a)
theorem k0_idx87_inb : ∀ (v151 : IVec S16 32) (k0_hw87 : k0_chk87 v151), ∀ a x, ((![v151] : Fin 1 → IVec S16 32) a x).toNat < S32.size a := fun v151 k0_hw87 => k0_hw87

def k0_chk88 (v157 : IVec S16 32) : Prop :=
  (∀ a x, ((![v157] : Fin 1 → IVec S16 32) a x).toNat < S32.size a)
theorem k0_idx88_inb : ∀ (v157 : IVec S16 32) (k0_hw88 : k0_chk88 v157), ∀ a x, ((![v157] : Fin 1 → IVec S16 32) a x).toNat < S32.size a := fun v157 k0_hw88 => k0_hw88

def k0_chk89 (v163 : IVec S16 32) : Prop :=
  (∀ a x, ((![v163] : Fin 1 → IVec S16 32) a x).toNat < S32.size a)
theorem k0_idx89_inb : ∀ (v163 : IVec S16 32) (k0_hw89 : k0_chk89 v163), ∀ a x, ((![v163] : Fin 1 → IVec S16 32) a x).toNat < S32.size a := fun v163 k0_hw89 => k0_hw89

def k0_chk90 (v169 : IVec S16 32) : Prop :=
  (∀ a x, ((![v169] : Fin 1 → IVec S16 32) a x).toNat < S32.size a)
theorem k0_idx90_inb : ∀ (v169 : IVec S16 32) (k0_hw90 : k0_chk90 v169), ∀ a x, ((![v169] : Fin 1 → IVec S16 32) a x).toNat < S32.size a := fun v169 k0_hw90 => k0_hw90

def k0_chk91 (v175 : IVec S16 32) : Prop :=
  (∀ a x, ((![v175] : Fin 1 → IVec S16 32) a x).toNat < S32.size a)
theorem k0_idx91_inb : ∀ (v175 : IVec S16 32) (k0_hw91 : k0_chk91 v175), ∀ a x, ((![v175] : Fin 1 → IVec S16 32) a x).toNat < S32.size a := fun v175 k0_hw91 => k0_hw91

def k0_chk92 (v181 : IVec S16 32) : Prop :=
  (∀ a x, ((![v181] : Fin 1 → IVec S16 32) a x).toNat < S32.size a)
theorem k0_idx92_inb : ∀ (v181 : IVec S16 32) (k0_hw92 : k0_chk92 v181), ∀ a x, ((![v181] : Fin 1 → IVec S16 32) a x).toNat < S32.size a := fun v181 k0_hw92 => k0_hw92

def k0_chk93 (v187 : IVec S16 32) : Prop :=
  (∀ a x, ((![v187] : Fin 1 → IVec S16 32) a x).toNat < S32.size a)
theorem k0_idx93_inb : ∀ (v187 : IVec S16 32) (k0_hw93 : k0_chk93 v187), ∀ a x, ((![v187] : Fin 1 → IVec S16 32) a x).toNat < S32.size a := fun v187 k0_hw93 => k0_hw93

def k0_chk94 (v193 : IVec S16 32) : Prop :=
  (∀ a x, ((![v193] : Fin 1 → IVec S16 32) a x).toNat < S32.size a)
theorem k0_idx94_inb : ∀ (v193 : IVec S16 32) (k0_hw94 : k0_chk94 v193), ∀ a x, ((![v193] : Fin 1 → IVec S16 32) a x).toNat < S32.size a := fun v193 k0_hw94 => k0_hw94

def k0_chk95 (v199 : IVec S16 32) : Prop :=
  (∀ a x, ((![v199] : Fin 1 → IVec S16 32) a x).toNat < S32.size a)
theorem k0_idx95_inb : ∀ (v199 : IVec S16 32) (k0_hw95 : k0_chk95 v199), ∀ a x, ((![v199] : Fin 1 → IVec S16 32) a x).toNat < S32.size a := fun v199 k0_hw95 => k0_hw95

def k0_chk96 (v205 : IVec S16 32) : Prop :=
  (∀ a x, ((![v205] : Fin 1 → IVec S16 32) a x).toNat < S32.size a)
theorem k0_idx96_inb : ∀ (v205 : IVec S16 32) (k0_hw96 : k0_chk96 v205), ∀ a x, ((![v205] : Fin 1 → IVec S16 32) a x).toNat < S32.size a := fun v205 k0_hw96 => k0_hw96

def k0_chk97 (v211 : IVec S16 32) : Prop :=
  (∀ a x, ((![v211] : Fin 1 → IVec S16 32) a x).toNat < S32.size a)
theorem k0_idx97_inb : ∀ (v211 : IVec S16 32) (k0_hw97 : k0_chk97 v211), ∀ a x, ((![v211] : Fin 1 → IVec S16 32) a x).toNat < S32.size a := fun v211 k0_hw97 => k0_hw97

def k0_chk98 (v217 : IVec S16 32) : Prop :=
  (∀ a x, ((![v217] : Fin 1 → IVec S16 32) a x).toNat < S32.size a)
theorem k0_idx98_inb : ∀ (v217 : IVec S16 32) (k0_hw98 : k0_chk98 v217), ∀ a x, ((![v217] : Fin 1 → IVec S16 32) a x).toNat < S32.size a := fun v217 k0_hw98 => k0_hw98
def k0_off3 (i : grid0.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32_47 : BitVec 32 := 32#32
  let v218 : BitVec 32 := Scalar.muli v1 c32_i32_47
  ![v218.toNat]
abbrev grid1 : Pipeline.Grid := ⟨2, ![2, 16], ![false, false]⟩

def k1_off1 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c32_i32 : BitVec 32 := 32#32
  let v2 : BitVec 32 := Scalar.muli v1 c32_i32
  ![v2.toNat]
@[reducible] def k1_t1_loop : Scf.Loop 32 :=
  let c0_i32_6 : BitVec 32 := 0#32
  let c30_i32 : BitVec 32 := 30#32
  let v27 : BitVec 32 := Scalar.addi c0_i32_6 c30_i32
  let c1_i32 : BitVec 32 := 1#32
  ⟨c0_i32_6, v27, c1_i32⟩
def k1_off2 (i : grid1.Coords) (k1_t1 : Fin k1_t1_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1954_i32 : BitVec 32 := 1954#32
  let v26 : BitVec 32 := Scalar.muli v1 c1954_i32
  let c0_i32_6 : BitVec 32 := 0#32
  let c1_i32 : BitVec 32 := 1#32
  let arg14 : BitVec 32 := Scf.iv c0_i32_6 c1_i32 k1_t1
  let c64_i32 : BitVec 32 := 64#32
  let v954 : BitVec 32 := Scalar.muli arg14 c64_i32
  let v955 : BitVec 32 := Scalar.addi v26 v954
  let c16_i32_425 : BitVec 32 := 16#32
  let v956 : BitVec 32 := Scalar.muli v955 c16_i32_425
  ![v956.toNat]

def k1_chk1 (v973 : IVec S16 32) : Prop :=
  (∀ a x, ((![v973] : Fin 1 → IVec S16 32) a x).toNat < S32.size a) ∧
  (∀ a x, ((![v973] : Fin 1 → IVec S16 32) a x).toNat < S32.size a)
theorem k1_idx1_inb : ∀ (v973 : IVec S16 32) (k1_hw1 : k1_chk1 v973), ∀ a x, ((![v973] : Fin 1 → IVec S16 32) a x).toNat < S32.size a := fun v973 k1_hw1 => k1_hw1.1
theorem k1_idx2_inb : ∀ (v973 : IVec S16 32) (k1_hw1 : k1_chk1 v973), ∀ a x, ((![v973] : Fin 1 → IVec S16 32) a x).toNat < S32.size a := fun v973 k1_hw1 => k1_hw1.2

def k1_chk2 (v992 : IVec S16 32) : Prop :=
  (∀ a x, ((![v992] : Fin 1 → IVec S16 32) a x).toNat < S31520.size a)
theorem k1_idx3_inb : ∀ (v992 : IVec S16 32) (k1_hw2 : k1_chk2 v992), ∀ a x, ((![v992] : Fin 1 → IVec S16 32) a x).toNat < S31520.size a := fun v992 k1_hw2 => k1_hw2

def k1_chk3 (v998 : IVec S16 32) : Prop :=
  (∀ a x, ((![v998] : Fin 1 → IVec S16 32) a x).toNat < S32.size a) ∧
  (∀ a x, ((![v998] : Fin 1 → IVec S16 32) a x).toNat < S32.size a)
theorem k1_idx4_inb : ∀ (v998 : IVec S16 32) (k1_hw3 : k1_chk3 v998), ∀ a x, ((![v998] : Fin 1 → IVec S16 32) a x).toNat < S32.size a := fun v998 k1_hw3 => k1_hw3.1
theorem k1_idx5_inb : ∀ (v998 : IVec S16 32) (k1_hw3 : k1_chk3 v998), ∀ a x, ((![v998] : Fin 1 → IVec S16 32) a x).toNat < S32.size a := fun v998 k1_hw3 => k1_hw3.2

def k1_chk4 (v1017 : IVec S16 32) : Prop :=
  (∀ a x, ((![v1017] : Fin 1 → IVec S16 32) a x).toNat < S31520.size a)
theorem k1_idx6_inb : ∀ (v1017 : IVec S16 32) (k1_hw4 : k1_chk4 v1017), ∀ a x, ((![v1017] : Fin 1 → IVec S16 32) a x).toNat < S31520.size a := fun v1017 k1_hw4 => k1_hw4

def k1_chk5 (v1023 : IVec S16 32) : Prop :=
  (∀ a x, ((![v1023] : Fin 1 → IVec S16 32) a x).toNat < S32.size a) ∧
  (∀ a x, ((![v1023] : Fin 1 → IVec S16 32) a x).toNat < S32.size a)
theorem k1_idx7_inb : ∀ (v1023 : IVec S16 32) (k1_hw5 : k1_chk5 v1023), ∀ a x, ((![v1023] : Fin 1 → IVec S16 32) a x).toNat < S32.size a := fun v1023 k1_hw5 => k1_hw5.1
theorem k1_idx8_inb : ∀ (v1023 : IVec S16 32) (k1_hw5 : k1_chk5 v1023), ∀ a x, ((![v1023] : Fin 1 → IVec S16 32) a x).toNat < S32.size a := fun v1023 k1_hw5 => k1_hw5.2

def k1_chk6 (v1042 : IVec S16 32) : Prop :=
  (∀ a x, ((![v1042] : Fin 1 → IVec S16 32) a x).toNat < S31520.size a)
theorem k1_idx9_inb : ∀ (v1042 : IVec S16 32) (k1_hw6 : k1_chk6 v1042), ∀ a x, ((![v1042] : Fin 1 → IVec S16 32) a x).toNat < S31520.size a := fun v1042 k1_hw6 => k1_hw6

def k1_chk7 (v1048 : IVec S16 32) : Prop :=
  (∀ a x, ((![v1048] : Fin 1 → IVec S16 32) a x).toNat < S32.size a) ∧
  (∀ a x, ((![v1048] : Fin 1 → IVec S16 32) a x).toNat < S32.size a)
theorem k1_idx10_inb : ∀ (v1048 : IVec S16 32) (k1_hw7 : k1_chk7 v1048), ∀ a x, ((![v1048] : Fin 1 → IVec S16 32) a x).toNat < S32.size a := fun v1048 k1_hw7 => k1_hw7.1
theorem k1_idx11_inb : ∀ (v1048 : IVec S16 32) (k1_hw7 : k1_chk7 v1048), ∀ a x, ((![v1048] : Fin 1 → IVec S16 32) a x).toNat < S32.size a := fun v1048 k1_hw7 => k1_hw7.2

def k1_chk8 (v1067 : IVec S16 32) : Prop :=
  (∀ a x, ((![v1067] : Fin 1 → IVec S16 32) a x).toNat < S31520.size a)
theorem k1_idx12_inb : ∀ (v1067 : IVec S16 32) (k1_hw8 : k1_chk8 v1067), ∀ a x, ((![v1067] : Fin 1 → IVec S16 32) a x).toNat < S31520.size a := fun v1067 k1_hw8 => k1_hw8

def k1_chk9 (v1073 : IVec S16 32) : Prop :=
  (∀ a x, ((![v1073] : Fin 1 → IVec S16 32) a x).toNat < S32.size a) ∧
  (∀ a x, ((![v1073] : Fin 1 → IVec S16 32) a x).toNat < S32.size a)
theorem k1_idx13_inb : ∀ (v1073 : IVec S16 32) (k1_hw9 : k1_chk9 v1073), ∀ a x, ((![v1073] : Fin 1 → IVec S16 32) a x).toNat < S32.size a := fun v1073 k1_hw9 => k1_hw9.1
theorem k1_idx14_inb : ∀ (v1073 : IVec S16 32) (k1_hw9 : k1_chk9 v1073), ∀ a x, ((![v1073] : Fin 1 → IVec S16 32) a x).toNat < S32.size a := fun v1073 k1_hw9 => k1_hw9.2

def k1_chk10 (v1092 : IVec S16 32) : Prop :=
  (∀ a x, ((![v1092] : Fin 1 → IVec S16 32) a x).toNat < S31520.size a)
theorem k1_idx15_inb : ∀ (v1092 : IVec S16 32) (k1_hw10 : k1_chk10 v1092), ∀ a x, ((![v1092] : Fin 1 → IVec S16 32) a x).toNat < S31520.size a := fun v1092 k1_hw10 => k1_hw10

def k1_chk11 (v1098 : IVec S16 32) : Prop :=
  (∀ a x, ((![v1098] : Fin 1 → IVec S16 32) a x).toNat < S32.size a) ∧
  (∀ a x, ((![v1098] : Fin 1 → IVec S16 32) a x).toNat < S32.size a)
theorem k1_idx16_inb : ∀ (v1098 : IVec S16 32) (k1_hw11 : k1_chk11 v1098), ∀ a x, ((![v1098] : Fin 1 → IVec S16 32) a x).toNat < S32.size a := fun v1098 k1_hw11 => k1_hw11.1
theorem k1_idx17_inb : ∀ (v1098 : IVec S16 32) (k1_hw11 : k1_chk11 v1098), ∀ a x, ((![v1098] : Fin 1 → IVec S16 32) a x).toNat < S32.size a := fun v1098 k1_hw11 => k1_hw11.2

def k1_chk12 (v1117 : IVec S16 32) : Prop :=
  (∀ a x, ((![v1117] : Fin 1 → IVec S16 32) a x).toNat < S31520.size a)
theorem k1_idx18_inb : ∀ (v1117 : IVec S16 32) (k1_hw12 : k1_chk12 v1117), ∀ a x, ((![v1117] : Fin 1 → IVec S16 32) a x).toNat < S31520.size a := fun v1117 k1_hw12 => k1_hw12

def k1_chk13 (v1123 : IVec S16 32) : Prop :=
  (∀ a x, ((![v1123] : Fin 1 → IVec S16 32) a x).toNat < S32.size a) ∧
  (∀ a x, ((![v1123] : Fin 1 → IVec S16 32) a x).toNat < S32.size a)
theorem k1_idx19_inb : ∀ (v1123 : IVec S16 32) (k1_hw13 : k1_chk13 v1123), ∀ a x, ((![v1123] : Fin 1 → IVec S16 32) a x).toNat < S32.size a := fun v1123 k1_hw13 => k1_hw13.1
theorem k1_idx20_inb : ∀ (v1123 : IVec S16 32) (k1_hw13 : k1_chk13 v1123), ∀ a x, ((![v1123] : Fin 1 → IVec S16 32) a x).toNat < S32.size a := fun v1123 k1_hw13 => k1_hw13.2

def k1_chk14 (v1142 : IVec S16 32) : Prop :=
  (∀ a x, ((![v1142] : Fin 1 → IVec S16 32) a x).toNat < S31520.size a)
theorem k1_idx21_inb : ∀ (v1142 : IVec S16 32) (k1_hw14 : k1_chk14 v1142), ∀ a x, ((![v1142] : Fin 1 → IVec S16 32) a x).toNat < S31520.size a := fun v1142 k1_hw14 => k1_hw14

def k1_chk15 (v1148 : IVec S16 32) : Prop :=
  (∀ a x, ((![v1148] : Fin 1 → IVec S16 32) a x).toNat < S32.size a) ∧
  (∀ a x, ((![v1148] : Fin 1 → IVec S16 32) a x).toNat < S32.size a)
theorem k1_idx22_inb : ∀ (v1148 : IVec S16 32) (k1_hw15 : k1_chk15 v1148), ∀ a x, ((![v1148] : Fin 1 → IVec S16 32) a x).toNat < S32.size a := fun v1148 k1_hw15 => k1_hw15.1
theorem k1_idx23_inb : ∀ (v1148 : IVec S16 32) (k1_hw15 : k1_chk15 v1148), ∀ a x, ((![v1148] : Fin 1 → IVec S16 32) a x).toNat < S32.size a := fun v1148 k1_hw15 => k1_hw15.2

def k1_chk16 (v1167 : IVec S16 32) : Prop :=
  (∀ a x, ((![v1167] : Fin 1 → IVec S16 32) a x).toNat < S31520.size a)
theorem k1_idx24_inb : ∀ (v1167 : IVec S16 32) (k1_hw16 : k1_chk16 v1167), ∀ a x, ((![v1167] : Fin 1 → IVec S16 32) a x).toNat < S31520.size a := fun v1167 k1_hw16 => k1_hw16

def k1_chk17 (v1173 : IVec S16 32) : Prop :=
  (∀ a x, ((![v1173] : Fin 1 → IVec S16 32) a x).toNat < S32.size a) ∧
  (∀ a x, ((![v1173] : Fin 1 → IVec S16 32) a x).toNat < S32.size a)
theorem k1_idx25_inb : ∀ (v1173 : IVec S16 32) (k1_hw17 : k1_chk17 v1173), ∀ a x, ((![v1173] : Fin 1 → IVec S16 32) a x).toNat < S32.size a := fun v1173 k1_hw17 => k1_hw17.1
theorem k1_idx26_inb : ∀ (v1173 : IVec S16 32) (k1_hw17 : k1_chk17 v1173), ∀ a x, ((![v1173] : Fin 1 → IVec S16 32) a x).toNat < S32.size a := fun v1173 k1_hw17 => k1_hw17.2

def k1_chk18 (v1192 : IVec S16 32) : Prop :=
  (∀ a x, ((![v1192] : Fin 1 → IVec S16 32) a x).toNat < S31520.size a)
theorem k1_idx27_inb : ∀ (v1192 : IVec S16 32) (k1_hw18 : k1_chk18 v1192), ∀ a x, ((![v1192] : Fin 1 → IVec S16 32) a x).toNat < S31520.size a := fun v1192 k1_hw18 => k1_hw18

def k1_chk19 (v1198 : IVec S16 32) : Prop :=
  (∀ a x, ((![v1198] : Fin 1 → IVec S16 32) a x).toNat < S32.size a) ∧
  (∀ a x, ((![v1198] : Fin 1 → IVec S16 32) a x).toNat < S32.size a)
theorem k1_idx28_inb : ∀ (v1198 : IVec S16 32) (k1_hw19 : k1_chk19 v1198), ∀ a x, ((![v1198] : Fin 1 → IVec S16 32) a x).toNat < S32.size a := fun v1198 k1_hw19 => k1_hw19.1
theorem k1_idx29_inb : ∀ (v1198 : IVec S16 32) (k1_hw19 : k1_chk19 v1198), ∀ a x, ((![v1198] : Fin 1 → IVec S16 32) a x).toNat < S32.size a := fun v1198 k1_hw19 => k1_hw19.2

def k1_chk20 (v1217 : IVec S16 32) : Prop :=
  (∀ a x, ((![v1217] : Fin 1 → IVec S16 32) a x).toNat < S31520.size a)
theorem k1_idx30_inb : ∀ (v1217 : IVec S16 32) (k1_hw20 : k1_chk20 v1217), ∀ a x, ((![v1217] : Fin 1 → IVec S16 32) a x).toNat < S31520.size a := fun v1217 k1_hw20 => k1_hw20

def k1_chk21 (v1223 : IVec S16 32) : Prop :=
  (∀ a x, ((![v1223] : Fin 1 → IVec S16 32) a x).toNat < S32.size a) ∧
  (∀ a x, ((![v1223] : Fin 1 → IVec S16 32) a x).toNat < S32.size a)
theorem k1_idx31_inb : ∀ (v1223 : IVec S16 32) (k1_hw21 : k1_chk21 v1223), ∀ a x, ((![v1223] : Fin 1 → IVec S16 32) a x).toNat < S32.size a := fun v1223 k1_hw21 => k1_hw21.1
theorem k1_idx32_inb : ∀ (v1223 : IVec S16 32) (k1_hw21 : k1_chk21 v1223), ∀ a x, ((![v1223] : Fin 1 → IVec S16 32) a x).toNat < S32.size a := fun v1223 k1_hw21 => k1_hw21.2

def k1_chk22 (v1242 : IVec S16 32) : Prop :=
  (∀ a x, ((![v1242] : Fin 1 → IVec S16 32) a x).toNat < S31520.size a)
theorem k1_idx33_inb : ∀ (v1242 : IVec S16 32) (k1_hw22 : k1_chk22 v1242), ∀ a x, ((![v1242] : Fin 1 → IVec S16 32) a x).toNat < S31520.size a := fun v1242 k1_hw22 => k1_hw22

def k1_chk23 (v1248 : IVec S16 32) : Prop :=
  (∀ a x, ((![v1248] : Fin 1 → IVec S16 32) a x).toNat < S32.size a) ∧
  (∀ a x, ((![v1248] : Fin 1 → IVec S16 32) a x).toNat < S32.size a)
theorem k1_idx34_inb : ∀ (v1248 : IVec S16 32) (k1_hw23 : k1_chk23 v1248), ∀ a x, ((![v1248] : Fin 1 → IVec S16 32) a x).toNat < S32.size a := fun v1248 k1_hw23 => k1_hw23.1
theorem k1_idx35_inb : ∀ (v1248 : IVec S16 32) (k1_hw23 : k1_chk23 v1248), ∀ a x, ((![v1248] : Fin 1 → IVec S16 32) a x).toNat < S32.size a := fun v1248 k1_hw23 => k1_hw23.2

def k1_chk24 (v1267 : IVec S16 32) : Prop :=
  (∀ a x, ((![v1267] : Fin 1 → IVec S16 32) a x).toNat < S31520.size a)
theorem k1_idx36_inb : ∀ (v1267 : IVec S16 32) (k1_hw24 : k1_chk24 v1267), ∀ a x, ((![v1267] : Fin 1 → IVec S16 32) a x).toNat < S31520.size a := fun v1267 k1_hw24 => k1_hw24

def k1_chk25 (v1273 : IVec S16 32) : Prop :=
  (∀ a x, ((![v1273] : Fin 1 → IVec S16 32) a x).toNat < S32.size a) ∧
  (∀ a x, ((![v1273] : Fin 1 → IVec S16 32) a x).toNat < S32.size a)
theorem k1_idx37_inb : ∀ (v1273 : IVec S16 32) (k1_hw25 : k1_chk25 v1273), ∀ a x, ((![v1273] : Fin 1 → IVec S16 32) a x).toNat < S32.size a := fun v1273 k1_hw25 => k1_hw25.1
theorem k1_idx38_inb : ∀ (v1273 : IVec S16 32) (k1_hw25 : k1_chk25 v1273), ∀ a x, ((![v1273] : Fin 1 → IVec S16 32) a x).toNat < S32.size a := fun v1273 k1_hw25 => k1_hw25.2

def k1_chk26 (v1292 : IVec S16 32) : Prop :=
  (∀ a x, ((![v1292] : Fin 1 → IVec S16 32) a x).toNat < S31520.size a)
theorem k1_idx39_inb : ∀ (v1292 : IVec S16 32) (k1_hw26 : k1_chk26 v1292), ∀ a x, ((![v1292] : Fin 1 → IVec S16 32) a x).toNat < S31520.size a := fun v1292 k1_hw26 => k1_hw26

def k1_chk27 (v1298 : IVec S16 32) : Prop :=
  (∀ a x, ((![v1298] : Fin 1 → IVec S16 32) a x).toNat < S32.size a) ∧
  (∀ a x, ((![v1298] : Fin 1 → IVec S16 32) a x).toNat < S32.size a)
theorem k1_idx40_inb : ∀ (v1298 : IVec S16 32) (k1_hw27 : k1_chk27 v1298), ∀ a x, ((![v1298] : Fin 1 → IVec S16 32) a x).toNat < S32.size a := fun v1298 k1_hw27 => k1_hw27.1
theorem k1_idx41_inb : ∀ (v1298 : IVec S16 32) (k1_hw27 : k1_chk27 v1298), ∀ a x, ((![v1298] : Fin 1 → IVec S16 32) a x).toNat < S32.size a := fun v1298 k1_hw27 => k1_hw27.2

def k1_chk28 (v1317 : IVec S16 32) : Prop :=
  (∀ a x, ((![v1317] : Fin 1 → IVec S16 32) a x).toNat < S31520.size a)
theorem k1_idx42_inb : ∀ (v1317 : IVec S16 32) (k1_hw28 : k1_chk28 v1317), ∀ a x, ((![v1317] : Fin 1 → IVec S16 32) a x).toNat < S31520.size a := fun v1317 k1_hw28 => k1_hw28

def k1_chk29 (v1323 : IVec S16 32) : Prop :=
  (∀ a x, ((![v1323] : Fin 1 → IVec S16 32) a x).toNat < S32.size a) ∧
  (∀ a x, ((![v1323] : Fin 1 → IVec S16 32) a x).toNat < S32.size a)
theorem k1_idx43_inb : ∀ (v1323 : IVec S16 32) (k1_hw29 : k1_chk29 v1323), ∀ a x, ((![v1323] : Fin 1 → IVec S16 32) a x).toNat < S32.size a := fun v1323 k1_hw29 => k1_hw29.1
theorem k1_idx44_inb : ∀ (v1323 : IVec S16 32) (k1_hw29 : k1_chk29 v1323), ∀ a x, ((![v1323] : Fin 1 → IVec S16 32) a x).toNat < S32.size a := fun v1323 k1_hw29 => k1_hw29.2

def k1_chk30 (v1342 : IVec S16 32) : Prop :=
  (∀ a x, ((![v1342] : Fin 1 → IVec S16 32) a x).toNat < S31520.size a)
theorem k1_idx45_inb : ∀ (v1342 : IVec S16 32) (k1_hw30 : k1_chk30 v1342), ∀ a x, ((![v1342] : Fin 1 → IVec S16 32) a x).toNat < S31520.size a := fun v1342 k1_hw30 => k1_hw30

def k1_chk31 (v1348 : IVec S16 32) : Prop :=
  (∀ a x, ((![v1348] : Fin 1 → IVec S16 32) a x).toNat < S32.size a) ∧
  (∀ a x, ((![v1348] : Fin 1 → IVec S16 32) a x).toNat < S32.size a)
theorem k1_idx46_inb : ∀ (v1348 : IVec S16 32) (k1_hw31 : k1_chk31 v1348), ∀ a x, ((![v1348] : Fin 1 → IVec S16 32) a x).toNat < S32.size a := fun v1348 k1_hw31 => k1_hw31.1
theorem k1_idx47_inb : ∀ (v1348 : IVec S16 32) (k1_hw31 : k1_chk31 v1348), ∀ a x, ((![v1348] : Fin 1 → IVec S16 32) a x).toNat < S32.size a := fun v1348 k1_hw31 => k1_hw31.2

def k1_chk32 (v1367 : IVec S16 32) : Prop :=
  (∀ a x, ((![v1367] : Fin 1 → IVec S16 32) a x).toNat < S31520.size a)
theorem k1_idx48_inb : ∀ (v1367 : IVec S16 32) (k1_hw32 : k1_chk32 v1367), ∀ a x, ((![v1367] : Fin 1 → IVec S16 32) a x).toNat < S31520.size a := fun v1367 k1_hw32 => k1_hw32

def k1_chk33 (v1373 : IVec S16 32) : Prop :=
  (∀ a x, ((![v1373] : Fin 1 → IVec S16 32) a x).toNat < S32.size a) ∧
  (∀ a x, ((![v1373] : Fin 1 → IVec S16 32) a x).toNat < S32.size a)
theorem k1_idx49_inb : ∀ (v1373 : IVec S16 32) (k1_hw33 : k1_chk33 v1373), ∀ a x, ((![v1373] : Fin 1 → IVec S16 32) a x).toNat < S32.size a := fun v1373 k1_hw33 => k1_hw33.1
theorem k1_idx50_inb : ∀ (v1373 : IVec S16 32) (k1_hw33 : k1_chk33 v1373), ∀ a x, ((![v1373] : Fin 1 → IVec S16 32) a x).toNat < S32.size a := fun v1373 k1_hw33 => k1_hw33.2

def k1_chk34 (v1392 : IVec S16 32) : Prop :=
  (∀ a x, ((![v1392] : Fin 1 → IVec S16 32) a x).toNat < S31520.size a)
theorem k1_idx51_inb : ∀ (v1392 : IVec S16 32) (k1_hw34 : k1_chk34 v1392), ∀ a x, ((![v1392] : Fin 1 → IVec S16 32) a x).toNat < S31520.size a := fun v1392 k1_hw34 => k1_hw34

def k1_chk35 (v1398 : IVec S16 32) : Prop :=
  (∀ a x, ((![v1398] : Fin 1 → IVec S16 32) a x).toNat < S32.size a) ∧
  (∀ a x, ((![v1398] : Fin 1 → IVec S16 32) a x).toNat < S32.size a)
theorem k1_idx52_inb : ∀ (v1398 : IVec S16 32) (k1_hw35 : k1_chk35 v1398), ∀ a x, ((![v1398] : Fin 1 → IVec S16 32) a x).toNat < S32.size a := fun v1398 k1_hw35 => k1_hw35.1
theorem k1_idx53_inb : ∀ (v1398 : IVec S16 32) (k1_hw35 : k1_chk35 v1398), ∀ a x, ((![v1398] : Fin 1 → IVec S16 32) a x).toNat < S32.size a := fun v1398 k1_hw35 => k1_hw35.2

def k1_chk36 (v1417 : IVec S16 32) : Prop :=
  (∀ a x, ((![v1417] : Fin 1 → IVec S16 32) a x).toNat < S31520.size a)
theorem k1_idx54_inb : ∀ (v1417 : IVec S16 32) (k1_hw36 : k1_chk36 v1417), ∀ a x, ((![v1417] : Fin 1 → IVec S16 32) a x).toNat < S31520.size a := fun v1417 k1_hw36 => k1_hw36

def k1_chk37 (v1423 : IVec S16 32) : Prop :=
  (∀ a x, ((![v1423] : Fin 1 → IVec S16 32) a x).toNat < S32.size a) ∧
  (∀ a x, ((![v1423] : Fin 1 → IVec S16 32) a x).toNat < S32.size a)
theorem k1_idx55_inb : ∀ (v1423 : IVec S16 32) (k1_hw37 : k1_chk37 v1423), ∀ a x, ((![v1423] : Fin 1 → IVec S16 32) a x).toNat < S32.size a := fun v1423 k1_hw37 => k1_hw37.1
theorem k1_idx56_inb : ∀ (v1423 : IVec S16 32) (k1_hw37 : k1_chk37 v1423), ∀ a x, ((![v1423] : Fin 1 → IVec S16 32) a x).toNat < S32.size a := fun v1423 k1_hw37 => k1_hw37.2

def k1_chk38 (v1442 : IVec S16 32) : Prop :=
  (∀ a x, ((![v1442] : Fin 1 → IVec S16 32) a x).toNat < S31520.size a)
theorem k1_idx57_inb : ∀ (v1442 : IVec S16 32) (k1_hw38 : k1_chk38 v1442), ∀ a x, ((![v1442] : Fin 1 → IVec S16 32) a x).toNat < S31520.size a := fun v1442 k1_hw38 => k1_hw38

def k1_chk39 (v1448 : IVec S16 32) : Prop :=
  (∀ a x, ((![v1448] : Fin 1 → IVec S16 32) a x).toNat < S32.size a) ∧
  (∀ a x, ((![v1448] : Fin 1 → IVec S16 32) a x).toNat < S32.size a)
theorem k1_idx58_inb : ∀ (v1448 : IVec S16 32) (k1_hw39 : k1_chk39 v1448), ∀ a x, ((![v1448] : Fin 1 → IVec S16 32) a x).toNat < S32.size a := fun v1448 k1_hw39 => k1_hw39.1
theorem k1_idx59_inb : ∀ (v1448 : IVec S16 32) (k1_hw39 : k1_chk39 v1448), ∀ a x, ((![v1448] : Fin 1 → IVec S16 32) a x).toNat < S32.size a := fun v1448 k1_hw39 => k1_hw39.2

def k1_chk40 (v1467 : IVec S16 32) : Prop :=
  (∀ a x, ((![v1467] : Fin 1 → IVec S16 32) a x).toNat < S31520.size a)
theorem k1_idx60_inb : ∀ (v1467 : IVec S16 32) (k1_hw40 : k1_chk40 v1467), ∀ a x, ((![v1467] : Fin 1 → IVec S16 32) a x).toNat < S31520.size a := fun v1467 k1_hw40 => k1_hw40

def k1_chk41 (v1473 : IVec S16 32) : Prop :=
  (∀ a x, ((![v1473] : Fin 1 → IVec S16 32) a x).toNat < S32.size a) ∧
  (∀ a x, ((![v1473] : Fin 1 → IVec S16 32) a x).toNat < S32.size a)
theorem k1_idx61_inb : ∀ (v1473 : IVec S16 32) (k1_hw41 : k1_chk41 v1473), ∀ a x, ((![v1473] : Fin 1 → IVec S16 32) a x).toNat < S32.size a := fun v1473 k1_hw41 => k1_hw41.1
theorem k1_idx62_inb : ∀ (v1473 : IVec S16 32) (k1_hw41 : k1_chk41 v1473), ∀ a x, ((![v1473] : Fin 1 → IVec S16 32) a x).toNat < S32.size a := fun v1473 k1_hw41 => k1_hw41.2

def k1_chk42 (v1492 : IVec S16 32) : Prop :=
  (∀ a x, ((![v1492] : Fin 1 → IVec S16 32) a x).toNat < S31520.size a)
theorem k1_idx63_inb : ∀ (v1492 : IVec S16 32) (k1_hw42 : k1_chk42 v1492), ∀ a x, ((![v1492] : Fin 1 → IVec S16 32) a x).toNat < S31520.size a := fun v1492 k1_hw42 => k1_hw42

def k1_chk43 (v1498 : IVec S16 32) : Prop :=
  (∀ a x, ((![v1498] : Fin 1 → IVec S16 32) a x).toNat < S32.size a) ∧
  (∀ a x, ((![v1498] : Fin 1 → IVec S16 32) a x).toNat < S32.size a)
theorem k1_idx64_inb : ∀ (v1498 : IVec S16 32) (k1_hw43 : k1_chk43 v1498), ∀ a x, ((![v1498] : Fin 1 → IVec S16 32) a x).toNat < S32.size a := fun v1498 k1_hw43 => k1_hw43.1
theorem k1_idx65_inb : ∀ (v1498 : IVec S16 32) (k1_hw43 : k1_chk43 v1498), ∀ a x, ((![v1498] : Fin 1 → IVec S16 32) a x).toNat < S32.size a := fun v1498 k1_hw43 => k1_hw43.2

def k1_chk44 (v1517 : IVec S16 32) : Prop :=
  (∀ a x, ((![v1517] : Fin 1 → IVec S16 32) a x).toNat < S31520.size a)
theorem k1_idx66_inb : ∀ (v1517 : IVec S16 32) (k1_hw44 : k1_chk44 v1517), ∀ a x, ((![v1517] : Fin 1 → IVec S16 32) a x).toNat < S31520.size a := fun v1517 k1_hw44 => k1_hw44

def k1_chk45 (v1523 : IVec S16 32) : Prop :=
  (∀ a x, ((![v1523] : Fin 1 → IVec S16 32) a x).toNat < S32.size a) ∧
  (∀ a x, ((![v1523] : Fin 1 → IVec S16 32) a x).toNat < S32.size a)
theorem k1_idx67_inb : ∀ (v1523 : IVec S16 32) (k1_hw45 : k1_chk45 v1523), ∀ a x, ((![v1523] : Fin 1 → IVec S16 32) a x).toNat < S32.size a := fun v1523 k1_hw45 => k1_hw45.1
theorem k1_idx68_inb : ∀ (v1523 : IVec S16 32) (k1_hw45 : k1_chk45 v1523), ∀ a x, ((![v1523] : Fin 1 → IVec S16 32) a x).toNat < S32.size a := fun v1523 k1_hw45 => k1_hw45.2

def k1_chk46 (v1542 : IVec S16 32) : Prop :=
  (∀ a x, ((![v1542] : Fin 1 → IVec S16 32) a x).toNat < S31520.size a)
theorem k1_idx69_inb : ∀ (v1542 : IVec S16 32) (k1_hw46 : k1_chk46 v1542), ∀ a x, ((![v1542] : Fin 1 → IVec S16 32) a x).toNat < S31520.size a := fun v1542 k1_hw46 => k1_hw46

def k1_chk47 (v1548 : IVec S16 32) : Prop :=
  (∀ a x, ((![v1548] : Fin 1 → IVec S16 32) a x).toNat < S32.size a) ∧
  (∀ a x, ((![v1548] : Fin 1 → IVec S16 32) a x).toNat < S32.size a)
theorem k1_idx70_inb : ∀ (v1548 : IVec S16 32) (k1_hw47 : k1_chk47 v1548), ∀ a x, ((![v1548] : Fin 1 → IVec S16 32) a x).toNat < S32.size a := fun v1548 k1_hw47 => k1_hw47.1
theorem k1_idx71_inb : ∀ (v1548 : IVec S16 32) (k1_hw47 : k1_chk47 v1548), ∀ a x, ((![v1548] : Fin 1 → IVec S16 32) a x).toNat < S32.size a := fun v1548 k1_hw47 => k1_hw47.2

def k1_chk48 (v1567 : IVec S16 32) : Prop :=
  (∀ a x, ((![v1567] : Fin 1 → IVec S16 32) a x).toNat < S31520.size a)
theorem k1_idx72_inb : ∀ (v1567 : IVec S16 32) (k1_hw48 : k1_chk48 v1567), ∀ a x, ((![v1567] : Fin 1 → IVec S16 32) a x).toNat < S31520.size a := fun v1567 k1_hw48 => k1_hw48

def k1_chk49 (v1573 : IVec S16 32) : Prop :=
  (∀ a x, ((![v1573] : Fin 1 → IVec S16 32) a x).toNat < S32.size a) ∧
  (∀ a x, ((![v1573] : Fin 1 → IVec S16 32) a x).toNat < S32.size a)
theorem k1_idx73_inb : ∀ (v1573 : IVec S16 32) (k1_hw49 : k1_chk49 v1573), ∀ a x, ((![v1573] : Fin 1 → IVec S16 32) a x).toNat < S32.size a := fun v1573 k1_hw49 => k1_hw49.1
theorem k1_idx74_inb : ∀ (v1573 : IVec S16 32) (k1_hw49 : k1_chk49 v1573), ∀ a x, ((![v1573] : Fin 1 → IVec S16 32) a x).toNat < S32.size a := fun v1573 k1_hw49 => k1_hw49.2

def k1_chk50 (v1592 : IVec S16 32) : Prop :=
  (∀ a x, ((![v1592] : Fin 1 → IVec S16 32) a x).toNat < S31520.size a)
theorem k1_idx75_inb : ∀ (v1592 : IVec S16 32) (k1_hw50 : k1_chk50 v1592), ∀ a x, ((![v1592] : Fin 1 → IVec S16 32) a x).toNat < S31520.size a := fun v1592 k1_hw50 => k1_hw50

def k1_chk51 (v1598 : IVec S16 32) : Prop :=
  (∀ a x, ((![v1598] : Fin 1 → IVec S16 32) a x).toNat < S32.size a) ∧
  (∀ a x, ((![v1598] : Fin 1 → IVec S16 32) a x).toNat < S32.size a)
theorem k1_idx76_inb : ∀ (v1598 : IVec S16 32) (k1_hw51 : k1_chk51 v1598), ∀ a x, ((![v1598] : Fin 1 → IVec S16 32) a x).toNat < S32.size a := fun v1598 k1_hw51 => k1_hw51.1
theorem k1_idx77_inb : ∀ (v1598 : IVec S16 32) (k1_hw51 : k1_chk51 v1598), ∀ a x, ((![v1598] : Fin 1 → IVec S16 32) a x).toNat < S32.size a := fun v1598 k1_hw51 => k1_hw51.2

def k1_chk52 (v1617 : IVec S16 32) : Prop :=
  (∀ a x, ((![v1617] : Fin 1 → IVec S16 32) a x).toNat < S31520.size a)
theorem k1_idx78_inb : ∀ (v1617 : IVec S16 32) (k1_hw52 : k1_chk52 v1617), ∀ a x, ((![v1617] : Fin 1 → IVec S16 32) a x).toNat < S31520.size a := fun v1617 k1_hw52 => k1_hw52

def k1_chk53 (v1623 : IVec S16 32) : Prop :=
  (∀ a x, ((![v1623] : Fin 1 → IVec S16 32) a x).toNat < S32.size a) ∧
  (∀ a x, ((![v1623] : Fin 1 → IVec S16 32) a x).toNat < S32.size a)
theorem k1_idx79_inb : ∀ (v1623 : IVec S16 32) (k1_hw53 : k1_chk53 v1623), ∀ a x, ((![v1623] : Fin 1 → IVec S16 32) a x).toNat < S32.size a := fun v1623 k1_hw53 => k1_hw53.1
theorem k1_idx80_inb : ∀ (v1623 : IVec S16 32) (k1_hw53 : k1_chk53 v1623), ∀ a x, ((![v1623] : Fin 1 → IVec S16 32) a x).toNat < S32.size a := fun v1623 k1_hw53 => k1_hw53.2

def k1_chk54 (v1642 : IVec S16 32) : Prop :=
  (∀ a x, ((![v1642] : Fin 1 → IVec S16 32) a x).toNat < S31520.size a)
theorem k1_idx81_inb : ∀ (v1642 : IVec S16 32) (k1_hw54 : k1_chk54 v1642), ∀ a x, ((![v1642] : Fin 1 → IVec S16 32) a x).toNat < S31520.size a := fun v1642 k1_hw54 => k1_hw54

def k1_chk55 (v1648 : IVec S16 32) : Prop :=
  (∀ a x, ((![v1648] : Fin 1 → IVec S16 32) a x).toNat < S32.size a) ∧
  (∀ a x, ((![v1648] : Fin 1 → IVec S16 32) a x).toNat < S32.size a)
theorem k1_idx82_inb : ∀ (v1648 : IVec S16 32) (k1_hw55 : k1_chk55 v1648), ∀ a x, ((![v1648] : Fin 1 → IVec S16 32) a x).toNat < S32.size a := fun v1648 k1_hw55 => k1_hw55.1
theorem k1_idx83_inb : ∀ (v1648 : IVec S16 32) (k1_hw55 : k1_chk55 v1648), ∀ a x, ((![v1648] : Fin 1 → IVec S16 32) a x).toNat < S32.size a := fun v1648 k1_hw55 => k1_hw55.2

def k1_chk56 (v1667 : IVec S16 32) : Prop :=
  (∀ a x, ((![v1667] : Fin 1 → IVec S16 32) a x).toNat < S31520.size a)
theorem k1_idx84_inb : ∀ (v1667 : IVec S16 32) (k1_hw56 : k1_chk56 v1667), ∀ a x, ((![v1667] : Fin 1 → IVec S16 32) a x).toNat < S31520.size a := fun v1667 k1_hw56 => k1_hw56

def k1_chk57 (v1673 : IVec S16 32) : Prop :=
  (∀ a x, ((![v1673] : Fin 1 → IVec S16 32) a x).toNat < S32.size a) ∧
  (∀ a x, ((![v1673] : Fin 1 → IVec S16 32) a x).toNat < S32.size a)
theorem k1_idx85_inb : ∀ (v1673 : IVec S16 32) (k1_hw57 : k1_chk57 v1673), ∀ a x, ((![v1673] : Fin 1 → IVec S16 32) a x).toNat < S32.size a := fun v1673 k1_hw57 => k1_hw57.1
theorem k1_idx86_inb : ∀ (v1673 : IVec S16 32) (k1_hw57 : k1_chk57 v1673), ∀ a x, ((![v1673] : Fin 1 → IVec S16 32) a x).toNat < S32.size a := fun v1673 k1_hw57 => k1_hw57.2

def k1_chk58 (v1692 : IVec S16 32) : Prop :=
  (∀ a x, ((![v1692] : Fin 1 → IVec S16 32) a x).toNat < S31520.size a)
theorem k1_idx87_inb : ∀ (v1692 : IVec S16 32) (k1_hw58 : k1_chk58 v1692), ∀ a x, ((![v1692] : Fin 1 → IVec S16 32) a x).toNat < S31520.size a := fun v1692 k1_hw58 => k1_hw58

def k1_chk59 (v1698 : IVec S16 32) : Prop :=
  (∀ a x, ((![v1698] : Fin 1 → IVec S16 32) a x).toNat < S32.size a) ∧
  (∀ a x, ((![v1698] : Fin 1 → IVec S16 32) a x).toNat < S32.size a)
theorem k1_idx88_inb : ∀ (v1698 : IVec S16 32) (k1_hw59 : k1_chk59 v1698), ∀ a x, ((![v1698] : Fin 1 → IVec S16 32) a x).toNat < S32.size a := fun v1698 k1_hw59 => k1_hw59.1
theorem k1_idx89_inb : ∀ (v1698 : IVec S16 32) (k1_hw59 : k1_chk59 v1698), ∀ a x, ((![v1698] : Fin 1 → IVec S16 32) a x).toNat < S32.size a := fun v1698 k1_hw59 => k1_hw59.2

def k1_chk60 (v1717 : IVec S16 32) : Prop :=
  (∀ a x, ((![v1717] : Fin 1 → IVec S16 32) a x).toNat < S31520.size a)
theorem k1_idx90_inb : ∀ (v1717 : IVec S16 32) (k1_hw60 : k1_chk60 v1717), ∀ a x, ((![v1717] : Fin 1 → IVec S16 32) a x).toNat < S31520.size a := fun v1717 k1_hw60 => k1_hw60

def k1_chk61 (v1723 : IVec S16 32) : Prop :=
  (∀ a x, ((![v1723] : Fin 1 → IVec S16 32) a x).toNat < S32.size a) ∧
  (∀ a x, ((![v1723] : Fin 1 → IVec S16 32) a x).toNat < S32.size a)
theorem k1_idx91_inb : ∀ (v1723 : IVec S16 32) (k1_hw61 : k1_chk61 v1723), ∀ a x, ((![v1723] : Fin 1 → IVec S16 32) a x).toNat < S32.size a := fun v1723 k1_hw61 => k1_hw61.1
theorem k1_idx92_inb : ∀ (v1723 : IVec S16 32) (k1_hw61 : k1_chk61 v1723), ∀ a x, ((![v1723] : Fin 1 → IVec S16 32) a x).toNat < S32.size a := fun v1723 k1_hw61 => k1_hw61.2

def k1_chk62 (v1742 : IVec S16 32) : Prop :=
  (∀ a x, ((![v1742] : Fin 1 → IVec S16 32) a x).toNat < S31520.size a)
theorem k1_idx93_inb : ∀ (v1742 : IVec S16 32) (k1_hw62 : k1_chk62 v1742), ∀ a x, ((![v1742] : Fin 1 → IVec S16 32) a x).toNat < S31520.size a := fun v1742 k1_hw62 => k1_hw62

def k1_chk63 (v1748 : IVec S16 32) : Prop :=
  (∀ a x, ((![v1748] : Fin 1 → IVec S16 32) a x).toNat < S32.size a) ∧
  (∀ a x, ((![v1748] : Fin 1 → IVec S16 32) a x).toNat < S32.size a)
theorem k1_idx94_inb : ∀ (v1748 : IVec S16 32) (k1_hw63 : k1_chk63 v1748), ∀ a x, ((![v1748] : Fin 1 → IVec S16 32) a x).toNat < S32.size a := fun v1748 k1_hw63 => k1_hw63.1
theorem k1_idx95_inb : ∀ (v1748 : IVec S16 32) (k1_hw63 : k1_chk63 v1748), ∀ a x, ((![v1748] : Fin 1 → IVec S16 32) a x).toNat < S32.size a := fun v1748 k1_hw63 => k1_hw63.2

def k1_chk64 (v1767 : IVec S16 32) : Prop :=
  (∀ a x, ((![v1767] : Fin 1 → IVec S16 32) a x).toNat < S31520.size a)
theorem k1_idx96_inb : ∀ (v1767 : IVec S16 32) (k1_hw64 : k1_chk64 v1767), ∀ a x, ((![v1767] : Fin 1 → IVec S16 32) a x).toNat < S31520.size a := fun v1767 k1_hw64 => k1_hw64

def k1_chk65 (v1773 : IVec S16 32) : Prop :=
  (∀ a x, ((![v1773] : Fin 1 → IVec S16 32) a x).toNat < S32.size a) ∧
  (∀ a x, ((![v1773] : Fin 1 → IVec S16 32) a x).toNat < S32.size a)
theorem k1_idx97_inb : ∀ (v1773 : IVec S16 32) (k1_hw65 : k1_chk65 v1773), ∀ a x, ((![v1773] : Fin 1 → IVec S16 32) a x).toNat < S32.size a := fun v1773 k1_hw65 => k1_hw65.1
theorem k1_idx98_inb : ∀ (v1773 : IVec S16 32) (k1_hw65 : k1_chk65 v1773), ∀ a x, ((![v1773] : Fin 1 → IVec S16 32) a x).toNat < S32.size a := fun v1773 k1_hw65 => k1_hw65.2

def k1_chk66 (v1792 : IVec S16 32) : Prop :=
  (∀ a x, ((![v1792] : Fin 1 → IVec S16 32) a x).toNat < S31520.size a)
theorem k1_idx99_inb : ∀ (v1792 : IVec S16 32) (k1_hw66 : k1_chk66 v1792), ∀ a x, ((![v1792] : Fin 1 → IVec S16 32) a x).toNat < S31520.size a := fun v1792 k1_hw66 => k1_hw66

def k1_chk67 (v1798 : IVec S16 32) : Prop :=
  (∀ a x, ((![v1798] : Fin 1 → IVec S16 32) a x).toNat < S32.size a) ∧
  (∀ a x, ((![v1798] : Fin 1 → IVec S16 32) a x).toNat < S32.size a)
theorem k1_idx100_inb : ∀ (v1798 : IVec S16 32) (k1_hw67 : k1_chk67 v1798), ∀ a x, ((![v1798] : Fin 1 → IVec S16 32) a x).toNat < S32.size a := fun v1798 k1_hw67 => k1_hw67.1
theorem k1_idx101_inb : ∀ (v1798 : IVec S16 32) (k1_hw67 : k1_chk67 v1798), ∀ a x, ((![v1798] : Fin 1 → IVec S16 32) a x).toNat < S32.size a := fun v1798 k1_hw67 => k1_hw67.2

def k1_chk68 (v1817 : IVec S16 32) : Prop :=
  (∀ a x, ((![v1817] : Fin 1 → IVec S16 32) a x).toNat < S31520.size a)
theorem k1_idx102_inb : ∀ (v1817 : IVec S16 32) (k1_hw68 : k1_chk68 v1817), ∀ a x, ((![v1817] : Fin 1 → IVec S16 32) a x).toNat < S31520.size a := fun v1817 k1_hw68 => k1_hw68

def k1_chk69 (v1823 : IVec S16 32) : Prop :=
  (∀ a x, ((![v1823] : Fin 1 → IVec S16 32) a x).toNat < S32.size a) ∧
  (∀ a x, ((![v1823] : Fin 1 → IVec S16 32) a x).toNat < S32.size a)
theorem k1_idx103_inb : ∀ (v1823 : IVec S16 32) (k1_hw69 : k1_chk69 v1823), ∀ a x, ((![v1823] : Fin 1 → IVec S16 32) a x).toNat < S32.size a := fun v1823 k1_hw69 => k1_hw69.1
theorem k1_idx104_inb : ∀ (v1823 : IVec S16 32) (k1_hw69 : k1_chk69 v1823), ∀ a x, ((![v1823] : Fin 1 → IVec S16 32) a x).toNat < S32.size a := fun v1823 k1_hw69 => k1_hw69.2

def k1_chk70 (v1842 : IVec S16 32) : Prop :=
  (∀ a x, ((![v1842] : Fin 1 → IVec S16 32) a x).toNat < S31520.size a)
theorem k1_idx105_inb : ∀ (v1842 : IVec S16 32) (k1_hw70 : k1_chk70 v1842), ∀ a x, ((![v1842] : Fin 1 → IVec S16 32) a x).toNat < S31520.size a := fun v1842 k1_hw70 => k1_hw70

def k1_chk71 (v1848 : IVec S16 32) : Prop :=
  (∀ a x, ((![v1848] : Fin 1 → IVec S16 32) a x).toNat < S32.size a) ∧
  (∀ a x, ((![v1848] : Fin 1 → IVec S16 32) a x).toNat < S32.size a)
theorem k1_idx106_inb : ∀ (v1848 : IVec S16 32) (k1_hw71 : k1_chk71 v1848), ∀ a x, ((![v1848] : Fin 1 → IVec S16 32) a x).toNat < S32.size a := fun v1848 k1_hw71 => k1_hw71.1
theorem k1_idx107_inb : ∀ (v1848 : IVec S16 32) (k1_hw71 : k1_chk71 v1848), ∀ a x, ((![v1848] : Fin 1 → IVec S16 32) a x).toNat < S32.size a := fun v1848 k1_hw71 => k1_hw71.2

def k1_chk72 (v1867 : IVec S16 32) : Prop :=
  (∀ a x, ((![v1867] : Fin 1 → IVec S16 32) a x).toNat < S31520.size a)
theorem k1_idx108_inb : ∀ (v1867 : IVec S16 32) (k1_hw72 : k1_chk72 v1867), ∀ a x, ((![v1867] : Fin 1 → IVec S16 32) a x).toNat < S31520.size a := fun v1867 k1_hw72 => k1_hw72

def k1_chk73 (v1873 : IVec S16 32) : Prop :=
  (∀ a x, ((![v1873] : Fin 1 → IVec S16 32) a x).toNat < S32.size a) ∧
  (∀ a x, ((![v1873] : Fin 1 → IVec S16 32) a x).toNat < S32.size a)
theorem k1_idx109_inb : ∀ (v1873 : IVec S16 32) (k1_hw73 : k1_chk73 v1873), ∀ a x, ((![v1873] : Fin 1 → IVec S16 32) a x).toNat < S32.size a := fun v1873 k1_hw73 => k1_hw73.1
theorem k1_idx110_inb : ∀ (v1873 : IVec S16 32) (k1_hw73 : k1_chk73 v1873), ∀ a x, ((![v1873] : Fin 1 → IVec S16 32) a x).toNat < S32.size a := fun v1873 k1_hw73 => k1_hw73.2

def k1_chk74 (v1892 : IVec S16 32) : Prop :=
  (∀ a x, ((![v1892] : Fin 1 → IVec S16 32) a x).toNat < S31520.size a)
theorem k1_idx111_inb : ∀ (v1892 : IVec S16 32) (k1_hw74 : k1_chk74 v1892), ∀ a x, ((![v1892] : Fin 1 → IVec S16 32) a x).toNat < S31520.size a := fun v1892 k1_hw74 => k1_hw74

def k1_chk75 (v1898 : IVec S16 32) : Prop :=
  (∀ a x, ((![v1898] : Fin 1 → IVec S16 32) a x).toNat < S32.size a) ∧
  (∀ a x, ((![v1898] : Fin 1 → IVec S16 32) a x).toNat < S32.size a)
theorem k1_idx112_inb : ∀ (v1898 : IVec S16 32) (k1_hw75 : k1_chk75 v1898), ∀ a x, ((![v1898] : Fin 1 → IVec S16 32) a x).toNat < S32.size a := fun v1898 k1_hw75 => k1_hw75.1
theorem k1_idx113_inb : ∀ (v1898 : IVec S16 32) (k1_hw75 : k1_chk75 v1898), ∀ a x, ((![v1898] : Fin 1 → IVec S16 32) a x).toNat < S32.size a := fun v1898 k1_hw75 => k1_hw75.2

def k1_chk76 (v1917 : IVec S16 32) : Prop :=
  (∀ a x, ((![v1917] : Fin 1 → IVec S16 32) a x).toNat < S31520.size a)
theorem k1_idx114_inb : ∀ (v1917 : IVec S16 32) (k1_hw76 : k1_chk76 v1917), ∀ a x, ((![v1917] : Fin 1 → IVec S16 32) a x).toNat < S31520.size a := fun v1917 k1_hw76 => k1_hw76

def k1_chk77 (v1923 : IVec S16 32) : Prop :=
  (∀ a x, ((![v1923] : Fin 1 → IVec S16 32) a x).toNat < S32.size a) ∧
  (∀ a x, ((![v1923] : Fin 1 → IVec S16 32) a x).toNat < S32.size a)
theorem k1_idx115_inb : ∀ (v1923 : IVec S16 32) (k1_hw77 : k1_chk77 v1923), ∀ a x, ((![v1923] : Fin 1 → IVec S16 32) a x).toNat < S32.size a := fun v1923 k1_hw77 => k1_hw77.1
theorem k1_idx116_inb : ∀ (v1923 : IVec S16 32) (k1_hw77 : k1_chk77 v1923), ∀ a x, ((![v1923] : Fin 1 → IVec S16 32) a x).toNat < S32.size a := fun v1923 k1_hw77 => k1_hw77.2

def k1_chk78 (v1942 : IVec S16 32) : Prop :=
  (∀ a x, ((![v1942] : Fin 1 → IVec S16 32) a x).toNat < S31520.size a)
theorem k1_idx117_inb : ∀ (v1942 : IVec S16 32) (k1_hw78 : k1_chk78 v1942), ∀ a x, ((![v1942] : Fin 1 → IVec S16 32) a x).toNat < S31520.size a := fun v1942 k1_hw78 => k1_hw78

def k1_chk79 (v1948 : IVec S16 32) : Prop :=
  (∀ a x, ((![v1948] : Fin 1 → IVec S16 32) a x).toNat < S32.size a) ∧
  (∀ a x, ((![v1948] : Fin 1 → IVec S16 32) a x).toNat < S32.size a)
theorem k1_idx118_inb : ∀ (v1948 : IVec S16 32) (k1_hw79 : k1_chk79 v1948), ∀ a x, ((![v1948] : Fin 1 → IVec S16 32) a x).toNat < S32.size a := fun v1948 k1_hw79 => k1_hw79.1
theorem k1_idx119_inb : ∀ (v1948 : IVec S16 32) (k1_hw79 : k1_chk79 v1948), ∀ a x, ((![v1948] : Fin 1 → IVec S16 32) a x).toNat < S32.size a := fun v1948 k1_hw79 => k1_hw79.2

def k1_chk80 (v1967 : IVec S16 32) : Prop :=
  (∀ a x, ((![v1967] : Fin 1 → IVec S16 32) a x).toNat < S31520.size a)
theorem k1_idx120_inb : ∀ (v1967 : IVec S16 32) (k1_hw80 : k1_chk80 v1967), ∀ a x, ((![v1967] : Fin 1 → IVec S16 32) a x).toNat < S31520.size a := fun v1967 k1_hw80 => k1_hw80

def k1_chk81 (v1973 : IVec S16 32) : Prop :=
  (∀ a x, ((![v1973] : Fin 1 → IVec S16 32) a x).toNat < S32.size a) ∧
  (∀ a x, ((![v1973] : Fin 1 → IVec S16 32) a x).toNat < S32.size a)
theorem k1_idx121_inb : ∀ (v1973 : IVec S16 32) (k1_hw81 : k1_chk81 v1973), ∀ a x, ((![v1973] : Fin 1 → IVec S16 32) a x).toNat < S32.size a := fun v1973 k1_hw81 => k1_hw81.1
theorem k1_idx122_inb : ∀ (v1973 : IVec S16 32) (k1_hw81 : k1_chk81 v1973), ∀ a x, ((![v1973] : Fin 1 → IVec S16 32) a x).toNat < S32.size a := fun v1973 k1_hw81 => k1_hw81.2

def k1_chk82 (v1992 : IVec S16 32) : Prop :=
  (∀ a x, ((![v1992] : Fin 1 → IVec S16 32) a x).toNat < S31520.size a)
theorem k1_idx123_inb : ∀ (v1992 : IVec S16 32) (k1_hw82 : k1_chk82 v1992), ∀ a x, ((![v1992] : Fin 1 → IVec S16 32) a x).toNat < S31520.size a := fun v1992 k1_hw82 => k1_hw82

def k1_chk83 (v1998 : IVec S16 32) : Prop :=
  (∀ a x, ((![v1998] : Fin 1 → IVec S16 32) a x).toNat < S32.size a) ∧
  (∀ a x, ((![v1998] : Fin 1 → IVec S16 32) a x).toNat < S32.size a)
theorem k1_idx124_inb : ∀ (v1998 : IVec S16 32) (k1_hw83 : k1_chk83 v1998), ∀ a x, ((![v1998] : Fin 1 → IVec S16 32) a x).toNat < S32.size a := fun v1998 k1_hw83 => k1_hw83.1
theorem k1_idx125_inb : ∀ (v1998 : IVec S16 32) (k1_hw83 : k1_chk83 v1998), ∀ a x, ((![v1998] : Fin 1 → IVec S16 32) a x).toNat < S32.size a := fun v1998 k1_hw83 => k1_hw83.2

def k1_chk84 (v2017 : IVec S16 32) : Prop :=
  (∀ a x, ((![v2017] : Fin 1 → IVec S16 32) a x).toNat < S31520.size a)
theorem k1_idx126_inb : ∀ (v2017 : IVec S16 32) (k1_hw84 : k1_chk84 v2017), ∀ a x, ((![v2017] : Fin 1 → IVec S16 32) a x).toNat < S31520.size a := fun v2017 k1_hw84 => k1_hw84

def k1_chk85 (v2023 : IVec S16 32) : Prop :=
  (∀ a x, ((![v2023] : Fin 1 → IVec S16 32) a x).toNat < S32.size a) ∧
  (∀ a x, ((![v2023] : Fin 1 → IVec S16 32) a x).toNat < S32.size a)
theorem k1_idx127_inb : ∀ (v2023 : IVec S16 32) (k1_hw85 : k1_chk85 v2023), ∀ a x, ((![v2023] : Fin 1 → IVec S16 32) a x).toNat < S32.size a := fun v2023 k1_hw85 => k1_hw85.1
theorem k1_idx128_inb : ∀ (v2023 : IVec S16 32) (k1_hw85 : k1_chk85 v2023), ∀ a x, ((![v2023] : Fin 1 → IVec S16 32) a x).toNat < S32.size a := fun v2023 k1_hw85 => k1_hw85.2

def k1_chk86 (v2042 : IVec S16 32) : Prop :=
  (∀ a x, ((![v2042] : Fin 1 → IVec S16 32) a x).toNat < S31520.size a)
theorem k1_idx129_inb : ∀ (v2042 : IVec S16 32) (k1_hw86 : k1_chk86 v2042), ∀ a x, ((![v2042] : Fin 1 → IVec S16 32) a x).toNat < S31520.size a := fun v2042 k1_hw86 => k1_hw86

def k1_chk87 (v2048 : IVec S16 32) : Prop :=
  (∀ a x, ((![v2048] : Fin 1 → IVec S16 32) a x).toNat < S32.size a) ∧
  (∀ a x, ((![v2048] : Fin 1 → IVec S16 32) a x).toNat < S32.size a)
theorem k1_idx130_inb : ∀ (v2048 : IVec S16 32) (k1_hw87 : k1_chk87 v2048), ∀ a x, ((![v2048] : Fin 1 → IVec S16 32) a x).toNat < S32.size a := fun v2048 k1_hw87 => k1_hw87.1
theorem k1_idx131_inb : ∀ (v2048 : IVec S16 32) (k1_hw87 : k1_chk87 v2048), ∀ a x, ((![v2048] : Fin 1 → IVec S16 32) a x).toNat < S32.size a := fun v2048 k1_hw87 => k1_hw87.2

def k1_chk88 (v2067 : IVec S16 32) : Prop :=
  (∀ a x, ((![v2067] : Fin 1 → IVec S16 32) a x).toNat < S31520.size a)
theorem k1_idx132_inb : ∀ (v2067 : IVec S16 32) (k1_hw88 : k1_chk88 v2067), ∀ a x, ((![v2067] : Fin 1 → IVec S16 32) a x).toNat < S31520.size a := fun v2067 k1_hw88 => k1_hw88

def k1_chk89 (v2073 : IVec S16 32) : Prop :=
  (∀ a x, ((![v2073] : Fin 1 → IVec S16 32) a x).toNat < S32.size a) ∧
  (∀ a x, ((![v2073] : Fin 1 → IVec S16 32) a x).toNat < S32.size a)
theorem k1_idx133_inb : ∀ (v2073 : IVec S16 32) (k1_hw89 : k1_chk89 v2073), ∀ a x, ((![v2073] : Fin 1 → IVec S16 32) a x).toNat < S32.size a := fun v2073 k1_hw89 => k1_hw89.1
theorem k1_idx134_inb : ∀ (v2073 : IVec S16 32) (k1_hw89 : k1_chk89 v2073), ∀ a x, ((![v2073] : Fin 1 → IVec S16 32) a x).toNat < S32.size a := fun v2073 k1_hw89 => k1_hw89.2

def k1_chk90 (v2092 : IVec S16 32) : Prop :=
  (∀ a x, ((![v2092] : Fin 1 → IVec S16 32) a x).toNat < S31520.size a)
theorem k1_idx135_inb : ∀ (v2092 : IVec S16 32) (k1_hw90 : k1_chk90 v2092), ∀ a x, ((![v2092] : Fin 1 → IVec S16 32) a x).toNat < S31520.size a := fun v2092 k1_hw90 => k1_hw90

def k1_chk91 (v2098 : IVec S16 32) : Prop :=
  (∀ a x, ((![v2098] : Fin 1 → IVec S16 32) a x).toNat < S32.size a) ∧
  (∀ a x, ((![v2098] : Fin 1 → IVec S16 32) a x).toNat < S32.size a)
theorem k1_idx136_inb : ∀ (v2098 : IVec S16 32) (k1_hw91 : k1_chk91 v2098), ∀ a x, ((![v2098] : Fin 1 → IVec S16 32) a x).toNat < S32.size a := fun v2098 k1_hw91 => k1_hw91.1
theorem k1_idx137_inb : ∀ (v2098 : IVec S16 32) (k1_hw91 : k1_chk91 v2098), ∀ a x, ((![v2098] : Fin 1 → IVec S16 32) a x).toNat < S32.size a := fun v2098 k1_hw91 => k1_hw91.2

def k1_chk92 (v2117 : IVec S16 32) : Prop :=
  (∀ a x, ((![v2117] : Fin 1 → IVec S16 32) a x).toNat < S31520.size a)
theorem k1_idx138_inb : ∀ (v2117 : IVec S16 32) (k1_hw92 : k1_chk92 v2117), ∀ a x, ((![v2117] : Fin 1 → IVec S16 32) a x).toNat < S31520.size a := fun v2117 k1_hw92 => k1_hw92

def k1_chk93 (v2123 : IVec S16 32) : Prop :=
  (∀ a x, ((![v2123] : Fin 1 → IVec S16 32) a x).toNat < S32.size a) ∧
  (∀ a x, ((![v2123] : Fin 1 → IVec S16 32) a x).toNat < S32.size a)
theorem k1_idx139_inb : ∀ (v2123 : IVec S16 32) (k1_hw93 : k1_chk93 v2123), ∀ a x, ((![v2123] : Fin 1 → IVec S16 32) a x).toNat < S32.size a := fun v2123 k1_hw93 => k1_hw93.1
theorem k1_idx140_inb : ∀ (v2123 : IVec S16 32) (k1_hw93 : k1_chk93 v2123), ∀ a x, ((![v2123] : Fin 1 → IVec S16 32) a x).toNat < S32.size a := fun v2123 k1_hw93 => k1_hw93.2

def k1_chk94 (v2142 : IVec S16 32) : Prop :=
  (∀ a x, ((![v2142] : Fin 1 → IVec S16 32) a x).toNat < S31520.size a)
theorem k1_idx141_inb : ∀ (v2142 : IVec S16 32) (k1_hw94 : k1_chk94 v2142), ∀ a x, ((![v2142] : Fin 1 → IVec S16 32) a x).toNat < S31520.size a := fun v2142 k1_hw94 => k1_hw94

def k1_chk95 (v2148 : IVec S16 32) : Prop :=
  (∀ a x, ((![v2148] : Fin 1 → IVec S16 32) a x).toNat < S32.size a) ∧
  (∀ a x, ((![v2148] : Fin 1 → IVec S16 32) a x).toNat < S32.size a)
theorem k1_idx142_inb : ∀ (v2148 : IVec S16 32) (k1_hw95 : k1_chk95 v2148), ∀ a x, ((![v2148] : Fin 1 → IVec S16 32) a x).toNat < S32.size a := fun v2148 k1_hw95 => k1_hw95.1
theorem k1_idx143_inb : ∀ (v2148 : IVec S16 32) (k1_hw95 : k1_chk95 v2148), ∀ a x, ((![v2148] : Fin 1 → IVec S16 32) a x).toNat < S32.size a := fun v2148 k1_hw95 => k1_hw95.2

def k1_chk96 (v2167 : IVec S16 32) : Prop :=
  (∀ a x, ((![v2167] : Fin 1 → IVec S16 32) a x).toNat < S31520.size a)
theorem k1_idx144_inb : ∀ (v2167 : IVec S16 32) (k1_hw96 : k1_chk96 v2167), ∀ a x, ((![v2167] : Fin 1 → IVec S16 32) a x).toNat < S31520.size a := fun v2167 k1_hw96 => k1_hw96

def k1_chk97 (v2173 : IVec S16 32) : Prop :=
  (∀ a x, ((![v2173] : Fin 1 → IVec S16 32) a x).toNat < S32.size a) ∧
  (∀ a x, ((![v2173] : Fin 1 → IVec S16 32) a x).toNat < S32.size a)
theorem k1_idx145_inb : ∀ (v2173 : IVec S16 32) (k1_hw97 : k1_chk97 v2173), ∀ a x, ((![v2173] : Fin 1 → IVec S16 32) a x).toNat < S32.size a := fun v2173 k1_hw97 => k1_hw97.1
theorem k1_idx146_inb : ∀ (v2173 : IVec S16 32) (k1_hw97 : k1_chk97 v2173), ∀ a x, ((![v2173] : Fin 1 → IVec S16 32) a x).toNat < S32.size a := fun v2173 k1_hw97 => k1_hw97.2

def k1_chk98 (v2192 : IVec S16 32) : Prop :=
  (∀ a x, ((![v2192] : Fin 1 → IVec S16 32) a x).toNat < S31520.size a)
theorem k1_idx147_inb : ∀ (v2192 : IVec S16 32) (k1_hw98 : k1_chk98 v2192), ∀ a x, ((![v2192] : Fin 1 → IVec S16 32) a x).toNat < S31520.size a := fun v2192 k1_hw98 => k1_hw98

def k1_chk99 (v2198 : IVec S16 32) : Prop :=
  (∀ a x, ((![v2198] : Fin 1 → IVec S16 32) a x).toNat < S32.size a) ∧
  (∀ a x, ((![v2198] : Fin 1 → IVec S16 32) a x).toNat < S32.size a)
theorem k1_idx148_inb : ∀ (v2198 : IVec S16 32) (k1_hw99 : k1_chk99 v2198), ∀ a x, ((![v2198] : Fin 1 → IVec S16 32) a x).toNat < S32.size a := fun v2198 k1_hw99 => k1_hw99.1
theorem k1_idx149_inb : ∀ (v2198 : IVec S16 32) (k1_hw99 : k1_chk99 v2198), ∀ a x, ((![v2198] : Fin 1 → IVec S16 32) a x).toNat < S32.size a := fun v2198 k1_hw99 => k1_hw99.2

def k1_chk100 (v2217 : IVec S16 32) : Prop :=
  (∀ a x, ((![v2217] : Fin 1 → IVec S16 32) a x).toNat < S31520.size a)
theorem k1_idx150_inb : ∀ (v2217 : IVec S16 32) (k1_hw100 : k1_chk100 v2217), ∀ a x, ((![v2217] : Fin 1 → IVec S16 32) a x).toNat < S31520.size a := fun v2217 k1_hw100 => k1_hw100

def k1_chk101 (v2223 : IVec S16 32) : Prop :=
  (∀ a x, ((![v2223] : Fin 1 → IVec S16 32) a x).toNat < S32.size a) ∧
  (∀ a x, ((![v2223] : Fin 1 → IVec S16 32) a x).toNat < S32.size a)
theorem k1_idx151_inb : ∀ (v2223 : IVec S16 32) (k1_hw101 : k1_chk101 v2223), ∀ a x, ((![v2223] : Fin 1 → IVec S16 32) a x).toNat < S32.size a := fun v2223 k1_hw101 => k1_hw101.1
theorem k1_idx152_inb : ∀ (v2223 : IVec S16 32) (k1_hw101 : k1_chk101 v2223), ∀ a x, ((![v2223] : Fin 1 → IVec S16 32) a x).toNat < S32.size a := fun v2223 k1_hw101 => k1_hw101.2

def k1_chk102 (v2242 : IVec S16 32) : Prop :=
  (∀ a x, ((![v2242] : Fin 1 → IVec S16 32) a x).toNat < S31520.size a)
theorem k1_idx153_inb : ∀ (v2242 : IVec S16 32) (k1_hw102 : k1_chk102 v2242), ∀ a x, ((![v2242] : Fin 1 → IVec S16 32) a x).toNat < S31520.size a := fun v2242 k1_hw102 => k1_hw102

def k1_chk103 (v2248 : IVec S16 32) : Prop :=
  (∀ a x, ((![v2248] : Fin 1 → IVec S16 32) a x).toNat < S32.size a) ∧
  (∀ a x, ((![v2248] : Fin 1 → IVec S16 32) a x).toNat < S32.size a)
theorem k1_idx154_inb : ∀ (v2248 : IVec S16 32) (k1_hw103 : k1_chk103 v2248), ∀ a x, ((![v2248] : Fin 1 → IVec S16 32) a x).toNat < S32.size a := fun v2248 k1_hw103 => k1_hw103.1
theorem k1_idx155_inb : ∀ (v2248 : IVec S16 32) (k1_hw103 : k1_chk103 v2248), ∀ a x, ((![v2248] : Fin 1 → IVec S16 32) a x).toNat < S32.size a := fun v2248 k1_hw103 => k1_hw103.2

def k1_chk104 (v2267 : IVec S16 32) : Prop :=
  (∀ a x, ((![v2267] : Fin 1 → IVec S16 32) a x).toNat < S31520.size a)
theorem k1_idx156_inb : ∀ (v2267 : IVec S16 32) (k1_hw104 : k1_chk104 v2267), ∀ a x, ((![v2267] : Fin 1 → IVec S16 32) a x).toNat < S31520.size a := fun v2267 k1_hw104 => k1_hw104

def k1_chk105 (v2273 : IVec S16 32) : Prop :=
  (∀ a x, ((![v2273] : Fin 1 → IVec S16 32) a x).toNat < S32.size a) ∧
  (∀ a x, ((![v2273] : Fin 1 → IVec S16 32) a x).toNat < S32.size a)
theorem k1_idx157_inb : ∀ (v2273 : IVec S16 32) (k1_hw105 : k1_chk105 v2273), ∀ a x, ((![v2273] : Fin 1 → IVec S16 32) a x).toNat < S32.size a := fun v2273 k1_hw105 => k1_hw105.1
theorem k1_idx158_inb : ∀ (v2273 : IVec S16 32) (k1_hw105 : k1_chk105 v2273), ∀ a x, ((![v2273] : Fin 1 → IVec S16 32) a x).toNat < S32.size a := fun v2273 k1_hw105 => k1_hw105.2

def k1_chk106 (v2292 : IVec S16 32) : Prop :=
  (∀ a x, ((![v2292] : Fin 1 → IVec S16 32) a x).toNat < S31520.size a)
theorem k1_idx159_inb : ∀ (v2292 : IVec S16 32) (k1_hw106 : k1_chk106 v2292), ∀ a x, ((![v2292] : Fin 1 → IVec S16 32) a x).toNat < S31520.size a := fun v2292 k1_hw106 => k1_hw106

def k1_chk107 (v2298 : IVec S16 32) : Prop :=
  (∀ a x, ((![v2298] : Fin 1 → IVec S16 32) a x).toNat < S32.size a) ∧
  (∀ a x, ((![v2298] : Fin 1 → IVec S16 32) a x).toNat < S32.size a)
theorem k1_idx160_inb : ∀ (v2298 : IVec S16 32) (k1_hw107 : k1_chk107 v2298), ∀ a x, ((![v2298] : Fin 1 → IVec S16 32) a x).toNat < S32.size a := fun v2298 k1_hw107 => k1_hw107.1
theorem k1_idx161_inb : ∀ (v2298 : IVec S16 32) (k1_hw107 : k1_chk107 v2298), ∀ a x, ((![v2298] : Fin 1 → IVec S16 32) a x).toNat < S32.size a := fun v2298 k1_hw107 => k1_hw107.2

def k1_chk108 (v2317 : IVec S16 32) : Prop :=
  (∀ a x, ((![v2317] : Fin 1 → IVec S16 32) a x).toNat < S31520.size a)
theorem k1_idx162_inb : ∀ (v2317 : IVec S16 32) (k1_hw108 : k1_chk108 v2317), ∀ a x, ((![v2317] : Fin 1 → IVec S16 32) a x).toNat < S31520.size a := fun v2317 k1_hw108 => k1_hw108

def k1_chk109 (v2323 : IVec S16 32) : Prop :=
  (∀ a x, ((![v2323] : Fin 1 → IVec S16 32) a x).toNat < S32.size a) ∧
  (∀ a x, ((![v2323] : Fin 1 → IVec S16 32) a x).toNat < S32.size a)
theorem k1_idx163_inb : ∀ (v2323 : IVec S16 32) (k1_hw109 : k1_chk109 v2323), ∀ a x, ((![v2323] : Fin 1 → IVec S16 32) a x).toNat < S32.size a := fun v2323 k1_hw109 => k1_hw109.1
theorem k1_idx164_inb : ∀ (v2323 : IVec S16 32) (k1_hw109 : k1_chk109 v2323), ∀ a x, ((![v2323] : Fin 1 → IVec S16 32) a x).toNat < S32.size a := fun v2323 k1_hw109 => k1_hw109.2

def k1_chk110 (v2342 : IVec S16 32) : Prop :=
  (∀ a x, ((![v2342] : Fin 1 → IVec S16 32) a x).toNat < S31520.size a)
theorem k1_idx165_inb : ∀ (v2342 : IVec S16 32) (k1_hw110 : k1_chk110 v2342), ∀ a x, ((![v2342] : Fin 1 → IVec S16 32) a x).toNat < S31520.size a := fun v2342 k1_hw110 => k1_hw110

def k1_chk111 (v2348 : IVec S16 32) : Prop :=
  (∀ a x, ((![v2348] : Fin 1 → IVec S16 32) a x).toNat < S32.size a) ∧
  (∀ a x, ((![v2348] : Fin 1 → IVec S16 32) a x).toNat < S32.size a)
theorem k1_idx166_inb : ∀ (v2348 : IVec S16 32) (k1_hw111 : k1_chk111 v2348), ∀ a x, ((![v2348] : Fin 1 → IVec S16 32) a x).toNat < S32.size a := fun v2348 k1_hw111 => k1_hw111.1
theorem k1_idx167_inb : ∀ (v2348 : IVec S16 32) (k1_hw111 : k1_chk111 v2348), ∀ a x, ((![v2348] : Fin 1 → IVec S16 32) a x).toNat < S32.size a := fun v2348 k1_hw111 => k1_hw111.2

def k1_chk112 (v2367 : IVec S16 32) : Prop :=
  (∀ a x, ((![v2367] : Fin 1 → IVec S16 32) a x).toNat < S31520.size a)
theorem k1_idx168_inb : ∀ (v2367 : IVec S16 32) (k1_hw112 : k1_chk112 v2367), ∀ a x, ((![v2367] : Fin 1 → IVec S16 32) a x).toNat < S31520.size a := fun v2367 k1_hw112 => k1_hw112

def k1_chk113 (v2373 : IVec S16 32) : Prop :=
  (∀ a x, ((![v2373] : Fin 1 → IVec S16 32) a x).toNat < S32.size a) ∧
  (∀ a x, ((![v2373] : Fin 1 → IVec S16 32) a x).toNat < S32.size a)
theorem k1_idx169_inb : ∀ (v2373 : IVec S16 32) (k1_hw113 : k1_chk113 v2373), ∀ a x, ((![v2373] : Fin 1 → IVec S16 32) a x).toNat < S32.size a := fun v2373 k1_hw113 => k1_hw113.1
theorem k1_idx170_inb : ∀ (v2373 : IVec S16 32) (k1_hw113 : k1_chk113 v2373), ∀ a x, ((![v2373] : Fin 1 → IVec S16 32) a x).toNat < S32.size a := fun v2373 k1_hw113 => k1_hw113.2

def k1_chk114 (v2392 : IVec S16 32) : Prop :=
  (∀ a x, ((![v2392] : Fin 1 → IVec S16 32) a x).toNat < S31520.size a)
theorem k1_idx171_inb : ∀ (v2392 : IVec S16 32) (k1_hw114 : k1_chk114 v2392), ∀ a x, ((![v2392] : Fin 1 → IVec S16 32) a x).toNat < S31520.size a := fun v2392 k1_hw114 => k1_hw114

def k1_chk115 (v2398 : IVec S16 32) : Prop :=
  (∀ a x, ((![v2398] : Fin 1 → IVec S16 32) a x).toNat < S32.size a) ∧
  (∀ a x, ((![v2398] : Fin 1 → IVec S16 32) a x).toNat < S32.size a)
theorem k1_idx172_inb : ∀ (v2398 : IVec S16 32) (k1_hw115 : k1_chk115 v2398), ∀ a x, ((![v2398] : Fin 1 → IVec S16 32) a x).toNat < S32.size a := fun v2398 k1_hw115 => k1_hw115.1
theorem k1_idx173_inb : ∀ (v2398 : IVec S16 32) (k1_hw115 : k1_chk115 v2398), ∀ a x, ((![v2398] : Fin 1 → IVec S16 32) a x).toNat < S32.size a := fun v2398 k1_hw115 => k1_hw115.2

def k1_chk116 (v2417 : IVec S16 32) : Prop :=
  (∀ a x, ((![v2417] : Fin 1 → IVec S16 32) a x).toNat < S31520.size a)
theorem k1_idx174_inb : ∀ (v2417 : IVec S16 32) (k1_hw116 : k1_chk116 v2417), ∀ a x, ((![v2417] : Fin 1 → IVec S16 32) a x).toNat < S31520.size a := fun v2417 k1_hw116 => k1_hw116

def k1_chk117 (v2423 : IVec S16 32) : Prop :=
  (∀ a x, ((![v2423] : Fin 1 → IVec S16 32) a x).toNat < S32.size a) ∧
  (∀ a x, ((![v2423] : Fin 1 → IVec S16 32) a x).toNat < S32.size a)
theorem k1_idx175_inb : ∀ (v2423 : IVec S16 32) (k1_hw117 : k1_chk117 v2423), ∀ a x, ((![v2423] : Fin 1 → IVec S16 32) a x).toNat < S32.size a := fun v2423 k1_hw117 => k1_hw117.1
theorem k1_idx176_inb : ∀ (v2423 : IVec S16 32) (k1_hw117 : k1_chk117 v2423), ∀ a x, ((![v2423] : Fin 1 → IVec S16 32) a x).toNat < S32.size a := fun v2423 k1_hw117 => k1_hw117.2

def k1_chk118 (v2442 : IVec S16 32) : Prop :=
  (∀ a x, ((![v2442] : Fin 1 → IVec S16 32) a x).toNat < S31520.size a)
theorem k1_idx177_inb : ∀ (v2442 : IVec S16 32) (k1_hw118 : k1_chk118 v2442), ∀ a x, ((![v2442] : Fin 1 → IVec S16 32) a x).toNat < S31520.size a := fun v2442 k1_hw118 => k1_hw118

def k1_chk119 (v2448 : IVec S16 32) : Prop :=
  (∀ a x, ((![v2448] : Fin 1 → IVec S16 32) a x).toNat < S32.size a) ∧
  (∀ a x, ((![v2448] : Fin 1 → IVec S16 32) a x).toNat < S32.size a)
theorem k1_idx178_inb : ∀ (v2448 : IVec S16 32) (k1_hw119 : k1_chk119 v2448), ∀ a x, ((![v2448] : Fin 1 → IVec S16 32) a x).toNat < S32.size a := fun v2448 k1_hw119 => k1_hw119.1
theorem k1_idx179_inb : ∀ (v2448 : IVec S16 32) (k1_hw119 : k1_chk119 v2448), ∀ a x, ((![v2448] : Fin 1 → IVec S16 32) a x).toNat < S32.size a := fun v2448 k1_hw119 => k1_hw119.2

def k1_chk120 (v2467 : IVec S16 32) : Prop :=
  (∀ a x, ((![v2467] : Fin 1 → IVec S16 32) a x).toNat < S31520.size a)
theorem k1_idx180_inb : ∀ (v2467 : IVec S16 32) (k1_hw120 : k1_chk120 v2467), ∀ a x, ((![v2467] : Fin 1 → IVec S16 32) a x).toNat < S31520.size a := fun v2467 k1_hw120 => k1_hw120

def k1_chk121 (v2473 : IVec S16 32) : Prop :=
  (∀ a x, ((![v2473] : Fin 1 → IVec S16 32) a x).toNat < S32.size a) ∧
  (∀ a x, ((![v2473] : Fin 1 → IVec S16 32) a x).toNat < S32.size a)
theorem k1_idx181_inb : ∀ (v2473 : IVec S16 32) (k1_hw121 : k1_chk121 v2473), ∀ a x, ((![v2473] : Fin 1 → IVec S16 32) a x).toNat < S32.size a := fun v2473 k1_hw121 => k1_hw121.1
theorem k1_idx182_inb : ∀ (v2473 : IVec S16 32) (k1_hw121 : k1_chk121 v2473), ∀ a x, ((![v2473] : Fin 1 → IVec S16 32) a x).toNat < S32.size a := fun v2473 k1_hw121 => k1_hw121.2

def k1_chk122 (v2492 : IVec S16 32) : Prop :=
  (∀ a x, ((![v2492] : Fin 1 → IVec S16 32) a x).toNat < S31520.size a)
theorem k1_idx183_inb : ∀ (v2492 : IVec S16 32) (k1_hw122 : k1_chk122 v2492), ∀ a x, ((![v2492] : Fin 1 → IVec S16 32) a x).toNat < S31520.size a := fun v2492 k1_hw122 => k1_hw122

def k1_chk123 (v2498 : IVec S16 32) : Prop :=
  (∀ a x, ((![v2498] : Fin 1 → IVec S16 32) a x).toNat < S32.size a) ∧
  (∀ a x, ((![v2498] : Fin 1 → IVec S16 32) a x).toNat < S32.size a)
theorem k1_idx184_inb : ∀ (v2498 : IVec S16 32) (k1_hw123 : k1_chk123 v2498), ∀ a x, ((![v2498] : Fin 1 → IVec S16 32) a x).toNat < S32.size a := fun v2498 k1_hw123 => k1_hw123.1
theorem k1_idx185_inb : ∀ (v2498 : IVec S16 32) (k1_hw123 : k1_chk123 v2498), ∀ a x, ((![v2498] : Fin 1 → IVec S16 32) a x).toNat < S32.size a := fun v2498 k1_hw123 => k1_hw123.2

def k1_chk124 (v2517 : IVec S16 32) : Prop :=
  (∀ a x, ((![v2517] : Fin 1 → IVec S16 32) a x).toNat < S31520.size a)
theorem k1_idx186_inb : ∀ (v2517 : IVec S16 32) (k1_hw124 : k1_chk124 v2517), ∀ a x, ((![v2517] : Fin 1 → IVec S16 32) a x).toNat < S31520.size a := fun v2517 k1_hw124 => k1_hw124

def k1_chk125 (v2523 : IVec S16 32) : Prop :=
  (∀ a x, ((![v2523] : Fin 1 → IVec S16 32) a x).toNat < S32.size a) ∧
  (∀ a x, ((![v2523] : Fin 1 → IVec S16 32) a x).toNat < S32.size a)
theorem k1_idx187_inb : ∀ (v2523 : IVec S16 32) (k1_hw125 : k1_chk125 v2523), ∀ a x, ((![v2523] : Fin 1 → IVec S16 32) a x).toNat < S32.size a := fun v2523 k1_hw125 => k1_hw125.1
theorem k1_idx188_inb : ∀ (v2523 : IVec S16 32) (k1_hw125 : k1_chk125 v2523), ∀ a x, ((![v2523] : Fin 1 → IVec S16 32) a x).toNat < S32.size a := fun v2523 k1_hw125 => k1_hw125.2

def k1_chk126 (v2542 : IVec S16 32) : Prop :=
  (∀ a x, ((![v2542] : Fin 1 → IVec S16 32) a x).toNat < S31520.size a)
theorem k1_idx189_inb : ∀ (v2542 : IVec S16 32) (k1_hw126 : k1_chk126 v2542), ∀ a x, ((![v2542] : Fin 1 → IVec S16 32) a x).toNat < S31520.size a := fun v2542 k1_hw126 => k1_hw126

def k1_chk127 (v2548 : IVec S16 32) : Prop :=
  (∀ a x, ((![v2548] : Fin 1 → IVec S16 32) a x).toNat < S32.size a) ∧
  (∀ a x, ((![v2548] : Fin 1 → IVec S16 32) a x).toNat < S32.size a)
theorem k1_idx190_inb : ∀ (v2548 : IVec S16 32) (k1_hw127 : k1_chk127 v2548), ∀ a x, ((![v2548] : Fin 1 → IVec S16 32) a x).toNat < S32.size a := fun v2548 k1_hw127 => k1_hw127.1
theorem k1_idx191_inb : ∀ (v2548 : IVec S16 32) (k1_hw127 : k1_chk127 v2548), ∀ a x, ((![v2548] : Fin 1 → IVec S16 32) a x).toNat < S32.size a := fun v2548 k1_hw127 => k1_hw127.2

def k1_chk128 (v2567 : IVec S16 32) : Prop :=
  (∀ a x, ((![v2567] : Fin 1 → IVec S16 32) a x).toNat < S31520.size a)
theorem k1_idx192_inb : ∀ (v2567 : IVec S16 32) (k1_hw128 : k1_chk128 v2567), ∀ a x, ((![v2567] : Fin 1 → IVec S16 32) a x).toNat < S31520.size a := fun v2567 k1_hw128 => k1_hw128
def k1_off3 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c1954_i32 : BitVec 32 := 1954#32
  let v26 : BitVec 32 := Scalar.muli v1 c1954_i32
  let c1920_i32 : BitVec 32 := 1920#32
  let v28 : BitVec 32 := Scalar.addi v26 c1920_i32
  let c62466_i32 : BitVec 32 := 62466#32
  let v29 : BitVec 32 := Scalar.minsi v28 c62466_i32
  let c16_i32_9 : BitVec 32 := 16#32
  let v32 : BitVec 32 := Scalar.muli v29 c16_i32_9
  ![v32.toNat]

def k1_chk129 (v42 : IVec S16 32) : Prop :=
  (∀ a x, ((![v42] : Fin 1 → IVec S16 32) a x).toNat < S32.size a) ∧
  (∀ a x, ((![v42] : Fin 1 → IVec S16 32) a x).toNat < S32.size a)
theorem k1_idx193_inb : ∀ (v42 : IVec S16 32) (k1_hw129 : k1_chk129 v42), ∀ a x, ((![v42] : Fin 1 → IVec S16 32) a x).toNat < S32.size a := fun v42 k1_hw129 => k1_hw129.1
theorem k1_idx194_inb : ∀ (v42 : IVec S16 32) (k1_hw129 : k1_chk129 v42), ∀ a x, ((![v42] : Fin 1 → IVec S16 32) a x).toNat < S32.size a := fun v42 k1_hw129 => k1_hw129.2

def k1_chk130 (v60 : IVec S16 32) : Prop :=
  (∀ a x, ((![v60] : Fin 1 → IVec S16 32) a x).toNat < S31520.size a)
theorem k1_idx195_inb : ∀ (v60 : IVec S16 32) (k1_hw130 : k1_chk130 v60), ∀ a x, ((![v60] : Fin 1 → IVec S16 32) a x).toNat < S31520.size a := fun v60 k1_hw130 => k1_hw130

def k1_chk131 (v69 : IVec S16 32) : Prop :=
  (∀ a x, ((![v69] : Fin 1 → IVec S16 32) a x).toNat < S32.size a) ∧
  (∀ a x, ((![v69] : Fin 1 → IVec S16 32) a x).toNat < S32.size a)
theorem k1_idx196_inb : ∀ (v69 : IVec S16 32) (k1_hw131 : k1_chk131 v69), ∀ a x, ((![v69] : Fin 1 → IVec S16 32) a x).toNat < S32.size a := fun v69 k1_hw131 => k1_hw131.1
theorem k1_idx197_inb : ∀ (v69 : IVec S16 32) (k1_hw131 : k1_chk131 v69), ∀ a x, ((![v69] : Fin 1 → IVec S16 32) a x).toNat < S32.size a := fun v69 k1_hw131 => k1_hw131.2

def k1_chk132 (v87 : IVec S16 32) : Prop :=
  (∀ a x, ((![v87] : Fin 1 → IVec S16 32) a x).toNat < S31520.size a)
theorem k1_idx198_inb : ∀ (v87 : IVec S16 32) (k1_hw132 : k1_chk132 v87), ∀ a x, ((![v87] : Fin 1 → IVec S16 32) a x).toNat < S31520.size a := fun v87 k1_hw132 => k1_hw132

def k1_chk133 (v96 : IVec S16 32) : Prop :=
  (∀ a x, ((![v96] : Fin 1 → IVec S16 32) a x).toNat < S32.size a) ∧
  (∀ a x, ((![v96] : Fin 1 → IVec S16 32) a x).toNat < S32.size a)
theorem k1_idx199_inb : ∀ (v96 : IVec S16 32) (k1_hw133 : k1_chk133 v96), ∀ a x, ((![v96] : Fin 1 → IVec S16 32) a x).toNat < S32.size a := fun v96 k1_hw133 => k1_hw133.1
theorem k1_idx200_inb : ∀ (v96 : IVec S16 32) (k1_hw133 : k1_chk133 v96), ∀ a x, ((![v96] : Fin 1 → IVec S16 32) a x).toNat < S32.size a := fun v96 k1_hw133 => k1_hw133.2

def k1_chk134 (v114 : IVec S16 32) : Prop :=
  (∀ a x, ((![v114] : Fin 1 → IVec S16 32) a x).toNat < S31520.size a)
theorem k1_idx201_inb : ∀ (v114 : IVec S16 32) (k1_hw134 : k1_chk134 v114), ∀ a x, ((![v114] : Fin 1 → IVec S16 32) a x).toNat < S31520.size a := fun v114 k1_hw134 => k1_hw134

def k1_chk135 (v123 : IVec S16 32) : Prop :=
  (∀ a x, ((![v123] : Fin 1 → IVec S16 32) a x).toNat < S32.size a) ∧
  (∀ a x, ((![v123] : Fin 1 → IVec S16 32) a x).toNat < S32.size a)
theorem k1_idx202_inb : ∀ (v123 : IVec S16 32) (k1_hw135 : k1_chk135 v123), ∀ a x, ((![v123] : Fin 1 → IVec S16 32) a x).toNat < S32.size a := fun v123 k1_hw135 => k1_hw135.1
theorem k1_idx203_inb : ∀ (v123 : IVec S16 32) (k1_hw135 : k1_chk135 v123), ∀ a x, ((![v123] : Fin 1 → IVec S16 32) a x).toNat < S32.size a := fun v123 k1_hw135 => k1_hw135.2

def k1_chk136 (v141 : IVec S16 32) : Prop :=
  (∀ a x, ((![v141] : Fin 1 → IVec S16 32) a x).toNat < S31520.size a)
theorem k1_idx204_inb : ∀ (v141 : IVec S16 32) (k1_hw136 : k1_chk136 v141), ∀ a x, ((![v141] : Fin 1 → IVec S16 32) a x).toNat < S31520.size a := fun v141 k1_hw136 => k1_hw136

def k1_chk137 (v150 : IVec S16 32) : Prop :=
  (∀ a x, ((![v150] : Fin 1 → IVec S16 32) a x).toNat < S32.size a) ∧
  (∀ a x, ((![v150] : Fin 1 → IVec S16 32) a x).toNat < S32.size a)
theorem k1_idx205_inb : ∀ (v150 : IVec S16 32) (k1_hw137 : k1_chk137 v150), ∀ a x, ((![v150] : Fin 1 → IVec S16 32) a x).toNat < S32.size a := fun v150 k1_hw137 => k1_hw137.1
theorem k1_idx206_inb : ∀ (v150 : IVec S16 32) (k1_hw137 : k1_chk137 v150), ∀ a x, ((![v150] : Fin 1 → IVec S16 32) a x).toNat < S32.size a := fun v150 k1_hw137 => k1_hw137.2

def k1_chk138 (v168 : IVec S16 32) : Prop :=
  (∀ a x, ((![v168] : Fin 1 → IVec S16 32) a x).toNat < S31520.size a)
theorem k1_idx207_inb : ∀ (v168 : IVec S16 32) (k1_hw138 : k1_chk138 v168), ∀ a x, ((![v168] : Fin 1 → IVec S16 32) a x).toNat < S31520.size a := fun v168 k1_hw138 => k1_hw138

def k1_chk139 (v177 : IVec S16 32) : Prop :=
  (∀ a x, ((![v177] : Fin 1 → IVec S16 32) a x).toNat < S32.size a) ∧
  (∀ a x, ((![v177] : Fin 1 → IVec S16 32) a x).toNat < S32.size a)
theorem k1_idx208_inb : ∀ (v177 : IVec S16 32) (k1_hw139 : k1_chk139 v177), ∀ a x, ((![v177] : Fin 1 → IVec S16 32) a x).toNat < S32.size a := fun v177 k1_hw139 => k1_hw139.1
theorem k1_idx209_inb : ∀ (v177 : IVec S16 32) (k1_hw139 : k1_chk139 v177), ∀ a x, ((![v177] : Fin 1 → IVec S16 32) a x).toNat < S32.size a := fun v177 k1_hw139 => k1_hw139.2

def k1_chk140 (v195 : IVec S16 32) : Prop :=
  (∀ a x, ((![v195] : Fin 1 → IVec S16 32) a x).toNat < S31520.size a)
theorem k1_idx210_inb : ∀ (v195 : IVec S16 32) (k1_hw140 : k1_chk140 v195), ∀ a x, ((![v195] : Fin 1 → IVec S16 32) a x).toNat < S31520.size a := fun v195 k1_hw140 => k1_hw140

def k1_chk141 (v204 : IVec S16 32) : Prop :=
  (∀ a x, ((![v204] : Fin 1 → IVec S16 32) a x).toNat < S32.size a) ∧
  (∀ a x, ((![v204] : Fin 1 → IVec S16 32) a x).toNat < S32.size a)
theorem k1_idx211_inb : ∀ (v204 : IVec S16 32) (k1_hw141 : k1_chk141 v204), ∀ a x, ((![v204] : Fin 1 → IVec S16 32) a x).toNat < S32.size a := fun v204 k1_hw141 => k1_hw141.1
theorem k1_idx212_inb : ∀ (v204 : IVec S16 32) (k1_hw141 : k1_chk141 v204), ∀ a x, ((![v204] : Fin 1 → IVec S16 32) a x).toNat < S32.size a := fun v204 k1_hw141 => k1_hw141.2

def k1_chk142 (v222 : IVec S16 32) : Prop :=
  (∀ a x, ((![v222] : Fin 1 → IVec S16 32) a x).toNat < S31520.size a)
theorem k1_idx213_inb : ∀ (v222 : IVec S16 32) (k1_hw142 : k1_chk142 v222), ∀ a x, ((![v222] : Fin 1 → IVec S16 32) a x).toNat < S31520.size a := fun v222 k1_hw142 => k1_hw142

def k1_chk143 (v231 : IVec S16 32) : Prop :=
  (∀ a x, ((![v231] : Fin 1 → IVec S16 32) a x).toNat < S32.size a) ∧
  (∀ a x, ((![v231] : Fin 1 → IVec S16 32) a x).toNat < S32.size a)
theorem k1_idx214_inb : ∀ (v231 : IVec S16 32) (k1_hw143 : k1_chk143 v231), ∀ a x, ((![v231] : Fin 1 → IVec S16 32) a x).toNat < S32.size a := fun v231 k1_hw143 => k1_hw143.1
theorem k1_idx215_inb : ∀ (v231 : IVec S16 32) (k1_hw143 : k1_chk143 v231), ∀ a x, ((![v231] : Fin 1 → IVec S16 32) a x).toNat < S32.size a := fun v231 k1_hw143 => k1_hw143.2

def k1_chk144 (v249 : IVec S16 32) : Prop :=
  (∀ a x, ((![v249] : Fin 1 → IVec S16 32) a x).toNat < S31520.size a)
theorem k1_idx216_inb : ∀ (v249 : IVec S16 32) (k1_hw144 : k1_chk144 v249), ∀ a x, ((![v249] : Fin 1 → IVec S16 32) a x).toNat < S31520.size a := fun v249 k1_hw144 => k1_hw144

def k1_chk145 (v258 : IVec S16 32) : Prop :=
  (∀ a x, ((![v258] : Fin 1 → IVec S16 32) a x).toNat < S32.size a) ∧
  (∀ a x, ((![v258] : Fin 1 → IVec S16 32) a x).toNat < S32.size a)
theorem k1_idx217_inb : ∀ (v258 : IVec S16 32) (k1_hw145 : k1_chk145 v258), ∀ a x, ((![v258] : Fin 1 → IVec S16 32) a x).toNat < S32.size a := fun v258 k1_hw145 => k1_hw145.1
theorem k1_idx218_inb : ∀ (v258 : IVec S16 32) (k1_hw145 : k1_chk145 v258), ∀ a x, ((![v258] : Fin 1 → IVec S16 32) a x).toNat < S32.size a := fun v258 k1_hw145 => k1_hw145.2

def k1_chk146 (v276 : IVec S16 32) : Prop :=
  (∀ a x, ((![v276] : Fin 1 → IVec S16 32) a x).toNat < S31520.size a)
theorem k1_idx219_inb : ∀ (v276 : IVec S16 32) (k1_hw146 : k1_chk146 v276), ∀ a x, ((![v276] : Fin 1 → IVec S16 32) a x).toNat < S31520.size a := fun v276 k1_hw146 => k1_hw146

def k1_chk147 (v285 : IVec S16 32) : Prop :=
  (∀ a x, ((![v285] : Fin 1 → IVec S16 32) a x).toNat < S32.size a) ∧
  (∀ a x, ((![v285] : Fin 1 → IVec S16 32) a x).toNat < S32.size a)
theorem k1_idx220_inb : ∀ (v285 : IVec S16 32) (k1_hw147 : k1_chk147 v285), ∀ a x, ((![v285] : Fin 1 → IVec S16 32) a x).toNat < S32.size a := fun v285 k1_hw147 => k1_hw147.1
theorem k1_idx221_inb : ∀ (v285 : IVec S16 32) (k1_hw147 : k1_chk147 v285), ∀ a x, ((![v285] : Fin 1 → IVec S16 32) a x).toNat < S32.size a := fun v285 k1_hw147 => k1_hw147.2

def k1_chk148 (v303 : IVec S16 32) : Prop :=
  (∀ a x, ((![v303] : Fin 1 → IVec S16 32) a x).toNat < S31520.size a)
theorem k1_idx222_inb : ∀ (v303 : IVec S16 32) (k1_hw148 : k1_chk148 v303), ∀ a x, ((![v303] : Fin 1 → IVec S16 32) a x).toNat < S31520.size a := fun v303 k1_hw148 => k1_hw148

def k1_chk149 (v312 : IVec S16 32) : Prop :=
  (∀ a x, ((![v312] : Fin 1 → IVec S16 32) a x).toNat < S32.size a) ∧
  (∀ a x, ((![v312] : Fin 1 → IVec S16 32) a x).toNat < S32.size a)
theorem k1_idx223_inb : ∀ (v312 : IVec S16 32) (k1_hw149 : k1_chk149 v312), ∀ a x, ((![v312] : Fin 1 → IVec S16 32) a x).toNat < S32.size a := fun v312 k1_hw149 => k1_hw149.1
theorem k1_idx224_inb : ∀ (v312 : IVec S16 32) (k1_hw149 : k1_chk149 v312), ∀ a x, ((![v312] : Fin 1 → IVec S16 32) a x).toNat < S32.size a := fun v312 k1_hw149 => k1_hw149.2

def k1_chk150 (v330 : IVec S16 32) : Prop :=
  (∀ a x, ((![v330] : Fin 1 → IVec S16 32) a x).toNat < S31520.size a)
theorem k1_idx225_inb : ∀ (v330 : IVec S16 32) (k1_hw150 : k1_chk150 v330), ∀ a x, ((![v330] : Fin 1 → IVec S16 32) a x).toNat < S31520.size a := fun v330 k1_hw150 => k1_hw150

def k1_chk151 (v339 : IVec S16 32) : Prop :=
  (∀ a x, ((![v339] : Fin 1 → IVec S16 32) a x).toNat < S32.size a) ∧
  (∀ a x, ((![v339] : Fin 1 → IVec S16 32) a x).toNat < S32.size a)
theorem k1_idx226_inb : ∀ (v339 : IVec S16 32) (k1_hw151 : k1_chk151 v339), ∀ a x, ((![v339] : Fin 1 → IVec S16 32) a x).toNat < S32.size a := fun v339 k1_hw151 => k1_hw151.1
theorem k1_idx227_inb : ∀ (v339 : IVec S16 32) (k1_hw151 : k1_chk151 v339), ∀ a x, ((![v339] : Fin 1 → IVec S16 32) a x).toNat < S32.size a := fun v339 k1_hw151 => k1_hw151.2

def k1_chk152 (v357 : IVec S16 32) : Prop :=
  (∀ a x, ((![v357] : Fin 1 → IVec S16 32) a x).toNat < S31520.size a)
theorem k1_idx228_inb : ∀ (v357 : IVec S16 32) (k1_hw152 : k1_chk152 v357), ∀ a x, ((![v357] : Fin 1 → IVec S16 32) a x).toNat < S31520.size a := fun v357 k1_hw152 => k1_hw152

def k1_chk153 (v366 : IVec S16 32) : Prop :=
  (∀ a x, ((![v366] : Fin 1 → IVec S16 32) a x).toNat < S32.size a) ∧
  (∀ a x, ((![v366] : Fin 1 → IVec S16 32) a x).toNat < S32.size a)
theorem k1_idx229_inb : ∀ (v366 : IVec S16 32) (k1_hw153 : k1_chk153 v366), ∀ a x, ((![v366] : Fin 1 → IVec S16 32) a x).toNat < S32.size a := fun v366 k1_hw153 => k1_hw153.1
theorem k1_idx230_inb : ∀ (v366 : IVec S16 32) (k1_hw153 : k1_chk153 v366), ∀ a x, ((![v366] : Fin 1 → IVec S16 32) a x).toNat < S32.size a := fun v366 k1_hw153 => k1_hw153.2

def k1_chk154 (v384 : IVec S16 32) : Prop :=
  (∀ a x, ((![v384] : Fin 1 → IVec S16 32) a x).toNat < S31520.size a)
theorem k1_idx231_inb : ∀ (v384 : IVec S16 32) (k1_hw154 : k1_chk154 v384), ∀ a x, ((![v384] : Fin 1 → IVec S16 32) a x).toNat < S31520.size a := fun v384 k1_hw154 => k1_hw154

def k1_chk155 (v393 : IVec S16 32) : Prop :=
  (∀ a x, ((![v393] : Fin 1 → IVec S16 32) a x).toNat < S32.size a) ∧
  (∀ a x, ((![v393] : Fin 1 → IVec S16 32) a x).toNat < S32.size a)
theorem k1_idx232_inb : ∀ (v393 : IVec S16 32) (k1_hw155 : k1_chk155 v393), ∀ a x, ((![v393] : Fin 1 → IVec S16 32) a x).toNat < S32.size a := fun v393 k1_hw155 => k1_hw155.1
theorem k1_idx233_inb : ∀ (v393 : IVec S16 32) (k1_hw155 : k1_chk155 v393), ∀ a x, ((![v393] : Fin 1 → IVec S16 32) a x).toNat < S32.size a := fun v393 k1_hw155 => k1_hw155.2

def k1_chk156 (v411 : IVec S16 32) : Prop :=
  (∀ a x, ((![v411] : Fin 1 → IVec S16 32) a x).toNat < S31520.size a)
theorem k1_idx234_inb : ∀ (v411 : IVec S16 32) (k1_hw156 : k1_chk156 v411), ∀ a x, ((![v411] : Fin 1 → IVec S16 32) a x).toNat < S31520.size a := fun v411 k1_hw156 => k1_hw156

def k1_chk157 (v420 : IVec S16 32) : Prop :=
  (∀ a x, ((![v420] : Fin 1 → IVec S16 32) a x).toNat < S32.size a) ∧
  (∀ a x, ((![v420] : Fin 1 → IVec S16 32) a x).toNat < S32.size a)
theorem k1_idx235_inb : ∀ (v420 : IVec S16 32) (k1_hw157 : k1_chk157 v420), ∀ a x, ((![v420] : Fin 1 → IVec S16 32) a x).toNat < S32.size a := fun v420 k1_hw157 => k1_hw157.1
theorem k1_idx236_inb : ∀ (v420 : IVec S16 32) (k1_hw157 : k1_chk157 v420), ∀ a x, ((![v420] : Fin 1 → IVec S16 32) a x).toNat < S32.size a := fun v420 k1_hw157 => k1_hw157.2

def k1_chk158 (v438 : IVec S16 32) : Prop :=
  (∀ a x, ((![v438] : Fin 1 → IVec S16 32) a x).toNat < S31520.size a)
theorem k1_idx237_inb : ∀ (v438 : IVec S16 32) (k1_hw158 : k1_chk158 v438), ∀ a x, ((![v438] : Fin 1 → IVec S16 32) a x).toNat < S31520.size a := fun v438 k1_hw158 => k1_hw158

def k1_chk159 (v447 : IVec S16 32) : Prop :=
  (∀ a x, ((![v447] : Fin 1 → IVec S16 32) a x).toNat < S32.size a) ∧
  (∀ a x, ((![v447] : Fin 1 → IVec S16 32) a x).toNat < S32.size a)
theorem k1_idx238_inb : ∀ (v447 : IVec S16 32) (k1_hw159 : k1_chk159 v447), ∀ a x, ((![v447] : Fin 1 → IVec S16 32) a x).toNat < S32.size a := fun v447 k1_hw159 => k1_hw159.1
theorem k1_idx239_inb : ∀ (v447 : IVec S16 32) (k1_hw159 : k1_chk159 v447), ∀ a x, ((![v447] : Fin 1 → IVec S16 32) a x).toNat < S32.size a := fun v447 k1_hw159 => k1_hw159.2

def k1_chk160 (v465 : IVec S16 32) : Prop :=
  (∀ a x, ((![v465] : Fin 1 → IVec S16 32) a x).toNat < S31520.size a)
theorem k1_idx240_inb : ∀ (v465 : IVec S16 32) (k1_hw160 : k1_chk160 v465), ∀ a x, ((![v465] : Fin 1 → IVec S16 32) a x).toNat < S31520.size a := fun v465 k1_hw160 => k1_hw160

def k1_chk161 (v474 : IVec S16 32) : Prop :=
  (∀ a x, ((![v474] : Fin 1 → IVec S16 32) a x).toNat < S32.size a) ∧
  (∀ a x, ((![v474] : Fin 1 → IVec S16 32) a x).toNat < S32.size a)
theorem k1_idx241_inb : ∀ (v474 : IVec S16 32) (k1_hw161 : k1_chk161 v474), ∀ a x, ((![v474] : Fin 1 → IVec S16 32) a x).toNat < S32.size a := fun v474 k1_hw161 => k1_hw161.1
theorem k1_idx242_inb : ∀ (v474 : IVec S16 32) (k1_hw161 : k1_chk161 v474), ∀ a x, ((![v474] : Fin 1 → IVec S16 32) a x).toNat < S32.size a := fun v474 k1_hw161 => k1_hw161.2

def k1_chk162 (v492 : IVec S16 32) : Prop :=
  (∀ a x, ((![v492] : Fin 1 → IVec S16 32) a x).toNat < S31520.size a)
theorem k1_idx243_inb : ∀ (v492 : IVec S16 32) (k1_hw162 : k1_chk162 v492), ∀ a x, ((![v492] : Fin 1 → IVec S16 32) a x).toNat < S31520.size a := fun v492 k1_hw162 => k1_hw162

def k1_chk163 (v501 : IVec S16 32) : Prop :=
  (∀ a x, ((![v501] : Fin 1 → IVec S16 32) a x).toNat < S32.size a) ∧
  (∀ a x, ((![v501] : Fin 1 → IVec S16 32) a x).toNat < S32.size a)
theorem k1_idx244_inb : ∀ (v501 : IVec S16 32) (k1_hw163 : k1_chk163 v501), ∀ a x, ((![v501] : Fin 1 → IVec S16 32) a x).toNat < S32.size a := fun v501 k1_hw163 => k1_hw163.1
theorem k1_idx245_inb : ∀ (v501 : IVec S16 32) (k1_hw163 : k1_chk163 v501), ∀ a x, ((![v501] : Fin 1 → IVec S16 32) a x).toNat < S32.size a := fun v501 k1_hw163 => k1_hw163.2

def k1_chk164 (v519 : IVec S16 32) : Prop :=
  (∀ a x, ((![v519] : Fin 1 → IVec S16 32) a x).toNat < S31520.size a)
theorem k1_idx246_inb : ∀ (v519 : IVec S16 32) (k1_hw164 : k1_chk164 v519), ∀ a x, ((![v519] : Fin 1 → IVec S16 32) a x).toNat < S31520.size a := fun v519 k1_hw164 => k1_hw164

def k1_chk165 (v528 : IVec S16 32) : Prop :=
  (∀ a x, ((![v528] : Fin 1 → IVec S16 32) a x).toNat < S32.size a) ∧
  (∀ a x, ((![v528] : Fin 1 → IVec S16 32) a x).toNat < S32.size a)
theorem k1_idx247_inb : ∀ (v528 : IVec S16 32) (k1_hw165 : k1_chk165 v528), ∀ a x, ((![v528] : Fin 1 → IVec S16 32) a x).toNat < S32.size a := fun v528 k1_hw165 => k1_hw165.1
theorem k1_idx248_inb : ∀ (v528 : IVec S16 32) (k1_hw165 : k1_chk165 v528), ∀ a x, ((![v528] : Fin 1 → IVec S16 32) a x).toNat < S32.size a := fun v528 k1_hw165 => k1_hw165.2

def k1_chk166 (v546 : IVec S16 32) : Prop :=
  (∀ a x, ((![v546] : Fin 1 → IVec S16 32) a x).toNat < S31520.size a)
theorem k1_idx249_inb : ∀ (v546 : IVec S16 32) (k1_hw166 : k1_chk166 v546), ∀ a x, ((![v546] : Fin 1 → IVec S16 32) a x).toNat < S31520.size a := fun v546 k1_hw166 => k1_hw166

def k1_chk167 (v555 : IVec S16 32) : Prop :=
  (∀ a x, ((![v555] : Fin 1 → IVec S16 32) a x).toNat < S32.size a) ∧
  (∀ a x, ((![v555] : Fin 1 → IVec S16 32) a x).toNat < S32.size a)
theorem k1_idx250_inb : ∀ (v555 : IVec S16 32) (k1_hw167 : k1_chk167 v555), ∀ a x, ((![v555] : Fin 1 → IVec S16 32) a x).toNat < S32.size a := fun v555 k1_hw167 => k1_hw167.1
theorem k1_idx251_inb : ∀ (v555 : IVec S16 32) (k1_hw167 : k1_chk167 v555), ∀ a x, ((![v555] : Fin 1 → IVec S16 32) a x).toNat < S32.size a := fun v555 k1_hw167 => k1_hw167.2

def k1_chk168 (v573 : IVec S16 32) : Prop :=
  (∀ a x, ((![v573] : Fin 1 → IVec S16 32) a x).toNat < S31520.size a)
theorem k1_idx252_inb : ∀ (v573 : IVec S16 32) (k1_hw168 : k1_chk168 v573), ∀ a x, ((![v573] : Fin 1 → IVec S16 32) a x).toNat < S31520.size a := fun v573 k1_hw168 => k1_hw168

def k1_chk169 (v582 : IVec S16 32) : Prop :=
  (∀ a x, ((![v582] : Fin 1 → IVec S16 32) a x).toNat < S32.size a) ∧
  (∀ a x, ((![v582] : Fin 1 → IVec S16 32) a x).toNat < S32.size a)
theorem k1_idx253_inb : ∀ (v582 : IVec S16 32) (k1_hw169 : k1_chk169 v582), ∀ a x, ((![v582] : Fin 1 → IVec S16 32) a x).toNat < S32.size a := fun v582 k1_hw169 => k1_hw169.1
theorem k1_idx254_inb : ∀ (v582 : IVec S16 32) (k1_hw169 : k1_chk169 v582), ∀ a x, ((![v582] : Fin 1 → IVec S16 32) a x).toNat < S32.size a := fun v582 k1_hw169 => k1_hw169.2

def k1_chk170 (v600 : IVec S16 32) : Prop :=
  (∀ a x, ((![v600] : Fin 1 → IVec S16 32) a x).toNat < S31520.size a)
theorem k1_idx255_inb : ∀ (v600 : IVec S16 32) (k1_hw170 : k1_chk170 v600), ∀ a x, ((![v600] : Fin 1 → IVec S16 32) a x).toNat < S31520.size a := fun v600 k1_hw170 => k1_hw170

def k1_chk171 (v609 : IVec S16 32) : Prop :=
  (∀ a x, ((![v609] : Fin 1 → IVec S16 32) a x).toNat < S32.size a) ∧
  (∀ a x, ((![v609] : Fin 1 → IVec S16 32) a x).toNat < S32.size a)
theorem k1_idx256_inb : ∀ (v609 : IVec S16 32) (k1_hw171 : k1_chk171 v609), ∀ a x, ((![v609] : Fin 1 → IVec S16 32) a x).toNat < S32.size a := fun v609 k1_hw171 => k1_hw171.1
theorem k1_idx257_inb : ∀ (v609 : IVec S16 32) (k1_hw171 : k1_chk171 v609), ∀ a x, ((![v609] : Fin 1 → IVec S16 32) a x).toNat < S32.size a := fun v609 k1_hw171 => k1_hw171.2

def k1_chk172 (v627 : IVec S16 32) : Prop :=
  (∀ a x, ((![v627] : Fin 1 → IVec S16 32) a x).toNat < S31520.size a)
theorem k1_idx258_inb : ∀ (v627 : IVec S16 32) (k1_hw172 : k1_chk172 v627), ∀ a x, ((![v627] : Fin 1 → IVec S16 32) a x).toNat < S31520.size a := fun v627 k1_hw172 => k1_hw172

def k1_chk173 (v636 : IVec S16 32) : Prop :=
  (∀ a x, ((![v636] : Fin 1 → IVec S16 32) a x).toNat < S32.size a) ∧
  (∀ a x, ((![v636] : Fin 1 → IVec S16 32) a x).toNat < S32.size a)
theorem k1_idx259_inb : ∀ (v636 : IVec S16 32) (k1_hw173 : k1_chk173 v636), ∀ a x, ((![v636] : Fin 1 → IVec S16 32) a x).toNat < S32.size a := fun v636 k1_hw173 => k1_hw173.1
theorem k1_idx260_inb : ∀ (v636 : IVec S16 32) (k1_hw173 : k1_chk173 v636), ∀ a x, ((![v636] : Fin 1 → IVec S16 32) a x).toNat < S32.size a := fun v636 k1_hw173 => k1_hw173.2

def k1_chk174 (v654 : IVec S16 32) : Prop :=
  (∀ a x, ((![v654] : Fin 1 → IVec S16 32) a x).toNat < S31520.size a)
theorem k1_idx261_inb : ∀ (v654 : IVec S16 32) (k1_hw174 : k1_chk174 v654), ∀ a x, ((![v654] : Fin 1 → IVec S16 32) a x).toNat < S31520.size a := fun v654 k1_hw174 => k1_hw174

def k1_chk175 (v663 : IVec S16 32) : Prop :=
  (∀ a x, ((![v663] : Fin 1 → IVec S16 32) a x).toNat < S32.size a) ∧
  (∀ a x, ((![v663] : Fin 1 → IVec S16 32) a x).toNat < S32.size a)
theorem k1_idx262_inb : ∀ (v663 : IVec S16 32) (k1_hw175 : k1_chk175 v663), ∀ a x, ((![v663] : Fin 1 → IVec S16 32) a x).toNat < S32.size a := fun v663 k1_hw175 => k1_hw175.1
theorem k1_idx263_inb : ∀ (v663 : IVec S16 32) (k1_hw175 : k1_chk175 v663), ∀ a x, ((![v663] : Fin 1 → IVec S16 32) a x).toNat < S32.size a := fun v663 k1_hw175 => k1_hw175.2

def k1_chk176 (v681 : IVec S16 32) : Prop :=
  (∀ a x, ((![v681] : Fin 1 → IVec S16 32) a x).toNat < S31520.size a)
theorem k1_idx264_inb : ∀ (v681 : IVec S16 32) (k1_hw176 : k1_chk176 v681), ∀ a x, ((![v681] : Fin 1 → IVec S16 32) a x).toNat < S31520.size a := fun v681 k1_hw176 => k1_hw176

def k1_chk177 (v690 : IVec S16 32) : Prop :=
  (∀ a x, ((![v690] : Fin 1 → IVec S16 32) a x).toNat < S32.size a) ∧
  (∀ a x, ((![v690] : Fin 1 → IVec S16 32) a x).toNat < S32.size a)
theorem k1_idx265_inb : ∀ (v690 : IVec S16 32) (k1_hw177 : k1_chk177 v690), ∀ a x, ((![v690] : Fin 1 → IVec S16 32) a x).toNat < S32.size a := fun v690 k1_hw177 => k1_hw177.1
theorem k1_idx266_inb : ∀ (v690 : IVec S16 32) (k1_hw177 : k1_chk177 v690), ∀ a x, ((![v690] : Fin 1 → IVec S16 32) a x).toNat < S32.size a := fun v690 k1_hw177 => k1_hw177.2

def k1_chk178 (v708 : IVec S16 32) : Prop :=
  (∀ a x, ((![v708] : Fin 1 → IVec S16 32) a x).toNat < S31520.size a)
theorem k1_idx267_inb : ∀ (v708 : IVec S16 32) (k1_hw178 : k1_chk178 v708), ∀ a x, ((![v708] : Fin 1 → IVec S16 32) a x).toNat < S31520.size a := fun v708 k1_hw178 => k1_hw178

def k1_chk179 (v717 : IVec S16 32) : Prop :=
  (∀ a x, ((![v717] : Fin 1 → IVec S16 32) a x).toNat < S32.size a) ∧
  (∀ a x, ((![v717] : Fin 1 → IVec S16 32) a x).toNat < S32.size a)
theorem k1_idx268_inb : ∀ (v717 : IVec S16 32) (k1_hw179 : k1_chk179 v717), ∀ a x, ((![v717] : Fin 1 → IVec S16 32) a x).toNat < S32.size a := fun v717 k1_hw179 => k1_hw179.1
theorem k1_idx269_inb : ∀ (v717 : IVec S16 32) (k1_hw179 : k1_chk179 v717), ∀ a x, ((![v717] : Fin 1 → IVec S16 32) a x).toNat < S32.size a := fun v717 k1_hw179 => k1_hw179.2

def k1_chk180 (v735 : IVec S16 32) : Prop :=
  (∀ a x, ((![v735] : Fin 1 → IVec S16 32) a x).toNat < S31520.size a)
theorem k1_idx270_inb : ∀ (v735 : IVec S16 32) (k1_hw180 : k1_chk180 v735), ∀ a x, ((![v735] : Fin 1 → IVec S16 32) a x).toNat < S31520.size a := fun v735 k1_hw180 => k1_hw180

def k1_chk181 (v744 : IVec S16 32) : Prop :=
  (∀ a x, ((![v744] : Fin 1 → IVec S16 32) a x).toNat < S32.size a) ∧
  (∀ a x, ((![v744] : Fin 1 → IVec S16 32) a x).toNat < S32.size a)
theorem k1_idx271_inb : ∀ (v744 : IVec S16 32) (k1_hw181 : k1_chk181 v744), ∀ a x, ((![v744] : Fin 1 → IVec S16 32) a x).toNat < S32.size a := fun v744 k1_hw181 => k1_hw181.1
theorem k1_idx272_inb : ∀ (v744 : IVec S16 32) (k1_hw181 : k1_chk181 v744), ∀ a x, ((![v744] : Fin 1 → IVec S16 32) a x).toNat < S32.size a := fun v744 k1_hw181 => k1_hw181.2

def k1_chk182 (v762 : IVec S16 32) : Prop :=
  (∀ a x, ((![v762] : Fin 1 → IVec S16 32) a x).toNat < S31520.size a)
theorem k1_idx273_inb : ∀ (v762 : IVec S16 32) (k1_hw182 : k1_chk182 v762), ∀ a x, ((![v762] : Fin 1 → IVec S16 32) a x).toNat < S31520.size a := fun v762 k1_hw182 => k1_hw182

def k1_chk183 (v771 : IVec S16 32) : Prop :=
  (∀ a x, ((![v771] : Fin 1 → IVec S16 32) a x).toNat < S32.size a) ∧
  (∀ a x, ((![v771] : Fin 1 → IVec S16 32) a x).toNat < S32.size a)
theorem k1_idx274_inb : ∀ (v771 : IVec S16 32) (k1_hw183 : k1_chk183 v771), ∀ a x, ((![v771] : Fin 1 → IVec S16 32) a x).toNat < S32.size a := fun v771 k1_hw183 => k1_hw183.1
theorem k1_idx275_inb : ∀ (v771 : IVec S16 32) (k1_hw183 : k1_chk183 v771), ∀ a x, ((![v771] : Fin 1 → IVec S16 32) a x).toNat < S32.size a := fun v771 k1_hw183 => k1_hw183.2

def k1_chk184 (v789 : IVec S16 32) : Prop :=
  (∀ a x, ((![v789] : Fin 1 → IVec S16 32) a x).toNat < S31520.size a)
theorem k1_idx276_inb : ∀ (v789 : IVec S16 32) (k1_hw184 : k1_chk184 v789), ∀ a x, ((![v789] : Fin 1 → IVec S16 32) a x).toNat < S31520.size a := fun v789 k1_hw184 => k1_hw184

def k1_chk185 (v798 : IVec S16 32) : Prop :=
  (∀ a x, ((![v798] : Fin 1 → IVec S16 32) a x).toNat < S32.size a) ∧
  (∀ a x, ((![v798] : Fin 1 → IVec S16 32) a x).toNat < S32.size a)
theorem k1_idx277_inb : ∀ (v798 : IVec S16 32) (k1_hw185 : k1_chk185 v798), ∀ a x, ((![v798] : Fin 1 → IVec S16 32) a x).toNat < S32.size a := fun v798 k1_hw185 => k1_hw185.1
theorem k1_idx278_inb : ∀ (v798 : IVec S16 32) (k1_hw185 : k1_chk185 v798), ∀ a x, ((![v798] : Fin 1 → IVec S16 32) a x).toNat < S32.size a := fun v798 k1_hw185 => k1_hw185.2

def k1_chk186 (v816 : IVec S16 32) : Prop :=
  (∀ a x, ((![v816] : Fin 1 → IVec S16 32) a x).toNat < S31520.size a)
theorem k1_idx279_inb : ∀ (v816 : IVec S16 32) (k1_hw186 : k1_chk186 v816), ∀ a x, ((![v816] : Fin 1 → IVec S16 32) a x).toNat < S31520.size a := fun v816 k1_hw186 => k1_hw186

def k1_chk187 (v825 : IVec S16 32) : Prop :=
  (∀ a x, ((![v825] : Fin 1 → IVec S16 32) a x).toNat < S32.size a) ∧
  (∀ a x, ((![v825] : Fin 1 → IVec S16 32) a x).toNat < S32.size a)
theorem k1_idx280_inb : ∀ (v825 : IVec S16 32) (k1_hw187 : k1_chk187 v825), ∀ a x, ((![v825] : Fin 1 → IVec S16 32) a x).toNat < S32.size a := fun v825 k1_hw187 => k1_hw187.1
theorem k1_idx281_inb : ∀ (v825 : IVec S16 32) (k1_hw187 : k1_chk187 v825), ∀ a x, ((![v825] : Fin 1 → IVec S16 32) a x).toNat < S32.size a := fun v825 k1_hw187 => k1_hw187.2

def k1_chk188 (v843 : IVec S16 32) : Prop :=
  (∀ a x, ((![v843] : Fin 1 → IVec S16 32) a x).toNat < S31520.size a)
theorem k1_idx282_inb : ∀ (v843 : IVec S16 32) (k1_hw188 : k1_chk188 v843), ∀ a x, ((![v843] : Fin 1 → IVec S16 32) a x).toNat < S31520.size a := fun v843 k1_hw188 => k1_hw188

def k1_chk189 (v852 : IVec S16 32) : Prop :=
  (∀ a x, ((![v852] : Fin 1 → IVec S16 32) a x).toNat < S32.size a) ∧
  (∀ a x, ((![v852] : Fin 1 → IVec S16 32) a x).toNat < S32.size a)
theorem k1_idx283_inb : ∀ (v852 : IVec S16 32) (k1_hw189 : k1_chk189 v852), ∀ a x, ((![v852] : Fin 1 → IVec S16 32) a x).toNat < S32.size a := fun v852 k1_hw189 => k1_hw189.1
theorem k1_idx284_inb : ∀ (v852 : IVec S16 32) (k1_hw189 : k1_chk189 v852), ∀ a x, ((![v852] : Fin 1 → IVec S16 32) a x).toNat < S32.size a := fun v852 k1_hw189 => k1_hw189.2

def k1_chk190 (v870 : IVec S16 32) : Prop :=
  (∀ a x, ((![v870] : Fin 1 → IVec S16 32) a x).toNat < S31520.size a)
theorem k1_idx285_inb : ∀ (v870 : IVec S16 32) (k1_hw190 : k1_chk190 v870), ∀ a x, ((![v870] : Fin 1 → IVec S16 32) a x).toNat < S31520.size a := fun v870 k1_hw190 => k1_hw190

def k1_chk191 (v879 : IVec S16 32) : Prop :=
  (∀ a x, ((![v879] : Fin 1 → IVec S16 32) a x).toNat < S32.size a) ∧
  (∀ a x, ((![v879] : Fin 1 → IVec S16 32) a x).toNat < S32.size a)
theorem k1_idx286_inb : ∀ (v879 : IVec S16 32) (k1_hw191 : k1_chk191 v879), ∀ a x, ((![v879] : Fin 1 → IVec S16 32) a x).toNat < S32.size a := fun v879 k1_hw191 => k1_hw191.1
theorem k1_idx287_inb : ∀ (v879 : IVec S16 32) (k1_hw191 : k1_chk191 v879), ∀ a x, ((![v879] : Fin 1 → IVec S16 32) a x).toNat < S32.size a := fun v879 k1_hw191 => k1_hw191.2

def k1_chk192 (v897 : IVec S16 32) : Prop :=
  (∀ a x, ((![v897] : Fin 1 → IVec S16 32) a x).toNat < S31520.size a)
theorem k1_idx288_inb : ∀ (v897 : IVec S16 32) (k1_hw192 : k1_chk192 v897), ∀ a x, ((![v897] : Fin 1 → IVec S16 32) a x).toNat < S31520.size a := fun v897 k1_hw192 => k1_hw192

def k1_chk193 (v906 : IVec S16 32) : Prop :=
  (∀ a x, ((![v906] : Fin 1 → IVec S16 32) a x).toNat < S32.size a) ∧
  (∀ a x, ((![v906] : Fin 1 → IVec S16 32) a x).toNat < S32.size a)
theorem k1_idx289_inb : ∀ (v906 : IVec S16 32) (k1_hw193 : k1_chk193 v906), ∀ a x, ((![v906] : Fin 1 → IVec S16 32) a x).toNat < S32.size a := fun v906 k1_hw193 => k1_hw193.1
theorem k1_idx290_inb : ∀ (v906 : IVec S16 32) (k1_hw193 : k1_chk193 v906), ∀ a x, ((![v906] : Fin 1 → IVec S16 32) a x).toNat < S32.size a := fun v906 k1_hw193 => k1_hw193.2

def k1_chk194 (v924 : IVec S16 32) : Prop :=
  (∀ a x, ((![v924] : Fin 1 → IVec S16 32) a x).toNat < S31520.size a)
theorem k1_idx291_inb : ∀ (v924 : IVec S16 32) (k1_hw194 : k1_chk194 v924), ∀ a x, ((![v924] : Fin 1 → IVec S16 32) a x).toNat < S31520.size a := fun v924 k1_hw194 => k1_hw194

def k1_chk195 (v933 : IVec S16 32) : Prop :=
  (∀ a x, ((![v933] : Fin 1 → IVec S16 32) a x).toNat < S32.size a) ∧
  (∀ a x, ((![v933] : Fin 1 → IVec S16 32) a x).toNat < S32.size a)
theorem k1_idx292_inb : ∀ (v933 : IVec S16 32) (k1_hw195 : k1_chk195 v933), ∀ a x, ((![v933] : Fin 1 → IVec S16 32) a x).toNat < S32.size a := fun v933 k1_hw195 => k1_hw195.1
theorem k1_idx293_inb : ∀ (v933 : IVec S16 32) (k1_hw195 : k1_chk195 v933), ∀ a x, ((![v933] : Fin 1 → IVec S16 32) a x).toNat < S32.size a := fun v933 k1_hw195 => k1_hw195.2

def k1_chk196 (v951 : IVec S16 32) : Prop :=
  (∀ a x, ((![v951] : Fin 1 → IVec S16 32) a x).toNat < S31520.size a)
theorem k1_idx294_inb : ∀ (v951 : IVec S16 32) (k1_hw196 : k1_chk196 v951), ∀ a x, ((![v951] : Fin 1 → IVec S16 32) a x).toNat < S31520.size a := fun v951 k1_hw196 => k1_hw196
def k1_off4 (i : grid1.Coords) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c31520_i32 : BitVec 32 := 31520#32
  let v953 : BitVec 32 := Scalar.muli v1 c31520_i32
  ![v953.toNat]
abbrev grid2 : Pipeline.Grid := ⟨2, ![2, 16], ![false, false]⟩

@[reducible] def k2_t1_loop : Scf.Loop 32 :=
  let c0_i32_763 : BitVec 32 := 0#32
  let c32_i32 : BitVec 32 := 32#32
  let v2217 : BitVec 32 := Scalar.addi c0_i32_763 c32_i32
  let c1_i32_764 : BitVec 32 := 1#32
  ⟨c0_i32_763, v2217, c1_i32_764⟩
def k2_cond1 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : BitVec 1 :=
  let c0_i32_20 : BitVec 32 := 0#32
  let v72 : BitVec 32 := Scalar.addi c0_i32_20 v58
  let v141 : BitVec 32 := Scalar.addi v72 v127
  let v210 : BitVec 32 := Scalar.addi v141 v196
  let v279 : BitVec 32 := Scalar.addi v210 v265
  let v348 : BitVec 32 := Scalar.addi v279 v334
  let v417 : BitVec 32 := Scalar.addi v348 v403
  let v486 : BitVec 32 := Scalar.addi v417 v472
  let v555 : BitVec 32 := Scalar.addi v486 v541
  let v624 : BitVec 32 := Scalar.addi v555 v610
  let v693 : BitVec 32 := Scalar.addi v624 v679
  let v762 : BitVec 32 := Scalar.addi v693 v748
  let v831 : BitVec 32 := Scalar.addi v762 v817
  let v900 : BitVec 32 := Scalar.addi v831 v886
  let v969 : BitVec 32 := Scalar.addi v900 v955
  let v1038 : BitVec 32 := Scalar.addi v969 v1024
  let v1107 : BitVec 32 := Scalar.addi v1038 v1093
  let v1176 : BitVec 32 := Scalar.addi v1107 v1162
  let v1245 : BitVec 32 := Scalar.addi v1176 v1231
  let v1314 : BitVec 32 := Scalar.addi v1245 v1300
  let v1383 : BitVec 32 := Scalar.addi v1314 v1369
  let v1452 : BitVec 32 := Scalar.addi v1383 v1438
  let v1521 : BitVec 32 := Scalar.addi v1452 v1507
  let v1590 : BitVec 32 := Scalar.addi v1521 v1576
  let v1659 : BitVec 32 := Scalar.addi v1590 v1645
  let v1728 : BitVec 32 := Scalar.addi v1659 v1714
  let v1797 : BitVec 32 := Scalar.addi v1728 v1783
  let v1866 : BitVec 32 := Scalar.addi v1797 v1852
  let v1935 : BitVec 32 := Scalar.addi v1866 v1921
  let v2004 : BitVec 32 := Scalar.addi v1935 v1990
  let v2073 : BitVec 32 := Scalar.addi v2004 v2059
  let v2142 : BitVec 32 := Scalar.addi v2073 v2128
  let v2211 : BitVec 32 := Scalar.addi v2142 v2197
  let c57344_i32 : BitVec 32 := 57344#32
  let v2212 : BitVec 1 := Scalar.cmpi .sle v2211 c57344_i32
  let v2213 : BitVec 32 := Scalar.extui v2212
  let c0_i32_752 : BitVec 32 := 0#32
  let v2214 : BitVec 1 := Scalar.cmpi .ne v2213 c0_i32_752
  v2214

def k2_chk1 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2219 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2219] : Fin 1 → IVec S16 32) a x).toNat < S32.size a)
theorem k2_idx1_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2219 : IVec S16 32) (k2_hw1 : k2_chk1 v58 v127 v196 v265 v334 v403 v472 v541 v610 v679 v748 v817 v886 v955 v1024 v1093 v1162 v1231 v1300 v1369 v1438 v1507 v1576 v1645 v1714 v1783 v1852 v1921 v1990 v2059 v2128 v2197 v2219), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2219] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2219 k2_hw1 k2_h1 => k2_hw1 k2_h1
def k2_mult1 (v2228 : BitVec 32) : BitVec 32 :=
  v2228

def k2_chk2 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2228 : BitVec 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), 8 ∣ (k2_mult1 v2228).toNat)
theorem k2_mult1_dvd : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2228 : BitVec 32) (k2_hw2 : k2_chk2 v58 v127 v196 v265 v334 v403 v472 v541 v610 v679 v748 v817 v886 v955 v1024 v1093 v1162 v1231 v1300 v1369 v1438 v1507 v1576 v1645 v1714 v1783 v1852 v1921 v1990 v2059 v2128 v2197 v2228), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), 8 ∣ (k2_mult1 v2228).toNat := fun v58 v127 v196 v265 v334 v403 v472 v541 v610 v679 v748 v817 v886 v955 v1024 v1093 v1162 v1231 v1300 v1369 v1438 v1507 v1576 v1645 v1714 v1783 v1852 v1921 v1990 v2059 v2128 v2197 v2228 k2_hw2 k2_h1 => k2_hw2 k2_h1

def k2_chk3 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2230 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2230] : Fin 1 → IVec S16 32) a x).toNat < S32.size a)
theorem k2_idx2_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2230 : IVec S16 32) (k2_hw3 : k2_chk3 v58 v127 v196 v265 v334 v403 v472 v541 v610 v679 v748 v817 v886 v955 v1024 v1093 v1162 v1231 v1300 v1369 v1438 v1507 v1576 v1645 v1714 v1783 v1852 v1921 v1990 v2059 v2128 v2197 v2230), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2230] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2230 k2_hw3 k2_h1 => k2_hw3 k2_h1
@[reducible] def k2_t2_loop (v2239 : BitVec 32) : Scf.Loop 32 :=
  let c0_i32_780 : BitVec 32 := 0#32
  let c2048_i32 : BitVec 32 := 2048#32
  let v2240 : BitVec 32 := Scalar.addi v2239 c2048_i32
  let c1_i32_772 : BitVec 32 := 1#32
  let v2241 : BitVec 32 := Scalar.subi v2240 c1_i32_772
  let c0_i32_774 : BitVec 32 := 0#32
  let v2243 : BitVec 1 := Scalar.cmpi .sgt v2241 c0_i32_774
  let v2244 : BitVec 32 := Scalar.extui v2243
  let c0_i32_775 : BitVec 32 := 0#32
  let v2245 : BitVec 1 := Scalar.cmpi .slt v2241 c0_i32_775
  let v2246 : BitVec 32 := Scalar.extui v2245
  let v2247 : BitVec 32 := Scalar.subi v2244 v2246
  let c2048_i32_773 : BitVec 32 := 2048#32
  let c0_i32_776 : BitVec 32 := 0#32
  let v2248 : BitVec 1 := Scalar.cmpi .sgt c2048_i32_773 c0_i32_776
  let v2249 : BitVec 32 := Scalar.extui v2248
  let c0_i32_777 : BitVec 32 := 0#32
  let v2250 : BitVec 1 := Scalar.cmpi .slt c2048_i32_773 c0_i32_777
  let v2251 : BitVec 32 := Scalar.extui v2250
  let v2252 : BitVec 32 := Scalar.subi v2249 v2251
  let v2253 : BitVec 1 := Scalar.cmpi .ne v2247 v2252
  let v2254 : BitVec 32 := Scalar.remsi v2241 c2048_i32_773
  let c0_i32_778 : BitVec 32 := 0#32
  let v2255 : BitVec 1 := Scalar.cmpi .ne v2254 c0_i32_778
  let v2256 : BitVec 1 := Scalar.andi v2253 v2255
  let v2242 : BitVec 32 := Scalar.divsi v2241 c2048_i32_773
  let c1_i32_779 : BitVec 32 := 1#32
  let v2257 : BitVec 32 := Scalar.subi v2242 c1_i32_779
  let v2258 : BitVec 32 := Scalar.select v2256 v2257 v2242
  let v2259 : BitVec 32 := Scalar.subi v2258 c0_i32_780
  let c1_i32_781 : BitVec 32 := 1#32
  let v2261 : BitVec 32 := Scalar.divsi v2259 c1_i32_781
  let v2262 : BitVec 32 := Scalar.muli v2261 c1_i32_781
  let v2263 : BitVec 32 := Scalar.addi c0_i32_780 v2262
  let c1_i32_782 : BitVec 32 := 1#32
  ⟨c0_i32_780, v2263, c1_i32_782⟩

def k2_off1 (v2228 : BitVec 32) (v2239 : BitVec 32) (k2_t2 : Fin (k2_t2_loop v2239).trips) : Fin 1 → Nat :=
  let v2229 : BitVec 32 := v2228
  let c0_i32_780 : BitVec 32 := 0#32
  let c1_i32_782 : BitVec 32 := 1#32
  let arg16 : BitVec 32 := Scf.iv c0_i32_780 c1_i32_782 k2_t2
  let c2048_i32_784 : BitVec 32 := 2048#32
  let v2266 : BitVec 32 := Scalar.muli arg16 c2048_i32_784
  let v2267 : BitVec 32 := Scalar.addi v2229 v2266
  ![v2267.toNat]

def k2_chk5 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2278 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2278] : Fin 1 → IVec S16 32) a x).toNat < S57344.size a)
theorem k2_idx3_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2278 : IVec S16 32) (k2_hw5 : k2_chk5 v58 v127 v196 v265 v334 v403 v472 v541 v610 v679 v748 v817 v886 v955 v1024 v1093 v1162 v1231 v1300 v1369 v1438 v1507 v1576 v1645 v1714 v1783 v1852 v1921 v1990 v2059 v2128 v2197 v2278), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2278] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2278 k2_hw5 k2_h1 => k2_hw5 k2_h1

def k2_chk6 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2288 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2288] : Fin 1 → IVec S16 32) a x).toNat < S57344.size a)
theorem k2_idx4_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2288 : IVec S16 32) (k2_hw6 : k2_chk6 v58 v127 v196 v265 v334 v403 v472 v541 v610 v679 v748 v817 v886 v955 v1024 v1093 v1162 v1231 v1300 v1369 v1438 v1507 v1576 v1645 v1714 v1783 v1852 v1921 v1990 v2059 v2128 v2197 v2288), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2288] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2288 k2_hw6 k2_h1 => k2_hw6 k2_h1

def k2_chk7 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2298 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2298] : Fin 1 → IVec S16 32) a x).toNat < S57344.size a)
theorem k2_idx5_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2298 : IVec S16 32) (k2_hw7 : k2_chk7 v58 v127 v196 v265 v334 v403 v472 v541 v610 v679 v748 v817 v886 v955 v1024 v1093 v1162 v1231 v1300 v1369 v1438 v1507 v1576 v1645 v1714 v1783 v1852 v1921 v1990 v2059 v2128 v2197 v2298), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2298] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2298 k2_hw7 k2_h1 => k2_hw7 k2_h1

def k2_chk8 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2308 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2308] : Fin 1 → IVec S16 32) a x).toNat < S57344.size a)
theorem k2_idx6_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2308 : IVec S16 32) (k2_hw8 : k2_chk8 v58 v127 v196 v265 v334 v403 v472 v541 v610 v679 v748 v817 v886 v955 v1024 v1093 v1162 v1231 v1300 v1369 v1438 v1507 v1576 v1645 v1714 v1783 v1852 v1921 v1990 v2059 v2128 v2197 v2308), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2308] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2308 k2_hw8 k2_h1 => k2_hw8 k2_h1

def k2_chk9 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2318 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2318] : Fin 1 → IVec S16 32) a x).toNat < S57344.size a)
theorem k2_idx7_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2318 : IVec S16 32) (k2_hw9 : k2_chk9 v58 v127 v196 v265 v334 v403 v472 v541 v610 v679 v748 v817 v886 v955 v1024 v1093 v1162 v1231 v1300 v1369 v1438 v1507 v1576 v1645 v1714 v1783 v1852 v1921 v1990 v2059 v2128 v2197 v2318), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2318] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2318 k2_hw9 k2_h1 => k2_hw9 k2_h1

def k2_chk10 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2328 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2328] : Fin 1 → IVec S16 32) a x).toNat < S57344.size a)
theorem k2_idx8_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2328 : IVec S16 32) (k2_hw10 : k2_chk10 v58 v127 v196 v265 v334 v403 v472 v541 v610 v679 v748 v817 v886 v955 v1024 v1093 v1162 v1231 v1300 v1369 v1438 v1507 v1576 v1645 v1714 v1783 v1852 v1921 v1990 v2059 v2128 v2197 v2328), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2328] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2328 k2_hw10 k2_h1 => k2_hw10 k2_h1

def k2_chk11 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2338 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2338] : Fin 1 → IVec S16 32) a x).toNat < S57344.size a)
theorem k2_idx9_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2338 : IVec S16 32) (k2_hw11 : k2_chk11 v58 v127 v196 v265 v334 v403 v472 v541 v610 v679 v748 v817 v886 v955 v1024 v1093 v1162 v1231 v1300 v1369 v1438 v1507 v1576 v1645 v1714 v1783 v1852 v1921 v1990 v2059 v2128 v2197 v2338), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2338] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2338 k2_hw11 k2_h1 => k2_hw11 k2_h1

def k2_chk12 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2348 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2348] : Fin 1 → IVec S16 32) a x).toNat < S57344.size a)
theorem k2_idx10_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2348 : IVec S16 32) (k2_hw12 : k2_chk12 v58 v127 v196 v265 v334 v403 v472 v541 v610 v679 v748 v817 v886 v955 v1024 v1093 v1162 v1231 v1300 v1369 v1438 v1507 v1576 v1645 v1714 v1783 v1852 v1921 v1990 v2059 v2128 v2197 v2348), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2348] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2348 k2_hw12 k2_h1 => k2_hw12 k2_h1

def k2_chk13 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2358 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2358] : Fin 1 → IVec S16 32) a x).toNat < S57344.size a)
theorem k2_idx11_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2358 : IVec S16 32) (k2_hw13 : k2_chk13 v58 v127 v196 v265 v334 v403 v472 v541 v610 v679 v748 v817 v886 v955 v1024 v1093 v1162 v1231 v1300 v1369 v1438 v1507 v1576 v1645 v1714 v1783 v1852 v1921 v1990 v2059 v2128 v2197 v2358), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2358] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2358 k2_hw13 k2_h1 => k2_hw13 k2_h1

def k2_chk14 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2368 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2368] : Fin 1 → IVec S16 32) a x).toNat < S57344.size a)
theorem k2_idx12_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2368 : IVec S16 32) (k2_hw14 : k2_chk14 v58 v127 v196 v265 v334 v403 v472 v541 v610 v679 v748 v817 v886 v955 v1024 v1093 v1162 v1231 v1300 v1369 v1438 v1507 v1576 v1645 v1714 v1783 v1852 v1921 v1990 v2059 v2128 v2197 v2368), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2368] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2368 k2_hw14 k2_h1 => k2_hw14 k2_h1

def k2_chk15 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2378 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2378] : Fin 1 → IVec S16 32) a x).toNat < S57344.size a)
theorem k2_idx13_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2378 : IVec S16 32) (k2_hw15 : k2_chk15 v58 v127 v196 v265 v334 v403 v472 v541 v610 v679 v748 v817 v886 v955 v1024 v1093 v1162 v1231 v1300 v1369 v1438 v1507 v1576 v1645 v1714 v1783 v1852 v1921 v1990 v2059 v2128 v2197 v2378), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2378] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2378 k2_hw15 k2_h1 => k2_hw15 k2_h1

def k2_chk16 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2388 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2388] : Fin 1 → IVec S16 32) a x).toNat < S57344.size a)
theorem k2_idx14_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2388 : IVec S16 32) (k2_hw16 : k2_chk16 v58 v127 v196 v265 v334 v403 v472 v541 v610 v679 v748 v817 v886 v955 v1024 v1093 v1162 v1231 v1300 v1369 v1438 v1507 v1576 v1645 v1714 v1783 v1852 v1921 v1990 v2059 v2128 v2197 v2388), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2388] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2388 k2_hw16 k2_h1 => k2_hw16 k2_h1

def k2_chk17 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2398 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2398] : Fin 1 → IVec S16 32) a x).toNat < S57344.size a)
theorem k2_idx15_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2398 : IVec S16 32) (k2_hw17 : k2_chk17 v58 v127 v196 v265 v334 v403 v472 v541 v610 v679 v748 v817 v886 v955 v1024 v1093 v1162 v1231 v1300 v1369 v1438 v1507 v1576 v1645 v1714 v1783 v1852 v1921 v1990 v2059 v2128 v2197 v2398), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2398] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2398 k2_hw17 k2_h1 => k2_hw17 k2_h1

def k2_chk18 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2408 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2408] : Fin 1 → IVec S16 32) a x).toNat < S57344.size a)
theorem k2_idx16_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2408 : IVec S16 32) (k2_hw18 : k2_chk18 v58 v127 v196 v265 v334 v403 v472 v541 v610 v679 v748 v817 v886 v955 v1024 v1093 v1162 v1231 v1300 v1369 v1438 v1507 v1576 v1645 v1714 v1783 v1852 v1921 v1990 v2059 v2128 v2197 v2408), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2408] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2408 k2_hw18 k2_h1 => k2_hw18 k2_h1

def k2_chk19 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2418 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2418] : Fin 1 → IVec S16 32) a x).toNat < S57344.size a)
theorem k2_idx17_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2418 : IVec S16 32) (k2_hw19 : k2_chk19 v58 v127 v196 v265 v334 v403 v472 v541 v610 v679 v748 v817 v886 v955 v1024 v1093 v1162 v1231 v1300 v1369 v1438 v1507 v1576 v1645 v1714 v1783 v1852 v1921 v1990 v2059 v2128 v2197 v2418), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2418] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2418 k2_hw19 k2_h1 => k2_hw19 k2_h1

def k2_chk20 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2428 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2428] : Fin 1 → IVec S16 32) a x).toNat < S57344.size a)
theorem k2_idx18_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2428 : IVec S16 32) (k2_hw20 : k2_chk20 v58 v127 v196 v265 v334 v403 v472 v541 v610 v679 v748 v817 v886 v955 v1024 v1093 v1162 v1231 v1300 v1369 v1438 v1507 v1576 v1645 v1714 v1783 v1852 v1921 v1990 v2059 v2128 v2197 v2428), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2428] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2428 k2_hw20 k2_h1 => k2_hw20 k2_h1

def k2_chk21 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2438 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2438] : Fin 1 → IVec S16 32) a x).toNat < S57344.size a)
theorem k2_idx19_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2438 : IVec S16 32) (k2_hw21 : k2_chk21 v58 v127 v196 v265 v334 v403 v472 v541 v610 v679 v748 v817 v886 v955 v1024 v1093 v1162 v1231 v1300 v1369 v1438 v1507 v1576 v1645 v1714 v1783 v1852 v1921 v1990 v2059 v2128 v2197 v2438), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2438] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2438 k2_hw21 k2_h1 => k2_hw21 k2_h1

def k2_chk22 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2448 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2448] : Fin 1 → IVec S16 32) a x).toNat < S57344.size a)
theorem k2_idx20_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2448 : IVec S16 32) (k2_hw22 : k2_chk22 v58 v127 v196 v265 v334 v403 v472 v541 v610 v679 v748 v817 v886 v955 v1024 v1093 v1162 v1231 v1300 v1369 v1438 v1507 v1576 v1645 v1714 v1783 v1852 v1921 v1990 v2059 v2128 v2197 v2448), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2448] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2448 k2_hw22 k2_h1 => k2_hw22 k2_h1

def k2_chk23 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2458 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2458] : Fin 1 → IVec S16 32) a x).toNat < S57344.size a)
theorem k2_idx21_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2458 : IVec S16 32) (k2_hw23 : k2_chk23 v58 v127 v196 v265 v334 v403 v472 v541 v610 v679 v748 v817 v886 v955 v1024 v1093 v1162 v1231 v1300 v1369 v1438 v1507 v1576 v1645 v1714 v1783 v1852 v1921 v1990 v2059 v2128 v2197 v2458), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2458] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2458 k2_hw23 k2_h1 => k2_hw23 k2_h1

def k2_chk24 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2468 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2468] : Fin 1 → IVec S16 32) a x).toNat < S57344.size a)
theorem k2_idx22_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2468 : IVec S16 32) (k2_hw24 : k2_chk24 v58 v127 v196 v265 v334 v403 v472 v541 v610 v679 v748 v817 v886 v955 v1024 v1093 v1162 v1231 v1300 v1369 v1438 v1507 v1576 v1645 v1714 v1783 v1852 v1921 v1990 v2059 v2128 v2197 v2468), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2468] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2468 k2_hw24 k2_h1 => k2_hw24 k2_h1

def k2_chk25 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2478 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2478] : Fin 1 → IVec S16 32) a x).toNat < S57344.size a)
theorem k2_idx23_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2478 : IVec S16 32) (k2_hw25 : k2_chk25 v58 v127 v196 v265 v334 v403 v472 v541 v610 v679 v748 v817 v886 v955 v1024 v1093 v1162 v1231 v1300 v1369 v1438 v1507 v1576 v1645 v1714 v1783 v1852 v1921 v1990 v2059 v2128 v2197 v2478), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2478] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2478 k2_hw25 k2_h1 => k2_hw25 k2_h1

def k2_chk26 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2488 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2488] : Fin 1 → IVec S16 32) a x).toNat < S57344.size a)
theorem k2_idx24_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2488 : IVec S16 32) (k2_hw26 : k2_chk26 v58 v127 v196 v265 v334 v403 v472 v541 v610 v679 v748 v817 v886 v955 v1024 v1093 v1162 v1231 v1300 v1369 v1438 v1507 v1576 v1645 v1714 v1783 v1852 v1921 v1990 v2059 v2128 v2197 v2488), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2488] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2488 k2_hw26 k2_h1 => k2_hw26 k2_h1

def k2_chk27 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2498 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2498] : Fin 1 → IVec S16 32) a x).toNat < S57344.size a)
theorem k2_idx25_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2498 : IVec S16 32) (k2_hw27 : k2_chk27 v58 v127 v196 v265 v334 v403 v472 v541 v610 v679 v748 v817 v886 v955 v1024 v1093 v1162 v1231 v1300 v1369 v1438 v1507 v1576 v1645 v1714 v1783 v1852 v1921 v1990 v2059 v2128 v2197 v2498), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2498] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2498 k2_hw27 k2_h1 => k2_hw27 k2_h1

def k2_chk28 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2508 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2508] : Fin 1 → IVec S16 32) a x).toNat < S57344.size a)
theorem k2_idx26_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2508 : IVec S16 32) (k2_hw28 : k2_chk28 v58 v127 v196 v265 v334 v403 v472 v541 v610 v679 v748 v817 v886 v955 v1024 v1093 v1162 v1231 v1300 v1369 v1438 v1507 v1576 v1645 v1714 v1783 v1852 v1921 v1990 v2059 v2128 v2197 v2508), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2508] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2508 k2_hw28 k2_h1 => k2_hw28 k2_h1

def k2_chk29 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2518 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2518] : Fin 1 → IVec S16 32) a x).toNat < S57344.size a)
theorem k2_idx27_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2518 : IVec S16 32) (k2_hw29 : k2_chk29 v58 v127 v196 v265 v334 v403 v472 v541 v610 v679 v748 v817 v886 v955 v1024 v1093 v1162 v1231 v1300 v1369 v1438 v1507 v1576 v1645 v1714 v1783 v1852 v1921 v1990 v2059 v2128 v2197 v2518), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2518] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2518 k2_hw29 k2_h1 => k2_hw29 k2_h1

def k2_chk30 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2528 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2528] : Fin 1 → IVec S16 32) a x).toNat < S57344.size a)
theorem k2_idx28_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2528 : IVec S16 32) (k2_hw30 : k2_chk30 v58 v127 v196 v265 v334 v403 v472 v541 v610 v679 v748 v817 v886 v955 v1024 v1093 v1162 v1231 v1300 v1369 v1438 v1507 v1576 v1645 v1714 v1783 v1852 v1921 v1990 v2059 v2128 v2197 v2528), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2528] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2528 k2_hw30 k2_h1 => k2_hw30 k2_h1

def k2_chk31 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2538 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2538] : Fin 1 → IVec S16 32) a x).toNat < S57344.size a)
theorem k2_idx29_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2538 : IVec S16 32) (k2_hw31 : k2_chk31 v58 v127 v196 v265 v334 v403 v472 v541 v610 v679 v748 v817 v886 v955 v1024 v1093 v1162 v1231 v1300 v1369 v1438 v1507 v1576 v1645 v1714 v1783 v1852 v1921 v1990 v2059 v2128 v2197 v2538), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2538] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2538 k2_hw31 k2_h1 => k2_hw31 k2_h1

def k2_chk32 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2548 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2548] : Fin 1 → IVec S16 32) a x).toNat < S57344.size a)
theorem k2_idx30_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2548 : IVec S16 32) (k2_hw32 : k2_chk32 v58 v127 v196 v265 v334 v403 v472 v541 v610 v679 v748 v817 v886 v955 v1024 v1093 v1162 v1231 v1300 v1369 v1438 v1507 v1576 v1645 v1714 v1783 v1852 v1921 v1990 v2059 v2128 v2197 v2548), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2548] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2548 k2_hw32 k2_h1 => k2_hw32 k2_h1

def k2_chk33 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2558 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2558] : Fin 1 → IVec S16 32) a x).toNat < S57344.size a)
theorem k2_idx31_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2558 : IVec S16 32) (k2_hw33 : k2_chk33 v58 v127 v196 v265 v334 v403 v472 v541 v610 v679 v748 v817 v886 v955 v1024 v1093 v1162 v1231 v1300 v1369 v1438 v1507 v1576 v1645 v1714 v1783 v1852 v1921 v1990 v2059 v2128 v2197 v2558), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2558] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2558 k2_hw33 k2_h1 => k2_hw33 k2_h1

def k2_chk34 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2568 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2568] : Fin 1 → IVec S16 32) a x).toNat < S57344.size a)
theorem k2_idx32_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2568 : IVec S16 32) (k2_hw34 : k2_chk34 v58 v127 v196 v265 v334 v403 v472 v541 v610 v679 v748 v817 v886 v955 v1024 v1093 v1162 v1231 v1300 v1369 v1438 v1507 v1576 v1645 v1714 v1783 v1852 v1921 v1990 v2059 v2128 v2197 v2568), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2568] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2568 k2_hw34 k2_h1 => k2_hw34 k2_h1

def k2_chk35 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2578 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2578] : Fin 1 → IVec S16 32) a x).toNat < S57344.size a)
theorem k2_idx33_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2578 : IVec S16 32) (k2_hw35 : k2_chk35 v58 v127 v196 v265 v334 v403 v472 v541 v610 v679 v748 v817 v886 v955 v1024 v1093 v1162 v1231 v1300 v1369 v1438 v1507 v1576 v1645 v1714 v1783 v1852 v1921 v1990 v2059 v2128 v2197 v2578), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2578] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2578 k2_hw35 k2_h1 => k2_hw35 k2_h1

def k2_chk36 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2588 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2588] : Fin 1 → IVec S16 32) a x).toNat < S57344.size a)
theorem k2_idx34_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2588 : IVec S16 32) (k2_hw36 : k2_chk36 v58 v127 v196 v265 v334 v403 v472 v541 v610 v679 v748 v817 v886 v955 v1024 v1093 v1162 v1231 v1300 v1369 v1438 v1507 v1576 v1645 v1714 v1783 v1852 v1921 v1990 v2059 v2128 v2197 v2588), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2588] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2588 k2_hw36 k2_h1 => k2_hw36 k2_h1

def k2_chk37 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2598 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2598] : Fin 1 → IVec S16 32) a x).toNat < S57344.size a)
theorem k2_idx35_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2598 : IVec S16 32) (k2_hw37 : k2_chk37 v58 v127 v196 v265 v334 v403 v472 v541 v610 v679 v748 v817 v886 v955 v1024 v1093 v1162 v1231 v1300 v1369 v1438 v1507 v1576 v1645 v1714 v1783 v1852 v1921 v1990 v2059 v2128 v2197 v2598), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2598] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2598 k2_hw37 k2_h1 => k2_hw37 k2_h1

def k2_chk38 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2608 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2608] : Fin 1 → IVec S16 32) a x).toNat < S57344.size a)
theorem k2_idx36_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2608 : IVec S16 32) (k2_hw38 : k2_chk38 v58 v127 v196 v265 v334 v403 v472 v541 v610 v679 v748 v817 v886 v955 v1024 v1093 v1162 v1231 v1300 v1369 v1438 v1507 v1576 v1645 v1714 v1783 v1852 v1921 v1990 v2059 v2128 v2197 v2608), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2608] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2608 k2_hw38 k2_h1 => k2_hw38 k2_h1

def k2_chk39 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2618 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2618] : Fin 1 → IVec S16 32) a x).toNat < S57344.size a)
theorem k2_idx37_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2618 : IVec S16 32) (k2_hw39 : k2_chk39 v58 v127 v196 v265 v334 v403 v472 v541 v610 v679 v748 v817 v886 v955 v1024 v1093 v1162 v1231 v1300 v1369 v1438 v1507 v1576 v1645 v1714 v1783 v1852 v1921 v1990 v2059 v2128 v2197 v2618), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2618] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2618 k2_hw39 k2_h1 => k2_hw39 k2_h1

def k2_chk40 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2628 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2628] : Fin 1 → IVec S16 32) a x).toNat < S57344.size a)
theorem k2_idx38_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2628 : IVec S16 32) (k2_hw40 : k2_chk40 v58 v127 v196 v265 v334 v403 v472 v541 v610 v679 v748 v817 v886 v955 v1024 v1093 v1162 v1231 v1300 v1369 v1438 v1507 v1576 v1645 v1714 v1783 v1852 v1921 v1990 v2059 v2128 v2197 v2628), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2628] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2628 k2_hw40 k2_h1 => k2_hw40 k2_h1

def k2_chk41 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2638 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2638] : Fin 1 → IVec S16 32) a x).toNat < S57344.size a)
theorem k2_idx39_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2638 : IVec S16 32) (k2_hw41 : k2_chk41 v58 v127 v196 v265 v334 v403 v472 v541 v610 v679 v748 v817 v886 v955 v1024 v1093 v1162 v1231 v1300 v1369 v1438 v1507 v1576 v1645 v1714 v1783 v1852 v1921 v1990 v2059 v2128 v2197 v2638), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2638] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2638 k2_hw41 k2_h1 => k2_hw41 k2_h1

def k2_chk42 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2648 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2648] : Fin 1 → IVec S16 32) a x).toNat < S57344.size a)
theorem k2_idx40_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2648 : IVec S16 32) (k2_hw42 : k2_chk42 v58 v127 v196 v265 v334 v403 v472 v541 v610 v679 v748 v817 v886 v955 v1024 v1093 v1162 v1231 v1300 v1369 v1438 v1507 v1576 v1645 v1714 v1783 v1852 v1921 v1990 v2059 v2128 v2197 v2648), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2648] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2648 k2_hw42 k2_h1 => k2_hw42 k2_h1

def k2_chk43 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2658 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2658] : Fin 1 → IVec S16 32) a x).toNat < S57344.size a)
theorem k2_idx41_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2658 : IVec S16 32) (k2_hw43 : k2_chk43 v58 v127 v196 v265 v334 v403 v472 v541 v610 v679 v748 v817 v886 v955 v1024 v1093 v1162 v1231 v1300 v1369 v1438 v1507 v1576 v1645 v1714 v1783 v1852 v1921 v1990 v2059 v2128 v2197 v2658), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2658] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2658 k2_hw43 k2_h1 => k2_hw43 k2_h1

def k2_chk44 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2668 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2668] : Fin 1 → IVec S16 32) a x).toNat < S57344.size a)
theorem k2_idx42_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2668 : IVec S16 32) (k2_hw44 : k2_chk44 v58 v127 v196 v265 v334 v403 v472 v541 v610 v679 v748 v817 v886 v955 v1024 v1093 v1162 v1231 v1300 v1369 v1438 v1507 v1576 v1645 v1714 v1783 v1852 v1921 v1990 v2059 v2128 v2197 v2668), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2668] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2668 k2_hw44 k2_h1 => k2_hw44 k2_h1

def k2_chk45 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2678 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2678] : Fin 1 → IVec S16 32) a x).toNat < S57344.size a)
theorem k2_idx43_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2678 : IVec S16 32) (k2_hw45 : k2_chk45 v58 v127 v196 v265 v334 v403 v472 v541 v610 v679 v748 v817 v886 v955 v1024 v1093 v1162 v1231 v1300 v1369 v1438 v1507 v1576 v1645 v1714 v1783 v1852 v1921 v1990 v2059 v2128 v2197 v2678), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2678] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2678 k2_hw45 k2_h1 => k2_hw45 k2_h1

def k2_chk46 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2688 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2688] : Fin 1 → IVec S16 32) a x).toNat < S57344.size a)
theorem k2_idx44_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2688 : IVec S16 32) (k2_hw46 : k2_chk46 v58 v127 v196 v265 v334 v403 v472 v541 v610 v679 v748 v817 v886 v955 v1024 v1093 v1162 v1231 v1300 v1369 v1438 v1507 v1576 v1645 v1714 v1783 v1852 v1921 v1990 v2059 v2128 v2197 v2688), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2688] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2688 k2_hw46 k2_h1 => k2_hw46 k2_h1

def k2_chk47 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2698 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2698] : Fin 1 → IVec S16 32) a x).toNat < S57344.size a)
theorem k2_idx45_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2698 : IVec S16 32) (k2_hw47 : k2_chk47 v58 v127 v196 v265 v334 v403 v472 v541 v610 v679 v748 v817 v886 v955 v1024 v1093 v1162 v1231 v1300 v1369 v1438 v1507 v1576 v1645 v1714 v1783 v1852 v1921 v1990 v2059 v2128 v2197 v2698), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2698] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2698 k2_hw47 k2_h1 => k2_hw47 k2_h1

def k2_chk48 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2708 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2708] : Fin 1 → IVec S16 32) a x).toNat < S57344.size a)
theorem k2_idx46_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2708 : IVec S16 32) (k2_hw48 : k2_chk48 v58 v127 v196 v265 v334 v403 v472 v541 v610 v679 v748 v817 v886 v955 v1024 v1093 v1162 v1231 v1300 v1369 v1438 v1507 v1576 v1645 v1714 v1783 v1852 v1921 v1990 v2059 v2128 v2197 v2708), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2708] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2708 k2_hw48 k2_h1 => k2_hw48 k2_h1

def k2_chk49 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2718 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2718] : Fin 1 → IVec S16 32) a x).toNat < S57344.size a)
theorem k2_idx47_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2718 : IVec S16 32) (k2_hw49 : k2_chk49 v58 v127 v196 v265 v334 v403 v472 v541 v610 v679 v748 v817 v886 v955 v1024 v1093 v1162 v1231 v1300 v1369 v1438 v1507 v1576 v1645 v1714 v1783 v1852 v1921 v1990 v2059 v2128 v2197 v2718), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2718] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2718 k2_hw49 k2_h1 => k2_hw49 k2_h1

def k2_chk50 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2728 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2728] : Fin 1 → IVec S16 32) a x).toNat < S57344.size a)
theorem k2_idx48_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2728 : IVec S16 32) (k2_hw50 : k2_chk50 v58 v127 v196 v265 v334 v403 v472 v541 v610 v679 v748 v817 v886 v955 v1024 v1093 v1162 v1231 v1300 v1369 v1438 v1507 v1576 v1645 v1714 v1783 v1852 v1921 v1990 v2059 v2128 v2197 v2728), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2728] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2728 k2_hw50 k2_h1 => k2_hw50 k2_h1

def k2_chk51 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2738 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2738] : Fin 1 → IVec S16 32) a x).toNat < S57344.size a)
theorem k2_idx49_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2738 : IVec S16 32) (k2_hw51 : k2_chk51 v58 v127 v196 v265 v334 v403 v472 v541 v610 v679 v748 v817 v886 v955 v1024 v1093 v1162 v1231 v1300 v1369 v1438 v1507 v1576 v1645 v1714 v1783 v1852 v1921 v1990 v2059 v2128 v2197 v2738), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2738] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2738 k2_hw51 k2_h1 => k2_hw51 k2_h1

def k2_chk52 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2748 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2748] : Fin 1 → IVec S16 32) a x).toNat < S57344.size a)
theorem k2_idx50_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2748 : IVec S16 32) (k2_hw52 : k2_chk52 v58 v127 v196 v265 v334 v403 v472 v541 v610 v679 v748 v817 v886 v955 v1024 v1093 v1162 v1231 v1300 v1369 v1438 v1507 v1576 v1645 v1714 v1783 v1852 v1921 v1990 v2059 v2128 v2197 v2748), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2748] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2748 k2_hw52 k2_h1 => k2_hw52 k2_h1

def k2_chk53 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2758 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2758] : Fin 1 → IVec S16 32) a x).toNat < S57344.size a)
theorem k2_idx51_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2758 : IVec S16 32) (k2_hw53 : k2_chk53 v58 v127 v196 v265 v334 v403 v472 v541 v610 v679 v748 v817 v886 v955 v1024 v1093 v1162 v1231 v1300 v1369 v1438 v1507 v1576 v1645 v1714 v1783 v1852 v1921 v1990 v2059 v2128 v2197 v2758), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2758] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2758 k2_hw53 k2_h1 => k2_hw53 k2_h1

def k2_chk54 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2768 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2768] : Fin 1 → IVec S16 32) a x).toNat < S57344.size a)
theorem k2_idx52_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2768 : IVec S16 32) (k2_hw54 : k2_chk54 v58 v127 v196 v265 v334 v403 v472 v541 v610 v679 v748 v817 v886 v955 v1024 v1093 v1162 v1231 v1300 v1369 v1438 v1507 v1576 v1645 v1714 v1783 v1852 v1921 v1990 v2059 v2128 v2197 v2768), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2768] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2768 k2_hw54 k2_h1 => k2_hw54 k2_h1

def k2_chk55 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2778 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2778] : Fin 1 → IVec S16 32) a x).toNat < S57344.size a)
theorem k2_idx53_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2778 : IVec S16 32) (k2_hw55 : k2_chk55 v58 v127 v196 v265 v334 v403 v472 v541 v610 v679 v748 v817 v886 v955 v1024 v1093 v1162 v1231 v1300 v1369 v1438 v1507 v1576 v1645 v1714 v1783 v1852 v1921 v1990 v2059 v2128 v2197 v2778), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2778] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2778 k2_hw55 k2_h1 => k2_hw55 k2_h1

def k2_chk56 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2788 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2788] : Fin 1 → IVec S16 32) a x).toNat < S57344.size a)
theorem k2_idx54_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2788 : IVec S16 32) (k2_hw56 : k2_chk56 v58 v127 v196 v265 v334 v403 v472 v541 v610 v679 v748 v817 v886 v955 v1024 v1093 v1162 v1231 v1300 v1369 v1438 v1507 v1576 v1645 v1714 v1783 v1852 v1921 v1990 v2059 v2128 v2197 v2788), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2788] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2788 k2_hw56 k2_h1 => k2_hw56 k2_h1

def k2_chk57 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2798 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2798] : Fin 1 → IVec S16 32) a x).toNat < S57344.size a)
theorem k2_idx55_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2798 : IVec S16 32) (k2_hw57 : k2_chk57 v58 v127 v196 v265 v334 v403 v472 v541 v610 v679 v748 v817 v886 v955 v1024 v1093 v1162 v1231 v1300 v1369 v1438 v1507 v1576 v1645 v1714 v1783 v1852 v1921 v1990 v2059 v2128 v2197 v2798), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2798] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2798 k2_hw57 k2_h1 => k2_hw57 k2_h1

def k2_chk58 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2808 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2808] : Fin 1 → IVec S16 32) a x).toNat < S57344.size a)
theorem k2_idx56_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2808 : IVec S16 32) (k2_hw58 : k2_chk58 v58 v127 v196 v265 v334 v403 v472 v541 v610 v679 v748 v817 v886 v955 v1024 v1093 v1162 v1231 v1300 v1369 v1438 v1507 v1576 v1645 v1714 v1783 v1852 v1921 v1990 v2059 v2128 v2197 v2808), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2808] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2808 k2_hw58 k2_h1 => k2_hw58 k2_h1

def k2_chk59 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2818 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2818] : Fin 1 → IVec S16 32) a x).toNat < S57344.size a)
theorem k2_idx57_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2818 : IVec S16 32) (k2_hw59 : k2_chk59 v58 v127 v196 v265 v334 v403 v472 v541 v610 v679 v748 v817 v886 v955 v1024 v1093 v1162 v1231 v1300 v1369 v1438 v1507 v1576 v1645 v1714 v1783 v1852 v1921 v1990 v2059 v2128 v2197 v2818), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2818] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2818 k2_hw59 k2_h1 => k2_hw59 k2_h1

def k2_chk60 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2828 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2828] : Fin 1 → IVec S16 32) a x).toNat < S57344.size a)
theorem k2_idx58_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2828 : IVec S16 32) (k2_hw60 : k2_chk60 v58 v127 v196 v265 v334 v403 v472 v541 v610 v679 v748 v817 v886 v955 v1024 v1093 v1162 v1231 v1300 v1369 v1438 v1507 v1576 v1645 v1714 v1783 v1852 v1921 v1990 v2059 v2128 v2197 v2828), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2828] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2828 k2_hw60 k2_h1 => k2_hw60 k2_h1

def k2_chk61 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2838 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2838] : Fin 1 → IVec S16 32) a x).toNat < S57344.size a)
theorem k2_idx59_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2838 : IVec S16 32) (k2_hw61 : k2_chk61 v58 v127 v196 v265 v334 v403 v472 v541 v610 v679 v748 v817 v886 v955 v1024 v1093 v1162 v1231 v1300 v1369 v1438 v1507 v1576 v1645 v1714 v1783 v1852 v1921 v1990 v2059 v2128 v2197 v2838), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2838] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2838 k2_hw61 k2_h1 => k2_hw61 k2_h1

def k2_chk62 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2848 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2848] : Fin 1 → IVec S16 32) a x).toNat < S57344.size a)
theorem k2_idx60_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2848 : IVec S16 32) (k2_hw62 : k2_chk62 v58 v127 v196 v265 v334 v403 v472 v541 v610 v679 v748 v817 v886 v955 v1024 v1093 v1162 v1231 v1300 v1369 v1438 v1507 v1576 v1645 v1714 v1783 v1852 v1921 v1990 v2059 v2128 v2197 v2848), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2848] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2848 k2_hw62 k2_h1 => k2_hw62 k2_h1

def k2_chk63 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2858 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2858] : Fin 1 → IVec S16 32) a x).toNat < S57344.size a)
theorem k2_idx61_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2858 : IVec S16 32) (k2_hw63 : k2_chk63 v58 v127 v196 v265 v334 v403 v472 v541 v610 v679 v748 v817 v886 v955 v1024 v1093 v1162 v1231 v1300 v1369 v1438 v1507 v1576 v1645 v1714 v1783 v1852 v1921 v1990 v2059 v2128 v2197 v2858), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2858] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2858 k2_hw63 k2_h1 => k2_hw63 k2_h1

def k2_chk64 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2868 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2868] : Fin 1 → IVec S16 32) a x).toNat < S57344.size a)
theorem k2_idx62_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2868 : IVec S16 32) (k2_hw64 : k2_chk64 v58 v127 v196 v265 v334 v403 v472 v541 v610 v679 v748 v817 v886 v955 v1024 v1093 v1162 v1231 v1300 v1369 v1438 v1507 v1576 v1645 v1714 v1783 v1852 v1921 v1990 v2059 v2128 v2197 v2868), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2868] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2868 k2_hw64 k2_h1 => k2_hw64 k2_h1

def k2_chk65 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2878 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2878] : Fin 1 → IVec S16 32) a x).toNat < S57344.size a)
theorem k2_idx63_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2878 : IVec S16 32) (k2_hw65 : k2_chk65 v58 v127 v196 v265 v334 v403 v472 v541 v610 v679 v748 v817 v886 v955 v1024 v1093 v1162 v1231 v1300 v1369 v1438 v1507 v1576 v1645 v1714 v1783 v1852 v1921 v1990 v2059 v2128 v2197 v2878), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2878] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2878 k2_hw65 k2_h1 => k2_hw65 k2_h1

def k2_chk66 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2888 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2888] : Fin 1 → IVec S16 32) a x).toNat < S57344.size a)
theorem k2_idx64_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2888 : IVec S16 32) (k2_hw66 : k2_chk66 v58 v127 v196 v265 v334 v403 v472 v541 v610 v679 v748 v817 v886 v955 v1024 v1093 v1162 v1231 v1300 v1369 v1438 v1507 v1576 v1645 v1714 v1783 v1852 v1921 v1990 v2059 v2128 v2197 v2888), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2888] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2888 k2_hw66 k2_h1 => k2_hw66 k2_h1

def k2_chk67 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2898 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2898] : Fin 1 → IVec S16 32) a x).toNat < S57344.size a)
theorem k2_idx65_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2898 : IVec S16 32) (k2_hw67 : k2_chk67 v58 v127 v196 v265 v334 v403 v472 v541 v610 v679 v748 v817 v886 v955 v1024 v1093 v1162 v1231 v1300 v1369 v1438 v1507 v1576 v1645 v1714 v1783 v1852 v1921 v1990 v2059 v2128 v2197 v2898), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2898] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2898 k2_hw67 k2_h1 => k2_hw67 k2_h1

def k2_chk68 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2908 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2908] : Fin 1 → IVec S16 32) a x).toNat < S57344.size a)
theorem k2_idx66_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2908 : IVec S16 32) (k2_hw68 : k2_chk68 v58 v127 v196 v265 v334 v403 v472 v541 v610 v679 v748 v817 v886 v955 v1024 v1093 v1162 v1231 v1300 v1369 v1438 v1507 v1576 v1645 v1714 v1783 v1852 v1921 v1990 v2059 v2128 v2197 v2908), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2908] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2908 k2_hw68 k2_h1 => k2_hw68 k2_h1

def k2_chk69 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2918 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2918] : Fin 1 → IVec S16 32) a x).toNat < S57344.size a)
theorem k2_idx67_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2918 : IVec S16 32) (k2_hw69 : k2_chk69 v58 v127 v196 v265 v334 v403 v472 v541 v610 v679 v748 v817 v886 v955 v1024 v1093 v1162 v1231 v1300 v1369 v1438 v1507 v1576 v1645 v1714 v1783 v1852 v1921 v1990 v2059 v2128 v2197 v2918), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2918] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2918 k2_hw69 k2_h1 => k2_hw69 k2_h1

def k2_chk70 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2928 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2928] : Fin 1 → IVec S16 32) a x).toNat < S57344.size a)
theorem k2_idx68_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2928 : IVec S16 32) (k2_hw70 : k2_chk70 v58 v127 v196 v265 v334 v403 v472 v541 v610 v679 v748 v817 v886 v955 v1024 v1093 v1162 v1231 v1300 v1369 v1438 v1507 v1576 v1645 v1714 v1783 v1852 v1921 v1990 v2059 v2128 v2197 v2928), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2928] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2928 k2_hw70 k2_h1 => k2_hw70 k2_h1

def k2_chk71 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2938 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2938] : Fin 1 → IVec S16 32) a x).toNat < S57344.size a)
theorem k2_idx69_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2938 : IVec S16 32) (k2_hw71 : k2_chk71 v58 v127 v196 v265 v334 v403 v472 v541 v610 v679 v748 v817 v886 v955 v1024 v1093 v1162 v1231 v1300 v1369 v1438 v1507 v1576 v1645 v1714 v1783 v1852 v1921 v1990 v2059 v2128 v2197 v2938), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2938] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2938 k2_hw71 k2_h1 => k2_hw71 k2_h1

def k2_chk72 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2948 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2948] : Fin 1 → IVec S16 32) a x).toNat < S57344.size a)
theorem k2_idx70_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2948 : IVec S16 32) (k2_hw72 : k2_chk72 v58 v127 v196 v265 v334 v403 v472 v541 v610 v679 v748 v817 v886 v955 v1024 v1093 v1162 v1231 v1300 v1369 v1438 v1507 v1576 v1645 v1714 v1783 v1852 v1921 v1990 v2059 v2128 v2197 v2948), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2948] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2948 k2_hw72 k2_h1 => k2_hw72 k2_h1

def k2_chk73 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2958 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2958] : Fin 1 → IVec S16 32) a x).toNat < S57344.size a)
theorem k2_idx71_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2958 : IVec S16 32) (k2_hw73 : k2_chk73 v58 v127 v196 v265 v334 v403 v472 v541 v610 v679 v748 v817 v886 v955 v1024 v1093 v1162 v1231 v1300 v1369 v1438 v1507 v1576 v1645 v1714 v1783 v1852 v1921 v1990 v2059 v2128 v2197 v2958), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2958] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2958 k2_hw73 k2_h1 => k2_hw73 k2_h1

def k2_chk74 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2968 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2968] : Fin 1 → IVec S16 32) a x).toNat < S57344.size a)
theorem k2_idx72_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2968 : IVec S16 32) (k2_hw74 : k2_chk74 v58 v127 v196 v265 v334 v403 v472 v541 v610 v679 v748 v817 v886 v955 v1024 v1093 v1162 v1231 v1300 v1369 v1438 v1507 v1576 v1645 v1714 v1783 v1852 v1921 v1990 v2059 v2128 v2197 v2968), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2968] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2968 k2_hw74 k2_h1 => k2_hw74 k2_h1

def k2_chk75 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2978 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2978] : Fin 1 → IVec S16 32) a x).toNat < S57344.size a)
theorem k2_idx73_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2978 : IVec S16 32) (k2_hw75 : k2_chk75 v58 v127 v196 v265 v334 v403 v472 v541 v610 v679 v748 v817 v886 v955 v1024 v1093 v1162 v1231 v1300 v1369 v1438 v1507 v1576 v1645 v1714 v1783 v1852 v1921 v1990 v2059 v2128 v2197 v2978), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2978] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2978 k2_hw75 k2_h1 => k2_hw75 k2_h1

def k2_chk76 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2988 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2988] : Fin 1 → IVec S16 32) a x).toNat < S57344.size a)
theorem k2_idx74_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2988 : IVec S16 32) (k2_hw76 : k2_chk76 v58 v127 v196 v265 v334 v403 v472 v541 v610 v679 v748 v817 v886 v955 v1024 v1093 v1162 v1231 v1300 v1369 v1438 v1507 v1576 v1645 v1714 v1783 v1852 v1921 v1990 v2059 v2128 v2197 v2988), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2988] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2988 k2_hw76 k2_h1 => k2_hw76 k2_h1

def k2_chk77 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2998 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2998] : Fin 1 → IVec S16 32) a x).toNat < S57344.size a)
theorem k2_idx75_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2998 : IVec S16 32) (k2_hw77 : k2_chk77 v58 v127 v196 v265 v334 v403 v472 v541 v610 v679 v748 v817 v886 v955 v1024 v1093 v1162 v1231 v1300 v1369 v1438 v1507 v1576 v1645 v1714 v1783 v1852 v1921 v1990 v2059 v2128 v2197 v2998), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2998] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2998 k2_hw77 k2_h1 => k2_hw77 k2_h1

def k2_chk78 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3008 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3008] : Fin 1 → IVec S16 32) a x).toNat < S57344.size a)
theorem k2_idx76_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3008 : IVec S16 32) (k2_hw78 : k2_chk78 v58 v127 v196 v265 v334 v403 v472 v541 v610 v679 v748 v817 v886 v955 v1024 v1093 v1162 v1231 v1300 v1369 v1438 v1507 v1576 v1645 v1714 v1783 v1852 v1921 v1990 v2059 v2128 v2197 v3008), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3008] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3008 k2_hw78 k2_h1 => k2_hw78 k2_h1

def k2_chk79 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3018 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3018] : Fin 1 → IVec S16 32) a x).toNat < S57344.size a)
theorem k2_idx77_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3018 : IVec S16 32) (k2_hw79 : k2_chk79 v58 v127 v196 v265 v334 v403 v472 v541 v610 v679 v748 v817 v886 v955 v1024 v1093 v1162 v1231 v1300 v1369 v1438 v1507 v1576 v1645 v1714 v1783 v1852 v1921 v1990 v2059 v2128 v2197 v3018), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3018] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3018 k2_hw79 k2_h1 => k2_hw79 k2_h1

def k2_chk80 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3028 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3028] : Fin 1 → IVec S16 32) a x).toNat < S57344.size a)
theorem k2_idx78_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3028 : IVec S16 32) (k2_hw80 : k2_chk80 v58 v127 v196 v265 v334 v403 v472 v541 v610 v679 v748 v817 v886 v955 v1024 v1093 v1162 v1231 v1300 v1369 v1438 v1507 v1576 v1645 v1714 v1783 v1852 v1921 v1990 v2059 v2128 v2197 v3028), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3028] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3028 k2_hw80 k2_h1 => k2_hw80 k2_h1

def k2_chk81 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3038 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3038] : Fin 1 → IVec S16 32) a x).toNat < S57344.size a)
theorem k2_idx79_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3038 : IVec S16 32) (k2_hw81 : k2_chk81 v58 v127 v196 v265 v334 v403 v472 v541 v610 v679 v748 v817 v886 v955 v1024 v1093 v1162 v1231 v1300 v1369 v1438 v1507 v1576 v1645 v1714 v1783 v1852 v1921 v1990 v2059 v2128 v2197 v3038), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3038] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3038 k2_hw81 k2_h1 => k2_hw81 k2_h1

def k2_chk82 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3048 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3048] : Fin 1 → IVec S16 32) a x).toNat < S57344.size a)
theorem k2_idx80_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3048 : IVec S16 32) (k2_hw82 : k2_chk82 v58 v127 v196 v265 v334 v403 v472 v541 v610 v679 v748 v817 v886 v955 v1024 v1093 v1162 v1231 v1300 v1369 v1438 v1507 v1576 v1645 v1714 v1783 v1852 v1921 v1990 v2059 v2128 v2197 v3048), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3048] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3048 k2_hw82 k2_h1 => k2_hw82 k2_h1

def k2_chk83 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3058 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3058] : Fin 1 → IVec S16 32) a x).toNat < S57344.size a)
theorem k2_idx81_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3058 : IVec S16 32) (k2_hw83 : k2_chk83 v58 v127 v196 v265 v334 v403 v472 v541 v610 v679 v748 v817 v886 v955 v1024 v1093 v1162 v1231 v1300 v1369 v1438 v1507 v1576 v1645 v1714 v1783 v1852 v1921 v1990 v2059 v2128 v2197 v3058), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3058] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3058 k2_hw83 k2_h1 => k2_hw83 k2_h1

def k2_chk84 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3068 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3068] : Fin 1 → IVec S16 32) a x).toNat < S57344.size a)
theorem k2_idx82_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3068 : IVec S16 32) (k2_hw84 : k2_chk84 v58 v127 v196 v265 v334 v403 v472 v541 v610 v679 v748 v817 v886 v955 v1024 v1093 v1162 v1231 v1300 v1369 v1438 v1507 v1576 v1645 v1714 v1783 v1852 v1921 v1990 v2059 v2128 v2197 v3068), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3068] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3068 k2_hw84 k2_h1 => k2_hw84 k2_h1

def k2_chk85 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3078 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3078] : Fin 1 → IVec S16 32) a x).toNat < S57344.size a)
theorem k2_idx83_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3078 : IVec S16 32) (k2_hw85 : k2_chk85 v58 v127 v196 v265 v334 v403 v472 v541 v610 v679 v748 v817 v886 v955 v1024 v1093 v1162 v1231 v1300 v1369 v1438 v1507 v1576 v1645 v1714 v1783 v1852 v1921 v1990 v2059 v2128 v2197 v3078), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3078] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3078 k2_hw85 k2_h1 => k2_hw85 k2_h1

def k2_chk86 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3088 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3088] : Fin 1 → IVec S16 32) a x).toNat < S57344.size a)
theorem k2_idx84_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3088 : IVec S16 32) (k2_hw86 : k2_chk86 v58 v127 v196 v265 v334 v403 v472 v541 v610 v679 v748 v817 v886 v955 v1024 v1093 v1162 v1231 v1300 v1369 v1438 v1507 v1576 v1645 v1714 v1783 v1852 v1921 v1990 v2059 v2128 v2197 v3088), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3088] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3088 k2_hw86 k2_h1 => k2_hw86 k2_h1

def k2_chk87 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3098 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3098] : Fin 1 → IVec S16 32) a x).toNat < S57344.size a)
theorem k2_idx85_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3098 : IVec S16 32) (k2_hw87 : k2_chk87 v58 v127 v196 v265 v334 v403 v472 v541 v610 v679 v748 v817 v886 v955 v1024 v1093 v1162 v1231 v1300 v1369 v1438 v1507 v1576 v1645 v1714 v1783 v1852 v1921 v1990 v2059 v2128 v2197 v3098), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3098] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3098 k2_hw87 k2_h1 => k2_hw87 k2_h1

def k2_chk88 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3108 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3108] : Fin 1 → IVec S16 32) a x).toNat < S57344.size a)
theorem k2_idx86_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3108 : IVec S16 32) (k2_hw88 : k2_chk88 v58 v127 v196 v265 v334 v403 v472 v541 v610 v679 v748 v817 v886 v955 v1024 v1093 v1162 v1231 v1300 v1369 v1438 v1507 v1576 v1645 v1714 v1783 v1852 v1921 v1990 v2059 v2128 v2197 v3108), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3108] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3108 k2_hw88 k2_h1 => k2_hw88 k2_h1

def k2_chk89 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3118 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3118] : Fin 1 → IVec S16 32) a x).toNat < S57344.size a)
theorem k2_idx87_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3118 : IVec S16 32) (k2_hw89 : k2_chk89 v58 v127 v196 v265 v334 v403 v472 v541 v610 v679 v748 v817 v886 v955 v1024 v1093 v1162 v1231 v1300 v1369 v1438 v1507 v1576 v1645 v1714 v1783 v1852 v1921 v1990 v2059 v2128 v2197 v3118), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3118] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3118 k2_hw89 k2_h1 => k2_hw89 k2_h1

def k2_chk90 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3128 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3128] : Fin 1 → IVec S16 32) a x).toNat < S57344.size a)
theorem k2_idx88_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3128 : IVec S16 32) (k2_hw90 : k2_chk90 v58 v127 v196 v265 v334 v403 v472 v541 v610 v679 v748 v817 v886 v955 v1024 v1093 v1162 v1231 v1300 v1369 v1438 v1507 v1576 v1645 v1714 v1783 v1852 v1921 v1990 v2059 v2128 v2197 v3128), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3128] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3128 k2_hw90 k2_h1 => k2_hw90 k2_h1

def k2_chk91 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3138 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3138] : Fin 1 → IVec S16 32) a x).toNat < S57344.size a)
theorem k2_idx89_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3138 : IVec S16 32) (k2_hw91 : k2_chk91 v58 v127 v196 v265 v334 v403 v472 v541 v610 v679 v748 v817 v886 v955 v1024 v1093 v1162 v1231 v1300 v1369 v1438 v1507 v1576 v1645 v1714 v1783 v1852 v1921 v1990 v2059 v2128 v2197 v3138), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3138] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3138 k2_hw91 k2_h1 => k2_hw91 k2_h1

def k2_chk92 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3148 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3148] : Fin 1 → IVec S16 32) a x).toNat < S57344.size a)
theorem k2_idx90_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3148 : IVec S16 32) (k2_hw92 : k2_chk92 v58 v127 v196 v265 v334 v403 v472 v541 v610 v679 v748 v817 v886 v955 v1024 v1093 v1162 v1231 v1300 v1369 v1438 v1507 v1576 v1645 v1714 v1783 v1852 v1921 v1990 v2059 v2128 v2197 v3148), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3148] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3148 k2_hw92 k2_h1 => k2_hw92 k2_h1

def k2_chk93 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3158 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3158] : Fin 1 → IVec S16 32) a x).toNat < S57344.size a)
theorem k2_idx91_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3158 : IVec S16 32) (k2_hw93 : k2_chk93 v58 v127 v196 v265 v334 v403 v472 v541 v610 v679 v748 v817 v886 v955 v1024 v1093 v1162 v1231 v1300 v1369 v1438 v1507 v1576 v1645 v1714 v1783 v1852 v1921 v1990 v2059 v2128 v2197 v3158), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3158] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3158 k2_hw93 k2_h1 => k2_hw93 k2_h1

def k2_chk94 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3168 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3168] : Fin 1 → IVec S16 32) a x).toNat < S57344.size a)
theorem k2_idx92_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3168 : IVec S16 32) (k2_hw94 : k2_chk94 v58 v127 v196 v265 v334 v403 v472 v541 v610 v679 v748 v817 v886 v955 v1024 v1093 v1162 v1231 v1300 v1369 v1438 v1507 v1576 v1645 v1714 v1783 v1852 v1921 v1990 v2059 v2128 v2197 v3168), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3168] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3168 k2_hw94 k2_h1 => k2_hw94 k2_h1

def k2_chk95 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3178 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3178] : Fin 1 → IVec S16 32) a x).toNat < S57344.size a)
theorem k2_idx93_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3178 : IVec S16 32) (k2_hw95 : k2_chk95 v58 v127 v196 v265 v334 v403 v472 v541 v610 v679 v748 v817 v886 v955 v1024 v1093 v1162 v1231 v1300 v1369 v1438 v1507 v1576 v1645 v1714 v1783 v1852 v1921 v1990 v2059 v2128 v2197 v3178), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3178] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3178 k2_hw95 k2_h1 => k2_hw95 k2_h1

def k2_chk96 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3188 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3188] : Fin 1 → IVec S16 32) a x).toNat < S57344.size a)
theorem k2_idx94_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3188 : IVec S16 32) (k2_hw96 : k2_chk96 v58 v127 v196 v265 v334 v403 v472 v541 v610 v679 v748 v817 v886 v955 v1024 v1093 v1162 v1231 v1300 v1369 v1438 v1507 v1576 v1645 v1714 v1783 v1852 v1921 v1990 v2059 v2128 v2197 v3188), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3188] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3188 k2_hw96 k2_h1 => k2_hw96 k2_h1

def k2_chk97 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3198 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3198] : Fin 1 → IVec S16 32) a x).toNat < S57344.size a)
theorem k2_idx95_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3198 : IVec S16 32) (k2_hw97 : k2_chk97 v58 v127 v196 v265 v334 v403 v472 v541 v610 v679 v748 v817 v886 v955 v1024 v1093 v1162 v1231 v1300 v1369 v1438 v1507 v1576 v1645 v1714 v1783 v1852 v1921 v1990 v2059 v2128 v2197 v3198), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3198] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3198 k2_hw97 k2_h1 => k2_hw97 k2_h1

def k2_chk98 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3208 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3208] : Fin 1 → IVec S16 32) a x).toNat < S57344.size a)
theorem k2_idx96_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3208 : IVec S16 32) (k2_hw98 : k2_chk98 v58 v127 v196 v265 v334 v403 v472 v541 v610 v679 v748 v817 v886 v955 v1024 v1093 v1162 v1231 v1300 v1369 v1438 v1507 v1576 v1645 v1714 v1783 v1852 v1921 v1990 v2059 v2128 v2197 v3208), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3208] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3208 k2_hw98 k2_h1 => k2_hw98 k2_h1

def k2_chk99 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3218 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3218] : Fin 1 → IVec S16 32) a x).toNat < S57344.size a)
theorem k2_idx97_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3218 : IVec S16 32) (k2_hw99 : k2_chk99 v58 v127 v196 v265 v334 v403 v472 v541 v610 v679 v748 v817 v886 v955 v1024 v1093 v1162 v1231 v1300 v1369 v1438 v1507 v1576 v1645 v1714 v1783 v1852 v1921 v1990 v2059 v2128 v2197 v3218), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3218] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3218 k2_hw99 k2_h1 => k2_hw99 k2_h1

def k2_chk100 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3228 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3228] : Fin 1 → IVec S16 32) a x).toNat < S57344.size a)
theorem k2_idx98_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3228 : IVec S16 32) (k2_hw100 : k2_chk100 v58 v127 v196 v265 v334 v403 v472 v541 v610 v679 v748 v817 v886 v955 v1024 v1093 v1162 v1231 v1300 v1369 v1438 v1507 v1576 v1645 v1714 v1783 v1852 v1921 v1990 v2059 v2128 v2197 v3228), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3228] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3228 k2_hw100 k2_h1 => k2_hw100 k2_h1

def k2_chk101 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3238 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3238] : Fin 1 → IVec S16 32) a x).toNat < S57344.size a)
theorem k2_idx99_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3238 : IVec S16 32) (k2_hw101 : k2_chk101 v58 v127 v196 v265 v334 v403 v472 v541 v610 v679 v748 v817 v886 v955 v1024 v1093 v1162 v1231 v1300 v1369 v1438 v1507 v1576 v1645 v1714 v1783 v1852 v1921 v1990 v2059 v2128 v2197 v3238), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3238] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3238 k2_hw101 k2_h1 => k2_hw101 k2_h1

def k2_chk102 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3248 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3248] : Fin 1 → IVec S16 32) a x).toNat < S57344.size a)
theorem k2_idx100_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3248 : IVec S16 32) (k2_hw102 : k2_chk102 v58 v127 v196 v265 v334 v403 v472 v541 v610 v679 v748 v817 v886 v955 v1024 v1093 v1162 v1231 v1300 v1369 v1438 v1507 v1576 v1645 v1714 v1783 v1852 v1921 v1990 v2059 v2128 v2197 v3248), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3248] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3248 k2_hw102 k2_h1 => k2_hw102 k2_h1

def k2_chk103 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3258 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3258] : Fin 1 → IVec S16 32) a x).toNat < S57344.size a)
theorem k2_idx101_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3258 : IVec S16 32) (k2_hw103 : k2_chk103 v58 v127 v196 v265 v334 v403 v472 v541 v610 v679 v748 v817 v886 v955 v1024 v1093 v1162 v1231 v1300 v1369 v1438 v1507 v1576 v1645 v1714 v1783 v1852 v1921 v1990 v2059 v2128 v2197 v3258), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3258] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3258 k2_hw103 k2_h1 => k2_hw103 k2_h1

def k2_chk104 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3268 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3268] : Fin 1 → IVec S16 32) a x).toNat < S57344.size a)
theorem k2_idx102_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3268 : IVec S16 32) (k2_hw104 : k2_chk104 v58 v127 v196 v265 v334 v403 v472 v541 v610 v679 v748 v817 v886 v955 v1024 v1093 v1162 v1231 v1300 v1369 v1438 v1507 v1576 v1645 v1714 v1783 v1852 v1921 v1990 v2059 v2128 v2197 v3268), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3268] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3268 k2_hw104 k2_h1 => k2_hw104 k2_h1

def k2_chk105 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3278 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3278] : Fin 1 → IVec S16 32) a x).toNat < S57344.size a)
theorem k2_idx103_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3278 : IVec S16 32) (k2_hw105 : k2_chk105 v58 v127 v196 v265 v334 v403 v472 v541 v610 v679 v748 v817 v886 v955 v1024 v1093 v1162 v1231 v1300 v1369 v1438 v1507 v1576 v1645 v1714 v1783 v1852 v1921 v1990 v2059 v2128 v2197 v3278), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3278] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3278 k2_hw105 k2_h1 => k2_hw105 k2_h1

def k2_chk106 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3288 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3288] : Fin 1 → IVec S16 32) a x).toNat < S57344.size a)
theorem k2_idx104_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3288 : IVec S16 32) (k2_hw106 : k2_chk106 v58 v127 v196 v265 v334 v403 v472 v541 v610 v679 v748 v817 v886 v955 v1024 v1093 v1162 v1231 v1300 v1369 v1438 v1507 v1576 v1645 v1714 v1783 v1852 v1921 v1990 v2059 v2128 v2197 v3288), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3288] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3288 k2_hw106 k2_h1 => k2_hw106 k2_h1

def k2_chk107 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3298 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3298] : Fin 1 → IVec S16 32) a x).toNat < S57344.size a)
theorem k2_idx105_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3298 : IVec S16 32) (k2_hw107 : k2_chk107 v58 v127 v196 v265 v334 v403 v472 v541 v610 v679 v748 v817 v886 v955 v1024 v1093 v1162 v1231 v1300 v1369 v1438 v1507 v1576 v1645 v1714 v1783 v1852 v1921 v1990 v2059 v2128 v2197 v3298), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3298] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3298 k2_hw107 k2_h1 => k2_hw107 k2_h1

def k2_chk108 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3308 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3308] : Fin 1 → IVec S16 32) a x).toNat < S57344.size a)
theorem k2_idx106_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3308 : IVec S16 32) (k2_hw108 : k2_chk108 v58 v127 v196 v265 v334 v403 v472 v541 v610 v679 v748 v817 v886 v955 v1024 v1093 v1162 v1231 v1300 v1369 v1438 v1507 v1576 v1645 v1714 v1783 v1852 v1921 v1990 v2059 v2128 v2197 v3308), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3308] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3308 k2_hw108 k2_h1 => k2_hw108 k2_h1

def k2_chk109 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3318 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3318] : Fin 1 → IVec S16 32) a x).toNat < S57344.size a)
theorem k2_idx107_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3318 : IVec S16 32) (k2_hw109 : k2_chk109 v58 v127 v196 v265 v334 v403 v472 v541 v610 v679 v748 v817 v886 v955 v1024 v1093 v1162 v1231 v1300 v1369 v1438 v1507 v1576 v1645 v1714 v1783 v1852 v1921 v1990 v2059 v2128 v2197 v3318), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3318] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3318 k2_hw109 k2_h1 => k2_hw109 k2_h1

def k2_chk110 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3328 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3328] : Fin 1 → IVec S16 32) a x).toNat < S57344.size a)
theorem k2_idx108_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3328 : IVec S16 32) (k2_hw110 : k2_chk110 v58 v127 v196 v265 v334 v403 v472 v541 v610 v679 v748 v817 v886 v955 v1024 v1093 v1162 v1231 v1300 v1369 v1438 v1507 v1576 v1645 v1714 v1783 v1852 v1921 v1990 v2059 v2128 v2197 v3328), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3328] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3328 k2_hw110 k2_h1 => k2_hw110 k2_h1

def k2_chk111 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3338 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3338] : Fin 1 → IVec S16 32) a x).toNat < S57344.size a)
theorem k2_idx109_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3338 : IVec S16 32) (k2_hw111 : k2_chk111 v58 v127 v196 v265 v334 v403 v472 v541 v610 v679 v748 v817 v886 v955 v1024 v1093 v1162 v1231 v1300 v1369 v1438 v1507 v1576 v1645 v1714 v1783 v1852 v1921 v1990 v2059 v2128 v2197 v3338), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3338] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3338 k2_hw111 k2_h1 => k2_hw111 k2_h1

def k2_chk112 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3348 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3348] : Fin 1 → IVec S16 32) a x).toNat < S57344.size a)
theorem k2_idx110_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3348 : IVec S16 32) (k2_hw112 : k2_chk112 v58 v127 v196 v265 v334 v403 v472 v541 v610 v679 v748 v817 v886 v955 v1024 v1093 v1162 v1231 v1300 v1369 v1438 v1507 v1576 v1645 v1714 v1783 v1852 v1921 v1990 v2059 v2128 v2197 v3348), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3348] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3348 k2_hw112 k2_h1 => k2_hw112 k2_h1

def k2_chk113 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3358 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3358] : Fin 1 → IVec S16 32) a x).toNat < S57344.size a)
theorem k2_idx111_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3358 : IVec S16 32) (k2_hw113 : k2_chk113 v58 v127 v196 v265 v334 v403 v472 v541 v610 v679 v748 v817 v886 v955 v1024 v1093 v1162 v1231 v1300 v1369 v1438 v1507 v1576 v1645 v1714 v1783 v1852 v1921 v1990 v2059 v2128 v2197 v3358), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3358] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3358 k2_hw113 k2_h1 => k2_hw113 k2_h1

def k2_chk114 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3368 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3368] : Fin 1 → IVec S16 32) a x).toNat < S57344.size a)
theorem k2_idx112_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3368 : IVec S16 32) (k2_hw114 : k2_chk114 v58 v127 v196 v265 v334 v403 v472 v541 v610 v679 v748 v817 v886 v955 v1024 v1093 v1162 v1231 v1300 v1369 v1438 v1507 v1576 v1645 v1714 v1783 v1852 v1921 v1990 v2059 v2128 v2197 v3368), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3368] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3368 k2_hw114 k2_h1 => k2_hw114 k2_h1

def k2_chk115 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3378 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3378] : Fin 1 → IVec S16 32) a x).toNat < S57344.size a)
theorem k2_idx113_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3378 : IVec S16 32) (k2_hw115 : k2_chk115 v58 v127 v196 v265 v334 v403 v472 v541 v610 v679 v748 v817 v886 v955 v1024 v1093 v1162 v1231 v1300 v1369 v1438 v1507 v1576 v1645 v1714 v1783 v1852 v1921 v1990 v2059 v2128 v2197 v3378), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3378] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3378 k2_hw115 k2_h1 => k2_hw115 k2_h1

def k2_chk116 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3388 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3388] : Fin 1 → IVec S16 32) a x).toNat < S57344.size a)
theorem k2_idx114_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3388 : IVec S16 32) (k2_hw116 : k2_chk116 v58 v127 v196 v265 v334 v403 v472 v541 v610 v679 v748 v817 v886 v955 v1024 v1093 v1162 v1231 v1300 v1369 v1438 v1507 v1576 v1645 v1714 v1783 v1852 v1921 v1990 v2059 v2128 v2197 v3388), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3388] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3388 k2_hw116 k2_h1 => k2_hw116 k2_h1

def k2_chk117 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3398 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3398] : Fin 1 → IVec S16 32) a x).toNat < S57344.size a)
theorem k2_idx115_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3398 : IVec S16 32) (k2_hw117 : k2_chk117 v58 v127 v196 v265 v334 v403 v472 v541 v610 v679 v748 v817 v886 v955 v1024 v1093 v1162 v1231 v1300 v1369 v1438 v1507 v1576 v1645 v1714 v1783 v1852 v1921 v1990 v2059 v2128 v2197 v3398), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3398] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3398 k2_hw117 k2_h1 => k2_hw117 k2_h1

def k2_chk118 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3408 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3408] : Fin 1 → IVec S16 32) a x).toNat < S57344.size a)
theorem k2_idx116_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3408 : IVec S16 32) (k2_hw118 : k2_chk118 v58 v127 v196 v265 v334 v403 v472 v541 v610 v679 v748 v817 v886 v955 v1024 v1093 v1162 v1231 v1300 v1369 v1438 v1507 v1576 v1645 v1714 v1783 v1852 v1921 v1990 v2059 v2128 v2197 v3408), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3408] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3408 k2_hw118 k2_h1 => k2_hw118 k2_h1

def k2_chk119 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3418 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3418] : Fin 1 → IVec S16 32) a x).toNat < S57344.size a)
theorem k2_idx117_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3418 : IVec S16 32) (k2_hw119 : k2_chk119 v58 v127 v196 v265 v334 v403 v472 v541 v610 v679 v748 v817 v886 v955 v1024 v1093 v1162 v1231 v1300 v1369 v1438 v1507 v1576 v1645 v1714 v1783 v1852 v1921 v1990 v2059 v2128 v2197 v3418), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3418] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3418 k2_hw119 k2_h1 => k2_hw119 k2_h1

def k2_chk120 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3428 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3428] : Fin 1 → IVec S16 32) a x).toNat < S57344.size a)
theorem k2_idx118_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3428 : IVec S16 32) (k2_hw120 : k2_chk120 v58 v127 v196 v265 v334 v403 v472 v541 v610 v679 v748 v817 v886 v955 v1024 v1093 v1162 v1231 v1300 v1369 v1438 v1507 v1576 v1645 v1714 v1783 v1852 v1921 v1990 v2059 v2128 v2197 v3428), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3428] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3428 k2_hw120 k2_h1 => k2_hw120 k2_h1

def k2_chk121 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3438 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3438] : Fin 1 → IVec S16 32) a x).toNat < S57344.size a)
theorem k2_idx119_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3438 : IVec S16 32) (k2_hw121 : k2_chk121 v58 v127 v196 v265 v334 v403 v472 v541 v610 v679 v748 v817 v886 v955 v1024 v1093 v1162 v1231 v1300 v1369 v1438 v1507 v1576 v1645 v1714 v1783 v1852 v1921 v1990 v2059 v2128 v2197 v3438), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3438] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3438 k2_hw121 k2_h1 => k2_hw121 k2_h1

def k2_chk122 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3448 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3448] : Fin 1 → IVec S16 32) a x).toNat < S57344.size a)
theorem k2_idx120_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3448 : IVec S16 32) (k2_hw122 : k2_chk122 v58 v127 v196 v265 v334 v403 v472 v541 v610 v679 v748 v817 v886 v955 v1024 v1093 v1162 v1231 v1300 v1369 v1438 v1507 v1576 v1645 v1714 v1783 v1852 v1921 v1990 v2059 v2128 v2197 v3448), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3448] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3448 k2_hw122 k2_h1 => k2_hw122 k2_h1

def k2_chk123 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3458 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3458] : Fin 1 → IVec S16 32) a x).toNat < S57344.size a)
theorem k2_idx121_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3458 : IVec S16 32) (k2_hw123 : k2_chk123 v58 v127 v196 v265 v334 v403 v472 v541 v610 v679 v748 v817 v886 v955 v1024 v1093 v1162 v1231 v1300 v1369 v1438 v1507 v1576 v1645 v1714 v1783 v1852 v1921 v1990 v2059 v2128 v2197 v3458), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3458] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3458 k2_hw123 k2_h1 => k2_hw123 k2_h1

def k2_chk124 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3468 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3468] : Fin 1 → IVec S16 32) a x).toNat < S57344.size a)
theorem k2_idx122_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3468 : IVec S16 32) (k2_hw124 : k2_chk124 v58 v127 v196 v265 v334 v403 v472 v541 v610 v679 v748 v817 v886 v955 v1024 v1093 v1162 v1231 v1300 v1369 v1438 v1507 v1576 v1645 v1714 v1783 v1852 v1921 v1990 v2059 v2128 v2197 v3468), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3468] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3468 k2_hw124 k2_h1 => k2_hw124 k2_h1

def k2_chk125 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3478 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3478] : Fin 1 → IVec S16 32) a x).toNat < S57344.size a)
theorem k2_idx123_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3478 : IVec S16 32) (k2_hw125 : k2_chk125 v58 v127 v196 v265 v334 v403 v472 v541 v610 v679 v748 v817 v886 v955 v1024 v1093 v1162 v1231 v1300 v1369 v1438 v1507 v1576 v1645 v1714 v1783 v1852 v1921 v1990 v2059 v2128 v2197 v3478), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3478] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3478 k2_hw125 k2_h1 => k2_hw125 k2_h1

def k2_chk126 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3488 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3488] : Fin 1 → IVec S16 32) a x).toNat < S57344.size a)
theorem k2_idx124_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3488 : IVec S16 32) (k2_hw126 : k2_chk126 v58 v127 v196 v265 v334 v403 v472 v541 v610 v679 v748 v817 v886 v955 v1024 v1093 v1162 v1231 v1300 v1369 v1438 v1507 v1576 v1645 v1714 v1783 v1852 v1921 v1990 v2059 v2128 v2197 v3488), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3488] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3488 k2_hw126 k2_h1 => k2_hw126 k2_h1

def k2_chk127 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3498 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3498] : Fin 1 → IVec S16 32) a x).toNat < S57344.size a)
theorem k2_idx125_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3498 : IVec S16 32) (k2_hw127 : k2_chk127 v58 v127 v196 v265 v334 v403 v472 v541 v610 v679 v748 v817 v886 v955 v1024 v1093 v1162 v1231 v1300 v1369 v1438 v1507 v1576 v1645 v1714 v1783 v1852 v1921 v1990 v2059 v2128 v2197 v3498), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3498] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3498 k2_hw127 k2_h1 => k2_hw127 k2_h1

def k2_chk128 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3508 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3508] : Fin 1 → IVec S16 32) a x).toNat < S57344.size a)
theorem k2_idx126_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3508 : IVec S16 32) (k2_hw128 : k2_chk128 v58 v127 v196 v265 v334 v403 v472 v541 v610 v679 v748 v817 v886 v955 v1024 v1093 v1162 v1231 v1300 v1369 v1438 v1507 v1576 v1645 v1714 v1783 v1852 v1921 v1990 v2059 v2128 v2197 v3508), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3508] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3508 k2_hw128 k2_h1 => k2_hw128 k2_h1

def k2_chk129 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3518 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3518] : Fin 1 → IVec S16 32) a x).toNat < S57344.size a)
theorem k2_idx127_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3518 : IVec S16 32) (k2_hw129 : k2_chk129 v58 v127 v196 v265 v334 v403 v472 v541 v610 v679 v748 v817 v886 v955 v1024 v1093 v1162 v1231 v1300 v1369 v1438 v1507 v1576 v1645 v1714 v1783 v1852 v1921 v1990 v2059 v2128 v2197 v3518), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3518] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3518 k2_hw129 k2_h1 => k2_hw129 k2_h1

def k2_chk130 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3528 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3528] : Fin 1 → IVec S16 32) a x).toNat < S57344.size a)
theorem k2_idx128_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3528 : IVec S16 32) (k2_hw130 : k2_chk130 v58 v127 v196 v265 v334 v403 v472 v541 v610 v679 v748 v817 v886 v955 v1024 v1093 v1162 v1231 v1300 v1369 v1438 v1507 v1576 v1645 v1714 v1783 v1852 v1921 v1990 v2059 v2128 v2197 v3528), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3528] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3528 k2_hw130 k2_h1 => k2_hw130 k2_h1

def k2_chk131 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3538 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3538] : Fin 1 → IVec S16 32) a x).toNat < S57344.size a)
theorem k2_idx129_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3538 : IVec S16 32) (k2_hw131 : k2_chk131 v58 v127 v196 v265 v334 v403 v472 v541 v610 v679 v748 v817 v886 v955 v1024 v1093 v1162 v1231 v1300 v1369 v1438 v1507 v1576 v1645 v1714 v1783 v1852 v1921 v1990 v2059 v2128 v2197 v3538), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3538] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3538 k2_hw131 k2_h1 => k2_hw131 k2_h1

def k2_chk132 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3548 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3548] : Fin 1 → IVec S16 32) a x).toNat < S57344.size a)
theorem k2_idx130_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3548 : IVec S16 32) (k2_hw132 : k2_chk132 v58 v127 v196 v265 v334 v403 v472 v541 v610 v679 v748 v817 v886 v955 v1024 v1093 v1162 v1231 v1300 v1369 v1438 v1507 v1576 v1645 v1714 v1783 v1852 v1921 v1990 v2059 v2128 v2197 v3548), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3548] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3548 k2_hw132 k2_h1 => k2_hw132 k2_h1
@[reducible] def k2_t3_loop (v2239 : BitVec 32) : Scf.Loop 32 :=
  let c0_i32_780 : BitVec 32 := 0#32
  let c2048_i32 : BitVec 32 := 2048#32
  let v2240 : BitVec 32 := Scalar.addi v2239 c2048_i32
  let c1_i32_772 : BitVec 32 := 1#32
  let v2241 : BitVec 32 := Scalar.subi v2240 c1_i32_772
  let c0_i32_774 : BitVec 32 := 0#32
  let v2243 : BitVec 1 := Scalar.cmpi .sgt v2241 c0_i32_774
  let v2244 : BitVec 32 := Scalar.extui v2243
  let c0_i32_775 : BitVec 32 := 0#32
  let v2245 : BitVec 1 := Scalar.cmpi .slt v2241 c0_i32_775
  let v2246 : BitVec 32 := Scalar.extui v2245
  let v2247 : BitVec 32 := Scalar.subi v2244 v2246
  let c2048_i32_773 : BitVec 32 := 2048#32
  let c0_i32_776 : BitVec 32 := 0#32
  let v2248 : BitVec 1 := Scalar.cmpi .sgt c2048_i32_773 c0_i32_776
  let v2249 : BitVec 32 := Scalar.extui v2248
  let c0_i32_777 : BitVec 32 := 0#32
  let v2250 : BitVec 1 := Scalar.cmpi .slt c2048_i32_773 c0_i32_777
  let v2251 : BitVec 32 := Scalar.extui v2250
  let v2252 : BitVec 32 := Scalar.subi v2249 v2251
  let v2253 : BitVec 1 := Scalar.cmpi .ne v2247 v2252
  let v2254 : BitVec 32 := Scalar.remsi v2241 c2048_i32_773
  let c0_i32_778 : BitVec 32 := 0#32
  let v2255 : BitVec 1 := Scalar.cmpi .ne v2254 c0_i32_778
  let v2256 : BitVec 1 := Scalar.andi v2253 v2255
  let v2242 : BitVec 32 := Scalar.divsi v2241 c2048_i32_773
  let c1_i32_779 : BitVec 32 := 1#32
  let v2257 : BitVec 32 := Scalar.subi v2242 c1_i32_779
  let v2258 : BitVec 32 := Scalar.select v2256 v2257 v2242
  let v2259 : BitVec 32 := Scalar.subi v2258 c0_i32_780
  let c1_i32_781 : BitVec 32 := 1#32
  let v2261 : BitVec 32 := Scalar.divsi v2259 c1_i32_781
  let v2262 : BitVec 32 := Scalar.muli v2261 c1_i32_781
  let v2263 : BitVec 32 := Scalar.addi c0_i32_780 v2262
  let v2260 : BitVec 32 := Scalar.addi c0_i32_780 v2259
  let c1_i32_783 : BitVec 32 := 1#32
  ⟨v2263, v2260, c1_i32_783⟩
def k2_off2 (v2228 : BitVec 32) (v2239 : BitVec 32) (k2_t3 : Fin (k2_t3_loop v2239).trips) : Fin 1 → Nat :=
  let v2229 : BitVec 32 := v2228
  let c0_i32_780 : BitVec 32 := 0#32
  let c2048_i32 : BitVec 32 := 2048#32
  let v2240 : BitVec 32 := Scalar.addi v2239 c2048_i32
  let c1_i32_772 : BitVec 32 := 1#32
  let v2241 : BitVec 32 := Scalar.subi v2240 c1_i32_772
  let c0_i32_774 : BitVec 32 := 0#32
  let v2243 : BitVec 1 := Scalar.cmpi .sgt v2241 c0_i32_774
  let v2244 : BitVec 32 := Scalar.extui v2243
  let c0_i32_775 : BitVec 32 := 0#32
  let v2245 : BitVec 1 := Scalar.cmpi .slt v2241 c0_i32_775
  let v2246 : BitVec 32 := Scalar.extui v2245
  let v2247 : BitVec 32 := Scalar.subi v2244 v2246
  let c2048_i32_773 : BitVec 32 := 2048#32
  let c0_i32_776 : BitVec 32 := 0#32
  let v2248 : BitVec 1 := Scalar.cmpi .sgt c2048_i32_773 c0_i32_776
  let v2249 : BitVec 32 := Scalar.extui v2248
  let c0_i32_777 : BitVec 32 := 0#32
  let v2250 : BitVec 1 := Scalar.cmpi .slt c2048_i32_773 c0_i32_777
  let v2251 : BitVec 32 := Scalar.extui v2250
  let v2252 : BitVec 32 := Scalar.subi v2249 v2251
  let v2253 : BitVec 1 := Scalar.cmpi .ne v2247 v2252
  let v2254 : BitVec 32 := Scalar.remsi v2241 c2048_i32_773
  let c0_i32_778 : BitVec 32 := 0#32
  let v2255 : BitVec 1 := Scalar.cmpi .ne v2254 c0_i32_778
  let v2256 : BitVec 1 := Scalar.andi v2253 v2255
  let v2242 : BitVec 32 := Scalar.divsi v2241 c2048_i32_773
  let c1_i32_779 : BitVec 32 := 1#32
  let v2257 : BitVec 32 := Scalar.subi v2242 c1_i32_779
  let v2258 : BitVec 32 := Scalar.select v2256 v2257 v2242
  let v2259 : BitVec 32 := Scalar.subi v2258 c0_i32_780
  let c1_i32_781 : BitVec 32 := 1#32
  let v2261 : BitVec 32 := Scalar.divsi v2259 c1_i32_781
  let v2262 : BitVec 32 := Scalar.muli v2261 c1_i32_781
  let v2263 : BitVec 32 := Scalar.addi c0_i32_780 v2262
  let c1_i32_783 : BitVec 32 := 1#32
  let arg16 : BitVec 32 := Scf.iv v2263 c1_i32_783 k2_t3
  let c2048_i32_784 : BitVec 32 := 2048#32
  let v2266 : BitVec 32 := Scalar.muli arg16 c2048_i32_784
  let v2267 : BitVec 32 := Scalar.addi v2229 v2266
  ![v2267.toNat]

def k2_chk4 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2228 : BitVec 32) (v2239 : BitVec 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t2_loop v2239).OK) ∧
  (∀ k2_t2 : Fin (k2_t2_loop v2239).trips, ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off1 v2228 v2239 k2_t2) a + S2048.size a ≤ S1010688.size a) ∧
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t3_loop v2239).OK) ∧
  (∀ k2_t3 : Fin (k2_t3_loop v2239).trips, ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off2 v2228 v2239 k2_t3) a + S2048.size a ≤ S1010688.size a)
theorem k2_t2_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2228 : BitVec 32) (v2239 : BitVec 32) (k2_hw4 : k2_chk4 v58 v127 v196 v265 v334 v403 v472 v541 v610 v679 v748 v817 v886 v955 v1024 v1093 v1162 v1231 v1300 v1369 v1438 v1507 v1576 v1645 v1714 v1783 v1852 v1921 v1990 v2059 v2128 v2197 v2228 v2239), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t2_loop v2239).OK := fun v58 v127 v196 v265 v334 v403 v472 v541 v610 v679 v748 v817 v886 v955 v1024 v1093 v1162 v1231 v1300 v1369 v1438 v1507 v1576 v1645 v1714 v1783 v1852 v1921 v1990 v2059 v2128 v2197 v2228 v2239 k2_hw4 k2_h1 => k2_hw4.1 k2_h1
theorem k2_off1_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2228 : BitVec 32) (v2239 : BitVec 32) (k2_hw4 : k2_chk4 v58 v127 v196 v265 v334 v403 v472 v541 v610 v679 v748 v817 v886 v955 v1024 v1093 v1162 v1231 v1300 v1369 v1438 v1507 v1576 v1645 v1714 v1783 v1852 v1921 v1990 v2059 v2128 v2197 v2228 v2239) (k2_t2 : Fin (k2_t2_loop v2239).trips), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off1 v2228 v2239 k2_t2) a + S2048.size a ≤ S1010688.size a := fun v58 v127 v196 v265 v334 v403 v472 v541 v610 v679 v748 v817 v886 v955 v1024 v1093 v1162 v1231 v1300 v1369 v1438 v1507 v1576 v1645 v1714 v1783 v1852 v1921 v1990 v2059 v2128 v2197 v2228 v2239 k2_hw4 k2_t2 k2_h1 => k2_hw4.2.1 k2_t2 k2_h1
theorem k2_t3_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2228 : BitVec 32) (v2239 : BitVec 32) (k2_hw4 : k2_chk4 v58 v127 v196 v265 v334 v403 v472 v541 v610 v679 v748 v817 v886 v955 v1024 v1093 v1162 v1231 v1300 v1369 v1438 v1507 v1576 v1645 v1714 v1783 v1852 v1921 v1990 v2059 v2128 v2197 v2228 v2239), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t3_loop v2239).OK := fun v58 v127 v196 v265 v334 v403 v472 v541 v610 v679 v748 v817 v886 v955 v1024 v1093 v1162 v1231 v1300 v1369 v1438 v1507 v1576 v1645 v1714 v1783 v1852 v1921 v1990 v2059 v2128 v2197 v2228 v2239 k2_hw4 k2_h1 => k2_hw4.2.2.1 k2_h1
theorem k2_off2_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2228 : BitVec 32) (v2239 : BitVec 32) (k2_hw4 : k2_chk4 v58 v127 v196 v265 v334 v403 v472 v541 v610 v679 v748 v817 v886 v955 v1024 v1093 v1162 v1231 v1300 v1369 v1438 v1507 v1576 v1645 v1714 v1783 v1852 v1921 v1990 v2059 v2128 v2197 v2228 v2239) (k2_t3 : Fin (k2_t3_loop v2239).trips), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off2 v2228 v2239 k2_t3) a + S2048.size a ≤ S1010688.size a := fun v58 v127 v196 v265 v334 v403 v472 v541 v610 v679 v748 v817 v886 v955 v1024 v1093 v1162 v1231 v1300 v1369 v1438 v1507 v1576 v1645 v1714 v1783 v1852 v1921 v1990 v2059 v2128 v2197 v2228 v2239 k2_hw4 k2_t3 k2_h1 => k2_hw4.2.2.2 k2_t3 k2_h1

def k2_chk133 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2278 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2278] : Fin 1 → IVec S16 32) a x).toNat < S57344.size a)
theorem k2_idx131_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2278 : IVec S16 32) (k2_hw133 : k2_chk133 v58 v127 v196 v265 v334 v403 v472 v541 v610 v679 v748 v817 v886 v955 v1024 v1093 v1162 v1231 v1300 v1369 v1438 v1507 v1576 v1645 v1714 v1783 v1852 v1921 v1990 v2059 v2128 v2197 v2278), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2278] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2278 k2_hw133 k2_h1 => k2_hw133 k2_h1

def k2_chk134 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2288 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2288] : Fin 1 → IVec S16 32) a x).toNat < S57344.size a)
theorem k2_idx132_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2288 : IVec S16 32) (k2_hw134 : k2_chk134 v58 v127 v196 v265 v334 v403 v472 v541 v610 v679 v748 v817 v886 v955 v1024 v1093 v1162 v1231 v1300 v1369 v1438 v1507 v1576 v1645 v1714 v1783 v1852 v1921 v1990 v2059 v2128 v2197 v2288), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2288] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2288 k2_hw134 k2_h1 => k2_hw134 k2_h1

def k2_chk135 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2298 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2298] : Fin 1 → IVec S16 32) a x).toNat < S57344.size a)
theorem k2_idx133_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2298 : IVec S16 32) (k2_hw135 : k2_chk135 v58 v127 v196 v265 v334 v403 v472 v541 v610 v679 v748 v817 v886 v955 v1024 v1093 v1162 v1231 v1300 v1369 v1438 v1507 v1576 v1645 v1714 v1783 v1852 v1921 v1990 v2059 v2128 v2197 v2298), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2298] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2298 k2_hw135 k2_h1 => k2_hw135 k2_h1

def k2_chk136 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2308 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2308] : Fin 1 → IVec S16 32) a x).toNat < S57344.size a)
theorem k2_idx134_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2308 : IVec S16 32) (k2_hw136 : k2_chk136 v58 v127 v196 v265 v334 v403 v472 v541 v610 v679 v748 v817 v886 v955 v1024 v1093 v1162 v1231 v1300 v1369 v1438 v1507 v1576 v1645 v1714 v1783 v1852 v1921 v1990 v2059 v2128 v2197 v2308), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2308] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2308 k2_hw136 k2_h1 => k2_hw136 k2_h1

def k2_chk137 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2318 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2318] : Fin 1 → IVec S16 32) a x).toNat < S57344.size a)
theorem k2_idx135_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2318 : IVec S16 32) (k2_hw137 : k2_chk137 v58 v127 v196 v265 v334 v403 v472 v541 v610 v679 v748 v817 v886 v955 v1024 v1093 v1162 v1231 v1300 v1369 v1438 v1507 v1576 v1645 v1714 v1783 v1852 v1921 v1990 v2059 v2128 v2197 v2318), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2318] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2318 k2_hw137 k2_h1 => k2_hw137 k2_h1

def k2_chk138 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2328 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2328] : Fin 1 → IVec S16 32) a x).toNat < S57344.size a)
theorem k2_idx136_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2328 : IVec S16 32) (k2_hw138 : k2_chk138 v58 v127 v196 v265 v334 v403 v472 v541 v610 v679 v748 v817 v886 v955 v1024 v1093 v1162 v1231 v1300 v1369 v1438 v1507 v1576 v1645 v1714 v1783 v1852 v1921 v1990 v2059 v2128 v2197 v2328), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2328] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2328 k2_hw138 k2_h1 => k2_hw138 k2_h1

def k2_chk139 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2338 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2338] : Fin 1 → IVec S16 32) a x).toNat < S57344.size a)
theorem k2_idx137_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2338 : IVec S16 32) (k2_hw139 : k2_chk139 v58 v127 v196 v265 v334 v403 v472 v541 v610 v679 v748 v817 v886 v955 v1024 v1093 v1162 v1231 v1300 v1369 v1438 v1507 v1576 v1645 v1714 v1783 v1852 v1921 v1990 v2059 v2128 v2197 v2338), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2338] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2338 k2_hw139 k2_h1 => k2_hw139 k2_h1

def k2_chk140 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2348 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2348] : Fin 1 → IVec S16 32) a x).toNat < S57344.size a)
theorem k2_idx138_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2348 : IVec S16 32) (k2_hw140 : k2_chk140 v58 v127 v196 v265 v334 v403 v472 v541 v610 v679 v748 v817 v886 v955 v1024 v1093 v1162 v1231 v1300 v1369 v1438 v1507 v1576 v1645 v1714 v1783 v1852 v1921 v1990 v2059 v2128 v2197 v2348), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2348] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2348 k2_hw140 k2_h1 => k2_hw140 k2_h1

def k2_chk141 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2358 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2358] : Fin 1 → IVec S16 32) a x).toNat < S57344.size a)
theorem k2_idx139_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2358 : IVec S16 32) (k2_hw141 : k2_chk141 v58 v127 v196 v265 v334 v403 v472 v541 v610 v679 v748 v817 v886 v955 v1024 v1093 v1162 v1231 v1300 v1369 v1438 v1507 v1576 v1645 v1714 v1783 v1852 v1921 v1990 v2059 v2128 v2197 v2358), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2358] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2358 k2_hw141 k2_h1 => k2_hw141 k2_h1

def k2_chk142 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2368 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2368] : Fin 1 → IVec S16 32) a x).toNat < S57344.size a)
theorem k2_idx140_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2368 : IVec S16 32) (k2_hw142 : k2_chk142 v58 v127 v196 v265 v334 v403 v472 v541 v610 v679 v748 v817 v886 v955 v1024 v1093 v1162 v1231 v1300 v1369 v1438 v1507 v1576 v1645 v1714 v1783 v1852 v1921 v1990 v2059 v2128 v2197 v2368), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2368] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2368 k2_hw142 k2_h1 => k2_hw142 k2_h1

def k2_chk143 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2378 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2378] : Fin 1 → IVec S16 32) a x).toNat < S57344.size a)
theorem k2_idx141_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2378 : IVec S16 32) (k2_hw143 : k2_chk143 v58 v127 v196 v265 v334 v403 v472 v541 v610 v679 v748 v817 v886 v955 v1024 v1093 v1162 v1231 v1300 v1369 v1438 v1507 v1576 v1645 v1714 v1783 v1852 v1921 v1990 v2059 v2128 v2197 v2378), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2378] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2378 k2_hw143 k2_h1 => k2_hw143 k2_h1

def k2_chk144 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2388 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2388] : Fin 1 → IVec S16 32) a x).toNat < S57344.size a)
theorem k2_idx142_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2388 : IVec S16 32) (k2_hw144 : k2_chk144 v58 v127 v196 v265 v334 v403 v472 v541 v610 v679 v748 v817 v886 v955 v1024 v1093 v1162 v1231 v1300 v1369 v1438 v1507 v1576 v1645 v1714 v1783 v1852 v1921 v1990 v2059 v2128 v2197 v2388), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2388] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2388 k2_hw144 k2_h1 => k2_hw144 k2_h1

def k2_chk145 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2398 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2398] : Fin 1 → IVec S16 32) a x).toNat < S57344.size a)
theorem k2_idx143_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2398 : IVec S16 32) (k2_hw145 : k2_chk145 v58 v127 v196 v265 v334 v403 v472 v541 v610 v679 v748 v817 v886 v955 v1024 v1093 v1162 v1231 v1300 v1369 v1438 v1507 v1576 v1645 v1714 v1783 v1852 v1921 v1990 v2059 v2128 v2197 v2398), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2398] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2398 k2_hw145 k2_h1 => k2_hw145 k2_h1

def k2_chk146 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2408 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2408] : Fin 1 → IVec S16 32) a x).toNat < S57344.size a)
theorem k2_idx144_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2408 : IVec S16 32) (k2_hw146 : k2_chk146 v58 v127 v196 v265 v334 v403 v472 v541 v610 v679 v748 v817 v886 v955 v1024 v1093 v1162 v1231 v1300 v1369 v1438 v1507 v1576 v1645 v1714 v1783 v1852 v1921 v1990 v2059 v2128 v2197 v2408), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2408] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2408 k2_hw146 k2_h1 => k2_hw146 k2_h1

def k2_chk147 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2418 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2418] : Fin 1 → IVec S16 32) a x).toNat < S57344.size a)
theorem k2_idx145_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2418 : IVec S16 32) (k2_hw147 : k2_chk147 v58 v127 v196 v265 v334 v403 v472 v541 v610 v679 v748 v817 v886 v955 v1024 v1093 v1162 v1231 v1300 v1369 v1438 v1507 v1576 v1645 v1714 v1783 v1852 v1921 v1990 v2059 v2128 v2197 v2418), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2418] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2418 k2_hw147 k2_h1 => k2_hw147 k2_h1

def k2_chk148 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2428 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2428] : Fin 1 → IVec S16 32) a x).toNat < S57344.size a)
theorem k2_idx146_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2428 : IVec S16 32) (k2_hw148 : k2_chk148 v58 v127 v196 v265 v334 v403 v472 v541 v610 v679 v748 v817 v886 v955 v1024 v1093 v1162 v1231 v1300 v1369 v1438 v1507 v1576 v1645 v1714 v1783 v1852 v1921 v1990 v2059 v2128 v2197 v2428), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2428] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2428 k2_hw148 k2_h1 => k2_hw148 k2_h1

def k2_chk149 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2438 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2438] : Fin 1 → IVec S16 32) a x).toNat < S57344.size a)
theorem k2_idx147_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2438 : IVec S16 32) (k2_hw149 : k2_chk149 v58 v127 v196 v265 v334 v403 v472 v541 v610 v679 v748 v817 v886 v955 v1024 v1093 v1162 v1231 v1300 v1369 v1438 v1507 v1576 v1645 v1714 v1783 v1852 v1921 v1990 v2059 v2128 v2197 v2438), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2438] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2438 k2_hw149 k2_h1 => k2_hw149 k2_h1

def k2_chk150 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2448 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2448] : Fin 1 → IVec S16 32) a x).toNat < S57344.size a)
theorem k2_idx148_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2448 : IVec S16 32) (k2_hw150 : k2_chk150 v58 v127 v196 v265 v334 v403 v472 v541 v610 v679 v748 v817 v886 v955 v1024 v1093 v1162 v1231 v1300 v1369 v1438 v1507 v1576 v1645 v1714 v1783 v1852 v1921 v1990 v2059 v2128 v2197 v2448), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2448] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2448 k2_hw150 k2_h1 => k2_hw150 k2_h1

def k2_chk151 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2458 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2458] : Fin 1 → IVec S16 32) a x).toNat < S57344.size a)
theorem k2_idx149_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2458 : IVec S16 32) (k2_hw151 : k2_chk151 v58 v127 v196 v265 v334 v403 v472 v541 v610 v679 v748 v817 v886 v955 v1024 v1093 v1162 v1231 v1300 v1369 v1438 v1507 v1576 v1645 v1714 v1783 v1852 v1921 v1990 v2059 v2128 v2197 v2458), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2458] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2458 k2_hw151 k2_h1 => k2_hw151 k2_h1

def k2_chk152 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2468 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2468] : Fin 1 → IVec S16 32) a x).toNat < S57344.size a)
theorem k2_idx150_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2468 : IVec S16 32) (k2_hw152 : k2_chk152 v58 v127 v196 v265 v334 v403 v472 v541 v610 v679 v748 v817 v886 v955 v1024 v1093 v1162 v1231 v1300 v1369 v1438 v1507 v1576 v1645 v1714 v1783 v1852 v1921 v1990 v2059 v2128 v2197 v2468), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2468] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2468 k2_hw152 k2_h1 => k2_hw152 k2_h1

def k2_chk153 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2478 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2478] : Fin 1 → IVec S16 32) a x).toNat < S57344.size a)
theorem k2_idx151_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2478 : IVec S16 32) (k2_hw153 : k2_chk153 v58 v127 v196 v265 v334 v403 v472 v541 v610 v679 v748 v817 v886 v955 v1024 v1093 v1162 v1231 v1300 v1369 v1438 v1507 v1576 v1645 v1714 v1783 v1852 v1921 v1990 v2059 v2128 v2197 v2478), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2478] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2478 k2_hw153 k2_h1 => k2_hw153 k2_h1

def k2_chk154 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2488 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2488] : Fin 1 → IVec S16 32) a x).toNat < S57344.size a)
theorem k2_idx152_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2488 : IVec S16 32) (k2_hw154 : k2_chk154 v58 v127 v196 v265 v334 v403 v472 v541 v610 v679 v748 v817 v886 v955 v1024 v1093 v1162 v1231 v1300 v1369 v1438 v1507 v1576 v1645 v1714 v1783 v1852 v1921 v1990 v2059 v2128 v2197 v2488), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2488] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2488 k2_hw154 k2_h1 => k2_hw154 k2_h1

def k2_chk155 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2498 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2498] : Fin 1 → IVec S16 32) a x).toNat < S57344.size a)
theorem k2_idx153_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2498 : IVec S16 32) (k2_hw155 : k2_chk155 v58 v127 v196 v265 v334 v403 v472 v541 v610 v679 v748 v817 v886 v955 v1024 v1093 v1162 v1231 v1300 v1369 v1438 v1507 v1576 v1645 v1714 v1783 v1852 v1921 v1990 v2059 v2128 v2197 v2498), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2498] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2498 k2_hw155 k2_h1 => k2_hw155 k2_h1

def k2_chk156 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2508 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2508] : Fin 1 → IVec S16 32) a x).toNat < S57344.size a)
theorem k2_idx154_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2508 : IVec S16 32) (k2_hw156 : k2_chk156 v58 v127 v196 v265 v334 v403 v472 v541 v610 v679 v748 v817 v886 v955 v1024 v1093 v1162 v1231 v1300 v1369 v1438 v1507 v1576 v1645 v1714 v1783 v1852 v1921 v1990 v2059 v2128 v2197 v2508), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2508] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2508 k2_hw156 k2_h1 => k2_hw156 k2_h1

def k2_chk157 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2518 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2518] : Fin 1 → IVec S16 32) a x).toNat < S57344.size a)
theorem k2_idx155_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2518 : IVec S16 32) (k2_hw157 : k2_chk157 v58 v127 v196 v265 v334 v403 v472 v541 v610 v679 v748 v817 v886 v955 v1024 v1093 v1162 v1231 v1300 v1369 v1438 v1507 v1576 v1645 v1714 v1783 v1852 v1921 v1990 v2059 v2128 v2197 v2518), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2518] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2518 k2_hw157 k2_h1 => k2_hw157 k2_h1

def k2_chk158 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2528 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2528] : Fin 1 → IVec S16 32) a x).toNat < S57344.size a)
theorem k2_idx156_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2528 : IVec S16 32) (k2_hw158 : k2_chk158 v58 v127 v196 v265 v334 v403 v472 v541 v610 v679 v748 v817 v886 v955 v1024 v1093 v1162 v1231 v1300 v1369 v1438 v1507 v1576 v1645 v1714 v1783 v1852 v1921 v1990 v2059 v2128 v2197 v2528), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2528] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2528 k2_hw158 k2_h1 => k2_hw158 k2_h1

def k2_chk159 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2538 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2538] : Fin 1 → IVec S16 32) a x).toNat < S57344.size a)
theorem k2_idx157_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2538 : IVec S16 32) (k2_hw159 : k2_chk159 v58 v127 v196 v265 v334 v403 v472 v541 v610 v679 v748 v817 v886 v955 v1024 v1093 v1162 v1231 v1300 v1369 v1438 v1507 v1576 v1645 v1714 v1783 v1852 v1921 v1990 v2059 v2128 v2197 v2538), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2538] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2538 k2_hw159 k2_h1 => k2_hw159 k2_h1

def k2_chk160 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2548 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2548] : Fin 1 → IVec S16 32) a x).toNat < S57344.size a)
theorem k2_idx158_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2548 : IVec S16 32) (k2_hw160 : k2_chk160 v58 v127 v196 v265 v334 v403 v472 v541 v610 v679 v748 v817 v886 v955 v1024 v1093 v1162 v1231 v1300 v1369 v1438 v1507 v1576 v1645 v1714 v1783 v1852 v1921 v1990 v2059 v2128 v2197 v2548), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2548] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2548 k2_hw160 k2_h1 => k2_hw160 k2_h1

def k2_chk161 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2558 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2558] : Fin 1 → IVec S16 32) a x).toNat < S57344.size a)
theorem k2_idx159_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2558 : IVec S16 32) (k2_hw161 : k2_chk161 v58 v127 v196 v265 v334 v403 v472 v541 v610 v679 v748 v817 v886 v955 v1024 v1093 v1162 v1231 v1300 v1369 v1438 v1507 v1576 v1645 v1714 v1783 v1852 v1921 v1990 v2059 v2128 v2197 v2558), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2558] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2558 k2_hw161 k2_h1 => k2_hw161 k2_h1

def k2_chk162 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2568 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2568] : Fin 1 → IVec S16 32) a x).toNat < S57344.size a)
theorem k2_idx160_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2568 : IVec S16 32) (k2_hw162 : k2_chk162 v58 v127 v196 v265 v334 v403 v472 v541 v610 v679 v748 v817 v886 v955 v1024 v1093 v1162 v1231 v1300 v1369 v1438 v1507 v1576 v1645 v1714 v1783 v1852 v1921 v1990 v2059 v2128 v2197 v2568), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2568] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2568 k2_hw162 k2_h1 => k2_hw162 k2_h1

def k2_chk163 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2578 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2578] : Fin 1 → IVec S16 32) a x).toNat < S57344.size a)
theorem k2_idx161_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2578 : IVec S16 32) (k2_hw163 : k2_chk163 v58 v127 v196 v265 v334 v403 v472 v541 v610 v679 v748 v817 v886 v955 v1024 v1093 v1162 v1231 v1300 v1369 v1438 v1507 v1576 v1645 v1714 v1783 v1852 v1921 v1990 v2059 v2128 v2197 v2578), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2578] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2578 k2_hw163 k2_h1 => k2_hw163 k2_h1

def k2_chk164 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2588 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2588] : Fin 1 → IVec S16 32) a x).toNat < S57344.size a)
theorem k2_idx162_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2588 : IVec S16 32) (k2_hw164 : k2_chk164 v58 v127 v196 v265 v334 v403 v472 v541 v610 v679 v748 v817 v886 v955 v1024 v1093 v1162 v1231 v1300 v1369 v1438 v1507 v1576 v1645 v1714 v1783 v1852 v1921 v1990 v2059 v2128 v2197 v2588), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2588] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2588 k2_hw164 k2_h1 => k2_hw164 k2_h1

def k2_chk165 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2598 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2598] : Fin 1 → IVec S16 32) a x).toNat < S57344.size a)
theorem k2_idx163_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2598 : IVec S16 32) (k2_hw165 : k2_chk165 v58 v127 v196 v265 v334 v403 v472 v541 v610 v679 v748 v817 v886 v955 v1024 v1093 v1162 v1231 v1300 v1369 v1438 v1507 v1576 v1645 v1714 v1783 v1852 v1921 v1990 v2059 v2128 v2197 v2598), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2598] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2598 k2_hw165 k2_h1 => k2_hw165 k2_h1

def k2_chk166 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2608 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2608] : Fin 1 → IVec S16 32) a x).toNat < S57344.size a)
theorem k2_idx164_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2608 : IVec S16 32) (k2_hw166 : k2_chk166 v58 v127 v196 v265 v334 v403 v472 v541 v610 v679 v748 v817 v886 v955 v1024 v1093 v1162 v1231 v1300 v1369 v1438 v1507 v1576 v1645 v1714 v1783 v1852 v1921 v1990 v2059 v2128 v2197 v2608), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2608] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2608 k2_hw166 k2_h1 => k2_hw166 k2_h1

def k2_chk167 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2618 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2618] : Fin 1 → IVec S16 32) a x).toNat < S57344.size a)
theorem k2_idx165_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2618 : IVec S16 32) (k2_hw167 : k2_chk167 v58 v127 v196 v265 v334 v403 v472 v541 v610 v679 v748 v817 v886 v955 v1024 v1093 v1162 v1231 v1300 v1369 v1438 v1507 v1576 v1645 v1714 v1783 v1852 v1921 v1990 v2059 v2128 v2197 v2618), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2618] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2618 k2_hw167 k2_h1 => k2_hw167 k2_h1

def k2_chk168 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2628 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2628] : Fin 1 → IVec S16 32) a x).toNat < S57344.size a)
theorem k2_idx166_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2628 : IVec S16 32) (k2_hw168 : k2_chk168 v58 v127 v196 v265 v334 v403 v472 v541 v610 v679 v748 v817 v886 v955 v1024 v1093 v1162 v1231 v1300 v1369 v1438 v1507 v1576 v1645 v1714 v1783 v1852 v1921 v1990 v2059 v2128 v2197 v2628), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2628] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2628 k2_hw168 k2_h1 => k2_hw168 k2_h1

def k2_chk169 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2638 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2638] : Fin 1 → IVec S16 32) a x).toNat < S57344.size a)
theorem k2_idx167_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2638 : IVec S16 32) (k2_hw169 : k2_chk169 v58 v127 v196 v265 v334 v403 v472 v541 v610 v679 v748 v817 v886 v955 v1024 v1093 v1162 v1231 v1300 v1369 v1438 v1507 v1576 v1645 v1714 v1783 v1852 v1921 v1990 v2059 v2128 v2197 v2638), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2638] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2638 k2_hw169 k2_h1 => k2_hw169 k2_h1

def k2_chk170 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2648 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2648] : Fin 1 → IVec S16 32) a x).toNat < S57344.size a)
theorem k2_idx168_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2648 : IVec S16 32) (k2_hw170 : k2_chk170 v58 v127 v196 v265 v334 v403 v472 v541 v610 v679 v748 v817 v886 v955 v1024 v1093 v1162 v1231 v1300 v1369 v1438 v1507 v1576 v1645 v1714 v1783 v1852 v1921 v1990 v2059 v2128 v2197 v2648), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2648] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2648 k2_hw170 k2_h1 => k2_hw170 k2_h1

def k2_chk171 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2658 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2658] : Fin 1 → IVec S16 32) a x).toNat < S57344.size a)
theorem k2_idx169_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2658 : IVec S16 32) (k2_hw171 : k2_chk171 v58 v127 v196 v265 v334 v403 v472 v541 v610 v679 v748 v817 v886 v955 v1024 v1093 v1162 v1231 v1300 v1369 v1438 v1507 v1576 v1645 v1714 v1783 v1852 v1921 v1990 v2059 v2128 v2197 v2658), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2658] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2658 k2_hw171 k2_h1 => k2_hw171 k2_h1

def k2_chk172 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2668 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2668] : Fin 1 → IVec S16 32) a x).toNat < S57344.size a)
theorem k2_idx170_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2668 : IVec S16 32) (k2_hw172 : k2_chk172 v58 v127 v196 v265 v334 v403 v472 v541 v610 v679 v748 v817 v886 v955 v1024 v1093 v1162 v1231 v1300 v1369 v1438 v1507 v1576 v1645 v1714 v1783 v1852 v1921 v1990 v2059 v2128 v2197 v2668), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2668] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2668 k2_hw172 k2_h1 => k2_hw172 k2_h1

def k2_chk173 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2678 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2678] : Fin 1 → IVec S16 32) a x).toNat < S57344.size a)
theorem k2_idx171_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2678 : IVec S16 32) (k2_hw173 : k2_chk173 v58 v127 v196 v265 v334 v403 v472 v541 v610 v679 v748 v817 v886 v955 v1024 v1093 v1162 v1231 v1300 v1369 v1438 v1507 v1576 v1645 v1714 v1783 v1852 v1921 v1990 v2059 v2128 v2197 v2678), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2678] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2678 k2_hw173 k2_h1 => k2_hw173 k2_h1

def k2_chk174 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2688 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2688] : Fin 1 → IVec S16 32) a x).toNat < S57344.size a)
theorem k2_idx172_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2688 : IVec S16 32) (k2_hw174 : k2_chk174 v58 v127 v196 v265 v334 v403 v472 v541 v610 v679 v748 v817 v886 v955 v1024 v1093 v1162 v1231 v1300 v1369 v1438 v1507 v1576 v1645 v1714 v1783 v1852 v1921 v1990 v2059 v2128 v2197 v2688), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2688] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2688 k2_hw174 k2_h1 => k2_hw174 k2_h1

def k2_chk175 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2698 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2698] : Fin 1 → IVec S16 32) a x).toNat < S57344.size a)
theorem k2_idx173_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2698 : IVec S16 32) (k2_hw175 : k2_chk175 v58 v127 v196 v265 v334 v403 v472 v541 v610 v679 v748 v817 v886 v955 v1024 v1093 v1162 v1231 v1300 v1369 v1438 v1507 v1576 v1645 v1714 v1783 v1852 v1921 v1990 v2059 v2128 v2197 v2698), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2698] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2698 k2_hw175 k2_h1 => k2_hw175 k2_h1

def k2_chk176 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2708 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2708] : Fin 1 → IVec S16 32) a x).toNat < S57344.size a)
theorem k2_idx174_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2708 : IVec S16 32) (k2_hw176 : k2_chk176 v58 v127 v196 v265 v334 v403 v472 v541 v610 v679 v748 v817 v886 v955 v1024 v1093 v1162 v1231 v1300 v1369 v1438 v1507 v1576 v1645 v1714 v1783 v1852 v1921 v1990 v2059 v2128 v2197 v2708), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2708] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2708 k2_hw176 k2_h1 => k2_hw176 k2_h1

def k2_chk177 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2718 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2718] : Fin 1 → IVec S16 32) a x).toNat < S57344.size a)
theorem k2_idx175_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2718 : IVec S16 32) (k2_hw177 : k2_chk177 v58 v127 v196 v265 v334 v403 v472 v541 v610 v679 v748 v817 v886 v955 v1024 v1093 v1162 v1231 v1300 v1369 v1438 v1507 v1576 v1645 v1714 v1783 v1852 v1921 v1990 v2059 v2128 v2197 v2718), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2718] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2718 k2_hw177 k2_h1 => k2_hw177 k2_h1

def k2_chk178 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2728 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2728] : Fin 1 → IVec S16 32) a x).toNat < S57344.size a)
theorem k2_idx176_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2728 : IVec S16 32) (k2_hw178 : k2_chk178 v58 v127 v196 v265 v334 v403 v472 v541 v610 v679 v748 v817 v886 v955 v1024 v1093 v1162 v1231 v1300 v1369 v1438 v1507 v1576 v1645 v1714 v1783 v1852 v1921 v1990 v2059 v2128 v2197 v2728), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2728] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2728 k2_hw178 k2_h1 => k2_hw178 k2_h1

def k2_chk179 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2738 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2738] : Fin 1 → IVec S16 32) a x).toNat < S57344.size a)
theorem k2_idx177_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2738 : IVec S16 32) (k2_hw179 : k2_chk179 v58 v127 v196 v265 v334 v403 v472 v541 v610 v679 v748 v817 v886 v955 v1024 v1093 v1162 v1231 v1300 v1369 v1438 v1507 v1576 v1645 v1714 v1783 v1852 v1921 v1990 v2059 v2128 v2197 v2738), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2738] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2738 k2_hw179 k2_h1 => k2_hw179 k2_h1

def k2_chk180 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2748 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2748] : Fin 1 → IVec S16 32) a x).toNat < S57344.size a)
theorem k2_idx178_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2748 : IVec S16 32) (k2_hw180 : k2_chk180 v58 v127 v196 v265 v334 v403 v472 v541 v610 v679 v748 v817 v886 v955 v1024 v1093 v1162 v1231 v1300 v1369 v1438 v1507 v1576 v1645 v1714 v1783 v1852 v1921 v1990 v2059 v2128 v2197 v2748), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2748] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2748 k2_hw180 k2_h1 => k2_hw180 k2_h1

def k2_chk181 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2758 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2758] : Fin 1 → IVec S16 32) a x).toNat < S57344.size a)
theorem k2_idx179_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2758 : IVec S16 32) (k2_hw181 : k2_chk181 v58 v127 v196 v265 v334 v403 v472 v541 v610 v679 v748 v817 v886 v955 v1024 v1093 v1162 v1231 v1300 v1369 v1438 v1507 v1576 v1645 v1714 v1783 v1852 v1921 v1990 v2059 v2128 v2197 v2758), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2758] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2758 k2_hw181 k2_h1 => k2_hw181 k2_h1

def k2_chk182 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2768 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2768] : Fin 1 → IVec S16 32) a x).toNat < S57344.size a)
theorem k2_idx180_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2768 : IVec S16 32) (k2_hw182 : k2_chk182 v58 v127 v196 v265 v334 v403 v472 v541 v610 v679 v748 v817 v886 v955 v1024 v1093 v1162 v1231 v1300 v1369 v1438 v1507 v1576 v1645 v1714 v1783 v1852 v1921 v1990 v2059 v2128 v2197 v2768), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2768] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2768 k2_hw182 k2_h1 => k2_hw182 k2_h1

def k2_chk183 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2778 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2778] : Fin 1 → IVec S16 32) a x).toNat < S57344.size a)
theorem k2_idx181_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2778 : IVec S16 32) (k2_hw183 : k2_chk183 v58 v127 v196 v265 v334 v403 v472 v541 v610 v679 v748 v817 v886 v955 v1024 v1093 v1162 v1231 v1300 v1369 v1438 v1507 v1576 v1645 v1714 v1783 v1852 v1921 v1990 v2059 v2128 v2197 v2778), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2778] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2778 k2_hw183 k2_h1 => k2_hw183 k2_h1

def k2_chk184 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2788 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2788] : Fin 1 → IVec S16 32) a x).toNat < S57344.size a)
theorem k2_idx182_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2788 : IVec S16 32) (k2_hw184 : k2_chk184 v58 v127 v196 v265 v334 v403 v472 v541 v610 v679 v748 v817 v886 v955 v1024 v1093 v1162 v1231 v1300 v1369 v1438 v1507 v1576 v1645 v1714 v1783 v1852 v1921 v1990 v2059 v2128 v2197 v2788), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2788] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2788 k2_hw184 k2_h1 => k2_hw184 k2_h1

def k2_chk185 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2798 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2798] : Fin 1 → IVec S16 32) a x).toNat < S57344.size a)
theorem k2_idx183_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2798 : IVec S16 32) (k2_hw185 : k2_chk185 v58 v127 v196 v265 v334 v403 v472 v541 v610 v679 v748 v817 v886 v955 v1024 v1093 v1162 v1231 v1300 v1369 v1438 v1507 v1576 v1645 v1714 v1783 v1852 v1921 v1990 v2059 v2128 v2197 v2798), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2798] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2798 k2_hw185 k2_h1 => k2_hw185 k2_h1

def k2_chk186 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2808 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2808] : Fin 1 → IVec S16 32) a x).toNat < S57344.size a)
theorem k2_idx184_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2808 : IVec S16 32) (k2_hw186 : k2_chk186 v58 v127 v196 v265 v334 v403 v472 v541 v610 v679 v748 v817 v886 v955 v1024 v1093 v1162 v1231 v1300 v1369 v1438 v1507 v1576 v1645 v1714 v1783 v1852 v1921 v1990 v2059 v2128 v2197 v2808), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2808] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2808 k2_hw186 k2_h1 => k2_hw186 k2_h1

def k2_chk187 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2818 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2818] : Fin 1 → IVec S16 32) a x).toNat < S57344.size a)
theorem k2_idx185_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2818 : IVec S16 32) (k2_hw187 : k2_chk187 v58 v127 v196 v265 v334 v403 v472 v541 v610 v679 v748 v817 v886 v955 v1024 v1093 v1162 v1231 v1300 v1369 v1438 v1507 v1576 v1645 v1714 v1783 v1852 v1921 v1990 v2059 v2128 v2197 v2818), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2818] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2818 k2_hw187 k2_h1 => k2_hw187 k2_h1

def k2_chk188 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2828 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2828] : Fin 1 → IVec S16 32) a x).toNat < S57344.size a)
theorem k2_idx186_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2828 : IVec S16 32) (k2_hw188 : k2_chk188 v58 v127 v196 v265 v334 v403 v472 v541 v610 v679 v748 v817 v886 v955 v1024 v1093 v1162 v1231 v1300 v1369 v1438 v1507 v1576 v1645 v1714 v1783 v1852 v1921 v1990 v2059 v2128 v2197 v2828), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2828] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2828 k2_hw188 k2_h1 => k2_hw188 k2_h1

def k2_chk189 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2838 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2838] : Fin 1 → IVec S16 32) a x).toNat < S57344.size a)
theorem k2_idx187_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2838 : IVec S16 32) (k2_hw189 : k2_chk189 v58 v127 v196 v265 v334 v403 v472 v541 v610 v679 v748 v817 v886 v955 v1024 v1093 v1162 v1231 v1300 v1369 v1438 v1507 v1576 v1645 v1714 v1783 v1852 v1921 v1990 v2059 v2128 v2197 v2838), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2838] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2838 k2_hw189 k2_h1 => k2_hw189 k2_h1

def k2_chk190 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2848 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2848] : Fin 1 → IVec S16 32) a x).toNat < S57344.size a)
theorem k2_idx188_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2848 : IVec S16 32) (k2_hw190 : k2_chk190 v58 v127 v196 v265 v334 v403 v472 v541 v610 v679 v748 v817 v886 v955 v1024 v1093 v1162 v1231 v1300 v1369 v1438 v1507 v1576 v1645 v1714 v1783 v1852 v1921 v1990 v2059 v2128 v2197 v2848), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2848] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2848 k2_hw190 k2_h1 => k2_hw190 k2_h1

def k2_chk191 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2858 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2858] : Fin 1 → IVec S16 32) a x).toNat < S57344.size a)
theorem k2_idx189_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2858 : IVec S16 32) (k2_hw191 : k2_chk191 v58 v127 v196 v265 v334 v403 v472 v541 v610 v679 v748 v817 v886 v955 v1024 v1093 v1162 v1231 v1300 v1369 v1438 v1507 v1576 v1645 v1714 v1783 v1852 v1921 v1990 v2059 v2128 v2197 v2858), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2858] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2858 k2_hw191 k2_h1 => k2_hw191 k2_h1

def k2_chk192 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2868 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2868] : Fin 1 → IVec S16 32) a x).toNat < S57344.size a)
theorem k2_idx190_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2868 : IVec S16 32) (k2_hw192 : k2_chk192 v58 v127 v196 v265 v334 v403 v472 v541 v610 v679 v748 v817 v886 v955 v1024 v1093 v1162 v1231 v1300 v1369 v1438 v1507 v1576 v1645 v1714 v1783 v1852 v1921 v1990 v2059 v2128 v2197 v2868), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2868] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2868 k2_hw192 k2_h1 => k2_hw192 k2_h1

def k2_chk193 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2878 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2878] : Fin 1 → IVec S16 32) a x).toNat < S57344.size a)
theorem k2_idx191_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2878 : IVec S16 32) (k2_hw193 : k2_chk193 v58 v127 v196 v265 v334 v403 v472 v541 v610 v679 v748 v817 v886 v955 v1024 v1093 v1162 v1231 v1300 v1369 v1438 v1507 v1576 v1645 v1714 v1783 v1852 v1921 v1990 v2059 v2128 v2197 v2878), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2878] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2878 k2_hw193 k2_h1 => k2_hw193 k2_h1

def k2_chk194 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2888 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2888] : Fin 1 → IVec S16 32) a x).toNat < S57344.size a)
theorem k2_idx192_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2888 : IVec S16 32) (k2_hw194 : k2_chk194 v58 v127 v196 v265 v334 v403 v472 v541 v610 v679 v748 v817 v886 v955 v1024 v1093 v1162 v1231 v1300 v1369 v1438 v1507 v1576 v1645 v1714 v1783 v1852 v1921 v1990 v2059 v2128 v2197 v2888), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2888] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2888 k2_hw194 k2_h1 => k2_hw194 k2_h1

def k2_chk195 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2898 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2898] : Fin 1 → IVec S16 32) a x).toNat < S57344.size a)
theorem k2_idx193_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2898 : IVec S16 32) (k2_hw195 : k2_chk195 v58 v127 v196 v265 v334 v403 v472 v541 v610 v679 v748 v817 v886 v955 v1024 v1093 v1162 v1231 v1300 v1369 v1438 v1507 v1576 v1645 v1714 v1783 v1852 v1921 v1990 v2059 v2128 v2197 v2898), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2898] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2898 k2_hw195 k2_h1 => k2_hw195 k2_h1

def k2_chk196 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2908 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2908] : Fin 1 → IVec S16 32) a x).toNat < S57344.size a)
theorem k2_idx194_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2908 : IVec S16 32) (k2_hw196 : k2_chk196 v58 v127 v196 v265 v334 v403 v472 v541 v610 v679 v748 v817 v886 v955 v1024 v1093 v1162 v1231 v1300 v1369 v1438 v1507 v1576 v1645 v1714 v1783 v1852 v1921 v1990 v2059 v2128 v2197 v2908), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2908] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2908 k2_hw196 k2_h1 => k2_hw196 k2_h1

def k2_chk197 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2918 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2918] : Fin 1 → IVec S16 32) a x).toNat < S57344.size a)
theorem k2_idx195_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2918 : IVec S16 32) (k2_hw197 : k2_chk197 v58 v127 v196 v265 v334 v403 v472 v541 v610 v679 v748 v817 v886 v955 v1024 v1093 v1162 v1231 v1300 v1369 v1438 v1507 v1576 v1645 v1714 v1783 v1852 v1921 v1990 v2059 v2128 v2197 v2918), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2918] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2918 k2_hw197 k2_h1 => k2_hw197 k2_h1

def k2_chk198 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2928 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2928] : Fin 1 → IVec S16 32) a x).toNat < S57344.size a)
theorem k2_idx196_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2928 : IVec S16 32) (k2_hw198 : k2_chk198 v58 v127 v196 v265 v334 v403 v472 v541 v610 v679 v748 v817 v886 v955 v1024 v1093 v1162 v1231 v1300 v1369 v1438 v1507 v1576 v1645 v1714 v1783 v1852 v1921 v1990 v2059 v2128 v2197 v2928), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2928] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2928 k2_hw198 k2_h1 => k2_hw198 k2_h1

def k2_chk199 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2938 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2938] : Fin 1 → IVec S16 32) a x).toNat < S57344.size a)
theorem k2_idx197_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2938 : IVec S16 32) (k2_hw199 : k2_chk199 v58 v127 v196 v265 v334 v403 v472 v541 v610 v679 v748 v817 v886 v955 v1024 v1093 v1162 v1231 v1300 v1369 v1438 v1507 v1576 v1645 v1714 v1783 v1852 v1921 v1990 v2059 v2128 v2197 v2938), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2938] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2938 k2_hw199 k2_h1 => k2_hw199 k2_h1

def k2_chk200 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2948 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2948] : Fin 1 → IVec S16 32) a x).toNat < S57344.size a)
theorem k2_idx198_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2948 : IVec S16 32) (k2_hw200 : k2_chk200 v58 v127 v196 v265 v334 v403 v472 v541 v610 v679 v748 v817 v886 v955 v1024 v1093 v1162 v1231 v1300 v1369 v1438 v1507 v1576 v1645 v1714 v1783 v1852 v1921 v1990 v2059 v2128 v2197 v2948), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2948] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2948 k2_hw200 k2_h1 => k2_hw200 k2_h1

def k2_chk201 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2958 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2958] : Fin 1 → IVec S16 32) a x).toNat < S57344.size a)
theorem k2_idx199_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2958 : IVec S16 32) (k2_hw201 : k2_chk201 v58 v127 v196 v265 v334 v403 v472 v541 v610 v679 v748 v817 v886 v955 v1024 v1093 v1162 v1231 v1300 v1369 v1438 v1507 v1576 v1645 v1714 v1783 v1852 v1921 v1990 v2059 v2128 v2197 v2958), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2958] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2958 k2_hw201 k2_h1 => k2_hw201 k2_h1

def k2_chk202 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2968 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2968] : Fin 1 → IVec S16 32) a x).toNat < S57344.size a)
theorem k2_idx200_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2968 : IVec S16 32) (k2_hw202 : k2_chk202 v58 v127 v196 v265 v334 v403 v472 v541 v610 v679 v748 v817 v886 v955 v1024 v1093 v1162 v1231 v1300 v1369 v1438 v1507 v1576 v1645 v1714 v1783 v1852 v1921 v1990 v2059 v2128 v2197 v2968), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2968] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2968 k2_hw202 k2_h1 => k2_hw202 k2_h1

def k2_chk203 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2978 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2978] : Fin 1 → IVec S16 32) a x).toNat < S57344.size a)
theorem k2_idx201_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2978 : IVec S16 32) (k2_hw203 : k2_chk203 v58 v127 v196 v265 v334 v403 v472 v541 v610 v679 v748 v817 v886 v955 v1024 v1093 v1162 v1231 v1300 v1369 v1438 v1507 v1576 v1645 v1714 v1783 v1852 v1921 v1990 v2059 v2128 v2197 v2978), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2978] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2978 k2_hw203 k2_h1 => k2_hw203 k2_h1

def k2_chk204 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2988 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2988] : Fin 1 → IVec S16 32) a x).toNat < S57344.size a)
theorem k2_idx202_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2988 : IVec S16 32) (k2_hw204 : k2_chk204 v58 v127 v196 v265 v334 v403 v472 v541 v610 v679 v748 v817 v886 v955 v1024 v1093 v1162 v1231 v1300 v1369 v1438 v1507 v1576 v1645 v1714 v1783 v1852 v1921 v1990 v2059 v2128 v2197 v2988), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2988] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2988 k2_hw204 k2_h1 => k2_hw204 k2_h1

def k2_chk205 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2998 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2998] : Fin 1 → IVec S16 32) a x).toNat < S57344.size a)
theorem k2_idx203_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2998 : IVec S16 32) (k2_hw205 : k2_chk205 v58 v127 v196 v265 v334 v403 v472 v541 v610 v679 v748 v817 v886 v955 v1024 v1093 v1162 v1231 v1300 v1369 v1438 v1507 v1576 v1645 v1714 v1783 v1852 v1921 v1990 v2059 v2128 v2197 v2998), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2998] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2998 k2_hw205 k2_h1 => k2_hw205 k2_h1

def k2_chk206 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3008 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3008] : Fin 1 → IVec S16 32) a x).toNat < S57344.size a)
theorem k2_idx204_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3008 : IVec S16 32) (k2_hw206 : k2_chk206 v58 v127 v196 v265 v334 v403 v472 v541 v610 v679 v748 v817 v886 v955 v1024 v1093 v1162 v1231 v1300 v1369 v1438 v1507 v1576 v1645 v1714 v1783 v1852 v1921 v1990 v2059 v2128 v2197 v3008), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3008] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3008 k2_hw206 k2_h1 => k2_hw206 k2_h1

def k2_chk207 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3018 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3018] : Fin 1 → IVec S16 32) a x).toNat < S57344.size a)
theorem k2_idx205_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3018 : IVec S16 32) (k2_hw207 : k2_chk207 v58 v127 v196 v265 v334 v403 v472 v541 v610 v679 v748 v817 v886 v955 v1024 v1093 v1162 v1231 v1300 v1369 v1438 v1507 v1576 v1645 v1714 v1783 v1852 v1921 v1990 v2059 v2128 v2197 v3018), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3018] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3018 k2_hw207 k2_h1 => k2_hw207 k2_h1

def k2_chk208 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3028 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3028] : Fin 1 → IVec S16 32) a x).toNat < S57344.size a)
theorem k2_idx206_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3028 : IVec S16 32) (k2_hw208 : k2_chk208 v58 v127 v196 v265 v334 v403 v472 v541 v610 v679 v748 v817 v886 v955 v1024 v1093 v1162 v1231 v1300 v1369 v1438 v1507 v1576 v1645 v1714 v1783 v1852 v1921 v1990 v2059 v2128 v2197 v3028), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3028] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3028 k2_hw208 k2_h1 => k2_hw208 k2_h1

def k2_chk209 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3038 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3038] : Fin 1 → IVec S16 32) a x).toNat < S57344.size a)
theorem k2_idx207_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3038 : IVec S16 32) (k2_hw209 : k2_chk209 v58 v127 v196 v265 v334 v403 v472 v541 v610 v679 v748 v817 v886 v955 v1024 v1093 v1162 v1231 v1300 v1369 v1438 v1507 v1576 v1645 v1714 v1783 v1852 v1921 v1990 v2059 v2128 v2197 v3038), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3038] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3038 k2_hw209 k2_h1 => k2_hw209 k2_h1

def k2_chk210 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3048 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3048] : Fin 1 → IVec S16 32) a x).toNat < S57344.size a)
theorem k2_idx208_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3048 : IVec S16 32) (k2_hw210 : k2_chk210 v58 v127 v196 v265 v334 v403 v472 v541 v610 v679 v748 v817 v886 v955 v1024 v1093 v1162 v1231 v1300 v1369 v1438 v1507 v1576 v1645 v1714 v1783 v1852 v1921 v1990 v2059 v2128 v2197 v3048), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3048] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3048 k2_hw210 k2_h1 => k2_hw210 k2_h1

def k2_chk211 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3058 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3058] : Fin 1 → IVec S16 32) a x).toNat < S57344.size a)
theorem k2_idx209_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3058 : IVec S16 32) (k2_hw211 : k2_chk211 v58 v127 v196 v265 v334 v403 v472 v541 v610 v679 v748 v817 v886 v955 v1024 v1093 v1162 v1231 v1300 v1369 v1438 v1507 v1576 v1645 v1714 v1783 v1852 v1921 v1990 v2059 v2128 v2197 v3058), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3058] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3058 k2_hw211 k2_h1 => k2_hw211 k2_h1

def k2_chk212 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3068 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3068] : Fin 1 → IVec S16 32) a x).toNat < S57344.size a)
theorem k2_idx210_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3068 : IVec S16 32) (k2_hw212 : k2_chk212 v58 v127 v196 v265 v334 v403 v472 v541 v610 v679 v748 v817 v886 v955 v1024 v1093 v1162 v1231 v1300 v1369 v1438 v1507 v1576 v1645 v1714 v1783 v1852 v1921 v1990 v2059 v2128 v2197 v3068), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3068] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3068 k2_hw212 k2_h1 => k2_hw212 k2_h1

def k2_chk213 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3078 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3078] : Fin 1 → IVec S16 32) a x).toNat < S57344.size a)
theorem k2_idx211_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3078 : IVec S16 32) (k2_hw213 : k2_chk213 v58 v127 v196 v265 v334 v403 v472 v541 v610 v679 v748 v817 v886 v955 v1024 v1093 v1162 v1231 v1300 v1369 v1438 v1507 v1576 v1645 v1714 v1783 v1852 v1921 v1990 v2059 v2128 v2197 v3078), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3078] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3078 k2_hw213 k2_h1 => k2_hw213 k2_h1

def k2_chk214 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3088 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3088] : Fin 1 → IVec S16 32) a x).toNat < S57344.size a)
theorem k2_idx212_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3088 : IVec S16 32) (k2_hw214 : k2_chk214 v58 v127 v196 v265 v334 v403 v472 v541 v610 v679 v748 v817 v886 v955 v1024 v1093 v1162 v1231 v1300 v1369 v1438 v1507 v1576 v1645 v1714 v1783 v1852 v1921 v1990 v2059 v2128 v2197 v3088), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3088] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3088 k2_hw214 k2_h1 => k2_hw214 k2_h1

def k2_chk215 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3098 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3098] : Fin 1 → IVec S16 32) a x).toNat < S57344.size a)
theorem k2_idx213_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3098 : IVec S16 32) (k2_hw215 : k2_chk215 v58 v127 v196 v265 v334 v403 v472 v541 v610 v679 v748 v817 v886 v955 v1024 v1093 v1162 v1231 v1300 v1369 v1438 v1507 v1576 v1645 v1714 v1783 v1852 v1921 v1990 v2059 v2128 v2197 v3098), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3098] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3098 k2_hw215 k2_h1 => k2_hw215 k2_h1

def k2_chk216 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3108 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3108] : Fin 1 → IVec S16 32) a x).toNat < S57344.size a)
theorem k2_idx214_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3108 : IVec S16 32) (k2_hw216 : k2_chk216 v58 v127 v196 v265 v334 v403 v472 v541 v610 v679 v748 v817 v886 v955 v1024 v1093 v1162 v1231 v1300 v1369 v1438 v1507 v1576 v1645 v1714 v1783 v1852 v1921 v1990 v2059 v2128 v2197 v3108), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3108] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3108 k2_hw216 k2_h1 => k2_hw216 k2_h1

def k2_chk217 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3118 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3118] : Fin 1 → IVec S16 32) a x).toNat < S57344.size a)
theorem k2_idx215_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3118 : IVec S16 32) (k2_hw217 : k2_chk217 v58 v127 v196 v265 v334 v403 v472 v541 v610 v679 v748 v817 v886 v955 v1024 v1093 v1162 v1231 v1300 v1369 v1438 v1507 v1576 v1645 v1714 v1783 v1852 v1921 v1990 v2059 v2128 v2197 v3118), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3118] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3118 k2_hw217 k2_h1 => k2_hw217 k2_h1

def k2_chk218 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3128 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3128] : Fin 1 → IVec S16 32) a x).toNat < S57344.size a)
theorem k2_idx216_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3128 : IVec S16 32) (k2_hw218 : k2_chk218 v58 v127 v196 v265 v334 v403 v472 v541 v610 v679 v748 v817 v886 v955 v1024 v1093 v1162 v1231 v1300 v1369 v1438 v1507 v1576 v1645 v1714 v1783 v1852 v1921 v1990 v2059 v2128 v2197 v3128), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3128] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3128 k2_hw218 k2_h1 => k2_hw218 k2_h1

def k2_chk219 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3138 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3138] : Fin 1 → IVec S16 32) a x).toNat < S57344.size a)
theorem k2_idx217_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3138 : IVec S16 32) (k2_hw219 : k2_chk219 v58 v127 v196 v265 v334 v403 v472 v541 v610 v679 v748 v817 v886 v955 v1024 v1093 v1162 v1231 v1300 v1369 v1438 v1507 v1576 v1645 v1714 v1783 v1852 v1921 v1990 v2059 v2128 v2197 v3138), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3138] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3138 k2_hw219 k2_h1 => k2_hw219 k2_h1

def k2_chk220 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3148 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3148] : Fin 1 → IVec S16 32) a x).toNat < S57344.size a)
theorem k2_idx218_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3148 : IVec S16 32) (k2_hw220 : k2_chk220 v58 v127 v196 v265 v334 v403 v472 v541 v610 v679 v748 v817 v886 v955 v1024 v1093 v1162 v1231 v1300 v1369 v1438 v1507 v1576 v1645 v1714 v1783 v1852 v1921 v1990 v2059 v2128 v2197 v3148), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3148] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3148 k2_hw220 k2_h1 => k2_hw220 k2_h1

def k2_chk221 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3158 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3158] : Fin 1 → IVec S16 32) a x).toNat < S57344.size a)
theorem k2_idx219_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3158 : IVec S16 32) (k2_hw221 : k2_chk221 v58 v127 v196 v265 v334 v403 v472 v541 v610 v679 v748 v817 v886 v955 v1024 v1093 v1162 v1231 v1300 v1369 v1438 v1507 v1576 v1645 v1714 v1783 v1852 v1921 v1990 v2059 v2128 v2197 v3158), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3158] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3158 k2_hw221 k2_h1 => k2_hw221 k2_h1

def k2_chk222 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3168 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3168] : Fin 1 → IVec S16 32) a x).toNat < S57344.size a)
theorem k2_idx220_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3168 : IVec S16 32) (k2_hw222 : k2_chk222 v58 v127 v196 v265 v334 v403 v472 v541 v610 v679 v748 v817 v886 v955 v1024 v1093 v1162 v1231 v1300 v1369 v1438 v1507 v1576 v1645 v1714 v1783 v1852 v1921 v1990 v2059 v2128 v2197 v3168), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3168] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3168 k2_hw222 k2_h1 => k2_hw222 k2_h1

def k2_chk223 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3178 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3178] : Fin 1 → IVec S16 32) a x).toNat < S57344.size a)
theorem k2_idx221_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3178 : IVec S16 32) (k2_hw223 : k2_chk223 v58 v127 v196 v265 v334 v403 v472 v541 v610 v679 v748 v817 v886 v955 v1024 v1093 v1162 v1231 v1300 v1369 v1438 v1507 v1576 v1645 v1714 v1783 v1852 v1921 v1990 v2059 v2128 v2197 v3178), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3178] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3178 k2_hw223 k2_h1 => k2_hw223 k2_h1

def k2_chk224 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3188 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3188] : Fin 1 → IVec S16 32) a x).toNat < S57344.size a)
theorem k2_idx222_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3188 : IVec S16 32) (k2_hw224 : k2_chk224 v58 v127 v196 v265 v334 v403 v472 v541 v610 v679 v748 v817 v886 v955 v1024 v1093 v1162 v1231 v1300 v1369 v1438 v1507 v1576 v1645 v1714 v1783 v1852 v1921 v1990 v2059 v2128 v2197 v3188), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3188] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3188 k2_hw224 k2_h1 => k2_hw224 k2_h1

def k2_chk225 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3198 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3198] : Fin 1 → IVec S16 32) a x).toNat < S57344.size a)
theorem k2_idx223_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3198 : IVec S16 32) (k2_hw225 : k2_chk225 v58 v127 v196 v265 v334 v403 v472 v541 v610 v679 v748 v817 v886 v955 v1024 v1093 v1162 v1231 v1300 v1369 v1438 v1507 v1576 v1645 v1714 v1783 v1852 v1921 v1990 v2059 v2128 v2197 v3198), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3198] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3198 k2_hw225 k2_h1 => k2_hw225 k2_h1

def k2_chk226 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3208 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3208] : Fin 1 → IVec S16 32) a x).toNat < S57344.size a)
theorem k2_idx224_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3208 : IVec S16 32) (k2_hw226 : k2_chk226 v58 v127 v196 v265 v334 v403 v472 v541 v610 v679 v748 v817 v886 v955 v1024 v1093 v1162 v1231 v1300 v1369 v1438 v1507 v1576 v1645 v1714 v1783 v1852 v1921 v1990 v2059 v2128 v2197 v3208), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3208] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3208 k2_hw226 k2_h1 => k2_hw226 k2_h1

def k2_chk227 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3218 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3218] : Fin 1 → IVec S16 32) a x).toNat < S57344.size a)
theorem k2_idx225_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3218 : IVec S16 32) (k2_hw227 : k2_chk227 v58 v127 v196 v265 v334 v403 v472 v541 v610 v679 v748 v817 v886 v955 v1024 v1093 v1162 v1231 v1300 v1369 v1438 v1507 v1576 v1645 v1714 v1783 v1852 v1921 v1990 v2059 v2128 v2197 v3218), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3218] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3218 k2_hw227 k2_h1 => k2_hw227 k2_h1

def k2_chk228 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3228 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3228] : Fin 1 → IVec S16 32) a x).toNat < S57344.size a)
theorem k2_idx226_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3228 : IVec S16 32) (k2_hw228 : k2_chk228 v58 v127 v196 v265 v334 v403 v472 v541 v610 v679 v748 v817 v886 v955 v1024 v1093 v1162 v1231 v1300 v1369 v1438 v1507 v1576 v1645 v1714 v1783 v1852 v1921 v1990 v2059 v2128 v2197 v3228), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3228] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3228 k2_hw228 k2_h1 => k2_hw228 k2_h1

def k2_chk229 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3238 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3238] : Fin 1 → IVec S16 32) a x).toNat < S57344.size a)
theorem k2_idx227_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3238 : IVec S16 32) (k2_hw229 : k2_chk229 v58 v127 v196 v265 v334 v403 v472 v541 v610 v679 v748 v817 v886 v955 v1024 v1093 v1162 v1231 v1300 v1369 v1438 v1507 v1576 v1645 v1714 v1783 v1852 v1921 v1990 v2059 v2128 v2197 v3238), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3238] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3238 k2_hw229 k2_h1 => k2_hw229 k2_h1

def k2_chk230 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3248 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3248] : Fin 1 → IVec S16 32) a x).toNat < S57344.size a)
theorem k2_idx228_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3248 : IVec S16 32) (k2_hw230 : k2_chk230 v58 v127 v196 v265 v334 v403 v472 v541 v610 v679 v748 v817 v886 v955 v1024 v1093 v1162 v1231 v1300 v1369 v1438 v1507 v1576 v1645 v1714 v1783 v1852 v1921 v1990 v2059 v2128 v2197 v3248), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3248] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3248 k2_hw230 k2_h1 => k2_hw230 k2_h1

def k2_chk231 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3258 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3258] : Fin 1 → IVec S16 32) a x).toNat < S57344.size a)
theorem k2_idx229_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3258 : IVec S16 32) (k2_hw231 : k2_chk231 v58 v127 v196 v265 v334 v403 v472 v541 v610 v679 v748 v817 v886 v955 v1024 v1093 v1162 v1231 v1300 v1369 v1438 v1507 v1576 v1645 v1714 v1783 v1852 v1921 v1990 v2059 v2128 v2197 v3258), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3258] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3258 k2_hw231 k2_h1 => k2_hw231 k2_h1

def k2_chk232 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3268 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3268] : Fin 1 → IVec S16 32) a x).toNat < S57344.size a)
theorem k2_idx230_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3268 : IVec S16 32) (k2_hw232 : k2_chk232 v58 v127 v196 v265 v334 v403 v472 v541 v610 v679 v748 v817 v886 v955 v1024 v1093 v1162 v1231 v1300 v1369 v1438 v1507 v1576 v1645 v1714 v1783 v1852 v1921 v1990 v2059 v2128 v2197 v3268), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3268] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3268 k2_hw232 k2_h1 => k2_hw232 k2_h1

def k2_chk233 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3278 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3278] : Fin 1 → IVec S16 32) a x).toNat < S57344.size a)
theorem k2_idx231_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3278 : IVec S16 32) (k2_hw233 : k2_chk233 v58 v127 v196 v265 v334 v403 v472 v541 v610 v679 v748 v817 v886 v955 v1024 v1093 v1162 v1231 v1300 v1369 v1438 v1507 v1576 v1645 v1714 v1783 v1852 v1921 v1990 v2059 v2128 v2197 v3278), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3278] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3278 k2_hw233 k2_h1 => k2_hw233 k2_h1

def k2_chk234 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3288 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3288] : Fin 1 → IVec S16 32) a x).toNat < S57344.size a)
theorem k2_idx232_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3288 : IVec S16 32) (k2_hw234 : k2_chk234 v58 v127 v196 v265 v334 v403 v472 v541 v610 v679 v748 v817 v886 v955 v1024 v1093 v1162 v1231 v1300 v1369 v1438 v1507 v1576 v1645 v1714 v1783 v1852 v1921 v1990 v2059 v2128 v2197 v3288), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3288] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3288 k2_hw234 k2_h1 => k2_hw234 k2_h1

def k2_chk235 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3298 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3298] : Fin 1 → IVec S16 32) a x).toNat < S57344.size a)
theorem k2_idx233_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3298 : IVec S16 32) (k2_hw235 : k2_chk235 v58 v127 v196 v265 v334 v403 v472 v541 v610 v679 v748 v817 v886 v955 v1024 v1093 v1162 v1231 v1300 v1369 v1438 v1507 v1576 v1645 v1714 v1783 v1852 v1921 v1990 v2059 v2128 v2197 v3298), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3298] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3298 k2_hw235 k2_h1 => k2_hw235 k2_h1

def k2_chk236 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3308 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3308] : Fin 1 → IVec S16 32) a x).toNat < S57344.size a)
theorem k2_idx234_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3308 : IVec S16 32) (k2_hw236 : k2_chk236 v58 v127 v196 v265 v334 v403 v472 v541 v610 v679 v748 v817 v886 v955 v1024 v1093 v1162 v1231 v1300 v1369 v1438 v1507 v1576 v1645 v1714 v1783 v1852 v1921 v1990 v2059 v2128 v2197 v3308), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3308] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3308 k2_hw236 k2_h1 => k2_hw236 k2_h1

def k2_chk237 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3318 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3318] : Fin 1 → IVec S16 32) a x).toNat < S57344.size a)
theorem k2_idx235_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3318 : IVec S16 32) (k2_hw237 : k2_chk237 v58 v127 v196 v265 v334 v403 v472 v541 v610 v679 v748 v817 v886 v955 v1024 v1093 v1162 v1231 v1300 v1369 v1438 v1507 v1576 v1645 v1714 v1783 v1852 v1921 v1990 v2059 v2128 v2197 v3318), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3318] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3318 k2_hw237 k2_h1 => k2_hw237 k2_h1

def k2_chk238 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3328 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3328] : Fin 1 → IVec S16 32) a x).toNat < S57344.size a)
theorem k2_idx236_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3328 : IVec S16 32) (k2_hw238 : k2_chk238 v58 v127 v196 v265 v334 v403 v472 v541 v610 v679 v748 v817 v886 v955 v1024 v1093 v1162 v1231 v1300 v1369 v1438 v1507 v1576 v1645 v1714 v1783 v1852 v1921 v1990 v2059 v2128 v2197 v3328), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3328] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3328 k2_hw238 k2_h1 => k2_hw238 k2_h1

def k2_chk239 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3338 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3338] : Fin 1 → IVec S16 32) a x).toNat < S57344.size a)
theorem k2_idx237_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3338 : IVec S16 32) (k2_hw239 : k2_chk239 v58 v127 v196 v265 v334 v403 v472 v541 v610 v679 v748 v817 v886 v955 v1024 v1093 v1162 v1231 v1300 v1369 v1438 v1507 v1576 v1645 v1714 v1783 v1852 v1921 v1990 v2059 v2128 v2197 v3338), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3338] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3338 k2_hw239 k2_h1 => k2_hw239 k2_h1

def k2_chk240 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3348 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3348] : Fin 1 → IVec S16 32) a x).toNat < S57344.size a)
theorem k2_idx238_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3348 : IVec S16 32) (k2_hw240 : k2_chk240 v58 v127 v196 v265 v334 v403 v472 v541 v610 v679 v748 v817 v886 v955 v1024 v1093 v1162 v1231 v1300 v1369 v1438 v1507 v1576 v1645 v1714 v1783 v1852 v1921 v1990 v2059 v2128 v2197 v3348), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3348] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3348 k2_hw240 k2_h1 => k2_hw240 k2_h1

def k2_chk241 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3358 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3358] : Fin 1 → IVec S16 32) a x).toNat < S57344.size a)
theorem k2_idx239_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3358 : IVec S16 32) (k2_hw241 : k2_chk241 v58 v127 v196 v265 v334 v403 v472 v541 v610 v679 v748 v817 v886 v955 v1024 v1093 v1162 v1231 v1300 v1369 v1438 v1507 v1576 v1645 v1714 v1783 v1852 v1921 v1990 v2059 v2128 v2197 v3358), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3358] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3358 k2_hw241 k2_h1 => k2_hw241 k2_h1

def k2_chk242 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3368 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3368] : Fin 1 → IVec S16 32) a x).toNat < S57344.size a)
theorem k2_idx240_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3368 : IVec S16 32) (k2_hw242 : k2_chk242 v58 v127 v196 v265 v334 v403 v472 v541 v610 v679 v748 v817 v886 v955 v1024 v1093 v1162 v1231 v1300 v1369 v1438 v1507 v1576 v1645 v1714 v1783 v1852 v1921 v1990 v2059 v2128 v2197 v3368), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3368] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3368 k2_hw242 k2_h1 => k2_hw242 k2_h1

def k2_chk243 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3378 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3378] : Fin 1 → IVec S16 32) a x).toNat < S57344.size a)
theorem k2_idx241_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3378 : IVec S16 32) (k2_hw243 : k2_chk243 v58 v127 v196 v265 v334 v403 v472 v541 v610 v679 v748 v817 v886 v955 v1024 v1093 v1162 v1231 v1300 v1369 v1438 v1507 v1576 v1645 v1714 v1783 v1852 v1921 v1990 v2059 v2128 v2197 v3378), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3378] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3378 k2_hw243 k2_h1 => k2_hw243 k2_h1

def k2_chk244 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3388 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3388] : Fin 1 → IVec S16 32) a x).toNat < S57344.size a)
theorem k2_idx242_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3388 : IVec S16 32) (k2_hw244 : k2_chk244 v58 v127 v196 v265 v334 v403 v472 v541 v610 v679 v748 v817 v886 v955 v1024 v1093 v1162 v1231 v1300 v1369 v1438 v1507 v1576 v1645 v1714 v1783 v1852 v1921 v1990 v2059 v2128 v2197 v3388), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3388] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3388 k2_hw244 k2_h1 => k2_hw244 k2_h1

def k2_chk245 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3398 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3398] : Fin 1 → IVec S16 32) a x).toNat < S57344.size a)
theorem k2_idx243_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3398 : IVec S16 32) (k2_hw245 : k2_chk245 v58 v127 v196 v265 v334 v403 v472 v541 v610 v679 v748 v817 v886 v955 v1024 v1093 v1162 v1231 v1300 v1369 v1438 v1507 v1576 v1645 v1714 v1783 v1852 v1921 v1990 v2059 v2128 v2197 v3398), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3398] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3398 k2_hw245 k2_h1 => k2_hw245 k2_h1

def k2_chk246 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3408 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3408] : Fin 1 → IVec S16 32) a x).toNat < S57344.size a)
theorem k2_idx244_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3408 : IVec S16 32) (k2_hw246 : k2_chk246 v58 v127 v196 v265 v334 v403 v472 v541 v610 v679 v748 v817 v886 v955 v1024 v1093 v1162 v1231 v1300 v1369 v1438 v1507 v1576 v1645 v1714 v1783 v1852 v1921 v1990 v2059 v2128 v2197 v3408), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3408] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3408 k2_hw246 k2_h1 => k2_hw246 k2_h1

def k2_chk247 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3418 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3418] : Fin 1 → IVec S16 32) a x).toNat < S57344.size a)
theorem k2_idx245_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3418 : IVec S16 32) (k2_hw247 : k2_chk247 v58 v127 v196 v265 v334 v403 v472 v541 v610 v679 v748 v817 v886 v955 v1024 v1093 v1162 v1231 v1300 v1369 v1438 v1507 v1576 v1645 v1714 v1783 v1852 v1921 v1990 v2059 v2128 v2197 v3418), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3418] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3418 k2_hw247 k2_h1 => k2_hw247 k2_h1

def k2_chk248 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3428 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3428] : Fin 1 → IVec S16 32) a x).toNat < S57344.size a)
theorem k2_idx246_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3428 : IVec S16 32) (k2_hw248 : k2_chk248 v58 v127 v196 v265 v334 v403 v472 v541 v610 v679 v748 v817 v886 v955 v1024 v1093 v1162 v1231 v1300 v1369 v1438 v1507 v1576 v1645 v1714 v1783 v1852 v1921 v1990 v2059 v2128 v2197 v3428), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3428] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3428 k2_hw248 k2_h1 => k2_hw248 k2_h1

def k2_chk249 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3438 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3438] : Fin 1 → IVec S16 32) a x).toNat < S57344.size a)
theorem k2_idx247_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3438 : IVec S16 32) (k2_hw249 : k2_chk249 v58 v127 v196 v265 v334 v403 v472 v541 v610 v679 v748 v817 v886 v955 v1024 v1093 v1162 v1231 v1300 v1369 v1438 v1507 v1576 v1645 v1714 v1783 v1852 v1921 v1990 v2059 v2128 v2197 v3438), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3438] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3438 k2_hw249 k2_h1 => k2_hw249 k2_h1

def k2_chk250 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3448 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3448] : Fin 1 → IVec S16 32) a x).toNat < S57344.size a)
theorem k2_idx248_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3448 : IVec S16 32) (k2_hw250 : k2_chk250 v58 v127 v196 v265 v334 v403 v472 v541 v610 v679 v748 v817 v886 v955 v1024 v1093 v1162 v1231 v1300 v1369 v1438 v1507 v1576 v1645 v1714 v1783 v1852 v1921 v1990 v2059 v2128 v2197 v3448), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3448] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3448 k2_hw250 k2_h1 => k2_hw250 k2_h1

def k2_chk251 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3458 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3458] : Fin 1 → IVec S16 32) a x).toNat < S57344.size a)
theorem k2_idx249_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3458 : IVec S16 32) (k2_hw251 : k2_chk251 v58 v127 v196 v265 v334 v403 v472 v541 v610 v679 v748 v817 v886 v955 v1024 v1093 v1162 v1231 v1300 v1369 v1438 v1507 v1576 v1645 v1714 v1783 v1852 v1921 v1990 v2059 v2128 v2197 v3458), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3458] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3458 k2_hw251 k2_h1 => k2_hw251 k2_h1

def k2_chk252 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3468 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3468] : Fin 1 → IVec S16 32) a x).toNat < S57344.size a)
theorem k2_idx250_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3468 : IVec S16 32) (k2_hw252 : k2_chk252 v58 v127 v196 v265 v334 v403 v472 v541 v610 v679 v748 v817 v886 v955 v1024 v1093 v1162 v1231 v1300 v1369 v1438 v1507 v1576 v1645 v1714 v1783 v1852 v1921 v1990 v2059 v2128 v2197 v3468), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3468] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3468 k2_hw252 k2_h1 => k2_hw252 k2_h1

def k2_chk253 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3478 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3478] : Fin 1 → IVec S16 32) a x).toNat < S57344.size a)
theorem k2_idx251_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3478 : IVec S16 32) (k2_hw253 : k2_chk253 v58 v127 v196 v265 v334 v403 v472 v541 v610 v679 v748 v817 v886 v955 v1024 v1093 v1162 v1231 v1300 v1369 v1438 v1507 v1576 v1645 v1714 v1783 v1852 v1921 v1990 v2059 v2128 v2197 v3478), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3478] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3478 k2_hw253 k2_h1 => k2_hw253 k2_h1

def k2_chk254 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3488 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3488] : Fin 1 → IVec S16 32) a x).toNat < S57344.size a)
theorem k2_idx252_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3488 : IVec S16 32) (k2_hw254 : k2_chk254 v58 v127 v196 v265 v334 v403 v472 v541 v610 v679 v748 v817 v886 v955 v1024 v1093 v1162 v1231 v1300 v1369 v1438 v1507 v1576 v1645 v1714 v1783 v1852 v1921 v1990 v2059 v2128 v2197 v3488), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3488] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3488 k2_hw254 k2_h1 => k2_hw254 k2_h1

def k2_chk255 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3498 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3498] : Fin 1 → IVec S16 32) a x).toNat < S57344.size a)
theorem k2_idx253_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3498 : IVec S16 32) (k2_hw255 : k2_chk255 v58 v127 v196 v265 v334 v403 v472 v541 v610 v679 v748 v817 v886 v955 v1024 v1093 v1162 v1231 v1300 v1369 v1438 v1507 v1576 v1645 v1714 v1783 v1852 v1921 v1990 v2059 v2128 v2197 v3498), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3498] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3498 k2_hw255 k2_h1 => k2_hw255 k2_h1

def k2_chk256 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3508 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3508] : Fin 1 → IVec S16 32) a x).toNat < S57344.size a)
theorem k2_idx254_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3508 : IVec S16 32) (k2_hw256 : k2_chk256 v58 v127 v196 v265 v334 v403 v472 v541 v610 v679 v748 v817 v886 v955 v1024 v1093 v1162 v1231 v1300 v1369 v1438 v1507 v1576 v1645 v1714 v1783 v1852 v1921 v1990 v2059 v2128 v2197 v3508), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3508] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3508 k2_hw256 k2_h1 => k2_hw256 k2_h1

def k2_chk257 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3518 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3518] : Fin 1 → IVec S16 32) a x).toNat < S57344.size a)
theorem k2_idx255_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3518 : IVec S16 32) (k2_hw257 : k2_chk257 v58 v127 v196 v265 v334 v403 v472 v541 v610 v679 v748 v817 v886 v955 v1024 v1093 v1162 v1231 v1300 v1369 v1438 v1507 v1576 v1645 v1714 v1783 v1852 v1921 v1990 v2059 v2128 v2197 v3518), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3518] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3518 k2_hw257 k2_h1 => k2_hw257 k2_h1

def k2_chk258 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3528 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3528] : Fin 1 → IVec S16 32) a x).toNat < S57344.size a)
theorem k2_idx256_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3528 : IVec S16 32) (k2_hw258 : k2_chk258 v58 v127 v196 v265 v334 v403 v472 v541 v610 v679 v748 v817 v886 v955 v1024 v1093 v1162 v1231 v1300 v1369 v1438 v1507 v1576 v1645 v1714 v1783 v1852 v1921 v1990 v2059 v2128 v2197 v3528), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3528] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3528 k2_hw258 k2_h1 => k2_hw258 k2_h1

def k2_chk259 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3538 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3538] : Fin 1 → IVec S16 32) a x).toNat < S57344.size a)
theorem k2_idx257_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3538 : IVec S16 32) (k2_hw259 : k2_chk259 v58 v127 v196 v265 v334 v403 v472 v541 v610 v679 v748 v817 v886 v955 v1024 v1093 v1162 v1231 v1300 v1369 v1438 v1507 v1576 v1645 v1714 v1783 v1852 v1921 v1990 v2059 v2128 v2197 v3538), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3538] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3538 k2_hw259 k2_h1 => k2_hw259 k2_h1

def k2_chk260 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3548 : IVec S16 32) : Prop :=
  (∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3548] : Fin 1 → IVec S16 32) a x).toNat < S57344.size a)
theorem k2_idx258_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3548 : IVec S16 32) (k2_hw260 : k2_chk260 v58 v127 v196 v265 v334 v403 v472 v541 v610 v679 v748 v817 v886 v955 v1024 v1093 v1162 v1231 v1300 v1369 v1438 v1507 v1576 v1645 v1714 v1783 v1852 v1921 v1990 v2059 v2128 v2197 v3548), ∀ (k2_h1 : k2_cond1 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3548] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v3548 k2_hw260 k2_h1 => k2_hw260 k2_h1
@[reducible] def k2_t4_loop : Scf.Loop 32 :=
  let c0_i32_754 : BitVec 32 := 0#32
  let c256_i32 : BitVec 32 := 256#32
  let v2215 : BitVec 32 := Scalar.addi c0_i32_754 c256_i32
  let c1_i32_755 : BitVec 32 := 1#32
  ⟨c0_i32_754, v2215, c1_i32_755⟩
def k2_off3 (k2_t4 : Fin k2_t4_loop.trips) (c0_i32_764 : BitVec 32) : Fin 1 → Nat :=
  let c0_i32_754 : BitVec 32 := 0#32
  let c1_i32_755 : BitVec 32 := 1#32
  let arg14 : BitVec 32 := Scf.iv c0_i32_754 c1_i32_755 k2_t4
  let c256_i32_763 : BitVec 32 := 256#32
  let v2218 : BitVec 32 := Scalar.muli arg14 c256_i32_763
  let v2219 : BitVec 32 := Scalar.addi v2218 c0_i32_764
  let v2220 : Index := Scalar.indexCast v2219
  ![v2220.toNat]
@[reducible] def k2_t5_loop : Scf.Loop 32 :=
  let c0_i32_758 : BitVec 32 := 0#32
  let c8_i32_759 : BitVec 32 := 8#32
  let v2216 : BitVec 32 := Scalar.addi c0_i32_758 c8_i32_759
  let c1_i32_760 : BitVec 32 := 1#32
  ⟨c0_i32_758, v2216, c1_i32_760⟩
@[reducible] def k2_t6_loop (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : Scf.Loop 32 :=
  let c0_i32_778 : BitVec 32 := 0#32
  let c0_i32_20 : BitVec 32 := 0#32
  let v72 : BitVec 32 := Scalar.addi c0_i32_20 v58
  let v141 : BitVec 32 := Scalar.addi v72 v127
  let v210 : BitVec 32 := Scalar.addi v141 v196
  let v279 : BitVec 32 := Scalar.addi v210 v265
  let v348 : BitVec 32 := Scalar.addi v279 v334
  let v417 : BitVec 32 := Scalar.addi v348 v403
  let v486 : BitVec 32 := Scalar.addi v417 v472
  let v555 : BitVec 32 := Scalar.addi v486 v541
  let v624 : BitVec 32 := Scalar.addi v555 v610
  let v693 : BitVec 32 := Scalar.addi v624 v679
  let v762 : BitVec 32 := Scalar.addi v693 v748
  let v831 : BitVec 32 := Scalar.addi v762 v817
  let v900 : BitVec 32 := Scalar.addi v831 v886
  let v969 : BitVec 32 := Scalar.addi v900 v955
  let v1038 : BitVec 32 := Scalar.addi v969 v1024
  let v1107 : BitVec 32 := Scalar.addi v1038 v1093
  let v1176 : BitVec 32 := Scalar.addi v1107 v1162
  let v1245 : BitVec 32 := Scalar.addi v1176 v1231
  let v1314 : BitVec 32 := Scalar.addi v1245 v1300
  let v1383 : BitVec 32 := Scalar.addi v1314 v1369
  let v1452 : BitVec 32 := Scalar.addi v1383 v1438
  let v1521 : BitVec 32 := Scalar.addi v1452 v1507
  let v1590 : BitVec 32 := Scalar.addi v1521 v1576
  let v1659 : BitVec 32 := Scalar.addi v1590 v1645
  let v1728 : BitVec 32 := Scalar.addi v1659 v1714
  let v1797 : BitVec 32 := Scalar.addi v1728 v1783
  let v1866 : BitVec 32 := Scalar.addi v1797 v1852
  let v1935 : BitVec 32 := Scalar.addi v1866 v1921
  let v2004 : BitVec 32 := Scalar.addi v1935 v1990
  let v2073 : BitVec 32 := Scalar.addi v2004 v2059
  let v2142 : BitVec 32 := Scalar.addi v2073 v2128
  let v2211 : BitVec 32 := Scalar.addi v2142 v2197
  let c15_i32_769 : BitVec 32 := 15#32
  let v2233 : BitVec 32 := Scalar.addi v2211 c15_i32_769
  let c0_i32_771 : BitVec 32 := 0#32
  let v2235 : BitVec 1 := Scalar.cmpi .sgt v2233 c0_i32_771
  let v2236 : BitVec 32 := Scalar.extui v2235
  let c0_i32_772 : BitVec 32 := 0#32
  let v2237 : BitVec 1 := Scalar.cmpi .slt v2233 c0_i32_772
  let v2238 : BitVec 32 := Scalar.extui v2237
  let v2239 : BitVec 32 := Scalar.subi v2236 v2238
  let c16_i32_770 : BitVec 32 := 16#32
  let c0_i32_773 : BitVec 32 := 0#32
  let v2240 : BitVec 1 := Scalar.cmpi .sgt c16_i32_770 c0_i32_773
  let v2241 : BitVec 32 := Scalar.extui v2240
  let c0_i32_774 : BitVec 32 := 0#32
  let v2242 : BitVec 1 := Scalar.cmpi .slt c16_i32_770 c0_i32_774
  let v2243 : BitVec 32 := Scalar.extui v2242
  let v2244 : BitVec 32 := Scalar.subi v2241 v2243
  let v2245 : BitVec 1 := Scalar.cmpi .ne v2239 v2244
  let v2246 : BitVec 32 := Scalar.remsi v2233 c16_i32_770
  let c0_i32_775 : BitVec 32 := 0#32
  let v2247 : BitVec 1 := Scalar.cmpi .ne v2246 c0_i32_775
  let v2248 : BitVec 1 := Scalar.andi v2245 v2247
  let v2234 : BitVec 32 := Scalar.divsi v2233 c16_i32_770
  let c1_i32_776 : BitVec 32 := 1#32
  let v2249 : BitVec 32 := Scalar.subi v2234 c1_i32_776
  let v2250 : BitVec 32 := Scalar.select v2248 v2249 v2234
  let v2251 : BitVec 32 := Scalar.subi v2250 c0_i32_778
  let c1_i32_779 : BitVec 32 := 1#32
  let v2253 : BitVec 32 := Scalar.divsi v2251 c1_i32_779
  let v2254 : BitVec 32 := Scalar.muli v2253 c1_i32_779
  let v2255 : BitVec 32 := Scalar.addi c0_i32_778 v2254
  let c1_i32_780 : BitVec 32 := 1#32
  ⟨c0_i32_778, v2255, c1_i32_780⟩
def k2_cond2 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : BitVec 1 :=
  let c0_i32_20 : BitVec 32 := 0#32
  let v72 : BitVec 32 := Scalar.addi c0_i32_20 v58
  let v141 : BitVec 32 := Scalar.addi v72 v127
  let v210 : BitVec 32 := Scalar.addi v141 v196
  let v279 : BitVec 32 := Scalar.addi v210 v265
  let v348 : BitVec 32 := Scalar.addi v279 v334
  let v417 : BitVec 32 := Scalar.addi v348 v403
  let v486 : BitVec 32 := Scalar.addi v417 v472
  let v555 : BitVec 32 := Scalar.addi v486 v541
  let v624 : BitVec 32 := Scalar.addi v555 v610
  let v693 : BitVec 32 := Scalar.addi v624 v679
  let v762 : BitVec 32 := Scalar.addi v693 v748
  let v831 : BitVec 32 := Scalar.addi v762 v817
  let v900 : BitVec 32 := Scalar.addi v831 v886
  let v969 : BitVec 32 := Scalar.addi v900 v955
  let v1038 : BitVec 32 := Scalar.addi v969 v1024
  let v1107 : BitVec 32 := Scalar.addi v1038 v1093
  let v1176 : BitVec 32 := Scalar.addi v1107 v1162
  let v1245 : BitVec 32 := Scalar.addi v1176 v1231
  let v1314 : BitVec 32 := Scalar.addi v1245 v1300
  let v1383 : BitVec 32 := Scalar.addi v1314 v1369
  let v1452 : BitVec 32 := Scalar.addi v1383 v1438
  let v1521 : BitVec 32 := Scalar.addi v1452 v1507
  let v1590 : BitVec 32 := Scalar.addi v1521 v1576
  let v1659 : BitVec 32 := Scalar.addi v1590 v1645
  let v1728 : BitVec 32 := Scalar.addi v1659 v1714
  let v1797 : BitVec 32 := Scalar.addi v1728 v1783
  let v1866 : BitVec 32 := Scalar.addi v1797 v1852
  let v1935 : BitVec 32 := Scalar.addi v1866 v1921
  let v2004 : BitVec 32 := Scalar.addi v1935 v1990
  let v2073 : BitVec 32 := Scalar.addi v2004 v2059
  let v2142 : BitVec 32 := Scalar.addi v2073 v2128
  let v2211 : BitVec 32 := Scalar.addi v2142 v2197
  let c57344_i32 : BitVec 32 := 57344#32
  let v2212 : BitVec 1 := Scalar.cmpi .sle v2211 c57344_i32
  let v2218 : BitVec 32 := Scalar.extui v2212
  let c0_i32_762 : BitVec 32 := 0#32
  let v2219 : BitVec 1 := Scalar.cmpi .ne v2218 c0_i32_762
  v2219

def k2_chk262 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2264 : IVec S16 32) : Prop :=
  (∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2264] : Fin 1 → IVec S16 32) a x).toNat < S57344.size a)
theorem k2_idx259_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2264 : IVec S16 32) (k2_hw262 : k2_chk262 v58 v127 v196 v265 v334 v403 v472 v541 v610 v679 v748 v817 v886 v955 v1024 v1093 v1162 v1231 v1300 v1369 v1438 v1507 v1576 v1645 v1714 v1783 v1852 v1921 v1990 v2059 v2128 v2197 v2264), ∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2264] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2264 k2_hw262 k2_h2 => k2_hw262 k2_h2

def k2_chk263 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2277 : IVec S16 32) : Prop :=
  (∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2277] : Fin 1 → IVec S16 32) a x).toNat < S32.size a)
theorem k2_idx260_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2277 : IVec S16 32) (k2_hw263 : k2_chk263 v58 v127 v196 v265 v334 v403 v472 v541 v610 v679 v748 v817 v886 v955 v1024 v1093 v1162 v1231 v1300 v1369 v1438 v1507 v1576 v1645 v1714 v1783 v1852 v1921 v1990 v2059 v2128 v2197 v2277), ∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2277] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2277 k2_hw263 k2_h2 => k2_hw263 k2_h2

def k2_chk264 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2280 : IVec S16 32) : Prop :=
  (∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2280] : Fin 1 → IVec S16 32) a x).toNat < S65536.size a)
theorem k2_idx261_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2280 : IVec S16 32) (k2_hw264 : k2_chk264 v58 v127 v196 v265 v334 v403 v472 v541 v610 v679 v748 v817 v886 v955 v1024 v1093 v1162 v1231 v1300 v1369 v1438 v1507 v1576 v1645 v1714 v1783 v1852 v1921 v1990 v2059 v2128 v2197 v2280), ∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2280] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2280 k2_hw264 k2_h2 => k2_hw264 k2_h2
@[reducible] def k2_t7_loop (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : Scf.Loop 32 :=
  let c0_i32_778 : BitVec 32 := 0#32
  let c0_i32_20 : BitVec 32 := 0#32
  let v72 : BitVec 32 := Scalar.addi c0_i32_20 v58
  let v141 : BitVec 32 := Scalar.addi v72 v127
  let v210 : BitVec 32 := Scalar.addi v141 v196
  let v279 : BitVec 32 := Scalar.addi v210 v265
  let v348 : BitVec 32 := Scalar.addi v279 v334
  let v417 : BitVec 32 := Scalar.addi v348 v403
  let v486 : BitVec 32 := Scalar.addi v417 v472
  let v555 : BitVec 32 := Scalar.addi v486 v541
  let v624 : BitVec 32 := Scalar.addi v555 v610
  let v693 : BitVec 32 := Scalar.addi v624 v679
  let v762 : BitVec 32 := Scalar.addi v693 v748
  let v831 : BitVec 32 := Scalar.addi v762 v817
  let v900 : BitVec 32 := Scalar.addi v831 v886
  let v969 : BitVec 32 := Scalar.addi v900 v955
  let v1038 : BitVec 32 := Scalar.addi v969 v1024
  let v1107 : BitVec 32 := Scalar.addi v1038 v1093
  let v1176 : BitVec 32 := Scalar.addi v1107 v1162
  let v1245 : BitVec 32 := Scalar.addi v1176 v1231
  let v1314 : BitVec 32 := Scalar.addi v1245 v1300
  let v1383 : BitVec 32 := Scalar.addi v1314 v1369
  let v1452 : BitVec 32 := Scalar.addi v1383 v1438
  let v1521 : BitVec 32 := Scalar.addi v1452 v1507
  let v1590 : BitVec 32 := Scalar.addi v1521 v1576
  let v1659 : BitVec 32 := Scalar.addi v1590 v1645
  let v1728 : BitVec 32 := Scalar.addi v1659 v1714
  let v1797 : BitVec 32 := Scalar.addi v1728 v1783
  let v1866 : BitVec 32 := Scalar.addi v1797 v1852
  let v1935 : BitVec 32 := Scalar.addi v1866 v1921
  let v2004 : BitVec 32 := Scalar.addi v1935 v1990
  let v2073 : BitVec 32 := Scalar.addi v2004 v2059
  let v2142 : BitVec 32 := Scalar.addi v2073 v2128
  let v2211 : BitVec 32 := Scalar.addi v2142 v2197
  let c15_i32_769 : BitVec 32 := 15#32
  let v2233 : BitVec 32 := Scalar.addi v2211 c15_i32_769
  let c0_i32_771 : BitVec 32 := 0#32
  let v2235 : BitVec 1 := Scalar.cmpi .sgt v2233 c0_i32_771
  let v2236 : BitVec 32 := Scalar.extui v2235
  let c0_i32_772 : BitVec 32 := 0#32
  let v2237 : BitVec 1 := Scalar.cmpi .slt v2233 c0_i32_772
  let v2238 : BitVec 32 := Scalar.extui v2237
  let v2239 : BitVec 32 := Scalar.subi v2236 v2238
  let c16_i32_770 : BitVec 32 := 16#32
  let c0_i32_773 : BitVec 32 := 0#32
  let v2240 : BitVec 1 := Scalar.cmpi .sgt c16_i32_770 c0_i32_773
  let v2241 : BitVec 32 := Scalar.extui v2240
  let c0_i32_774 : BitVec 32 := 0#32
  let v2242 : BitVec 1 := Scalar.cmpi .slt c16_i32_770 c0_i32_774
  let v2243 : BitVec 32 := Scalar.extui v2242
  let v2244 : BitVec 32 := Scalar.subi v2241 v2243
  let v2245 : BitVec 1 := Scalar.cmpi .ne v2239 v2244
  let v2246 : BitVec 32 := Scalar.remsi v2233 c16_i32_770
  let c0_i32_775 : BitVec 32 := 0#32
  let v2247 : BitVec 1 := Scalar.cmpi .ne v2246 c0_i32_775
  let v2248 : BitVec 1 := Scalar.andi v2245 v2247
  let v2234 : BitVec 32 := Scalar.divsi v2233 c16_i32_770
  let c1_i32_776 : BitVec 32 := 1#32
  let v2249 : BitVec 32 := Scalar.subi v2234 c1_i32_776
  let v2250 : BitVec 32 := Scalar.select v2248 v2249 v2234
  let v2251 : BitVec 32 := Scalar.subi v2250 c0_i32_778
  let c1_i32_779 : BitVec 32 := 1#32
  let v2253 : BitVec 32 := Scalar.divsi v2251 c1_i32_779
  let v2254 : BitVec 32 := Scalar.muli v2253 c1_i32_779
  let v2255 : BitVec 32 := Scalar.addi c0_i32_778 v2254
  let v2252 : BitVec 32 := Scalar.addi c0_i32_778 v2251
  let c1_i32_781 : BitVec 32 := 1#32
  ⟨v2255, v2252, c1_i32_781⟩

def k2_chk265 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2264 : IVec S16 32) : Prop :=
  (∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2264] : Fin 1 → IVec S16 32) a x).toNat < S57344.size a)
theorem k2_idx262_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2264 : IVec S16 32) (k2_hw265 : k2_chk265 v58 v127 v196 v265 v334 v403 v472 v541 v610 v679 v748 v817 v886 v955 v1024 v1093 v1162 v1231 v1300 v1369 v1438 v1507 v1576 v1645 v1714 v1783 v1852 v1921 v1990 v2059 v2128 v2197 v2264), ∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2264] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2264 k2_hw265 k2_h2 => k2_hw265 k2_h2

def k2_chk266 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2277 : IVec S16 32) : Prop :=
  (∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2277] : Fin 1 → IVec S16 32) a x).toNat < S32.size a)
theorem k2_idx263_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2277 : IVec S16 32) (k2_hw266 : k2_chk266 v58 v127 v196 v265 v334 v403 v472 v541 v610 v679 v748 v817 v886 v955 v1024 v1093 v1162 v1231 v1300 v1369 v1438 v1507 v1576 v1645 v1714 v1783 v1852 v1921 v1990 v2059 v2128 v2197 v2277), ∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2277] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2277 k2_hw266 k2_h2 => k2_hw266 k2_h2

def k2_chk267 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2280 : IVec S16 32) : Prop :=
  (∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2280] : Fin 1 → IVec S16 32) a x).toNat < S65536.size a)
theorem k2_idx264_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2280 : IVec S16 32) (k2_hw267 : k2_chk267 v58 v127 v196 v265 v334 v403 v472 v541 v610 v679 v748 v817 v886 v955 v1024 v1093 v1162 v1231 v1300 v1369 v1438 v1507 v1576 v1645 v1714 v1783 v1852 v1921 v1990 v2059 v2128 v2197 v2280), ∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2280] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2280 k2_hw267 k2_h2 => k2_hw267 k2_h2
@[reducible] def k2_t8_loop : Scf.Loop 32 :=
  let c0_i32_770 : BitVec 32 := 0#32
  let c32_i32 : BitVec 32 := 32#32
  let v2233 : BitVec 32 := Scalar.addi c0_i32_770 c32_i32
  let c1_i32_771 : BitVec 32 := 1#32
  ⟨c0_i32_770, v2233, c1_i32_771⟩
def k2_cond3 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : BitVec 1 :=
  let c0_i32_20 : BitVec 32 := 0#32
  let v72 : BitVec 32 := Scalar.addi c0_i32_20 v58
  let v141 : BitVec 32 := Scalar.addi v72 v127
  let v210 : BitVec 32 := Scalar.addi v141 v196
  let v279 : BitVec 32 := Scalar.addi v210 v265
  let v348 : BitVec 32 := Scalar.addi v279 v334
  let v417 : BitVec 32 := Scalar.addi v348 v403
  let v486 : BitVec 32 := Scalar.addi v417 v472
  let v555 : BitVec 32 := Scalar.addi v486 v541
  let v624 : BitVec 32 := Scalar.addi v555 v610
  let v693 : BitVec 32 := Scalar.addi v624 v679
  let v762 : BitVec 32 := Scalar.addi v693 v748
  let v831 : BitVec 32 := Scalar.addi v762 v817
  let v900 : BitVec 32 := Scalar.addi v831 v886
  let v969 : BitVec 32 := Scalar.addi v900 v955
  let v1038 : BitVec 32 := Scalar.addi v969 v1024
  let v1107 : BitVec 32 := Scalar.addi v1038 v1093
  let v1176 : BitVec 32 := Scalar.addi v1107 v1162
  let v1245 : BitVec 32 := Scalar.addi v1176 v1231
  let v1314 : BitVec 32 := Scalar.addi v1245 v1300
  let v1383 : BitVec 32 := Scalar.addi v1314 v1369
  let v1452 : BitVec 32 := Scalar.addi v1383 v1438
  let v1521 : BitVec 32 := Scalar.addi v1452 v1507
  let v1590 : BitVec 32 := Scalar.addi v1521 v1576
  let v1659 : BitVec 32 := Scalar.addi v1590 v1645
  let v1728 : BitVec 32 := Scalar.addi v1659 v1714
  let v1797 : BitVec 32 := Scalar.addi v1728 v1783
  let v1866 : BitVec 32 := Scalar.addi v1797 v1852
  let v1935 : BitVec 32 := Scalar.addi v1866 v1921
  let v2004 : BitVec 32 := Scalar.addi v1935 v1990
  let v2073 : BitVec 32 := Scalar.addi v2004 v2059
  let v2142 : BitVec 32 := Scalar.addi v2073 v2128
  let v2211 : BitVec 32 := Scalar.addi v2142 v2197
  let c57344_i32 : BitVec 32 := 57344#32
  let v2212 : BitVec 1 := Scalar.cmpi .sle v2211 c57344_i32
  let true_763 : BitVec 1 := 1#1
  let v2220 : BitVec 1 := Scalar.xori v2212 true_763
  let v2221 : BitVec 32 := Scalar.extui v2220
  let c0_i32_764 : BitVec 32 := 0#32
  let v2222 : BitVec 1 := Scalar.cmpi .ne v2221 c0_i32_764
  v2222

def k2_chk268 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2234 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2234] : Fin 1 → IVec S16 32) a x).toNat < S32.size a)
theorem k2_idx265_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2234 : IVec S16 32) (k2_hw268 : k2_chk268 v58 v127 v196 v265 v334 v403 v472 v541 v610 v679 v748 v817 v886 v955 v1024 v1093 v1162 v1231 v1300 v1369 v1438 v1507 v1576 v1645 v1714 v1783 v1852 v1921 v1990 v2059 v2128 v2197 v2234), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2234] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2234 k2_hw268 k2_h3 => k2_hw268 k2_h3
def k2_mult2 (v2243 : BitVec 32) : BitVec 32 :=
  v2243

def k2_chk269 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), 8 ∣ (k2_mult2 v2243).toNat)
theorem k2_mult2_dvd : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (k2_hw269 : k2_chk269 v58 v127 v196 v265 v334 v403 v472 v541 v610 v679 v748 v817 v886 v955 v1024 v1093 v1162 v1231 v1300 v1369 v1438 v1507 v1576 v1645 v1714 v1783 v1852 v1921 v1990 v2059 v2128 v2197 v2243), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), 8 ∣ (k2_mult2 v2243).toNat := fun v58 v127 v196 v265 v334 v403 v472 v541 v610 v679 v748 v817 v886 v955 v1024 v1093 v1162 v1231 v1300 v1369 v1438 v1507 v1576 v1645 v1714 v1783 v1852 v1921 v1990 v2059 v2128 v2197 v2243 k2_hw269 k2_h3 => k2_hw269 k2_h3

def k2_chk270 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2245 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2245] : Fin 1 → IVec S16 32) a x).toNat < S32.size a)
theorem k2_idx266_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2245 : IVec S16 32) (k2_hw270 : k2_chk270 v58 v127 v196 v265 v334 v403 v472 v541 v610 v679 v748 v817 v886 v955 v1024 v1093 v1162 v1231 v1300 v1369 v1438 v1507 v1576 v1645 v1714 v1783 v1852 v1921 v1990 v2059 v2128 v2197 v2245), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2245] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2245 k2_hw270 k2_h3 => k2_hw270 k2_h3
@[reducible] def k2_t9_loop (v2254 : BitVec 32) : Scf.Loop 32 :=
  let c0_i32_787 : BitVec 32 := 0#32
  let c2048_i32 : BitVec 32 := 2048#32
  let v2255 : BitVec 32 := Scalar.addi v2254 c2048_i32
  let c1_i32_779 : BitVec 32 := 1#32
  let v2256 : BitVec 32 := Scalar.subi v2255 c1_i32_779
  let c0_i32_781 : BitVec 32 := 0#32
  let v2258 : BitVec 1 := Scalar.cmpi .sgt v2256 c0_i32_781
  let v2259 : BitVec 32 := Scalar.extui v2258
  let c0_i32_782 : BitVec 32 := 0#32
  let v2260 : BitVec 1 := Scalar.cmpi .slt v2256 c0_i32_782
  let v2261 : BitVec 32 := Scalar.extui v2260
  let v2262 : BitVec 32 := Scalar.subi v2259 v2261
  let c2048_i32_780 : BitVec 32 := 2048#32
  let c0_i32_783 : BitVec 32 := 0#32
  let v2263 : BitVec 1 := Scalar.cmpi .sgt c2048_i32_780 c0_i32_783
  let v2264 : BitVec 32 := Scalar.extui v2263
  let c0_i32_784 : BitVec 32 := 0#32
  let v2265 : BitVec 1 := Scalar.cmpi .slt c2048_i32_780 c0_i32_784
  let v2266 : BitVec 32 := Scalar.extui v2265
  let v2267 : BitVec 32 := Scalar.subi v2264 v2266
  let v2268 : BitVec 1 := Scalar.cmpi .ne v2262 v2267
  let v2269 : BitVec 32 := Scalar.remsi v2256 c2048_i32_780
  let c0_i32_785 : BitVec 32 := 0#32
  let v2270 : BitVec 1 := Scalar.cmpi .ne v2269 c0_i32_785
  let v2271 : BitVec 1 := Scalar.andi v2268 v2270
  let v2257 : BitVec 32 := Scalar.divsi v2256 c2048_i32_780
  let c1_i32_786 : BitVec 32 := 1#32
  let v2272 : BitVec 32 := Scalar.subi v2257 c1_i32_786
  let v2273 : BitVec 32 := Scalar.select v2271 v2272 v2257
  let v2274 : BitVec 32 := Scalar.subi v2273 c0_i32_787
  let c1_i32_788 : BitVec 32 := 1#32
  let v2276 : BitVec 32 := Scalar.divsi v2274 c1_i32_788
  let v2277 : BitVec 32 := Scalar.muli v2276 c1_i32_788
  let v2278 : BitVec 32 := Scalar.addi c0_i32_787 v2277
  let c1_i32_789 : BitVec 32 := 1#32
  ⟨c0_i32_787, v2278, c1_i32_789⟩

def k2_off4 (v2243 : BitVec 32) (v2254 : BitVec 32) (k2_t9 : Fin (k2_t9_loop v2254).trips) : Fin 1 → Nat :=
  let v2244 : BitVec 32 := v2243
  let c0_i32_787 : BitVec 32 := 0#32
  let c1_i32_789 : BitVec 32 := 1#32
  let arg16 : BitVec 32 := Scf.iv c0_i32_787 c1_i32_789 k2_t9
  let c2048_i32_791 : BitVec 32 := 2048#32
  let v2279 : BitVec 32 := Scalar.muli arg16 c2048_i32_791
  let v2280 : BitVec 32 := Scalar.addi v2244 v2279
  ![v2280.toNat]

def k2_chk272 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2299 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2299] : Fin 1 → IVec S16 32) a x).toNat < S32.size a)
theorem k2_idx267_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2299 : IVec S16 32) (k2_hw272 : k2_chk272 v58 v127 v196 v265 v334 v403 v472 v541 v610 v679 v748 v817 v886 v955 v1024 v1093 v1162 v1231 v1300 v1369 v1438 v1507 v1576 v1645 v1714 v1783 v1852 v1921 v1990 v2059 v2128 v2197 v2299), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2299] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2299 k2_hw272 k2_h3 => k2_hw272 k2_h3

def k2_chk273 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2302 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2302] : Fin 1 → IVec S16 32) a x).toNat < S65536.size a)
theorem k2_idx268_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2302 : IVec S16 32) (k2_hw273 : k2_chk273 v58 v127 v196 v265 v334 v403 v472 v541 v610 v679 v748 v817 v886 v955 v1024 v1093 v1162 v1231 v1300 v1369 v1438 v1507 v1576 v1645 v1714 v1783 v1852 v1921 v1990 v2059 v2128 v2197 v2302), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2302] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2302 k2_hw273 k2_h3 => k2_hw273 k2_h3

def k2_chk274 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2319 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2319] : Fin 1 → IVec S16 32) a x).toNat < S32.size a)
theorem k2_idx269_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2319 : IVec S16 32) (k2_hw274 : k2_chk274 v58 v127 v196 v265 v334 v403 v472 v541 v610 v679 v748 v817 v886 v955 v1024 v1093 v1162 v1231 v1300 v1369 v1438 v1507 v1576 v1645 v1714 v1783 v1852 v1921 v1990 v2059 v2128 v2197 v2319), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2319] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2319 k2_hw274 k2_h3 => k2_hw274 k2_h3

def k2_chk275 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2322 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2322] : Fin 1 → IVec S16 32) a x).toNat < S65536.size a)
theorem k2_idx270_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2322 : IVec S16 32) (k2_hw275 : k2_chk275 v58 v127 v196 v265 v334 v403 v472 v541 v610 v679 v748 v817 v886 v955 v1024 v1093 v1162 v1231 v1300 v1369 v1438 v1507 v1576 v1645 v1714 v1783 v1852 v1921 v1990 v2059 v2128 v2197 v2322), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2322] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2322 k2_hw275 k2_h3 => k2_hw275 k2_h3

def k2_chk276 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2339 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2339] : Fin 1 → IVec S16 32) a x).toNat < S32.size a)
theorem k2_idx271_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2339 : IVec S16 32) (k2_hw276 : k2_chk276 v58 v127 v196 v265 v334 v403 v472 v541 v610 v679 v748 v817 v886 v955 v1024 v1093 v1162 v1231 v1300 v1369 v1438 v1507 v1576 v1645 v1714 v1783 v1852 v1921 v1990 v2059 v2128 v2197 v2339), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2339] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2339 k2_hw276 k2_h3 => k2_hw276 k2_h3

def k2_chk277 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2342 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2342] : Fin 1 → IVec S16 32) a x).toNat < S65536.size a)
theorem k2_idx272_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2342 : IVec S16 32) (k2_hw277 : k2_chk277 v58 v127 v196 v265 v334 v403 v472 v541 v610 v679 v748 v817 v886 v955 v1024 v1093 v1162 v1231 v1300 v1369 v1438 v1507 v1576 v1645 v1714 v1783 v1852 v1921 v1990 v2059 v2128 v2197 v2342), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2342] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2342 k2_hw277 k2_h3 => k2_hw277 k2_h3

def k2_chk278 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2359 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2359] : Fin 1 → IVec S16 32) a x).toNat < S32.size a)
theorem k2_idx273_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2359 : IVec S16 32) (k2_hw278 : k2_chk278 v58 v127 v196 v265 v334 v403 v472 v541 v610 v679 v748 v817 v886 v955 v1024 v1093 v1162 v1231 v1300 v1369 v1438 v1507 v1576 v1645 v1714 v1783 v1852 v1921 v1990 v2059 v2128 v2197 v2359), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2359] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2359 k2_hw278 k2_h3 => k2_hw278 k2_h3

def k2_chk279 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2362 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2362] : Fin 1 → IVec S16 32) a x).toNat < S65536.size a)
theorem k2_idx274_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2362 : IVec S16 32) (k2_hw279 : k2_chk279 v58 v127 v196 v265 v334 v403 v472 v541 v610 v679 v748 v817 v886 v955 v1024 v1093 v1162 v1231 v1300 v1369 v1438 v1507 v1576 v1645 v1714 v1783 v1852 v1921 v1990 v2059 v2128 v2197 v2362), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2362] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2362 k2_hw279 k2_h3 => k2_hw279 k2_h3

def k2_chk280 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2379 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2379] : Fin 1 → IVec S16 32) a x).toNat < S32.size a)
theorem k2_idx275_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2379 : IVec S16 32) (k2_hw280 : k2_chk280 v58 v127 v196 v265 v334 v403 v472 v541 v610 v679 v748 v817 v886 v955 v1024 v1093 v1162 v1231 v1300 v1369 v1438 v1507 v1576 v1645 v1714 v1783 v1852 v1921 v1990 v2059 v2128 v2197 v2379), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2379] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2379 k2_hw280 k2_h3 => k2_hw280 k2_h3

def k2_chk281 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2382 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2382] : Fin 1 → IVec S16 32) a x).toNat < S65536.size a)
theorem k2_idx276_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2382 : IVec S16 32) (k2_hw281 : k2_chk281 v58 v127 v196 v265 v334 v403 v472 v541 v610 v679 v748 v817 v886 v955 v1024 v1093 v1162 v1231 v1300 v1369 v1438 v1507 v1576 v1645 v1714 v1783 v1852 v1921 v1990 v2059 v2128 v2197 v2382), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2382] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2382 k2_hw281 k2_h3 => k2_hw281 k2_h3

def k2_chk282 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2399 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2399] : Fin 1 → IVec S16 32) a x).toNat < S32.size a)
theorem k2_idx277_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2399 : IVec S16 32) (k2_hw282 : k2_chk282 v58 v127 v196 v265 v334 v403 v472 v541 v610 v679 v748 v817 v886 v955 v1024 v1093 v1162 v1231 v1300 v1369 v1438 v1507 v1576 v1645 v1714 v1783 v1852 v1921 v1990 v2059 v2128 v2197 v2399), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2399] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2399 k2_hw282 k2_h3 => k2_hw282 k2_h3

def k2_chk283 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2402 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2402] : Fin 1 → IVec S16 32) a x).toNat < S65536.size a)
theorem k2_idx278_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2402 : IVec S16 32) (k2_hw283 : k2_chk283 v58 v127 v196 v265 v334 v403 v472 v541 v610 v679 v748 v817 v886 v955 v1024 v1093 v1162 v1231 v1300 v1369 v1438 v1507 v1576 v1645 v1714 v1783 v1852 v1921 v1990 v2059 v2128 v2197 v2402), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2402] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2402 k2_hw283 k2_h3 => k2_hw283 k2_h3

def k2_chk284 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2419 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2419] : Fin 1 → IVec S16 32) a x).toNat < S32.size a)
theorem k2_idx279_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2419 : IVec S16 32) (k2_hw284 : k2_chk284 v58 v127 v196 v265 v334 v403 v472 v541 v610 v679 v748 v817 v886 v955 v1024 v1093 v1162 v1231 v1300 v1369 v1438 v1507 v1576 v1645 v1714 v1783 v1852 v1921 v1990 v2059 v2128 v2197 v2419), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2419] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2419 k2_hw284 k2_h3 => k2_hw284 k2_h3

def k2_chk285 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2422 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2422] : Fin 1 → IVec S16 32) a x).toNat < S65536.size a)
theorem k2_idx280_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2422 : IVec S16 32) (k2_hw285 : k2_chk285 v58 v127 v196 v265 v334 v403 v472 v541 v610 v679 v748 v817 v886 v955 v1024 v1093 v1162 v1231 v1300 v1369 v1438 v1507 v1576 v1645 v1714 v1783 v1852 v1921 v1990 v2059 v2128 v2197 v2422), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2422] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2422 k2_hw285 k2_h3 => k2_hw285 k2_h3

def k2_chk286 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2439 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2439] : Fin 1 → IVec S16 32) a x).toNat < S32.size a)
theorem k2_idx281_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2439 : IVec S16 32) (k2_hw286 : k2_chk286 v58 v127 v196 v265 v334 v403 v472 v541 v610 v679 v748 v817 v886 v955 v1024 v1093 v1162 v1231 v1300 v1369 v1438 v1507 v1576 v1645 v1714 v1783 v1852 v1921 v1990 v2059 v2128 v2197 v2439), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2439] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2439 k2_hw286 k2_h3 => k2_hw286 k2_h3

def k2_chk287 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2442 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2442] : Fin 1 → IVec S16 32) a x).toNat < S65536.size a)
theorem k2_idx282_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2442 : IVec S16 32) (k2_hw287 : k2_chk287 v58 v127 v196 v265 v334 v403 v472 v541 v610 v679 v748 v817 v886 v955 v1024 v1093 v1162 v1231 v1300 v1369 v1438 v1507 v1576 v1645 v1714 v1783 v1852 v1921 v1990 v2059 v2128 v2197 v2442), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2442] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2442 k2_hw287 k2_h3 => k2_hw287 k2_h3

def k2_chk288 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2459 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2459] : Fin 1 → IVec S16 32) a x).toNat < S32.size a)
theorem k2_idx283_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2459 : IVec S16 32) (k2_hw288 : k2_chk288 v58 v127 v196 v265 v334 v403 v472 v541 v610 v679 v748 v817 v886 v955 v1024 v1093 v1162 v1231 v1300 v1369 v1438 v1507 v1576 v1645 v1714 v1783 v1852 v1921 v1990 v2059 v2128 v2197 v2459), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2459] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2459 k2_hw288 k2_h3 => k2_hw288 k2_h3

def k2_chk289 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2462 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2462] : Fin 1 → IVec S16 32) a x).toNat < S65536.size a)
theorem k2_idx284_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2462 : IVec S16 32) (k2_hw289 : k2_chk289 v58 v127 v196 v265 v334 v403 v472 v541 v610 v679 v748 v817 v886 v955 v1024 v1093 v1162 v1231 v1300 v1369 v1438 v1507 v1576 v1645 v1714 v1783 v1852 v1921 v1990 v2059 v2128 v2197 v2462), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2462] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2462 k2_hw289 k2_h3 => k2_hw289 k2_h3

def k2_chk290 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2479 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2479] : Fin 1 → IVec S16 32) a x).toNat < S32.size a)
theorem k2_idx285_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2479 : IVec S16 32) (k2_hw290 : k2_chk290 v58 v127 v196 v265 v334 v403 v472 v541 v610 v679 v748 v817 v886 v955 v1024 v1093 v1162 v1231 v1300 v1369 v1438 v1507 v1576 v1645 v1714 v1783 v1852 v1921 v1990 v2059 v2128 v2197 v2479), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2479] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2479 k2_hw290 k2_h3 => k2_hw290 k2_h3

def k2_chk291 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2482 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2482] : Fin 1 → IVec S16 32) a x).toNat < S65536.size a)
theorem k2_idx286_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2482 : IVec S16 32) (k2_hw291 : k2_chk291 v58 v127 v196 v265 v334 v403 v472 v541 v610 v679 v748 v817 v886 v955 v1024 v1093 v1162 v1231 v1300 v1369 v1438 v1507 v1576 v1645 v1714 v1783 v1852 v1921 v1990 v2059 v2128 v2197 v2482), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2482] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2482 k2_hw291 k2_h3 => k2_hw291 k2_h3

def k2_chk292 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2499 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2499] : Fin 1 → IVec S16 32) a x).toNat < S32.size a)
theorem k2_idx287_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2499 : IVec S16 32) (k2_hw292 : k2_chk292 v58 v127 v196 v265 v334 v403 v472 v541 v610 v679 v748 v817 v886 v955 v1024 v1093 v1162 v1231 v1300 v1369 v1438 v1507 v1576 v1645 v1714 v1783 v1852 v1921 v1990 v2059 v2128 v2197 v2499), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2499] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2499 k2_hw292 k2_h3 => k2_hw292 k2_h3

def k2_chk293 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2502 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2502] : Fin 1 → IVec S16 32) a x).toNat < S65536.size a)
theorem k2_idx288_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2502 : IVec S16 32) (k2_hw293 : k2_chk293 v58 v127 v196 v265 v334 v403 v472 v541 v610 v679 v748 v817 v886 v955 v1024 v1093 v1162 v1231 v1300 v1369 v1438 v1507 v1576 v1645 v1714 v1783 v1852 v1921 v1990 v2059 v2128 v2197 v2502), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2502] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2502 k2_hw293 k2_h3 => k2_hw293 k2_h3

def k2_chk294 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2519 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2519] : Fin 1 → IVec S16 32) a x).toNat < S32.size a)
theorem k2_idx289_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2519 : IVec S16 32) (k2_hw294 : k2_chk294 v58 v127 v196 v265 v334 v403 v472 v541 v610 v679 v748 v817 v886 v955 v1024 v1093 v1162 v1231 v1300 v1369 v1438 v1507 v1576 v1645 v1714 v1783 v1852 v1921 v1990 v2059 v2128 v2197 v2519), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2519] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2519 k2_hw294 k2_h3 => k2_hw294 k2_h3

def k2_chk295 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2522 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2522] : Fin 1 → IVec S16 32) a x).toNat < S65536.size a)
theorem k2_idx290_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2522 : IVec S16 32) (k2_hw295 : k2_chk295 v58 v127 v196 v265 v334 v403 v472 v541 v610 v679 v748 v817 v886 v955 v1024 v1093 v1162 v1231 v1300 v1369 v1438 v1507 v1576 v1645 v1714 v1783 v1852 v1921 v1990 v2059 v2128 v2197 v2522), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2522] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2522 k2_hw295 k2_h3 => k2_hw295 k2_h3

def k2_chk296 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2539 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2539] : Fin 1 → IVec S16 32) a x).toNat < S32.size a)
theorem k2_idx291_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2539 : IVec S16 32) (k2_hw296 : k2_chk296 v58 v127 v196 v265 v334 v403 v472 v541 v610 v679 v748 v817 v886 v955 v1024 v1093 v1162 v1231 v1300 v1369 v1438 v1507 v1576 v1645 v1714 v1783 v1852 v1921 v1990 v2059 v2128 v2197 v2539), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2539] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2539 k2_hw296 k2_h3 => k2_hw296 k2_h3

def k2_chk297 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2542 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2542] : Fin 1 → IVec S16 32) a x).toNat < S65536.size a)
theorem k2_idx292_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2542 : IVec S16 32) (k2_hw297 : k2_chk297 v58 v127 v196 v265 v334 v403 v472 v541 v610 v679 v748 v817 v886 v955 v1024 v1093 v1162 v1231 v1300 v1369 v1438 v1507 v1576 v1645 v1714 v1783 v1852 v1921 v1990 v2059 v2128 v2197 v2542), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2542] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2542 k2_hw297 k2_h3 => k2_hw297 k2_h3

def k2_chk298 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2559 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2559] : Fin 1 → IVec S16 32) a x).toNat < S32.size a)
theorem k2_idx293_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2559 : IVec S16 32) (k2_hw298 : k2_chk298 v58 v127 v196 v265 v334 v403 v472 v541 v610 v679 v748 v817 v886 v955 v1024 v1093 v1162 v1231 v1300 v1369 v1438 v1507 v1576 v1645 v1714 v1783 v1852 v1921 v1990 v2059 v2128 v2197 v2559), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2559] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2559 k2_hw298 k2_h3 => k2_hw298 k2_h3

def k2_chk299 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2562 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2562] : Fin 1 → IVec S16 32) a x).toNat < S65536.size a)
theorem k2_idx294_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2562 : IVec S16 32) (k2_hw299 : k2_chk299 v58 v127 v196 v265 v334 v403 v472 v541 v610 v679 v748 v817 v886 v955 v1024 v1093 v1162 v1231 v1300 v1369 v1438 v1507 v1576 v1645 v1714 v1783 v1852 v1921 v1990 v2059 v2128 v2197 v2562), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2562] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2562 k2_hw299 k2_h3 => k2_hw299 k2_h3

def k2_chk300 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2579 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2579] : Fin 1 → IVec S16 32) a x).toNat < S32.size a)
theorem k2_idx295_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2579 : IVec S16 32) (k2_hw300 : k2_chk300 v58 v127 v196 v265 v334 v403 v472 v541 v610 v679 v748 v817 v886 v955 v1024 v1093 v1162 v1231 v1300 v1369 v1438 v1507 v1576 v1645 v1714 v1783 v1852 v1921 v1990 v2059 v2128 v2197 v2579), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2579] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2579 k2_hw300 k2_h3 => k2_hw300 k2_h3

def k2_chk301 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2582 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2582] : Fin 1 → IVec S16 32) a x).toNat < S65536.size a)
theorem k2_idx296_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2582 : IVec S16 32) (k2_hw301 : k2_chk301 v58 v127 v196 v265 v334 v403 v472 v541 v610 v679 v748 v817 v886 v955 v1024 v1093 v1162 v1231 v1300 v1369 v1438 v1507 v1576 v1645 v1714 v1783 v1852 v1921 v1990 v2059 v2128 v2197 v2582), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2582] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2582 k2_hw301 k2_h3 => k2_hw301 k2_h3

def k2_chk302 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2599 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2599] : Fin 1 → IVec S16 32) a x).toNat < S32.size a)
theorem k2_idx297_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2599 : IVec S16 32) (k2_hw302 : k2_chk302 v58 v127 v196 v265 v334 v403 v472 v541 v610 v679 v748 v817 v886 v955 v1024 v1093 v1162 v1231 v1300 v1369 v1438 v1507 v1576 v1645 v1714 v1783 v1852 v1921 v1990 v2059 v2128 v2197 v2599), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2599] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2599 k2_hw302 k2_h3 => k2_hw302 k2_h3

def k2_chk303 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2602 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2602] : Fin 1 → IVec S16 32) a x).toNat < S65536.size a)
theorem k2_idx298_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2602 : IVec S16 32) (k2_hw303 : k2_chk303 v58 v127 v196 v265 v334 v403 v472 v541 v610 v679 v748 v817 v886 v955 v1024 v1093 v1162 v1231 v1300 v1369 v1438 v1507 v1576 v1645 v1714 v1783 v1852 v1921 v1990 v2059 v2128 v2197 v2602), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2602] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2602 k2_hw303 k2_h3 => k2_hw303 k2_h3

def k2_chk304 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2619 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2619] : Fin 1 → IVec S16 32) a x).toNat < S32.size a)
theorem k2_idx299_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2619 : IVec S16 32) (k2_hw304 : k2_chk304 v58 v127 v196 v265 v334 v403 v472 v541 v610 v679 v748 v817 v886 v955 v1024 v1093 v1162 v1231 v1300 v1369 v1438 v1507 v1576 v1645 v1714 v1783 v1852 v1921 v1990 v2059 v2128 v2197 v2619), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2619] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2619 k2_hw304 k2_h3 => k2_hw304 k2_h3

def k2_chk305 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2622 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2622] : Fin 1 → IVec S16 32) a x).toNat < S65536.size a)
theorem k2_idx300_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2622 : IVec S16 32) (k2_hw305 : k2_chk305 v58 v127 v196 v265 v334 v403 v472 v541 v610 v679 v748 v817 v886 v955 v1024 v1093 v1162 v1231 v1300 v1369 v1438 v1507 v1576 v1645 v1714 v1783 v1852 v1921 v1990 v2059 v2128 v2197 v2622), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2622] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2622 k2_hw305 k2_h3 => k2_hw305 k2_h3

def k2_chk306 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2639 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2639] : Fin 1 → IVec S16 32) a x).toNat < S32.size a)
theorem k2_idx301_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2639 : IVec S16 32) (k2_hw306 : k2_chk306 v58 v127 v196 v265 v334 v403 v472 v541 v610 v679 v748 v817 v886 v955 v1024 v1093 v1162 v1231 v1300 v1369 v1438 v1507 v1576 v1645 v1714 v1783 v1852 v1921 v1990 v2059 v2128 v2197 v2639), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2639] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2639 k2_hw306 k2_h3 => k2_hw306 k2_h3

def k2_chk307 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2642 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2642] : Fin 1 → IVec S16 32) a x).toNat < S65536.size a)
theorem k2_idx302_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2642 : IVec S16 32) (k2_hw307 : k2_chk307 v58 v127 v196 v265 v334 v403 v472 v541 v610 v679 v748 v817 v886 v955 v1024 v1093 v1162 v1231 v1300 v1369 v1438 v1507 v1576 v1645 v1714 v1783 v1852 v1921 v1990 v2059 v2128 v2197 v2642), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2642] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2642 k2_hw307 k2_h3 => k2_hw307 k2_h3

def k2_chk308 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2659 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2659] : Fin 1 → IVec S16 32) a x).toNat < S32.size a)
theorem k2_idx303_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2659 : IVec S16 32) (k2_hw308 : k2_chk308 v58 v127 v196 v265 v334 v403 v472 v541 v610 v679 v748 v817 v886 v955 v1024 v1093 v1162 v1231 v1300 v1369 v1438 v1507 v1576 v1645 v1714 v1783 v1852 v1921 v1990 v2059 v2128 v2197 v2659), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2659] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2659 k2_hw308 k2_h3 => k2_hw308 k2_h3

def k2_chk309 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2662 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2662] : Fin 1 → IVec S16 32) a x).toNat < S65536.size a)
theorem k2_idx304_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2662 : IVec S16 32) (k2_hw309 : k2_chk309 v58 v127 v196 v265 v334 v403 v472 v541 v610 v679 v748 v817 v886 v955 v1024 v1093 v1162 v1231 v1300 v1369 v1438 v1507 v1576 v1645 v1714 v1783 v1852 v1921 v1990 v2059 v2128 v2197 v2662), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2662] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2662 k2_hw309 k2_h3 => k2_hw309 k2_h3

def k2_chk310 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2679 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2679] : Fin 1 → IVec S16 32) a x).toNat < S32.size a)
theorem k2_idx305_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2679 : IVec S16 32) (k2_hw310 : k2_chk310 v58 v127 v196 v265 v334 v403 v472 v541 v610 v679 v748 v817 v886 v955 v1024 v1093 v1162 v1231 v1300 v1369 v1438 v1507 v1576 v1645 v1714 v1783 v1852 v1921 v1990 v2059 v2128 v2197 v2679), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2679] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2679 k2_hw310 k2_h3 => k2_hw310 k2_h3

def k2_chk311 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2682 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2682] : Fin 1 → IVec S16 32) a x).toNat < S65536.size a)
theorem k2_idx306_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2682 : IVec S16 32) (k2_hw311 : k2_chk311 v58 v127 v196 v265 v334 v403 v472 v541 v610 v679 v748 v817 v886 v955 v1024 v1093 v1162 v1231 v1300 v1369 v1438 v1507 v1576 v1645 v1714 v1783 v1852 v1921 v1990 v2059 v2128 v2197 v2682), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2682] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2682 k2_hw311 k2_h3 => k2_hw311 k2_h3

def k2_chk312 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2699 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2699] : Fin 1 → IVec S16 32) a x).toNat < S32.size a)
theorem k2_idx307_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2699 : IVec S16 32) (k2_hw312 : k2_chk312 v58 v127 v196 v265 v334 v403 v472 v541 v610 v679 v748 v817 v886 v955 v1024 v1093 v1162 v1231 v1300 v1369 v1438 v1507 v1576 v1645 v1714 v1783 v1852 v1921 v1990 v2059 v2128 v2197 v2699), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2699] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2699 k2_hw312 k2_h3 => k2_hw312 k2_h3

def k2_chk313 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2702 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2702] : Fin 1 → IVec S16 32) a x).toNat < S65536.size a)
theorem k2_idx308_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2702 : IVec S16 32) (k2_hw313 : k2_chk313 v58 v127 v196 v265 v334 v403 v472 v541 v610 v679 v748 v817 v886 v955 v1024 v1093 v1162 v1231 v1300 v1369 v1438 v1507 v1576 v1645 v1714 v1783 v1852 v1921 v1990 v2059 v2128 v2197 v2702), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2702] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2702 k2_hw313 k2_h3 => k2_hw313 k2_h3

def k2_chk314 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2719 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2719] : Fin 1 → IVec S16 32) a x).toNat < S32.size a)
theorem k2_idx309_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2719 : IVec S16 32) (k2_hw314 : k2_chk314 v58 v127 v196 v265 v334 v403 v472 v541 v610 v679 v748 v817 v886 v955 v1024 v1093 v1162 v1231 v1300 v1369 v1438 v1507 v1576 v1645 v1714 v1783 v1852 v1921 v1990 v2059 v2128 v2197 v2719), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2719] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2719 k2_hw314 k2_h3 => k2_hw314 k2_h3

def k2_chk315 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2722 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2722] : Fin 1 → IVec S16 32) a x).toNat < S65536.size a)
theorem k2_idx310_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2722 : IVec S16 32) (k2_hw315 : k2_chk315 v58 v127 v196 v265 v334 v403 v472 v541 v610 v679 v748 v817 v886 v955 v1024 v1093 v1162 v1231 v1300 v1369 v1438 v1507 v1576 v1645 v1714 v1783 v1852 v1921 v1990 v2059 v2128 v2197 v2722), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2722] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2722 k2_hw315 k2_h3 => k2_hw315 k2_h3

def k2_chk316 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2739 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2739] : Fin 1 → IVec S16 32) a x).toNat < S32.size a)
theorem k2_idx311_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2739 : IVec S16 32) (k2_hw316 : k2_chk316 v58 v127 v196 v265 v334 v403 v472 v541 v610 v679 v748 v817 v886 v955 v1024 v1093 v1162 v1231 v1300 v1369 v1438 v1507 v1576 v1645 v1714 v1783 v1852 v1921 v1990 v2059 v2128 v2197 v2739), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2739] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2739 k2_hw316 k2_h3 => k2_hw316 k2_h3

def k2_chk317 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2742 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2742] : Fin 1 → IVec S16 32) a x).toNat < S65536.size a)
theorem k2_idx312_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2742 : IVec S16 32) (k2_hw317 : k2_chk317 v58 v127 v196 v265 v334 v403 v472 v541 v610 v679 v748 v817 v886 v955 v1024 v1093 v1162 v1231 v1300 v1369 v1438 v1507 v1576 v1645 v1714 v1783 v1852 v1921 v1990 v2059 v2128 v2197 v2742), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2742] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2742 k2_hw317 k2_h3 => k2_hw317 k2_h3

def k2_chk318 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2759 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2759] : Fin 1 → IVec S16 32) a x).toNat < S32.size a)
theorem k2_idx313_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2759 : IVec S16 32) (k2_hw318 : k2_chk318 v58 v127 v196 v265 v334 v403 v472 v541 v610 v679 v748 v817 v886 v955 v1024 v1093 v1162 v1231 v1300 v1369 v1438 v1507 v1576 v1645 v1714 v1783 v1852 v1921 v1990 v2059 v2128 v2197 v2759), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2759] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2759 k2_hw318 k2_h3 => k2_hw318 k2_h3

def k2_chk319 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2762 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2762] : Fin 1 → IVec S16 32) a x).toNat < S65536.size a)
theorem k2_idx314_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2762 : IVec S16 32) (k2_hw319 : k2_chk319 v58 v127 v196 v265 v334 v403 v472 v541 v610 v679 v748 v817 v886 v955 v1024 v1093 v1162 v1231 v1300 v1369 v1438 v1507 v1576 v1645 v1714 v1783 v1852 v1921 v1990 v2059 v2128 v2197 v2762), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2762] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2762 k2_hw319 k2_h3 => k2_hw319 k2_h3

def k2_chk320 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2779 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2779] : Fin 1 → IVec S16 32) a x).toNat < S32.size a)
theorem k2_idx315_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2779 : IVec S16 32) (k2_hw320 : k2_chk320 v58 v127 v196 v265 v334 v403 v472 v541 v610 v679 v748 v817 v886 v955 v1024 v1093 v1162 v1231 v1300 v1369 v1438 v1507 v1576 v1645 v1714 v1783 v1852 v1921 v1990 v2059 v2128 v2197 v2779), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2779] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2779 k2_hw320 k2_h3 => k2_hw320 k2_h3

def k2_chk321 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2782 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2782] : Fin 1 → IVec S16 32) a x).toNat < S65536.size a)
theorem k2_idx316_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2782 : IVec S16 32) (k2_hw321 : k2_chk321 v58 v127 v196 v265 v334 v403 v472 v541 v610 v679 v748 v817 v886 v955 v1024 v1093 v1162 v1231 v1300 v1369 v1438 v1507 v1576 v1645 v1714 v1783 v1852 v1921 v1990 v2059 v2128 v2197 v2782), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2782] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2782 k2_hw321 k2_h3 => k2_hw321 k2_h3

def k2_chk322 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2799 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2799] : Fin 1 → IVec S16 32) a x).toNat < S32.size a)
theorem k2_idx317_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2799 : IVec S16 32) (k2_hw322 : k2_chk322 v58 v127 v196 v265 v334 v403 v472 v541 v610 v679 v748 v817 v886 v955 v1024 v1093 v1162 v1231 v1300 v1369 v1438 v1507 v1576 v1645 v1714 v1783 v1852 v1921 v1990 v2059 v2128 v2197 v2799), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2799] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2799 k2_hw322 k2_h3 => k2_hw322 k2_h3

def k2_chk323 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2802 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2802] : Fin 1 → IVec S16 32) a x).toNat < S65536.size a)
theorem k2_idx318_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2802 : IVec S16 32) (k2_hw323 : k2_chk323 v58 v127 v196 v265 v334 v403 v472 v541 v610 v679 v748 v817 v886 v955 v1024 v1093 v1162 v1231 v1300 v1369 v1438 v1507 v1576 v1645 v1714 v1783 v1852 v1921 v1990 v2059 v2128 v2197 v2802), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2802] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2802 k2_hw323 k2_h3 => k2_hw323 k2_h3

def k2_chk324 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2819 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2819] : Fin 1 → IVec S16 32) a x).toNat < S32.size a)
theorem k2_idx319_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2819 : IVec S16 32) (k2_hw324 : k2_chk324 v58 v127 v196 v265 v334 v403 v472 v541 v610 v679 v748 v817 v886 v955 v1024 v1093 v1162 v1231 v1300 v1369 v1438 v1507 v1576 v1645 v1714 v1783 v1852 v1921 v1990 v2059 v2128 v2197 v2819), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2819] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2819 k2_hw324 k2_h3 => k2_hw324 k2_h3

def k2_chk325 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2822 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2822] : Fin 1 → IVec S16 32) a x).toNat < S65536.size a)
theorem k2_idx320_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2822 : IVec S16 32) (k2_hw325 : k2_chk325 v58 v127 v196 v265 v334 v403 v472 v541 v610 v679 v748 v817 v886 v955 v1024 v1093 v1162 v1231 v1300 v1369 v1438 v1507 v1576 v1645 v1714 v1783 v1852 v1921 v1990 v2059 v2128 v2197 v2822), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2822] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2822 k2_hw325 k2_h3 => k2_hw325 k2_h3

def k2_chk326 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2839 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2839] : Fin 1 → IVec S16 32) a x).toNat < S32.size a)
theorem k2_idx321_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2839 : IVec S16 32) (k2_hw326 : k2_chk326 v58 v127 v196 v265 v334 v403 v472 v541 v610 v679 v748 v817 v886 v955 v1024 v1093 v1162 v1231 v1300 v1369 v1438 v1507 v1576 v1645 v1714 v1783 v1852 v1921 v1990 v2059 v2128 v2197 v2839), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2839] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2839 k2_hw326 k2_h3 => k2_hw326 k2_h3

def k2_chk327 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2842 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2842] : Fin 1 → IVec S16 32) a x).toNat < S65536.size a)
theorem k2_idx322_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2842 : IVec S16 32) (k2_hw327 : k2_chk327 v58 v127 v196 v265 v334 v403 v472 v541 v610 v679 v748 v817 v886 v955 v1024 v1093 v1162 v1231 v1300 v1369 v1438 v1507 v1576 v1645 v1714 v1783 v1852 v1921 v1990 v2059 v2128 v2197 v2842), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2842] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2842 k2_hw327 k2_h3 => k2_hw327 k2_h3

def k2_chk328 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2859 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2859] : Fin 1 → IVec S16 32) a x).toNat < S32.size a)
theorem k2_idx323_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2859 : IVec S16 32) (k2_hw328 : k2_chk328 v58 v127 v196 v265 v334 v403 v472 v541 v610 v679 v748 v817 v886 v955 v1024 v1093 v1162 v1231 v1300 v1369 v1438 v1507 v1576 v1645 v1714 v1783 v1852 v1921 v1990 v2059 v2128 v2197 v2859), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2859] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2859 k2_hw328 k2_h3 => k2_hw328 k2_h3

def k2_chk329 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2862 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2862] : Fin 1 → IVec S16 32) a x).toNat < S65536.size a)
theorem k2_idx324_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2862 : IVec S16 32) (k2_hw329 : k2_chk329 v58 v127 v196 v265 v334 v403 v472 v541 v610 v679 v748 v817 v886 v955 v1024 v1093 v1162 v1231 v1300 v1369 v1438 v1507 v1576 v1645 v1714 v1783 v1852 v1921 v1990 v2059 v2128 v2197 v2862), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2862] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2862 k2_hw329 k2_h3 => k2_hw329 k2_h3

def k2_chk330 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2879 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2879] : Fin 1 → IVec S16 32) a x).toNat < S32.size a)
theorem k2_idx325_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2879 : IVec S16 32) (k2_hw330 : k2_chk330 v58 v127 v196 v265 v334 v403 v472 v541 v610 v679 v748 v817 v886 v955 v1024 v1093 v1162 v1231 v1300 v1369 v1438 v1507 v1576 v1645 v1714 v1783 v1852 v1921 v1990 v2059 v2128 v2197 v2879), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2879] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2879 k2_hw330 k2_h3 => k2_hw330 k2_h3

def k2_chk331 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2882 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2882] : Fin 1 → IVec S16 32) a x).toNat < S65536.size a)
theorem k2_idx326_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2882 : IVec S16 32) (k2_hw331 : k2_chk331 v58 v127 v196 v265 v334 v403 v472 v541 v610 v679 v748 v817 v886 v955 v1024 v1093 v1162 v1231 v1300 v1369 v1438 v1507 v1576 v1645 v1714 v1783 v1852 v1921 v1990 v2059 v2128 v2197 v2882), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2882] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2882 k2_hw331 k2_h3 => k2_hw331 k2_h3

def k2_chk332 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2899 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2899] : Fin 1 → IVec S16 32) a x).toNat < S32.size a)
theorem k2_idx327_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2899 : IVec S16 32) (k2_hw332 : k2_chk332 v58 v127 v196 v265 v334 v403 v472 v541 v610 v679 v748 v817 v886 v955 v1024 v1093 v1162 v1231 v1300 v1369 v1438 v1507 v1576 v1645 v1714 v1783 v1852 v1921 v1990 v2059 v2128 v2197 v2899), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2899] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2899 k2_hw332 k2_h3 => k2_hw332 k2_h3

def k2_chk333 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2902 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2902] : Fin 1 → IVec S16 32) a x).toNat < S65536.size a)
theorem k2_idx328_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2902 : IVec S16 32) (k2_hw333 : k2_chk333 v58 v127 v196 v265 v334 v403 v472 v541 v610 v679 v748 v817 v886 v955 v1024 v1093 v1162 v1231 v1300 v1369 v1438 v1507 v1576 v1645 v1714 v1783 v1852 v1921 v1990 v2059 v2128 v2197 v2902), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2902] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2902 k2_hw333 k2_h3 => k2_hw333 k2_h3

def k2_chk334 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2919 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2919] : Fin 1 → IVec S16 32) a x).toNat < S32.size a)
theorem k2_idx329_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2919 : IVec S16 32) (k2_hw334 : k2_chk334 v58 v127 v196 v265 v334 v403 v472 v541 v610 v679 v748 v817 v886 v955 v1024 v1093 v1162 v1231 v1300 v1369 v1438 v1507 v1576 v1645 v1714 v1783 v1852 v1921 v1990 v2059 v2128 v2197 v2919), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2919] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2919 k2_hw334 k2_h3 => k2_hw334 k2_h3

def k2_chk335 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2922 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2922] : Fin 1 → IVec S16 32) a x).toNat < S65536.size a)
theorem k2_idx330_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2922 : IVec S16 32) (k2_hw335 : k2_chk335 v58 v127 v196 v265 v334 v403 v472 v541 v610 v679 v748 v817 v886 v955 v1024 v1093 v1162 v1231 v1300 v1369 v1438 v1507 v1576 v1645 v1714 v1783 v1852 v1921 v1990 v2059 v2128 v2197 v2922), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2922] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2922 k2_hw335 k2_h3 => k2_hw335 k2_h3

def k2_chk336 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2939 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2939] : Fin 1 → IVec S16 32) a x).toNat < S32.size a)
theorem k2_idx331_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2939 : IVec S16 32) (k2_hw336 : k2_chk336 v58 v127 v196 v265 v334 v403 v472 v541 v610 v679 v748 v817 v886 v955 v1024 v1093 v1162 v1231 v1300 v1369 v1438 v1507 v1576 v1645 v1714 v1783 v1852 v1921 v1990 v2059 v2128 v2197 v2939), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2939] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2939 k2_hw336 k2_h3 => k2_hw336 k2_h3

def k2_chk337 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2942 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2942] : Fin 1 → IVec S16 32) a x).toNat < S65536.size a)
theorem k2_idx332_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2942 : IVec S16 32) (k2_hw337 : k2_chk337 v58 v127 v196 v265 v334 v403 v472 v541 v610 v679 v748 v817 v886 v955 v1024 v1093 v1162 v1231 v1300 v1369 v1438 v1507 v1576 v1645 v1714 v1783 v1852 v1921 v1990 v2059 v2128 v2197 v2942), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2942] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2942 k2_hw337 k2_h3 => k2_hw337 k2_h3

def k2_chk338 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2959 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2959] : Fin 1 → IVec S16 32) a x).toNat < S32.size a)
theorem k2_idx333_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2959 : IVec S16 32) (k2_hw338 : k2_chk338 v58 v127 v196 v265 v334 v403 v472 v541 v610 v679 v748 v817 v886 v955 v1024 v1093 v1162 v1231 v1300 v1369 v1438 v1507 v1576 v1645 v1714 v1783 v1852 v1921 v1990 v2059 v2128 v2197 v2959), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2959] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2959 k2_hw338 k2_h3 => k2_hw338 k2_h3

def k2_chk339 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2962 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2962] : Fin 1 → IVec S16 32) a x).toNat < S65536.size a)
theorem k2_idx334_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2962 : IVec S16 32) (k2_hw339 : k2_chk339 v58 v127 v196 v265 v334 v403 v472 v541 v610 v679 v748 v817 v886 v955 v1024 v1093 v1162 v1231 v1300 v1369 v1438 v1507 v1576 v1645 v1714 v1783 v1852 v1921 v1990 v2059 v2128 v2197 v2962), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2962] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2962 k2_hw339 k2_h3 => k2_hw339 k2_h3

def k2_chk340 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2979 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2979] : Fin 1 → IVec S16 32) a x).toNat < S32.size a)
theorem k2_idx335_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2979 : IVec S16 32) (k2_hw340 : k2_chk340 v58 v127 v196 v265 v334 v403 v472 v541 v610 v679 v748 v817 v886 v955 v1024 v1093 v1162 v1231 v1300 v1369 v1438 v1507 v1576 v1645 v1714 v1783 v1852 v1921 v1990 v2059 v2128 v2197 v2979), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2979] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2979 k2_hw340 k2_h3 => k2_hw340 k2_h3

def k2_chk341 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2982 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2982] : Fin 1 → IVec S16 32) a x).toNat < S65536.size a)
theorem k2_idx336_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2982 : IVec S16 32) (k2_hw341 : k2_chk341 v58 v127 v196 v265 v334 v403 v472 v541 v610 v679 v748 v817 v886 v955 v1024 v1093 v1162 v1231 v1300 v1369 v1438 v1507 v1576 v1645 v1714 v1783 v1852 v1921 v1990 v2059 v2128 v2197 v2982), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2982] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2982 k2_hw341 k2_h3 => k2_hw341 k2_h3

def k2_chk342 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2999 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2999] : Fin 1 → IVec S16 32) a x).toNat < S32.size a)
theorem k2_idx337_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2999 : IVec S16 32) (k2_hw342 : k2_chk342 v58 v127 v196 v265 v334 v403 v472 v541 v610 v679 v748 v817 v886 v955 v1024 v1093 v1162 v1231 v1300 v1369 v1438 v1507 v1576 v1645 v1714 v1783 v1852 v1921 v1990 v2059 v2128 v2197 v2999), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2999] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2999 k2_hw342 k2_h3 => k2_hw342 k2_h3

def k2_chk343 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3002 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3002] : Fin 1 → IVec S16 32) a x).toNat < S65536.size a)
theorem k2_idx338_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3002 : IVec S16 32) (k2_hw343 : k2_chk343 v58 v127 v196 v265 v334 v403 v472 v541 v610 v679 v748 v817 v886 v955 v1024 v1093 v1162 v1231 v1300 v1369 v1438 v1507 v1576 v1645 v1714 v1783 v1852 v1921 v1990 v2059 v2128 v2197 v3002), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3002] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3002 k2_hw343 k2_h3 => k2_hw343 k2_h3

def k2_chk344 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3019 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3019] : Fin 1 → IVec S16 32) a x).toNat < S32.size a)
theorem k2_idx339_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3019 : IVec S16 32) (k2_hw344 : k2_chk344 v58 v127 v196 v265 v334 v403 v472 v541 v610 v679 v748 v817 v886 v955 v1024 v1093 v1162 v1231 v1300 v1369 v1438 v1507 v1576 v1645 v1714 v1783 v1852 v1921 v1990 v2059 v2128 v2197 v3019), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3019] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3019 k2_hw344 k2_h3 => k2_hw344 k2_h3

def k2_chk345 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3022 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3022] : Fin 1 → IVec S16 32) a x).toNat < S65536.size a)
theorem k2_idx340_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3022 : IVec S16 32) (k2_hw345 : k2_chk345 v58 v127 v196 v265 v334 v403 v472 v541 v610 v679 v748 v817 v886 v955 v1024 v1093 v1162 v1231 v1300 v1369 v1438 v1507 v1576 v1645 v1714 v1783 v1852 v1921 v1990 v2059 v2128 v2197 v3022), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3022] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3022 k2_hw345 k2_h3 => k2_hw345 k2_h3

def k2_chk346 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3039 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3039] : Fin 1 → IVec S16 32) a x).toNat < S32.size a)
theorem k2_idx341_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3039 : IVec S16 32) (k2_hw346 : k2_chk346 v58 v127 v196 v265 v334 v403 v472 v541 v610 v679 v748 v817 v886 v955 v1024 v1093 v1162 v1231 v1300 v1369 v1438 v1507 v1576 v1645 v1714 v1783 v1852 v1921 v1990 v2059 v2128 v2197 v3039), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3039] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3039 k2_hw346 k2_h3 => k2_hw346 k2_h3

def k2_chk347 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3042 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3042] : Fin 1 → IVec S16 32) a x).toNat < S65536.size a)
theorem k2_idx342_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3042 : IVec S16 32) (k2_hw347 : k2_chk347 v58 v127 v196 v265 v334 v403 v472 v541 v610 v679 v748 v817 v886 v955 v1024 v1093 v1162 v1231 v1300 v1369 v1438 v1507 v1576 v1645 v1714 v1783 v1852 v1921 v1990 v2059 v2128 v2197 v3042), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3042] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3042 k2_hw347 k2_h3 => k2_hw347 k2_h3

def k2_chk348 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3059 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3059] : Fin 1 → IVec S16 32) a x).toNat < S32.size a)
theorem k2_idx343_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3059 : IVec S16 32) (k2_hw348 : k2_chk348 v58 v127 v196 v265 v334 v403 v472 v541 v610 v679 v748 v817 v886 v955 v1024 v1093 v1162 v1231 v1300 v1369 v1438 v1507 v1576 v1645 v1714 v1783 v1852 v1921 v1990 v2059 v2128 v2197 v3059), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3059] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3059 k2_hw348 k2_h3 => k2_hw348 k2_h3

def k2_chk349 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3062 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3062] : Fin 1 → IVec S16 32) a x).toNat < S65536.size a)
theorem k2_idx344_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3062 : IVec S16 32) (k2_hw349 : k2_chk349 v58 v127 v196 v265 v334 v403 v472 v541 v610 v679 v748 v817 v886 v955 v1024 v1093 v1162 v1231 v1300 v1369 v1438 v1507 v1576 v1645 v1714 v1783 v1852 v1921 v1990 v2059 v2128 v2197 v3062), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3062] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3062 k2_hw349 k2_h3 => k2_hw349 k2_h3

def k2_chk350 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3079 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3079] : Fin 1 → IVec S16 32) a x).toNat < S32.size a)
theorem k2_idx345_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3079 : IVec S16 32) (k2_hw350 : k2_chk350 v58 v127 v196 v265 v334 v403 v472 v541 v610 v679 v748 v817 v886 v955 v1024 v1093 v1162 v1231 v1300 v1369 v1438 v1507 v1576 v1645 v1714 v1783 v1852 v1921 v1990 v2059 v2128 v2197 v3079), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3079] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3079 k2_hw350 k2_h3 => k2_hw350 k2_h3

def k2_chk351 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3082 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3082] : Fin 1 → IVec S16 32) a x).toNat < S65536.size a)
theorem k2_idx346_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3082 : IVec S16 32) (k2_hw351 : k2_chk351 v58 v127 v196 v265 v334 v403 v472 v541 v610 v679 v748 v817 v886 v955 v1024 v1093 v1162 v1231 v1300 v1369 v1438 v1507 v1576 v1645 v1714 v1783 v1852 v1921 v1990 v2059 v2128 v2197 v3082), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3082] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3082 k2_hw351 k2_h3 => k2_hw351 k2_h3

def k2_chk352 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3099 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3099] : Fin 1 → IVec S16 32) a x).toNat < S32.size a)
theorem k2_idx347_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3099 : IVec S16 32) (k2_hw352 : k2_chk352 v58 v127 v196 v265 v334 v403 v472 v541 v610 v679 v748 v817 v886 v955 v1024 v1093 v1162 v1231 v1300 v1369 v1438 v1507 v1576 v1645 v1714 v1783 v1852 v1921 v1990 v2059 v2128 v2197 v3099), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3099] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3099 k2_hw352 k2_h3 => k2_hw352 k2_h3

def k2_chk353 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3102 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3102] : Fin 1 → IVec S16 32) a x).toNat < S65536.size a)
theorem k2_idx348_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3102 : IVec S16 32) (k2_hw353 : k2_chk353 v58 v127 v196 v265 v334 v403 v472 v541 v610 v679 v748 v817 v886 v955 v1024 v1093 v1162 v1231 v1300 v1369 v1438 v1507 v1576 v1645 v1714 v1783 v1852 v1921 v1990 v2059 v2128 v2197 v3102), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3102] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3102 k2_hw353 k2_h3 => k2_hw353 k2_h3

def k2_chk354 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3119 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3119] : Fin 1 → IVec S16 32) a x).toNat < S32.size a)
theorem k2_idx349_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3119 : IVec S16 32) (k2_hw354 : k2_chk354 v58 v127 v196 v265 v334 v403 v472 v541 v610 v679 v748 v817 v886 v955 v1024 v1093 v1162 v1231 v1300 v1369 v1438 v1507 v1576 v1645 v1714 v1783 v1852 v1921 v1990 v2059 v2128 v2197 v3119), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3119] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3119 k2_hw354 k2_h3 => k2_hw354 k2_h3

def k2_chk355 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3122 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3122] : Fin 1 → IVec S16 32) a x).toNat < S65536.size a)
theorem k2_idx350_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3122 : IVec S16 32) (k2_hw355 : k2_chk355 v58 v127 v196 v265 v334 v403 v472 v541 v610 v679 v748 v817 v886 v955 v1024 v1093 v1162 v1231 v1300 v1369 v1438 v1507 v1576 v1645 v1714 v1783 v1852 v1921 v1990 v2059 v2128 v2197 v3122), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3122] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3122 k2_hw355 k2_h3 => k2_hw355 k2_h3

def k2_chk356 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3139 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3139] : Fin 1 → IVec S16 32) a x).toNat < S32.size a)
theorem k2_idx351_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3139 : IVec S16 32) (k2_hw356 : k2_chk356 v58 v127 v196 v265 v334 v403 v472 v541 v610 v679 v748 v817 v886 v955 v1024 v1093 v1162 v1231 v1300 v1369 v1438 v1507 v1576 v1645 v1714 v1783 v1852 v1921 v1990 v2059 v2128 v2197 v3139), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3139] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3139 k2_hw356 k2_h3 => k2_hw356 k2_h3

def k2_chk357 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3142 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3142] : Fin 1 → IVec S16 32) a x).toNat < S65536.size a)
theorem k2_idx352_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3142 : IVec S16 32) (k2_hw357 : k2_chk357 v58 v127 v196 v265 v334 v403 v472 v541 v610 v679 v748 v817 v886 v955 v1024 v1093 v1162 v1231 v1300 v1369 v1438 v1507 v1576 v1645 v1714 v1783 v1852 v1921 v1990 v2059 v2128 v2197 v3142), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3142] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3142 k2_hw357 k2_h3 => k2_hw357 k2_h3

def k2_chk358 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3159 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3159] : Fin 1 → IVec S16 32) a x).toNat < S32.size a)
theorem k2_idx353_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3159 : IVec S16 32) (k2_hw358 : k2_chk358 v58 v127 v196 v265 v334 v403 v472 v541 v610 v679 v748 v817 v886 v955 v1024 v1093 v1162 v1231 v1300 v1369 v1438 v1507 v1576 v1645 v1714 v1783 v1852 v1921 v1990 v2059 v2128 v2197 v3159), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3159] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3159 k2_hw358 k2_h3 => k2_hw358 k2_h3

def k2_chk359 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3162 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3162] : Fin 1 → IVec S16 32) a x).toNat < S65536.size a)
theorem k2_idx354_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3162 : IVec S16 32) (k2_hw359 : k2_chk359 v58 v127 v196 v265 v334 v403 v472 v541 v610 v679 v748 v817 v886 v955 v1024 v1093 v1162 v1231 v1300 v1369 v1438 v1507 v1576 v1645 v1714 v1783 v1852 v1921 v1990 v2059 v2128 v2197 v3162), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3162] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3162 k2_hw359 k2_h3 => k2_hw359 k2_h3

def k2_chk360 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3179 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3179] : Fin 1 → IVec S16 32) a x).toNat < S32.size a)
theorem k2_idx355_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3179 : IVec S16 32) (k2_hw360 : k2_chk360 v58 v127 v196 v265 v334 v403 v472 v541 v610 v679 v748 v817 v886 v955 v1024 v1093 v1162 v1231 v1300 v1369 v1438 v1507 v1576 v1645 v1714 v1783 v1852 v1921 v1990 v2059 v2128 v2197 v3179), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3179] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3179 k2_hw360 k2_h3 => k2_hw360 k2_h3

def k2_chk361 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3182 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3182] : Fin 1 → IVec S16 32) a x).toNat < S65536.size a)
theorem k2_idx356_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3182 : IVec S16 32) (k2_hw361 : k2_chk361 v58 v127 v196 v265 v334 v403 v472 v541 v610 v679 v748 v817 v886 v955 v1024 v1093 v1162 v1231 v1300 v1369 v1438 v1507 v1576 v1645 v1714 v1783 v1852 v1921 v1990 v2059 v2128 v2197 v3182), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3182] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3182 k2_hw361 k2_h3 => k2_hw361 k2_h3

def k2_chk362 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3199 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3199] : Fin 1 → IVec S16 32) a x).toNat < S32.size a)
theorem k2_idx357_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3199 : IVec S16 32) (k2_hw362 : k2_chk362 v58 v127 v196 v265 v334 v403 v472 v541 v610 v679 v748 v817 v886 v955 v1024 v1093 v1162 v1231 v1300 v1369 v1438 v1507 v1576 v1645 v1714 v1783 v1852 v1921 v1990 v2059 v2128 v2197 v3199), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3199] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3199 k2_hw362 k2_h3 => k2_hw362 k2_h3

def k2_chk363 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3202 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3202] : Fin 1 → IVec S16 32) a x).toNat < S65536.size a)
theorem k2_idx358_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3202 : IVec S16 32) (k2_hw363 : k2_chk363 v58 v127 v196 v265 v334 v403 v472 v541 v610 v679 v748 v817 v886 v955 v1024 v1093 v1162 v1231 v1300 v1369 v1438 v1507 v1576 v1645 v1714 v1783 v1852 v1921 v1990 v2059 v2128 v2197 v3202), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3202] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3202 k2_hw363 k2_h3 => k2_hw363 k2_h3

def k2_chk364 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3219 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3219] : Fin 1 → IVec S16 32) a x).toNat < S32.size a)
theorem k2_idx359_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3219 : IVec S16 32) (k2_hw364 : k2_chk364 v58 v127 v196 v265 v334 v403 v472 v541 v610 v679 v748 v817 v886 v955 v1024 v1093 v1162 v1231 v1300 v1369 v1438 v1507 v1576 v1645 v1714 v1783 v1852 v1921 v1990 v2059 v2128 v2197 v3219), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3219] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3219 k2_hw364 k2_h3 => k2_hw364 k2_h3

def k2_chk365 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3222 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3222] : Fin 1 → IVec S16 32) a x).toNat < S65536.size a)
theorem k2_idx360_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3222 : IVec S16 32) (k2_hw365 : k2_chk365 v58 v127 v196 v265 v334 v403 v472 v541 v610 v679 v748 v817 v886 v955 v1024 v1093 v1162 v1231 v1300 v1369 v1438 v1507 v1576 v1645 v1714 v1783 v1852 v1921 v1990 v2059 v2128 v2197 v3222), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3222] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3222 k2_hw365 k2_h3 => k2_hw365 k2_h3

def k2_chk366 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3239 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3239] : Fin 1 → IVec S16 32) a x).toNat < S32.size a)
theorem k2_idx361_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3239 : IVec S16 32) (k2_hw366 : k2_chk366 v58 v127 v196 v265 v334 v403 v472 v541 v610 v679 v748 v817 v886 v955 v1024 v1093 v1162 v1231 v1300 v1369 v1438 v1507 v1576 v1645 v1714 v1783 v1852 v1921 v1990 v2059 v2128 v2197 v3239), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3239] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3239 k2_hw366 k2_h3 => k2_hw366 k2_h3

def k2_chk367 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3242 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3242] : Fin 1 → IVec S16 32) a x).toNat < S65536.size a)
theorem k2_idx362_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3242 : IVec S16 32) (k2_hw367 : k2_chk367 v58 v127 v196 v265 v334 v403 v472 v541 v610 v679 v748 v817 v886 v955 v1024 v1093 v1162 v1231 v1300 v1369 v1438 v1507 v1576 v1645 v1714 v1783 v1852 v1921 v1990 v2059 v2128 v2197 v3242), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3242] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3242 k2_hw367 k2_h3 => k2_hw367 k2_h3

def k2_chk368 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3259 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3259] : Fin 1 → IVec S16 32) a x).toNat < S32.size a)
theorem k2_idx363_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3259 : IVec S16 32) (k2_hw368 : k2_chk368 v58 v127 v196 v265 v334 v403 v472 v541 v610 v679 v748 v817 v886 v955 v1024 v1093 v1162 v1231 v1300 v1369 v1438 v1507 v1576 v1645 v1714 v1783 v1852 v1921 v1990 v2059 v2128 v2197 v3259), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3259] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3259 k2_hw368 k2_h3 => k2_hw368 k2_h3

def k2_chk369 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3262 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3262] : Fin 1 → IVec S16 32) a x).toNat < S65536.size a)
theorem k2_idx364_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3262 : IVec S16 32) (k2_hw369 : k2_chk369 v58 v127 v196 v265 v334 v403 v472 v541 v610 v679 v748 v817 v886 v955 v1024 v1093 v1162 v1231 v1300 v1369 v1438 v1507 v1576 v1645 v1714 v1783 v1852 v1921 v1990 v2059 v2128 v2197 v3262), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3262] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3262 k2_hw369 k2_h3 => k2_hw369 k2_h3

def k2_chk370 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3279 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3279] : Fin 1 → IVec S16 32) a x).toNat < S32.size a)
theorem k2_idx365_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3279 : IVec S16 32) (k2_hw370 : k2_chk370 v58 v127 v196 v265 v334 v403 v472 v541 v610 v679 v748 v817 v886 v955 v1024 v1093 v1162 v1231 v1300 v1369 v1438 v1507 v1576 v1645 v1714 v1783 v1852 v1921 v1990 v2059 v2128 v2197 v3279), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3279] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3279 k2_hw370 k2_h3 => k2_hw370 k2_h3

def k2_chk371 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3282 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3282] : Fin 1 → IVec S16 32) a x).toNat < S65536.size a)
theorem k2_idx366_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3282 : IVec S16 32) (k2_hw371 : k2_chk371 v58 v127 v196 v265 v334 v403 v472 v541 v610 v679 v748 v817 v886 v955 v1024 v1093 v1162 v1231 v1300 v1369 v1438 v1507 v1576 v1645 v1714 v1783 v1852 v1921 v1990 v2059 v2128 v2197 v3282), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3282] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3282 k2_hw371 k2_h3 => k2_hw371 k2_h3

def k2_chk372 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3299 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3299] : Fin 1 → IVec S16 32) a x).toNat < S32.size a)
theorem k2_idx367_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3299 : IVec S16 32) (k2_hw372 : k2_chk372 v58 v127 v196 v265 v334 v403 v472 v541 v610 v679 v748 v817 v886 v955 v1024 v1093 v1162 v1231 v1300 v1369 v1438 v1507 v1576 v1645 v1714 v1783 v1852 v1921 v1990 v2059 v2128 v2197 v3299), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3299] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3299 k2_hw372 k2_h3 => k2_hw372 k2_h3

def k2_chk373 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3302 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3302] : Fin 1 → IVec S16 32) a x).toNat < S65536.size a)
theorem k2_idx368_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3302 : IVec S16 32) (k2_hw373 : k2_chk373 v58 v127 v196 v265 v334 v403 v472 v541 v610 v679 v748 v817 v886 v955 v1024 v1093 v1162 v1231 v1300 v1369 v1438 v1507 v1576 v1645 v1714 v1783 v1852 v1921 v1990 v2059 v2128 v2197 v3302), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3302] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3302 k2_hw373 k2_h3 => k2_hw373 k2_h3

def k2_chk374 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3319 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3319] : Fin 1 → IVec S16 32) a x).toNat < S32.size a)
theorem k2_idx369_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3319 : IVec S16 32) (k2_hw374 : k2_chk374 v58 v127 v196 v265 v334 v403 v472 v541 v610 v679 v748 v817 v886 v955 v1024 v1093 v1162 v1231 v1300 v1369 v1438 v1507 v1576 v1645 v1714 v1783 v1852 v1921 v1990 v2059 v2128 v2197 v3319), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3319] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3319 k2_hw374 k2_h3 => k2_hw374 k2_h3

def k2_chk375 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3322 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3322] : Fin 1 → IVec S16 32) a x).toNat < S65536.size a)
theorem k2_idx370_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3322 : IVec S16 32) (k2_hw375 : k2_chk375 v58 v127 v196 v265 v334 v403 v472 v541 v610 v679 v748 v817 v886 v955 v1024 v1093 v1162 v1231 v1300 v1369 v1438 v1507 v1576 v1645 v1714 v1783 v1852 v1921 v1990 v2059 v2128 v2197 v3322), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3322] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3322 k2_hw375 k2_h3 => k2_hw375 k2_h3

def k2_chk376 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3339 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3339] : Fin 1 → IVec S16 32) a x).toNat < S32.size a)
theorem k2_idx371_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3339 : IVec S16 32) (k2_hw376 : k2_chk376 v58 v127 v196 v265 v334 v403 v472 v541 v610 v679 v748 v817 v886 v955 v1024 v1093 v1162 v1231 v1300 v1369 v1438 v1507 v1576 v1645 v1714 v1783 v1852 v1921 v1990 v2059 v2128 v2197 v3339), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3339] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3339 k2_hw376 k2_h3 => k2_hw376 k2_h3

def k2_chk377 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3342 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3342] : Fin 1 → IVec S16 32) a x).toNat < S65536.size a)
theorem k2_idx372_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3342 : IVec S16 32) (k2_hw377 : k2_chk377 v58 v127 v196 v265 v334 v403 v472 v541 v610 v679 v748 v817 v886 v955 v1024 v1093 v1162 v1231 v1300 v1369 v1438 v1507 v1576 v1645 v1714 v1783 v1852 v1921 v1990 v2059 v2128 v2197 v3342), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3342] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3342 k2_hw377 k2_h3 => k2_hw377 k2_h3

def k2_chk378 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3359 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3359] : Fin 1 → IVec S16 32) a x).toNat < S32.size a)
theorem k2_idx373_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3359 : IVec S16 32) (k2_hw378 : k2_chk378 v58 v127 v196 v265 v334 v403 v472 v541 v610 v679 v748 v817 v886 v955 v1024 v1093 v1162 v1231 v1300 v1369 v1438 v1507 v1576 v1645 v1714 v1783 v1852 v1921 v1990 v2059 v2128 v2197 v3359), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3359] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3359 k2_hw378 k2_h3 => k2_hw378 k2_h3

def k2_chk379 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3362 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3362] : Fin 1 → IVec S16 32) a x).toNat < S65536.size a)
theorem k2_idx374_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3362 : IVec S16 32) (k2_hw379 : k2_chk379 v58 v127 v196 v265 v334 v403 v472 v541 v610 v679 v748 v817 v886 v955 v1024 v1093 v1162 v1231 v1300 v1369 v1438 v1507 v1576 v1645 v1714 v1783 v1852 v1921 v1990 v2059 v2128 v2197 v3362), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3362] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3362 k2_hw379 k2_h3 => k2_hw379 k2_h3

def k2_chk380 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3379 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3379] : Fin 1 → IVec S16 32) a x).toNat < S32.size a)
theorem k2_idx375_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3379 : IVec S16 32) (k2_hw380 : k2_chk380 v58 v127 v196 v265 v334 v403 v472 v541 v610 v679 v748 v817 v886 v955 v1024 v1093 v1162 v1231 v1300 v1369 v1438 v1507 v1576 v1645 v1714 v1783 v1852 v1921 v1990 v2059 v2128 v2197 v3379), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3379] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3379 k2_hw380 k2_h3 => k2_hw380 k2_h3

def k2_chk381 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3382 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3382] : Fin 1 → IVec S16 32) a x).toNat < S65536.size a)
theorem k2_idx376_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3382 : IVec S16 32) (k2_hw381 : k2_chk381 v58 v127 v196 v265 v334 v403 v472 v541 v610 v679 v748 v817 v886 v955 v1024 v1093 v1162 v1231 v1300 v1369 v1438 v1507 v1576 v1645 v1714 v1783 v1852 v1921 v1990 v2059 v2128 v2197 v3382), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3382] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3382 k2_hw381 k2_h3 => k2_hw381 k2_h3

def k2_chk382 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3399 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3399] : Fin 1 → IVec S16 32) a x).toNat < S32.size a)
theorem k2_idx377_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3399 : IVec S16 32) (k2_hw382 : k2_chk382 v58 v127 v196 v265 v334 v403 v472 v541 v610 v679 v748 v817 v886 v955 v1024 v1093 v1162 v1231 v1300 v1369 v1438 v1507 v1576 v1645 v1714 v1783 v1852 v1921 v1990 v2059 v2128 v2197 v3399), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3399] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3399 k2_hw382 k2_h3 => k2_hw382 k2_h3

def k2_chk383 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3402 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3402] : Fin 1 → IVec S16 32) a x).toNat < S65536.size a)
theorem k2_idx378_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3402 : IVec S16 32) (k2_hw383 : k2_chk383 v58 v127 v196 v265 v334 v403 v472 v541 v610 v679 v748 v817 v886 v955 v1024 v1093 v1162 v1231 v1300 v1369 v1438 v1507 v1576 v1645 v1714 v1783 v1852 v1921 v1990 v2059 v2128 v2197 v3402), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3402] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3402 k2_hw383 k2_h3 => k2_hw383 k2_h3

def k2_chk384 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3419 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3419] : Fin 1 → IVec S16 32) a x).toNat < S32.size a)
theorem k2_idx379_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3419 : IVec S16 32) (k2_hw384 : k2_chk384 v58 v127 v196 v265 v334 v403 v472 v541 v610 v679 v748 v817 v886 v955 v1024 v1093 v1162 v1231 v1300 v1369 v1438 v1507 v1576 v1645 v1714 v1783 v1852 v1921 v1990 v2059 v2128 v2197 v3419), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3419] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3419 k2_hw384 k2_h3 => k2_hw384 k2_h3

def k2_chk385 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3422 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3422] : Fin 1 → IVec S16 32) a x).toNat < S65536.size a)
theorem k2_idx380_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3422 : IVec S16 32) (k2_hw385 : k2_chk385 v58 v127 v196 v265 v334 v403 v472 v541 v610 v679 v748 v817 v886 v955 v1024 v1093 v1162 v1231 v1300 v1369 v1438 v1507 v1576 v1645 v1714 v1783 v1852 v1921 v1990 v2059 v2128 v2197 v3422), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3422] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3422 k2_hw385 k2_h3 => k2_hw385 k2_h3

def k2_chk386 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3439 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3439] : Fin 1 → IVec S16 32) a x).toNat < S32.size a)
theorem k2_idx381_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3439 : IVec S16 32) (k2_hw386 : k2_chk386 v58 v127 v196 v265 v334 v403 v472 v541 v610 v679 v748 v817 v886 v955 v1024 v1093 v1162 v1231 v1300 v1369 v1438 v1507 v1576 v1645 v1714 v1783 v1852 v1921 v1990 v2059 v2128 v2197 v3439), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3439] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3439 k2_hw386 k2_h3 => k2_hw386 k2_h3

def k2_chk387 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3442 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3442] : Fin 1 → IVec S16 32) a x).toNat < S65536.size a)
theorem k2_idx382_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3442 : IVec S16 32) (k2_hw387 : k2_chk387 v58 v127 v196 v265 v334 v403 v472 v541 v610 v679 v748 v817 v886 v955 v1024 v1093 v1162 v1231 v1300 v1369 v1438 v1507 v1576 v1645 v1714 v1783 v1852 v1921 v1990 v2059 v2128 v2197 v3442), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3442] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3442 k2_hw387 k2_h3 => k2_hw387 k2_h3

def k2_chk388 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3459 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3459] : Fin 1 → IVec S16 32) a x).toNat < S32.size a)
theorem k2_idx383_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3459 : IVec S16 32) (k2_hw388 : k2_chk388 v58 v127 v196 v265 v334 v403 v472 v541 v610 v679 v748 v817 v886 v955 v1024 v1093 v1162 v1231 v1300 v1369 v1438 v1507 v1576 v1645 v1714 v1783 v1852 v1921 v1990 v2059 v2128 v2197 v3459), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3459] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3459 k2_hw388 k2_h3 => k2_hw388 k2_h3

variable {F : FTy → Type} [FloatOps F]

def k2_chk389 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3462 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3462] : Fin 1 → IVec S16 32) a x).toNat < S65536.size a)
theorem k2_idx384_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3462 : IVec S16 32) (k2_hw389 : k2_chk389 v58 v127 v196 v265 v334 v403 v472 v541 v610 v679 v748 v817 v886 v955 v1024 v1093 v1162 v1231 v1300 v1369 v1438 v1507 v1576 v1645 v1714 v1783 v1852 v1921 v1990 v2059 v2128 v2197 v3462), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3462] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3462 k2_hw389 k2_h3 => k2_hw389 k2_h3

def k2_chk390 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3479 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3479] : Fin 1 → IVec S16 32) a x).toNat < S32.size a)
theorem k2_idx385_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3479 : IVec S16 32) (k2_hw390 : k2_chk390 v58 v127 v196 v265 v334 v403 v472 v541 v610 v679 v748 v817 v886 v955 v1024 v1093 v1162 v1231 v1300 v1369 v1438 v1507 v1576 v1645 v1714 v1783 v1852 v1921 v1990 v2059 v2128 v2197 v3479), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3479] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3479 k2_hw390 k2_h3 => k2_hw390 k2_h3

def k2_chk391 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3482 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3482] : Fin 1 → IVec S16 32) a x).toNat < S65536.size a)
theorem k2_idx386_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3482 : IVec S16 32) (k2_hw391 : k2_chk391 v58 v127 v196 v265 v334 v403 v472 v541 v610 v679 v748 v817 v886 v955 v1024 v1093 v1162 v1231 v1300 v1369 v1438 v1507 v1576 v1645 v1714 v1783 v1852 v1921 v1990 v2059 v2128 v2197 v3482), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3482] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3482 k2_hw391 k2_h3 => k2_hw391 k2_h3

def k2_chk392 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3499 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3499] : Fin 1 → IVec S16 32) a x).toNat < S32.size a)
theorem k2_idx387_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3499 : IVec S16 32) (k2_hw392 : k2_chk392 v58 v127 v196 v265 v334 v403 v472 v541 v610 v679 v748 v817 v886 v955 v1024 v1093 v1162 v1231 v1300 v1369 v1438 v1507 v1576 v1645 v1714 v1783 v1852 v1921 v1990 v2059 v2128 v2197 v3499), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3499] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3499 k2_hw392 k2_h3 => k2_hw392 k2_h3

def k2_chk393 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3502 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3502] : Fin 1 → IVec S16 32) a x).toNat < S65536.size a)
theorem k2_idx388_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3502 : IVec S16 32) (k2_hw393 : k2_chk393 v58 v127 v196 v265 v334 v403 v472 v541 v610 v679 v748 v817 v886 v955 v1024 v1093 v1162 v1231 v1300 v1369 v1438 v1507 v1576 v1645 v1714 v1783 v1852 v1921 v1990 v2059 v2128 v2197 v3502), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3502] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3502 k2_hw393 k2_h3 => k2_hw393 k2_h3

def k2_chk394 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3519 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3519] : Fin 1 → IVec S16 32) a x).toNat < S32.size a)
theorem k2_idx389_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3519 : IVec S16 32) (k2_hw394 : k2_chk394 v58 v127 v196 v265 v334 v403 v472 v541 v610 v679 v748 v817 v886 v955 v1024 v1093 v1162 v1231 v1300 v1369 v1438 v1507 v1576 v1645 v1714 v1783 v1852 v1921 v1990 v2059 v2128 v2197 v3519), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3519] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3519 k2_hw394 k2_h3 => k2_hw394 k2_h3

def k2_chk395 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3522 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3522] : Fin 1 → IVec S16 32) a x).toNat < S65536.size a)
theorem k2_idx390_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3522 : IVec S16 32) (k2_hw395 : k2_chk395 v58 v127 v196 v265 v334 v403 v472 v541 v610 v679 v748 v817 v886 v955 v1024 v1093 v1162 v1231 v1300 v1369 v1438 v1507 v1576 v1645 v1714 v1783 v1852 v1921 v1990 v2059 v2128 v2197 v3522), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3522] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3522 k2_hw395 k2_h3 => k2_hw395 k2_h3

def k2_chk396 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3539 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3539] : Fin 1 → IVec S16 32) a x).toNat < S32.size a)
theorem k2_idx391_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3539 : IVec S16 32) (k2_hw396 : k2_chk396 v58 v127 v196 v265 v334 v403 v472 v541 v610 v679 v748 v817 v886 v955 v1024 v1093 v1162 v1231 v1300 v1369 v1438 v1507 v1576 v1645 v1714 v1783 v1852 v1921 v1990 v2059 v2128 v2197 v3539), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3539] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3539 k2_hw396 k2_h3 => k2_hw396 k2_h3

def k2_chk397 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3542 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3542] : Fin 1 → IVec S16 32) a x).toNat < S65536.size a)
theorem k2_idx392_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3542 : IVec S16 32) (k2_hw397 : k2_chk397 v58 v127 v196 v265 v334 v403 v472 v541 v610 v679 v748 v817 v886 v955 v1024 v1093 v1162 v1231 v1300 v1369 v1438 v1507 v1576 v1645 v1714 v1783 v1852 v1921 v1990 v2059 v2128 v2197 v3542), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3542] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3542 k2_hw397 k2_h3 => k2_hw397 k2_h3

def k2_chk398 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3559 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3559] : Fin 1 → IVec S16 32) a x).toNat < S32.size a)
theorem k2_idx393_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3559 : IVec S16 32) (k2_hw398 : k2_chk398 v58 v127 v196 v265 v334 v403 v472 v541 v610 v679 v748 v817 v886 v955 v1024 v1093 v1162 v1231 v1300 v1369 v1438 v1507 v1576 v1645 v1714 v1783 v1852 v1921 v1990 v2059 v2128 v2197 v3559), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3559] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3559 k2_hw398 k2_h3 => k2_hw398 k2_h3

def k2_chk399 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3562 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3562] : Fin 1 → IVec S16 32) a x).toNat < S65536.size a)
theorem k2_idx394_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3562 : IVec S16 32) (k2_hw399 : k2_chk399 v58 v127 v196 v265 v334 v403 v472 v541 v610 v679 v748 v817 v886 v955 v1024 v1093 v1162 v1231 v1300 v1369 v1438 v1507 v1576 v1645 v1714 v1783 v1852 v1921 v1990 v2059 v2128 v2197 v3562), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3562] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3562 k2_hw399 k2_h3 => k2_hw399 k2_h3

def k2_chk400 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3579 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3579] : Fin 1 → IVec S16 32) a x).toNat < S32.size a)
theorem k2_idx395_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3579 : IVec S16 32) (k2_hw400 : k2_chk400 v58 v127 v196 v265 v334 v403 v472 v541 v610 v679 v748 v817 v886 v955 v1024 v1093 v1162 v1231 v1300 v1369 v1438 v1507 v1576 v1645 v1714 v1783 v1852 v1921 v1990 v2059 v2128 v2197 v3579), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3579] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3579 k2_hw400 k2_h3 => k2_hw400 k2_h3

def k2_chk401 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3582 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3582] : Fin 1 → IVec S16 32) a x).toNat < S65536.size a)
theorem k2_idx396_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3582 : IVec S16 32) (k2_hw401 : k2_chk401 v58 v127 v196 v265 v334 v403 v472 v541 v610 v679 v748 v817 v886 v955 v1024 v1093 v1162 v1231 v1300 v1369 v1438 v1507 v1576 v1645 v1714 v1783 v1852 v1921 v1990 v2059 v2128 v2197 v3582), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3582] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3582 k2_hw401 k2_h3 => k2_hw401 k2_h3

def k2_chk402 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3599 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3599] : Fin 1 → IVec S16 32) a x).toNat < S32.size a)
theorem k2_idx397_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3599 : IVec S16 32) (k2_hw402 : k2_chk402 v58 v127 v196 v265 v334 v403 v472 v541 v610 v679 v748 v817 v886 v955 v1024 v1093 v1162 v1231 v1300 v1369 v1438 v1507 v1576 v1645 v1714 v1783 v1852 v1921 v1990 v2059 v2128 v2197 v3599), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3599] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3599 k2_hw402 k2_h3 => k2_hw402 k2_h3

def k2_chk403 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3602 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3602] : Fin 1 → IVec S16 32) a x).toNat < S65536.size a)
theorem k2_idx398_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3602 : IVec S16 32) (k2_hw403 : k2_chk403 v58 v127 v196 v265 v334 v403 v472 v541 v610 v679 v748 v817 v886 v955 v1024 v1093 v1162 v1231 v1300 v1369 v1438 v1507 v1576 v1645 v1714 v1783 v1852 v1921 v1990 v2059 v2128 v2197 v3602), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3602] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3602 k2_hw403 k2_h3 => k2_hw403 k2_h3

def k2_chk404 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3619 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3619] : Fin 1 → IVec S16 32) a x).toNat < S32.size a)
theorem k2_idx399_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3619 : IVec S16 32) (k2_hw404 : k2_chk404 v58 v127 v196 v265 v334 v403 v472 v541 v610 v679 v748 v817 v886 v955 v1024 v1093 v1162 v1231 v1300 v1369 v1438 v1507 v1576 v1645 v1714 v1783 v1852 v1921 v1990 v2059 v2128 v2197 v3619), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3619] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3619 k2_hw404 k2_h3 => k2_hw404 k2_h3

def k2_chk405 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3622 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3622] : Fin 1 → IVec S16 32) a x).toNat < S65536.size a)
theorem k2_idx400_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3622 : IVec S16 32) (k2_hw405 : k2_chk405 v58 v127 v196 v265 v334 v403 v472 v541 v610 v679 v748 v817 v886 v955 v1024 v1093 v1162 v1231 v1300 v1369 v1438 v1507 v1576 v1645 v1714 v1783 v1852 v1921 v1990 v2059 v2128 v2197 v3622), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3622] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3622 k2_hw405 k2_h3 => k2_hw405 k2_h3

def k2_chk406 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3639 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3639] : Fin 1 → IVec S16 32) a x).toNat < S32.size a)
theorem k2_idx401_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3639 : IVec S16 32) (k2_hw406 : k2_chk406 v58 v127 v196 v265 v334 v403 v472 v541 v610 v679 v748 v817 v886 v955 v1024 v1093 v1162 v1231 v1300 v1369 v1438 v1507 v1576 v1645 v1714 v1783 v1852 v1921 v1990 v2059 v2128 v2197 v3639), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3639] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3639 k2_hw406 k2_h3 => k2_hw406 k2_h3

def k2_chk407 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3642 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3642] : Fin 1 → IVec S16 32) a x).toNat < S65536.size a)
theorem k2_idx402_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3642 : IVec S16 32) (k2_hw407 : k2_chk407 v58 v127 v196 v265 v334 v403 v472 v541 v610 v679 v748 v817 v886 v955 v1024 v1093 v1162 v1231 v1300 v1369 v1438 v1507 v1576 v1645 v1714 v1783 v1852 v1921 v1990 v2059 v2128 v2197 v3642), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3642] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3642 k2_hw407 k2_h3 => k2_hw407 k2_h3

def k2_chk408 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3659 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3659] : Fin 1 → IVec S16 32) a x).toNat < S32.size a)
theorem k2_idx403_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3659 : IVec S16 32) (k2_hw408 : k2_chk408 v58 v127 v196 v265 v334 v403 v472 v541 v610 v679 v748 v817 v886 v955 v1024 v1093 v1162 v1231 v1300 v1369 v1438 v1507 v1576 v1645 v1714 v1783 v1852 v1921 v1990 v2059 v2128 v2197 v3659), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3659] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3659 k2_hw408 k2_h3 => k2_hw408 k2_h3

def k2_chk409 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3662 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3662] : Fin 1 → IVec S16 32) a x).toNat < S65536.size a)
theorem k2_idx404_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3662 : IVec S16 32) (k2_hw409 : k2_chk409 v58 v127 v196 v265 v334 v403 v472 v541 v610 v679 v748 v817 v886 v955 v1024 v1093 v1162 v1231 v1300 v1369 v1438 v1507 v1576 v1645 v1714 v1783 v1852 v1921 v1990 v2059 v2128 v2197 v3662), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3662] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3662 k2_hw409 k2_h3 => k2_hw409 k2_h3

def k2_chk410 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3679 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3679] : Fin 1 → IVec S16 32) a x).toNat < S32.size a)
theorem k2_idx405_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3679 : IVec S16 32) (k2_hw410 : k2_chk410 v58 v127 v196 v265 v334 v403 v472 v541 v610 v679 v748 v817 v886 v955 v1024 v1093 v1162 v1231 v1300 v1369 v1438 v1507 v1576 v1645 v1714 v1783 v1852 v1921 v1990 v2059 v2128 v2197 v3679), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3679] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3679 k2_hw410 k2_h3 => k2_hw410 k2_h3

def k2_chk411 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3682 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3682] : Fin 1 → IVec S16 32) a x).toNat < S65536.size a)
theorem k2_idx406_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3682 : IVec S16 32) (k2_hw411 : k2_chk411 v58 v127 v196 v265 v334 v403 v472 v541 v610 v679 v748 v817 v886 v955 v1024 v1093 v1162 v1231 v1300 v1369 v1438 v1507 v1576 v1645 v1714 v1783 v1852 v1921 v1990 v2059 v2128 v2197 v3682), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3682] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3682 k2_hw411 k2_h3 => k2_hw411 k2_h3

def k2_chk412 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3699 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3699] : Fin 1 → IVec S16 32) a x).toNat < S32.size a)
theorem k2_idx407_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3699 : IVec S16 32) (k2_hw412 : k2_chk412 v58 v127 v196 v265 v334 v403 v472 v541 v610 v679 v748 v817 v886 v955 v1024 v1093 v1162 v1231 v1300 v1369 v1438 v1507 v1576 v1645 v1714 v1783 v1852 v1921 v1990 v2059 v2128 v2197 v3699), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3699] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3699 k2_hw412 k2_h3 => k2_hw412 k2_h3

def k2_chk413 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3702 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3702] : Fin 1 → IVec S16 32) a x).toNat < S65536.size a)
theorem k2_idx408_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3702 : IVec S16 32) (k2_hw413 : k2_chk413 v58 v127 v196 v265 v334 v403 v472 v541 v610 v679 v748 v817 v886 v955 v1024 v1093 v1162 v1231 v1300 v1369 v1438 v1507 v1576 v1645 v1714 v1783 v1852 v1921 v1990 v2059 v2128 v2197 v3702), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3702] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3702 k2_hw413 k2_h3 => k2_hw413 k2_h3

def k2_chk414 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3719 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3719] : Fin 1 → IVec S16 32) a x).toNat < S32.size a)
theorem k2_idx409_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3719 : IVec S16 32) (k2_hw414 : k2_chk414 v58 v127 v196 v265 v334 v403 v472 v541 v610 v679 v748 v817 v886 v955 v1024 v1093 v1162 v1231 v1300 v1369 v1438 v1507 v1576 v1645 v1714 v1783 v1852 v1921 v1990 v2059 v2128 v2197 v3719), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3719] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3719 k2_hw414 k2_h3 => k2_hw414 k2_h3

def k2_chk415 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3722 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3722] : Fin 1 → IVec S16 32) a x).toNat < S65536.size a)
theorem k2_idx410_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3722 : IVec S16 32) (k2_hw415 : k2_chk415 v58 v127 v196 v265 v334 v403 v472 v541 v610 v679 v748 v817 v886 v955 v1024 v1093 v1162 v1231 v1300 v1369 v1438 v1507 v1576 v1645 v1714 v1783 v1852 v1921 v1990 v2059 v2128 v2197 v3722), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3722] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3722 k2_hw415 k2_h3 => k2_hw415 k2_h3

def k2_chk416 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3739 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3739] : Fin 1 → IVec S16 32) a x).toNat < S32.size a)
theorem k2_idx411_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3739 : IVec S16 32) (k2_hw416 : k2_chk416 v58 v127 v196 v265 v334 v403 v472 v541 v610 v679 v748 v817 v886 v955 v1024 v1093 v1162 v1231 v1300 v1369 v1438 v1507 v1576 v1645 v1714 v1783 v1852 v1921 v1990 v2059 v2128 v2197 v3739), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3739] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3739 k2_hw416 k2_h3 => k2_hw416 k2_h3

def k2_chk417 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3742 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3742] : Fin 1 → IVec S16 32) a x).toNat < S65536.size a)
theorem k2_idx412_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3742 : IVec S16 32) (k2_hw417 : k2_chk417 v58 v127 v196 v265 v334 v403 v472 v541 v610 v679 v748 v817 v886 v955 v1024 v1093 v1162 v1231 v1300 v1369 v1438 v1507 v1576 v1645 v1714 v1783 v1852 v1921 v1990 v2059 v2128 v2197 v3742), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3742] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3742 k2_hw417 k2_h3 => k2_hw417 k2_h3

def k2_chk418 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3759 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3759] : Fin 1 → IVec S16 32) a x).toNat < S32.size a)
theorem k2_idx413_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3759 : IVec S16 32) (k2_hw418 : k2_chk418 v58 v127 v196 v265 v334 v403 v472 v541 v610 v679 v748 v817 v886 v955 v1024 v1093 v1162 v1231 v1300 v1369 v1438 v1507 v1576 v1645 v1714 v1783 v1852 v1921 v1990 v2059 v2128 v2197 v3759), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3759] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3759 k2_hw418 k2_h3 => k2_hw418 k2_h3

def k2_chk419 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3762 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3762] : Fin 1 → IVec S16 32) a x).toNat < S65536.size a)
theorem k2_idx414_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3762 : IVec S16 32) (k2_hw419 : k2_chk419 v58 v127 v196 v265 v334 v403 v472 v541 v610 v679 v748 v817 v886 v955 v1024 v1093 v1162 v1231 v1300 v1369 v1438 v1507 v1576 v1645 v1714 v1783 v1852 v1921 v1990 v2059 v2128 v2197 v3762), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3762] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3762 k2_hw419 k2_h3 => k2_hw419 k2_h3

def k2_chk420 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3779 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3779] : Fin 1 → IVec S16 32) a x).toNat < S32.size a)
theorem k2_idx415_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3779 : IVec S16 32) (k2_hw420 : k2_chk420 v58 v127 v196 v265 v334 v403 v472 v541 v610 v679 v748 v817 v886 v955 v1024 v1093 v1162 v1231 v1300 v1369 v1438 v1507 v1576 v1645 v1714 v1783 v1852 v1921 v1990 v2059 v2128 v2197 v3779), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3779] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3779 k2_hw420 k2_h3 => k2_hw420 k2_h3

def k2_chk421 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3782 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3782] : Fin 1 → IVec S16 32) a x).toNat < S65536.size a)
theorem k2_idx416_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3782 : IVec S16 32) (k2_hw421 : k2_chk421 v58 v127 v196 v265 v334 v403 v472 v541 v610 v679 v748 v817 v886 v955 v1024 v1093 v1162 v1231 v1300 v1369 v1438 v1507 v1576 v1645 v1714 v1783 v1852 v1921 v1990 v2059 v2128 v2197 v3782), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3782] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3782 k2_hw421 k2_h3 => k2_hw421 k2_h3

def k2_chk422 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3799 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3799] : Fin 1 → IVec S16 32) a x).toNat < S32.size a)
theorem k2_idx417_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3799 : IVec S16 32) (k2_hw422 : k2_chk422 v58 v127 v196 v265 v334 v403 v472 v541 v610 v679 v748 v817 v886 v955 v1024 v1093 v1162 v1231 v1300 v1369 v1438 v1507 v1576 v1645 v1714 v1783 v1852 v1921 v1990 v2059 v2128 v2197 v3799), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3799] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3799 k2_hw422 k2_h3 => k2_hw422 k2_h3

def k2_chk423 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3802 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3802] : Fin 1 → IVec S16 32) a x).toNat < S65536.size a)
theorem k2_idx418_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3802 : IVec S16 32) (k2_hw423 : k2_chk423 v58 v127 v196 v265 v334 v403 v472 v541 v610 v679 v748 v817 v886 v955 v1024 v1093 v1162 v1231 v1300 v1369 v1438 v1507 v1576 v1645 v1714 v1783 v1852 v1921 v1990 v2059 v2128 v2197 v3802), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3802] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3802 k2_hw423 k2_h3 => k2_hw423 k2_h3

def k2_chk424 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3819 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3819] : Fin 1 → IVec S16 32) a x).toNat < S32.size a)
theorem k2_idx419_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3819 : IVec S16 32) (k2_hw424 : k2_chk424 v58 v127 v196 v265 v334 v403 v472 v541 v610 v679 v748 v817 v886 v955 v1024 v1093 v1162 v1231 v1300 v1369 v1438 v1507 v1576 v1645 v1714 v1783 v1852 v1921 v1990 v2059 v2128 v2197 v3819), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3819] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3819 k2_hw424 k2_h3 => k2_hw424 k2_h3

def k2_chk425 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3822 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3822] : Fin 1 → IVec S16 32) a x).toNat < S65536.size a)
theorem k2_idx420_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3822 : IVec S16 32) (k2_hw425 : k2_chk425 v58 v127 v196 v265 v334 v403 v472 v541 v610 v679 v748 v817 v886 v955 v1024 v1093 v1162 v1231 v1300 v1369 v1438 v1507 v1576 v1645 v1714 v1783 v1852 v1921 v1990 v2059 v2128 v2197 v3822), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3822] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3822 k2_hw425 k2_h3 => k2_hw425 k2_h3

def k2_chk426 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3839 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3839] : Fin 1 → IVec S16 32) a x).toNat < S32.size a)
theorem k2_idx421_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3839 : IVec S16 32) (k2_hw426 : k2_chk426 v58 v127 v196 v265 v334 v403 v472 v541 v610 v679 v748 v817 v886 v955 v1024 v1093 v1162 v1231 v1300 v1369 v1438 v1507 v1576 v1645 v1714 v1783 v1852 v1921 v1990 v2059 v2128 v2197 v3839), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3839] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3839 k2_hw426 k2_h3 => k2_hw426 k2_h3

def k2_chk427 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3842 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3842] : Fin 1 → IVec S16 32) a x).toNat < S65536.size a)
theorem k2_idx422_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3842 : IVec S16 32) (k2_hw427 : k2_chk427 v58 v127 v196 v265 v334 v403 v472 v541 v610 v679 v748 v817 v886 v955 v1024 v1093 v1162 v1231 v1300 v1369 v1438 v1507 v1576 v1645 v1714 v1783 v1852 v1921 v1990 v2059 v2128 v2197 v3842), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3842] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3842 k2_hw427 k2_h3 => k2_hw427 k2_h3

def k2_chk428 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3859 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3859] : Fin 1 → IVec S16 32) a x).toNat < S32.size a)
theorem k2_idx423_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3859 : IVec S16 32) (k2_hw428 : k2_chk428 v58 v127 v196 v265 v334 v403 v472 v541 v610 v679 v748 v817 v886 v955 v1024 v1093 v1162 v1231 v1300 v1369 v1438 v1507 v1576 v1645 v1714 v1783 v1852 v1921 v1990 v2059 v2128 v2197 v3859), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3859] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3859 k2_hw428 k2_h3 => k2_hw428 k2_h3

def k2_chk429 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3862 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3862] : Fin 1 → IVec S16 32) a x).toNat < S65536.size a)
theorem k2_idx424_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3862 : IVec S16 32) (k2_hw429 : k2_chk429 v58 v127 v196 v265 v334 v403 v472 v541 v610 v679 v748 v817 v886 v955 v1024 v1093 v1162 v1231 v1300 v1369 v1438 v1507 v1576 v1645 v1714 v1783 v1852 v1921 v1990 v2059 v2128 v2197 v3862), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3862] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3862 k2_hw429 k2_h3 => k2_hw429 k2_h3

def k2_chk430 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3879 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3879] : Fin 1 → IVec S16 32) a x).toNat < S32.size a)
theorem k2_idx425_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3879 : IVec S16 32) (k2_hw430 : k2_chk430 v58 v127 v196 v265 v334 v403 v472 v541 v610 v679 v748 v817 v886 v955 v1024 v1093 v1162 v1231 v1300 v1369 v1438 v1507 v1576 v1645 v1714 v1783 v1852 v1921 v1990 v2059 v2128 v2197 v3879), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3879] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3879 k2_hw430 k2_h3 => k2_hw430 k2_h3

def k2_chk431 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3882 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3882] : Fin 1 → IVec S16 32) a x).toNat < S65536.size a)
theorem k2_idx426_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3882 : IVec S16 32) (k2_hw431 : k2_chk431 v58 v127 v196 v265 v334 v403 v472 v541 v610 v679 v748 v817 v886 v955 v1024 v1093 v1162 v1231 v1300 v1369 v1438 v1507 v1576 v1645 v1714 v1783 v1852 v1921 v1990 v2059 v2128 v2197 v3882), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3882] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3882 k2_hw431 k2_h3 => k2_hw431 k2_h3

def k2_chk432 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3899 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3899] : Fin 1 → IVec S16 32) a x).toNat < S32.size a)
theorem k2_idx427_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3899 : IVec S16 32) (k2_hw432 : k2_chk432 v58 v127 v196 v265 v334 v403 v472 v541 v610 v679 v748 v817 v886 v955 v1024 v1093 v1162 v1231 v1300 v1369 v1438 v1507 v1576 v1645 v1714 v1783 v1852 v1921 v1990 v2059 v2128 v2197 v3899), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3899] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3899 k2_hw432 k2_h3 => k2_hw432 k2_h3

def k2_chk433 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3902 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3902] : Fin 1 → IVec S16 32) a x).toNat < S65536.size a)
theorem k2_idx428_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3902 : IVec S16 32) (k2_hw433 : k2_chk433 v58 v127 v196 v265 v334 v403 v472 v541 v610 v679 v748 v817 v886 v955 v1024 v1093 v1162 v1231 v1300 v1369 v1438 v1507 v1576 v1645 v1714 v1783 v1852 v1921 v1990 v2059 v2128 v2197 v3902), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3902] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3902 k2_hw433 k2_h3 => k2_hw433 k2_h3

def k2_chk434 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3919 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3919] : Fin 1 → IVec S16 32) a x).toNat < S32.size a)
theorem k2_idx429_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3919 : IVec S16 32) (k2_hw434 : k2_chk434 v58 v127 v196 v265 v334 v403 v472 v541 v610 v679 v748 v817 v886 v955 v1024 v1093 v1162 v1231 v1300 v1369 v1438 v1507 v1576 v1645 v1714 v1783 v1852 v1921 v1990 v2059 v2128 v2197 v3919), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3919] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3919 k2_hw434 k2_h3 => k2_hw434 k2_h3

def k2_chk435 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3922 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3922] : Fin 1 → IVec S16 32) a x).toNat < S65536.size a)
theorem k2_idx430_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3922 : IVec S16 32) (k2_hw435 : k2_chk435 v58 v127 v196 v265 v334 v403 v472 v541 v610 v679 v748 v817 v886 v955 v1024 v1093 v1162 v1231 v1300 v1369 v1438 v1507 v1576 v1645 v1714 v1783 v1852 v1921 v1990 v2059 v2128 v2197 v3922), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3922] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3922 k2_hw435 k2_h3 => k2_hw435 k2_h3

def k2_chk436 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3939 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3939] : Fin 1 → IVec S16 32) a x).toNat < S32.size a)
theorem k2_idx431_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3939 : IVec S16 32) (k2_hw436 : k2_chk436 v58 v127 v196 v265 v334 v403 v472 v541 v610 v679 v748 v817 v886 v955 v1024 v1093 v1162 v1231 v1300 v1369 v1438 v1507 v1576 v1645 v1714 v1783 v1852 v1921 v1990 v2059 v2128 v2197 v3939), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3939] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3939 k2_hw436 k2_h3 => k2_hw436 k2_h3

def k2_chk437 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3942 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3942] : Fin 1 → IVec S16 32) a x).toNat < S65536.size a)
theorem k2_idx432_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3942 : IVec S16 32) (k2_hw437 : k2_chk437 v58 v127 v196 v265 v334 v403 v472 v541 v610 v679 v748 v817 v886 v955 v1024 v1093 v1162 v1231 v1300 v1369 v1438 v1507 v1576 v1645 v1714 v1783 v1852 v1921 v1990 v2059 v2128 v2197 v3942), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3942] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3942 k2_hw437 k2_h3 => k2_hw437 k2_h3

def k2_chk438 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3959 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3959] : Fin 1 → IVec S16 32) a x).toNat < S32.size a)
theorem k2_idx433_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3959 : IVec S16 32) (k2_hw438 : k2_chk438 v58 v127 v196 v265 v334 v403 v472 v541 v610 v679 v748 v817 v886 v955 v1024 v1093 v1162 v1231 v1300 v1369 v1438 v1507 v1576 v1645 v1714 v1783 v1852 v1921 v1990 v2059 v2128 v2197 v3959), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3959] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3959 k2_hw438 k2_h3 => k2_hw438 k2_h3

def k2_chk439 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3962 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3962] : Fin 1 → IVec S16 32) a x).toNat < S65536.size a)
theorem k2_idx434_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3962 : IVec S16 32) (k2_hw439 : k2_chk439 v58 v127 v196 v265 v334 v403 v472 v541 v610 v679 v748 v817 v886 v955 v1024 v1093 v1162 v1231 v1300 v1369 v1438 v1507 v1576 v1645 v1714 v1783 v1852 v1921 v1990 v2059 v2128 v2197 v3962), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3962] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3962 k2_hw439 k2_h3 => k2_hw439 k2_h3

def k2_chk440 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3979 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3979] : Fin 1 → IVec S16 32) a x).toNat < S32.size a)
theorem k2_idx435_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3979 : IVec S16 32) (k2_hw440 : k2_chk440 v58 v127 v196 v265 v334 v403 v472 v541 v610 v679 v748 v817 v886 v955 v1024 v1093 v1162 v1231 v1300 v1369 v1438 v1507 v1576 v1645 v1714 v1783 v1852 v1921 v1990 v2059 v2128 v2197 v3979), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3979] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3979 k2_hw440 k2_h3 => k2_hw440 k2_h3

def k2_chk441 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3982 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3982] : Fin 1 → IVec S16 32) a x).toNat < S65536.size a)
theorem k2_idx436_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3982 : IVec S16 32) (k2_hw441 : k2_chk441 v58 v127 v196 v265 v334 v403 v472 v541 v610 v679 v748 v817 v886 v955 v1024 v1093 v1162 v1231 v1300 v1369 v1438 v1507 v1576 v1645 v1714 v1783 v1852 v1921 v1990 v2059 v2128 v2197 v3982), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3982] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3982 k2_hw441 k2_h3 => k2_hw441 k2_h3

def k2_chk442 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3999 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3999] : Fin 1 → IVec S16 32) a x).toNat < S32.size a)
theorem k2_idx437_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3999 : IVec S16 32) (k2_hw442 : k2_chk442 v58 v127 v196 v265 v334 v403 v472 v541 v610 v679 v748 v817 v886 v955 v1024 v1093 v1162 v1231 v1300 v1369 v1438 v1507 v1576 v1645 v1714 v1783 v1852 v1921 v1990 v2059 v2128 v2197 v3999), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3999] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3999 k2_hw442 k2_h3 => k2_hw442 k2_h3

def k2_chk443 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4002 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4002] : Fin 1 → IVec S16 32) a x).toNat < S65536.size a)
theorem k2_idx438_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4002 : IVec S16 32) (k2_hw443 : k2_chk443 v58 v127 v196 v265 v334 v403 v472 v541 v610 v679 v748 v817 v886 v955 v1024 v1093 v1162 v1231 v1300 v1369 v1438 v1507 v1576 v1645 v1714 v1783 v1852 v1921 v1990 v2059 v2128 v2197 v4002), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4002] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4002 k2_hw443 k2_h3 => k2_hw443 k2_h3

def k2_chk444 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4019 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4019] : Fin 1 → IVec S16 32) a x).toNat < S32.size a)
theorem k2_idx439_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4019 : IVec S16 32) (k2_hw444 : k2_chk444 v58 v127 v196 v265 v334 v403 v472 v541 v610 v679 v748 v817 v886 v955 v1024 v1093 v1162 v1231 v1300 v1369 v1438 v1507 v1576 v1645 v1714 v1783 v1852 v1921 v1990 v2059 v2128 v2197 v4019), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4019] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4019 k2_hw444 k2_h3 => k2_hw444 k2_h3

def k2_chk445 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4022 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4022] : Fin 1 → IVec S16 32) a x).toNat < S65536.size a)
theorem k2_idx440_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4022 : IVec S16 32) (k2_hw445 : k2_chk445 v58 v127 v196 v265 v334 v403 v472 v541 v610 v679 v748 v817 v886 v955 v1024 v1093 v1162 v1231 v1300 v1369 v1438 v1507 v1576 v1645 v1714 v1783 v1852 v1921 v1990 v2059 v2128 v2197 v4022), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4022] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4022 k2_hw445 k2_h3 => k2_hw445 k2_h3

def k2_chk446 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4039 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4039] : Fin 1 → IVec S16 32) a x).toNat < S32.size a)
theorem k2_idx441_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4039 : IVec S16 32) (k2_hw446 : k2_chk446 v58 v127 v196 v265 v334 v403 v472 v541 v610 v679 v748 v817 v886 v955 v1024 v1093 v1162 v1231 v1300 v1369 v1438 v1507 v1576 v1645 v1714 v1783 v1852 v1921 v1990 v2059 v2128 v2197 v4039), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4039] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4039 k2_hw446 k2_h3 => k2_hw446 k2_h3

def k2_chk447 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4042 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4042] : Fin 1 → IVec S16 32) a x).toNat < S65536.size a)
theorem k2_idx442_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4042 : IVec S16 32) (k2_hw447 : k2_chk447 v58 v127 v196 v265 v334 v403 v472 v541 v610 v679 v748 v817 v886 v955 v1024 v1093 v1162 v1231 v1300 v1369 v1438 v1507 v1576 v1645 v1714 v1783 v1852 v1921 v1990 v2059 v2128 v2197 v4042), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4042] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4042 k2_hw447 k2_h3 => k2_hw447 k2_h3

def k2_chk448 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4059 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4059] : Fin 1 → IVec S16 32) a x).toNat < S32.size a)
theorem k2_idx443_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4059 : IVec S16 32) (k2_hw448 : k2_chk448 v58 v127 v196 v265 v334 v403 v472 v541 v610 v679 v748 v817 v886 v955 v1024 v1093 v1162 v1231 v1300 v1369 v1438 v1507 v1576 v1645 v1714 v1783 v1852 v1921 v1990 v2059 v2128 v2197 v4059), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4059] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4059 k2_hw448 k2_h3 => k2_hw448 k2_h3

def k2_chk449 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4062 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4062] : Fin 1 → IVec S16 32) a x).toNat < S65536.size a)
theorem k2_idx444_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4062 : IVec S16 32) (k2_hw449 : k2_chk449 v58 v127 v196 v265 v334 v403 v472 v541 v610 v679 v748 v817 v886 v955 v1024 v1093 v1162 v1231 v1300 v1369 v1438 v1507 v1576 v1645 v1714 v1783 v1852 v1921 v1990 v2059 v2128 v2197 v4062), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4062] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4062 k2_hw449 k2_h3 => k2_hw449 k2_h3

def k2_chk450 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4079 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4079] : Fin 1 → IVec S16 32) a x).toNat < S32.size a)
theorem k2_idx445_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4079 : IVec S16 32) (k2_hw450 : k2_chk450 v58 v127 v196 v265 v334 v403 v472 v541 v610 v679 v748 v817 v886 v955 v1024 v1093 v1162 v1231 v1300 v1369 v1438 v1507 v1576 v1645 v1714 v1783 v1852 v1921 v1990 v2059 v2128 v2197 v4079), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4079] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4079 k2_hw450 k2_h3 => k2_hw450 k2_h3

def k2_chk451 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4082 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4082] : Fin 1 → IVec S16 32) a x).toNat < S65536.size a)
theorem k2_idx446_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4082 : IVec S16 32) (k2_hw451 : k2_chk451 v58 v127 v196 v265 v334 v403 v472 v541 v610 v679 v748 v817 v886 v955 v1024 v1093 v1162 v1231 v1300 v1369 v1438 v1507 v1576 v1645 v1714 v1783 v1852 v1921 v1990 v2059 v2128 v2197 v4082), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4082] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4082 k2_hw451 k2_h3 => k2_hw451 k2_h3

def k2_chk452 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4099 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4099] : Fin 1 → IVec S16 32) a x).toNat < S32.size a)
theorem k2_idx447_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4099 : IVec S16 32) (k2_hw452 : k2_chk452 v58 v127 v196 v265 v334 v403 v472 v541 v610 v679 v748 v817 v886 v955 v1024 v1093 v1162 v1231 v1300 v1369 v1438 v1507 v1576 v1645 v1714 v1783 v1852 v1921 v1990 v2059 v2128 v2197 v4099), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4099] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4099 k2_hw452 k2_h3 => k2_hw452 k2_h3

def k2_chk453 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4102 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4102] : Fin 1 → IVec S16 32) a x).toNat < S65536.size a)
theorem k2_idx448_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4102 : IVec S16 32) (k2_hw453 : k2_chk453 v58 v127 v196 v265 v334 v403 v472 v541 v610 v679 v748 v817 v886 v955 v1024 v1093 v1162 v1231 v1300 v1369 v1438 v1507 v1576 v1645 v1714 v1783 v1852 v1921 v1990 v2059 v2128 v2197 v4102), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4102] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4102 k2_hw453 k2_h3 => k2_hw453 k2_h3

def k2_chk454 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4119 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4119] : Fin 1 → IVec S16 32) a x).toNat < S32.size a)
theorem k2_idx449_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4119 : IVec S16 32) (k2_hw454 : k2_chk454 v58 v127 v196 v265 v334 v403 v472 v541 v610 v679 v748 v817 v886 v955 v1024 v1093 v1162 v1231 v1300 v1369 v1438 v1507 v1576 v1645 v1714 v1783 v1852 v1921 v1990 v2059 v2128 v2197 v4119), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4119] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4119 k2_hw454 k2_h3 => k2_hw454 k2_h3

def k2_chk455 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4122 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4122] : Fin 1 → IVec S16 32) a x).toNat < S65536.size a)
theorem k2_idx450_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4122 : IVec S16 32) (k2_hw455 : k2_chk455 v58 v127 v196 v265 v334 v403 v472 v541 v610 v679 v748 v817 v886 v955 v1024 v1093 v1162 v1231 v1300 v1369 v1438 v1507 v1576 v1645 v1714 v1783 v1852 v1921 v1990 v2059 v2128 v2197 v4122), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4122] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4122 k2_hw455 k2_h3 => k2_hw455 k2_h3

def k2_chk456 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4139 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4139] : Fin 1 → IVec S16 32) a x).toNat < S32.size a)
theorem k2_idx451_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4139 : IVec S16 32) (k2_hw456 : k2_chk456 v58 v127 v196 v265 v334 v403 v472 v541 v610 v679 v748 v817 v886 v955 v1024 v1093 v1162 v1231 v1300 v1369 v1438 v1507 v1576 v1645 v1714 v1783 v1852 v1921 v1990 v2059 v2128 v2197 v4139), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4139] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4139 k2_hw456 k2_h3 => k2_hw456 k2_h3

def k2_chk457 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4142 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4142] : Fin 1 → IVec S16 32) a x).toNat < S65536.size a)
theorem k2_idx452_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4142 : IVec S16 32) (k2_hw457 : k2_chk457 v58 v127 v196 v265 v334 v403 v472 v541 v610 v679 v748 v817 v886 v955 v1024 v1093 v1162 v1231 v1300 v1369 v1438 v1507 v1576 v1645 v1714 v1783 v1852 v1921 v1990 v2059 v2128 v2197 v4142), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4142] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4142 k2_hw457 k2_h3 => k2_hw457 k2_h3

def k2_chk458 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4159 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4159] : Fin 1 → IVec S16 32) a x).toNat < S32.size a)
theorem k2_idx453_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4159 : IVec S16 32) (k2_hw458 : k2_chk458 v58 v127 v196 v265 v334 v403 v472 v541 v610 v679 v748 v817 v886 v955 v1024 v1093 v1162 v1231 v1300 v1369 v1438 v1507 v1576 v1645 v1714 v1783 v1852 v1921 v1990 v2059 v2128 v2197 v4159), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4159] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4159 k2_hw458 k2_h3 => k2_hw458 k2_h3

def k2_chk459 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4162 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4162] : Fin 1 → IVec S16 32) a x).toNat < S65536.size a)
theorem k2_idx454_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4162 : IVec S16 32) (k2_hw459 : k2_chk459 v58 v127 v196 v265 v334 v403 v472 v541 v610 v679 v748 v817 v886 v955 v1024 v1093 v1162 v1231 v1300 v1369 v1438 v1507 v1576 v1645 v1714 v1783 v1852 v1921 v1990 v2059 v2128 v2197 v4162), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4162] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4162 k2_hw459 k2_h3 => k2_hw459 k2_h3

def k2_chk460 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4179 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4179] : Fin 1 → IVec S16 32) a x).toNat < S32.size a)
theorem k2_idx455_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4179 : IVec S16 32) (k2_hw460 : k2_chk460 v58 v127 v196 v265 v334 v403 v472 v541 v610 v679 v748 v817 v886 v955 v1024 v1093 v1162 v1231 v1300 v1369 v1438 v1507 v1576 v1645 v1714 v1783 v1852 v1921 v1990 v2059 v2128 v2197 v4179), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4179] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4179 k2_hw460 k2_h3 => k2_hw460 k2_h3

def k2_chk461 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4182 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4182] : Fin 1 → IVec S16 32) a x).toNat < S65536.size a)
theorem k2_idx456_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4182 : IVec S16 32) (k2_hw461 : k2_chk461 v58 v127 v196 v265 v334 v403 v472 v541 v610 v679 v748 v817 v886 v955 v1024 v1093 v1162 v1231 v1300 v1369 v1438 v1507 v1576 v1645 v1714 v1783 v1852 v1921 v1990 v2059 v2128 v2197 v4182), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4182] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4182 k2_hw461 k2_h3 => k2_hw461 k2_h3

def k2_chk462 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4199 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4199] : Fin 1 → IVec S16 32) a x).toNat < S32.size a)
theorem k2_idx457_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4199 : IVec S16 32) (k2_hw462 : k2_chk462 v58 v127 v196 v265 v334 v403 v472 v541 v610 v679 v748 v817 v886 v955 v1024 v1093 v1162 v1231 v1300 v1369 v1438 v1507 v1576 v1645 v1714 v1783 v1852 v1921 v1990 v2059 v2128 v2197 v4199), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4199] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4199 k2_hw462 k2_h3 => k2_hw462 k2_h3

def k2_chk463 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4202 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4202] : Fin 1 → IVec S16 32) a x).toNat < S65536.size a)
theorem k2_idx458_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4202 : IVec S16 32) (k2_hw463 : k2_chk463 v58 v127 v196 v265 v334 v403 v472 v541 v610 v679 v748 v817 v886 v955 v1024 v1093 v1162 v1231 v1300 v1369 v1438 v1507 v1576 v1645 v1714 v1783 v1852 v1921 v1990 v2059 v2128 v2197 v4202), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4202] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4202 k2_hw463 k2_h3 => k2_hw463 k2_h3

def k2_chk464 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4219 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4219] : Fin 1 → IVec S16 32) a x).toNat < S32.size a)
theorem k2_idx459_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4219 : IVec S16 32) (k2_hw464 : k2_chk464 v58 v127 v196 v265 v334 v403 v472 v541 v610 v679 v748 v817 v886 v955 v1024 v1093 v1162 v1231 v1300 v1369 v1438 v1507 v1576 v1645 v1714 v1783 v1852 v1921 v1990 v2059 v2128 v2197 v4219), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4219] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4219 k2_hw464 k2_h3 => k2_hw464 k2_h3

def k2_chk465 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4222 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4222] : Fin 1 → IVec S16 32) a x).toNat < S65536.size a)
theorem k2_idx460_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4222 : IVec S16 32) (k2_hw465 : k2_chk465 v58 v127 v196 v265 v334 v403 v472 v541 v610 v679 v748 v817 v886 v955 v1024 v1093 v1162 v1231 v1300 v1369 v1438 v1507 v1576 v1645 v1714 v1783 v1852 v1921 v1990 v2059 v2128 v2197 v4222), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4222] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4222 k2_hw465 k2_h3 => k2_hw465 k2_h3

def k2_chk466 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4239 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4239] : Fin 1 → IVec S16 32) a x).toNat < S32.size a)
theorem k2_idx461_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4239 : IVec S16 32) (k2_hw466 : k2_chk466 v58 v127 v196 v265 v334 v403 v472 v541 v610 v679 v748 v817 v886 v955 v1024 v1093 v1162 v1231 v1300 v1369 v1438 v1507 v1576 v1645 v1714 v1783 v1852 v1921 v1990 v2059 v2128 v2197 v4239), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4239] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4239 k2_hw466 k2_h3 => k2_hw466 k2_h3

def k2_chk467 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4242 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4242] : Fin 1 → IVec S16 32) a x).toNat < S65536.size a)
theorem k2_idx462_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4242 : IVec S16 32) (k2_hw467 : k2_chk467 v58 v127 v196 v265 v334 v403 v472 v541 v610 v679 v748 v817 v886 v955 v1024 v1093 v1162 v1231 v1300 v1369 v1438 v1507 v1576 v1645 v1714 v1783 v1852 v1921 v1990 v2059 v2128 v2197 v4242), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4242] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4242 k2_hw467 k2_h3 => k2_hw467 k2_h3

def k2_chk468 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4259 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4259] : Fin 1 → IVec S16 32) a x).toNat < S32.size a)
theorem k2_idx463_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4259 : IVec S16 32) (k2_hw468 : k2_chk468 v58 v127 v196 v265 v334 v403 v472 v541 v610 v679 v748 v817 v886 v955 v1024 v1093 v1162 v1231 v1300 v1369 v1438 v1507 v1576 v1645 v1714 v1783 v1852 v1921 v1990 v2059 v2128 v2197 v4259), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4259] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4259 k2_hw468 k2_h3 => k2_hw468 k2_h3

def k2_chk469 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4262 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4262] : Fin 1 → IVec S16 32) a x).toNat < S65536.size a)
theorem k2_idx464_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4262 : IVec S16 32) (k2_hw469 : k2_chk469 v58 v127 v196 v265 v334 v403 v472 v541 v610 v679 v748 v817 v886 v955 v1024 v1093 v1162 v1231 v1300 v1369 v1438 v1507 v1576 v1645 v1714 v1783 v1852 v1921 v1990 v2059 v2128 v2197 v4262), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4262] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4262 k2_hw469 k2_h3 => k2_hw469 k2_h3

def k2_chk470 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4279 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4279] : Fin 1 → IVec S16 32) a x).toNat < S32.size a)
theorem k2_idx465_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4279 : IVec S16 32) (k2_hw470 : k2_chk470 v58 v127 v196 v265 v334 v403 v472 v541 v610 v679 v748 v817 v886 v955 v1024 v1093 v1162 v1231 v1300 v1369 v1438 v1507 v1576 v1645 v1714 v1783 v1852 v1921 v1990 v2059 v2128 v2197 v4279), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4279] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4279 k2_hw470 k2_h3 => k2_hw470 k2_h3

def k2_chk471 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4282 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4282] : Fin 1 → IVec S16 32) a x).toNat < S65536.size a)
theorem k2_idx466_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4282 : IVec S16 32) (k2_hw471 : k2_chk471 v58 v127 v196 v265 v334 v403 v472 v541 v610 v679 v748 v817 v886 v955 v1024 v1093 v1162 v1231 v1300 v1369 v1438 v1507 v1576 v1645 v1714 v1783 v1852 v1921 v1990 v2059 v2128 v2197 v4282), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4282] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4282 k2_hw471 k2_h3 => k2_hw471 k2_h3

def k2_chk472 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4299 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4299] : Fin 1 → IVec S16 32) a x).toNat < S32.size a)
theorem k2_idx467_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4299 : IVec S16 32) (k2_hw472 : k2_chk472 v58 v127 v196 v265 v334 v403 v472 v541 v610 v679 v748 v817 v886 v955 v1024 v1093 v1162 v1231 v1300 v1369 v1438 v1507 v1576 v1645 v1714 v1783 v1852 v1921 v1990 v2059 v2128 v2197 v4299), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4299] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4299 k2_hw472 k2_h3 => k2_hw472 k2_h3

def k2_chk473 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4302 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4302] : Fin 1 → IVec S16 32) a x).toNat < S65536.size a)
theorem k2_idx468_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4302 : IVec S16 32) (k2_hw473 : k2_chk473 v58 v127 v196 v265 v334 v403 v472 v541 v610 v679 v748 v817 v886 v955 v1024 v1093 v1162 v1231 v1300 v1369 v1438 v1507 v1576 v1645 v1714 v1783 v1852 v1921 v1990 v2059 v2128 v2197 v4302), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4302] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4302 k2_hw473 k2_h3 => k2_hw473 k2_h3

def k2_chk474 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4319 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4319] : Fin 1 → IVec S16 32) a x).toNat < S32.size a)
theorem k2_idx469_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4319 : IVec S16 32) (k2_hw474 : k2_chk474 v58 v127 v196 v265 v334 v403 v472 v541 v610 v679 v748 v817 v886 v955 v1024 v1093 v1162 v1231 v1300 v1369 v1438 v1507 v1576 v1645 v1714 v1783 v1852 v1921 v1990 v2059 v2128 v2197 v4319), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4319] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4319 k2_hw474 k2_h3 => k2_hw474 k2_h3

def k2_chk475 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4322 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4322] : Fin 1 → IVec S16 32) a x).toNat < S65536.size a)
theorem k2_idx470_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4322 : IVec S16 32) (k2_hw475 : k2_chk475 v58 v127 v196 v265 v334 v403 v472 v541 v610 v679 v748 v817 v886 v955 v1024 v1093 v1162 v1231 v1300 v1369 v1438 v1507 v1576 v1645 v1714 v1783 v1852 v1921 v1990 v2059 v2128 v2197 v4322), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4322] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4322 k2_hw475 k2_h3 => k2_hw475 k2_h3

def k2_chk476 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4339 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4339] : Fin 1 → IVec S16 32) a x).toNat < S32.size a)
theorem k2_idx471_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4339 : IVec S16 32) (k2_hw476 : k2_chk476 v58 v127 v196 v265 v334 v403 v472 v541 v610 v679 v748 v817 v886 v955 v1024 v1093 v1162 v1231 v1300 v1369 v1438 v1507 v1576 v1645 v1714 v1783 v1852 v1921 v1990 v2059 v2128 v2197 v4339), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4339] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4339 k2_hw476 k2_h3 => k2_hw476 k2_h3

def k2_chk477 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4342 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4342] : Fin 1 → IVec S16 32) a x).toNat < S65536.size a)
theorem k2_idx472_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4342 : IVec S16 32) (k2_hw477 : k2_chk477 v58 v127 v196 v265 v334 v403 v472 v541 v610 v679 v748 v817 v886 v955 v1024 v1093 v1162 v1231 v1300 v1369 v1438 v1507 v1576 v1645 v1714 v1783 v1852 v1921 v1990 v2059 v2128 v2197 v4342), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4342] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4342 k2_hw477 k2_h3 => k2_hw477 k2_h3

def k2_chk478 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4359 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4359] : Fin 1 → IVec S16 32) a x).toNat < S32.size a)
theorem k2_idx473_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4359 : IVec S16 32) (k2_hw478 : k2_chk478 v58 v127 v196 v265 v334 v403 v472 v541 v610 v679 v748 v817 v886 v955 v1024 v1093 v1162 v1231 v1300 v1369 v1438 v1507 v1576 v1645 v1714 v1783 v1852 v1921 v1990 v2059 v2128 v2197 v4359), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4359] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4359 k2_hw478 k2_h3 => k2_hw478 k2_h3

def k2_chk479 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4362 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4362] : Fin 1 → IVec S16 32) a x).toNat < S65536.size a)
theorem k2_idx474_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4362 : IVec S16 32) (k2_hw479 : k2_chk479 v58 v127 v196 v265 v334 v403 v472 v541 v610 v679 v748 v817 v886 v955 v1024 v1093 v1162 v1231 v1300 v1369 v1438 v1507 v1576 v1645 v1714 v1783 v1852 v1921 v1990 v2059 v2128 v2197 v4362), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4362] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4362 k2_hw479 k2_h3 => k2_hw479 k2_h3

def k2_chk480 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4379 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4379] : Fin 1 → IVec S16 32) a x).toNat < S32.size a)
theorem k2_idx475_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4379 : IVec S16 32) (k2_hw480 : k2_chk480 v58 v127 v196 v265 v334 v403 v472 v541 v610 v679 v748 v817 v886 v955 v1024 v1093 v1162 v1231 v1300 v1369 v1438 v1507 v1576 v1645 v1714 v1783 v1852 v1921 v1990 v2059 v2128 v2197 v4379), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4379] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4379 k2_hw480 k2_h3 => k2_hw480 k2_h3

def k2_chk481 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4382 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4382] : Fin 1 → IVec S16 32) a x).toNat < S65536.size a)
theorem k2_idx476_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4382 : IVec S16 32) (k2_hw481 : k2_chk481 v58 v127 v196 v265 v334 v403 v472 v541 v610 v679 v748 v817 v886 v955 v1024 v1093 v1162 v1231 v1300 v1369 v1438 v1507 v1576 v1645 v1714 v1783 v1852 v1921 v1990 v2059 v2128 v2197 v4382), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4382] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4382 k2_hw481 k2_h3 => k2_hw481 k2_h3

def k2_chk482 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4399 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4399] : Fin 1 → IVec S16 32) a x).toNat < S32.size a)
theorem k2_idx477_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4399 : IVec S16 32) (k2_hw482 : k2_chk482 v58 v127 v196 v265 v334 v403 v472 v541 v610 v679 v748 v817 v886 v955 v1024 v1093 v1162 v1231 v1300 v1369 v1438 v1507 v1576 v1645 v1714 v1783 v1852 v1921 v1990 v2059 v2128 v2197 v4399), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4399] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4399 k2_hw482 k2_h3 => k2_hw482 k2_h3

def k2_chk483 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4402 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4402] : Fin 1 → IVec S16 32) a x).toNat < S65536.size a)
theorem k2_idx478_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4402 : IVec S16 32) (k2_hw483 : k2_chk483 v58 v127 v196 v265 v334 v403 v472 v541 v610 v679 v748 v817 v886 v955 v1024 v1093 v1162 v1231 v1300 v1369 v1438 v1507 v1576 v1645 v1714 v1783 v1852 v1921 v1990 v2059 v2128 v2197 v4402), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4402] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4402 k2_hw483 k2_h3 => k2_hw483 k2_h3

def k2_chk484 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4419 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4419] : Fin 1 → IVec S16 32) a x).toNat < S32.size a)
theorem k2_idx479_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4419 : IVec S16 32) (k2_hw484 : k2_chk484 v58 v127 v196 v265 v334 v403 v472 v541 v610 v679 v748 v817 v886 v955 v1024 v1093 v1162 v1231 v1300 v1369 v1438 v1507 v1576 v1645 v1714 v1783 v1852 v1921 v1990 v2059 v2128 v2197 v4419), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4419] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4419 k2_hw484 k2_h3 => k2_hw484 k2_h3

def k2_chk485 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4422 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4422] : Fin 1 → IVec S16 32) a x).toNat < S65536.size a)
theorem k2_idx480_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4422 : IVec S16 32) (k2_hw485 : k2_chk485 v58 v127 v196 v265 v334 v403 v472 v541 v610 v679 v748 v817 v886 v955 v1024 v1093 v1162 v1231 v1300 v1369 v1438 v1507 v1576 v1645 v1714 v1783 v1852 v1921 v1990 v2059 v2128 v2197 v4422), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4422] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4422 k2_hw485 k2_h3 => k2_hw485 k2_h3

def k2_chk486 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4439 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4439] : Fin 1 → IVec S16 32) a x).toNat < S32.size a)
theorem k2_idx481_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4439 : IVec S16 32) (k2_hw486 : k2_chk486 v58 v127 v196 v265 v334 v403 v472 v541 v610 v679 v748 v817 v886 v955 v1024 v1093 v1162 v1231 v1300 v1369 v1438 v1507 v1576 v1645 v1714 v1783 v1852 v1921 v1990 v2059 v2128 v2197 v4439), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4439] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4439 k2_hw486 k2_h3 => k2_hw486 k2_h3

def k2_chk487 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4442 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4442] : Fin 1 → IVec S16 32) a x).toNat < S65536.size a)
theorem k2_idx482_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4442 : IVec S16 32) (k2_hw487 : k2_chk487 v58 v127 v196 v265 v334 v403 v472 v541 v610 v679 v748 v817 v886 v955 v1024 v1093 v1162 v1231 v1300 v1369 v1438 v1507 v1576 v1645 v1714 v1783 v1852 v1921 v1990 v2059 v2128 v2197 v4442), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4442] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4442 k2_hw487 k2_h3 => k2_hw487 k2_h3

def k2_chk488 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4459 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4459] : Fin 1 → IVec S16 32) a x).toNat < S32.size a)
theorem k2_idx483_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4459 : IVec S16 32) (k2_hw488 : k2_chk488 v58 v127 v196 v265 v334 v403 v472 v541 v610 v679 v748 v817 v886 v955 v1024 v1093 v1162 v1231 v1300 v1369 v1438 v1507 v1576 v1645 v1714 v1783 v1852 v1921 v1990 v2059 v2128 v2197 v4459), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4459] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4459 k2_hw488 k2_h3 => k2_hw488 k2_h3

def k2_chk489 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4462 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4462] : Fin 1 → IVec S16 32) a x).toNat < S65536.size a)
theorem k2_idx484_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4462 : IVec S16 32) (k2_hw489 : k2_chk489 v58 v127 v196 v265 v334 v403 v472 v541 v610 v679 v748 v817 v886 v955 v1024 v1093 v1162 v1231 v1300 v1369 v1438 v1507 v1576 v1645 v1714 v1783 v1852 v1921 v1990 v2059 v2128 v2197 v4462), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4462] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4462 k2_hw489 k2_h3 => k2_hw489 k2_h3

def k2_chk490 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4479 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4479] : Fin 1 → IVec S16 32) a x).toNat < S32.size a)
theorem k2_idx485_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4479 : IVec S16 32) (k2_hw490 : k2_chk490 v58 v127 v196 v265 v334 v403 v472 v541 v610 v679 v748 v817 v886 v955 v1024 v1093 v1162 v1231 v1300 v1369 v1438 v1507 v1576 v1645 v1714 v1783 v1852 v1921 v1990 v2059 v2128 v2197 v4479), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4479] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4479 k2_hw490 k2_h3 => k2_hw490 k2_h3

def k2_chk491 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4482 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4482] : Fin 1 → IVec S16 32) a x).toNat < S65536.size a)
theorem k2_idx486_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4482 : IVec S16 32) (k2_hw491 : k2_chk491 v58 v127 v196 v265 v334 v403 v472 v541 v610 v679 v748 v817 v886 v955 v1024 v1093 v1162 v1231 v1300 v1369 v1438 v1507 v1576 v1645 v1714 v1783 v1852 v1921 v1990 v2059 v2128 v2197 v4482), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4482] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4482 k2_hw491 k2_h3 => k2_hw491 k2_h3

def k2_chk492 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4499 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4499] : Fin 1 → IVec S16 32) a x).toNat < S32.size a)
theorem k2_idx487_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4499 : IVec S16 32) (k2_hw492 : k2_chk492 v58 v127 v196 v265 v334 v403 v472 v541 v610 v679 v748 v817 v886 v955 v1024 v1093 v1162 v1231 v1300 v1369 v1438 v1507 v1576 v1645 v1714 v1783 v1852 v1921 v1990 v2059 v2128 v2197 v4499), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4499] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4499 k2_hw492 k2_h3 => k2_hw492 k2_h3

def k2_chk493 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4502 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4502] : Fin 1 → IVec S16 32) a x).toNat < S65536.size a)
theorem k2_idx488_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4502 : IVec S16 32) (k2_hw493 : k2_chk493 v58 v127 v196 v265 v334 v403 v472 v541 v610 v679 v748 v817 v886 v955 v1024 v1093 v1162 v1231 v1300 v1369 v1438 v1507 v1576 v1645 v1714 v1783 v1852 v1921 v1990 v2059 v2128 v2197 v4502), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4502] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4502 k2_hw493 k2_h3 => k2_hw493 k2_h3

def k2_chk494 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4519 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4519] : Fin 1 → IVec S16 32) a x).toNat < S32.size a)
theorem k2_idx489_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4519 : IVec S16 32) (k2_hw494 : k2_chk494 v58 v127 v196 v265 v334 v403 v472 v541 v610 v679 v748 v817 v886 v955 v1024 v1093 v1162 v1231 v1300 v1369 v1438 v1507 v1576 v1645 v1714 v1783 v1852 v1921 v1990 v2059 v2128 v2197 v4519), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4519] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4519 k2_hw494 k2_h3 => k2_hw494 k2_h3

def k2_chk495 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4522 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4522] : Fin 1 → IVec S16 32) a x).toNat < S65536.size a)
theorem k2_idx490_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4522 : IVec S16 32) (k2_hw495 : k2_chk495 v58 v127 v196 v265 v334 v403 v472 v541 v610 v679 v748 v817 v886 v955 v1024 v1093 v1162 v1231 v1300 v1369 v1438 v1507 v1576 v1645 v1714 v1783 v1852 v1921 v1990 v2059 v2128 v2197 v4522), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4522] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4522 k2_hw495 k2_h3 => k2_hw495 k2_h3

def k2_chk496 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4539 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4539] : Fin 1 → IVec S16 32) a x).toNat < S32.size a)
theorem k2_idx491_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4539 : IVec S16 32) (k2_hw496 : k2_chk496 v58 v127 v196 v265 v334 v403 v472 v541 v610 v679 v748 v817 v886 v955 v1024 v1093 v1162 v1231 v1300 v1369 v1438 v1507 v1576 v1645 v1714 v1783 v1852 v1921 v1990 v2059 v2128 v2197 v4539), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4539] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4539 k2_hw496 k2_h3 => k2_hw496 k2_h3

def k2_chk497 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4542 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4542] : Fin 1 → IVec S16 32) a x).toNat < S65536.size a)
theorem k2_idx492_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4542 : IVec S16 32) (k2_hw497 : k2_chk497 v58 v127 v196 v265 v334 v403 v472 v541 v610 v679 v748 v817 v886 v955 v1024 v1093 v1162 v1231 v1300 v1369 v1438 v1507 v1576 v1645 v1714 v1783 v1852 v1921 v1990 v2059 v2128 v2197 v4542), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4542] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4542 k2_hw497 k2_h3 => k2_hw497 k2_h3

def k2_chk498 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4559 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4559] : Fin 1 → IVec S16 32) a x).toNat < S32.size a)
theorem k2_idx493_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4559 : IVec S16 32) (k2_hw498 : k2_chk498 v58 v127 v196 v265 v334 v403 v472 v541 v610 v679 v748 v817 v886 v955 v1024 v1093 v1162 v1231 v1300 v1369 v1438 v1507 v1576 v1645 v1714 v1783 v1852 v1921 v1990 v2059 v2128 v2197 v4559), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4559] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4559 k2_hw498 k2_h3 => k2_hw498 k2_h3

def k2_chk499 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4562 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4562] : Fin 1 → IVec S16 32) a x).toNat < S65536.size a)
theorem k2_idx494_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4562 : IVec S16 32) (k2_hw499 : k2_chk499 v58 v127 v196 v265 v334 v403 v472 v541 v610 v679 v748 v817 v886 v955 v1024 v1093 v1162 v1231 v1300 v1369 v1438 v1507 v1576 v1645 v1714 v1783 v1852 v1921 v1990 v2059 v2128 v2197 v4562), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4562] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4562 k2_hw499 k2_h3 => k2_hw499 k2_h3

def k2_chk500 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4579 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4579] : Fin 1 → IVec S16 32) a x).toNat < S32.size a)
theorem k2_idx495_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4579 : IVec S16 32) (k2_hw500 : k2_chk500 v58 v127 v196 v265 v334 v403 v472 v541 v610 v679 v748 v817 v886 v955 v1024 v1093 v1162 v1231 v1300 v1369 v1438 v1507 v1576 v1645 v1714 v1783 v1852 v1921 v1990 v2059 v2128 v2197 v4579), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4579] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4579 k2_hw500 k2_h3 => k2_hw500 k2_h3

def k2_chk501 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4582 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4582] : Fin 1 → IVec S16 32) a x).toNat < S65536.size a)
theorem k2_idx496_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4582 : IVec S16 32) (k2_hw501 : k2_chk501 v58 v127 v196 v265 v334 v403 v472 v541 v610 v679 v748 v817 v886 v955 v1024 v1093 v1162 v1231 v1300 v1369 v1438 v1507 v1576 v1645 v1714 v1783 v1852 v1921 v1990 v2059 v2128 v2197 v4582), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4582] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4582 k2_hw501 k2_h3 => k2_hw501 k2_h3

def k2_chk502 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4599 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4599] : Fin 1 → IVec S16 32) a x).toNat < S32.size a)
theorem k2_idx497_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4599 : IVec S16 32) (k2_hw502 : k2_chk502 v58 v127 v196 v265 v334 v403 v472 v541 v610 v679 v748 v817 v886 v955 v1024 v1093 v1162 v1231 v1300 v1369 v1438 v1507 v1576 v1645 v1714 v1783 v1852 v1921 v1990 v2059 v2128 v2197 v4599), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4599] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4599 k2_hw502 k2_h3 => k2_hw502 k2_h3

def k2_chk503 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4602 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4602] : Fin 1 → IVec S16 32) a x).toNat < S65536.size a)
theorem k2_idx498_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4602 : IVec S16 32) (k2_hw503 : k2_chk503 v58 v127 v196 v265 v334 v403 v472 v541 v610 v679 v748 v817 v886 v955 v1024 v1093 v1162 v1231 v1300 v1369 v1438 v1507 v1576 v1645 v1714 v1783 v1852 v1921 v1990 v2059 v2128 v2197 v4602), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4602] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4602 k2_hw503 k2_h3 => k2_hw503 k2_h3

def k2_chk504 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4619 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4619] : Fin 1 → IVec S16 32) a x).toNat < S32.size a)
theorem k2_idx499_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4619 : IVec S16 32) (k2_hw504 : k2_chk504 v58 v127 v196 v265 v334 v403 v472 v541 v610 v679 v748 v817 v886 v955 v1024 v1093 v1162 v1231 v1300 v1369 v1438 v1507 v1576 v1645 v1714 v1783 v1852 v1921 v1990 v2059 v2128 v2197 v4619), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4619] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4619 k2_hw504 k2_h3 => k2_hw504 k2_h3

def k2_chk505 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4622 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4622] : Fin 1 → IVec S16 32) a x).toNat < S65536.size a)
theorem k2_idx500_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4622 : IVec S16 32) (k2_hw505 : k2_chk505 v58 v127 v196 v265 v334 v403 v472 v541 v610 v679 v748 v817 v886 v955 v1024 v1093 v1162 v1231 v1300 v1369 v1438 v1507 v1576 v1645 v1714 v1783 v1852 v1921 v1990 v2059 v2128 v2197 v4622), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4622] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4622 k2_hw505 k2_h3 => k2_hw505 k2_h3

def k2_chk506 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4639 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4639] : Fin 1 → IVec S16 32) a x).toNat < S32.size a)
theorem k2_idx501_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4639 : IVec S16 32) (k2_hw506 : k2_chk506 v58 v127 v196 v265 v334 v403 v472 v541 v610 v679 v748 v817 v886 v955 v1024 v1093 v1162 v1231 v1300 v1369 v1438 v1507 v1576 v1645 v1714 v1783 v1852 v1921 v1990 v2059 v2128 v2197 v4639), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4639] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4639 k2_hw506 k2_h3 => k2_hw506 k2_h3

def k2_chk507 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4642 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4642] : Fin 1 → IVec S16 32) a x).toNat < S65536.size a)
theorem k2_idx502_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4642 : IVec S16 32) (k2_hw507 : k2_chk507 v58 v127 v196 v265 v334 v403 v472 v541 v610 v679 v748 v817 v886 v955 v1024 v1093 v1162 v1231 v1300 v1369 v1438 v1507 v1576 v1645 v1714 v1783 v1852 v1921 v1990 v2059 v2128 v2197 v4642), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4642] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4642 k2_hw507 k2_h3 => k2_hw507 k2_h3

def k2_chk508 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4659 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4659] : Fin 1 → IVec S16 32) a x).toNat < S32.size a)
theorem k2_idx503_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4659 : IVec S16 32) (k2_hw508 : k2_chk508 v58 v127 v196 v265 v334 v403 v472 v541 v610 v679 v748 v817 v886 v955 v1024 v1093 v1162 v1231 v1300 v1369 v1438 v1507 v1576 v1645 v1714 v1783 v1852 v1921 v1990 v2059 v2128 v2197 v4659), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4659] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4659 k2_hw508 k2_h3 => k2_hw508 k2_h3

def k2_chk509 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4662 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4662] : Fin 1 → IVec S16 32) a x).toNat < S65536.size a)
theorem k2_idx504_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4662 : IVec S16 32) (k2_hw509 : k2_chk509 v58 v127 v196 v265 v334 v403 v472 v541 v610 v679 v748 v817 v886 v955 v1024 v1093 v1162 v1231 v1300 v1369 v1438 v1507 v1576 v1645 v1714 v1783 v1852 v1921 v1990 v2059 v2128 v2197 v4662), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4662] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4662 k2_hw509 k2_h3 => k2_hw509 k2_h3

def k2_chk510 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4679 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4679] : Fin 1 → IVec S16 32) a x).toNat < S32.size a)
theorem k2_idx505_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4679 : IVec S16 32) (k2_hw510 : k2_chk510 v58 v127 v196 v265 v334 v403 v472 v541 v610 v679 v748 v817 v886 v955 v1024 v1093 v1162 v1231 v1300 v1369 v1438 v1507 v1576 v1645 v1714 v1783 v1852 v1921 v1990 v2059 v2128 v2197 v4679), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4679] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4679 k2_hw510 k2_h3 => k2_hw510 k2_h3

def k2_chk511 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4682 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4682] : Fin 1 → IVec S16 32) a x).toNat < S65536.size a)
theorem k2_idx506_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4682 : IVec S16 32) (k2_hw511 : k2_chk511 v58 v127 v196 v265 v334 v403 v472 v541 v610 v679 v748 v817 v886 v955 v1024 v1093 v1162 v1231 v1300 v1369 v1438 v1507 v1576 v1645 v1714 v1783 v1852 v1921 v1990 v2059 v2128 v2197 v4682), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4682] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4682 k2_hw511 k2_h3 => k2_hw511 k2_h3

def k2_chk512 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4699 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4699] : Fin 1 → IVec S16 32) a x).toNat < S32.size a)
theorem k2_idx507_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4699 : IVec S16 32) (k2_hw512 : k2_chk512 v58 v127 v196 v265 v334 v403 v472 v541 v610 v679 v748 v817 v886 v955 v1024 v1093 v1162 v1231 v1300 v1369 v1438 v1507 v1576 v1645 v1714 v1783 v1852 v1921 v1990 v2059 v2128 v2197 v4699), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4699] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4699 k2_hw512 k2_h3 => k2_hw512 k2_h3

def k2_chk513 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4702 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4702] : Fin 1 → IVec S16 32) a x).toNat < S65536.size a)
theorem k2_idx508_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4702 : IVec S16 32) (k2_hw513 : k2_chk513 v58 v127 v196 v265 v334 v403 v472 v541 v610 v679 v748 v817 v886 v955 v1024 v1093 v1162 v1231 v1300 v1369 v1438 v1507 v1576 v1645 v1714 v1783 v1852 v1921 v1990 v2059 v2128 v2197 v4702), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4702] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4702 k2_hw513 k2_h3 => k2_hw513 k2_h3

def k2_chk514 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4719 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4719] : Fin 1 → IVec S16 32) a x).toNat < S32.size a)
theorem k2_idx509_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4719 : IVec S16 32) (k2_hw514 : k2_chk514 v58 v127 v196 v265 v334 v403 v472 v541 v610 v679 v748 v817 v886 v955 v1024 v1093 v1162 v1231 v1300 v1369 v1438 v1507 v1576 v1645 v1714 v1783 v1852 v1921 v1990 v2059 v2128 v2197 v4719), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4719] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4719 k2_hw514 k2_h3 => k2_hw514 k2_h3

def k2_chk515 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4722 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4722] : Fin 1 → IVec S16 32) a x).toNat < S65536.size a)
theorem k2_idx510_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4722 : IVec S16 32) (k2_hw515 : k2_chk515 v58 v127 v196 v265 v334 v403 v472 v541 v610 v679 v748 v817 v886 v955 v1024 v1093 v1162 v1231 v1300 v1369 v1438 v1507 v1576 v1645 v1714 v1783 v1852 v1921 v1990 v2059 v2128 v2197 v4722), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4722] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4722 k2_hw515 k2_h3 => k2_hw515 k2_h3

def k2_chk516 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4739 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4739] : Fin 1 → IVec S16 32) a x).toNat < S32.size a)
theorem k2_idx511_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4739 : IVec S16 32) (k2_hw516 : k2_chk516 v58 v127 v196 v265 v334 v403 v472 v541 v610 v679 v748 v817 v886 v955 v1024 v1093 v1162 v1231 v1300 v1369 v1438 v1507 v1576 v1645 v1714 v1783 v1852 v1921 v1990 v2059 v2128 v2197 v4739), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4739] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4739 k2_hw516 k2_h3 => k2_hw516 k2_h3

def k2_chk517 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4742 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4742] : Fin 1 → IVec S16 32) a x).toNat < S65536.size a)
theorem k2_idx512_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4742 : IVec S16 32) (k2_hw517 : k2_chk517 v58 v127 v196 v265 v334 v403 v472 v541 v610 v679 v748 v817 v886 v955 v1024 v1093 v1162 v1231 v1300 v1369 v1438 v1507 v1576 v1645 v1714 v1783 v1852 v1921 v1990 v2059 v2128 v2197 v4742), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4742] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4742 k2_hw517 k2_h3 => k2_hw517 k2_h3

def k2_chk518 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4759 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4759] : Fin 1 → IVec S16 32) a x).toNat < S32.size a)
theorem k2_idx513_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4759 : IVec S16 32) (k2_hw518 : k2_chk518 v58 v127 v196 v265 v334 v403 v472 v541 v610 v679 v748 v817 v886 v955 v1024 v1093 v1162 v1231 v1300 v1369 v1438 v1507 v1576 v1645 v1714 v1783 v1852 v1921 v1990 v2059 v2128 v2197 v4759), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4759] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4759 k2_hw518 k2_h3 => k2_hw518 k2_h3

def k2_chk519 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4762 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4762] : Fin 1 → IVec S16 32) a x).toNat < S65536.size a)
theorem k2_idx514_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4762 : IVec S16 32) (k2_hw519 : k2_chk519 v58 v127 v196 v265 v334 v403 v472 v541 v610 v679 v748 v817 v886 v955 v1024 v1093 v1162 v1231 v1300 v1369 v1438 v1507 v1576 v1645 v1714 v1783 v1852 v1921 v1990 v2059 v2128 v2197 v4762), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4762] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4762 k2_hw519 k2_h3 => k2_hw519 k2_h3

def k2_chk520 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4779 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4779] : Fin 1 → IVec S16 32) a x).toNat < S32.size a)
theorem k2_idx515_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4779 : IVec S16 32) (k2_hw520 : k2_chk520 v58 v127 v196 v265 v334 v403 v472 v541 v610 v679 v748 v817 v886 v955 v1024 v1093 v1162 v1231 v1300 v1369 v1438 v1507 v1576 v1645 v1714 v1783 v1852 v1921 v1990 v2059 v2128 v2197 v4779), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4779] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4779 k2_hw520 k2_h3 => k2_hw520 k2_h3

def k2_chk521 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4782 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4782] : Fin 1 → IVec S16 32) a x).toNat < S65536.size a)
theorem k2_idx516_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4782 : IVec S16 32) (k2_hw521 : k2_chk521 v58 v127 v196 v265 v334 v403 v472 v541 v610 v679 v748 v817 v886 v955 v1024 v1093 v1162 v1231 v1300 v1369 v1438 v1507 v1576 v1645 v1714 v1783 v1852 v1921 v1990 v2059 v2128 v2197 v4782), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4782] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4782 k2_hw521 k2_h3 => k2_hw521 k2_h3

def k2_chk522 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4799 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4799] : Fin 1 → IVec S16 32) a x).toNat < S32.size a)
theorem k2_idx517_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4799 : IVec S16 32) (k2_hw522 : k2_chk522 v58 v127 v196 v265 v334 v403 v472 v541 v610 v679 v748 v817 v886 v955 v1024 v1093 v1162 v1231 v1300 v1369 v1438 v1507 v1576 v1645 v1714 v1783 v1852 v1921 v1990 v2059 v2128 v2197 v4799), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4799] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4799 k2_hw522 k2_h3 => k2_hw522 k2_h3

def k2_chk523 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4802 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4802] : Fin 1 → IVec S16 32) a x).toNat < S65536.size a)
theorem k2_idx518_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4802 : IVec S16 32) (k2_hw523 : k2_chk523 v58 v127 v196 v265 v334 v403 v472 v541 v610 v679 v748 v817 v886 v955 v1024 v1093 v1162 v1231 v1300 v1369 v1438 v1507 v1576 v1645 v1714 v1783 v1852 v1921 v1990 v2059 v2128 v2197 v4802), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4802] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4802 k2_hw523 k2_h3 => k2_hw523 k2_h3

def k2_chk524 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4819 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4819] : Fin 1 → IVec S16 32) a x).toNat < S32.size a)
theorem k2_idx519_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4819 : IVec S16 32) (k2_hw524 : k2_chk524 v58 v127 v196 v265 v334 v403 v472 v541 v610 v679 v748 v817 v886 v955 v1024 v1093 v1162 v1231 v1300 v1369 v1438 v1507 v1576 v1645 v1714 v1783 v1852 v1921 v1990 v2059 v2128 v2197 v4819), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4819] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4819 k2_hw524 k2_h3 => k2_hw524 k2_h3

def k2_chk525 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4822 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4822] : Fin 1 → IVec S16 32) a x).toNat < S65536.size a)
theorem k2_idx520_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4822 : IVec S16 32) (k2_hw525 : k2_chk525 v58 v127 v196 v265 v334 v403 v472 v541 v610 v679 v748 v817 v886 v955 v1024 v1093 v1162 v1231 v1300 v1369 v1438 v1507 v1576 v1645 v1714 v1783 v1852 v1921 v1990 v2059 v2128 v2197 v4822), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4822] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4822 k2_hw525 k2_h3 => k2_hw525 k2_h3

def k2_chk526 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4839 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4839] : Fin 1 → IVec S16 32) a x).toNat < S32.size a)
theorem k2_idx521_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4839 : IVec S16 32) (k2_hw526 : k2_chk526 v58 v127 v196 v265 v334 v403 v472 v541 v610 v679 v748 v817 v886 v955 v1024 v1093 v1162 v1231 v1300 v1369 v1438 v1507 v1576 v1645 v1714 v1783 v1852 v1921 v1990 v2059 v2128 v2197 v4839), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4839] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4839 k2_hw526 k2_h3 => k2_hw526 k2_h3

def k2_chk527 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4842 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4842] : Fin 1 → IVec S16 32) a x).toNat < S65536.size a)
theorem k2_idx522_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4842 : IVec S16 32) (k2_hw527 : k2_chk527 v58 v127 v196 v265 v334 v403 v472 v541 v610 v679 v748 v817 v886 v955 v1024 v1093 v1162 v1231 v1300 v1369 v1438 v1507 v1576 v1645 v1714 v1783 v1852 v1921 v1990 v2059 v2128 v2197 v4842), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4842] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4842 k2_hw527 k2_h3 => k2_hw527 k2_h3
@[reducible] def k2_t10_loop (v2254 : BitVec 32) : Scf.Loop 32 :=
  let c0_i32_787 : BitVec 32 := 0#32
  let c2048_i32 : BitVec 32 := 2048#32
  let v2255 : BitVec 32 := Scalar.addi v2254 c2048_i32
  let c1_i32_779 : BitVec 32 := 1#32
  let v2256 : BitVec 32 := Scalar.subi v2255 c1_i32_779
  let c0_i32_781 : BitVec 32 := 0#32
  let v2258 : BitVec 1 := Scalar.cmpi .sgt v2256 c0_i32_781
  let v2259 : BitVec 32 := Scalar.extui v2258
  let c0_i32_782 : BitVec 32 := 0#32
  let v2260 : BitVec 1 := Scalar.cmpi .slt v2256 c0_i32_782
  let v2261 : BitVec 32 := Scalar.extui v2260
  let v2262 : BitVec 32 := Scalar.subi v2259 v2261
  let c2048_i32_780 : BitVec 32 := 2048#32
  let c0_i32_783 : BitVec 32 := 0#32
  let v2263 : BitVec 1 := Scalar.cmpi .sgt c2048_i32_780 c0_i32_783
  let v2264 : BitVec 32 := Scalar.extui v2263
  let c0_i32_784 : BitVec 32 := 0#32
  let v2265 : BitVec 1 := Scalar.cmpi .slt c2048_i32_780 c0_i32_784
  let v2266 : BitVec 32 := Scalar.extui v2265
  let v2267 : BitVec 32 := Scalar.subi v2264 v2266
  let v2268 : BitVec 1 := Scalar.cmpi .ne v2262 v2267
  let v2269 : BitVec 32 := Scalar.remsi v2256 c2048_i32_780
  let c0_i32_785 : BitVec 32 := 0#32
  let v2270 : BitVec 1 := Scalar.cmpi .ne v2269 c0_i32_785
  let v2271 : BitVec 1 := Scalar.andi v2268 v2270
  let v2257 : BitVec 32 := Scalar.divsi v2256 c2048_i32_780
  let c1_i32_786 : BitVec 32 := 1#32
  let v2272 : BitVec 32 := Scalar.subi v2257 c1_i32_786
  let v2273 : BitVec 32 := Scalar.select v2271 v2272 v2257
  let v2274 : BitVec 32 := Scalar.subi v2273 c0_i32_787
  let c1_i32_788 : BitVec 32 := 1#32
  let v2276 : BitVec 32 := Scalar.divsi v2274 c1_i32_788
  let v2277 : BitVec 32 := Scalar.muli v2276 c1_i32_788
  let v2278 : BitVec 32 := Scalar.addi c0_i32_787 v2277
  let v2275 : BitVec 32 := Scalar.addi c0_i32_787 v2274
  let c1_i32_790 : BitVec 32 := 1#32
  ⟨v2278, v2275, c1_i32_790⟩
def k2_off5 (v2243 : BitVec 32) (v2254 : BitVec 32) (k2_t10 : Fin (k2_t10_loop v2254).trips) : Fin 1 → Nat :=
  let v2244 : BitVec 32 := v2243
  let c0_i32_787 : BitVec 32 := 0#32
  let c2048_i32 : BitVec 32 := 2048#32
  let v2255 : BitVec 32 := Scalar.addi v2254 c2048_i32
  let c1_i32_779 : BitVec 32 := 1#32
  let v2256 : BitVec 32 := Scalar.subi v2255 c1_i32_779
  let c0_i32_781 : BitVec 32 := 0#32
  let v2258 : BitVec 1 := Scalar.cmpi .sgt v2256 c0_i32_781
  let v2259 : BitVec 32 := Scalar.extui v2258
  let c0_i32_782 : BitVec 32 := 0#32
  let v2260 : BitVec 1 := Scalar.cmpi .slt v2256 c0_i32_782
  let v2261 : BitVec 32 := Scalar.extui v2260
  let v2262 : BitVec 32 := Scalar.subi v2259 v2261
  let c2048_i32_780 : BitVec 32 := 2048#32
  let c0_i32_783 : BitVec 32 := 0#32
  let v2263 : BitVec 1 := Scalar.cmpi .sgt c2048_i32_780 c0_i32_783
  let v2264 : BitVec 32 := Scalar.extui v2263
  let c0_i32_784 : BitVec 32 := 0#32
  let v2265 : BitVec 1 := Scalar.cmpi .slt c2048_i32_780 c0_i32_784
  let v2266 : BitVec 32 := Scalar.extui v2265
  let v2267 : BitVec 32 := Scalar.subi v2264 v2266
  let v2268 : BitVec 1 := Scalar.cmpi .ne v2262 v2267
  let v2269 : BitVec 32 := Scalar.remsi v2256 c2048_i32_780
  let c0_i32_785 : BitVec 32 := 0#32
  let v2270 : BitVec 1 := Scalar.cmpi .ne v2269 c0_i32_785
  let v2271 : BitVec 1 := Scalar.andi v2268 v2270
  let v2257 : BitVec 32 := Scalar.divsi v2256 c2048_i32_780
  let c1_i32_786 : BitVec 32 := 1#32
  let v2272 : BitVec 32 := Scalar.subi v2257 c1_i32_786
  let v2273 : BitVec 32 := Scalar.select v2271 v2272 v2257
  let v2274 : BitVec 32 := Scalar.subi v2273 c0_i32_787
  let c1_i32_788 : BitVec 32 := 1#32
  let v2276 : BitVec 32 := Scalar.divsi v2274 c1_i32_788
  let v2277 : BitVec 32 := Scalar.muli v2276 c1_i32_788
  let v2278 : BitVec 32 := Scalar.addi c0_i32_787 v2277
  let c1_i32_790 : BitVec 32 := 1#32
  let arg16 : BitVec 32 := Scf.iv v2278 c1_i32_790 k2_t10
  let c2048_i32_791 : BitVec 32 := 2048#32
  let v2279 : BitVec 32 := Scalar.muli arg16 c2048_i32_791
  let v2280 : BitVec 32 := Scalar.addi v2244 v2279
  ![v2280.toNat]

def k2_chk271 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t9_loop v2254).OK) ∧
  (∀ k2_t9 : Fin (k2_t9_loop v2254).trips, ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off4 v2243 v2254 k2_t9) a + S2048.size a ≤ S1010688.size a) ∧
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t10_loop v2254).OK) ∧
  (∀ k2_t10 : Fin (k2_t10_loop v2254).trips, ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off5 v2243 v2254 k2_t10) a + S2048.size a ≤ S1010688.size a)
theorem k2_t9_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) (k2_hw271 : k2_chk271 v58 v127 v196 v265 v334 v403 v472 v541 v610 v679 v748 v817 v886 v955 v1024 v1093 v1162 v1231 v1300 v1369 v1438 v1507 v1576 v1645 v1714 v1783 v1852 v1921 v1990 v2059 v2128 v2197 v2243 v2254), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t9_loop v2254).OK := fun v58 v127 v196 v265 v334 v403 v472 v541 v610 v679 v748 v817 v886 v955 v1024 v1093 v1162 v1231 v1300 v1369 v1438 v1507 v1576 v1645 v1714 v1783 v1852 v1921 v1990 v2059 v2128 v2197 v2243 v2254 k2_hw271 k2_h3 => k2_hw271.1 k2_h3
theorem k2_off4_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) (k2_hw271 : k2_chk271 v58 v127 v196 v265 v334 v403 v472 v541 v610 v679 v748 v817 v886 v955 v1024 v1093 v1162 v1231 v1300 v1369 v1438 v1507 v1576 v1645 v1714 v1783 v1852 v1921 v1990 v2059 v2128 v2197 v2243 v2254) (k2_t9 : Fin (k2_t9_loop v2254).trips), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off4 v2243 v2254 k2_t9) a + S2048.size a ≤ S1010688.size a := fun v58 v127 v196 v265 v334 v403 v472 v541 v610 v679 v748 v817 v886 v955 v1024 v1093 v1162 v1231 v1300 v1369 v1438 v1507 v1576 v1645 v1714 v1783 v1852 v1921 v1990 v2059 v2128 v2197 v2243 v2254 k2_hw271 k2_t9 k2_h3 => k2_hw271.2.1 k2_t9 k2_h3
theorem k2_t10_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) (k2_hw271 : k2_chk271 v58 v127 v196 v265 v334 v403 v472 v541 v610 v679 v748 v817 v886 v955 v1024 v1093 v1162 v1231 v1300 v1369 v1438 v1507 v1576 v1645 v1714 v1783 v1852 v1921 v1990 v2059 v2128 v2197 v2243 v2254), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t10_loop v2254).OK := fun v58 v127 v196 v265 v334 v403 v472 v541 v610 v679 v748 v817 v886 v955 v1024 v1093 v1162 v1231 v1300 v1369 v1438 v1507 v1576 v1645 v1714 v1783 v1852 v1921 v1990 v2059 v2128 v2197 v2243 v2254 k2_hw271 k2_h3 => k2_hw271.2.2.1 k2_h3
theorem k2_off5_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) (k2_hw271 : k2_chk271 v58 v127 v196 v265 v334 v403 v472 v541 v610 v679 v748 v817 v886 v955 v1024 v1093 v1162 v1231 v1300 v1369 v1438 v1507 v1576 v1645 v1714 v1783 v1852 v1921 v1990 v2059 v2128 v2197 v2243 v2254) (k2_t10 : Fin (k2_t10_loop v2254).trips), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off5 v2243 v2254 k2_t10) a + S2048.size a ≤ S1010688.size a := fun v58 v127 v196 v265 v334 v403 v472 v541 v610 v679 v748 v817 v886 v955 v1024 v1093 v1162 v1231 v1300 v1369 v1438 v1507 v1576 v1645 v1714 v1783 v1852 v1921 v1990 v2059 v2128 v2197 v2243 v2254 k2_hw271 k2_t10 k2_h3 => k2_hw271.2.2.2 k2_t10 k2_h3

def k2_chk528 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2299 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2299] : Fin 1 → IVec S16 32) a x).toNat < S32.size a)
theorem k2_idx523_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2299 : IVec S16 32) (k2_hw528 : k2_chk528 v58 v127 v196 v265 v334 v403 v472 v541 v610 v679 v748 v817 v886 v955 v1024 v1093 v1162 v1231 v1300 v1369 v1438 v1507 v1576 v1645 v1714 v1783 v1852 v1921 v1990 v2059 v2128 v2197 v2299), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2299] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2299 k2_hw528 k2_h3 => k2_hw528 k2_h3

def k2_chk529 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2302 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2302] : Fin 1 → IVec S16 32) a x).toNat < S65536.size a)
theorem k2_idx524_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2302 : IVec S16 32) (k2_hw529 : k2_chk529 v58 v127 v196 v265 v334 v403 v472 v541 v610 v679 v748 v817 v886 v955 v1024 v1093 v1162 v1231 v1300 v1369 v1438 v1507 v1576 v1645 v1714 v1783 v1852 v1921 v1990 v2059 v2128 v2197 v2302), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2302] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2302 k2_hw529 k2_h3 => k2_hw529 k2_h3

def k2_chk530 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2319 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2319] : Fin 1 → IVec S16 32) a x).toNat < S32.size a)
theorem k2_idx525_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2319 : IVec S16 32) (k2_hw530 : k2_chk530 v58 v127 v196 v265 v334 v403 v472 v541 v610 v679 v748 v817 v886 v955 v1024 v1093 v1162 v1231 v1300 v1369 v1438 v1507 v1576 v1645 v1714 v1783 v1852 v1921 v1990 v2059 v2128 v2197 v2319), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2319] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2319 k2_hw530 k2_h3 => k2_hw530 k2_h3

def k2_chk531 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2322 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2322] : Fin 1 → IVec S16 32) a x).toNat < S65536.size a)
theorem k2_idx526_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2322 : IVec S16 32) (k2_hw531 : k2_chk531 v58 v127 v196 v265 v334 v403 v472 v541 v610 v679 v748 v817 v886 v955 v1024 v1093 v1162 v1231 v1300 v1369 v1438 v1507 v1576 v1645 v1714 v1783 v1852 v1921 v1990 v2059 v2128 v2197 v2322), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2322] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2322 k2_hw531 k2_h3 => k2_hw531 k2_h3

def k2_chk532 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2339 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2339] : Fin 1 → IVec S16 32) a x).toNat < S32.size a)
theorem k2_idx527_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2339 : IVec S16 32) (k2_hw532 : k2_chk532 v58 v127 v196 v265 v334 v403 v472 v541 v610 v679 v748 v817 v886 v955 v1024 v1093 v1162 v1231 v1300 v1369 v1438 v1507 v1576 v1645 v1714 v1783 v1852 v1921 v1990 v2059 v2128 v2197 v2339), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2339] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2339 k2_hw532 k2_h3 => k2_hw532 k2_h3

def k2_chk533 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2342 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2342] : Fin 1 → IVec S16 32) a x).toNat < S65536.size a)
theorem k2_idx528_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2342 : IVec S16 32) (k2_hw533 : k2_chk533 v58 v127 v196 v265 v334 v403 v472 v541 v610 v679 v748 v817 v886 v955 v1024 v1093 v1162 v1231 v1300 v1369 v1438 v1507 v1576 v1645 v1714 v1783 v1852 v1921 v1990 v2059 v2128 v2197 v2342), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2342] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2342 k2_hw533 k2_h3 => k2_hw533 k2_h3

def k2_chk534 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2359 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2359] : Fin 1 → IVec S16 32) a x).toNat < S32.size a)
theorem k2_idx529_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2359 : IVec S16 32) (k2_hw534 : k2_chk534 v58 v127 v196 v265 v334 v403 v472 v541 v610 v679 v748 v817 v886 v955 v1024 v1093 v1162 v1231 v1300 v1369 v1438 v1507 v1576 v1645 v1714 v1783 v1852 v1921 v1990 v2059 v2128 v2197 v2359), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2359] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2359 k2_hw534 k2_h3 => k2_hw534 k2_h3

def k2_chk535 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2362 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2362] : Fin 1 → IVec S16 32) a x).toNat < S65536.size a)
theorem k2_idx530_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2362 : IVec S16 32) (k2_hw535 : k2_chk535 v58 v127 v196 v265 v334 v403 v472 v541 v610 v679 v748 v817 v886 v955 v1024 v1093 v1162 v1231 v1300 v1369 v1438 v1507 v1576 v1645 v1714 v1783 v1852 v1921 v1990 v2059 v2128 v2197 v2362), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2362] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2362 k2_hw535 k2_h3 => k2_hw535 k2_h3

def k2_chk536 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2379 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2379] : Fin 1 → IVec S16 32) a x).toNat < S32.size a)
theorem k2_idx531_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2379 : IVec S16 32) (k2_hw536 : k2_chk536 v58 v127 v196 v265 v334 v403 v472 v541 v610 v679 v748 v817 v886 v955 v1024 v1093 v1162 v1231 v1300 v1369 v1438 v1507 v1576 v1645 v1714 v1783 v1852 v1921 v1990 v2059 v2128 v2197 v2379), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2379] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2379 k2_hw536 k2_h3 => k2_hw536 k2_h3

def k2_chk537 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2382 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2382] : Fin 1 → IVec S16 32) a x).toNat < S65536.size a)
theorem k2_idx532_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2382 : IVec S16 32) (k2_hw537 : k2_chk537 v58 v127 v196 v265 v334 v403 v472 v541 v610 v679 v748 v817 v886 v955 v1024 v1093 v1162 v1231 v1300 v1369 v1438 v1507 v1576 v1645 v1714 v1783 v1852 v1921 v1990 v2059 v2128 v2197 v2382), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2382] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2382 k2_hw537 k2_h3 => k2_hw537 k2_h3

def k2_chk538 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2399 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2399] : Fin 1 → IVec S16 32) a x).toNat < S32.size a)
theorem k2_idx533_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2399 : IVec S16 32) (k2_hw538 : k2_chk538 v58 v127 v196 v265 v334 v403 v472 v541 v610 v679 v748 v817 v886 v955 v1024 v1093 v1162 v1231 v1300 v1369 v1438 v1507 v1576 v1645 v1714 v1783 v1852 v1921 v1990 v2059 v2128 v2197 v2399), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2399] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2399 k2_hw538 k2_h3 => k2_hw538 k2_h3

def k2_chk539 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2402 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2402] : Fin 1 → IVec S16 32) a x).toNat < S65536.size a)
theorem k2_idx534_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2402 : IVec S16 32) (k2_hw539 : k2_chk539 v58 v127 v196 v265 v334 v403 v472 v541 v610 v679 v748 v817 v886 v955 v1024 v1093 v1162 v1231 v1300 v1369 v1438 v1507 v1576 v1645 v1714 v1783 v1852 v1921 v1990 v2059 v2128 v2197 v2402), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2402] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2402 k2_hw539 k2_h3 => k2_hw539 k2_h3

def k2_chk540 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2419 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2419] : Fin 1 → IVec S16 32) a x).toNat < S32.size a)
theorem k2_idx535_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2419 : IVec S16 32) (k2_hw540 : k2_chk540 v58 v127 v196 v265 v334 v403 v472 v541 v610 v679 v748 v817 v886 v955 v1024 v1093 v1162 v1231 v1300 v1369 v1438 v1507 v1576 v1645 v1714 v1783 v1852 v1921 v1990 v2059 v2128 v2197 v2419), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2419] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2419 k2_hw540 k2_h3 => k2_hw540 k2_h3

def k2_chk541 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2422 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2422] : Fin 1 → IVec S16 32) a x).toNat < S65536.size a)
theorem k2_idx536_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2422 : IVec S16 32) (k2_hw541 : k2_chk541 v58 v127 v196 v265 v334 v403 v472 v541 v610 v679 v748 v817 v886 v955 v1024 v1093 v1162 v1231 v1300 v1369 v1438 v1507 v1576 v1645 v1714 v1783 v1852 v1921 v1990 v2059 v2128 v2197 v2422), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2422] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2422 k2_hw541 k2_h3 => k2_hw541 k2_h3

def k2_chk542 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2439 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2439] : Fin 1 → IVec S16 32) a x).toNat < S32.size a)
theorem k2_idx537_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2439 : IVec S16 32) (k2_hw542 : k2_chk542 v58 v127 v196 v265 v334 v403 v472 v541 v610 v679 v748 v817 v886 v955 v1024 v1093 v1162 v1231 v1300 v1369 v1438 v1507 v1576 v1645 v1714 v1783 v1852 v1921 v1990 v2059 v2128 v2197 v2439), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2439] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2439 k2_hw542 k2_h3 => k2_hw542 k2_h3

def k2_chk543 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2442 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2442] : Fin 1 → IVec S16 32) a x).toNat < S65536.size a)
theorem k2_idx538_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2442 : IVec S16 32) (k2_hw543 : k2_chk543 v58 v127 v196 v265 v334 v403 v472 v541 v610 v679 v748 v817 v886 v955 v1024 v1093 v1162 v1231 v1300 v1369 v1438 v1507 v1576 v1645 v1714 v1783 v1852 v1921 v1990 v2059 v2128 v2197 v2442), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2442] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2442 k2_hw543 k2_h3 => k2_hw543 k2_h3

def k2_chk544 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2459 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2459] : Fin 1 → IVec S16 32) a x).toNat < S32.size a)
theorem k2_idx539_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2459 : IVec S16 32) (k2_hw544 : k2_chk544 v58 v127 v196 v265 v334 v403 v472 v541 v610 v679 v748 v817 v886 v955 v1024 v1093 v1162 v1231 v1300 v1369 v1438 v1507 v1576 v1645 v1714 v1783 v1852 v1921 v1990 v2059 v2128 v2197 v2459), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2459] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2459 k2_hw544 k2_h3 => k2_hw544 k2_h3

def k2_chk545 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2462 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2462] : Fin 1 → IVec S16 32) a x).toNat < S65536.size a)
theorem k2_idx540_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2462 : IVec S16 32) (k2_hw545 : k2_chk545 v58 v127 v196 v265 v334 v403 v472 v541 v610 v679 v748 v817 v886 v955 v1024 v1093 v1162 v1231 v1300 v1369 v1438 v1507 v1576 v1645 v1714 v1783 v1852 v1921 v1990 v2059 v2128 v2197 v2462), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2462] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2462 k2_hw545 k2_h3 => k2_hw545 k2_h3

def k2_chk546 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2479 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2479] : Fin 1 → IVec S16 32) a x).toNat < S32.size a)
theorem k2_idx541_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2479 : IVec S16 32) (k2_hw546 : k2_chk546 v58 v127 v196 v265 v334 v403 v472 v541 v610 v679 v748 v817 v886 v955 v1024 v1093 v1162 v1231 v1300 v1369 v1438 v1507 v1576 v1645 v1714 v1783 v1852 v1921 v1990 v2059 v2128 v2197 v2479), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2479] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2479 k2_hw546 k2_h3 => k2_hw546 k2_h3

def k2_chk547 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2482 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2482] : Fin 1 → IVec S16 32) a x).toNat < S65536.size a)
theorem k2_idx542_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2482 : IVec S16 32) (k2_hw547 : k2_chk547 v58 v127 v196 v265 v334 v403 v472 v541 v610 v679 v748 v817 v886 v955 v1024 v1093 v1162 v1231 v1300 v1369 v1438 v1507 v1576 v1645 v1714 v1783 v1852 v1921 v1990 v2059 v2128 v2197 v2482), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2482] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2482 k2_hw547 k2_h3 => k2_hw547 k2_h3

def k2_chk548 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2499 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2499] : Fin 1 → IVec S16 32) a x).toNat < S32.size a)
theorem k2_idx543_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2499 : IVec S16 32) (k2_hw548 : k2_chk548 v58 v127 v196 v265 v334 v403 v472 v541 v610 v679 v748 v817 v886 v955 v1024 v1093 v1162 v1231 v1300 v1369 v1438 v1507 v1576 v1645 v1714 v1783 v1852 v1921 v1990 v2059 v2128 v2197 v2499), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2499] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2499 k2_hw548 k2_h3 => k2_hw548 k2_h3

def k2_chk549 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2502 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2502] : Fin 1 → IVec S16 32) a x).toNat < S65536.size a)
theorem k2_idx544_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2502 : IVec S16 32) (k2_hw549 : k2_chk549 v58 v127 v196 v265 v334 v403 v472 v541 v610 v679 v748 v817 v886 v955 v1024 v1093 v1162 v1231 v1300 v1369 v1438 v1507 v1576 v1645 v1714 v1783 v1852 v1921 v1990 v2059 v2128 v2197 v2502), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2502] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2502 k2_hw549 k2_h3 => k2_hw549 k2_h3

def k2_chk550 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2519 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2519] : Fin 1 → IVec S16 32) a x).toNat < S32.size a)
theorem k2_idx545_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2519 : IVec S16 32) (k2_hw550 : k2_chk550 v58 v127 v196 v265 v334 v403 v472 v541 v610 v679 v748 v817 v886 v955 v1024 v1093 v1162 v1231 v1300 v1369 v1438 v1507 v1576 v1645 v1714 v1783 v1852 v1921 v1990 v2059 v2128 v2197 v2519), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2519] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2519 k2_hw550 k2_h3 => k2_hw550 k2_h3

def k2_chk551 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2522 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2522] : Fin 1 → IVec S16 32) a x).toNat < S65536.size a)
theorem k2_idx546_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2522 : IVec S16 32) (k2_hw551 : k2_chk551 v58 v127 v196 v265 v334 v403 v472 v541 v610 v679 v748 v817 v886 v955 v1024 v1093 v1162 v1231 v1300 v1369 v1438 v1507 v1576 v1645 v1714 v1783 v1852 v1921 v1990 v2059 v2128 v2197 v2522), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2522] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2522 k2_hw551 k2_h3 => k2_hw551 k2_h3

def k2_chk552 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2539 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2539] : Fin 1 → IVec S16 32) a x).toNat < S32.size a)
theorem k2_idx547_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2539 : IVec S16 32) (k2_hw552 : k2_chk552 v58 v127 v196 v265 v334 v403 v472 v541 v610 v679 v748 v817 v886 v955 v1024 v1093 v1162 v1231 v1300 v1369 v1438 v1507 v1576 v1645 v1714 v1783 v1852 v1921 v1990 v2059 v2128 v2197 v2539), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2539] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2539 k2_hw552 k2_h3 => k2_hw552 k2_h3

def k2_chk553 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2542 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2542] : Fin 1 → IVec S16 32) a x).toNat < S65536.size a)
theorem k2_idx548_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2542 : IVec S16 32) (k2_hw553 : k2_chk553 v58 v127 v196 v265 v334 v403 v472 v541 v610 v679 v748 v817 v886 v955 v1024 v1093 v1162 v1231 v1300 v1369 v1438 v1507 v1576 v1645 v1714 v1783 v1852 v1921 v1990 v2059 v2128 v2197 v2542), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2542] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2542 k2_hw553 k2_h3 => k2_hw553 k2_h3

def k2_chk554 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2559 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2559] : Fin 1 → IVec S16 32) a x).toNat < S32.size a)
theorem k2_idx549_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2559 : IVec S16 32) (k2_hw554 : k2_chk554 v58 v127 v196 v265 v334 v403 v472 v541 v610 v679 v748 v817 v886 v955 v1024 v1093 v1162 v1231 v1300 v1369 v1438 v1507 v1576 v1645 v1714 v1783 v1852 v1921 v1990 v2059 v2128 v2197 v2559), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2559] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2559 k2_hw554 k2_h3 => k2_hw554 k2_h3

def k2_chk555 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2562 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2562] : Fin 1 → IVec S16 32) a x).toNat < S65536.size a)
theorem k2_idx550_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2562 : IVec S16 32) (k2_hw555 : k2_chk555 v58 v127 v196 v265 v334 v403 v472 v541 v610 v679 v748 v817 v886 v955 v1024 v1093 v1162 v1231 v1300 v1369 v1438 v1507 v1576 v1645 v1714 v1783 v1852 v1921 v1990 v2059 v2128 v2197 v2562), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2562] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2562 k2_hw555 k2_h3 => k2_hw555 k2_h3

def k2_chk556 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2579 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2579] : Fin 1 → IVec S16 32) a x).toNat < S32.size a)
theorem k2_idx551_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2579 : IVec S16 32) (k2_hw556 : k2_chk556 v58 v127 v196 v265 v334 v403 v472 v541 v610 v679 v748 v817 v886 v955 v1024 v1093 v1162 v1231 v1300 v1369 v1438 v1507 v1576 v1645 v1714 v1783 v1852 v1921 v1990 v2059 v2128 v2197 v2579), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2579] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2579 k2_hw556 k2_h3 => k2_hw556 k2_h3

def k2_chk557 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2582 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2582] : Fin 1 → IVec S16 32) a x).toNat < S65536.size a)
theorem k2_idx552_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2582 : IVec S16 32) (k2_hw557 : k2_chk557 v58 v127 v196 v265 v334 v403 v472 v541 v610 v679 v748 v817 v886 v955 v1024 v1093 v1162 v1231 v1300 v1369 v1438 v1507 v1576 v1645 v1714 v1783 v1852 v1921 v1990 v2059 v2128 v2197 v2582), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2582] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2582 k2_hw557 k2_h3 => k2_hw557 k2_h3

def k2_chk558 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2599 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2599] : Fin 1 → IVec S16 32) a x).toNat < S32.size a)
theorem k2_idx553_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2599 : IVec S16 32) (k2_hw558 : k2_chk558 v58 v127 v196 v265 v334 v403 v472 v541 v610 v679 v748 v817 v886 v955 v1024 v1093 v1162 v1231 v1300 v1369 v1438 v1507 v1576 v1645 v1714 v1783 v1852 v1921 v1990 v2059 v2128 v2197 v2599), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2599] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2599 k2_hw558 k2_h3 => k2_hw558 k2_h3

def k2_chk559 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2602 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2602] : Fin 1 → IVec S16 32) a x).toNat < S65536.size a)
theorem k2_idx554_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2602 : IVec S16 32) (k2_hw559 : k2_chk559 v58 v127 v196 v265 v334 v403 v472 v541 v610 v679 v748 v817 v886 v955 v1024 v1093 v1162 v1231 v1300 v1369 v1438 v1507 v1576 v1645 v1714 v1783 v1852 v1921 v1990 v2059 v2128 v2197 v2602), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2602] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2602 k2_hw559 k2_h3 => k2_hw559 k2_h3

def k2_chk560 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2619 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2619] : Fin 1 → IVec S16 32) a x).toNat < S32.size a)
theorem k2_idx555_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2619 : IVec S16 32) (k2_hw560 : k2_chk560 v58 v127 v196 v265 v334 v403 v472 v541 v610 v679 v748 v817 v886 v955 v1024 v1093 v1162 v1231 v1300 v1369 v1438 v1507 v1576 v1645 v1714 v1783 v1852 v1921 v1990 v2059 v2128 v2197 v2619), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2619] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2619 k2_hw560 k2_h3 => k2_hw560 k2_h3

def k2_chk561 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2622 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2622] : Fin 1 → IVec S16 32) a x).toNat < S65536.size a)
theorem k2_idx556_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2622 : IVec S16 32) (k2_hw561 : k2_chk561 v58 v127 v196 v265 v334 v403 v472 v541 v610 v679 v748 v817 v886 v955 v1024 v1093 v1162 v1231 v1300 v1369 v1438 v1507 v1576 v1645 v1714 v1783 v1852 v1921 v1990 v2059 v2128 v2197 v2622), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2622] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2622 k2_hw561 k2_h3 => k2_hw561 k2_h3

def k2_chk562 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2639 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2639] : Fin 1 → IVec S16 32) a x).toNat < S32.size a)
theorem k2_idx557_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2639 : IVec S16 32) (k2_hw562 : k2_chk562 v58 v127 v196 v265 v334 v403 v472 v541 v610 v679 v748 v817 v886 v955 v1024 v1093 v1162 v1231 v1300 v1369 v1438 v1507 v1576 v1645 v1714 v1783 v1852 v1921 v1990 v2059 v2128 v2197 v2639), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2639] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2639 k2_hw562 k2_h3 => k2_hw562 k2_h3

def k2_chk563 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2642 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2642] : Fin 1 → IVec S16 32) a x).toNat < S65536.size a)
theorem k2_idx558_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2642 : IVec S16 32) (k2_hw563 : k2_chk563 v58 v127 v196 v265 v334 v403 v472 v541 v610 v679 v748 v817 v886 v955 v1024 v1093 v1162 v1231 v1300 v1369 v1438 v1507 v1576 v1645 v1714 v1783 v1852 v1921 v1990 v2059 v2128 v2197 v2642), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2642] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2642 k2_hw563 k2_h3 => k2_hw563 k2_h3

def k2_chk564 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2659 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2659] : Fin 1 → IVec S16 32) a x).toNat < S32.size a)
theorem k2_idx559_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2659 : IVec S16 32) (k2_hw564 : k2_chk564 v58 v127 v196 v265 v334 v403 v472 v541 v610 v679 v748 v817 v886 v955 v1024 v1093 v1162 v1231 v1300 v1369 v1438 v1507 v1576 v1645 v1714 v1783 v1852 v1921 v1990 v2059 v2128 v2197 v2659), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2659] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2659 k2_hw564 k2_h3 => k2_hw564 k2_h3

def k2_chk565 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2662 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2662] : Fin 1 → IVec S16 32) a x).toNat < S65536.size a)
theorem k2_idx560_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2662 : IVec S16 32) (k2_hw565 : k2_chk565 v58 v127 v196 v265 v334 v403 v472 v541 v610 v679 v748 v817 v886 v955 v1024 v1093 v1162 v1231 v1300 v1369 v1438 v1507 v1576 v1645 v1714 v1783 v1852 v1921 v1990 v2059 v2128 v2197 v2662), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2662] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2662 k2_hw565 k2_h3 => k2_hw565 k2_h3

def k2_chk566 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2679 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2679] : Fin 1 → IVec S16 32) a x).toNat < S32.size a)
theorem k2_idx561_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2679 : IVec S16 32) (k2_hw566 : k2_chk566 v58 v127 v196 v265 v334 v403 v472 v541 v610 v679 v748 v817 v886 v955 v1024 v1093 v1162 v1231 v1300 v1369 v1438 v1507 v1576 v1645 v1714 v1783 v1852 v1921 v1990 v2059 v2128 v2197 v2679), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2679] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2679 k2_hw566 k2_h3 => k2_hw566 k2_h3

def k2_chk567 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2682 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2682] : Fin 1 → IVec S16 32) a x).toNat < S65536.size a)
theorem k2_idx562_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2682 : IVec S16 32) (k2_hw567 : k2_chk567 v58 v127 v196 v265 v334 v403 v472 v541 v610 v679 v748 v817 v886 v955 v1024 v1093 v1162 v1231 v1300 v1369 v1438 v1507 v1576 v1645 v1714 v1783 v1852 v1921 v1990 v2059 v2128 v2197 v2682), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2682] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2682 k2_hw567 k2_h3 => k2_hw567 k2_h3

def k2_chk568 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2699 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2699] : Fin 1 → IVec S16 32) a x).toNat < S32.size a)
theorem k2_idx563_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2699 : IVec S16 32) (k2_hw568 : k2_chk568 v58 v127 v196 v265 v334 v403 v472 v541 v610 v679 v748 v817 v886 v955 v1024 v1093 v1162 v1231 v1300 v1369 v1438 v1507 v1576 v1645 v1714 v1783 v1852 v1921 v1990 v2059 v2128 v2197 v2699), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2699] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2699 k2_hw568 k2_h3 => k2_hw568 k2_h3

def k2_chk569 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2702 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2702] : Fin 1 → IVec S16 32) a x).toNat < S65536.size a)
theorem k2_idx564_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2702 : IVec S16 32) (k2_hw569 : k2_chk569 v58 v127 v196 v265 v334 v403 v472 v541 v610 v679 v748 v817 v886 v955 v1024 v1093 v1162 v1231 v1300 v1369 v1438 v1507 v1576 v1645 v1714 v1783 v1852 v1921 v1990 v2059 v2128 v2197 v2702), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2702] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2702 k2_hw569 k2_h3 => k2_hw569 k2_h3

def k2_chk570 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2719 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2719] : Fin 1 → IVec S16 32) a x).toNat < S32.size a)
theorem k2_idx565_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2719 : IVec S16 32) (k2_hw570 : k2_chk570 v58 v127 v196 v265 v334 v403 v472 v541 v610 v679 v748 v817 v886 v955 v1024 v1093 v1162 v1231 v1300 v1369 v1438 v1507 v1576 v1645 v1714 v1783 v1852 v1921 v1990 v2059 v2128 v2197 v2719), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2719] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2719 k2_hw570 k2_h3 => k2_hw570 k2_h3

def k2_chk571 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2722 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2722] : Fin 1 → IVec S16 32) a x).toNat < S65536.size a)
theorem k2_idx566_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2722 : IVec S16 32) (k2_hw571 : k2_chk571 v58 v127 v196 v265 v334 v403 v472 v541 v610 v679 v748 v817 v886 v955 v1024 v1093 v1162 v1231 v1300 v1369 v1438 v1507 v1576 v1645 v1714 v1783 v1852 v1921 v1990 v2059 v2128 v2197 v2722), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2722] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2722 k2_hw571 k2_h3 => k2_hw571 k2_h3

def k2_chk572 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2739 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2739] : Fin 1 → IVec S16 32) a x).toNat < S32.size a)
theorem k2_idx567_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2739 : IVec S16 32) (k2_hw572 : k2_chk572 v58 v127 v196 v265 v334 v403 v472 v541 v610 v679 v748 v817 v886 v955 v1024 v1093 v1162 v1231 v1300 v1369 v1438 v1507 v1576 v1645 v1714 v1783 v1852 v1921 v1990 v2059 v2128 v2197 v2739), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2739] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2739 k2_hw572 k2_h3 => k2_hw572 k2_h3

def k2_chk573 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2742 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2742] : Fin 1 → IVec S16 32) a x).toNat < S65536.size a)
theorem k2_idx568_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2742 : IVec S16 32) (k2_hw573 : k2_chk573 v58 v127 v196 v265 v334 v403 v472 v541 v610 v679 v748 v817 v886 v955 v1024 v1093 v1162 v1231 v1300 v1369 v1438 v1507 v1576 v1645 v1714 v1783 v1852 v1921 v1990 v2059 v2128 v2197 v2742), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2742] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2742 k2_hw573 k2_h3 => k2_hw573 k2_h3

def k2_chk574 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2759 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2759] : Fin 1 → IVec S16 32) a x).toNat < S32.size a)
theorem k2_idx569_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2759 : IVec S16 32) (k2_hw574 : k2_chk574 v58 v127 v196 v265 v334 v403 v472 v541 v610 v679 v748 v817 v886 v955 v1024 v1093 v1162 v1231 v1300 v1369 v1438 v1507 v1576 v1645 v1714 v1783 v1852 v1921 v1990 v2059 v2128 v2197 v2759), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2759] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2759 k2_hw574 k2_h3 => k2_hw574 k2_h3

def k2_chk575 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2762 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2762] : Fin 1 → IVec S16 32) a x).toNat < S65536.size a)
theorem k2_idx570_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2762 : IVec S16 32) (k2_hw575 : k2_chk575 v58 v127 v196 v265 v334 v403 v472 v541 v610 v679 v748 v817 v886 v955 v1024 v1093 v1162 v1231 v1300 v1369 v1438 v1507 v1576 v1645 v1714 v1783 v1852 v1921 v1990 v2059 v2128 v2197 v2762), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2762] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2762 k2_hw575 k2_h3 => k2_hw575 k2_h3

def k2_chk576 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2779 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2779] : Fin 1 → IVec S16 32) a x).toNat < S32.size a)
theorem k2_idx571_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2779 : IVec S16 32) (k2_hw576 : k2_chk576 v58 v127 v196 v265 v334 v403 v472 v541 v610 v679 v748 v817 v886 v955 v1024 v1093 v1162 v1231 v1300 v1369 v1438 v1507 v1576 v1645 v1714 v1783 v1852 v1921 v1990 v2059 v2128 v2197 v2779), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2779] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2779 k2_hw576 k2_h3 => k2_hw576 k2_h3

def k2_chk577 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2782 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2782] : Fin 1 → IVec S16 32) a x).toNat < S65536.size a)
theorem k2_idx572_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2782 : IVec S16 32) (k2_hw577 : k2_chk577 v58 v127 v196 v265 v334 v403 v472 v541 v610 v679 v748 v817 v886 v955 v1024 v1093 v1162 v1231 v1300 v1369 v1438 v1507 v1576 v1645 v1714 v1783 v1852 v1921 v1990 v2059 v2128 v2197 v2782), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2782] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2782 k2_hw577 k2_h3 => k2_hw577 k2_h3

def k2_chk578 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2799 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2799] : Fin 1 → IVec S16 32) a x).toNat < S32.size a)
theorem k2_idx573_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2799 : IVec S16 32) (k2_hw578 : k2_chk578 v58 v127 v196 v265 v334 v403 v472 v541 v610 v679 v748 v817 v886 v955 v1024 v1093 v1162 v1231 v1300 v1369 v1438 v1507 v1576 v1645 v1714 v1783 v1852 v1921 v1990 v2059 v2128 v2197 v2799), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2799] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2799 k2_hw578 k2_h3 => k2_hw578 k2_h3

def k2_chk579 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2802 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2802] : Fin 1 → IVec S16 32) a x).toNat < S65536.size a)
theorem k2_idx574_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2802 : IVec S16 32) (k2_hw579 : k2_chk579 v58 v127 v196 v265 v334 v403 v472 v541 v610 v679 v748 v817 v886 v955 v1024 v1093 v1162 v1231 v1300 v1369 v1438 v1507 v1576 v1645 v1714 v1783 v1852 v1921 v1990 v2059 v2128 v2197 v2802), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2802] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2802 k2_hw579 k2_h3 => k2_hw579 k2_h3

def k2_chk580 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2819 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2819] : Fin 1 → IVec S16 32) a x).toNat < S32.size a)
theorem k2_idx575_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2819 : IVec S16 32) (k2_hw580 : k2_chk580 v58 v127 v196 v265 v334 v403 v472 v541 v610 v679 v748 v817 v886 v955 v1024 v1093 v1162 v1231 v1300 v1369 v1438 v1507 v1576 v1645 v1714 v1783 v1852 v1921 v1990 v2059 v2128 v2197 v2819), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2819] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2819 k2_hw580 k2_h3 => k2_hw580 k2_h3

def k2_chk581 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2822 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2822] : Fin 1 → IVec S16 32) a x).toNat < S65536.size a)
theorem k2_idx576_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2822 : IVec S16 32) (k2_hw581 : k2_chk581 v58 v127 v196 v265 v334 v403 v472 v541 v610 v679 v748 v817 v886 v955 v1024 v1093 v1162 v1231 v1300 v1369 v1438 v1507 v1576 v1645 v1714 v1783 v1852 v1921 v1990 v2059 v2128 v2197 v2822), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2822] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2822 k2_hw581 k2_h3 => k2_hw581 k2_h3

def k2_chk582 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2839 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2839] : Fin 1 → IVec S16 32) a x).toNat < S32.size a)
theorem k2_idx577_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2839 : IVec S16 32) (k2_hw582 : k2_chk582 v58 v127 v196 v265 v334 v403 v472 v541 v610 v679 v748 v817 v886 v955 v1024 v1093 v1162 v1231 v1300 v1369 v1438 v1507 v1576 v1645 v1714 v1783 v1852 v1921 v1990 v2059 v2128 v2197 v2839), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2839] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2839 k2_hw582 k2_h3 => k2_hw582 k2_h3

def k2_chk583 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2842 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2842] : Fin 1 → IVec S16 32) a x).toNat < S65536.size a)
theorem k2_idx578_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2842 : IVec S16 32) (k2_hw583 : k2_chk583 v58 v127 v196 v265 v334 v403 v472 v541 v610 v679 v748 v817 v886 v955 v1024 v1093 v1162 v1231 v1300 v1369 v1438 v1507 v1576 v1645 v1714 v1783 v1852 v1921 v1990 v2059 v2128 v2197 v2842), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2842] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2842 k2_hw583 k2_h3 => k2_hw583 k2_h3

def k2_chk584 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2859 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2859] : Fin 1 → IVec S16 32) a x).toNat < S32.size a)
theorem k2_idx579_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2859 : IVec S16 32) (k2_hw584 : k2_chk584 v58 v127 v196 v265 v334 v403 v472 v541 v610 v679 v748 v817 v886 v955 v1024 v1093 v1162 v1231 v1300 v1369 v1438 v1507 v1576 v1645 v1714 v1783 v1852 v1921 v1990 v2059 v2128 v2197 v2859), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2859] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2859 k2_hw584 k2_h3 => k2_hw584 k2_h3

def k2_chk585 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2862 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2862] : Fin 1 → IVec S16 32) a x).toNat < S65536.size a)
theorem k2_idx580_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2862 : IVec S16 32) (k2_hw585 : k2_chk585 v58 v127 v196 v265 v334 v403 v472 v541 v610 v679 v748 v817 v886 v955 v1024 v1093 v1162 v1231 v1300 v1369 v1438 v1507 v1576 v1645 v1714 v1783 v1852 v1921 v1990 v2059 v2128 v2197 v2862), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2862] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2862 k2_hw585 k2_h3 => k2_hw585 k2_h3

def k2_chk586 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2879 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2879] : Fin 1 → IVec S16 32) a x).toNat < S32.size a)
theorem k2_idx581_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2879 : IVec S16 32) (k2_hw586 : k2_chk586 v58 v127 v196 v265 v334 v403 v472 v541 v610 v679 v748 v817 v886 v955 v1024 v1093 v1162 v1231 v1300 v1369 v1438 v1507 v1576 v1645 v1714 v1783 v1852 v1921 v1990 v2059 v2128 v2197 v2879), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2879] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2879 k2_hw586 k2_h3 => k2_hw586 k2_h3

def k2_chk587 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2882 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2882] : Fin 1 → IVec S16 32) a x).toNat < S65536.size a)
theorem k2_idx582_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2882 : IVec S16 32) (k2_hw587 : k2_chk587 v58 v127 v196 v265 v334 v403 v472 v541 v610 v679 v748 v817 v886 v955 v1024 v1093 v1162 v1231 v1300 v1369 v1438 v1507 v1576 v1645 v1714 v1783 v1852 v1921 v1990 v2059 v2128 v2197 v2882), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2882] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2882 k2_hw587 k2_h3 => k2_hw587 k2_h3

def k2_chk588 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2899 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2899] : Fin 1 → IVec S16 32) a x).toNat < S32.size a)
theorem k2_idx583_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2899 : IVec S16 32) (k2_hw588 : k2_chk588 v58 v127 v196 v265 v334 v403 v472 v541 v610 v679 v748 v817 v886 v955 v1024 v1093 v1162 v1231 v1300 v1369 v1438 v1507 v1576 v1645 v1714 v1783 v1852 v1921 v1990 v2059 v2128 v2197 v2899), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2899] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2899 k2_hw588 k2_h3 => k2_hw588 k2_h3

def k2_chk589 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2902 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2902] : Fin 1 → IVec S16 32) a x).toNat < S65536.size a)
theorem k2_idx584_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2902 : IVec S16 32) (k2_hw589 : k2_chk589 v58 v127 v196 v265 v334 v403 v472 v541 v610 v679 v748 v817 v886 v955 v1024 v1093 v1162 v1231 v1300 v1369 v1438 v1507 v1576 v1645 v1714 v1783 v1852 v1921 v1990 v2059 v2128 v2197 v2902), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2902] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2902 k2_hw589 k2_h3 => k2_hw589 k2_h3

def k2_chk590 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2919 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2919] : Fin 1 → IVec S16 32) a x).toNat < S32.size a)
theorem k2_idx585_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2919 : IVec S16 32) (k2_hw590 : k2_chk590 v58 v127 v196 v265 v334 v403 v472 v541 v610 v679 v748 v817 v886 v955 v1024 v1093 v1162 v1231 v1300 v1369 v1438 v1507 v1576 v1645 v1714 v1783 v1852 v1921 v1990 v2059 v2128 v2197 v2919), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2919] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2919 k2_hw590 k2_h3 => k2_hw590 k2_h3

def k2_chk591 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2922 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2922] : Fin 1 → IVec S16 32) a x).toNat < S65536.size a)
theorem k2_idx586_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2922 : IVec S16 32) (k2_hw591 : k2_chk591 v58 v127 v196 v265 v334 v403 v472 v541 v610 v679 v748 v817 v886 v955 v1024 v1093 v1162 v1231 v1300 v1369 v1438 v1507 v1576 v1645 v1714 v1783 v1852 v1921 v1990 v2059 v2128 v2197 v2922), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2922] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2922 k2_hw591 k2_h3 => k2_hw591 k2_h3

def k2_chk592 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2939 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2939] : Fin 1 → IVec S16 32) a x).toNat < S32.size a)
theorem k2_idx587_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2939 : IVec S16 32) (k2_hw592 : k2_chk592 v58 v127 v196 v265 v334 v403 v472 v541 v610 v679 v748 v817 v886 v955 v1024 v1093 v1162 v1231 v1300 v1369 v1438 v1507 v1576 v1645 v1714 v1783 v1852 v1921 v1990 v2059 v2128 v2197 v2939), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2939] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2939 k2_hw592 k2_h3 => k2_hw592 k2_h3

def k2_chk593 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2942 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2942] : Fin 1 → IVec S16 32) a x).toNat < S65536.size a)
theorem k2_idx588_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2942 : IVec S16 32) (k2_hw593 : k2_chk593 v58 v127 v196 v265 v334 v403 v472 v541 v610 v679 v748 v817 v886 v955 v1024 v1093 v1162 v1231 v1300 v1369 v1438 v1507 v1576 v1645 v1714 v1783 v1852 v1921 v1990 v2059 v2128 v2197 v2942), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2942] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2942 k2_hw593 k2_h3 => k2_hw593 k2_h3

def k2_chk594 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2959 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2959] : Fin 1 → IVec S16 32) a x).toNat < S32.size a)
theorem k2_idx589_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2959 : IVec S16 32) (k2_hw594 : k2_chk594 v58 v127 v196 v265 v334 v403 v472 v541 v610 v679 v748 v817 v886 v955 v1024 v1093 v1162 v1231 v1300 v1369 v1438 v1507 v1576 v1645 v1714 v1783 v1852 v1921 v1990 v2059 v2128 v2197 v2959), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2959] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2959 k2_hw594 k2_h3 => k2_hw594 k2_h3

def k2_chk595 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2962 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2962] : Fin 1 → IVec S16 32) a x).toNat < S65536.size a)
theorem k2_idx590_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2962 : IVec S16 32) (k2_hw595 : k2_chk595 v58 v127 v196 v265 v334 v403 v472 v541 v610 v679 v748 v817 v886 v955 v1024 v1093 v1162 v1231 v1300 v1369 v1438 v1507 v1576 v1645 v1714 v1783 v1852 v1921 v1990 v2059 v2128 v2197 v2962), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2962] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2962 k2_hw595 k2_h3 => k2_hw595 k2_h3

def k2_chk596 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2979 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2979] : Fin 1 → IVec S16 32) a x).toNat < S32.size a)
theorem k2_idx591_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2979 : IVec S16 32) (k2_hw596 : k2_chk596 v58 v127 v196 v265 v334 v403 v472 v541 v610 v679 v748 v817 v886 v955 v1024 v1093 v1162 v1231 v1300 v1369 v1438 v1507 v1576 v1645 v1714 v1783 v1852 v1921 v1990 v2059 v2128 v2197 v2979), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2979] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2979 k2_hw596 k2_h3 => k2_hw596 k2_h3

def k2_chk597 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2982 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2982] : Fin 1 → IVec S16 32) a x).toNat < S65536.size a)
theorem k2_idx592_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2982 : IVec S16 32) (k2_hw597 : k2_chk597 v58 v127 v196 v265 v334 v403 v472 v541 v610 v679 v748 v817 v886 v955 v1024 v1093 v1162 v1231 v1300 v1369 v1438 v1507 v1576 v1645 v1714 v1783 v1852 v1921 v1990 v2059 v2128 v2197 v2982), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2982] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2982 k2_hw597 k2_h3 => k2_hw597 k2_h3

def k2_chk598 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2999 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2999] : Fin 1 → IVec S16 32) a x).toNat < S32.size a)
theorem k2_idx593_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2999 : IVec S16 32) (k2_hw598 : k2_chk598 v58 v127 v196 v265 v334 v403 v472 v541 v610 v679 v748 v817 v886 v955 v1024 v1093 v1162 v1231 v1300 v1369 v1438 v1507 v1576 v1645 v1714 v1783 v1852 v1921 v1990 v2059 v2128 v2197 v2999), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2999] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2999 k2_hw598 k2_h3 => k2_hw598 k2_h3

def k2_chk599 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3002 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3002] : Fin 1 → IVec S16 32) a x).toNat < S65536.size a)
theorem k2_idx594_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3002 : IVec S16 32) (k2_hw599 : k2_chk599 v58 v127 v196 v265 v334 v403 v472 v541 v610 v679 v748 v817 v886 v955 v1024 v1093 v1162 v1231 v1300 v1369 v1438 v1507 v1576 v1645 v1714 v1783 v1852 v1921 v1990 v2059 v2128 v2197 v3002), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3002] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3002 k2_hw599 k2_h3 => k2_hw599 k2_h3

def k2_chk600 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3019 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3019] : Fin 1 → IVec S16 32) a x).toNat < S32.size a)
theorem k2_idx595_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3019 : IVec S16 32) (k2_hw600 : k2_chk600 v58 v127 v196 v265 v334 v403 v472 v541 v610 v679 v748 v817 v886 v955 v1024 v1093 v1162 v1231 v1300 v1369 v1438 v1507 v1576 v1645 v1714 v1783 v1852 v1921 v1990 v2059 v2128 v2197 v3019), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3019] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3019 k2_hw600 k2_h3 => k2_hw600 k2_h3

def k2_chk601 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3022 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3022] : Fin 1 → IVec S16 32) a x).toNat < S65536.size a)
theorem k2_idx596_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3022 : IVec S16 32) (k2_hw601 : k2_chk601 v58 v127 v196 v265 v334 v403 v472 v541 v610 v679 v748 v817 v886 v955 v1024 v1093 v1162 v1231 v1300 v1369 v1438 v1507 v1576 v1645 v1714 v1783 v1852 v1921 v1990 v2059 v2128 v2197 v3022), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3022] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3022 k2_hw601 k2_h3 => k2_hw601 k2_h3

def k2_chk602 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3039 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3039] : Fin 1 → IVec S16 32) a x).toNat < S32.size a)
theorem k2_idx597_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3039 : IVec S16 32) (k2_hw602 : k2_chk602 v58 v127 v196 v265 v334 v403 v472 v541 v610 v679 v748 v817 v886 v955 v1024 v1093 v1162 v1231 v1300 v1369 v1438 v1507 v1576 v1645 v1714 v1783 v1852 v1921 v1990 v2059 v2128 v2197 v3039), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3039] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3039 k2_hw602 k2_h3 => k2_hw602 k2_h3

def k2_chk603 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3042 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3042] : Fin 1 → IVec S16 32) a x).toNat < S65536.size a)
theorem k2_idx598_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3042 : IVec S16 32) (k2_hw603 : k2_chk603 v58 v127 v196 v265 v334 v403 v472 v541 v610 v679 v748 v817 v886 v955 v1024 v1093 v1162 v1231 v1300 v1369 v1438 v1507 v1576 v1645 v1714 v1783 v1852 v1921 v1990 v2059 v2128 v2197 v3042), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3042] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3042 k2_hw603 k2_h3 => k2_hw603 k2_h3

def k2_chk604 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3059 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3059] : Fin 1 → IVec S16 32) a x).toNat < S32.size a)
theorem k2_idx599_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3059 : IVec S16 32) (k2_hw604 : k2_chk604 v58 v127 v196 v265 v334 v403 v472 v541 v610 v679 v748 v817 v886 v955 v1024 v1093 v1162 v1231 v1300 v1369 v1438 v1507 v1576 v1645 v1714 v1783 v1852 v1921 v1990 v2059 v2128 v2197 v3059), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3059] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3059 k2_hw604 k2_h3 => k2_hw604 k2_h3

def k2_chk605 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3062 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3062] : Fin 1 → IVec S16 32) a x).toNat < S65536.size a)
theorem k2_idx600_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3062 : IVec S16 32) (k2_hw605 : k2_chk605 v58 v127 v196 v265 v334 v403 v472 v541 v610 v679 v748 v817 v886 v955 v1024 v1093 v1162 v1231 v1300 v1369 v1438 v1507 v1576 v1645 v1714 v1783 v1852 v1921 v1990 v2059 v2128 v2197 v3062), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3062] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3062 k2_hw605 k2_h3 => k2_hw605 k2_h3

def k2_chk606 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3079 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3079] : Fin 1 → IVec S16 32) a x).toNat < S32.size a)
theorem k2_idx601_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3079 : IVec S16 32) (k2_hw606 : k2_chk606 v58 v127 v196 v265 v334 v403 v472 v541 v610 v679 v748 v817 v886 v955 v1024 v1093 v1162 v1231 v1300 v1369 v1438 v1507 v1576 v1645 v1714 v1783 v1852 v1921 v1990 v2059 v2128 v2197 v3079), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3079] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3079 k2_hw606 k2_h3 => k2_hw606 k2_h3

def k2_chk607 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3082 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3082] : Fin 1 → IVec S16 32) a x).toNat < S65536.size a)
theorem k2_idx602_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3082 : IVec S16 32) (k2_hw607 : k2_chk607 v58 v127 v196 v265 v334 v403 v472 v541 v610 v679 v748 v817 v886 v955 v1024 v1093 v1162 v1231 v1300 v1369 v1438 v1507 v1576 v1645 v1714 v1783 v1852 v1921 v1990 v2059 v2128 v2197 v3082), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3082] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3082 k2_hw607 k2_h3 => k2_hw607 k2_h3

def k2_chk608 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3099 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3099] : Fin 1 → IVec S16 32) a x).toNat < S32.size a)
theorem k2_idx603_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3099 : IVec S16 32) (k2_hw608 : k2_chk608 v58 v127 v196 v265 v334 v403 v472 v541 v610 v679 v748 v817 v886 v955 v1024 v1093 v1162 v1231 v1300 v1369 v1438 v1507 v1576 v1645 v1714 v1783 v1852 v1921 v1990 v2059 v2128 v2197 v3099), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3099] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3099 k2_hw608 k2_h3 => k2_hw608 k2_h3

def k2_chk609 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3102 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3102] : Fin 1 → IVec S16 32) a x).toNat < S65536.size a)
theorem k2_idx604_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3102 : IVec S16 32) (k2_hw609 : k2_chk609 v58 v127 v196 v265 v334 v403 v472 v541 v610 v679 v748 v817 v886 v955 v1024 v1093 v1162 v1231 v1300 v1369 v1438 v1507 v1576 v1645 v1714 v1783 v1852 v1921 v1990 v2059 v2128 v2197 v3102), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3102] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3102 k2_hw609 k2_h3 => k2_hw609 k2_h3

def k2_chk610 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3119 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3119] : Fin 1 → IVec S16 32) a x).toNat < S32.size a)
theorem k2_idx605_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3119 : IVec S16 32) (k2_hw610 : k2_chk610 v58 v127 v196 v265 v334 v403 v472 v541 v610 v679 v748 v817 v886 v955 v1024 v1093 v1162 v1231 v1300 v1369 v1438 v1507 v1576 v1645 v1714 v1783 v1852 v1921 v1990 v2059 v2128 v2197 v3119), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3119] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3119 k2_hw610 k2_h3 => k2_hw610 k2_h3

def k2_chk611 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3122 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3122] : Fin 1 → IVec S16 32) a x).toNat < S65536.size a)
theorem k2_idx606_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3122 : IVec S16 32) (k2_hw611 : k2_chk611 v58 v127 v196 v265 v334 v403 v472 v541 v610 v679 v748 v817 v886 v955 v1024 v1093 v1162 v1231 v1300 v1369 v1438 v1507 v1576 v1645 v1714 v1783 v1852 v1921 v1990 v2059 v2128 v2197 v3122), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3122] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3122 k2_hw611 k2_h3 => k2_hw611 k2_h3

def k2_chk612 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3139 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3139] : Fin 1 → IVec S16 32) a x).toNat < S32.size a)
theorem k2_idx607_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3139 : IVec S16 32) (k2_hw612 : k2_chk612 v58 v127 v196 v265 v334 v403 v472 v541 v610 v679 v748 v817 v886 v955 v1024 v1093 v1162 v1231 v1300 v1369 v1438 v1507 v1576 v1645 v1714 v1783 v1852 v1921 v1990 v2059 v2128 v2197 v3139), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3139] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3139 k2_hw612 k2_h3 => k2_hw612 k2_h3

def k2_chk613 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3142 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3142] : Fin 1 → IVec S16 32) a x).toNat < S65536.size a)
theorem k2_idx608_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3142 : IVec S16 32) (k2_hw613 : k2_chk613 v58 v127 v196 v265 v334 v403 v472 v541 v610 v679 v748 v817 v886 v955 v1024 v1093 v1162 v1231 v1300 v1369 v1438 v1507 v1576 v1645 v1714 v1783 v1852 v1921 v1990 v2059 v2128 v2197 v3142), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3142] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3142 k2_hw613 k2_h3 => k2_hw613 k2_h3

def k2_chk614 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3159 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3159] : Fin 1 → IVec S16 32) a x).toNat < S32.size a)
theorem k2_idx609_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3159 : IVec S16 32) (k2_hw614 : k2_chk614 v58 v127 v196 v265 v334 v403 v472 v541 v610 v679 v748 v817 v886 v955 v1024 v1093 v1162 v1231 v1300 v1369 v1438 v1507 v1576 v1645 v1714 v1783 v1852 v1921 v1990 v2059 v2128 v2197 v3159), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3159] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3159 k2_hw614 k2_h3 => k2_hw614 k2_h3

def k2_chk615 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3162 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3162] : Fin 1 → IVec S16 32) a x).toNat < S65536.size a)
theorem k2_idx610_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3162 : IVec S16 32) (k2_hw615 : k2_chk615 v58 v127 v196 v265 v334 v403 v472 v541 v610 v679 v748 v817 v886 v955 v1024 v1093 v1162 v1231 v1300 v1369 v1438 v1507 v1576 v1645 v1714 v1783 v1852 v1921 v1990 v2059 v2128 v2197 v3162), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3162] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3162 k2_hw615 k2_h3 => k2_hw615 k2_h3

def k2_chk616 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3179 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3179] : Fin 1 → IVec S16 32) a x).toNat < S32.size a)
theorem k2_idx611_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3179 : IVec S16 32) (k2_hw616 : k2_chk616 v58 v127 v196 v265 v334 v403 v472 v541 v610 v679 v748 v817 v886 v955 v1024 v1093 v1162 v1231 v1300 v1369 v1438 v1507 v1576 v1645 v1714 v1783 v1852 v1921 v1990 v2059 v2128 v2197 v3179), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3179] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3179 k2_hw616 k2_h3 => k2_hw616 k2_h3

def k2_chk617 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3182 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3182] : Fin 1 → IVec S16 32) a x).toNat < S65536.size a)
theorem k2_idx612_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3182 : IVec S16 32) (k2_hw617 : k2_chk617 v58 v127 v196 v265 v334 v403 v472 v541 v610 v679 v748 v817 v886 v955 v1024 v1093 v1162 v1231 v1300 v1369 v1438 v1507 v1576 v1645 v1714 v1783 v1852 v1921 v1990 v2059 v2128 v2197 v3182), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3182] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3182 k2_hw617 k2_h3 => k2_hw617 k2_h3

def k2_chk618 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3199 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3199] : Fin 1 → IVec S16 32) a x).toNat < S32.size a)
theorem k2_idx613_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3199 : IVec S16 32) (k2_hw618 : k2_chk618 v58 v127 v196 v265 v334 v403 v472 v541 v610 v679 v748 v817 v886 v955 v1024 v1093 v1162 v1231 v1300 v1369 v1438 v1507 v1576 v1645 v1714 v1783 v1852 v1921 v1990 v2059 v2128 v2197 v3199), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3199] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3199 k2_hw618 k2_h3 => k2_hw618 k2_h3

def k2_chk619 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3202 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3202] : Fin 1 → IVec S16 32) a x).toNat < S65536.size a)
theorem k2_idx614_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3202 : IVec S16 32) (k2_hw619 : k2_chk619 v58 v127 v196 v265 v334 v403 v472 v541 v610 v679 v748 v817 v886 v955 v1024 v1093 v1162 v1231 v1300 v1369 v1438 v1507 v1576 v1645 v1714 v1783 v1852 v1921 v1990 v2059 v2128 v2197 v3202), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3202] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3202 k2_hw619 k2_h3 => k2_hw619 k2_h3

def k2_chk620 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3219 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3219] : Fin 1 → IVec S16 32) a x).toNat < S32.size a)
theorem k2_idx615_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3219 : IVec S16 32) (k2_hw620 : k2_chk620 v58 v127 v196 v265 v334 v403 v472 v541 v610 v679 v748 v817 v886 v955 v1024 v1093 v1162 v1231 v1300 v1369 v1438 v1507 v1576 v1645 v1714 v1783 v1852 v1921 v1990 v2059 v2128 v2197 v3219), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3219] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3219 k2_hw620 k2_h3 => k2_hw620 k2_h3

def k2_chk621 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3222 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3222] : Fin 1 → IVec S16 32) a x).toNat < S65536.size a)
theorem k2_idx616_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3222 : IVec S16 32) (k2_hw621 : k2_chk621 v58 v127 v196 v265 v334 v403 v472 v541 v610 v679 v748 v817 v886 v955 v1024 v1093 v1162 v1231 v1300 v1369 v1438 v1507 v1576 v1645 v1714 v1783 v1852 v1921 v1990 v2059 v2128 v2197 v3222), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3222] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3222 k2_hw621 k2_h3 => k2_hw621 k2_h3

def k2_chk622 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3239 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3239] : Fin 1 → IVec S16 32) a x).toNat < S32.size a)
theorem k2_idx617_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3239 : IVec S16 32) (k2_hw622 : k2_chk622 v58 v127 v196 v265 v334 v403 v472 v541 v610 v679 v748 v817 v886 v955 v1024 v1093 v1162 v1231 v1300 v1369 v1438 v1507 v1576 v1645 v1714 v1783 v1852 v1921 v1990 v2059 v2128 v2197 v3239), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3239] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3239 k2_hw622 k2_h3 => k2_hw622 k2_h3

def k2_chk623 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3242 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3242] : Fin 1 → IVec S16 32) a x).toNat < S65536.size a)
theorem k2_idx618_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3242 : IVec S16 32) (k2_hw623 : k2_chk623 v58 v127 v196 v265 v334 v403 v472 v541 v610 v679 v748 v817 v886 v955 v1024 v1093 v1162 v1231 v1300 v1369 v1438 v1507 v1576 v1645 v1714 v1783 v1852 v1921 v1990 v2059 v2128 v2197 v3242), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3242] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3242 k2_hw623 k2_h3 => k2_hw623 k2_h3

def k2_chk624 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3259 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3259] : Fin 1 → IVec S16 32) a x).toNat < S32.size a)
theorem k2_idx619_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3259 : IVec S16 32) (k2_hw624 : k2_chk624 v58 v127 v196 v265 v334 v403 v472 v541 v610 v679 v748 v817 v886 v955 v1024 v1093 v1162 v1231 v1300 v1369 v1438 v1507 v1576 v1645 v1714 v1783 v1852 v1921 v1990 v2059 v2128 v2197 v3259), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3259] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3259 k2_hw624 k2_h3 => k2_hw624 k2_h3

def k2_chk625 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3262 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3262] : Fin 1 → IVec S16 32) a x).toNat < S65536.size a)
theorem k2_idx620_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3262 : IVec S16 32) (k2_hw625 : k2_chk625 v58 v127 v196 v265 v334 v403 v472 v541 v610 v679 v748 v817 v886 v955 v1024 v1093 v1162 v1231 v1300 v1369 v1438 v1507 v1576 v1645 v1714 v1783 v1852 v1921 v1990 v2059 v2128 v2197 v3262), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3262] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3262 k2_hw625 k2_h3 => k2_hw625 k2_h3

def k2_chk626 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3279 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3279] : Fin 1 → IVec S16 32) a x).toNat < S32.size a)
theorem k2_idx621_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3279 : IVec S16 32) (k2_hw626 : k2_chk626 v58 v127 v196 v265 v334 v403 v472 v541 v610 v679 v748 v817 v886 v955 v1024 v1093 v1162 v1231 v1300 v1369 v1438 v1507 v1576 v1645 v1714 v1783 v1852 v1921 v1990 v2059 v2128 v2197 v3279), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3279] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3279 k2_hw626 k2_h3 => k2_hw626 k2_h3

def k2_chk627 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3282 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3282] : Fin 1 → IVec S16 32) a x).toNat < S65536.size a)
theorem k2_idx622_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3282 : IVec S16 32) (k2_hw627 : k2_chk627 v58 v127 v196 v265 v334 v403 v472 v541 v610 v679 v748 v817 v886 v955 v1024 v1093 v1162 v1231 v1300 v1369 v1438 v1507 v1576 v1645 v1714 v1783 v1852 v1921 v1990 v2059 v2128 v2197 v3282), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3282] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3282 k2_hw627 k2_h3 => k2_hw627 k2_h3

def k2_chk628 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3299 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3299] : Fin 1 → IVec S16 32) a x).toNat < S32.size a)
theorem k2_idx623_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3299 : IVec S16 32) (k2_hw628 : k2_chk628 v58 v127 v196 v265 v334 v403 v472 v541 v610 v679 v748 v817 v886 v955 v1024 v1093 v1162 v1231 v1300 v1369 v1438 v1507 v1576 v1645 v1714 v1783 v1852 v1921 v1990 v2059 v2128 v2197 v3299), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3299] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3299 k2_hw628 k2_h3 => k2_hw628 k2_h3

def k2_chk629 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3302 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3302] : Fin 1 → IVec S16 32) a x).toNat < S65536.size a)
theorem k2_idx624_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3302 : IVec S16 32) (k2_hw629 : k2_chk629 v58 v127 v196 v265 v334 v403 v472 v541 v610 v679 v748 v817 v886 v955 v1024 v1093 v1162 v1231 v1300 v1369 v1438 v1507 v1576 v1645 v1714 v1783 v1852 v1921 v1990 v2059 v2128 v2197 v3302), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3302] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3302 k2_hw629 k2_h3 => k2_hw629 k2_h3

def k2_chk630 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3319 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3319] : Fin 1 → IVec S16 32) a x).toNat < S32.size a)
theorem k2_idx625_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3319 : IVec S16 32) (k2_hw630 : k2_chk630 v58 v127 v196 v265 v334 v403 v472 v541 v610 v679 v748 v817 v886 v955 v1024 v1093 v1162 v1231 v1300 v1369 v1438 v1507 v1576 v1645 v1714 v1783 v1852 v1921 v1990 v2059 v2128 v2197 v3319), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3319] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3319 k2_hw630 k2_h3 => k2_hw630 k2_h3

def k2_chk631 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3322 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3322] : Fin 1 → IVec S16 32) a x).toNat < S65536.size a)
theorem k2_idx626_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3322 : IVec S16 32) (k2_hw631 : k2_chk631 v58 v127 v196 v265 v334 v403 v472 v541 v610 v679 v748 v817 v886 v955 v1024 v1093 v1162 v1231 v1300 v1369 v1438 v1507 v1576 v1645 v1714 v1783 v1852 v1921 v1990 v2059 v2128 v2197 v3322), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3322] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3322 k2_hw631 k2_h3 => k2_hw631 k2_h3

def k2_chk632 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3339 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3339] : Fin 1 → IVec S16 32) a x).toNat < S32.size a)
theorem k2_idx627_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3339 : IVec S16 32) (k2_hw632 : k2_chk632 v58 v127 v196 v265 v334 v403 v472 v541 v610 v679 v748 v817 v886 v955 v1024 v1093 v1162 v1231 v1300 v1369 v1438 v1507 v1576 v1645 v1714 v1783 v1852 v1921 v1990 v2059 v2128 v2197 v3339), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3339] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3339 k2_hw632 k2_h3 => k2_hw632 k2_h3

def k2_chk633 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3342 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3342] : Fin 1 → IVec S16 32) a x).toNat < S65536.size a)
theorem k2_idx628_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3342 : IVec S16 32) (k2_hw633 : k2_chk633 v58 v127 v196 v265 v334 v403 v472 v541 v610 v679 v748 v817 v886 v955 v1024 v1093 v1162 v1231 v1300 v1369 v1438 v1507 v1576 v1645 v1714 v1783 v1852 v1921 v1990 v2059 v2128 v2197 v3342), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3342] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3342 k2_hw633 k2_h3 => k2_hw633 k2_h3

def k2_chk634 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3359 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3359] : Fin 1 → IVec S16 32) a x).toNat < S32.size a)
theorem k2_idx629_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3359 : IVec S16 32) (k2_hw634 : k2_chk634 v58 v127 v196 v265 v334 v403 v472 v541 v610 v679 v748 v817 v886 v955 v1024 v1093 v1162 v1231 v1300 v1369 v1438 v1507 v1576 v1645 v1714 v1783 v1852 v1921 v1990 v2059 v2128 v2197 v3359), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3359] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3359 k2_hw634 k2_h3 => k2_hw634 k2_h3

def k2_chk635 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3362 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3362] : Fin 1 → IVec S16 32) a x).toNat < S65536.size a)
theorem k2_idx630_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3362 : IVec S16 32) (k2_hw635 : k2_chk635 v58 v127 v196 v265 v334 v403 v472 v541 v610 v679 v748 v817 v886 v955 v1024 v1093 v1162 v1231 v1300 v1369 v1438 v1507 v1576 v1645 v1714 v1783 v1852 v1921 v1990 v2059 v2128 v2197 v3362), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3362] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3362 k2_hw635 k2_h3 => k2_hw635 k2_h3

def k2_chk636 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3379 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3379] : Fin 1 → IVec S16 32) a x).toNat < S32.size a)
theorem k2_idx631_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3379 : IVec S16 32) (k2_hw636 : k2_chk636 v58 v127 v196 v265 v334 v403 v472 v541 v610 v679 v748 v817 v886 v955 v1024 v1093 v1162 v1231 v1300 v1369 v1438 v1507 v1576 v1645 v1714 v1783 v1852 v1921 v1990 v2059 v2128 v2197 v3379), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3379] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3379 k2_hw636 k2_h3 => k2_hw636 k2_h3

def k2_chk637 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3382 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3382] : Fin 1 → IVec S16 32) a x).toNat < S65536.size a)
theorem k2_idx632_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3382 : IVec S16 32) (k2_hw637 : k2_chk637 v58 v127 v196 v265 v334 v403 v472 v541 v610 v679 v748 v817 v886 v955 v1024 v1093 v1162 v1231 v1300 v1369 v1438 v1507 v1576 v1645 v1714 v1783 v1852 v1921 v1990 v2059 v2128 v2197 v3382), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3382] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3382 k2_hw637 k2_h3 => k2_hw637 k2_h3

def k2_chk638 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3399 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3399] : Fin 1 → IVec S16 32) a x).toNat < S32.size a)
theorem k2_idx633_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3399 : IVec S16 32) (k2_hw638 : k2_chk638 v58 v127 v196 v265 v334 v403 v472 v541 v610 v679 v748 v817 v886 v955 v1024 v1093 v1162 v1231 v1300 v1369 v1438 v1507 v1576 v1645 v1714 v1783 v1852 v1921 v1990 v2059 v2128 v2197 v3399), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3399] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3399 k2_hw638 k2_h3 => k2_hw638 k2_h3

def k2_chk639 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3402 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3402] : Fin 1 → IVec S16 32) a x).toNat < S65536.size a)
theorem k2_idx634_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3402 : IVec S16 32) (k2_hw639 : k2_chk639 v58 v127 v196 v265 v334 v403 v472 v541 v610 v679 v748 v817 v886 v955 v1024 v1093 v1162 v1231 v1300 v1369 v1438 v1507 v1576 v1645 v1714 v1783 v1852 v1921 v1990 v2059 v2128 v2197 v3402), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3402] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3402 k2_hw639 k2_h3 => k2_hw639 k2_h3

def k2_chk640 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3419 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3419] : Fin 1 → IVec S16 32) a x).toNat < S32.size a)
theorem k2_idx635_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3419 : IVec S16 32) (k2_hw640 : k2_chk640 v58 v127 v196 v265 v334 v403 v472 v541 v610 v679 v748 v817 v886 v955 v1024 v1093 v1162 v1231 v1300 v1369 v1438 v1507 v1576 v1645 v1714 v1783 v1852 v1921 v1990 v2059 v2128 v2197 v3419), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3419] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3419 k2_hw640 k2_h3 => k2_hw640 k2_h3

def k2_chk641 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3422 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3422] : Fin 1 → IVec S16 32) a x).toNat < S65536.size a)
theorem k2_idx636_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3422 : IVec S16 32) (k2_hw641 : k2_chk641 v58 v127 v196 v265 v334 v403 v472 v541 v610 v679 v748 v817 v886 v955 v1024 v1093 v1162 v1231 v1300 v1369 v1438 v1507 v1576 v1645 v1714 v1783 v1852 v1921 v1990 v2059 v2128 v2197 v3422), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3422] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3422 k2_hw641 k2_h3 => k2_hw641 k2_h3

def k2_chk642 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3439 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3439] : Fin 1 → IVec S16 32) a x).toNat < S32.size a)
theorem k2_idx637_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3439 : IVec S16 32) (k2_hw642 : k2_chk642 v58 v127 v196 v265 v334 v403 v472 v541 v610 v679 v748 v817 v886 v955 v1024 v1093 v1162 v1231 v1300 v1369 v1438 v1507 v1576 v1645 v1714 v1783 v1852 v1921 v1990 v2059 v2128 v2197 v3439), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3439] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3439 k2_hw642 k2_h3 => k2_hw642 k2_h3

def k2_chk643 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3442 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3442] : Fin 1 → IVec S16 32) a x).toNat < S65536.size a)
theorem k2_idx638_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3442 : IVec S16 32) (k2_hw643 : k2_chk643 v58 v127 v196 v265 v334 v403 v472 v541 v610 v679 v748 v817 v886 v955 v1024 v1093 v1162 v1231 v1300 v1369 v1438 v1507 v1576 v1645 v1714 v1783 v1852 v1921 v1990 v2059 v2128 v2197 v3442), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3442] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3442 k2_hw643 k2_h3 => k2_hw643 k2_h3

def k2_chk644 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3459 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3459] : Fin 1 → IVec S16 32) a x).toNat < S32.size a)
theorem k2_idx639_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3459 : IVec S16 32) (k2_hw644 : k2_chk644 v58 v127 v196 v265 v334 v403 v472 v541 v610 v679 v748 v817 v886 v955 v1024 v1093 v1162 v1231 v1300 v1369 v1438 v1507 v1576 v1645 v1714 v1783 v1852 v1921 v1990 v2059 v2128 v2197 v3459), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3459] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3459 k2_hw644 k2_h3 => k2_hw644 k2_h3

def k2_chk645 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3462 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3462] : Fin 1 → IVec S16 32) a x).toNat < S65536.size a)
theorem k2_idx640_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3462 : IVec S16 32) (k2_hw645 : k2_chk645 v58 v127 v196 v265 v334 v403 v472 v541 v610 v679 v748 v817 v886 v955 v1024 v1093 v1162 v1231 v1300 v1369 v1438 v1507 v1576 v1645 v1714 v1783 v1852 v1921 v1990 v2059 v2128 v2197 v3462), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3462] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3462 k2_hw645 k2_h3 => k2_hw645 k2_h3

def k2_chk646 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3479 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3479] : Fin 1 → IVec S16 32) a x).toNat < S32.size a)
theorem k2_idx641_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3479 : IVec S16 32) (k2_hw646 : k2_chk646 v58 v127 v196 v265 v334 v403 v472 v541 v610 v679 v748 v817 v886 v955 v1024 v1093 v1162 v1231 v1300 v1369 v1438 v1507 v1576 v1645 v1714 v1783 v1852 v1921 v1990 v2059 v2128 v2197 v3479), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3479] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3479 k2_hw646 k2_h3 => k2_hw646 k2_h3

def k2_chk647 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3482 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3482] : Fin 1 → IVec S16 32) a x).toNat < S65536.size a)
theorem k2_idx642_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3482 : IVec S16 32) (k2_hw647 : k2_chk647 v58 v127 v196 v265 v334 v403 v472 v541 v610 v679 v748 v817 v886 v955 v1024 v1093 v1162 v1231 v1300 v1369 v1438 v1507 v1576 v1645 v1714 v1783 v1852 v1921 v1990 v2059 v2128 v2197 v3482), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3482] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3482 k2_hw647 k2_h3 => k2_hw647 k2_h3

def k2_chk648 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3499 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3499] : Fin 1 → IVec S16 32) a x).toNat < S32.size a)
theorem k2_idx643_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3499 : IVec S16 32) (k2_hw648 : k2_chk648 v58 v127 v196 v265 v334 v403 v472 v541 v610 v679 v748 v817 v886 v955 v1024 v1093 v1162 v1231 v1300 v1369 v1438 v1507 v1576 v1645 v1714 v1783 v1852 v1921 v1990 v2059 v2128 v2197 v3499), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3499] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3499 k2_hw648 k2_h3 => k2_hw648 k2_h3

def k2_chk649 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3502 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3502] : Fin 1 → IVec S16 32) a x).toNat < S65536.size a)
theorem k2_idx644_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3502 : IVec S16 32) (k2_hw649 : k2_chk649 v58 v127 v196 v265 v334 v403 v472 v541 v610 v679 v748 v817 v886 v955 v1024 v1093 v1162 v1231 v1300 v1369 v1438 v1507 v1576 v1645 v1714 v1783 v1852 v1921 v1990 v2059 v2128 v2197 v3502), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3502] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3502 k2_hw649 k2_h3 => k2_hw649 k2_h3

def k2_chk650 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3519 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3519] : Fin 1 → IVec S16 32) a x).toNat < S32.size a)
theorem k2_idx645_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3519 : IVec S16 32) (k2_hw650 : k2_chk650 v58 v127 v196 v265 v334 v403 v472 v541 v610 v679 v748 v817 v886 v955 v1024 v1093 v1162 v1231 v1300 v1369 v1438 v1507 v1576 v1645 v1714 v1783 v1852 v1921 v1990 v2059 v2128 v2197 v3519), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3519] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3519 k2_hw650 k2_h3 => k2_hw650 k2_h3

def k2_chk651 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3522 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3522] : Fin 1 → IVec S16 32) a x).toNat < S65536.size a)
theorem k2_idx646_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3522 : IVec S16 32) (k2_hw651 : k2_chk651 v58 v127 v196 v265 v334 v403 v472 v541 v610 v679 v748 v817 v886 v955 v1024 v1093 v1162 v1231 v1300 v1369 v1438 v1507 v1576 v1645 v1714 v1783 v1852 v1921 v1990 v2059 v2128 v2197 v3522), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3522] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3522 k2_hw651 k2_h3 => k2_hw651 k2_h3

def k2_chk652 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3539 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3539] : Fin 1 → IVec S16 32) a x).toNat < S32.size a)
theorem k2_idx647_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3539 : IVec S16 32) (k2_hw652 : k2_chk652 v58 v127 v196 v265 v334 v403 v472 v541 v610 v679 v748 v817 v886 v955 v1024 v1093 v1162 v1231 v1300 v1369 v1438 v1507 v1576 v1645 v1714 v1783 v1852 v1921 v1990 v2059 v2128 v2197 v3539), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3539] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3539 k2_hw652 k2_h3 => k2_hw652 k2_h3

def k2_chk653 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3542 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3542] : Fin 1 → IVec S16 32) a x).toNat < S65536.size a)
theorem k2_idx648_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3542 : IVec S16 32) (k2_hw653 : k2_chk653 v58 v127 v196 v265 v334 v403 v472 v541 v610 v679 v748 v817 v886 v955 v1024 v1093 v1162 v1231 v1300 v1369 v1438 v1507 v1576 v1645 v1714 v1783 v1852 v1921 v1990 v2059 v2128 v2197 v3542), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3542] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3542 k2_hw653 k2_h3 => k2_hw653 k2_h3

def k2_chk654 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3559 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3559] : Fin 1 → IVec S16 32) a x).toNat < S32.size a)
theorem k2_idx649_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3559 : IVec S16 32) (k2_hw654 : k2_chk654 v58 v127 v196 v265 v334 v403 v472 v541 v610 v679 v748 v817 v886 v955 v1024 v1093 v1162 v1231 v1300 v1369 v1438 v1507 v1576 v1645 v1714 v1783 v1852 v1921 v1990 v2059 v2128 v2197 v3559), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3559] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3559 k2_hw654 k2_h3 => k2_hw654 k2_h3

def k2_chk655 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3562 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3562] : Fin 1 → IVec S16 32) a x).toNat < S65536.size a)
theorem k2_idx650_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3562 : IVec S16 32) (k2_hw655 : k2_chk655 v58 v127 v196 v265 v334 v403 v472 v541 v610 v679 v748 v817 v886 v955 v1024 v1093 v1162 v1231 v1300 v1369 v1438 v1507 v1576 v1645 v1714 v1783 v1852 v1921 v1990 v2059 v2128 v2197 v3562), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3562] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3562 k2_hw655 k2_h3 => k2_hw655 k2_h3

def k2_chk656 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3579 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3579] : Fin 1 → IVec S16 32) a x).toNat < S32.size a)
theorem k2_idx651_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3579 : IVec S16 32) (k2_hw656 : k2_chk656 v58 v127 v196 v265 v334 v403 v472 v541 v610 v679 v748 v817 v886 v955 v1024 v1093 v1162 v1231 v1300 v1369 v1438 v1507 v1576 v1645 v1714 v1783 v1852 v1921 v1990 v2059 v2128 v2197 v3579), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3579] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3579 k2_hw656 k2_h3 => k2_hw656 k2_h3

def k2_chk657 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3582 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3582] : Fin 1 → IVec S16 32) a x).toNat < S65536.size a)
theorem k2_idx652_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3582 : IVec S16 32) (k2_hw657 : k2_chk657 v58 v127 v196 v265 v334 v403 v472 v541 v610 v679 v748 v817 v886 v955 v1024 v1093 v1162 v1231 v1300 v1369 v1438 v1507 v1576 v1645 v1714 v1783 v1852 v1921 v1990 v2059 v2128 v2197 v3582), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3582] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3582 k2_hw657 k2_h3 => k2_hw657 k2_h3

def k2_chk658 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3599 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3599] : Fin 1 → IVec S16 32) a x).toNat < S32.size a)
theorem k2_idx653_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3599 : IVec S16 32) (k2_hw658 : k2_chk658 v58 v127 v196 v265 v334 v403 v472 v541 v610 v679 v748 v817 v886 v955 v1024 v1093 v1162 v1231 v1300 v1369 v1438 v1507 v1576 v1645 v1714 v1783 v1852 v1921 v1990 v2059 v2128 v2197 v3599), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3599] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3599 k2_hw658 k2_h3 => k2_hw658 k2_h3

def k2_chk659 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3602 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3602] : Fin 1 → IVec S16 32) a x).toNat < S65536.size a)
theorem k2_idx654_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3602 : IVec S16 32) (k2_hw659 : k2_chk659 v58 v127 v196 v265 v334 v403 v472 v541 v610 v679 v748 v817 v886 v955 v1024 v1093 v1162 v1231 v1300 v1369 v1438 v1507 v1576 v1645 v1714 v1783 v1852 v1921 v1990 v2059 v2128 v2197 v3602), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3602] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3602 k2_hw659 k2_h3 => k2_hw659 k2_h3

def k2_chk660 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3619 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3619] : Fin 1 → IVec S16 32) a x).toNat < S32.size a)
theorem k2_idx655_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3619 : IVec S16 32) (k2_hw660 : k2_chk660 v58 v127 v196 v265 v334 v403 v472 v541 v610 v679 v748 v817 v886 v955 v1024 v1093 v1162 v1231 v1300 v1369 v1438 v1507 v1576 v1645 v1714 v1783 v1852 v1921 v1990 v2059 v2128 v2197 v3619), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3619] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3619 k2_hw660 k2_h3 => k2_hw660 k2_h3

def k2_chk661 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3622 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3622] : Fin 1 → IVec S16 32) a x).toNat < S65536.size a)
theorem k2_idx656_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3622 : IVec S16 32) (k2_hw661 : k2_chk661 v58 v127 v196 v265 v334 v403 v472 v541 v610 v679 v748 v817 v886 v955 v1024 v1093 v1162 v1231 v1300 v1369 v1438 v1507 v1576 v1645 v1714 v1783 v1852 v1921 v1990 v2059 v2128 v2197 v3622), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3622] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3622 k2_hw661 k2_h3 => k2_hw661 k2_h3

def k2_chk662 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3639 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3639] : Fin 1 → IVec S16 32) a x).toNat < S32.size a)
theorem k2_idx657_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3639 : IVec S16 32) (k2_hw662 : k2_chk662 v58 v127 v196 v265 v334 v403 v472 v541 v610 v679 v748 v817 v886 v955 v1024 v1093 v1162 v1231 v1300 v1369 v1438 v1507 v1576 v1645 v1714 v1783 v1852 v1921 v1990 v2059 v2128 v2197 v3639), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3639] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3639 k2_hw662 k2_h3 => k2_hw662 k2_h3

def k2_chk663 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3642 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3642] : Fin 1 → IVec S16 32) a x).toNat < S65536.size a)
theorem k2_idx658_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3642 : IVec S16 32) (k2_hw663 : k2_chk663 v58 v127 v196 v265 v334 v403 v472 v541 v610 v679 v748 v817 v886 v955 v1024 v1093 v1162 v1231 v1300 v1369 v1438 v1507 v1576 v1645 v1714 v1783 v1852 v1921 v1990 v2059 v2128 v2197 v3642), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3642] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3642 k2_hw663 k2_h3 => k2_hw663 k2_h3

def k2_chk664 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3659 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3659] : Fin 1 → IVec S16 32) a x).toNat < S32.size a)
theorem k2_idx659_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3659 : IVec S16 32) (k2_hw664 : k2_chk664 v58 v127 v196 v265 v334 v403 v472 v541 v610 v679 v748 v817 v886 v955 v1024 v1093 v1162 v1231 v1300 v1369 v1438 v1507 v1576 v1645 v1714 v1783 v1852 v1921 v1990 v2059 v2128 v2197 v3659), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3659] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3659 k2_hw664 k2_h3 => k2_hw664 k2_h3

def k2_chk665 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3662 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3662] : Fin 1 → IVec S16 32) a x).toNat < S65536.size a)
theorem k2_idx660_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3662 : IVec S16 32) (k2_hw665 : k2_chk665 v58 v127 v196 v265 v334 v403 v472 v541 v610 v679 v748 v817 v886 v955 v1024 v1093 v1162 v1231 v1300 v1369 v1438 v1507 v1576 v1645 v1714 v1783 v1852 v1921 v1990 v2059 v2128 v2197 v3662), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3662] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3662 k2_hw665 k2_h3 => k2_hw665 k2_h3

def k2_chk666 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3679 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3679] : Fin 1 → IVec S16 32) a x).toNat < S32.size a)
theorem k2_idx661_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3679 : IVec S16 32) (k2_hw666 : k2_chk666 v58 v127 v196 v265 v334 v403 v472 v541 v610 v679 v748 v817 v886 v955 v1024 v1093 v1162 v1231 v1300 v1369 v1438 v1507 v1576 v1645 v1714 v1783 v1852 v1921 v1990 v2059 v2128 v2197 v3679), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3679] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3679 k2_hw666 k2_h3 => k2_hw666 k2_h3

def k2_chk667 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3682 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3682] : Fin 1 → IVec S16 32) a x).toNat < S65536.size a)
theorem k2_idx662_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3682 : IVec S16 32) (k2_hw667 : k2_chk667 v58 v127 v196 v265 v334 v403 v472 v541 v610 v679 v748 v817 v886 v955 v1024 v1093 v1162 v1231 v1300 v1369 v1438 v1507 v1576 v1645 v1714 v1783 v1852 v1921 v1990 v2059 v2128 v2197 v3682), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3682] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3682 k2_hw667 k2_h3 => k2_hw667 k2_h3

def k2_chk668 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3699 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3699] : Fin 1 → IVec S16 32) a x).toNat < S32.size a)
theorem k2_idx663_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3699 : IVec S16 32) (k2_hw668 : k2_chk668 v58 v127 v196 v265 v334 v403 v472 v541 v610 v679 v748 v817 v886 v955 v1024 v1093 v1162 v1231 v1300 v1369 v1438 v1507 v1576 v1645 v1714 v1783 v1852 v1921 v1990 v2059 v2128 v2197 v3699), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3699] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3699 k2_hw668 k2_h3 => k2_hw668 k2_h3

def k2_chk669 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3702 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3702] : Fin 1 → IVec S16 32) a x).toNat < S65536.size a)
theorem k2_idx664_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3702 : IVec S16 32) (k2_hw669 : k2_chk669 v58 v127 v196 v265 v334 v403 v472 v541 v610 v679 v748 v817 v886 v955 v1024 v1093 v1162 v1231 v1300 v1369 v1438 v1507 v1576 v1645 v1714 v1783 v1852 v1921 v1990 v2059 v2128 v2197 v3702), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3702] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3702 k2_hw669 k2_h3 => k2_hw669 k2_h3

def k2_chk670 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3719 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3719] : Fin 1 → IVec S16 32) a x).toNat < S32.size a)
theorem k2_idx665_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3719 : IVec S16 32) (k2_hw670 : k2_chk670 v58 v127 v196 v265 v334 v403 v472 v541 v610 v679 v748 v817 v886 v955 v1024 v1093 v1162 v1231 v1300 v1369 v1438 v1507 v1576 v1645 v1714 v1783 v1852 v1921 v1990 v2059 v2128 v2197 v3719), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3719] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3719 k2_hw670 k2_h3 => k2_hw670 k2_h3

def k2_chk671 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3722 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3722] : Fin 1 → IVec S16 32) a x).toNat < S65536.size a)
theorem k2_idx666_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3722 : IVec S16 32) (k2_hw671 : k2_chk671 v58 v127 v196 v265 v334 v403 v472 v541 v610 v679 v748 v817 v886 v955 v1024 v1093 v1162 v1231 v1300 v1369 v1438 v1507 v1576 v1645 v1714 v1783 v1852 v1921 v1990 v2059 v2128 v2197 v3722), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3722] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3722 k2_hw671 k2_h3 => k2_hw671 k2_h3

def k2_chk672 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3739 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3739] : Fin 1 → IVec S16 32) a x).toNat < S32.size a)
theorem k2_idx667_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3739 : IVec S16 32) (k2_hw672 : k2_chk672 v58 v127 v196 v265 v334 v403 v472 v541 v610 v679 v748 v817 v886 v955 v1024 v1093 v1162 v1231 v1300 v1369 v1438 v1507 v1576 v1645 v1714 v1783 v1852 v1921 v1990 v2059 v2128 v2197 v3739), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3739] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3739 k2_hw672 k2_h3 => k2_hw672 k2_h3

def k2_chk673 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3742 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3742] : Fin 1 → IVec S16 32) a x).toNat < S65536.size a)
theorem k2_idx668_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3742 : IVec S16 32) (k2_hw673 : k2_chk673 v58 v127 v196 v265 v334 v403 v472 v541 v610 v679 v748 v817 v886 v955 v1024 v1093 v1162 v1231 v1300 v1369 v1438 v1507 v1576 v1645 v1714 v1783 v1852 v1921 v1990 v2059 v2128 v2197 v3742), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3742] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3742 k2_hw673 k2_h3 => k2_hw673 k2_h3

def k2_chk674 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3759 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3759] : Fin 1 → IVec S16 32) a x).toNat < S32.size a)
theorem k2_idx669_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3759 : IVec S16 32) (k2_hw674 : k2_chk674 v58 v127 v196 v265 v334 v403 v472 v541 v610 v679 v748 v817 v886 v955 v1024 v1093 v1162 v1231 v1300 v1369 v1438 v1507 v1576 v1645 v1714 v1783 v1852 v1921 v1990 v2059 v2128 v2197 v3759), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3759] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3759 k2_hw674 k2_h3 => k2_hw674 k2_h3

def k2_chk675 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3762 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3762] : Fin 1 → IVec S16 32) a x).toNat < S65536.size a)
theorem k2_idx670_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3762 : IVec S16 32) (k2_hw675 : k2_chk675 v58 v127 v196 v265 v334 v403 v472 v541 v610 v679 v748 v817 v886 v955 v1024 v1093 v1162 v1231 v1300 v1369 v1438 v1507 v1576 v1645 v1714 v1783 v1852 v1921 v1990 v2059 v2128 v2197 v3762), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3762] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3762 k2_hw675 k2_h3 => k2_hw675 k2_h3

def k2_chk676 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3779 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3779] : Fin 1 → IVec S16 32) a x).toNat < S32.size a)
theorem k2_idx671_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3779 : IVec S16 32) (k2_hw676 : k2_chk676 v58 v127 v196 v265 v334 v403 v472 v541 v610 v679 v748 v817 v886 v955 v1024 v1093 v1162 v1231 v1300 v1369 v1438 v1507 v1576 v1645 v1714 v1783 v1852 v1921 v1990 v2059 v2128 v2197 v3779), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3779] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3779 k2_hw676 k2_h3 => k2_hw676 k2_h3

def k2_chk677 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3782 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3782] : Fin 1 → IVec S16 32) a x).toNat < S65536.size a)
theorem k2_idx672_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3782 : IVec S16 32) (k2_hw677 : k2_chk677 v58 v127 v196 v265 v334 v403 v472 v541 v610 v679 v748 v817 v886 v955 v1024 v1093 v1162 v1231 v1300 v1369 v1438 v1507 v1576 v1645 v1714 v1783 v1852 v1921 v1990 v2059 v2128 v2197 v3782), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3782] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3782 k2_hw677 k2_h3 => k2_hw677 k2_h3

def k2_chk678 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3799 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3799] : Fin 1 → IVec S16 32) a x).toNat < S32.size a)
theorem k2_idx673_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3799 : IVec S16 32) (k2_hw678 : k2_chk678 v58 v127 v196 v265 v334 v403 v472 v541 v610 v679 v748 v817 v886 v955 v1024 v1093 v1162 v1231 v1300 v1369 v1438 v1507 v1576 v1645 v1714 v1783 v1852 v1921 v1990 v2059 v2128 v2197 v3799), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3799] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3799 k2_hw678 k2_h3 => k2_hw678 k2_h3

def k2_chk679 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3802 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3802] : Fin 1 → IVec S16 32) a x).toNat < S65536.size a)
theorem k2_idx674_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3802 : IVec S16 32) (k2_hw679 : k2_chk679 v58 v127 v196 v265 v334 v403 v472 v541 v610 v679 v748 v817 v886 v955 v1024 v1093 v1162 v1231 v1300 v1369 v1438 v1507 v1576 v1645 v1714 v1783 v1852 v1921 v1990 v2059 v2128 v2197 v3802), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3802] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3802 k2_hw679 k2_h3 => k2_hw679 k2_h3

def k2_chk680 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3819 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3819] : Fin 1 → IVec S16 32) a x).toNat < S32.size a)
theorem k2_idx675_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3819 : IVec S16 32) (k2_hw680 : k2_chk680 v58 v127 v196 v265 v334 v403 v472 v541 v610 v679 v748 v817 v886 v955 v1024 v1093 v1162 v1231 v1300 v1369 v1438 v1507 v1576 v1645 v1714 v1783 v1852 v1921 v1990 v2059 v2128 v2197 v3819), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3819] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3819 k2_hw680 k2_h3 => k2_hw680 k2_h3

def k2_chk681 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3822 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3822] : Fin 1 → IVec S16 32) a x).toNat < S65536.size a)
theorem k2_idx676_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3822 : IVec S16 32) (k2_hw681 : k2_chk681 v58 v127 v196 v265 v334 v403 v472 v541 v610 v679 v748 v817 v886 v955 v1024 v1093 v1162 v1231 v1300 v1369 v1438 v1507 v1576 v1645 v1714 v1783 v1852 v1921 v1990 v2059 v2128 v2197 v3822), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3822] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3822 k2_hw681 k2_h3 => k2_hw681 k2_h3

def k2_chk682 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3839 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3839] : Fin 1 → IVec S16 32) a x).toNat < S32.size a)
theorem k2_idx677_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3839 : IVec S16 32) (k2_hw682 : k2_chk682 v58 v127 v196 v265 v334 v403 v472 v541 v610 v679 v748 v817 v886 v955 v1024 v1093 v1162 v1231 v1300 v1369 v1438 v1507 v1576 v1645 v1714 v1783 v1852 v1921 v1990 v2059 v2128 v2197 v3839), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3839] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3839 k2_hw682 k2_h3 => k2_hw682 k2_h3

def k2_chk683 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3842 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3842] : Fin 1 → IVec S16 32) a x).toNat < S65536.size a)
theorem k2_idx678_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3842 : IVec S16 32) (k2_hw683 : k2_chk683 v58 v127 v196 v265 v334 v403 v472 v541 v610 v679 v748 v817 v886 v955 v1024 v1093 v1162 v1231 v1300 v1369 v1438 v1507 v1576 v1645 v1714 v1783 v1852 v1921 v1990 v2059 v2128 v2197 v3842), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3842] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3842 k2_hw683 k2_h3 => k2_hw683 k2_h3

def k2_chk684 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3859 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3859] : Fin 1 → IVec S16 32) a x).toNat < S32.size a)
theorem k2_idx679_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3859 : IVec S16 32) (k2_hw684 : k2_chk684 v58 v127 v196 v265 v334 v403 v472 v541 v610 v679 v748 v817 v886 v955 v1024 v1093 v1162 v1231 v1300 v1369 v1438 v1507 v1576 v1645 v1714 v1783 v1852 v1921 v1990 v2059 v2128 v2197 v3859), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3859] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3859 k2_hw684 k2_h3 => k2_hw684 k2_h3

def k2_chk685 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3862 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3862] : Fin 1 → IVec S16 32) a x).toNat < S65536.size a)
theorem k2_idx680_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3862 : IVec S16 32) (k2_hw685 : k2_chk685 v58 v127 v196 v265 v334 v403 v472 v541 v610 v679 v748 v817 v886 v955 v1024 v1093 v1162 v1231 v1300 v1369 v1438 v1507 v1576 v1645 v1714 v1783 v1852 v1921 v1990 v2059 v2128 v2197 v3862), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3862] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3862 k2_hw685 k2_h3 => k2_hw685 k2_h3

def k2_chk686 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3879 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3879] : Fin 1 → IVec S16 32) a x).toNat < S32.size a)
theorem k2_idx681_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3879 : IVec S16 32) (k2_hw686 : k2_chk686 v58 v127 v196 v265 v334 v403 v472 v541 v610 v679 v748 v817 v886 v955 v1024 v1093 v1162 v1231 v1300 v1369 v1438 v1507 v1576 v1645 v1714 v1783 v1852 v1921 v1990 v2059 v2128 v2197 v3879), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3879] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3879 k2_hw686 k2_h3 => k2_hw686 k2_h3

def k2_chk687 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3882 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3882] : Fin 1 → IVec S16 32) a x).toNat < S65536.size a)
theorem k2_idx682_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3882 : IVec S16 32) (k2_hw687 : k2_chk687 v58 v127 v196 v265 v334 v403 v472 v541 v610 v679 v748 v817 v886 v955 v1024 v1093 v1162 v1231 v1300 v1369 v1438 v1507 v1576 v1645 v1714 v1783 v1852 v1921 v1990 v2059 v2128 v2197 v3882), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3882] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3882 k2_hw687 k2_h3 => k2_hw687 k2_h3

def k2_chk688 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3899 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3899] : Fin 1 → IVec S16 32) a x).toNat < S32.size a)
theorem k2_idx683_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3899 : IVec S16 32) (k2_hw688 : k2_chk688 v58 v127 v196 v265 v334 v403 v472 v541 v610 v679 v748 v817 v886 v955 v1024 v1093 v1162 v1231 v1300 v1369 v1438 v1507 v1576 v1645 v1714 v1783 v1852 v1921 v1990 v2059 v2128 v2197 v3899), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3899] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3899 k2_hw688 k2_h3 => k2_hw688 k2_h3

def k2_chk689 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3902 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3902] : Fin 1 → IVec S16 32) a x).toNat < S65536.size a)
theorem k2_idx684_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3902 : IVec S16 32) (k2_hw689 : k2_chk689 v58 v127 v196 v265 v334 v403 v472 v541 v610 v679 v748 v817 v886 v955 v1024 v1093 v1162 v1231 v1300 v1369 v1438 v1507 v1576 v1645 v1714 v1783 v1852 v1921 v1990 v2059 v2128 v2197 v3902), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3902] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3902 k2_hw689 k2_h3 => k2_hw689 k2_h3

def k2_chk690 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3919 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3919] : Fin 1 → IVec S16 32) a x).toNat < S32.size a)
theorem k2_idx685_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3919 : IVec S16 32) (k2_hw690 : k2_chk690 v58 v127 v196 v265 v334 v403 v472 v541 v610 v679 v748 v817 v886 v955 v1024 v1093 v1162 v1231 v1300 v1369 v1438 v1507 v1576 v1645 v1714 v1783 v1852 v1921 v1990 v2059 v2128 v2197 v3919), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3919] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3919 k2_hw690 k2_h3 => k2_hw690 k2_h3

def k2_chk691 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3922 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3922] : Fin 1 → IVec S16 32) a x).toNat < S65536.size a)
theorem k2_idx686_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3922 : IVec S16 32) (k2_hw691 : k2_chk691 v58 v127 v196 v265 v334 v403 v472 v541 v610 v679 v748 v817 v886 v955 v1024 v1093 v1162 v1231 v1300 v1369 v1438 v1507 v1576 v1645 v1714 v1783 v1852 v1921 v1990 v2059 v2128 v2197 v3922), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3922] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3922 k2_hw691 k2_h3 => k2_hw691 k2_h3

def k2_chk692 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3939 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3939] : Fin 1 → IVec S16 32) a x).toNat < S32.size a)
theorem k2_idx687_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3939 : IVec S16 32) (k2_hw692 : k2_chk692 v58 v127 v196 v265 v334 v403 v472 v541 v610 v679 v748 v817 v886 v955 v1024 v1093 v1162 v1231 v1300 v1369 v1438 v1507 v1576 v1645 v1714 v1783 v1852 v1921 v1990 v2059 v2128 v2197 v3939), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3939] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3939 k2_hw692 k2_h3 => k2_hw692 k2_h3

def k2_chk693 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3942 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3942] : Fin 1 → IVec S16 32) a x).toNat < S65536.size a)
theorem k2_idx688_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3942 : IVec S16 32) (k2_hw693 : k2_chk693 v58 v127 v196 v265 v334 v403 v472 v541 v610 v679 v748 v817 v886 v955 v1024 v1093 v1162 v1231 v1300 v1369 v1438 v1507 v1576 v1645 v1714 v1783 v1852 v1921 v1990 v2059 v2128 v2197 v3942), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3942] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3942 k2_hw693 k2_h3 => k2_hw693 k2_h3

def k2_chk694 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3959 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3959] : Fin 1 → IVec S16 32) a x).toNat < S32.size a)
theorem k2_idx689_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3959 : IVec S16 32) (k2_hw694 : k2_chk694 v58 v127 v196 v265 v334 v403 v472 v541 v610 v679 v748 v817 v886 v955 v1024 v1093 v1162 v1231 v1300 v1369 v1438 v1507 v1576 v1645 v1714 v1783 v1852 v1921 v1990 v2059 v2128 v2197 v3959), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3959] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3959 k2_hw694 k2_h3 => k2_hw694 k2_h3

def k2_chk695 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3962 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3962] : Fin 1 → IVec S16 32) a x).toNat < S65536.size a)
theorem k2_idx690_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3962 : IVec S16 32) (k2_hw695 : k2_chk695 v58 v127 v196 v265 v334 v403 v472 v541 v610 v679 v748 v817 v886 v955 v1024 v1093 v1162 v1231 v1300 v1369 v1438 v1507 v1576 v1645 v1714 v1783 v1852 v1921 v1990 v2059 v2128 v2197 v3962), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3962] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3962 k2_hw695 k2_h3 => k2_hw695 k2_h3

def k2_chk696 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3979 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3979] : Fin 1 → IVec S16 32) a x).toNat < S32.size a)
theorem k2_idx691_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3979 : IVec S16 32) (k2_hw696 : k2_chk696 v58 v127 v196 v265 v334 v403 v472 v541 v610 v679 v748 v817 v886 v955 v1024 v1093 v1162 v1231 v1300 v1369 v1438 v1507 v1576 v1645 v1714 v1783 v1852 v1921 v1990 v2059 v2128 v2197 v3979), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3979] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3979 k2_hw696 k2_h3 => k2_hw696 k2_h3

def k2_chk697 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3982 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3982] : Fin 1 → IVec S16 32) a x).toNat < S65536.size a)
theorem k2_idx692_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3982 : IVec S16 32) (k2_hw697 : k2_chk697 v58 v127 v196 v265 v334 v403 v472 v541 v610 v679 v748 v817 v886 v955 v1024 v1093 v1162 v1231 v1300 v1369 v1438 v1507 v1576 v1645 v1714 v1783 v1852 v1921 v1990 v2059 v2128 v2197 v3982), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3982] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3982 k2_hw697 k2_h3 => k2_hw697 k2_h3

def k2_chk698 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3999 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3999] : Fin 1 → IVec S16 32) a x).toNat < S32.size a)
theorem k2_idx693_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3999 : IVec S16 32) (k2_hw698 : k2_chk698 v58 v127 v196 v265 v334 v403 v472 v541 v610 v679 v748 v817 v886 v955 v1024 v1093 v1162 v1231 v1300 v1369 v1438 v1507 v1576 v1645 v1714 v1783 v1852 v1921 v1990 v2059 v2128 v2197 v3999), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3999] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v3999 k2_hw698 k2_h3 => k2_hw698 k2_h3

def k2_chk699 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4002 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4002] : Fin 1 → IVec S16 32) a x).toNat < S65536.size a)
theorem k2_idx694_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4002 : IVec S16 32) (k2_hw699 : k2_chk699 v58 v127 v196 v265 v334 v403 v472 v541 v610 v679 v748 v817 v886 v955 v1024 v1093 v1162 v1231 v1300 v1369 v1438 v1507 v1576 v1645 v1714 v1783 v1852 v1921 v1990 v2059 v2128 v2197 v4002), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4002] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4002 k2_hw699 k2_h3 => k2_hw699 k2_h3

def k2_chk700 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4019 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4019] : Fin 1 → IVec S16 32) a x).toNat < S32.size a)
theorem k2_idx695_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4019 : IVec S16 32) (k2_hw700 : k2_chk700 v58 v127 v196 v265 v334 v403 v472 v541 v610 v679 v748 v817 v886 v955 v1024 v1093 v1162 v1231 v1300 v1369 v1438 v1507 v1576 v1645 v1714 v1783 v1852 v1921 v1990 v2059 v2128 v2197 v4019), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4019] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4019 k2_hw700 k2_h3 => k2_hw700 k2_h3

def k2_chk701 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4022 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4022] : Fin 1 → IVec S16 32) a x).toNat < S65536.size a)
theorem k2_idx696_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4022 : IVec S16 32) (k2_hw701 : k2_chk701 v58 v127 v196 v265 v334 v403 v472 v541 v610 v679 v748 v817 v886 v955 v1024 v1093 v1162 v1231 v1300 v1369 v1438 v1507 v1576 v1645 v1714 v1783 v1852 v1921 v1990 v2059 v2128 v2197 v4022), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4022] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4022 k2_hw701 k2_h3 => k2_hw701 k2_h3

def k2_chk702 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4039 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4039] : Fin 1 → IVec S16 32) a x).toNat < S32.size a)
theorem k2_idx697_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4039 : IVec S16 32) (k2_hw702 : k2_chk702 v58 v127 v196 v265 v334 v403 v472 v541 v610 v679 v748 v817 v886 v955 v1024 v1093 v1162 v1231 v1300 v1369 v1438 v1507 v1576 v1645 v1714 v1783 v1852 v1921 v1990 v2059 v2128 v2197 v4039), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4039] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4039 k2_hw702 k2_h3 => k2_hw702 k2_h3

def k2_chk703 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4042 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4042] : Fin 1 → IVec S16 32) a x).toNat < S65536.size a)
theorem k2_idx698_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4042 : IVec S16 32) (k2_hw703 : k2_chk703 v58 v127 v196 v265 v334 v403 v472 v541 v610 v679 v748 v817 v886 v955 v1024 v1093 v1162 v1231 v1300 v1369 v1438 v1507 v1576 v1645 v1714 v1783 v1852 v1921 v1990 v2059 v2128 v2197 v4042), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4042] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4042 k2_hw703 k2_h3 => k2_hw703 k2_h3

def k2_chk704 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4059 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4059] : Fin 1 → IVec S16 32) a x).toNat < S32.size a)
theorem k2_idx699_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4059 : IVec S16 32) (k2_hw704 : k2_chk704 v58 v127 v196 v265 v334 v403 v472 v541 v610 v679 v748 v817 v886 v955 v1024 v1093 v1162 v1231 v1300 v1369 v1438 v1507 v1576 v1645 v1714 v1783 v1852 v1921 v1990 v2059 v2128 v2197 v4059), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4059] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4059 k2_hw704 k2_h3 => k2_hw704 k2_h3

def k2_chk705 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4062 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4062] : Fin 1 → IVec S16 32) a x).toNat < S65536.size a)
theorem k2_idx700_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4062 : IVec S16 32) (k2_hw705 : k2_chk705 v58 v127 v196 v265 v334 v403 v472 v541 v610 v679 v748 v817 v886 v955 v1024 v1093 v1162 v1231 v1300 v1369 v1438 v1507 v1576 v1645 v1714 v1783 v1852 v1921 v1990 v2059 v2128 v2197 v4062), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4062] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4062 k2_hw705 k2_h3 => k2_hw705 k2_h3

def k2_chk706 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4079 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4079] : Fin 1 → IVec S16 32) a x).toNat < S32.size a)
theorem k2_idx701_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4079 : IVec S16 32) (k2_hw706 : k2_chk706 v58 v127 v196 v265 v334 v403 v472 v541 v610 v679 v748 v817 v886 v955 v1024 v1093 v1162 v1231 v1300 v1369 v1438 v1507 v1576 v1645 v1714 v1783 v1852 v1921 v1990 v2059 v2128 v2197 v4079), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4079] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4079 k2_hw706 k2_h3 => k2_hw706 k2_h3

def k2_chk707 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4082 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4082] : Fin 1 → IVec S16 32) a x).toNat < S65536.size a)
theorem k2_idx702_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4082 : IVec S16 32) (k2_hw707 : k2_chk707 v58 v127 v196 v265 v334 v403 v472 v541 v610 v679 v748 v817 v886 v955 v1024 v1093 v1162 v1231 v1300 v1369 v1438 v1507 v1576 v1645 v1714 v1783 v1852 v1921 v1990 v2059 v2128 v2197 v4082), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4082] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4082 k2_hw707 k2_h3 => k2_hw707 k2_h3

def k2_chk708 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4099 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4099] : Fin 1 → IVec S16 32) a x).toNat < S32.size a)
theorem k2_idx703_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4099 : IVec S16 32) (k2_hw708 : k2_chk708 v58 v127 v196 v265 v334 v403 v472 v541 v610 v679 v748 v817 v886 v955 v1024 v1093 v1162 v1231 v1300 v1369 v1438 v1507 v1576 v1645 v1714 v1783 v1852 v1921 v1990 v2059 v2128 v2197 v4099), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4099] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4099 k2_hw708 k2_h3 => k2_hw708 k2_h3

def k2_chk709 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4102 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4102] : Fin 1 → IVec S16 32) a x).toNat < S65536.size a)
theorem k2_idx704_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4102 : IVec S16 32) (k2_hw709 : k2_chk709 v58 v127 v196 v265 v334 v403 v472 v541 v610 v679 v748 v817 v886 v955 v1024 v1093 v1162 v1231 v1300 v1369 v1438 v1507 v1576 v1645 v1714 v1783 v1852 v1921 v1990 v2059 v2128 v2197 v4102), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4102] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4102 k2_hw709 k2_h3 => k2_hw709 k2_h3

def k2_chk710 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4119 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4119] : Fin 1 → IVec S16 32) a x).toNat < S32.size a)
theorem k2_idx705_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4119 : IVec S16 32) (k2_hw710 : k2_chk710 v58 v127 v196 v265 v334 v403 v472 v541 v610 v679 v748 v817 v886 v955 v1024 v1093 v1162 v1231 v1300 v1369 v1438 v1507 v1576 v1645 v1714 v1783 v1852 v1921 v1990 v2059 v2128 v2197 v4119), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4119] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4119 k2_hw710 k2_h3 => k2_hw710 k2_h3

def k2_chk711 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4122 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4122] : Fin 1 → IVec S16 32) a x).toNat < S65536.size a)
theorem k2_idx706_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4122 : IVec S16 32) (k2_hw711 : k2_chk711 v58 v127 v196 v265 v334 v403 v472 v541 v610 v679 v748 v817 v886 v955 v1024 v1093 v1162 v1231 v1300 v1369 v1438 v1507 v1576 v1645 v1714 v1783 v1852 v1921 v1990 v2059 v2128 v2197 v4122), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4122] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4122 k2_hw711 k2_h3 => k2_hw711 k2_h3

def k2_chk712 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4139 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4139] : Fin 1 → IVec S16 32) a x).toNat < S32.size a)
theorem k2_idx707_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4139 : IVec S16 32) (k2_hw712 : k2_chk712 v58 v127 v196 v265 v334 v403 v472 v541 v610 v679 v748 v817 v886 v955 v1024 v1093 v1162 v1231 v1300 v1369 v1438 v1507 v1576 v1645 v1714 v1783 v1852 v1921 v1990 v2059 v2128 v2197 v4139), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4139] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4139 k2_hw712 k2_h3 => k2_hw712 k2_h3

def k2_chk713 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4142 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4142] : Fin 1 → IVec S16 32) a x).toNat < S65536.size a)
theorem k2_idx708_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4142 : IVec S16 32) (k2_hw713 : k2_chk713 v58 v127 v196 v265 v334 v403 v472 v541 v610 v679 v748 v817 v886 v955 v1024 v1093 v1162 v1231 v1300 v1369 v1438 v1507 v1576 v1645 v1714 v1783 v1852 v1921 v1990 v2059 v2128 v2197 v4142), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4142] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4142 k2_hw713 k2_h3 => k2_hw713 k2_h3

def k2_chk714 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4159 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4159] : Fin 1 → IVec S16 32) a x).toNat < S32.size a)
theorem k2_idx709_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4159 : IVec S16 32) (k2_hw714 : k2_chk714 v58 v127 v196 v265 v334 v403 v472 v541 v610 v679 v748 v817 v886 v955 v1024 v1093 v1162 v1231 v1300 v1369 v1438 v1507 v1576 v1645 v1714 v1783 v1852 v1921 v1990 v2059 v2128 v2197 v4159), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4159] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4159 k2_hw714 k2_h3 => k2_hw714 k2_h3

def k2_chk715 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4162 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4162] : Fin 1 → IVec S16 32) a x).toNat < S65536.size a)
theorem k2_idx710_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4162 : IVec S16 32) (k2_hw715 : k2_chk715 v58 v127 v196 v265 v334 v403 v472 v541 v610 v679 v748 v817 v886 v955 v1024 v1093 v1162 v1231 v1300 v1369 v1438 v1507 v1576 v1645 v1714 v1783 v1852 v1921 v1990 v2059 v2128 v2197 v4162), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4162] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4162 k2_hw715 k2_h3 => k2_hw715 k2_h3

def k2_chk716 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4179 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4179] : Fin 1 → IVec S16 32) a x).toNat < S32.size a)
theorem k2_idx711_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4179 : IVec S16 32) (k2_hw716 : k2_chk716 v58 v127 v196 v265 v334 v403 v472 v541 v610 v679 v748 v817 v886 v955 v1024 v1093 v1162 v1231 v1300 v1369 v1438 v1507 v1576 v1645 v1714 v1783 v1852 v1921 v1990 v2059 v2128 v2197 v4179), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4179] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4179 k2_hw716 k2_h3 => k2_hw716 k2_h3

def k2_chk717 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4182 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4182] : Fin 1 → IVec S16 32) a x).toNat < S65536.size a)
theorem k2_idx712_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4182 : IVec S16 32) (k2_hw717 : k2_chk717 v58 v127 v196 v265 v334 v403 v472 v541 v610 v679 v748 v817 v886 v955 v1024 v1093 v1162 v1231 v1300 v1369 v1438 v1507 v1576 v1645 v1714 v1783 v1852 v1921 v1990 v2059 v2128 v2197 v4182), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4182] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4182 k2_hw717 k2_h3 => k2_hw717 k2_h3

def k2_chk718 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4199 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4199] : Fin 1 → IVec S16 32) a x).toNat < S32.size a)
theorem k2_idx713_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4199 : IVec S16 32) (k2_hw718 : k2_chk718 v58 v127 v196 v265 v334 v403 v472 v541 v610 v679 v748 v817 v886 v955 v1024 v1093 v1162 v1231 v1300 v1369 v1438 v1507 v1576 v1645 v1714 v1783 v1852 v1921 v1990 v2059 v2128 v2197 v4199), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4199] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4199 k2_hw718 k2_h3 => k2_hw718 k2_h3

def k2_chk719 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4202 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4202] : Fin 1 → IVec S16 32) a x).toNat < S65536.size a)
theorem k2_idx714_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4202 : IVec S16 32) (k2_hw719 : k2_chk719 v58 v127 v196 v265 v334 v403 v472 v541 v610 v679 v748 v817 v886 v955 v1024 v1093 v1162 v1231 v1300 v1369 v1438 v1507 v1576 v1645 v1714 v1783 v1852 v1921 v1990 v2059 v2128 v2197 v4202), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4202] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4202 k2_hw719 k2_h3 => k2_hw719 k2_h3

def k2_chk720 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4219 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4219] : Fin 1 → IVec S16 32) a x).toNat < S32.size a)
theorem k2_idx715_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4219 : IVec S16 32) (k2_hw720 : k2_chk720 v58 v127 v196 v265 v334 v403 v472 v541 v610 v679 v748 v817 v886 v955 v1024 v1093 v1162 v1231 v1300 v1369 v1438 v1507 v1576 v1645 v1714 v1783 v1852 v1921 v1990 v2059 v2128 v2197 v4219), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4219] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4219 k2_hw720 k2_h3 => k2_hw720 k2_h3

def k2_chk721 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4222 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4222] : Fin 1 → IVec S16 32) a x).toNat < S65536.size a)
theorem k2_idx716_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4222 : IVec S16 32) (k2_hw721 : k2_chk721 v58 v127 v196 v265 v334 v403 v472 v541 v610 v679 v748 v817 v886 v955 v1024 v1093 v1162 v1231 v1300 v1369 v1438 v1507 v1576 v1645 v1714 v1783 v1852 v1921 v1990 v2059 v2128 v2197 v4222), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4222] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4222 k2_hw721 k2_h3 => k2_hw721 k2_h3

def k2_chk722 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4239 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4239] : Fin 1 → IVec S16 32) a x).toNat < S32.size a)
theorem k2_idx717_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4239 : IVec S16 32) (k2_hw722 : k2_chk722 v58 v127 v196 v265 v334 v403 v472 v541 v610 v679 v748 v817 v886 v955 v1024 v1093 v1162 v1231 v1300 v1369 v1438 v1507 v1576 v1645 v1714 v1783 v1852 v1921 v1990 v2059 v2128 v2197 v4239), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4239] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4239 k2_hw722 k2_h3 => k2_hw722 k2_h3

def k2_chk723 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4242 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4242] : Fin 1 → IVec S16 32) a x).toNat < S65536.size a)
theorem k2_idx718_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4242 : IVec S16 32) (k2_hw723 : k2_chk723 v58 v127 v196 v265 v334 v403 v472 v541 v610 v679 v748 v817 v886 v955 v1024 v1093 v1162 v1231 v1300 v1369 v1438 v1507 v1576 v1645 v1714 v1783 v1852 v1921 v1990 v2059 v2128 v2197 v4242), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4242] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4242 k2_hw723 k2_h3 => k2_hw723 k2_h3

def k2_chk724 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4259 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4259] : Fin 1 → IVec S16 32) a x).toNat < S32.size a)
theorem k2_idx719_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4259 : IVec S16 32) (k2_hw724 : k2_chk724 v58 v127 v196 v265 v334 v403 v472 v541 v610 v679 v748 v817 v886 v955 v1024 v1093 v1162 v1231 v1300 v1369 v1438 v1507 v1576 v1645 v1714 v1783 v1852 v1921 v1990 v2059 v2128 v2197 v4259), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4259] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4259 k2_hw724 k2_h3 => k2_hw724 k2_h3

def k2_chk725 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4262 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4262] : Fin 1 → IVec S16 32) a x).toNat < S65536.size a)
theorem k2_idx720_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4262 : IVec S16 32) (k2_hw725 : k2_chk725 v58 v127 v196 v265 v334 v403 v472 v541 v610 v679 v748 v817 v886 v955 v1024 v1093 v1162 v1231 v1300 v1369 v1438 v1507 v1576 v1645 v1714 v1783 v1852 v1921 v1990 v2059 v2128 v2197 v4262), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4262] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4262 k2_hw725 k2_h3 => k2_hw725 k2_h3

def k2_chk726 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4279 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4279] : Fin 1 → IVec S16 32) a x).toNat < S32.size a)
theorem k2_idx721_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4279 : IVec S16 32) (k2_hw726 : k2_chk726 v58 v127 v196 v265 v334 v403 v472 v541 v610 v679 v748 v817 v886 v955 v1024 v1093 v1162 v1231 v1300 v1369 v1438 v1507 v1576 v1645 v1714 v1783 v1852 v1921 v1990 v2059 v2128 v2197 v4279), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4279] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4279 k2_hw726 k2_h3 => k2_hw726 k2_h3

def k2_chk727 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4282 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4282] : Fin 1 → IVec S16 32) a x).toNat < S65536.size a)
theorem k2_idx722_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4282 : IVec S16 32) (k2_hw727 : k2_chk727 v58 v127 v196 v265 v334 v403 v472 v541 v610 v679 v748 v817 v886 v955 v1024 v1093 v1162 v1231 v1300 v1369 v1438 v1507 v1576 v1645 v1714 v1783 v1852 v1921 v1990 v2059 v2128 v2197 v4282), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4282] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4282 k2_hw727 k2_h3 => k2_hw727 k2_h3

def k2_chk728 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4299 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4299] : Fin 1 → IVec S16 32) a x).toNat < S32.size a)
theorem k2_idx723_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4299 : IVec S16 32) (k2_hw728 : k2_chk728 v58 v127 v196 v265 v334 v403 v472 v541 v610 v679 v748 v817 v886 v955 v1024 v1093 v1162 v1231 v1300 v1369 v1438 v1507 v1576 v1645 v1714 v1783 v1852 v1921 v1990 v2059 v2128 v2197 v4299), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4299] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4299 k2_hw728 k2_h3 => k2_hw728 k2_h3

def k2_chk729 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4302 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4302] : Fin 1 → IVec S16 32) a x).toNat < S65536.size a)
theorem k2_idx724_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4302 : IVec S16 32) (k2_hw729 : k2_chk729 v58 v127 v196 v265 v334 v403 v472 v541 v610 v679 v748 v817 v886 v955 v1024 v1093 v1162 v1231 v1300 v1369 v1438 v1507 v1576 v1645 v1714 v1783 v1852 v1921 v1990 v2059 v2128 v2197 v4302), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4302] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4302 k2_hw729 k2_h3 => k2_hw729 k2_h3

def k2_chk730 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4319 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4319] : Fin 1 → IVec S16 32) a x).toNat < S32.size a)
theorem k2_idx725_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4319 : IVec S16 32) (k2_hw730 : k2_chk730 v58 v127 v196 v265 v334 v403 v472 v541 v610 v679 v748 v817 v886 v955 v1024 v1093 v1162 v1231 v1300 v1369 v1438 v1507 v1576 v1645 v1714 v1783 v1852 v1921 v1990 v2059 v2128 v2197 v4319), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4319] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4319 k2_hw730 k2_h3 => k2_hw730 k2_h3

def k2_chk731 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4322 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4322] : Fin 1 → IVec S16 32) a x).toNat < S65536.size a)
theorem k2_idx726_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4322 : IVec S16 32) (k2_hw731 : k2_chk731 v58 v127 v196 v265 v334 v403 v472 v541 v610 v679 v748 v817 v886 v955 v1024 v1093 v1162 v1231 v1300 v1369 v1438 v1507 v1576 v1645 v1714 v1783 v1852 v1921 v1990 v2059 v2128 v2197 v4322), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4322] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4322 k2_hw731 k2_h3 => k2_hw731 k2_h3

def k2_chk732 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4339 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4339] : Fin 1 → IVec S16 32) a x).toNat < S32.size a)
theorem k2_idx727_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4339 : IVec S16 32) (k2_hw732 : k2_chk732 v58 v127 v196 v265 v334 v403 v472 v541 v610 v679 v748 v817 v886 v955 v1024 v1093 v1162 v1231 v1300 v1369 v1438 v1507 v1576 v1645 v1714 v1783 v1852 v1921 v1990 v2059 v2128 v2197 v4339), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4339] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4339 k2_hw732 k2_h3 => k2_hw732 k2_h3

def k2_chk733 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4342 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4342] : Fin 1 → IVec S16 32) a x).toNat < S65536.size a)
theorem k2_idx728_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4342 : IVec S16 32) (k2_hw733 : k2_chk733 v58 v127 v196 v265 v334 v403 v472 v541 v610 v679 v748 v817 v886 v955 v1024 v1093 v1162 v1231 v1300 v1369 v1438 v1507 v1576 v1645 v1714 v1783 v1852 v1921 v1990 v2059 v2128 v2197 v4342), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4342] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4342 k2_hw733 k2_h3 => k2_hw733 k2_h3

def k2_chk734 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4359 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4359] : Fin 1 → IVec S16 32) a x).toNat < S32.size a)
theorem k2_idx729_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4359 : IVec S16 32) (k2_hw734 : k2_chk734 v58 v127 v196 v265 v334 v403 v472 v541 v610 v679 v748 v817 v886 v955 v1024 v1093 v1162 v1231 v1300 v1369 v1438 v1507 v1576 v1645 v1714 v1783 v1852 v1921 v1990 v2059 v2128 v2197 v4359), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4359] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4359 k2_hw734 k2_h3 => k2_hw734 k2_h3

def k2_chk735 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4362 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4362] : Fin 1 → IVec S16 32) a x).toNat < S65536.size a)
theorem k2_idx730_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4362 : IVec S16 32) (k2_hw735 : k2_chk735 v58 v127 v196 v265 v334 v403 v472 v541 v610 v679 v748 v817 v886 v955 v1024 v1093 v1162 v1231 v1300 v1369 v1438 v1507 v1576 v1645 v1714 v1783 v1852 v1921 v1990 v2059 v2128 v2197 v4362), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4362] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4362 k2_hw735 k2_h3 => k2_hw735 k2_h3

def k2_chk736 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4379 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4379] : Fin 1 → IVec S16 32) a x).toNat < S32.size a)
theorem k2_idx731_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4379 : IVec S16 32) (k2_hw736 : k2_chk736 v58 v127 v196 v265 v334 v403 v472 v541 v610 v679 v748 v817 v886 v955 v1024 v1093 v1162 v1231 v1300 v1369 v1438 v1507 v1576 v1645 v1714 v1783 v1852 v1921 v1990 v2059 v2128 v2197 v4379), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4379] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4379 k2_hw736 k2_h3 => k2_hw736 k2_h3

def k2_chk737 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4382 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4382] : Fin 1 → IVec S16 32) a x).toNat < S65536.size a)
theorem k2_idx732_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4382 : IVec S16 32) (k2_hw737 : k2_chk737 v58 v127 v196 v265 v334 v403 v472 v541 v610 v679 v748 v817 v886 v955 v1024 v1093 v1162 v1231 v1300 v1369 v1438 v1507 v1576 v1645 v1714 v1783 v1852 v1921 v1990 v2059 v2128 v2197 v4382), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4382] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4382 k2_hw737 k2_h3 => k2_hw737 k2_h3

def k2_chk738 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4399 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4399] : Fin 1 → IVec S16 32) a x).toNat < S32.size a)
theorem k2_idx733_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4399 : IVec S16 32) (k2_hw738 : k2_chk738 v58 v127 v196 v265 v334 v403 v472 v541 v610 v679 v748 v817 v886 v955 v1024 v1093 v1162 v1231 v1300 v1369 v1438 v1507 v1576 v1645 v1714 v1783 v1852 v1921 v1990 v2059 v2128 v2197 v4399), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4399] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4399 k2_hw738 k2_h3 => k2_hw738 k2_h3

def k2_chk739 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4402 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4402] : Fin 1 → IVec S16 32) a x).toNat < S65536.size a)
theorem k2_idx734_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4402 : IVec S16 32) (k2_hw739 : k2_chk739 v58 v127 v196 v265 v334 v403 v472 v541 v610 v679 v748 v817 v886 v955 v1024 v1093 v1162 v1231 v1300 v1369 v1438 v1507 v1576 v1645 v1714 v1783 v1852 v1921 v1990 v2059 v2128 v2197 v4402), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4402] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4402 k2_hw739 k2_h3 => k2_hw739 k2_h3

def k2_chk740 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4419 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4419] : Fin 1 → IVec S16 32) a x).toNat < S32.size a)
theorem k2_idx735_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4419 : IVec S16 32) (k2_hw740 : k2_chk740 v58 v127 v196 v265 v334 v403 v472 v541 v610 v679 v748 v817 v886 v955 v1024 v1093 v1162 v1231 v1300 v1369 v1438 v1507 v1576 v1645 v1714 v1783 v1852 v1921 v1990 v2059 v2128 v2197 v4419), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4419] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4419 k2_hw740 k2_h3 => k2_hw740 k2_h3

def k2_chk741 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4422 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4422] : Fin 1 → IVec S16 32) a x).toNat < S65536.size a)
theorem k2_idx736_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4422 : IVec S16 32) (k2_hw741 : k2_chk741 v58 v127 v196 v265 v334 v403 v472 v541 v610 v679 v748 v817 v886 v955 v1024 v1093 v1162 v1231 v1300 v1369 v1438 v1507 v1576 v1645 v1714 v1783 v1852 v1921 v1990 v2059 v2128 v2197 v4422), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4422] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4422 k2_hw741 k2_h3 => k2_hw741 k2_h3

def k2_chk742 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4439 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4439] : Fin 1 → IVec S16 32) a x).toNat < S32.size a)
theorem k2_idx737_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4439 : IVec S16 32) (k2_hw742 : k2_chk742 v58 v127 v196 v265 v334 v403 v472 v541 v610 v679 v748 v817 v886 v955 v1024 v1093 v1162 v1231 v1300 v1369 v1438 v1507 v1576 v1645 v1714 v1783 v1852 v1921 v1990 v2059 v2128 v2197 v4439), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4439] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4439 k2_hw742 k2_h3 => k2_hw742 k2_h3

def k2_chk743 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4442 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4442] : Fin 1 → IVec S16 32) a x).toNat < S65536.size a)
theorem k2_idx738_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4442 : IVec S16 32) (k2_hw743 : k2_chk743 v58 v127 v196 v265 v334 v403 v472 v541 v610 v679 v748 v817 v886 v955 v1024 v1093 v1162 v1231 v1300 v1369 v1438 v1507 v1576 v1645 v1714 v1783 v1852 v1921 v1990 v2059 v2128 v2197 v4442), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4442] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4442 k2_hw743 k2_h3 => k2_hw743 k2_h3

def k2_chk744 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4459 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4459] : Fin 1 → IVec S16 32) a x).toNat < S32.size a)
theorem k2_idx739_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4459 : IVec S16 32) (k2_hw744 : k2_chk744 v58 v127 v196 v265 v334 v403 v472 v541 v610 v679 v748 v817 v886 v955 v1024 v1093 v1162 v1231 v1300 v1369 v1438 v1507 v1576 v1645 v1714 v1783 v1852 v1921 v1990 v2059 v2128 v2197 v4459), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4459] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4459 k2_hw744 k2_h3 => k2_hw744 k2_h3

def k2_chk745 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4462 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4462] : Fin 1 → IVec S16 32) a x).toNat < S65536.size a)
theorem k2_idx740_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4462 : IVec S16 32) (k2_hw745 : k2_chk745 v58 v127 v196 v265 v334 v403 v472 v541 v610 v679 v748 v817 v886 v955 v1024 v1093 v1162 v1231 v1300 v1369 v1438 v1507 v1576 v1645 v1714 v1783 v1852 v1921 v1990 v2059 v2128 v2197 v4462), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4462] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4462 k2_hw745 k2_h3 => k2_hw745 k2_h3

def k2_chk746 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4479 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4479] : Fin 1 → IVec S16 32) a x).toNat < S32.size a)
theorem k2_idx741_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4479 : IVec S16 32) (k2_hw746 : k2_chk746 v58 v127 v196 v265 v334 v403 v472 v541 v610 v679 v748 v817 v886 v955 v1024 v1093 v1162 v1231 v1300 v1369 v1438 v1507 v1576 v1645 v1714 v1783 v1852 v1921 v1990 v2059 v2128 v2197 v4479), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4479] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4479 k2_hw746 k2_h3 => k2_hw746 k2_h3

def k2_chk747 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4482 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4482] : Fin 1 → IVec S16 32) a x).toNat < S65536.size a)
theorem k2_idx742_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4482 : IVec S16 32) (k2_hw747 : k2_chk747 v58 v127 v196 v265 v334 v403 v472 v541 v610 v679 v748 v817 v886 v955 v1024 v1093 v1162 v1231 v1300 v1369 v1438 v1507 v1576 v1645 v1714 v1783 v1852 v1921 v1990 v2059 v2128 v2197 v4482), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4482] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4482 k2_hw747 k2_h3 => k2_hw747 k2_h3

def k2_chk748 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4499 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4499] : Fin 1 → IVec S16 32) a x).toNat < S32.size a)
theorem k2_idx743_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4499 : IVec S16 32) (k2_hw748 : k2_chk748 v58 v127 v196 v265 v334 v403 v472 v541 v610 v679 v748 v817 v886 v955 v1024 v1093 v1162 v1231 v1300 v1369 v1438 v1507 v1576 v1645 v1714 v1783 v1852 v1921 v1990 v2059 v2128 v2197 v4499), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4499] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4499 k2_hw748 k2_h3 => k2_hw748 k2_h3

def k2_chk749 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4502 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4502] : Fin 1 → IVec S16 32) a x).toNat < S65536.size a)
theorem k2_idx744_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4502 : IVec S16 32) (k2_hw749 : k2_chk749 v58 v127 v196 v265 v334 v403 v472 v541 v610 v679 v748 v817 v886 v955 v1024 v1093 v1162 v1231 v1300 v1369 v1438 v1507 v1576 v1645 v1714 v1783 v1852 v1921 v1990 v2059 v2128 v2197 v4502), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4502] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4502 k2_hw749 k2_h3 => k2_hw749 k2_h3

def k2_chk750 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4519 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4519] : Fin 1 → IVec S16 32) a x).toNat < S32.size a)
theorem k2_idx745_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4519 : IVec S16 32) (k2_hw750 : k2_chk750 v58 v127 v196 v265 v334 v403 v472 v541 v610 v679 v748 v817 v886 v955 v1024 v1093 v1162 v1231 v1300 v1369 v1438 v1507 v1576 v1645 v1714 v1783 v1852 v1921 v1990 v2059 v2128 v2197 v4519), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4519] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4519 k2_hw750 k2_h3 => k2_hw750 k2_h3

def k2_chk751 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4522 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4522] : Fin 1 → IVec S16 32) a x).toNat < S65536.size a)
theorem k2_idx746_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4522 : IVec S16 32) (k2_hw751 : k2_chk751 v58 v127 v196 v265 v334 v403 v472 v541 v610 v679 v748 v817 v886 v955 v1024 v1093 v1162 v1231 v1300 v1369 v1438 v1507 v1576 v1645 v1714 v1783 v1852 v1921 v1990 v2059 v2128 v2197 v4522), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4522] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4522 k2_hw751 k2_h3 => k2_hw751 k2_h3

def k2_chk752 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4539 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4539] : Fin 1 → IVec S16 32) a x).toNat < S32.size a)
theorem k2_idx747_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4539 : IVec S16 32) (k2_hw752 : k2_chk752 v58 v127 v196 v265 v334 v403 v472 v541 v610 v679 v748 v817 v886 v955 v1024 v1093 v1162 v1231 v1300 v1369 v1438 v1507 v1576 v1645 v1714 v1783 v1852 v1921 v1990 v2059 v2128 v2197 v4539), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4539] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4539 k2_hw752 k2_h3 => k2_hw752 k2_h3

def k2_chk753 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4542 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4542] : Fin 1 → IVec S16 32) a x).toNat < S65536.size a)
theorem k2_idx748_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4542 : IVec S16 32) (k2_hw753 : k2_chk753 v58 v127 v196 v265 v334 v403 v472 v541 v610 v679 v748 v817 v886 v955 v1024 v1093 v1162 v1231 v1300 v1369 v1438 v1507 v1576 v1645 v1714 v1783 v1852 v1921 v1990 v2059 v2128 v2197 v4542), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4542] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4542 k2_hw753 k2_h3 => k2_hw753 k2_h3

def k2_chk754 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4559 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4559] : Fin 1 → IVec S16 32) a x).toNat < S32.size a)
theorem k2_idx749_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4559 : IVec S16 32) (k2_hw754 : k2_chk754 v58 v127 v196 v265 v334 v403 v472 v541 v610 v679 v748 v817 v886 v955 v1024 v1093 v1162 v1231 v1300 v1369 v1438 v1507 v1576 v1645 v1714 v1783 v1852 v1921 v1990 v2059 v2128 v2197 v4559), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4559] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4559 k2_hw754 k2_h3 => k2_hw754 k2_h3

def k2_chk755 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4562 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4562] : Fin 1 → IVec S16 32) a x).toNat < S65536.size a)
theorem k2_idx750_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4562 : IVec S16 32) (k2_hw755 : k2_chk755 v58 v127 v196 v265 v334 v403 v472 v541 v610 v679 v748 v817 v886 v955 v1024 v1093 v1162 v1231 v1300 v1369 v1438 v1507 v1576 v1645 v1714 v1783 v1852 v1921 v1990 v2059 v2128 v2197 v4562), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4562] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4562 k2_hw755 k2_h3 => k2_hw755 k2_h3

def k2_chk756 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4579 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4579] : Fin 1 → IVec S16 32) a x).toNat < S32.size a)
theorem k2_idx751_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4579 : IVec S16 32) (k2_hw756 : k2_chk756 v58 v127 v196 v265 v334 v403 v472 v541 v610 v679 v748 v817 v886 v955 v1024 v1093 v1162 v1231 v1300 v1369 v1438 v1507 v1576 v1645 v1714 v1783 v1852 v1921 v1990 v2059 v2128 v2197 v4579), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4579] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4579 k2_hw756 k2_h3 => k2_hw756 k2_h3

def k2_chk757 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4582 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4582] : Fin 1 → IVec S16 32) a x).toNat < S65536.size a)
theorem k2_idx752_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4582 : IVec S16 32) (k2_hw757 : k2_chk757 v58 v127 v196 v265 v334 v403 v472 v541 v610 v679 v748 v817 v886 v955 v1024 v1093 v1162 v1231 v1300 v1369 v1438 v1507 v1576 v1645 v1714 v1783 v1852 v1921 v1990 v2059 v2128 v2197 v4582), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4582] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4582 k2_hw757 k2_h3 => k2_hw757 k2_h3

def k2_chk758 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4599 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4599] : Fin 1 → IVec S16 32) a x).toNat < S32.size a)
theorem k2_idx753_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4599 : IVec S16 32) (k2_hw758 : k2_chk758 v58 v127 v196 v265 v334 v403 v472 v541 v610 v679 v748 v817 v886 v955 v1024 v1093 v1162 v1231 v1300 v1369 v1438 v1507 v1576 v1645 v1714 v1783 v1852 v1921 v1990 v2059 v2128 v2197 v4599), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4599] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4599 k2_hw758 k2_h3 => k2_hw758 k2_h3

def k2_chk759 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4602 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4602] : Fin 1 → IVec S16 32) a x).toNat < S65536.size a)
theorem k2_idx754_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4602 : IVec S16 32) (k2_hw759 : k2_chk759 v58 v127 v196 v265 v334 v403 v472 v541 v610 v679 v748 v817 v886 v955 v1024 v1093 v1162 v1231 v1300 v1369 v1438 v1507 v1576 v1645 v1714 v1783 v1852 v1921 v1990 v2059 v2128 v2197 v4602), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4602] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4602 k2_hw759 k2_h3 => k2_hw759 k2_h3

def k2_chk760 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4619 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4619] : Fin 1 → IVec S16 32) a x).toNat < S32.size a)
theorem k2_idx755_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4619 : IVec S16 32) (k2_hw760 : k2_chk760 v58 v127 v196 v265 v334 v403 v472 v541 v610 v679 v748 v817 v886 v955 v1024 v1093 v1162 v1231 v1300 v1369 v1438 v1507 v1576 v1645 v1714 v1783 v1852 v1921 v1990 v2059 v2128 v2197 v4619), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4619] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4619 k2_hw760 k2_h3 => k2_hw760 k2_h3

def k2_chk761 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4622 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4622] : Fin 1 → IVec S16 32) a x).toNat < S65536.size a)
theorem k2_idx756_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4622 : IVec S16 32) (k2_hw761 : k2_chk761 v58 v127 v196 v265 v334 v403 v472 v541 v610 v679 v748 v817 v886 v955 v1024 v1093 v1162 v1231 v1300 v1369 v1438 v1507 v1576 v1645 v1714 v1783 v1852 v1921 v1990 v2059 v2128 v2197 v4622), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4622] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4622 k2_hw761 k2_h3 => k2_hw761 k2_h3

def k2_chk762 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4639 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4639] : Fin 1 → IVec S16 32) a x).toNat < S32.size a)
theorem k2_idx757_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4639 : IVec S16 32) (k2_hw762 : k2_chk762 v58 v127 v196 v265 v334 v403 v472 v541 v610 v679 v748 v817 v886 v955 v1024 v1093 v1162 v1231 v1300 v1369 v1438 v1507 v1576 v1645 v1714 v1783 v1852 v1921 v1990 v2059 v2128 v2197 v4639), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4639] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4639 k2_hw762 k2_h3 => k2_hw762 k2_h3

def k2_chk763 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4642 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4642] : Fin 1 → IVec S16 32) a x).toNat < S65536.size a)
theorem k2_idx758_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4642 : IVec S16 32) (k2_hw763 : k2_chk763 v58 v127 v196 v265 v334 v403 v472 v541 v610 v679 v748 v817 v886 v955 v1024 v1093 v1162 v1231 v1300 v1369 v1438 v1507 v1576 v1645 v1714 v1783 v1852 v1921 v1990 v2059 v2128 v2197 v4642), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4642] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4642 k2_hw763 k2_h3 => k2_hw763 k2_h3

def k2_chk764 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4659 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4659] : Fin 1 → IVec S16 32) a x).toNat < S32.size a)
theorem k2_idx759_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4659 : IVec S16 32) (k2_hw764 : k2_chk764 v58 v127 v196 v265 v334 v403 v472 v541 v610 v679 v748 v817 v886 v955 v1024 v1093 v1162 v1231 v1300 v1369 v1438 v1507 v1576 v1645 v1714 v1783 v1852 v1921 v1990 v2059 v2128 v2197 v4659), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4659] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4659 k2_hw764 k2_h3 => k2_hw764 k2_h3

def k2_chk765 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4662 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4662] : Fin 1 → IVec S16 32) a x).toNat < S65536.size a)
theorem k2_idx760_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4662 : IVec S16 32) (k2_hw765 : k2_chk765 v58 v127 v196 v265 v334 v403 v472 v541 v610 v679 v748 v817 v886 v955 v1024 v1093 v1162 v1231 v1300 v1369 v1438 v1507 v1576 v1645 v1714 v1783 v1852 v1921 v1990 v2059 v2128 v2197 v4662), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4662] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4662 k2_hw765 k2_h3 => k2_hw765 k2_h3

def k2_chk766 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4679 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4679] : Fin 1 → IVec S16 32) a x).toNat < S32.size a)
theorem k2_idx761_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4679 : IVec S16 32) (k2_hw766 : k2_chk766 v58 v127 v196 v265 v334 v403 v472 v541 v610 v679 v748 v817 v886 v955 v1024 v1093 v1162 v1231 v1300 v1369 v1438 v1507 v1576 v1645 v1714 v1783 v1852 v1921 v1990 v2059 v2128 v2197 v4679), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4679] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4679 k2_hw766 k2_h3 => k2_hw766 k2_h3

def k2_chk767 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4682 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4682] : Fin 1 → IVec S16 32) a x).toNat < S65536.size a)
theorem k2_idx762_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4682 : IVec S16 32) (k2_hw767 : k2_chk767 v58 v127 v196 v265 v334 v403 v472 v541 v610 v679 v748 v817 v886 v955 v1024 v1093 v1162 v1231 v1300 v1369 v1438 v1507 v1576 v1645 v1714 v1783 v1852 v1921 v1990 v2059 v2128 v2197 v4682), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4682] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4682 k2_hw767 k2_h3 => k2_hw767 k2_h3

def k2_chk768 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4699 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4699] : Fin 1 → IVec S16 32) a x).toNat < S32.size a)
theorem k2_idx763_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4699 : IVec S16 32) (k2_hw768 : k2_chk768 v58 v127 v196 v265 v334 v403 v472 v541 v610 v679 v748 v817 v886 v955 v1024 v1093 v1162 v1231 v1300 v1369 v1438 v1507 v1576 v1645 v1714 v1783 v1852 v1921 v1990 v2059 v2128 v2197 v4699), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4699] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4699 k2_hw768 k2_h3 => k2_hw768 k2_h3

def k2_chk769 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4702 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4702] : Fin 1 → IVec S16 32) a x).toNat < S65536.size a)
theorem k2_idx764_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4702 : IVec S16 32) (k2_hw769 : k2_chk769 v58 v127 v196 v265 v334 v403 v472 v541 v610 v679 v748 v817 v886 v955 v1024 v1093 v1162 v1231 v1300 v1369 v1438 v1507 v1576 v1645 v1714 v1783 v1852 v1921 v1990 v2059 v2128 v2197 v4702), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4702] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4702 k2_hw769 k2_h3 => k2_hw769 k2_h3

def k2_chk770 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4719 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4719] : Fin 1 → IVec S16 32) a x).toNat < S32.size a)
theorem k2_idx765_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4719 : IVec S16 32) (k2_hw770 : k2_chk770 v58 v127 v196 v265 v334 v403 v472 v541 v610 v679 v748 v817 v886 v955 v1024 v1093 v1162 v1231 v1300 v1369 v1438 v1507 v1576 v1645 v1714 v1783 v1852 v1921 v1990 v2059 v2128 v2197 v4719), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4719] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4719 k2_hw770 k2_h3 => k2_hw770 k2_h3

def k2_chk771 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4722 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4722] : Fin 1 → IVec S16 32) a x).toNat < S65536.size a)
theorem k2_idx766_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4722 : IVec S16 32) (k2_hw771 : k2_chk771 v58 v127 v196 v265 v334 v403 v472 v541 v610 v679 v748 v817 v886 v955 v1024 v1093 v1162 v1231 v1300 v1369 v1438 v1507 v1576 v1645 v1714 v1783 v1852 v1921 v1990 v2059 v2128 v2197 v4722), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4722] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4722 k2_hw771 k2_h3 => k2_hw771 k2_h3

def k2_chk772 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4739 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4739] : Fin 1 → IVec S16 32) a x).toNat < S32.size a)
theorem k2_idx767_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4739 : IVec S16 32) (k2_hw772 : k2_chk772 v58 v127 v196 v265 v334 v403 v472 v541 v610 v679 v748 v817 v886 v955 v1024 v1093 v1162 v1231 v1300 v1369 v1438 v1507 v1576 v1645 v1714 v1783 v1852 v1921 v1990 v2059 v2128 v2197 v4739), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4739] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4739 k2_hw772 k2_h3 => k2_hw772 k2_h3

def k2_chk773 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4742 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4742] : Fin 1 → IVec S16 32) a x).toNat < S65536.size a)
theorem k2_idx768_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4742 : IVec S16 32) (k2_hw773 : k2_chk773 v58 v127 v196 v265 v334 v403 v472 v541 v610 v679 v748 v817 v886 v955 v1024 v1093 v1162 v1231 v1300 v1369 v1438 v1507 v1576 v1645 v1714 v1783 v1852 v1921 v1990 v2059 v2128 v2197 v4742), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4742] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4742 k2_hw773 k2_h3 => k2_hw773 k2_h3

def k2_chk774 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4759 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4759] : Fin 1 → IVec S16 32) a x).toNat < S32.size a)
theorem k2_idx769_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4759 : IVec S16 32) (k2_hw774 : k2_chk774 v58 v127 v196 v265 v334 v403 v472 v541 v610 v679 v748 v817 v886 v955 v1024 v1093 v1162 v1231 v1300 v1369 v1438 v1507 v1576 v1645 v1714 v1783 v1852 v1921 v1990 v2059 v2128 v2197 v4759), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4759] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4759 k2_hw774 k2_h3 => k2_hw774 k2_h3

def k2_chk775 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4762 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4762] : Fin 1 → IVec S16 32) a x).toNat < S65536.size a)
theorem k2_idx770_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4762 : IVec S16 32) (k2_hw775 : k2_chk775 v58 v127 v196 v265 v334 v403 v472 v541 v610 v679 v748 v817 v886 v955 v1024 v1093 v1162 v1231 v1300 v1369 v1438 v1507 v1576 v1645 v1714 v1783 v1852 v1921 v1990 v2059 v2128 v2197 v4762), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4762] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4762 k2_hw775 k2_h3 => k2_hw775 k2_h3

def k2_chk776 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4779 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4779] : Fin 1 → IVec S16 32) a x).toNat < S32.size a)
theorem k2_idx771_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4779 : IVec S16 32) (k2_hw776 : k2_chk776 v58 v127 v196 v265 v334 v403 v472 v541 v610 v679 v748 v817 v886 v955 v1024 v1093 v1162 v1231 v1300 v1369 v1438 v1507 v1576 v1645 v1714 v1783 v1852 v1921 v1990 v2059 v2128 v2197 v4779), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4779] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4779 k2_hw776 k2_h3 => k2_hw776 k2_h3

def k2_chk777 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4782 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4782] : Fin 1 → IVec S16 32) a x).toNat < S65536.size a)
theorem k2_idx772_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4782 : IVec S16 32) (k2_hw777 : k2_chk777 v58 v127 v196 v265 v334 v403 v472 v541 v610 v679 v748 v817 v886 v955 v1024 v1093 v1162 v1231 v1300 v1369 v1438 v1507 v1576 v1645 v1714 v1783 v1852 v1921 v1990 v2059 v2128 v2197 v4782), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4782] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4782 k2_hw777 k2_h3 => k2_hw777 k2_h3

def k2_chk778 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4799 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4799] : Fin 1 → IVec S16 32) a x).toNat < S32.size a)
theorem k2_idx773_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4799 : IVec S16 32) (k2_hw778 : k2_chk778 v58 v127 v196 v265 v334 v403 v472 v541 v610 v679 v748 v817 v886 v955 v1024 v1093 v1162 v1231 v1300 v1369 v1438 v1507 v1576 v1645 v1714 v1783 v1852 v1921 v1990 v2059 v2128 v2197 v4799), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4799] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4799 k2_hw778 k2_h3 => k2_hw778 k2_h3

def k2_chk779 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4802 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4802] : Fin 1 → IVec S16 32) a x).toNat < S65536.size a)
theorem k2_idx774_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4802 : IVec S16 32) (k2_hw779 : k2_chk779 v58 v127 v196 v265 v334 v403 v472 v541 v610 v679 v748 v817 v886 v955 v1024 v1093 v1162 v1231 v1300 v1369 v1438 v1507 v1576 v1645 v1714 v1783 v1852 v1921 v1990 v2059 v2128 v2197 v4802), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4802] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4802 k2_hw779 k2_h3 => k2_hw779 k2_h3

def k2_chk780 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4819 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4819] : Fin 1 → IVec S16 32) a x).toNat < S32.size a)
theorem k2_idx775_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4819 : IVec S16 32) (k2_hw780 : k2_chk780 v58 v127 v196 v265 v334 v403 v472 v541 v610 v679 v748 v817 v886 v955 v1024 v1093 v1162 v1231 v1300 v1369 v1438 v1507 v1576 v1645 v1714 v1783 v1852 v1921 v1990 v2059 v2128 v2197 v4819), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4819] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4819 k2_hw780 k2_h3 => k2_hw780 k2_h3

def k2_chk781 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4822 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4822] : Fin 1 → IVec S16 32) a x).toNat < S65536.size a)
theorem k2_idx776_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4822 : IVec S16 32) (k2_hw781 : k2_chk781 v58 v127 v196 v265 v334 v403 v472 v541 v610 v679 v748 v817 v886 v955 v1024 v1093 v1162 v1231 v1300 v1369 v1438 v1507 v1576 v1645 v1714 v1783 v1852 v1921 v1990 v2059 v2128 v2197 v4822), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4822] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4822 k2_hw781 k2_h3 => k2_hw781 k2_h3

def k2_chk782 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4839 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4839] : Fin 1 → IVec S16 32) a x).toNat < S32.size a)
theorem k2_idx777_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4839 : IVec S16 32) (k2_hw782 : k2_chk782 v58 v127 v196 v265 v334 v403 v472 v541 v610 v679 v748 v817 v886 v955 v1024 v1093 v1162 v1231 v1300 v1369 v1438 v1507 v1576 v1645 v1714 v1783 v1852 v1921 v1990 v2059 v2128 v2197 v4839), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4839] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v4839 k2_hw782 k2_h3 => k2_hw782 k2_h3

def k2_chk783 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4842 : IVec S16 32) : Prop :=
  (∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4842] : Fin 1 → IVec S16 32) a x).toNat < S65536.size a)
theorem k2_idx778_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4842 : IVec S16 32) (k2_hw783 : k2_chk783 v58 v127 v196 v265 v334 v403 v472 v541 v610 v679 v748 v817 v886 v955 v1024 v1093 v1162 v1231 v1300 v1369 v1438 v1507 v1576 v1645 v1714 v1783 v1852 v1921 v1990 v2059 v2128 v2197 v4842), ∀ (k2_h3 : k2_cond3 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4842] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4842 k2_hw783 k2_h3 => k2_hw783 k2_h3
def k2_mult3 (i : grid2.Coords) (k2_t5 : Fin k2_t5_loop.trips) : BitVec 32 :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2223 : BitVec 32 := Scalar.muli v1 c128_i32
  let c4096_i32 : BitVec 32 := 4096#32
  let v2224 : BitVec 32 := Scalar.muli v2223 c4096_i32
  let c0_i32_758 : BitVec 32 := 0#32
  let c1_i32_760 : BitVec 32 := 1#32
  let arg14 : BitVec 32 := Scf.iv c0_i32_758 c1_i32_760 k2_t5
  let c65536_i32_765 : BitVec 32 := 65536#32
  let v2225 : BitVec 32 := Scalar.muli arg14 c65536_i32_765
  let v2226 : BitVec 32 := Scalar.addi v2224 v2225
  v2226
def k2_off6 (i : grid2.Coords) (k2_t5 : Fin k2_t5_loop.trips) : Fin 1 → Nat :=
  let arg0 : BitVec 32 := BitVec.ofNat 32 (i 0).val
  let c16_i32 : BitVec 32 := 16#32
  let v0 : BitVec 32 := Scalar.muli arg0 c16_i32
  let arg1 : BitVec 32 := BitVec.ofNat 32 (i 1).val
  let v1 : BitVec 32 := Scalar.addi v0 arg1
  let c128_i32 : BitVec 32 := 128#32
  let v2223 : BitVec 32 := Scalar.muli v1 c128_i32
  let c4096_i32 : BitVec 32 := 4096#32
  let v2224 : BitVec 32 := Scalar.muli v2223 c4096_i32
  let c0_i32_758 : BitVec 32 := 0#32
  let c1_i32_760 : BitVec 32 := 1#32
  let arg14 : BitVec 32 := Scf.iv c0_i32_758 c1_i32_760 k2_t5
  let c65536_i32_765 : BitVec 32 := 65536#32
  let v2225 : BitVec 32 := Scalar.muli arg14 c65536_i32_765
  let v2226 : BitVec 32 := Scalar.addi v2224 v2225
  let v2227 : BitVec 32 := v2226
  ![v2227.toNat]
@[reducible] def k2_t11_loop (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : Scf.Loop 32 :=
  let c0_i32_778 : BitVec 32 := 0#32
  let c0_i32_20 : BitVec 32 := 0#32
  let v72 : BitVec 32 := Scalar.addi c0_i32_20 v58
  let v141 : BitVec 32 := Scalar.addi v72 v127
  let v210 : BitVec 32 := Scalar.addi v141 v196
  let v279 : BitVec 32 := Scalar.addi v210 v265
  let v348 : BitVec 32 := Scalar.addi v279 v334
  let v417 : BitVec 32 := Scalar.addi v348 v403
  let v486 : BitVec 32 := Scalar.addi v417 v472
  let v555 : BitVec 32 := Scalar.addi v486 v541
  let v624 : BitVec 32 := Scalar.addi v555 v610
  let v693 : BitVec 32 := Scalar.addi v624 v679
  let v762 : BitVec 32 := Scalar.addi v693 v748
  let v831 : BitVec 32 := Scalar.addi v762 v817
  let v900 : BitVec 32 := Scalar.addi v831 v886
  let v969 : BitVec 32 := Scalar.addi v900 v955
  let v1038 : BitVec 32 := Scalar.addi v969 v1024
  let v1107 : BitVec 32 := Scalar.addi v1038 v1093
  let v1176 : BitVec 32 := Scalar.addi v1107 v1162
  let v1245 : BitVec 32 := Scalar.addi v1176 v1231
  let v1314 : BitVec 32 := Scalar.addi v1245 v1300
  let v1383 : BitVec 32 := Scalar.addi v1314 v1369
  let v1452 : BitVec 32 := Scalar.addi v1383 v1438
  let v1521 : BitVec 32 := Scalar.addi v1452 v1507
  let v1590 : BitVec 32 := Scalar.addi v1521 v1576
  let v1659 : BitVec 32 := Scalar.addi v1590 v1645
  let v1728 : BitVec 32 := Scalar.addi v1659 v1714
  let v1797 : BitVec 32 := Scalar.addi v1728 v1783
  let v1866 : BitVec 32 := Scalar.addi v1797 v1852
  let v1935 : BitVec 32 := Scalar.addi v1866 v1921
  let v2004 : BitVec 32 := Scalar.addi v1935 v1990
  let v2073 : BitVec 32 := Scalar.addi v2004 v2059
  let v2142 : BitVec 32 := Scalar.addi v2073 v2128
  let v2211 : BitVec 32 := Scalar.addi v2142 v2197
  let c15_i32_769 : BitVec 32 := 15#32
  let v2233 : BitVec 32 := Scalar.addi v2211 c15_i32_769
  let c0_i32_771 : BitVec 32 := 0#32
  let v2235 : BitVec 1 := Scalar.cmpi .sgt v2233 c0_i32_771
  let v2236 : BitVec 32 := Scalar.extui v2235
  let c0_i32_772 : BitVec 32 := 0#32
  let v2237 : BitVec 1 := Scalar.cmpi .slt v2233 c0_i32_772
  let v2238 : BitVec 32 := Scalar.extui v2237
  let v2239 : BitVec 32 := Scalar.subi v2236 v2238
  let c16_i32_770 : BitVec 32 := 16#32
  let c0_i32_773 : BitVec 32 := 0#32
  let v2240 : BitVec 1 := Scalar.cmpi .sgt c16_i32_770 c0_i32_773
  let v2241 : BitVec 32 := Scalar.extui v2240
  let c0_i32_774 : BitVec 32 := 0#32
  let v2242 : BitVec 1 := Scalar.cmpi .slt c16_i32_770 c0_i32_774
  let v2243 : BitVec 32 := Scalar.extui v2242
  let v2244 : BitVec 32 := Scalar.subi v2241 v2243
  let v2245 : BitVec 1 := Scalar.cmpi .ne v2239 v2244
  let v2246 : BitVec 32 := Scalar.remsi v2233 c16_i32_770
  let c0_i32_775 : BitVec 32 := 0#32
  let v2247 : BitVec 1 := Scalar.cmpi .ne v2246 c0_i32_775
  let v2248 : BitVec 1 := Scalar.andi v2245 v2247
  let v2234 : BitVec 32 := Scalar.divsi v2233 c16_i32_770
  let c1_i32_776 : BitVec 32 := 1#32
  let v2249 : BitVec 32 := Scalar.subi v2234 c1_i32_776
  let v2250 : BitVec 32 := Scalar.select v2248 v2249 v2234
  let v2251 : BitVec 32 := Scalar.subi v2250 c0_i32_778
  let c1_i32_779 : BitVec 32 := 1#32
  let v2253 : BitVec 32 := Scalar.divsi v2251 c1_i32_779
  let v2254 : BitVec 32 := Scalar.muli v2253 c1_i32_779
  let v2255 : BitVec 32 := Scalar.addi c0_i32_778 v2254
  let c1_i32_780 : BitVec 32 := 1#32
  ⟨c0_i32_778, v2255, c1_i32_780⟩
def k2_cond4 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : BitVec 1 :=
  let c0_i32_20 : BitVec 32 := 0#32
  let v72 : BitVec 32 := Scalar.addi c0_i32_20 v58
  let v141 : BitVec 32 := Scalar.addi v72 v127
  let v210 : BitVec 32 := Scalar.addi v141 v196
  let v279 : BitVec 32 := Scalar.addi v210 v265
  let v348 : BitVec 32 := Scalar.addi v279 v334
  let v417 : BitVec 32 := Scalar.addi v348 v403
  let v486 : BitVec 32 := Scalar.addi v417 v472
  let v555 : BitVec 32 := Scalar.addi v486 v541
  let v624 : BitVec 32 := Scalar.addi v555 v610
  let v693 : BitVec 32 := Scalar.addi v624 v679
  let v762 : BitVec 32 := Scalar.addi v693 v748
  let v831 : BitVec 32 := Scalar.addi v762 v817
  let v900 : BitVec 32 := Scalar.addi v831 v886
  let v969 : BitVec 32 := Scalar.addi v900 v955
  let v1038 : BitVec 32 := Scalar.addi v969 v1024
  let v1107 : BitVec 32 := Scalar.addi v1038 v1093
  let v1176 : BitVec 32 := Scalar.addi v1107 v1162
  let v1245 : BitVec 32 := Scalar.addi v1176 v1231
  let v1314 : BitVec 32 := Scalar.addi v1245 v1300
  let v1383 : BitVec 32 := Scalar.addi v1314 v1369
  let v1452 : BitVec 32 := Scalar.addi v1383 v1438
  let v1521 : BitVec 32 := Scalar.addi v1452 v1507
  let v1590 : BitVec 32 := Scalar.addi v1521 v1576
  let v1659 : BitVec 32 := Scalar.addi v1590 v1645
  let v1728 : BitVec 32 := Scalar.addi v1659 v1714
  let v1797 : BitVec 32 := Scalar.addi v1728 v1783
  let v1866 : BitVec 32 := Scalar.addi v1797 v1852
  let v1935 : BitVec 32 := Scalar.addi v1866 v1921
  let v2004 : BitVec 32 := Scalar.addi v1935 v1990
  let v2073 : BitVec 32 := Scalar.addi v2004 v2059
  let v2142 : BitVec 32 := Scalar.addi v2073 v2128
  let v2211 : BitVec 32 := Scalar.addi v2142 v2197
  let c57344_i32 : BitVec 32 := 57344#32
  let v2212 : BitVec 1 := Scalar.cmpi .sle v2211 c57344_i32
  let v2228 : BitVec 32 := Scalar.extui v2212
  let c0_i32_766 : BitVec 32 := 0#32
  let v2229 : BitVec 1 := Scalar.cmpi .ne v2228 c0_i32_766
  v2229

def k2_chk784 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2264 : IVec S16 32) : Prop :=
  (∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2264] : Fin 1 → IVec S16 32) a x).toNat < S57344.size a)
theorem k2_idx779_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2264 : IVec S16 32) (k2_hw784 : k2_chk784 v58 v127 v196 v265 v334 v403 v472 v541 v610 v679 v748 v817 v886 v955 v1024 v1093 v1162 v1231 v1300 v1369 v1438 v1507 v1576 v1645 v1714 v1783 v1852 v1921 v1990 v2059 v2128 v2197 v2264), ∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2264] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2264 k2_hw784 k2_h4 => k2_hw784 k2_h4

def k2_chk785 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2277 : IVec S16 32) : Prop :=
  (∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2277] : Fin 1 → IVec S16 32) a x).toNat < S65536.size a)
theorem k2_idx780_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2277 : IVec S16 32) (k2_hw785 : k2_chk785 v58 v127 v196 v265 v334 v403 v472 v541 v610 v679 v748 v817 v886 v955 v1024 v1093 v1162 v1231 v1300 v1369 v1438 v1507 v1576 v1645 v1714 v1783 v1852 v1921 v1990 v2059 v2128 v2197 v2277), ∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2277] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2277 k2_hw785 k2_h4 => k2_hw785 k2_h4
@[reducible] def k2_t12_loop (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : Scf.Loop 32 :=
  let c0_i32_778 : BitVec 32 := 0#32
  let c0_i32_20 : BitVec 32 := 0#32
  let v72 : BitVec 32 := Scalar.addi c0_i32_20 v58
  let v141 : BitVec 32 := Scalar.addi v72 v127
  let v210 : BitVec 32 := Scalar.addi v141 v196
  let v279 : BitVec 32 := Scalar.addi v210 v265
  let v348 : BitVec 32 := Scalar.addi v279 v334
  let v417 : BitVec 32 := Scalar.addi v348 v403
  let v486 : BitVec 32 := Scalar.addi v417 v472
  let v555 : BitVec 32 := Scalar.addi v486 v541
  let v624 : BitVec 32 := Scalar.addi v555 v610
  let v693 : BitVec 32 := Scalar.addi v624 v679
  let v762 : BitVec 32 := Scalar.addi v693 v748
  let v831 : BitVec 32 := Scalar.addi v762 v817
  let v900 : BitVec 32 := Scalar.addi v831 v886
  let v969 : BitVec 32 := Scalar.addi v900 v955
  let v1038 : BitVec 32 := Scalar.addi v969 v1024
  let v1107 : BitVec 32 := Scalar.addi v1038 v1093
  let v1176 : BitVec 32 := Scalar.addi v1107 v1162
  let v1245 : BitVec 32 := Scalar.addi v1176 v1231
  let v1314 : BitVec 32 := Scalar.addi v1245 v1300
  let v1383 : BitVec 32 := Scalar.addi v1314 v1369
  let v1452 : BitVec 32 := Scalar.addi v1383 v1438
  let v1521 : BitVec 32 := Scalar.addi v1452 v1507
  let v1590 : BitVec 32 := Scalar.addi v1521 v1576
  let v1659 : BitVec 32 := Scalar.addi v1590 v1645
  let v1728 : BitVec 32 := Scalar.addi v1659 v1714
  let v1797 : BitVec 32 := Scalar.addi v1728 v1783
  let v1866 : BitVec 32 := Scalar.addi v1797 v1852
  let v1935 : BitVec 32 := Scalar.addi v1866 v1921
  let v2004 : BitVec 32 := Scalar.addi v1935 v1990
  let v2073 : BitVec 32 := Scalar.addi v2004 v2059
  let v2142 : BitVec 32 := Scalar.addi v2073 v2128
  let v2211 : BitVec 32 := Scalar.addi v2142 v2197
  let c15_i32_769 : BitVec 32 := 15#32
  let v2233 : BitVec 32 := Scalar.addi v2211 c15_i32_769
  let c0_i32_771 : BitVec 32 := 0#32
  let v2235 : BitVec 1 := Scalar.cmpi .sgt v2233 c0_i32_771
  let v2236 : BitVec 32 := Scalar.extui v2235
  let c0_i32_772 : BitVec 32 := 0#32
  let v2237 : BitVec 1 := Scalar.cmpi .slt v2233 c0_i32_772
  let v2238 : BitVec 32 := Scalar.extui v2237
  let v2239 : BitVec 32 := Scalar.subi v2236 v2238
  let c16_i32_770 : BitVec 32 := 16#32
  let c0_i32_773 : BitVec 32 := 0#32
  let v2240 : BitVec 1 := Scalar.cmpi .sgt c16_i32_770 c0_i32_773
  let v2241 : BitVec 32 := Scalar.extui v2240
  let c0_i32_774 : BitVec 32 := 0#32
  let v2242 : BitVec 1 := Scalar.cmpi .slt c16_i32_770 c0_i32_774
  let v2243 : BitVec 32 := Scalar.extui v2242
  let v2244 : BitVec 32 := Scalar.subi v2241 v2243
  let v2245 : BitVec 1 := Scalar.cmpi .ne v2239 v2244
  let v2246 : BitVec 32 := Scalar.remsi v2233 c16_i32_770
  let c0_i32_775 : BitVec 32 := 0#32
  let v2247 : BitVec 1 := Scalar.cmpi .ne v2246 c0_i32_775
  let v2248 : BitVec 1 := Scalar.andi v2245 v2247
  let v2234 : BitVec 32 := Scalar.divsi v2233 c16_i32_770
  let c1_i32_776 : BitVec 32 := 1#32
  let v2249 : BitVec 32 := Scalar.subi v2234 c1_i32_776
  let v2250 : BitVec 32 := Scalar.select v2248 v2249 v2234
  let v2251 : BitVec 32 := Scalar.subi v2250 c0_i32_778
  let c1_i32_779 : BitVec 32 := 1#32
  let v2253 : BitVec 32 := Scalar.divsi v2251 c1_i32_779
  let v2254 : BitVec 32 := Scalar.muli v2253 c1_i32_779
  let v2255 : BitVec 32 := Scalar.addi c0_i32_778 v2254
  let v2252 : BitVec 32 := Scalar.addi c0_i32_778 v2251
  let c1_i32_781 : BitVec 32 := 1#32
  ⟨v2255, v2252, c1_i32_781⟩

def k2_chk261 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : Prop :=
  (∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t6_loop v58 v127 v196 v265 v334 v403 v472 v541 v610 v679 v748 v817 v886 v955 v1024 v1093 v1162 v1231 v1300 v1369 v1438 v1507 v1576 v1645 v1714 v1783 v1852 v1921 v1990 v2059 v2128 v2197).OK) ∧
  (∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t7_loop v58 v127 v196 v265 v334 v403 v472 v541 v610 v679 v748 v817 v886 v955 v1024 v1093 v1162 v1231 v1300 v1369 v1438 v1507 v1576 v1645 v1714 v1783 v1852 v1921 v1990 v2059 v2128 v2197).OK) ∧
  (∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t11_loop v58 v127 v196 v265 v334 v403 v472 v541 v610 v679 v748 v817 v886 v955 v1024 v1093 v1162 v1231 v1300 v1369 v1438 v1507 v1576 v1645 v1714 v1783 v1852 v1921 v1990 v2059 v2128 v2197).OK) ∧
  (∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t12_loop v58 v127 v196 v265 v334 v403 v472 v541 v610 v679 v748 v817 v886 v955 v1024 v1093 v1162 v1231 v1300 v1369 v1438 v1507 v1576 v1645 v1714 v1783 v1852 v1921 v1990 v2059 v2128 v2197).OK)
theorem k2_t6_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (k2_hw261 : k2_chk261 v58 v127 v196 v265 v334 v403 v472 v541 v610 v679 v748 v817 v886 v955 v1024 v1093 v1162 v1231 v1300 v1369 v1438 v1507 v1576 v1645 v1714 v1783 v1852 v1921 v1990 v2059 v2128 v2197), ∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t6_loop v58 v127 v196 v265 v334 v403 v472 v541 v610 v679 v748 v817 v886 v955 v1024 v1093 v1162 v1231 v1300 v1369 v1438 v1507 v1576 v1645 v1714 v1783 v1852 v1921 v1990 v2059 v2128 v2197).OK := fun v58 v127 v196 v265 v334 v403 v472 v541 v610 v679 v748 v817 v886 v955 v1024 v1093 v1162 v1231 v1300 v1369 v1438 v1507 v1576 v1645 v1714 v1783 v1852 v1921 v1990 v2059 v2128 v2197 k2_hw261 k2_h2 => k2_hw261.1 k2_h2
theorem k2_t7_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (k2_hw261 : k2_chk261 v58 v127 v196 v265 v334 v403 v472 v541 v610 v679 v748 v817 v886 v955 v1024 v1093 v1162 v1231 v1300 v1369 v1438 v1507 v1576 v1645 v1714 v1783 v1852 v1921 v1990 v2059 v2128 v2197), ∀ (k2_h2 : k2_cond2 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t7_loop v58 v127 v196 v265 v334 v403 v472 v541 v610 v679 v748 v817 v886 v955 v1024 v1093 v1162 v1231 v1300 v1369 v1438 v1507 v1576 v1645 v1714 v1783 v1852 v1921 v1990 v2059 v2128 v2197).OK := fun v58 v127 v196 v265 v334 v403 v472 v541 v610 v679 v748 v817 v886 v955 v1024 v1093 v1162 v1231 v1300 v1369 v1438 v1507 v1576 v1645 v1714 v1783 v1852 v1921 v1990 v2059 v2128 v2197 k2_hw261 k2_h2 => k2_hw261.2.1 k2_h2
theorem k2_t11_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (k2_hw261 : k2_chk261 v58 v127 v196 v265 v334 v403 v472 v541 v610 v679 v748 v817 v886 v955 v1024 v1093 v1162 v1231 v1300 v1369 v1438 v1507 v1576 v1645 v1714 v1783 v1852 v1921 v1990 v2059 v2128 v2197), ∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t11_loop v58 v127 v196 v265 v334 v403 v472 v541 v610 v679 v748 v817 v886 v955 v1024 v1093 v1162 v1231 v1300 v1369 v1438 v1507 v1576 v1645 v1714 v1783 v1852 v1921 v1990 v2059 v2128 v2197).OK := fun v58 v127 v196 v265 v334 v403 v472 v541 v610 v679 v748 v817 v886 v955 v1024 v1093 v1162 v1231 v1300 v1369 v1438 v1507 v1576 v1645 v1714 v1783 v1852 v1921 v1990 v2059 v2128 v2197 k2_hw261 k2_h4 => k2_hw261.2.2.1 k2_h4
theorem k2_t12_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (k2_hw261 : k2_chk261 v58 v127 v196 v265 v334 v403 v472 v541 v610 v679 v748 v817 v886 v955 v1024 v1093 v1162 v1231 v1300 v1369 v1438 v1507 v1576 v1645 v1714 v1783 v1852 v1921 v1990 v2059 v2128 v2197), ∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t12_loop v58 v127 v196 v265 v334 v403 v472 v541 v610 v679 v748 v817 v886 v955 v1024 v1093 v1162 v1231 v1300 v1369 v1438 v1507 v1576 v1645 v1714 v1783 v1852 v1921 v1990 v2059 v2128 v2197).OK := fun v58 v127 v196 v265 v334 v403 v472 v541 v610 v679 v748 v817 v886 v955 v1024 v1093 v1162 v1231 v1300 v1369 v1438 v1507 v1576 v1645 v1714 v1783 v1852 v1921 v1990 v2059 v2128 v2197 k2_hw261 k2_h4 => k2_hw261.2.2.2 k2_h4

def k2_chk786 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2264 : IVec S16 32) : Prop :=
  (∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2264] : Fin 1 → IVec S16 32) a x).toNat < S57344.size a)
theorem k2_idx781_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2264 : IVec S16 32) (k2_hw786 : k2_chk786 v58 v127 v196 v265 v334 v403 v472 v541 v610 v679 v748 v817 v886 v955 v1024 v1093 v1162 v1231 v1300 v1369 v1438 v1507 v1576 v1645 v1714 v1783 v1852 v1921 v1990 v2059 v2128 v2197 v2264), ∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2264] : Fin 1 → IVec S16 32) a x).toNat < S57344.size a := fun v58 v127 v196 v265 v334 v403 v472 v541 v610 v679 v748 v817 v886 v955 v1024 v1093 v1162 v1231 v1300 v1369 v1438 v1507 v1576 v1645 v1714 v1783 v1852 v1921 v1990 v2059 v2128 v2197 v2264 k2_hw786 k2_h4 => k2_hw786 k2_h4

def k2_chk787 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2277 : IVec S16 32) : Prop :=
  (∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2277] : Fin 1 → IVec S16 32) a x).toNat < S65536.size a)
theorem k2_idx782_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2277 : IVec S16 32) (k2_hw787 : k2_chk787 v58 v127 v196 v265 v334 v403 v472 v541 v610 v679 v748 v817 v886 v955 v1024 v1093 v1162 v1231 v1300 v1369 v1438 v1507 v1576 v1645 v1714 v1783 v1852 v1921 v1990 v2059 v2128 v2197 v2277), ∀ (k2_h4 : k2_cond4 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2277] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2277 k2_hw787 k2_h4 => k2_hw787 k2_h4
@[reducible] def k2_t13_loop : Scf.Loop 32 :=
  let c0_i32_770 : BitVec 32 := 0#32
  let c32_i32 : BitVec 32 := 32#32
  let v2233 : BitVec 32 := Scalar.addi c0_i32_770 c32_i32
  let c1_i32_771 : BitVec 32 := 1#32
  ⟨c0_i32_770, v2233, c1_i32_771⟩
def k2_cond5 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) : BitVec 1 :=
  let c0_i32_20 : BitVec 32 := 0#32
  let v72 : BitVec 32 := Scalar.addi c0_i32_20 v58
  let v141 : BitVec 32 := Scalar.addi v72 v127
  let v210 : BitVec 32 := Scalar.addi v141 v196
  let v279 : BitVec 32 := Scalar.addi v210 v265
  let v348 : BitVec 32 := Scalar.addi v279 v334
  let v417 : BitVec 32 := Scalar.addi v348 v403
  let v486 : BitVec 32 := Scalar.addi v417 v472
  let v555 : BitVec 32 := Scalar.addi v486 v541
  let v624 : BitVec 32 := Scalar.addi v555 v610
  let v693 : BitVec 32 := Scalar.addi v624 v679
  let v762 : BitVec 32 := Scalar.addi v693 v748
  let v831 : BitVec 32 := Scalar.addi v762 v817
  let v900 : BitVec 32 := Scalar.addi v831 v886
  let v969 : BitVec 32 := Scalar.addi v900 v955
  let v1038 : BitVec 32 := Scalar.addi v969 v1024
  let v1107 : BitVec 32 := Scalar.addi v1038 v1093
  let v1176 : BitVec 32 := Scalar.addi v1107 v1162
  let v1245 : BitVec 32 := Scalar.addi v1176 v1231
  let v1314 : BitVec 32 := Scalar.addi v1245 v1300
  let v1383 : BitVec 32 := Scalar.addi v1314 v1369
  let v1452 : BitVec 32 := Scalar.addi v1383 v1438
  let v1521 : BitVec 32 := Scalar.addi v1452 v1507
  let v1590 : BitVec 32 := Scalar.addi v1521 v1576
  let v1659 : BitVec 32 := Scalar.addi v1590 v1645
  let v1728 : BitVec 32 := Scalar.addi v1659 v1714
  let v1797 : BitVec 32 := Scalar.addi v1728 v1783
  let v1866 : BitVec 32 := Scalar.addi v1797 v1852
  let v1935 : BitVec 32 := Scalar.addi v1866 v1921
  let v2004 : BitVec 32 := Scalar.addi v1935 v1990
  let v2073 : BitVec 32 := Scalar.addi v2004 v2059
  let v2142 : BitVec 32 := Scalar.addi v2073 v2128
  let v2211 : BitVec 32 := Scalar.addi v2142 v2197
  let c57344_i32 : BitVec 32 := 57344#32
  let v2212 : BitVec 1 := Scalar.cmpi .sle v2211 c57344_i32
  let true_767 : BitVec 1 := 1#1
  let v2230 : BitVec 1 := Scalar.xori v2212 true_767
  let v2231 : BitVec 32 := Scalar.extui v2230
  let c0_i32_768 : BitVec 32 := 0#32
  let v2232 : BitVec 1 := Scalar.cmpi .ne v2231 c0_i32_768
  v2232

def k2_chk788 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2234 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2234] : Fin 1 → IVec S16 32) a x).toNat < S32.size a)
theorem k2_idx783_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2234 : IVec S16 32) (k2_hw788 : k2_chk788 v58 v127 v196 v265 v334 v403 v472 v541 v610 v679 v748 v817 v886 v955 v1024 v1093 v1162 v1231 v1300 v1369 v1438 v1507 v1576 v1645 v1714 v1783 v1852 v1921 v1990 v2059 v2128 v2197 v2234), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2234] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2234 k2_hw788 k2_h5 => k2_hw788 k2_h5
def k2_mult4 (v2243 : BitVec 32) : BitVec 32 :=
  v2243

def k2_chk789 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), 8 ∣ (k2_mult4 v2243).toNat)
theorem k2_mult4_dvd : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (k2_hw789 : k2_chk789 v58 v127 v196 v265 v334 v403 v472 v541 v610 v679 v748 v817 v886 v955 v1024 v1093 v1162 v1231 v1300 v1369 v1438 v1507 v1576 v1645 v1714 v1783 v1852 v1921 v1990 v2059 v2128 v2197 v2243), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), 8 ∣ (k2_mult4 v2243).toNat := fun v58 v127 v196 v265 v334 v403 v472 v541 v610 v679 v748 v817 v886 v955 v1024 v1093 v1162 v1231 v1300 v1369 v1438 v1507 v1576 v1645 v1714 v1783 v1852 v1921 v1990 v2059 v2128 v2197 v2243 k2_hw789 k2_h5 => k2_hw789 k2_h5

def k2_chk790 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2245 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2245] : Fin 1 → IVec S16 32) a x).toNat < S32.size a)
theorem k2_idx784_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2245 : IVec S16 32) (k2_hw790 : k2_chk790 v58 v127 v196 v265 v334 v403 v472 v541 v610 v679 v748 v817 v886 v955 v1024 v1093 v1162 v1231 v1300 v1369 v1438 v1507 v1576 v1645 v1714 v1783 v1852 v1921 v1990 v2059 v2128 v2197 v2245), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2245] : Fin 1 → IVec S16 32) a x).toNat < S32.size a := fun v58 v127 v196 v265 v334 v403 v472 v541 v610 v679 v748 v817 v886 v955 v1024 v1093 v1162 v1231 v1300 v1369 v1438 v1507 v1576 v1645 v1714 v1783 v1852 v1921 v1990 v2059 v2128 v2197 v2245 k2_hw790 k2_h5 => k2_hw790 k2_h5
@[reducible] def k2_t14_loop (v2254 : BitVec 32) : Scf.Loop 32 :=
  let c0_i32_787 : BitVec 32 := 0#32
  let c2048_i32 : BitVec 32 := 2048#32
  let v2255 : BitVec 32 := Scalar.addi v2254 c2048_i32
  let c1_i32_779 : BitVec 32 := 1#32
  let v2256 : BitVec 32 := Scalar.subi v2255 c1_i32_779
  let c0_i32_781 : BitVec 32 := 0#32
  let v2258 : BitVec 1 := Scalar.cmpi .sgt v2256 c0_i32_781
  let v2259 : BitVec 32 := Scalar.extui v2258
  let c0_i32_782 : BitVec 32 := 0#32
  let v2260 : BitVec 1 := Scalar.cmpi .slt v2256 c0_i32_782
  let v2261 : BitVec 32 := Scalar.extui v2260
  let v2262 : BitVec 32 := Scalar.subi v2259 v2261
  let c2048_i32_780 : BitVec 32 := 2048#32
  let c0_i32_783 : BitVec 32 := 0#32
  let v2263 : BitVec 1 := Scalar.cmpi .sgt c2048_i32_780 c0_i32_783
  let v2264 : BitVec 32 := Scalar.extui v2263
  let c0_i32_784 : BitVec 32 := 0#32
  let v2265 : BitVec 1 := Scalar.cmpi .slt c2048_i32_780 c0_i32_784
  let v2266 : BitVec 32 := Scalar.extui v2265
  let v2267 : BitVec 32 := Scalar.subi v2264 v2266
  let v2268 : BitVec 1 := Scalar.cmpi .ne v2262 v2267
  let v2269 : BitVec 32 := Scalar.remsi v2256 c2048_i32_780
  let c0_i32_785 : BitVec 32 := 0#32
  let v2270 : BitVec 1 := Scalar.cmpi .ne v2269 c0_i32_785
  let v2271 : BitVec 1 := Scalar.andi v2268 v2270
  let v2257 : BitVec 32 := Scalar.divsi v2256 c2048_i32_780
  let c1_i32_786 : BitVec 32 := 1#32
  let v2272 : BitVec 32 := Scalar.subi v2257 c1_i32_786
  let v2273 : BitVec 32 := Scalar.select v2271 v2272 v2257
  let v2274 : BitVec 32 := Scalar.subi v2273 c0_i32_787
  let c1_i32_788 : BitVec 32 := 1#32
  let v2276 : BitVec 32 := Scalar.divsi v2274 c1_i32_788
  let v2277 : BitVec 32 := Scalar.muli v2276 c1_i32_788
  let v2278 : BitVec 32 := Scalar.addi c0_i32_787 v2277
  let c1_i32_789 : BitVec 32 := 1#32
  ⟨c0_i32_787, v2278, c1_i32_789⟩

def k2_off7 (v2243 : BitVec 32) (v2254 : BitVec 32) (k2_t14 : Fin (k2_t14_loop v2254).trips) : Fin 1 → Nat :=
  let v2244 : BitVec 32 := v2243
  let c0_i32_787 : BitVec 32 := 0#32
  let c1_i32_789 : BitVec 32 := 1#32
  let arg16 : BitVec 32 := Scf.iv c0_i32_787 c1_i32_789 k2_t14
  let c2048_i32_791 : BitVec 32 := 2048#32
  let v2279 : BitVec 32 := Scalar.muli arg16 c2048_i32_791
  let v2280 : BitVec 32 := Scalar.addi v2244 v2279
  ![v2280.toNat]

def k2_chk792 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2299 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2299] : Fin 1 → IVec S16 32) a x).toNat < S65536.size a)
theorem k2_idx785_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2299 : IVec S16 32) (k2_hw792 : k2_chk792 v58 v127 v196 v265 v334 v403 v472 v541 v610 v679 v748 v817 v886 v955 v1024 v1093 v1162 v1231 v1300 v1369 v1438 v1507 v1576 v1645 v1714 v1783 v1852 v1921 v1990 v2059 v2128 v2197 v2299), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2299] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2299 k2_hw792 k2_h5 => k2_hw792 k2_h5

def k2_chk793 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2316 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2316] : Fin 1 → IVec S16 32) a x).toNat < S65536.size a)
theorem k2_idx786_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2316 : IVec S16 32) (k2_hw793 : k2_chk793 v58 v127 v196 v265 v334 v403 v472 v541 v610 v679 v748 v817 v886 v955 v1024 v1093 v1162 v1231 v1300 v1369 v1438 v1507 v1576 v1645 v1714 v1783 v1852 v1921 v1990 v2059 v2128 v2197 v2316), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2316] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2316 k2_hw793 k2_h5 => k2_hw793 k2_h5

def k2_chk794 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2333 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2333] : Fin 1 → IVec S16 32) a x).toNat < S65536.size a)
theorem k2_idx787_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2333 : IVec S16 32) (k2_hw794 : k2_chk794 v58 v127 v196 v265 v334 v403 v472 v541 v610 v679 v748 v817 v886 v955 v1024 v1093 v1162 v1231 v1300 v1369 v1438 v1507 v1576 v1645 v1714 v1783 v1852 v1921 v1990 v2059 v2128 v2197 v2333), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2333] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2333 k2_hw794 k2_h5 => k2_hw794 k2_h5

def k2_chk795 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2350 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2350] : Fin 1 → IVec S16 32) a x).toNat < S65536.size a)
theorem k2_idx788_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2350 : IVec S16 32) (k2_hw795 : k2_chk795 v58 v127 v196 v265 v334 v403 v472 v541 v610 v679 v748 v817 v886 v955 v1024 v1093 v1162 v1231 v1300 v1369 v1438 v1507 v1576 v1645 v1714 v1783 v1852 v1921 v1990 v2059 v2128 v2197 v2350), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2350] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2350 k2_hw795 k2_h5 => k2_hw795 k2_h5

def k2_chk796 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2367 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2367] : Fin 1 → IVec S16 32) a x).toNat < S65536.size a)
theorem k2_idx789_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2367 : IVec S16 32) (k2_hw796 : k2_chk796 v58 v127 v196 v265 v334 v403 v472 v541 v610 v679 v748 v817 v886 v955 v1024 v1093 v1162 v1231 v1300 v1369 v1438 v1507 v1576 v1645 v1714 v1783 v1852 v1921 v1990 v2059 v2128 v2197 v2367), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2367] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2367 k2_hw796 k2_h5 => k2_hw796 k2_h5

def k2_chk797 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2384 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2384] : Fin 1 → IVec S16 32) a x).toNat < S65536.size a)
theorem k2_idx790_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2384 : IVec S16 32) (k2_hw797 : k2_chk797 v58 v127 v196 v265 v334 v403 v472 v541 v610 v679 v748 v817 v886 v955 v1024 v1093 v1162 v1231 v1300 v1369 v1438 v1507 v1576 v1645 v1714 v1783 v1852 v1921 v1990 v2059 v2128 v2197 v2384), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2384] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2384 k2_hw797 k2_h5 => k2_hw797 k2_h5

def k2_chk798 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2401 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2401] : Fin 1 → IVec S16 32) a x).toNat < S65536.size a)
theorem k2_idx791_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2401 : IVec S16 32) (k2_hw798 : k2_chk798 v58 v127 v196 v265 v334 v403 v472 v541 v610 v679 v748 v817 v886 v955 v1024 v1093 v1162 v1231 v1300 v1369 v1438 v1507 v1576 v1645 v1714 v1783 v1852 v1921 v1990 v2059 v2128 v2197 v2401), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2401] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2401 k2_hw798 k2_h5 => k2_hw798 k2_h5

def k2_chk799 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2418 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2418] : Fin 1 → IVec S16 32) a x).toNat < S65536.size a)
theorem k2_idx792_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2418 : IVec S16 32) (k2_hw799 : k2_chk799 v58 v127 v196 v265 v334 v403 v472 v541 v610 v679 v748 v817 v886 v955 v1024 v1093 v1162 v1231 v1300 v1369 v1438 v1507 v1576 v1645 v1714 v1783 v1852 v1921 v1990 v2059 v2128 v2197 v2418), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2418] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2418 k2_hw799 k2_h5 => k2_hw799 k2_h5

def k2_chk800 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2435 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2435] : Fin 1 → IVec S16 32) a x).toNat < S65536.size a)
theorem k2_idx793_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2435 : IVec S16 32) (k2_hw800 : k2_chk800 v58 v127 v196 v265 v334 v403 v472 v541 v610 v679 v748 v817 v886 v955 v1024 v1093 v1162 v1231 v1300 v1369 v1438 v1507 v1576 v1645 v1714 v1783 v1852 v1921 v1990 v2059 v2128 v2197 v2435), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2435] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2435 k2_hw800 k2_h5 => k2_hw800 k2_h5

def k2_chk801 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2452 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2452] : Fin 1 → IVec S16 32) a x).toNat < S65536.size a)
theorem k2_idx794_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2452 : IVec S16 32) (k2_hw801 : k2_chk801 v58 v127 v196 v265 v334 v403 v472 v541 v610 v679 v748 v817 v886 v955 v1024 v1093 v1162 v1231 v1300 v1369 v1438 v1507 v1576 v1645 v1714 v1783 v1852 v1921 v1990 v2059 v2128 v2197 v2452), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2452] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2452 k2_hw801 k2_h5 => k2_hw801 k2_h5

def k2_chk802 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2469 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2469] : Fin 1 → IVec S16 32) a x).toNat < S65536.size a)
theorem k2_idx795_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2469 : IVec S16 32) (k2_hw802 : k2_chk802 v58 v127 v196 v265 v334 v403 v472 v541 v610 v679 v748 v817 v886 v955 v1024 v1093 v1162 v1231 v1300 v1369 v1438 v1507 v1576 v1645 v1714 v1783 v1852 v1921 v1990 v2059 v2128 v2197 v2469), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2469] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2469 k2_hw802 k2_h5 => k2_hw802 k2_h5

def k2_chk803 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2486 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2486] : Fin 1 → IVec S16 32) a x).toNat < S65536.size a)
theorem k2_idx796_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2486 : IVec S16 32) (k2_hw803 : k2_chk803 v58 v127 v196 v265 v334 v403 v472 v541 v610 v679 v748 v817 v886 v955 v1024 v1093 v1162 v1231 v1300 v1369 v1438 v1507 v1576 v1645 v1714 v1783 v1852 v1921 v1990 v2059 v2128 v2197 v2486), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2486] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2486 k2_hw803 k2_h5 => k2_hw803 k2_h5

def k2_chk804 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2503 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2503] : Fin 1 → IVec S16 32) a x).toNat < S65536.size a)
theorem k2_idx797_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2503 : IVec S16 32) (k2_hw804 : k2_chk804 v58 v127 v196 v265 v334 v403 v472 v541 v610 v679 v748 v817 v886 v955 v1024 v1093 v1162 v1231 v1300 v1369 v1438 v1507 v1576 v1645 v1714 v1783 v1852 v1921 v1990 v2059 v2128 v2197 v2503), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2503] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2503 k2_hw804 k2_h5 => k2_hw804 k2_h5

def k2_chk805 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2520 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2520] : Fin 1 → IVec S16 32) a x).toNat < S65536.size a)
theorem k2_idx798_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2520 : IVec S16 32) (k2_hw805 : k2_chk805 v58 v127 v196 v265 v334 v403 v472 v541 v610 v679 v748 v817 v886 v955 v1024 v1093 v1162 v1231 v1300 v1369 v1438 v1507 v1576 v1645 v1714 v1783 v1852 v1921 v1990 v2059 v2128 v2197 v2520), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2520] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2520 k2_hw805 k2_h5 => k2_hw805 k2_h5

def k2_chk806 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2537 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2537] : Fin 1 → IVec S16 32) a x).toNat < S65536.size a)
theorem k2_idx799_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2537 : IVec S16 32) (k2_hw806 : k2_chk806 v58 v127 v196 v265 v334 v403 v472 v541 v610 v679 v748 v817 v886 v955 v1024 v1093 v1162 v1231 v1300 v1369 v1438 v1507 v1576 v1645 v1714 v1783 v1852 v1921 v1990 v2059 v2128 v2197 v2537), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2537] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2537 k2_hw806 k2_h5 => k2_hw806 k2_h5

def k2_chk807 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2554 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2554] : Fin 1 → IVec S16 32) a x).toNat < S65536.size a)
theorem k2_idx800_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2554 : IVec S16 32) (k2_hw807 : k2_chk807 v58 v127 v196 v265 v334 v403 v472 v541 v610 v679 v748 v817 v886 v955 v1024 v1093 v1162 v1231 v1300 v1369 v1438 v1507 v1576 v1645 v1714 v1783 v1852 v1921 v1990 v2059 v2128 v2197 v2554), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2554] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2554 k2_hw807 k2_h5 => k2_hw807 k2_h5

def k2_chk808 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2571 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2571] : Fin 1 → IVec S16 32) a x).toNat < S65536.size a)
theorem k2_idx801_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2571 : IVec S16 32) (k2_hw808 : k2_chk808 v58 v127 v196 v265 v334 v403 v472 v541 v610 v679 v748 v817 v886 v955 v1024 v1093 v1162 v1231 v1300 v1369 v1438 v1507 v1576 v1645 v1714 v1783 v1852 v1921 v1990 v2059 v2128 v2197 v2571), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2571] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2571 k2_hw808 k2_h5 => k2_hw808 k2_h5

def k2_chk809 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2588 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2588] : Fin 1 → IVec S16 32) a x).toNat < S65536.size a)
theorem k2_idx802_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2588 : IVec S16 32) (k2_hw809 : k2_chk809 v58 v127 v196 v265 v334 v403 v472 v541 v610 v679 v748 v817 v886 v955 v1024 v1093 v1162 v1231 v1300 v1369 v1438 v1507 v1576 v1645 v1714 v1783 v1852 v1921 v1990 v2059 v2128 v2197 v2588), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2588] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2588 k2_hw809 k2_h5 => k2_hw809 k2_h5

def k2_chk810 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2605 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2605] : Fin 1 → IVec S16 32) a x).toNat < S65536.size a)
theorem k2_idx803_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2605 : IVec S16 32) (k2_hw810 : k2_chk810 v58 v127 v196 v265 v334 v403 v472 v541 v610 v679 v748 v817 v886 v955 v1024 v1093 v1162 v1231 v1300 v1369 v1438 v1507 v1576 v1645 v1714 v1783 v1852 v1921 v1990 v2059 v2128 v2197 v2605), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2605] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2605 k2_hw810 k2_h5 => k2_hw810 k2_h5

def k2_chk811 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2622 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2622] : Fin 1 → IVec S16 32) a x).toNat < S65536.size a)
theorem k2_idx804_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2622 : IVec S16 32) (k2_hw811 : k2_chk811 v58 v127 v196 v265 v334 v403 v472 v541 v610 v679 v748 v817 v886 v955 v1024 v1093 v1162 v1231 v1300 v1369 v1438 v1507 v1576 v1645 v1714 v1783 v1852 v1921 v1990 v2059 v2128 v2197 v2622), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2622] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2622 k2_hw811 k2_h5 => k2_hw811 k2_h5

def k2_chk812 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2639 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2639] : Fin 1 → IVec S16 32) a x).toNat < S65536.size a)
theorem k2_idx805_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2639 : IVec S16 32) (k2_hw812 : k2_chk812 v58 v127 v196 v265 v334 v403 v472 v541 v610 v679 v748 v817 v886 v955 v1024 v1093 v1162 v1231 v1300 v1369 v1438 v1507 v1576 v1645 v1714 v1783 v1852 v1921 v1990 v2059 v2128 v2197 v2639), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2639] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2639 k2_hw812 k2_h5 => k2_hw812 k2_h5

def k2_chk813 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2656 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2656] : Fin 1 → IVec S16 32) a x).toNat < S65536.size a)
theorem k2_idx806_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2656 : IVec S16 32) (k2_hw813 : k2_chk813 v58 v127 v196 v265 v334 v403 v472 v541 v610 v679 v748 v817 v886 v955 v1024 v1093 v1162 v1231 v1300 v1369 v1438 v1507 v1576 v1645 v1714 v1783 v1852 v1921 v1990 v2059 v2128 v2197 v2656), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2656] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2656 k2_hw813 k2_h5 => k2_hw813 k2_h5

def k2_chk814 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2673 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2673] : Fin 1 → IVec S16 32) a x).toNat < S65536.size a)
theorem k2_idx807_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2673 : IVec S16 32) (k2_hw814 : k2_chk814 v58 v127 v196 v265 v334 v403 v472 v541 v610 v679 v748 v817 v886 v955 v1024 v1093 v1162 v1231 v1300 v1369 v1438 v1507 v1576 v1645 v1714 v1783 v1852 v1921 v1990 v2059 v2128 v2197 v2673), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2673] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2673 k2_hw814 k2_h5 => k2_hw814 k2_h5

def k2_chk815 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2690 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2690] : Fin 1 → IVec S16 32) a x).toNat < S65536.size a)
theorem k2_idx808_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2690 : IVec S16 32) (k2_hw815 : k2_chk815 v58 v127 v196 v265 v334 v403 v472 v541 v610 v679 v748 v817 v886 v955 v1024 v1093 v1162 v1231 v1300 v1369 v1438 v1507 v1576 v1645 v1714 v1783 v1852 v1921 v1990 v2059 v2128 v2197 v2690), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2690] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2690 k2_hw815 k2_h5 => k2_hw815 k2_h5

def k2_chk816 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2707 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2707] : Fin 1 → IVec S16 32) a x).toNat < S65536.size a)
theorem k2_idx809_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2707 : IVec S16 32) (k2_hw816 : k2_chk816 v58 v127 v196 v265 v334 v403 v472 v541 v610 v679 v748 v817 v886 v955 v1024 v1093 v1162 v1231 v1300 v1369 v1438 v1507 v1576 v1645 v1714 v1783 v1852 v1921 v1990 v2059 v2128 v2197 v2707), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2707] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2707 k2_hw816 k2_h5 => k2_hw816 k2_h5

def k2_chk817 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2724 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2724] : Fin 1 → IVec S16 32) a x).toNat < S65536.size a)
theorem k2_idx810_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2724 : IVec S16 32) (k2_hw817 : k2_chk817 v58 v127 v196 v265 v334 v403 v472 v541 v610 v679 v748 v817 v886 v955 v1024 v1093 v1162 v1231 v1300 v1369 v1438 v1507 v1576 v1645 v1714 v1783 v1852 v1921 v1990 v2059 v2128 v2197 v2724), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2724] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2724 k2_hw817 k2_h5 => k2_hw817 k2_h5

def k2_chk818 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2741 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2741] : Fin 1 → IVec S16 32) a x).toNat < S65536.size a)
theorem k2_idx811_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2741 : IVec S16 32) (k2_hw818 : k2_chk818 v58 v127 v196 v265 v334 v403 v472 v541 v610 v679 v748 v817 v886 v955 v1024 v1093 v1162 v1231 v1300 v1369 v1438 v1507 v1576 v1645 v1714 v1783 v1852 v1921 v1990 v2059 v2128 v2197 v2741), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2741] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2741 k2_hw818 k2_h5 => k2_hw818 k2_h5

def k2_chk819 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2758 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2758] : Fin 1 → IVec S16 32) a x).toNat < S65536.size a)
theorem k2_idx812_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2758 : IVec S16 32) (k2_hw819 : k2_chk819 v58 v127 v196 v265 v334 v403 v472 v541 v610 v679 v748 v817 v886 v955 v1024 v1093 v1162 v1231 v1300 v1369 v1438 v1507 v1576 v1645 v1714 v1783 v1852 v1921 v1990 v2059 v2128 v2197 v2758), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2758] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2758 k2_hw819 k2_h5 => k2_hw819 k2_h5

def k2_chk820 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2775 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2775] : Fin 1 → IVec S16 32) a x).toNat < S65536.size a)
theorem k2_idx813_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2775 : IVec S16 32) (k2_hw820 : k2_chk820 v58 v127 v196 v265 v334 v403 v472 v541 v610 v679 v748 v817 v886 v955 v1024 v1093 v1162 v1231 v1300 v1369 v1438 v1507 v1576 v1645 v1714 v1783 v1852 v1921 v1990 v2059 v2128 v2197 v2775), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2775] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2775 k2_hw820 k2_h5 => k2_hw820 k2_h5

def k2_chk821 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2792 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2792] : Fin 1 → IVec S16 32) a x).toNat < S65536.size a)
theorem k2_idx814_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2792 : IVec S16 32) (k2_hw821 : k2_chk821 v58 v127 v196 v265 v334 v403 v472 v541 v610 v679 v748 v817 v886 v955 v1024 v1093 v1162 v1231 v1300 v1369 v1438 v1507 v1576 v1645 v1714 v1783 v1852 v1921 v1990 v2059 v2128 v2197 v2792), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2792] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2792 k2_hw821 k2_h5 => k2_hw821 k2_h5

def k2_chk822 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2809 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2809] : Fin 1 → IVec S16 32) a x).toNat < S65536.size a)
theorem k2_idx815_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2809 : IVec S16 32) (k2_hw822 : k2_chk822 v58 v127 v196 v265 v334 v403 v472 v541 v610 v679 v748 v817 v886 v955 v1024 v1093 v1162 v1231 v1300 v1369 v1438 v1507 v1576 v1645 v1714 v1783 v1852 v1921 v1990 v2059 v2128 v2197 v2809), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2809] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2809 k2_hw822 k2_h5 => k2_hw822 k2_h5

def k2_chk823 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2826 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2826] : Fin 1 → IVec S16 32) a x).toNat < S65536.size a)
theorem k2_idx816_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2826 : IVec S16 32) (k2_hw823 : k2_chk823 v58 v127 v196 v265 v334 v403 v472 v541 v610 v679 v748 v817 v886 v955 v1024 v1093 v1162 v1231 v1300 v1369 v1438 v1507 v1576 v1645 v1714 v1783 v1852 v1921 v1990 v2059 v2128 v2197 v2826), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2826] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2826 k2_hw823 k2_h5 => k2_hw823 k2_h5

def k2_chk824 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2843 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2843] : Fin 1 → IVec S16 32) a x).toNat < S65536.size a)
theorem k2_idx817_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2843 : IVec S16 32) (k2_hw824 : k2_chk824 v58 v127 v196 v265 v334 v403 v472 v541 v610 v679 v748 v817 v886 v955 v1024 v1093 v1162 v1231 v1300 v1369 v1438 v1507 v1576 v1645 v1714 v1783 v1852 v1921 v1990 v2059 v2128 v2197 v2843), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2843] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2843 k2_hw824 k2_h5 => k2_hw824 k2_h5

def k2_chk825 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2860 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2860] : Fin 1 → IVec S16 32) a x).toNat < S65536.size a)
theorem k2_idx818_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2860 : IVec S16 32) (k2_hw825 : k2_chk825 v58 v127 v196 v265 v334 v403 v472 v541 v610 v679 v748 v817 v886 v955 v1024 v1093 v1162 v1231 v1300 v1369 v1438 v1507 v1576 v1645 v1714 v1783 v1852 v1921 v1990 v2059 v2128 v2197 v2860), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2860] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2860 k2_hw825 k2_h5 => k2_hw825 k2_h5

def k2_chk826 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2877 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2877] : Fin 1 → IVec S16 32) a x).toNat < S65536.size a)
theorem k2_idx819_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2877 : IVec S16 32) (k2_hw826 : k2_chk826 v58 v127 v196 v265 v334 v403 v472 v541 v610 v679 v748 v817 v886 v955 v1024 v1093 v1162 v1231 v1300 v1369 v1438 v1507 v1576 v1645 v1714 v1783 v1852 v1921 v1990 v2059 v2128 v2197 v2877), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2877] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2877 k2_hw826 k2_h5 => k2_hw826 k2_h5

def k2_chk827 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2894 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2894] : Fin 1 → IVec S16 32) a x).toNat < S65536.size a)
theorem k2_idx820_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2894 : IVec S16 32) (k2_hw827 : k2_chk827 v58 v127 v196 v265 v334 v403 v472 v541 v610 v679 v748 v817 v886 v955 v1024 v1093 v1162 v1231 v1300 v1369 v1438 v1507 v1576 v1645 v1714 v1783 v1852 v1921 v1990 v2059 v2128 v2197 v2894), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2894] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2894 k2_hw827 k2_h5 => k2_hw827 k2_h5

def k2_chk828 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2911 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2911] : Fin 1 → IVec S16 32) a x).toNat < S65536.size a)
theorem k2_idx821_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2911 : IVec S16 32) (k2_hw828 : k2_chk828 v58 v127 v196 v265 v334 v403 v472 v541 v610 v679 v748 v817 v886 v955 v1024 v1093 v1162 v1231 v1300 v1369 v1438 v1507 v1576 v1645 v1714 v1783 v1852 v1921 v1990 v2059 v2128 v2197 v2911), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2911] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2911 k2_hw828 k2_h5 => k2_hw828 k2_h5

def k2_chk829 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2928 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2928] : Fin 1 → IVec S16 32) a x).toNat < S65536.size a)
theorem k2_idx822_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2928 : IVec S16 32) (k2_hw829 : k2_chk829 v58 v127 v196 v265 v334 v403 v472 v541 v610 v679 v748 v817 v886 v955 v1024 v1093 v1162 v1231 v1300 v1369 v1438 v1507 v1576 v1645 v1714 v1783 v1852 v1921 v1990 v2059 v2128 v2197 v2928), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2928] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2928 k2_hw829 k2_h5 => k2_hw829 k2_h5

def k2_chk830 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2945 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2945] : Fin 1 → IVec S16 32) a x).toNat < S65536.size a)
theorem k2_idx823_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2945 : IVec S16 32) (k2_hw830 : k2_chk830 v58 v127 v196 v265 v334 v403 v472 v541 v610 v679 v748 v817 v886 v955 v1024 v1093 v1162 v1231 v1300 v1369 v1438 v1507 v1576 v1645 v1714 v1783 v1852 v1921 v1990 v2059 v2128 v2197 v2945), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2945] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2945 k2_hw830 k2_h5 => k2_hw830 k2_h5

def k2_chk831 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2962 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2962] : Fin 1 → IVec S16 32) a x).toNat < S65536.size a)
theorem k2_idx824_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2962 : IVec S16 32) (k2_hw831 : k2_chk831 v58 v127 v196 v265 v334 v403 v472 v541 v610 v679 v748 v817 v886 v955 v1024 v1093 v1162 v1231 v1300 v1369 v1438 v1507 v1576 v1645 v1714 v1783 v1852 v1921 v1990 v2059 v2128 v2197 v2962), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2962] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2962 k2_hw831 k2_h5 => k2_hw831 k2_h5

def k2_chk832 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2979 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2979] : Fin 1 → IVec S16 32) a x).toNat < S65536.size a)
theorem k2_idx825_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2979 : IVec S16 32) (k2_hw832 : k2_chk832 v58 v127 v196 v265 v334 v403 v472 v541 v610 v679 v748 v817 v886 v955 v1024 v1093 v1162 v1231 v1300 v1369 v1438 v1507 v1576 v1645 v1714 v1783 v1852 v1921 v1990 v2059 v2128 v2197 v2979), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2979] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2979 k2_hw832 k2_h5 => k2_hw832 k2_h5

def k2_chk833 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2996 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2996] : Fin 1 → IVec S16 32) a x).toNat < S65536.size a)
theorem k2_idx826_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2996 : IVec S16 32) (k2_hw833 : k2_chk833 v58 v127 v196 v265 v334 v403 v472 v541 v610 v679 v748 v817 v886 v955 v1024 v1093 v1162 v1231 v1300 v1369 v1438 v1507 v1576 v1645 v1714 v1783 v1852 v1921 v1990 v2059 v2128 v2197 v2996), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2996] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2996 k2_hw833 k2_h5 => k2_hw833 k2_h5

def k2_chk834 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3013 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3013] : Fin 1 → IVec S16 32) a x).toNat < S65536.size a)
theorem k2_idx827_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3013 : IVec S16 32) (k2_hw834 : k2_chk834 v58 v127 v196 v265 v334 v403 v472 v541 v610 v679 v748 v817 v886 v955 v1024 v1093 v1162 v1231 v1300 v1369 v1438 v1507 v1576 v1645 v1714 v1783 v1852 v1921 v1990 v2059 v2128 v2197 v3013), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3013] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3013 k2_hw834 k2_h5 => k2_hw834 k2_h5

def k2_chk835 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3030 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3030] : Fin 1 → IVec S16 32) a x).toNat < S65536.size a)
theorem k2_idx828_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3030 : IVec S16 32) (k2_hw835 : k2_chk835 v58 v127 v196 v265 v334 v403 v472 v541 v610 v679 v748 v817 v886 v955 v1024 v1093 v1162 v1231 v1300 v1369 v1438 v1507 v1576 v1645 v1714 v1783 v1852 v1921 v1990 v2059 v2128 v2197 v3030), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3030] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3030 k2_hw835 k2_h5 => k2_hw835 k2_h5

def k2_chk836 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3047 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3047] : Fin 1 → IVec S16 32) a x).toNat < S65536.size a)
theorem k2_idx829_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3047 : IVec S16 32) (k2_hw836 : k2_chk836 v58 v127 v196 v265 v334 v403 v472 v541 v610 v679 v748 v817 v886 v955 v1024 v1093 v1162 v1231 v1300 v1369 v1438 v1507 v1576 v1645 v1714 v1783 v1852 v1921 v1990 v2059 v2128 v2197 v3047), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3047] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3047 k2_hw836 k2_h5 => k2_hw836 k2_h5

def k2_chk837 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3064 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3064] : Fin 1 → IVec S16 32) a x).toNat < S65536.size a)
theorem k2_idx830_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3064 : IVec S16 32) (k2_hw837 : k2_chk837 v58 v127 v196 v265 v334 v403 v472 v541 v610 v679 v748 v817 v886 v955 v1024 v1093 v1162 v1231 v1300 v1369 v1438 v1507 v1576 v1645 v1714 v1783 v1852 v1921 v1990 v2059 v2128 v2197 v3064), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3064] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3064 k2_hw837 k2_h5 => k2_hw837 k2_h5

def k2_chk838 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3081 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3081] : Fin 1 → IVec S16 32) a x).toNat < S65536.size a)
theorem k2_idx831_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3081 : IVec S16 32) (k2_hw838 : k2_chk838 v58 v127 v196 v265 v334 v403 v472 v541 v610 v679 v748 v817 v886 v955 v1024 v1093 v1162 v1231 v1300 v1369 v1438 v1507 v1576 v1645 v1714 v1783 v1852 v1921 v1990 v2059 v2128 v2197 v3081), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3081] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3081 k2_hw838 k2_h5 => k2_hw838 k2_h5

def k2_chk839 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3098 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3098] : Fin 1 → IVec S16 32) a x).toNat < S65536.size a)
theorem k2_idx832_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3098 : IVec S16 32) (k2_hw839 : k2_chk839 v58 v127 v196 v265 v334 v403 v472 v541 v610 v679 v748 v817 v886 v955 v1024 v1093 v1162 v1231 v1300 v1369 v1438 v1507 v1576 v1645 v1714 v1783 v1852 v1921 v1990 v2059 v2128 v2197 v3098), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3098] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3098 k2_hw839 k2_h5 => k2_hw839 k2_h5

def k2_chk840 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3115 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3115] : Fin 1 → IVec S16 32) a x).toNat < S65536.size a)
theorem k2_idx833_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3115 : IVec S16 32) (k2_hw840 : k2_chk840 v58 v127 v196 v265 v334 v403 v472 v541 v610 v679 v748 v817 v886 v955 v1024 v1093 v1162 v1231 v1300 v1369 v1438 v1507 v1576 v1645 v1714 v1783 v1852 v1921 v1990 v2059 v2128 v2197 v3115), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3115] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3115 k2_hw840 k2_h5 => k2_hw840 k2_h5

def k2_chk841 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3132 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3132] : Fin 1 → IVec S16 32) a x).toNat < S65536.size a)
theorem k2_idx834_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3132 : IVec S16 32) (k2_hw841 : k2_chk841 v58 v127 v196 v265 v334 v403 v472 v541 v610 v679 v748 v817 v886 v955 v1024 v1093 v1162 v1231 v1300 v1369 v1438 v1507 v1576 v1645 v1714 v1783 v1852 v1921 v1990 v2059 v2128 v2197 v3132), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3132] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3132 k2_hw841 k2_h5 => k2_hw841 k2_h5

def k2_chk842 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3149 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3149] : Fin 1 → IVec S16 32) a x).toNat < S65536.size a)
theorem k2_idx835_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3149 : IVec S16 32) (k2_hw842 : k2_chk842 v58 v127 v196 v265 v334 v403 v472 v541 v610 v679 v748 v817 v886 v955 v1024 v1093 v1162 v1231 v1300 v1369 v1438 v1507 v1576 v1645 v1714 v1783 v1852 v1921 v1990 v2059 v2128 v2197 v3149), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3149] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3149 k2_hw842 k2_h5 => k2_hw842 k2_h5

def k2_chk843 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3166 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3166] : Fin 1 → IVec S16 32) a x).toNat < S65536.size a)
theorem k2_idx836_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3166 : IVec S16 32) (k2_hw843 : k2_chk843 v58 v127 v196 v265 v334 v403 v472 v541 v610 v679 v748 v817 v886 v955 v1024 v1093 v1162 v1231 v1300 v1369 v1438 v1507 v1576 v1645 v1714 v1783 v1852 v1921 v1990 v2059 v2128 v2197 v3166), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3166] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3166 k2_hw843 k2_h5 => k2_hw843 k2_h5

def k2_chk844 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3183 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3183] : Fin 1 → IVec S16 32) a x).toNat < S65536.size a)
theorem k2_idx837_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3183 : IVec S16 32) (k2_hw844 : k2_chk844 v58 v127 v196 v265 v334 v403 v472 v541 v610 v679 v748 v817 v886 v955 v1024 v1093 v1162 v1231 v1300 v1369 v1438 v1507 v1576 v1645 v1714 v1783 v1852 v1921 v1990 v2059 v2128 v2197 v3183), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3183] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3183 k2_hw844 k2_h5 => k2_hw844 k2_h5

def k2_chk845 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3200 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3200] : Fin 1 → IVec S16 32) a x).toNat < S65536.size a)
theorem k2_idx838_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3200 : IVec S16 32) (k2_hw845 : k2_chk845 v58 v127 v196 v265 v334 v403 v472 v541 v610 v679 v748 v817 v886 v955 v1024 v1093 v1162 v1231 v1300 v1369 v1438 v1507 v1576 v1645 v1714 v1783 v1852 v1921 v1990 v2059 v2128 v2197 v3200), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3200] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3200 k2_hw845 k2_h5 => k2_hw845 k2_h5

def k2_chk846 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3217 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3217] : Fin 1 → IVec S16 32) a x).toNat < S65536.size a)
theorem k2_idx839_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3217 : IVec S16 32) (k2_hw846 : k2_chk846 v58 v127 v196 v265 v334 v403 v472 v541 v610 v679 v748 v817 v886 v955 v1024 v1093 v1162 v1231 v1300 v1369 v1438 v1507 v1576 v1645 v1714 v1783 v1852 v1921 v1990 v2059 v2128 v2197 v3217), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3217] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3217 k2_hw846 k2_h5 => k2_hw846 k2_h5

def k2_chk847 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3234 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3234] : Fin 1 → IVec S16 32) a x).toNat < S65536.size a)
theorem k2_idx840_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3234 : IVec S16 32) (k2_hw847 : k2_chk847 v58 v127 v196 v265 v334 v403 v472 v541 v610 v679 v748 v817 v886 v955 v1024 v1093 v1162 v1231 v1300 v1369 v1438 v1507 v1576 v1645 v1714 v1783 v1852 v1921 v1990 v2059 v2128 v2197 v3234), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3234] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3234 k2_hw847 k2_h5 => k2_hw847 k2_h5

def k2_chk848 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3251 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3251] : Fin 1 → IVec S16 32) a x).toNat < S65536.size a)
theorem k2_idx841_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3251 : IVec S16 32) (k2_hw848 : k2_chk848 v58 v127 v196 v265 v334 v403 v472 v541 v610 v679 v748 v817 v886 v955 v1024 v1093 v1162 v1231 v1300 v1369 v1438 v1507 v1576 v1645 v1714 v1783 v1852 v1921 v1990 v2059 v2128 v2197 v3251), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3251] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3251 k2_hw848 k2_h5 => k2_hw848 k2_h5

def k2_chk849 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3268 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3268] : Fin 1 → IVec S16 32) a x).toNat < S65536.size a)
theorem k2_idx842_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3268 : IVec S16 32) (k2_hw849 : k2_chk849 v58 v127 v196 v265 v334 v403 v472 v541 v610 v679 v748 v817 v886 v955 v1024 v1093 v1162 v1231 v1300 v1369 v1438 v1507 v1576 v1645 v1714 v1783 v1852 v1921 v1990 v2059 v2128 v2197 v3268), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3268] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3268 k2_hw849 k2_h5 => k2_hw849 k2_h5

def k2_chk850 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3285 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3285] : Fin 1 → IVec S16 32) a x).toNat < S65536.size a)
theorem k2_idx843_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3285 : IVec S16 32) (k2_hw850 : k2_chk850 v58 v127 v196 v265 v334 v403 v472 v541 v610 v679 v748 v817 v886 v955 v1024 v1093 v1162 v1231 v1300 v1369 v1438 v1507 v1576 v1645 v1714 v1783 v1852 v1921 v1990 v2059 v2128 v2197 v3285), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3285] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3285 k2_hw850 k2_h5 => k2_hw850 k2_h5

def k2_chk851 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3302 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3302] : Fin 1 → IVec S16 32) a x).toNat < S65536.size a)
theorem k2_idx844_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3302 : IVec S16 32) (k2_hw851 : k2_chk851 v58 v127 v196 v265 v334 v403 v472 v541 v610 v679 v748 v817 v886 v955 v1024 v1093 v1162 v1231 v1300 v1369 v1438 v1507 v1576 v1645 v1714 v1783 v1852 v1921 v1990 v2059 v2128 v2197 v3302), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3302] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3302 k2_hw851 k2_h5 => k2_hw851 k2_h5

def k2_chk852 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3319 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3319] : Fin 1 → IVec S16 32) a x).toNat < S65536.size a)
theorem k2_idx845_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3319 : IVec S16 32) (k2_hw852 : k2_chk852 v58 v127 v196 v265 v334 v403 v472 v541 v610 v679 v748 v817 v886 v955 v1024 v1093 v1162 v1231 v1300 v1369 v1438 v1507 v1576 v1645 v1714 v1783 v1852 v1921 v1990 v2059 v2128 v2197 v3319), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3319] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3319 k2_hw852 k2_h5 => k2_hw852 k2_h5

def k2_chk853 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3336 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3336] : Fin 1 → IVec S16 32) a x).toNat < S65536.size a)
theorem k2_idx846_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3336 : IVec S16 32) (k2_hw853 : k2_chk853 v58 v127 v196 v265 v334 v403 v472 v541 v610 v679 v748 v817 v886 v955 v1024 v1093 v1162 v1231 v1300 v1369 v1438 v1507 v1576 v1645 v1714 v1783 v1852 v1921 v1990 v2059 v2128 v2197 v3336), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3336] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3336 k2_hw853 k2_h5 => k2_hw853 k2_h5

def k2_chk854 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3353 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3353] : Fin 1 → IVec S16 32) a x).toNat < S65536.size a)
theorem k2_idx847_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3353 : IVec S16 32) (k2_hw854 : k2_chk854 v58 v127 v196 v265 v334 v403 v472 v541 v610 v679 v748 v817 v886 v955 v1024 v1093 v1162 v1231 v1300 v1369 v1438 v1507 v1576 v1645 v1714 v1783 v1852 v1921 v1990 v2059 v2128 v2197 v3353), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3353] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3353 k2_hw854 k2_h5 => k2_hw854 k2_h5

def k2_chk855 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3370 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3370] : Fin 1 → IVec S16 32) a x).toNat < S65536.size a)
theorem k2_idx848_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3370 : IVec S16 32) (k2_hw855 : k2_chk855 v58 v127 v196 v265 v334 v403 v472 v541 v610 v679 v748 v817 v886 v955 v1024 v1093 v1162 v1231 v1300 v1369 v1438 v1507 v1576 v1645 v1714 v1783 v1852 v1921 v1990 v2059 v2128 v2197 v3370), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3370] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3370 k2_hw855 k2_h5 => k2_hw855 k2_h5

def k2_chk856 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3387 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3387] : Fin 1 → IVec S16 32) a x).toNat < S65536.size a)
theorem k2_idx849_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3387 : IVec S16 32) (k2_hw856 : k2_chk856 v58 v127 v196 v265 v334 v403 v472 v541 v610 v679 v748 v817 v886 v955 v1024 v1093 v1162 v1231 v1300 v1369 v1438 v1507 v1576 v1645 v1714 v1783 v1852 v1921 v1990 v2059 v2128 v2197 v3387), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3387] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3387 k2_hw856 k2_h5 => k2_hw856 k2_h5

def k2_chk857 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3404 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3404] : Fin 1 → IVec S16 32) a x).toNat < S65536.size a)
theorem k2_idx850_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3404 : IVec S16 32) (k2_hw857 : k2_chk857 v58 v127 v196 v265 v334 v403 v472 v541 v610 v679 v748 v817 v886 v955 v1024 v1093 v1162 v1231 v1300 v1369 v1438 v1507 v1576 v1645 v1714 v1783 v1852 v1921 v1990 v2059 v2128 v2197 v3404), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3404] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3404 k2_hw857 k2_h5 => k2_hw857 k2_h5

def k2_chk858 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3421 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3421] : Fin 1 → IVec S16 32) a x).toNat < S65536.size a)
theorem k2_idx851_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3421 : IVec S16 32) (k2_hw858 : k2_chk858 v58 v127 v196 v265 v334 v403 v472 v541 v610 v679 v748 v817 v886 v955 v1024 v1093 v1162 v1231 v1300 v1369 v1438 v1507 v1576 v1645 v1714 v1783 v1852 v1921 v1990 v2059 v2128 v2197 v3421), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3421] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3421 k2_hw858 k2_h5 => k2_hw858 k2_h5

def k2_chk859 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3438 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3438] : Fin 1 → IVec S16 32) a x).toNat < S65536.size a)
theorem k2_idx852_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3438 : IVec S16 32) (k2_hw859 : k2_chk859 v58 v127 v196 v265 v334 v403 v472 v541 v610 v679 v748 v817 v886 v955 v1024 v1093 v1162 v1231 v1300 v1369 v1438 v1507 v1576 v1645 v1714 v1783 v1852 v1921 v1990 v2059 v2128 v2197 v3438), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3438] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3438 k2_hw859 k2_h5 => k2_hw859 k2_h5

def k2_chk860 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3455 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3455] : Fin 1 → IVec S16 32) a x).toNat < S65536.size a)
theorem k2_idx853_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3455 : IVec S16 32) (k2_hw860 : k2_chk860 v58 v127 v196 v265 v334 v403 v472 v541 v610 v679 v748 v817 v886 v955 v1024 v1093 v1162 v1231 v1300 v1369 v1438 v1507 v1576 v1645 v1714 v1783 v1852 v1921 v1990 v2059 v2128 v2197 v3455), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3455] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3455 k2_hw860 k2_h5 => k2_hw860 k2_h5

def k2_chk861 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3472 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3472] : Fin 1 → IVec S16 32) a x).toNat < S65536.size a)
theorem k2_idx854_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3472 : IVec S16 32) (k2_hw861 : k2_chk861 v58 v127 v196 v265 v334 v403 v472 v541 v610 v679 v748 v817 v886 v955 v1024 v1093 v1162 v1231 v1300 v1369 v1438 v1507 v1576 v1645 v1714 v1783 v1852 v1921 v1990 v2059 v2128 v2197 v3472), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3472] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3472 k2_hw861 k2_h5 => k2_hw861 k2_h5

def k2_chk862 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3489 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3489] : Fin 1 → IVec S16 32) a x).toNat < S65536.size a)
theorem k2_idx855_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3489 : IVec S16 32) (k2_hw862 : k2_chk862 v58 v127 v196 v265 v334 v403 v472 v541 v610 v679 v748 v817 v886 v955 v1024 v1093 v1162 v1231 v1300 v1369 v1438 v1507 v1576 v1645 v1714 v1783 v1852 v1921 v1990 v2059 v2128 v2197 v3489), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3489] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3489 k2_hw862 k2_h5 => k2_hw862 k2_h5

def k2_chk863 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3506 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3506] : Fin 1 → IVec S16 32) a x).toNat < S65536.size a)
theorem k2_idx856_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3506 : IVec S16 32) (k2_hw863 : k2_chk863 v58 v127 v196 v265 v334 v403 v472 v541 v610 v679 v748 v817 v886 v955 v1024 v1093 v1162 v1231 v1300 v1369 v1438 v1507 v1576 v1645 v1714 v1783 v1852 v1921 v1990 v2059 v2128 v2197 v3506), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3506] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3506 k2_hw863 k2_h5 => k2_hw863 k2_h5

def k2_chk864 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3523 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3523] : Fin 1 → IVec S16 32) a x).toNat < S65536.size a)
theorem k2_idx857_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3523 : IVec S16 32) (k2_hw864 : k2_chk864 v58 v127 v196 v265 v334 v403 v472 v541 v610 v679 v748 v817 v886 v955 v1024 v1093 v1162 v1231 v1300 v1369 v1438 v1507 v1576 v1645 v1714 v1783 v1852 v1921 v1990 v2059 v2128 v2197 v3523), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3523] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3523 k2_hw864 k2_h5 => k2_hw864 k2_h5

def k2_chk865 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3540 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3540] : Fin 1 → IVec S16 32) a x).toNat < S65536.size a)
theorem k2_idx858_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3540 : IVec S16 32) (k2_hw865 : k2_chk865 v58 v127 v196 v265 v334 v403 v472 v541 v610 v679 v748 v817 v886 v955 v1024 v1093 v1162 v1231 v1300 v1369 v1438 v1507 v1576 v1645 v1714 v1783 v1852 v1921 v1990 v2059 v2128 v2197 v3540), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3540] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3540 k2_hw865 k2_h5 => k2_hw865 k2_h5

variable {F : FTy → Type} [FloatOps F]

def k2_chk866 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3557 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3557] : Fin 1 → IVec S16 32) a x).toNat < S65536.size a)
theorem k2_idx859_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3557 : IVec S16 32) (k2_hw866 : k2_chk866 v58 v127 v196 v265 v334 v403 v472 v541 v610 v679 v748 v817 v886 v955 v1024 v1093 v1162 v1231 v1300 v1369 v1438 v1507 v1576 v1645 v1714 v1783 v1852 v1921 v1990 v2059 v2128 v2197 v3557), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3557] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3557 k2_hw866 k2_h5 => k2_hw866 k2_h5

def k2_chk867 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3574 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3574] : Fin 1 → IVec S16 32) a x).toNat < S65536.size a)
theorem k2_idx860_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3574 : IVec S16 32) (k2_hw867 : k2_chk867 v58 v127 v196 v265 v334 v403 v472 v541 v610 v679 v748 v817 v886 v955 v1024 v1093 v1162 v1231 v1300 v1369 v1438 v1507 v1576 v1645 v1714 v1783 v1852 v1921 v1990 v2059 v2128 v2197 v3574), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3574] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3574 k2_hw867 k2_h5 => k2_hw867 k2_h5

def k2_chk868 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3591 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3591] : Fin 1 → IVec S16 32) a x).toNat < S65536.size a)
theorem k2_idx861_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3591 : IVec S16 32) (k2_hw868 : k2_chk868 v58 v127 v196 v265 v334 v403 v472 v541 v610 v679 v748 v817 v886 v955 v1024 v1093 v1162 v1231 v1300 v1369 v1438 v1507 v1576 v1645 v1714 v1783 v1852 v1921 v1990 v2059 v2128 v2197 v3591), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3591] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3591 k2_hw868 k2_h5 => k2_hw868 k2_h5

def k2_chk869 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3608 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3608] : Fin 1 → IVec S16 32) a x).toNat < S65536.size a)
theorem k2_idx862_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3608 : IVec S16 32) (k2_hw869 : k2_chk869 v58 v127 v196 v265 v334 v403 v472 v541 v610 v679 v748 v817 v886 v955 v1024 v1093 v1162 v1231 v1300 v1369 v1438 v1507 v1576 v1645 v1714 v1783 v1852 v1921 v1990 v2059 v2128 v2197 v3608), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3608] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3608 k2_hw869 k2_h5 => k2_hw869 k2_h5

def k2_chk870 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3625 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3625] : Fin 1 → IVec S16 32) a x).toNat < S65536.size a)
theorem k2_idx863_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3625 : IVec S16 32) (k2_hw870 : k2_chk870 v58 v127 v196 v265 v334 v403 v472 v541 v610 v679 v748 v817 v886 v955 v1024 v1093 v1162 v1231 v1300 v1369 v1438 v1507 v1576 v1645 v1714 v1783 v1852 v1921 v1990 v2059 v2128 v2197 v3625), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3625] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3625 k2_hw870 k2_h5 => k2_hw870 k2_h5

def k2_chk871 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3642 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3642] : Fin 1 → IVec S16 32) a x).toNat < S65536.size a)
theorem k2_idx864_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3642 : IVec S16 32) (k2_hw871 : k2_chk871 v58 v127 v196 v265 v334 v403 v472 v541 v610 v679 v748 v817 v886 v955 v1024 v1093 v1162 v1231 v1300 v1369 v1438 v1507 v1576 v1645 v1714 v1783 v1852 v1921 v1990 v2059 v2128 v2197 v3642), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3642] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3642 k2_hw871 k2_h5 => k2_hw871 k2_h5

def k2_chk872 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3659 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3659] : Fin 1 → IVec S16 32) a x).toNat < S65536.size a)
theorem k2_idx865_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3659 : IVec S16 32) (k2_hw872 : k2_chk872 v58 v127 v196 v265 v334 v403 v472 v541 v610 v679 v748 v817 v886 v955 v1024 v1093 v1162 v1231 v1300 v1369 v1438 v1507 v1576 v1645 v1714 v1783 v1852 v1921 v1990 v2059 v2128 v2197 v3659), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3659] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3659 k2_hw872 k2_h5 => k2_hw872 k2_h5

def k2_chk873 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3676 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3676] : Fin 1 → IVec S16 32) a x).toNat < S65536.size a)
theorem k2_idx866_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3676 : IVec S16 32) (k2_hw873 : k2_chk873 v58 v127 v196 v265 v334 v403 v472 v541 v610 v679 v748 v817 v886 v955 v1024 v1093 v1162 v1231 v1300 v1369 v1438 v1507 v1576 v1645 v1714 v1783 v1852 v1921 v1990 v2059 v2128 v2197 v3676), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3676] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3676 k2_hw873 k2_h5 => k2_hw873 k2_h5

def k2_chk874 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3693 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3693] : Fin 1 → IVec S16 32) a x).toNat < S65536.size a)
theorem k2_idx867_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3693 : IVec S16 32) (k2_hw874 : k2_chk874 v58 v127 v196 v265 v334 v403 v472 v541 v610 v679 v748 v817 v886 v955 v1024 v1093 v1162 v1231 v1300 v1369 v1438 v1507 v1576 v1645 v1714 v1783 v1852 v1921 v1990 v2059 v2128 v2197 v3693), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3693] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3693 k2_hw874 k2_h5 => k2_hw874 k2_h5

def k2_chk875 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3710 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3710] : Fin 1 → IVec S16 32) a x).toNat < S65536.size a)
theorem k2_idx868_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3710 : IVec S16 32) (k2_hw875 : k2_chk875 v58 v127 v196 v265 v334 v403 v472 v541 v610 v679 v748 v817 v886 v955 v1024 v1093 v1162 v1231 v1300 v1369 v1438 v1507 v1576 v1645 v1714 v1783 v1852 v1921 v1990 v2059 v2128 v2197 v3710), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3710] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3710 k2_hw875 k2_h5 => k2_hw875 k2_h5

def k2_chk876 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3727 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3727] : Fin 1 → IVec S16 32) a x).toNat < S65536.size a)
theorem k2_idx869_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3727 : IVec S16 32) (k2_hw876 : k2_chk876 v58 v127 v196 v265 v334 v403 v472 v541 v610 v679 v748 v817 v886 v955 v1024 v1093 v1162 v1231 v1300 v1369 v1438 v1507 v1576 v1645 v1714 v1783 v1852 v1921 v1990 v2059 v2128 v2197 v3727), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3727] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3727 k2_hw876 k2_h5 => k2_hw876 k2_h5

def k2_chk877 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3744 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3744] : Fin 1 → IVec S16 32) a x).toNat < S65536.size a)
theorem k2_idx870_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3744 : IVec S16 32) (k2_hw877 : k2_chk877 v58 v127 v196 v265 v334 v403 v472 v541 v610 v679 v748 v817 v886 v955 v1024 v1093 v1162 v1231 v1300 v1369 v1438 v1507 v1576 v1645 v1714 v1783 v1852 v1921 v1990 v2059 v2128 v2197 v3744), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3744] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3744 k2_hw877 k2_h5 => k2_hw877 k2_h5

def k2_chk878 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3761 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3761] : Fin 1 → IVec S16 32) a x).toNat < S65536.size a)
theorem k2_idx871_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3761 : IVec S16 32) (k2_hw878 : k2_chk878 v58 v127 v196 v265 v334 v403 v472 v541 v610 v679 v748 v817 v886 v955 v1024 v1093 v1162 v1231 v1300 v1369 v1438 v1507 v1576 v1645 v1714 v1783 v1852 v1921 v1990 v2059 v2128 v2197 v3761), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3761] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3761 k2_hw878 k2_h5 => k2_hw878 k2_h5

def k2_chk879 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3778 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3778] : Fin 1 → IVec S16 32) a x).toNat < S65536.size a)
theorem k2_idx872_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3778 : IVec S16 32) (k2_hw879 : k2_chk879 v58 v127 v196 v265 v334 v403 v472 v541 v610 v679 v748 v817 v886 v955 v1024 v1093 v1162 v1231 v1300 v1369 v1438 v1507 v1576 v1645 v1714 v1783 v1852 v1921 v1990 v2059 v2128 v2197 v3778), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3778] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3778 k2_hw879 k2_h5 => k2_hw879 k2_h5

def k2_chk880 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3795 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3795] : Fin 1 → IVec S16 32) a x).toNat < S65536.size a)
theorem k2_idx873_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3795 : IVec S16 32) (k2_hw880 : k2_chk880 v58 v127 v196 v265 v334 v403 v472 v541 v610 v679 v748 v817 v886 v955 v1024 v1093 v1162 v1231 v1300 v1369 v1438 v1507 v1576 v1645 v1714 v1783 v1852 v1921 v1990 v2059 v2128 v2197 v3795), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3795] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3795 k2_hw880 k2_h5 => k2_hw880 k2_h5

def k2_chk881 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3812 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3812] : Fin 1 → IVec S16 32) a x).toNat < S65536.size a)
theorem k2_idx874_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3812 : IVec S16 32) (k2_hw881 : k2_chk881 v58 v127 v196 v265 v334 v403 v472 v541 v610 v679 v748 v817 v886 v955 v1024 v1093 v1162 v1231 v1300 v1369 v1438 v1507 v1576 v1645 v1714 v1783 v1852 v1921 v1990 v2059 v2128 v2197 v3812), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3812] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3812 k2_hw881 k2_h5 => k2_hw881 k2_h5

def k2_chk882 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3829 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3829] : Fin 1 → IVec S16 32) a x).toNat < S65536.size a)
theorem k2_idx875_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3829 : IVec S16 32) (k2_hw882 : k2_chk882 v58 v127 v196 v265 v334 v403 v472 v541 v610 v679 v748 v817 v886 v955 v1024 v1093 v1162 v1231 v1300 v1369 v1438 v1507 v1576 v1645 v1714 v1783 v1852 v1921 v1990 v2059 v2128 v2197 v3829), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3829] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3829 k2_hw882 k2_h5 => k2_hw882 k2_h5

def k2_chk883 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3846 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3846] : Fin 1 → IVec S16 32) a x).toNat < S65536.size a)
theorem k2_idx876_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3846 : IVec S16 32) (k2_hw883 : k2_chk883 v58 v127 v196 v265 v334 v403 v472 v541 v610 v679 v748 v817 v886 v955 v1024 v1093 v1162 v1231 v1300 v1369 v1438 v1507 v1576 v1645 v1714 v1783 v1852 v1921 v1990 v2059 v2128 v2197 v3846), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3846] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3846 k2_hw883 k2_h5 => k2_hw883 k2_h5

def k2_chk884 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3863 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3863] : Fin 1 → IVec S16 32) a x).toNat < S65536.size a)
theorem k2_idx877_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3863 : IVec S16 32) (k2_hw884 : k2_chk884 v58 v127 v196 v265 v334 v403 v472 v541 v610 v679 v748 v817 v886 v955 v1024 v1093 v1162 v1231 v1300 v1369 v1438 v1507 v1576 v1645 v1714 v1783 v1852 v1921 v1990 v2059 v2128 v2197 v3863), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3863] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3863 k2_hw884 k2_h5 => k2_hw884 k2_h5

def k2_chk885 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3880 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3880] : Fin 1 → IVec S16 32) a x).toNat < S65536.size a)
theorem k2_idx878_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3880 : IVec S16 32) (k2_hw885 : k2_chk885 v58 v127 v196 v265 v334 v403 v472 v541 v610 v679 v748 v817 v886 v955 v1024 v1093 v1162 v1231 v1300 v1369 v1438 v1507 v1576 v1645 v1714 v1783 v1852 v1921 v1990 v2059 v2128 v2197 v3880), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3880] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3880 k2_hw885 k2_h5 => k2_hw885 k2_h5

def k2_chk886 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3897 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3897] : Fin 1 → IVec S16 32) a x).toNat < S65536.size a)
theorem k2_idx879_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3897 : IVec S16 32) (k2_hw886 : k2_chk886 v58 v127 v196 v265 v334 v403 v472 v541 v610 v679 v748 v817 v886 v955 v1024 v1093 v1162 v1231 v1300 v1369 v1438 v1507 v1576 v1645 v1714 v1783 v1852 v1921 v1990 v2059 v2128 v2197 v3897), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3897] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3897 k2_hw886 k2_h5 => k2_hw886 k2_h5

def k2_chk887 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3914 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3914] : Fin 1 → IVec S16 32) a x).toNat < S65536.size a)
theorem k2_idx880_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3914 : IVec S16 32) (k2_hw887 : k2_chk887 v58 v127 v196 v265 v334 v403 v472 v541 v610 v679 v748 v817 v886 v955 v1024 v1093 v1162 v1231 v1300 v1369 v1438 v1507 v1576 v1645 v1714 v1783 v1852 v1921 v1990 v2059 v2128 v2197 v3914), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3914] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3914 k2_hw887 k2_h5 => k2_hw887 k2_h5

def k2_chk888 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3931 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3931] : Fin 1 → IVec S16 32) a x).toNat < S65536.size a)
theorem k2_idx881_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3931 : IVec S16 32) (k2_hw888 : k2_chk888 v58 v127 v196 v265 v334 v403 v472 v541 v610 v679 v748 v817 v886 v955 v1024 v1093 v1162 v1231 v1300 v1369 v1438 v1507 v1576 v1645 v1714 v1783 v1852 v1921 v1990 v2059 v2128 v2197 v3931), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3931] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3931 k2_hw888 k2_h5 => k2_hw888 k2_h5

def k2_chk889 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3948 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3948] : Fin 1 → IVec S16 32) a x).toNat < S65536.size a)
theorem k2_idx882_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3948 : IVec S16 32) (k2_hw889 : k2_chk889 v58 v127 v196 v265 v334 v403 v472 v541 v610 v679 v748 v817 v886 v955 v1024 v1093 v1162 v1231 v1300 v1369 v1438 v1507 v1576 v1645 v1714 v1783 v1852 v1921 v1990 v2059 v2128 v2197 v3948), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3948] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3948 k2_hw889 k2_h5 => k2_hw889 k2_h5

def k2_chk890 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3965 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3965] : Fin 1 → IVec S16 32) a x).toNat < S65536.size a)
theorem k2_idx883_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3965 : IVec S16 32) (k2_hw890 : k2_chk890 v58 v127 v196 v265 v334 v403 v472 v541 v610 v679 v748 v817 v886 v955 v1024 v1093 v1162 v1231 v1300 v1369 v1438 v1507 v1576 v1645 v1714 v1783 v1852 v1921 v1990 v2059 v2128 v2197 v3965), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3965] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3965 k2_hw890 k2_h5 => k2_hw890 k2_h5

def k2_chk891 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3982 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3982] : Fin 1 → IVec S16 32) a x).toNat < S65536.size a)
theorem k2_idx884_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3982 : IVec S16 32) (k2_hw891 : k2_chk891 v58 v127 v196 v265 v334 v403 v472 v541 v610 v679 v748 v817 v886 v955 v1024 v1093 v1162 v1231 v1300 v1369 v1438 v1507 v1576 v1645 v1714 v1783 v1852 v1921 v1990 v2059 v2128 v2197 v3982), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3982] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3982 k2_hw891 k2_h5 => k2_hw891 k2_h5

def k2_chk892 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3999 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3999] : Fin 1 → IVec S16 32) a x).toNat < S65536.size a)
theorem k2_idx885_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3999 : IVec S16 32) (k2_hw892 : k2_chk892 v58 v127 v196 v265 v334 v403 v472 v541 v610 v679 v748 v817 v886 v955 v1024 v1093 v1162 v1231 v1300 v1369 v1438 v1507 v1576 v1645 v1714 v1783 v1852 v1921 v1990 v2059 v2128 v2197 v3999), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3999] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3999 k2_hw892 k2_h5 => k2_hw892 k2_h5

def k2_chk893 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4016 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4016] : Fin 1 → IVec S16 32) a x).toNat < S65536.size a)
theorem k2_idx886_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4016 : IVec S16 32) (k2_hw893 : k2_chk893 v58 v127 v196 v265 v334 v403 v472 v541 v610 v679 v748 v817 v886 v955 v1024 v1093 v1162 v1231 v1300 v1369 v1438 v1507 v1576 v1645 v1714 v1783 v1852 v1921 v1990 v2059 v2128 v2197 v4016), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4016] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4016 k2_hw893 k2_h5 => k2_hw893 k2_h5

def k2_chk894 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4033 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4033] : Fin 1 → IVec S16 32) a x).toNat < S65536.size a)
theorem k2_idx887_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4033 : IVec S16 32) (k2_hw894 : k2_chk894 v58 v127 v196 v265 v334 v403 v472 v541 v610 v679 v748 v817 v886 v955 v1024 v1093 v1162 v1231 v1300 v1369 v1438 v1507 v1576 v1645 v1714 v1783 v1852 v1921 v1990 v2059 v2128 v2197 v4033), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4033] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4033 k2_hw894 k2_h5 => k2_hw894 k2_h5

def k2_chk895 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4050 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4050] : Fin 1 → IVec S16 32) a x).toNat < S65536.size a)
theorem k2_idx888_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4050 : IVec S16 32) (k2_hw895 : k2_chk895 v58 v127 v196 v265 v334 v403 v472 v541 v610 v679 v748 v817 v886 v955 v1024 v1093 v1162 v1231 v1300 v1369 v1438 v1507 v1576 v1645 v1714 v1783 v1852 v1921 v1990 v2059 v2128 v2197 v4050), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4050] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4050 k2_hw895 k2_h5 => k2_hw895 k2_h5

def k2_chk896 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4067 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4067] : Fin 1 → IVec S16 32) a x).toNat < S65536.size a)
theorem k2_idx889_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4067 : IVec S16 32) (k2_hw896 : k2_chk896 v58 v127 v196 v265 v334 v403 v472 v541 v610 v679 v748 v817 v886 v955 v1024 v1093 v1162 v1231 v1300 v1369 v1438 v1507 v1576 v1645 v1714 v1783 v1852 v1921 v1990 v2059 v2128 v2197 v4067), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4067] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4067 k2_hw896 k2_h5 => k2_hw896 k2_h5

def k2_chk897 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4084 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4084] : Fin 1 → IVec S16 32) a x).toNat < S65536.size a)
theorem k2_idx890_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4084 : IVec S16 32) (k2_hw897 : k2_chk897 v58 v127 v196 v265 v334 v403 v472 v541 v610 v679 v748 v817 v886 v955 v1024 v1093 v1162 v1231 v1300 v1369 v1438 v1507 v1576 v1645 v1714 v1783 v1852 v1921 v1990 v2059 v2128 v2197 v4084), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4084] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4084 k2_hw897 k2_h5 => k2_hw897 k2_h5

def k2_chk898 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4101 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4101] : Fin 1 → IVec S16 32) a x).toNat < S65536.size a)
theorem k2_idx891_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4101 : IVec S16 32) (k2_hw898 : k2_chk898 v58 v127 v196 v265 v334 v403 v472 v541 v610 v679 v748 v817 v886 v955 v1024 v1093 v1162 v1231 v1300 v1369 v1438 v1507 v1576 v1645 v1714 v1783 v1852 v1921 v1990 v2059 v2128 v2197 v4101), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4101] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4101 k2_hw898 k2_h5 => k2_hw898 k2_h5

def k2_chk899 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4118 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4118] : Fin 1 → IVec S16 32) a x).toNat < S65536.size a)
theorem k2_idx892_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4118 : IVec S16 32) (k2_hw899 : k2_chk899 v58 v127 v196 v265 v334 v403 v472 v541 v610 v679 v748 v817 v886 v955 v1024 v1093 v1162 v1231 v1300 v1369 v1438 v1507 v1576 v1645 v1714 v1783 v1852 v1921 v1990 v2059 v2128 v2197 v4118), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4118] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4118 k2_hw899 k2_h5 => k2_hw899 k2_h5

def k2_chk900 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4135 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4135] : Fin 1 → IVec S16 32) a x).toNat < S65536.size a)
theorem k2_idx893_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4135 : IVec S16 32) (k2_hw900 : k2_chk900 v58 v127 v196 v265 v334 v403 v472 v541 v610 v679 v748 v817 v886 v955 v1024 v1093 v1162 v1231 v1300 v1369 v1438 v1507 v1576 v1645 v1714 v1783 v1852 v1921 v1990 v2059 v2128 v2197 v4135), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4135] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4135 k2_hw900 k2_h5 => k2_hw900 k2_h5

def k2_chk901 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4152 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4152] : Fin 1 → IVec S16 32) a x).toNat < S65536.size a)
theorem k2_idx894_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4152 : IVec S16 32) (k2_hw901 : k2_chk901 v58 v127 v196 v265 v334 v403 v472 v541 v610 v679 v748 v817 v886 v955 v1024 v1093 v1162 v1231 v1300 v1369 v1438 v1507 v1576 v1645 v1714 v1783 v1852 v1921 v1990 v2059 v2128 v2197 v4152), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4152] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4152 k2_hw901 k2_h5 => k2_hw901 k2_h5

def k2_chk902 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4169 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4169] : Fin 1 → IVec S16 32) a x).toNat < S65536.size a)
theorem k2_idx895_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4169 : IVec S16 32) (k2_hw902 : k2_chk902 v58 v127 v196 v265 v334 v403 v472 v541 v610 v679 v748 v817 v886 v955 v1024 v1093 v1162 v1231 v1300 v1369 v1438 v1507 v1576 v1645 v1714 v1783 v1852 v1921 v1990 v2059 v2128 v2197 v4169), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4169] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4169 k2_hw902 k2_h5 => k2_hw902 k2_h5

def k2_chk903 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4186 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4186] : Fin 1 → IVec S16 32) a x).toNat < S65536.size a)
theorem k2_idx896_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4186 : IVec S16 32) (k2_hw903 : k2_chk903 v58 v127 v196 v265 v334 v403 v472 v541 v610 v679 v748 v817 v886 v955 v1024 v1093 v1162 v1231 v1300 v1369 v1438 v1507 v1576 v1645 v1714 v1783 v1852 v1921 v1990 v2059 v2128 v2197 v4186), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4186] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4186 k2_hw903 k2_h5 => k2_hw903 k2_h5

def k2_chk904 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4203 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4203] : Fin 1 → IVec S16 32) a x).toNat < S65536.size a)
theorem k2_idx897_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4203 : IVec S16 32) (k2_hw904 : k2_chk904 v58 v127 v196 v265 v334 v403 v472 v541 v610 v679 v748 v817 v886 v955 v1024 v1093 v1162 v1231 v1300 v1369 v1438 v1507 v1576 v1645 v1714 v1783 v1852 v1921 v1990 v2059 v2128 v2197 v4203), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4203] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4203 k2_hw904 k2_h5 => k2_hw904 k2_h5

def k2_chk905 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4220 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4220] : Fin 1 → IVec S16 32) a x).toNat < S65536.size a)
theorem k2_idx898_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4220 : IVec S16 32) (k2_hw905 : k2_chk905 v58 v127 v196 v265 v334 v403 v472 v541 v610 v679 v748 v817 v886 v955 v1024 v1093 v1162 v1231 v1300 v1369 v1438 v1507 v1576 v1645 v1714 v1783 v1852 v1921 v1990 v2059 v2128 v2197 v4220), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4220] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4220 k2_hw905 k2_h5 => k2_hw905 k2_h5

def k2_chk906 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4237 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4237] : Fin 1 → IVec S16 32) a x).toNat < S65536.size a)
theorem k2_idx899_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4237 : IVec S16 32) (k2_hw906 : k2_chk906 v58 v127 v196 v265 v334 v403 v472 v541 v610 v679 v748 v817 v886 v955 v1024 v1093 v1162 v1231 v1300 v1369 v1438 v1507 v1576 v1645 v1714 v1783 v1852 v1921 v1990 v2059 v2128 v2197 v4237), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4237] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4237 k2_hw906 k2_h5 => k2_hw906 k2_h5

def k2_chk907 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4254 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4254] : Fin 1 → IVec S16 32) a x).toNat < S65536.size a)
theorem k2_idx900_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4254 : IVec S16 32) (k2_hw907 : k2_chk907 v58 v127 v196 v265 v334 v403 v472 v541 v610 v679 v748 v817 v886 v955 v1024 v1093 v1162 v1231 v1300 v1369 v1438 v1507 v1576 v1645 v1714 v1783 v1852 v1921 v1990 v2059 v2128 v2197 v4254), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4254] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4254 k2_hw907 k2_h5 => k2_hw907 k2_h5

def k2_chk908 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4271 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4271] : Fin 1 → IVec S16 32) a x).toNat < S65536.size a)
theorem k2_idx901_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4271 : IVec S16 32) (k2_hw908 : k2_chk908 v58 v127 v196 v265 v334 v403 v472 v541 v610 v679 v748 v817 v886 v955 v1024 v1093 v1162 v1231 v1300 v1369 v1438 v1507 v1576 v1645 v1714 v1783 v1852 v1921 v1990 v2059 v2128 v2197 v4271), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4271] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4271 k2_hw908 k2_h5 => k2_hw908 k2_h5

def k2_chk909 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4288 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4288] : Fin 1 → IVec S16 32) a x).toNat < S65536.size a)
theorem k2_idx902_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4288 : IVec S16 32) (k2_hw909 : k2_chk909 v58 v127 v196 v265 v334 v403 v472 v541 v610 v679 v748 v817 v886 v955 v1024 v1093 v1162 v1231 v1300 v1369 v1438 v1507 v1576 v1645 v1714 v1783 v1852 v1921 v1990 v2059 v2128 v2197 v4288), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4288] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4288 k2_hw909 k2_h5 => k2_hw909 k2_h5

def k2_chk910 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4305 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4305] : Fin 1 → IVec S16 32) a x).toNat < S65536.size a)
theorem k2_idx903_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4305 : IVec S16 32) (k2_hw910 : k2_chk910 v58 v127 v196 v265 v334 v403 v472 v541 v610 v679 v748 v817 v886 v955 v1024 v1093 v1162 v1231 v1300 v1369 v1438 v1507 v1576 v1645 v1714 v1783 v1852 v1921 v1990 v2059 v2128 v2197 v4305), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4305] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4305 k2_hw910 k2_h5 => k2_hw910 k2_h5

def k2_chk911 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4322 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4322] : Fin 1 → IVec S16 32) a x).toNat < S65536.size a)
theorem k2_idx904_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4322 : IVec S16 32) (k2_hw911 : k2_chk911 v58 v127 v196 v265 v334 v403 v472 v541 v610 v679 v748 v817 v886 v955 v1024 v1093 v1162 v1231 v1300 v1369 v1438 v1507 v1576 v1645 v1714 v1783 v1852 v1921 v1990 v2059 v2128 v2197 v4322), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4322] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4322 k2_hw911 k2_h5 => k2_hw911 k2_h5

def k2_chk912 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4339 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4339] : Fin 1 → IVec S16 32) a x).toNat < S65536.size a)
theorem k2_idx905_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4339 : IVec S16 32) (k2_hw912 : k2_chk912 v58 v127 v196 v265 v334 v403 v472 v541 v610 v679 v748 v817 v886 v955 v1024 v1093 v1162 v1231 v1300 v1369 v1438 v1507 v1576 v1645 v1714 v1783 v1852 v1921 v1990 v2059 v2128 v2197 v4339), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4339] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4339 k2_hw912 k2_h5 => k2_hw912 k2_h5

def k2_chk913 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4356 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4356] : Fin 1 → IVec S16 32) a x).toNat < S65536.size a)
theorem k2_idx906_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4356 : IVec S16 32) (k2_hw913 : k2_chk913 v58 v127 v196 v265 v334 v403 v472 v541 v610 v679 v748 v817 v886 v955 v1024 v1093 v1162 v1231 v1300 v1369 v1438 v1507 v1576 v1645 v1714 v1783 v1852 v1921 v1990 v2059 v2128 v2197 v4356), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4356] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4356 k2_hw913 k2_h5 => k2_hw913 k2_h5

def k2_chk914 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4373 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4373] : Fin 1 → IVec S16 32) a x).toNat < S65536.size a)
theorem k2_idx907_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4373 : IVec S16 32) (k2_hw914 : k2_chk914 v58 v127 v196 v265 v334 v403 v472 v541 v610 v679 v748 v817 v886 v955 v1024 v1093 v1162 v1231 v1300 v1369 v1438 v1507 v1576 v1645 v1714 v1783 v1852 v1921 v1990 v2059 v2128 v2197 v4373), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4373] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4373 k2_hw914 k2_h5 => k2_hw914 k2_h5

def k2_chk915 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4390 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4390] : Fin 1 → IVec S16 32) a x).toNat < S65536.size a)
theorem k2_idx908_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4390 : IVec S16 32) (k2_hw915 : k2_chk915 v58 v127 v196 v265 v334 v403 v472 v541 v610 v679 v748 v817 v886 v955 v1024 v1093 v1162 v1231 v1300 v1369 v1438 v1507 v1576 v1645 v1714 v1783 v1852 v1921 v1990 v2059 v2128 v2197 v4390), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4390] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4390 k2_hw915 k2_h5 => k2_hw915 k2_h5

def k2_chk916 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4407 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4407] : Fin 1 → IVec S16 32) a x).toNat < S65536.size a)
theorem k2_idx909_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4407 : IVec S16 32) (k2_hw916 : k2_chk916 v58 v127 v196 v265 v334 v403 v472 v541 v610 v679 v748 v817 v886 v955 v1024 v1093 v1162 v1231 v1300 v1369 v1438 v1507 v1576 v1645 v1714 v1783 v1852 v1921 v1990 v2059 v2128 v2197 v4407), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4407] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4407 k2_hw916 k2_h5 => k2_hw916 k2_h5

def k2_chk917 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4424 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4424] : Fin 1 → IVec S16 32) a x).toNat < S65536.size a)
theorem k2_idx910_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4424 : IVec S16 32) (k2_hw917 : k2_chk917 v58 v127 v196 v265 v334 v403 v472 v541 v610 v679 v748 v817 v886 v955 v1024 v1093 v1162 v1231 v1300 v1369 v1438 v1507 v1576 v1645 v1714 v1783 v1852 v1921 v1990 v2059 v2128 v2197 v4424), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4424] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4424 k2_hw917 k2_h5 => k2_hw917 k2_h5

def k2_chk918 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4441 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4441] : Fin 1 → IVec S16 32) a x).toNat < S65536.size a)
theorem k2_idx911_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4441 : IVec S16 32) (k2_hw918 : k2_chk918 v58 v127 v196 v265 v334 v403 v472 v541 v610 v679 v748 v817 v886 v955 v1024 v1093 v1162 v1231 v1300 v1369 v1438 v1507 v1576 v1645 v1714 v1783 v1852 v1921 v1990 v2059 v2128 v2197 v4441), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4441] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4441 k2_hw918 k2_h5 => k2_hw918 k2_h5

def k2_chk919 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4458 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4458] : Fin 1 → IVec S16 32) a x).toNat < S65536.size a)
theorem k2_idx912_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4458 : IVec S16 32) (k2_hw919 : k2_chk919 v58 v127 v196 v265 v334 v403 v472 v541 v610 v679 v748 v817 v886 v955 v1024 v1093 v1162 v1231 v1300 v1369 v1438 v1507 v1576 v1645 v1714 v1783 v1852 v1921 v1990 v2059 v2128 v2197 v4458), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4458] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4458 k2_hw919 k2_h5 => k2_hw919 k2_h5
@[reducible] def k2_t15_loop (v2254 : BitVec 32) : Scf.Loop 32 :=
  let c0_i32_787 : BitVec 32 := 0#32
  let c2048_i32 : BitVec 32 := 2048#32
  let v2255 : BitVec 32 := Scalar.addi v2254 c2048_i32
  let c1_i32_779 : BitVec 32 := 1#32
  let v2256 : BitVec 32 := Scalar.subi v2255 c1_i32_779
  let c0_i32_781 : BitVec 32 := 0#32
  let v2258 : BitVec 1 := Scalar.cmpi .sgt v2256 c0_i32_781
  let v2259 : BitVec 32 := Scalar.extui v2258
  let c0_i32_782 : BitVec 32 := 0#32
  let v2260 : BitVec 1 := Scalar.cmpi .slt v2256 c0_i32_782
  let v2261 : BitVec 32 := Scalar.extui v2260
  let v2262 : BitVec 32 := Scalar.subi v2259 v2261
  let c2048_i32_780 : BitVec 32 := 2048#32
  let c0_i32_783 : BitVec 32 := 0#32
  let v2263 : BitVec 1 := Scalar.cmpi .sgt c2048_i32_780 c0_i32_783
  let v2264 : BitVec 32 := Scalar.extui v2263
  let c0_i32_784 : BitVec 32 := 0#32
  let v2265 : BitVec 1 := Scalar.cmpi .slt c2048_i32_780 c0_i32_784
  let v2266 : BitVec 32 := Scalar.extui v2265
  let v2267 : BitVec 32 := Scalar.subi v2264 v2266
  let v2268 : BitVec 1 := Scalar.cmpi .ne v2262 v2267
  let v2269 : BitVec 32 := Scalar.remsi v2256 c2048_i32_780
  let c0_i32_785 : BitVec 32 := 0#32
  let v2270 : BitVec 1 := Scalar.cmpi .ne v2269 c0_i32_785
  let v2271 : BitVec 1 := Scalar.andi v2268 v2270
  let v2257 : BitVec 32 := Scalar.divsi v2256 c2048_i32_780
  let c1_i32_786 : BitVec 32 := 1#32
  let v2272 : BitVec 32 := Scalar.subi v2257 c1_i32_786
  let v2273 : BitVec 32 := Scalar.select v2271 v2272 v2257
  let v2274 : BitVec 32 := Scalar.subi v2273 c0_i32_787
  let c1_i32_788 : BitVec 32 := 1#32
  let v2276 : BitVec 32 := Scalar.divsi v2274 c1_i32_788
  let v2277 : BitVec 32 := Scalar.muli v2276 c1_i32_788
  let v2278 : BitVec 32 := Scalar.addi c0_i32_787 v2277
  let v2275 : BitVec 32 := Scalar.addi c0_i32_787 v2274
  let c1_i32_790 : BitVec 32 := 1#32
  ⟨v2278, v2275, c1_i32_790⟩
def k2_off8 (v2243 : BitVec 32) (v2254 : BitVec 32) (k2_t15 : Fin (k2_t15_loop v2254).trips) : Fin 1 → Nat :=
  let v2244 : BitVec 32 := v2243
  let c0_i32_787 : BitVec 32 := 0#32
  let c2048_i32 : BitVec 32 := 2048#32
  let v2255 : BitVec 32 := Scalar.addi v2254 c2048_i32
  let c1_i32_779 : BitVec 32 := 1#32
  let v2256 : BitVec 32 := Scalar.subi v2255 c1_i32_779
  let c0_i32_781 : BitVec 32 := 0#32
  let v2258 : BitVec 1 := Scalar.cmpi .sgt v2256 c0_i32_781
  let v2259 : BitVec 32 := Scalar.extui v2258
  let c0_i32_782 : BitVec 32 := 0#32
  let v2260 : BitVec 1 := Scalar.cmpi .slt v2256 c0_i32_782
  let v2261 : BitVec 32 := Scalar.extui v2260
  let v2262 : BitVec 32 := Scalar.subi v2259 v2261
  let c2048_i32_780 : BitVec 32 := 2048#32
  let c0_i32_783 : BitVec 32 := 0#32
  let v2263 : BitVec 1 := Scalar.cmpi .sgt c2048_i32_780 c0_i32_783
  let v2264 : BitVec 32 := Scalar.extui v2263
  let c0_i32_784 : BitVec 32 := 0#32
  let v2265 : BitVec 1 := Scalar.cmpi .slt c2048_i32_780 c0_i32_784
  let v2266 : BitVec 32 := Scalar.extui v2265
  let v2267 : BitVec 32 := Scalar.subi v2264 v2266
  let v2268 : BitVec 1 := Scalar.cmpi .ne v2262 v2267
  let v2269 : BitVec 32 := Scalar.remsi v2256 c2048_i32_780
  let c0_i32_785 : BitVec 32 := 0#32
  let v2270 : BitVec 1 := Scalar.cmpi .ne v2269 c0_i32_785
  let v2271 : BitVec 1 := Scalar.andi v2268 v2270
  let v2257 : BitVec 32 := Scalar.divsi v2256 c2048_i32_780
  let c1_i32_786 : BitVec 32 := 1#32
  let v2272 : BitVec 32 := Scalar.subi v2257 c1_i32_786
  let v2273 : BitVec 32 := Scalar.select v2271 v2272 v2257
  let v2274 : BitVec 32 := Scalar.subi v2273 c0_i32_787
  let c1_i32_788 : BitVec 32 := 1#32
  let v2276 : BitVec 32 := Scalar.divsi v2274 c1_i32_788
  let v2277 : BitVec 32 := Scalar.muli v2276 c1_i32_788
  let v2278 : BitVec 32 := Scalar.addi c0_i32_787 v2277
  let c1_i32_790 : BitVec 32 := 1#32
  let arg16 : BitVec 32 := Scf.iv v2278 c1_i32_790 k2_t15
  let c2048_i32_791 : BitVec 32 := 2048#32
  let v2279 : BitVec 32 := Scalar.muli arg16 c2048_i32_791
  let v2280 : BitVec 32 := Scalar.addi v2244 v2279
  ![v2280.toNat]

def k2_chk791 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t14_loop v2254).OK) ∧
  (∀ k2_t14 : Fin (k2_t14_loop v2254).trips, ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off7 v2243 v2254 k2_t14) a + S2048.size a ≤ S1010688.size a) ∧
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t15_loop v2254).OK) ∧
  (∀ k2_t15 : Fin (k2_t15_loop v2254).trips, ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off8 v2243 v2254 k2_t15) a + S2048.size a ≤ S1010688.size a)
theorem k2_t14_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) (k2_hw791 : k2_chk791 v58 v127 v196 v265 v334 v403 v472 v541 v610 v679 v748 v817 v886 v955 v1024 v1093 v1162 v1231 v1300 v1369 v1438 v1507 v1576 v1645 v1714 v1783 v1852 v1921 v1990 v2059 v2128 v2197 v2243 v2254), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t14_loop v2254).OK := fun v58 v127 v196 v265 v334 v403 v472 v541 v610 v679 v748 v817 v886 v955 v1024 v1093 v1162 v1231 v1300 v1369 v1438 v1507 v1576 v1645 v1714 v1783 v1852 v1921 v1990 v2059 v2128 v2197 v2243 v2254 k2_hw791 k2_h5 => k2_hw791.1 k2_h5
theorem k2_off7_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) (k2_hw791 : k2_chk791 v58 v127 v196 v265 v334 v403 v472 v541 v610 v679 v748 v817 v886 v955 v1024 v1093 v1162 v1231 v1300 v1369 v1438 v1507 v1576 v1645 v1714 v1783 v1852 v1921 v1990 v2059 v2128 v2197 v2243 v2254) (k2_t14 : Fin (k2_t14_loop v2254).trips), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off7 v2243 v2254 k2_t14) a + S2048.size a ≤ S1010688.size a := fun v58 v127 v196 v265 v334 v403 v472 v541 v610 v679 v748 v817 v886 v955 v1024 v1093 v1162 v1231 v1300 v1369 v1438 v1507 v1576 v1645 v1714 v1783 v1852 v1921 v1990 v2059 v2128 v2197 v2243 v2254 k2_hw791 k2_t14 k2_h5 => k2_hw791.2.1 k2_t14 k2_h5
theorem k2_t15_ok : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) (k2_hw791 : k2_chk791 v58 v127 v196 v265 v334 v403 v472 v541 v610 v679 v748 v817 v886 v955 v1024 v1093 v1162 v1231 v1300 v1369 v1438 v1507 v1576 v1645 v1714 v1783 v1852 v1921 v1990 v2059 v2128 v2197 v2243 v2254), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), (k2_t15_loop v2254).OK := fun v58 v127 v196 v265 v334 v403 v472 v541 v610 v679 v748 v817 v886 v955 v1024 v1093 v1162 v1231 v1300 v1369 v1438 v1507 v1576 v1645 v1714 v1783 v1852 v1921 v1990 v2059 v2128 v2197 v2243 v2254 k2_hw791 k2_h5 => k2_hw791.2.2.1 k2_h5
theorem k2_off8_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2243 : BitVec 32) (v2254 : BitVec 32) (k2_hw791 : k2_chk791 v58 v127 v196 v265 v334 v403 v472 v541 v610 v679 v748 v817 v886 v955 v1024 v1093 v1162 v1231 v1300 v1369 v1438 v1507 v1576 v1645 v1714 v1783 v1852 v1921 v1990 v2059 v2128 v2197 v2243 v2254) (k2_t15 : Fin (k2_t15_loop v2254).trips), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a, (k2_off8 v2243 v2254 k2_t15) a + S2048.size a ≤ S1010688.size a := fun v58 v127 v196 v265 v334 v403 v472 v541 v610 v679 v748 v817 v886 v955 v1024 v1093 v1162 v1231 v1300 v1369 v1438 v1507 v1576 v1645 v1714 v1783 v1852 v1921 v1990 v2059 v2128 v2197 v2243 v2254 k2_hw791 k2_t15 k2_h5 => k2_hw791.2.2.2 k2_t15 k2_h5

def k2_chk920 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2299 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2299] : Fin 1 → IVec S16 32) a x).toNat < S65536.size a)
theorem k2_idx913_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2299 : IVec S16 32) (k2_hw920 : k2_chk920 v58 v127 v196 v265 v334 v403 v472 v541 v610 v679 v748 v817 v886 v955 v1024 v1093 v1162 v1231 v1300 v1369 v1438 v1507 v1576 v1645 v1714 v1783 v1852 v1921 v1990 v2059 v2128 v2197 v2299), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2299] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2299 k2_hw920 k2_h5 => k2_hw920 k2_h5

def k2_chk921 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2316 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2316] : Fin 1 → IVec S16 32) a x).toNat < S65536.size a)
theorem k2_idx914_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2316 : IVec S16 32) (k2_hw921 : k2_chk921 v58 v127 v196 v265 v334 v403 v472 v541 v610 v679 v748 v817 v886 v955 v1024 v1093 v1162 v1231 v1300 v1369 v1438 v1507 v1576 v1645 v1714 v1783 v1852 v1921 v1990 v2059 v2128 v2197 v2316), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2316] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2316 k2_hw921 k2_h5 => k2_hw921 k2_h5

def k2_chk922 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2333 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2333] : Fin 1 → IVec S16 32) a x).toNat < S65536.size a)
theorem k2_idx915_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2333 : IVec S16 32) (k2_hw922 : k2_chk922 v58 v127 v196 v265 v334 v403 v472 v541 v610 v679 v748 v817 v886 v955 v1024 v1093 v1162 v1231 v1300 v1369 v1438 v1507 v1576 v1645 v1714 v1783 v1852 v1921 v1990 v2059 v2128 v2197 v2333), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2333] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2333 k2_hw922 k2_h5 => k2_hw922 k2_h5

def k2_chk923 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2350 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2350] : Fin 1 → IVec S16 32) a x).toNat < S65536.size a)
theorem k2_idx916_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2350 : IVec S16 32) (k2_hw923 : k2_chk923 v58 v127 v196 v265 v334 v403 v472 v541 v610 v679 v748 v817 v886 v955 v1024 v1093 v1162 v1231 v1300 v1369 v1438 v1507 v1576 v1645 v1714 v1783 v1852 v1921 v1990 v2059 v2128 v2197 v2350), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2350] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2350 k2_hw923 k2_h5 => k2_hw923 k2_h5

def k2_chk924 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2367 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2367] : Fin 1 → IVec S16 32) a x).toNat < S65536.size a)
theorem k2_idx917_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2367 : IVec S16 32) (k2_hw924 : k2_chk924 v58 v127 v196 v265 v334 v403 v472 v541 v610 v679 v748 v817 v886 v955 v1024 v1093 v1162 v1231 v1300 v1369 v1438 v1507 v1576 v1645 v1714 v1783 v1852 v1921 v1990 v2059 v2128 v2197 v2367), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2367] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2367 k2_hw924 k2_h5 => k2_hw924 k2_h5

def k2_chk925 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2384 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2384] : Fin 1 → IVec S16 32) a x).toNat < S65536.size a)
theorem k2_idx918_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2384 : IVec S16 32) (k2_hw925 : k2_chk925 v58 v127 v196 v265 v334 v403 v472 v541 v610 v679 v748 v817 v886 v955 v1024 v1093 v1162 v1231 v1300 v1369 v1438 v1507 v1576 v1645 v1714 v1783 v1852 v1921 v1990 v2059 v2128 v2197 v2384), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2384] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2384 k2_hw925 k2_h5 => k2_hw925 k2_h5

def k2_chk926 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2401 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2401] : Fin 1 → IVec S16 32) a x).toNat < S65536.size a)
theorem k2_idx919_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2401 : IVec S16 32) (k2_hw926 : k2_chk926 v58 v127 v196 v265 v334 v403 v472 v541 v610 v679 v748 v817 v886 v955 v1024 v1093 v1162 v1231 v1300 v1369 v1438 v1507 v1576 v1645 v1714 v1783 v1852 v1921 v1990 v2059 v2128 v2197 v2401), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2401] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2401 k2_hw926 k2_h5 => k2_hw926 k2_h5

def k2_chk927 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2418 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2418] : Fin 1 → IVec S16 32) a x).toNat < S65536.size a)
theorem k2_idx920_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2418 : IVec S16 32) (k2_hw927 : k2_chk927 v58 v127 v196 v265 v334 v403 v472 v541 v610 v679 v748 v817 v886 v955 v1024 v1093 v1162 v1231 v1300 v1369 v1438 v1507 v1576 v1645 v1714 v1783 v1852 v1921 v1990 v2059 v2128 v2197 v2418), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2418] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2418 k2_hw927 k2_h5 => k2_hw927 k2_h5

def k2_chk928 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2435 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2435] : Fin 1 → IVec S16 32) a x).toNat < S65536.size a)
theorem k2_idx921_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2435 : IVec S16 32) (k2_hw928 : k2_chk928 v58 v127 v196 v265 v334 v403 v472 v541 v610 v679 v748 v817 v886 v955 v1024 v1093 v1162 v1231 v1300 v1369 v1438 v1507 v1576 v1645 v1714 v1783 v1852 v1921 v1990 v2059 v2128 v2197 v2435), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2435] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2435 k2_hw928 k2_h5 => k2_hw928 k2_h5

def k2_chk929 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2452 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2452] : Fin 1 → IVec S16 32) a x).toNat < S65536.size a)
theorem k2_idx922_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2452 : IVec S16 32) (k2_hw929 : k2_chk929 v58 v127 v196 v265 v334 v403 v472 v541 v610 v679 v748 v817 v886 v955 v1024 v1093 v1162 v1231 v1300 v1369 v1438 v1507 v1576 v1645 v1714 v1783 v1852 v1921 v1990 v2059 v2128 v2197 v2452), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2452] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2452 k2_hw929 k2_h5 => k2_hw929 k2_h5

def k2_chk930 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2469 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2469] : Fin 1 → IVec S16 32) a x).toNat < S65536.size a)
theorem k2_idx923_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2469 : IVec S16 32) (k2_hw930 : k2_chk930 v58 v127 v196 v265 v334 v403 v472 v541 v610 v679 v748 v817 v886 v955 v1024 v1093 v1162 v1231 v1300 v1369 v1438 v1507 v1576 v1645 v1714 v1783 v1852 v1921 v1990 v2059 v2128 v2197 v2469), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2469] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2469 k2_hw930 k2_h5 => k2_hw930 k2_h5

def k2_chk931 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2486 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2486] : Fin 1 → IVec S16 32) a x).toNat < S65536.size a)
theorem k2_idx924_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2486 : IVec S16 32) (k2_hw931 : k2_chk931 v58 v127 v196 v265 v334 v403 v472 v541 v610 v679 v748 v817 v886 v955 v1024 v1093 v1162 v1231 v1300 v1369 v1438 v1507 v1576 v1645 v1714 v1783 v1852 v1921 v1990 v2059 v2128 v2197 v2486), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2486] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2486 k2_hw931 k2_h5 => k2_hw931 k2_h5

def k2_chk932 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2503 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2503] : Fin 1 → IVec S16 32) a x).toNat < S65536.size a)
theorem k2_idx925_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2503 : IVec S16 32) (k2_hw932 : k2_chk932 v58 v127 v196 v265 v334 v403 v472 v541 v610 v679 v748 v817 v886 v955 v1024 v1093 v1162 v1231 v1300 v1369 v1438 v1507 v1576 v1645 v1714 v1783 v1852 v1921 v1990 v2059 v2128 v2197 v2503), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2503] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2503 k2_hw932 k2_h5 => k2_hw932 k2_h5

def k2_chk933 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2520 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2520] : Fin 1 → IVec S16 32) a x).toNat < S65536.size a)
theorem k2_idx926_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2520 : IVec S16 32) (k2_hw933 : k2_chk933 v58 v127 v196 v265 v334 v403 v472 v541 v610 v679 v748 v817 v886 v955 v1024 v1093 v1162 v1231 v1300 v1369 v1438 v1507 v1576 v1645 v1714 v1783 v1852 v1921 v1990 v2059 v2128 v2197 v2520), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2520] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2520 k2_hw933 k2_h5 => k2_hw933 k2_h5

def k2_chk934 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2537 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2537] : Fin 1 → IVec S16 32) a x).toNat < S65536.size a)
theorem k2_idx927_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2537 : IVec S16 32) (k2_hw934 : k2_chk934 v58 v127 v196 v265 v334 v403 v472 v541 v610 v679 v748 v817 v886 v955 v1024 v1093 v1162 v1231 v1300 v1369 v1438 v1507 v1576 v1645 v1714 v1783 v1852 v1921 v1990 v2059 v2128 v2197 v2537), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2537] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2537 k2_hw934 k2_h5 => k2_hw934 k2_h5

def k2_chk935 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2554 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2554] : Fin 1 → IVec S16 32) a x).toNat < S65536.size a)
theorem k2_idx928_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2554 : IVec S16 32) (k2_hw935 : k2_chk935 v58 v127 v196 v265 v334 v403 v472 v541 v610 v679 v748 v817 v886 v955 v1024 v1093 v1162 v1231 v1300 v1369 v1438 v1507 v1576 v1645 v1714 v1783 v1852 v1921 v1990 v2059 v2128 v2197 v2554), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2554] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2554 k2_hw935 k2_h5 => k2_hw935 k2_h5

def k2_chk936 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2571 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2571] : Fin 1 → IVec S16 32) a x).toNat < S65536.size a)
theorem k2_idx929_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2571 : IVec S16 32) (k2_hw936 : k2_chk936 v58 v127 v196 v265 v334 v403 v472 v541 v610 v679 v748 v817 v886 v955 v1024 v1093 v1162 v1231 v1300 v1369 v1438 v1507 v1576 v1645 v1714 v1783 v1852 v1921 v1990 v2059 v2128 v2197 v2571), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2571] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2571 k2_hw936 k2_h5 => k2_hw936 k2_h5

def k2_chk937 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2588 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2588] : Fin 1 → IVec S16 32) a x).toNat < S65536.size a)
theorem k2_idx930_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2588 : IVec S16 32) (k2_hw937 : k2_chk937 v58 v127 v196 v265 v334 v403 v472 v541 v610 v679 v748 v817 v886 v955 v1024 v1093 v1162 v1231 v1300 v1369 v1438 v1507 v1576 v1645 v1714 v1783 v1852 v1921 v1990 v2059 v2128 v2197 v2588), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2588] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2588 k2_hw937 k2_h5 => k2_hw937 k2_h5

def k2_chk938 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2605 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2605] : Fin 1 → IVec S16 32) a x).toNat < S65536.size a)
theorem k2_idx931_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2605 : IVec S16 32) (k2_hw938 : k2_chk938 v58 v127 v196 v265 v334 v403 v472 v541 v610 v679 v748 v817 v886 v955 v1024 v1093 v1162 v1231 v1300 v1369 v1438 v1507 v1576 v1645 v1714 v1783 v1852 v1921 v1990 v2059 v2128 v2197 v2605), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2605] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2605 k2_hw938 k2_h5 => k2_hw938 k2_h5

def k2_chk939 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2622 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2622] : Fin 1 → IVec S16 32) a x).toNat < S65536.size a)
theorem k2_idx932_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2622 : IVec S16 32) (k2_hw939 : k2_chk939 v58 v127 v196 v265 v334 v403 v472 v541 v610 v679 v748 v817 v886 v955 v1024 v1093 v1162 v1231 v1300 v1369 v1438 v1507 v1576 v1645 v1714 v1783 v1852 v1921 v1990 v2059 v2128 v2197 v2622), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2622] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2622 k2_hw939 k2_h5 => k2_hw939 k2_h5

def k2_chk940 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2639 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2639] : Fin 1 → IVec S16 32) a x).toNat < S65536.size a)
theorem k2_idx933_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2639 : IVec S16 32) (k2_hw940 : k2_chk940 v58 v127 v196 v265 v334 v403 v472 v541 v610 v679 v748 v817 v886 v955 v1024 v1093 v1162 v1231 v1300 v1369 v1438 v1507 v1576 v1645 v1714 v1783 v1852 v1921 v1990 v2059 v2128 v2197 v2639), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2639] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2639 k2_hw940 k2_h5 => k2_hw940 k2_h5

def k2_chk941 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2656 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2656] : Fin 1 → IVec S16 32) a x).toNat < S65536.size a)
theorem k2_idx934_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2656 : IVec S16 32) (k2_hw941 : k2_chk941 v58 v127 v196 v265 v334 v403 v472 v541 v610 v679 v748 v817 v886 v955 v1024 v1093 v1162 v1231 v1300 v1369 v1438 v1507 v1576 v1645 v1714 v1783 v1852 v1921 v1990 v2059 v2128 v2197 v2656), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2656] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2656 k2_hw941 k2_h5 => k2_hw941 k2_h5

def k2_chk942 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2673 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2673] : Fin 1 → IVec S16 32) a x).toNat < S65536.size a)
theorem k2_idx935_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2673 : IVec S16 32) (k2_hw942 : k2_chk942 v58 v127 v196 v265 v334 v403 v472 v541 v610 v679 v748 v817 v886 v955 v1024 v1093 v1162 v1231 v1300 v1369 v1438 v1507 v1576 v1645 v1714 v1783 v1852 v1921 v1990 v2059 v2128 v2197 v2673), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2673] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2673 k2_hw942 k2_h5 => k2_hw942 k2_h5

def k2_chk943 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2690 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2690] : Fin 1 → IVec S16 32) a x).toNat < S65536.size a)
theorem k2_idx936_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2690 : IVec S16 32) (k2_hw943 : k2_chk943 v58 v127 v196 v265 v334 v403 v472 v541 v610 v679 v748 v817 v886 v955 v1024 v1093 v1162 v1231 v1300 v1369 v1438 v1507 v1576 v1645 v1714 v1783 v1852 v1921 v1990 v2059 v2128 v2197 v2690), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2690] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2690 k2_hw943 k2_h5 => k2_hw943 k2_h5

def k2_chk944 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2707 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2707] : Fin 1 → IVec S16 32) a x).toNat < S65536.size a)
theorem k2_idx937_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2707 : IVec S16 32) (k2_hw944 : k2_chk944 v58 v127 v196 v265 v334 v403 v472 v541 v610 v679 v748 v817 v886 v955 v1024 v1093 v1162 v1231 v1300 v1369 v1438 v1507 v1576 v1645 v1714 v1783 v1852 v1921 v1990 v2059 v2128 v2197 v2707), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2707] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2707 k2_hw944 k2_h5 => k2_hw944 k2_h5

def k2_chk945 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2724 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2724] : Fin 1 → IVec S16 32) a x).toNat < S65536.size a)
theorem k2_idx938_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2724 : IVec S16 32) (k2_hw945 : k2_chk945 v58 v127 v196 v265 v334 v403 v472 v541 v610 v679 v748 v817 v886 v955 v1024 v1093 v1162 v1231 v1300 v1369 v1438 v1507 v1576 v1645 v1714 v1783 v1852 v1921 v1990 v2059 v2128 v2197 v2724), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2724] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2724 k2_hw945 k2_h5 => k2_hw945 k2_h5

def k2_chk946 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2741 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2741] : Fin 1 → IVec S16 32) a x).toNat < S65536.size a)
theorem k2_idx939_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2741 : IVec S16 32) (k2_hw946 : k2_chk946 v58 v127 v196 v265 v334 v403 v472 v541 v610 v679 v748 v817 v886 v955 v1024 v1093 v1162 v1231 v1300 v1369 v1438 v1507 v1576 v1645 v1714 v1783 v1852 v1921 v1990 v2059 v2128 v2197 v2741), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2741] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2741 k2_hw946 k2_h5 => k2_hw946 k2_h5

def k2_chk947 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2758 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2758] : Fin 1 → IVec S16 32) a x).toNat < S65536.size a)
theorem k2_idx940_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2758 : IVec S16 32) (k2_hw947 : k2_chk947 v58 v127 v196 v265 v334 v403 v472 v541 v610 v679 v748 v817 v886 v955 v1024 v1093 v1162 v1231 v1300 v1369 v1438 v1507 v1576 v1645 v1714 v1783 v1852 v1921 v1990 v2059 v2128 v2197 v2758), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2758] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2758 k2_hw947 k2_h5 => k2_hw947 k2_h5

def k2_chk948 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2775 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2775] : Fin 1 → IVec S16 32) a x).toNat < S65536.size a)
theorem k2_idx941_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2775 : IVec S16 32) (k2_hw948 : k2_chk948 v58 v127 v196 v265 v334 v403 v472 v541 v610 v679 v748 v817 v886 v955 v1024 v1093 v1162 v1231 v1300 v1369 v1438 v1507 v1576 v1645 v1714 v1783 v1852 v1921 v1990 v2059 v2128 v2197 v2775), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2775] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2775 k2_hw948 k2_h5 => k2_hw948 k2_h5

def k2_chk949 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2792 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2792] : Fin 1 → IVec S16 32) a x).toNat < S65536.size a)
theorem k2_idx942_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2792 : IVec S16 32) (k2_hw949 : k2_chk949 v58 v127 v196 v265 v334 v403 v472 v541 v610 v679 v748 v817 v886 v955 v1024 v1093 v1162 v1231 v1300 v1369 v1438 v1507 v1576 v1645 v1714 v1783 v1852 v1921 v1990 v2059 v2128 v2197 v2792), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2792] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2792 k2_hw949 k2_h5 => k2_hw949 k2_h5

def k2_chk950 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2809 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2809] : Fin 1 → IVec S16 32) a x).toNat < S65536.size a)
theorem k2_idx943_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2809 : IVec S16 32) (k2_hw950 : k2_chk950 v58 v127 v196 v265 v334 v403 v472 v541 v610 v679 v748 v817 v886 v955 v1024 v1093 v1162 v1231 v1300 v1369 v1438 v1507 v1576 v1645 v1714 v1783 v1852 v1921 v1990 v2059 v2128 v2197 v2809), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2809] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2809 k2_hw950 k2_h5 => k2_hw950 k2_h5

def k2_chk951 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2826 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2826] : Fin 1 → IVec S16 32) a x).toNat < S65536.size a)
theorem k2_idx944_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2826 : IVec S16 32) (k2_hw951 : k2_chk951 v58 v127 v196 v265 v334 v403 v472 v541 v610 v679 v748 v817 v886 v955 v1024 v1093 v1162 v1231 v1300 v1369 v1438 v1507 v1576 v1645 v1714 v1783 v1852 v1921 v1990 v2059 v2128 v2197 v2826), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2826] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2826 k2_hw951 k2_h5 => k2_hw951 k2_h5

def k2_chk952 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2843 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2843] : Fin 1 → IVec S16 32) a x).toNat < S65536.size a)
theorem k2_idx945_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2843 : IVec S16 32) (k2_hw952 : k2_chk952 v58 v127 v196 v265 v334 v403 v472 v541 v610 v679 v748 v817 v886 v955 v1024 v1093 v1162 v1231 v1300 v1369 v1438 v1507 v1576 v1645 v1714 v1783 v1852 v1921 v1990 v2059 v2128 v2197 v2843), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2843] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2843 k2_hw952 k2_h5 => k2_hw952 k2_h5

def k2_chk953 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2860 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2860] : Fin 1 → IVec S16 32) a x).toNat < S65536.size a)
theorem k2_idx946_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2860 : IVec S16 32) (k2_hw953 : k2_chk953 v58 v127 v196 v265 v334 v403 v472 v541 v610 v679 v748 v817 v886 v955 v1024 v1093 v1162 v1231 v1300 v1369 v1438 v1507 v1576 v1645 v1714 v1783 v1852 v1921 v1990 v2059 v2128 v2197 v2860), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2860] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2860 k2_hw953 k2_h5 => k2_hw953 k2_h5

def k2_chk954 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2877 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2877] : Fin 1 → IVec S16 32) a x).toNat < S65536.size a)
theorem k2_idx947_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2877 : IVec S16 32) (k2_hw954 : k2_chk954 v58 v127 v196 v265 v334 v403 v472 v541 v610 v679 v748 v817 v886 v955 v1024 v1093 v1162 v1231 v1300 v1369 v1438 v1507 v1576 v1645 v1714 v1783 v1852 v1921 v1990 v2059 v2128 v2197 v2877), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2877] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2877 k2_hw954 k2_h5 => k2_hw954 k2_h5

def k2_chk955 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2894 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2894] : Fin 1 → IVec S16 32) a x).toNat < S65536.size a)
theorem k2_idx948_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2894 : IVec S16 32) (k2_hw955 : k2_chk955 v58 v127 v196 v265 v334 v403 v472 v541 v610 v679 v748 v817 v886 v955 v1024 v1093 v1162 v1231 v1300 v1369 v1438 v1507 v1576 v1645 v1714 v1783 v1852 v1921 v1990 v2059 v2128 v2197 v2894), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2894] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2894 k2_hw955 k2_h5 => k2_hw955 k2_h5

def k2_chk956 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2911 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2911] : Fin 1 → IVec S16 32) a x).toNat < S65536.size a)
theorem k2_idx949_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2911 : IVec S16 32) (k2_hw956 : k2_chk956 v58 v127 v196 v265 v334 v403 v472 v541 v610 v679 v748 v817 v886 v955 v1024 v1093 v1162 v1231 v1300 v1369 v1438 v1507 v1576 v1645 v1714 v1783 v1852 v1921 v1990 v2059 v2128 v2197 v2911), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2911] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2911 k2_hw956 k2_h5 => k2_hw956 k2_h5

def k2_chk957 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2928 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2928] : Fin 1 → IVec S16 32) a x).toNat < S65536.size a)
theorem k2_idx950_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2928 : IVec S16 32) (k2_hw957 : k2_chk957 v58 v127 v196 v265 v334 v403 v472 v541 v610 v679 v748 v817 v886 v955 v1024 v1093 v1162 v1231 v1300 v1369 v1438 v1507 v1576 v1645 v1714 v1783 v1852 v1921 v1990 v2059 v2128 v2197 v2928), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2928] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2928 k2_hw957 k2_h5 => k2_hw957 k2_h5

def k2_chk958 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2945 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2945] : Fin 1 → IVec S16 32) a x).toNat < S65536.size a)
theorem k2_idx951_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2945 : IVec S16 32) (k2_hw958 : k2_chk958 v58 v127 v196 v265 v334 v403 v472 v541 v610 v679 v748 v817 v886 v955 v1024 v1093 v1162 v1231 v1300 v1369 v1438 v1507 v1576 v1645 v1714 v1783 v1852 v1921 v1990 v2059 v2128 v2197 v2945), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2945] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2945 k2_hw958 k2_h5 => k2_hw958 k2_h5

def k2_chk959 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2962 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2962] : Fin 1 → IVec S16 32) a x).toNat < S65536.size a)
theorem k2_idx952_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2962 : IVec S16 32) (k2_hw959 : k2_chk959 v58 v127 v196 v265 v334 v403 v472 v541 v610 v679 v748 v817 v886 v955 v1024 v1093 v1162 v1231 v1300 v1369 v1438 v1507 v1576 v1645 v1714 v1783 v1852 v1921 v1990 v2059 v2128 v2197 v2962), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2962] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2962 k2_hw959 k2_h5 => k2_hw959 k2_h5

def k2_chk960 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2979 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2979] : Fin 1 → IVec S16 32) a x).toNat < S65536.size a)
theorem k2_idx953_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2979 : IVec S16 32) (k2_hw960 : k2_chk960 v58 v127 v196 v265 v334 v403 v472 v541 v610 v679 v748 v817 v886 v955 v1024 v1093 v1162 v1231 v1300 v1369 v1438 v1507 v1576 v1645 v1714 v1783 v1852 v1921 v1990 v2059 v2128 v2197 v2979), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2979] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2979 k2_hw960 k2_h5 => k2_hw960 k2_h5

def k2_chk961 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2996 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2996] : Fin 1 → IVec S16 32) a x).toNat < S65536.size a)
theorem k2_idx954_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v2996 : IVec S16 32) (k2_hw961 : k2_chk961 v58 v127 v196 v265 v334 v403 v472 v541 v610 v679 v748 v817 v886 v955 v1024 v1093 v1162 v1231 v1300 v1369 v1438 v1507 v1576 v1645 v1714 v1783 v1852 v1921 v1990 v2059 v2128 v2197 v2996), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v2996] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v2996 k2_hw961 k2_h5 => k2_hw961 k2_h5

def k2_chk962 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3013 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3013] : Fin 1 → IVec S16 32) a x).toNat < S65536.size a)
theorem k2_idx955_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3013 : IVec S16 32) (k2_hw962 : k2_chk962 v58 v127 v196 v265 v334 v403 v472 v541 v610 v679 v748 v817 v886 v955 v1024 v1093 v1162 v1231 v1300 v1369 v1438 v1507 v1576 v1645 v1714 v1783 v1852 v1921 v1990 v2059 v2128 v2197 v3013), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3013] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3013 k2_hw962 k2_h5 => k2_hw962 k2_h5

def k2_chk963 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3030 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3030] : Fin 1 → IVec S16 32) a x).toNat < S65536.size a)
theorem k2_idx956_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3030 : IVec S16 32) (k2_hw963 : k2_chk963 v58 v127 v196 v265 v334 v403 v472 v541 v610 v679 v748 v817 v886 v955 v1024 v1093 v1162 v1231 v1300 v1369 v1438 v1507 v1576 v1645 v1714 v1783 v1852 v1921 v1990 v2059 v2128 v2197 v3030), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3030] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3030 k2_hw963 k2_h5 => k2_hw963 k2_h5

def k2_chk964 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3047 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3047] : Fin 1 → IVec S16 32) a x).toNat < S65536.size a)
theorem k2_idx957_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3047 : IVec S16 32) (k2_hw964 : k2_chk964 v58 v127 v196 v265 v334 v403 v472 v541 v610 v679 v748 v817 v886 v955 v1024 v1093 v1162 v1231 v1300 v1369 v1438 v1507 v1576 v1645 v1714 v1783 v1852 v1921 v1990 v2059 v2128 v2197 v3047), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3047] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3047 k2_hw964 k2_h5 => k2_hw964 k2_h5

def k2_chk965 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3064 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3064] : Fin 1 → IVec S16 32) a x).toNat < S65536.size a)
theorem k2_idx958_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3064 : IVec S16 32) (k2_hw965 : k2_chk965 v58 v127 v196 v265 v334 v403 v472 v541 v610 v679 v748 v817 v886 v955 v1024 v1093 v1162 v1231 v1300 v1369 v1438 v1507 v1576 v1645 v1714 v1783 v1852 v1921 v1990 v2059 v2128 v2197 v3064), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3064] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3064 k2_hw965 k2_h5 => k2_hw965 k2_h5

def k2_chk966 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3081 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3081] : Fin 1 → IVec S16 32) a x).toNat < S65536.size a)
theorem k2_idx959_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3081 : IVec S16 32) (k2_hw966 : k2_chk966 v58 v127 v196 v265 v334 v403 v472 v541 v610 v679 v748 v817 v886 v955 v1024 v1093 v1162 v1231 v1300 v1369 v1438 v1507 v1576 v1645 v1714 v1783 v1852 v1921 v1990 v2059 v2128 v2197 v3081), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3081] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3081 k2_hw966 k2_h5 => k2_hw966 k2_h5

def k2_chk967 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3098 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3098] : Fin 1 → IVec S16 32) a x).toNat < S65536.size a)
theorem k2_idx960_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3098 : IVec S16 32) (k2_hw967 : k2_chk967 v58 v127 v196 v265 v334 v403 v472 v541 v610 v679 v748 v817 v886 v955 v1024 v1093 v1162 v1231 v1300 v1369 v1438 v1507 v1576 v1645 v1714 v1783 v1852 v1921 v1990 v2059 v2128 v2197 v3098), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3098] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3098 k2_hw967 k2_h5 => k2_hw967 k2_h5

def k2_chk968 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3115 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3115] : Fin 1 → IVec S16 32) a x).toNat < S65536.size a)
theorem k2_idx961_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3115 : IVec S16 32) (k2_hw968 : k2_chk968 v58 v127 v196 v265 v334 v403 v472 v541 v610 v679 v748 v817 v886 v955 v1024 v1093 v1162 v1231 v1300 v1369 v1438 v1507 v1576 v1645 v1714 v1783 v1852 v1921 v1990 v2059 v2128 v2197 v3115), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3115] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3115 k2_hw968 k2_h5 => k2_hw968 k2_h5

def k2_chk969 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3132 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3132] : Fin 1 → IVec S16 32) a x).toNat < S65536.size a)
theorem k2_idx962_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3132 : IVec S16 32) (k2_hw969 : k2_chk969 v58 v127 v196 v265 v334 v403 v472 v541 v610 v679 v748 v817 v886 v955 v1024 v1093 v1162 v1231 v1300 v1369 v1438 v1507 v1576 v1645 v1714 v1783 v1852 v1921 v1990 v2059 v2128 v2197 v3132), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3132] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3132 k2_hw969 k2_h5 => k2_hw969 k2_h5

def k2_chk970 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3149 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3149] : Fin 1 → IVec S16 32) a x).toNat < S65536.size a)
theorem k2_idx963_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3149 : IVec S16 32) (k2_hw970 : k2_chk970 v58 v127 v196 v265 v334 v403 v472 v541 v610 v679 v748 v817 v886 v955 v1024 v1093 v1162 v1231 v1300 v1369 v1438 v1507 v1576 v1645 v1714 v1783 v1852 v1921 v1990 v2059 v2128 v2197 v3149), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3149] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3149 k2_hw970 k2_h5 => k2_hw970 k2_h5

def k2_chk971 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3166 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3166] : Fin 1 → IVec S16 32) a x).toNat < S65536.size a)
theorem k2_idx964_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3166 : IVec S16 32) (k2_hw971 : k2_chk971 v58 v127 v196 v265 v334 v403 v472 v541 v610 v679 v748 v817 v886 v955 v1024 v1093 v1162 v1231 v1300 v1369 v1438 v1507 v1576 v1645 v1714 v1783 v1852 v1921 v1990 v2059 v2128 v2197 v3166), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3166] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3166 k2_hw971 k2_h5 => k2_hw971 k2_h5

def k2_chk972 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3183 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3183] : Fin 1 → IVec S16 32) a x).toNat < S65536.size a)
theorem k2_idx965_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3183 : IVec S16 32) (k2_hw972 : k2_chk972 v58 v127 v196 v265 v334 v403 v472 v541 v610 v679 v748 v817 v886 v955 v1024 v1093 v1162 v1231 v1300 v1369 v1438 v1507 v1576 v1645 v1714 v1783 v1852 v1921 v1990 v2059 v2128 v2197 v3183), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3183] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3183 k2_hw972 k2_h5 => k2_hw972 k2_h5

def k2_chk973 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3200 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3200] : Fin 1 → IVec S16 32) a x).toNat < S65536.size a)
theorem k2_idx966_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3200 : IVec S16 32) (k2_hw973 : k2_chk973 v58 v127 v196 v265 v334 v403 v472 v541 v610 v679 v748 v817 v886 v955 v1024 v1093 v1162 v1231 v1300 v1369 v1438 v1507 v1576 v1645 v1714 v1783 v1852 v1921 v1990 v2059 v2128 v2197 v3200), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3200] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3200 k2_hw973 k2_h5 => k2_hw973 k2_h5

def k2_chk974 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3217 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3217] : Fin 1 → IVec S16 32) a x).toNat < S65536.size a)
theorem k2_idx967_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3217 : IVec S16 32) (k2_hw974 : k2_chk974 v58 v127 v196 v265 v334 v403 v472 v541 v610 v679 v748 v817 v886 v955 v1024 v1093 v1162 v1231 v1300 v1369 v1438 v1507 v1576 v1645 v1714 v1783 v1852 v1921 v1990 v2059 v2128 v2197 v3217), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3217] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3217 k2_hw974 k2_h5 => k2_hw974 k2_h5

def k2_chk975 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3234 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3234] : Fin 1 → IVec S16 32) a x).toNat < S65536.size a)
theorem k2_idx968_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3234 : IVec S16 32) (k2_hw975 : k2_chk975 v58 v127 v196 v265 v334 v403 v472 v541 v610 v679 v748 v817 v886 v955 v1024 v1093 v1162 v1231 v1300 v1369 v1438 v1507 v1576 v1645 v1714 v1783 v1852 v1921 v1990 v2059 v2128 v2197 v3234), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3234] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3234 k2_hw975 k2_h5 => k2_hw975 k2_h5

def k2_chk976 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3251 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3251] : Fin 1 → IVec S16 32) a x).toNat < S65536.size a)
theorem k2_idx969_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3251 : IVec S16 32) (k2_hw976 : k2_chk976 v58 v127 v196 v265 v334 v403 v472 v541 v610 v679 v748 v817 v886 v955 v1024 v1093 v1162 v1231 v1300 v1369 v1438 v1507 v1576 v1645 v1714 v1783 v1852 v1921 v1990 v2059 v2128 v2197 v3251), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3251] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3251 k2_hw976 k2_h5 => k2_hw976 k2_h5

def k2_chk977 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3268 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3268] : Fin 1 → IVec S16 32) a x).toNat < S65536.size a)
theorem k2_idx970_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3268 : IVec S16 32) (k2_hw977 : k2_chk977 v58 v127 v196 v265 v334 v403 v472 v541 v610 v679 v748 v817 v886 v955 v1024 v1093 v1162 v1231 v1300 v1369 v1438 v1507 v1576 v1645 v1714 v1783 v1852 v1921 v1990 v2059 v2128 v2197 v3268), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3268] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3268 k2_hw977 k2_h5 => k2_hw977 k2_h5

def k2_chk978 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3285 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3285] : Fin 1 → IVec S16 32) a x).toNat < S65536.size a)
theorem k2_idx971_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3285 : IVec S16 32) (k2_hw978 : k2_chk978 v58 v127 v196 v265 v334 v403 v472 v541 v610 v679 v748 v817 v886 v955 v1024 v1093 v1162 v1231 v1300 v1369 v1438 v1507 v1576 v1645 v1714 v1783 v1852 v1921 v1990 v2059 v2128 v2197 v3285), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3285] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3285 k2_hw978 k2_h5 => k2_hw978 k2_h5

def k2_chk979 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3302 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3302] : Fin 1 → IVec S16 32) a x).toNat < S65536.size a)
theorem k2_idx972_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3302 : IVec S16 32) (k2_hw979 : k2_chk979 v58 v127 v196 v265 v334 v403 v472 v541 v610 v679 v748 v817 v886 v955 v1024 v1093 v1162 v1231 v1300 v1369 v1438 v1507 v1576 v1645 v1714 v1783 v1852 v1921 v1990 v2059 v2128 v2197 v3302), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3302] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3302 k2_hw979 k2_h5 => k2_hw979 k2_h5

def k2_chk980 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3319 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3319] : Fin 1 → IVec S16 32) a x).toNat < S65536.size a)
theorem k2_idx973_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3319 : IVec S16 32) (k2_hw980 : k2_chk980 v58 v127 v196 v265 v334 v403 v472 v541 v610 v679 v748 v817 v886 v955 v1024 v1093 v1162 v1231 v1300 v1369 v1438 v1507 v1576 v1645 v1714 v1783 v1852 v1921 v1990 v2059 v2128 v2197 v3319), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3319] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3319 k2_hw980 k2_h5 => k2_hw980 k2_h5

def k2_chk981 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3336 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3336] : Fin 1 → IVec S16 32) a x).toNat < S65536.size a)
theorem k2_idx974_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3336 : IVec S16 32) (k2_hw981 : k2_chk981 v58 v127 v196 v265 v334 v403 v472 v541 v610 v679 v748 v817 v886 v955 v1024 v1093 v1162 v1231 v1300 v1369 v1438 v1507 v1576 v1645 v1714 v1783 v1852 v1921 v1990 v2059 v2128 v2197 v3336), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3336] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3336 k2_hw981 k2_h5 => k2_hw981 k2_h5

def k2_chk982 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3353 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3353] : Fin 1 → IVec S16 32) a x).toNat < S65536.size a)
theorem k2_idx975_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3353 : IVec S16 32) (k2_hw982 : k2_chk982 v58 v127 v196 v265 v334 v403 v472 v541 v610 v679 v748 v817 v886 v955 v1024 v1093 v1162 v1231 v1300 v1369 v1438 v1507 v1576 v1645 v1714 v1783 v1852 v1921 v1990 v2059 v2128 v2197 v3353), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3353] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3353 k2_hw982 k2_h5 => k2_hw982 k2_h5

def k2_chk983 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3370 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3370] : Fin 1 → IVec S16 32) a x).toNat < S65536.size a)
theorem k2_idx976_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3370 : IVec S16 32) (k2_hw983 : k2_chk983 v58 v127 v196 v265 v334 v403 v472 v541 v610 v679 v748 v817 v886 v955 v1024 v1093 v1162 v1231 v1300 v1369 v1438 v1507 v1576 v1645 v1714 v1783 v1852 v1921 v1990 v2059 v2128 v2197 v3370), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3370] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3370 k2_hw983 k2_h5 => k2_hw983 k2_h5

def k2_chk984 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3387 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3387] : Fin 1 → IVec S16 32) a x).toNat < S65536.size a)
theorem k2_idx977_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3387 : IVec S16 32) (k2_hw984 : k2_chk984 v58 v127 v196 v265 v334 v403 v472 v541 v610 v679 v748 v817 v886 v955 v1024 v1093 v1162 v1231 v1300 v1369 v1438 v1507 v1576 v1645 v1714 v1783 v1852 v1921 v1990 v2059 v2128 v2197 v3387), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3387] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3387 k2_hw984 k2_h5 => k2_hw984 k2_h5

def k2_chk985 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3404 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3404] : Fin 1 → IVec S16 32) a x).toNat < S65536.size a)
theorem k2_idx978_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3404 : IVec S16 32) (k2_hw985 : k2_chk985 v58 v127 v196 v265 v334 v403 v472 v541 v610 v679 v748 v817 v886 v955 v1024 v1093 v1162 v1231 v1300 v1369 v1438 v1507 v1576 v1645 v1714 v1783 v1852 v1921 v1990 v2059 v2128 v2197 v3404), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3404] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3404 k2_hw985 k2_h5 => k2_hw985 k2_h5

def k2_chk986 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3421 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3421] : Fin 1 → IVec S16 32) a x).toNat < S65536.size a)
theorem k2_idx979_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3421 : IVec S16 32) (k2_hw986 : k2_chk986 v58 v127 v196 v265 v334 v403 v472 v541 v610 v679 v748 v817 v886 v955 v1024 v1093 v1162 v1231 v1300 v1369 v1438 v1507 v1576 v1645 v1714 v1783 v1852 v1921 v1990 v2059 v2128 v2197 v3421), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3421] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3421 k2_hw986 k2_h5 => k2_hw986 k2_h5

def k2_chk987 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3438 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3438] : Fin 1 → IVec S16 32) a x).toNat < S65536.size a)
theorem k2_idx980_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3438 : IVec S16 32) (k2_hw987 : k2_chk987 v58 v127 v196 v265 v334 v403 v472 v541 v610 v679 v748 v817 v886 v955 v1024 v1093 v1162 v1231 v1300 v1369 v1438 v1507 v1576 v1645 v1714 v1783 v1852 v1921 v1990 v2059 v2128 v2197 v3438), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3438] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3438 k2_hw987 k2_h5 => k2_hw987 k2_h5

def k2_chk988 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3455 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3455] : Fin 1 → IVec S16 32) a x).toNat < S65536.size a)
theorem k2_idx981_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3455 : IVec S16 32) (k2_hw988 : k2_chk988 v58 v127 v196 v265 v334 v403 v472 v541 v610 v679 v748 v817 v886 v955 v1024 v1093 v1162 v1231 v1300 v1369 v1438 v1507 v1576 v1645 v1714 v1783 v1852 v1921 v1990 v2059 v2128 v2197 v3455), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3455] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3455 k2_hw988 k2_h5 => k2_hw988 k2_h5

def k2_chk989 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3472 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3472] : Fin 1 → IVec S16 32) a x).toNat < S65536.size a)
theorem k2_idx982_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3472 : IVec S16 32) (k2_hw989 : k2_chk989 v58 v127 v196 v265 v334 v403 v472 v541 v610 v679 v748 v817 v886 v955 v1024 v1093 v1162 v1231 v1300 v1369 v1438 v1507 v1576 v1645 v1714 v1783 v1852 v1921 v1990 v2059 v2128 v2197 v3472), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3472] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3472 k2_hw989 k2_h5 => k2_hw989 k2_h5

def k2_chk990 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3489 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3489] : Fin 1 → IVec S16 32) a x).toNat < S65536.size a)
theorem k2_idx983_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3489 : IVec S16 32) (k2_hw990 : k2_chk990 v58 v127 v196 v265 v334 v403 v472 v541 v610 v679 v748 v817 v886 v955 v1024 v1093 v1162 v1231 v1300 v1369 v1438 v1507 v1576 v1645 v1714 v1783 v1852 v1921 v1990 v2059 v2128 v2197 v3489), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3489] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3489 k2_hw990 k2_h5 => k2_hw990 k2_h5

def k2_chk991 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3506 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3506] : Fin 1 → IVec S16 32) a x).toNat < S65536.size a)
theorem k2_idx984_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3506 : IVec S16 32) (k2_hw991 : k2_chk991 v58 v127 v196 v265 v334 v403 v472 v541 v610 v679 v748 v817 v886 v955 v1024 v1093 v1162 v1231 v1300 v1369 v1438 v1507 v1576 v1645 v1714 v1783 v1852 v1921 v1990 v2059 v2128 v2197 v3506), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3506] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3506 k2_hw991 k2_h5 => k2_hw991 k2_h5

def k2_chk992 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3523 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3523] : Fin 1 → IVec S16 32) a x).toNat < S65536.size a)
theorem k2_idx985_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3523 : IVec S16 32) (k2_hw992 : k2_chk992 v58 v127 v196 v265 v334 v403 v472 v541 v610 v679 v748 v817 v886 v955 v1024 v1093 v1162 v1231 v1300 v1369 v1438 v1507 v1576 v1645 v1714 v1783 v1852 v1921 v1990 v2059 v2128 v2197 v3523), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3523] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3523 k2_hw992 k2_h5 => k2_hw992 k2_h5

def k2_chk993 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3540 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3540] : Fin 1 → IVec S16 32) a x).toNat < S65536.size a)
theorem k2_idx986_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3540 : IVec S16 32) (k2_hw993 : k2_chk993 v58 v127 v196 v265 v334 v403 v472 v541 v610 v679 v748 v817 v886 v955 v1024 v1093 v1162 v1231 v1300 v1369 v1438 v1507 v1576 v1645 v1714 v1783 v1852 v1921 v1990 v2059 v2128 v2197 v3540), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3540] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3540 k2_hw993 k2_h5 => k2_hw993 k2_h5

def k2_chk994 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3557 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3557] : Fin 1 → IVec S16 32) a x).toNat < S65536.size a)
theorem k2_idx987_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3557 : IVec S16 32) (k2_hw994 : k2_chk994 v58 v127 v196 v265 v334 v403 v472 v541 v610 v679 v748 v817 v886 v955 v1024 v1093 v1162 v1231 v1300 v1369 v1438 v1507 v1576 v1645 v1714 v1783 v1852 v1921 v1990 v2059 v2128 v2197 v3557), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3557] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3557 k2_hw994 k2_h5 => k2_hw994 k2_h5

def k2_chk995 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3574 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3574] : Fin 1 → IVec S16 32) a x).toNat < S65536.size a)
theorem k2_idx988_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3574 : IVec S16 32) (k2_hw995 : k2_chk995 v58 v127 v196 v265 v334 v403 v472 v541 v610 v679 v748 v817 v886 v955 v1024 v1093 v1162 v1231 v1300 v1369 v1438 v1507 v1576 v1645 v1714 v1783 v1852 v1921 v1990 v2059 v2128 v2197 v3574), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3574] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3574 k2_hw995 k2_h5 => k2_hw995 k2_h5

def k2_chk996 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3591 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3591] : Fin 1 → IVec S16 32) a x).toNat < S65536.size a)
theorem k2_idx989_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3591 : IVec S16 32) (k2_hw996 : k2_chk996 v58 v127 v196 v265 v334 v403 v472 v541 v610 v679 v748 v817 v886 v955 v1024 v1093 v1162 v1231 v1300 v1369 v1438 v1507 v1576 v1645 v1714 v1783 v1852 v1921 v1990 v2059 v2128 v2197 v3591), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3591] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3591 k2_hw996 k2_h5 => k2_hw996 k2_h5

def k2_chk997 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3608 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3608] : Fin 1 → IVec S16 32) a x).toNat < S65536.size a)
theorem k2_idx990_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3608 : IVec S16 32) (k2_hw997 : k2_chk997 v58 v127 v196 v265 v334 v403 v472 v541 v610 v679 v748 v817 v886 v955 v1024 v1093 v1162 v1231 v1300 v1369 v1438 v1507 v1576 v1645 v1714 v1783 v1852 v1921 v1990 v2059 v2128 v2197 v3608), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3608] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3608 k2_hw997 k2_h5 => k2_hw997 k2_h5

def k2_chk998 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3625 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3625] : Fin 1 → IVec S16 32) a x).toNat < S65536.size a)
theorem k2_idx991_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3625 : IVec S16 32) (k2_hw998 : k2_chk998 v58 v127 v196 v265 v334 v403 v472 v541 v610 v679 v748 v817 v886 v955 v1024 v1093 v1162 v1231 v1300 v1369 v1438 v1507 v1576 v1645 v1714 v1783 v1852 v1921 v1990 v2059 v2128 v2197 v3625), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3625] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3625 k2_hw998 k2_h5 => k2_hw998 k2_h5

def k2_chk999 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3642 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3642] : Fin 1 → IVec S16 32) a x).toNat < S65536.size a)
theorem k2_idx992_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3642 : IVec S16 32) (k2_hw999 : k2_chk999 v58 v127 v196 v265 v334 v403 v472 v541 v610 v679 v748 v817 v886 v955 v1024 v1093 v1162 v1231 v1300 v1369 v1438 v1507 v1576 v1645 v1714 v1783 v1852 v1921 v1990 v2059 v2128 v2197 v3642), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3642] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3642 k2_hw999 k2_h5 => k2_hw999 k2_h5

def k2_chk1000 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3659 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3659] : Fin 1 → IVec S16 32) a x).toNat < S65536.size a)
theorem k2_idx993_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3659 : IVec S16 32) (k2_hw1000 : k2_chk1000 v58 v127 v196 v265 v334 v403 v472 v541 v610 v679 v748 v817 v886 v955 v1024 v1093 v1162 v1231 v1300 v1369 v1438 v1507 v1576 v1645 v1714 v1783 v1852 v1921 v1990 v2059 v2128 v2197 v3659), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3659] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3659 k2_hw1000 k2_h5 => k2_hw1000 k2_h5

def k2_chk1001 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3676 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3676] : Fin 1 → IVec S16 32) a x).toNat < S65536.size a)
theorem k2_idx994_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3676 : IVec S16 32) (k2_hw1001 : k2_chk1001 v58 v127 v196 v265 v334 v403 v472 v541 v610 v679 v748 v817 v886 v955 v1024 v1093 v1162 v1231 v1300 v1369 v1438 v1507 v1576 v1645 v1714 v1783 v1852 v1921 v1990 v2059 v2128 v2197 v3676), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3676] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3676 k2_hw1001 k2_h5 => k2_hw1001 k2_h5

def k2_chk1002 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3693 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3693] : Fin 1 → IVec S16 32) a x).toNat < S65536.size a)
theorem k2_idx995_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3693 : IVec S16 32) (k2_hw1002 : k2_chk1002 v58 v127 v196 v265 v334 v403 v472 v541 v610 v679 v748 v817 v886 v955 v1024 v1093 v1162 v1231 v1300 v1369 v1438 v1507 v1576 v1645 v1714 v1783 v1852 v1921 v1990 v2059 v2128 v2197 v3693), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3693] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3693 k2_hw1002 k2_h5 => k2_hw1002 k2_h5

def k2_chk1003 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3710 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3710] : Fin 1 → IVec S16 32) a x).toNat < S65536.size a)
theorem k2_idx996_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3710 : IVec S16 32) (k2_hw1003 : k2_chk1003 v58 v127 v196 v265 v334 v403 v472 v541 v610 v679 v748 v817 v886 v955 v1024 v1093 v1162 v1231 v1300 v1369 v1438 v1507 v1576 v1645 v1714 v1783 v1852 v1921 v1990 v2059 v2128 v2197 v3710), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3710] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3710 k2_hw1003 k2_h5 => k2_hw1003 k2_h5

def k2_chk1004 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3727 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3727] : Fin 1 → IVec S16 32) a x).toNat < S65536.size a)
theorem k2_idx997_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3727 : IVec S16 32) (k2_hw1004 : k2_chk1004 v58 v127 v196 v265 v334 v403 v472 v541 v610 v679 v748 v817 v886 v955 v1024 v1093 v1162 v1231 v1300 v1369 v1438 v1507 v1576 v1645 v1714 v1783 v1852 v1921 v1990 v2059 v2128 v2197 v3727), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3727] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3727 k2_hw1004 k2_h5 => k2_hw1004 k2_h5

def k2_chk1005 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3744 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3744] : Fin 1 → IVec S16 32) a x).toNat < S65536.size a)
theorem k2_idx998_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3744 : IVec S16 32) (k2_hw1005 : k2_chk1005 v58 v127 v196 v265 v334 v403 v472 v541 v610 v679 v748 v817 v886 v955 v1024 v1093 v1162 v1231 v1300 v1369 v1438 v1507 v1576 v1645 v1714 v1783 v1852 v1921 v1990 v2059 v2128 v2197 v3744), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3744] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3744 k2_hw1005 k2_h5 => k2_hw1005 k2_h5

def k2_chk1006 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3761 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3761] : Fin 1 → IVec S16 32) a x).toNat < S65536.size a)
theorem k2_idx999_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3761 : IVec S16 32) (k2_hw1006 : k2_chk1006 v58 v127 v196 v265 v334 v403 v472 v541 v610 v679 v748 v817 v886 v955 v1024 v1093 v1162 v1231 v1300 v1369 v1438 v1507 v1576 v1645 v1714 v1783 v1852 v1921 v1990 v2059 v2128 v2197 v3761), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3761] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3761 k2_hw1006 k2_h5 => k2_hw1006 k2_h5

def k2_chk1007 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3778 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3778] : Fin 1 → IVec S16 32) a x).toNat < S65536.size a)
theorem k2_idx1000_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3778 : IVec S16 32) (k2_hw1007 : k2_chk1007 v58 v127 v196 v265 v334 v403 v472 v541 v610 v679 v748 v817 v886 v955 v1024 v1093 v1162 v1231 v1300 v1369 v1438 v1507 v1576 v1645 v1714 v1783 v1852 v1921 v1990 v2059 v2128 v2197 v3778), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3778] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3778 k2_hw1007 k2_h5 => k2_hw1007 k2_h5

def k2_chk1008 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3795 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3795] : Fin 1 → IVec S16 32) a x).toNat < S65536.size a)
theorem k2_idx1001_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3795 : IVec S16 32) (k2_hw1008 : k2_chk1008 v58 v127 v196 v265 v334 v403 v472 v541 v610 v679 v748 v817 v886 v955 v1024 v1093 v1162 v1231 v1300 v1369 v1438 v1507 v1576 v1645 v1714 v1783 v1852 v1921 v1990 v2059 v2128 v2197 v3795), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3795] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3795 k2_hw1008 k2_h5 => k2_hw1008 k2_h5

def k2_chk1009 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3812 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3812] : Fin 1 → IVec S16 32) a x).toNat < S65536.size a)
theorem k2_idx1002_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3812 : IVec S16 32) (k2_hw1009 : k2_chk1009 v58 v127 v196 v265 v334 v403 v472 v541 v610 v679 v748 v817 v886 v955 v1024 v1093 v1162 v1231 v1300 v1369 v1438 v1507 v1576 v1645 v1714 v1783 v1852 v1921 v1990 v2059 v2128 v2197 v3812), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3812] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3812 k2_hw1009 k2_h5 => k2_hw1009 k2_h5

def k2_chk1010 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3829 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3829] : Fin 1 → IVec S16 32) a x).toNat < S65536.size a)
theorem k2_idx1003_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3829 : IVec S16 32) (k2_hw1010 : k2_chk1010 v58 v127 v196 v265 v334 v403 v472 v541 v610 v679 v748 v817 v886 v955 v1024 v1093 v1162 v1231 v1300 v1369 v1438 v1507 v1576 v1645 v1714 v1783 v1852 v1921 v1990 v2059 v2128 v2197 v3829), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3829] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3829 k2_hw1010 k2_h5 => k2_hw1010 k2_h5

def k2_chk1011 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3846 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3846] : Fin 1 → IVec S16 32) a x).toNat < S65536.size a)
theorem k2_idx1004_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3846 : IVec S16 32) (k2_hw1011 : k2_chk1011 v58 v127 v196 v265 v334 v403 v472 v541 v610 v679 v748 v817 v886 v955 v1024 v1093 v1162 v1231 v1300 v1369 v1438 v1507 v1576 v1645 v1714 v1783 v1852 v1921 v1990 v2059 v2128 v2197 v3846), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3846] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3846 k2_hw1011 k2_h5 => k2_hw1011 k2_h5

def k2_chk1012 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3863 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3863] : Fin 1 → IVec S16 32) a x).toNat < S65536.size a)
theorem k2_idx1005_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3863 : IVec S16 32) (k2_hw1012 : k2_chk1012 v58 v127 v196 v265 v334 v403 v472 v541 v610 v679 v748 v817 v886 v955 v1024 v1093 v1162 v1231 v1300 v1369 v1438 v1507 v1576 v1645 v1714 v1783 v1852 v1921 v1990 v2059 v2128 v2197 v3863), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3863] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3863 k2_hw1012 k2_h5 => k2_hw1012 k2_h5

def k2_chk1013 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3880 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3880] : Fin 1 → IVec S16 32) a x).toNat < S65536.size a)
theorem k2_idx1006_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3880 : IVec S16 32) (k2_hw1013 : k2_chk1013 v58 v127 v196 v265 v334 v403 v472 v541 v610 v679 v748 v817 v886 v955 v1024 v1093 v1162 v1231 v1300 v1369 v1438 v1507 v1576 v1645 v1714 v1783 v1852 v1921 v1990 v2059 v2128 v2197 v3880), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3880] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3880 k2_hw1013 k2_h5 => k2_hw1013 k2_h5

def k2_chk1014 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3897 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3897] : Fin 1 → IVec S16 32) a x).toNat < S65536.size a)
theorem k2_idx1007_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3897 : IVec S16 32) (k2_hw1014 : k2_chk1014 v58 v127 v196 v265 v334 v403 v472 v541 v610 v679 v748 v817 v886 v955 v1024 v1093 v1162 v1231 v1300 v1369 v1438 v1507 v1576 v1645 v1714 v1783 v1852 v1921 v1990 v2059 v2128 v2197 v3897), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3897] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3897 k2_hw1014 k2_h5 => k2_hw1014 k2_h5

def k2_chk1015 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3914 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3914] : Fin 1 → IVec S16 32) a x).toNat < S65536.size a)
theorem k2_idx1008_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3914 : IVec S16 32) (k2_hw1015 : k2_chk1015 v58 v127 v196 v265 v334 v403 v472 v541 v610 v679 v748 v817 v886 v955 v1024 v1093 v1162 v1231 v1300 v1369 v1438 v1507 v1576 v1645 v1714 v1783 v1852 v1921 v1990 v2059 v2128 v2197 v3914), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3914] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3914 k2_hw1015 k2_h5 => k2_hw1015 k2_h5

def k2_chk1016 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3931 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3931] : Fin 1 → IVec S16 32) a x).toNat < S65536.size a)
theorem k2_idx1009_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3931 : IVec S16 32) (k2_hw1016 : k2_chk1016 v58 v127 v196 v265 v334 v403 v472 v541 v610 v679 v748 v817 v886 v955 v1024 v1093 v1162 v1231 v1300 v1369 v1438 v1507 v1576 v1645 v1714 v1783 v1852 v1921 v1990 v2059 v2128 v2197 v3931), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3931] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3931 k2_hw1016 k2_h5 => k2_hw1016 k2_h5

def k2_chk1017 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3948 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3948] : Fin 1 → IVec S16 32) a x).toNat < S65536.size a)
theorem k2_idx1010_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3948 : IVec S16 32) (k2_hw1017 : k2_chk1017 v58 v127 v196 v265 v334 v403 v472 v541 v610 v679 v748 v817 v886 v955 v1024 v1093 v1162 v1231 v1300 v1369 v1438 v1507 v1576 v1645 v1714 v1783 v1852 v1921 v1990 v2059 v2128 v2197 v3948), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3948] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3948 k2_hw1017 k2_h5 => k2_hw1017 k2_h5

def k2_chk1018 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3965 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3965] : Fin 1 → IVec S16 32) a x).toNat < S65536.size a)
theorem k2_idx1011_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3965 : IVec S16 32) (k2_hw1018 : k2_chk1018 v58 v127 v196 v265 v334 v403 v472 v541 v610 v679 v748 v817 v886 v955 v1024 v1093 v1162 v1231 v1300 v1369 v1438 v1507 v1576 v1645 v1714 v1783 v1852 v1921 v1990 v2059 v2128 v2197 v3965), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3965] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3965 k2_hw1018 k2_h5 => k2_hw1018 k2_h5

def k2_chk1019 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3982 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3982] : Fin 1 → IVec S16 32) a x).toNat < S65536.size a)
theorem k2_idx1012_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3982 : IVec S16 32) (k2_hw1019 : k2_chk1019 v58 v127 v196 v265 v334 v403 v472 v541 v610 v679 v748 v817 v886 v955 v1024 v1093 v1162 v1231 v1300 v1369 v1438 v1507 v1576 v1645 v1714 v1783 v1852 v1921 v1990 v2059 v2128 v2197 v3982), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3982] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3982 k2_hw1019 k2_h5 => k2_hw1019 k2_h5

def k2_chk1020 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3999 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3999] : Fin 1 → IVec S16 32) a x).toNat < S65536.size a)
theorem k2_idx1013_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v3999 : IVec S16 32) (k2_hw1020 : k2_chk1020 v58 v127 v196 v265 v334 v403 v472 v541 v610 v679 v748 v817 v886 v955 v1024 v1093 v1162 v1231 v1300 v1369 v1438 v1507 v1576 v1645 v1714 v1783 v1852 v1921 v1990 v2059 v2128 v2197 v3999), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v3999] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v3999 k2_hw1020 k2_h5 => k2_hw1020 k2_h5

def k2_chk1021 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4016 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4016] : Fin 1 → IVec S16 32) a x).toNat < S65536.size a)
theorem k2_idx1014_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4016 : IVec S16 32) (k2_hw1021 : k2_chk1021 v58 v127 v196 v265 v334 v403 v472 v541 v610 v679 v748 v817 v886 v955 v1024 v1093 v1162 v1231 v1300 v1369 v1438 v1507 v1576 v1645 v1714 v1783 v1852 v1921 v1990 v2059 v2128 v2197 v4016), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4016] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4016 k2_hw1021 k2_h5 => k2_hw1021 k2_h5

def k2_chk1022 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4033 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4033] : Fin 1 → IVec S16 32) a x).toNat < S65536.size a)
theorem k2_idx1015_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4033 : IVec S16 32) (k2_hw1022 : k2_chk1022 v58 v127 v196 v265 v334 v403 v472 v541 v610 v679 v748 v817 v886 v955 v1024 v1093 v1162 v1231 v1300 v1369 v1438 v1507 v1576 v1645 v1714 v1783 v1852 v1921 v1990 v2059 v2128 v2197 v4033), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4033] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4033 k2_hw1022 k2_h5 => k2_hw1022 k2_h5

def k2_chk1023 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4050 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4050] : Fin 1 → IVec S16 32) a x).toNat < S65536.size a)
theorem k2_idx1016_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4050 : IVec S16 32) (k2_hw1023 : k2_chk1023 v58 v127 v196 v265 v334 v403 v472 v541 v610 v679 v748 v817 v886 v955 v1024 v1093 v1162 v1231 v1300 v1369 v1438 v1507 v1576 v1645 v1714 v1783 v1852 v1921 v1990 v2059 v2128 v2197 v4050), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4050] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4050 k2_hw1023 k2_h5 => k2_hw1023 k2_h5

def k2_chk1024 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4067 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4067] : Fin 1 → IVec S16 32) a x).toNat < S65536.size a)
theorem k2_idx1017_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4067 : IVec S16 32) (k2_hw1024 : k2_chk1024 v58 v127 v196 v265 v334 v403 v472 v541 v610 v679 v748 v817 v886 v955 v1024 v1093 v1162 v1231 v1300 v1369 v1438 v1507 v1576 v1645 v1714 v1783 v1852 v1921 v1990 v2059 v2128 v2197 v4067), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4067] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4067 k2_hw1024 k2_h5 => k2_hw1024 k2_h5

def k2_chk1025 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4084 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4084] : Fin 1 → IVec S16 32) a x).toNat < S65536.size a)
theorem k2_idx1018_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4084 : IVec S16 32) (k2_hw1025 : k2_chk1025 v58 v127 v196 v265 v334 v403 v472 v541 v610 v679 v748 v817 v886 v955 v1024 v1093 v1162 v1231 v1300 v1369 v1438 v1507 v1576 v1645 v1714 v1783 v1852 v1921 v1990 v2059 v2128 v2197 v4084), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4084] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4084 k2_hw1025 k2_h5 => k2_hw1025 k2_h5

def k2_chk1026 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4101 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4101] : Fin 1 → IVec S16 32) a x).toNat < S65536.size a)
theorem k2_idx1019_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4101 : IVec S16 32) (k2_hw1026 : k2_chk1026 v58 v127 v196 v265 v334 v403 v472 v541 v610 v679 v748 v817 v886 v955 v1024 v1093 v1162 v1231 v1300 v1369 v1438 v1507 v1576 v1645 v1714 v1783 v1852 v1921 v1990 v2059 v2128 v2197 v4101), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4101] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4101 k2_hw1026 k2_h5 => k2_hw1026 k2_h5

def k2_chk1027 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4118 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4118] : Fin 1 → IVec S16 32) a x).toNat < S65536.size a)
theorem k2_idx1020_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4118 : IVec S16 32) (k2_hw1027 : k2_chk1027 v58 v127 v196 v265 v334 v403 v472 v541 v610 v679 v748 v817 v886 v955 v1024 v1093 v1162 v1231 v1300 v1369 v1438 v1507 v1576 v1645 v1714 v1783 v1852 v1921 v1990 v2059 v2128 v2197 v4118), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4118] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4118 k2_hw1027 k2_h5 => k2_hw1027 k2_h5

def k2_chk1028 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4135 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4135] : Fin 1 → IVec S16 32) a x).toNat < S65536.size a)
theorem k2_idx1021_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4135 : IVec S16 32) (k2_hw1028 : k2_chk1028 v58 v127 v196 v265 v334 v403 v472 v541 v610 v679 v748 v817 v886 v955 v1024 v1093 v1162 v1231 v1300 v1369 v1438 v1507 v1576 v1645 v1714 v1783 v1852 v1921 v1990 v2059 v2128 v2197 v4135), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4135] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4135 k2_hw1028 k2_h5 => k2_hw1028 k2_h5

def k2_chk1029 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4152 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4152] : Fin 1 → IVec S16 32) a x).toNat < S65536.size a)
theorem k2_idx1022_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4152 : IVec S16 32) (k2_hw1029 : k2_chk1029 v58 v127 v196 v265 v334 v403 v472 v541 v610 v679 v748 v817 v886 v955 v1024 v1093 v1162 v1231 v1300 v1369 v1438 v1507 v1576 v1645 v1714 v1783 v1852 v1921 v1990 v2059 v2128 v2197 v4152), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4152] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4152 k2_hw1029 k2_h5 => k2_hw1029 k2_h5

def k2_chk1030 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4169 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4169] : Fin 1 → IVec S16 32) a x).toNat < S65536.size a)
theorem k2_idx1023_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4169 : IVec S16 32) (k2_hw1030 : k2_chk1030 v58 v127 v196 v265 v334 v403 v472 v541 v610 v679 v748 v817 v886 v955 v1024 v1093 v1162 v1231 v1300 v1369 v1438 v1507 v1576 v1645 v1714 v1783 v1852 v1921 v1990 v2059 v2128 v2197 v4169), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4169] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4169 k2_hw1030 k2_h5 => k2_hw1030 k2_h5

def k2_chk1031 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4186 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4186] : Fin 1 → IVec S16 32) a x).toNat < S65536.size a)
theorem k2_idx1024_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4186 : IVec S16 32) (k2_hw1031 : k2_chk1031 v58 v127 v196 v265 v334 v403 v472 v541 v610 v679 v748 v817 v886 v955 v1024 v1093 v1162 v1231 v1300 v1369 v1438 v1507 v1576 v1645 v1714 v1783 v1852 v1921 v1990 v2059 v2128 v2197 v4186), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4186] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4186 k2_hw1031 k2_h5 => k2_hw1031 k2_h5

def k2_chk1032 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4203 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4203] : Fin 1 → IVec S16 32) a x).toNat < S65536.size a)
theorem k2_idx1025_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4203 : IVec S16 32) (k2_hw1032 : k2_chk1032 v58 v127 v196 v265 v334 v403 v472 v541 v610 v679 v748 v817 v886 v955 v1024 v1093 v1162 v1231 v1300 v1369 v1438 v1507 v1576 v1645 v1714 v1783 v1852 v1921 v1990 v2059 v2128 v2197 v4203), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4203] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4203 k2_hw1032 k2_h5 => k2_hw1032 k2_h5

def k2_chk1033 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4220 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4220] : Fin 1 → IVec S16 32) a x).toNat < S65536.size a)
theorem k2_idx1026_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4220 : IVec S16 32) (k2_hw1033 : k2_chk1033 v58 v127 v196 v265 v334 v403 v472 v541 v610 v679 v748 v817 v886 v955 v1024 v1093 v1162 v1231 v1300 v1369 v1438 v1507 v1576 v1645 v1714 v1783 v1852 v1921 v1990 v2059 v2128 v2197 v4220), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4220] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4220 k2_hw1033 k2_h5 => k2_hw1033 k2_h5

def k2_chk1034 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4237 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4237] : Fin 1 → IVec S16 32) a x).toNat < S65536.size a)
theorem k2_idx1027_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4237 : IVec S16 32) (k2_hw1034 : k2_chk1034 v58 v127 v196 v265 v334 v403 v472 v541 v610 v679 v748 v817 v886 v955 v1024 v1093 v1162 v1231 v1300 v1369 v1438 v1507 v1576 v1645 v1714 v1783 v1852 v1921 v1990 v2059 v2128 v2197 v4237), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4237] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4237 k2_hw1034 k2_h5 => k2_hw1034 k2_h5

def k2_chk1035 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4254 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4254] : Fin 1 → IVec S16 32) a x).toNat < S65536.size a)
theorem k2_idx1028_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4254 : IVec S16 32) (k2_hw1035 : k2_chk1035 v58 v127 v196 v265 v334 v403 v472 v541 v610 v679 v748 v817 v886 v955 v1024 v1093 v1162 v1231 v1300 v1369 v1438 v1507 v1576 v1645 v1714 v1783 v1852 v1921 v1990 v2059 v2128 v2197 v4254), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4254] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4254 k2_hw1035 k2_h5 => k2_hw1035 k2_h5

def k2_chk1036 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4271 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4271] : Fin 1 → IVec S16 32) a x).toNat < S65536.size a)
theorem k2_idx1029_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4271 : IVec S16 32) (k2_hw1036 : k2_chk1036 v58 v127 v196 v265 v334 v403 v472 v541 v610 v679 v748 v817 v886 v955 v1024 v1093 v1162 v1231 v1300 v1369 v1438 v1507 v1576 v1645 v1714 v1783 v1852 v1921 v1990 v2059 v2128 v2197 v4271), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4271] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4271 k2_hw1036 k2_h5 => k2_hw1036 k2_h5

def k2_chk1037 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4288 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4288] : Fin 1 → IVec S16 32) a x).toNat < S65536.size a)
theorem k2_idx1030_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4288 : IVec S16 32) (k2_hw1037 : k2_chk1037 v58 v127 v196 v265 v334 v403 v472 v541 v610 v679 v748 v817 v886 v955 v1024 v1093 v1162 v1231 v1300 v1369 v1438 v1507 v1576 v1645 v1714 v1783 v1852 v1921 v1990 v2059 v2128 v2197 v4288), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4288] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4288 k2_hw1037 k2_h5 => k2_hw1037 k2_h5

def k2_chk1038 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4305 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4305] : Fin 1 → IVec S16 32) a x).toNat < S65536.size a)
theorem k2_idx1031_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4305 : IVec S16 32) (k2_hw1038 : k2_chk1038 v58 v127 v196 v265 v334 v403 v472 v541 v610 v679 v748 v817 v886 v955 v1024 v1093 v1162 v1231 v1300 v1369 v1438 v1507 v1576 v1645 v1714 v1783 v1852 v1921 v1990 v2059 v2128 v2197 v4305), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4305] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4305 k2_hw1038 k2_h5 => k2_hw1038 k2_h5

def k2_chk1039 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4322 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4322] : Fin 1 → IVec S16 32) a x).toNat < S65536.size a)
theorem k2_idx1032_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4322 : IVec S16 32) (k2_hw1039 : k2_chk1039 v58 v127 v196 v265 v334 v403 v472 v541 v610 v679 v748 v817 v886 v955 v1024 v1093 v1162 v1231 v1300 v1369 v1438 v1507 v1576 v1645 v1714 v1783 v1852 v1921 v1990 v2059 v2128 v2197 v4322), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4322] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4322 k2_hw1039 k2_h5 => k2_hw1039 k2_h5

def k2_chk1040 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4339 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4339] : Fin 1 → IVec S16 32) a x).toNat < S65536.size a)
theorem k2_idx1033_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4339 : IVec S16 32) (k2_hw1040 : k2_chk1040 v58 v127 v196 v265 v334 v403 v472 v541 v610 v679 v748 v817 v886 v955 v1024 v1093 v1162 v1231 v1300 v1369 v1438 v1507 v1576 v1645 v1714 v1783 v1852 v1921 v1990 v2059 v2128 v2197 v4339), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4339] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4339 k2_hw1040 k2_h5 => k2_hw1040 k2_h5

def k2_chk1041 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4356 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4356] : Fin 1 → IVec S16 32) a x).toNat < S65536.size a)
theorem k2_idx1034_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4356 : IVec S16 32) (k2_hw1041 : k2_chk1041 v58 v127 v196 v265 v334 v403 v472 v541 v610 v679 v748 v817 v886 v955 v1024 v1093 v1162 v1231 v1300 v1369 v1438 v1507 v1576 v1645 v1714 v1783 v1852 v1921 v1990 v2059 v2128 v2197 v4356), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4356] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4356 k2_hw1041 k2_h5 => k2_hw1041 k2_h5

def k2_chk1042 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4373 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4373] : Fin 1 → IVec S16 32) a x).toNat < S65536.size a)
theorem k2_idx1035_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4373 : IVec S16 32) (k2_hw1042 : k2_chk1042 v58 v127 v196 v265 v334 v403 v472 v541 v610 v679 v748 v817 v886 v955 v1024 v1093 v1162 v1231 v1300 v1369 v1438 v1507 v1576 v1645 v1714 v1783 v1852 v1921 v1990 v2059 v2128 v2197 v4373), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4373] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4373 k2_hw1042 k2_h5 => k2_hw1042 k2_h5

def k2_chk1043 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4390 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4390] : Fin 1 → IVec S16 32) a x).toNat < S65536.size a)
theorem k2_idx1036_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4390 : IVec S16 32) (k2_hw1043 : k2_chk1043 v58 v127 v196 v265 v334 v403 v472 v541 v610 v679 v748 v817 v886 v955 v1024 v1093 v1162 v1231 v1300 v1369 v1438 v1507 v1576 v1645 v1714 v1783 v1852 v1921 v1990 v2059 v2128 v2197 v4390), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4390] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4390 k2_hw1043 k2_h5 => k2_hw1043 k2_h5

def k2_chk1044 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4407 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4407] : Fin 1 → IVec S16 32) a x).toNat < S65536.size a)
theorem k2_idx1037_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4407 : IVec S16 32) (k2_hw1044 : k2_chk1044 v58 v127 v196 v265 v334 v403 v472 v541 v610 v679 v748 v817 v886 v955 v1024 v1093 v1162 v1231 v1300 v1369 v1438 v1507 v1576 v1645 v1714 v1783 v1852 v1921 v1990 v2059 v2128 v2197 v4407), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4407] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4407 k2_hw1044 k2_h5 => k2_hw1044 k2_h5

def k2_chk1045 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4424 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4424] : Fin 1 → IVec S16 32) a x).toNat < S65536.size a)
theorem k2_idx1038_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4424 : IVec S16 32) (k2_hw1045 : k2_chk1045 v58 v127 v196 v265 v334 v403 v472 v541 v610 v679 v748 v817 v886 v955 v1024 v1093 v1162 v1231 v1300 v1369 v1438 v1507 v1576 v1645 v1714 v1783 v1852 v1921 v1990 v2059 v2128 v2197 v4424), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4424] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4424 k2_hw1045 k2_h5 => k2_hw1045 k2_h5

def k2_chk1046 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4441 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4441] : Fin 1 → IVec S16 32) a x).toNat < S65536.size a)
theorem k2_idx1039_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4441 : IVec S16 32) (k2_hw1046 : k2_chk1046 v58 v127 v196 v265 v334 v403 v472 v541 v610 v679 v748 v817 v886 v955 v1024 v1093 v1162 v1231 v1300 v1369 v1438 v1507 v1576 v1645 v1714 v1783 v1852 v1921 v1990 v2059 v2128 v2197 v4441), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4441] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4441 k2_hw1046 k2_h5 => k2_hw1046 k2_h5

def k2_chk1047 (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4458 : IVec S16 32) : Prop :=
  (∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4458] : Fin 1 → IVec S16 32) a x).toNat < S65536.size a)
theorem k2_idx1040_inb : ∀ (v58 : BitVec 32) (v127 : BitVec 32) (v196 : BitVec 32) (v265 : BitVec 32) (v334 : BitVec 32) (v403 : BitVec 32) (v472 : BitVec 32) (v541 : BitVec 32) (v610 : BitVec 32) (v679 : BitVec 32) (v748 : BitVec 32) (v817 : BitVec 32) (v886 : BitVec 32) (v955 : BitVec 32) (v1024 : BitVec 32) (v1093 : BitVec 32) (v1162 : BitVec 32) (v1231 : BitVec 32) (v1300 : BitVec 32) (v1369 : BitVec 32) (v1438 : BitVec 32) (v1507 : BitVec 32) (v1576 : BitVec 32) (v1645 : BitVec 32) (v1714 : BitVec 32) (v1783 : BitVec 32) (v1852 : BitVec 32) (v1921 : BitVec 32) (v1990 : BitVec 32) (v2059 : BitVec 32) (v2128 : BitVec 32) (v2197 : BitVec 32) (v4458 : IVec S16 32) (k2_hw1047 : k2_chk1047 v58 v127 v196 v265 v334 v403 v472 v541 v610 v679 v748 v817 v886 v955 v1024 v1093 v1162 v1231 v1300 v1369 v1438 v1507 v1576 v1645 v1714 v1783 v1852 v1921 v1990 v2059 v2128 v2197 v4458), ∀ (k2_h5 : k2_cond5 v58 v127 v196 v265 v334 v403 v472 v541 v610 v679 v748 v817 v886 v955 v1024 v1093 v1162 v1231 v1300 v1369 v1438 v1507 v1576 v1645 v1714 v1783 v1852 v1921 v1990 v2059 v2128 v2197 = 1#1), ∀ a x, ((![v4458] : Fin 1 → IVec S16 32) a x).toNat < S65536.size a := fun v58 v127 v196 v265 v334 v403 v472 v541 v610 v679 v748 v817 v886 v955 v1024 v1093 v1162 v1231 v1300 v1369 v1438 v1507 v1576 v1645 v1714 v1783 v1852 v1921 v1990 v2059 v2128 v2197 v4458 k2_hw1047 k2_h5 => k2_hw1047 k2_h5
abbrev scKind : Fin 3 → Kind := fun | 0 => .scVector | 1 => .scVector | 2 => .scVector | ⟨_ + 3, h⟩ => absurd h (Nat.not_lt.2 (Nat.le_add_left _ _))
abbrev scNCore : Fin 3 → Nat := fun | 0 => 2 | 1 => 2 | 2 => 2 | ⟨_ + 3, h⟩ => absurd h (Nat.not_lt.2 (Nat.le_add_left _ _))
abbrev scNSub : Fin 3 → Nat := fun | 0 => 16 | 1 => 16 | 2 => 16 | ⟨_ + 3, h⟩ => absurd h (Nat.not_lt.2 (Nat.le_add_left _ _))
-- ==== Reference.lean ====
abbrev S4096x128 : Shape := ⟨2, ![4096, 128]⟩
abbrev S1000000 : Shape := ⟨1, ![1000000]⟩
abbrev S20 : Shape := ⟨1, ![20]⟩
abbrev S_ : Shape := ⟨0, ![]⟩
abbrev S1000000x1 : Shape := ⟨2, ![1000000, 1]⟩
abbrev S4096x4096 : Shape := ⟨2, ![4096, 4096]⟩
abbrev S1000000x2 : Shape := ⟨2, ![1000000, 2]⟩

abbrev nBuf : Space → Nat
  | .hbm => 43
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S1000000, .i32⟩
  | .hbm, ⟨2, _⟩ => ⟨S1000000, .i32⟩
  | .hbm, ⟨3, _⟩ => ⟨S1000000, .i32⟩
  | .hbm, ⟨4, _⟩ => ⟨S20, .f32⟩
  | .hbm, ⟨5, _⟩ => ⟨S_, .i32⟩
  | .hbm, ⟨6, _⟩ => ⟨S1000000, .i32⟩
  | .hbm, ⟨7, _⟩ => ⟨S1000000, .i32⟩
  | .hbm, ⟨8, _⟩ => ⟨S_, .i32⟩
  | .hbm, ⟨9, _⟩ => ⟨S1000000, .i32⟩
  | .hbm, ⟨10, _⟩ => ⟨S1000000, .i32⟩
  | .hbm, ⟨11, _⟩ => ⟨S_, .i32⟩
  | .hbm, ⟨12, _⟩ => ⟨S1000000, .i32⟩
  | .hbm, ⟨13, _⟩ => ⟨S1000000, .i32⟩
  | .hbm, ⟨14, _⟩ => ⟨S_, .i32⟩
  | .hbm, ⟨15, _⟩ => ⟨S1000000, .i32⟩
  | .hbm, ⟨16, _⟩ => ⟨S1000000, .i1⟩
  | .hbm, ⟨17, _⟩ => ⟨S_, .i32⟩
  | .hbm, ⟨18, _⟩ => ⟨S1000000, .i32⟩
  | .hbm, ⟨19, _⟩ => ⟨S1000000, .i32⟩
  | .hbm, ⟨20, _⟩ => ⟨S1000000, .i32⟩
  | .hbm, ⟨21, _⟩ => ⟨S1000000x1, .i32⟩
  | .hbm, ⟨22, _⟩ => ⟨S1000000, .f32⟩
  | .hbm, ⟨23, _⟩ => ⟨S_, .f32⟩
  | .hbm, ⟨24, _⟩ => ⟨S4096x4096, .f32⟩
  | .hbm, ⟨25, _⟩ => ⟨S_, .i32⟩
  | .hbm, ⟨26, _⟩ => ⟨S1000000, .i32⟩
  | .hbm, ⟨27, _⟩ => ⟨S1000000, .i1⟩
  | .hbm, ⟨28, _⟩ => ⟨S_, .i32⟩
  | .hbm, ⟨29, _⟩ => ⟨S1000000, .i32⟩
  | .hbm, ⟨30, _⟩ => ⟨S1000000, .i32⟩
  | .hbm, ⟨31, _⟩ => ⟨S1000000, .i32⟩
  | .hbm, ⟨32, _⟩ => ⟨S_, .i32⟩
  | .hbm, ⟨33, _⟩ => ⟨S1000000, .i32⟩
  | .hbm, ⟨34, _⟩ => ⟨S1000000, .i1⟩
  | .hbm, ⟨35, _⟩ => ⟨S_, .i32⟩
  | .hbm, ⟨36, _⟩ => ⟨S1000000, .i32⟩
  | .hbm, ⟨37, _⟩ => ⟨S1000000, .i32⟩
  | .hbm, ⟨38, _⟩ => ⟨S1000000, .i32⟩
  | .hbm, ⟨39, _⟩ => ⟨S1000000x1, .i32⟩
  | .hbm, ⟨40, _⟩ => ⟨S1000000x1, .i32⟩
  | .hbm, ⟨41, _⟩ => ⟨S1000000x2, .i32⟩
  | .hbm, ⟨42, _⟩ => ⟨S4096x4096, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_v2 : Ref sig .tc := ⟨.hbm, 9, rfl⟩
abbrev main_v3 : Ref sig .tc := ⟨.hbm, 10, rfl⟩
abbrev main_c_1 : Ref sig .tc := ⟨.hbm, 11, rfl⟩
abbrev main_v4 : Ref sig .tc := ⟨.hbm, 12, rfl⟩
abbrev main_v5 : Ref sig .tc := ⟨.hbm, 13, rfl⟩
abbrev main_c_2 : Ref sig .tc := ⟨.hbm, 14, rfl⟩
abbrev main_v6 : Ref sig .tc := ⟨.hbm, 15, rfl⟩
abbrev main_v7 : Ref sig .tc := ⟨.hbm, 16, rfl⟩
abbrev main_c_3 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst : Ref sig .tc := ⟨.hbm, 23, rfl⟩
abbrev main_v13 : Ref sig .tc := ⟨.hbm, 24, rfl⟩
abbrev main_c_4 : Ref sig .tc := ⟨.hbm, 25, rfl⟩
abbrev main_v14 : Ref sig .tc := ⟨.hbm, 26, rfl⟩
abbrev main_v15 : Ref sig .tc := ⟨.hbm, 27, rfl⟩
abbrev main_c_5 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_6 : Ref sig .tc := ⟨.hbm, 32, rfl⟩
abbrev main_v19 : Ref sig .tc := ⟨.hbm, 33, rfl⟩
abbrev main_v20 : Ref sig .tc := ⟨.hbm, 34, rfl⟩
abbrev main_c_7 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩

abbrev nD : Nat := 1
abbrev τ : Topo := Topo.v7x

variable {F : FTy → Type} [FloatOps F]
-- ==== Proof.Roll.lean ====
/-
  The unrolled windows of the three bodies, rolled up: a printed body repeats one step at offsets 0, 16, 32, …; `rep`
  is that repetition, and each body is shown to be a short program made of `rep`s.
-/
module

public import proofs.«01_k».proof.KernelIdeal
public import proofs.«01_k».proof.Proof.Gen.KernelIdeal

@[expose] public section

noncomputable section

namespace Cert.Proof.Roll

open Cert.KernelIdeal Cert.KernelIdeal.Gen
open Idealize.ShloMosaic Idealize.SL.Sem

variable {F : FTy → Type} [FloatOps F]

/-- `f k`, then `f (k + 1)`, … : `n` steps. -/
def rep {E : Type → Type} (f : Nat → Prog E PUnit.{1}) : Nat → Nat → Prog E PUnit.{1}
  | 0, _ => pure ⟨⟩
  | n + 1, k => f k >>= fun _ => rep f n (k + 1)

/-- The vector at place `16 (v % 64)` of a window of 1024 words. -/
theorem win_inb (v : Nat) : ∀ a, (![16 * (v % 64)] : Fin 1 → Nat) a + S16.size a ≤ S1024.size a := by
  intro a; obtain rfl : a = 0 := Subsingleton.elim _ _
  show 16 * (v % 64) + 16 ≤ 1024
  omega

abbrev rW (v : Nat) : Rect S1024 := Rect.unit (s := S1024) ![16 * (v % 64)] S16.size (win_inb v)

section K1

variable (i : grid0.Coords) (arg2 : Memref sig .scVector .hbm S1000000 .i32) (harg2 : arg2.IsWhole)
  (arg3 : Memref sig .scVector .hbm S1024 .i32) (harg3 : arg3.IsWhole) (arg4 : Memref sig .scVector .vmem S1024 .i32) (harg4 : arg4.IsWhole)
  (arg5 : Memref sig .scVector .vmem S32 .i32) (harg5 : arg5.IsWhole) (s0 s1 s2 : DmaSems sig S_)

/-- One vector counted: load it, shift to groups, check, add ones where the mask says so. -/
def step1 (m : IVec S16 1) (v : Nat) : Prog (TpuEff nD τ sig (Elt F) Λ₀ (.scVector ((i 0).castLE hcore0) ((i 1).castLE hsub0))) PUnit := do
  let x : Vec F S16 .i32 ← Prog.lift (.load arg4 (rW v).toLoadRect (View.loadsAt_vmem h_S16))
  have g : IVec S16 32 := shrsi x (broadcast S16 7#32)
  have hw : k0_chk1 g := (← Prog.lift (TpuEff.assume (k0_chk1 g) (k0_chk1.dec g))).down
  SparseCore.vectorStoreIdx arg5 ![g] (broadcast S16 1#32) m true (k0_idx1_inb g hw) (View.stores_vmem_bits_univ h_S32 rfl)

/-- The first full vector of the tail this tile owns. -/
def vlo (w : BitVec 32) : BitVec 32 :=
  Scalar.subi (Scalar.addi (Scalar.muli w 1954#32) 1920#32) (Scalar.minsi (Scalar.addi (Scalar.muli w 1954#32) 1920#32) 62466#32)

def wid (a b : Nat) : BitVec 32 := Scalar.addi (Scalar.muli (BitVec.ofNat 32 a) 16#32) (BitVec.ofNat 32 b)

def win1 (t : Fin k0_t1_loop.trips) : Prog (TpuEff nD τ sig (Elt F) Λ₀ (.scVector ((i 0).castLE hcore0) ((i 1).castLE hsub0))) PUnit := do
  Prog.lift (.enqueueDma (arg2.slice (Rect.unit (s := S1000000) (k0_off1 i t) S1024.size (k0_off1_inb i t)) (fun _ => rfl)) (.here arg4) (.dma s0.sem) (View.wordExact_bits rfl) harg4.wordExact ⟨Or.inl rfl, trivial⟩)
  Prog.lift (.waitDma2 s0.sem (arg2.slice (Rect.unit (s := S1000000) (k0_off1 i t) S1024.size (k0_off1_inb i t)) (fun _ => rfl)) arg4 (View.wordExact_bits rfl) harg4.wordExact)
  rep (step1 (F := F) i arg4 arg5 (fun _ => 1#1)) 64 0

def body1 : Prog (TpuEff nD τ sig (Elt F) Λ₀ (.scVector ((i 0).castLE hcore0) ((i 1).castLE hsub0))) PUnit := do
  let _ : Vec F S16 .i32 ← Prog.lift (.load arg5 (Rect.unit (s := S32) ![0] S16.size inb_S32_S16_0).toLoadRect (View.loadsAt_vmem h_S16))
  Prog.lift (.store arg5 (Rect.unit (s := S32) ![0] S16.size inb_S32_S16_0) (broadcast S16 0#32 : IVec S16 32) Finset.univ (View.stores_vmem_bits_univ h_S16 rfl) (.inl rfl))
  let _ : Vec F S16 .i32 ← Prog.lift (.load arg5 (Rect.unit (s := S32) ![16] S16.size inb_S32_S16_16).toLoadRect (View.loadsAt_vmem h_S16))
  Prog.lift (.store arg5 (Rect.unit (s := S32) ![16] S16.size inb_S32_S16_16) (broadcast S16 0#32 : IVec S16 32) Finset.univ (View.stores_vmem_bits_univ h_S16 rfl) (.inl rfl))
  Scf.Loop.for k0_t1_loop k0_t1_ok ⟨⟩ fun t _ => win1 i arg2 arg4 harg4 arg5 s0 t
  Prog.lift (.enqueueDma (arg2.slice (Rect.unit (s := S1000000) (k0_off2 i) S544.size (k0_off2_inb i)) (fun _ => rfl)) (.here (arg4.slice (Rect.unit (s := S1024) ![0] S544.size inb_S1024_S544_0) (fun _ => rfl))) (.dma s1.sem) (View.wordExact_bits rfl) (View.wordExact_bits rfl) ⟨Or.inl rfl, trivial⟩)
  Prog.lift (.waitDma2 s1.sem (arg2.slice (Rect.unit (s := S1000000) (k0_off2 i) S544.size (k0_off2_inb i)) (fun _ => rfl)) (arg4.slice (Rect.unit (s := S1024) ![0] S544.size inb_S1024_S544_0) (fun _ => rfl)) (View.wordExact_bits rfl) (View.wordExact_bits rfl))
  rep (fun v => step1 (F := F) i arg4 arg5 (cmpi .sge (broadcast S16 (BitVec.ofNat 32 v)) (broadcast S16 (vlo (wid (i 0).val (i 1).val)))) v) 34 0
  Prog.lift (.enqueueDma arg5 (.here (arg3.slice (Rect.unit (s := S1024) (k0_off3 i) S32.size (k0_off3_inb i)) (fun _ => rfl))) (.dma s2.sem) harg5.wordExact (View.wordExact_bits rfl) ⟨Or.inl rfl, trivial⟩)
  Prog.lift (.waitDma2 s2.sem arg5 (arg3.slice (Rect.unit (s := S1024) (k0_off3 i) S32.size (k0_off3_inb i)) (fun _ => rfl)) harg5.wordExact (View.wordExact_bits rfl))

set_option maxRecDepth 100000 in
set_option maxHeartbeats 4000000 in
theorem cc0_eq : cc0__k1 (F := F) i arg2 harg2 arg3 harg3 arg4 harg4 arg5 harg5 s0 s1 s2 = body1 i arg2 arg3 arg4 harg4 arg5 harg5 s0 s1 s2 := by
    delta cc0__k1 k0_part8 body1
    simp only [Prog.bind_assoc, pure_bind, bind_assoc]
    refine congrArg _ (funext fun _ => ?_)
    refine congrArg _ (funext fun _ => ?_)
    refine congrArg _ (funext fun _ => ?_)
    refine congrArg _ (funext fun _ => ?_)
    refine congrArg₂ _ ?_ ?_
    · refine congrArg _ (funext fun _ => (funext fun _ => ?_))
      rfl
    · refine (funext fun _ => ?_)
      refine congrArg _ (funext fun _ => ?_)
      refine congrArg _ (funext fun _ => ?_)
      simp only [rep, Prog.bind_assoc, pure_bind, bind_assoc]
      unfold step1
      simp only [rep, Prog.bind_assoc, pure_bind, bind_assoc]
      refine congrArg _ (funext fun _ => ?_)
      refine congrArg _ (funext fun _ => ?_)
      refine congrArg₂ _ ?_ ?_
      · rfl
      · refine (funext fun _ => ?_)
        delta k0_part9 k0_part10 k0_part11 k0_part12 k0_part13 k0_part14
        simp only [Prog.bind_assoc, pure_bind, bind_assoc]
        iterate 33
          refine congrArg _ (funext fun _ => ?_)
          refine congrArg _ (funext fun _ => ?_)
          refine congrArg₂ _ ?_ ?_; rfl
          refine (funext fun _ => ?_)
        refine congrArg _ (funext fun _ => ?_)
        rfl

end K1

end Cert.Proof.Roll

end
-- ==== Proof.Wp.lean ====
/-
  The kernels' operations on a subcore's memory: a memref's contents as a function of its index, and one rule per
  operation.
-/
module

public import proofs.«01_k».proof.Proof.Roll
public import Idealize.ShloMosaic.Lib.SparseCore.Quiescent
public import Idealize.ShloMosaic.Lib.StableHlo.Run
public import Idealize.ShloMosaic.Lib.Pipeline.Kit
public import Idealize.ShloMosaic.Lib.Tactic
public import Idealize.ShloMosaic.Lib.Batch

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

abbrev ΛP : Labels := Pipeline.Sig Λ₀ (Fin 0) fun p => (pcfgs (F := F) p).Adm
abbrev K : SparseCore.Cfg τ sig (ΛP (F := F)) 3 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

abbrev UH : Type := URounds (GSem nD τ sig) ℕ
abbrev UU : Type := UH × Counters

local notation "𝕄" => MT nD τ sig (HIx 3) (Elt F) ℕ UU ℕ

abbrev EH : Emb UH (MT nD τ sig (HIx 3) (Elt F) ℕ UU ℕ) := embL

section Rules

variable (d : Dev nD) (c : Fin τ.nSC) (i : Fin τ.nSub)

/-- A share of a memref's elements, which read `v`. -/
def At {sp : Space} {s : Shape} {e : EltTy} (m : Memref sig .scVector sp s e) (q : PosShare TreeShare) (v : s.Idx → Elt F e) : sProp 𝕄 :=
  iprop(∃ f : Buf (Elt F) (m.view.loc (V d c i)), ⌜m.view.read (Elt F) f = v⌝ ∗ (m.view.loc (V d c i) ↦[m.view.set]{q} f))

variable {sp : Space} {s : Shape} {e : EltTy} {m : Memref sig .scVector sp s e} {q : PosShare TreeShare} {v : s.Idx → Elt F e}

theorem At_intro (f : Buf (Elt F) (m.view.loc (V d c i))) (h : m.view.read (Elt F) f = v) :
    (m.view.loc (V d c i) ↦[m.view.set]{q} f) ⊢ At (F := F) d c i m q v := by
  unfold At
  iintro H
  iexists f
  isplitr
  · ipureintro; exact h
  · iexact H

theorem At_congr (v' : s.Idx → Elt F e) (h : v = v') : At (F := F) d c i m q v = At (F := F) d c i m q v' := by rw [h]

theorem bigSep3 (D : Fin 3 → sProp 𝕄) : bigSep Finset.univ D ⊢ iprop(D 0 ∗ D 1 ∗ D 2) := by
  rw [show (Finset.univ : Finset (Fin 3)) = insert 0 (insert 1 {2}) from by decide, SparseCore.bigSep_insert' (by decide), SparseCore.bigSep_insert' (by decide), bigSep_singleton]

/-- Part of a memref on its own, and back with new contents. -/
theorem At_slice (r : Rect s) (hr : ∀ a, r.stride a = 1) :
    At (F := F) d c i m q v ⊢ iprop(At (F := F) d c i (m.slice r hr) q (fun x => v (r.idx x))
      ∗ (∀ w v', ⌜(∀ x, v' (r.idx x) = w x) ∧ ∀ y, (∀ x, r.idx x ≠ y) → v' y = v y⌝ -∗ At (F := F) d c i (m.slice r hr) q w -∗ At (F := F) d c i m q v')) := by
  unfold At
  iintro ⟨%f, %hf, H⟩
  ihave H := (pointsTo_split_subset (q := q) (f := f) (S := m.view.set) (View.set_slice_subset (v := m.view) r)).1 $$ H
  icases H with ⟨H1, H2⟩
  isplitl [H1]
  · iexists f
    isplitr
    · ipureintro; rw [← hf]; rfl
    · iexact H1
  · iintro %w %v' %hv ⟨%g, %hg, H1⟩
    ihave H := (pointsTo_join (q := q) (f := f) (g := g) (I := m.view.set \ (m.view.slice r).set) (J := (m.view.slice r).set) Finset.sdiff_disjoint) $$ [H1 H2]
    · isplitl [H2] <;> iassumption
    iexists ((m.view.slice r).set.piecewise g f)
    isplitr
    · ipureintro
      funext y
      by_cases hy : ∃ x, r.idx x = y
      · obtain ⟨x, rfl⟩ := hy
        rw [hv.1 x, ← hg]
        refine congrArg (_root_.cast _) (Finset.piecewise_eq_of_mem (s := (m.view.slice r).set) (i := m.view.emb (r.idx x)) g f ?_)
        exact View.emb_mem_set (v := m.view.slice r) x
      · rw [hv.2 y (fun x hx => hy ⟨x, hx⟩), ← hf]
        refine congrArg (_root_.cast _) (Finset.piecewise_eq_of_notMem (s := (m.view.slice r).set) (i := m.view.emb y) g f ?_)
        intro hm
        obtain ⟨x, -, hx⟩ := Finset.mem_map.1 hm
        exact hy ⟨x, m.view.emb.injective hx⟩
    · rw [Finset.sdiff_union_of_subset (View.set_slice_subset (v := m.view) r)]
      iexact H

variable [FloatOps F]

abbrev wpT {α : Type} (p : Prog (TpuEff nD τ sig (Elt F) Λ₀ (.scVector c i)) α) (Q : α → sProp 𝕄) : sProp 𝕄 :=
  wp frame (wpE (defs₀ (F := F)) 𝒱₀ (V d c i) none) Set.univ p Q

variable {α : Type} {mv : Memref sig .scVector .vmem s e}

theorem wp_ld {Q : α → sProp 𝕄} (r : Rect s) {hl : mv.view.LoadsAt r.toLoadRect} {k : (r.shape.Idx → Elt F e) → Prog (TpuEff nD τ sig (Elt F) Λ₀ (.scVector c i)) α} :
    At (F := F) d c i mv q v ⊢ iprop((At (F := F) d c i mv q v -∗ wpT d c i (k (fun x => v (r.idx x))) Q)
      -∗ wpT d c i ((Prog.lift (.load mv r.toLoadRect hl) : Prog (TpuEff nD τ sig (Elt F) Λ₀ (.scVector c i)) _) >>= k) Q) := by
  unfold At
  iintro ⟨%f, %hf, H⟩ Hk
  rw [Prog.bind_lift]
  iapply (wp_load_rect (defs := defs₀ (F := F)) 𝒱₀ (V d c i) none Set.univ (Q := Q) (m := mv) (r := r) (hl := hl) (k := k) (q := q) (f := f)
    (S := mv.view.set) (View.set_slice_subset (v := mv.view) r)) $$ H
  iintro H
  rw [show (mv.access r).read (Elt F) f = fun x => v (r.idx x) from by rw [← hf]; rfl]
  iapply Hk
  iexists f
  isplitr
  · ipureintro; exact hf
  · iexact H

theorem wp_st {Q : α → sProp 𝕄} (r : Rect s) (w : r.shape.Idx → Elt F e) (v' : s.Idx → Elt F e)
    (hv : ∀ x, v' (r.idx x) = w x) (hv' : ∀ y, (∀ x, r.idx x ≠ y) → v' y = v y)
    {hx : (mv.access r).Stores Finset.univ} {hm : (Finset.univ : Finset r.shape.Idx) = Finset.univ ∨ ∀ a, r.stride a = 1} {k : PUnit → Prog (TpuEff nD τ sig (Elt F) Λ₀ (.scVector c i)) α} :
    At (F := F) d c i mv fullShare v ⊢ iprop((At (F := F) d c i mv fullShare v' -∗ wpT d c i (k ⟨⟩) Q)
      -∗ wpT d c i ((Prog.lift (.store mv r w Finset.univ hx hm) : Prog (TpuEff nD τ sig (Elt F) Λ₀ (.scVector c i)) _) >>= k) Q) := by
  unfold At
  iintro ⟨%f, %hf, H⟩ Hk
  rw [Prog.bind_lift]
  iapply (wp_store (defs := defs₀ (F := F)) 𝒱₀ (V d c i) none Set.univ (Q := Q) (m := mv) (r := r) (w := w) (Mk := Finset.univ) (hx := hx) (hm := hm) (k := k) (f := f)
    (S := mv.view.set) (View.set_slice_subset (v := mv.view) r)) $$ H
  iintro H
  iapply Hk
  iexists ((mv.access r).write (Elt F) f w Finset.univ)
  isplitr
  · ipureintro
    funext y
    by_cases hy : ∃ x, r.idx x = y
    · obtain ⟨x, rfl⟩ := hy
      rw [hv x]
      exact View.read_slice_write_emb (v := mv.view) r f w (Finset.mem_univ x)
    · rw [hv' y (fun x hx => hy ⟨x, hx⟩), ← hf]
      refine View.read_slice_write_of_not_mem (v := mv.view) r f w Finset.univ ?_
      intro hm
      obtain ⟨x, -, hx⟩ := Finset.mem_map.1 hm
      exact hy ⟨x, hx⟩
  · iexact H

theorem whole_idx (x : s.Idx) : (Rect.whole s).idx x = x := by
  exact Rect.emb_whole_apply s x

theorem set_access_whole {sp : Space} (m : Memref sig .scVector sp s e) : (m.access (Rect.whole s)).set = m.view.set := by
  rw [View.set_slice, Rect.set_whole]; rfl

theorem read_access_whole {sp : Space} (m : Memref sig .scVector sp s e) (f : Buf (Elt F) (m.view.loc (V d c i))) :
    (m.access (Rect.whole s)).read (Elt F) f = m.view.read (Elt F) f := by
  funext x
  show m.view.read (Elt F) f ((Rect.whole s).idx x) = _
  rw [whole_idx]

theorem wp_ldx {Q : α → sProp 𝕄} {s' : Shape} {idxs : Fin s.rank → IVec s' 32} {h : ∀ a x, (idxs a x).toNat < s.size a} {hl : mv.view.Loads} {k : (s'.Idx → Elt F e) → Prog (TpuEff nD τ sig (Elt F) Λ₀ (.scVector c i)) α} :
    At (F := F) d c i mv q v ⊢ iprop((At (F := F) d c i mv q v -∗ wpT d c i (k (loadIdx v idxs h)) Q)
      -∗ wpT d c i (SparseCore.vectorLoadIdx mv idxs h hl >>= k) Q) := by
  unfold At
  iintro ⟨%f, %hf, H⟩ Hk
  iapply (SparseCore.wp_vectorLoadIdx (defs := defs₀ (F := F)) 𝒱₀ (V d c i) none Set.univ (Q := Q) (base := mv) (idxs := idxs) (h := h) (hl := hl) (k := k) (q := q) (f := f)
    (S := mv.view.set) (View.set_slice_subset (v := mv.view) _)) $$ H
  iintro H
  rw [read_access_whole d c i mv f, hf]
  iapply Hk
  iexists f
  isplitr
  · ipureintro; exact hf
  · iexact H

theorem wp_stx {Q : α → sProp 𝕄} {n : Fin 1 → Nat} {idxs : Fin s.rank → IVec ⟨1, n⟩ 32} {w : Vec F ⟨1, n⟩ e} {mask : IVec ⟨1, n⟩ 1} {add : Bool} {h : ∀ a x, (idxs a x).toNat < s.size a}
    {hs : (mv.access (.whole s)).Stores Finset.univ} {k : PUnit → Prog (TpuEff nD τ sig (Elt F) Λ₀ (.scVector c i)) α} :
    At (F := F) d c i mv fullShare v ⊢ iprop((At (F := F) d c i mv fullShare (storeIdx v idxs w mask add h) -∗ wpT d c i (k ⟨⟩) Q)
      -∗ wpT d c i (SparseCore.vectorStoreIdx mv idxs w mask add h hs >>= k) Q) := by
  unfold At
  iintro ⟨%f, %hf, H⟩ Hk
  rw [← set_access_whole mv]
  iapply (SparseCore.wp_vectorStoreIdx (defs := defs₀ (F := F)) 𝒱₀ (V d c i) none Set.univ (Q := Q) (base := mv) (idxs := idxs) (v := w) (mask := mask) (add := add) (h := h) (hs := hs) (k := k) (f := f)) $$ H
  iintro H
  iapply Hk
  iexists _
  isplitr
  rotate_left
  · iexact H
  · ipureintro
    rw [← read_access_whole d c i mv, View.read_write_univ, read_access_whole d c i mv, hf]

theorem wp_asm {Q : α → sProp 𝕄} {P : Prop} {dec : Decidable P} (h : P) {k : PLift P → Prog (TpuEff nD τ sig (Elt F) Λ₀ (.scVector c i)) α} :
    wpT d c i (k ⟨h⟩) Q ⊢ wpT d c i ((Prog.lift (.assume P dec) : Prog (TpuEff nD τ sig (Elt F) Λ₀ (.scVector c i)) _) >>= k) Q := by
  rw [Prog.bind_lift]
  unfold wpT
  rw [wp_assume_of (defs := defs₀ (F := F)) 𝒱₀ (V d c i) none Set.univ h]

/-- The waits a thread may have made: those it had, and waits on copies. -/
def Owe (O : CellTallies nD τ sig (HIx 3)) (W : Waits sig (HIx 3)) : sProp 𝕄 :=
  iprop(∃ W' : Waits sig (HIx 3), ⌜∀ p ∈ W', p ∈ W ∨ p.2 = none⌝ ∗ owes (V d c i) O W')

/-- One copy, waited for at once. -/
theorem wp_cp {Q : α → sProp 𝕄} {O : CellTallies nD τ sig (HIx 3)} {W : Waits sig (HIx 3)} {sp sp' : Space} {src : Memref sig .scVector sp s e} {dst : Memref sig .scVector sp' s e} {sm : DmaSem sig} {v₀ : s.Idx → Elt F e}
    (hp : 0 < s.numel) {h₁ : src.view.WordExact} {h₂ : dst.view.WordExact} {h₁' : src.view.WordExact} {h₂' : dst.view.WordExact} {h₃}
    {k : PUnit → Prog (TpuEff nD τ sig (Elt F) Λ₀ (.scVector c i)) α} :
    (Transfers.MayWaits (V d c i) (default : HIx 3) O : sProp 𝕄) ⊢ iprop((At (F := F) d c i src q v ∗ At (F := F) d c i dst fullShare v₀ ∗ semVal ((V d c i : Thread nD τ), SemLoc.dma sm) 0 ∗ Owe (F := F) d c i O W)
      -∗ ((At (F := F) d c i src q v ∗ At (F := F) d c i dst fullShare v ∗ semVal ((V d c i : Thread nD τ), SemLoc.dma sm) 0 ∗ Owe (F := F) d c i O W) -∗ wpT d c i (k ⟨⟩) Q)
      -∗ wpT d c i ((Prog.lift (.enqueueDma src (.here dst) (.dma sm) h₁ h₂ h₃) : Prog (TpuEff nD τ sig (Elt F) Λ₀ (.scVector c i)) _) >>= fun _ =>
          (Prog.lift (.waitDma2 sm src dst h₁' h₂') : Prog (TpuEff nD τ sig (Elt F) Λ₀ (.scVector c i)) _) >>= k) Q) := by
  unfold At Owe
  iintro #Hm ⟨⟨%f, %hf, H⟩, ⟨%g, %hg, Hg⟩, Hs, ⟨%W', %hW, Ho⟩⟩ Hk
  rw [Prog.bind_lift]
  iapply (Transfers.wp_dmaLocal countersEmb (defs := defs₀ (F := F)) 𝒱₀ (V d c i) none (Q := Q) (src := src) (dst := dst) (default : HIx 3) _ rfl (View.dmaCredit_pos _ hp) (subset_rfl) (q := q) (fs := f) (fd := g)) $$ [H Hg Hs]
  · isplitl [H]; · iexact H
    isplitl [Hg]; · iexact Hg
    iexact Hs
  iintro Hf
  rw [Prog.bind_lift]
  ihave Hmw := (Transfers.MayWaits.elim (SemLoc.dma sm)) $$ Hm
  iapply (Transfers.wp_waitLocalO countersEmb (defs := defs₀ (F := F)) 𝒱₀ (V d c i) none (Q := Q) (default : HIx 3) rfl) $$ [Hf Ho Hmw]
  · isplitl [Hf]; · iexact Hf
    isplitl [Ho] <;> iassumption
  iintro ⟨⟨Hg, H⟩, Hs, Ho⟩
  iapply Hk
  isplitl [H]
  · iexists f
    isplitr
    · ipureintro; exact hf
    · iexact H
  isplitl [Hg]
  · iexists _
    isplitr
    rotate_left
    · iexact Hg
    · ipureintro
      rw [View.read_write_univ, ReadAs.apply_same, hf]
  isplitl [Hs]; · iexact Hs
  iexists _
  isplitr
  rotate_left
  · iexact Ho
  · ipureintro
    intro p hp
    rcases Finset.mem_insert.1 hp with rfl | hp
    · exact .inr rfl
    · exact hW p hp

/-- Three copies outstanding on one semaphore, then their three waits. -/
theorem wp_cp3 {Q : α → sProp 𝕄} {O : CellTallies nD τ sig (HIx 3)} {W : Waits sig (HIx 3)} {src₁ src₂ src₃ : Memref sig .scVector .hbm s .i32} {dst₁ dst₂ dst₃ : Memref sig .scVector .vmem s .i32} {sm : DmaSem sig}
    {q₁ q₂ q₃ : PosShare TreeShare} {v₁ v₂ v₃ w₁ w₂ w₃ : s.Idx → Elt F .i32} (hp : 0 < s.numel) {N : ℕ} (hN₁ : dst₁.view.dmaCredit = N) (hN₂ : dst₂.view.dmaCredit = N) (hN₃ : dst₃.view.dmaCredit = N)
    {h₁ : src₁.view.WordExact} {h₁' : dst₁.view.WordExact} {h₁''} {h₂ : src₂.view.WordExact} {h₂' : dst₂.view.WordExact} {h₂''} {h₃ : src₃.view.WordExact} {h₃' : dst₃.view.WordExact} {h₃''}
    {g₁ : src₁.view.WordExact} {g₁' : dst₁.view.WordExact} {g₂ : src₂.view.WordExact} {g₂' : dst₂.view.WordExact} {g₃ : src₃.view.WordExact} {g₃' : dst₃.view.WordExact}
    {k : PUnit → Prog (TpuEff nD τ sig (Elt F) Λ₀ (.scVector c i)) α} :
    (Transfers.MayWaits (V d c i) (default : HIx 3) O : sProp 𝕄) ⊢ iprop((At (F := F) d c i src₁ q₁ v₁ ∗ At (F := F) d c i src₂ q₂ v₂ ∗ At (F := F) d c i src₃ q₃ v₃
        ∗ At (F := F) d c i dst₁ fullShare w₁ ∗ At (F := F) d c i dst₂ fullShare w₂ ∗ At (F := F) d c i dst₃ fullShare w₃ ∗ semVal ((V d c i : Thread nD τ), SemLoc.dma sm) 0 ∗ Owe (F := F) d c i O W)
      -∗ ((At (F := F) d c i src₁ q₁ v₁ ∗ At (F := F) d c i src₂ q₂ v₂ ∗ At (F := F) d c i src₃ q₃ v₃
        ∗ At (F := F) d c i dst₁ fullShare v₁ ∗ At (F := F) d c i dst₂ fullShare v₂ ∗ At (F := F) d c i dst₃ fullShare v₃ ∗ semVal ((V d c i : Thread nD τ), SemLoc.dma sm) 0 ∗ Owe (F := F) d c i O W) -∗ wpT d c i (k ⟨⟩) Q)
      -∗ wpT d c i ((Prog.lift (.enqueueDma src₁ (.here dst₁) (.dma sm) h₁ h₁' h₁'') : Prog (TpuEff nD τ sig (Elt F) Λ₀ (.scVector c i)) _) >>= fun _ =>
          (Prog.lift (.enqueueDma src₂ (.here dst₂) (.dma sm) h₂ h₂' h₂'') : Prog (TpuEff nD τ sig (Elt F) Λ₀ (.scVector c i)) _) >>= fun _ =>
          (Prog.lift (.enqueueDma src₃ (.here dst₃) (.dma sm) h₃ h₃' h₃'') : Prog (TpuEff nD τ sig (Elt F) Λ₀ (.scVector c i)) _) >>= fun _ =>
          (Prog.lift (.waitDma2 sm src₁ dst₁ g₁ g₁') : Prog (TpuEff nD τ sig (Elt F) Λ₀ (.scVector c i)) _) >>= fun _ =>
          (Prog.lift (.waitDma2 sm src₂ dst₂ g₂ g₂') : Prog (TpuEff nD τ sig (Elt F) Λ₀ (.scVector c i)) _) >>= fun _ =>
          (Prog.lift (.waitDma2 sm src₃ dst₃ g₃ g₃') : Prog (TpuEff nD τ sig (Elt F) Λ₀ (.scVector c i)) _) >>= k) Q) := by
  have hN0 : 0 < N := hN₁ ▸ View.dmaCredit_pos _ hp
  unfold At Owe
  iintro #Hm ⟨⟨%f₁, %hf₁, H₁⟩, ⟨%f₂, %hf₂, H₂⟩, ⟨%f₃, %hf₃, H₃⟩, ⟨%e₁, -, G₁⟩, ⟨%e₂, -, G₂⟩, ⟨%e₃, -, G₃⟩, Hs, ⟨%W', %hW, Ho⟩⟩ Hk
  let D : Fin 3 → sProp 𝕄 := ![iprop((dst₁.view.loc (V d c i) ↦[dst₁.view.set]{fullShare} (dst₁.view.write (Elt F) e₁ ((ReadAs.same : ReadAs (Elt F) s .i32 s .i32).apply (src₁.view.read (Elt F) f₁)) Finset.univ)) ∗ (src₁.view.loc (V d c i) ↦[src₁.view.set]{q₁} f₁)),
    iprop((dst₂.view.loc (V d c i) ↦[dst₂.view.set]{fullShare} (dst₂.view.write (Elt F) e₂ ((ReadAs.same : ReadAs (Elt F) s .i32 s .i32).apply (src₂.view.read (Elt F) f₂)) Finset.univ)) ∗ (src₂.view.loc (V d c i) ↦[src₂.view.set]{q₂} f₂)),
    iprop((dst₃.view.loc (V d c i) ↦[dst₃.view.set]{fullShare} (dst₃.view.write (Elt F) e₃ ((ReadAs.same : ReadAs (Elt F) s .i32 s .i32).apply (src₃.view.read (Elt F) f₃)) Finset.univ)) ∗ (src₃.view.loc (V d c i) ↦[src₃.view.set]{q₃} f₃))]
  haveI : ∀ t, Storable (upEmb : UEmb _ 𝕄) (D t) := by
    intro t; match t with
    | 0 => exact (inferInstanceAs (Storable _ iprop(_ ∗ _)))
    | 1 => exact (inferInstanceAs (Storable _ iprop(_ ∗ _)))
    | 2 => exact (inferInstanceAs (Storable _ iprop(_ ∗ _)))
  imod (Transfers.batch_alloc' countersEmb (V d c i) (sm := SemLoc.dma sm) (default : HIx 3) N D (E := Set.univ)) $$ Hs with HB
  rw [Prog.bind_lift]
  iapply (Transfers.wp_dmaBatch countersEmb (defs := defs₀ (F := F)) 𝒱₀ (V d c i) none (Q := Q) (src := src₁) (dst := dst₁) (default : HIx 3) N (sm := SemLoc.dma sm) hN₁ (subset_rfl) (q := q₁) (fs := f₁) (fd := e₁) (D := D) (j := 0) (u := 0) (by omega) (by omega) .rfl) $$ [H₁ G₁ HB]
  · isplitl [H₁]; · iexact H₁
    isplitl [G₁] <;> iassumption
  iintro HB
  rw [Prog.bind_lift]
  iapply (Transfers.wp_dmaBatch countersEmb (defs := defs₀ (F := F)) 𝒱₀ (V d c i) none (Q := Q) (src := src₂) (dst := dst₂) (default : HIx 3) N (sm := SemLoc.dma sm) hN₂ (subset_rfl) (q := q₂) (fs := f₂) (fd := e₂) (D := D) (j := 1) (u := 0) (by omega) (by omega) .rfl) $$ [H₂ G₂ HB]
  · isplitl [H₂]; · iexact H₂
    isplitl [G₂] <;> iassumption
  iintro HB
  rw [Prog.bind_lift]
  iapply (Transfers.wp_dmaBatch countersEmb (defs := defs₀ (F := F)) 𝒱₀ (V d c i) none (Q := Q) (src := src₃) (dst := dst₃) (default : HIx 3) N (sm := SemLoc.dma sm) hN₃ (subset_rfl) (q := q₃) (fs := f₃) (fd := e₃) (D := D) (j := 2) (u := 0) (by omega) (by omega) .rfl) $$ [H₃ G₃ HB]
  · isplitl [H₃]; · iexact H₃
    isplitl [G₃] <;> iassumption
  iintro HB
  rw [Prog.bind_lift]
  ihave Hmw := (Transfers.MayWaits.elim (SemLoc.dma sm)) $$ Hm
  iapply (Transfers.wp_waitBatchO countersEmb (defs := defs₀ (F := F)) 𝒱₀ (V d c i) none (Q := Q) (default : HIx 3) hN₁ (D := D) (u := 0) (by omega)) $$ [HB Ho Hmw]
  · isplitl [HB]; · iexact HB
    isplitl [Ho] <;> iassumption
  iintro ⟨HB, Ho⟩
  rw [Prog.bind_lift]
  ihave Hmw := (Transfers.MayWaits.elim (SemLoc.dma sm)) $$ Hm
  iapply (Transfers.wp_waitBatchO countersEmb (defs := defs₀ (F := F)) 𝒱₀ (V d c i) none (Q := Q) (default : HIx 3) hN₂ (D := D) (u := 0 + N) (by omega)) $$ [HB Ho Hmw]
  · isplitl [HB]; · iexact HB
    isplitl [Ho] <;> iassumption
  iintro ⟨HB, Ho⟩
  rw [Prog.bind_lift]
  ihave Hmw := (Transfers.MayWaits.elim (SemLoc.dma sm)) $$ Hm
  iapply (Transfers.wp_waitBatchLastO countersEmb (defs := defs₀ (F := F)) 𝒱₀ (V d c i) none (Q := Q) (default : HIx 3) hN₃ hN0 (D := D) (u := 0 + N + N) (by omega)) $$ [HB Ho Hmw]
  · isplitl [HB]; · iexact HB
    isplitl [Ho] <;> iassumption
  iintro ⟨HD, Hs, Ho⟩
  ihave HD := (show bigSep Finset.univ D ⊢ iprop(D 0 ∗ D 1 ∗ D 2) from bigSep3 D) $$ HD
  icases HD with ⟨D₁, D₂, D₃⟩
  ihave D₁ := (show D 0 ⊢ iprop(_ ∗ _) from .rfl) $$ D₁
  ihave D₂ := (show D 1 ⊢ iprop(_ ∗ _) from .rfl) $$ D₂
  ihave D₃ := (show D 2 ⊢ iprop(_ ∗ _) from .rfl) $$ D₃
  icases D₁ with ⟨G₁, H₁⟩
  icases D₂ with ⟨G₂, H₂⟩
  icases D₃ with ⟨G₃, H₃⟩
  iapply Hk
  isplitl [H₁]
  · iexists f₁
    isplitr
    · ipureintro; exact hf₁
    · iexact H₁
  isplitl [H₂]
  · iexists f₂
    isplitr
    · ipureintro; exact hf₂
    · iexact H₂
  isplitl [H₃]
  · iexists f₃
    isplitr
    · ipureintro; exact hf₃
    · iexact H₃
  isplitl [G₁]
  · iexists _
    isplitr
    rotate_left
    · iexact G₁
    · ipureintro
      rw [View.read_write_univ, ReadAs.apply_same, hf₁]
  isplitl [G₂]
  · iexists _
    isplitr
    rotate_left
    · iexact G₂
    · ipureintro
      rw [View.read_write_univ, ReadAs.apply_same, hf₂]
  isplitl [G₃]
  · iexists _
    isplitr
    rotate_left
    · iexact G₃
    · ipureintro
      rw [View.read_write_univ, ReadAs.apply_same, hf₃]
  isplitl [Hs]; · iexact Hs
  iexists _
  isplitr
  rotate_left
  · iexact Ho
  · ipureintro
    intro p hp
    rcases Finset.mem_insert.1 hp with rfl | hp
    · exact .inr rfl
    rcases Finset.mem_insert.1 hp with rfl | hp
    · exact .inr rfl
    rcases Finset.mem_insert.1 hp with rfl | hp
    · exact .inr rfl
    · exact hW p hp

end Rules

end Cert.Proof.Tile

end
-- ==== Proof.Wp1.lean ====
/-
  The rules of `Wp` for arrays of one axis, their contents a function of a natural number.
-/
module

public import proofs.«01_k».proof.Proof.Wp

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 3) (Elt F) ℕ UU ℕ

section Rules

variable (d : Dev nD) (c : Fin τ.nSC) (i : Fin τ.nSub)

/-- A share of an array of one axis, whose element `n` is `g n`. -/
def At1 {sp : Space} {n : Fin 1 → ℕ} {e : EltTy} (m : Memref sig .scVector sp ⟨1, n⟩ e) (q : PosShare TreeShare) (g : ℕ → Elt F e) : sProp 𝕄 :=
  At (F := F) d c i m q (fun x => g (x 0).val)

variable {sp : Space} {n : Fin 1 → ℕ} {e : EltTy} {m : Memref sig .scVector sp ⟨1, n⟩ e} {q : PosShare TreeShare} {g : ℕ → Elt F e}

theorem At1_congr (g' : ℕ → Elt F e) (h : ∀ k < n 0, g k = g' k) : At1 (F := F) d c i m q g = At1 (F := F) d c i m q g' := by
  unfold At1
  exact At_congr d c i _ (funext fun x => h _ (x 0).isLt)

theorem At1_of_eq {g' : ℕ → Elt F e} (h : ∀ k < n 0, g k = g' k) : At1 (F := F) d c i m q g ⊢ At1 (F := F) d c i m q g' := by
  rw [At1_congr d c i g' h]

theorem ix_eq (r : Rect ⟨1, n⟩) (hs : ∀ a, r.stride a = 1) (x : r.shape.Idx) : (r.idx x 0).val = r.off 0 + (x 0).val := by
  show r.off 0 + r.stride 0 * (x 0).val = _
  rw [hs, one_mul]

theorem At1_slice (r : Rect ⟨1, n⟩) (hr : ∀ a, r.stride a = 1) (o z : ℕ) (ho : r.off 0 = o) (hz : r.size 0 = z) :
    At1 (F := F) d c i m q g ⊢ iprop(At1 (F := F) d c i (n := r.size) (m.slice r hr) q (fun k => g (o + k))
      ∗ (∀ w : ℕ → Elt F e, At1 (F := F) d c i (n := r.size) (m.slice r hr) q w -∗ At1 (F := F) d c i m q (fun k => if o ≤ k ∧ k < o + z then w (k - o) else g k))) := by
  unfold At1
  iintro H
  ihave H := (At_slice d c i r hr) $$ H
  icases H with ⟨H, Hw⟩
  isplitl [H]
  · rw [show (fun x : r.shape.Idx => g (r.idx x 0).val) = fun x => g (o + (x 0).val) from funext fun x => by rw [ix_eq r hr, ho]]
    iexact H
  · iintro %w H
    ispecialize Hw $$ %(fun x => w (x 0).val)
    ispecialize Hw $$ %(fun x => if o ≤ (x 0).val ∧ (x 0).val < o + z then w ((x 0).val - o) else g (x 0).val)
    iapply Hw
    · ipureintro
      subst ho hz
      refine ⟨fun x => ?_, fun y hy => ?_⟩
      · have := (x 0).isLt
        have h2 : (x 0).val < r.size 0 := this
        simp only [ix_eq r hr]
        rw [if_pos (by omega), Nat.add_sub_cancel_left]
      · refine if_neg ?_
        rintro ⟨h1, h2⟩
        refine hy (fun a => ⟨(y 0).val - r.off 0, ?_⟩) ?_
        · obtain rfl : a = 0 := Subsingleton.elim _ _
          show _ < r.size 0
          omega
        · funext a
          obtain rfl : a = 0 := Subsingleton.elim _ _
          apply Fin.ext
          rw [ix_eq r hr]
          show r.off 0 + ((y 0).val - r.off 0) = _
          omega
    · iexact H

/-- Part of an array lent out to be read. -/
theorem At1_lend (r : Rect ⟨1, n⟩) (hr : ∀ a, r.stride a = 1) (o z : ℕ) (ho : r.off 0 = o) (hz : r.size 0 = z) :
    At1 (F := F) d c i m q g ⊢ iprop(At1 (F := F) d c i (n := r.size) (m.slice r hr) q (fun k => g (o + k))
      ∗ (At1 (F := F) d c i (n := r.size) (m.slice r hr) q (fun k => g (o + k)) -∗ At1 (F := F) d c i m q g)) := by
  have hb : ∀ k < n 0, (fun k => if o ≤ k ∧ k < o + z then (fun k => g (o + k)) (k - o) else g k) k = g k := fun k _ => by
    dsimp only
    split
    · congr 1; omega
    · rfl
  iintro H
  ihave H := (At1_slice d c i r hr o z ho hz) $$ H
  icases H with ⟨H, Hw⟩
  isplitl [H]
  · iexact H
  · iintro H
    ispecialize Hw $$ %(fun k => g (o + k)) H
    iapply (At1_of_eq d c i hb) $$ Hw

variable [FloatOps F] {α : Type} {mv : Memref sig .scVector .vmem ⟨1, n⟩ e}

theorem wp_ld1 {Q : α → sProp 𝕄} (r : Rect ⟨1, n⟩) (hs : ∀ a, r.stride a = 1) (o : ℕ) (ho : r.off 0 = o) {hl : mv.view.LoadsAt r.toLoadRect} {k : (r.shape.Idx → Elt F e) → Prog (TpuEff nD τ sig (Elt F) Λ₀ (.scVector c i)) α} :
    At1 (F := F) d c i mv q g ⊢ iprop((At1 (F := F) d c i mv q g -∗ wpT d c i (k (fun x => g (o + (x 0).val))) Q)
      -∗ wpT d c i ((Prog.lift (.load mv r.toLoadRect hl) : Prog (TpuEff nD τ sig (Elt F) Λ₀ (.scVector c i)) _) >>= k) Q) := by
  rw [← show (fun x : r.shape.Idx => g (r.idx x 0).val) = fun x => g (o + (x 0).val) from funext fun x => by rw [ix_eq r hs, ho]]
  exact wp_ld d c i r

theorem wp_st1 {Q : α → sProp 𝕄} (r : Rect ⟨1, n⟩) (hs : ∀ a, r.stride a = 1) (o z : ℕ) (ho : r.off 0 = o) (hz : r.size 0 = z) (w : r.shape.Idx → Elt F e) (g' : ℕ → Elt F e)
    (hv : ∀ x : r.shape.Idx, g' (o + (x 0).val) = w x) (hv' : ∀ k, (k < o ∨ o + z ≤ k) → g' k = g k)
    {hx : (mv.access r).Stores Finset.univ} {hm : (Finset.univ : Finset r.shape.Idx) = Finset.univ ∨ ∀ a, r.stride a = 1} {k : PUnit → Prog (TpuEff nD τ sig (Elt F) Λ₀ (.scVector c i)) α} :
    At1 (F := F) d c i mv fullShare g ⊢ iprop((At1 (F := F) d c i mv fullShare g' -∗ wpT d c i (k ⟨⟩) Q)
      -∗ wpT d c i ((Prog.lift (.store mv r w Finset.univ hx hm) : Prog (TpuEff nD τ sig (Elt F) Λ₀ (.scVector c i)) _) >>= k) Q) := by
  refine wp_st d c i r w _ (fun x => ?_) (fun y hy => ?_)
  · show g' (r.idx x 0).val = _
    rw [ix_eq r hs, ho, hv]
  · refine hv' _ ?_
    by_contra hcon
    subst ho hz
    refine hy (fun a => ⟨(y 0).val - r.off 0, ?_⟩) ?_
    · obtain rfl : a = 0 := Subsingleton.elim _ _
      show _ < r.size 0
      omega
    · funext a
      obtain rfl : a = 0 := Subsingleton.elim _ _
      apply Fin.ext
      rw [ix_eq r hs]
      show r.off 0 + ((y 0).val - r.off 0) = _
      omega

theorem wp_ldx1 {Q : α → sProp 𝕄} {s' : Shape} {x : IVec s' 32} {h : ∀ a y, ((![x] : Fin 1 → IVec s' 32) a y).toNat < (⟨1, n⟩ : Shape).size a} {hl : mv.view.Loads} {k : (s'.Idx → Elt F e) → Prog (TpuEff nD τ sig (Elt F) Λ₀ (.scVector c i)) α} :
    At1 (F := F) d c i mv q g ⊢ iprop((At1 (F := F) d c i mv q g -∗ wpT d c i (k (fun y => g (x y).toNat)) Q)
      -∗ wpT d c i (SparseCore.vectorLoadIdx mv (![x] : Fin 1 → IVec s' 32) h hl >>= k) Q) := by
  unfold At1
  exact wp_ldx d c i (s := ⟨1, n⟩) (idxs := (![x] : Fin 1 → IVec s' 32))

/-- Lane `l`. -/
abbrev ln (l : Fin 16) : S16.Idx := Shape.ofLane l

/-- One lane of an indexed store. -/
def lane1 (x : IVec S16 32) (w : Vec F S16 e) (mask : IVec S16 1) (add : Bool) (l : Fin 16) (g : ℕ → Elt F e) : ℕ → Elt F e :=
  if mask (ln l) = 1 then Function.update g (x (ln l)).toNat (if add then Elt.idxAdd e (g (x (ln l)).toNat) (w (ln l)) else w (ln l)) else g

theorem storeIdx1 (x : IVec S16 32) (w : Vec F S16 e) (mask : IVec S16 1) (add : Bool) (h : ∀ a y, ((![x] : Fin 1 → IVec S16 32) a y).toNat < (⟨1, n⟩ : Shape).size a) :
    storeIdx (s := ⟨1, n⟩) (fun y => g (y 0).val) (![x] : Fin 1 → IVec S16 32) w mask add h
      = fun y => ((List.finRange 16).foldl (fun g l => lane1 (F := F) x w mask add l g) g) (y 0).val := by
  have aux : ∀ (L : List (Fin 16)) (g : ℕ → Elt F e), L.foldl (fun (g : (⟨1, n⟩ : Shape).Idx → Elt F e) (k : Fin 16) =>
      if mask (ln k) = 1 then
        fun j => if (∀ a, (j a).val = (idxAt (![x] : Fin 1 → IVec S16 32) h (ln k) a).val) then (if add then Elt.idxAdd e (g (idxAt (![x] : Fin 1 → IVec S16 32) h (ln k))) (w (ln k)) else w (ln k)) else g j
      else g) (fun y => g (y 0).val) = fun y => (L.foldl (fun g l => lane1 (F := F) x w mask add l g) g) (y 0).val := by
    intro L
    induction L with
    | nil => intro g; rfl
    | cons l L ih =>
      intro g
      rw [List.foldl_cons, List.foldl_cons, ← ih]
      congr 1
      funext y
      simp only [lane1]
      split
      · rw [Function.update_apply]
        have hi : ((∀ a, (y a).val = (idxAt (s := ⟨1, n⟩) (![x] : Fin 1 → IVec S16 32) h (ln l) a).val) ↔ (y 0).val = (x (ln l)).toNat) :=
          ⟨fun hh => hh 0, fun hh a => by obtain rfl : a = 0 := Subsingleton.elim _ _; exact hh⟩
        by_cases hy : (y 0).val = (x (ln l)).toNat
        · rw [if_pos hy]; exact if_pos (hi.2 hy)
        · rw [if_neg hy]; exact if_neg (fun hh => hy (hi.1 hh))
      · rfl
  unfold storeIdx
  refine Eq.trans ?_ (aux (List.finRange 16) g)
  show List.foldl _ _ (List.finRange 16) = _
  congr 1
  funext g k
  by_cases hm : mask (ln k) = 1
  · refine (if_pos hm).trans (Eq.trans ?_ (if_pos hm).symm)
    funext j
    by_cases hj : ∀ a, (j a).val = (idxAt (s := ⟨1, n⟩) (![x] : Fin 1 → IVec S16 32) h (ln k) a).val
    · exact (if_pos hj).trans (if_pos hj).symm
    · exact (if_neg hj).trans (if_neg hj).symm
  · exact (if_neg hm).trans (if_neg hm).symm

theorem foldl_lanes {β : Type} (P : ℕ → β → Prop) (f : β → Fin 16 → β) (b : β) (h0 : P 0 b) (h : ∀ (l : Fin 16) b, P l.val b → P (l.val + 1) (f b l)) :
    P 16 ((List.finRange 16).foldl f b) := by
  have key : ∀ k (hk : k ≤ 16), P k (((List.finRange 16).take k).foldl f b) := by
    intro k
    induction k with
    | zero => intro _; simpa using h0
    | succ k ih =>
      intro hk
      rw [List.take_succ_eq_append_getElem (by rw [List.length_finRange]; omega), List.foldl_append]
      simpa using h ⟨k, hk⟩ _ (ih (by omega))
  have := key 16 le_rfl
  rwa [List.take_of_length_le (by simp)] at this

theorem wp_stx1 {Q : α → sProp 𝕄} {x : IVec S16 32} {w : Vec F S16 e} {mask : IVec S16 1} {add : Bool} {h : ∀ a y, ((![x] : Fin 1 → IVec S16 32) a y).toNat < (⟨1, n⟩ : Shape).size a}
    {hs : (mv.access (.whole ⟨1, n⟩)).Stores Finset.univ} {k : PUnit → Prog (TpuEff nD τ sig (Elt F) Λ₀ (.scVector c i)) α}
    (P : ℕ → (ℕ → Elt F e) → Prop) (h0 : P 0 g) (hP : ∀ (l : Fin 16) g, P l.val g → P (l.val + 1) (lane1 (F := F) x w mask add l g)) :
    At1 (F := F) d c i mv fullShare g ⊢ iprop((∀ g', ⌜P 16 g'⌝ -∗ At1 (F := F) d c i mv fullShare g' -∗ wpT d c i (k ⟨⟩) Q)
      -∗ wpT d c i (SparseCore.vectorStoreIdx mv (![x] : Fin 1 → IVec S16 32) w mask add h hs >>= k) Q) := by
  unfold At1
  iintro H Hk
  iapply (wp_stx d c i) $$ H
  iintro H
  rw [storeIdx1]
  ispecialize Hk $$ %((List.finRange 16).foldl (fun g l => lane1 (F := F) x w mask add l g) g)
  iapply Hk
  · ipureintro
    exact foldl_lanes P _ _ h0 hP
  · iexact H

theorem wp_stx1' {Q : PUnit → sProp 𝕄} {x : IVec S16 32} {w : Vec F S16 e} {mask : IVec S16 1} {add : Bool} {h : ∀ a y, ((![x] : Fin 1 → IVec S16 32) a y).toNat < (⟨1, n⟩ : Shape).size a}
    {hs : (mv.access (.whole ⟨1, n⟩)).Stores Finset.univ}
    (P : ℕ → (ℕ → Elt F e) → Prop) (h0 : P 0 g) (hP : ∀ (l : Fin 16) g, P l.val g → P (l.val + 1) (lane1 (F := F) x w mask add l g)) :
    At1 (F := F) d c i mv fullShare g ⊢ iprop((∀ g', ⌜P 16 g'⌝ -∗ At1 (F := F) d c i mv fullShare g' -∗ Q ⟨⟩)
      -∗ wpT d c i (SparseCore.vectorStoreIdx mv (![x] : Fin 1 → IVec S16 32) w mask add h hs) Q) := by
  rw [← bind_pure (SparseCore.vectorStoreIdx mv (![x] : Fin 1 → IVec S16 32) w mask add h hs : Prog (TpuEff nD τ sig (Elt F) Λ₀ (.scVector c i)) PUnit)]
  iintro H Hk
  iapply (wp_stx1 d c i P h0 hP) $$ H
  iintro %g' %hg H
  unfold wpT
  rw [wp_pure]
  imodintro
  iapply Hk $$ %g' [] [H]
  · ipureintro; exact hg
  · iexact H

theorem wp_cp' {Q : PUnit → sProp 𝕄} {O : CellTallies nD τ sig (HIx 3)} {W : Waits sig (HIx 3)} {s : Shape} {sp sp' : Space} {src : Memref sig .scVector sp s e} {dst : Memref sig .scVector sp' s e} {sm : DmaSem sig} {v v₀ : s.Idx → Elt F e}
    (hp : 0 < s.numel) {h₁ : src.view.WordExact} {h₂ : dst.view.WordExact} {h₁' : src.view.WordExact} {h₂' : dst.view.WordExact} {h₃} :
    (Transfers.MayWaits (V d c i) (default : HIx 3) O : sProp 𝕄) ⊢ iprop((At (F := F) d c i src q v ∗ At (F := F) d c i dst fullShare v₀ ∗ semVal ((V d c i : Thread nD τ), SemLoc.dma sm) 0 ∗ Owe (F := F) d c i O W)
      -∗ ((At (F := F) d c i src q v ∗ At (F := F) d c i dst fullShare v ∗ semVal ((V d c i : Thread nD τ), SemLoc.dma sm) 0 ∗ Owe (F := F) d c i O W) -∗ Q ⟨⟩)
      -∗ wpT d c i ((Prog.lift (.enqueueDma src (.here dst) (.dma sm) h₁ h₂ h₃) : Prog (TpuEff nD τ sig (Elt F) Λ₀ (.scVector c i)) _) >>= fun _ =>
          (Prog.lift (.waitDma2 sm src dst h₁' h₂') : Prog (TpuEff nD τ sig (Elt F) Λ₀ (.scVector c i)) _)) Q) := by
  rw [← bind_pure (Prog.lift (.waitDma2 sm src dst h₁' h₂') : Prog (TpuEff nD τ sig (Elt F) Λ₀ (.scVector c i)) PUnit)]
  iintro #Hm H Hk
  iapply (wp_cp d c i hp) $$ Hm H
  iintro H
  unfold wpT
  rw [wp_pure]
  imodintro
  iapply Hk $$ H

theorem wp_cp1 {Q : α → sProp 𝕄} {O : CellTallies nD τ sig (HIx 3)} {W : Waits sig (HIx 3)} {sp sp' : Space} {src : Memref sig .scVector sp ⟨1, n⟩ e} {dst : Memref sig .scVector sp' ⟨1, n⟩ e} {sm : DmaSem sig} {g g₀ : ℕ → Elt F e}
    (hp : 0 < (⟨1, n⟩ : Shape).numel) {h₁ : src.view.WordExact} {h₂ : dst.view.WordExact} {h₁' : src.view.WordExact} {h₂' : dst.view.WordExact} {h₃} {k : PUnit → Prog (TpuEff nD τ sig (Elt F) Λ₀ (.scVector c i)) α} :
    (Transfers.MayWaits (V d c i) (default : HIx 3) O : sProp 𝕄) ⊢ iprop((At1 (F := F) d c i src q g ∗ At1 (F := F) d c i dst fullShare g₀ ∗ semVal ((V d c i : Thread nD τ), SemLoc.dma sm) 0 ∗ Owe (F := F) d c i O W)
      -∗ ((At1 (F := F) d c i src q g ∗ At1 (F := F) d c i dst fullShare g ∗ semVal ((V d c i : Thread nD τ), SemLoc.dma sm) 0 ∗ Owe (F := F) d c i O W) -∗ wpT d c i (k ⟨⟩) Q)
      -∗ wpT d c i ((Prog.lift (.enqueueDma src (.here dst) (.dma sm) h₁ h₂ h₃) : Prog (TpuEff nD τ sig (Elt F) Λ₀ (.scVector c i)) _) >>= fun _ =>
          (Prog.lift (.waitDma2 sm src dst h₁' h₂') : Prog (TpuEff nD τ sig (Elt F) Λ₀ (.scVector c i)) _) >>= k) Q) := by
  unfold At1
  exact wp_cp d c i hp

theorem wp_cp1' {Q : PUnit → sProp 𝕄} {O : CellTallies nD τ sig (HIx 3)} {W : Waits sig (HIx 3)} {sp sp' : Space} {src : Memref sig .scVector sp ⟨1, n⟩ e} {dst : Memref sig .scVector sp' ⟨1, n⟩ e} {sm : DmaSem sig} {g g₀ : ℕ → Elt F e}
    (hp : 0 < (⟨1, n⟩ : Shape).numel) {h₁ : src.view.WordExact} {h₂ : dst.view.WordExact} {h₁' : src.view.WordExact} {h₂' : dst.view.WordExact} {h₃} :
    (Transfers.MayWaits (V d c i) (default : HIx 3) O : sProp 𝕄) ⊢ iprop((At1 (F := F) d c i src q g ∗ At1 (F := F) d c i dst fullShare g₀ ∗ semVal ((V d c i : Thread nD τ), SemLoc.dma sm) 0 ∗ Owe (F := F) d c i O W)
      -∗ ((At1 (F := F) d c i src q g ∗ At1 (F := F) d c i dst fullShare g ∗ semVal ((V d c i : Thread nD τ), SemLoc.dma sm) 0 ∗ Owe (F := F) d c i O W) -∗ Q ⟨⟩)
      -∗ wpT d c i ((Prog.lift (.enqueueDma src (.here dst) (.dma sm) h₁ h₂ h₃) : Prog (TpuEff nD τ sig (Elt F) Λ₀ (.scVector c i)) _) >>= fun _ =>
          (Prog.lift (.waitDma2 sm src dst h₁' h₂') : Prog (TpuEff nD τ sig (Elt F) Λ₀ (.scVector c i)) _)) Q) := by
  unfold At1
  exact wp_cp' d c i hp

theorem wp_cp31 {Q : α → sProp 𝕄} {O : CellTallies nD τ sig (HIx 3)} {W : Waits sig (HIx 3)} {src₁ src₂ src₃ : Memref sig .scVector .hbm ⟨1, n⟩ .i32} {dst₁ dst₂ dst₃ : Memref sig .scVector .vmem ⟨1, n⟩ .i32} {sm : DmaSem sig}
    {q₁ q₂ q₃ : PosShare TreeShare} {v₁ v₂ v₃ w₁ w₂ w₃ : ℕ → Elt F .i32} (hp : 0 < (⟨1, n⟩ : Shape).numel) {N : ℕ} (hN₁ : dst₁.view.dmaCredit = N) (hN₂ : dst₂.view.dmaCredit = N) (hN₃ : dst₃.view.dmaCredit = N)
    {h₁ : src₁.view.WordExact} {h₁' : dst₁.view.WordExact} {h₁''} {h₂ : src₂.view.WordExact} {h₂' : dst₂.view.WordExact} {h₂''} {h₃ : src₃.view.WordExact} {h₃' : dst₃.view.WordExact} {h₃''}
    {g₁ : src₁.view.WordExact} {g₁' : dst₁.view.WordExact} {g₂ : src₂.view.WordExact} {g₂' : dst₂.view.WordExact} {g₃ : src₃.view.WordExact} {g₃' : dst₃.view.WordExact}
    {k : PUnit → Prog (TpuEff nD τ sig (Elt F) Λ₀ (.scVector c i)) α} :
    (Transfers.MayWaits (V d c i) (default : HIx 3) O : sProp 𝕄) ⊢ iprop((At1 (F := F) d c i src₁ q₁ v₁ ∗ At1 (F := F) d c i src₂ q₂ v₂ ∗ At1 (F := F) d c i src₃ q₃ v₃
        ∗ At1 (F := F) d c i dst₁ fullShare w₁ ∗ At1 (F := F) d c i dst₂ fullShare w₂ ∗ At1 (F := F) d c i dst₃ fullShare w₃ ∗ semVal ((V d c i : Thread nD τ), SemLoc.dma sm) 0 ∗ Owe (F := F) d c i O W)
      -∗ ((At1 (F := F) d c i src₁ q₁ v₁ ∗ At1 (F := F) d c i src₂ q₂ v₂ ∗ At1 (F := F) d c i src₃ q₃ v₃
        ∗ At1 (F := F) d c i dst₁ fullShare v₁ ∗ At1 (F := F) d c i dst₂ fullShare v₂ ∗ At1 (F := F) d c i dst₃ fullShare v₃ ∗ semVal ((V d c i : Thread nD τ), SemLoc.dma sm) 0 ∗ Owe (F := F) d c i O W) -∗ wpT d c i (k ⟨⟩) Q)
      -∗ wpT d c i ((Prog.lift (.enqueueDma src₁ (.here dst₁) (.dma sm) h₁ h₁' h₁'') : Prog (TpuEff nD τ sig (Elt F) Λ₀ (.scVector c i)) _) >>= fun _ =>
          (Prog.lift (.enqueueDma src₂ (.here dst₂) (.dma sm) h₂ h₂' h₂'') : Prog (TpuEff nD τ sig (Elt F) Λ₀ (.scVector c i)) _) >>= fun _ =>
          (Prog.lift (.enqueueDma src₃ (.here dst₃) (.dma sm) h₃ h₃' h₃'') : Prog (TpuEff nD τ sig (Elt F) Λ₀ (.scVector c i)) _) >>= fun _ =>
          (Prog.lift (.waitDma2 sm src₁ dst₁ g₁ g₁') : Prog (TpuEff nD τ sig (Elt F) Λ₀ (.scVector c i)) _) >>= fun _ =>
          (Prog.lift (.waitDma2 sm src₂ dst₂ g₂ g₂') : Prog (TpuEff nD τ sig (Elt F) Λ₀ (.scVector c i)) _) >>= fun _ =>
          (Prog.lift (.waitDma2 sm src₃ dst₃ g₃ g₃') : Prog (TpuEff nD τ sig (Elt F) Λ₀ (.scVector c i)) _) >>= k) Q) := by
  unfold At1
  exact wp_cp3 d c i hp hN₁ hN₂ hN₃

/-- A repeated step, by an invariant. -/
theorem wp_rep (f : ℕ → Prog (TpuEff nD τ sig (Elt F) Λ₀ (.scVector c i)) PUnit) (I : ℕ → sProp 𝕄) (z k : ℕ) (h : ∀ j, k ≤ j → j < k + z → I j ⊢ wpT d c i (f j) fun _ => I (j + 1)) :
    I k ⊢ wpT d c i (Roll.rep f z k) fun _ => I (k + z) := by
  induction z generalizing k with
  | zero =>
    unfold Roll.rep wpT
    rw [wp_pure]
    iintro H
    imodintro
    iexact H
  | succ z ih =>
    unfold Roll.rep wpT
    rw [wp_bind]
    refine (h k le_rfl (by omega)).trans (wp_mono _ _ _ fun _ => ?_)
    have := ih (k + 1) fun j hj hj' => h j (by omega) (by omega)
    rwa [show k + 1 + z = k + (z + 1) from by omega] at this

theorem wp_rep' {Q : PUnit → sProp 𝕄} (f : ℕ → Prog (TpuEff nD τ sig (Elt F) Λ₀ (.scVector c i)) PUnit) (I : ℕ → sProp 𝕄) (z k : ℕ) (h : ∀ j, k ≤ j → j < k + z → I j ⊢ wpT d c i (f j) fun _ => I (j + 1)) :
    I k ⊢ iprop((I (k + z) -∗ Q ⟨⟩) -∗ wpT d c i (Roll.rep f z k) Q) := by
  iintro H Hk
  iapply (wp_wand_r _ _ _ (Q := fun _ => I (k + z)))
  isplitl [H]
  · iapply (wp_rep d c i f I z k h) $$ H
  · iintro %a H
    iapply Hk $$ H

/-- A loop that carries nothing, by an invariant. -/
theorem wp_loop {Q : α → sProp 𝕄} (l : Scf.Loop 32) (hok : l.OK) (body : Fin l.trips → PUnit → Prog (TpuEff nD τ sig (Elt F) Λ₀ (.scVector c i)) PUnit) (I : ℕ → sProp 𝕄) (z : ℕ) (hz : l.trips = z)
    (hbody : ∀ t : Fin l.trips, t.val < z → I t.val ⊢ wpT d c i (body t ⟨⟩) fun _ => I (t.val + 1)) {kk : PUnit → Prog (TpuEff nD τ sig (Elt F) Λ₀ (.scVector c i)) α} :
    I 0 ⊢ iprop((I z -∗ wpT d c i (kk ⟨⟩) Q) -∗ wpT d c i (Scf.Loop.for l hok ⟨⟩ body >>= kk) Q) := by
  iintro H Hk
  iapply (Scf.wp_for_bind frame (wpE (defs₀ (F := F)) 𝒱₀ (V d c i) none) Set.univ l.lb l.ub l.st hok ⟨⟩ body (fun t _ => I t) (fun t _ => hbody t (hz ▸ t.isLt))) $$ H
  iintro %a H
  ihave H := (show I l.trips ⊢ I z from hz ▸ .rfl) $$ H
  iapply Hk $$ H

theorem wp_rep_bind {Q : α → sProp 𝕄} (f : ℕ → Prog (TpuEff nD τ sig (Elt F) Λ₀ (.scVector c i)) PUnit) (I : ℕ → sProp 𝕄) (z k : ℕ) (h : ∀ j, k ≤ j → j < k + z → I j ⊢ wpT d c i (f j) fun _ => I (j + 1)) {kk : PUnit → Prog (TpuEff nD τ sig (Elt F) Λ₀ (.scVector c i)) α} :
    I k ⊢ iprop((I (k + z) -∗ wpT d c i (kk ⟨⟩) Q) -∗ wpT d c i (Roll.rep f z k >>= kk) Q) := by
  unfold wpT
  rw [wp_bind]
  iintro H Hk
  iapply (wp_wand_r _ _ _ (Q := fun _ => I (k + z)))
  isplitl [H]
  · iapply (wp_rep d c i f I z k h) $$ H
  · iintro %a H
    iapply Hk $$ H

/-- A step known by a triple, at the head of a program. -/
theorem wp_seq {β : Type} {Q : α → sProp 𝕄} {R : sProp 𝕄} {R' : β → sProp 𝕄} {p : Prog (TpuEff nD τ sig (Elt F) Λ₀ (.scVector c i)) β} (h : R ⊢ wpT d c i p R') {kk : β → Prog (TpuEff nD τ sig (Elt F) Λ₀ (.scVector c i)) α} :
    R ⊢ iprop((∀ a, R' a -∗ wpT d c i (kk a) Q) -∗ wpT d c i (p >>= kk) Q) := by
  unfold wpT
  rw [wp_bind]
  iintro H Hk
  iapply (wp_wand_r _ _ _ (Q := R'))
  isplitl [H]
  · iapply h $$ H
  · iexact Hk

/-- Some contents. -/
def At1E {sp : Space} {n : Fin 1 → ℕ} {e : EltTy} (m : Memref sig .scVector sp ⟨1, n⟩ e) : sProp 𝕄 := iprop(∃ g, At1 (F := F) d c i m fullShare g)

end Rules

end Cert.Proof.Tile

end
-- ==== Proof.Pure.lean ====
/-
  Counting the paths of a group, and the words the kernels compute with.
-/
module

public import proofs.«01_k».proof.Proof.Roll

@[expose] public section

namespace Cert.Proof.Pure

open Idealize.ShloMosaic

/-- How many of the `n` paths from `a` on are of group `g`. -/
def cnt (G : ℕ → ℕ) (g a : ℕ) : ℕ → ℕ
  | 0 => 0
  | n + 1 => cnt G g a n + if G (a + n) = g then 1 else 0

theorem cnt_le (G : ℕ → ℕ) (g a n : ℕ) : cnt G g a n ≤ n := by
  induction n with
  | zero => exact le_rfl
  | succ n ih => rw [cnt]; split <;> omega

theorem cnt_mono (G : ℕ → ℕ) (g a : ℕ) {m n : ℕ} (h : m ≤ n) : cnt G g a m ≤ cnt G g a n := by
  induction n, h using Nat.le_induction with
  | base => exact le_rfl
  | succ n _ ih => rw [cnt]; omega

theorem cnt_add (G : ℕ → ℕ) (g a m n : ℕ) : cnt G g a (m + n) = cnt G g a m + cnt G g (a + m) n := by
  induction n with
  | zero => rfl
  | succ n ih => rw [← add_assoc, cnt, cnt, ih, add_assoc a m n]; omega

theorem cnt_congr (G G' : ℕ → ℕ) (g a n : ℕ) (h : ∀ j < n, G (a + j) = G' (a + j)) : cnt G g a n = cnt G' g a n := by
  induction n with
  | zero => rfl
  | succ n ih => rw [cnt, cnt, ih (fun j hj => h j (by omega)), h n (by omega)]

/-- The group of a path. -/
def grp (s : ℕ → BitVec 32) (k : ℕ) : ℕ := (s k).toNat / 128

theorem shr (u : ArithUnit) (x : BitVec 32) (k : ℕ) (hk : k < 32) (hx : x.toNat < 2 ^ 31) : (IntOp.shrsi u x (BitVec.ofNat 32 k)).toNat = x.toNat / 2 ^ k := by
  have hk' : (BitVec.ofNat 32 k).toNat = k := by simp; omega
  unfold IntOp.shrsi
  rw [if_pos (by rw [hk']; exact hk), BitVec.sshiftRight', hk', BitVec.sshiftRight_eq_of_msb_false, BitVec.toNat_ushiftRight, Nat.shiftRight_eq_div_pow]
  rw [BitVec.msb_eq_decide]; simp; omega

theorem ofNat_toNat_lt (n : ℕ) (h : n < 2 ^ 32) : (BitVec.ofNat 32 n).toNat = n := by
  rw [BitVec.toNat_ofNat]; exact Nat.mod_eq_of_lt h

theorem toInt_ofNat_lt (n : ℕ) (h : n < 2 ^ 31) : (BitVec.ofNat 32 n).toInt = n := by
  rw [BitVec.toInt_eq_toNat_cond, ofNat_toNat_lt n (by omega)]; rw [if_pos (by omega)]

end Cert.Proof.Pure

end
-- ==== Proof.K1.lean ====
/-
  One tile of the first call: it counts its slice of the paths by group.
-/
module

public import proofs.«01_k».proof.Proof.Wp1
public import proofs.«01_k».proof.Proof.Pure

@[expose] public section

noncomputable section

namespace Cert.Proof.Tile

open Cert.KernelIdeal Cert.KernelIdeal.Gen Cert.Proof.Roll Cert.Proof.Pure

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (d : Dev nD)

section K1

variable (i : grid0.Coords)

abbrev c0 (i : grid0.Coords) : Fin τ.nSC := (i 0).castLE hcore0
abbrev t0 (i : grid0.Coords) : Fin τ.nSub := (i 1).castLE hsub0

/-- The counts of the `n` paths from `a` on, in the tile's memory. -/
def Hist (m : Memref sig .scVector .vmem S32 .i32) (G : ℕ → ℕ) (a n : ℕ) : sProp 𝕄 :=
  iprop(∃ h : ℕ → BitVec 32, ⌜∀ k < 32, h k = BitVec.ofNat 32 (cnt G k a n)⌝ ∗ At1 (F := F) d (c0 i) (t0 i) (e := .i32) m fullShare h)

theorem ln_val (l : Fin 16) : (ln l 0).val = l.val := rfl

theorem step1_wp (arg4 : Memref sig .scVector .vmem S1024 .i32) (arg5 : Memref sig .scVector .vmem S32 .i32) (m : IVec S16 1) (v : ℕ) (gw src : ℕ → BitVec 32) (a n : ℕ) (act : Bool)
    (hm : ∀ l, m (ln l) = if act then 1#1 else 0#1) (hgw : ∀ l < 16, (gw (16 * (v % 64) + l)).toNat < 4096)
    (hs : act = true → ∀ l < 16, gw (16 * (v % 64) + l) = src (a + (n + l))) :
    iprop(At1 (F := F) d (c0 i) (t0 i) (e := .i32) arg4 fullShare gw ∗ Hist (F := F) d i arg5 (grp src) a n)
      ⊢ wpT d (c0 i) (t0 i) (step1 i arg4 arg5 m v) fun _ => iprop(At1 (F := F) d (c0 i) (t0 i) (e := .i32) arg4 fullShare gw ∗ Hist (F := F) d i arg5 (grp src) a (n + if act then 16 else 0)) := by
  have hx : ∀ x : S16.Idx, (shrsi (fun x : S16.Idx => gw (16 * (v % 64) + (x 0).val)) (broadcast S16 7#32) x).toNat = (gw (16 * (v % 64) + (x 0).val)).toNat / 128 := fun x => by
    have := hgw (x 0).val (x 0).isLt
    exact shr _ _ 7 (by omega) (this.trans (by omega))
  have hc : k0_chk1 (shrsi (fun x : S16.Idx => gw (16 * (v % 64) + (x 0).val)) (broadcast S16 7#32)) := by
    intro b y
    obtain rfl : b = 0 := Subsingleton.elim _ _
    refine (hx y).trans_lt ?_
    have := hgw (y 0).val (y 0).isLt
    show _ < 32
    omega
  unfold step1 Hist
  iintro ⟨Hw, %h, %hh, Hh⟩
  iapply (wp_ld1 d (c0 i) (t0 i) (rW v) (fun _ => rfl) (16 * (v % 64)) rfl) $$ Hw
  iintro Hw
  iapply (wp_asm d (c0 i) (t0 i) hc)
  have h0 : ∀ k < 32, h k = BitVec.ofNat 32 (cnt (grp src) k a (n + if act then 0 else 0)) := by
    simpa using hh
  have hP : ∀ (l : Fin 16) (h : ℕ → Elt F .i32), (∀ k < 32, h k = BitVec.ofNat 32 (cnt (grp src) k a (n + if act then l.val else 0))) →
      ∀ k < 32, lane1 (F := F) (e := .i32) (shrsi (fun x : S16.Idx => gw (16 * (v % 64) + (x 0).val)) (broadcast S16 7#32)) (broadcast S16 1#32 : IVec S16 32) m true l h k = BitVec.ofNat 32 (cnt (grp src) k a (n + if act then l.val + 1 else 0)) := by
    intro l g hg
    unfold lane1
    rw [hm l]
    cases act with
    | false => simpa using hg
    | true =>
      simp only [↓reduceIte] at hg ⊢
      intro k hk
      rw [← Nat.add_assoc, cnt]
      have hl : grp src (a + (n + l.val)) = (shrsi (fun x : S16.Idx => gw (16 * (v % 64) + (x 0).val)) (broadcast S16 7#32) (ln l)).toNat := by
        rw [hx]; unfold grp; rw [← hs rfl l.val l.isLt]; rfl
      rw [if_pos (show (1#1 : BitVec 1) = 1 from rfl), ← hl, Function.update_apply]
      by_cases hkk : grp src (a + (n + l.val)) = k
      · rw [if_pos hkk, if_pos hkk.symm, hkk, hg k hk]
        show _ + 1#32 = _
        rw [BitVec.ofNat_add]
      · rw [if_neg hkk, if_neg (Ne.symm hkk), hg k hk]; rfl
  iapply (wp_stx1' d (c0 i) (t0 i) (e := .i32) (fun l h => ∀ k < 32, h k = BitVec.ofNat 32 (cnt (grp src) k a (n + if act then l else 0))) h0 hP) $$ Hh
  iintro %g' %hg H
  isplitl [Hw]
  · iexact Hw
  · iexists g'
    isplitr
    · ipureintro; exact hg
    · iexact H

variable {q : PosShare TreeShare} {O : CellTallies nD τ sig (HIx 3)} {W : Waits sig (HIx 3)}
  (arg2 : Memref sig .scVector .hbm S1000000 .i32) (arg3 : Memref sig .scVector .hbm S1024 .i32) (arg4 : Memref sig .scVector .vmem S1024 .i32) (harg4 : arg4.IsWhole)
  (arg5 : Memref sig .scVector .vmem S32 .i32) (harg5 : arg5.IsWhole) (s0 s1 s2 : DmaSems sig S_)

/-- The tile's number. -/
def wd (i : grid0.Coords) : ℕ := 16 * (i 0).val + (i 1).val

theorem wd_lt (i : grid0.Coords) : wd i < 32 := by
  have h0 : (i 0).val < 2 := (i 0).isLt
  have h1 : (i 1).val < 16 := (i 1).isLt
  unfold wd; omega

/-- How many paths are tile `w`'s. -/
def nw (w : ℕ) : ℕ := min 31264 (1000000 - 31264 * w)

/-- The first vector of the tail that is tile `w`'s. -/
def vl (w : ℕ) : ℕ := if w = 31 then 28 else 0

def Inv1 (arg2 : Memref sig .scVector .hbm S1000000 .i32) (arg4 : Memref sig .scVector .vmem S1024 .i32) (arg5 : Memref sig .scVector .vmem S32 .i32) (s0 : DmaSems sig S_)
    (q : PosShare TreeShare) (O : CellTallies nD τ sig (HIx 3)) (W : Waits sig (HIx 3)) (src : ℕ → BitVec 32) (t : ℕ) : sProp 𝕄 :=
  iprop(□ Transfers.MayWaits (V d (c0 i) (t0 i)) (default : HIx 3) O ∗ At1 (F := F) d (c0 i) (t0 i) (e := .i32) arg2 q src ∗ At1E (F := F) d (c0 i) (t0 i) arg4
    ∗ Hist (F := F) d i arg5 (grp src) (31264 * wd i) (1024 * t) ∗ semVal ((V d (c0 i) (t0 i) : Thread nD τ), SemLoc.dma s0.sem) 0 ∗ Owe (F := F) d (c0 i) (t0 i) O W)

theorem win1_wp (src : ℕ → BitVec 32) (hsrc : ∀ k < 1000000, (src k).toNat < 4096) (t : Fin k0_t1_loop.trips) :
    Inv1 (F := F) d i arg2 arg4 arg5 s0 q O W src t.val ⊢ wpT d (c0 i) (t0 i) (win1 i arg2 arg4 harg4 arg5 s0 t) fun _ => Inv1 (F := F) d i arg2 arg4 arg5 s0 q O W src (t.val + 1) := by
  have ht : t.val < 30 := t.isLt.trans_le k0_t1_abs.2.1
  have hw := wd_lt i
  have hpos : 0 < (⟨1, S1024.size⟩ : Shape).numel := by decide
  have ho : k0_off1 i t 0 = 31264 * wd i + 1024 * t.val := by
    rw [k0_off1_eq]; show 500224 * (i 0).val + 31264 * (i 1).val + 1024 * t.val = _; unfold wd; omega
  unfold win1 Inv1 At1E
  iintro ⟨#Hm, Hs, ⟨%g4, H4⟩, H5, Hsem, Ho⟩
  ihave Hs := (At1_lend d (c0 i) (t0 i) (Rect.unit (s := S1000000) (k0_off1 i t) S1024.size (k0_off1_inb i t)) (fun _ => rfl) (31264 * wd i + 1024 * t.val) 1024 ho rfl) $$ Hs
  icases Hs with ⟨Hs, Hback⟩
  iapply (wp_cp1 d (c0 i) (t0 i) (n := S1024.size) hpos) $$ Hm [Hs H4 Hsem Ho]
  · isplitl [Hs]; · iexact Hs
    isplitl [H4]; · iexact H4
    isplitl [Hsem]; · iexact Hsem
    iexact Ho
  iintro ⟨Hs, H4, Hsem, Ho⟩
  ispecialize Hback $$ Hs
  have hstep : ∀ v, 0 ≤ v → v < 0 + 64 → (fun v => iprop(At1 (F := F) d (c0 i) (t0 i) (e := .i32) arg4 fullShare (fun k => src (31264 * wd i + 1024 * t.val + k)) ∗ Hist (F := F) d i arg5 (grp src) (31264 * wd i) (1024 * t.val + 16 * v))) v
      ⊢ wpT d (c0 i) (t0 i) (step1 (F := F) i arg4 arg5 (fun _ => 1#1) v) fun _ => (fun v => iprop(At1 (F := F) d (c0 i) (t0 i) (e := .i32) arg4 fullShare (fun k => src (31264 * wd i + 1024 * t.val + k)) ∗ Hist (F := F) d i arg5 (grp src) (31264 * wd i) (1024 * t.val + 16 * v))) (v + 1) := by
    intro v _ hv
    have hv : v < 64 := by omega
    refine (step1_wp (F := F) d i arg4 arg5 (fun _ => 1#1) v (fun k => src (31264 * wd i + 1024 * t.val + k)) src (31264 * wd i) (1024 * t.val + 16 * v) true (fun _ => (if_pos rfl).symm) (fun l hl => hsrc _ ?_) (fun _ l hl => ?_)).trans (wp_mono _ _ _ fun _ => ?_)
    · omega
    · congr 1; omega
    · exact .rfl
  iapply (wp_rep' d (c0 i) (t0 i) _ _ 64 0 hstep) $$ [H4 H5] [Hback Hsem Ho]
  · isplitl [H4]
    · iexact H4
    · iexact H5
  · iintro ⟨H4, H5⟩
    isplitr; · iexact Hm
    isplitl [Hback]; · iexact Hback
    isplitl [H4]
    · iexists _; iexact H4
    isplitl [H5]
    · rw [show 1024 * t.val + 16 * (0 + 64) = 1024 * (t.val + 1) from by omega]; iexact H5
    isplitl [Hsem]; · iexact Hsem
    iexact Ho

theorem tail1_mask (v : ℕ) (hv : v < 34) (l : Fin 16) :
    cmpi .sge (broadcast S16 (BitVec.ofNat 32 v)) (broadcast S16 (Roll.vlo (Roll.wid (i 0).val (i 1).val))) (ln l) = if decide (vl (wd i) ≤ v) then 1#1 else 0#1 := by
  have key : ∀ (a : Fin 2) (b : Fin 16) (v : Fin 34), IntOp.cmpi .sge (BitVec.ofNat 32 v.val) (Roll.vlo (Roll.wid a.val b.val)) = if decide (vl (16 * a.val + b.val) ≤ v.val) then 1#1 else 0#1 := by decide +kernel
  exact key (i 0) (i 1) ⟨v, hv⟩

theorem k1_body (src : ℕ → BitVec 32) (hsrc : ∀ k < 1000000, (src k).toNat < 4096) :
    (Transfers.MayWaits (V d (c0 i) (t0 i)) (default : HIx 3) O : sProp 𝕄) ⊢ iprop((At1 (F := F) d (c0 i) (t0 i) (e := .i32) arg2 q src
      ∗ At1E (F := F) d (c0 i) (t0 i) (n := S32.size) (arg3.slice (Rect.unit (s := S1024) (k0_off3 i) S32.size (k0_off3_inb i)) (fun _ => rfl)) ∗ At1E (F := F) d (c0 i) (t0 i) arg4 ∗ At1E (F := F) d (c0 i) (t0 i) arg5
      ∗ semVal ((V d (c0 i) (t0 i) : Thread nD τ), SemLoc.dma s0.sem) 0 ∗ semVal ((V d (c0 i) (t0 i) : Thread nD τ), SemLoc.dma s1.sem) 0 ∗ semVal ((V d (c0 i) (t0 i) : Thread nD τ), SemLoc.dma s2.sem) 0 ∗ Owe (F := F) d (c0 i) (t0 i) O W)
      -∗ wpT d (c0 i) (t0 i) (body1 i arg2 arg3 arg4 harg4 arg5 harg5 s0 s1 s2) fun _ => iprop(At1 (F := F) d (c0 i) (t0 i) (e := .i32) arg2 q src
      ∗ At1 (F := F) d (c0 i) (t0 i) (e := .i32) (n := S32.size) (arg3.slice (Rect.unit (s := S1024) (k0_off3 i) S32.size (k0_off3_inb i)) (fun _ => rfl)) fullShare (fun g => BitVec.ofNat 32 (cnt (grp src) g (31264 * wd i) (nw (wd i)))) ∗ At1E (F := F) d (c0 i) (t0 i) arg4 ∗ At1E (F := F) d (c0 i) (t0 i) arg5
      ∗ semVal ((V d (c0 i) (t0 i) : Thread nD τ), SemLoc.dma s0.sem) 0 ∗ semVal ((V d (c0 i) (t0 i) : Thread nD τ), SemLoc.dma s1.sem) 0 ∗ semVal ((V d (c0 i) (t0 i) : Thread nD τ), SemLoc.dma s2.sem) 0 ∗ Owe (F := F) d (c0 i) (t0 i) O W)) := by
  have hw := wd_lt i
  have hb0 : (i 0).val < 2 := (i 0).isLt
  have hb1 : (i 1).val < 16 := (i 1).isLt
  have ho2 : k0_off2 i 0 = 31264 * wd i + 30720 - 16 * vl (wd i) := by
    rw [k0_off2_eq]; show 16 * min (31264 * (i 0).val + 1954 * (i 1).val + 1920) 62466 = _
    unfold wd vl; split <;> omega
  have ho3 : k0_off3 i 0 = 32 * wd i := by
    rw [k0_off3_eq]; show 512 * (i 0).val + 32 * (i 1).val = _; unfold wd; omega
  have hpos : 0 < (⟨1, S544.size⟩ : Shape).numel := by decide
  have hpos3 : 0 < (⟨1, S32.size⟩ : Shape).numel := by decide
  have htr : k0_t1_loop.trips = 30 := by decide
  unfold body1 At1E
  iintro #Hm ⟨Hs, Hout, H4, ⟨%g5, H5⟩, Hs0, Hs1, Hs2, Ho⟩
  iapply (wp_ld1 d (c0 i) (t0 i) (Rect.unit (s := S32) ![0] S16.size inb_S32_S16_0) (fun _ => rfl) 0 rfl) $$ H5
  iintro H5
  iapply (wp_st1 d (c0 i) (t0 i) (Rect.unit (s := S32) ![0] S16.size inb_S32_S16_0) (fun _ => rfl) 0 16 rfl rfl (broadcast S16 0#32 : IVec S16 32) (fun k => if k < 16 then 0#32 else g5 k)
    (fun x => if_pos (by have := (x 0).isLt; have h : (x 0).val < 16 := this; omega)) (fun k hk => if_neg (by omega))) $$ H5
  iintro H5
  iapply (wp_ld1 d (c0 i) (t0 i) (Rect.unit (s := S32) ![16] S16.size inb_S32_S16_16) (fun _ => rfl) 16 rfl) $$ H5
  iintro H5
  iapply (wp_st1 d (c0 i) (t0 i) (Rect.unit (s := S32) ![16] S16.size inb_S32_S16_16) (fun _ => rfl) 16 16 rfl rfl (broadcast S16 0#32 : IVec S16 32) (fun k => if k < 32 then 0#32 else g5 k)
    (fun x => if_pos (by have := (x 0).isLt; have h : (x 0).val < 16 := this; omega)) (fun k hk => by
      rcases hk with h | h
      · rw [if_pos (by omega), if_pos h]
      · rw [if_neg (by omega), if_neg (by omega)])) $$ H5
  iintro H5
  iapply (wp_loop d (c0 i) (t0 i) k0_t1_loop k0_t1_ok (fun t _ => win1 i arg2 arg4 harg4 arg5 s0 t) (Inv1 (F := F) d i arg2 arg4 arg5 s0 q O W src) 30 htr (fun t _ => win1_wp d i arg2 arg4 harg4 arg5 s0 src hsrc t)) $$ [Hs H4 H5 Hs0 Ho]
  · unfold Inv1 Hist At1E
    isplitr; · iexact Hm
    isplitl [Hs]; · iexact Hs
    isplitl [H4]; · iexact H4
    isplitl [H5]
    · iexists (fun k => if k < 32 then 0#32 else g5 k)
      isplitr
      · ipureintro; exact fun k hk => if_pos hk
      · iexact H5
    isplitl [Hs0]; · iexact Hs0
    iexact Ho
  unfold Inv1 At1E
  iintro ⟨-, Hs, ⟨%g4, H4⟩, H5, Hs0, Ho⟩
  ihave Hs := (At1_lend d (c0 i) (t0 i) (Rect.unit (s := S1000000) (k0_off2 i) S544.size (k0_off2_inb i)) (fun _ => rfl) _ 544 ho2 rfl) $$ Hs
  icases Hs with ⟨Hs, Hback⟩
  ihave H4 := (At1_slice d (c0 i) (t0 i) (Rect.unit (s := S1024) ![0] S544.size inb_S1024_S544_0) (fun _ => rfl) 0 544 rfl rfl) $$ H4
  icases H4 with ⟨H4, H4b⟩
  iapply (wp_cp1 d (c0 i) (t0 i) (n := S544.size) hpos) $$ Hm [Hs H4 Hs1 Ho]
  · isplitl [Hs]; · iexact Hs
    isplitl [H4]; · iexact H4
    isplitl [Hs1]; · iexact Hs1
    iexact Ho
  iintro ⟨Hs, H4, Hs1, Ho⟩
  ispecialize Hback $$ Hs
  ispecialize H4b $$ %(fun k => src (31264 * wd i + 30720 - 16 * vl (wd i) + k)) H4
  have hstep : ∀ v, 0 ≤ v → v < 0 + 34 → (fun v => iprop(At1 (F := F) d (c0 i) (t0 i) (e := .i32) arg4 fullShare (fun k => if 0 ≤ k ∧ k < 0 + 544 then (fun k => src (31264 * wd i + 30720 - 16 * vl (wd i) + k)) (k - 0) else g4 k) ∗ Hist (F := F) d i arg5 (grp src) (31264 * wd i) (1024 * 30 + 16 * (v - vl (wd i))))) v
      ⊢ wpT d (c0 i) (t0 i) (step1 (F := F) i arg4 arg5 (cmpi .sge (broadcast S16 (BitVec.ofNat 32 v)) (broadcast S16 (Roll.vlo (Roll.wid (i 0).val (i 1).val)))) v) fun _ => (fun v => iprop(At1 (F := F) d (c0 i) (t0 i) (e := .i32) arg4 fullShare (fun k => if 0 ≤ k ∧ k < 0 + 544 then (fun k => src (31264 * wd i + 30720 - 16 * vl (wd i) + k)) (k - 0) else g4 k) ∗ Hist (F := F) d i arg5 (grp src) (31264 * wd i) (1024 * 30 + 16 * (v - vl (wd i))))) (v + 1) := by
    intro v _ hv
    have hv : v < 34 := by omega
    have hvl : (vl (wd i) = 28 ∧ wd i = 31) ∨ (vl (wd i) = 0 ∧ wd i < 31) := by unfold vl; split <;> omega
    refine (step1_wp d i arg4 arg5 _ v _ src _ _ (decide (vl (wd i) ≤ v)) (tail1_mask i v hv) (fun l hl => ?_) (fun hact l hl => ?_)).trans (wp_mono _ _ _ fun _ => ?_)
    · rw [if_pos (by omega)]; refine hsrc _ ?_
      omega
    · rw [if_pos (by omega)]
      have := of_decide_eq_true hact
      show src _ = src _
      congr 1; omega
    · rw [show 1024 * 30 + 16 * (v - vl (wd i)) + (if decide (vl (wd i) ≤ v) = true then 16 else 0) = 1024 * 30 + 16 * (v + 1 - vl (wd i)) from by
        by_cases h : vl (wd i) ≤ v
        · rw [if_pos (by simpa using h)]; omega
        · rw [if_neg (by simpa using h)]; omega]
  have hn : 1024 * 30 + 16 * (0 + 34 - vl (wd i)) = nw (wd i) := by
    unfold nw vl; split <;> omega
  iapply (wp_rep_bind d (c0 i) (t0 i) _ _ 34 0 hstep) $$ [H4b H5]
  · isplitl [H4b]
    · iexact H4b
    · rw [show 1024 * 30 + 16 * (0 - vl (wd i)) = 1024 * 30 from by omega]; iexact H5
  rw [hn]
  unfold Hist
  iintro ⟨H4, %h5, %hh5, H5⟩
  icases Hout with ⟨%g3, Hout⟩
  iapply (wp_cp1' d (c0 i) (t0 i) (n := S32.size) hpos3) $$ Hm [H5 Hout Hs2 Ho]
  · isplitl [H5]; · iexact H5
    isplitl [Hout]; · iexact Hout
    isplitl [Hs2]; · iexact Hs2
    iexact Ho
  iintro ⟨H5, Hout, Hs2, Ho⟩
  isplitl [Hback]; · iexact Hback
  isplitl [Hout]
  · iapply (At1_of_eq (F := F) d (c0 i) (t0 i) (e := .i32) (n := S32.size) (g := h5) (g' := fun g => BitVec.ofNat 32 (cnt (grp src) g (31264 * wd i) (nw (wd i)))) hh5) $$ Hout
  isplitl [H4]
  · iexists _; iexact H4
  isplitl [H5]
  · iexists _; iexact H5
  isplitl [Hs0]; · iexact Hs0
  isplitl [Hs1]; · iexact Hs1
  isplitl [Hs2]; · iexact Hs2
  iexact Ho

end K1

end Cert.Proof.Tile

end
-- ==== Proof.Roll2.lean ====
/-
  The body of the partition kernel, rolled up.
-/
module

public import proofs.«01_k».proof.Proof.Roll

@[expose] public section

noncomputable section

namespace Cert.Proof.Roll

open Cert.KernelIdeal Cert.KernelIdeal.Gen
open Idealize.ShloMosaic Idealize.SL.Sem

variable {F : FTy → Type} [FloatOps F]

/-- Group of a source node. -/
def grpV (s : IVec S16 32) : IVec S16 32 := shrsi s (broadcast S16 7#32)

/-- A path packed in one word: cell in the group, then the place in the table. -/
def packV (s d l : IVec S16 32) : IVec S16 32 :=
  ori (shli (ori (shli (andi s (broadcast S16 127#32)) (broadcast S16 12#32)) d) (broadcast S16 5#32))
    (subi (minsi (maxsi l (broadcast S16 1#32)) (broadcast S16 20#32)) (broadcast S16 1#32))

/-- Lengths rounded up to a multiple of eight. -/
def upV (h : IVec S16 32) : IVec S16 32 := andi (addi h (broadcast S16 7#32)) (broadcast S16 4294967288#32)

section K2

variable (i : grid1.Coords) (arg2 : Memref sig .scVector .hbm S1000000 .i32)
  (arg3 : Memref sig .scVector .hbm S1000000 .i32) (arg4 : Memref sig .scVector .hbm S1000000 .i32)
  (arg5 : Memref sig .scVector .hbm S1024 .i32) (arg6 : Memref sig .scVector .hbm S1010688 .i32)
  (arg7 : Memref sig .scVector .vmem S32 .i32) (harg7 : arg7.IsWhole) (arg8 : Memref sig .scVector .vmem S32 .i32)
  (arg9 : Memref sig .scVector .vmem S1024 .i32) (harg9 : arg9.IsWhole) (arg10 : Memref sig .scVector .vmem S1024 .i32) (harg10 : arg10.IsWhole)
  (arg11 : Memref sig .scVector .vmem S1024 .i32) (harg11 : arg11.IsWhole) (arg12 : Memref sig .scVector .vmem S31520 .i32) (harg12 : arg12.IsWhole)
  (arg13 r0 r1 r2 r3 r4 : DmaSems sig S_)

/-- One vector of paths appended to the runs of its groups. -/
def step2 (m m' : IVec S16 1) (v : Nat) : Prog (TpuEff nD τ sig (Elt F) Λ₀ (.scVector ((i 0).castLE hcore1) ((i 1).castLE hsub1))) PUnit := do
  let s : Vec F S16 .i32 ← Prog.lift (.load arg9 (rW v).toLoadRect (View.loadsAt_vmem h_S16))
  let d : Vec F S16 .i32 ← Prog.lift (.load arg10 (rW v).toLoadRect (View.loadsAt_vmem h_S16))
  let l : Vec F S16 .i32 ← Prog.lift (.load arg11 (rW v).toLoadRect (View.loadsAt_vmem h_S16))
  have hw : k1_chk1 (grpV s) := (← Prog.lift (TpuEff.assume (k1_chk1 (grpV s)) (k1_chk1.dec (grpV s)))).down
  let c : Vec F S16 .i32 ← SparseCore.vectorLoadIdx arg8 ![grpV s] (k1_idx1_inb (grpV s) hw) (View.loads_vmem h_S32)
  have e : IVec S16 32 := addi c (scanCount m (grpV s)).2
  have q : IVec S16 32 := subi e (broadcast S16 1#32)
  have hw' : k1_chk2 q := (← Prog.lift (TpuEff.assume (k1_chk2 q) (k1_chk2.dec q))).down
  SparseCore.vectorStoreIdx arg8 ![grpV s] e m' false (k1_idx2_inb (grpV s) hw) (View.stores_vmem_bits_univ h_S32 rfl)
  SparseCore.vectorStoreIdx arg12 ![q] (packV s d l) m' false (k1_idx3_inb q hw') (View.stores_vmem_bits_univ h_S31520 rfl)

def win2 (t : Fin k1_t1_loop.trips) : Prog (TpuEff nD τ sig (Elt F) Λ₀ (.scVector ((i 0).castLE hcore1) ((i 1).castLE hsub1))) PUnit := do
  Prog.lift (.enqueueDma (arg2.slice (Rect.unit (s := S1000000) (k1_off2 i t) S1024.size (k1_off2_inb i t)) (fun _ => rfl)) (.here arg9) (.dma arg13.sem) (View.wordExact_bits rfl) harg9.wordExact ⟨Or.inl rfl, trivial⟩)
  Prog.lift (.enqueueDma (arg3.slice (Rect.unit (s := S1000000) (k1_off2 i t) S1024.size (k1_off2_inb i t)) (fun _ => rfl)) (.here arg10) (.dma arg13.sem) (View.wordExact_bits rfl) harg10.wordExact ⟨Or.inl rfl, trivial⟩)
  Prog.lift (.enqueueDma (arg4.slice (Rect.unit (s := S1000000) (k1_off2 i t) S1024.size (k1_off2_inb i t)) (fun _ => rfl)) (.here arg11) (.dma arg13.sem) (View.wordExact_bits rfl) harg11.wordExact ⟨Or.inl rfl, trivial⟩)
  Prog.lift (.waitDma2 arg13.sem (arg2.slice (Rect.unit (s := S1000000) (k1_off2 i t) S1024.size (k1_off2_inb i t)) (fun _ => rfl)) arg9 (View.wordExact_bits rfl) harg9.wordExact)
  Prog.lift (.waitDma2 arg13.sem (arg3.slice (Rect.unit (s := S1000000) (k1_off2 i t) S1024.size (k1_off2_inb i t)) (fun _ => rfl)) arg10 (View.wordExact_bits rfl) harg10.wordExact)
  Prog.lift (.waitDma2 arg13.sem (arg4.slice (Rect.unit (s := S1000000) (k1_off2 i t) S1024.size (k1_off2_inb i t)) (fun _ => rfl)) arg11 (View.wordExact_bits rfl) harg11.wordExact)
  rep (step2 (F := F) i arg8 arg9 arg10 arg11 arg12 (broadcast S16 1#1) (fun _ => 1#1)) 64 0

/-- The cursors of the 32 groups, from the group sizes of this tile. -/
def head2 : Prog (TpuEff nD τ sig (Elt F) Λ₀ (.scVector ((i 0).castLE hcore1) ((i 1).castLE hsub1))) PUnit := do
  let h : Vec F S16 .i32 ← Prog.lift (.load arg7 (Rect.unit (s := S32) ![0] S16.size inb_S32_S16_0).toLoadRect (View.loadsAt_vmem h_S16))
  let _ : Vec F S16 .i32 ← Prog.lift (.load arg8 (Rect.unit (s := S32) ![0] S16.size inb_S32_S16_0).toLoadRect (View.loadsAt_vmem h_S16))
  Prog.lift (.store arg8 (Rect.unit (s := S32) ![0] S16.size inb_S32_S16_0) (subi (scan .sum (upV h)) (upV h) : IVec S16 32) Finset.univ (View.stores_vmem_bits_univ h_S16 rfl) (.inl rfl))
  let h' : Vec F S16 .i32 ← Prog.lift (.load arg7 (Rect.unit (s := S32) ![16] S16.size inb_S32_S16_16).toLoadRect (View.loadsAt_vmem h_S16))
  let _ : Vec F S16 .i32 ← Prog.lift (.load arg8 (Rect.unit (s := S32) ![16] S16.size inb_S32_S16_16).toLoadRect (View.loadsAt_vmem h_S16))
  Prog.lift (.store arg8 (Rect.unit (s := S32) ![16] S16.size inb_S32_S16_16) (addi (subi (scan .sum (upV h')) (upV h')) (broadcast S16 (extractAt ![15] (scan .sum (upV h)) inpos_S16_p15)) : IVec S16 32) Finset.univ (View.stores_vmem_bits_univ h_S16 rfl) (.inl rfl))

/-- The copies of the last window. -/
def tail2 : Prog (TpuEff nD τ sig (Elt F) Λ₀ (.scVector ((i 0).castLE hcore1) ((i 1).castLE hsub1))) PUnit := do
  Prog.lift (.enqueueDma (arg2.slice (Rect.unit (s := S1000000) (k1_off3 i) S544.size (k1_off3_inb i)) (fun _ => rfl)) (.here (arg9.slice (Rect.unit (s := S1024) ![0] S544.size inb_S1024_S544_0) (fun _ => rfl))) (.dma r1.sem) (View.wordExact_bits rfl) (View.wordExact_bits rfl) ⟨Or.inl rfl, trivial⟩)
  Prog.lift (.waitDma2 r1.sem (arg2.slice (Rect.unit (s := S1000000) (k1_off3 i) S544.size (k1_off3_inb i)) (fun _ => rfl)) (arg9.slice (Rect.unit (s := S1024) ![0] S544.size inb_S1024_S544_0) (fun _ => rfl)) (View.wordExact_bits rfl) (View.wordExact_bits rfl))
  Prog.lift (.enqueueDma (arg3.slice (Rect.unit (s := S1000000) (k1_off3 i) S544.size (k1_off3_inb i)) (fun _ => rfl)) (.here (arg10.slice (Rect.unit (s := S1024) ![0] S544.size inb_S1024_S544_0) (fun _ => rfl))) (.dma r2.sem) (View.wordExact_bits rfl) (View.wordExact_bits rfl) ⟨Or.inl rfl, trivial⟩)
  Prog.lift (.waitDma2 r2.sem (arg3.slice (Rect.unit (s := S1000000) (k1_off3 i) S544.size (k1_off3_inb i)) (fun _ => rfl)) (arg10.slice (Rect.unit (s := S1024) ![0] S544.size inb_S1024_S544_0) (fun _ => rfl)) (View.wordExact_bits rfl) (View.wordExact_bits rfl))
  Prog.lift (.enqueueDma (arg4.slice (Rect.unit (s := S1000000) (k1_off3 i) S544.size (k1_off3_inb i)) (fun _ => rfl)) (.here (arg11.slice (Rect.unit (s := S1024) ![0] S544.size inb_S1024_S544_0) (fun _ => rfl))) (.dma r3.sem) (View.wordExact_bits rfl) (View.wordExact_bits rfl) ⟨Or.inl rfl, trivial⟩)
  Prog.lift (.waitDma2 r3.sem (arg4.slice (Rect.unit (s := S1000000) (k1_off3 i) S544.size (k1_off3_inb i)) (fun _ => rfl)) (arg11.slice (Rect.unit (s := S1024) ![0] S544.size inb_S1024_S544_0) (fun _ => rfl)) (View.wordExact_bits rfl) (View.wordExact_bits rfl))

def mask2 (v : Nat) : IVec S16 1 := cmpi .sge (broadcast S16 (BitVec.ofNat 32 v)) (broadcast S16 (vlo (wid (i 0).val (i 1).val)))

def body2 : Prog (TpuEff nD τ sig (Elt F) Λ₀ (.scVector ((i 0).castLE hcore1) ((i 1).castLE hsub1))) PUnit := do
  Prog.lift (.enqueueDma (arg5.slice (Rect.unit (s := S1024) (k1_off1 i) S32.size (k1_off1_inb i)) (fun _ => rfl)) (.here arg7) (.dma r0.sem) (View.wordExact_bits rfl) harg7.wordExact ⟨Or.inl rfl, trivial⟩)
  Prog.lift (.waitDma2 r0.sem (arg5.slice (Rect.unit (s := S1024) (k1_off1 i) S32.size (k1_off1_inb i)) (fun _ => rfl)) arg7 (View.wordExact_bits rfl) harg7.wordExact)
  head2 i arg7 arg8
  Scf.Loop.for k1_t1_loop k1_t1_ok ⟨⟩ fun t _ => win2 i arg2 arg3 arg4 arg8 arg9 harg9 arg10 harg10 arg11 harg11 arg12 arg13 t
  tail2 i arg2 arg3 arg4 arg9 arg10 arg11 r1 r2 r3
  rep (fun v => step2 (F := F) i arg8 arg9 arg10 arg11 arg12 (mask2 i v) (mask2 i v) v) 34 0
  Prog.lift (.enqueueDma arg12 (.here (arg6.slice (Rect.unit (s := S1010688) (k1_off4 i) S31520.size (k1_off4_inb i)) (fun _ => rfl))) (.dma r4.sem) harg12.wordExact (View.wordExact_bits rfl) ⟨Or.inl rfl, trivial⟩)
  Prog.lift (.waitDma2 r4.sem arg12 (arg6.slice (Rect.unit (s := S1010688) (k1_off4 i) S31520.size (k1_off4_inb i)) (fun _ => rfl)) harg12.wordExact (View.wordExact_bits rfl))

variable (harg2 : arg2.IsWhole) (harg3 : arg3.IsWhole) (harg4 : arg4.IsWhole) (harg5 : arg5.IsWhole) (harg6 : arg6.IsWhole) (harg8 : arg8.IsWhole)

set_option maxRecDepth 100000 in
set_option maxHeartbeats 8000000 in
theorem cc1_eq : cc1__k2 (F := F) i arg2 harg2 arg3 harg3 arg4 harg4 arg5 harg5 arg6 harg6 arg7 harg7 arg8 harg8 arg9 harg9 arg10 harg10 arg11 harg11 arg12 harg12 arg13 r0 r1 r2 r3 r4
    = body2 i arg2 arg3 arg4 arg5 arg6 arg7 harg7 arg8 arg9 harg9 arg10 harg10 arg11 harg11 arg12 harg12 arg13 r0 r1 r2 r3 r4 := by
  delta cc1__k2 k1_part48 body2 head2
  simp only [Prog.bind_assoc, pure_bind, bind_assoc]
  iterate 8
    refine congrArg _ (funext fun _ => ?_)
  refine congrArg₂ _ ?_ ?_
  · refine congrArg _ (funext fun _ => (funext fun _ => ?_))
    delta win2 k1_part47 k1_part1 k1_part2 k1_part3 k1_part4 k1_part5 k1_part6 k1_part7 k1_part8 k1_part9 k1_part10 k1_part11 k1_part12 k1_part13 k1_part14 k1_part15 k1_part16 k1_part17 k1_part18 k1_part19 k1_part20 k1_part21 k1_part22 k1_part23 k1_part24 k1_part25 k1_part26 k1_part27 k1_part28 k1_part29 k1_part30 k1_part31 k1_part32 k1_part33 k1_part34 k1_part35 k1_part36 k1_part37 k1_part38 k1_part39 k1_part40 k1_part41 k1_part42 k1_part43 k1_part44 k1_part45 k1_part46
    unfold step2
    simp only [rep, Prog.bind_assoc, pure_bind, bind_assoc]
    iterate 6
      refine congrArg _ (funext fun _ => ?_)
    iterate 63
      iterate 4
        refine congrArg _ (funext fun _ => ?_)
      refine congrArg₂ _ ?_ ?_; rfl
      refine (funext fun _ => ?_)
      refine congrArg _ (funext fun _ => ?_)
      refine congrArg₂ _ ?_ ?_; rfl
      refine (funext fun _ => ?_)
      refine congrArg₂ _ ?_ ?_; rfl
      refine (funext fun _ => ?_)
    rfl
  · refine (funext fun _ => ?_)
    delta tail2 k1_part49 k1_part50 k1_part51 k1_part52 k1_part53 k1_part54 k1_part55 k1_part56 k1_part57 k1_part58 k1_part59 k1_part60 k1_part61 k1_part62 k1_part63 k1_part64 k1_part65 k1_part66 k1_part67 k1_part68 k1_part69 k1_part70 k1_part71 k1_part72 k1_part73 k1_part74
    unfold step2
    simp only [rep, Prog.bind_assoc, pure_bind, bind_assoc]
    iterate 6
      refine congrArg _ (funext fun _ => ?_)
    iterate 33
      iterate 4
        refine congrArg _ (funext fun _ => ?_)
      refine congrArg₂ _ ?_ ?_; rfl
      refine (funext fun _ => ?_)
      refine congrArg _ (funext fun _ => ?_)
      refine congrArg₂ _ ?_ ?_; rfl
      refine (funext fun _ => ?_)
      refine congrArg₂ _ ?_ ?_; rfl
      refine (funext fun _ => ?_)
    rfl

end K2

end Cert.Proof.Roll

end
-- ==== Proof.Pure2.lean ====
/-
  What the vector operations of the kernels compute: running sums, running counts, sizes rounded up to eights.
-/
module

public import proofs.«01_k».proof.Proof.Roll2
public import proofs.«01_k».proof.Proof.Pure

@[expose] public section

namespace Cert.Proof.Pure

open Idealize.ShloMosaic Cert.KernelIdeal Cert.KernelIdeal.Gen

/-- `f 0 + … + f (n - 1)`. -/
def psum (f : ℕ → ℕ) : ℕ → ℕ
  | 0 => 0
  | n + 1 => psum f n + f n

theorem psum_add (f : ℕ → ℕ) (m n : ℕ) : psum f (m + n) = psum f m + psum (fun k => f (m + k)) n := by
  induction n with
  | zero => rfl
  | succ n ih => rw [← Nat.add_assoc, psum, psum, ih]; omega

theorem psum_mono (f : ℕ → ℕ) {m n : ℕ} (h : m ≤ n) : psum f m ≤ psum f n := by
  induction n, h using Nat.le_induction with
  | base => exact le_rfl
  | succ n _ ih => rw [psum]; omega

theorem psum_congr (f g : ℕ → ℕ) (n : ℕ) (h : ∀ k < n, f k = g k) : psum f n = psum g n := by
  induction n with
  | zero => rfl
  | succ n ih => rw [psum, psum, ih fun k hk => h k (by omega), h n (by omega)]

/-- Rounded up to a multiple of eight. -/
def up (c : ℕ) : ℕ := (c + 7) / 8 * 8

theorem le_up (c : ℕ) : c ≤ up c := by unfold up; omega
theorem up_le (c : ℕ) : up c ≤ c + 7 := by unfold up; omega
theorem up_dvd (c : ℕ) : 8 ∣ up c := ⟨(c + 7) / 8, by unfold up; omega⟩

theorem psum_up_dvd (c : ℕ → ℕ) (n : ℕ) : 8 ∣ psum (fun g => up (c g)) n := by
  induction n with
  | zero => exact ⟨0, rfl⟩
  | succ n ih => exact (Nat.dvd_add_right ih).2 (up_dvd _)

/-- The sizes of the groups add up to no more than the paths. -/
theorem psum_cnt (G : ℕ → ℕ) (a n N : ℕ) : psum (fun g => cnt G g a n) N ≤ n := by
  induction n with
  | zero =>
    have : ∀ N, psum (fun g => cnt G g a 0) N = 0 := fun N => by
      induction N with
      | zero => rfl
      | succ N ih => rw [psum, ih]; rfl
    rw [this]
  | succ n ih =>
    have key : ∀ N, psum (fun g => cnt G g a (n + 1)) N ≤ psum (fun g => cnt G g a n) N + if G (a + n) < N then 1 else 0 := fun N => by
      induction N with
      | zero => simp [psum]
      | succ N ih =>
        rw [psum, psum, cnt]
        split at ih <;> split <;> split <;> omega
    have := key N
    split at this <;> omega

theorem psum_up (G : ℕ → ℕ) (a n N : ℕ) : psum (fun g => up (cnt G g a n)) N ≤ n + 7 * N := by
  have h := psum_cnt G a n N
  have : psum (fun g => up (cnt G g a n)) N ≤ psum (fun g => cnt G g a n) N + 7 * N := by
    clear h
    induction N with
    | zero => rfl
    | succ N ih =>
      rw [psum, psum]
      have := up_le (cnt G N a n)
      omega
  omega

theorem cnt_card (G : ℕ → ℕ) (g a n : ℕ) : cnt G g a n = ((Finset.range n).filter fun j => G (a + j) = g).card := by
  induction n with
  | zero => rfl
  | succ n ih =>
    rw [cnt, ih, Finset.range_add_one, Finset.filter_insert]
    split
    · rw [Finset.card_insert_of_notMem (by simp)]
    · rfl

abbrev lnp (l : Fin 16) : S16.Idx := Shape.ofLane l

theorem lnp_eq (y : S16.Idx) : lnp (y 0) = y := by
  funext a
  obtain rfl : a = 0 := Subsingleton.elim _ _
  rfl

theorem rowMajor_lnp : ∀ l : Fin 16, (S16.rowMajor (lnp l)).val = l.val := by decide

theorem rowMajor1 (y : S16.Idx) : (S16.rowMajor y).val = (y 0).val := by
  have h := rowMajor_lnp (y 0)
  rwa [show lnp (y 0) = y from lnp_eq y] at h

theorem scanCount_ones (G : ℕ → ℕ) (b : ℕ) (m : IVec S16 1) (v : IVec S16 32) (hm : ∀ l, m (lnp l) = 1#1) (hv : ∀ l : Fin 16, (v (lnp l)).toNat = G (b + l.val)) (l : Fin 16) :
    (scanCount m v).2 (lnp l) = BitVec.ofNat 32 (cnt G (G (b + l.val)) b (l.val + 1)) := by
  have hm' : ∀ y, m y = 1 := fun y => by rw [← lnp_eq y]; exact hm _
  unfold scanCount
  refine (if_pos (hm' _)).trans ?_
  congr 1
  rw [cnt_card]
  refine Finset.card_bij (fun y _ => (y 0).val) ?_ ?_ ?_
  · intro y hy
    rw [Finset.mem_filter] at hy
    obtain ⟨-, h1, -, h2⟩ := hy
    change (S16.rowMajor y).val ≤ (S16.rowMajor (lnp l)).val at h1
    rw [rowMajor1, rowMajor1] at h1
    change (y 0).val ≤ l.val at h1
    rw [Finset.mem_filter, Finset.mem_range]
    refine ⟨by omega, ?_⟩
    rw [← hv (y 0), ← hv l, lnp_eq, h2]
  · intro y _ z _ h
    rw [← lnp_eq y, ← lnp_eq z, Fin.ext h]
  · intro j hj
    rw [Finset.mem_filter, Finset.mem_range] at hj
    have hj16 : j < 16 := by omega
    refine ⟨lnp ⟨j, hj16⟩, ?_, rfl⟩
    rw [Finset.mem_filter]
    refine ⟨Finset.mem_univ _, ?_, hm' _, ?_⟩
    · show (S16.rowMajor _).val ≤ (S16.rowMajor _).val
      rw [rowMajor1, rowMajor1]; show j ≤ l.val; omega
    · apply BitVec.eq_of_toNat_eq
      rw [hv, hv]; exact hj.2

theorem scanCount_zeros (m : IVec S16 1) (v : IVec S16 32) (hm : ∀ l, m (lnp l) = 0#1) (l : Fin 16) : (scanCount m v).2 (lnp l) = 1#32 := by
  unfold scanCount
  refine if_neg ?_
  rw [hm]; decide

theorem scan_sum (f : ℕ → ℕ) (v : IVec S16 32) (hv : ∀ l : Fin 16, v (lnp l) = BitVec.ofNat 32 (f l.val)) (l : Fin 16) :
    scan .sum v (lnp l) = BitVec.ofNat 32 (psum f (l.val + 1)) := by
  have step : ∀ k : Fin 15, (List.finRange 16).filter (fun j => decide (0 < j.val ∧ j.val ≤ k.val + 1)) = (List.finRange 16).filter (fun j => decide (0 < j.val ∧ j.val ≤ k.val)) ++ [⟨k.val + 1, by omega⟩] := by decide
  have key : ∀ n (hn : n < 16), ((List.finRange 16).filter fun k => decide (0 < k.val ∧ k.val ≤ n)).foldl
      (fun r k => ScanKind.sum.step r (v (lnp k))) (v (lnp ⟨0, by omega⟩)) = BitVec.ofNat 32 (psum f (n + 1)) := by
    intro n
    induction n with
    | zero =>
      intro _
      rw [show (List.finRange 16).filter (fun k => decide (0 < k.val ∧ k.val ≤ 0)) = [] from by decide, List.foldl_nil, hv, psum, psum, Nat.zero_add]
    | succ n ih =>
      intro hn
      rw [step ⟨n, by omega⟩, List.foldl_append, ih (by omega), List.foldl_cons, List.foldl_nil, hv]
      show _ = BitVec.ofNat 32 (psum f (n + 1) + f (n + 1))
      rw [BitVec.ofNat_add]
      rfl
  exact key l.val l.isLt

theorem and_m8 (x : BitVec 32) : (x &&& 4294967288#32).toNat = x.toNat / 8 * 8 := by
  have h : x &&& 4294967288#32 = (x >>> 3) <<< 3 := by
    have hc : ∀ i : Fin 32, (4294967288#32).getLsbD i.val = decide (3 ≤ i.val) := by decide
    refine BitVec.eq_of_getLsbD_eq fun i hi => ?_
    rw [BitVec.getLsbD_and, hc ⟨i, hi⟩, BitVec.getLsbD_shiftLeft, BitVec.getLsbD_ushiftRight]
    by_cases h3 : 3 ≤ i
    · rw [show 3 + (i - 3) = i from by omega]
      simp [h3, hi, Nat.not_lt.2 h3]
    · simp [h3, Nat.lt_of_not_le h3]
  rw [h, BitVec.toNat_shiftLeft, BitVec.toNat_ushiftRight, Nat.shiftRight_eq_div_pow, Nat.shiftLeft_eq]
  have := x.isLt
  omega

theorem upV_at (h : IVec S16 32) (x : S16.Idx) (c : ℕ) (hc : c < 2 ^ 31) (hx : h x = BitVec.ofNat 32 c) : Roll.upV h x = BitVec.ofNat 32 (up c) := by
  apply BitVec.eq_of_toNat_eq
  show ((h x + 7#32) &&& 4294967288#32).toNat = _
  have h7 : (7#32).toNat = 7 := rfl
  have hu : (BitVec.ofNat 32 (up c)).toNat = up c := ofNat_toNat_lt _ (by have := up_le c; omega)
  rw [and_m8, hx, BitVec.toNat_add, ofNat_toNat_lt c (by omega), hu, h7]
  unfold up
  omega

end Cert.Proof.Pure

end
-- ==== Proof.Pos.lean ====
/-
  Where the second call puts each path's packed word.
-/
module

public import proofs.«01_k».proof.Proof.Pure2

@[expose] public section

namespace Cert.Proof.Pure

open Idealize.ShloMosaic Cert.KernelIdeal Cert.KernelIdeal.Gen

/-- Where the run of group `g` starts among the runs of the `N` paths from `a` on. -/
def offg (G : ℕ → ℕ) (a N g : ℕ) : ℕ := psum (fun g => up (cnt G g a N)) g

/-- Where path `a + j` goes. -/
def pos (G : ℕ → ℕ) (a N j : ℕ) : ℕ := offg G a N (G (a + j)) + cnt G (G (a + j)) a j

theorem cnt_lt (G : ℕ → ℕ) (a : ℕ) {j n : ℕ} (h : j < n) : cnt G (G (a + j)) a j < cnt G (G (a + j)) a n := by
  have h1 := cnt_mono G (G (a + j)) a (show j + 1 ≤ n from h)
  rw [cnt, if_pos rfl] at h1
  omega

theorem offg_mono (G : ℕ → ℕ) (a N : ℕ) {g g' : ℕ} (h : g ≤ g') : offg G a N g ≤ offg G a N g' := psum_mono _ h

theorem offg_step (G : ℕ → ℕ) (a N g : ℕ) : offg G a N g + cnt G g a N ≤ offg G a N (g + 1) := by
  unfold offg
  rw [psum]
  have := le_up (cnt G g a N)
  omega

theorem offg_le (G : ℕ → ℕ) (a N : ℕ) {g : ℕ} (h : g ≤ 32) : offg G a N g ≤ N + 224 := by
  have := psum_up G a N g
  unfold offg
  omega

theorem pos_lt (G : ℕ → ℕ) (a N : ℕ) {j : ℕ} (h : j < N) : pos G a N j < offg G a N (G (a + j) + 1) := by
  have h1 := cnt_lt G a h
  have h2 := offg_step G a N (G (a + j))
  unfold pos
  omega

theorem pos_ne (G : ℕ → ℕ) (a N : ℕ) {j k : ℕ} (hj : j < k) (hk : k < N) : pos G a N j ≠ pos G a N k := by
  have h1 := pos_lt G a N (hj.trans hk)
  have h2 := pos_lt G a N hk
  rcases Nat.lt_trichotomy (G (a + j)) (G (a + k)) with h | h | h
  · have := offg_mono G a N (show G (a + j) + 1 ≤ G (a + k) from h)
    unfold pos at *
    omega
  · have := cnt_lt G a hj
    unfold pos
    rw [← h]
    omega
  · have := offg_mono G a N (show G (a + k) + 1 ≤ G (a + j) from h)
    unfold pos at *
    omega

/-- A path in one word. -/
def pk (s d l : BitVec 32) : BitVec 32 := Roll.packV (fun _ => s) (fun _ => d) (fun _ => l) (lnp 0)

end Cert.Proof.Pure

end
-- ==== Proof.K2.lean ====
/-
  One tile of the second call: it packs its slice of the paths and sorts the packed words by group.
-/
module

public import proofs.«01_k».proof.Proof.K1
public import proofs.«01_k».proof.Proof.Pos

@[expose] public section

noncomputable section

namespace Cert.Proof.Tile

open Cert.KernelIdeal Cert.KernelIdeal.Gen Cert.Proof.Roll Cert.Proof.Pure

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (d : Dev nD)

section K2

variable (i : grid1.Coords)

abbrev c1 (i : grid1.Coords) : Fin τ.nSC := (i 0).castLE hcore1
abbrev t1 (i : grid1.Coords) : Fin τ.nSub := (i 1).castLE hsub1

/-- The cursors and the sorted words once `n` paths of `N` are placed. -/
def Sorted (m8 : Memref sig .scVector .vmem S32 .i32) (m12 : Memref sig .scVector .vmem S31520 .i32) (src dst len : ℕ → BitVec 32) (a N n : ℕ) : sProp 𝕄 :=
  iprop((∃ h : ℕ → BitVec 32, ⌜∀ k < 32, h k = BitVec.ofNat 32 (offg (grp src) a N k + cnt (grp src) k a n)⌝ ∗ At1 (F := F) d (c1 i) (t1 i) (e := .i32) m8 fullShare h)
    ∗ (∃ st : ℕ → BitVec 32, ⌜∀ j < n, st (pos (grp src) a N j) = pk (src (a + j)) (dst (a + j)) (len (a + j))⌝ ∗ At1 (F := F) d (c1 i) (t1 i) (e := .i32) m12 fullShare st))

variable (arg8 : Memref sig .scVector .vmem S32 .i32) (arg9 arg10 arg11 : Memref sig .scVector .vmem S1024 .i32) (arg12 : Memref sig .scVector .vmem S31520 .i32)

theorem step2_wp (m m' : IVec S16 1) (v : ℕ) (gs gd gl src dst len : ℕ → BitVec 32) (a N n : ℕ) (act : Bool)
    (hm : ∀ l, m (ln l) = if act then 1#1 else 0#1) (hm' : ∀ l, m' (ln l) = if act then 1#1 else 0#1)
    (hgs : ∀ l < 16, (gs (16 * (v % 64) + l)).toNat < 4096) (hN : N ≤ 31264) (hn : act = true → n + 16 ≤ N) (hn' : n ≤ N)
    (hs : act = true → ∀ l < 16, gs (16 * (v % 64) + l) = src (a + (n + l)) ∧ gd (16 * (v % 64) + l) = dst (a + (n + l)) ∧ gl (16 * (v % 64) + l) = len (a + (n + l))) :
    iprop((At1 (F := F) d (c1 i) (t1 i) (e := .i32) arg9 fullShare gs ∗ At1 (F := F) d (c1 i) (t1 i) (e := .i32) arg10 fullShare gd ∗ At1 (F := F) d (c1 i) (t1 i) (e := .i32) arg11 fullShare gl) ∗ Sorted (F := F) d i arg8 arg12 src dst len a N n)
      ⊢ wpT d (c1 i) (t1 i) (step2 i arg8 arg9 arg10 arg11 arg12 m m' v) fun _ =>
        iprop((At1 (F := F) d (c1 i) (t1 i) (e := .i32) arg9 fullShare gs ∗ At1 (F := F) d (c1 i) (t1 i) (e := .i32) arg10 fullShare gd ∗ At1 (F := F) d (c1 i) (t1 i) (e := .i32) arg11 fullShare gl) ∗ Sorted (F := F) d i arg8 arg12 src dst len a N (n + if act then 16 else 0)) := by
  have hx : ∀ x : S16.Idx, (grpV (fun x : S16.Idx => gs (16 * (v % 64) + (x 0).val)) x).toNat = (gs (16 * (v % 64) + (x 0).val)).toNat / 128 := fun x => by
    have := hgs (x 0).val (x 0).isLt
    exact shr .vector _ 7 (by omega) (this.trans (by omega))
  have hx32 : ∀ x : S16.Idx, (grpV (fun x : S16.Idx => gs (16 * (v % 64) + (x 0).val)) x).toNat < 32 := fun x => by
    have := hgs (x 0).val (x 0).isLt
    rw [hx]; omega
  have hgl : act = true → ∀ l : Fin 16, (grpV (fun x : S16.Idx => gs (16 * (v % 64) + (x 0).val)) (ln l)).toNat = grp src (a + (n + l.val)) := fun ha l => by
    rw [hx]; show _ = (src _).toNat / 128; rw [← (hs ha l.val l.isLt).1]; rfl
  have hc1 : k1_chk1 (grpV (fun x : S16.Idx => gs (16 * (v % 64) + (x 0).val))) := by
    have h : ∀ a x, ((![grpV (fun x : S16.Idx => gs (16 * (v % 64) + (x 0).val))] : Fin 1 → IVec S16 32) a x).toNat < S32.size a := by
      intro b y
      obtain rfl : b = 0 := Subsingleton.elim _ _
      exact hx32 y
    exact ⟨h, h⟩
  unfold step2 Sorted
  iintro ⟨⟨H9, H10, H11⟩, ⟨%h, %hh, H8⟩, ⟨%st, %hst, H12⟩⟩
  iapply (wp_ld1 d (c1 i) (t1 i) (rW v) (fun _ => rfl) (16 * (v % 64)) rfl) $$ H9
  iintro H9
  iapply (wp_ld1 d (c1 i) (t1 i) (rW v) (fun _ => rfl) (16 * (v % 64)) rfl) $$ H10
  iintro H10
  iapply (wp_ld1 d (c1 i) (t1 i) (rW v) (fun _ => rfl) (16 * (v % 64)) rfl) $$ H11
  iintro H11
  iapply (wp_asm d (c1 i) (t1 i) hc1)
  iapply (wp_ldx1 d (c1 i) (t1 i)) $$ H8
  iintro H8
  -- the cursors after this vector, and the places of its words
  set e : IVec S16 32 := addi (fun y => h (grpV (fun x : S16.Idx => gs (16 * (v % 64) + (x 0).val)) y).toNat) (scanCount m (grpV (fun x : S16.Idx => gs (16 * (v % 64) + (x 0).val)))).2 with he
  set qv : IVec S16 32 := subi e (broadcast S16 1#32) with hq
  have hea : act = true → ∀ l : Fin 16, e (ln l) = BitVec.ofNat 32 (offg (grp src) a N (grp src (a + (n + l.val))) + cnt (grp src) (grp src (a + (n + l.val))) a (n + l.val + 1)) := fun ha l => by
    have h1 := scanCount_ones (grp src) (a + n) m (grpV (fun x : S16.Idx => gs (16 * (v % 64) + (x 0).val))) (fun l => by rw [hm l, ha]; rfl) (fun l => by rw [hgl ha l, Nat.add_assoc]) l
    have h2 := hh (grp src (a + (n + l.val))) (by rw [← hgl ha l]; exact hx32 _)
    show h (grpV (fun x : S16.Idx => gs (16 * (v % 64) + (x 0).val)) (ln l)).toNat + (scanCount m (grpV (fun x : S16.Idx => gs (16 * (v % 64) + (x 0).val)))).2 (ln l) = _
    rw [h1, hgl ha l, h2, Nat.add_assoc a n l.val, Nat.add_assoc n, cnt_add (grp src) _ a n, ← Nat.add_assoc, BitVec.ofNat_add, BitVec.ofNat_add, BitVec.ofNat_add, BitVec.add_assoc]
  have hqa : act = true → ∀ l : Fin 16, qv (ln l) = BitVec.ofNat 32 (pos (grp src) a N (n + l.val)) := fun ha l => by
    show e (ln l) - 1#32 = _
    rw [hea ha l, cnt, if_pos rfl, ← Nat.add_assoc, BitVec.ofNat_add, BitVec.add_sub_cancel]
    rfl
  have hqi : act = false → ∀ l : Fin 16, qv (ln l) = h (grpV (fun x : S16.Idx => gs (16 * (v % 64) + (x 0).val)) (ln l)).toNat := fun ha l => by
    show h (grpV (fun x : S16.Idx => gs (16 * (v % 64) + (x 0).val)) (ln l)).toNat + (scanCount m (grpV (fun x : S16.Idx => gs (16 * (v % 64) + (x 0).val)))).2 (ln l) - 1#32 = _
    rw [scanCount_zeros m (grpV (fun x : S16.Idx => gs (16 * (v % 64) + (x 0).val))) (fun l => by rw [hm l, ha]; rfl) l, BitVec.add_sub_cancel]
  have hposb : ∀ j < N, grp src (a + j) < 32 → pos (grp src) a N j < 31520 := fun j hj hg => by
    have h1 := pos_lt (grp src) a N hj
    have h2 := offg_le (grp src) a N (show grp src (a + j) + 1 ≤ 32 from hg)
    omega
  have hqt : act = true → ∀ l : Fin 16, (qv (ln l)).toNat = pos (grp src) a N (n + l.val) := fun ha l => by
    have := hposb (n + l.val) (by have := hn ha; omega) (by rw [← hgl ha l]; exact hx32 _)
    rw [hqa ha l, ofNat_toNat_lt _ (by omega)]
  have hc2 : k1_chk2 qv := by
    intro b y
    obtain rfl : b = 0 := Subsingleton.elim _ _
    show (qv y).toNat < 31520
    obtain ⟨l, rfl⟩ : ∃ l : Fin 16, ln l = y := ⟨y 0, lnp_eq y⟩
    cases ha : act with
    | true =>
      rw [hqt ha l]
      exact hposb (n + l.val) (by have := hn ha; omega) (by rw [← hgl ha l]; exact hx32 _)
    | false =>
      have h1 := hx32 (ln l)
      rw [hqi ha l, hh _ h1]
      have h2 := offg_le (grp src) a N (show (grpV (fun x : S16.Idx => gs (16 * (v % 64) + (x 0).val)) (ln l)).toNat + 1 ≤ 32 from h1)
      have h3 := offg_step (grp src) a N (grpV (fun x : S16.Idx => gs (16 * (v % 64) + (x 0).val)) (ln l)).toNat
      have h4 := cnt_mono (grp src) (grpV (fun x : S16.Idx => gs (16 * (v % 64) + (x 0).val)) (ln l)).toNat a hn'
      rw [ofNat_toNat_lt _ (by omega)]
      omega
  iapply (wp_asm d (c1 i) (t1 i) hc2)
  have h8 : ∀ (l : Fin 16) (h : ℕ → Elt F .i32), (∀ k < 32, h k = BitVec.ofNat 32 (offg (grp src) a N k + cnt (grp src) k a (n + if act then l.val else 0))) →
      ∀ k < 32, lane1 (F := F) (e := .i32) (grpV (fun x : S16.Idx => gs (16 * (v % 64) + (x 0).val))) e m' false l h k = BitVec.ofNat 32 (offg (grp src) a N k + cnt (grp src) k a (n + if act then l.val + 1 else 0)) := by
    intro l g hg
    unfold lane1
    rw [hm' l]
    cases ha : act with
    | false => simpa [ha] using hg
    | true =>
      simp only [ha, ↓reduceIte] at hg ⊢
      intro k hk
      rw [if_pos (show (1#1 : BitVec 1) = 1 from rfl), hgl ha l, Function.update_apply]
      by_cases hkk : k = grp src (a + (n + l.val))
      · rw [if_pos hkk, hkk]; exact hea ha l
      · rw [if_neg hkk, hg k hk, ← Nat.add_assoc, cnt, if_neg (Ne.symm hkk)]; rfl
  iapply (wp_stx1 d (c1 i) (t1 i) (e := .i32) (fun l h => ∀ k < 32, h k = BitVec.ofNat 32 (offg (grp src) a N k + cnt (grp src) k a (n + if act then l else 0))) (by simpa using hh) h8) $$ H8
  iintro %h' %hh' H8
  have h12 : ∀ (l : Fin 16) (g : ℕ → Elt F .i32), (∀ j < n + (if act then l.val else 0), g (pos (grp src) a N j) = pk (src (a + j)) (dst (a + j)) (len (a + j))) →
      ∀ j < n + (if act then l.val + 1 else 0), lane1 (F := F) (e := .i32) qv (packV (fun x : S16.Idx => gs (16 * (v % 64) + (x 0).val)) (fun x => gd (16 * (v % 64) + (x 0).val)) (fun x => gl (16 * (v % 64) + (x 0).val))) m' false l g (pos (grp src) a N j) = pk (src (a + j)) (dst (a + j)) (len (a + j)) := by
    intro l g hg
    unfold lane1
    rw [hm' l]
    cases ha : act with
    | false => simpa [ha] using hg
    | true =>
      simp only [ha, ↓reduceIte] at hg ⊢
      intro j hj
      rw [if_pos (show (1#1 : BitVec 1) = 1 from rfl), hqt ha l, Function.update_apply]
      by_cases hkk : j = n + l.val
      · rw [if_pos (by rw [hkk]), hkk]
        obtain ⟨e1, e2, e3⟩ := hs ha l.val l.isLt
        rw [← e1, ← e2, ← e3]; rfl
      · have hl := l.isLt
        rw [if_neg (pos_ne (grp src) a N (show j < n + l.val by omega) (by have := hn ha; omega)), hg j (by omega)]
  iapply (wp_stx1' d (c1 i) (t1 i) (e := .i32) (fun l g => ∀ j < n + (if act then l else 0), g (pos (grp src) a N j) = pk (src (a + j)) (dst (a + j)) (len (a + j))) (by simpa using hst) h12) $$ H12
  iintro %st' %hst' H12
  isplitl [H9 H10 H11]
  · isplitl [H9]; · iexact H9
    isplitl [H10]; · iexact H10
    iexact H11
  isplitl [H8]
  · iexists h'
    isplitr
    · ipureintro; exact hh'
    · iexact H8
  · iexists st'
    isplitr
    · ipureintro; exact hst'
    · iexact H12

/-- A running sum without its last term. -/
theorem scan_excl (f : ℕ → ℕ) (v : IVec S16 32) (hv : ∀ l : Fin 16, v (ln l) = BitVec.ofNat 32 (f l.val)) (y : S16.Idx) :
    subi (scan .sum v) v y = BitVec.ofNat 32 (psum f (y 0).val) := by
  obtain ⟨l, rfl⟩ : ∃ l : Fin 16, ln l = y := ⟨y 0, lnp_eq y⟩
  show scan .sum v (ln l) - v (ln l) = BitVec.ofNat 32 (psum f l.val)
  rw [show scan .sum v (ln l) = _ from scan_sum f v hv l, hv, psum, BitVec.ofNat_add, BitVec.add_sub_cancel]

theorem scan_last (f : ℕ → ℕ) (v : IVec S16 32) (hv : ∀ l : Fin 16, v (ln l) = BitVec.ofNat 32 (f l.val)) :
    extractAt ![15] (scan .sum v) inpos_S16_p15 = BitVec.ofNat 32 (psum f 16) := by
  refine Eq.trans (congrArg (scan .sum v) ?_) (scan_sum f v hv 15)
  funext a
  obtain rfl : a = 0 := Subsingleton.elim _ _
  rfl

theorem add_bc (a : IVec S16 32) (w : BitVec 32) (x : S16.Idx) : (addi a (broadcast S16 w) : IVec S16 32) x = a x + w := rfl

set_option maxHeartbeats 200000 in
theorem head2_wp {β : Type} {Q : β → sProp 𝕄} (arg7 : Memref sig .scVector .vmem S32 .i32) (G : ℕ → ℕ) (a N : ℕ) (hN : N ≤ 31264) (h : ℕ → BitVec 32) (hh : ∀ k < 32, h k = BitVec.ofNat 32 (cnt G k a N))
    (g8 : ℕ → BitVec 32) {kk : PUnit → Prog (TpuEff nD τ sig (Elt F) Λ₀ (.scVector (c1 i) (t1 i))) β} :
    iprop(At1 (F := F) d (c1 i) (t1 i) (e := .i32) arg7 fullShare h ∗ At1 (F := F) d (c1 i) (t1 i) (e := .i32) arg8 fullShare g8)
      ⊢ iprop((At1 (F := F) d (c1 i) (t1 i) (e := .i32) arg7 fullShare h -∗ At1 (F := F) d (c1 i) (t1 i) (e := .i32) arg8 fullShare (fun k => if k < 32 then BitVec.ofNat 32 (offg G a N k) else g8 k) -∗ wpT d (c1 i) (t1 i) (kk ⟨⟩) Q)
      -∗ wpT d (c1 i) (t1 i) (head2 i arg7 arg8 >>= kk) Q) := by
  have hb : ∀ k, cnt G k a N < 2 ^ 31 := fun k => (cnt_le G k a N).trans_lt (hN.trans_lt (by decide))
  have hv0 : ∀ l : Fin 16, upV (fun x : S16.Idx => h (0 + (x 0).val)) (ln l) = BitVec.ofNat 32 ((fun k => up (cnt G k a N)) l.val) := fun l =>
    upV_at _ _ _ (hb _) (by have := l.isLt; show h (0 + l.val) = _; rw [Nat.zero_add]; exact hh _ (by omega))
  have hv1 : ∀ l : Fin 16, upV (fun x : S16.Idx => h (16 + (x 0).val)) (ln l) = BitVec.ofNat 32 ((fun k => up (cnt G (16 + k) a N)) l.val) := fun l =>
    upV_at _ _ _ (hb _) (by have := l.isLt; show h (16 + l.val) = _; exact hh _ (by omega))
  have hs : ∀ x : S16.Idx, BitVec.ofNat 32 (offg G a N (16 + (x 0).val))
      = (addi (subi (scan .sum (upV (fun x : S16.Idx => h (16 + (x 0).val)))) (upV (fun x : S16.Idx => h (16 + (x 0).val)))) (broadcast S16 (extractAt ![15] (scan .sum (upV (fun x : S16.Idx => h (0 + (x 0).val)))) inpos_S16_p15)) : IVec S16 32) x := by
    intro x
    rw [add_bc, scan_excl (fun k => up (cnt G (16 + k) a N)) _ hv1 x, scan_last (fun k => up (cnt G k a N)) _ hv0, ← BitVec.ofNat_add]
    unfold offg
    rw [psum_add, Nat.add_comm]
  unfold head2
  simp only [Prog.bind_assoc, pure_bind, bind_assoc]
  iintro ⟨H7, H8⟩ Hk
  iapply (wp_ld1 d (c1 i) (t1 i) (Rect.unit (s := S32) ![0] S16.size inb_S32_S16_0) (fun _ => rfl) 0 rfl) $$ H7
  iintro H7
  iapply (wp_ld1 d (c1 i) (t1 i) (Rect.unit (s := S32) ![0] S16.size inb_S32_S16_0) (fun _ => rfl) 0 rfl) $$ H8
  iintro H8
  iapply (wp_st1 d (c1 i) (t1 i) (Rect.unit (s := S32) ![0] S16.size inb_S32_S16_0) (fun _ => rfl) 0 16 rfl rfl _ (fun k => if k < 16 then BitVec.ofNat 32 (offg G a N k) else g8 k)
    (fun x => (if_pos (by have := (x 0).isLt; have h : (x 0).val < 16 := this; omega)).trans (by rw [Nat.zero_add]; exact (scan_excl (fun k => up (cnt G k a N)) _ hv0 x).symm)) (fun k hk => if_neg (by omega))) $$ H8
  iintro H8
  iapply (wp_ld1 d (c1 i) (t1 i) (Rect.unit (s := S32) ![16] S16.size inb_S32_S16_16) (fun _ => rfl) 16 rfl) $$ H7
  iintro H7
  iapply (wp_ld1 d (c1 i) (t1 i) (Rect.unit (s := S32) ![16] S16.size inb_S32_S16_16) (fun _ => rfl) 16 rfl) $$ H8
  iintro H8
  iapply (wp_st1 d (c1 i) (t1 i) (Rect.unit (s := S32) ![16] S16.size inb_S32_S16_16) (fun _ => rfl) 16 16 rfl rfl (addi (subi (scan .sum (upV (fun x : S16.Idx => h (16 + (x 0).val)))) (upV (fun x : S16.Idx => h (16 + (x 0).val)))) (broadcast S16 (extractAt ![15] (scan .sum (upV (fun x : S16.Idx => h (0 + (x 0).val)))) inpos_S16_p15)) : IVec S16 32) (fun k => if k < 32 then BitVec.ofNat 32 (offg G a N k) else g8 k)
    (fun x => (if_pos (by have := (x 0).isLt; have h : (x 0).val < 16 := this; omega)).trans (hs x)) (fun k hk => by
      rcases hk with h | h
      · rw [if_pos (by omega), if_pos h]
      · rw [if_neg (by omega), if_neg (by omega)])) $$ H8
  iintro H8
  iapply Hk $$ H7 H8

variable {q : PosShare TreeShare} {O : CellTallies nD τ sig (HIx 3)} {W : Waits sig (HIx 3)}
  (arg2 arg3 arg4 : Memref sig .scVector .hbm S1000000 .i32) (arg5 : Memref sig .scVector .hbm S1024 .i32) (arg6 : Memref sig .scVector .hbm S1010688 .i32)
  (arg7 : Memref sig .scVector .vmem S32 .i32) (harg7 : arg7.IsWhole) (harg9 : arg9.IsWhole) (harg10 : arg10.IsWhole) (harg11 : arg11.IsWhole) (harg12 : arg12.IsWhole)
  (arg13 r0 r1 r2 r3 r4 : DmaSems sig S_)

/-- The second call's tile number. -/
def wd1 (i : grid1.Coords) : ℕ := 16 * (i 0).val + (i 1).val

theorem wd1_lt (i : grid1.Coords) : wd1 i < 32 := by
  have h0 : (i 0).val < 2 := (i 0).isLt
  have h1 : (i 1).val < 16 := (i 1).isLt
  unfold wd1; omega

/-- The three lists of the paths, shared by all tiles. -/
def Paths (q : PosShare TreeShare) (src dst len : ℕ → BitVec 32) : sProp 𝕄 :=
  iprop(At1 (F := F) d (c1 i) (t1 i) (e := .i32) arg2 q src ∗ At1 (F := F) d (c1 i) (t1 i) (e := .i32) arg3 q dst ∗ At1 (F := F) d (c1 i) (t1 i) (e := .i32) arg4 q len)

def Inv2 (q : PosShare TreeShare) (O : CellTallies nD τ sig (HIx 3)) (W : Waits sig (HIx 3)) (src dst len : ℕ → BitVec 32) (t : ℕ) : sProp 𝕄 :=
  iprop(□ Transfers.MayWaits (V d (c1 i) (t1 i)) (default : HIx 3) O ∗ Paths (F := F) d i arg2 arg3 arg4 q src dst len
    ∗ (At1E (F := F) d (c1 i) (t1 i) arg9 ∗ At1E (F := F) d (c1 i) (t1 i) arg10 ∗ At1E (F := F) d (c1 i) (t1 i) arg11)
    ∗ Sorted (F := F) d i arg8 arg12 src dst len (31264 * wd1 i) (nw (wd1 i)) (1024 * t)
    ∗ semVal ((V d (c1 i) (t1 i) : Thread nD τ), SemLoc.dma arg13.sem) 0 ∗ Owe (F := F) d (c1 i) (t1 i) O W)

set_option maxHeartbeats 400000 in
theorem win2_wp (hc10 : arg10.view.dmaCredit = arg9.view.dmaCredit) (hc11 : arg11.view.dmaCredit = arg9.view.dmaCredit) (src dst len : ℕ → BitVec 32) (hsrc : ∀ k < 1000000, (src k).toNat < 4096) (t : Fin k1_t1_loop.trips) :
    Inv2 (F := F) d i arg8 arg9 arg10 arg11 arg12 arg2 arg3 arg4 arg13 q O W src dst len t.val
      ⊢ wpT d (c1 i) (t1 i) (win2 i arg2 arg3 arg4 arg8 arg9 harg9 arg10 harg10 arg11 harg11 arg12 arg13 t) fun _ => Inv2 (F := F) d i arg8 arg9 arg10 arg11 arg12 arg2 arg3 arg4 arg13 q O W src dst len (t.val + 1) := by
  have ht : t.val < 30 := t.isLt.trans_le k1_t1_abs.2.1
  have hw := wd1_lt i
  have hpos : 0 < (⟨1, S1024.size⟩ : Shape).numel := by decide
  have ho : k1_off2 i t 0 = 31264 * wd1 i + 1024 * t.val := by
    rw [k1_off2_eq]; show 500224 * (i 0).val + 31264 * (i 1).val + 1024 * t.val = _; unfold wd1; omega
  have hnw : nw (wd1 i) ≤ 31264 ∧ 30720 ≤ nw (wd1 i) := by unfold nw; omega
  unfold win2 Inv2 Paths At1E
  iintro ⟨#Hm, ⟨Ha, Hb, Hc⟩, ⟨⟨%g9, H9⟩, ⟨%g10, H10⟩, ⟨%g11, H11⟩⟩, HS, Hsem, Ho⟩
  ihave Ha := (At1_lend d (c1 i) (t1 i) (Rect.unit (s := S1000000) (k1_off2 i t) S1024.size (k1_off2_inb i t)) (fun _ => rfl) (31264 * wd1 i + 1024 * t.val) 1024 ho rfl) $$ Ha
  icases Ha with ⟨Ha, Hab⟩
  ihave Hb := (At1_lend d (c1 i) (t1 i) (Rect.unit (s := S1000000) (k1_off2 i t) S1024.size (k1_off2_inb i t)) (fun _ => rfl) (31264 * wd1 i + 1024 * t.val) 1024 ho rfl) $$ Hb
  icases Hb with ⟨Hb, Hbb⟩
  ihave Hc := (At1_lend d (c1 i) (t1 i) (Rect.unit (s := S1000000) (k1_off2 i t) S1024.size (k1_off2_inb i t)) (fun _ => rfl) (31264 * wd1 i + 1024 * t.val) 1024 ho rfl) $$ Hc
  icases Hc with ⟨Hc, Hcb⟩
  iapply (wp_cp31 d (c1 i) (t1 i) (n := S1024.size) hpos (N := arg9.view.dmaCredit) rfl hc10 hc11) $$ Hm [Ha Hb Hc H9 H10 H11 Hsem Ho]
  · isplitl [Ha]; · iexact Ha
    isplitl [Hb]; · iexact Hb
    isplitl [Hc]; · iexact Hc
    isplitl [H9]; · iexact H9
    isplitl [H10]; · iexact H10
    isplitl [H11]; · iexact H11
    isplitl [Hsem]; · iexact Hsem
    iexact Ho
  iintro ⟨Ha, Hb, Hc, H9, H10, H11, Hsem, Ho⟩
  ispecialize Hab $$ Ha
  ispecialize Hbb $$ Hb
  ispecialize Hcb $$ Hc
  let J : ℕ → sProp 𝕄 := fun v => iprop((At1 (F := F) d (c1 i) (t1 i) (e := .i32) arg9 fullShare (fun k => src (31264 * wd1 i + 1024 * t.val + k)) ∗ At1 (F := F) d (c1 i) (t1 i) (e := .i32) arg10 fullShare (fun k => dst (31264 * wd1 i + 1024 * t.val + k)) ∗ At1 (F := F) d (c1 i) (t1 i) (e := .i32) arg11 fullShare (fun k => len (31264 * wd1 i + 1024 * t.val + k)))
    ∗ Sorted (F := F) d i arg8 arg12 src dst len (31264 * wd1 i) (nw (wd1 i)) (1024 * t.val + 16 * v))
  have hstep : ∀ v, 0 ≤ v → v < 0 + 64 → J v ⊢ wpT d (c1 i) (t1 i) (step2 (F := F) i arg8 arg9 arg10 arg11 arg12 (broadcast S16 1#1) (fun _ => 1#1) v) fun _ => J (v + 1) := by
    intro v _ hv
    have hv : v < 64 := by omega
    refine (step2_wp (F := F) d i arg8 arg9 arg10 arg11 arg12 (broadcast S16 1#1) (fun _ => 1#1) v (fun k => src (31264 * wd1 i + 1024 * t.val + k)) (fun k => dst (31264 * wd1 i + 1024 * t.val + k)) (fun k => len (31264 * wd1 i + 1024 * t.val + k)) src dst len (31264 * wd1 i) (nw (wd1 i)) (1024 * t.val + 16 * v) true
      (fun _ => (if_pos rfl).symm) (fun _ => (if_pos rfl).symm) (fun l hl => hsrc _ ?_) hnw.1 (fun _ => ?_) ?_ (fun _ l hl => ?_)).trans (wp_mono _ _ _ fun _ => ?_)
    · omega
    · omega
    · omega
    · have : 31264 * wd1 i + 1024 * t.val + (16 * (v % 64) + l) = 31264 * wd1 i + (1024 * t.val + 16 * v + l) := by omega
      exact ⟨congrArg src this, congrArg dst this, congrArg len this⟩
    · exact .rfl
  iapply (wp_rep' d (c1 i) (t1 i) _ J 64 0 hstep) $$ [H9 H10 H11 HS] [Hab Hbb Hcb Hsem Ho]
  · isplitl [H9 H10 H11]
    · isplitl [H9]; · iexact H9
      isplitl [H10]; · iexact H10
      iexact H11
    · iexact HS
  · iintro ⟨⟨H9, H10, H11⟩, HS⟩
    isplitr; · iexact Hm
    isplitl [Hab Hbb Hcb]
    · isplitl [Hab]; · iexact Hab
      isplitl [Hbb]; · iexact Hbb
      iexact Hcb
    isplitl [H9 H10 H11]
    · isplitl [H9]
      · iexists _; iexact H9
      isplitl [H10]
      · iexists _; iexact H10
      · iexists _; iexact H11
    isplitl [HS]
    · rw [show 1024 * t.val + 16 * (0 + 64) = 1024 * (t.val + 1) from by omega]; iexact HS
    isplitl [Hsem]; · iexact Hsem
    iexact Ho

set_option maxHeartbeats 400000 in
theorem k2_body (hc10 : arg10.view.dmaCredit = arg9.view.dmaCredit) (hc11 : arg11.view.dmaCredit = arg9.view.dmaCredit) (src dst len : ℕ → BitVec 32) (hsrc : ∀ k < 1000000, (src k).toNat < 4096) (h0 : ℕ → BitVec 32) (hh0 : ∀ k < 32, h0 k = BitVec.ofNat 32 (cnt (grp src) k (31264 * wd1 i) (nw (wd1 i)))) :
    (Transfers.MayWaits (V d (c1 i) (t1 i)) (default : HIx 3) O : sProp 𝕄) ⊢ iprop((Paths (F := F) d i arg2 arg3 arg4 q src dst len
      ∗ At1 (F := F) d (c1 i) (t1 i) (e := .i32) (n := S32.size) (arg5.slice (Rect.unit (s := S1024) (k1_off1 i) S32.size (k1_off1_inb i)) (fun _ => rfl)) q h0
      ∗ At1E (F := F) d (c1 i) (t1 i) (n := S31520.size) (arg6.slice (Rect.unit (s := S1010688) (k1_off4 i) S31520.size (k1_off4_inb i)) (fun _ => rfl))
      ∗ (At1E (F := F) d (c1 i) (t1 i) arg7 ∗ At1E (F := F) d (c1 i) (t1 i) arg8 ∗ At1E (F := F) d (c1 i) (t1 i) arg9 ∗ At1E (F := F) d (c1 i) (t1 i) arg10 ∗ At1E (F := F) d (c1 i) (t1 i) arg11 ∗ At1E (F := F) d (c1 i) (t1 i) arg12)
      ∗ (semVal ((V d (c1 i) (t1 i) : Thread nD τ), SemLoc.dma arg13.sem) 0 ∗ semVal ((V d (c1 i) (t1 i) : Thread nD τ), SemLoc.dma r0.sem) 0 ∗ semVal ((V d (c1 i) (t1 i) : Thread nD τ), SemLoc.dma r1.sem) 0 ∗ semVal ((V d (c1 i) (t1 i) : Thread nD τ), SemLoc.dma r2.sem) 0 ∗ semVal ((V d (c1 i) (t1 i) : Thread nD τ), SemLoc.dma r3.sem) 0 ∗ semVal ((V d (c1 i) (t1 i) : Thread nD τ), SemLoc.dma r4.sem) 0) ∗ Owe (F := F) d (c1 i) (t1 i) O W)
      -∗ wpT d (c1 i) (t1 i) (body2 i arg2 arg3 arg4 arg5 arg6 arg7 harg7 arg8 arg9 harg9 arg10 harg10 arg11 harg11 arg12 harg12 arg13 r0 r1 r2 r3 r4) fun _ => iprop(Paths (F := F) d i arg2 arg3 arg4 q src dst len
      ∗ At1 (F := F) d (c1 i) (t1 i) (e := .i32) (n := S32.size) (arg5.slice (Rect.unit (s := S1024) (k1_off1 i) S32.size (k1_off1_inb i)) (fun _ => rfl)) q h0
      ∗ (∃ st : ℕ → BitVec 32, ⌜∀ j < nw (wd1 i), st (pos (grp src) (31264 * wd1 i) (nw (wd1 i)) j) = pk (src (31264 * wd1 i + j)) (dst (31264 * wd1 i + j)) (len (31264 * wd1 i + j))⌝
          ∗ At1 (F := F) d (c1 i) (t1 i) (e := .i32) (n := S31520.size) (arg6.slice (Rect.unit (s := S1010688) (k1_off4 i) S31520.size (k1_off4_inb i)) (fun _ => rfl)) fullShare st)
      ∗ (At1E (F := F) d (c1 i) (t1 i) arg7 ∗ At1E (F := F) d (c1 i) (t1 i) arg8 ∗ At1E (F := F) d (c1 i) (t1 i) arg9 ∗ At1E (F := F) d (c1 i) (t1 i) arg10 ∗ At1E (F := F) d (c1 i) (t1 i) arg11 ∗ At1E (F := F) d (c1 i) (t1 i) arg12)
      ∗ (semVal ((V d (c1 i) (t1 i) : Thread nD τ), SemLoc.dma arg13.sem) 0 ∗ semVal ((V d (c1 i) (t1 i) : Thread nD τ), SemLoc.dma r0.sem) 0 ∗ semVal ((V d (c1 i) (t1 i) : Thread nD τ), SemLoc.dma r1.sem) 0 ∗ semVal ((V d (c1 i) (t1 i) : Thread nD τ), SemLoc.dma r2.sem) 0 ∗ semVal ((V d (c1 i) (t1 i) : Thread nD τ), SemLoc.dma r3.sem) 0 ∗ semVal ((V d (c1 i) (t1 i) : Thread nD τ), SemLoc.dma r4.sem) 0) ∗ Owe (F := F) d (c1 i) (t1 i) O W)) := by
  have hw := wd1_lt i
  have hb0 : (i 0).val < 2 := (i 0).isLt
  have hb1 : (i 1).val < 16 := (i 1).isLt
  have hvl : (vl (wd1 i) = 28 ∧ wd1 i = 31) ∨ (vl (wd1 i) = 0 ∧ wd1 i < 31) := by unfold vl; split <;> omega
  have ho3 : k1_off3 i 0 = 31264 * wd1 i + 30720 - 16 * vl (wd1 i) := by
    rw [k1_off3_eq]; show 16 * min (31264 * (i 0).val + 1954 * (i 1).val + 1920) 62466 = _
    have : wd1 i = 16 * (i 0).val + (i 1).val := rfl
    omega
  have hn : 1024 * 30 + 16 * (0 + 34 - vl (wd1 i)) = nw (wd1 i) := by
    unfold nw; omega
  have hpos : 0 < (⟨1, S544.size⟩ : Shape).numel := by decide
  have hpos32 : 0 < (⟨1, S32.size⟩ : Shape).numel := by decide
  have hposR : 0 < (⟨1, S31520.size⟩ : Shape).numel := by decide
  have htr : k1_t1_loop.trips = 30 := by decide
  unfold body2 At1E Paths
  iintro #Hm ⟨⟨Ha, Hb, Hc⟩, Hh, Hout, ⟨⟨%g7, H7⟩, ⟨%g8, H8⟩, H9, H10, H11, ⟨%g12, H12⟩⟩, ⟨Hs, Hs0, Hs1, Hs2, Hs3, Hs4⟩, Ho⟩
  iapply (wp_cp1 d (c1 i) (t1 i) (n := S32.size) hpos32) $$ Hm [Hh H7 Hs0 Ho]
  · isplitl [Hh]; · iexact Hh
    isplitl [H7]; · iexact H7
    isplitl [Hs0]; · iexact Hs0
    iexact Ho
  iintro ⟨Hh, H7, Hs0, Ho⟩
  iapply (head2_wp d i arg8 arg7 (grp src) (31264 * wd1 i) (nw (wd1 i)) (by unfold nw; omega) h0 hh0 g8) $$ [H7 H8]
  · isplitl [H7]; · iexact H7
    iexact H8
  iintro H7 H8
  iapply (wp_loop d (c1 i) (t1 i) k1_t1_loop k1_t1_ok (fun t _ => win2 i arg2 arg3 arg4 arg8 arg9 harg9 arg10 harg10 arg11 harg11 arg12 arg13 t) (Inv2 (F := F) d i arg8 arg9 arg10 arg11 arg12 arg2 arg3 arg4 arg13 q O W src dst len) 30 htr
    (fun t _ => win2_wp d i arg8 arg9 arg10 arg11 arg12 arg2 arg3 arg4 harg9 harg10 harg11 arg13 hc10 hc11 src dst len hsrc t)) $$ [Ha Hb Hc H8 H9 H10 H11 H12 Hs Ho]
  · unfold Inv2 Paths Sorted At1E
    isplitr; · iexact Hm
    isplitl [Ha Hb Hc]
    · isplitl [Ha]; · iexact Ha
      isplitl [Hb]; · iexact Hb
      iexact Hc
    isplitl [H9 H10 H11]
    · isplitl [H9]; · iexact H9
      isplitl [H10]; · iexact H10
      iexact H11
    isplitl [H8 H12]
    · isplitl [H8]
      · iexists (fun k => if k < 32 then BitVec.ofNat 32 (offg (grp src) (31264 * wd1 i) (nw (wd1 i)) k) else g8 k)
        isplitr
        · ipureintro; exact fun k hk => (if_pos hk).trans (by rw [Nat.mul_zero, cnt, Nat.add_zero])
        · iexact H8
      · iexists g12
        isplitr
        · ipureintro; exact fun j hj => absurd hj (by omega)
        · iexact H12
    isplitl [Hs]; · iexact Hs
    iexact Ho
  unfold Inv2 Paths At1E
  iintro ⟨-, ⟨Ha, Hb, Hc⟩, ⟨⟨%g9, H9⟩, ⟨%g10, H10⟩, ⟨%g11, H11⟩⟩, HS, Hs, Ho⟩
  unfold tail2
  simp only [Prog.bind_assoc, pure_bind, bind_assoc]
  ihave Ha := (At1_lend d (c1 i) (t1 i) (Rect.unit (s := S1000000) (k1_off3 i) S544.size (k1_off3_inb i)) (fun _ => rfl) _ 544 ho3 rfl) $$ Ha
  icases Ha with ⟨Ha, Hab⟩
  ihave H9 := (At1_slice d (c1 i) (t1 i) (Rect.unit (s := S1024) ![0] S544.size inb_S1024_S544_0) (fun _ => rfl) 0 544 rfl rfl) $$ H9
  icases H9 with ⟨H9, H9b⟩
  iapply (wp_cp1 d (c1 i) (t1 i) (n := S544.size) hpos) $$ Hm [Ha H9 Hs1 Ho]
  · isplitl [Ha]; · iexact Ha
    isplitl [H9]; · iexact H9
    isplitl [Hs1]; · iexact Hs1
    iexact Ho
  iintro ⟨Ha, H9, Hs1, Ho⟩
  ispecialize Hab $$ Ha
  ispecialize H9b $$ %(fun k => src (31264 * wd1 i + 30720 - 16 * vl (wd1 i) + k)) H9
  ihave Hb := (At1_lend d (c1 i) (t1 i) (Rect.unit (s := S1000000) (k1_off3 i) S544.size (k1_off3_inb i)) (fun _ => rfl) _ 544 ho3 rfl) $$ Hb
  icases Hb with ⟨Hb, Hbb⟩
  ihave H10 := (At1_slice d (c1 i) (t1 i) (Rect.unit (s := S1024) ![0] S544.size inb_S1024_S544_0) (fun _ => rfl) 0 544 rfl rfl) $$ H10
  icases H10 with ⟨H10, H10b⟩
  iapply (wp_cp1 d (c1 i) (t1 i) (n := S544.size) hpos) $$ Hm [Hb H10 Hs2 Ho]
  · isplitl [Hb]; · iexact Hb
    isplitl [H10]; · iexact H10
    isplitl [Hs2]; · iexact Hs2
    iexact Ho
  iintro ⟨Hb, H10, Hs2, Ho⟩
  ispecialize Hbb $$ Hb
  ispecialize H10b $$ %(fun k => dst (31264 * wd1 i + 30720 - 16 * vl (wd1 i) + k)) H10
  ihave Hc := (At1_lend d (c1 i) (t1 i) (Rect.unit (s := S1000000) (k1_off3 i) S544.size (k1_off3_inb i)) (fun _ => rfl) _ 544 ho3 rfl) $$ Hc
  icases Hc with ⟨Hc, Hcb⟩
  ihave H11 := (At1_slice d (c1 i) (t1 i) (Rect.unit (s := S1024) ![0] S544.size inb_S1024_S544_0) (fun _ => rfl) 0 544 rfl rfl) $$ H11
  icases H11 with ⟨H11, H11b⟩
  iapply (wp_cp1 d (c1 i) (t1 i) (n := S544.size) hpos) $$ Hm [Hc H11 Hs3 Ho]
  · isplitl [Hc]; · iexact Hc
    isplitl [H11]; · iexact H11
    isplitl [Hs3]; · iexact Hs3
    iexact Ho
  iintro ⟨Hc, H11, Hs3, Ho⟩
  ispecialize Hcb $$ Hc
  ispecialize H11b $$ %(fun k => len (31264 * wd1 i + 30720 - 16 * vl (wd1 i) + k)) H11
  let J : ℕ → sProp 𝕄 := fun v => iprop((At1 (F := F) d (c1 i) (t1 i) (e := .i32) arg9 fullShare (fun k => if 0 ≤ k ∧ k < 0 + 544 then (fun k => src (31264 * wd1 i + 30720 - 16 * vl (wd1 i) + k)) (k - 0) else g9 k) ∗ At1 (F := F) d (c1 i) (t1 i) (e := .i32) arg10 fullShare (fun k => if 0 ≤ k ∧ k < 0 + 544 then (fun k => dst (31264 * wd1 i + 30720 - 16 * vl (wd1 i) + k)) (k - 0) else g10 k) ∗ At1 (F := F) d (c1 i) (t1 i) (e := .i32) arg11 fullShare (fun k => if 0 ≤ k ∧ k < 0 + 544 then (fun k => len (31264 * wd1 i + 30720 - 16 * vl (wd1 i) + k)) (k - 0) else g11 k))
    ∗ Sorted (F := F) d i arg8 arg12 src dst len (31264 * wd1 i) (nw (wd1 i)) (1024 * 30 + 16 * (v - vl (wd1 i))))
  have hstep : ∀ v, 0 ≤ v → v < 0 + 34 → J v ⊢ wpT d (c1 i) (t1 i) (step2 (F := F) i arg8 arg9 arg10 arg11 arg12 (mask2 i v) (mask2 i v) v) fun _ => J (v + 1) := by
    intro v _ hv
    have hv : v < 34 := by omega
    have hmk : ∀ l, mask2 i v (ln l) = if decide (vl (wd1 i) ≤ v) then 1#1 else 0#1 := tail1_mask i v hv
    refine (step2_wp (F := F) d i arg8 arg9 arg10 arg11 arg12 (mask2 i v) (mask2 i v) v _ _ _ src dst len (31264 * wd1 i) (nw (wd1 i)) (1024 * 30 + 16 * (v - vl (wd1 i))) (decide (vl (wd1 i) ≤ v))
      hmk hmk (fun l hl => ?_) (by unfold nw; omega) (fun ha => ?_) ?_ (fun ha l hl => ?_)).trans (wp_mono _ _ _ fun _ => ?_)
    · rw [if_pos (by omega)]; refine hsrc _ ?_
      omega
    · have := of_decide_eq_true ha; omega
    · omega
    · have := of_decide_eq_true ha
      have e : 31264 * wd1 i + 30720 - 16 * vl (wd1 i) + (16 * (v % 64) + l - 0) = 31264 * wd1 i + (1024 * 30 + 16 * (v - vl (wd1 i)) + l) := by omega
      rw [if_pos (by omega), if_pos (by omega), if_pos (by omega)]
      exact ⟨congrArg src e, congrArg dst e, congrArg len e⟩
    · rw [show 1024 * 30 + 16 * (v - vl (wd1 i)) + (if decide (vl (wd1 i) ≤ v) = true then 16 else 0) = 1024 * 30 + 16 * (v + 1 - vl (wd1 i)) from by
        by_cases h : vl (wd1 i) ≤ v
        · rw [if_pos (by simpa using h)]; omega
        · rw [if_neg (by simpa using h)]; omega]
  iapply (wp_rep_bind d (c1 i) (t1 i) _ J 34 0 hstep) $$ [H9b H10b H11b HS]
  · isplitl [H9b H10b H11b]
    · isplitl [H9b]; · iexact H9b
      isplitl [H10b]; · iexact H10b
      iexact H11b
    · rw [show 1024 * 30 + 16 * (0 - vl (wd1 i)) = 1024 * 30 from by omega]; iexact HS
  iintro ⟨⟨H9, H10, H11⟩, HS⟩
  rw [hn]
  unfold Sorted
  icases HS with ⟨⟨%h8, -, H8⟩, ⟨%st, %hst, H12⟩⟩
  icases Hout with ⟨%g6, Hout⟩
  iapply (wp_cp1' d (c1 i) (t1 i) (n := S31520.size) hposR) $$ Hm [H12 Hout Hs4 Ho]
  · isplitl [H12]; · iexact H12
    isplitl [Hout]; · iexact Hout
    isplitl [Hs4]; · iexact Hs4
    iexact Ho
  iintro ⟨H12, Hout, Hs4, Ho⟩
  isplitl [Hab Hbb Hcb]
  · isplitl [Hab]; · iexact Hab
    isplitl [Hbb]; · iexact Hbb
    iexact Hcb
  isplitl [Hh]; · iexact Hh
  isplitl [Hout]
  · iexists st
    isplitr
    · ipureintro; exact hst
    · iexact Hout
  isplitl [H7 H8 H9 H10 H11 H12]
  · isplitl [H7]
    · iexists _; iexact H7
    isplitl [H8]
    · iexists _; iexact H8
    isplitl [H9]
    · iexists _; iexact H9
    isplitl [H10]
    · iexists _; iexact H10
    isplitl [H11]
    · iexists _; iexact H11
    · iexists _; iexact H12
  isplitl [Hs Hs0 Hs1 Hs2 Hs3 Hs4]
  · isplitl [Hs]; · iexact Hs
    isplitl [Hs0]; · iexact Hs0
    isplitl [Hs1]; · iexact Hs1
    isplitl [Hs2]; · iexact Hs2
    isplitl [Hs3]; · iexact Hs3
    iexact Hs4
  iexact Ho

end K2

end Cert.Proof.Tile

end
-- ==== Proof.Roll3.lean ====
/-
  The body of the scatter kernel, rolled up.
-/
module

public import proofs.«01_k».proof.Proof.Roll2
public import Idealize.ShloMosaic.Lib.WordArith

@[expose] public section

noncomputable section

namespace Cert.Proof.Roll

open Cert.KernelIdeal Cert.KernelIdeal.Gen
open Idealize.ShloMosaic Idealize.SL.Sem

variable {F : FTy → Type} [FloatOps F]

/-- The lane numbers. -/
abbrev lane : IVec S16 32 := iota .scVector S16 32 [0] iota_S16_d0_w32_scVector

theorem winP_inb (v : Nat) : ∀ a, (![16 * (v % 128)] : Fin 1 → Nat) a + S16.size a ≤ S2048.size a := by
  intro a; fin_cases a; show 16 * (v % 128) + 16 ≤ 2048; omega
/-- Vector `v` of a window of packed words. -/
abbrev rP (v : Nat) : Rect S2048 := Rect.unit (s := S2048) ![16 * (v % 128)] S16.size (winP_inb v)
theorem winH_inb (v : Nat) : ∀ a, (![16 * (v % 2)] : Fin 1 → Nat) a + S16.size a ≤ S32.size a := by
  intro a; fin_cases a; show 16 * (v % 2) + 16 ≤ 32; omega
/-- Half `v` of a table of 32 words. -/
abbrev rH (v : Nat) : Rect S32 := Rect.unit (s := S32) ![16 * (v % 2)] S16.size (winH_inb v)

/-- The lane of this tile among the sixteen of its half. -/
def laneAt (w : BitVec 32) : IVec S16 1 := cmpi .eq lane (broadcast S16 (Scalar.andi w 15#32))
/-- Whether this tile's group is among the first sixteen. -/
def lowHalf (w : BitVec 32) : IVec S16 1 := cmpi .slt (broadcast S16 w) (broadcast S16 16#32)
/-- The word of `x` at this tile's lane. -/
def pick (w : BitVec 32) (x : IVec S16 32) : BitVec 32 :=
  extractAt ![15] (scan .sum (select (laneAt w) x (broadcast S16 0#32) : IVec S16 32)) inpos_S16_p15
/-- Word number zero of a vector. -/
def first (x : IVec S16 32) : BitVec 32 :=
  extractAt ![15] (scan .sum (select (cmpi .eq lane (broadcast S16 0#32)) x (broadcast S16 0#32) : IVec S16 32)) inpos_S16_p15
/-- Where the run of this tile's group starts among the runs that a tile wrote, from the sizes of its groups. -/
def loff (w : BitVec 32) (a b : IVec S16 32) : IVec S16 32 :=
  select (lowHalf w) (broadcast S16 (pick w (subi (scan .sum (upV a)) (upV a))))
    (broadcast S16 (pick w (subi (addi (scan .sum (upV b)) (broadcast S16 (extractAt ![15] (scan .sum (upV a)) inpos_S16_p15))) (upV b))))
/-- The size of that run. -/
def rlen (w : BitVec 32) (a b : IVec S16 32) : BitVec 32 := pick w (select (lowHalf w) a b)

section K3

variable (i : grid2.Coords) (arg2 : Memref sig .scVector .hbm S1010688 .i32)
  (arg3 : Memref sig .scVector .hbm S1024 .i32) (harg3 : arg3.IsWhole) (arg4 : Memref sig .scVector .hbm S20 .f32) (harg4 : arg4.IsWhole)
  (arg5 : Memref sig .scVector .hbm S16777216 .f32)
  (arg6 : Memref sig .scVector .vmem S65536 .f32) (harg6 : arg6.IsWhole) (arg7 : Memref sig .scVector .vmem S1024 .i32) (harg7 : arg7.IsWhole)
  (arg8 : Memref sig .scVector .vmem S32 .i32) (arg9 : Memref sig .scVector .vmem S32 .i32)
  (arg10 : Memref sig .scVector .vmem S57344 .i32) (arg11 : Memref sig .scVector .vmem S2048 .i32) (harg11 : arg11.IsWhole)
  (arg12 : Memref sig .scVector .vmem S32 .f32)
  (r0 r1 r2 r4 r6 r7 : DmaSems sig S_)

/-- The stores of one table entry: where the run starts, and how long it is. -/
def put3 (wi : Nat) (a b : IVec S16 32) : Prog (TpuEff nD τ sig (Elt F) Λ₀ (.scVector ((i 0).castLE hcore2) ((i 1).castLE hsub2))) PUnit := do
  let x : Vec F S16 .i32 ← Prog.lift (.load arg8 (rH (wi / 16)).toLoadRect (View.loadsAt_vmem h_S16))
  let _ : Vec F S16 .i32 ← Prog.lift (.load arg8 (rH (wi / 16)).toLoadRect (View.loadsAt_vmem h_S16))
  Prog.lift (.store arg8 (rH (wi / 16)) (select (cmpi .eq lane (broadcast S16 (BitVec.ofNat 32 (wi % 16)))) (addi (broadcast S16 (BitVec.ofNat 32 (wi * 31520))) (loff (wid (i 0).val (i 1).val) a b)) x : IVec S16 32) Finset.univ (View.stores_vmem_bits_univ h_S16 rfl) (.inl rfl))
  let y : Vec F S16 .i32 ← Prog.lift (.load arg9 (rH (wi / 16)).toLoadRect (View.loadsAt_vmem h_S16))
  let _ : Vec F S16 .i32 ← Prog.lift (.load arg9 (rH (wi / 16)).toLoadRect (View.loadsAt_vmem h_S16))
  Prog.lift (.store arg9 (rH (wi / 16)) (select (cmpi .eq lane (broadcast S16 (BitVec.ofNat 32 (wi % 16)))) (broadcast S16 (rlen (wid (i 0).val (i 1).val) a b)) y : IVec S16 32) Finset.univ (View.stores_vmem_bits_univ h_S16 rfl) (.inl rfl))

/-- The table entries of `n` tiles from tile `k` on; the lengths are kept. -/
def head3 : Nat → Nat → List (BitVec 32) → Prog (TpuEff nD τ sig (Elt F) Λ₀ (.scVector ((i 0).castLE hcore2) ((i 1).castLE hsub2))) (List (BitVec 32))
  | 0, _, acc => pure acc
  | n + 1, k, acc => do
    let a : Vec F S16 .i32 ← Prog.lift (.load arg7 (rW (2 * k)).toLoadRect (View.loadsAt_vmem h_S16))
    let b : Vec F S16 .i32 ← Prog.lift (.load arg7 (rW (2 * k + 1)).toLoadRect (View.loadsAt_vmem h_S16))
    put3 (F := F) i arg8 arg9 k a b
    head3 n (k + 1) (acc ++ [rlen (wid (i 0).val (i 1).val) a b])

def copies3 : Prog (TpuEff nD τ sig (Elt F) Λ₀ (.scVector ((i 0).castLE hcore2) ((i 1).castLE hsub2))) PUnit := do
  Prog.lift (.enqueueDma arg3 (.here arg7) (.dma r0.sem) harg3.wordExact harg7.wordExact ⟨Or.inl rfl, trivial⟩)
  Prog.lift (.waitDma2 r0.sem arg3 arg7 harg3.wordExact harg7.wordExact)
  Prog.lift (.enqueueDma arg4 (.here (arg12.slice (Rect.unit (s := S32) ![0] S20.size inb_S32_S20_0) (fun _ => rfl))) (.dma r1.sem) harg4.wordExact (View.wordExact_bits rfl) ⟨Or.inl rfl, trivial⟩)
  Prog.lift (.waitDma2 r1.sem arg4 (arg12.slice (Rect.unit (s := S32) ![0] S20.size inb_S32_S20_0) (fun _ => rfl)) harg4.wordExact (View.wordExact_bits rfl))

section Steps
variable (P Q : IVec S16 32 → Prop) (decP : ∀ d, Decidable (P d)) (decQ : ∀ d, Decidable (Q d))

/-- One vector of a run copied to the staging buffer. -/
def stepS (inb : ∀ d, P d → ∀ a x, ((![d] : Fin 1 → IVec S16 32) a x).toNat < S57344.size a) (woff rem : BitVec 32) (v : Nat) : Prog (TpuEff nD τ sig (Elt F) Λ₀ (.scVector ((i 0).castLE hcore2) ((i 1).castLE hsub2))) PUnit := do
  have m : IVec S16 1 := cmpi .slt (addi (broadcast S16 (BitVec.ofNat 32 (16 * v))) lane) (broadcast S16 rem)
  have dest : IVec S16 32 := select m (addi (broadcast S16 (Scalar.addi woff (BitVec.ofNat 32 (16 * v)))) lane) (broadcast S16 0#32)
  have hw : P dest := (← Prog.lift (TpuEff.assume (P dest) (decP dest))).down
  let x : Vec F S16 .i32 ← Prog.lift (.load arg11 (rP v).toLoadRect (View.loadsAt_vmem h_S16))
  SparseCore.vectorStoreIdx arg10 ![dest] x m false (inb dest hw) (View.stores_vmem_bits_univ h_S57344 rfl)

/-- The cell of a packed word in the chunk that starts at `lo`. -/
def cellV (lo : BitVec 32) (p : IVec S16 32) : IVec S16 32 := subi (shrsi p (broadcast S16 5#32)) (broadcast S16 lo)
/-- The lanes of `m` whose word lies in that chunk. -/
def inChunk (m : IVec S16 1) (lo : BitVec 32) (p : IVec S16 32) : IVec S16 1 :=
  andi (andi m (cmpi .sge (cellV lo p) (broadcast S16 0#32))) (cmpi .slt (cellV lo p) (broadcast S16 65536#32))
def cellC (m : IVec S16 1) (lo : BitVec 32) (p : IVec S16 32) : IVec S16 32 := select (inChunk m lo p) (cellV lo p) (broadcast S16 0#32)

/-- One vector of packed words scattered into the chunk. -/
def scat (inbP : ∀ d, P d → ∀ a x, ((![d] : Fin 1 → IVec S16 32) a x).toNat < S32.size a)
    (inbQ : ∀ d, Q d → ∀ a x, ((![d] : Fin 1 → IVec S16 32) a x).toNat < S65536.size a) (m : IVec S16 1) (lo : BitVec 32) (p : IVec S16 32) : Prog (TpuEff nD τ sig (Elt F) Λ₀ (.scVector ((i 0).castLE hcore2) ((i 1).castLE hsub2))) PUnit := do
  have hw : P (andi p (broadcast S16 31#32)) := (← Prog.lift (TpuEff.assume (P (andi p (broadcast S16 31#32))) (decP _))).down
  let val : Vec F S16 .f32 ← SparseCore.vectorLoadIdx arg12 ![andi p (broadcast S16 31#32)] (inbP _ hw) (View.loads_vmem h_S32)
  have hw' : Q (cellC m lo p) := (← Prog.lift (TpuEff.assume (Q (cellC m lo p)) (decQ _))).down
  SparseCore.vectorStoreIdx arg6 ![cellC m lo p] val (inChunk m lo p) false (inbQ _ hw') (View.stores_vmem_bits_univ h_S65536 rfl)

/-- The cells of one vector of packed words back to zero. -/
def zero3 (inbQ : ∀ d, Q d → ∀ a x, ((![d] : Fin 1 → IVec S16 32) a x).toNat < S65536.size a) (m : IVec S16 1) (lo : BitVec 32) (p : IVec S16 32) : Prog (TpuEff nD τ sig (Elt F) Λ₀ (.scVector ((i 0).castLE hcore2) ((i 1).castLE hsub2))) PUnit := do
  have hw' : Q (cellC m lo p) := (← Prog.lift (TpuEff.assume (Q (cellC m lo p)) (decQ _))).down
  SparseCore.vectorStoreIdx arg6 ![cellC m lo p] (broadcast S16 (Scalar.ofBits .f32 0x00000000#32) : FVec F S16 .f32) (inChunk m lo p) false (inbQ _ hw') (View.stores_vmem_bits_univ h_S65536 rfl)

/-- The lanes of vector `v` that are among the first `rem` words. -/
def maskV (rem : BitVec 32) (v : Nat) : IVec S16 1 := cmpi .slt (addi (broadcast S16 (BitVec.ofNat 32 (16 * v))) lane) (broadcast S16 rem)

def stepW (inbP : ∀ d, P d → ∀ a x, ((![d] : Fin 1 → IVec S16 32) a x).toNat < S32.size a)
    (inbQ : ∀ d, Q d → ∀ a x, ((![d] : Fin 1 → IVec S16 32) a x).toNat < S65536.size a) (rem lo : BitVec 32) (v : Nat) : Prog (TpuEff nD τ sig (Elt F) Λ₀ (.scVector ((i 0).castLE hcore2) ((i 1).castLE hsub2))) PUnit := do
  let p : Vec F S16 .i32 ← Prog.lift (.load arg11 (rP v).toLoadRect (View.loadsAt_vmem h_S16))
  scat (F := F) i arg6 arg12 P Q decP decQ inbP inbQ (maskV rem v) lo p

def stepX (inbQ : ∀ d, Q d → ∀ a x, ((![d] : Fin 1 → IVec S16 32) a x).toNat < S65536.size a) (rem lo : BitVec 32) (v : Nat) : Prog (TpuEff nD τ sig (Elt F) Λ₀ (.scVector ((i 0).castLE hcore2) ((i 1).castLE hsub2))) PUnit := do
  let p : Vec F S16 .i32 ← Prog.lift (.load arg11 (rP v).toLoadRect (View.loadsAt_vmem h_S16))
  zero3 (F := F) i arg6 Q decQ inbQ (maskV rem v) lo p

end Steps

variable (z0 z1 z2 z3 z4 z5 z6 z7 z8 z9 za zb zc zd ze zf zg zh zi zj zk zl zm zn zo zp zq zr zs zt zu zv : BitVec 32)

/-- One window of a run staged. -/
def win3 (o l : BitVec 32) (hw : k2_chk4 z0 z1 z2 z3 z4 z5 z6 z7 z8 z9 za zb zc zd ze zf zg zh zi zj zk zl zm zn zo zp zq zr zs zt zu zv o l) (h1 : k2_cond1 z0 z1 z2 z3 z4 z5 z6 z7 z8 z9 za zb zc zd ze zf zg zh zi zj zk zl zm zn zo zp zq zr zs zt zu zv = 1#1) (t : Fin (k2_t2_loop l).trips) (woff : BitVec 32) : Prog (TpuEff nD τ sig (Elt F) Λ₀ (.scVector ((i 0).castLE hcore2) ((i 1).castLE hsub2))) (BitVec 32) := do
  Prog.lift (.enqueueDma (arg2.slice (Rect.unit (s := S1010688) (k2_off1 o l t) S2048.size (k2_off1_inb z0 z1 z2 z3 z4 z5 z6 z7 z8 z9 za zb zc zd ze zf zg zh zi zj zk zl zm zn zo zp zq zr zs zt zu zv o l hw t h1)) (fun _ => rfl)) (.here arg11) (.dma r2.sem) (View.wordExact_bits rfl) harg11.wordExact ⟨Or.inl rfl, trivial⟩)
  Prog.lift (.waitDma2 r2.sem (arg2.slice (Rect.unit (s := S1010688) (k2_off1 o l t) S2048.size (k2_off1_inb z0 z1 z2 z3 z4 z5 z6 z7 z8 z9 za zb zc zd ze zf zg zh zi zj zk zl zm zn zo zp zq zr zs zt zu zv o l hw t h1)) (fun _ => rfl)) arg11 (View.wordExact_bits rfl) harg11.wordExact)
  rep (stepS (F := F) i arg10 arg11 (k2_chk5 z0 z1 z2 z3 z4 z5 z6 z7 z8 z9 za zb zc zd ze zf zg zh zi zj zk zl zm zn zo zp zq zr zs zt zu zv) (k2_chk5.dec z0 z1 z2 z3 z4 z5 z6 z7 z8 z9 za zb zc zd ze zf zg zh zi zj zk zl zm zn zo zp zq zr zs zt zu zv) (fun d h => k2_idx3_inb z0 z1 z2 z3 z4 z5 z6 z7 z8 z9 za zb zc zd ze zf zg zh zi zj zk zl zm zn zo zp zq zr zs zt zu zv d h h1) woff (Scalar.subi l (Scalar.muli (Scf.iv 0#32 1#32 t) 2048#32))) 128 0
  pure (Scalar.addi woff (Scalar.minsi (Scalar.subi l (Scalar.muli (Scf.iv 0#32 1#32 t) 2048#32)) 2048#32))

/-- The run that one tile wrote, staged. -/
def run3 (h1 : k2_cond1 z0 z1 z2 z3 z4 z5 z6 z7 z8 z9 za zb zc zd ze zf zg zh zi zj zk zl zm zn zo zp zq zr zs zt zu zv = 1#1) (t : Fin k2_t1_loop.trips) (woff : BitVec 32) : Prog (TpuEff nD τ sig (Elt F) Λ₀ (.scVector ((i 0).castLE hcore2) ((i 1).castLE hsub2))) (BitVec 32) := do
  have hw1 : k2_chk1 z0 z1 z2 z3 z4 z5 z6 z7 z8 z9 za zb zc zd ze zf zg zh zi zj zk zl zm zn zo zp zq zr zs zt zu zv (broadcast S16 (Scf.iv 0#32 1#32 t)) := (← Prog.lift (TpuEff.assume (k2_chk1 z0 z1 z2 z3 z4 z5 z6 z7 z8 z9 za zb zc zd ze zf zg zh zi zj zk zl zm zn zo zp zq zr zs zt zu zv (broadcast S16 (Scf.iv 0#32 1#32 t))) (k2_chk1.dec z0 z1 z2 z3 z4 z5 z6 z7 z8 z9 za zb zc zd ze zf zg zh zi zj zk zl zm zn zo zp zq zr zs zt zu zv _))).down
  let x : Vec F S16 .i32 ← SparseCore.vectorLoadIdx arg8 ![broadcast S16 (Scf.iv 0#32 1#32 t)] (k2_idx1_inb z0 z1 z2 z3 z4 z5 z6 z7 z8 z9 za zb zc zd ze zf zg zh zi zj zk zl zm zn zo zp zq zr zs zt zu zv _ hw1 h1) (View.loads_vmem h_S32)
  have hw2 : k2_chk2 z0 z1 z2 z3 z4 z5 z6 z7 z8 z9 za zb zc zd ze zf zg zh zi zj zk zl zm zn zo zp zq zr zs zt zu zv (first x) := (← Prog.lift (TpuEff.assume (k2_chk2 z0 z1 z2 z3 z4 z5 z6 z7 z8 z9 za zb zc zd ze zf zg zh zi zj zk zl zm zn zo zp zq zr zs zt zu zv (first x)) (k2_chk2.dec z0 z1 z2 z3 z4 z5 z6 z7 z8 z9 za zb zc zd ze zf zg zh zi zj zk zl zm zn zo zp zq zr zs zt zu zv _))).down
  have hw3 : k2_chk3 z0 z1 z2 z3 z4 z5 z6 z7 z8 z9 za zb zc zd ze zf zg zh zi zj zk zl zm zn zo zp zq zr zs zt zu zv (broadcast S16 (Scf.iv 0#32 1#32 t)) := (← Prog.lift (TpuEff.assume (k2_chk3 z0 z1 z2 z3 z4 z5 z6 z7 z8 z9 za zb zc zd ze zf zg zh zi zj zk zl zm zn zo zp zq zr zs zt zu zv (broadcast S16 (Scf.iv 0#32 1#32 t))) (k2_chk3.dec z0 z1 z2 z3 z4 z5 z6 z7 z8 z9 za zb zc zd ze zf zg zh zi zj zk zl zm zn zo zp zq zr zs zt zu zv _))).down
  let y : Vec F S16 .i32 ← SparseCore.vectorLoadIdx arg9 ![broadcast S16 (Scf.iv 0#32 1#32 t)] (k2_idx2_inb z0 z1 z2 z3 z4 z5 z6 z7 z8 z9 za zb zc zd ze zf zg zh zi zj zk zl zm zn zo zp zq zr zs zt zu zv _ hw3 h1) (View.loads_vmem h_S32)
  have hw4 : k2_chk4 z0 z1 z2 z3 z4 z5 z6 z7 z8 z9 za zb zc zd ze zf zg zh zi zj zk zl zm zn zo zp zq zr zs zt zu zv (first x) (first y) := (← Prog.lift (TpuEff.assume (k2_chk4 z0 z1 z2 z3 z4 z5 z6 z7 z8 z9 za zb zc zd ze zf zg zh zi zj zk zl zm zn zo zp zq zr zs zt zu zv (first x) (first y)) (k2_chk4.dec z0 z1 z2 z3 z4 z5 z6 z7 z8 z9 za zb zc zd ze zf zg zh zi zj zk zl zm zn zo zp zq zr zs zt zu zv _ _))).down
  let r ← Scf.Loop.for (k2_t2_loop (first y)) (k2_t2_ok z0 z1 z2 z3 z4 z5 z6 z7 z8 z9 za zb zc zd ze zf zg zh zi zj zk zl zm zn zo zp zq zr zs zt zu zv (first x) (first y) hw4 h1) woff fun t2 woff' => win3 i arg2 arg10 arg11 harg11 r2 z0 z1 z2 z3 z4 z5 z6 z7 z8 z9 za zb zc zd ze zf zg zh zi zj zk zl zm zn zo zp zq zr zs zt zu zv (first x) (first y) hw4 h1 t2 woff'
  pure r

/-- All runs of this tile's group staged. -/
def stage3 : Prog (TpuEff nD τ sig (Elt F) Λ₀ (.scVector ((i 0).castLE hcore2) ((i 1).castLE hsub2))) PUnit := do
  if h1 : k2_cond1 z0 z1 z2 z3 z4 z5 z6 z7 z8 z9 za zb zc zd ze zf zg zh zi zj zk zl zm zn zo zp zq zr zs zt zu zv = 1#1 then do
    let _ ← Scf.Loop.for k2_t1_loop k2_t1_ok 0#32 fun t woff => run3 i arg2 arg8 arg9 arg10 arg11 harg11 r2 z0 z1 z2 z3 z4 z5 z6 z7 z8 z9 za zb zc zd ze zf zg zh zi zj zk zl zm zn zo zp zq zr zs zt zu zv h1 t woff
    pure ⟨⟩
  else pure ⟨⟩

def clr3 (t : Fin k2_t4_loop.trips) (r : Nat) : Prog (TpuEff nD τ sig (Elt F) Λ₀ (.scVector ((i 0).castLE hcore2) ((i 1).castLE hsub2))) PUnit := do
  let _ : Vec F S16 .f32 ← Prog.lift (.load arg6 (Rect.unit (s := S65536) (k2_off3 t (BitVec.ofNat 32 (16 * (r % 16)))) S16.size (k2_off3_inb t ⟨r % 16, Nat.mod_lt _ (by decide)⟩)).toLoadRect (View.loadsAt_vmem h_S16))
  Prog.lift (.store arg6 (Rect.unit (s := S65536) (k2_off3 t (BitVec.ofNat 32 (16 * (r % 16)))) S16.size (k2_off3_inb t ⟨r % 16, Nat.mod_lt _ (by decide)⟩)) (broadcast S16 (Scalar.ofBits .f32 0x00000000#32) : FVec F S16 .f32) Finset.univ (View.stores_vmem_bits_univ h_S16 rfl) (.inl rfl))

/-- The scatter of one chunk from the staged runs. -/
def fitC (tot : BitVec 32) (hw : k2_chk261 z0 z1 z2 z3 z4 z5 z6 z7 z8 z9 za zb zc zd ze zf zg zh zi zj zk zl zm zn zo zp zq zr zs zt zu zv) (lo : BitVec 32) : Prog (TpuEff nD τ sig (Elt F) Λ₀ (.scVector ((i 0).castLE hcore2) ((i 1).castLE hsub2))) PUnit := do
  if h2 : k2_cond2 z0 z1 z2 z3 z4 z5 z6 z7 z8 z9 za zb zc zd ze zf zg zh zi zj zk zl zm zn zo zp zq zr zs zt zu zv = 1#1 then do
    Scf.Loop.for (k2_t6_loop z0 z1 z2 z3 z4 z5 z6 z7 z8 z9 za zb zc zd ze zf zg zh zi zj zk zl zm zn zo zp zq zr zs zt zu zv) (k2_t6_ok z0 z1 z2 z3 z4 z5 z6 z7 z8 z9 za zb zc zd ze zf zg zh zi zj zk zl zm zn zo zp zq zr zs zt zu zv hw h2) ⟨⟩ fun t _ => do
      have hw1 : k2_chk262 z0 z1 z2 z3 z4 z5 z6 z7 z8 z9 za zb zc zd ze zf zg zh zi zj zk zl zm zn zo zp zq zr zs zt zu zv (addi (broadcast S16 (Scalar.muli (Scf.iv 0#32 1#32 t) 16#32)) lane) := (← Prog.lift (TpuEff.assume (k2_chk262 z0 z1 z2 z3 z4 z5 z6 z7 z8 z9 za zb zc zd ze zf zg zh zi zj zk zl zm zn zo zp zq zr zs zt zu zv (addi (broadcast S16 (Scalar.muli (Scf.iv 0#32 1#32 t) 16#32)) lane)) (k2_chk262.dec z0 z1 z2 z3 z4 z5 z6 z7 z8 z9 za zb zc zd ze zf zg zh zi zj zk zl zm zn zo zp zq zr zs zt zu zv _))).down
      let p : Vec F S16 .i32 ← SparseCore.vectorLoadIdx arg10 ![addi (broadcast S16 (Scalar.muli (Scf.iv 0#32 1#32 t) 16#32)) lane] (k2_idx259_inb z0 z1 z2 z3 z4 z5 z6 z7 z8 z9 za zb zc zd ze zf zg zh zi zj zk zl zm zn zo zp zq zr zs zt zu zv _ hw1 h2) (View.loads_vmem h_S57344)
      scat (F := F) i arg6 arg12 (k2_chk263 z0 z1 z2 z3 z4 z5 z6 z7 z8 z9 za zb zc zd ze zf zg zh zi zj zk zl zm zn zo zp zq zr zs zt zu zv) (k2_chk264 z0 z1 z2 z3 z4 z5 z6 z7 z8 z9 za zb zc zd ze zf zg zh zi zj zk zl zm zn zo zp zq zr zs zt zu zv) (k2_chk263.dec z0 z1 z2 z3 z4 z5 z6 z7 z8 z9 za zb zc zd ze zf zg zh zi zj zk zl zm zn zo zp zq zr zs zt zu zv) (k2_chk264.dec z0 z1 z2 z3 z4 z5 z6 z7 z8 z9 za zb zc zd ze zf zg zh zi zj zk zl zm zn zo zp zq zr zs zt zu zv) (fun d h => k2_idx260_inb z0 z1 z2 z3 z4 z5 z6 z7 z8 z9 za zb zc zd ze zf zg zh zi zj zk zl zm zn zo zp zq zr zs zt zu zv d h h2) (fun d h => k2_idx261_inb z0 z1 z2 z3 z4 z5 z6 z7 z8 z9 za zb zc zd ze zf zg zh zi zj zk zl zm zn zo zp zq zr zs zt zu zv d h h2) (maskV (Scalar.subi tot (Scalar.muli (Scf.iv 0#32 1#32 t) 16#32)) 0) lo p
    pure ⟨⟩
  else pure ⟨⟩

/-- The same cells back to zero. -/
def fitZ (tot : BitVec 32) (hw : k2_chk261 z0 z1 z2 z3 z4 z5 z6 z7 z8 z9 za zb zc zd ze zf zg zh zi zj zk zl zm zn zo zp zq zr zs zt zu zv) (lo : BitVec 32) : Prog (TpuEff nD τ sig (Elt F) Λ₀ (.scVector ((i 0).castLE hcore2) ((i 1).castLE hsub2))) PUnit := do
  if h2 : k2_cond4 z0 z1 z2 z3 z4 z5 z6 z7 z8 z9 za zb zc zd ze zf zg zh zi zj zk zl zm zn zo zp zq zr zs zt zu zv = 1#1 then do
    Scf.Loop.for (k2_t11_loop z0 z1 z2 z3 z4 z5 z6 z7 z8 z9 za zb zc zd ze zf zg zh zi zj zk zl zm zn zo zp zq zr zs zt zu zv) (k2_t11_ok z0 z1 z2 z3 z4 z5 z6 z7 z8 z9 za zb zc zd ze zf zg zh zi zj zk zl zm zn zo zp zq zr zs zt zu zv hw h2) ⟨⟩ fun t _ => do
      have hw1 : k2_chk784 z0 z1 z2 z3 z4 z5 z6 z7 z8 z9 za zb zc zd ze zf zg zh zi zj zk zl zm zn zo zp zq zr zs zt zu zv (addi (broadcast S16 (Scalar.muli (Scf.iv 0#32 1#32 t) 16#32)) lane) := (← Prog.lift (TpuEff.assume (k2_chk784 z0 z1 z2 z3 z4 z5 z6 z7 z8 z9 za zb zc zd ze zf zg zh zi zj zk zl zm zn zo zp zq zr zs zt zu zv (addi (broadcast S16 (Scalar.muli (Scf.iv 0#32 1#32 t) 16#32)) lane)) (k2_chk784.dec z0 z1 z2 z3 z4 z5 z6 z7 z8 z9 za zb zc zd ze zf zg zh zi zj zk zl zm zn zo zp zq zr zs zt zu zv _))).down
      let p : Vec F S16 .i32 ← SparseCore.vectorLoadIdx arg10 ![addi (broadcast S16 (Scalar.muli (Scf.iv 0#32 1#32 t) 16#32)) lane] (k2_idx779_inb z0 z1 z2 z3 z4 z5 z6 z7 z8 z9 za zb zc zd ze zf zg zh zi zj zk zl zm zn zo zp zq zr zs zt zu zv _ hw1 h2) (View.loads_vmem h_S57344)
      zero3 (F := F) i arg6 (k2_chk785 z0 z1 z2 z3 z4 z5 z6 z7 z8 z9 za zb zc zd ze zf zg zh zi zj zk zl zm zn zo zp zq zr zs zt zu zv) (k2_chk785.dec z0 z1 z2 z3 z4 z5 z6 z7 z8 z9 za zb zc zd ze zf zg zh zi zj zk zl zm zn zo zp zq zr zs zt zu zv) (fun d h => k2_idx780_inb z0 z1 z2 z3 z4 z5 z6 z7 z8 z9 za zb zc zd ze zf zg zh zi zj zk zl zm zn zo zp zq zr zs zt zu zv d h h2) (maskV (Scalar.subi tot (Scalar.muli (Scf.iv 0#32 1#32 t) 16#32)) 0) lo p
    pure ⟨⟩
  else pure ⟨⟩

/-- One window of a run scattered into the chunk. -/
def winC (lo o l : BitVec 32) (hw : k2_chk271 z0 z1 z2 z3 z4 z5 z6 z7 z8 z9 za zb zc zd ze zf zg zh zi zj zk zl zm zn zo zp zq zr zs zt zu zv o l) (h3 : k2_cond3 z0 z1 z2 z3 z4 z5 z6 z7 z8 z9 za zb zc zd ze zf zg zh zi zj zk zl zm zn zo zp zq zr zs zt zu zv = 1#1) (t2 : Fin (k2_t9_loop l).trips) : Prog (TpuEff nD τ sig (Elt F) Λ₀ (.scVector ((i 0).castLE hcore2) ((i 1).castLE hsub2))) PUnit := do
  Prog.lift (.enqueueDma (arg2.slice (Rect.unit (s := S1010688) (k2_off4 o l t2) S2048.size (k2_off4_inb z0 z1 z2 z3 z4 z5 z6 z7 z8 z9 za zb zc zd ze zf zg zh zi zj zk zl zm zn zo zp zq zr zs zt zu zv o l hw t2 h3)) (fun _ => rfl)) (.here arg11) (.dma r4.sem) (View.wordExact_bits rfl) harg11.wordExact ⟨Or.inl rfl, trivial⟩)
  Prog.lift (.waitDma2 r4.sem (arg2.slice (Rect.unit (s := S1010688) (k2_off4 o l t2) S2048.size (k2_off4_inb z0 z1 z2 z3 z4 z5 z6 z7 z8 z9 za zb zc zd ze zf zg zh zi zj zk zl zm zn zo zp zq zr zs zt zu zv o l hw t2 h3)) (fun _ => rfl)) arg11 (View.wordExact_bits rfl) harg11.wordExact)
  rep (stepW (F := F) i arg6 arg11 arg12 (k2_chk272 z0 z1 z2 z3 z4 z5 z6 z7 z8 z9 za zb zc zd ze zf zg zh zi zj zk zl zm zn zo zp zq zr zs zt zu zv) (k2_chk273 z0 z1 z2 z3 z4 z5 z6 z7 z8 z9 za zb zc zd ze zf zg zh zi zj zk zl zm zn zo zp zq zr zs zt zu zv) (k2_chk272.dec z0 z1 z2 z3 z4 z5 z6 z7 z8 z9 za zb zc zd ze zf zg zh zi zj zk zl zm zn zo zp zq zr zs zt zu zv) (k2_chk273.dec z0 z1 z2 z3 z4 z5 z6 z7 z8 z9 za zb zc zd ze zf zg zh zi zj zk zl zm zn zo zp zq zr zs zt zu zv) (fun d h => k2_idx267_inb z0 z1 z2 z3 z4 z5 z6 z7 z8 z9 za zb zc zd ze zf zg zh zi zj zk zl zm zn zo zp zq zr zs zt zu zv d h h3) (fun d h => k2_idx268_inb z0 z1 z2 z3 z4 z5 z6 z7 z8 z9 za zb zc zd ze zf zg zh zi zj zk zl zm zn zo zp zq zr zs zt zu zv d h h3) (Scalar.subi l (Scalar.muli (Scf.iv 0#32 1#32 t2) 2048#32)) lo) 128 0

/-- The scatter of one chunk, window by window. -/
def longC (lo : BitVec 32) : Prog (TpuEff nD τ sig (Elt F) Λ₀ (.scVector ((i 0).castLE hcore2) ((i 1).castLE hsub2))) PUnit := do
  if h3 : k2_cond3 z0 z1 z2 z3 z4 z5 z6 z7 z8 z9 za zb zc zd ze zf zg zh zi zj zk zl zm zn zo zp zq zr zs zt zu zv = 1#1 then do
    Scf.Loop.for k2_t8_loop k2_t8_ok ⟨⟩ fun t _ => do
      have hw1 : k2_chk268 z0 z1 z2 z3 z4 z5 z6 z7 z8 z9 za zb zc zd ze zf zg zh zi zj zk zl zm zn zo zp zq zr zs zt zu zv (broadcast S16 (Scf.iv 0#32 1#32 t)) := (← Prog.lift (TpuEff.assume (k2_chk268 z0 z1 z2 z3 z4 z5 z6 z7 z8 z9 za zb zc zd ze zf zg zh zi zj zk zl zm zn zo zp zq zr zs zt zu zv (broadcast S16 (Scf.iv 0#32 1#32 t))) (k2_chk268.dec z0 z1 z2 z3 z4 z5 z6 z7 z8 z9 za zb zc zd ze zf zg zh zi zj zk zl zm zn zo zp zq zr zs zt zu zv _))).down
      let x : Vec F S16 .i32 ← SparseCore.vectorLoadIdx arg8 ![broadcast S16 (Scf.iv 0#32 1#32 t)] (k2_idx265_inb z0 z1 z2 z3 z4 z5 z6 z7 z8 z9 za zb zc zd ze zf zg zh zi zj zk zl zm zn zo zp zq zr zs zt zu zv _ hw1 h3) (View.loads_vmem h_S32)
      have hw2 : k2_chk269 z0 z1 z2 z3 z4 z5 z6 z7 z8 z9 za zb zc zd ze zf zg zh zi zj zk zl zm zn zo zp zq zr zs zt zu zv (first x) := (← Prog.lift (TpuEff.assume (k2_chk269 z0 z1 z2 z3 z4 z5 z6 z7 z8 z9 za zb zc zd ze zf zg zh zi zj zk zl zm zn zo zp zq zr zs zt zu zv (first x)) (k2_chk269.dec z0 z1 z2 z3 z4 z5 z6 z7 z8 z9 za zb zc zd ze zf zg zh zi zj zk zl zm zn zo zp zq zr zs zt zu zv _))).down
      have hw3 : k2_chk270 z0 z1 z2 z3 z4 z5 z6 z7 z8 z9 za zb zc zd ze zf zg zh zi zj zk zl zm zn zo zp zq zr zs zt zu zv (broadcast S16 (Scf.iv 0#32 1#32 t)) := (← Prog.lift (TpuEff.assume (k2_chk270 z0 z1 z2 z3 z4 z5 z6 z7 z8 z9 za zb zc zd ze zf zg zh zi zj zk zl zm zn zo zp zq zr zs zt zu zv (broadcast S16 (Scf.iv 0#32 1#32 t))) (k2_chk270.dec z0 z1 z2 z3 z4 z5 z6 z7 z8 z9 za zb zc zd ze zf zg zh zi zj zk zl zm zn zo zp zq zr zs zt zu zv _))).down
      let y : Vec F S16 .i32 ← SparseCore.vectorLoadIdx arg9 ![broadcast S16 (Scf.iv 0#32 1#32 t)] (k2_idx266_inb z0 z1 z2 z3 z4 z5 z6 z7 z8 z9 za zb zc zd ze zf zg zh zi zj zk zl zm zn zo zp zq zr zs zt zu zv _ hw3 h3) (View.loads_vmem h_S32)
      have hw4 : k2_chk271 z0 z1 z2 z3 z4 z5 z6 z7 z8 z9 za zb zc zd ze zf zg zh zi zj zk zl zm zn zo zp zq zr zs zt zu zv (first x) (first y) := (← Prog.lift (TpuEff.assume (k2_chk271 z0 z1 z2 z3 z4 z5 z6 z7 z8 z9 za zb zc zd ze zf zg zh zi zj zk zl zm zn zo zp zq zr zs zt zu zv (first x) (first y)) (k2_chk271.dec z0 z1 z2 z3 z4 z5 z6 z7 z8 z9 za zb zc zd ze zf zg zh zi zj zk zl zm zn zo zp zq zr zs zt zu zv _ _))).down
      Scf.Loop.for (k2_t9_loop (first y)) (k2_t9_ok z0 z1 z2 z3 z4 z5 z6 z7 z8 z9 za zb zc zd ze zf zg zh zi zj zk zl zm zn zo zp zq zr zs zt zu zv (first x) (first y) hw4 h3) ⟨⟩ fun t2 _ => winC (F := F) i arg2 arg6 arg11 harg11 arg12 r4 z0 z1 z2 z3 z4 z5 z6 z7 z8 z9 za zb zc zd ze zf zg zh zi zj zk zl zm zn zo zp zq zr zs zt zu zv lo (first x) (first y) hw4 h3 t2
      pure ⟨⟩
    pure ⟨⟩
  else pure ⟨⟩

/-- The cells of one window of a run back to zero. -/
def winZ (lo o l : BitVec 32) (hw : k2_chk791 z0 z1 z2 z3 z4 z5 z6 z7 z8 z9 za zb zc zd ze zf zg zh zi zj zk zl zm zn zo zp zq zr zs zt zu zv o l) (h3 : k2_cond5 z0 z1 z2 z3 z4 z5 z6 z7 z8 z9 za zb zc zd ze zf zg zh zi zj zk zl zm zn zo zp zq zr zs zt zu zv = 1#1) (t2 : Fin (k2_t14_loop l).trips) : Prog (TpuEff nD τ sig (Elt F) Λ₀ (.scVector ((i 0).castLE hcore2) ((i 1).castLE hsub2))) PUnit := do
  Prog.lift (.enqueueDma (arg2.slice (Rect.unit (s := S1010688) (k2_off7 o l t2) S2048.size (k2_off7_inb z0 z1 z2 z3 z4 z5 z6 z7 z8 z9 za zb zc zd ze zf zg zh zi zj zk zl zm zn zo zp zq zr zs zt zu zv o l hw t2 h3)) (fun _ => rfl)) (.here arg11) (.dma r7.sem) (View.wordExact_bits rfl) harg11.wordExact ⟨Or.inl rfl, trivial⟩)
  Prog.lift (.waitDma2 r7.sem (arg2.slice (Rect.unit (s := S1010688) (k2_off7 o l t2) S2048.size (k2_off7_inb z0 z1 z2 z3 z4 z5 z6 z7 z8 z9 za zb zc zd ze zf zg zh zi zj zk zl zm zn zo zp zq zr zs zt zu zv o l hw t2 h3)) (fun _ => rfl)) arg11 (View.wordExact_bits rfl) harg11.wordExact)
  rep (stepX (F := F) i arg6 arg11 (k2_chk792 z0 z1 z2 z3 z4 z5 z6 z7 z8 z9 za zb zc zd ze zf zg zh zi zj zk zl zm zn zo zp zq zr zs zt zu zv) (k2_chk792.dec z0 z1 z2 z3 z4 z5 z6 z7 z8 z9 za zb zc zd ze zf zg zh zi zj zk zl zm zn zo zp zq zr zs zt zu zv) (fun d h => k2_idx785_inb z0 z1 z2 z3 z4 z5 z6 z7 z8 z9 za zb zc zd ze zf zg zh zi zj zk zl zm zn zo zp zq zr zs zt zu zv d h h3) (Scalar.subi l (Scalar.muli (Scf.iv 0#32 1#32 t2) 2048#32)) lo) 128 0

/-- Its cells back to zero, window by window. -/
def longZ (lo : BitVec 32) : Prog (TpuEff nD τ sig (Elt F) Λ₀ (.scVector ((i 0).castLE hcore2) ((i 1).castLE hsub2))) PUnit := do
  if h3 : k2_cond5 z0 z1 z2 z3 z4 z5 z6 z7 z8 z9 za zb zc zd ze zf zg zh zi zj zk zl zm zn zo zp zq zr zs zt zu zv = 1#1 then do
    Scf.Loop.for k2_t13_loop k2_t13_ok ⟨⟩ fun t _ => do
      have hw1 : k2_chk788 z0 z1 z2 z3 z4 z5 z6 z7 z8 z9 za zb zc zd ze zf zg zh zi zj zk zl zm zn zo zp zq zr zs zt zu zv (broadcast S16 (Scf.iv 0#32 1#32 t)) := (← Prog.lift (TpuEff.assume (k2_chk788 z0 z1 z2 z3 z4 z5 z6 z7 z8 z9 za zb zc zd ze zf zg zh zi zj zk zl zm zn zo zp zq zr zs zt zu zv (broadcast S16 (Scf.iv 0#32 1#32 t))) (k2_chk788.dec z0 z1 z2 z3 z4 z5 z6 z7 z8 z9 za zb zc zd ze zf zg zh zi zj zk zl zm zn zo zp zq zr zs zt zu zv _))).down
      let x : Vec F S16 .i32 ← SparseCore.vectorLoadIdx arg8 ![broadcast S16 (Scf.iv 0#32 1#32 t)] (k2_idx783_inb z0 z1 z2 z3 z4 z5 z6 z7 z8 z9 za zb zc zd ze zf zg zh zi zj zk zl zm zn zo zp zq zr zs zt zu zv _ hw1 h3) (View.loads_vmem h_S32)
      have hw2 : k2_chk789 z0 z1 z2 z3 z4 z5 z6 z7 z8 z9 za zb zc zd ze zf zg zh zi zj zk zl zm zn zo zp zq zr zs zt zu zv (first x) := (← Prog.lift (TpuEff.assume (k2_chk789 z0 z1 z2 z3 z4 z5 z6 z7 z8 z9 za zb zc zd ze zf zg zh zi zj zk zl zm zn zo zp zq zr zs zt zu zv (first x)) (k2_chk789.dec z0 z1 z2 z3 z4 z5 z6 z7 z8 z9 za zb zc zd ze zf zg zh zi zj zk zl zm zn zo zp zq zr zs zt zu zv _))).down
      have hw3 : k2_chk790 z0 z1 z2 z3 z4 z5 z6 z7 z8 z9 za zb zc zd ze zf zg zh zi zj zk zl zm zn zo zp zq zr zs zt zu zv (broadcast S16 (Scf.iv 0#32 1#32 t)) := (← Prog.lift (TpuEff.assume (k2_chk790 z0 z1 z2 z3 z4 z5 z6 z7 z8 z9 za zb zc zd ze zf zg zh zi zj zk zl zm zn zo zp zq zr zs zt zu zv (broadcast S16 (Scf.iv 0#32 1#32 t))) (k2_chk790.dec z0 z1 z2 z3 z4 z5 z6 z7 z8 z9 za zb zc zd ze zf zg zh zi zj zk zl zm zn zo zp zq zr zs zt zu zv _))).down
      let y : Vec F S16 .i32 ← SparseCore.vectorLoadIdx arg9 ![broadcast S16 (Scf.iv 0#32 1#32 t)] (k2_idx784_inb z0 z1 z2 z3 z4 z5 z6 z7 z8 z9 za zb zc zd ze zf zg zh zi zj zk zl zm zn zo zp zq zr zs zt zu zv _ hw3 h3) (View.loads_vmem h_S32)
      have hw4 : k2_chk791 z0 z1 z2 z3 z4 z5 z6 z7 z8 z9 za zb zc zd ze zf zg zh zi zj zk zl zm zn zo zp zq zr zs zt zu zv (first x) (first y) := (← Prog.lift (TpuEff.assume (k2_chk791 z0 z1 z2 z3 z4 z5 z6 z7 z8 z9 za zb zc zd ze zf zg zh zi zj zk zl zm zn zo zp zq zr zs zt zu zv (first x) (first y)) (k2_chk791.dec z0 z1 z2 z3 z4 z5 z6 z7 z8 z9 za zb zc zd ze zf zg zh zi zj zk zl zm zn zo zp zq zr zs zt zu zv _ _))).down
      Scf.Loop.for (k2_t14_loop (first y)) (k2_t14_ok z0 z1 z2 z3 z4 z5 z6 z7 z8 z9 za zb zc zd ze zf zg zh zi zj zk zl zm zn zo zp zq zr zs zt zu zv (first x) (first y) hw4 h3) ⟨⟩ fun t2 _ => winZ (F := F) i arg2 arg6 arg11 harg11 r7 z0 z1 z2 z3 z4 z5 z6 z7 z8 z9 za zb zc zd ze zf zg zh zi zj zk zl zm zn zo zp zq zr zs zt zu zv lo (first x) (first y) hw4 h3 t2
      pure ⟨⟩
    pure ⟨⟩
  else pure ⟨⟩

/-- One chunk of the result. -/
def round3 (tot : BitVec 32) (hw : k2_chk261 z0 z1 z2 z3 z4 z5 z6 z7 z8 z9 za zb zc zd ze zf zg zh zi zj zk zl zm zn zo zp zq zr zs zt zu zv) (t : Fin k2_t5_loop.trips) : Prog (TpuEff nD τ sig (Elt F) Λ₀ (.scVector ((i 0).castLE hcore2) ((i 1).castLE hsub2))) PUnit := do
  fitC i arg6 arg10 arg12 z0 z1 z2 z3 z4 z5 z6 z7 z8 z9 za zb zc zd ze zf zg zh zi zj zk zl zm zn zo zp zq zr zs zt zu zv tot hw (Scalar.muli (Scf.iv 0#32 1#32 t) 65536#32)
  longC i arg2 arg6 arg8 arg9 arg11 harg11 arg12 r4 z0 z1 z2 z3 z4 z5 z6 z7 z8 z9 za zb zc zd ze zf zg zh zi zj zk zl zm zn zo zp zq zr zs zt zu zv (Scalar.muli (Scf.iv 0#32 1#32 t) 65536#32)
  Prog.lift (.enqueueDma arg6 (.here (arg5.slice (Rect.unit (s := S16777216) (k2_off6 i t) S65536.size (k2_off6_inb i t)) (fun _ => rfl))) (.dma r6.sem) harg6.wordExact (View.wordExact_bits rfl) ⟨Or.inl rfl, trivial⟩)
  Prog.lift (.waitDma2 r6.sem arg6 (arg5.slice (Rect.unit (s := S16777216) (k2_off6 i t) S65536.size (k2_off6_inb i t)) (fun _ => rfl)) harg6.wordExact (View.wordExact_bits rfl))
  fitZ i arg6 arg10 z0 z1 z2 z3 z4 z5 z6 z7 z8 z9 za zb zc zd ze zf zg zh zi zj zk zl zm zn zo zp zq zr zs zt zu zv tot hw (Scalar.muli (Scf.iv 0#32 1#32 t) 65536#32)
  longZ i arg2 arg6 arg8 arg9 arg11 harg11 r7 z0 z1 z2 z3 z4 z5 z6 z7 z8 z9 za zb zc zd ze zf zg zh zi zj zk zl zm zn zo zp zq zr zs zt zu zv (Scalar.muli (Scf.iv 0#32 1#32 t) 65536#32)

/-- Everything after the table of the first 31 tiles; `a` and `b` are the sizes that the last one counted. -/
def tail3 (tot0 : BitVec 32) (a b : IVec S16 32) : Prog (TpuEff nD τ sig (Elt F) Λ₀ (.scVector ((i 0).castLE hcore2) ((i 1).castLE hsub2))) PUnit := do
  have hw : k2_chk261 z0 z1 z2 z3 z4 z5 z6 z7 z8 z9 za zb zc zd ze zf zg zh zi zj zk zl zm zn zo zp zq zr zs zt zu zv := (← Prog.lift (TpuEff.assume (k2_chk261 z0 z1 z2 z3 z4 z5 z6 z7 z8 z9 za zb zc zd ze zf zg zh zi zj zk zl zm zn zo zp zq zr zs zt zu zv) (k2_chk261.dec z0 z1 z2 z3 z4 z5 z6 z7 z8 z9 za zb zc zd ze zf zg zh zi zj zk zl zm zn zo zp zq zr zs zt zu zv))).down
  put3 (F := F) i arg8 arg9 31 a b
  stage3 i arg2 arg8 arg9 arg10 arg11 harg11 r2 z0 z1 z2 z3 z4 z5 z6 z7 z8 z9 za zb zc zd ze zf zg zh zi zj zk zl zm zn zo zp zq zr zs zt zu zv
  Scf.Loop.for k2_t4_loop k2_t4_ok ⟨⟩ fun t _ => rep (clr3 (F := F) i arg6 t) 16 0
  Scf.Loop.for k2_t5_loop k2_t5_ok ⟨⟩ fun t _ => round3 i arg2 arg5 arg6 harg6 arg8 arg9 arg10 arg11 harg11 arg12 r4 r6 r7 z0 z1 z2 z3 z4 z5 z6 z7 z8 z9 za zb zc zd ze zf zg zh zi zj zk zl zm zn zo zp zq zr zs zt zu zv (Scalar.addi tot0 zv) hw t

def body3 : Prog (TpuEff nD τ sig (Elt F) Λ₀ (.scVector ((i 0).castLE hcore2) ((i 1).castLE hsub2))) PUnit := do
  copies3 i arg3 harg3 arg4 harg4 arg7 harg7 arg12 r0 r1
  let acc ← head3 (F := F) i arg7 arg8 arg9 31 0 []
  let a : Vec F S16 .i32 ← Prog.lift (.load arg7 (rW 62).toLoadRect (View.loadsAt_vmem h_S16))
  let b : Vec F S16 .i32 ← Prog.lift (.load arg7 (rW 63).toLoadRect (View.loadsAt_vmem h_S16))
  tail3 i arg2 arg5 arg6 harg6 arg8 arg9 arg10 arg11 harg11 arg12 r2 r4 r6 r7 (acc.getD 0 0#32) (acc.getD 1 0#32) (acc.getD 2 0#32) (acc.getD 3 0#32) (acc.getD 4 0#32) (acc.getD 5 0#32) (acc.getD 6 0#32) (acc.getD 7 0#32) (acc.getD 8 0#32) (acc.getD 9 0#32) (acc.getD 10 0#32) (acc.getD 11 0#32) (acc.getD 12 0#32) (acc.getD 13 0#32) (acc.getD 14 0#32) (acc.getD 15 0#32) (acc.getD 16 0#32) (acc.getD 17 0#32) (acc.getD 18 0#32) (acc.getD 19 0#32) (acc.getD 20 0#32) (acc.getD 21 0#32) (acc.getD 22 0#32) (acc.getD 23 0#32) (acc.getD 24 0#32) (acc.getD 25 0#32) (acc.getD 26 0#32) (acc.getD 27 0#32) (acc.getD 28 0#32) (acc.getD 29 0#32) (acc.getD 30 0#32) (rlen (wid (i 0).val (i 1).val) a b) (acc.foldl Scalar.addi 0#32) a b

theorem trips_rem (x : BitVec 32) : Scf.trips (Scalar.addi 0#32 (Scalar.muli (Scalar.divsi x 1#32) 1#32)) (Scalar.addi 0#32 x) 1#32 = 0 := by
  have h : Scalar.addi 0#32 (Scalar.muli (Scalar.divsi x 1#32) 1#32) = Scalar.addi 0#32 x := by
    show Scalar.addi 0#32 (IntOp.muli (IntOp.divsi _ x 1#32) 1#32) = _
    rw [WordArith.divsi_one]
    show Scalar.addi 0#32 (x * 1#32) = _
    rw [BitVec.mul_one]
  rw [h]; simp [Scf.trips]

theorem for_nil {E : Type → Type} {σ : Type} (l : Scf.Loop 32) (h : l.trips = 0) (hok : l.OK) (init : σ) (body : Fin l.trips → σ → Prog E σ) :
    Scf.Loop.for l hok init body = pure init := by
  show Scf.for _ _ _ _ _ _ = _
  rw [Scf.for_eq, show List.finRange (Scf.trips l.lb l.ub l.st) = [] from List.eq_nil_of_length_eq_zero (by rw [List.length_finRange]; exact h)]
  rfl

theorem t3_nil (v : BitVec 32) : (k2_t3_loop v).trips = 0 := trips_rem _
theorem t7_nil : (k2_t7_loop z0 z1 z2 z3 z4 z5 z6 z7 z8 z9 za zb zc zd ze zf zg zh zi zj zk zl zm zn zo zp zq zr zs zt zu zv).trips = 0 := trips_rem _
theorem t10_nil (v : BitVec 32) : (k2_t10_loop v).trips = 0 := trips_rem _
theorem t12_nil : (k2_t12_loop z0 z1 z2 z3 z4 z5 z6 z7 z8 z9 za zb zc zd ze zf zg zh zi zj zk zl zm zn zo zp zq zr zs zt zu zv).trips = 0 := trips_rem _
theorem t15_nil (v : BitVec 32) : (k2_t15_loop v).trips = 0 := trips_rem _

end K3

end Cert.Proof.Roll

end
-- ==== Proof.Pure3.lean ====
/-
  Words laid into a chunk one after the other, and the order in which the runs of all tiles are read.
-/
module

public import proofs.«01_k».proof.Proof.Pure2
public import proofs.«01_k».proof.Proof.Roll3

@[expose] public section

noncomputable section

namespace Cert.Proof.Pure

open Cert.KernelIdeal Cert.KernelIdeal.Gen Cert.Proof.Roll
open Idealize.ShloMosaic

variable {E : Type}

/-- The cell of the word `p` lies in the chunk that starts at `lo`. -/
def hit (lo : ℕ) (p : BitVec 32) : Prop := lo ≤ p.toNat / 32 ∧ p.toNat / 32 < lo + 65536

instance (lo : ℕ) (p : BitVec 32) : Decidable (hit lo p) := inferInstanceAs (Decidable (_ ∧ _))

/-- Words laid into the chunk, a later one over an earlier one. -/
def app (lo : ℕ) (u : BitVec 32 → E) : List (BitVec 32) → (ℕ → E) → ℕ → E
  | [], g => g
  | p :: ps, g => app lo u ps (if hit lo p then Function.update g (p.toNat / 32 - lo) (u p) else g)

theorem app_append (lo : ℕ) (u : BitVec 32 → E) (xs ys : List (BitVec 32)) (g : ℕ → E) : app lo u (xs ++ ys) g = app lo u ys (app lo u xs g) := by
  induction xs generalizing g with
  | nil => rfl
  | cons p ps ih => exact ih _

theorem app_none (lo : ℕ) (u : BitVec 32 → E) (xs : List (BitVec 32)) (g : ℕ → E) (c : ℕ) (h : ∀ p ∈ xs, ¬(hit lo p ∧ p.toNat / 32 - lo = c)) : app lo u xs g c = g c := by
  induction xs generalizing g with
  | nil => rfl
  | cons p ps ih =>
    refine (ih _ fun q hq => h q (List.mem_cons_of_mem _ hq)).trans ?_
    by_cases hp : hit lo p
    · rw [if_pos hp, Function.update_apply, if_neg]
      exact fun e => h p List.mem_cons_self ⟨hp, e.symm⟩
    · rw [if_neg hp]

theorem app_zero (lo : ℕ) (z : E) (xs : List (BitVec 32)) (g : ℕ → E) (c : ℕ) (h : (∀ p ∈ xs, ¬(hit lo p ∧ p.toNat / 32 - lo = c)) → g c = z) : app lo (fun _ => z) xs g c = z := by
  induction xs generalizing g with
  | nil => exact h fun p hp => absurd hp List.not_mem_nil
  | cons p ps ih =>
    refine ih _ fun hps => ?_
    by_cases hp : hit lo p
    · rw [if_pos hp, Function.update_apply]
      split
      · rfl
      · rename_i hc
        refine h fun q hq => ?_
        rcases List.mem_cons.1 hq with rfl | hq
        · exact fun e => hc e.2.symm
        · exact hps q hq
    · rw [if_neg hp]
      refine h fun q hq => ?_
      rcases List.mem_cons.1 hq with rfl | hq
      · exact fun e => hp e.1
      · exact hps q hq

/-- A chunk of `z`s is one of `z`s again once the cells of all words laid into it are put back. -/
theorem app_back (lo : ℕ) (u : BitVec 32 → E) (z : E) (xs : List (BitVec 32)) (c : ℕ) : app lo (fun _ => z) xs (app lo u xs fun _ => z) c = z :=
  app_zero lo z xs _ c fun h => app_none lo u xs _ c h

/-- The first `n` of the words `f`, laid into the chunk. -/
def lay (lo : ℕ) (u : BitVec 32 → E) (f : ℕ → BitVec 32) (n : ℕ) (g : ℕ → E) : ℕ → E := app lo u ((List.range n).map f) g

theorem lay_zero (lo : ℕ) (u : BitVec 32 → E) (f : ℕ → BitVec 32) (g : ℕ → E) : lay lo u f 0 g = g := rfl

theorem lay_succ (lo : ℕ) (u : BitVec 32 → E) (f : ℕ → BitVec 32) (n : ℕ) (g : ℕ → E) :
    lay lo u f (n + 1) g = if hit lo (f n) then Function.update (lay lo u f n g) ((f n).toNat / 32 - lo) (u (f n)) else lay lo u f n g := by
  unfold lay
  rw [List.range_succ, List.map_append, app_append]
  rfl

theorem lay_add (lo : ℕ) (u : BitVec 32 → E) (f : ℕ → BitVec 32) (a b : ℕ) (g : ℕ → E) : lay lo u f (a + b) g = lay lo u (fun k => f (a + k)) b (lay lo u f a g) := by
  induction b with
  | zero => rfl
  | succ b ih => rw [← Nat.add_assoc, lay_succ, lay_succ, ih]

theorem lay_congr (lo : ℕ) (u : BitVec 32 → E) (f f' : ℕ → BitVec 32) (n : ℕ) (g : ℕ → E) (h : ∀ k < n, f k = f' k) : lay lo u f n g = lay lo u f' n g := by
  induction n with
  | zero => rfl
  | succ n ih => rw [lay_succ, lay_succ, ih fun k hk => h k (by omega), h n (by omega)]

section Runs

variable (C O : ℕ → ℕ) (pr : ℕ → BitVec 32)

/-- The runs of the first `n` tiles, one after the other. -/
def runs : ℕ → List (BitVec 32)
  | 0 => []
  | n + 1 => runs n ++ (List.range (C n)).map fun k => pr (O n + k)

theorem runs_length (n : ℕ) : (runs C O pr n).length = psum C n := by
  induction n with
  | zero => rfl
  | succ n ih => rw [runs, List.length_append, ih, List.length_map, List.length_range, psum]

/-- Word `q` of all runs. -/
def wordAt (q : ℕ) : BitVec 32 := (runs C O pr 32).getD q 0#32

theorem runs_getD (n w k : ℕ) (hw : w < n) (hk : k < C w) : (runs C O pr n).getD (psum C w + k) 0#32 = pr (O w + k) := by
  induction n with
  | zero => omega
  | succ n ih =>
    rw [runs]
    by_cases h : w < n
    · have hl : psum C w + k < (runs C O pr n).length := by
        rw [runs_length]; have := psum_mono C (show w + 1 ≤ n from h); rw [psum] at this; omega
      rw [List.getD_eq_getElem?_getD, List.getElem?_append_left hl, ← List.getD_eq_getElem?_getD]
      exact ih h
    · obtain rfl : w = n := by omega
      rw [List.getD_eq_getElem?_getD, List.getElem?_append_right (by rw [runs_length]; omega), runs_length, Nat.add_sub_cancel_left]
      simp [hk]

theorem wordAt_eq (w k : ℕ) (hw : w < 32) (hk : k < C w) : wordAt C O pr (psum C w + k) = pr (O w + k) := runs_getD C O pr 32 w k hw hk

theorem runs_map : (List.range (psum C 32)).map (wordAt C O pr) = runs C O pr 32 := by
  refine List.ext_getElem (by rw [List.length_map, List.length_range, runs_length]) fun n h1 h2 => ?_
  rw [List.getElem_map, List.getElem_range]
  unfold wordAt
  rw [List.getD_eq_getElem?_getD, List.getElem?_eq_getElem h2]
  rfl

end Runs

theorem slt_iff (a b : ℕ) (ha : a < 2 ^ 31) (hb : b < 2 ^ 31) : (BitVec.ofNat 32 a).slt (BitVec.ofNat 32 b) = decide (a < b) := by
  unfold BitVec.slt
  rw [toInt_ofNat_lt _ ha, toInt_ofNat_lt _ hb]
  exact decide_eq_decide.2 (by omega)

/-- The lanes among the first `N` words from word `k` on. -/
theorem mask_at (k N : ℕ) (hk : k < 2 ^ 30) (hN : N < 2 ^ 31) (l : Fin 16) :
    (cmpi .slt (addi (broadcast S16 (BitVec.ofNat 32 k)) lane) (broadcast S16 (BitVec.ofNat 32 N)) : IVec S16 1) (lnp l) = if k + l.val < N then 1#1 else 0#1 := by
  show BitVec.ofBool ((BitVec.ofNat 32 k + lane (lnp l)).slt (BitVec.ofNat 32 N)) = _
  rw [show lane (lnp l) = BitVec.ofNat 32 l.val from by revert l; decide, ← BitVec.ofNat_add, slt_iff _ _ (by omega) hN]
  by_cases h : k + l.val < N
  · rw [if_pos h, decide_eq_true h]; rfl
  · rw [if_neg h, decide_eq_false h]; rfl

theorem cell_at (lo : ℕ) (hlo : lo ≤ 2 ^ 20) (p : BitVec 32) (hp : p.toNat < 2 ^ 31) :
    (((IntOp.shrsi .vector p 5#32 - BitVec.ofNat 32 lo).slt 0#32 = false ∧ (IntOp.shrsi .vector p 5#32 - BitVec.ofNat 32 lo).slt 65536#32 = true) ↔ hit lo p)
      ∧ (hit lo p → (IntOp.shrsi .vector p 5#32 - BitVec.ofNat 32 lo).toNat = p.toNat / 32 - lo) := by
  have h5 : (IntOp.shrsi .vector p 5#32).toNat = p.toNat / 32 := shr .vector p 5 (by omega) hp
  generalize IntOp.shrsi .vector p 5#32 = s at *
  have hl : (BitVec.ofNat 32 lo).toNat = lo := ofNat_toNat_lt _ (by omega)
  have ht : (s - BitVec.ofNat 32 lo).toNat = (2 ^ 32 - lo + s.toNat) % 2 ^ 32 := by rw [BitVec.toNat_sub, hl]
  have hi := BitVec.toInt_eq_toNat_cond (s - BitVec.ofNat 32 lo)
  have h0 : (0#32).toInt = 0 := by decide
  have h6 : (65536#32).toInt = 65536 := by decide
  unfold hit BitVec.slt
  rw [h0, h6]
  constructor
  · rw [decide_eq_false_iff_not, decide_eq_true_iff]
    split at hi <;> omega
  · omega

theorem inChunk_at (m : IVec S16 1) (lo : ℕ) (hlo : lo ≤ 2 ^ 20) (p : IVec S16 32) (x : S16.Idx) (hp : m x = 1#1 → (p x).toNat < 2 ^ 31) :
    (inChunk m (BitVec.ofNat 32 lo) p x = 1#1 ↔ m x = 1#1 ∧ hit lo (p x))
      ∧ (m x = 1#1 → hit lo (p x) → (cellC m (BitVec.ofNat 32 lo) p x).toNat = (p x).toNat / 32 - lo) ∧ (cellC m (BitVec.ofNat 32 lo) p x).toNat < 65536 := by
  have e1 : inChunk m (BitVec.ofNat 32 lo) p x = (m x &&& BitVec.ofBool (!(IntOp.shrsi .vector (p x) 5#32 - BitVec.ofNat 32 lo).slt 0#32)) &&& BitVec.ofBool ((IntOp.shrsi .vector (p x) 5#32 - BitVec.ofNat 32 lo).slt 65536#32) := by
    show (m x &&& BitVec.ofBool _) &&& BitVec.ofBool _ = _
    congr 3
    show BitVec.sle _ _ = _
    unfold BitVec.sle BitVec.slt
    rw [← decide_not]
    exact decide_eq_decide.2 not_lt.symm
  have e2 : cellC m (BitVec.ofNat 32 lo) p x = if inChunk m (BitVec.ofNat 32 lo) p x = 1#1 then IntOp.shrsi .vector (p x) 5#32 - BitVec.ofNat 32 lo else 0#32 := rfl
  have hb : ∀ (b : BitVec 1) (u v : Bool), ((b &&& BitVec.ofBool (!u)) &&& BitVec.ofBool v = 1#1 ↔ b = 1#1 ∧ u = false ∧ v = true) := by decide
  have h1 : inChunk m (BitVec.ofNat 32 lo) p x = 1#1 ↔ m x = 1#1 ∧ hit lo (p x) := by
    rw [e1, hb]
    exact and_congr_right fun hm => (cell_at lo hlo _ (hp hm)).1
  refine ⟨h1, fun hm hh => ?_, ?_⟩
  · rw [e2, if_pos (h1.2 ⟨hm, hh⟩)]
    exact (cell_at lo hlo _ (hp hm)).2 hh
  · rw [e2]
    split
    · rename_i h
      obtain ⟨hm, hh⟩ := h1.1 h
      rw [(cell_at lo hlo _ (hp hm)).2 hh]
      unfold hit at hh
      omega
    · decide

end Cert.Proof.Pure

end
-- ==== Proof.K3a.lean ====
/-
  The steps of the third call on one vector of words.
-/
module

public import proofs.«01_k».proof.Proof.K2
public import proofs.«01_k».proof.Proof.Pure3

@[expose] public section

noncomputable section

namespace Cert.Proof.Tile

open Cert.KernelIdeal Cert.KernelIdeal.Gen Cert.Proof.Roll Cert.Proof.Pure

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (d : Dev nD) (i : grid2.Coords)

abbrev c2 (i : grid2.Coords) : Fin τ.nSC := (i 0).castLE hcore2
abbrev t2 (i : grid2.Coords) : Fin τ.nSub := (i 1).castLE hsub2

/-- The value that a packed word stands for. -/
def uV (b : ℕ → Elt F .f32) (p : BitVec 32) : Elt F .f32 := b (p &&& 31#32).toNat

/-- The value of every cell that no path reaches. -/
def zV : Elt F .f32 := Scalar.ofBits (F := F) .f32 0x00000000#32

variable (arg6 : Memref sig .scVector .vmem S65536 .f32) (arg10 : Memref sig .scVector .vmem S57344 .i32) (arg11 : Memref sig .scVector .vmem S2048 .i32) (arg12 : Memref sig .scVector .vmem S32 .f32)
  (P Q : IVec S16 32 → Prop) (decP : ∀ x, Decidable (P x)) (decQ : ∀ x, Decidable (Q x))

theorem lay_lane (lo : ℕ) (hlo : lo ≤ 2 ^ 20) (m : IVec S16 1) (p : IVec S16 32) (w : Vec F S16 .f32) (u : BitVec 32 → Elt F .f32) (f : ℕ → BitVec 32) (k N : ℕ) (g0 : ℕ → Elt F .f32)
    (hm : ∀ l : Fin 16, m (ln l) = if k + l.val < N then 1#1 else 0#1) (hp : ∀ l : Fin 16, k + l.val < N → p (ln l) = f (k + l.val) ∧ (f (k + l.val)).toNat < 2 ^ 31)
    (hw : ∀ l : Fin 16, w (ln l) = u (p (ln l))) (l : Fin 16) (g : ℕ → Elt F .f32) (hg : g = lay lo u f (min (k + l.val) N) g0) :
    lane1 (F := F) (e := .f32) (cellC m (BitVec.ofNat 32 lo) p) w (inChunk m (BitVec.ofNat 32 lo) p) false l g = lay lo u f (min (k + (l.val + 1)) N) g0 := by
  by_cases h : k + l.val < N
  · obtain ⟨e1, e2⟩ := hp l h
    have hm1 : m (ln l) = 1#1 := by rw [hm l, if_pos h]
    obtain ⟨a1, a2, a3⟩ := inChunk_at m lo hlo p (ln l) (fun _ => by rw [e1]; exact e2)
    rw [show min (k + (l.val + 1)) N = k + l.val + 1 from by omega, lay_succ]
    rw [show min (k + l.val) N = k + l.val from by omega] at hg
    rw [← hg]
    unfold lane1
    by_cases hh : hit lo (p (ln l))
    · have h1 : inChunk m (BitVec.ofNat 32 lo) p (ln l) = 1 := a1.2 ⟨hm1, hh⟩
      rw [if_pos h1, a2 hm1 hh, hw, e1]
      exact (if_pos (e1 ▸ hh)).symm
    · have h1 : ¬inChunk m (BitVec.ofNat 32 lo) p (ln l) = 1 := fun hc => hh (a1.1 hc).2
      rw [if_neg h1, if_neg (by rw [← e1]; exact hh)]
  · have hm0 : m (ln l) = 0#1 := by rw [hm l, if_neg h]
    obtain ⟨a1, -, -⟩ := inChunk_at m lo hlo p (ln l) (fun hc => absurd (hm0.symm.trans hc) (by decide))
    have h1 : ¬inChunk m (BitVec.ofNat 32 lo) p (ln l) = 1 := fun hc => absurd (hm0.symm.trans (a1.1 hc).1) (by decide)
    unfold lane1
    rw [if_neg h1, hg]
    congr 1
    omega

theorem cellC_lt (lo : ℕ) (hlo : lo ≤ 2 ^ 20) (m : IVec S16 1) (p : IVec S16 32) (f : ℕ → BitVec 32) (k N : ℕ)
    (hm : ∀ l : Fin 16, m (ln l) = if k + l.val < N then 1#1 else 0#1) (hp : ∀ l : Fin 16, k + l.val < N → p (ln l) = f (k + l.val) ∧ (f (k + l.val)).toNat < 2 ^ 31) (x : S16.Idx) :
    (cellC m (BitVec.ofNat 32 lo) p x).toNat < 65536 := by
  obtain ⟨l, rfl⟩ : ∃ l : Fin 16, ln l = x := ⟨x 0, lnp_eq x⟩
  refine (inChunk_at m lo hlo p (ln l) fun h => ?_).2.2
  have hk : k + l.val < N := by
    by_contra hk
    rw [hm l, if_neg hk] at h
    exact absurd h (by decide)
  rw [(hp l hk).1]
  exact (hp l hk).2

theorem and31 (x : BitVec 32) : (x &&& 31#32).toNat < 32 := by
  have h : (x &&& 31#32).toNat ≤ (31#32).toNat := by rw [BitVec.toNat_and]; exact Nat.and_le_right
  have h2 : (31#32).toNat = 31 := by decide
  omega

theorem scat_wp (hP : ∀ x, (∀ y, (x y).toNat < 32) → P x) (hQ : ∀ x, (∀ y, (x y).toNat < 65536) → Q x)
    (inbP : ∀ d, P d → ∀ a x, ((![d] : Fin 1 → IVec S16 32) a x).toNat < S32.size a) (inbQ : ∀ d, Q d → ∀ a x, ((![d] : Fin 1 → IVec S16 32) a x).toNat < S65536.size a)
    (lo : ℕ) (hlo : lo ≤ 2 ^ 20) (m : IVec S16 1) (p : IVec S16 32) (b : ℕ → Elt F .f32) (f : ℕ → BitVec 32) (k N : ℕ) (g0 : ℕ → Elt F .f32)
    (hm : ∀ l : Fin 16, m (ln l) = if k + l.val < N then 1#1 else 0#1) (hp : ∀ l : Fin 16, k + l.val < N → p (ln l) = f (k + l.val) ∧ (f (k + l.val)).toNat < 2 ^ 31) :
    iprop(At1 (F := F) d (c2 i) (t2 i) (e := .f32) arg12 fullShare b ∗ At1 (F := F) d (c2 i) (t2 i) (e := .f32) arg6 fullShare (lay lo (uV (F := F) b) f (min k N) g0))
      ⊢ wpT d (c2 i) (t2 i) (scat (F := F) i arg6 arg12 P Q decP decQ inbP inbQ m (BitVec.ofNat 32 lo) p) fun _ =>
        iprop(At1 (F := F) d (c2 i) (t2 i) (e := .f32) arg12 fullShare b ∗ At1 (F := F) d (c2 i) (t2 i) (e := .f32) arg6 fullShare (lay lo (uV (F := F) b) f (min (k + 16) N) g0)) := by
  unfold scat
  iintro ⟨H12, H6⟩
  iapply (wp_asm d (c2 i) (t2 i) (hP _ fun y => and31 (p y)))
  iapply (wp_ldx1 d (c2 i) (t2 i)) $$ H12
  iintro H12
  iapply (wp_asm d (c2 i) (t2 i) (hQ _ fun y => cellC_lt lo hlo m p f k N hm hp y))
  iapply (wp_stx1' d (c2 i) (t2 i) (e := .f32) (fun l g => g = lay lo (uV (F := F) b) f (min (k + l) N) g0) rfl
    (fun l g hg => lay_lane lo hlo m p _ (uV (F := F) b) f k N g0 hm hp (fun _ => rfl) l g hg)) $$ H6
  iintro %g' %hg H6
  subst hg
  isplitl [H12]; · iexact H12
  iexact H6

theorem zero3_wp (hQ : ∀ x, (∀ y, (x y).toNat < 65536) → Q x)
    (inbQ : ∀ d, Q d → ∀ a x, ((![d] : Fin 1 → IVec S16 32) a x).toNat < S65536.size a)
    (lo : ℕ) (hlo : lo ≤ 2 ^ 20) (m : IVec S16 1) (p : IVec S16 32) (f : ℕ → BitVec 32) (k N : ℕ) (g0 : ℕ → Elt F .f32)
    (hm : ∀ l : Fin 16, m (ln l) = if k + l.val < N then 1#1 else 0#1) (hp : ∀ l : Fin 16, k + l.val < N → p (ln l) = f (k + l.val) ∧ (f (k + l.val)).toNat < 2 ^ 31) :
    At1 (F := F) d (c2 i) (t2 i) (e := .f32) arg6 fullShare (lay lo (fun _ => zV (F := F)) f (min k N) g0)
      ⊢ wpT d (c2 i) (t2 i) (zero3 (F := F) i arg6 Q decQ inbQ m (BitVec.ofNat 32 lo) p) fun _ =>
        At1 (F := F) d (c2 i) (t2 i) (e := .f32) arg6 fullShare (lay lo (fun _ => zV (F := F)) f (min (k + 16) N) g0) := by
  unfold zero3
  iintro H6
  iapply (wp_asm d (c2 i) (t2 i) (hQ _ fun y => cellC_lt lo hlo m p f k N hm hp y))
  iapply (wp_stx1' d (c2 i) (t2 i) (e := .f32) (fun l g => g = lay lo (fun _ => zV (F := F)) f (min (k + l) N) g0) rfl
    (fun l g hg => lay_lane lo hlo m p _ (fun _ => zV (F := F)) f k N g0 hm hp (fun _ => rfl) l g hg)) $$ H6
  iintro %g' %hg H6
  subst hg
  iexact H6

theorem maskV_at (N v : ℕ) (hv : v < 2 ^ 20) (hN : N < 2 ^ 31) (l : Fin 16) : maskV (BitVec.ofNat 32 N) v (ln l) = if 16 * v + l.val < N then 1#1 else 0#1 :=
  mask_at (16 * v) N (by omega) hN l

/-- One vector of a window laid into the chunk. -/
theorem stepW_wp (hP : ∀ x, (∀ y, (x y).toNat < 32) → P x) (hQ : ∀ x, (∀ y, (x y).toNat < 65536) → Q x)
    (inbP : ∀ d, P d → ∀ a x, ((![d] : Fin 1 → IVec S16 32) a x).toNat < S32.size a) (inbQ : ∀ d, Q d → ∀ a x, ((![d] : Fin 1 → IVec S16 32) a x).toNat < S65536.size a)
    (lo : ℕ) (hlo : lo ≤ 2 ^ 20) (b : ℕ → Elt F .f32) (f pw : ℕ → BitVec 32) (v N : ℕ) (g0 : ℕ → Elt F .f32) (hv : v < 128) (hN : N < 2 ^ 31)
    (hf : ∀ k < N, k < 2048 → pw k = f k ∧ (f k).toNat < 2 ^ 31) :
    iprop(At1 (F := F) d (c2 i) (t2 i) (e := .i32) arg11 fullShare pw ∗ At1 (F := F) d (c2 i) (t2 i) (e := .f32) arg12 fullShare b ∗ At1 (F := F) d (c2 i) (t2 i) (e := .f32) arg6 fullShare (lay lo (uV (F := F) b) f (min (16 * v) N) g0))
      ⊢ wpT d (c2 i) (t2 i) (stepW (F := F) i arg6 arg11 arg12 P Q decP decQ inbP inbQ (BitVec.ofNat 32 N) (BitVec.ofNat 32 lo) v) fun _ =>
        iprop(At1 (F := F) d (c2 i) (t2 i) (e := .i32) arg11 fullShare pw ∗ At1 (F := F) d (c2 i) (t2 i) (e := .f32) arg12 fullShare b ∗ At1 (F := F) d (c2 i) (t2 i) (e := .f32) arg6 fullShare (lay lo (uV (F := F) b) f (min (16 * (v + 1)) N) g0)) := by
  unfold stepW
  iintro ⟨H11, H⟩
  iapply (wp_ld1 d (c2 i) (t2 i) (rP v) (fun _ => rfl) (16 * (v % 128)) rfl) $$ H11
  iintro H11
  have hpl : ∀ l : Fin 16, 16 * v + l.val < N → (fun x : S16.Idx => pw (16 * (v % 128) + (x 0).val)) (ln l) = f (16 * v + l.val) ∧ (f (16 * v + l.val)).toNat < 2 ^ 31 := fun l hl => by
    have := l.isLt
    have h := hf (16 * v + l.val) hl (by omega)
    refine ⟨?_, h.2⟩
    rw [← h.1, Nat.mod_eq_of_lt hv]
    rfl
  iapply (wp_wand_r _ _ _)
  isplitl [H]
  · iapply (scat_wp d i arg6 arg12 P Q decP decQ hP hQ inbP inbQ lo hlo (maskV (BitVec.ofNat 32 N) v) (fun x : S16.Idx => pw (16 * (v % 128) + (x 0).val)) b f (16 * v) N g0 (maskV_at N v (by omega) hN) hpl) $$ H
  · iintro %_ H
    isplitl [H11]; · iexact H11
    iexact H

theorem stepX_wp (hQ : ∀ x, (∀ y, (x y).toNat < 65536) → Q x)
    (inbQ : ∀ d, Q d → ∀ a x, ((![d] : Fin 1 → IVec S16 32) a x).toNat < S65536.size a)
    (lo : ℕ) (hlo : lo ≤ 2 ^ 20) (f pw : ℕ → BitVec 32) (v N : ℕ) (g0 : ℕ → Elt F .f32) (hv : v < 128) (hN : N < 2 ^ 31)
    (hf : ∀ k < N, k < 2048 → pw k = f k ∧ (f k).toNat < 2 ^ 31) :
    iprop(At1 (F := F) d (c2 i) (t2 i) (e := .i32) arg11 fullShare pw ∗ At1 (F := F) d (c2 i) (t2 i) (e := .f32) arg6 fullShare (lay lo (fun _ => zV (F := F)) f (min (16 * v) N) g0))
      ⊢ wpT d (c2 i) (t2 i) (stepX (F := F) i arg6 arg11 Q decQ inbQ (BitVec.ofNat 32 N) (BitVec.ofNat 32 lo) v) fun _ =>
        iprop(At1 (F := F) d (c2 i) (t2 i) (e := .i32) arg11 fullShare pw ∗ At1 (F := F) d (c2 i) (t2 i) (e := .f32) arg6 fullShare (lay lo (fun _ => zV (F := F)) f (min (16 * (v + 1)) N) g0)) := by
  unfold stepX
  iintro ⟨H11, H⟩
  iapply (wp_ld1 d (c2 i) (t2 i) (rP v) (fun _ => rfl) (16 * (v % 128)) rfl) $$ H11
  iintro H11
  have hpl : ∀ l : Fin 16, 16 * v + l.val < N → (fun x : S16.Idx => pw (16 * (v % 128) + (x 0).val)) (ln l) = f (16 * v + l.val) ∧ (f (16 * v + l.val)).toNat < 2 ^ 31 := fun l hl => by
    have := l.isLt
    have h := hf (16 * v + l.val) hl (by omega)
    refine ⟨?_, h.2⟩
    rw [← h.1, Nat.mod_eq_of_lt hv]
    rfl
  iapply (wp_wand_r _ _ _)
  isplitl [H]
  · iapply (zero3_wp d i arg6 Q decQ hQ inbQ lo hlo (maskV (BitVec.ofNat 32 N) v) (fun x : S16.Idx => pw (16 * (v % 128) + (x 0).val)) f (16 * v) N g0 (maskV_at N v (by omega) hN) hpl) $$ H
  · iintro %_ H
    isplitl [H11]; · iexact H11
    iexact H

/-- One vector of a window staged behind the `o` words that are staged. -/
theorem stepS_wp (hP : ∀ x, (∀ y, (x y).toNat < 57344) → P x)
    (inbP : ∀ d, P d → ∀ a x, ((![d] : Fin 1 → IVec S16 32) a x).toNat < S57344.size a)
    (T pw : ℕ → BitVec 32) (o v N : ℕ) (hv : v < 128) (hN : N < 2 ^ 31) (ho : o + min N 2048 ≤ 57344) (hf : ∀ k < N, k < 2048 → pw k = T (o + k)) :
    iprop(At1 (F := F) d (c2 i) (t2 i) (e := .i32) arg11 fullShare pw ∗ (∃ s : ℕ → BitVec 32, ⌜∀ q < o + min (16 * v) N, s q = T q⌝ ∗ At1 (F := F) d (c2 i) (t2 i) (e := .i32) arg10 fullShare s))
      ⊢ wpT d (c2 i) (t2 i) (stepS (F := F) i arg10 arg11 P decP inbP (BitVec.ofNat 32 o) (BitVec.ofNat 32 N) v) fun _ =>
        iprop(At1 (F := F) d (c2 i) (t2 i) (e := .i32) arg11 fullShare pw ∗ (∃ s : ℕ → BitVec 32, ⌜∀ q < o + min (16 * (v + 1)) N, s q = T q⌝ ∗ At1 (F := F) d (c2 i) (t2 i) (e := .i32) arg10 fullShare s)) := by
  have hm := maskV_at N v (by omega) hN
  unfold maskV at hm
  unfold stepS
  set m : IVec S16 1 := cmpi .slt (addi (broadcast S16 (BitVec.ofNat 32 (16 * v))) lane) (broadcast S16 (BitVec.ofNat 32 N)) with hmd
  set dest : IVec S16 32 := select m (addi (broadcast S16 (Scalar.addi (BitVec.ofNat 32 o) (BitVec.ofNat 32 (16 * v)))) lane) (broadcast S16 0#32) with hdd
  have hd : ∀ l : Fin 16, (dest (ln l)).toNat = if 16 * v + l.val < N then o + (16 * v + l.val) else 0 := fun l => by
    have hl := l.isLt
    have e : dest (ln l) = if m (ln l) = 1#1 then BitVec.ofNat 32 o + BitVec.ofNat 32 (16 * v) + lane (ln l) else 0#32 := rfl
    rw [e, hm l, show lane (ln l) = BitVec.ofNat 32 l.val from by clear * -; revert l; decide]
    by_cases h : 16 * v + l.val < N
    · rw [if_pos h, if_pos h, if_pos rfl, ← BitVec.ofNat_add, ← BitVec.ofNat_add, ofNat_toNat_lt _ (by omega), Nat.add_assoc]
    · rw [if_neg h, if_neg h, if_neg (by decide)]; rfl
  have hP' : P dest := hP _ fun y => by
    obtain ⟨l, rfl⟩ : ∃ l : Fin 16, ln l = y := ⟨y 0, lnp_eq y⟩
    have hl := l.isLt
    rw [hd l]
    split <;> omega
  iintro ⟨H11, %s, %hs, H10⟩
  iapply (wp_asm d (c2 i) (t2 i) hP')
  iapply (wp_ld1 d (c2 i) (t2 i) (rP v) (fun _ => rfl) (16 * (v % 128)) rfl) $$ H11
  iintro H11
  have hstep : ∀ (l : Fin 16) (s : ℕ → Elt F .i32), (∀ q < o + min (16 * v + l.val) N, s q = T q) →
      ∀ q < o + min (16 * v + (l.val + 1)) N, lane1 (F := F) (e := .i32) dest (fun x : S16.Idx => pw (16 * (v % 128) + (x 0).val)) m false l s q = T q := by
    intro l s hs q hq
    have hl := l.isLt
    unfold lane1
    rw [hm l]
    by_cases h : 16 * v + l.val < N
    · rw [if_pos h, if_pos (show (1#1 : BitVec 1) = 1 from rfl), hd l, if_pos h, Function.update_apply]
      by_cases hqq : q = o + (16 * v + l.val)
      · rw [if_pos hqq, hqq, ← hf _ h (by omega), Nat.mod_eq_of_lt hv]
        rfl
      · rw [if_neg hqq]
        exact hs q (by omega)
    · rw [if_neg h, if_neg (show ¬(0#1 : BitVec 1) = 1 from by decide)]
      exact hs q (by omega)
  iapply (wp_stx1' d (c2 i) (t2 i) (e := .i32) (fun l s => ∀ q < o + min (16 * v + l) N, s q = T q) hs hstep) $$ H10
  iintro %s' %hs' H10
  isplitl [H11]; · iexact H11
  iexists s'
  isplitr
  · ipureintro; exact hs'
  · iexact H10

end Cert.Proof.Tile

end
-- ==== Proof.Word3.lean ====
/-
  The loop counts of the third call, and the sum that chooses between its two ways.
-/
module

public import proofs.«01_k».proof.Proof.Pure3

@[expose] public section

noncomputable section

namespace Cert.Proof.Pure

open Cert.KernelIdeal Cert.KernelIdeal.Gen Cert.Proof.Roll
open Idealize.ShloMosaic

theorem trips01 (z : ℕ) (hz : z < 2 ^ 31) : Scf.trips 0#32 (BitVec.ofNat 32 z) 1#32 = z := by
  unfold Scf.trips
  rw [toInt_ofNat_lt _ hz, show (0#32).toInt = 0 from by decide, show (1#32).toInt = 1 from by decide]
  omega

theorem ok01 (z : ℕ) (hz : z < 2 ^ 31) : Scf.OK 0#32 (BitVec.ofNat 32 z) 1#32 := by
  unfold Scf.OK
  rw [trips01 z hz, show (0#32).toInt = 0 from by decide, show (1#32).toInt = 1 from by decide]
  constructor <;> omega

theorem okNil (x : BitVec 32) : Scf.OK (Scalar.addi 0#32 (Scalar.muli (Scalar.divsi x 1#32) 1#32)) (Scalar.addi 0#32 x) 1#32 := by
  unfold Scf.OK
  rw [trips_rem]
  have := BitVec.toInt_lt (x := Scalar.addi 0#32 (Scalar.muli (Scalar.divsi x 1#32) 1#32))
  rw [show (1#32).toInt = 1 from by decide]
  constructor <;> omega

theorem div_nat (n D : ℕ) (hn : n < 2 ^ 31) (hD : 0 < D) (hD' : D < 2 ^ 31) : Scalar.divsi (BitVec.ofNat 32 n) (BitVec.ofNat 32 D) = BitVec.ofNat 32 (n / D) := by
  show IntOp.divsi _ _ _ = _
  have hDn : (BitVec.ofNat 32 D).toNat = D := ofNat_toNat_lt _ (by omega)
  have hnn : (BitVec.ofNat 32 n).toNat = n := ofNat_toNat_lt _ (by omega)
  unfold IntOp.divsi
  rw [if_neg]
  · have m1 : (BitVec.ofNat 32 n).msb = false := by rw [BitVec.msb_eq_false_iff_two_mul_lt, hnn]; omega
    have m2 : (BitVec.ofNat 32 D).msb = false := by rw [BitVec.msb_eq_false_iff_two_mul_lt, hDn]; omega
    apply BitVec.eq_of_toNat_eq
    unfold BitVec.sdiv
    rw [m1, m2]
    show (BitVec.udiv _ _).toNat = _
    rw [show (BitVec.udiv (BitVec.ofNat 32 n) (BitVec.ofNat 32 D)).toNat = (BitVec.ofNat 32 n).toNat / (BitVec.ofNat 32 D).toNat from BitVec.toNat_udiv, hDn, hnn, ofNat_toNat_lt]
    exact (Nat.div_le_self _ _).trans_lt (by omega)
  · rintro (h | ⟨-, h⟩)
    · have := congrArg BitVec.toNat h; rw [hDn] at this; simp at this; omega
    · have := congrArg BitVec.toNat h; rw [hDn, show (-1 : BitVec 32).toNat = 4294967295 from by decide] at this; omega

theorem sgn_pos (n : ℕ) (hn : n < 2 ^ 31) (h0 : 0 < n) :
    Scalar.cmpi .sgt (BitVec.ofNat 32 n) 0#32 = 1#1 ∧ Scalar.cmpi .slt (BitVec.ofNat 32 n) 0#32 = 0#1 := by
  constructor
  · show BitVec.ofBool ((0#32).slt (BitVec.ofNat 32 n)) = _
    rw [show (0#32) = BitVec.ofNat 32 0 from rfl, slt_iff _ _ (by omega) hn, decide_eq_true h0]; rfl
  · show BitVec.ofBool ((BitVec.ofNat 32 n).slt 0#32) = _
    rw [show (0#32) = BitVec.ofNat 32 0 from rfl, slt_iff _ _ hn (by omega), decide_eq_false (by omega)]; rfl

/-- Division rounding down, as the kernel spells it. -/
def fdiv (x D : BitVec 32) : BitVec 32 :=
  Scalar.select (Scalar.andi (Scalar.cmpi .ne (Scalar.subi (Scalar.extui (Scalar.cmpi .sgt x 0#32)) (Scalar.extui (Scalar.cmpi .slt x 0#32))) (Scalar.subi (Scalar.extui (Scalar.cmpi .sgt D 0#32)) (Scalar.extui (Scalar.cmpi .slt D 0#32)))) (Scalar.cmpi .ne (Scalar.remsi x D) 0#32))
    (Scalar.subi (Scalar.divsi x D) 1#32) (Scalar.divsi x D)

theorem fdiv_eq (n D : ℕ) (hn : n < 2 ^ 31) (h0 : 0 < n) (hD : 0 < D) (hD' : D < 2 ^ 31) : fdiv (BitVec.ofNat 32 n) (BitVec.ofNat 32 D) = BitVec.ofNat 32 (n / D) := by
  unfold fdiv
  rw [(sgn_pos n hn h0).1, (sgn_pos n hn h0).2, (sgn_pos D hD' hD).1, (sgn_pos D hD' hD).2, div_nat n D hn hD hD']
  generalize Scalar.cmpi .ne (Scalar.remsi (BitVec.ofNat 32 n) (BitVec.ofNat 32 D)) 0#32 = y
  revert y
  have h : Scalar.cmpi .ne (Scalar.subi (Scalar.extui (1#1)) (Scalar.extui (0#1))) (Scalar.subi (Scalar.extui (1#1)) (Scalar.extui (0#1))) = 0#1 := by decide
  intro y
  rw [h, show Scalar.andi (0#1) y = 0#1 from by revert y; decide]
  rfl

theorem ub_eq (z : ℕ) : Scalar.addi 0#32 (Scalar.muli (Scalar.divsi (Scalar.subi (BitVec.ofNat 32 z) 0#32) 1#32) 1#32) = BitVec.ofNat 32 z := by
  show 0#32 + (IntOp.divsi _ (BitVec.ofNat 32 z - 0#32) 1#32) * 1#32 = _
  rw [WordArith.divsi_one, BitVec.mul_one, BitVec.zero_add, BitVec.sub_zero]

/-- The windows of a run of `n` words. -/
def nwin (n : ℕ) : ℕ := (n + 2047) / 2048

theorem ub2048 (n : ℕ) (hn : n < 2 ^ 30) :
    Scalar.addi 0#32 (Scalar.muli (Scalar.divsi (Scalar.subi (fdiv (Scalar.subi (Scalar.addi (BitVec.ofNat 32 n) 2048#32) 1#32) 2048#32) 0#32) 1#32) 1#32) = BitVec.ofNat 32 (nwin n) := by
  rw [show Scalar.subi (Scalar.addi (BitVec.ofNat 32 n) 2048#32) 1#32 = BitVec.ofNat 32 (n + 2047) from by
    show BitVec.ofNat 32 n + 2048#32 - 1#32 = _
    rw [BitVec.ofNat_add, BitVec.sub_eq_add_neg, BitVec.add_assoc]; rfl]
  rw [show (2048#32) = BitVec.ofNat 32 2048 from rfl, fdiv_eq _ _ (by omega) (by omega) (by omega) (by omega), ub_eq]
  rfl

theorem ub16 (n : ℕ) (hn : n < 2 ^ 30) :
    Scalar.addi 0#32 (Scalar.muli (Scalar.divsi (Scalar.subi (fdiv (Scalar.addi (BitVec.ofNat 32 n) 15#32) 16#32) 0#32) 1#32) 1#32) = BitVec.ofNat 32 ((n + 15) / 16) := by
  rw [show Scalar.addi (BitVec.ofNat 32 n) 15#32 = BitVec.ofNat 32 (n + 15) from (BitVec.ofNat_add ..).symm]
  rw [show (16#32) = BitVec.ofNat 32 16 from rfl, fdiv_eq _ _ (by omega) (by omega) (by omega) (by omega), ub_eq]

theorem nwin_lt (n : ℕ) (hn : n < 2 ^ 30) : nwin n < 2 ^ 31 := by unfold nwin; omega

theorem t2_loop_eq (n : ℕ) (hn : n < 2 ^ 30) : k2_t2_loop (BitVec.ofNat 32 n) = ⟨0#32, BitVec.ofNat 32 (nwin n), 1#32⟩ := congrArg (fun z => (⟨0#32, z, 1#32⟩ : Scf.Loop 32)) (ub2048 n hn)
theorem t9_loop_eq (n : ℕ) (hn : n < 2 ^ 30) : k2_t9_loop (BitVec.ofNat 32 n) = ⟨0#32, BitVec.ofNat 32 (nwin n), 1#32⟩ := congrArg (fun z => (⟨0#32, z, 1#32⟩ : Scf.Loop 32)) (ub2048 n hn)
theorem t14_loop_eq (n : ℕ) (hn : n < 2 ^ 30) : k2_t14_loop (BitVec.ofNat 32 n) = ⟨0#32, BitVec.ofNat 32 (nwin n), 1#32⟩ := congrArg (fun z => (⟨0#32, z, 1#32⟩ : Scf.Loop 32)) (ub2048 n hn)

variable (z0 z1 z2 z3 z4 z5 z6 z7 z8 z9 za zb zc zd ze zf zg zh zi zj zk zl zm zn zo zp zq zr zs zt zu zv : BitVec 32)

/-- The words of all runs of a tile. -/
def tot3 (z0 z1 z2 z3 z4 z5 z6 z7 z8 z9 za zb zc zd ze zf zg zh zi zj zk zl zm zn zo zp zq zr zs zt zu zv : BitVec 32) : BitVec 32 := Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi (Scalar.addi 0#32 z0) z1) z2) z3) z4) z5) z6) z7) z8) z9) za) zb) zc) zd) ze) zf) zg) zh) zi) zj) zk) zl) zm) zn) zo) zp) zq) zr) zs) zt) zu) zv

/-- Whether they fit into the staging buffer. -/
def fits (n : ℕ) : BitVec 1 := if n ≤ 57344 then 1#1 else 0#1

theorem cond_fits (n : ℕ) (hn : n < 2 ^ 31) : Scalar.cmpi .ne (Scalar.extui (Scalar.cmpi .sle (BitVec.ofNat 32 n) 57344#32)) 0#32 = (if n ≤ 57344 then 1#1 else 0#1)
    ∧ Scalar.cmpi .ne (Scalar.extui (Scalar.xori (Scalar.cmpi .sle (BitVec.ofNat 32 n) 57344#32) 1#1)) 0#32 = (if n ≤ 57344 then 0#1 else 1#1) := by
  have h : Scalar.cmpi .sle (BitVec.ofNat 32 n) 57344#32 = if n ≤ 57344 then 1#1 else 0#1 := by
    show BitVec.ofBool ((BitVec.ofNat 32 n).sle 57344#32) = _
    unfold BitVec.sle
    rw [toInt_ofNat_lt _ hn, show (57344#32).toInt = 57344 from by decide]
    by_cases h : n ≤ 57344
    · rw [if_pos h, decide_eq_true (by omega)]; rfl
    · rw [if_neg h, decide_eq_false (by omega)]; rfl
  rw [h]
  by_cases h : n ≤ 57344
  · simp only [if_pos h]; decide
  · simp only [if_neg h]; decide

theorem cond1_eq (n : ℕ) (hn : n < 2 ^ 30) (h : tot3 z0 z1 z2 z3 z4 z5 z6 z7 z8 z9 za zb zc zd ze zf zg zh zi zj zk zl zm zn zo zp zq zr zs zt zu zv = BitVec.ofNat 32 n) : k2_cond1 z0 z1 z2 z3 z4 z5 z6 z7 z8 z9 za zb zc zd ze zf zg zh zi zj zk zl zm zn zo zp zq zr zs zt zu zv = if n ≤ 57344 then 1#1 else 0#1 := by
  refine Eq.trans ?_ (cond_fits n (by omega)).1
  rw [← h]; rfl
theorem cond2_eq (n : ℕ) (hn : n < 2 ^ 30) (h : tot3 z0 z1 z2 z3 z4 z5 z6 z7 z8 z9 za zb zc zd ze zf zg zh zi zj zk zl zm zn zo zp zq zr zs zt zu zv = BitVec.ofNat 32 n) : k2_cond2 z0 z1 z2 z3 z4 z5 z6 z7 z8 z9 za zb zc zd ze zf zg zh zi zj zk zl zm zn zo zp zq zr zs zt zu zv = if n ≤ 57344 then 1#1 else 0#1 := by
  refine Eq.trans ?_ (cond_fits n (by omega)).1
  rw [← h]; rfl
theorem cond4_eq (n : ℕ) (hn : n < 2 ^ 30) (h : tot3 z0 z1 z2 z3 z4 z5 z6 z7 z8 z9 za zb zc zd ze zf zg zh zi zj zk zl zm zn zo zp zq zr zs zt zu zv = BitVec.ofNat 32 n) : k2_cond4 z0 z1 z2 z3 z4 z5 z6 z7 z8 z9 za zb zc zd ze zf zg zh zi zj zk zl zm zn zo zp zq zr zs zt zu zv = if n ≤ 57344 then 1#1 else 0#1 := by
  refine Eq.trans ?_ (cond_fits n (by omega)).1
  rw [← h]; rfl
theorem cond3_eq (n : ℕ) (hn : n < 2 ^ 30) (h : tot3 z0 z1 z2 z3 z4 z5 z6 z7 z8 z9 za zb zc zd ze zf zg zh zi zj zk zl zm zn zo zp zq zr zs zt zu zv = BitVec.ofNat 32 n) : k2_cond3 z0 z1 z2 z3 z4 z5 z6 z7 z8 z9 za zb zc zd ze zf zg zh zi zj zk zl zm zn zo zp zq zr zs zt zu zv = if n ≤ 57344 then 0#1 else 1#1 := by
  refine Eq.trans ?_ (cond_fits n (by omega)).2
  rw [← h]; rfl
theorem cond5_eq (n : ℕ) (hn : n < 2 ^ 30) (h : tot3 z0 z1 z2 z3 z4 z5 z6 z7 z8 z9 za zb zc zd ze zf zg zh zi zj zk zl zm zn zo zp zq zr zs zt zu zv = BitVec.ofNat 32 n) : k2_cond5 z0 z1 z2 z3 z4 z5 z6 z7 z8 z9 za zb zc zd ze zf zg zh zi zj zk zl zm zn zo zp zq zr zs zt zu zv = if n ≤ 57344 then 0#1 else 1#1 := by
  refine Eq.trans ?_ (cond_fits n (by omega)).2
  rw [← h]; rfl

theorem t6_loop_eq (n : ℕ) (hn : n < 2 ^ 30) (h : tot3 z0 z1 z2 z3 z4 z5 z6 z7 z8 z9 za zb zc zd ze zf zg zh zi zj zk zl zm zn zo zp zq zr zs zt zu zv = BitVec.ofNat 32 n) : k2_t6_loop z0 z1 z2 z3 z4 z5 z6 z7 z8 z9 za zb zc zd ze zf zg zh zi zj zk zl zm zn zo zp zq zr zs zt zu zv = ⟨0#32, BitVec.ofNat 32 ((n + 15) / 16), 1#32⟩ := by
  refine Eq.trans ?_ (congrArg (fun z => (⟨0#32, z, 1#32⟩ : Scf.Loop 32)) (ub16 n hn))
  rw [← h]; rfl
theorem t11_loop_eq (n : ℕ) (hn : n < 2 ^ 30) (h : tot3 z0 z1 z2 z3 z4 z5 z6 z7 z8 z9 za zb zc zd ze zf zg zh zi zj zk zl zm zn zo zp zq zr zs zt zu zv = BitVec.ofNat 32 n) : k2_t11_loop z0 z1 z2 z3 z4 z5 z6 z7 z8 z9 za zb zc zd ze zf zg zh zi zj zk zl zm zn zo zp zq zr zs zt zu zv = ⟨0#32, BitVec.ofNat 32 ((n + 15) / 16), 1#32⟩ := by
  refine Eq.trans ?_ (congrArg (fun z => (⟨0#32, z, 1#32⟩ : Scf.Loop 32)) (ub16 n hn))
  rw [← h]; rfl

theorem chk261_of (n : ℕ) (hn : n < 2 ^ 30) (h : tot3 z0 z1 z2 z3 z4 z5 z6 z7 z8 z9 za zb zc zd ze zf zg zh zi zj zk zl zm zn zo zp zq zr zs zt zu zv = BitVec.ofNat 32 n) : k2_chk261 z0 z1 z2 z3 z4 z5 z6 z7 z8 z9 za zb zc zd ze zf zg zh zi zj zk zl zm zn zo zp zq zr zs zt zu zv := by
  have hz : (n + 15) / 16 < 2 ^ 31 := by omega
  refine ⟨fun _ => ?_, fun _ => okNil _, fun _ => ?_, fun _ => okNil _⟩
  · rw [t6_loop_eq z0 z1 z2 z3 z4 z5 z6 z7 z8 z9 za zb zc zd ze zf zg zh zi zj zk zl zm zn zo zp zq zr zs zt zu zv n hn h]; exact ok01 _ hz
  · rw [t11_loop_eq z0 z1 z2 z3 z4 z5 z6 z7 z8 z9 za zb zc zd ze zf zg zh zi zj zk zl zm zn zo zp zq zr zs zt zu zv n hn h]; exact ok01 _ hz

theorem iv_nat (k : ℕ) : Scf.iv 0#32 1#32 k = BitVec.ofNat 32 k := by
  show 0#32 + BitVec.ofNat 32 k * 1#32 = _
  rw [BitVec.mul_one, BitVec.zero_add]

theorem off_nat (o k : ℕ) : (Scalar.addi (BitVec.ofNat 32 o) (Scalar.muli (Scf.iv 0#32 1#32 k) 2048#32)) = BitVec.ofNat 32 (o + 2048 * k) := by
  rw [iv_nat]
  show BitVec.ofNat 32 o + BitVec.ofNat 32 k * BitVec.ofNat 32 2048 = _
  rw [← BitVec.ofNat_mul, ← BitVec.ofNat_add, Nat.mul_comm]

theorem off1_at (o n : ℕ) (t : Fin (k2_t2_loop (BitVec.ofNat 32 n)).trips) (h : o + 2048 * t.val < 2 ^ 32) : k2_off1 (BitVec.ofNat 32 o) (BitVec.ofNat 32 n) t 0 = o + 2048 * t.val := by
  refine Eq.trans (congrArg BitVec.toNat (off_nat o t.val)) (ofNat_toNat_lt _ h)
theorem off4_at (o n : ℕ) (t : Fin (k2_t9_loop (BitVec.ofNat 32 n)).trips) (h : o + 2048 * t.val < 2 ^ 32) : k2_off4 (BitVec.ofNat 32 o) (BitVec.ofNat 32 n) t 0 = o + 2048 * t.val := by
  refine Eq.trans (congrArg BitVec.toNat (off_nat o t.val)) (ofNat_toNat_lt _ h)
theorem off7_at (o n : ℕ) (t : Fin (k2_t14_loop (BitVec.ofNat 32 n)).trips) (h : o + 2048 * t.val < 2 ^ 32) : k2_off7 (BitVec.ofNat 32 o) (BitVec.ofNat 32 n) t 0 = o + 2048 * t.val := by
  refine Eq.trans (congrArg BitVec.toNat (off_nat o t.val)) (ofNat_toNat_lt _ h)

theorem t2_lt (n : ℕ) (hn : n < 2 ^ 30) (t : Fin (k2_t2_loop (BitVec.ofNat 32 n)).trips) : 2048 * t.val < n := by
  have h2 : t.val < nwin n := t.isLt.trans_eq ((congrArg Scf.Loop.trips (t2_loop_eq n hn)).trans (trips01 _ (nwin_lt n hn)))
  unfold nwin at h2
  omega
theorem t9_lt (n : ℕ) (hn : n < 2 ^ 30) (t : Fin (k2_t9_loop (BitVec.ofNat 32 n)).trips) : 2048 * t.val < n := by
  have h2 : t.val < nwin n := t.isLt.trans_eq ((congrArg Scf.Loop.trips (t9_loop_eq n hn)).trans (trips01 _ (nwin_lt n hn)))
  unfold nwin at h2
  omega
theorem t14_lt (n : ℕ) (hn : n < 2 ^ 30) (t : Fin (k2_t14_loop (BitVec.ofNat 32 n)).trips) : 2048 * t.val < n := by
  have h2 : t.val < nwin n := t.isLt.trans_eq ((congrArg Scf.Loop.trips (t14_loop_eq n hn)).trans (trips01 _ (nwin_lt n hn)))
  unfold nwin at h2
  omega

theorem chk4_of (o n : ℕ) (hn : n < 2 ^ 30) (ho : o + n + 2048 ≤ 1010688) : k2_chk4 z0 z1 z2 z3 z4 z5 z6 z7 z8 z9 za zb zc zd ze zf zg zh zi zj zk zl zm zn zo zp zq zr zs zt zu zv (BitVec.ofNat 32 o) (BitVec.ofNat 32 n) := by
  refine ⟨fun _ => ?_, fun t _ a => ?_, fun _ => okNil _, fun t => ?_⟩
  · rw [t2_loop_eq n hn]; exact ok01 _ (nwin_lt n hn)
  · obtain rfl : a = 0 := Subsingleton.elim _ _
    have := t2_lt n hn t
    rw [off1_at o n t (by omega)]
    show _ + 2048 ≤ 1010688
    omega
  · exact absurd (t.isLt.trans_eq (t3_nil _)) (Nat.not_lt_zero _)
theorem chk271_of (o n : ℕ) (hn : n < 2 ^ 30) (ho : o + n + 2048 ≤ 1010688) : k2_chk271 z0 z1 z2 z3 z4 z5 z6 z7 z8 z9 za zb zc zd ze zf zg zh zi zj zk zl zm zn zo zp zq zr zs zt zu zv (BitVec.ofNat 32 o) (BitVec.ofNat 32 n) := by
  refine ⟨fun _ => ?_, fun t _ a => ?_, fun _ => okNil _, fun t => ?_⟩
  · rw [t9_loop_eq n hn]; exact ok01 _ (nwin_lt n hn)
  · obtain rfl : a = 0 := Subsingleton.elim _ _
    have := t9_lt n hn t
    rw [off4_at o n t (by omega)]
    show _ + 2048 ≤ 1010688
    omega
  · exact absurd (t.isLt.trans_eq (t10_nil _)) (Nat.not_lt_zero _)
theorem chk791_of (o n : ℕ) (hn : n < 2 ^ 30) (ho : o + n + 2048 ≤ 1010688) : k2_chk791 z0 z1 z2 z3 z4 z5 z6 z7 z8 z9 za zb zc zd ze zf zg zh zi zj zk zl zm zn zo zp zq zr zs zt zu zv (BitVec.ofNat 32 o) (BitVec.ofNat 32 n) := by
  refine ⟨fun _ => ?_, fun t _ a => ?_, fun _ => okNil _, fun t => ?_⟩
  · rw [t14_loop_eq n hn]; exact ok01 _ (nwin_lt n hn)
  · obtain rfl : a = 0 := Subsingleton.elim _ _
    have := t14_lt n hn t
    rw [off7_at o n t (by omega)]
    show _ + 2048 ≤ 1010688
    omega
  · exact absurd (t.isLt.trans_eq (t15_nil _)) (Nat.not_lt_zero _)

/-- What is left of a run of `n` words at window `k`. -/
theorem rem_nat (n k D : ℕ) (h : D * k ≤ n) : Scalar.subi (BitVec.ofNat 32 n) (Scalar.muli (Scf.iv 0#32 1#32 k) (BitVec.ofNat 32 D)) = BitVec.ofNat 32 (n - D * k) := by
  rw [iv_nat]
  show BitVec.ofNat 32 n - BitVec.ofNat 32 k * BitVec.ofNat 32 D = _
  rw [← BitVec.ofNat_mul, Nat.mul_comm k D]
  conv_lhs => rw [show n = (n - D * k) + D * k from by omega, BitVec.ofNat_add, BitVec.add_sub_cancel]

theorem min_nat (n : ℕ) (hn : n < 2 ^ 31) : Scalar.minsi (BitVec.ofNat 32 n) 2048#32 = BitVec.ofNat 32 (min n 2048) := by
  have e : Scalar.minsi (BitVec.ofNat 32 n) 2048#32 = if (BitVec.ofNat 32 n).slt 2048#32 then BitVec.ofNat 32 n else 2048#32 := rfl
  rw [e]
  unfold BitVec.slt
  rw [toInt_ofNat_lt _ hn, show (2048#32).toInt = 2048 from by decide]
  by_cases h : n < 2048
  · rw [decide_eq_true (by omega), if_pos rfl, Nat.min_eq_left (by omega)]
  · rw [decide_eq_false (by omega), if_neg (by decide), Nat.min_eq_right (by omega)]

end Cert.Proof.Pure

end
-- ==== Proof.K3b.lean ====
/-
  The runs of the third call: staged, and laid into a chunk.
-/
module

public import proofs.«01_k».proof.Proof.K3a
public import proofs.«01_k».proof.Proof.Word3

@[expose] public section

noncomputable section

namespace Cert.Proof.Tile

open Cert.KernelIdeal Cert.KernelIdeal.Gen Cert.Proof.Roll Cert.Proof.Pure

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

theorem psum_one (j a n : ℕ) : psum (fun k => if k = j then a else 0) n = if j < n then a else 0 := by
  induction n with
  | zero => rfl
  | succ n ih =>
    show psum _ n + (if n = j then a else 0) = _
    rw [ih]
    by_cases h : j < n
    · rw [if_pos h, if_neg (by omega), if_pos (by omega), Nat.add_zero]
    · by_cases h2 : n = j
      · rw [if_neg h, if_pos h2, if_pos (by omega), Nat.zero_add]
      · rw [if_neg h, if_neg h2, if_neg (by omega)]

theorem sel_one (m : IVec S16 1) (j : Fin 16) (hm : ∀ l : Fin 16, m (ln l) = if l.val = j.val then 1#1 else 0#1) (x : IVec S16 32) :
    extractAt ![15] (scan .sum (select m x (broadcast S16 0#32) : IVec S16 32)) inpos_S16_p15 = x (ln j) := by
  refine (scan_last (fun k => if k = j.val then (x (ln j)).toNat else 0) _ fun l => ?_).trans ?_
  · have e : (select m x (broadcast S16 0#32) : IVec S16 32) (ln l) = if m (ln l) = 1#1 then x (ln l) else 0#32 := rfl
    rw [e, hm l]
    by_cases h : l.val = j.val
    · obtain rfl : l = j := Fin.ext h
      rw [if_pos h, if_pos rfl]
      show _ = BitVec.ofNat 32 (if l.val = l.val then _ else _)
      rw [if_pos rfl, BitVec.ofNat_toNat, BitVec.setWidth_eq]
    · rw [if_neg h, if_neg (by decide)]
      show _ = BitVec.ofNat 32 (if l.val = j.val then _ else _)
      rw [if_neg h]
  · rw [psum_one, if_pos j.isLt, BitVec.ofNat_toNat, BitVec.setWidth_eq]

theorem first_eq (x : IVec S16 32) : first x = x (ln 0) := sel_one _ 0 (by decide) x

theorem laneAt_at : ∀ (w : Fin 32) (l : Fin 16), laneAt (BitVec.ofNat 32 w.val) (ln l) = if l.val = w.val % 16 then 1#1 else 0#1 := by decide

theorem pick_eq (w : ℕ) (hw : w < 32) (x : IVec S16 32) : pick (BitVec.ofNat 32 w) x = x (ln ⟨w % 16, Nat.mod_lt _ (by decide)⟩) :=
  sel_one _ ⟨w % 16, Nat.mod_lt _ (by decide)⟩ (fun l => laneAt_at ⟨w, hw⟩ l) x

variable (d : Dev nD)

section Loops

variable (c : Fin τ.nSC) (i : Fin τ.nSub) {α : Type}

/-- A loop that carries a value, by an invariant. -/
theorem wp_loopS {σ' : Type} {Q : α → sProp 𝕄} (l : Scf.Loop 32) (hok : l.OK) (init : σ') (body : Fin l.trips → σ' → Prog (TpuEff nD τ sig (Elt F) Λ₀ (.scVector c i)) σ') (I : ℕ → σ' → sProp 𝕄) (z : ℕ) (hz : l.trips = z)
    (hbody : ∀ (t : Fin l.trips) (a : σ'), t.val < z → I t.val a ⊢ wpT d c i (body t a) fun a' => I (t.val + 1) a') {kk : σ' → Prog (TpuEff nD τ sig (Elt F) Λ₀ (.scVector c i)) α} :
    I 0 init ⊢ iprop((∀ a, I z a -∗ wpT d c i (kk a) Q) -∗ wpT d c i (Scf.Loop.for l hok init body >>= kk) Q) := by
  subst hz
  iintro H Hk
  iapply (Scf.wp_for_bind frame (wpE (defs₀ (F := F)) 𝒱₀ (V d c i) none) Set.univ l.lb l.ub l.st hok init body I (fun t a => hbody t a t.isLt)) $$ H
  iintro %a H
  iapply Hk $$ H

theorem wp_ret {Q : α → sProp 𝕄} (a : α) : Q a ⊢ wpT d c i (pure a : Prog (TpuEff nD τ sig (Elt F) Λ₀ (.scVector c i)) α) Q := by
  unfold wpT
  rw [wp_pure]
  iintro H
  imodintro
  iexact H

/-- A loop at the end of a program. -/
theorem wp_loop' {Q : PUnit → sProp 𝕄} (l : Scf.Loop 32) (hok : l.OK) (body : Fin l.trips → PUnit → Prog (TpuEff nD τ sig (Elt F) Λ₀ (.scVector c i)) PUnit) (I : ℕ → sProp 𝕄) (z : ℕ) (hz : l.trips = z)
    (hbody : ∀ t : Fin l.trips, t.val < z → I t.val ⊢ wpT d c i (body t ⟨⟩) fun _ => I (t.val + 1)) :
    I 0 ⊢ iprop((I z -∗ Q ⟨⟩) -∗ wpT d c i (Scf.Loop.for l hok ⟨⟩ body) Q) := by
  rw [← bind_pure (Scf.Loop.for l hok ⟨⟩ body)]
  iintro H Hk
  iapply (wp_loop d c i l hok body I z hz hbody) $$ H
  iintro H
  iapply (wp_ret d c i)
  iapply Hk $$ H

theorem wp_loopS' {Q : α → sProp 𝕄} (l : Scf.Loop 32) (hok : l.OK) (init : α) (body : Fin l.trips → α → Prog (TpuEff nD τ sig (Elt F) Λ₀ (.scVector c i)) α) (I : ℕ → α → sProp 𝕄) (z : ℕ) (hz : l.trips = z)
    (hbody : ∀ (t : Fin l.trips) (a : α), t.val < z → I t.val a ⊢ wpT d c i (body t a) fun a' => I (t.val + 1) a') :
    I 0 init ⊢ iprop((∀ a, I z a -∗ Q a) -∗ wpT d c i (Scf.Loop.for l hok init body) Q) := by
  rw [← bind_pure (Scf.Loop.for l hok init body)]
  iintro H Hk
  iapply (wp_loopS d c i l hok init body I z hz hbody) $$ H
  iintro %a H
  iapply (wp_ret d c i)
  iapply Hk $$ H

end Loops

/-- What the third call needs to know of the runs: their words are packed paths, each run starts at a multiple of eight, and a window at its end stays within the array. -/
structure Runs (C O : ℕ → ℕ) (pw : ℕ → BitVec 32) : Prop where
  valid : ∀ w < 32, ∀ k < C w, (pw (O w + k)).toNat < 2 ^ 31
  room : ∀ w < 32, O w + C w + 2048 ≤ 1010688
  al : ∀ w < 32, 8 ∣ O w
  tot : psum C 32 < 2 ^ 30

theorem Runs.lt {C O : ℕ → ℕ} {pw : ℕ → BitVec 32} (h : Runs C O pw) (w : ℕ) (hw : w < 32) : C w < 2 ^ 30 := by have := h.room w hw; omega

theorem lay_runs {E : Type} (lo : ℕ) (u : BitVec 32 → E) (C O : ℕ → ℕ) (pw : ℕ → BitVec 32) (w : ℕ) (g : ℕ → E) :
    lay lo u (fun k => pw (O w + k)) (C w) (app lo u (runs C O pw w) g) = app lo u (runs C O pw (w + 1)) g := by
  rw [runs, app_append]; rfl

theorem runs_mem (C O : ℕ → ℕ) (pw : ℕ → BitVec 32) (n : ℕ) (p : BitVec 32) (h : p ∈ runs C O pw n) : ∃ w < n, ∃ k < C w, p = pw (O w + k) := by
  induction n with
  | zero => exact absurd h List.not_mem_nil
  | succ n ih =>
    rw [runs, List.mem_append] at h
    rcases h with h | h
    · obtain ⟨w, hw, k, hk, e⟩ := ih h; exact ⟨w, by omega, k, hk, e⟩
    · obtain ⟨k, hk, e⟩ := List.mem_map.1 h; exact ⟨n, by omega, k, List.mem_range.1 hk, e.symm⟩

theorem Runs.word {C O : ℕ → ℕ} {pw : ℕ → BitVec 32} (h : Runs C O pw) (q : ℕ) (hq : q < psum C 32) : (wordAt C O pw q).toNat < 2 ^ 31 := by
  have hm : wordAt C O pw q ∈ runs C O pw 32 := by
    rw [← runs_map]; exact List.mem_map_of_mem (List.mem_range.2 hq)
  obtain ⟨w, hw, k, hk, e⟩ := runs_mem C O pw 32 _ hm
  rw [e]; exact h.valid w hw k hk

theorem psum_le_tot (C : ℕ → ℕ) (w : ℕ) (hw : w < 32) : psum C w + C w ≤ psum C 32 := by
  have h := psum_add C (w + 1) (31 - w)
  rw [show w + 1 + (31 - w) = 32 from by omega, show psum C (w + 1) = psum C w + C w from rfl] at h
  omega

theorem bc32 (w : ℕ) (hw : w < 32) (y : S16.Idx) : ((broadcast S16 (Scf.iv 0#32 1#32 w) : IVec S16 32) y).toNat = w := by
  show (Scf.iv 0#32 1#32 w).toNat = w
  rw [iv_nat, ofNat_toNat_lt _ (by omega)]

theorem lo_nat (t : ℕ) : Scalar.muli (Scf.iv 0#32 1#32 t) 65536#32 = BitVec.ofNat 32 (65536 * t) := by
  rw [iv_nat]
  show BitVec.ofNat 32 t * BitVec.ofNat 32 65536 = _
  rw [← BitVec.ofNat_mul, Nat.mul_comm]

theorem t1_trips : k2_t1_loop.trips = 32 := by decide
theorem t8_trips : k2_t8_loop.trips = 32 := by decide
theorem t13_trips : k2_t13_loop.trips = 32 := by decide
theorem t4_trips : k2_t4_loop.trips = 256 := by decide
theorem t5_trips : k2_t5_loop.trips = 8 := by decide

variable (i : grid2.Coords)

section K3

variable (arg2 : Memref sig .scVector .hbm S1010688 .i32)
  (arg6 : Memref sig .scVector .vmem S65536 .f32) (arg8 : Memref sig .scVector .vmem S32 .i32) (arg9 : Memref sig .scVector .vmem S32 .i32)
  (arg10 : Memref sig .scVector .vmem S57344 .i32) (arg11 : Memref sig .scVector .vmem S2048 .i32) (harg11 : arg11.IsWhole)
  (arg12 : Memref sig .scVector .vmem S32 .f32)
  (r0 r1 r2 r4 r6 r7 : DmaSems sig S_)

variable {q : PosShare TreeShare} {O : CellTallies nD τ sig (HIx 3)} {W : Waits sig (HIx 3)}

/-- What copying a window needs. -/
def Rd (q : PosShare TreeShare) (O : CellTallies nD τ sig (HIx 3)) (W : Waits sig (HIx 3)) (r : DmaSems sig S_) (pw : ℕ → BitVec 32) : sProp 𝕄 :=
  iprop(□ Transfers.MayWaits (V d (c2 i) (t2 i)) (default : HIx 3) O ∗ At1 (F := F) d (c2 i) (t2 i) (e := .i32) arg2 q pw ∗ At1E (F := F) d (c2 i) (t2 i) arg11
    ∗ semVal ((V d (c2 i) (t2 i) : Thread nD τ), SemLoc.dma r.sem) 0 ∗ Owe (F := F) d (c2 i) (t2 i) O W)

variable (z0 z1 z2 z3 z4 z5 z6 z7 z8 z9 za zb zc zd ze zf zg zh zi zj zk zl zm zn zo zp zq zr zs zt zu zv : BitVec 32)

theorem idx1 {n : Fin 1 → ℕ} (x : IVec S16 32) (hx : ∀ y, (x y).toNat < n 0) : ∀ a y, ((![x] : Fin 1 → IVec S16 32) a y).toNat < (⟨1, n⟩ : Shape).size a := fun a y => by
  obtain rfl : a = 0 := Subsingleton.elim _ _
  exact hx y

set_option maxHeartbeats 800000 in
theorem winC_wp (b : ℕ → Elt F .f32) (lo : ℕ) (hlo : lo ≤ 2 ^ 20) (o l : ℕ) (oW lW : BitVec 32) (hoW : oW = BitVec.ofNat 32 o) (hlW : lW = BitVec.ofNat 32 l) (pw : ℕ → BitVec 32) (hl : o + l + 2048 ≤ 1010688) (hv : ∀ k < l, (pw (o + k)).toNat < 2 ^ 31) (g0 : ℕ → Elt F .f32)
    (hw : k2_chk271 z0 z1 z2 z3 z4 z5 z6 z7 z8 z9 za zb zc zd ze zf zg zh zi zj zk zl zm zn zo zp zq zr zs zt zu zv oW lW) (h3 : k2_cond3 z0 z1 z2 z3 z4 z5 z6 z7 z8 z9 za zb zc zd ze zf zg zh zi zj zk zl zm zn zo zp zq zr zs zt zu zv = 1#1) (t : Fin (k2_t9_loop lW).trips) :
    iprop(Rd (F := F) d i arg2 arg11 q O W r4 pw ∗ At1 (F := F) d (c2 i) (t2 i) (e := .f32) arg12 fullShare b ∗ At1 (F := F) d (c2 i) (t2 i) (e := .f32) arg6 fullShare (lay lo (uV (F := F) b) (fun k => pw (o + k)) (min (2048 * t.val) l) g0))
      ⊢ wpT d (c2 i) (t2 i) (winC (F := F) i arg2 arg6 arg11 harg11 arg12 r4 z0 z1 z2 z3 z4 z5 z6 z7 z8 z9 za zb zc zd ze zf zg zh zi zj zk zl zm zn zo zp zq zr zs zt zu zv (BitVec.ofNat 32 lo) oW lW hw h3 t) fun _ =>
        iprop(Rd (F := F) d i arg2 arg11 q O W r4 pw ∗ At1 (F := F) d (c2 i) (t2 i) (e := .f32) arg12 fullShare b ∗ At1 (F := F) d (c2 i) (t2 i) (e := .f32) arg6 fullShare (lay lo (uV (F := F) b) (fun k => pw (o + k)) (min (2048 * (t.val + 1)) l) g0)) := by
  subst hoW hlW
  have ht := t9_lt l (by omega) t
  have hpos : 0 < (⟨1, S2048.size⟩ : Shape).numel := by decide
  have ho : k2_off4 (BitVec.ofNat 32 o) (BitVec.ofNat 32 l) t 0 = o + 2048 * t.val := off4_at o l t (by omega)
  obtain ⟨N, hN⟩ : ∃ N, N = l - 2048 * t.val := ⟨_, rfl⟩
  have hrem : Scalar.subi (BitVec.ofNat 32 l) (Scalar.muli (Scf.iv 0#32 1#32 t.val) 2048#32) = BitVec.ofNat 32 N := by rw [hN]; exact rem_nat l t.val 2048 (by omega)
  obtain ⟨f, hfd⟩ : ∃ f : ℕ → BitVec 32, f = fun k => pw (o + (2048 * t.val + k)) := ⟨_, rfl⟩
  obtain ⟨pw2, hpd⟩ : ∃ f : ℕ → BitVec 32, f = fun k => pw (o + 2048 * t.val + k) := ⟨_, rfl⟩
  obtain ⟨g1, hg1⟩ : ∃ g1, g1 = lay lo (uV (F := F) b) (fun k => pw (o + k)) (2048 * t.val) g0 := ⟨_, rfl⟩
  have hf : ∀ k < N, k < 2048 → pw2 k = f k ∧ (f k).toNat < 2 ^ 31 := fun k hk _ => by
    rw [hfd, hpd]
    exact ⟨congrArg pw (by omega), hv _ (by omega)⟩
  have e0 : lay lo (uV (F := F) b) (fun k => pw (o + k)) (min (2048 * t.val) l) g0 = lay lo (uV (F := F) b) f (min (16 * 0) N) g1 := by
    rw [show min (16 * 0) N = 0 from by omega, lay_zero, hg1, show min (2048 * t.val) l = 2048 * t.val from by omega]
  have e1 : lay lo (uV (F := F) b) f (min (16 * (0 + 128)) N) g1 = lay lo (uV (F := F) b) (fun k => pw (o + k)) (min (2048 * (t.val + 1)) l) g0 := by
    rw [hg1, hfd, ← lay_add lo (uV (F := F) b) (fun k => pw (o + k)) (2048 * t.val) (min (16 * (0 + 128)) N) g0]
    congr 1; omega
  unfold winC
  rw [hrem, e0, ← e1]
  unfold Rd At1E
  iintro ⟨⟨#Hm, Ha, ⟨%g11, H11⟩, Hs, Ho⟩, H⟩
  ihave Ha := (At1_lend d (c2 i) (t2 i) (Rect.unit (s := S1010688) (k2_off4 (BitVec.ofNat 32 o) (BitVec.ofNat 32 l) t) S2048.size (k2_off4_inb z0 z1 z2 z3 z4 z5 z6 z7 z8 z9 za zb zc zd ze zf zg zh zi zj zk zl zm zn zo zp zq zr zs zt zu zv (BitVec.ofNat 32 o) (BitVec.ofNat 32 l) hw t h3)) (fun _ => rfl) (o + 2048 * t.val) 2048 ho rfl) $$ Ha
  icases Ha with ⟨Ha, Hab⟩
  iapply (wp_cp1 d (c2 i) (t2 i) (n := S2048.size) hpos) $$ Hm [Ha H11 Hs Ho]
  · isplitl [Ha]; · iexact Ha
    isplitl [H11]; · iexact H11
    isplitl [Hs]; · iexact Hs
    iexact Ho
  iintro ⟨Ha, H11, Hs, Ho⟩
  ispecialize Hab $$ Ha
  rw [← hpd]
  let J : ℕ → sProp 𝕄 := fun v => iprop(At1 (F := F) d (c2 i) (t2 i) (e := .i32) arg11 fullShare pw2 ∗ At1 (F := F) d (c2 i) (t2 i) (e := .f32) arg12 fullShare b ∗ At1 (F := F) d (c2 i) (t2 i) (e := .f32) arg6 fullShare (lay lo (uV (F := F) b) f (min (16 * v) N) g1))
  have hstep : ∀ v, 0 ≤ v → v < 0 + 128 → J v ⊢ wpT d (c2 i) (t2 i) (stepW (F := F) i arg6 arg11 arg12 (k2_chk272 z0 z1 z2 z3 z4 z5 z6 z7 z8 z9 za zb zc zd ze zf zg zh zi zj zk zl zm zn zo zp zq zr zs zt zu zv) (k2_chk273 z0 z1 z2 z3 z4 z5 z6 z7 z8 z9 za zb zc zd ze zf zg zh zi zj zk zl zm zn zo zp zq zr zs zt zu zv) (k2_chk272.dec z0 z1 z2 z3 z4 z5 z6 z7 z8 z9 za zb zc zd ze zf zg zh zi zj zk zl zm zn zo zp zq zr zs zt zu zv) (k2_chk273.dec z0 z1 z2 z3 z4 z5 z6 z7 z8 z9 za zb zc zd ze zf zg zh zi zj zk zl zm zn zo zp zq zr zs zt zu zv) (fun d h => k2_idx267_inb z0 z1 z2 z3 z4 z5 z6 z7 z8 z9 za zb zc zd ze zf zg zh zi zj zk zl zm zn zo zp zq zr zs zt zu zv d h h3) (fun d h => k2_idx268_inb z0 z1 z2 z3 z4 z5 z6 z7 z8 z9 za zb zc zd ze zf zg zh zi zj zk zl zm zn zo zp zq zr zs zt zu zv d h h3) (BitVec.ofNat 32 N) (BitVec.ofNat 32 lo) v) fun _ => J (v + 1) := fun v _ hv' =>
    stepW_wp (F := F) d i arg6 arg11 arg12 (k2_chk272 z0 z1 z2 z3 z4 z5 z6 z7 z8 z9 za zb zc zd ze zf zg zh zi zj zk zl zm zn zo zp zq zr zs zt zu zv) (k2_chk273 z0 z1 z2 z3 z4 z5 z6 z7 z8 z9 za zb zc zd ze zf zg zh zi zj zk zl zm zn zo zp zq zr zs zt zu zv) (k2_chk272.dec z0 z1 z2 z3 z4 z5 z6 z7 z8 z9 za zb zc zd ze zf zg zh zi zj zk zl zm zn zo zp zq zr zs zt zu zv) (k2_chk273.dec z0 z1 z2 z3 z4 z5 z6 z7 z8 z9 za zb zc zd ze zf zg zh zi zj zk zl zm zn zo zp zq zr zs zt zu zv) (fun x hx _ => idx1 x hx) (fun x hx _ => idx1 x hx) (fun d h => k2_idx267_inb z0 z1 z2 z3 z4 z5 z6 z7 z8 z9 za zb zc zd ze zf zg zh zi zj zk zl zm zn zo zp zq zr zs zt zu zv d h h3) (fun d h => k2_idx268_inb z0 z1 z2 z3 z4 z5 z6 z7 z8 z9 za zb zc zd ze zf zg zh zi zj zk zl zm zn zo zp zq zr zs zt zu zv d h h3) lo hlo b f pw2 v N g1 (by omega) (by omega) hf
  iapply (wp_rep' d (c2 i) (t2 i) _ J 128 0 hstep) $$ [H11 H] [Hab Hs Ho]
  · isplitl [H11]; · iexact H11
    iexact H
  · iintro ⟨H11, H⟩
    isplitr [H]
    · isplitr; · iexact Hm
      isplitl [Hab]; · iexact Hab
      isplitl [H11]
      · iexists _; iexact H11
      isplitl [Hs]; · iexact Hs
      iexact Ho
    · iexact H

set_option maxHeartbeats 800000 in
theorem winZ_wp (b : ℕ → Elt F .f32) (lo : ℕ) (hlo : lo ≤ 2 ^ 20) (o l : ℕ) (oW lW : BitVec 32) (hoW : oW = BitVec.ofNat 32 o) (hlW : lW = BitVec.ofNat 32 l) (pw : ℕ → BitVec 32) (hl : o + l + 2048 ≤ 1010688) (hv : ∀ k < l, (pw (o + k)).toNat < 2 ^ 31) (g0 : ℕ → Elt F .f32)
    (hw : k2_chk791 z0 z1 z2 z3 z4 z5 z6 z7 z8 z9 za zb zc zd ze zf zg zh zi zj zk zl zm zn zo zp zq zr zs zt zu zv oW lW) (h3 : k2_cond5 z0 z1 z2 z3 z4 z5 z6 z7 z8 z9 za zb zc zd ze zf zg zh zi zj zk zl zm zn zo zp zq zr zs zt zu zv = 1#1) (t : Fin (k2_t14_loop lW).trips) :
    iprop(Rd (F := F) d i arg2 arg11 q O W r7 pw ∗ At1 (F := F) d (c2 i) (t2 i) (e := .f32) arg6 fullShare (lay lo (fun _ => zV (F := F)) (fun k => pw (o + k)) (min (2048 * t.val) l) g0))
      ⊢ wpT d (c2 i) (t2 i) (winZ (F := F) i arg2 arg6 arg11 harg11 r7 z0 z1 z2 z3 z4 z5 z6 z7 z8 z9 za zb zc zd ze zf zg zh zi zj zk zl zm zn zo zp zq zr zs zt zu zv (BitVec.ofNat 32 lo) oW lW hw h3 t) fun _ =>
        iprop(Rd (F := F) d i arg2 arg11 q O W r7 pw ∗ At1 (F := F) d (c2 i) (t2 i) (e := .f32) arg6 fullShare (lay lo (fun _ => zV (F := F)) (fun k => pw (o + k)) (min (2048 * (t.val + 1)) l) g0)) := by
  subst hoW hlW
  have ht := t14_lt l (by omega) t
  have hpos : 0 < (⟨1, S2048.size⟩ : Shape).numel := by decide
  have ho : k2_off7 (BitVec.ofNat 32 o) (BitVec.ofNat 32 l) t 0 = o + 2048 * t.val := off7_at o l t (by omega)
  obtain ⟨N, hN⟩ : ∃ N, N = l - 2048 * t.val := ⟨_, rfl⟩
  have hrem : Scalar.subi (BitVec.ofNat 32 l) (Scalar.muli (Scf.iv 0#32 1#32 t.val) 2048#32) = BitVec.ofNat 32 N := by rw [hN]; exact rem_nat l t.val 2048 (by omega)
  obtain ⟨f, hfd⟩ : ∃ f : ℕ → BitVec 32, f = fun k => pw (o + (2048 * t.val + k)) := ⟨_, rfl⟩
  obtain ⟨pw2, hpd⟩ : ∃ f : ℕ → BitVec 32, f = fun k => pw (o + 2048 * t.val + k) := ⟨_, rfl⟩
  obtain ⟨g1, hg1⟩ : ∃ g1, g1 = lay lo (fun _ => zV (F := F)) (fun k => pw (o + k)) (2048 * t.val) g0 := ⟨_, rfl⟩
  have hf : ∀ k < N, k < 2048 → pw2 k = f k ∧ (f k).toNat < 2 ^ 31 := fun k hk _ => by
    rw [hfd, hpd]
    exact ⟨congrArg pw (by omega), hv _ (by omega)⟩
  have e0 : lay lo (fun _ => zV (F := F)) (fun k => pw (o + k)) (min (2048 * t.val) l) g0 = lay lo (fun _ => zV (F := F)) f (min (16 * 0) N) g1 := by
    rw [show min (16 * 0) N = 0 from by omega, lay_zero, hg1, show min (2048 * t.val) l = 2048 * t.val from by omega]
  have e1 : lay lo (fun _ => zV (F := F)) f (min (16 * (0 + 128)) N) g1 = lay lo (fun _ => zV (F := F)) (fun k => pw (o + k)) (min (2048 * (t.val + 1)) l) g0 := by
    rw [hg1, hfd, ← lay_add lo (fun _ => zV (F := F)) (fun k => pw (o + k)) (2048 * t.val) (min (16 * (0 + 128)) N) g0]
    congr 1; omega
  unfold winZ
  rw [hrem, e0, ← e1]
  unfold Rd At1E
  iintro ⟨⟨#Hm, Ha, ⟨%g11, H11⟩, Hs, Ho⟩, H⟩
  ihave Ha := (At1_lend d (c2 i) (t2 i) (Rect.unit (s := S1010688) (k2_off7 (BitVec.ofNat 32 o) (BitVec.ofNat 32 l) t) S2048.size (k2_off7_inb z0 z1 z2 z3 z4 z5 z6 z7 z8 z9 za zb zc zd ze zf zg zh zi zj zk zl zm zn zo zp zq zr zs zt zu zv (BitVec.ofNat 32 o) (BitVec.ofNat 32 l) hw t h3)) (fun _ => rfl) (o + 2048 * t.val) 2048 ho rfl) $$ Ha
  icases Ha with ⟨Ha, Hab⟩
  iapply (wp_cp1 d (c2 i) (t2 i) (n := S2048.size) hpos) $$ Hm [Ha H11 Hs Ho]
  · isplitl [Ha]; · iexact Ha
    isplitl [H11]; · iexact H11
    isplitl [Hs]; · iexact Hs
    iexact Ho
  iintro ⟨Ha, H11, Hs, Ho⟩
  ispecialize Hab $$ Ha
  rw [← hpd]
  let J : ℕ → sProp 𝕄 := fun v => iprop(At1 (F := F) d (c2 i) (t2 i) (e := .i32) arg11 fullShare pw2 ∗ At1 (F := F) d (c2 i) (t2 i) (e := .f32) arg6 fullShare (lay lo (fun _ => zV (F := F)) f (min (16 * v) N) g1))
  have hstep : ∀ v, 0 ≤ v → v < 0 + 128 → J v ⊢ wpT d (c2 i) (t2 i) (stepX (F := F) i arg6 arg11 (k2_chk792 z0 z1 z2 z3 z4 z5 z6 z7 z8 z9 za zb zc zd ze zf zg zh zi zj zk zl zm zn zo zp zq zr zs zt zu zv) (k2_chk792.dec z0 z1 z2 z3 z4 z5 z6 z7 z8 z9 za zb zc zd ze zf zg zh zi zj zk zl zm zn zo zp zq zr zs zt zu zv) (fun d h => k2_idx785_inb z0 z1 z2 z3 z4 z5 z6 z7 z8 z9 za zb zc zd ze zf zg zh zi zj zk zl zm zn zo zp zq zr zs zt zu zv d h h3) (BitVec.ofNat 32 N) (BitVec.ofNat 32 lo) v) fun _ => J (v + 1) := fun v _ hv' =>
    stepX_wp (F := F) d i arg6 arg11 (k2_chk792 z0 z1 z2 z3 z4 z5 z6 z7 z8 z9 za zb zc zd ze zf zg zh zi zj zk zl zm zn zo zp zq zr zs zt zu zv) (k2_chk792.dec z0 z1 z2 z3 z4 z5 z6 z7 z8 z9 za zb zc zd ze zf zg zh zi zj zk zl zm zn zo zp zq zr zs zt zu zv) (fun x hx _ => idx1 x hx) (fun d h => k2_idx785_inb z0 z1 z2 z3 z4 z5 z6 z7 z8 z9 za zb zc zd ze zf zg zh zi zj zk zl zm zn zo zp zq zr zs zt zu zv d h h3) lo hlo f pw2 v N g1 (by omega) (by omega) hf
  iapply (wp_rep' d (c2 i) (t2 i) _ J 128 0 hstep) $$ [H11 H] [Hab Hs Ho]
  · isplitl [H11]; · iexact H11
    iexact H
  · iintro ⟨H11, H⟩
    isplitr [H]
    · isplitr; · iexact Hm
      isplitl [Hab]; · iexact Hab
      isplitl [H11]
      · iexists _; iexact H11
      isplitl [Hs]; · iexact Hs
      iexact Ho
    · iexact H

end K3

end Cert.Proof.Tile

end
-- ==== Proof.K3c.lean ====
/-
  The passes of the third call over all runs.
-/
module

public import proofs.«01_k».proof.Proof.K3b

@[expose] public section

noncomputable section

namespace Cert.Proof.Tile

open Cert.KernelIdeal Cert.KernelIdeal.Gen Cert.Proof.Roll Cert.Proof.Pure

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (d : Dev nD) (i : grid2.Coords)

section K3

variable (arg2 : Memref sig .scVector .hbm S1010688 .i32)
  (arg6 : Memref sig .scVector .vmem S65536 .f32) (arg8 : Memref sig .scVector .vmem S32 .i32) (arg9 : Memref sig .scVector .vmem S32 .i32)
  (arg10 : Memref sig .scVector .vmem S57344 .i32) (arg11 : Memref sig .scVector .vmem S2048 .i32) (harg11 : arg11.IsWhole)
  (arg12 : Memref sig .scVector .vmem S32 .f32)
  (r0 r1 r2 r4 r6 r7 : DmaSems sig S_)

variable {q : PosShare TreeShare} {O : CellTallies nD τ sig (HIx 3)} {W : Waits sig (HIx 3)}

variable (z0 z1 z2 z3 z4 z5 z6 z7 z8 z9 za zb zc zd ze zf zg zh zi zj zk zl zm zn zo zp zq zr zs zt zu zv : BitVec 32)

/-- The table of the runs: where each starts, and how long it is. -/
def Tab (C O : ℕ → ℕ) : sProp 𝕄 :=
  iprop((∃ s : ℕ → BitVec 32, ⌜∀ w < 32, s w = BitVec.ofNat 32 (O w)⌝ ∗ At1 (F := F) d (c2 i) (t2 i) (e := .i32) arg8 fullShare s)
    ∗ (∃ s : ℕ → BitVec 32, ⌜∀ w < 32, s w = BitVec.ofNat 32 (C w)⌝ ∗ At1 (F := F) d (c2 i) (t2 i) (e := .i32) arg9 fullShare s))

theorem al_nat (o : ℕ) (h : 8 ∣ o) (ho : o < 2 ^ 32) : 8 ∣ (BitVec.ofNat 32 o).toNat := by rw [ofNat_toNat_lt _ ho]; exact h

theorem first_bc (s : ℕ → BitVec 32) (w : ℕ) (hw : w < 32) (o : ℕ) (h : s w = BitVec.ofNat 32 o) :
    first (fun y => s ((broadcast S16 (Scf.iv 0#32 1#32 w) : IVec S16 32) y).toNat) = BitVec.ofNat 32 o := by
  rw [first_eq]
  show s ((broadcast S16 (Scf.iv 0#32 1#32 w) : IVec S16 32) (ln 0)).toNat = _
  rw [bc32 w hw, h]

set_option maxHeartbeats 800000 in
theorem longC_wp (b : ℕ → Elt F .f32) (lo : ℕ) (hlo : lo ≤ 2 ^ 20) (C O' : ℕ → ℕ) (pw : ℕ → BitVec 32) (hR : Runs C O' pw) (htot : tot3 z0 z1 z2 z3 z4 z5 z6 z7 z8 z9 za zb zc zd ze zf zg zh zi zj zk zl zm zn zo zp zq zr zs zt zu zv = BitVec.ofNat 32 (psum C 32)) (g0 : ℕ → Elt F .f32) :
    iprop(Rd (F := F) d i arg2 arg11 q O W r4 pw ∗ Tab (F := F) d i arg8 arg9 C O' ∗ At1 (F := F) d (c2 i) (t2 i) (e := .f32) arg12 fullShare b ∗ At1 (F := F) d (c2 i) (t2 i) (e := .f32) arg6 fullShare g0)
      ⊢ wpT d (c2 i) (t2 i) (longC (F := F) i arg2 arg6 arg8 arg9 arg11 harg11 arg12 r4 z0 z1 z2 z3 z4 z5 z6 z7 z8 z9 za zb zc zd ze zf zg zh zi zj zk zl zm zn zo zp zq zr zs zt zu zv (BitVec.ofNat 32 lo)) fun _ =>
        iprop(Rd (F := F) d i arg2 arg11 q O W r4 pw ∗ Tab (F := F) d i arg8 arg9 C O' ∗ At1 (F := F) d (c2 i) (t2 i) (e := .f32) arg12 fullShare b ∗ At1 (F := F) d (c2 i) (t2 i) (e := .f32) arg6 fullShare (if psum C 32 ≤ 57344 then g0 else app lo (uV (F := F) b) (runs C O' pw 32) g0)) := by
  have hc := cond3_eq z0 z1 z2 z3 z4 z5 z6 z7 z8 z9 za zb zc zd ze zf zg zh zi zj zk zl zm zn zo zp zq zr zs zt zu zv (psum C 32) hR.tot htot
  unfold longC
  by_cases hn : psum C 32 ≤ 57344
  · rw [dif_neg (by rw [hc, if_pos hn]; decide), if_pos hn]
    exact wp_ret (F := F) d (c2 i) (t2 i) _
  · have h3 : k2_cond3 z0 z1 z2 z3 z4 z5 z6 z7 z8 z9 za zb zc zd ze zf zg zh zi zj zk zl zm zn zo zp zq zr zs zt zu zv = 1#1 := by rw [hc, if_neg hn]
    rw [dif_pos h3, if_neg hn]
    let I : ℕ → sProp 𝕄 := fun w => iprop(Rd (F := F) d i arg2 arg11 q O W r4 pw ∗ Tab (F := F) d i arg8 arg9 C O' ∗ At1 (F := F) d (c2 i) (t2 i) (e := .f32) arg12 fullShare b ∗ At1 (F := F) d (c2 i) (t2 i) (e := .f32) arg6 fullShare (app lo (uV (F := F) b) (runs C O' pw w) g0))
    iintro H
    iapply (wp_loop d (c2 i) (t2 i) k2_t8_loop k2_t8_ok _ I 32 t8_trips ?_) $$ [H]
    · intro t ht
      have hl := hR.lt t.val ht
      have hroom := hR.room t.val ht
      have hw1 : k2_chk268 z0 z1 z2 z3 z4 z5 z6 z7 z8 z9 za zb zc zd ze zf zg zh zi zj zk zl zm zn zo zp zq zr zs zt zu zv (broadcast S16 (Scf.iv 0#32 1#32 t.val)) := fun _ => idx1 _ fun y => (bc32 t.val ht y).trans_lt ht
      have hw3 : k2_chk270 z0 z1 z2 z3 z4 z5 z6 z7 z8 z9 za zb zc zd ze zf zg zh zi zj zk zl zm zn zo zp zq zr zs zt zu zv (broadcast S16 (Scf.iv 0#32 1#32 t.val)) := fun _ => idx1 _ fun y => (bc32 t.val ht y).trans_lt ht
      have hw2 : k2_chk269 z0 z1 z2 z3 z4 z5 z6 z7 z8 z9 za zb zc zd ze zf zg zh zi zj zk zl zm zn zo zp zq zr zs zt zu zv (BitVec.ofNat 32 (O' t.val)) := fun _ => al_nat _ (hR.al t.val ht) (by omega)
      have hw4 : k2_chk271 z0 z1 z2 z3 z4 z5 z6 z7 z8 z9 za zb zc zd ze zf zg zh zi zj zk zl zm zn zo zp zq zr zs zt zu zv (BitVec.ofNat 32 (O' t.val)) (BitVec.ofNat 32 (C t.val)) := chk271_of z0 z1 z2 z3 z4 z5 z6 z7 z8 z9 za zb zc zd ze zf zg zh zi zj zk zl zm zn zo zp zq zr zs zt zu zv (O' t.val) (C t.val) hl (by omega)
      show iprop(Rd (F := F) d i arg2 arg11 q O W r4 pw ∗ Tab (F := F) d i arg8 arg9 C O' ∗ At1 (F := F) d (c2 i) (t2 i) (e := .f32) arg12 fullShare b ∗ At1 (F := F) d (c2 i) (t2 i) (e := .f32) arg6 fullShare (app lo (uV (F := F) b) (runs C O' pw t.val) g0)) ⊢ _
      unfold Tab
      iintro ⟨HR, ⟨⟨%s8, %h8, H8⟩, ⟨%s9, %h9, H9⟩⟩, H⟩
      have e8 := first_bc s8 t.val ht _ (h8 _ ht)
      have e9 := first_bc s9 t.val ht _ (h9 _ ht)
      iapply (wp_asm d (c2 i) (t2 i) hw1)
      iapply (wp_ldx1 d (c2 i) (t2 i)) $$ H8
      iintro H8
      have hw2 : k2_chk269 z0 z1 z2 z3 z4 z5 z6 z7 z8 z9 za zb zc zd ze zf zg zh zi zj zk zl zm zn zo zp zq zr zs zt zu zv (first (fun y => s8 ((broadcast S16 (Scf.iv 0#32 1#32 t.val) : IVec S16 32) y).toNat)) := by rw [e8]; exact hw2
      iapply (wp_asm d (c2 i) (t2 i) hw2)
      iapply (wp_asm d (c2 i) (t2 i) hw3)
      iapply (wp_ldx1 d (c2 i) (t2 i)) $$ H9
      iintro H9
      obtain ⟨oW, hoW⟩ : ∃ oW, oW = first (fun y => s8 ((broadcast S16 (Scf.iv 0#32 1#32 t.val) : IVec S16 32) y).toNat) := ⟨_, rfl⟩
      obtain ⟨lW, hlW⟩ : ∃ lW, lW = first (fun y => s9 ((broadcast S16 (Scf.iv 0#32 1#32 t.val) : IVec S16 32) y).toNat) := ⟨_, rfl⟩
      rw [← hoW] at e8
      rw [← hlW] at e9
      have hw4 : k2_chk271 z0 z1 z2 z3 z4 z5 z6 z7 z8 z9 za zb zc zd ze zf zg zh zi zj zk zl zm zn zo zp zq zr zs zt zu zv oW lW := by rw [e8, e9]; exact hw4
      subst hoW hlW
      iapply (wp_asm d (c2 i) (t2 i) hw4)
      obtain ⟨I2, hI2⟩ : ∃ I2 : ℕ → sProp 𝕄, I2 = fun w => iprop(Rd (F := F) d i arg2 arg11 q O W r4 pw ∗ At1 (F := F) d (c2 i) (t2 i) (e := .f32) arg12 fullShare b ∗ At1 (F := F) d (c2 i) (t2 i) (e := .f32) arg6 fullShare (lay lo (uV (F := F) b) (fun k => pw (O' t.val + k)) (min (2048 * w) (C t.val)) (app lo (uV (F := F) b) (runs C O' pw t.val) g0))) := ⟨_, rfl⟩
      have e0 : lay lo (uV (F := F) b) (fun k => pw (O' t.val + k)) (min (2048 * 0) (C t.val)) (app lo (uV (F := F) b) (runs C O' pw t.val) g0) = app lo (uV (F := F) b) (runs C O' pw t.val) g0 := by
        rw [show min (2048 * 0) (C t.val) = 0 from by omega, lay_zero]
      have e1 : lay lo (uV (F := F) b) (fun k => pw (O' t.val + k)) (min (2048 * nwin (C t.val)) (C t.val)) (app lo (uV (F := F) b) (runs C O' pw t.val) g0) = app lo (uV (F := F) b) (runs C O' pw (t.val + 1)) g0 := by
        rw [show min (2048 * nwin (C t.val)) (C t.val) = C t.val from by unfold nwin; omega, lay_runs]
      have hI0 : iprop(Rd (F := F) d i arg2 arg11 q O W r4 pw ∗ At1 (F := F) d (c2 i) (t2 i) (e := .f32) arg12 fullShare b ∗ At1 (F := F) d (c2 i) (t2 i) (e := .f32) arg6 fullShare (app lo (uV (F := F) b) (runs C O' pw t.val) g0)) ⊢ I2 0 := by
        rw [congrFun hI2 0]
        rw [e0]
      have hI1 : I2 (nwin (C t.val)) ⊢ iprop(Rd (F := F) d i arg2 arg11 q O W r4 pw ∗ At1 (F := F) d (c2 i) (t2 i) (e := .f32) arg12 fullShare b ∗ At1 (F := F) d (c2 i) (t2 i) (e := .f32) arg6 fullShare (app lo (uV (F := F) b) (runs C O' pw (t.val + 1)) g0)) := by
        rw [congrFun hI2 (nwin (C t.val))]
        rw [e1]
      have hb : ∀ t2' : Fin (k2_t9_loop (first (fun y => s9 ((broadcast S16 (Scf.iv 0#32 1#32 t.val) : IVec S16 32) y).toNat))).trips, t2'.val < nwin (C t.val) → I2 t2'.val ⊢ wpT d (c2 i) (t2 i) (winC (F := F) i arg2 arg6 arg11 harg11 arg12 r4 z0 z1 z2 z3 z4 z5 z6 z7 z8 z9 za zb zc zd ze zf zg zh zi zj zk zl zm zn zo zp zq zr zs zt zu zv (BitVec.ofNat 32 lo) (first (fun y => s8 ((broadcast S16 (Scf.iv 0#32 1#32 t.val) : IVec S16 32) y).toNat)) (first (fun y => s9 ((broadcast S16 (Scf.iv 0#32 1#32 t.val) : IVec S16 32) y).toNat)) hw4 h3 t2') fun _ => I2 (t2'.val + 1) := by
        intro t2' _
        have h := winC_wp (F := F) d i arg2 arg6 arg11 harg11 arg12 r4 (q := q) (O := O) (W := W) z0 z1 z2 z3 z4 z5 z6 z7 z8 z9 za zb zc zd ze zf zg zh zi zj zk zl zm zn zo zp zq zr zs zt zu zv b lo hlo (O' t.val) (C t.val) _ _ e8 e9 pw hroom (hR.valid t.val ht) (app lo (uV (F := F) b) (runs C O' pw t.val) g0) hw4 h3 t2'
        rw [congrFun hI2 t2'.val, congrFun hI2 (t2'.val + 1)]
        exact h
      have hz : (k2_t9_loop (first (fun y => s9 ((broadcast S16 (Scf.iv 0#32 1#32 t.val) : IVec S16 32) y).toNat))).trips = nwin (C t.val) := (congrArg (fun w => (k2_t9_loop w).trips) e9).trans <| (congrArg Scf.Loop.trips (t9_loop_eq (C t.val) hl)).trans (trips01 _ (nwin_lt _ hl))
      iapply (wp_loop d (c2 i) (t2 i) _ _ _ I2 (nwin (C t.val)) hz hb) $$ [HR H]
      · iapply hI0
        isplitl [HR]; · iexact HR
        iexact H
      · iintro H
        ihave H := hI1 $$ H
        icases H with ⟨HR, H⟩
        iapply (wp_ret (F := F) d (c2 i) (t2 i))
        isplitl [HR]; · iexact HR
        isplitl [H8 H9]
        · unfold Tab
          isplitl [H8]
          · iexists s8; isplitr
            · ipureintro; exact h8
            · iexact H8
          · iexists s9; isplitr
            · ipureintro; exact h9
            · iexact H9
        iexact H
    · iexact H
    · iintro H
      iapply (wp_ret (F := F) d (c2 i) (t2 i))
      iexact H

set_option maxHeartbeats 800000 in
theorem longZ_wp (b : ℕ → Elt F .f32) (lo : ℕ) (hlo : lo ≤ 2 ^ 20) (C O' : ℕ → ℕ) (pw : ℕ → BitVec 32) (hR : Runs C O' pw) (htot : tot3 z0 z1 z2 z3 z4 z5 z6 z7 z8 z9 za zb zc zd ze zf zg zh zi zj zk zl zm zn zo zp zq zr zs zt zu zv = BitVec.ofNat 32 (psum C 32)) (g0 : ℕ → Elt F .f32) :
    iprop(Rd (F := F) d i arg2 arg11 q O W r7 pw ∗ Tab (F := F) d i arg8 arg9 C O' ∗ At1 (F := F) d (c2 i) (t2 i) (e := .f32) arg6 fullShare g0)
      ⊢ wpT d (c2 i) (t2 i) (longZ (F := F) i arg2 arg6 arg8 arg9 arg11 harg11 r7 z0 z1 z2 z3 z4 z5 z6 z7 z8 z9 za zb zc zd ze zf zg zh zi zj zk zl zm zn zo zp zq zr zs zt zu zv (BitVec.ofNat 32 lo)) fun _ =>
        iprop(Rd (F := F) d i arg2 arg11 q O W r7 pw ∗ Tab (F := F) d i arg8 arg9 C O' ∗ At1 (F := F) d (c2 i) (t2 i) (e := .f32) arg6 fullShare (if psum C 32 ≤ 57344 then g0 else app lo (fun _ => zV (F := F)) (runs C O' pw 32) g0)) := by
  have hc := cond5_eq z0 z1 z2 z3 z4 z5 z6 z7 z8 z9 za zb zc zd ze zf zg zh zi zj zk zl zm zn zo zp zq zr zs zt zu zv (psum C 32) hR.tot htot
  unfold longZ
  by_cases hn : psum C 32 ≤ 57344
  · rw [dif_neg (by rw [hc, if_pos hn]; decide), if_pos hn]
    exact wp_ret (F := F) d (c2 i) (t2 i) _
  · have h3 : k2_cond5 z0 z1 z2 z3 z4 z5 z6 z7 z8 z9 za zb zc zd ze zf zg zh zi zj zk zl zm zn zo zp zq zr zs zt zu zv = 1#1 := by rw [hc, if_neg hn]
    rw [dif_pos h3, if_neg hn]
    let I : ℕ → sProp 𝕄 := fun w => iprop(Rd (F := F) d i arg2 arg11 q O W r7 pw ∗ Tab (F := F) d i arg8 arg9 C O' ∗ At1 (F := F) d (c2 i) (t2 i) (e := .f32) arg6 fullShare (app lo (fun _ => zV (F := F)) (runs C O' pw w) g0))
    iintro H
    iapply (wp_loop d (c2 i) (t2 i) k2_t13_loop k2_t13_ok _ I 32 t13_trips ?_) $$ [H]
    · intro t ht
      have hl := hR.lt t.val ht
      have hroom := hR.room t.val ht
      have hw1 : k2_chk788 z0 z1 z2 z3 z4 z5 z6 z7 z8 z9 za zb zc zd ze zf zg zh zi zj zk zl zm zn zo zp zq zr zs zt zu zv (broadcast S16 (Scf.iv 0#32 1#32 t.val)) := fun _ => idx1 _ fun y => (bc32 t.val ht y).trans_lt ht
      have hw3 : k2_chk790 z0 z1 z2 z3 z4 z5 z6 z7 z8 z9 za zb zc zd ze zf zg zh zi zj zk zl zm zn zo zp zq zr zs zt zu zv (broadcast S16 (Scf.iv 0#32 1#32 t.val)) := fun _ => idx1 _ fun y => (bc32 t.val ht y).trans_lt ht
      have hw2 : k2_chk789 z0 z1 z2 z3 z4 z5 z6 z7 z8 z9 za zb zc zd ze zf zg zh zi zj zk zl zm zn zo zp zq zr zs zt zu zv (BitVec.ofNat 32 (O' t.val)) := fun _ => al_nat _ (hR.al t.val ht) (by omega)
      have hw4 : k2_chk791 z0 z1 z2 z3 z4 z5 z6 z7 z8 z9 za zb zc zd ze zf zg zh zi zj zk zl zm zn zo zp zq zr zs zt zu zv (BitVec.ofNat 32 (O' t.val)) (BitVec.ofNat 32 (C t.val)) := chk791_of z0 z1 z2 z3 z4 z5 z6 z7 z8 z9 za zb zc zd ze zf zg zh zi zj zk zl zm zn zo zp zq zr zs zt zu zv (O' t.val) (C t.val) hl (by omega)
      show iprop(Rd (F := F) d i arg2 arg11 q O W r7 pw ∗ Tab (F := F) d i arg8 arg9 C O' ∗ At1 (F := F) d (c2 i) (t2 i) (e := .f32) arg6 fullShare (app lo (fun _ => zV (F := F)) (runs C O' pw t.val) g0)) ⊢ _
      unfold Tab
      iintro ⟨HR, ⟨⟨%s8, %h8, H8⟩, ⟨%s9, %h9, H9⟩⟩, H⟩
      have e8 := first_bc s8 t.val ht _ (h8 _ ht)
      have e9 := first_bc s9 t.val ht _ (h9 _ ht)
      iapply (wp_asm d (c2 i) (t2 i) hw1)
      iapply (wp_ldx1 d (c2 i) (t2 i)) $$ H8
      iintro H8
      have hw2 : k2_chk789 z0 z1 z2 z3 z4 z5 z6 z7 z8 z9 za zb zc zd ze zf zg zh zi zj zk zl zm zn zo zp zq zr zs zt zu zv (first (fun y => s8 ((broadcast S16 (Scf.iv 0#32 1#32 t.val) : IVec S16 32) y).toNat)) := by rw [e8]; exact hw2
      iapply (wp_asm d (c2 i) (t2 i) hw2)
      iapply (wp_asm d (c2 i) (t2 i) hw3)
      iapply (wp_ldx1 d (c2 i) (t2 i)) $$ H9
      iintro H9
      obtain ⟨oW, hoW⟩ : ∃ oW, oW = first (fun y => s8 ((broadcast S16 (Scf.iv 0#32 1#32 t.val) : IVec S16 32) y).toNat) := ⟨_, rfl⟩
      obtain ⟨lW, hlW⟩ : ∃ lW, lW = first (fun y => s9 ((broadcast S16 (Scf.iv 0#32 1#32 t.val) : IVec S16 32) y).toNat) := ⟨_, rfl⟩
      rw [← hoW] at e8
      rw [← hlW] at e9
      have hw4 : k2_chk791 z0 z1 z2 z3 z4 z5 z6 z7 z8 z9 za zb zc zd ze zf zg zh zi zj zk zl zm zn zo zp zq zr zs zt zu zv oW lW := by rw [e8, e9]; exact hw4
      subst hoW hlW
      iapply (wp_asm d (c2 i) (t2 i) hw4)
      obtain ⟨I2, hI2⟩ : ∃ I2 : ℕ → sProp 𝕄, I2 = fun w => iprop(Rd (F := F) d i arg2 arg11 q O W r7 pw ∗ At1 (F := F) d (c2 i) (t2 i) (e := .f32) arg6 fullShare (lay lo (fun _ => zV (F := F)) (fun k => pw (O' t.val + k)) (min (2048 * w) (C t.val)) (app lo (fun _ => zV (F := F)) (runs C O' pw t.val) g0))) := ⟨_, rfl⟩
      have e0 : lay lo (fun _ => zV (F := F)) (fun k => pw (O' t.val + k)) (min (2048 * 0) (C t.val)) (app lo (fun _ => zV (F := F)) (runs C O' pw t.val) g0) = app lo (fun _ => zV (F := F)) (runs C O' pw t.val) g0 := by
        rw [show min (2048 * 0) (C t.val) = 0 from by omega, lay_zero]
      have e1 : lay lo (fun _ => zV (F := F)) (fun k => pw (O' t.val + k)) (min (2048 * nwin (C t.val)) (C t.val)) (app lo (fun _ => zV (F := F)) (runs C O' pw t.val) g0) = app lo (fun _ => zV (F := F)) (runs C O' pw (t.val + 1)) g0 := by
        rw [show min (2048 * nwin (C t.val)) (C t.val) = C t.val from by unfold nwin; omega, lay_runs]
      have hI0 : iprop(Rd (F := F) d i arg2 arg11 q O W r7 pw ∗ At1 (F := F) d (c2 i) (t2 i) (e := .f32) arg6 fullShare (app lo (fun _ => zV (F := F)) (runs C O' pw t.val) g0)) ⊢ I2 0 := by
        rw [congrFun hI2 0]
        rw [e0]
      have hI1 : I2 (nwin (C t.val)) ⊢ iprop(Rd (F := F) d i arg2 arg11 q O W r7 pw ∗ At1 (F := F) d (c2 i) (t2 i) (e := .f32) arg6 fullShare (app lo (fun _ => zV (F := F)) (runs C O' pw (t.val + 1)) g0)) := by
        rw [congrFun hI2 (nwin (C t.val))]
        rw [e1]
      have hb : ∀ t2' : Fin (k2_t14_loop (first (fun y => s9 ((broadcast S16 (Scf.iv 0#32 1#32 t.val) : IVec S16 32) y).toNat))).trips, t2'.val < nwin (C t.val) → I2 t2'.val ⊢ wpT d (c2 i) (t2 i) (winZ (F := F) i arg2 arg6 arg11 harg11 r7 z0 z1 z2 z3 z4 z5 z6 z7 z8 z9 za zb zc zd ze zf zg zh zi zj zk zl zm zn zo zp zq zr zs zt zu zv (BitVec.ofNat 32 lo) (first (fun y => s8 ((broadcast S16 (Scf.iv 0#32 1#32 t.val) : IVec S16 32) y).toNat)) (first (fun y => s9 ((broadcast S16 (Scf.iv 0#32 1#32 t.val) : IVec S16 32) y).toNat)) hw4 h3 t2') fun _ => I2 (t2'.val + 1) := by
        intro t2' _
        have h := winZ_wp (F := F) d i arg2 arg6 arg11 harg11 r7 (q := q) (O := O) (W := W) z0 z1 z2 z3 z4 z5 z6 z7 z8 z9 za zb zc zd ze zf zg zh zi zj zk zl zm zn zo zp zq zr zs zt zu zv b lo hlo (O' t.val) (C t.val) _ _ e8 e9 pw hroom (hR.valid t.val ht) (app lo (fun _ => zV (F := F)) (runs C O' pw t.val) g0) hw4 h3 t2'
        rw [congrFun hI2 t2'.val, congrFun hI2 (t2'.val + 1)]
        exact h
      have hz : (k2_t14_loop (first (fun y => s9 ((broadcast S16 (Scf.iv 0#32 1#32 t.val) : IVec S16 32) y).toNat))).trips = nwin (C t.val) := (congrArg (fun w => (k2_t14_loop w).trips) e9).trans <| (congrArg Scf.Loop.trips (t14_loop_eq (C t.val) hl)).trans (trips01 _ (nwin_lt _ hl))
      iapply (wp_loop d (c2 i) (t2 i) _ _ _ I2 (nwin (C t.val)) hz hb) $$ [HR H]
      · iapply hI0
        isplitl [HR]; · iexact HR
        iexact H
      · iintro H
        ihave H := hI1 $$ H
        icases H with ⟨HR, H⟩
        iapply (wp_ret (F := F) d (c2 i) (t2 i))
        isplitl [HR]; · iexact HR
        isplitl [H8 H9]
        · unfold Tab
          isplitl [H8]
          · iexists s8; isplitr
            · ipureintro; exact h8
            · iexact H8
          · iexists s9; isplitr
            · ipureintro; exact h9
            · iexact H9
        iexact H
    · iexact H
    · iintro H
      iapply (wp_ret (F := F) d (c2 i) (t2 i))
      iexact H

end K3

end Cert.Proof.Tile

end
-- ==== Proof.K3d.lean ====
/-
  Runs staged in the third call, and laid into a chunk from there.
-/
module

public import proofs.«01_k».proof.Proof.K3c

@[expose] public section

noncomputable section

namespace Cert.Proof.Tile

open Cert.KernelIdeal Cert.KernelIdeal.Gen Cert.Proof.Roll Cert.Proof.Pure

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (d : Dev nD) (i : grid2.Coords)

section K3

variable (arg2 : Memref sig .scVector .hbm S1010688 .i32)
  (arg6 : Memref sig .scVector .vmem S65536 .f32) (arg8 : Memref sig .scVector .vmem S32 .i32) (arg9 : Memref sig .scVector .vmem S32 .i32)
  (arg10 : Memref sig .scVector .vmem S57344 .i32) (arg11 : Memref sig .scVector .vmem S2048 .i32) (harg11 : arg11.IsWhole)
  (arg12 : Memref sig .scVector .vmem S32 .f32)
  (r0 r1 r2 r4 r6 r7 : DmaSems sig S_)

variable {q : PosShare TreeShare} {O : CellTallies nD τ sig (HIx 3)} {W : Waits sig (HIx 3)}

variable (z0 z1 z2 z3 z4 z5 z6 z7 z8 z9 za zb zc zd ze zf zg zh zi zj zk zl zm zn zo zp zq zr zs zt zu zv : BitVec 32)

set_option maxHeartbeats 800000 in
theorem win3_wp (B o l : ℕ) (oW lW aW : BitVec 32) (hoW : oW = BitVec.ofNat 32 o) (hlW : lW = BitVec.ofNat 32 l) (pw T : ℕ → BitVec 32) (hl : o + l + 2048 ≤ 1010688) (hB : B + l ≤ 57344) (hT : ∀ k < l, T (B + k) = pw (o + k))
    (hw : k2_chk4 z0 z1 z2 z3 z4 z5 z6 z7 z8 z9 za zb zc zd ze zf zg zh zi zj zk zl zm zn zo zp zq zr zs zt zu zv oW lW) (h1 : k2_cond1 z0 z1 z2 z3 z4 z5 z6 z7 z8 z9 za zb zc zd ze zf zg zh zi zj zk zl zm zn zo zp zq zr zs zt zu zv = 1#1) (t : Fin (k2_t2_loop lW).trips) :
    iprop(⌜aW = BitVec.ofNat 32 (B + min (2048 * t.val) l)⌝ ∗ Rd (F := F) d i arg2 arg11 q O W r2 pw ∗ (∃ s : ℕ → BitVec 32, ⌜∀ k < B + min (2048 * t.val) l, s k = T k⌝ ∗ At1 (F := F) d (c2 i) (t2 i) (e := .i32) arg10 fullShare s))
      ⊢ wpT d (c2 i) (t2 i) (win3 (F := F) i arg2 arg10 arg11 harg11 r2 z0 z1 z2 z3 z4 z5 z6 z7 z8 z9 za zb zc zd ze zf zg zh zi zj zk zl zm zn zo zp zq zr zs zt zu zv oW lW hw h1 t aW) fun aW' =>
        iprop(⌜aW' = BitVec.ofNat 32 (B + min (2048 * (t.val + 1)) l)⌝ ∗ Rd (F := F) d i arg2 arg11 q O W r2 pw ∗ (∃ s : ℕ → BitVec 32, ⌜∀ k < B + min (2048 * (t.val + 1)) l, s k = T k⌝ ∗ At1 (F := F) d (c2 i) (t2 i) (e := .i32) arg10 fullShare s)) := by
  subst hoW hlW
  have ht := t2_lt l (by omega) t
  have hpos : 0 < (⟨1, S2048.size⟩ : Shape).numel := by decide
  have ho : k2_off1 (BitVec.ofNat 32 o) (BitVec.ofNat 32 l) t 0 = o + 2048 * t.val := off1_at o l t (by omega)
  obtain ⟨N, hN⟩ : ∃ N, N = l - 2048 * t.val := ⟨_, rfl⟩
  have hrem : Scalar.subi (BitVec.ofNat 32 l) (Scalar.muli (Scf.iv 0#32 1#32 t.val) 2048#32) = BitVec.ofNat 32 N := by rw [hN]; exact rem_nat l t.val 2048 (by omega)
  obtain ⟨pw2, hpd⟩ : ∃ f : ℕ → BitVec 32, f = fun k => pw (o + 2048 * t.val + k) := ⟨_, rfl⟩
  obtain ⟨b, hb⟩ : ∃ b, b = B + 2048 * t.val := ⟨_, rfl⟩
  have hf : ∀ k < N, k < 2048 → pw2 k = T (b + k) := fun k hk _ => by
    rw [hpd, hb, show B + 2048 * t.val + k = B + (2048 * t.val + k) from by omega, hT _ (by omega)]
    exact congrArg pw (by omega)
  have e0 : B + min (2048 * t.val) l = b + min (16 * 0) N := by omega
  have e1 : B + min (2048 * (t.val + 1)) l = b + min (16 * (0 + 128)) N := by omega
  unfold win3
  rw [hrem, e0, e1]
  unfold Rd At1E
  iintro ⟨%ha, ⟨#Hm, Ha, ⟨%g11, H11⟩, Hs, Ho⟩, H⟩
  have ha : aW = BitVec.ofNat 32 b := by rw [ha, show b + min (16 * 0) N = b from by omega]
  subst ha
  ihave Ha := (At1_lend d (c2 i) (t2 i) (Rect.unit (s := S1010688) (k2_off1 (BitVec.ofNat 32 o) (BitVec.ofNat 32 l) t) S2048.size (k2_off1_inb z0 z1 z2 z3 z4 z5 z6 z7 z8 z9 za zb zc zd ze zf zg zh zi zj zk zl zm zn zo zp zq zr zs zt zu zv (BitVec.ofNat 32 o) (BitVec.ofNat 32 l) hw t h1)) (fun _ => rfl) (o + 2048 * t.val) 2048 ho rfl) $$ Ha
  icases Ha with ⟨Ha, Hab⟩
  iapply (wp_cp1 d (c2 i) (t2 i) (n := S2048.size) hpos) $$ Hm [Ha H11 Hs Ho]
  · isplitl [Ha]; · iexact Ha
    isplitl [H11]; · iexact H11
    isplitl [Hs]; · iexact Hs
    iexact Ho
  iintro ⟨Ha, H11, Hs, Ho⟩
  ispecialize Hab $$ Ha
  rw [← hpd]
  let J : ℕ → sProp 𝕄 := fun v => iprop(At1 (F := F) d (c2 i) (t2 i) (e := .i32) arg11 fullShare pw2 ∗ (∃ s : ℕ → BitVec 32, ⌜∀ k < b + min (16 * v) N, s k = T k⌝ ∗ At1 (F := F) d (c2 i) (t2 i) (e := .i32) arg10 fullShare s))
  have hstep : ∀ v, 0 ≤ v → v < 0 + 128 → J v ⊢ wpT d (c2 i) (t2 i) (stepS (F := F) i arg10 arg11 (k2_chk5 z0 z1 z2 z3 z4 z5 z6 z7 z8 z9 za zb zc zd ze zf zg zh zi zj zk zl zm zn zo zp zq zr zs zt zu zv) (k2_chk5.dec z0 z1 z2 z3 z4 z5 z6 z7 z8 z9 za zb zc zd ze zf zg zh zi zj zk zl zm zn zo zp zq zr zs zt zu zv) (fun d h => k2_idx3_inb z0 z1 z2 z3 z4 z5 z6 z7 z8 z9 za zb zc zd ze zf zg zh zi zj zk zl zm zn zo zp zq zr zs zt zu zv d h h1) (BitVec.ofNat 32 b) (BitVec.ofNat 32 N) v) fun _ => J (v + 1) := fun v _ hv' =>
    stepS_wp (F := F) d i arg10 arg11 (k2_chk5 z0 z1 z2 z3 z4 z5 z6 z7 z8 z9 za zb zc zd ze zf zg zh zi zj zk zl zm zn zo zp zq zr zs zt zu zv) (k2_chk5.dec z0 z1 z2 z3 z4 z5 z6 z7 z8 z9 za zb zc zd ze zf zg zh zi zj zk zl zm zn zo zp zq zr zs zt zu zv) (fun x hx _ => idx1 x hx) (fun d h => k2_idx3_inb z0 z1 z2 z3 z4 z5 z6 z7 z8 z9 za zb zc zd ze zf zg zh zi zj zk zl zm zn zo zp zq zr zs zt zu zv d h h1) T pw2 b v N (by omega) (by omega) (by omega) hf
  iapply (wp_rep_bind (F := F) d (c2 i) (t2 i) _ J 128 0 hstep) $$ [H11 H] [Hab Hs Ho]
  · isplitl [H11]; · iexact H11
    iexact H
  · iintro ⟨H11, H⟩
    iapply (wp_ret (F := F) d (c2 i) (t2 i))
    isplitr
    · ipureintro
      rw [min_nat N (by omega)]
      show BitVec.ofNat 32 b + BitVec.ofNat 32 (min N 2048) = _
      rw [← BitVec.ofNat_add]
      congr 1; omega
    isplitr [H]
    · isplitr; · iexact Hm
      isplitl [Hab]; · iexact Hab
      isplitl [H11]
      · iexists _; iexact H11
      isplitl [Hs]; · iexact Hs
      iexact Ho
    · iexact H

set_option maxHeartbeats 800000 in
theorem run3_wp (C O' : ℕ → ℕ) (pw : ℕ → BitVec 32) (hR : Runs C O' pw) (hn : psum C 32 ≤ 57344) (h1 : k2_cond1 z0 z1 z2 z3 z4 z5 z6 z7 z8 z9 za zb zc zd ze zf zg zh zi zj zk zl zm zn zo zp zq zr zs zt zu zv = 1#1) (t : Fin k2_t1_loop.trips) (ht : t.val < 32) (aW : BitVec 32) :
    iprop(⌜aW = BitVec.ofNat 32 (psum C t.val)⌝ ∗ Rd (F := F) d i arg2 arg11 q O W r2 pw ∗ Tab (F := F) d i arg8 arg9 C O' ∗ (∃ s : ℕ → BitVec 32, ⌜∀ k < psum C t.val, s k = wordAt C O' pw k⌝ ∗ At1 (F := F) d (c2 i) (t2 i) (e := .i32) arg10 fullShare s))
      ⊢ wpT d (c2 i) (t2 i) (run3 (F := F) i arg2 arg8 arg9 arg10 arg11 harg11 r2 z0 z1 z2 z3 z4 z5 z6 z7 z8 z9 za zb zc zd ze zf zg zh zi zj zk zl zm zn zo zp zq zr zs zt zu zv h1 t aW) fun aW' =>
        iprop(⌜aW' = BitVec.ofNat 32 (psum C (t.val + 1))⌝ ∗ Rd (F := F) d i arg2 arg11 q O W r2 pw ∗ Tab (F := F) d i arg8 arg9 C O' ∗ (∃ s : ℕ → BitVec 32, ⌜∀ k < psum C (t.val + 1), s k = wordAt C O' pw k⌝ ∗ At1 (F := F) d (c2 i) (t2 i) (e := .i32) arg10 fullShare s)) := by
  have hl := hR.lt t.val ht
  have hroom := hR.room t.val ht
  have hle := psum_le_tot C t.val ht
  have hw1 : k2_chk1 z0 z1 z2 z3 z4 z5 z6 z7 z8 z9 za zb zc zd ze zf zg zh zi zj zk zl zm zn zo zp zq zr zs zt zu zv (broadcast S16 (Scf.iv 0#32 1#32 t.val)) := fun _ => idx1 _ fun y => (bc32 t.val ht y).trans_lt ht
  have hw3 : k2_chk3 z0 z1 z2 z3 z4 z5 z6 z7 z8 z9 za zb zc zd ze zf zg zh zi zj zk zl zm zn zo zp zq zr zs zt zu zv (broadcast S16 (Scf.iv 0#32 1#32 t.val)) := fun _ => idx1 _ fun y => (bc32 t.val ht y).trans_lt ht
  have hw2 : k2_chk2 z0 z1 z2 z3 z4 z5 z6 z7 z8 z9 za zb zc zd ze zf zg zh zi zj zk zl zm zn zo zp zq zr zs zt zu zv (BitVec.ofNat 32 (O' t.val)) := fun _ => al_nat _ (hR.al t.val ht) (by omega)
  have hw4 : k2_chk4 z0 z1 z2 z3 z4 z5 z6 z7 z8 z9 za zb zc zd ze zf zg zh zi zj zk zl zm zn zo zp zq zr zs zt zu zv (BitVec.ofNat 32 (O' t.val)) (BitVec.ofNat 32 (C t.val)) := chk4_of z0 z1 z2 z3 z4 z5 z6 z7 z8 z9 za zb zc zd ze zf zg zh zi zj zk zl zm zn zo zp zq zr zs zt zu zv (O' t.val) (C t.val) hl (by omega)
  unfold run3 Tab
  iintro ⟨%ha, HR, ⟨⟨%s8, %h8, H8⟩, ⟨%s9, %h9, H9⟩⟩, H⟩
  have e8 := first_bc s8 t.val ht _ (h8 _ ht)
  have e9 := first_bc s9 t.val ht _ (h9 _ ht)
  iapply (wp_asm d (c2 i) (t2 i) hw1)
  iapply (wp_ldx1 d (c2 i) (t2 i)) $$ H8
  iintro H8
  have hw2 : k2_chk2 z0 z1 z2 z3 z4 z5 z6 z7 z8 z9 za zb zc zd ze zf zg zh zi zj zk zl zm zn zo zp zq zr zs zt zu zv (first (fun y => s8 ((broadcast S16 (Scf.iv 0#32 1#32 t.val) : IVec S16 32) y).toNat)) := by rw [e8]; exact hw2
  iapply (wp_asm d (c2 i) (t2 i) hw2)
  iapply (wp_asm d (c2 i) (t2 i) hw3)
  iapply (wp_ldx1 d (c2 i) (t2 i)) $$ H9
  iintro H9
  have hw4 : k2_chk4 z0 z1 z2 z3 z4 z5 z6 z7 z8 z9 za zb zc zd ze zf zg zh zi zj zk zl zm zn zo zp zq zr zs zt zu zv (first (fun y => s8 ((broadcast S16 (Scf.iv 0#32 1#32 t.val) : IVec S16 32) y).toNat)) (first (fun y => s9 ((broadcast S16 (Scf.iv 0#32 1#32 t.val) : IVec S16 32) y).toNat)) := by rw [e8, e9]; exact hw4
  iapply (wp_asm d (c2 i) (t2 i) hw4)
  obtain ⟨I2, hI2⟩ : ∃ I2 : ℕ → BitVec 32 → sProp 𝕄, I2 = fun w a => iprop(⌜a = BitVec.ofNat 32 (psum C t.val + min (2048 * w) (C t.val))⌝ ∗ Rd (F := F) d i arg2 arg11 q O W r2 pw ∗ (∃ s : ℕ → BitVec 32, ⌜∀ k < psum C t.val + min (2048 * w) (C t.val), s k = wordAt C O' pw k⌝ ∗ At1 (F := F) d (c2 i) (t2 i) (e := .i32) arg10 fullShare s)) := ⟨_, rfl⟩
  have hI0 : iprop(⌜aW = BitVec.ofNat 32 (psum C t.val)⌝ ∗ Rd (F := F) d i arg2 arg11 q O W r2 pw ∗ (∃ s : ℕ → BitVec 32, ⌜∀ k < psum C t.val, s k = wordAt C O' pw k⌝ ∗ At1 (F := F) d (c2 i) (t2 i) (e := .i32) arg10 fullShare s)) ⊢ I2 0 aW := by
    rw [congrFun (congrFun hI2 0) aW, show psum C t.val + min (2048 * 0) (C t.val) = psum C t.val from by omega]
  have hI1 : ∀ a, I2 (nwin (C t.val)) a ⊢ iprop(⌜a = BitVec.ofNat 32 (psum C (t.val + 1))⌝ ∗ Rd (F := F) d i arg2 arg11 q O W r2 pw ∗ (∃ s : ℕ → BitVec 32, ⌜∀ k < psum C (t.val + 1), s k = wordAt C O' pw k⌝ ∗ At1 (F := F) d (c2 i) (t2 i) (e := .i32) arg10 fullShare s)) := fun a => by
    rw [congrFun (congrFun hI2 _) a, show psum C (t.val + 1) = psum C t.val + C t.val from rfl, show psum C t.val + min (2048 * nwin (C t.val)) (C t.val) = psum C t.val + C t.val from by unfold nwin; omega]
  have hb : ∀ (t2' : Fin (k2_t2_loop (first (fun y => s9 ((broadcast S16 (Scf.iv 0#32 1#32 t.val) : IVec S16 32) y).toNat))).trips) (a : BitVec 32), t2'.val < nwin (C t.val) → I2 t2'.val a ⊢ wpT d (c2 i) (t2 i) (win3 (F := F) i arg2 arg10 arg11 harg11 r2 z0 z1 z2 z3 z4 z5 z6 z7 z8 z9 za zb zc zd ze zf zg zh zi zj zk zl zm zn zo zp zq zr zs zt zu zv (first (fun y => s8 ((broadcast S16 (Scf.iv 0#32 1#32 t.val) : IVec S16 32) y).toNat)) (first (fun y => s9 ((broadcast S16 (Scf.iv 0#32 1#32 t.val) : IVec S16 32) y).toNat)) hw4 h1 t2' a) fun a' => I2 (t2'.val + 1) a' := by
    intro t2' a _
    have h := win3_wp (F := F) d i arg2 arg10 arg11 harg11 r2 (q := q) (O := O) (W := W) z0 z1 z2 z3 z4 z5 z6 z7 z8 z9 za zb zc zd ze zf zg zh zi zj zk zl zm zn zo zp zq zr zs zt zu zv (psum C t.val) (O' t.val) (C t.val) _ _ a e8 e9 pw (wordAt C O' pw) hroom (by omega) (fun k hk => wordAt_eq C O' pw t.val k ht hk) hw4 h1 t2'
    simp only [hI2]
    exact h
  have hz : (k2_t2_loop (first (fun y => s9 ((broadcast S16 (Scf.iv 0#32 1#32 t.val) : IVec S16 32) y).toNat))).trips = nwin (C t.val) := (congrArg (fun w => (k2_t2_loop w).trips) e9).trans <| (congrArg Scf.Loop.trips (t2_loop_eq (C t.val) hl)).trans (trips01 _ (nwin_lt _ hl))
  iapply (wp_loopS' (F := F) d (c2 i) (t2 i) _ _ _ _ I2 (nwin (C t.val)) hz hb) $$ [HR H]
  · iapply hI0
    isplitr
    · ipureintro; exact ha
    isplitl [HR]; · iexact HR
    iexact H
  · iintro %a H
    ihave H := (hI1 a) $$ H
    icases H with ⟨%ha', HR, H⟩
    isplitr
    · ipureintro; exact ha'
    isplitl [HR]; · iexact HR
    isplitl [H8 H9]
    · isplitl [H8]
      · iexists s8; isplitr
        · ipureintro; exact h8
        · iexact H8
      · iexists s9; isplitr
        · ipureintro; exact h9
        · iexact H9
    iexact H

/-- The staging buffer: all words, if they fit. -/
def Stg (C O' : ℕ → ℕ) (pw : ℕ → BitVec 32) : sProp 𝕄 :=
  iprop(∃ s : ℕ → BitVec 32, ⌜psum C 32 ≤ 57344 → ∀ k < psum C 32, s k = wordAt C O' pw k⌝ ∗ At1 (F := F) d (c2 i) (t2 i) (e := .i32) arg10 fullShare s)

set_option maxHeartbeats 800000 in
theorem stage3_wp (C O' : ℕ → ℕ) (pw : ℕ → BitVec 32) (hR : Runs C O' pw) (htot : tot3 z0 z1 z2 z3 z4 z5 z6 z7 z8 z9 za zb zc zd ze zf zg zh zi zj zk zl zm zn zo zp zq zr zs zt zu zv = BitVec.ofNat 32 (psum C 32)) :
    iprop(Rd (F := F) d i arg2 arg11 q O W r2 pw ∗ Tab (F := F) d i arg8 arg9 C O' ∗ At1E (F := F) d (c2 i) (t2 i) arg10)
      ⊢ wpT d (c2 i) (t2 i) (stage3 (F := F) i arg2 arg8 arg9 arg10 arg11 harg11 r2 z0 z1 z2 z3 z4 z5 z6 z7 z8 z9 za zb zc zd ze zf zg zh zi zj zk zl zm zn zo zp zq zr zs zt zu zv) fun _ =>
        iprop(Rd (F := F) d i arg2 arg11 q O W r2 pw ∗ Tab (F := F) d i arg8 arg9 C O' ∗ Stg (F := F) d i arg10 C O' pw) := by
  have hc := cond1_eq z0 z1 z2 z3 z4 z5 z6 z7 z8 z9 za zb zc zd ze zf zg zh zi zj zk zl zm zn zo zp zq zr zs zt zu zv (psum C 32) hR.tot htot
  unfold stage3 At1E Stg
  by_cases hn : psum C 32 ≤ 57344
  · have h1 : k2_cond1 z0 z1 z2 z3 z4 z5 z6 z7 z8 z9 za zb zc zd ze zf zg zh zi zj zk zl zm zn zo zp zq zr zs zt zu zv = 1#1 := by rw [hc, if_pos hn]
    rw [dif_pos h1]
    iintro ⟨HR, HT, ⟨%s, H⟩⟩
    obtain ⟨I2, hI2⟩ : ∃ I2 : ℕ → BitVec 32 → sProp 𝕄, I2 = fun w a => iprop(⌜a = BitVec.ofNat 32 (psum C w)⌝ ∗ Rd (F := F) d i arg2 arg11 q O W r2 pw ∗ Tab (F := F) d i arg8 arg9 C O' ∗ (∃ s : ℕ → BitVec 32, ⌜∀ k < psum C w, s k = wordAt C O' pw k⌝ ∗ At1 (F := F) d (c2 i) (t2 i) (e := .i32) arg10 fullShare s)) := ⟨_, rfl⟩
    have hb : ∀ (t : Fin k2_t1_loop.trips) (a : BitVec 32), t.val < 32 → I2 t.val a ⊢ wpT d (c2 i) (t2 i) (run3 (F := F) i arg2 arg8 arg9 arg10 arg11 harg11 r2 z0 z1 z2 z3 z4 z5 z6 z7 z8 z9 za zb zc zd ze zf zg zh zi zj zk zl zm zn zo zp zq zr zs zt zu zv h1 t a) fun a' => I2 (t.val + 1) a' := by
      intro t a ht
      have h := run3_wp (F := F) d i arg2 arg8 arg9 arg10 arg11 harg11 r2 (q := q) (O := O) (W := W) z0 z1 z2 z3 z4 z5 z6 z7 z8 z9 za zb zc zd ze zf zg zh zi zj zk zl zm zn zo zp zq zr zs zt zu zv C O' pw hR hn h1 t ht a
      simp only [hI2]
      exact h
    iapply (wp_loopS (F := F) d (c2 i) (t2 i) _ _ _ _ I2 32 t1_trips hb) $$ [HR HT H]
    · rw [congrFun (congrFun hI2 0) _]
      isplitr
      · ipureintro; rfl
      isplitl [HR]; · iexact HR
      isplitl [HT]; · iexact HT
      iexists s
      isplitr
      · ipureintro; exact fun k hk => absurd hk (Nat.not_lt_zero _)
      · iexact H
    · iintro %a H
      ihave H := (show I2 32 a ⊢ iprop(⌜a = BitVec.ofNat 32 (psum C 32)⌝ ∗ Rd (F := F) d i arg2 arg11 q O W r2 pw ∗ Tab (F := F) d i arg8 arg9 C O' ∗ (∃ s : ℕ → BitVec 32, ⌜∀ k < psum C 32, s k = wordAt C O' pw k⌝ ∗ At1 (F := F) d (c2 i) (t2 i) (e := .i32) arg10 fullShare s)) from by rw [congrFun (congrFun hI2 32) a]) $$ H
      icases H with ⟨-, HR, HT, ⟨%s', %hs', H⟩⟩
      iapply (wp_ret (F := F) d (c2 i) (t2 i))
      isplitl [HR]; · iexact HR
      isplitl [HT]; · iexact HT
      iexists s'
      isplitr
      · ipureintro; exact fun _ => hs'
      · iexact H
  · rw [dif_neg (by rw [hc, if_neg hn]; decide)]
    iintro ⟨HR, HT, ⟨%s, H⟩⟩
    iapply (wp_ret (F := F) d (c2 i) (t2 i))
    isplitl [HR]; · iexact HR
    isplitl [HT]; · iexact HT
    iexists s
    isplitr
    · ipureintro; exact fun h => absurd h hn
    · iexact H

theorem ix16 (t : ℕ) (ht : t < 3584) (y : S16.Idx) : ((addi (broadcast S16 (Scalar.muli (Scf.iv 0#32 1#32 t) 16#32)) lane : IVec S16 32) y).toNat = 16 * t + (y 0).val := by
  obtain ⟨l, rfl⟩ : ∃ l : Fin 16, ln l = y := ⟨y 0, lnp_eq y⟩
  have hl := l.isLt
  have e : (addi (broadcast S16 (Scalar.muli (Scf.iv 0#32 1#32 t) 16#32)) lane : IVec S16 32) (ln l) = Scf.iv 0#32 1#32 t * 16#32 + lane (ln l) := rfl
  rw [e, iv_nat, show lane (ln l) = BitVec.ofNat 32 l.val from by clear * -; revert l; decide, show (16#32) = BitVec.ofNat 32 16 from rfl, ← BitVec.ofNat_mul, ← BitVec.ofNat_add, ofNat_toNat_lt _ (by omega)]
  show t * 16 + l.val = 16 * t + l.val
  omega

set_option maxHeartbeats 800000 in
theorem fitC_wp (b : ℕ → Elt F .f32) (lo : ℕ) (hlo : lo ≤ 2 ^ 20) (C O' : ℕ → ℕ) (pw : ℕ → BitVec 32) (hR : Runs C O' pw) (htot : tot3 z0 z1 z2 z3 z4 z5 z6 z7 z8 z9 za zb zc zd ze zf zg zh zi zj zk zl zm zn zo zp zq zr zs zt zu zv = BitVec.ofNat 32 (psum C 32)) (tot : BitVec 32) (ht' : tot = BitVec.ofNat 32 (psum C 32)) (hw : k2_chk261 z0 z1 z2 z3 z4 z5 z6 z7 z8 z9 za zb zc zd ze zf zg zh zi zj zk zl zm zn zo zp zq zr zs zt zu zv) (g0 : ℕ → Elt F .f32) :
    iprop(Stg (F := F) d i arg10 C O' pw ∗ At1 (F := F) d (c2 i) (t2 i) (e := .f32) arg12 fullShare b ∗ At1 (F := F) d (c2 i) (t2 i) (e := .f32) arg6 fullShare g0)
      ⊢ wpT d (c2 i) (t2 i) (fitC (F := F) i arg6 arg10 arg12 z0 z1 z2 z3 z4 z5 z6 z7 z8 z9 za zb zc zd ze zf zg zh zi zj zk zl zm zn zo zp zq zr zs zt zu zv tot hw (BitVec.ofNat 32 lo)) fun _ =>
        iprop(Stg (F := F) d i arg10 C O' pw ∗ At1 (F := F) d (c2 i) (t2 i) (e := .f32) arg12 fullShare b ∗ At1 (F := F) d (c2 i) (t2 i) (e := .f32) arg6 fullShare (if psum C 32 ≤ 57344 then app lo (uV (F := F) b) (runs C O' pw 32) g0 else g0)) := by
  have hc := cond2_eq z0 z1 z2 z3 z4 z5 z6 z7 z8 z9 za zb zc zd ze zf zg zh zi zj zk zl zm zn zo zp zq zr zs zt zu zv (psum C 32) hR.tot htot
  have htt := hR.tot
  subst ht'
  unfold fitC
  by_cases hn : psum C 32 ≤ 57344
  · have h2 : k2_cond2 z0 z1 z2 z3 z4 z5 z6 z7 z8 z9 za zb zc zd ze zf zg zh zi zj zk zl zm zn zo zp zq zr zs zt zu zv = 1#1 := by rw [hc, if_pos hn]
    rw [dif_pos h2, if_pos hn]
    have hz : (k2_t6_loop z0 z1 z2 z3 z4 z5 z6 z7 z8 z9 za zb zc zd ze zf zg zh zi zj zk zl zm zn zo zp zq zr zs zt zu zv).trips = (psum C 32 + 15) / 16 := (congrArg Scf.Loop.trips (t6_loop_eq z0 z1 z2 z3 z4 z5 z6 z7 z8 z9 za zb zc zd ze zf zg zh zi zj zk zl zm zn zo zp zq zr zs zt zu zv (psum C 32) hR.tot htot)).trans (trips01 _ (by omega))
    obtain ⟨I, hI⟩ : ∃ I : ℕ → sProp 𝕄, I = fun w => iprop(Stg (F := F) d i arg10 C O' pw ∗ At1 (F := F) d (c2 i) (t2 i) (e := .f32) arg12 fullShare b ∗ At1 (F := F) d (c2 i) (t2 i) (e := .f32) arg6 fullShare (lay lo (uV (F := F) b) (wordAt C O' pw) (min (16 * w) (psum C 32)) g0)) := ⟨_, rfl⟩
    iintro H
    iapply (wp_loop (F := F) d (c2 i) (t2 i) (k2_t6_loop z0 z1 z2 z3 z4 z5 z6 z7 z8 z9 za zb zc zd ze zf zg zh zi zj zk zl zm zn zo zp zq zr zs zt zu zv) (k2_t6_ok z0 z1 z2 z3 z4 z5 z6 z7 z8 z9 za zb zc zd ze zf zg zh zi zj zk zl zm zn zo zp zq zr zs zt zu zv hw h2) _ I ((psum C 32 + 15) / 16) hz ?_) $$ [H]
    · intro t ht
      rw [congrFun hI t.val, congrFun hI (t.val + 1)]
      have hw1 : k2_chk262 z0 z1 z2 z3 z4 z5 z6 z7 z8 z9 za zb zc zd ze zf zg zh zi zj zk zl zm zn zo zp zq zr zs zt zu zv (addi (broadcast S16 (Scalar.muli (Scf.iv 0#32 1#32 t.val) 16#32)) lane) := fun _ => idx1 _ fun y => by
        have := (y 0).isLt
        have h16 : (y 0).val < 16 := this
        rw [ix16 t.val (by omega) y]
        show _ < 57344
        omega
      have hrem : Scalar.subi (BitVec.ofNat 32 (psum C 32)) (Scalar.muli (Scf.iv 0#32 1#32 t.val) 16#32) = BitVec.ofNat 32 (psum C 32 - 16 * t.val) := rem_nat (psum C 32) t.val 16 (by omega)
      unfold Stg
      iintro ⟨⟨%s, %hs, H10⟩, H⟩
      iapply (wp_asm d (c2 i) (t2 i) hw1)
      iapply (wp_ldx1 d (c2 i) (t2 i)) $$ H10
      iintro H10
      obtain ⟨pp, hpp⟩ : ∃ pp : IVec S16 32, pp = fun y => s ((addi (broadcast S16 (Scalar.muli (Scf.iv 0#32 1#32 t.val) 16#32)) lane : IVec S16 32) y).toNat := ⟨_, rfl⟩
      obtain ⟨mm, hmm⟩ : ∃ mm, mm = maskV (Scalar.subi (BitVec.ofNat 32 (psum C 32)) (Scalar.muli (Scf.iv 0#32 1#32 t.val) 16#32)) 0 := ⟨_, rfl⟩
      have hm : ∀ l : Fin 16, mm (ln l) = if 16 * t.val + l.val < psum C 32 then 1#1 else 0#1 := fun l => by
        rw [hmm, hrem, maskV_at _ 0 (by omega) (by omega) l]
        by_cases h : 16 * t.val + l.val < psum C 32
        · rw [if_pos h, if_pos (by omega)]
        · rw [if_neg h, if_neg (by omega)]
      have hp : ∀ l : Fin 16, 16 * t.val + l.val < psum C 32 → pp (ln l) = wordAt C O' pw (16 * t.val + l.val) ∧ (wordAt C O' pw (16 * t.val + l.val)).toNat < 2 ^ 31 := fun l hl => by
        refine ⟨?_, hR.word _ hl⟩
        rw [hpp]
        show s _ = _
        rw [ix16 t.val (by omega) (ln l)]
        exact hs hn _ hl
      rw [← hpp, ← hmm]
      iapply (wp_wand_r _ _ _)
      isplitl [H]
      · iapply (scat_wp (F := F) d i arg6 arg12 (k2_chk263 z0 z1 z2 z3 z4 z5 z6 z7 z8 z9 za zb zc zd ze zf zg zh zi zj zk zl zm zn zo zp zq zr zs zt zu zv) (k2_chk264 z0 z1 z2 z3 z4 z5 z6 z7 z8 z9 za zb zc zd ze zf zg zh zi zj zk zl zm zn zo zp zq zr zs zt zu zv) (k2_chk263.dec z0 z1 z2 z3 z4 z5 z6 z7 z8 z9 za zb zc zd ze zf zg zh zi zj zk zl zm zn zo zp zq zr zs zt zu zv) (k2_chk264.dec z0 z1 z2 z3 z4 z5 z6 z7 z8 z9 za zb zc zd ze zf zg zh zi zj zk zl zm zn zo zp zq zr zs zt zu zv) (fun x hx _ => idx1 x hx) (fun x hx _ => idx1 x hx) (fun d h => k2_idx260_inb z0 z1 z2 z3 z4 z5 z6 z7 z8 z9 za zb zc zd ze zf zg zh zi zj zk zl zm zn zo zp zq zr zs zt zu zv d h h2) (fun d h => k2_idx261_inb z0 z1 z2 z3 z4 z5 z6 z7 z8 z9 za zb zc zd ze zf zg zh zi zj zk zl zm zn zo zp zq zr zs zt zu zv d h h2) lo hlo mm pp b (wordAt C O' pw) (16 * t.val) (psum C 32) g0 hm hp) $$ H
      · iintro %_ H
        isplitl [H10]
        · iexists s
          isplitr
          · ipureintro; exact hs
          · iexact H10
        · iexact H
    · rw [congrFun hI 0, show min (16 * 0) (psum C 32) = 0 from by omega, lay_zero]
      iexact H
    · rw [congrFun hI _, show min (16 * ((psum C 32 + 15) / 16)) (psum C 32) = psum C 32 from by omega]
      unfold lay
      rw [runs_map]
      iintro H
      iapply (wp_ret (F := F) d (c2 i) (t2 i))
      iexact H
  · rw [dif_neg (by rw [hc, if_neg hn]; decide), if_neg hn]
    exact wp_ret (F := F) d (c2 i) (t2 i) _

set_option maxHeartbeats 800000 in
theorem fitZ_wp (b : ℕ → Elt F .f32) (lo : ℕ) (hlo : lo ≤ 2 ^ 20) (C O' : ℕ → ℕ) (pw : ℕ → BitVec 32) (hR : Runs C O' pw) (htot : tot3 z0 z1 z2 z3 z4 z5 z6 z7 z8 z9 za zb zc zd ze zf zg zh zi zj zk zl zm zn zo zp zq zr zs zt zu zv = BitVec.ofNat 32 (psum C 32)) (tot : BitVec 32) (ht' : tot = BitVec.ofNat 32 (psum C 32)) (hw : k2_chk261 z0 z1 z2 z3 z4 z5 z6 z7 z8 z9 za zb zc zd ze zf zg zh zi zj zk zl zm zn zo zp zq zr zs zt zu zv) (g0 : ℕ → Elt F .f32) :
    iprop(Stg (F := F) d i arg10 C O' pw ∗ At1 (F := F) d (c2 i) (t2 i) (e := .f32) arg6 fullShare g0)
      ⊢ wpT d (c2 i) (t2 i) (fitZ (F := F) i arg6 arg10 z0 z1 z2 z3 z4 z5 z6 z7 z8 z9 za zb zc zd ze zf zg zh zi zj zk zl zm zn zo zp zq zr zs zt zu zv tot hw (BitVec.ofNat 32 lo)) fun _ =>
        iprop(Stg (F := F) d i arg10 C O' pw ∗ At1 (F := F) d (c2 i) (t2 i) (e := .f32) arg6 fullShare (if psum C 32 ≤ 57344 then app lo (fun _ => zV (F := F)) (runs C O' pw 32) g0 else g0)) := by
  have hc := cond4_eq z0 z1 z2 z3 z4 z5 z6 z7 z8 z9 za zb zc zd ze zf zg zh zi zj zk zl zm zn zo zp zq zr zs zt zu zv (psum C 32) hR.tot htot
  have htt := hR.tot
  subst ht'
  unfold fitZ
  by_cases hn : psum C 32 ≤ 57344
  · have h2 : k2_cond4 z0 z1 z2 z3 z4 z5 z6 z7 z8 z9 za zb zc zd ze zf zg zh zi zj zk zl zm zn zo zp zq zr zs zt zu zv = 1#1 := by rw [hc, if_pos hn]
    rw [dif_pos h2, if_pos hn]
    have hz : (k2_t11_loop z0 z1 z2 z3 z4 z5 z6 z7 z8 z9 za zb zc zd ze zf zg zh zi zj zk zl zm zn zo zp zq zr zs zt zu zv).trips = (psum C 32 + 15) / 16 := (congrArg Scf.Loop.trips (t11_loop_eq z0 z1 z2 z3 z4 z5 z6 z7 z8 z9 za zb zc zd ze zf zg zh zi zj zk zl zm zn zo zp zq zr zs zt zu zv (psum C 32) hR.tot htot)).trans (trips01 _ (by omega))
    obtain ⟨I, hI⟩ : ∃ I : ℕ → sProp 𝕄, I = fun w => iprop(Stg (F := F) d i arg10 C O' pw ∗ At1 (F := F) d (c2 i) (t2 i) (e := .f32) arg6 fullShare (lay lo (fun _ => zV (F := F)) (wordAt C O' pw) (min (16 * w) (psum C 32)) g0)) := ⟨_, rfl⟩
    iintro H
    iapply (wp_loop (F := F) d (c2 i) (t2 i) (k2_t11_loop z0 z1 z2 z3 z4 z5 z6 z7 z8 z9 za zb zc zd ze zf zg zh zi zj zk zl zm zn zo zp zq zr zs zt zu zv) (k2_t11_ok z0 z1 z2 z3 z4 z5 z6 z7 z8 z9 za zb zc zd ze zf zg zh zi zj zk zl zm zn zo zp zq zr zs zt zu zv hw h2) _ I ((psum C 32 + 15) / 16) hz ?_) $$ [H]
    · intro t ht
      rw [congrFun hI t.val, congrFun hI (t.val + 1)]
      have hw1 : k2_chk784 z0 z1 z2 z3 z4 z5 z6 z7 z8 z9 za zb zc zd ze zf zg zh zi zj zk zl zm zn zo zp zq zr zs zt zu zv (addi (broadcast S16 (Scalar.muli (Scf.iv 0#32 1#32 t.val) 16#32)) lane) := fun _ => idx1 _ fun y => by
        have := (y 0).isLt
        have h16 : (y 0).val < 16 := this
        rw [ix16 t.val (by omega) y]
        show _ < 57344
        omega
      have hrem : Scalar.subi (BitVec.ofNat 32 (psum C 32)) (Scalar.muli (Scf.iv 0#32 1#32 t.val) 16#32) = BitVec.ofNat 32 (psum C 32 - 16 * t.val) := rem_nat (psum C 32) t.val 16 (by omega)
      unfold Stg
      iintro ⟨⟨%s, %hs, H10⟩, H⟩
      iapply (wp_asm d (c2 i) (t2 i) hw1)
      iapply (wp_ldx1 d (c2 i) (t2 i)) $$ H10
      iintro H10
      obtain ⟨pp, hpp⟩ : ∃ pp : IVec S16 32, pp = fun y => s ((addi (broadcast S16 (Scalar.muli (Scf.iv 0#32 1#32 t.val) 16#32)) lane : IVec S16 32) y).toNat := ⟨_, rfl⟩
      obtain ⟨mm, hmm⟩ : ∃ mm, mm = maskV (Scalar.subi (BitVec.ofNat 32 (psum C 32)) (Scalar.muli (Scf.iv 0#32 1#32 t.val) 16#32)) 0 := ⟨_, rfl⟩
      have hm : ∀ l : Fin 16, mm (ln l) = if 16 * t.val + l.val < psum C 32 then 1#1 else 0#1 := fun l => by
        rw [hmm, hrem, maskV_at _ 0 (by omega) (by omega) l]
        by_cases h : 16 * t.val + l.val < psum C 32
        · rw [if_pos h, if_pos (by omega)]
        · rw [if_neg h, if_neg (by omega)]
      have hp : ∀ l : Fin 16, 16 * t.val + l.val < psum C 32 → pp (ln l) = wordAt C O' pw (16 * t.val + l.val) ∧ (wordAt C O' pw (16 * t.val + l.val)).toNat < 2 ^ 31 := fun l hl => by
        refine ⟨?_, hR.word _ hl⟩
        rw [hpp]
        show s _ = _
        rw [ix16 t.val (by omega) (ln l)]
        exact hs hn _ hl
      rw [← hpp, ← hmm]
      iapply (wp_wand_r _ _ _)
      isplitl [H]
      · iapply (zero3_wp (F := F) d i arg6 (k2_chk785 z0 z1 z2 z3 z4 z5 z6 z7 z8 z9 za zb zc zd ze zf zg zh zi zj zk zl zm zn zo zp zq zr zs zt zu zv) (k2_chk785.dec z0 z1 z2 z3 z4 z5 z6 z7 z8 z9 za zb zc zd ze zf zg zh zi zj zk zl zm zn zo zp zq zr zs zt zu zv) (fun x hx _ => idx1 x hx) (fun d h => k2_idx780_inb z0 z1 z2 z3 z4 z5 z6 z7 z8 z9 za zb zc zd ze zf zg zh zi zj zk zl zm zn zo zp zq zr zs zt zu zv d h h2) lo hlo mm pp (wordAt C O' pw) (16 * t.val) (psum C 32) g0 hm hp) $$ H
      · iintro %_ H
        isplitl [H10]
        · iexists s
          isplitr
          · ipureintro; exact hs
          · iexact H10
        · iexact H
    · rw [congrFun hI 0, show min (16 * 0) (psum C 32) = 0 from by omega, lay_zero]
      iexact H
    · rw [congrFun hI _, show min (16 * ((psum C 32 + 15) / 16)) (psum C 32) = psum C 32 from by omega]
      unfold lay
      rw [runs_map]
      iintro H
      iapply (wp_ret (F := F) d (c2 i) (t2 i))
      iexact H
  · rw [dif_neg (by rw [hc, if_neg hn]; decide), if_neg hn]
    exact wp_ret (F := F) d (c2 i) (t2 i) _

theorem off3_at (t : Fin k2_t4_loop.trips) (r : ℕ) (hr : r < 16) : k2_off3 t (BitVec.ofNat 32 (16 * (r % 16))) 0 = 256 * t.val + 16 * r := by
  have ht : t.val < 256 := t.isLt.trans_eq t4_trips
  rw [Nat.mod_eq_of_lt hr]
  show (Scf.iv 0#32 1#32 t.val * BitVec.ofNat 32 256 + BitVec.ofNat 32 (16 * r)).toNat = _
  rw [iv_nat, ← BitVec.ofNat_mul, ← BitVec.ofNat_add, ofNat_toNat_lt _ (by omega)]
  omega

/-- The chunk, zero below `n`. -/
def Clr (n : ℕ) : sProp 𝕄 := iprop(∃ g : ℕ → Elt F .f32, ⌜∀ k < n, g k = zV (F := F)⌝ ∗ At1 (F := F) d (c2 i) (t2 i) (e := .f32) arg6 fullShare g)

theorem clr3_wp (t : Fin k2_t4_loop.trips) (r : ℕ) (hr : r < 16) :
    Clr (F := F) d i arg6 (256 * t.val + 16 * r) ⊢ wpT d (c2 i) (t2 i) (clr3 (F := F) i arg6 t r) fun _ => Clr (F := F) d i arg6 (256 * t.val + 16 * (r + 1)) := by
  have ho := off3_at t r hr
  unfold clr3 Clr
  rw [← bind_pure (Prog.lift (.store arg6 _ _ _ _ _) : Prog (TpuEff nD τ sig (Elt F) Λ₀ (.scVector (c2 i) (t2 i))) PUnit)]
  iintro ⟨%g, %hg, H⟩
  iapply (wp_ld1 d (c2 i) (t2 i) _ (fun _ => rfl) _ ho) $$ H
  iintro H
  iapply (wp_st1 d (c2 i) (t2 i) _ (fun _ => rfl) _ 16 ho rfl _ (fun k => if 256 * t.val + 16 * r ≤ k ∧ k < 256 * t.val + 16 * r + 16 then zV (F := F) else g k)
    (fun x => if_pos (by have := (x 0).isLt; have h : (x 0).val < 16 := this; omega)) (fun k hk => if_neg (by omega))) $$ H
  iintro H
  iapply (wp_ret (F := F) d (c2 i) (t2 i))
  iexists (fun k => if 256 * t.val + 16 * r ≤ k ∧ k < 256 * t.val + 16 * r + 16 then zV (F := F) else g k)
  isplitr
  · ipureintro
    intro k hk
    dsimp only
    split
    · rfl
    · exact hg k (by omega)
  · iexact H

theorem clr_wp {α : Type} {Q : α → sProp 𝕄} {kk : PUnit → Prog (TpuEff nD τ sig (Elt F) Λ₀ (.scVector (c2 i) (t2 i))) α} :
    At1E (F := F) d (c2 i) (t2 i) arg6 ⊢ iprop((At1 (F := F) d (c2 i) (t2 i) (e := .f32) arg6 fullShare (fun _ => zV (F := F)) -∗ wpT d (c2 i) (t2 i) (kk ⟨⟩) Q)
      -∗ wpT d (c2 i) (t2 i) ((Scf.Loop.for k2_t4_loop k2_t4_ok ⟨⟩ fun t _ => rep (clr3 (F := F) i arg6 t) 16 0) >>= kk) Q) := by
  obtain ⟨I, hI⟩ : ∃ I : ℕ → sProp 𝕄, I = fun t => Clr (F := F) d i arg6 (256 * t) := ⟨_, rfl⟩
  have hb : ∀ t : Fin k2_t4_loop.trips, t.val < 256 → I t.val ⊢ wpT d (c2 i) (t2 i) (rep (clr3 (F := F) i arg6 t) 16 0) fun _ => I (t.val + 1) := by
    intro t _
    have h := wp_rep (F := F) d (c2 i) (t2 i) (clr3 (F := F) i arg6 t) (fun r => Clr (F := F) d i arg6 (256 * t.val + 16 * r)) 16 0 (fun r _ hr => clr3_wp (F := F) d i arg6 t r (by omega))
    rw [congrFun hI t.val, congrFun hI (t.val + 1)]
    exact h
  unfold At1E
  iintro ⟨%g, H⟩ Hk
  iapply (wp_loop (F := F) d (c2 i) (t2 i) _ _ _ I 256 t4_trips hb) $$ [H]
  · rw [congrFun hI 0]
    unfold Clr
    iexists g
    isplitr
    · ipureintro; exact fun k hk => absurd hk (Nat.not_lt_zero _)
    · iexact H
  · rw [congrFun hI 256]
    unfold Clr
    iintro ⟨%g', %hg', H⟩
    ihave H := (At1_of_eq (F := F) d (c2 i) (t2 i) (g' := fun _ => zV (F := F)) (fun k hk => hg' k hk)) $$ H
    iapply Hk $$ H

end K3

end Cert.Proof.Tile

end
-- ==== Proof.K3e.lean ====
/-
  The rounds of the third call.
-/
module

public import proofs.«01_k».proof.Proof.K3d

@[expose] public section

noncomputable section

namespace Cert.Proof.Tile

open Cert.KernelIdeal Cert.KernelIdeal.Gen Cert.Proof.Roll Cert.Proof.Pure

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (d : Dev nD) (i : grid2.Coords)

section K3

variable (arg2 : Memref sig .scVector .hbm S1010688 .i32) (arg5 : Memref sig .scVector .hbm S16777216 .f32)
  (arg6 : Memref sig .scVector .vmem S65536 .f32) (harg6 : arg6.IsWhole) (arg8 : Memref sig .scVector .vmem S32 .i32) (arg9 : Memref sig .scVector .vmem S32 .i32)
  (arg10 : Memref sig .scVector .vmem S57344 .i32) (arg11 : Memref sig .scVector .vmem S2048 .i32) (harg11 : arg11.IsWhole)
  (arg12 : Memref sig .scVector .vmem S32 .f32)
  (r0 r1 r2 r4 r6 r7 : DmaSems sig S_)

variable {q : PosShare TreeShare} {O : CellTallies nD τ sig (HIx 3)} {W : Waits sig (HIx 3)}

variable (z0 z1 z2 z3 z4 z5 z6 z7 z8 z9 za zb zc zd ze zf zg zh zi zj zk zl zm zn zo zp zq zr zs zt zu zv : BitVec 32)

/-- The part of the result that round `t` of a tile writes. -/
abbrev piece (t : Fin k2_t5_loop.trips) : Memref sig .scVector .hbm S65536 .f32 := arg5.slice (Rect.unit (s := S16777216) (k2_off6 i t) S65536.size (k2_off6_inb i t)) (fun _ => rfl)

/-- What it writes there: the last word of each cell. -/
def chunkOf (b : ℕ → Elt F .f32) (C O' : ℕ → ℕ) (pw : ℕ → BitVec 32) (t : ℕ) : ℕ → Elt F .f32 := app (65536 * t) (uV (F := F) b) (runs C O' pw 32) (fun _ => zV (F := F))

/-- What the rounds need, and leave as it was. -/
def Rnd (q : PosShare TreeShare) (O : CellTallies nD τ sig (HIx 3)) (W : Waits sig (HIx 3)) (b : ℕ → Elt F .f32) (C O' : ℕ → ℕ) (pw : ℕ → BitVec 32) : sProp 𝕄 :=
  iprop(Rd (F := F) d i arg2 arg11 q O W r4 pw ∗ semVal ((V d (c2 i) (t2 i) : Thread nD τ), SemLoc.dma r6.sem) 0 ∗ semVal ((V d (c2 i) (t2 i) : Thread nD τ), SemLoc.dma r7.sem) 0
    ∗ Tab (F := F) d i arg8 arg9 C O' ∗ Stg (F := F) d i arg10 C O' pw ∗ At1 (F := F) d (c2 i) (t2 i) (e := .f32) arg12 fullShare b ∗ At1 (F := F) d (c2 i) (t2 i) (e := .f32) arg6 fullShare (fun _ => zV (F := F)))

theorem Rd_swap (pw : ℕ → BitVec 32) (r r' : DmaSems sig S_) :
    iprop(Rd (F := F) d i arg2 arg11 q O W r pw ∗ semVal ((V d (c2 i) (t2 i) : Thread nD τ), SemLoc.dma r'.sem) 0) ⊢ iprop(Rd (F := F) d i arg2 arg11 q O W r' pw ∗ semVal ((V d (c2 i) (t2 i) : Thread nD τ), SemLoc.dma r.sem) 0) := by
  unfold Rd
  iintro ⟨⟨Hm, Ha, H11, Hs, Ho⟩, Hs'⟩
  isplitr [Hs]
  · isplitl [Hm]; · iexact Hm
    isplitl [Ha]; · iexact Ha
    isplitl [H11]; · iexact H11
    isplitl [Hs']; · iexact Hs'
    iexact Ho
  · iexact Hs

set_option maxHeartbeats 800000 in
theorem round3_wp (b : ℕ → Elt F .f32) (C O' : ℕ → ℕ) (pw : ℕ → BitVec 32) (hR : Runs C O' pw) (htot : tot3 z0 z1 z2 z3 z4 z5 z6 z7 z8 z9 za zb zc zd ze zf zg zh zi zj zk zl zm zn zo zp zq zr zs zt zu zv = BitVec.ofNat 32 (psum C 32)) (tot : BitVec 32) (ht' : tot = BitVec.ofNat 32 (psum C 32)) (hw : k2_chk261 z0 z1 z2 z3 z4 z5 z6 z7 z8 z9 za zb zc zd ze zf zg zh zi zj zk zl zm zn zo zp zq zr zs zt zu zv) (t : Fin k2_t5_loop.trips) :
    iprop(Rnd (F := F) d i arg2 arg6 arg8 arg9 arg10 arg11 arg12 r4 r6 r7 q O W b C O' pw ∗ At1E (F := F) d (c2 i) (t2 i) (n := S65536.size) (piece i arg5 t))
      ⊢ wpT d (c2 i) (t2 i) (round3 (F := F) i arg2 arg5 arg6 harg6 arg8 arg9 arg10 arg11 harg11 arg12 r4 r6 r7 z0 z1 z2 z3 z4 z5 z6 z7 z8 z9 za zb zc zd ze zf zg zh zi zj zk zl zm zn zo zp zq zr zs zt zu zv tot hw t) fun _ =>
        iprop(Rnd (F := F) d i arg2 arg6 arg8 arg9 arg10 arg11 arg12 r4 r6 r7 q O W b C O' pw ∗ At1 (F := F) d (c2 i) (t2 i) (n := S65536.size) (e := .f32) (piece i arg5 t) fullShare (chunkOf (F := F) b C O' pw t.val)) := by
  have ht : t.val < 8 := t.isLt.trans_eq t5_trips
  have hlo : 65536 * t.val ≤ 2 ^ 20 := by omega
  have hpos : 0 < (⟨1, S65536.size⟩ : Shape).numel := by decide
  have e1 : (if psum C 32 ≤ 57344 then (if psum C 32 ≤ 57344 then app (65536 * t.val) (uV (F := F) b) (runs C O' pw 32) (fun _ => zV (F := F)) else (fun _ => zV (F := F))) else app (65536 * t.val) (uV (F := F) b) (runs C O' pw 32) (if psum C 32 ≤ 57344 then app (65536 * t.val) (uV (F := F) b) (runs C O' pw 32) (fun _ => zV (F := F)) else (fun _ => zV (F := F)))) = chunkOf (F := F) b C O' pw t.val := by
    by_cases h : psum C 32 ≤ 57344
    · rw [if_pos h, if_pos h]; rfl
    · rw [if_neg h, if_neg h]; rfl
  have e2 : (if psum C 32 ≤ 57344 then (if psum C 32 ≤ 57344 then app (65536 * t.val) (fun _ => zV (F := F)) (runs C O' pw 32) (chunkOf (F := F) b C O' pw t.val) else (chunkOf (F := F) b C O' pw t.val)) else app (65536 * t.val) (fun _ => zV (F := F)) (runs C O' pw 32) (if psum C 32 ≤ 57344 then app (65536 * t.val) (fun _ => zV (F := F)) (runs C O' pw 32) (chunkOf (F := F) b C O' pw t.val) else (chunkOf (F := F) b C O' pw t.val))) = fun _ => zV (F := F) := by
    have hb : app (65536 * t.val) (fun _ => zV (F := F)) (runs C O' pw 32) (chunkOf (F := F) b C O' pw t.val) = fun _ => zV (F := F) := funext fun c => app_back _ _ _ _ c
    by_cases h : psum C 32 ≤ 57344
    · rw [if_pos h, if_pos h, hb]
    · rw [if_neg h, if_neg h, hb]
  unfold round3 Rnd At1E
  rw [lo_nat]
  iintro ⟨⟨HR, Hs6, Hs7, HT, HS, H12, H6⟩, ⟨%g5, H5⟩⟩
  iapply (wp_seq (F := F) d (c2 i) (t2 i) (fitC_wp (F := F) d i arg6 arg10 arg12 z0 z1 z2 z3 z4 z5 z6 z7 z8 z9 za zb zc zd ze zf zg zh zi zj zk zl zm zn zo zp zq zr zs zt zu zv b (65536 * t.val) hlo C O' pw hR htot tot ht' hw (fun _ => zV (F := F)))) $$ [HS H12 H6]
  · isplitl [HS]; · iexact HS
    isplitl [H12]; · iexact H12
    iexact H6
  iintro %_ ⟨HS, H12, H6⟩
  iapply (wp_seq (F := F) d (c2 i) (t2 i) (longC_wp (F := F) d i arg2 arg6 arg8 arg9 arg11 harg11 arg12 r4 (q := q) (O := O) (W := W) z0 z1 z2 z3 z4 z5 z6 z7 z8 z9 za zb zc zd ze zf zg zh zi zj zk zl zm zn zo zp zq zr zs zt zu zv b (65536 * t.val) hlo C O' pw hR htot _)) $$ [HR HT H12 H6]
  · isplitl [HR]; · iexact HR
    isplitl [HT]; · iexact HT
    isplitl [H12]; · iexact H12
    iexact H6
  rw [e1]
  iintro %_ ⟨HR, HT, H12, H6⟩
  ihave HX := (Rd_swap (F := F) d i arg2 arg11 (q := q) (O := O) (W := W) pw r4 r6) $$ [HR Hs6]
  · isplitl [HR]; · iexact HR
    iexact Hs6
  icases HX with ⟨HR, Hs4⟩
  unfold Rd
  icases HR with ⟨#Hm, Ha, H11, Hs6, Ho⟩
  iapply (wp_cp1 d (c2 i) (t2 i) (n := S65536.size) hpos) $$ Hm [H6 H5 Hs6 Ho]
  · isplitl [H6]; · iexact H6
    isplitl [H5]; · iexact H5
    isplitl [Hs6]; · iexact Hs6
    iexact Ho
  iintro ⟨H6, H5, Hs6, Ho⟩
  iapply (wp_seq (F := F) d (c2 i) (t2 i) (fitZ_wp (F := F) d i arg6 arg10 z0 z1 z2 z3 z4 z5 z6 z7 z8 z9 za zb zc zd ze zf zg zh zi zj zk zl zm zn zo zp zq zr zs zt zu zv b (65536 * t.val) hlo C O' pw hR htot tot ht' hw (chunkOf (F := F) b C O' pw t.val))) $$ [HS H6]
  · isplitl [HS]; · iexact HS
    iexact H6
  iintro %_ ⟨HS, H6⟩
  iapply (wp_wand_r _ _ _)
  isplitl [Ha H11 Hs7 Ho HT H6]
  · iapply (longZ_wp (F := F) d i arg2 arg6 arg8 arg9 arg11 harg11 r7 (q := q) (O := O) (W := W) z0 z1 z2 z3 z4 z5 z6 z7 z8 z9 za zb zc zd ze zf zg zh zi zj zk zl zm zn zo zp zq zr zs zt zu zv b (65536 * t.val) hlo C O' pw hR htot _)
    isplitl [Ha H11 Hs7 Ho]
    · unfold Rd
      isplitr; · iexact Hm
      isplitl [Ha]; · iexact Ha
      isplitl [H11]; · iexact H11
      isplitl [Hs7]; · iexact Hs7
      iexact Ho
    isplitl [HT]; · iexact HT
    iexact H6
  rw [e2]
  unfold Rd
  iintro %_ ⟨⟨-, Ha, H11, Hs7, Ho⟩, HT, H6⟩
  isplitr [H5]
  · isplitl [Ha H11 Hs4 Ho]
    · isplitr; · iexact Hm
      isplitl [Ha]; · iexact Ha
      isplitl [H11]; · iexact H11
      isplitl [Hs4]; · iexact Hs4
      iexact Ho
    isplitl [Hs6]; · iexact Hs6
    isplitl [Hs7]; · iexact Hs7
    isplitl [HT]; · iexact HT
    isplitl [HS]; · iexact HS
    isplitl [H12]; · iexact H12
    iexact H6
  · iexact H5

/-- The rounds before `r` done. -/
def Done (b : ℕ → Elt F .f32) (C O' : ℕ → ℕ) (pw : ℕ → BitVec 32) (r : ℕ) : sProp 𝕄 :=
  iprop(bigSep (Finset.univ.filter fun t : Fin k2_t5_loop.trips => t.val < r) (fun t => At1 (F := F) d (c2 i) (t2 i) (n := S65536.size) (e := .f32) (piece i arg5 t) fullShare (chunkOf (F := F) b C O' pw t.val))
    ∗ bigSep (Finset.univ.filter fun t : Fin k2_t5_loop.trips => r ≤ t.val) (fun t => At1E (F := F) d (c2 i) (t2 i) (n := S65536.size) (piece i arg5 t)))

theorem Done_step (b : ℕ → Elt F .f32) (C O' : ℕ → ℕ) (pw : ℕ → BitVec 32) (t : Fin k2_t5_loop.trips) :
    Done (F := F) d i arg5 b C O' pw t.val ⊢ iprop(At1E (F := F) d (c2 i) (t2 i) (n := S65536.size) (piece i arg5 t)
      ∗ (At1 (F := F) d (c2 i) (t2 i) (n := S65536.size) (e := .f32) (piece i arg5 t) fullShare (chunkOf (F := F) b C O' pw t.val) -∗ Done (F := F) d i arg5 b C O' pw (t.val + 1))) := by
  have h1 : (Finset.univ.filter fun t' : Fin k2_t5_loop.trips => t.val ≤ t'.val) = insert t (Finset.univ.filter fun t' : Fin k2_t5_loop.trips => t.val + 1 ≤ t'.val) := by
    ext x
    simp only [Finset.mem_filter, Finset.mem_univ, true_and, Finset.mem_insert, Fin.ext_iff]
    omega
  have h2 : (Finset.univ.filter fun t' : Fin k2_t5_loop.trips => t'.val < t.val + 1) = insert t (Finset.univ.filter fun t' : Fin k2_t5_loop.trips => t'.val < t.val) := by
    ext x
    simp only [Finset.mem_filter, Finset.mem_univ, true_and, Finset.mem_insert, Fin.ext_iff]
    omega
  unfold Done
  rw [h1, h2, SparseCore.bigSep_insert' (by simp), SparseCore.bigSep_insert' (by simp)]
  iintro ⟨HA, HB, HC⟩
  isplitl [HB]; · iexact HB
  iintro HD
  isplitl [HA HD]
  · isplitl [HD]; · iexact HD
    iexact HA
  · iexact HC

set_option maxHeartbeats 800000 in
theorem rounds_wp (b : ℕ → Elt F .f32) (C O' : ℕ → ℕ) (pw : ℕ → BitVec 32) (hR : Runs C O' pw) (htot : tot3 z0 z1 z2 z3 z4 z5 z6 z7 z8 z9 za zb zc zd ze zf zg zh zi zj zk zl zm zn zo zp zq zr zs zt zu zv = BitVec.ofNat 32 (psum C 32)) (tot : BitVec 32) (ht' : tot = BitVec.ofNat 32 (psum C 32)) (hw : k2_chk261 z0 z1 z2 z3 z4 z5 z6 z7 z8 z9 za zb zc zd ze zf zg zh zi zj zk zl zm zn zo zp zq zr zs zt zu zv) {Q : PUnit → sProp 𝕄} :
    iprop(Rnd (F := F) d i arg2 arg6 arg8 arg9 arg10 arg11 arg12 r4 r6 r7 q O W b C O' pw ∗ Done (F := F) d i arg5 b C O' pw 0)
      ⊢ iprop((Rnd (F := F) d i arg2 arg6 arg8 arg9 arg10 arg11 arg12 r4 r6 r7 q O W b C O' pw ∗ Done (F := F) d i arg5 b C O' pw 8 -∗ Q ⟨⟩)
      -∗ wpT d (c2 i) (t2 i) (Scf.Loop.for k2_t5_loop k2_t5_ok ⟨⟩ fun t _ => round3 (F := F) i arg2 arg5 arg6 harg6 arg8 arg9 arg10 arg11 harg11 arg12 r4 r6 r7 z0 z1 z2 z3 z4 z5 z6 z7 z8 z9 za zb zc zd ze zf zg zh zi zj zk zl zm zn zo zp zq zr zs zt zu zv tot hw t) Q) := by
  have hb : ∀ t : Fin k2_t5_loop.trips, t.val < 8 → iprop(Rnd (F := F) d i arg2 arg6 arg8 arg9 arg10 arg11 arg12 r4 r6 r7 q O W b C O' pw ∗ Done (F := F) d i arg5 b C O' pw t.val)
      ⊢ wpT d (c2 i) (t2 i) (round3 (F := F) i arg2 arg5 arg6 harg6 arg8 arg9 arg10 arg11 harg11 arg12 r4 r6 r7 z0 z1 z2 z3 z4 z5 z6 z7 z8 z9 za zb zc zd ze zf zg zh zi zj zk zl zm zn zo zp zq zr zs zt zu zv tot hw t) fun _ => iprop(Rnd (F := F) d i arg2 arg6 arg8 arg9 arg10 arg11 arg12 r4 r6 r7 q O W b C O' pw ∗ Done (F := F) d i arg5 b C O' pw (t.val + 1)) := by
    intro t _
    iintro ⟨HR, HD⟩
    ihave HD := (Done_step (F := F) d i arg5 b C O' pw t) $$ HD
    icases HD with ⟨H5, HD⟩
    iapply (wp_wand_r _ _ _)
    isplitl [HR H5]
    · iapply (round3_wp (F := F) d i arg2 arg5 arg6 harg6 arg8 arg9 arg10 arg11 harg11 arg12 r4 r6 r7 (q := q) (O := O) (W := W) z0 z1 z2 z3 z4 z5 z6 z7 z8 z9 za zb zc zd ze zf zg zh zi zj zk zl zm zn zo zp zq zr zs zt zu zv b C O' pw hR htot tot ht' hw t)
      isplitl [HR]; · iexact HR
      iexact H5
    iintro %_ ⟨HR, H5⟩
    ispecialize HD $$ H5
    isplitl [HR]; · iexact HR
    iexact HD
  obtain ⟨I, hI⟩ : ∃ I : ℕ → sProp 𝕄, I = fun t => iprop(Rnd (F := F) d i arg2 arg6 arg8 arg9 arg10 arg11 arg12 r4 r6 r7 q O W b C O' pw ∗ Done (F := F) d i arg5 b C O' pw t) := ⟨_, rfl⟩
  have hb' : ∀ t : Fin k2_t5_loop.trips, t.val < 8 → I t.val ⊢ wpT d (c2 i) (t2 i) (round3 (F := F) i arg2 arg5 arg6 harg6 arg8 arg9 arg10 arg11 harg11 arg12 r4 r6 r7 z0 z1 z2 z3 z4 z5 z6 z7 z8 z9 za zb zc zd ze zf zg zh zi zj zk zl zm zn zo zp zq zr zs zt zu zv tot hw t) fun _ => I (t.val + 1) := by
    simp only [hI]; exact hb
  have h := wp_loop' (F := F) d (c2 i) (t2 i) (Q := Q) k2_t5_loop k2_t5_ok (fun t _ => round3 (F := F) i arg2 arg5 arg6 harg6 arg8 arg9 arg10 arg11 harg11 arg12 r4 r6 r7 z0 z1 z2 z3 z4 z5 z6 z7 z8 z9 za zb zc zd ze zf zg zh zi zj zk zl zm zn zo zp zq zr zs zt zu zv tot hw t) I 8 t5_trips hb'
  simp only [hI] at h
  exact h

end K3

end Cert.Proof.Tile

end
-- ==== Proof.Roll3a.lean ====
/-
  The table part of the scatter kernel's body, rolled up.
-/
module

public import proofs.«01_k».proof.Proof.Roll3

@[expose] public section

noncomputable section

namespace Cert.Proof.Roll

open Cert.KernelIdeal Cert.KernelIdeal.Gen
open Idealize.ShloMosaic Idealize.SL.Sem

variable {F : FTy → Type} [FloatOps F]

section K3

variable (i : grid2.Coords) (arg2 : Memref sig .scVector .hbm S1010688 .i32) (harg2 : arg2.IsWhole)
  (arg3 : Memref sig .scVector .hbm S1024 .i32) (harg3 : arg3.IsWhole) (arg4 : Memref sig .scVector .hbm S20 .f32) (harg4 : arg4.IsWhole)
  (arg5 : Memref sig .scVector .hbm S16777216 .f32) (harg5 : arg5.IsWhole)
  (arg6 : Memref sig .scVector .vmem S65536 .f32) (harg6 : arg6.IsWhole) (arg7 : Memref sig .scVector .vmem S1024 .i32) (harg7 : arg7.IsWhole)
  (arg8 : Memref sig .scVector .vmem S32 .i32) (harg8 : arg8.IsWhole) (arg9 : Memref sig .scVector .vmem S32 .i32) (harg9 : arg9.IsWhole)
  (arg10 : Memref sig .scVector .vmem S57344 .i32) (harg10 : arg10.IsWhole) (arg11 : Memref sig .scVector .vmem S2048 .i32) (harg11 : arg11.IsWhole)
  (arg12 : Memref sig .scVector .vmem S32 .f32) (harg12 : arg12.IsWhole)
  (arg13 r0 r1 r2 r3 r4 r5 r6 r7 r8 : DmaSems sig S_)

theorem head3_succ (n k : Nat) (acc : List (BitVec 32)) : head3 (F := F) i arg7 arg8 arg9 (n + 1) k acc = (do
    let a : Vec F S16 .i32 ← Prog.lift (.load arg7 (rW (2 * k)).toLoadRect (View.loadsAt_vmem h_S16))
    let b : Vec F S16 .i32 ← Prog.lift (.load arg7 (rW (2 * k + 1)).toLoadRect (View.loadsAt_vmem h_S16))
    put3 (F := F) i arg8 arg9 k a b
    head3 (F := F) i arg7 arg8 arg9 n (k + 1) (acc ++ [rlen (wid (i 0).val (i 1).val) a b])) := rfl

theorem head3_zero (k : Nat) (acc : List (BitVec 32)) : head3 (F := F) i arg7 arg8 arg9 0 k acc = pure acc := rfl

set_option maxRecDepth 1000000 in
set_option maxHeartbeats 100000000 in
theorem part364_eq : k2_part364 (F := F) i arg2 harg2 arg3 harg3 arg4 harg4 arg5 harg5 arg6 harg6 arg7 harg7 arg8 harg8 arg9 harg9 arg10 harg10 arg11 harg11 arg12 harg12 arg13 r0 r1 r2 r3 r4 r5 r6 r7 r8
    = (do
      copies3 i arg3 harg3 arg4 harg4 arg7 harg7 arg12 r0 r1
      let acc ← head3 (F := F) i arg7 arg8 arg9 31 0 []
      let a : Vec F S16 .i32 ← Prog.lift (.load arg7 (rW 62).toLoadRect (View.loadsAt_vmem h_S16))
      let b : Vec F S16 .i32 ← Prog.lift (.load arg7 (rW 63).toLoadRect (View.loadsAt_vmem h_S16))
      pure ⟨(wid (i 0).val (i 1).val), lane, broadcast S16 (Scalar.ofBits .f32 0x00000000#32), acc.getD 0 0#32, acc.getD 1 0#32, acc.getD 2 0#32, acc.getD 3 0#32, acc.getD 4 0#32, acc.getD 5 0#32, acc.getD 6 0#32, acc.getD 7 0#32, acc.getD 8 0#32, acc.getD 9 0#32, acc.getD 10 0#32, acc.getD 11 0#32, acc.getD 12 0#32, acc.getD 13 0#32, acc.getD 14 0#32, acc.getD 15 0#32, acc.getD 16 0#32, acc.getD 17 0#32, acc.getD 18 0#32, acc.getD 19 0#32, acc.getD 20 0#32, acc.getD 21 0#32, acc.getD 22 0#32, acc.getD 23 0#32, acc.getD 24 0#32, acc.getD 25 0#32, acc.getD 26 0#32, acc.getD 27 0#32, acc.getD 28 0#32, acc.getD 29 0#32, acc.getD 30 0#32, acc.foldl Scalar.addi 0#32, loff (wid (i 0).val (i 1).val) a b, laneAt (wid (i 0).val (i 1).val), select (lowHalf (wid (i 0).val (i 1).val)) a b, 0#32⟩) := by
  delta k2_part364 copies3
  simp only [Prog.bind_assoc, pure_bind, bind_assoc]
  delta k2_part312
  simp only [Prog.bind_assoc, pure_bind, bind_assoc]
  iterate 4 refine congrArg _ (funext fun _ => ?_)
  rw [head3_succ (F := F) i arg7 arg8 arg9 30]
  simp only [put3, Prog.bind_assoc, pure_bind, bind_assoc]
  iterate 2 refine congrArg _ (funext fun _ => ?_)
  delta k2_part313
  simp only [Prog.bind_assoc, pure_bind, bind_assoc]
  iterate 6 refine congrArg _ (funext fun _ => ?_)
  delta k2_part314
  simp only [Prog.bind_assoc, pure_bind, bind_assoc]
  rw [head3_succ (F := F) i arg7 arg8 arg9 29]
  simp only [put3, Prog.bind_assoc, pure_bind, bind_assoc]
  iterate 2 refine congrArg _ (funext fun _ => ?_)
  delta k2_part315
  simp only [Prog.bind_assoc, pure_bind, bind_assoc]
  iterate 6 refine congrArg _ (funext fun _ => ?_)
  rw [head3_succ (F := F) i arg7 arg8 arg9 28]
  simp only [put3, Prog.bind_assoc, pure_bind, bind_assoc]
  iterate 2 refine congrArg _ (funext fun _ => ?_)
  delta k2_part316
  simp only [Prog.bind_assoc, pure_bind, bind_assoc]
  iterate 1 refine congrArg _ (funext fun _ => ?_)
  delta k2_part317
  simp only [Prog.bind_assoc, pure_bind, bind_assoc]
  iterate 5 refine congrArg _ (funext fun _ => ?_)
  rw [head3_succ (F := F) i arg7 arg8 arg9 27]
  simp only [put3, Prog.bind_assoc, pure_bind, bind_assoc]
  iterate 2 refine congrArg _ (funext fun _ => ?_)
  delta k2_part318
  simp only [Prog.bind_assoc, pure_bind, bind_assoc]
  iterate 6 refine congrArg _ (funext fun _ => ?_)
  rw [head3_succ (F := F) i arg7 arg8 arg9 26]
  simp only [put3, Prog.bind_assoc, pure_bind, bind_assoc]
  iterate 2 refine congrArg _ (funext fun _ => ?_)
  delta k2_part319
  simp only [Prog.bind_assoc, pure_bind, bind_assoc]
  delta k2_part320
  simp only [Prog.bind_assoc, pure_bind, bind_assoc]
  iterate 6 refine congrArg _ (funext fun _ => ?_)
  rw [head3_succ (F := F) i arg7 arg8 arg9 25]
  simp only [put3, Prog.bind_assoc, pure_bind, bind_assoc]
  iterate 2 refine congrArg _ (funext fun _ => ?_)
  delta k2_part321
  simp only [Prog.bind_assoc, pure_bind, bind_assoc]
  iterate 3 refine congrArg _ (funext fun _ => ?_)
  delta k2_part322
  simp only [Prog.bind_assoc, pure_bind, bind_assoc]
  iterate 3 refine congrArg _ (funext fun _ => ?_)
  rw [head3_succ (F := F) i arg7 arg8 arg9 24]
  simp only [put3, Prog.bind_assoc, pure_bind, bind_assoc]
  iterate 2 refine congrArg _ (funext fun _ => ?_)
  delta k2_part323
  simp only [Prog.bind_assoc, pure_bind, bind_assoc]
  iterate 6 refine congrArg _ (funext fun _ => ?_)
  rw [head3_succ (F := F) i arg7 arg8 arg9 23]
  simp only [put3, Prog.bind_assoc, pure_bind, bind_assoc]
  iterate 2 refine congrArg _ (funext fun _ => ?_)
  delta k2_part324
  simp only [Prog.bind_assoc, pure_bind, bind_assoc]
  delta k2_part325
  simp only [Prog.bind_assoc, pure_bind, bind_assoc]
  iterate 6 refine congrArg _ (funext fun _ => ?_)
  rw [head3_succ (F := F) i arg7 arg8 arg9 22]
  simp only [put3, Prog.bind_assoc, pure_bind, bind_assoc]
  iterate 2 refine congrArg _ (funext fun _ => ?_)
  delta k2_part326
  simp only [Prog.bind_assoc, pure_bind, bind_assoc]
  iterate 4 refine congrArg _ (funext fun _ => ?_)
  delta k2_part327
  simp only [Prog.bind_assoc, pure_bind, bind_assoc]
  iterate 2 refine congrArg _ (funext fun _ => ?_)
  rw [head3_succ (F := F) i arg7 arg8 arg9 21]
  simp only [put3, Prog.bind_assoc, pure_bind, bind_assoc]
  iterate 2 refine congrArg _ (funext fun _ => ?_)
  delta k2_part328
  simp only [Prog.bind_assoc, pure_bind, bind_assoc]
  iterate 6 refine congrArg _ (funext fun _ => ?_)
  rw [head3_succ (F := F) i arg7 arg8 arg9 20]
  simp only [put3, Prog.bind_assoc, pure_bind, bind_assoc]
  iterate 2 refine congrArg _ (funext fun _ => ?_)
  delta k2_part329
  simp only [Prog.bind_assoc, pure_bind, bind_assoc]
  delta k2_part330
  simp only [Prog.bind_assoc, pure_bind, bind_assoc]
  iterate 6 refine congrArg _ (funext fun _ => ?_)
  rw [head3_succ (F := F) i arg7 arg8 arg9 19]
  simp only [put3, Prog.bind_assoc, pure_bind, bind_assoc]
  iterate 2 refine congrArg _ (funext fun _ => ?_)
  delta k2_part331
  simp only [Prog.bind_assoc, pure_bind, bind_assoc]
  iterate 6 refine congrArg _ (funext fun _ => ?_)
  rw [head3_succ (F := F) i arg7 arg8 arg9 18]
  simp only [put3, Prog.bind_assoc, pure_bind, bind_assoc]
  iterate 1 refine congrArg _ (funext fun _ => ?_)
  delta k2_part332
  simp only [Prog.bind_assoc, pure_bind, bind_assoc]
  iterate 1 refine congrArg _ (funext fun _ => ?_)
  delta k2_part333
  simp only [Prog.bind_assoc, pure_bind, bind_assoc]
  iterate 6 refine congrArg _ (funext fun _ => ?_)
  rw [head3_succ (F := F) i arg7 arg8 arg9 17]
  simp only [put3, Prog.bind_assoc, pure_bind, bind_assoc]
  iterate 2 refine congrArg _ (funext fun _ => ?_)
  delta k2_part334
  simp only [Prog.bind_assoc, pure_bind, bind_assoc]
  iterate 1 refine congrArg _ (funext fun _ => ?_)
  delta k2_part335
  simp only [Prog.bind_assoc, pure_bind, bind_assoc]
  iterate 5 refine congrArg _ (funext fun _ => ?_)
  rw [head3_succ (F := F) i arg7 arg8 arg9 16]
  simp only [put3, Prog.bind_assoc, pure_bind, bind_assoc]
  iterate 2 refine congrArg _ (funext fun _ => ?_)
  delta k2_part336
  simp only [Prog.bind_assoc, pure_bind, bind_assoc]
  iterate 6 refine congrArg _ (funext fun _ => ?_)
  rw [head3_succ (F := F) i arg7 arg8 arg9 15]
  simp only [put3, Prog.bind_assoc, pure_bind, bind_assoc]
  iterate 2 refine congrArg _ (funext fun _ => ?_)
  delta k2_part337
  simp only [Prog.bind_assoc, pure_bind, bind_assoc]
  delta k2_part338
  simp only [Prog.bind_assoc, pure_bind, bind_assoc]
  iterate 6 refine congrArg _ (funext fun _ => ?_)
  rw [head3_succ (F := F) i arg7 arg8 arg9 14]
  simp only [put3, Prog.bind_assoc, pure_bind, bind_assoc]
  iterate 2 refine congrArg _ (funext fun _ => ?_)
  delta k2_part339
  simp only [Prog.bind_assoc, pure_bind, bind_assoc]
  iterate 3 refine congrArg _ (funext fun _ => ?_)
  delta k2_part340
  simp only [Prog.bind_assoc, pure_bind, bind_assoc]
  iterate 3 refine congrArg _ (funext fun _ => ?_)
  rw [head3_succ (F := F) i arg7 arg8 arg9 13]
  simp only [put3, Prog.bind_assoc, pure_bind, bind_assoc]
  iterate 2 refine congrArg _ (funext fun _ => ?_)
  delta k2_part341
  simp only [Prog.bind_assoc, pure_bind, bind_assoc]
  iterate 6 refine congrArg _ (funext fun _ => ?_)
  rw [head3_succ (F := F) i arg7 arg8 arg9 12]
  simp only [put3, Prog.bind_assoc, pure_bind, bind_assoc]
  iterate 2 refine congrArg _ (funext fun _ => ?_)
  delta k2_part342
  simp only [Prog.bind_assoc, pure_bind, bind_assoc]
  delta k2_part343
  simp only [Prog.bind_assoc, pure_bind, bind_assoc]
  iterate 6 refine congrArg _ (funext fun _ => ?_)
  rw [head3_succ (F := F) i arg7 arg8 arg9 11]
  simp only [put3, Prog.bind_assoc, pure_bind, bind_assoc]
  iterate 2 refine congrArg _ (funext fun _ => ?_)
  delta k2_part344
  simp only [Prog.bind_assoc, pure_bind, bind_assoc]
  iterate 6 refine congrArg _ (funext fun _ => ?_)
  delta k2_part345
  simp only [Prog.bind_assoc, pure_bind, bind_assoc]
  rw [head3_succ (F := F) i arg7 arg8 arg9 10]
  simp only [put3, Prog.bind_assoc, pure_bind, bind_assoc]
  iterate 2 refine congrArg _ (funext fun _ => ?_)
  delta k2_part346
  simp only [Prog.bind_assoc, pure_bind, bind_assoc]
  iterate 6 refine congrArg _ (funext fun _ => ?_)
  rw [head3_succ (F := F) i arg7 arg8 arg9 9]
  simp only [put3, Prog.bind_assoc, pure_bind, bind_assoc]
  iterate 2 refine congrArg _ (funext fun _ => ?_)
  delta k2_part347
  simp only [Prog.bind_assoc, pure_bind, bind_assoc]
  delta k2_part348
  simp only [Prog.bind_assoc, pure_bind, bind_assoc]
  iterate 6 refine congrArg _ (funext fun _ => ?_)
  rw [head3_succ (F := F) i arg7 arg8 arg9 8]
  simp only [put3, Prog.bind_assoc, pure_bind, bind_assoc]
  iterate 2 refine congrArg _ (funext fun _ => ?_)
  delta k2_part349
  simp only [Prog.bind_assoc, pure_bind, bind_assoc]
  iterate 6 refine congrArg _ (funext fun _ => ?_)
  rw [head3_succ (F := F) i arg7 arg8 arg9 7]
  simp only [put3, Prog.bind_assoc, pure_bind, bind_assoc]
  iterate 2 refine congrArg _ (funext fun _ => ?_)
  delta k2_part350
  simp only [Prog.bind_assoc, pure_bind, bind_assoc]
  delta k2_part351
  simp only [Prog.bind_assoc, pure_bind, bind_assoc]
  iterate 6 refine congrArg _ (funext fun _ => ?_)
  rw [head3_succ (F := F) i arg7 arg8 arg9 6]
  simp only [put3, Prog.bind_assoc, pure_bind, bind_assoc]
  iterate 2 refine congrArg _ (funext fun _ => ?_)
  delta k2_part352
  simp only [Prog.bind_assoc, pure_bind, bind_assoc]
  iterate 3 refine congrArg _ (funext fun _ => ?_)
  delta k2_part353
  simp only [Prog.bind_assoc, pure_bind, bind_assoc]
  iterate 3 refine congrArg _ (funext fun _ => ?_)
  rw [head3_succ (F := F) i arg7 arg8 arg9 5]
  simp only [put3, Prog.bind_assoc, pure_bind, bind_assoc]
  iterate 2 refine congrArg _ (funext fun _ => ?_)
  delta k2_part354
  simp only [Prog.bind_assoc, pure_bind, bind_assoc]
  iterate 6 refine congrArg _ (funext fun _ => ?_)
  rw [head3_succ (F := F) i arg7 arg8 arg9 4]
  simp only [put3, Prog.bind_assoc, pure_bind, bind_assoc]
  iterate 2 refine congrArg _ (funext fun _ => ?_)
  delta k2_part355
  simp only [Prog.bind_assoc, pure_bind, bind_assoc]
  delta k2_part356
  simp only [Prog.bind_assoc, pure_bind, bind_assoc]
  iterate 6 refine congrArg _ (funext fun _ => ?_)
  rw [head3_succ (F := F) i arg7 arg8 arg9 3]
  simp only [put3, Prog.bind_assoc, pure_bind, bind_assoc]
  iterate 2 refine congrArg _ (funext fun _ => ?_)
  delta k2_part357
  simp only [Prog.bind_assoc, pure_bind, bind_assoc]
  iterate 4 refine congrArg _ (funext fun _ => ?_)
  delta k2_part358
  simp only [Prog.bind_assoc, pure_bind, bind_assoc]
  iterate 2 refine congrArg _ (funext fun _ => ?_)
  rw [head3_succ (F := F) i arg7 arg8 arg9 2]
  simp only [put3, Prog.bind_assoc, pure_bind, bind_assoc]
  iterate 2 refine congrArg _ (funext fun _ => ?_)
  delta k2_part359
  simp only [Prog.bind_assoc, pure_bind, bind_assoc]
  iterate 6 refine congrArg _ (funext fun _ => ?_)
  rw [head3_succ (F := F) i arg7 arg8 arg9 1]
  simp only [put3, Prog.bind_assoc, pure_bind, bind_assoc]
  iterate 2 refine congrArg _ (funext fun _ => ?_)
  delta k2_part360
  simp only [Prog.bind_assoc, pure_bind, bind_assoc]
  delta k2_part361
  simp only [Prog.bind_assoc, pure_bind, bind_assoc]
  iterate 6 refine congrArg _ (funext fun _ => ?_)
  rw [head3_succ (F := F) i arg7 arg8 arg9 0]
  simp only [put3, Prog.bind_assoc, pure_bind, bind_assoc]
  iterate 2 refine congrArg _ (funext fun _ => ?_)
  delta k2_part362
  simp only [Prog.bind_assoc, pure_bind, bind_assoc]
  iterate 6 refine congrArg _ (funext fun _ => ?_)
  delta k2_part363
  simp only [Prog.bind_assoc, pure_bind, bind_assoc]
  rw [head3_zero (F := F) i arg7 arg8 arg9]
  simp only [Prog.bind_assoc, pure_bind, bind_assoc]
  iterate 2 refine congrArg _ (funext fun _ => ?_)
  simp only [List.nil_append, List.cons_append, List.getD_cons_zero, List.getD_cons_succ, List.foldl_cons, List.foldl_nil]
  delta loff rlen pick laneAt lowHalf upV wid lane
  rfl

end K3

end Cert.Proof.Roll

end
-- ==== Proof.Roll4.lean ====
/-
  Taking the steps of a rolled loop one by one.
-/
module

public import proofs.«01_k».proof.Proof.Roll3
public import Idealize.ShloMosaic.Lib.WordArith

@[expose] public section

noncomputable section

namespace Cert.Proof.Roll

open Cert.KernelIdeal Cert.KernelIdeal.Gen
open Idealize.ShloMosaic Idealize.SL.Sem

variable {F : FTy → Type} [FloatOps F]

theorem bnd {E : Type → Type} {α β γ : Type} {p : Prog E α} {f : α → Prog E β} {g : β → Prog E γ} {r : Prog E γ} (h : (p >>= fun x => f x >>= g) = r) : (p >>= f) >>= g = r :=
  (Prog.bind_assoc p f g).trans h
theorem prt {E : Type → Type} {α β : Type} {a : α} {g : α → Prog E β} {r : Prog E β} (h : g a = r) : (pure a >>= g) = r := h
theorem op {E : Type → Type} {α β : Type} {p : Prog E α} {f g : α → Prog E β} (h : ∀ x, f x = g x) : (p >>= f) = (p >>= g) :=
  congrArg _ (funext h)
theorem gen {E : Type → Type} {α β : Type} {p : Prog E α} {g : α → Prog E β} {r : Prog E β} (h : ∀ K, K = g → (p >>= K) = r) : (p >>= g) = r := h g rfl
theorem rep_peel {E : Type → Type} {β : Type} (f : Nat → Prog E PUnit.{1}) (n k n' k' : Nat) (hn : n = n' + 1) (hk : k' = k + 1) (K : PUnit.{1} → Prog E β) :
    (rep f n k >>= K) = f k >>= fun _ => rep f n' k' >>= K := by
  subst hn; subst hk; exact Prog.bind_assoc _ _ _

section K3

variable (i : grid2.Coords) (arg2 : Memref sig .scVector .hbm S1010688 .i32)
  (arg3 : Memref sig .scVector .hbm S1024 .i32) (harg3 : arg3.IsWhole) (arg4 : Memref sig .scVector .hbm S20 .f32) (harg4 : arg4.IsWhole)
  (arg5 : Memref sig .scVector .hbm S16777216 .f32)
  (arg6 : Memref sig .scVector .vmem S65536 .f32) (harg6 : arg6.IsWhole) (arg7 : Memref sig .scVector .vmem S1024 .i32) (harg7 : arg7.IsWhole)
  (arg8 : Memref sig .scVector .vmem S32 .i32) (arg9 : Memref sig .scVector .vmem S32 .i32)
  (arg10 : Memref sig .scVector .vmem S57344 .i32) (arg11 : Memref sig .scVector .vmem S2048 .i32) (harg11 : arg11.IsWhole)
  (arg12 : Memref sig .scVector .vmem S32 .f32)
  (r0 r1 r2 r4 r6 r7 : DmaSems sig S_)

variable (P Q : IVec S16 32 → Prop) (decP : ∀ d, Decidable (P d)) (decQ : ∀ d, Decidable (Q d))

theorem stepS_b {β : Type} (inb : ∀ d, P d → ∀ a x, ((![d] : Fin 1 → IVec S16 32) a x).toNat < S57344.size a) (woff rem : BitVec 32) (v : Nat) (K : PUnit → Prog (TpuEff nD τ sig (Elt F) Λ₀ (.scVector ((i 0).castLE hcore2) ((i 1).castLE hsub2))) β) :
    (stepS (F := F) i arg10 arg11 P decP inb woff rem v >>= K) = (do
      have m : IVec S16 1 := cmpi .slt (addi (broadcast S16 (BitVec.ofNat 32 (16 * v))) lane) (broadcast S16 rem)
      have dest : IVec S16 32 := select m (addi (broadcast S16 (Scalar.addi woff (BitVec.ofNat 32 (16 * v)))) lane) (broadcast S16 0#32)
      have hw : P dest := (← Prog.lift (TpuEff.assume (P dest) (decP dest))).down
      let x : Vec F S16 .i32 ← Prog.lift (.load arg11 (rP v).toLoadRect (View.loadsAt_vmem h_S16))
      let u ← SparseCore.vectorStoreIdx arg10 ![dest] x m false (inb dest hw) (View.stores_vmem_bits_univ h_S57344 rfl)
      K u) := rfl

theorem stepW_b {β : Type} (inbP : ∀ d, P d → ∀ a x, ((![d] : Fin 1 → IVec S16 32) a x).toNat < S32.size a)
    (inbQ : ∀ d, Q d → ∀ a x, ((![d] : Fin 1 → IVec S16 32) a x).toNat < S65536.size a) (rem lo : BitVec 32) (v : Nat) (K : PUnit → Prog (TpuEff nD τ sig (Elt F) Λ₀ (.scVector ((i 0).castLE hcore2) ((i 1).castLE hsub2))) β) :
    (stepW (F := F) i arg6 arg11 arg12 P Q decP decQ inbP inbQ rem lo v >>= K) = (do
      let p : Vec F S16 .i32 ← Prog.lift (.load arg11 (rP v).toLoadRect (View.loadsAt_vmem h_S16))
      have hw : P (andi p (broadcast S16 31#32)) := (← Prog.lift (TpuEff.assume (P (andi p (broadcast S16 31#32))) (decP _))).down
      let val : Vec F S16 .f32 ← SparseCore.vectorLoadIdx arg12 ![andi p (broadcast S16 31#32)] (inbP _ hw) (View.loads_vmem h_S32)
      have hw' : Q (cellC (maskV rem v) lo p) := (← Prog.lift (TpuEff.assume (Q (cellC (maskV rem v) lo p)) (decQ _))).down
      let u ← SparseCore.vectorStoreIdx arg6 ![cellC (maskV rem v) lo p] val (inChunk (maskV rem v) lo p) false (inbQ _ hw') (View.stores_vmem_bits_univ h_S65536 rfl)
      K u) := rfl

theorem stepX_b {β : Type} (inbQ : ∀ d, Q d → ∀ a x, ((![d] : Fin 1 → IVec S16 32) a x).toNat < S65536.size a) (rem lo : BitVec 32) (v : Nat) (K : PUnit → Prog (TpuEff nD τ sig (Elt F) Λ₀ (.scVector ((i 0).castLE hcore2) ((i 1).castLE hsub2))) β) :
    (stepX (F := F) i arg6 arg11 Q decQ inbQ rem lo v >>= K) = (do
      let p : Vec F S16 .i32 ← Prog.lift (.load arg11 (rP v).toLoadRect (View.loadsAt_vmem h_S16))
      have hw' : Q (cellC (maskV rem v) lo p) := (← Prog.lift (TpuEff.assume (Q (cellC (maskV rem v) lo p)) (decQ _))).down
      let u ← SparseCore.vectorStoreIdx arg6 ![cellC (maskV rem v) lo p] (broadcast S16 (Scalar.ofBits .f32 0x00000000#32) : FVec F S16 .f32) (inChunk (maskV rem v) lo p) false (inbQ _ hw') (View.stores_vmem_bits_univ h_S65536 rfl)
      K u) := rfl

end K3

end Cert.Proof.Roll

end
-- ==== Proof.Roll5.lean ====
/-
  The loop that stages one window, rolled up.
-/
module

public import proofs.«01_k».proof.Proof.Roll4

@[expose] public section

noncomputable section

namespace Cert.Proof.Roll

open Cert.KernelIdeal Cert.KernelIdeal.Gen
open Idealize.ShloMosaic Idealize.SL.Sem

variable {F : FTy → Type} [FloatOps F]

section K3

variable (i : grid2.Coords) (a2 : Memref sig .scVector .hbm S1010688 .i32) (h2 : a2.IsWhole)
  (a3 : Memref sig .scVector .hbm S1024 .i32) (h3 : a3.IsWhole) (a4 : Memref sig .scVector .hbm S20 .f32) (h4 : a4.IsWhole)
  (a5 : Memref sig .scVector .hbm S16777216 .f32) (h5 : a5.IsWhole)
  (a6 : Memref sig .scVector .vmem S65536 .f32) (h6 : a6.IsWhole) (a7 : Memref sig .scVector .vmem S1024 .i32) (h7 : a7.IsWhole)
  (a8 : Memref sig .scVector .vmem S32 .i32) (h8 : a8.IsWhole) (a9 : Memref sig .scVector .vmem S32 .i32) (h9 : a9.IsWhole)
  (a10 : Memref sig .scVector .vmem S57344 .i32) (h10 : a10.IsWhole) (a11 : Memref sig .scVector .vmem S2048 .i32) (h11 : a11.IsWhole)
  (a12 : Memref sig .scVector .vmem S32 .f32) (h12 : a12.IsWhole)
  (a13 s0 s1 s2 s3 s4 s5 s6 s7 s8 : DmaSems sig S_)

variable (z0 z1 z2 z3 z4 z5 z6 z7 z8 z9 za zb zc zd ze zf zg zh zi zj zk zl zm zn zo zp zq zr zs zt zu zv : BitVec 32)

set_option maxRecDepth 100000 in
set_option maxHeartbeats 1000000 in
theorem winS_eq (k2_h1 : k2_cond1 z0 z1 z2 z3 z4 z5 z6 z7 z8 z9 za zb zc zd ze zf zg zh zi zj zk zl zm zn zo zp zq zr zs zt zu zv = 1#1) (v2228 v2229 v2239 : BitVec 32) (k2_hw4 : k2_chk4 z0 z1 z2 z3 z4 z5 z6 z7 z8 z9 za zb zc zd ze zf zg zh zi zj zk zl zm zn zo zp zq zr zs zt zu zv v2228 v2239) (k2_t2 : Fin (k2_t2_loop v2239).trips) (arg17 : BitVec 32) :
    (show Prog (TpuEff nD τ sig (Elt F) Λ₀ (.scVector ((i 0).castLE hcore2) ((i 1).castLE hsub2))) (BitVec 32) from do
      let ⟨v2269, v2293, v2298, k2_hw7, v2299⟩ : Σ' (v2269 : BitVec 32) (v2293 : IVec S16 1) (v2298 : IVec S16 32) (k2_hw7 : k2_chk7 z0 z1 z2 z3 z4 z5 z6 z7 z8 z9 za zb zc zd ze zf zg zh zi zj zk zl zm zn zo zp zq zr zs zt zu zv v2298), Vec F S16 .i32 ← k2_part1 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 v2228 v2229 v2239 k2_hw4 0#32 1#32 k2_t2 arg17
      let ⟨v2333, v2336, v2337⟩ : Σ' (v2333 : IVec S16 1) (v2336 : IVec S16 32), IVec S16 32 ← k2_part2 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2293 v2298 k2_hw7 v2299
      let ⟨v2373, v2374⟩ : Σ' (v2373 : IVec S16 1), BitVec 32 ← k2_part3 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2333 v2336 v2337
      let v2411 : IVec S16 32 ← k2_part4 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2373 v2374
      let ⟨v2443, v2448, k2_hw22, v2449⟩ : Σ' (v2443 : IVec S16 1) (v2448 : IVec S16 32) (k2_hw22 : k2_chk22 z0 z1 z2 z3 z4 z5 z6 z7 z8 z9 za zb zc zd ze zf zg zh zi zj zk zl zm zn zo zp zq zr zs zt zu zv v2448), Vec F S16 .i32 ← k2_part5 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2411
      let ⟨v2483, v2486, v2487⟩ : Σ' (v2483 : IVec S16 1) (v2486 : IVec S16 32), IVec S16 32 ← k2_part6 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2443 v2448 k2_hw22 v2449
      let ⟨v2523, v2524⟩ : Σ' (v2523 : IVec S16 1), BitVec 32 ← k2_part7 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2483 v2486 v2487
      let v2561 : IVec S16 32 ← k2_part8 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2523 v2524
      let ⟨v2593, v2598, k2_hw37, v2599⟩ : Σ' (v2593 : IVec S16 1) (v2598 : IVec S16 32) (k2_hw37 : k2_chk37 z0 z1 z2 z3 z4 z5 z6 z7 z8 z9 za zb zc zd ze zf zg zh zi zj zk zl zm zn zo zp zq zr zs zt zu zv v2598), Vec F S16 .i32 ← k2_part9 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2561
      let ⟨v2633, v2636, v2637⟩ : Σ' (v2633 : IVec S16 1) (v2636 : IVec S16 32), IVec S16 32 ← k2_part10 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2593 v2598 k2_hw37 v2599
      let ⟨v2673, v2674⟩ : Σ' (v2673 : IVec S16 1), BitVec 32 ← k2_part11 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2633 v2636 v2637
      let v2711 : IVec S16 32 ← k2_part12 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2673 v2674
      let ⟨v2743, v2748, k2_hw52, v2749⟩ : Σ' (v2743 : IVec S16 1) (v2748 : IVec S16 32) (k2_hw52 : k2_chk52 z0 z1 z2 z3 z4 z5 z6 z7 z8 z9 za zb zc zd ze zf zg zh zi zj zk zl zm zn zo zp zq zr zs zt zu zv v2748), Vec F S16 .i32 ← k2_part13 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2711
      let ⟨v2783, v2786, v2787⟩ : Σ' (v2783 : IVec S16 1) (v2786 : IVec S16 32), IVec S16 32 ← k2_part14 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2743 v2748 k2_hw52 v2749
      let ⟨v2823, v2824⟩ : Σ' (v2823 : IVec S16 1), BitVec 32 ← k2_part15 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2783 v2786 v2787
      let v2861 : IVec S16 32 ← k2_part16 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2823 v2824
      let ⟨v2893, v2898, k2_hw67, v2899⟩ : Σ' (v2893 : IVec S16 1) (v2898 : IVec S16 32) (k2_hw67 : k2_chk67 z0 z1 z2 z3 z4 z5 z6 z7 z8 z9 za zb zc zd ze zf zg zh zi zj zk zl zm zn zo zp zq zr zs zt zu zv v2898), Vec F S16 .i32 ← k2_part17 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2861
      let ⟨v2933, v2936, v2937⟩ : Σ' (v2933 : IVec S16 1) (v2936 : IVec S16 32), IVec S16 32 ← k2_part18 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2893 v2898 k2_hw67 v2899
      let ⟨v2973, v2974⟩ : Σ' (v2973 : IVec S16 1), BitVec 32 ← k2_part19 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2933 v2936 v2937
      let v3011 : IVec S16 32 ← k2_part20 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v2973 v2974
      let ⟨v3043, v3048, k2_hw82, v3049⟩ : Σ' (v3043 : IVec S16 1) (v3048 : IVec S16 32) (k2_hw82 : k2_chk82 z0 z1 z2 z3 z4 z5 z6 z7 z8 z9 za zb zc zd ze zf zg zh zi zj zk zl zm zn zo zp zq zr zs zt zu zv v3048), Vec F S16 .i32 ← k2_part21 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3011
      let ⟨v3083, v3086, v3087⟩ : Σ' (v3083 : IVec S16 1) (v3086 : IVec S16 32), IVec S16 32 ← k2_part22 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3043 v3048 k2_hw82 v3049
      let ⟨v3123, v3124⟩ : Σ' (v3123 : IVec S16 1), BitVec 32 ← k2_part23 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3083 v3086 v3087
      let v3161 : IVec S16 32 ← k2_part24 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3123 v3124
      let ⟨v3193, v3198, k2_hw97, v3199⟩ : Σ' (v3193 : IVec S16 1) (v3198 : IVec S16 32) (k2_hw97 : k2_chk97 z0 z1 z2 z3 z4 z5 z6 z7 z8 z9 za zb zc zd ze zf zg zh zi zj zk zl zm zn zo zp zq zr zs zt zu zv v3198), Vec F S16 .i32 ← k2_part25 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3161
      let ⟨v3233, v3236, v3237⟩ : Σ' (v3233 : IVec S16 1) (v3236 : IVec S16 32), IVec S16 32 ← k2_part26 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3193 v3198 k2_hw97 v3199
      let ⟨v3273, v3274⟩ : Σ' (v3273 : IVec S16 1), BitVec 32 ← k2_part27 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3233 v3236 v3237
      let v3311 : IVec S16 32 ← k2_part28 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3273 v3274
      let ⟨v3343, v3348, k2_hw112, v3349⟩ : Σ' (v3343 : IVec S16 1) (v3348 : IVec S16 32) (k2_hw112 : k2_chk112 z0 z1 z2 z3 z4 z5 z6 z7 z8 z9 za zb zc zd ze zf zg zh zi zj zk zl zm zn zo zp zq zr zs zt zu zv v3348), Vec F S16 .i32 ← k2_part29 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3311
      let ⟨v3383, v3386, v3387⟩ : Σ' (v3383 : IVec S16 1) (v3386 : IVec S16 32), IVec S16 32 ← k2_part30 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3343 v3348 k2_hw112 v3349
      let ⟨v3423, v3424⟩ : Σ' (v3423 : IVec S16 1), BitVec 32 ← k2_part31 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3383 v3386 v3387
      let v3461 : IVec S16 32 ← k2_part32 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3423 v3424
      let ⟨v3493, v3498, k2_hw127, v3499⟩ : Σ' (v3493 : IVec S16 1) (v3498 : IVec S16 32) (k2_hw127 : k2_chk127 z0 z1 z2 z3 z4 z5 z6 z7 z8 z9 za zb zc zd ze zf zg zh zi zj zk zl zm zn zo zp zq zr zs zt zu zv v3498), Vec F S16 .i32 ← k2_part33 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3461
      let ⟨v3533, v3536, v3537⟩ : Σ' (v3533 : IVec S16 1) (v3536 : IVec S16 32), IVec S16 32 ← k2_part34 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv k2_h1 arg17 v2269 v3493 v3498 k2_hw127 v3499
      have v3538 : IVec S16 32 := select v3533 v3536 v3537
      have k2_hw131 : k2_chk131 z0 z1 z2 z3 z4 z5 z6 z7 z8 z9 za zb zc zd ze zf zg zh zi zj zk zl zm zn zo zp zq zr zs zt zu zv v3538 := (← Prog.lift (TpuEff.assume (k2_chk131 z0 z1 z2 z3 z4 z5 z6 z7 z8 z9 za zb zc zd ze zf zg zh zi zj zk zl zm zn zo zp zq zr zs zt zu zv v3538) (k2_chk131.dec z0 z1 z2 z3 z4 z5 z6 z7 z8 z9 za zb zc zd ze zf zg zh zi zj zk zl zm zn zo zp zq zr zs zt zu zv v3538))).down
      let c2016 : Index := 2016#32
      let v3539 : Vec F S16 .i32 ← Prog.lift (.load a11 (Rect.unit (s := S2048) ![2016] S16.size inb_S2048_S16_2016).toLoadRect (View.loadsAt_vmem h_S16))
      SparseCore.vectorStoreIdx a10 ![v3538] v3539 v3533 false (k2_idx129_inb z0 z1 z2 z3 z4 z5 z6 z7 z8 z9 za zb zc zd ze zf zg zh zi zj zk zl zm zn zo zp zq zr zs zt zu zv v3538 k2_hw131 k2_h1) (View.stores_vmem_bits_univ h_S57344 rfl)
      let c2032_i32 : BitVec 32 := 2032#32
      have v3540 : IVec S16 32 := broadcast S16 c2032_i32
      have v3541 : IVec S16 32 := addi v3540 lane
      have v3542 : IVec S16 32 := broadcast S16 v2269
      have v3543 : IVec S16 1 := cmpi .slt v3541 v3542
      let c2032_i32_1108 : BitVec 32 := 2032#32
      let v3544 : BitVec 32 := Scalar.addi arg17 c2032_i32_1108
      have v3545 : IVec S16 32 := broadcast S16 v3544
      have v3546 : IVec S16 32 := addi v3545 lane
      let c0_i32_1109 : BitVec 32 := 0#32
      have v3547 : IVec S16 32 := broadcast S16 c0_i32_1109
      have v3548 : IVec S16 32 := select v3543 v3546 v3547
      have k2_hw132 : k2_chk132 z0 z1 z2 z3 z4 z5 z6 z7 z8 z9 za zb zc zd ze zf zg zh zi zj zk zl zm zn zo zp zq zr zs zt zu zv v3548 := (← Prog.lift (TpuEff.assume (k2_chk132 z0 z1 z2 z3 z4 z5 z6 z7 z8 z9 za zb zc zd ze zf zg zh zi zj zk zl zm zn zo zp zq zr zs zt zu zv v3548) (k2_chk132.dec z0 z1 z2 z3 z4 z5 z6 z7 z8 z9 za zb zc zd ze zf zg zh zi zj zk zl zm zn zo zp zq zr zs zt zu zv v3548))).down
      let c2032 : Index := 2032#32
      let v3549 : Vec F S16 .i32 ← Prog.lift (.load a11 (Rect.unit (s := S2048) ![2032] S16.size inb_S2048_S16_2032).toLoadRect (View.loadsAt_vmem h_S16))
      SparseCore.vectorStoreIdx a10 ![v3548] v3549 v3543 false (k2_idx130_inb z0 z1 z2 z3 z4 z5 z6 z7 z8 z9 za zb zc zd ze zf zg zh zi zj zk zl zm zn zo zp zq zr zs zt zu zv v3548 k2_hw132 k2_h1) (View.stores_vmem_bits_univ h_S57344 rfl)
      let c2048_i32_1110 : BitVec 32 := 2048#32
      let v3550 : BitVec 32 := Scalar.minsi v2269 c2048_i32_1110
      let v3551 : BitVec 32 := Scalar.addi arg17 v3550
      pure v3551) = win3 (F := F) i a2 a10 a11 h11 s2 z0 z1 z2 z3 z4 z5 z6 z7 z8 z9 za zb zc zd ze zf zg zh zi zj zk zl zm zn zo zp zq zr zs zt zu zv v2228 v2239 k2_hw4 k2_h1 k2_t2 arg17 := by
  delta win3
  refine gen fun K hK => ?_
  delta k2_part1
  refine bnd ?_
  refine op fun _ => ?_
  refine bnd ?_
  refine op fun _ => ?_
  refine Eq.trans ?_ (rep_peel _ 128 0 127 1 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 127 1 126 2 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 126 2 125 3 rfl rfl _).symm
  refine Eq.trans ?_ (stepS_b ..).symm
  refine bnd ?_
  refine op fun _ => ?_
  refine bnd ?_
  refine op fun _ => ?_
  refine prt ?_
  subst hK
  refine gen fun K hK => ?_
  delta k2_part2
  refine bnd ?_
  refine op fun _ => ?_
  refine Eq.trans ?_ (rep_peel _ 125 3 124 4 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 124 4 123 5 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 123 5 122 6 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part3
  refine Eq.trans ?_ (rep_peel _ 122 6 121 7 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 121 7 120 8 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 120 8 119 9 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 119 9 118 10 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part4
  refine Eq.trans ?_ (rep_peel _ 118 10 117 11 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 117 11 116 12 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 116 12 115 13 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 115 13 114 14 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part5
  refine Eq.trans ?_ (rep_peel _ 114 14 113 15 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 113 15 112 16 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 112 16 111 17 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 111 17 110 18 rfl rfl _).symm
  refine Eq.trans ?_ (stepS_b ..).symm
  refine bnd ?_
  refine op fun _ => ?_
  refine bnd ?_
  refine op fun _ => ?_
  refine prt ?_
  subst hK
  refine gen fun K hK => ?_
  delta k2_part6
  refine bnd ?_
  refine op fun _ => ?_
  refine Eq.trans ?_ (rep_peel _ 110 18 109 19 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 109 19 108 20 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 108 20 107 21 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part7
  refine Eq.trans ?_ (rep_peel _ 107 21 106 22 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 106 22 105 23 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 105 23 104 24 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 104 24 103 25 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part8
  refine Eq.trans ?_ (rep_peel _ 103 25 102 26 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 102 26 101 27 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 101 27 100 28 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 100 28 99 29 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part9
  refine Eq.trans ?_ (rep_peel _ 99 29 98 30 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 98 30 97 31 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 97 31 96 32 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 96 32 95 33 rfl rfl _).symm
  refine Eq.trans ?_ (stepS_b ..).symm
  refine bnd ?_
  refine op fun _ => ?_
  refine bnd ?_
  refine op fun _ => ?_
  refine prt ?_
  subst hK
  refine gen fun K hK => ?_
  delta k2_part10
  refine bnd ?_
  refine op fun _ => ?_
  refine Eq.trans ?_ (rep_peel _ 95 33 94 34 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 94 34 93 35 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 93 35 92 36 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part11
  refine Eq.trans ?_ (rep_peel _ 92 36 91 37 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 91 37 90 38 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 90 38 89 39 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 89 39 88 40 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part12
  refine Eq.trans ?_ (rep_peel _ 88 40 87 41 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 87 41 86 42 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 86 42 85 43 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 85 43 84 44 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part13
  refine Eq.trans ?_ (rep_peel _ 84 44 83 45 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 83 45 82 46 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 82 46 81 47 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 81 47 80 48 rfl rfl _).symm
  refine Eq.trans ?_ (stepS_b ..).symm
  refine bnd ?_
  refine op fun _ => ?_
  refine bnd ?_
  refine op fun _ => ?_
  refine prt ?_
  subst hK
  refine gen fun K hK => ?_
  delta k2_part14
  refine bnd ?_
  refine op fun _ => ?_
  refine Eq.trans ?_ (rep_peel _ 80 48 79 49 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 79 49 78 50 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 78 50 77 51 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part15
  refine Eq.trans ?_ (rep_peel _ 77 51 76 52 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 76 52 75 53 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 75 53 74 54 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 74 54 73 55 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part16
  refine Eq.trans ?_ (rep_peel _ 73 55 72 56 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 72 56 71 57 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 71 57 70 58 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 70 58 69 59 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part17
  refine Eq.trans ?_ (rep_peel _ 69 59 68 60 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 68 60 67 61 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 67 61 66 62 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 66 62 65 63 rfl rfl _).symm
  refine Eq.trans ?_ (stepS_b ..).symm
  refine bnd ?_
  refine op fun _ => ?_
  refine bnd ?_
  refine op fun _ => ?_
  refine prt ?_
  subst hK
  refine gen fun K hK => ?_
  delta k2_part18
  refine bnd ?_
  refine op fun _ => ?_
  refine Eq.trans ?_ (rep_peel _ 65 63 64 64 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 64 64 63 65 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 63 65 62 66 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part19
  refine Eq.trans ?_ (rep_peel _ 62 66 61 67 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 61 67 60 68 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 60 68 59 69 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 59 69 58 70 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part20
  refine Eq.trans ?_ (rep_peel _ 58 70 57 71 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 57 71 56 72 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 56 72 55 73 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 55 73 54 74 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part21
  refine Eq.trans ?_ (rep_peel _ 54 74 53 75 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 53 75 52 76 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 52 76 51 77 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 51 77 50 78 rfl rfl _).symm
  refine Eq.trans ?_ (stepS_b ..).symm
  refine bnd ?_
  refine op fun _ => ?_
  refine bnd ?_
  refine op fun _ => ?_
  refine prt ?_
  subst hK
  refine gen fun K hK => ?_
  delta k2_part22
  refine bnd ?_
  refine op fun _ => ?_
  refine Eq.trans ?_ (rep_peel _ 50 78 49 79 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 49 79 48 80 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 48 80 47 81 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part23
  refine Eq.trans ?_ (rep_peel _ 47 81 46 82 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 46 82 45 83 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 45 83 44 84 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 44 84 43 85 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part24
  refine Eq.trans ?_ (rep_peel _ 43 85 42 86 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 42 86 41 87 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 41 87 40 88 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 40 88 39 89 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part25
  refine Eq.trans ?_ (rep_peel _ 39 89 38 90 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 38 90 37 91 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 37 91 36 92 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 36 92 35 93 rfl rfl _).symm
  refine Eq.trans ?_ (stepS_b ..).symm
  refine bnd ?_
  refine op fun _ => ?_
  refine bnd ?_
  refine op fun _ => ?_
  refine prt ?_
  subst hK
  refine gen fun K hK => ?_
  delta k2_part26
  refine bnd ?_
  refine op fun _ => ?_
  refine Eq.trans ?_ (rep_peel _ 35 93 34 94 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 34 94 33 95 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 33 95 32 96 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part27
  refine Eq.trans ?_ (rep_peel _ 32 96 31 97 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 31 97 30 98 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 30 98 29 99 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 29 99 28 100 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part28
  refine Eq.trans ?_ (rep_peel _ 28 100 27 101 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 27 101 26 102 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 26 102 25 103 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 25 103 24 104 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part29
  refine Eq.trans ?_ (rep_peel _ 24 104 23 105 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 23 105 22 106 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 22 106 21 107 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 21 107 20 108 rfl rfl _).symm
  refine Eq.trans ?_ (stepS_b ..).symm
  refine bnd ?_
  refine op fun _ => ?_
  refine bnd ?_
  refine op fun _ => ?_
  refine prt ?_
  subst hK
  refine gen fun K hK => ?_
  delta k2_part30
  refine bnd ?_
  refine op fun _ => ?_
  refine Eq.trans ?_ (rep_peel _ 20 108 19 109 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 19 109 18 110 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 18 110 17 111 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part31
  refine Eq.trans ?_ (rep_peel _ 17 111 16 112 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 16 112 15 113 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 15 113 14 114 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 14 114 13 115 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part32
  refine Eq.trans ?_ (rep_peel _ 13 115 12 116 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 12 116 11 117 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 11 117 10 118 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 10 118 9 119 rfl rfl _).symm
  refine Eq.trans ?_ (stepS_b ..).symm
  refine bnd ?_
  refine op fun _ => ?_
  refine bnd ?_
  refine op fun _ => ?_
  refine bnd ?_
  refine op fun _ => ?_
  refine prt ?_
  subst hK
  refine gen fun K hK => ?_
  delta k2_part33
  refine Eq.trans ?_ (rep_peel _ 9 119 8 120 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 8 120 7 121 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 7 121 6 122 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 6 122 5 123 rfl rfl _).symm
  refine Eq.trans ?_ (stepS_b ..).symm
  refine bnd ?_
  refine op fun _ => ?_
  refine bnd ?_
  refine op fun _ => ?_
  refine prt ?_
  subst hK
  refine gen fun K hK => ?_
  delta k2_part34
  refine bnd ?_
  refine op fun _ => ?_
  refine Eq.trans ?_ (rep_peel _ 5 123 4 124 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 4 124 3 125 rfl rfl _).symm
  refine Eq.trans ?_ (stepS_b ..).symm
  refine bnd ?_
  refine op fun _ => ?_
  refine bnd ?_
  refine op fun _ => ?_
  refine bnd ?_
  refine op fun _ => ?_
  refine Eq.trans ?_ (rep_peel _ 3 125 2 126 rfl rfl _).symm
  refine Eq.trans ?_ (stepS_b ..).symm
  refine bnd ?_
  refine op fun _ => ?_
  refine bnd ?_
  refine op fun _ => ?_
  refine bnd ?_
  refine op fun _ => ?_
  refine prt ?_
  subst hK
  refine Eq.trans ?_ (rep_peel _ 2 126 1 127 rfl rfl _).symm
  refine Eq.trans ?_ (stepS_b ..).symm
  refine op fun _ => ?_
  refine op fun _ => ?_
  refine op fun _ => ?_
  refine Eq.trans ?_ (rep_peel _ 1 127 0 128 rfl rfl _).symm
  refine Eq.trans ?_ (stepS_b ..).symm
  refine op fun _ => ?_
  refine op fun _ => ?_
  refine op fun _ => ?_
  rfl

end K3

end Cert.Proof.Roll

end
-- ==== Proof.Roll6.lean ====
/-
  The loop that scatters one window, rolled up.
-/
module

public import proofs.«01_k».proof.Proof.Roll4

@[expose] public section

noncomputable section

namespace Cert.Proof.Roll

open Cert.KernelIdeal Cert.KernelIdeal.Gen
open Idealize.ShloMosaic Idealize.SL.Sem

variable {F : FTy → Type} [FloatOps F]

section K3

variable (i : grid2.Coords) (a2 : Memref sig .scVector .hbm S1010688 .i32) (h2 : a2.IsWhole)
  (a3 : Memref sig .scVector .hbm S1024 .i32) (h3 : a3.IsWhole) (a4 : Memref sig .scVector .hbm S20 .f32) (h4 : a4.IsWhole)
  (a5 : Memref sig .scVector .hbm S16777216 .f32) (h5 : a5.IsWhole)
  (a6 : Memref sig .scVector .vmem S65536 .f32) (h6 : a6.IsWhole) (a7 : Memref sig .scVector .vmem S1024 .i32) (h7 : a7.IsWhole)
  (a8 : Memref sig .scVector .vmem S32 .i32) (h8 : a8.IsWhole) (a9 : Memref sig .scVector .vmem S32 .i32) (h9 : a9.IsWhole)
  (a10 : Memref sig .scVector .vmem S57344 .i32) (h10 : a10.IsWhole) (a11 : Memref sig .scVector .vmem S2048 .i32) (h11 : a11.IsWhole)
  (a12 : Memref sig .scVector .vmem S32 .f32) (h12 : a12.IsWhole)
  (a13 s0 s1 s2 s3 s4 s5 s6 s7 s8 : DmaSems sig S_)

variable (z0 z1 z2 z3 z4 z5 z6 z7 z8 z9 za zb zc zd ze zf zg zh zi zj zk zl zm zn zo zp zq zr zs zt zu zv : BitVec 32)

set_option maxRecDepth 100000 in
set_option maxHeartbeats 4000000 in
theorem winC_eq (u0 u1 u2 u3 : BitVec 32) (k2_hw : k2_chk271 z0 z1 z2 z3 z4 z5 z6 z7 z8 z9 za zb zc zd ze zf zg zh zi zj zk zl zm zn zo zp zq zr zs zt zu zv u1 u3) (k2_h : k2_cond3 z0 z1 z2 z3 z4 z5 z6 z7 z8 z9 za zb zc zd ze zf zg zh zi zj zk zl zm zn zo zp zq zr zs zt zu zv = 1#1) (k2_t : Fin (k2_t9_loop u3).trips) :
    (show Prog (TpuEff nD τ sig (Elt F) Λ₀ (.scVector ((i 0).castLE hcore2) ((i 1).castLE hsub2))) PUnit from do
      let ⟨v2282, v4667, v4671, v4674, c65536_i32_1458⟩ : Σ' (v2282 : BitVec 32) (v4667 : Vec F S16 .i32) (v4671 : IVec S16 32) (v4674 : IVec S16 1), BitVec 32 ← k2_part136 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv u0 k2_h u1 u2 u3 k2_hw 0#32 1#32 k2_t
      let ⟨v4707, v4711, v4714, c65536_i32_1468⟩ : Σ' (v4707 : Vec F S16 .i32) (v4711 : IVec S16 32) (v4714 : IVec S16 1), BitVec 32 ← k2_part132 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv u0 k2_h v2282 v4667 v4671 v4674 c65536_i32_1458
      let ⟨v4747, v4751, v4754, c65536_i32_1478⟩ : Σ' (v4747 : Vec F S16 .i32) (v4751 : IVec S16 32) (v4754 : IVec S16 1), BitVec 32 ← k2_part133 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv u0 k2_h v2282 v4707 v4711 v4714 c65536_i32_1468
      let ⟨v4787, v4791, v4794, c65536_i32_1488⟩ : Σ' (v4787 : Vec F S16 .i32) (v4791 : IVec S16 32) (v4794 : IVec S16 1), BitVec 32 ← k2_part134 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv u0 k2_h v2282 v4747 v4751 v4754 c65536_i32_1478
      let ⟨v4827, v4831, v4834, c65536_i32_1498⟩ : Σ' (v4827 : Vec F S16 .i32) (v4831 : IVec S16 32) (v4834 : IVec S16 1), BitVec 32 ← k2_part135 i a2 h2 a3 h3 a4 h4 a5 h5 a6 h6 a7 h7 a8 h8 a9 h9 a10 h10 a11 h11 a12 h12 a13 s0 s1 s2 s3 s4 s5 s6 s7 s8 lane z0 z1 z2 z3 z4 z5 z6 z7 z8 z9 za zb zc zd ze zf zg zh zi zj zk zl zm zn zo zp zq zr zs zt zu zv u0 k2_h v2282 v4787 v4791 v4794 c65536_i32_1488
      have v4835 : IVec S16 32 := broadcast S16 c65536_i32_1498
      have v4836 : IVec S16 1 := cmpi .slt v4831 v4835
      have v4837 : IVec S16 1 := andi v4834 v4836
      let c31_i32_1499 : BitVec 32 := 31#32
      have v4838 : IVec S16 32 := broadcast S16 c31_i32_1499
      have v4839 : IVec S16 32 := andi v4827 v4838
      have k2_hw526 : k2_chk526 z0 z1 z2 z3 z4 z5 z6 z7 z8 z9 za zb zc zd ze zf zg zh zi zj zk zl zm zn zo zp zq zr zs zt zu zv v4839 := (← Prog.lift (TpuEff.assume (k2_chk526 z0 z1 z2 z3 z4 z5 z6 z7 z8 z9 za zb zc zd ze zf zg zh zi zj zk zl zm zn zo zp zq zr zs zt zu zv v4839) (k2_chk526.dec z0 z1 z2 z3 z4 z5 z6 z7 z8 z9 za zb zc zd ze zf zg zh zi zj zk zl zm zn zo zp zq zr zs zt zu zv v4839))).down
      let v4840 : Vec F S16 .f32 ← SparseCore.vectorLoadIdx a12 ![v4839] (k2_idx521_inb z0 z1 z2 z3 z4 z5 z6 z7 z8 z9 za zb zc zd ze zf zg zh zi zj zk zl zm zn zo zp zq zr zs zt zu zv v4839 k2_hw526 k2_h) (View.loads_vmem h_S32)
      let c0_i32_1500 : BitVec 32 := 0#32
      have v4841 : IVec S16 32 := broadcast S16 c0_i32_1500
      have v4842 : IVec S16 32 := select v4837 v4831 v4841
      have k2_hw527 : k2_chk527 z0 z1 z2 z3 z4 z5 z6 z7 z8 z9 za zb zc zd ze zf zg zh zi zj zk zl zm zn zo zp zq zr zs zt zu zv v4842 := (← Prog.lift (TpuEff.assume (k2_chk527 z0 z1 z2 z3 z4 z5 z6 z7 z8 z9 za zb zc zd ze zf zg zh zi zj zk zl zm zn zo zp zq zr zs zt zu zv v4842) (k2_chk527.dec z0 z1 z2 z3 z4 z5 z6 z7 z8 z9 za zb zc zd ze zf zg zh zi zj zk zl zm zn zo zp zq zr zs zt zu zv v4842))).down
      SparseCore.vectorStoreIdx a6 ![v4842] v4840 v4837 false (k2_idx522_inb z0 z1 z2 z3 z4 z5 z6 z7 z8 z9 za zb zc zd ze zf zg zh zi zj zk zl zm zn zo zp zq zr zs zt zu zv v4842 k2_hw527 k2_h) (View.stores_vmem_bits_univ h_S65536 rfl)
      pure ⟨⟩) = winC (F := F) i a2 a6 a11 h11 a12 s4 z0 z1 z2 z3 z4 z5 z6 z7 z8 z9 za zb zc zd ze zf zg zh zi zj zk zl zm zn zo zp zq zr zs zt zu zv u0 u1 u3 k2_hw k2_h k2_t := by
  delta winC
  refine Eq.trans ?_ (Prog.bind_pure _)
  simp only [Prog.bind_assoc]
  refine gen fun K1 hK1 => ?_
  delta k2_part136
  refine bnd ?_
  refine gen fun K2 hK2 => ?_
  delta k2_part72
  refine bnd ?_
  refine op fun _ => ?_
  refine bnd ?_
  refine op fun _ => ?_
  refine Eq.trans ?_ (rep_peel _ 128 0 127 1 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 127 1 126 2 rfl rfl _).symm
  refine Eq.trans ?_ (stepW_b ..).symm
  refine bnd ?_
  refine op fun _ => ?_
  refine prt ?_
  subst hK2
  refine bnd ?_
  refine gen fun K3 hK3 => ?_
  delta k2_part73
  refine bnd ?_
  refine op fun _ => ?_
  refine bnd ?_
  refine op fun _ => ?_
  refine bnd ?_
  refine op fun _ => ?_
  refine bnd ?_
  refine op fun _ => ?_
  refine Eq.trans ?_ (rep_peel _ 126 2 125 3 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 125 3 124 4 rfl rfl _).symm
  refine Eq.trans ?_ (stepW_b ..).symm
  refine bnd ?_
  refine op fun _ => ?_
  refine prt ?_
  subst hK3
  refine bnd ?_
  refine gen fun K4 hK4 => ?_
  delta k2_part74
  refine bnd ?_
  refine op fun _ => ?_
  refine bnd ?_
  refine op fun _ => ?_
  refine bnd ?_
  refine op fun _ => ?_
  refine bnd ?_
  refine op fun _ => ?_
  refine Eq.trans ?_ (rep_peel _ 124 4 123 5 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 123 5 122 6 rfl rfl _).symm
  refine Eq.trans ?_ (stepW_b ..).symm
  refine bnd ?_
  refine op fun _ => ?_
  refine prt ?_
  subst hK4
  refine bnd ?_
  refine gen fun K5 hK5 => ?_
  delta k2_part75
  refine bnd ?_
  refine op fun _ => ?_
  refine bnd ?_
  refine op fun _ => ?_
  refine bnd ?_
  refine op fun _ => ?_
  refine bnd ?_
  refine op fun _ => ?_
  refine Eq.trans ?_ (rep_peel _ 122 6 121 7 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 121 7 120 8 rfl rfl _).symm
  refine Eq.trans ?_ (stepW_b ..).symm
  refine bnd ?_
  refine op fun _ => ?_
  refine prt ?_
  subst hK5
  refine bnd ?_
  refine gen fun K6 hK6 => ?_
  delta k2_part76
  refine bnd ?_
  refine op fun _ => ?_
  refine bnd ?_
  refine op fun _ => ?_
  refine bnd ?_
  refine op fun _ => ?_
  refine bnd ?_
  refine op fun _ => ?_
  refine Eq.trans ?_ (rep_peel _ 120 8 119 9 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 119 9 118 10 rfl rfl _).symm
  refine Eq.trans ?_ (stepW_b ..).symm
  refine bnd ?_
  refine op fun _ => ?_
  refine prt ?_
  subst hK6
  refine bnd ?_
  refine gen fun K7 hK7 => ?_
  delta k2_part77
  refine bnd ?_
  refine op fun _ => ?_
  refine bnd ?_
  refine op fun _ => ?_
  refine bnd ?_
  refine op fun _ => ?_
  refine bnd ?_
  refine op fun _ => ?_
  refine Eq.trans ?_ (rep_peel _ 118 10 117 11 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 117 11 116 12 rfl rfl _).symm
  refine Eq.trans ?_ (stepW_b ..).symm
  refine bnd ?_
  refine op fun _ => ?_
  refine prt ?_
  subst hK7
  refine bnd ?_
  refine gen fun K8 hK8 => ?_
  delta k2_part78
  refine bnd ?_
  refine op fun _ => ?_
  refine bnd ?_
  refine op fun _ => ?_
  refine bnd ?_
  refine op fun _ => ?_
  refine bnd ?_
  refine op fun _ => ?_
  refine Eq.trans ?_ (rep_peel _ 116 12 115 13 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 115 13 114 14 rfl rfl _).symm
  refine Eq.trans ?_ (stepW_b ..).symm
  refine bnd ?_
  refine op fun _ => ?_
  refine prt ?_
  subst hK8
  refine bnd ?_
  refine gen fun K9 hK9 => ?_
  delta k2_part79
  refine bnd ?_
  refine op fun _ => ?_
  refine bnd ?_
  refine op fun _ => ?_
  refine bnd ?_
  refine op fun _ => ?_
  refine bnd ?_
  refine op fun _ => ?_
  refine Eq.trans ?_ (rep_peel _ 114 14 113 15 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 113 15 112 16 rfl rfl _).symm
  refine Eq.trans ?_ (stepW_b ..).symm
  refine bnd ?_
  refine op fun _ => ?_
  refine prt ?_
  subst hK9
  refine bnd ?_
  refine gen fun K10 hK10 => ?_
  delta k2_part80
  refine bnd ?_
  refine op fun _ => ?_
  refine bnd ?_
  refine op fun _ => ?_
  refine bnd ?_
  refine op fun _ => ?_
  refine bnd ?_
  refine op fun _ => ?_
  refine Eq.trans ?_ (rep_peel _ 112 16 111 17 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 111 17 110 18 rfl rfl _).symm
  refine Eq.trans ?_ (stepW_b ..).symm
  refine bnd ?_
  refine op fun _ => ?_
  refine prt ?_
  subst hK10
  refine bnd ?_
  refine gen fun K11 hK11 => ?_
  delta k2_part81
  refine bnd ?_
  refine op fun _ => ?_
  refine bnd ?_
  refine op fun _ => ?_
  refine bnd ?_
  refine op fun _ => ?_
  refine bnd ?_
  refine op fun _ => ?_
  refine Eq.trans ?_ (rep_peel _ 110 18 109 19 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 109 19 108 20 rfl rfl _).symm
  refine Eq.trans ?_ (stepW_b ..).symm
  refine bnd ?_
  refine op fun _ => ?_
  refine prt ?_
  subst hK11
  refine bnd ?_
  refine gen fun K12 hK12 => ?_
  delta k2_part82
  refine bnd ?_
  refine op fun _ => ?_
  refine bnd ?_
  refine op fun _ => ?_
  refine bnd ?_
  refine op fun _ => ?_
  refine bnd ?_
  refine op fun _ => ?_
  refine Eq.trans ?_ (rep_peel _ 108 20 107 21 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 107 21 106 22 rfl rfl _).symm
  refine Eq.trans ?_ (stepW_b ..).symm
  refine bnd ?_
  refine op fun _ => ?_
  refine prt ?_
  subst hK12
  refine bnd ?_
  refine gen fun K13 hK13 => ?_
  delta k2_part83
  refine bnd ?_
  refine op fun _ => ?_
  refine bnd ?_
  refine op fun _ => ?_
  refine bnd ?_
  refine op fun _ => ?_
  refine bnd ?_
  refine op fun _ => ?_
  refine Eq.trans ?_ (rep_peel _ 106 22 105 23 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 105 23 104 24 rfl rfl _).symm
  refine Eq.trans ?_ (stepW_b ..).symm
  refine bnd ?_
  refine op fun _ => ?_
  refine prt ?_
  subst hK13
  refine bnd ?_
  refine gen fun K14 hK14 => ?_
  delta k2_part84
  refine bnd ?_
  refine op fun _ => ?_
  refine bnd ?_
  refine op fun _ => ?_
  refine bnd ?_
  refine op fun _ => ?_
  refine bnd ?_
  refine op fun _ => ?_
  refine Eq.trans ?_ (rep_peel _ 104 24 103 25 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 103 25 102 26 rfl rfl _).symm
  refine Eq.trans ?_ (stepW_b ..).symm
  refine bnd ?_
  refine op fun _ => ?_
  refine prt ?_
  subst hK14
  refine bnd ?_
  refine gen fun K15 hK15 => ?_
  delta k2_part85
  refine bnd ?_
  refine op fun _ => ?_
  refine bnd ?_
  refine op fun _ => ?_
  refine bnd ?_
  refine op fun _ => ?_
  refine bnd ?_
  refine op fun _ => ?_
  refine Eq.trans ?_ (rep_peel _ 102 26 101 27 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 101 27 100 28 rfl rfl _).symm
  refine Eq.trans ?_ (stepW_b ..).symm
  refine bnd ?_
  refine op fun _ => ?_
  refine prt ?_
  subst hK15
  refine bnd ?_
  refine gen fun K16 hK16 => ?_
  delta k2_part86
  refine bnd ?_
  refine op fun _ => ?_
  refine bnd ?_
  refine op fun _ => ?_
  refine bnd ?_
  refine op fun _ => ?_
  refine bnd ?_
  refine op fun _ => ?_
  refine Eq.trans ?_ (rep_peel _ 100 28 99 29 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 99 29 98 30 rfl rfl _).symm
  refine Eq.trans ?_ (stepW_b ..).symm
  refine bnd ?_
  refine op fun _ => ?_
  refine prt ?_
  subst hK16
  refine bnd ?_
  refine gen fun K17 hK17 => ?_
  delta k2_part87
  refine bnd ?_
  refine op fun _ => ?_
  refine bnd ?_
  refine op fun _ => ?_
  refine bnd ?_
  refine op fun _ => ?_
  refine bnd ?_
  refine op fun _ => ?_
  refine Eq.trans ?_ (rep_peel _ 98 30 97 31 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 97 31 96 32 rfl rfl _).symm
  refine Eq.trans ?_ (stepW_b ..).symm
  refine bnd ?_
  refine op fun _ => ?_
  refine prt ?_
  subst hK17
  refine bnd ?_
  refine gen fun K18 hK18 => ?_
  delta k2_part88
  refine bnd ?_
  refine op fun _ => ?_
  refine bnd ?_
  refine op fun _ => ?_
  refine bnd ?_
  refine op fun _ => ?_
  refine bnd ?_
  refine op fun _ => ?_
  refine Eq.trans ?_ (rep_peel _ 96 32 95 33 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 95 33 94 34 rfl rfl _).symm
  refine Eq.trans ?_ (stepW_b ..).symm
  refine bnd ?_
  refine op fun _ => ?_
  refine prt ?_
  subst hK18
  refine bnd ?_
  refine gen fun K19 hK19 => ?_
  delta k2_part89
  refine bnd ?_
  refine op fun _ => ?_
  refine bnd ?_
  refine op fun _ => ?_
  refine bnd ?_
  refine op fun _ => ?_
  refine bnd ?_
  refine op fun _ => ?_
  refine Eq.trans ?_ (rep_peel _ 94 34 93 35 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 93 35 92 36 rfl rfl _).symm
  refine Eq.trans ?_ (stepW_b ..).symm
  refine bnd ?_
  refine op fun _ => ?_
  refine prt ?_
  subst hK19
  refine bnd ?_
  refine gen fun K20 hK20 => ?_
  delta k2_part90
  refine bnd ?_
  refine op fun _ => ?_
  refine bnd ?_
  refine op fun _ => ?_
  refine bnd ?_
  refine op fun _ => ?_
  refine bnd ?_
  refine op fun _ => ?_
  refine Eq.trans ?_ (rep_peel _ 92 36 91 37 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 91 37 90 38 rfl rfl _).symm
  refine Eq.trans ?_ (stepW_b ..).symm
  refine bnd ?_
  refine op fun _ => ?_
  refine prt ?_
  subst hK20
  refine bnd ?_
  refine gen fun K21 hK21 => ?_
  delta k2_part91
  refine bnd ?_
  refine op fun _ => ?_
  refine bnd ?_
  refine op fun _ => ?_
  refine bnd ?_
  refine op fun _ => ?_
  refine bnd ?_
  refine op fun _ => ?_
  refine Eq.trans ?_ (rep_peel _ 90 38 89 39 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 89 39 88 40 rfl rfl _).symm
  refine Eq.trans ?_ (stepW_b ..).symm
  refine bnd ?_
  refine op fun _ => ?_
  refine prt ?_
  subst hK21
  refine bnd ?_
  refine gen fun K22 hK22 => ?_
  delta k2_part92
  refine bnd ?_
  refine op fun _ => ?_
  refine bnd ?_
  refine op fun _ => ?_
  refine bnd ?_
  refine op fun _ => ?_
  refine bnd ?_
  refine op fun _ => ?_
  refine Eq.trans ?_ (rep_peel _ 88 40 87 41 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 87 41 86 42 rfl rfl _).symm
  refine Eq.trans ?_ (stepW_b ..).symm
  refine bnd ?_
  refine op fun _ => ?_
  refine prt ?_
  subst hK22
  refine bnd ?_
  refine gen fun K23 hK23 => ?_
  delta k2_part93
  refine bnd ?_
  refine op fun _ => ?_
  refine bnd ?_
  refine op fun _ => ?_
  refine bnd ?_
  refine op fun _ => ?_
  refine bnd ?_
  refine op fun _ => ?_
  refine Eq.trans ?_ (rep_peel _ 86 42 85 43 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 85 43 84 44 rfl rfl _).symm
  refine Eq.trans ?_ (stepW_b ..).symm
  refine bnd ?_
  refine op fun _ => ?_
  refine prt ?_
  subst hK23
  refine bnd ?_
  refine gen fun K24 hK24 => ?_
  delta k2_part94
  refine bnd ?_
  refine op fun _ => ?_
  refine bnd ?_
  refine op fun _ => ?_
  refine bnd ?_
  refine op fun _ => ?_
  refine bnd ?_
  refine op fun _ => ?_
  refine Eq.trans ?_ (rep_peel _ 84 44 83 45 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 83 45 82 46 rfl rfl _).symm
  refine Eq.trans ?_ (stepW_b ..).symm
  refine bnd ?_
  refine op fun _ => ?_
  refine prt ?_
  subst hK24
  refine bnd ?_
  refine gen fun K25 hK25 => ?_
  delta k2_part95
  refine bnd ?_
  refine op fun _ => ?_
  refine bnd ?_
  refine op fun _ => ?_
  refine bnd ?_
  refine op fun _ => ?_
  refine bnd ?_
  refine op fun _ => ?_
  refine Eq.trans ?_ (rep_peel _ 82 46 81 47 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 81 47 80 48 rfl rfl _).symm
  refine Eq.trans ?_ (stepW_b ..).symm
  refine bnd ?_
  refine op fun _ => ?_
  refine prt ?_
  subst hK25
  refine bnd ?_
  refine gen fun K26 hK26 => ?_
  delta k2_part96
  refine bnd ?_
  refine op fun _ => ?_
  refine bnd ?_
  refine op fun _ => ?_
  refine bnd ?_
  refine op fun _ => ?_
  refine bnd ?_
  refine op fun _ => ?_
  refine Eq.trans ?_ (rep_peel _ 80 48 79 49 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 79 49 78 50 rfl rfl _).symm
  refine Eq.trans ?_ (stepW_b ..).symm
  refine bnd ?_
  refine op fun _ => ?_
  refine prt ?_
  subst hK26
  refine bnd ?_
  refine gen fun K27 hK27 => ?_
  delta k2_part97
  refine bnd ?_
  refine op fun _ => ?_
  refine bnd ?_
  refine op fun _ => ?_
  refine bnd ?_
  refine op fun _ => ?_
  refine bnd ?_
  refine op fun _ => ?_
  refine Eq.trans ?_ (rep_peel _ 78 50 77 51 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 77 51 76 52 rfl rfl _).symm
  refine Eq.trans ?_ (stepW_b ..).symm
  refine bnd ?_
  refine op fun _ => ?_
  refine prt ?_
  subst hK27
  refine bnd ?_
  refine gen fun K28 hK28 => ?_
  delta k2_part98
  refine bnd ?_
  refine op fun _ => ?_
  refine bnd ?_
  refine op fun _ => ?_
  refine bnd ?_
  refine op fun _ => ?_
  refine bnd ?_
  refine op fun _ => ?_
  refine Eq.trans ?_ (rep_peel _ 76 52 75 53 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 75 53 74 54 rfl rfl _).symm
  refine Eq.trans ?_ (stepW_b ..).symm
  refine bnd ?_
  refine op fun _ => ?_
  refine prt ?_
  subst hK28
  refine bnd ?_
  refine gen fun K29 hK29 => ?_
  delta k2_part99
  refine bnd ?_
  refine op fun _ => ?_
  refine bnd ?_
  refine op fun _ => ?_
  refine bnd ?_
  refine op fun _ => ?_
  refine bnd ?_
  refine op fun _ => ?_
  refine Eq.trans ?_ (rep_peel _ 74 54 73 55 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 73 55 72 56 rfl rfl _).symm
  refine Eq.trans ?_ (stepW_b ..).symm
  refine bnd ?_
  refine op fun _ => ?_
  refine prt ?_
  subst hK29
  refine bnd ?_
  refine gen fun K30 hK30 => ?_
  delta k2_part100
  refine bnd ?_
  refine op fun _ => ?_
  refine bnd ?_
  refine op fun _ => ?_
  refine bnd ?_
  refine op fun _ => ?_
  refine bnd ?_
  refine op fun _ => ?_
  refine Eq.trans ?_ (rep_peel _ 72 56 71 57 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 71 57 70 58 rfl rfl _).symm
  refine Eq.trans ?_ (stepW_b ..).symm
  refine bnd ?_
  refine op fun _ => ?_
  refine prt ?_
  subst hK30
  refine bnd ?_
  refine gen fun K31 hK31 => ?_
  delta k2_part101
  refine bnd ?_
  refine op fun _ => ?_
  refine bnd ?_
  refine op fun _ => ?_
  refine bnd ?_
  refine op fun _ => ?_
  refine bnd ?_
  refine op fun _ => ?_
  refine Eq.trans ?_ (rep_peel _ 70 58 69 59 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 69 59 68 60 rfl rfl _).symm
  refine Eq.trans ?_ (stepW_b ..).symm
  refine bnd ?_
  refine op fun _ => ?_
  refine prt ?_
  subst hK31
  refine bnd ?_
  refine gen fun K32 hK32 => ?_
  delta k2_part102
  refine bnd ?_
  refine op fun _ => ?_
  refine bnd ?_
  refine op fun _ => ?_
  refine bnd ?_
  refine op fun _ => ?_
  refine bnd ?_
  refine op fun _ => ?_
  refine Eq.trans ?_ (rep_peel _ 68 60 67 61 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 67 61 66 62 rfl rfl _).symm
  refine Eq.trans ?_ (stepW_b ..).symm
  refine bnd ?_
  refine op fun _ => ?_
  refine prt ?_
  subst hK32
  refine bnd ?_
  refine gen fun K33 hK33 => ?_
  delta k2_part103
  refine bnd ?_
  refine op fun _ => ?_
  refine bnd ?_
  refine op fun _ => ?_
  refine bnd ?_
  refine op fun _ => ?_
  refine bnd ?_
  refine op fun _ => ?_
  refine Eq.trans ?_ (rep_peel _ 66 62 65 63 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 65 63 64 64 rfl rfl _).symm
  refine Eq.trans ?_ (stepW_b ..).symm
  refine bnd ?_
  refine op fun _ => ?_
  refine prt ?_
  subst hK33
  refine bnd ?_
  refine gen fun K34 hK34 => ?_
  delta k2_part104
  refine bnd ?_
  refine op fun _ => ?_
  refine bnd ?_
  refine op fun _ => ?_
  refine bnd ?_
  refine op fun _ => ?_
  refine bnd ?_
  refine op fun _ => ?_
  refine Eq.trans ?_ (rep_peel _ 64 64 63 65 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 63 65 62 66 rfl rfl _).symm
  refine Eq.trans ?_ (stepW_b ..).symm
  refine bnd ?_
  refine op fun _ => ?_
  refine prt ?_
  subst hK34
  refine bnd ?_
  refine gen fun K35 hK35 => ?_
  delta k2_part105
  refine bnd ?_
  refine op fun _ => ?_
  refine bnd ?_
  refine op fun _ => ?_
  refine bnd ?_
  refine op fun _ => ?_
  refine bnd ?_
  refine op fun _ => ?_
  refine Eq.trans ?_ (rep_peel _ 62 66 61 67 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 61 67 60 68 rfl rfl _).symm
  refine Eq.trans ?_ (stepW_b ..).symm
  refine bnd ?_
  refine op fun _ => ?_
  refine prt ?_
  subst hK35
  refine bnd ?_
  refine gen fun K36 hK36 => ?_
  delta k2_part106
  refine bnd ?_
  refine op fun _ => ?_
  refine bnd ?_
  refine op fun _ => ?_
  refine bnd ?_
  refine op fun _ => ?_
  refine bnd ?_
  refine op fun _ => ?_
  refine Eq.trans ?_ (rep_peel _ 60 68 59 69 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 59 69 58 70 rfl rfl _).symm
  refine Eq.trans ?_ (stepW_b ..).symm
  refine bnd ?_
  refine op fun _ => ?_
  refine prt ?_
  subst hK36
  refine bnd ?_
  refine gen fun K37 hK37 => ?_
  delta k2_part107
  refine bnd ?_
  refine op fun _ => ?_
  refine bnd ?_
  refine op fun _ => ?_
  refine bnd ?_
  refine op fun _ => ?_
  refine bnd ?_
  refine op fun _ => ?_
  refine Eq.trans ?_ (rep_peel _ 58 70 57 71 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 57 71 56 72 rfl rfl _).symm
  refine Eq.trans ?_ (stepW_b ..).symm
  refine bnd ?_
  refine op fun _ => ?_
  refine prt ?_
  subst hK37
  refine bnd ?_
  refine gen fun K38 hK38 => ?_
  delta k2_part108
  refine bnd ?_
  refine op fun _ => ?_
  refine bnd ?_
  refine op fun _ => ?_
  refine bnd ?_
  refine op fun _ => ?_
  refine bnd ?_
  refine op fun _ => ?_
  refine Eq.trans ?_ (rep_peel _ 56 72 55 73 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 55 73 54 74 rfl rfl _).symm
  refine Eq.trans ?_ (stepW_b ..).symm
  refine bnd ?_
  refine op fun _ => ?_
  refine prt ?_
  subst hK38
  refine bnd ?_
  refine gen fun K39 hK39 => ?_
  delta k2_part109
  refine bnd ?_
  refine op fun _ => ?_
  refine bnd ?_
  refine op fun _ => ?_
  refine bnd ?_
  refine op fun _ => ?_
  refine bnd ?_
  refine op fun _ => ?_
  refine Eq.trans ?_ (rep_peel _ 54 74 53 75 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 53 75 52 76 rfl rfl _).symm
  refine Eq.trans ?_ (stepW_b ..).symm
  refine bnd ?_
  refine op fun _ => ?_
  refine prt ?_
  subst hK39
  refine bnd ?_
  refine gen fun K40 hK40 => ?_
  delta k2_part110
  refine bnd ?_
  refine op fun _ => ?_
  refine bnd ?_
  refine op fun _ => ?_
  refine bnd ?_
  refine op fun _ => ?_
  refine bnd ?_
  refine op fun _ => ?_
  refine Eq.trans ?_ (rep_peel _ 52 76 51 77 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 51 77 50 78 rfl rfl _).symm
  refine Eq.trans ?_ (stepW_b ..).symm
  refine bnd ?_
  refine op fun _ => ?_
  refine prt ?_
  subst hK40
  refine bnd ?_
  refine gen fun K41 hK41 => ?_
  delta k2_part111
  refine bnd ?_
  refine op fun _ => ?_
  refine bnd ?_
  refine op fun _ => ?_
  refine bnd ?_
  refine op fun _ => ?_
  refine bnd ?_
  refine op fun _ => ?_
  refine Eq.trans ?_ (rep_peel _ 50 78 49 79 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 49 79 48 80 rfl rfl _).symm
  refine Eq.trans ?_ (stepW_b ..).symm
  refine bnd ?_
  refine op fun _ => ?_
  refine prt ?_
  subst hK41
  refine bnd ?_
  refine gen fun K42 hK42 => ?_
  delta k2_part112
  refine bnd ?_
  refine op fun _ => ?_
  refine bnd ?_
  refine op fun _ => ?_
  refine bnd ?_
  refine op fun _ => ?_
  refine bnd ?_
  refine op fun _ => ?_
  refine Eq.trans ?_ (rep_peel _ 48 80 47 81 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 47 81 46 82 rfl rfl _).symm
  refine Eq.trans ?_ (stepW_b ..).symm
  refine bnd ?_
  refine op fun _ => ?_
  refine prt ?_
  subst hK42
  refine bnd ?_
  refine gen fun K43 hK43 => ?_
  delta k2_part113
  refine bnd ?_
  refine op fun _ => ?_
  refine bnd ?_
  refine op fun _ => ?_
  refine bnd ?_
  refine op fun _ => ?_
  refine bnd ?_
  refine op fun _ => ?_
  refine Eq.trans ?_ (rep_peel _ 46 82 45 83 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 45 83 44 84 rfl rfl _).symm
  refine Eq.trans ?_ (stepW_b ..).symm
  refine bnd ?_
  refine op fun _ => ?_
  refine prt ?_
  subst hK43
  refine bnd ?_
  refine gen fun K44 hK44 => ?_
  delta k2_part114
  refine bnd ?_
  refine op fun _ => ?_
  refine bnd ?_
  refine op fun _ => ?_
  refine bnd ?_
  refine op fun _ => ?_
  refine bnd ?_
  refine op fun _ => ?_
  refine Eq.trans ?_ (rep_peel _ 44 84 43 85 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 43 85 42 86 rfl rfl _).symm
  refine Eq.trans ?_ (stepW_b ..).symm
  refine bnd ?_
  refine op fun _ => ?_
  refine prt ?_
  subst hK44
  refine bnd ?_
  refine gen fun K45 hK45 => ?_
  delta k2_part115
  refine bnd ?_
  refine op fun _ => ?_
  refine bnd ?_
  refine op fun _ => ?_
  refine bnd ?_
  refine op fun _ => ?_
  refine bnd ?_
  refine op fun _ => ?_
  refine Eq.trans ?_ (rep_peel _ 42 86 41 87 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 41 87 40 88 rfl rfl _).symm
  refine Eq.trans ?_ (stepW_b ..).symm
  refine bnd ?_
  refine op fun _ => ?_
  refine prt ?_
  subst hK45
  refine bnd ?_
  refine gen fun K46 hK46 => ?_
  delta k2_part116
  refine bnd ?_
  refine op fun _ => ?_
  refine bnd ?_
  refine op fun _ => ?_
  refine bnd ?_
  refine op fun _ => ?_
  refine bnd ?_
  refine op fun _ => ?_
  refine Eq.trans ?_ (rep_peel _ 40 88 39 89 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 39 89 38 90 rfl rfl _).symm
  refine Eq.trans ?_ (stepW_b ..).symm
  refine bnd ?_
  refine op fun _ => ?_
  refine prt ?_
  subst hK46
  refine bnd ?_
  refine gen fun K47 hK47 => ?_
  delta k2_part117
  refine bnd ?_
  refine op fun _ => ?_
  refine bnd ?_
  refine op fun _ => ?_
  refine bnd ?_
  refine op fun _ => ?_
  refine bnd ?_
  refine op fun _ => ?_
  refine Eq.trans ?_ (rep_peel _ 38 90 37 91 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 37 91 36 92 rfl rfl _).symm
  refine Eq.trans ?_ (stepW_b ..).symm
  refine bnd ?_
  refine op fun _ => ?_
  refine prt ?_
  subst hK47
  refine bnd ?_
  refine gen fun K48 hK48 => ?_
  delta k2_part118
  refine bnd ?_
  refine op fun _ => ?_
  refine bnd ?_
  refine op fun _ => ?_
  refine bnd ?_
  refine op fun _ => ?_
  refine bnd ?_
  refine op fun _ => ?_
  refine Eq.trans ?_ (rep_peel _ 36 92 35 93 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 35 93 34 94 rfl rfl _).symm
  refine Eq.trans ?_ (stepW_b ..).symm
  refine bnd ?_
  refine op fun _ => ?_
  refine prt ?_
  subst hK48
  refine bnd ?_
  refine gen fun K49 hK49 => ?_
  delta k2_part119
  refine bnd ?_
  refine op fun _ => ?_
  refine bnd ?_
  refine op fun _ => ?_
  refine bnd ?_
  refine op fun _ => ?_
  refine bnd ?_
  refine op fun _ => ?_
  refine Eq.trans ?_ (rep_peel _ 34 94 33 95 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 33 95 32 96 rfl rfl _).symm
  refine Eq.trans ?_ (stepW_b ..).symm
  refine bnd ?_
  refine op fun _ => ?_
  refine prt ?_
  subst hK49
  refine bnd ?_
  refine gen fun K50 hK50 => ?_
  delta k2_part120
  refine bnd ?_
  refine op fun _ => ?_
  refine bnd ?_
  refine op fun _ => ?_
  refine bnd ?_
  refine op fun _ => ?_
  refine bnd ?_
  refine op fun _ => ?_
  refine Eq.trans ?_ (rep_peel _ 32 96 31 97 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 31 97 30 98 rfl rfl _).symm
  refine Eq.trans ?_ (stepW_b ..).symm
  refine bnd ?_
  refine op fun _ => ?_
  refine prt ?_
  subst hK50
  refine bnd ?_
  refine gen fun K51 hK51 => ?_
  delta k2_part121
  refine bnd ?_
  refine op fun _ => ?_
  refine bnd ?_
  refine op fun _ => ?_
  refine bnd ?_
  refine op fun _ => ?_
  refine bnd ?_
  refine op fun _ => ?_
  refine Eq.trans ?_ (rep_peel _ 30 98 29 99 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 29 99 28 100 rfl rfl _).symm
  refine Eq.trans ?_ (stepW_b ..).symm
  refine bnd ?_
  refine op fun _ => ?_
  refine prt ?_
  subst hK51
  refine bnd ?_
  refine gen fun K52 hK52 => ?_
  delta k2_part122
  refine bnd ?_
  refine op fun _ => ?_
  refine bnd ?_
  refine op fun _ => ?_
  refine bnd ?_
  refine op fun _ => ?_
  refine bnd ?_
  refine op fun _ => ?_
  refine Eq.trans ?_ (rep_peel _ 28 100 27 101 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 27 101 26 102 rfl rfl _).symm
  refine Eq.trans ?_ (stepW_b ..).symm
  refine bnd ?_
  refine op fun _ => ?_
  refine prt ?_
  subst hK52
  refine bnd ?_
  refine gen fun K53 hK53 => ?_
  delta k2_part123
  refine bnd ?_
  refine op fun _ => ?_
  refine bnd ?_
  refine op fun _ => ?_
  refine bnd ?_
  refine op fun _ => ?_
  refine bnd ?_
  refine op fun _ => ?_
  refine Eq.trans ?_ (rep_peel _ 26 102 25 103 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 25 103 24 104 rfl rfl _).symm
  refine Eq.trans ?_ (stepW_b ..).symm
  refine bnd ?_
  refine op fun _ => ?_
  refine prt ?_
  subst hK53
  refine bnd ?_
  refine gen fun K54 hK54 => ?_
  delta k2_part124
  refine bnd ?_
  refine op fun _ => ?_
  refine bnd ?_
  refine op fun _ => ?_
  refine bnd ?_
  refine op fun _ => ?_
  refine bnd ?_
  refine op fun _ => ?_
  refine Eq.trans ?_ (rep_peel _ 24 104 23 105 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 23 105 22 106 rfl rfl _).symm
  refine Eq.trans ?_ (stepW_b ..).symm
  refine bnd ?_
  refine op fun _ => ?_
  refine prt ?_
  subst hK54
  refine bnd ?_
  refine gen fun K55 hK55 => ?_
  delta k2_part125
  refine bnd ?_
  refine op fun _ => ?_
  refine bnd ?_
  refine op fun _ => ?_
  refine bnd ?_
  refine op fun _ => ?_
  refine bnd ?_
  refine op fun _ => ?_
  refine Eq.trans ?_ (rep_peel _ 22 106 21 107 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 21 107 20 108 rfl rfl _).symm
  refine Eq.trans ?_ (stepW_b ..).symm
  refine bnd ?_
  refine op fun _ => ?_
  refine prt ?_
  subst hK55
  refine bnd ?_
  refine gen fun K56 hK56 => ?_
  delta k2_part126
  refine bnd ?_
  refine op fun _ => ?_
  refine bnd ?_
  refine op fun _ => ?_
  refine bnd ?_
  refine op fun _ => ?_
  refine bnd ?_
  refine op fun _ => ?_
  refine Eq.trans ?_ (rep_peel _ 20 108 19 109 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 19 109 18 110 rfl rfl _).symm
  refine Eq.trans ?_ (stepW_b ..).symm
  refine bnd ?_
  refine op fun _ => ?_
  refine prt ?_
  subst hK56
  refine bnd ?_
  refine gen fun K57 hK57 => ?_
  delta k2_part127
  refine bnd ?_
  refine op fun _ => ?_
  refine bnd ?_
  refine op fun _ => ?_
  refine bnd ?_
  refine op fun _ => ?_
  refine bnd ?_
  refine op fun _ => ?_
  refine Eq.trans ?_ (rep_peel _ 18 110 17 111 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 17 111 16 112 rfl rfl _).symm
  refine Eq.trans ?_ (stepW_b ..).symm
  refine bnd ?_
  refine op fun _ => ?_
  refine prt ?_
  subst hK57
  refine bnd ?_
  refine gen fun K58 hK58 => ?_
  delta k2_part128
  refine bnd ?_
  refine op fun _ => ?_
  refine bnd ?_
  refine op fun _ => ?_
  refine bnd ?_
  refine op fun _ => ?_
  refine bnd ?_
  refine op fun _ => ?_
  refine Eq.trans ?_ (rep_peel _ 16 112 15 113 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 15 113 14 114 rfl rfl _).symm
  refine Eq.trans ?_ (stepW_b ..).symm
  refine bnd ?_
  refine op fun _ => ?_
  refine prt ?_
  subst hK58
  refine bnd ?_
  refine gen fun K59 hK59 => ?_
  delta k2_part129
  refine bnd ?_
  refine op fun _ => ?_
  refine bnd ?_
  refine op fun _ => ?_
  refine bnd ?_
  refine op fun _ => ?_
  refine bnd ?_
  refine op fun _ => ?_
  refine Eq.trans ?_ (rep_peel _ 14 114 13 115 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 13 115 12 116 rfl rfl _).symm
  refine Eq.trans ?_ (stepW_b ..).symm
  refine bnd ?_
  refine op fun _ => ?_
  refine prt ?_
  subst hK59
  refine bnd ?_
  refine gen fun K60 hK60 => ?_
  delta k2_part130
  refine bnd ?_
  refine op fun _ => ?_
  refine bnd ?_
  refine op fun _ => ?_
  refine bnd ?_
  refine op fun _ => ?_
  refine bnd ?_
  refine op fun _ => ?_
  refine Eq.trans ?_ (rep_peel _ 12 116 11 117 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 11 117 10 118 rfl rfl _).symm
  refine Eq.trans ?_ (stepW_b ..).symm
  refine bnd ?_
  refine op fun _ => ?_
  refine prt ?_
  subst hK60
  refine bnd ?_
  refine gen fun K61 hK61 => ?_
  delta k2_part131
  refine bnd ?_
  refine op fun _ => ?_
  refine bnd ?_
  refine op fun _ => ?_
  refine bnd ?_
  refine op fun _ => ?_
  refine bnd ?_
  refine op fun _ => ?_
  refine Eq.trans ?_ (rep_peel _ 10 118 9 119 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 9 119 8 120 rfl rfl _).symm
  refine Eq.trans ?_ (stepW_b ..).symm
  refine bnd ?_
  refine op fun _ => ?_
  refine prt ?_
  subst hK61
  refine prt ?_
  subst hK1
  refine gen fun K62 hK62 => ?_
  delta k2_part132
  refine bnd ?_
  refine op fun _ => ?_
  refine bnd ?_
  refine op fun _ => ?_
  refine bnd ?_
  refine op fun _ => ?_
  refine bnd ?_
  refine op fun _ => ?_
  refine Eq.trans ?_ (rep_peel _ 8 120 7 121 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 7 121 6 122 rfl rfl _).symm
  refine Eq.trans ?_ (stepW_b ..).symm
  refine bnd ?_
  refine op fun _ => ?_
  refine prt ?_
  subst hK62
  refine gen fun K63 hK63 => ?_
  delta k2_part133
  refine bnd ?_
  refine op fun _ => ?_
  refine bnd ?_
  refine op fun _ => ?_
  refine bnd ?_
  refine op fun _ => ?_
  refine bnd ?_
  refine op fun _ => ?_
  refine Eq.trans ?_ (rep_peel _ 6 122 5 123 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 5 123 4 124 rfl rfl _).symm
  refine Eq.trans ?_ (stepW_b ..).symm
  refine bnd ?_
  refine op fun _ => ?_
  refine prt ?_
  subst hK63
  refine gen fun K64 hK64 => ?_
  delta k2_part134
  refine bnd ?_
  refine op fun _ => ?_
  refine bnd ?_
  refine op fun _ => ?_
  refine bnd ?_
  refine op fun _ => ?_
  refine bnd ?_
  refine op fun _ => ?_
  refine Eq.trans ?_ (rep_peel _ 4 124 3 125 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 3 125 2 126 rfl rfl _).symm
  refine Eq.trans ?_ (stepW_b ..).symm
  refine bnd ?_
  refine op fun _ => ?_
  refine prt ?_
  subst hK64
  refine gen fun K65 hK65 => ?_
  delta k2_part135
  refine bnd ?_
  refine op fun _ => ?_
  refine bnd ?_
  refine op fun _ => ?_
  refine bnd ?_
  refine op fun _ => ?_
  refine bnd ?_
  refine op fun _ => ?_
  refine Eq.trans ?_ (rep_peel _ 2 126 1 127 rfl rfl _).symm
  refine Eq.trans ?_ (stepW_b ..).symm
  refine bnd ?_
  refine op fun _ => ?_
  refine bnd ?_
  refine op fun _ => ?_
  refine bnd ?_
  refine op fun _ => ?_
  refine bnd ?_
  refine op fun _ => ?_
  refine bnd ?_
  refine op fun _ => ?_
  refine Eq.trans ?_ (rep_peel _ 1 127 0 128 rfl rfl _).symm
  refine Eq.trans ?_ (stepW_b ..).symm
  refine bnd ?_
  refine op fun _ => ?_
  refine prt ?_
  subst hK65
  refine op fun _ => ?_
  refine op fun _ => ?_
  refine op fun _ => ?_
  refine op fun _ => ?_
  rfl

end K3

end Cert.Proof.Roll

end
-- ==== Proof.Roll7.lean ====
/-
  The loop that puts the cells of one window back to zero, rolled up.
-/
module

public import proofs.«01_k».proof.Proof.Roll4

@[expose] public section

noncomputable section

namespace Cert.Proof.Roll

open Cert.KernelIdeal Cert.KernelIdeal.Gen
open Idealize.ShloMosaic Idealize.SL.Sem

variable {F : FTy → Type} [FloatOps F]

section K3

variable (i : grid2.Coords) (a2 : Memref sig .scVector .hbm S1010688 .i32) (h2 : a2.IsWhole)
  (a3 : Memref sig .scVector .hbm S1024 .i32) (h3 : a3.IsWhole) (a4 : Memref sig .scVector .hbm S20 .f32) (h4 : a4.IsWhole)
  (a5 : Memref sig .scVector .hbm S16777216 .f32) (h5 : a5.IsWhole)
  (a6 : Memref sig .scVector .vmem S65536 .f32) (h6 : a6.IsWhole) (a7 : Memref sig .scVector .vmem S1024 .i32) (h7 : a7.IsWhole)
  (a8 : Memref sig .scVector .vmem S32 .i32) (h8 : a8.IsWhole) (a9 : Memref sig .scVector .vmem S32 .i32) (h9 : a9.IsWhole)
  (a10 : Memref sig .scVector .vmem S57344 .i32) (h10 : a10.IsWhole) (a11 : Memref sig .scVector .vmem S2048 .i32) (h11 : a11.IsWhole)
  (a12 : Memref sig .scVector .vmem S32 .f32) (h12 : a12.IsWhole)
  (a13 s0 s1 s2 s3 s4 s5 s6 s7 s8 : DmaSems sig S_)

variable (z0 z1 z2 z3 z4 z5 z6 z7 z8 z9 za zb zc zd ze zf zg zh zi zj zk zl zm zn zo zp zq zr zs zt zu zv : BitVec 32)

set_option maxRecDepth 100000 in
set_option maxHeartbeats 4000000 in
theorem winZ_eq (u0 u1 u2 u3 : BitVec 32) (k2_hw : k2_chk791 z0 z1 z2 z3 z4 z5 z6 z7 z8 z9 za zb zc zd ze zf zg zh zi zj zk zl zm zn zo zp zq zr zs zt zu zv u1 u3) (k2_h : k2_cond5 z0 z1 z2 z3 z4 z5 z6 z7 z8 z9 za zb zc zd ze zf zg zh zi zj zk zl zm zn zo zp zq zr zs zt zu zv = 1#1) (k2_t : Fin (k2_t14_loop u3).trips) :
    (show Prog (TpuEff nD τ sig (Elt F) Λ₀ (.scVector ((i 0).castLE hcore2) ((i 1).castLE hsub2))) PUnit from do
      let ⟨v2282, v4439, v4441, k2_hw918⟩ : Σ' (v2282 : BitVec 32) (v4439 : IVec S16 1) (v4441 : IVec S16 32), k2_chk918 z0 z1 z2 z3 z4 z5 z6 z7 z8 z9 za zb zc zd ze zf zg zh zi zj zk zl zm zn zo zp zq zr zs zt zu zv v4441 ← k2_part256 i a2 h2 a3 h3 a4 h4 a5 h5 a6 h6 a7 h7 a8 h8 a9 h9 a10 h10 a11 h11 a12 h12 a13 s0 s1 s2 s3 s4 s5 s6 s7 s8 lane (broadcast S16 (Scalar.ofBits .f32 0x00000000#32) : FVec F S16 .f32) z0 z1 z2 z3 z4 z5 z6 z7 z8 z9 za zb zc zd ze zf zg zh zi zj zk zl zm zn zo zp zq zr zs zt zu zv u0 k2_h u1 u2 u3 k2_hw 0#32 1#32 k2_t
      SparseCore.vectorStoreIdx a6 ![v4441] (broadcast S16 (Scalar.ofBits .f32 0x00000000#32) : FVec F S16 .f32) v4439 false (k2_idx911_inb z0 z1 z2 z3 z4 z5 z6 z7 z8 z9 za zb zc zd ze zf zg zh zi zj zk zl zm zn zo zp zq zr zs zt zu zv v4441 k2_hw918 k2_h) (View.stores_vmem_bits_univ h_S65536 rfl)
      let c2032_i32 : BitVec 32 := 2032#32
      have v4442 : IVec S16 32 := broadcast S16 c2032_i32
      have v4443 : IVec S16 32 := addi v4442 lane
      have v4444 : IVec S16 32 := broadcast S16 v2282
      have v4445 : IVec S16 1 := cmpi .slt v4443 v4444
      let c2032 : Index := 2032#32
      let v4446 : Vec F S16 .i32 ← Prog.lift (.load a11 (Rect.unit (s := S2048) ![2032] S16.size inb_S2048_S16_2032).toLoadRect (View.loadsAt_vmem h_S16))
      let c5_i32_1370 : BitVec 32 := 5#32
      have v4447 : IVec S16 32 := broadcast S16 c5_i32_1370
      have v4448 : IVec S16 32 := shrsi v4446 v4447
      have v4449 : IVec S16 32 := broadcast S16 u0
      have v4450 : IVec S16 32 := subi v4448 v4449
      let c0_i32_1371 : BitVec 32 := 0#32
      have v4451 : IVec S16 32 := broadcast S16 c0_i32_1371
      have v4452 : IVec S16 1 := cmpi .sge v4450 v4451
      have v4453 : IVec S16 1 := andi v4445 v4452
      let c65536_i32_1372 : BitVec 32 := 65536#32
      have v4454 : IVec S16 32 := broadcast S16 c65536_i32_1372
      have v4455 : IVec S16 1 := cmpi .slt v4450 v4454
      have v4456 : IVec S16 1 := andi v4453 v4455
      let c0_i32_1373 : BitVec 32 := 0#32
      have v4457 : IVec S16 32 := broadcast S16 c0_i32_1373
      have v4458 : IVec S16 32 := select v4456 v4450 v4457
      have k2_hw919 : k2_chk919 z0 z1 z2 z3 z4 z5 z6 z7 z8 z9 za zb zc zd ze zf zg zh zi zj zk zl zm zn zo zp zq zr zs zt zu zv v4458 := (← Prog.lift (TpuEff.assume (k2_chk919 z0 z1 z2 z3 z4 z5 z6 z7 z8 z9 za zb zc zd ze zf zg zh zi zj zk zl zm zn zo zp zq zr zs zt zu zv v4458) (k2_chk919.dec z0 z1 z2 z3 z4 z5 z6 z7 z8 z9 za zb zc zd ze zf zg zh zi zj zk zl zm zn zo zp zq zr zs zt zu zv v4458))).down
      SparseCore.vectorStoreIdx a6 ![v4458] (broadcast S16 (Scalar.ofBits .f32 0x00000000#32) : FVec F S16 .f32) v4456 false (k2_idx912_inb z0 z1 z2 z3 z4 z5 z6 z7 z8 z9 za zb zc zd ze zf zg zh zi zj zk zl zm zn zo zp zq zr zs zt zu zv v4458 k2_hw919 k2_h) (View.stores_vmem_bits_univ h_S65536 rfl)
      pure ⟨⟩) = winZ (F := F) i a2 a6 a11 h11 s7 z0 z1 z2 z3 z4 z5 z6 z7 z8 z9 za zb zc zd ze zf zg zh zi zj zk zl zm zn zo zp zq zr zs zt zu zv u0 u1 u3 k2_hw k2_h k2_t := by
  delta winZ
  refine Eq.trans ?_ (Prog.bind_pure _)
  simp only [Prog.bind_assoc]
  refine gen fun K1 hK1 => ?_
  delta k2_part256
  refine bnd ?_
  refine gen fun K2 hK2 => ?_
  delta k2_part203
  refine bnd ?_
  refine op fun _ => ?_
  refine bnd ?_
  refine op fun _ => ?_
  refine Eq.trans ?_ (rep_peel _ 128 0 127 1 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 127 1 126 2 rfl rfl _).symm
  refine Eq.trans ?_ (stepX_b ..).symm
  refine bnd ?_
  refine op fun _ => ?_
  refine prt ?_
  subst hK2
  refine bnd ?_
  refine gen fun K3 hK3 => ?_
  delta k2_part204
  refine bnd ?_
  refine op fun _ => ?_
  refine bnd ?_
  refine op fun _ => ?_
  refine Eq.trans ?_ (rep_peel _ 126 2 125 3 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 125 3 124 4 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 124 4 123 5 rfl rfl _).symm
  refine Eq.trans ?_ (stepX_b ..).symm
  refine bnd ?_
  refine op fun _ => ?_
  refine prt ?_
  subst hK3
  refine bnd ?_
  refine gen fun K4 hK4 => ?_
  delta k2_part205
  refine bnd ?_
  refine op fun _ => ?_
  refine bnd ?_
  refine op fun _ => ?_
  refine Eq.trans ?_ (rep_peel _ 123 5 122 6 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 122 6 121 7 rfl rfl _).symm
  refine Eq.trans ?_ (stepX_b ..).symm
  refine bnd ?_
  refine op fun _ => ?_
  refine prt ?_
  subst hK4
  refine bnd ?_
  refine gen fun K5 hK5 => ?_
  delta k2_part206
  refine bnd ?_
  refine op fun _ => ?_
  refine bnd ?_
  refine op fun _ => ?_
  refine Eq.trans ?_ (rep_peel _ 121 7 120 8 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 120 8 119 9 rfl rfl _).symm
  refine Eq.trans ?_ (stepX_b ..).symm
  refine bnd ?_
  refine op fun _ => ?_
  refine bnd ?_
  refine op fun _ => ?_
  refine bnd ?_
  refine op fun _ => ?_
  refine prt ?_
  subst hK5
  refine bnd ?_
  refine gen fun K6 hK6 => ?_
  delta k2_part207
  refine Eq.trans ?_ (rep_peel _ 119 9 118 10 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 118 10 117 11 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 117 11 116 12 rfl rfl _).symm
  refine Eq.trans ?_ (stepX_b ..).symm
  refine bnd ?_
  refine op fun _ => ?_
  refine prt ?_
  subst hK6
  refine bnd ?_
  refine gen fun K7 hK7 => ?_
  delta k2_part208
  refine bnd ?_
  refine op fun _ => ?_
  refine bnd ?_
  refine op fun _ => ?_
  refine Eq.trans ?_ (rep_peel _ 116 12 115 13 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 115 13 114 14 rfl rfl _).symm
  refine Eq.trans ?_ (stepX_b ..).symm
  refine bnd ?_
  refine op fun _ => ?_
  refine prt ?_
  subst hK7
  refine bnd ?_
  refine gen fun K8 hK8 => ?_
  delta k2_part209
  refine bnd ?_
  refine op fun _ => ?_
  refine bnd ?_
  refine op fun _ => ?_
  refine Eq.trans ?_ (rep_peel _ 114 14 113 15 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 113 15 112 16 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 112 16 111 17 rfl rfl _).symm
  refine Eq.trans ?_ (stepX_b ..).symm
  refine bnd ?_
  refine op fun _ => ?_
  refine prt ?_
  subst hK8
  refine bnd ?_
  refine gen fun K9 hK9 => ?_
  delta k2_part210
  refine bnd ?_
  refine op fun _ => ?_
  refine bnd ?_
  refine op fun _ => ?_
  refine Eq.trans ?_ (rep_peel _ 111 17 110 18 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 110 18 109 19 rfl rfl _).symm
  refine Eq.trans ?_ (stepX_b ..).symm
  refine bnd ?_
  refine op fun _ => ?_
  refine prt ?_
  subst hK9
  refine bnd ?_
  refine gen fun K10 hK10 => ?_
  delta k2_part211
  refine bnd ?_
  refine op fun _ => ?_
  refine bnd ?_
  refine op fun _ => ?_
  refine Eq.trans ?_ (rep_peel _ 109 19 108 20 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 108 20 107 21 rfl rfl _).symm
  refine Eq.trans ?_ (stepX_b ..).symm
  refine bnd ?_
  refine op fun _ => ?_
  refine bnd ?_
  refine op fun _ => ?_
  refine bnd ?_
  refine op fun _ => ?_
  refine prt ?_
  subst hK10
  refine bnd ?_
  refine gen fun K11 hK11 => ?_
  delta k2_part212
  refine Eq.trans ?_ (rep_peel _ 107 21 106 22 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 106 22 105 23 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 105 23 104 24 rfl rfl _).symm
  refine Eq.trans ?_ (stepX_b ..).symm
  refine bnd ?_
  refine op fun _ => ?_
  refine prt ?_
  subst hK11
  refine bnd ?_
  refine gen fun K12 hK12 => ?_
  delta k2_part213
  refine bnd ?_
  refine op fun _ => ?_
  refine bnd ?_
  refine op fun _ => ?_
  refine Eq.trans ?_ (rep_peel _ 104 24 103 25 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 103 25 102 26 rfl rfl _).symm
  refine Eq.trans ?_ (stepX_b ..).symm
  refine bnd ?_
  refine op fun _ => ?_
  refine prt ?_
  subst hK12
  refine bnd ?_
  refine gen fun K13 hK13 => ?_
  delta k2_part214
  refine bnd ?_
  refine op fun _ => ?_
  refine bnd ?_
  refine op fun _ => ?_
  refine Eq.trans ?_ (rep_peel _ 102 26 101 27 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 101 27 100 28 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 100 28 99 29 rfl rfl _).symm
  refine Eq.trans ?_ (stepX_b ..).symm
  refine bnd ?_
  refine op fun _ => ?_
  refine prt ?_
  subst hK13
  refine bnd ?_
  refine gen fun K14 hK14 => ?_
  delta k2_part215
  refine bnd ?_
  refine op fun _ => ?_
  refine bnd ?_
  refine op fun _ => ?_
  refine Eq.trans ?_ (rep_peel _ 99 29 98 30 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 98 30 97 31 rfl rfl _).symm
  refine Eq.trans ?_ (stepX_b ..).symm
  refine bnd ?_
  refine op fun _ => ?_
  refine prt ?_
  subst hK14
  refine bnd ?_
  refine gen fun K15 hK15 => ?_
  delta k2_part216
  refine bnd ?_
  refine op fun _ => ?_
  refine bnd ?_
  refine op fun _ => ?_
  refine Eq.trans ?_ (rep_peel _ 97 31 96 32 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 96 32 95 33 rfl rfl _).symm
  refine Eq.trans ?_ (stepX_b ..).symm
  refine bnd ?_
  refine op fun _ => ?_
  refine bnd ?_
  refine op fun _ => ?_
  refine bnd ?_
  refine op fun _ => ?_
  refine prt ?_
  subst hK15
  refine bnd ?_
  refine gen fun K16 hK16 => ?_
  delta k2_part217
  refine Eq.trans ?_ (rep_peel _ 95 33 94 34 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 94 34 93 35 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 93 35 92 36 rfl rfl _).symm
  refine Eq.trans ?_ (stepX_b ..).symm
  refine bnd ?_
  refine op fun _ => ?_
  refine prt ?_
  subst hK16
  refine bnd ?_
  refine gen fun K17 hK17 => ?_
  delta k2_part218
  refine bnd ?_
  refine op fun _ => ?_
  refine bnd ?_
  refine op fun _ => ?_
  refine Eq.trans ?_ (rep_peel _ 92 36 91 37 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 91 37 90 38 rfl rfl _).symm
  refine Eq.trans ?_ (stepX_b ..).symm
  refine bnd ?_
  refine op fun _ => ?_
  refine prt ?_
  subst hK17
  refine bnd ?_
  refine gen fun K18 hK18 => ?_
  delta k2_part219
  refine bnd ?_
  refine op fun _ => ?_
  refine bnd ?_
  refine op fun _ => ?_
  refine Eq.trans ?_ (rep_peel _ 90 38 89 39 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 89 39 88 40 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 88 40 87 41 rfl rfl _).symm
  refine Eq.trans ?_ (stepX_b ..).symm
  refine bnd ?_
  refine op fun _ => ?_
  refine prt ?_
  subst hK18
  refine bnd ?_
  refine gen fun K19 hK19 => ?_
  delta k2_part220
  refine bnd ?_
  refine op fun _ => ?_
  refine bnd ?_
  refine op fun _ => ?_
  refine Eq.trans ?_ (rep_peel _ 87 41 86 42 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 86 42 85 43 rfl rfl _).symm
  refine Eq.trans ?_ (stepX_b ..).symm
  refine bnd ?_
  refine op fun _ => ?_
  refine prt ?_
  subst hK19
  refine bnd ?_
  refine gen fun K20 hK20 => ?_
  delta k2_part221
  refine bnd ?_
  refine op fun _ => ?_
  refine bnd ?_
  refine op fun _ => ?_
  refine Eq.trans ?_ (rep_peel _ 85 43 84 44 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 84 44 83 45 rfl rfl _).symm
  refine Eq.trans ?_ (stepX_b ..).symm
  refine bnd ?_
  refine op fun _ => ?_
  refine bnd ?_
  refine op fun _ => ?_
  refine bnd ?_
  refine op fun _ => ?_
  refine prt ?_
  subst hK20
  refine bnd ?_
  refine gen fun K21 hK21 => ?_
  delta k2_part222
  refine Eq.trans ?_ (rep_peel _ 83 45 82 46 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 82 46 81 47 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 81 47 80 48 rfl rfl _).symm
  refine Eq.trans ?_ (stepX_b ..).symm
  refine bnd ?_
  refine op fun _ => ?_
  refine prt ?_
  subst hK21
  refine bnd ?_
  refine gen fun K22 hK22 => ?_
  delta k2_part223
  refine bnd ?_
  refine op fun _ => ?_
  refine bnd ?_
  refine op fun _ => ?_
  refine Eq.trans ?_ (rep_peel _ 80 48 79 49 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 79 49 78 50 rfl rfl _).symm
  refine Eq.trans ?_ (stepX_b ..).symm
  refine bnd ?_
  refine op fun _ => ?_
  refine prt ?_
  subst hK22
  refine bnd ?_
  refine gen fun K23 hK23 => ?_
  delta k2_part224
  refine bnd ?_
  refine op fun _ => ?_
  refine bnd ?_
  refine op fun _ => ?_
  refine Eq.trans ?_ (rep_peel _ 78 50 77 51 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 77 51 76 52 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 76 52 75 53 rfl rfl _).symm
  refine Eq.trans ?_ (stepX_b ..).symm
  refine bnd ?_
  refine op fun _ => ?_
  refine prt ?_
  subst hK23
  refine bnd ?_
  refine gen fun K24 hK24 => ?_
  delta k2_part225
  refine bnd ?_
  refine op fun _ => ?_
  refine bnd ?_
  refine op fun _ => ?_
  refine Eq.trans ?_ (rep_peel _ 75 53 74 54 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 74 54 73 55 rfl rfl _).symm
  refine Eq.trans ?_ (stepX_b ..).symm
  refine bnd ?_
  refine op fun _ => ?_
  refine prt ?_
  subst hK24
  refine bnd ?_
  refine gen fun K25 hK25 => ?_
  delta k2_part226
  refine bnd ?_
  refine op fun _ => ?_
  refine bnd ?_
  refine op fun _ => ?_
  refine Eq.trans ?_ (rep_peel _ 73 55 72 56 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 72 56 71 57 rfl rfl _).symm
  refine Eq.trans ?_ (stepX_b ..).symm
  refine bnd ?_
  refine op fun _ => ?_
  refine bnd ?_
  refine op fun _ => ?_
  refine bnd ?_
  refine op fun _ => ?_
  refine prt ?_
  subst hK25
  refine bnd ?_
  refine gen fun K26 hK26 => ?_
  delta k2_part227
  refine Eq.trans ?_ (rep_peel _ 71 57 70 58 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 70 58 69 59 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 69 59 68 60 rfl rfl _).symm
  refine Eq.trans ?_ (stepX_b ..).symm
  refine bnd ?_
  refine op fun _ => ?_
  refine prt ?_
  subst hK26
  refine bnd ?_
  refine gen fun K27 hK27 => ?_
  delta k2_part228
  refine bnd ?_
  refine op fun _ => ?_
  refine bnd ?_
  refine op fun _ => ?_
  refine Eq.trans ?_ (rep_peel _ 68 60 67 61 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 67 61 66 62 rfl rfl _).symm
  refine Eq.trans ?_ (stepX_b ..).symm
  refine bnd ?_
  refine op fun _ => ?_
  refine prt ?_
  subst hK27
  refine bnd ?_
  refine gen fun K28 hK28 => ?_
  delta k2_part229
  refine bnd ?_
  refine op fun _ => ?_
  refine bnd ?_
  refine op fun _ => ?_
  refine Eq.trans ?_ (rep_peel _ 66 62 65 63 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 65 63 64 64 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 64 64 63 65 rfl rfl _).symm
  refine Eq.trans ?_ (stepX_b ..).symm
  refine bnd ?_
  refine op fun _ => ?_
  refine prt ?_
  subst hK28
  refine bnd ?_
  refine gen fun K29 hK29 => ?_
  delta k2_part230
  refine bnd ?_
  refine op fun _ => ?_
  refine bnd ?_
  refine op fun _ => ?_
  refine Eq.trans ?_ (rep_peel _ 63 65 62 66 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 62 66 61 67 rfl rfl _).symm
  refine Eq.trans ?_ (stepX_b ..).symm
  refine bnd ?_
  refine op fun _ => ?_
  refine prt ?_
  subst hK29
  refine bnd ?_
  refine gen fun K30 hK30 => ?_
  delta k2_part231
  refine bnd ?_
  refine op fun _ => ?_
  refine bnd ?_
  refine op fun _ => ?_
  refine Eq.trans ?_ (rep_peel _ 61 67 60 68 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 60 68 59 69 rfl rfl _).symm
  refine Eq.trans ?_ (stepX_b ..).symm
  refine bnd ?_
  refine op fun _ => ?_
  refine bnd ?_
  refine op fun _ => ?_
  refine bnd ?_
  refine op fun _ => ?_
  refine prt ?_
  subst hK30
  refine bnd ?_
  refine gen fun K31 hK31 => ?_
  delta k2_part232
  refine Eq.trans ?_ (rep_peel _ 59 69 58 70 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 58 70 57 71 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 57 71 56 72 rfl rfl _).symm
  refine Eq.trans ?_ (stepX_b ..).symm
  refine bnd ?_
  refine op fun _ => ?_
  refine prt ?_
  subst hK31
  refine bnd ?_
  refine gen fun K32 hK32 => ?_
  delta k2_part233
  refine bnd ?_
  refine op fun _ => ?_
  refine bnd ?_
  refine op fun _ => ?_
  refine Eq.trans ?_ (rep_peel _ 56 72 55 73 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 55 73 54 74 rfl rfl _).symm
  refine Eq.trans ?_ (stepX_b ..).symm
  refine bnd ?_
  refine op fun _ => ?_
  refine prt ?_
  subst hK32
  refine bnd ?_
  refine gen fun K33 hK33 => ?_
  delta k2_part234
  refine bnd ?_
  refine op fun _ => ?_
  refine bnd ?_
  refine op fun _ => ?_
  refine Eq.trans ?_ (rep_peel _ 54 74 53 75 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 53 75 52 76 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 52 76 51 77 rfl rfl _).symm
  refine Eq.trans ?_ (stepX_b ..).symm
  refine bnd ?_
  refine op fun _ => ?_
  refine prt ?_
  subst hK33
  refine bnd ?_
  refine gen fun K34 hK34 => ?_
  delta k2_part235
  refine bnd ?_
  refine op fun _ => ?_
  refine bnd ?_
  refine op fun _ => ?_
  refine Eq.trans ?_ (rep_peel _ 51 77 50 78 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 50 78 49 79 rfl rfl _).symm
  refine Eq.trans ?_ (stepX_b ..).symm
  refine bnd ?_
  refine op fun _ => ?_
  refine prt ?_
  subst hK34
  refine bnd ?_
  refine gen fun K35 hK35 => ?_
  delta k2_part236
  refine bnd ?_
  refine op fun _ => ?_
  refine bnd ?_
  refine op fun _ => ?_
  refine Eq.trans ?_ (rep_peel _ 49 79 48 80 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 48 80 47 81 rfl rfl _).symm
  refine Eq.trans ?_ (stepX_b ..).symm
  refine bnd ?_
  refine op fun _ => ?_
  refine bnd ?_
  refine op fun _ => ?_
  refine bnd ?_
  refine op fun _ => ?_
  refine prt ?_
  subst hK35
  refine bnd ?_
  refine gen fun K36 hK36 => ?_
  delta k2_part237
  refine Eq.trans ?_ (rep_peel _ 47 81 46 82 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 46 82 45 83 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 45 83 44 84 rfl rfl _).symm
  refine Eq.trans ?_ (stepX_b ..).symm
  refine bnd ?_
  refine op fun _ => ?_
  refine prt ?_
  subst hK36
  refine bnd ?_
  refine gen fun K37 hK37 => ?_
  delta k2_part238
  refine bnd ?_
  refine op fun _ => ?_
  refine bnd ?_
  refine op fun _ => ?_
  refine Eq.trans ?_ (rep_peel _ 44 84 43 85 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 43 85 42 86 rfl rfl _).symm
  refine Eq.trans ?_ (stepX_b ..).symm
  refine bnd ?_
  refine op fun _ => ?_
  refine prt ?_
  subst hK37
  refine bnd ?_
  refine gen fun K38 hK38 => ?_
  delta k2_part239
  refine bnd ?_
  refine op fun _ => ?_
  refine bnd ?_
  refine op fun _ => ?_
  refine Eq.trans ?_ (rep_peel _ 42 86 41 87 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 41 87 40 88 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 40 88 39 89 rfl rfl _).symm
  refine Eq.trans ?_ (stepX_b ..).symm
  refine bnd ?_
  refine op fun _ => ?_
  refine prt ?_
  subst hK38
  refine bnd ?_
  refine gen fun K39 hK39 => ?_
  delta k2_part240
  refine bnd ?_
  refine op fun _ => ?_
  refine bnd ?_
  refine op fun _ => ?_
  refine Eq.trans ?_ (rep_peel _ 39 89 38 90 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 38 90 37 91 rfl rfl _).symm
  refine Eq.trans ?_ (stepX_b ..).symm
  refine bnd ?_
  refine op fun _ => ?_
  refine prt ?_
  subst hK39
  refine bnd ?_
  refine gen fun K40 hK40 => ?_
  delta k2_part241
  refine bnd ?_
  refine op fun _ => ?_
  refine bnd ?_
  refine op fun _ => ?_
  refine Eq.trans ?_ (rep_peel _ 37 91 36 92 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 36 92 35 93 rfl rfl _).symm
  refine Eq.trans ?_ (stepX_b ..).symm
  refine bnd ?_
  refine op fun _ => ?_
  refine bnd ?_
  refine op fun _ => ?_
  refine bnd ?_
  refine op fun _ => ?_
  refine prt ?_
  subst hK40
  refine bnd ?_
  refine gen fun K41 hK41 => ?_
  delta k2_part242
  refine Eq.trans ?_ (rep_peel _ 35 93 34 94 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 34 94 33 95 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 33 95 32 96 rfl rfl _).symm
  refine Eq.trans ?_ (stepX_b ..).symm
  refine bnd ?_
  refine op fun _ => ?_
  refine prt ?_
  subst hK41
  refine bnd ?_
  refine gen fun K42 hK42 => ?_
  delta k2_part243
  refine bnd ?_
  refine op fun _ => ?_
  refine bnd ?_
  refine op fun _ => ?_
  refine Eq.trans ?_ (rep_peel _ 32 96 31 97 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 31 97 30 98 rfl rfl _).symm
  refine Eq.trans ?_ (stepX_b ..).symm
  refine bnd ?_
  refine op fun _ => ?_
  refine prt ?_
  subst hK42
  refine bnd ?_
  refine gen fun K43 hK43 => ?_
  delta k2_part244
  refine bnd ?_
  refine op fun _ => ?_
  refine bnd ?_
  refine op fun _ => ?_
  refine Eq.trans ?_ (rep_peel _ 30 98 29 99 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 29 99 28 100 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 28 100 27 101 rfl rfl _).symm
  refine Eq.trans ?_ (stepX_b ..).symm
  refine bnd ?_
  refine op fun _ => ?_
  refine prt ?_
  subst hK43
  refine bnd ?_
  refine gen fun K44 hK44 => ?_
  delta k2_part245
  refine bnd ?_
  refine op fun _ => ?_
  refine bnd ?_
  refine op fun _ => ?_
  refine Eq.trans ?_ (rep_peel _ 27 101 26 102 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 26 102 25 103 rfl rfl _).symm
  refine Eq.trans ?_ (stepX_b ..).symm
  refine bnd ?_
  refine op fun _ => ?_
  refine prt ?_
  subst hK44
  refine bnd ?_
  refine gen fun K45 hK45 => ?_
  delta k2_part246
  refine bnd ?_
  refine op fun _ => ?_
  refine bnd ?_
  refine op fun _ => ?_
  refine Eq.trans ?_ (rep_peel _ 25 103 24 104 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 24 104 23 105 rfl rfl _).symm
  refine Eq.trans ?_ (stepX_b ..).symm
  refine bnd ?_
  refine op fun _ => ?_
  refine bnd ?_
  refine op fun _ => ?_
  refine bnd ?_
  refine op fun _ => ?_
  refine prt ?_
  subst hK45
  refine bnd ?_
  refine gen fun K46 hK46 => ?_
  delta k2_part247
  refine Eq.trans ?_ (rep_peel _ 23 105 22 106 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 22 106 21 107 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 21 107 20 108 rfl rfl _).symm
  refine Eq.trans ?_ (stepX_b ..).symm
  refine bnd ?_
  refine op fun _ => ?_
  refine prt ?_
  subst hK46
  refine bnd ?_
  refine gen fun K47 hK47 => ?_
  delta k2_part248
  refine bnd ?_
  refine op fun _ => ?_
  refine bnd ?_
  refine op fun _ => ?_
  refine Eq.trans ?_ (rep_peel _ 20 108 19 109 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 19 109 18 110 rfl rfl _).symm
  refine Eq.trans ?_ (stepX_b ..).symm
  refine bnd ?_
  refine op fun _ => ?_
  refine prt ?_
  subst hK47
  refine bnd ?_
  refine gen fun K48 hK48 => ?_
  delta k2_part249
  refine bnd ?_
  refine op fun _ => ?_
  refine bnd ?_
  refine op fun _ => ?_
  refine Eq.trans ?_ (rep_peel _ 18 110 17 111 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 17 111 16 112 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 16 112 15 113 rfl rfl _).symm
  refine Eq.trans ?_ (stepX_b ..).symm
  refine bnd ?_
  refine op fun _ => ?_
  refine prt ?_
  subst hK48
  refine bnd ?_
  refine gen fun K49 hK49 => ?_
  delta k2_part250
  refine bnd ?_
  refine op fun _ => ?_
  refine bnd ?_
  refine op fun _ => ?_
  refine Eq.trans ?_ (rep_peel _ 15 113 14 114 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 14 114 13 115 rfl rfl _).symm
  refine Eq.trans ?_ (stepX_b ..).symm
  refine bnd ?_
  refine op fun _ => ?_
  refine prt ?_
  subst hK49
  refine bnd ?_
  refine gen fun K50 hK50 => ?_
  delta k2_part251
  refine bnd ?_
  refine op fun _ => ?_
  refine bnd ?_
  refine op fun _ => ?_
  refine Eq.trans ?_ (rep_peel _ 13 115 12 116 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 12 116 11 117 rfl rfl _).symm
  refine Eq.trans ?_ (stepX_b ..).symm
  refine bnd ?_
  refine op fun _ => ?_
  refine bnd ?_
  refine op fun _ => ?_
  refine bnd ?_
  refine op fun _ => ?_
  refine prt ?_
  subst hK50
  refine bnd ?_
  refine gen fun K51 hK51 => ?_
  delta k2_part252
  refine Eq.trans ?_ (rep_peel _ 11 117 10 118 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 10 118 9 119 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 9 119 8 120 rfl rfl _).symm
  refine Eq.trans ?_ (stepX_b ..).symm
  refine bnd ?_
  refine op fun _ => ?_
  refine prt ?_
  subst hK51
  refine bnd ?_
  refine gen fun K52 hK52 => ?_
  delta k2_part253
  refine bnd ?_
  refine op fun _ => ?_
  refine bnd ?_
  refine op fun _ => ?_
  refine Eq.trans ?_ (rep_peel _ 8 120 7 121 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 7 121 6 122 rfl rfl _).symm
  refine Eq.trans ?_ (stepX_b ..).symm
  refine bnd ?_
  refine op fun _ => ?_
  refine prt ?_
  subst hK52
  refine bnd ?_
  refine gen fun K53 hK53 => ?_
  delta k2_part254
  refine bnd ?_
  refine op fun _ => ?_
  refine bnd ?_
  refine op fun _ => ?_
  refine Eq.trans ?_ (rep_peel _ 6 122 5 123 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 5 123 4 124 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 4 124 3 125 rfl rfl _).symm
  refine Eq.trans ?_ (stepX_b ..).symm
  refine bnd ?_
  refine op fun _ => ?_
  refine prt ?_
  subst hK53
  refine bnd ?_
  refine gen fun K54 hK54 => ?_
  delta k2_part255
  refine bnd ?_
  refine op fun _ => ?_
  refine bnd ?_
  refine op fun _ => ?_
  refine Eq.trans ?_ (rep_peel _ 3 125 2 126 rfl rfl _).symm
  refine Eq.trans ?_ (stepX_b ..).symm
  refine bnd ?_
  refine op fun _ => ?_
  refine bnd ?_
  refine op fun _ => ?_
  refine bnd ?_
  refine op fun _ => ?_
  refine Eq.trans ?_ (rep_peel _ 2 126 1 127 rfl rfl _).symm
  refine Eq.trans ?_ (stepX_b ..).symm
  refine bnd ?_
  refine op fun _ => ?_
  refine prt ?_
  subst hK54
  refine bnd ?_
  refine op fun _ => ?_
  refine prt ?_
  subst hK1
  refine op fun _ => ?_
  refine Eq.trans ?_ (rep_peel _ 1 127 0 128 rfl rfl _).symm
  refine Eq.trans ?_ (stepX_b ..).symm
  refine op fun _ => ?_
  refine op fun _ => ?_
  refine op fun _ => ?_
  rfl

end K3

end Cert.Proof.Roll

end
-- ==== Proof.Roll3b.lean ====
/-
  The scatter kernel's body, rolled up: the equation.
-/
module

public import proofs.«01_k».proof.Proof.Roll3a
public import proofs.«01_k».proof.Proof.Roll5
public import proofs.«01_k».proof.Proof.Roll6
public import proofs.«01_k».proof.Proof.Roll7

@[expose] public section

noncomputable section

namespace Cert.Proof.Roll

open Cert.KernelIdeal Cert.KernelIdeal.Gen
open Idealize.ShloMosaic Idealize.SL.Sem

variable {F : FTy → Type} [FloatOps F]

section K3

variable (i : grid2.Coords) (arg2 : Memref sig .scVector .hbm S1010688 .i32) (harg2 : arg2.IsWhole)
  (arg3 : Memref sig .scVector .hbm S1024 .i32) (harg3 : arg3.IsWhole) (arg4 : Memref sig .scVector .hbm S20 .f32) (harg4 : arg4.IsWhole)
  (arg5 : Memref sig .scVector .hbm S16777216 .f32) (harg5 : arg5.IsWhole)
  (arg6 : Memref sig .scVector .vmem S65536 .f32) (harg6 : arg6.IsWhole) (arg7 : Memref sig .scVector .vmem S1024 .i32) (harg7 : arg7.IsWhole)
  (arg8 : Memref sig .scVector .vmem S32 .i32) (harg8 : arg8.IsWhole) (arg9 : Memref sig .scVector .vmem S32 .i32) (harg9 : arg9.IsWhole)
  (arg10 : Memref sig .scVector .vmem S57344 .i32) (harg10 : arg10.IsWhole) (arg11 : Memref sig .scVector .vmem S2048 .i32) (harg11 : arg11.IsWhole)
  (arg12 : Memref sig .scVector .vmem S32 .f32) (harg12 : arg12.IsWhole)
  (arg13 r0 r1 r2 r3 r4 r5 r6 r7 r8 : DmaSems sig S_)

theorem dsplit {E : Type → Type} {σ β : Type} {c : Prop} [Decidable c] {X : c → Prog E σ} {t : Prog E β} {A : c → Prog E PUnit} {k : PUnit → Prog E β}
    (h₁ : ∀ h, (X h >>= fun _ => pure ⟨⟩) = A h) (h₂ : t = k ⟨⟩) :
    (dite c (fun h => X h >>= fun _ => t) (fun _ => t)) = (dite c A (fun _ => pure ⟨⟩)) >>= k := by
  by_cases h : c
  · rw [dif_pos h, dif_pos h, ← h₁ h, Prog.bind_assoc]
    subst h₂
    rfl
  · rw [dif_neg h, dif_neg h, h₂]
    rfl

set_option maxRecDepth 100000 in
set_option maxHeartbeats 400000000 in
theorem cc2_eq : cc2__k3 (F := F) i arg2 harg2 arg3 harg3 arg4 harg4 arg5 harg5 arg6 harg6 arg7 harg7 arg8 harg8 arg9 harg9 arg10 harg10 arg11 harg11 arg12 harg12 arg13 r0 r1 r2 r3 r4 r5 r6 r7 r8
    = body3 i arg2 arg3 harg3 arg4 harg4 arg5 arg6 harg6 arg7 harg7 arg8 arg9 arg10 arg11 harg11 arg12 r0 r1 r2 r4 r6 r7 := by
  delta cc2__k3
  rw [part364_eq]
  simp (maxSteps := 100000000) only [Prog.bind_assoc, pure_bind, bind_assoc, ↓ for_nil _ (t3_nil _), ↓ for_nil _ (t7_nil _ _ _ _ _ _ _ _ _ _ _ _ _ _ _ _ _ _ _ _ _ _ _ _ _ _ _ _ _ _ _ _), ↓ for_nil _ (t10_nil _), ↓ for_nil _ (t12_nil _ _ _ _ _ _ _ _ _ _ _ _ _ _ _ _ _ _ _ _ _ _ _ _ _ _ _ _ _ _ _ _), ↓ for_nil _ (t15_nil _)]
  delta body3
  simp (maxSteps := 100000000) only [Prog.bind_assoc, pure_bind, bind_assoc]
  refine congrArg _ (funext fun _ => ?_)
  refine congrArg _ (funext fun acc => ?_)
  refine congrArg _ (funext fun a => ?_)
  refine congrArg _ (funext fun b => ?_)
  delta tail3 put3
  simp (maxSteps := 100000000) only [Prog.bind_assoc, pure_bind, bind_assoc]
  refine congrArg _ (funext fun hw => ?_)
  iterate 6
    refine congrArg _ (funext fun _ => ?_)
  delta stage3
  refine dsplit (fun h => ?_) ?_
  · refine congrArg₂ _ ?_ rfl
    refine congrArg _ (funext fun _ => (funext fun _ => ?_))
    delta run3 k2_part69
    simp (maxSteps := 100000000) only [Prog.bind_assoc, pure_bind, bind_assoc]
    refine congrArg _ (funext fun _ => ?_)
    refine congrArg₂ _ ?_ ?_; rfl
    refine (funext fun _ => ?_)
    iterate 2
      refine congrArg _ (funext fun _ => ?_)
    refine congrArg₂ _ ?_ ?_; rfl
    refine (funext fun _ => ?_)
    refine congrArg _ (funext fun _ => ?_)
    refine Eq.trans (congrArg₂ _ ?_ rfl) (bind_pure _)
    refine congrArg _ (funext fun _ => (funext fun _ => ?_))
    exact winS_eq ..
  refine congrArg₂ _ ?_ (funext fun _ => ?_)
  · refine congrArg _ (funext fun _ => (funext fun _ => ?_))
    delta k2_part70 k2_part71 clr3
    simp (maxSteps := 100000000) only [rep, Prog.bind_assoc, pure_bind, bind_assoc]
  · refine Eq.trans (congrArg₂ _ ?_ rfl) (bind_pure _)
    refine congrArg _ (funext fun _ => (funext fun _ => ?_))
    delta round3
    simp (maxSteps := 100000000) only [Prog.bind_assoc, pure_bind, bind_assoc]
    delta fitC scat
    refine dsplit (fun h => ?_) ?_
    · refine congrArg₂ _ ?_ rfl
      refine congrArg _ (funext fun _ => (funext fun _ => ?_))
      rfl
    delta longC
    refine dsplit (fun h => ?_) ?_
    · delta k2_part202
      simp (maxSteps := 100000000) only [Prog.bind_assoc, pure_bind, bind_assoc]
      refine congrArg₂ _ ?_ rfl
      refine congrArg _ (funext fun _ => (funext fun _ => ?_))
      refine congrArg _ (funext fun _ => ?_)
      refine congrArg₂ _ ?_ ?_; rfl
      refine (funext fun _ => ?_)
      iterate 2
        refine congrArg _ (funext fun _ => ?_)
      refine congrArg₂ _ ?_ ?_; rfl
      refine (funext fun _ => ?_)
      refine congrArg _ (funext fun _ => ?_)
      refine congrArg₂ _ ?_ rfl
      refine congrArg _ (funext fun _ => (funext fun _ => ?_))
      exact winC_eq ..
    iterate 2
      refine congrArg _ (funext fun _ => ?_)
    delta fitZ zero3
    refine dsplit (fun h => ?_) ?_
    · refine congrArg₂ _ ?_ rfl
      refine congrArg _ (funext fun _ => (funext fun _ => ?_))
      rfl
    · delta longZ
      refine dite_congr rfl (fun h => ?_) (fun _ => rfl)
      delta k2_part311
      simp (maxSteps := 100000000) only [Prog.bind_assoc, pure_bind, bind_assoc]
      refine congrArg₂ _ ?_ rfl
      refine congrArg _ (funext fun _ => (funext fun _ => ?_))
      refine congrArg _ (funext fun _ => ?_)
      refine congrArg₂ _ ?_ ?_; rfl
      refine (funext fun _ => ?_)
      iterate 2
        refine congrArg _ (funext fun _ => ?_)
      refine congrArg₂ _ ?_ ?_; rfl
      refine (funext fun _ => ?_)
      refine congrArg _ (funext fun _ => ?_)
      refine congrArg₂ _ ?_ rfl
      refine congrArg _ (funext fun _ => (funext fun _ => ?_))
      exact winZ_eq ..

end K3

end Cert.Proof.Roll

end
-- ==== Proof.K3f.lean ====
/-
  The table of the runs in the third call, and its tile's body.
-/
module

public import proofs.«01_k».proof.Proof.K3e
public import proofs.«01_k».proof.Proof.Roll3b

@[expose] public section

noncomputable section

namespace Cert.Proof.Tile

open Cert.KernelIdeal Cert.KernelIdeal.Gen Cert.Proof.Roll Cert.Proof.Pure

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (d : Dev nD) (i : grid2.Coords)

section K3

variable (arg2 : Memref sig .scVector .hbm S1010688 .i32) (arg3 : Memref sig .scVector .hbm S1024 .i32) (harg3 : arg3.IsWhole) (arg4 : Memref sig .scVector .hbm S20 .f32) (harg4 : arg4.IsWhole) (arg5 : Memref sig .scVector .hbm S16777216 .f32)
  (arg6 : Memref sig .scVector .vmem S65536 .f32) (harg6 : arg6.IsWhole) (arg7 : Memref sig .scVector .vmem S1024 .i32) (harg7 : arg7.IsWhole) (arg8 : Memref sig .scVector .vmem S32 .i32) (arg9 : Memref sig .scVector .vmem S32 .i32)
  (arg10 : Memref sig .scVector .vmem S57344 .i32) (arg11 : Memref sig .scVector .vmem S2048 .i32) (harg11 : arg11.IsWhole)
  (arg12 : Memref sig .scVector .vmem S32 .f32)
  (r0 r1 r2 r4 r6 r7 : DmaSems sig S_)

variable {q : PosShare TreeShare} {O : CellTallies nD τ sig (HIx 3)} {W : Waits sig (HIx 3)}

variable (z0 z1 z2 z3 z4 z5 z6 z7 z8 z9 za zb zc zd ze zf zg zh zi zj zk zl zm zn zo zp zq zr zs zt zu zv : BitVec 32)

/-- The third call's tile number. -/
def wd2 (i : grid2.Coords) : ℕ := 16 * (i 0).val + (i 1).val

theorem wd2_lt (i : grid2.Coords) : wd2 i < 32 := by
  have h0 : (i 0).val < 2 := (i 0).isLt
  have h1 : (i 1).val < 16 := (i 1).isLt
  unfold wd2; omega

theorem wid_eq (i : grid2.Coords) : wid (i 0).val (i 1).val = BitVec.ofNat 32 (wd2 i) := by
  show BitVec.ofNat 32 (i 0).val * BitVec.ofNat 32 16 + BitVec.ofNat 32 (i 1).val = _
  rw [← BitVec.ofNat_mul, ← BitVec.ofNat_add, Nat.mul_comm]; rfl

theorem lowHalf_at : ∀ (w : Fin 32) (l : Fin 16), lowHalf (BitVec.ofNat 32 w.val) (ln l) = if w.val < 16 then 1#1 else 0#1 := by decide

theorem lane_is : ∀ (w l : Fin 16), (cmpi .eq lane (broadcast S16 (BitVec.ofNat 32 w.val)) : IVec S16 1) (ln l) = if l.val = w.val then 1#1 else 0#1 := by decide

theorem sel_at (m : IVec S16 1) (x y : IVec S16 32) (p : S16.Idx) : (select m x y : IVec S16 32) p = if m p = 1#1 then x p else y p := rfl

theorem bc_at (z : BitVec 32) (p : S16.Idx) : (broadcast S16 z : IVec S16 32) p = z := rfl

section Table
variable (w : ℕ) (hw : w < 32) (c : ℕ → ℕ) (hc : ∀ g, c g < 2 ^ 31) (a b : IVec S16 32)
  (ha : ∀ l : Fin 16, a (ln l) = BitVec.ofNat 32 (c l.val)) (hb : ∀ l : Fin 16, b (ln l) = BitVec.ofNat 32 (c (16 + l.val)))
include hw ha hb

theorem rlen_eq : rlen (BitVec.ofNat 32 w) a b = BitVec.ofNat 32 (c w) := by
  unfold rlen
  rw [pick_eq w hw, sel_at, show lowHalf (BitVec.ofNat 32 w) _ = _ from lowHalf_at ⟨w, hw⟩ _]
  by_cases h : w < 16
  · rw [if_pos h, if_pos rfl, ha]
    show BitVec.ofNat 32 (c (w % 16)) = _
    rw [Nat.mod_eq_of_lt h]
  · rw [if_neg h, if_neg (by decide), hb]
    show BitVec.ofNat 32 (c (16 + w % 16)) = _
    rw [show 16 + w % 16 = w from by omega]

include hc
theorem loff_eq (p : S16.Idx) : loff (BitVec.ofNat 32 w) a b p = BitVec.ofNat 32 (psum (fun g => up (c g)) w) := by
  obtain ⟨l, rfl⟩ : ∃ l : Fin 16, ln l = p := ⟨p 0, lnp_eq p⟩
  have hv0 : ∀ l : Fin 16, upV a (ln l) = BitVec.ofNat 32 ((fun k => up (c k)) l.val) := fun l => upV_at _ _ _ (hc _) (ha l)
  have hv1 : ∀ l : Fin 16, upV b (ln l) = BitVec.ofNat 32 ((fun k => up (c (16 + k))) l.val) := fun l => upV_at _ _ _ (hc _) (hb l)
  unfold loff
  rw [sel_at, show lowHalf (BitVec.ofNat 32 w) (ln l) = _ from lowHalf_at ⟨w, hw⟩ l]
  by_cases h : w < 16
  · rw [if_pos h, if_pos rfl]
    rw [bc_at, pick_eq w hw, scan_excl (fun k => up (c k)) _ hv0]
    show BitVec.ofNat 32 (psum _ (w % 16)) = _
    rw [Nat.mod_eq_of_lt h]
  · rw [if_neg h, if_neg (by decide)]
    rw [bc_at, pick_eq w hw]
    have e : ∀ (s v : IVec S16 32) (z : BitVec 32) (p : S16.Idx), (subi (addi s (broadcast S16 z)) v : IVec S16 32) p = (subi s v : IVec S16 32) p + z := by
      intro s v z p
      show s p + z - v p = s p - v p + z
      rw [BitVec.sub_eq_add_neg, BitVec.sub_eq_add_neg, BitVec.add_assoc, BitVec.add_assoc, BitVec.add_comm z]
    rw [e, scan_excl (fun k => up (c (16 + k))) _ hv1, scan_last (fun k => up (c k)) _ hv0, ← BitVec.ofNat_add]
    show BitVec.ofNat 32 (psum _ (w % 16) + psum _ 16) = _
    obtain ⟨m, hm⟩ : ∃ m, w = 16 + m := ⟨w - 16, by omega⟩
    rw [show w % 16 = m from by omega, hm, psum_add, Nat.add_comm]

end Table

/-- The size of the run of this tile's group among the paths of tile `w`, and where it starts. -/
def cs (i : grid2.Coords) (cf : ℕ → ℕ → ℕ) (w : ℕ) : ℕ := cf w (wd2 i)
def os (i : grid2.Coords) (cf : ℕ → ℕ → ℕ) (w : ℕ) : ℕ := 31520 * w + psum (fun g => up (cf w g)) (wd2 i)

/-- The table of the runs of the tiles before `k`. -/
def PT (cf : ℕ → ℕ → ℕ) (k : ℕ) : sProp 𝕄 :=
  iprop((∃ s : ℕ → BitVec 32, ⌜∀ w < k, s w = BitVec.ofNat 32 (os i cf w)⌝ ∗ At1 (F := F) d (c2 i) (t2 i) (e := .i32) arg8 fullShare s)
    ∗ (∃ s : ℕ → BitVec 32, ⌜∀ w < k, s w = BitVec.ofNat 32 (cs i cf w)⌝ ∗ At1 (F := F) d (c2 i) (t2 i) (e := .i32) arg9 fullShare s))

set_option maxHeartbeats 800000 in
theorem put3_wp {α : Type} {Q : α → sProp 𝕄} {kk : PUnit → Prog (TpuEff nD τ sig (Elt F) Λ₀ (.scVector (c2 i) (t2 i))) α} (cf : ℕ → ℕ → ℕ) (hc : ∀ w g, cf w g < 2 ^ 31) (k : ℕ) (hk : k < 32) (a b : IVec S16 32)
    (ha : ∀ l : Fin 16, a (ln l) = BitVec.ofNat 32 (cf k l.val)) (hb : ∀ l : Fin 16, b (ln l) = BitVec.ofNat 32 (cf k (16 + l.val))) :
    PT (F := F) d i arg8 arg9 cf k ⊢ iprop((PT (F := F) d i arg8 arg9 cf (k + 1) -∗ wpT d (c2 i) (t2 i) (kk ⟨⟩) Q)
      -∗ wpT d (c2 i) (t2 i) (put3 (F := F) i arg8 arg9 k a b >>= kk) Q) := by
  have hl : rlen (wid (i 0).val (i 1).val) a b = BitVec.ofNat 32 (cs i cf k) := by
    rw [wid_eq]; exact rlen_eq (wd2 i) (wd2_lt i) (cf k) a b ha hb
  have ho : ∀ p, loff (wid (i 0).val (i 1).val) a b p = BitVec.ofNat 32 (psum (fun g => up (cf k g)) (wd2 i)) := by
    intro p; rw [wid_eq]; exact loff_eq (wd2 i) (wd2_lt i) (cf k) (hc k) a b ha hb p
  have hst : ∀ (s : ℕ → BitVec 32) (u : IVec S16 32) (z : BitVec 32) (hu : ∀ p, u p = z) (x : S16.Idx),
      (fun j => if j = k then z else s j) (16 * (k / 16) + (x 0).val) = (select (cmpi .eq lane (broadcast S16 (BitVec.ofNat 32 (k % 16)))) u (fun x : S16.Idx => s (16 * (k / 16) + (x 0).val)) : IVec S16 32) x := by
    intro s u z hu x
    obtain ⟨l, rfl⟩ : ∃ l : Fin 16, ln l = x := ⟨x 0, lnp_eq x⟩
    rw [sel_at, show (cmpi .eq lane (broadcast S16 (BitVec.ofNat 32 (k % 16))) : IVec S16 1) (ln l) = _ from lane_is ⟨k % 16, Nat.mod_lt _ (by decide)⟩ l]
    have hl : ((ln l : S16.Idx) 0).val = l.val := rfl
    have := l.isLt
    by_cases h : l.val = k % 16
    · rw [if_pos h, if_pos rfl, hu]; exact if_pos (by rw [hl]; omega)
    · rw [if_neg h, if_neg (by decide)]; exact if_neg (by rw [hl]; omega)
  have hof : (rH (k / 16)).off 0 = 16 * (k / 16) := by
    show 16 * (k / 16 % 2) = _; omega
  unfold put3 PT
  simp only [Prog.bind_assoc, pure_bind, bind_assoc]
  generalize loff (wid (i 0).val (i 1).val) a b = L at ho ⊢
  generalize rlen (wid (i 0).val (i 1).val) a b = R at hl ⊢
  iintro ⟨⟨%s8, %h8, H8⟩, ⟨%s9, %h9, H9⟩⟩ Hk
  iapply (wp_ld1 d (c2 i) (t2 i) (rH (k / 16)) (fun _ => rfl) (16 * (k / 16)) hof) $$ H8
  iintro H8
  iapply (wp_ld1 d (c2 i) (t2 i) (rH (k / 16)) (fun _ => rfl) (16 * (k / 16)) hof) $$ H8
  iintro H8
  iapply (wp_st1 d (c2 i) (t2 i) (rH (k / 16)) (fun _ => rfl) (16 * (k / 16)) 16 hof rfl (select (cmpi .eq lane (broadcast S16 (BitVec.ofNat 32 (k % 16)))) (addi (broadcast S16 (BitVec.ofNat 32 (k * 31520))) L) (fun x : S16.Idx => s8 (16 * (k / 16) + (x 0).val)) : IVec S16 32) (fun j => if j = k then BitVec.ofNat 32 (os i cf k) else s8 j)
    (fun x => hst s8 (addi (broadcast S16 (BitVec.ofNat 32 (k * 31520))) L) (BitVec.ofNat 32 (os i cf k)) (fun p => by
      show BitVec.ofNat 32 (k * 31520) + L p = _
      rw [ho, ← BitVec.ofNat_add, Nat.mul_comm k]; rfl) x)
    (fun j hj => if_neg (by omega))) $$ H8
  iintro H8
  iapply (wp_ld1 d (c2 i) (t2 i) (rH (k / 16)) (fun _ => rfl) (16 * (k / 16)) hof) $$ H9
  iintro H9
  iapply (wp_ld1 d (c2 i) (t2 i) (rH (k / 16)) (fun _ => rfl) (16 * (k / 16)) hof) $$ H9
  iintro H9
  iapply (wp_st1 d (c2 i) (t2 i) (rH (k / 16)) (fun _ => rfl) (16 * (k / 16)) 16 hof rfl (select (cmpi .eq lane (broadcast S16 (BitVec.ofNat 32 (k % 16)))) (broadcast S16 R) (fun x : S16.Idx => s9 (16 * (k / 16) + (x 0).val)) : IVec S16 32) (fun j => if j = k then BitVec.ofNat 32 (cs i cf k) else s9 j)
    (fun x => hst s9 (broadcast S16 R) (BitVec.ofNat 32 (cs i cf k)) (fun p => hl) x)
    (fun j hj => if_neg (by omega))) $$ H9
  iintro H9
  iapply Hk
  isplitl [H8]
  · iexists (fun j => if j = k then BitVec.ofNat 32 (os i cf k) else s8 j)
    isplitr
    · ipureintro
      intro w hw
      by_cases e : w = k
      · rw [e]; exact if_pos rfl
      · exact (if_neg e).trans (h8 w (by omega))
    · iexact H8
  · iexists (fun j => if j = k then BitVec.ofNat 32 (cs i cf k) else s9 j)
    isplitr
    · ipureintro
      intro w hw
      by_cases e : w = k
      · rw [e]; exact if_pos rfl
      · exact (if_neg e).trans (h9 w (by omega))
    · iexact H9

/-- The sizes of the first `n` runs. -/
def sizes (i : grid2.Coords) (cf : ℕ → ℕ → ℕ) (n : ℕ) : List (BitVec 32) := (List.range n).map fun w => BitVec.ofNat 32 (cs i cf w)

theorem sizes_succ (cf : ℕ → ℕ → ℕ) (n : ℕ) : sizes i cf (n + 1) = sizes i cf n ++ [BitVec.ofNat 32 (cs i cf n)] := by
  unfold sizes
  rw [List.range_succ, List.map_append]; rfl

theorem sizes_sum (cf : ℕ → ℕ → ℕ) (n : ℕ) : (sizes i cf n).foldl Scalar.addi 0#32 = BitVec.ofNat 32 (psum (cs i cf) n) := by
  induction n with
  | zero => rfl
  | succ n ih =>
    rw [sizes_succ, List.foldl_append, ih]
    show BitVec.ofNat 32 (psum (cs i cf) n) + BitVec.ofNat 32 (cs i cf n) = _
    rw [← BitVec.ofNat_add]; rfl

theorem loadA {h : ℕ → BitVec 32} {cf : ℕ → ℕ → ℕ} (hh : ∀ k < 32, ∀ g < 32, h (32 * k + g) = BitVec.ofNat 32 (cf k g)) (k : ℕ) (hk : k < 32) (l : Fin 16) : (fun x : S16.Idx => h (32 * k + (x 0).val)) (ln l) = BitVec.ofNat 32 (cf k l.val) := hh k hk l.val (by have := l.isLt; omega)

theorem loadB {h : ℕ → BitVec 32} {cf : ℕ → ℕ → ℕ} (hh : ∀ k < 32, ∀ g < 32, h (32 * k + g) = BitVec.ofNat 32 (cf k g)) (k : ℕ) (hk : k < 32) (l : Fin 16) : (fun x : S16.Idx => h (32 * k + 16 + (x 0).val)) (ln l) = BitVec.ofNat 32 (cf k (16 + l.val)) := by
  show h (32 * k + 16 + l.val) = _
  rw [Nat.add_assoc]; exact hh k hk _ (by have := l.isLt; omega)

theorem offA (k : ℕ) (hk : k < 32) : (rW (2 * k)).off 0 = 32 * k := by
  show 16 * (2 * k % 64) = _; omega
theorem offB (k : ℕ) (hk : k < 32) : (rW (2 * k + 1)).off 0 = 32 * k + 16 := by
  show 16 * ((2 * k + 1) % 64) = _; omega

set_option maxHeartbeats 800000 in
theorem head3_wp {α : Type} {Q : α → sProp 𝕄} {h : ℕ → BitVec 32} {cf : ℕ → ℕ → ℕ} (hc : ∀ w g, cf w g < 2 ^ 31) (hh : ∀ k < 32, ∀ g < 32, h (32 * k + g) = BitVec.ofNat 32 (cf k g)) (n : ℕ) :
    ∀ (k : ℕ) (hk : k + n < 32) (acc : List (BitVec 32)) (hacc : acc = sizes i cf k) (kk : List (BitVec 32) → Prog (TpuEff nD τ sig (Elt F) Λ₀ (.scVector (c2 i) (t2 i))) α),
    iprop(At1 (F := F) d (c2 i) (t2 i) (e := .i32) arg7 fullShare h ∗ PT (F := F) d i arg8 arg9 cf k)
      ⊢ iprop((At1 (F := F) d (c2 i) (t2 i) (e := .i32) arg7 fullShare h ∗ PT (F := F) d i arg8 arg9 cf (k + n) -∗ wpT d (c2 i) (t2 i) (kk (sizes i cf (k + n))) Q)
      -∗ wpT d (c2 i) (t2 i) (head3 (F := F) i arg7 arg8 arg9 n k acc >>= kk) Q) := by
  induction n with
  | zero =>
    intro k hk acc hacc kk
    rw [head3_zero, pure_bind, hacc]
    iintro H Hk
    iapply Hk $$ H
  | succ n ih =>
    intro k hk acc hacc kk
    have e : rlen (wid (i 0).val (i 1).val) (fun x : S16.Idx => h (32 * k + (x 0).val)) (fun x : S16.Idx => h (32 * k + 16 + (x 0).val)) = BitVec.ofNat 32 (cs i cf k) := by
      rw [wid_eq]; exact rlen_eq (wd2 i) (wd2_lt i) (cf k) _ _ (loadA hh k (by omega)) (loadB hh k (by omega))
    rw [head3_succ, Prog.bind_assoc, show k + (n + 1) = (k + 1) + n from by omega]
    iintro ⟨H7, HP⟩ Hk
    iapply (wp_ld1 d (c2 i) (t2 i) (rW (2 * k)) (fun _ => rfl) (32 * k) (offA k (by omega))) $$ H7
    rw [Prog.bind_assoc]
    iintro H7
    iapply (wp_ld1 d (c2 i) (t2 i) (rW (2 * k + 1)) (fun _ => rfl) (32 * k + 16) (offB k (by omega))) $$ H7
    rw [Prog.bind_assoc]
    iintro H7
    iapply (put3_wp (F := F) d i arg8 arg9 cf hc k (by omega) _ _ (loadA hh k (by omega)) (loadB hh k (by omega))) $$ HP
    iintro HP
    iapply (ih (k + 1) (by omega) (acc ++ [_]) (by rw [sizes_succ, hacc]; exact congrArg (fun z => sizes i cf k ++ [z]) e) kk) $$ [H7 HP]
    · isplitl [H7]; · iexact H7
      iexact HP
    iexact Hk

end K3

end Cert.Proof.Tile

end
-- ==== Proof.K3g.lean ====
/-
  The third call's body of a tile.
-/
module

public import proofs.«01_k».proof.Proof.K3f

@[expose] public section

noncomputable section

namespace Cert.Proof.Tile

open Cert.KernelIdeal Cert.KernelIdeal.Gen Cert.Proof.Roll Cert.Proof.Pure

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 3) (Elt F) ℕ UU ℕ

variable (d : Dev nD) (i : grid2.Coords)

section K3

variable (arg2 : Memref sig .scVector .hbm S1010688 .i32) (arg3 : Memref sig .scVector .hbm S1024 .i32) (harg3 : arg3.IsWhole) (arg4 : Memref sig .scVector .hbm S20 .f32) (harg4 : arg4.IsWhole) (arg5 : Memref sig .scVector .hbm S16777216 .f32)
  (arg6 : Memref sig .scVector .vmem S65536 .f32) (harg6 : arg6.IsWhole) (arg7 : Memref sig .scVector .vmem S1024 .i32) (harg7 : arg7.IsWhole) (arg8 : Memref sig .scVector .vmem S32 .i32) (arg9 : Memref sig .scVector .vmem S32 .i32)
  (arg10 : Memref sig .scVector .vmem S57344 .i32) (arg11 : Memref sig .scVector .vmem S2048 .i32) (harg11 : arg11.IsWhole)
  (arg12 : Memref sig .scVector .vmem S32 .f32)
  (r0 r1 r2 r4 r6 r7 : DmaSems sig S_)

variable {q : PosShare TreeShare} {O : CellTallies nD τ sig (HIx 3)} {W : Waits sig (HIx 3)}

variable (z0 z1 z2 z3 z4 z5 z6 z7 z8 z9 za zb zc zd ze zf zg zh zi zj zk zl zm zn zo zp zq zr zs zt zu zv : BitVec 32)

theorem app_congr {E : Type} (lo : ℕ) (u u' : BitVec 32 → E) (xs : List (BitVec 32)) (g : ℕ → E) (h : ∀ p ∈ xs, u p = u' p) : app lo u xs g = app lo u' xs g := by
  induction xs generalizing g with
  | nil => rfl
  | cons p ps ih =>
    show app lo u ps _ = app lo u' ps _
    rw [h p (List.mem_cons_self ..)]
    exact ih _ fun q hq => h q (List.mem_cons_of_mem _ hq)

theorem Stg_back (C O' : ℕ → ℕ) (pw : ℕ → BitVec 32) : Stg (F := F) d i arg10 C O' pw ⊢ At1E (F := F) d (c2 i) (t2 i) arg10 := by
  unfold Stg At1E
  iintro ⟨%g, -, H⟩
  iexists g
  iexact H

theorem Tab_back (C O' : ℕ → ℕ) : Tab (F := F) d i arg8 arg9 C O' ⊢ iprop(At1E (F := F) d (c2 i) (t2 i) arg8 ∗ At1E (F := F) d (c2 i) (t2 i) arg9) := by
  unfold Tab At1E
  iintro ⟨⟨%s, -, H⟩, ⟨%s', -, H'⟩⟩
  isplitl [H]
  · iexists s; iexact H
  · iexists s'; iexact H'

set_option maxHeartbeats 800000 in
theorem tail3_wp (cf : ℕ → ℕ → ℕ) (hc : ∀ w g, cf w g < 2 ^ 31) (x y : IVec S16 32) (hx : ∀ l : Fin 16, x (ln l) = BitVec.ofNat 32 (cf 31 l.val)) (hy : ∀ l : Fin 16, y (ln l) = BitVec.ofNat 32 (cf 31 (16 + l.val)))
    (b : ℕ → Elt F .f32) (pw : ℕ → BitVec 32) (hR : Runs (cs i cf) (os i cf) pw) (htot : tot3 z0 z1 z2 z3 z4 z5 z6 z7 z8 z9 za zb zc zd ze zf zg zh zi zj zk zl zm zn zo zp zq zr zs zt zu zv = BitVec.ofNat 32 (psum (cs i cf) 32)) (tot0 : BitVec 32) (ht' : Scalar.addi tot0 zv = BitVec.ofNat 32 (psum (cs i cf) 32)) :
    iprop(Rd (F := F) d i arg2 arg11 q O W r2 pw ∗ (semVal ((V d (c2 i) (t2 i) : Thread nD τ), SemLoc.dma r4.sem) 0 ∗ semVal ((V d (c2 i) (t2 i) : Thread nD τ), SemLoc.dma r6.sem) 0 ∗ semVal ((V d (c2 i) (t2 i) : Thread nD τ), SemLoc.dma r7.sem) 0)
      ∗ PT (F := F) d i arg8 arg9 cf 31 ∗ At1E (F := F) d (c2 i) (t2 i) arg10 ∗ At1 (F := F) d (c2 i) (t2 i) (e := .f32) arg12 fullShare b ∗ At1E (F := F) d (c2 i) (t2 i) arg6 ∗ Done (F := F) d i arg5 b (cs i cf) (os i cf) pw 0)
    ⊢ wpT d (c2 i) (t2 i) (tail3 (F := F) i arg2 arg5 arg6 harg6 arg8 arg9 arg10 arg11 harg11 arg12 r2 r4 r6 r7 z0 z1 z2 z3 z4 z5 z6 z7 z8 z9 za zb zc zd ze zf zg zh zi zj zk zl zm zn zo zp zq zr zs zt zu zv tot0 x y) fun _ =>
      iprop(Rnd (F := F) d i arg2 arg6 arg8 arg9 arg10 arg11 arg12 r4 r6 r7 q O W b (cs i cf) (os i cf) pw ∗ semVal ((V d (c2 i) (t2 i) : Thread nD τ), SemLoc.dma r2.sem) 0 ∗ Done (F := F) d i arg5 b (cs i cf) (os i cf) pw 8) := by
  have hw : k2_chk261 z0 z1 z2 z3 z4 z5 z6 z7 z8 z9 za zb zc zd ze zf zg zh zi zj zk zl zm zn zo zp zq zr zs zt zu zv := chk261_of z0 z1 z2 z3 z4 z5 z6 z7 z8 z9 za zb zc zd ze zf zg zh zi zj zk zl zm zn zo zp zq zr zs zt zu zv (psum (cs i cf) 32) hR.tot htot
  unfold tail3
  iintro ⟨HR, ⟨Hs4, Hs6, Hs7⟩, HP, H10, H12, H6, HD⟩
  iapply (wp_asm d (c2 i) (t2 i) hw)
  iapply (put3_wp (F := F) d i arg8 arg9 cf hc 31 (by decide) x y hx hy) $$ HP
  iintro HP
  ihave HT := (show PT (F := F) d i arg8 arg9 cf (31 + 1) ⊢ Tab (F := F) d i arg8 arg9 (cs i cf) (os i cf) from BIBase.Entails.rfl) $$ HP
  iapply (wp_seq (F := F) d (c2 i) (t2 i) (stage3_wp (F := F) d i arg2 arg8 arg9 arg10 arg11 harg11 r2 (q := q) (O := O) (W := W) z0 z1 z2 z3 z4 z5 z6 z7 z8 z9 za zb zc zd ze zf zg zh zi zj zk zl zm zn zo zp zq zr zs zt zu zv (cs i cf) (os i cf) pw hR htot)) $$ [HR HT H10]
  · isplitl [HR]; · iexact HR
    isplitl [HT]; · iexact HT
    iexact H10
  iintro %_ ⟨HR, HT, HS⟩
  ihave HX := (Rd_swap (F := F) d i arg2 arg11 (q := q) (O := O) (W := W) pw r2 r4) $$ [HR Hs4]
  · isplitl [HR]; · iexact HR
    iexact Hs4
  icases HX with ⟨HR, Hs2⟩
  iapply (clr_wp (F := F) d i arg6) $$ H6
  iintro H6
  iapply (rounds_wp (F := F) d i arg2 arg5 arg6 harg6 arg8 arg9 arg10 arg11 harg11 arg12 r4 r6 r7 (q := q) (O := O) (W := W) z0 z1 z2 z3 z4 z5 z6 z7 z8 z9 za zb zc zd ze zf zg zh zi zj zk zl zm zn zo zp zq zr zs zt zu zv b (cs i cf) (os i cf) pw hR htot (Scalar.addi tot0 zv) ht' hw) $$ [HR Hs6 Hs7 HT HS H12 H6 HD]
  · isplitr [HD]
    · unfold Rnd
      isplitl [HR]; · iexact HR
      isplitl [Hs6]; · iexact Hs6
      isplitl [Hs7]; · iexact Hs7
      isplitl [HT]; · iexact HT
      isplitl [HS]; · iexact HS
      isplitl [H12]; · iexact H12
      iexact H6
    · iexact HD
  iintro ⟨HR, HD⟩
  isplitl [HR]; · iexact HR
  isplitl [Hs2]; · iexact Hs2
  iexact HD

theorem tot_step (C : ℕ → ℕ) (n : ℕ) : Scalar.addi (BitVec.ofNat 32 (psum C n)) (BitVec.ofNat 32 (C n)) = BitVec.ofNat 32 (psum C (n + 1)) := by
  show BitVec.ofNat 32 (psum C n) + BitVec.ofNat 32 (C n) = _
  rw [← BitVec.ofNat_add]; rfl

theorem tot_sizes (cf : ℕ → ℕ → ℕ) : tot3 ((sizes i cf 31).getD 0 0#32) ((sizes i cf 31).getD 1 0#32) ((sizes i cf 31).getD 2 0#32) ((sizes i cf 31).getD 3 0#32) ((sizes i cf 31).getD 4 0#32) ((sizes i cf 31).getD 5 0#32) ((sizes i cf 31).getD 6 0#32) ((sizes i cf 31).getD 7 0#32) ((sizes i cf 31).getD 8 0#32) ((sizes i cf 31).getD 9 0#32) ((sizes i cf 31).getD 10 0#32) ((sizes i cf 31).getD 11 0#32) ((sizes i cf 31).getD 12 0#32) ((sizes i cf 31).getD 13 0#32) ((sizes i cf 31).getD 14 0#32) ((sizes i cf 31).getD 15 0#32) ((sizes i cf 31).getD 16 0#32) ((sizes i cf 31).getD 17 0#32) ((sizes i cf 31).getD 18 0#32) ((sizes i cf 31).getD 19 0#32) ((sizes i cf 31).getD 20 0#32) ((sizes i cf 31).getD 21 0#32) ((sizes i cf 31).getD 22 0#32) ((sizes i cf 31).getD 23 0#32) ((sizes i cf 31).getD 24 0#32) ((sizes i cf 31).getD 25 0#32) ((sizes i cf 31).getD 26 0#32) ((sizes i cf 31).getD 27 0#32) ((sizes i cf 31).getD 28 0#32) ((sizes i cf 31).getD 29 0#32) ((sizes i cf 31).getD 30 0#32) (BitVec.ofNat 32 (cs i cf 31)) = BitVec.ofNat 32 (psum (cs i cf) 32) := by
  show tot3 (BitVec.ofNat 32 (cs i cf 0)) (BitVec.ofNat 32 (cs i cf 1)) (BitVec.ofNat 32 (cs i cf 2)) (BitVec.ofNat 32 (cs i cf 3)) (BitVec.ofNat 32 (cs i cf 4)) (BitVec.ofNat 32 (cs i cf 5)) (BitVec.ofNat 32 (cs i cf 6)) (BitVec.ofNat 32 (cs i cf 7)) (BitVec.ofNat 32 (cs i cf 8)) (BitVec.ofNat 32 (cs i cf 9)) (BitVec.ofNat 32 (cs i cf 10)) (BitVec.ofNat 32 (cs i cf 11)) (BitVec.ofNat 32 (cs i cf 12)) (BitVec.ofNat 32 (cs i cf 13)) (BitVec.ofNat 32 (cs i cf 14)) (BitVec.ofNat 32 (cs i cf 15)) (BitVec.ofNat 32 (cs i cf 16)) (BitVec.ofNat 32 (cs i cf 17)) (BitVec.ofNat 32 (cs i cf 18)) (BitVec.ofNat 32 (cs i cf 19)) (BitVec.ofNat 32 (cs i cf 20)) (BitVec.ofNat 32 (cs i cf 21)) (BitVec.ofNat 32 (cs i cf 22)) (BitVec.ofNat 32 (cs i cf 23)) (BitVec.ofNat 32 (cs i cf 24)) (BitVec.ofNat 32 (cs i cf 25)) (BitVec.ofNat 32 (cs i cf 26)) (BitVec.ofNat 32 (cs i cf 27)) (BitVec.ofNat 32 (cs i cf 28)) (BitVec.ofNat 32 (cs i cf 29)) (BitVec.ofNat 32 (cs i cf 30)) (BitVec.ofNat 32 (cs i cf 31)) = _
  unfold tot3
  rw [show (0#32 : BitVec 32) = BitVec.ofNat 32 (psum (cs i cf) 0) from rfl, tot_step _ 0, tot_step _ 1, tot_step _ 2, tot_step _ 3, tot_step _ 4, tot_step _ 5, tot_step _ 6, tot_step _ 7, tot_step _ 8, tot_step _ 9, tot_step _ 10, tot_step _ 11, tot_step _ 12, tot_step _ 13, tot_step _ 14, tot_step _ 15, tot_step _ 16, tot_step _ 17, tot_step _ 18, tot_step _ 19, tot_step _ 20, tot_step _ 21, tot_step _ 22, tot_step _ 23, tot_step _ 24, tot_step _ 25, tot_step _ 26, tot_step _ 27, tot_step _ 28, tot_step _ 29, tot_step _ 30, tot_step _ 31]

set_option maxHeartbeats 1600000 in
theorem k3_body (h : ℕ → BitVec 32) (cf : ℕ → ℕ → ℕ) (hc : ∀ w g, cf w g < 2 ^ 31) (hh : ∀ k < 32, ∀ g < 32, h (32 * k + g) = BitVec.ofNat 32 (cf k g))
    (b : ℕ → Elt F .f32) (pw : ℕ → BitVec 32) (hR : Runs (cs i cf) (os i cf) pw) (hl : ∀ p ∈ runs (cs i cf) (os i cf) pw 32, (p &&& 31#32).toNat < 20) :
    (Transfers.MayWaits (V d (c2 i) (t2 i)) (default : HIx 3) O : sProp 𝕄) ⊢ iprop((At1 (F := F) d (c2 i) (t2 i) (e := .i32) arg2 q pw
      ∗ At1 (F := F) d (c2 i) (t2 i) (e := .i32) arg3 q h ∗ At1 (F := F) d (c2 i) (t2 i) (e := .f32) arg4 q b
      ∗ Done (F := F) d i arg5 b (cs i cf) (os i cf) pw 0
      ∗ (At1E (F := F) d (c2 i) (t2 i) arg6 ∗ At1E (F := F) d (c2 i) (t2 i) arg7 ∗ At1E (F := F) d (c2 i) (t2 i) arg8 ∗ At1E (F := F) d (c2 i) (t2 i) arg9 ∗ At1E (F := F) d (c2 i) (t2 i) arg10 ∗ At1E (F := F) d (c2 i) (t2 i) arg11 ∗ At1E (F := F) d (c2 i) (t2 i) arg12)
      ∗ (semVal ((V d (c2 i) (t2 i) : Thread nD τ), SemLoc.dma r0.sem) 0 ∗ semVal ((V d (c2 i) (t2 i) : Thread nD τ), SemLoc.dma r1.sem) 0 ∗ semVal ((V d (c2 i) (t2 i) : Thread nD τ), SemLoc.dma r2.sem) 0 ∗ semVal ((V d (c2 i) (t2 i) : Thread nD τ), SemLoc.dma r4.sem) 0 ∗ semVal ((V d (c2 i) (t2 i) : Thread nD τ), SemLoc.dma r6.sem) 0 ∗ semVal ((V d (c2 i) (t2 i) : Thread nD τ), SemLoc.dma r7.sem) 0)
      ∗ Owe (F := F) d (c2 i) (t2 i) O W)
      -∗ wpT d (c2 i) (t2 i) (body3 (F := F) i arg2 arg3 harg3 arg4 harg4 arg5 arg6 harg6 arg7 harg7 arg8 arg9 arg10 arg11 harg11 arg12 r0 r1 r2 r4 r6 r7) fun _ => iprop(At1 (F := F) d (c2 i) (t2 i) (e := .i32) arg2 q pw
      ∗ At1 (F := F) d (c2 i) (t2 i) (e := .i32) arg3 q h ∗ At1 (F := F) d (c2 i) (t2 i) (e := .f32) arg4 q b
      ∗ Done (F := F) d i arg5 b (cs i cf) (os i cf) pw 8
      ∗ (At1E (F := F) d (c2 i) (t2 i) arg6 ∗ At1E (F := F) d (c2 i) (t2 i) arg7 ∗ At1E (F := F) d (c2 i) (t2 i) arg8 ∗ At1E (F := F) d (c2 i) (t2 i) arg9 ∗ At1E (F := F) d (c2 i) (t2 i) arg10 ∗ At1E (F := F) d (c2 i) (t2 i) arg11 ∗ At1E (F := F) d (c2 i) (t2 i) arg12)
      ∗ (semVal ((V d (c2 i) (t2 i) : Thread nD τ), SemLoc.dma r0.sem) 0 ∗ semVal ((V d (c2 i) (t2 i) : Thread nD τ), SemLoc.dma r1.sem) 0 ∗ semVal ((V d (c2 i) (t2 i) : Thread nD τ), SemLoc.dma r2.sem) 0 ∗ semVal ((V d (c2 i) (t2 i) : Thread nD τ), SemLoc.dma r4.sem) 0 ∗ semVal ((V d (c2 i) (t2 i) : Thread nD τ), SemLoc.dma r6.sem) 0 ∗ semVal ((V d (c2 i) (t2 i) : Thread nD τ), SemLoc.dma r7.sem) 0)
      ∗ Owe (F := F) d (c2 i) (t2 i) O W)) := by
  have hpos : 0 < (⟨1, S1024.size⟩ : Shape).numel := by decide
  have hpos2 : 0 < (⟨1, S20.size⟩ : Shape).numel := by decide
  have el : ∀ x y : IVec S16 32, (∀ l : Fin 16, x (ln l) = BitVec.ofNat 32 (cf 31 l.val)) → (∀ l : Fin 16, y (ln l) = BitVec.ofNat 32 (cf 31 (16 + l.val))) → rlen (wid (i 0).val (i 1).val) x y = BitVec.ofNat 32 (cs i cf 31) := by
    intro x y hx hy
    rw [wid_eq]; exact rlen_eq (wd2 i) (wd2_lt i) (cf 31) x y hx hy
  have hch : ∀ b' : ℕ → Elt F .f32, (∀ k < 20, b' k = b k) → ∀ t, chunkOf (F := F) b' (cs i cf) (os i cf) pw t = chunkOf (F := F) b (cs i cf) (os i cf) pw t := by
    intro b' hb' t
    exact app_congr _ _ _ _ _ fun p hp => hb' _ (hl p hp)
  have hD : ∀ b' : ℕ → Elt F .f32, (∀ k < 20, b' k = b k) → ∀ r, Done (F := F) d i arg5 b' (cs i cf) (os i cf) pw r = Done (F := F) d i arg5 b (cs i cf) (os i cf) pw r := by
    intro b' hb' r
    unfold Done
    simp only [hch b' hb']
  unfold body3 copies3
  simp only [Prog.bind_assoc, pure_bind, bind_assoc]
  iintro #Hm ⟨Ha, Hh, Hb, HD, ⟨H6, H7, H8, H9, H10, H11, H12⟩, ⟨Hs0, Hs1, Hs2, Hs4, Hs6, Hs7⟩, Ho⟩
  unfold At1E
  icases H7 with ⟨%g7, H7⟩
  icases H12 with ⟨%g12, H12⟩
  icases H8 with ⟨%g8, H8⟩
  icases H9 with ⟨%g9, H9⟩
  iapply (wp_cp1 d (c2 i) (t2 i) (n := S1024.size) hpos) $$ Hm [Hh H7 Hs0 Ho]
  · isplitl [Hh]; · iexact Hh
    isplitl [H7]; · iexact H7
    isplitl [Hs0]; · iexact Hs0
    iexact Ho
  iintro ⟨Hh, H7, Hs0, Ho⟩
  ihave H12 := (At1_slice d (c2 i) (t2 i) (Rect.unit (s := S32) ![0] S20.size inb_S32_S20_0) (fun _ => rfl) 0 20 rfl rfl) $$ H12
  icases H12 with ⟨H12, H12b⟩
  iapply (wp_cp1 d (c2 i) (t2 i) (n := S20.size) hpos2) $$ Hm [Hb H12 Hs1 Ho]
  · isplitl [Hb]; · iexact Hb
    isplitl [H12]; · iexact H12
    isplitl [Hs1]; · iexact Hs1
    iexact Ho
  iintro ⟨Hb, H12, Hs1, Ho⟩
  ispecialize H12b $$ %b H12
  obtain ⟨b', hb', hb''⟩ : ∃ b' : ℕ → Elt F .f32, (∀ k < 20, b' k = b k) ∧ (fun k => if 0 ≤ k ∧ k < 0 + 20 then b (k - 0) else g12 k) = b' := ⟨_, fun k hk => if_pos ⟨Nat.zero_le _, by omega⟩, rfl⟩
  rw [hb'']
  iapply (head3_wp (F := F) d i arg7 arg8 arg9 hc hh 31 0 (by decide) [] rfl) $$ [H7 H8 H9]
  · isplitl [H7]; · iexact H7
    unfold PT
    isplitl [H8]
    · iexists g8
      isplitr
      · ipureintro; exact fun w hw => absurd hw (Nat.not_lt_zero _)
      · iexact H8
    · iexists g9
      isplitr
      · ipureintro; exact fun w hw => absurd hw (Nat.not_lt_zero _)
      · iexact H9
  iintro ⟨H7, HP⟩
  iapply (wp_ld1 d (c2 i) (t2 i) (rW 62) (fun _ => rfl) (32 * 31) (offA 31 (by decide))) $$ H7
  iintro H7
  iapply (wp_ld1 d (c2 i) (t2 i) (rW 63) (fun _ => rfl) (32 * 31 + 16) (offB 31 (by decide))) $$ H7
  iintro H7
  iapply (wp_wand_r _ _ _)
  isplitl [Ha H11 Hs2 Ho Hs4 Hs6 Hs7 HP H10 H12b H6 HD]
  · iapply (tail3_wp (F := F) d i arg2 arg5 arg6 harg6 arg8 arg9 arg10 arg11 harg11 arg12 r2 r4 r6 r7 (q := q) (O := O) (W := W) _ _ _ _ _ _ _ _ _ _ _ _ _ _ _ _ _ _ _ _ _ _ _ _ _ _ _ _ _ _ _ _ cf hc _ _ (loadA hh 31 (by decide)) (loadB hh 31 (by decide)) b' pw hR
      (by rw [el _ _ (loadA hh 31 (by decide)) (loadB hh 31 (by decide))]; exact tot_sizes (i := i) cf) _
      (by rw [el _ _ (loadA hh 31 (by decide)) (loadB hh 31 (by decide)), sizes_sum]; exact tot_step _ 31))
    isplitl [Ha H11 Hs2 Ho]
    · unfold Rd At1E
      isplitr; · iexact Hm
      isplitl [Ha]; · iexact Ha
      isplitl [H11]; · iexact H11
      isplitl [Hs2]; · iexact Hs2
      iexact Ho
    isplitl [Hs4 Hs6 Hs7]
    · isplitl [Hs4]; · iexact Hs4
      isplitl [Hs6]; · iexact Hs6
      iexact Hs7
    isplitl [HP]; · iexact HP
    unfold At1E
    isplitl [H10]; · iexact H10
    isplitl [H12b]; · iexact H12b
    isplitl [H6]; · iexact H6
    rw [hD b' hb' 0]
    iexact HD
  rw [hD b' hb' 8]
  unfold Rnd Rd
  iintro %_ ⟨⟨⟨-, Ha, H11, Hs4, Ho⟩, Hs6, Hs7, HT, HS, H12, H6⟩, Hs2, HD⟩
  ihave HT := (Tab_back (F := F) d i arg8 arg9 _ _) $$ HT
  icases HT with ⟨H8, H9⟩
  ihave H10 := (Stg_back (F := F) d i arg10 _ _ _) $$ HS
  unfold At1E
  isplitl [Ha]; · iexact Ha
  isplitl [Hh]; · iexact Hh
  isplitl [Hb]; · iexact Hb
  isplitl [HD]; · iexact HD
  isplitl [H6 H7 H8 H9 H10 H11 H12]
  · isplitl [H6]; · iexists (fun _ => zV (F := F)); iexact H6
    isplitl [H7]; · iexists h; iexact H7
    isplitl [H8]; · iexact H8
    isplitl [H9]; · iexact H9
    isplitl [H10]; · iexact H10
    isplitl [H11]; · iexact H11
    iexists b'; iexact H12
  isplitr [Ho]
  · isplitl [Hs0]; · iexact Hs0
    isplitl [Hs1]; · iexact Hs1
    isplitl [Hs2]; · iexact Hs2
    isplitl [Hs4]; · iexact Hs4
    isplitl [Hs6]; · iexact Hs6
    iexact Hs7
  · iexact Ho

end K3

end Cert.Proof.Tile

end
-- ==== Proof.Last.lean ====
/-
  The words that the third call lays down, path by path: the last path of a cell is the one that stays.
-/
module

public import proofs.«01_k».proof.Proof.K3g

@[expose] public section

noncomputable section

namespace Cert.Proof.Tile

open Cert.KernelIdeal Cert.KernelIdeal.Gen Cert.Proof.Pure Cert.Proof.Roll
open Idealize.ShloMosaic

/-! ## The packed word of a path -/

/-- The place in the table of a path of length `l`. -/
def lv (l : BitVec 32) : BitVec 32 := IntOp.subi (IntOp.minsi (IntOp.maxsi l 1#32) 20#32) 1#32

theorem lv_lt (l : BitVec 32) : (lv l).toNat < 20 := by
  have h1 : (1#32 : BitVec 32).toInt = 1 := rfl
  have h20 : (20#32 : BitVec 32).toInt = 20 := rfl
  have key : ∀ x : BitVec 32, 1 ≤ x.toInt → x.toInt ≤ 20 → (x - 1#32).toNat < 20 := by
    intro x h h'
    have hx := x.isLt
    have h4 := BitVec.toInt_eq_toNat_cond x
    have e1 : (1#32 : BitVec 32).toNat = 1 := rfl
    rw [BitVec.toNat_sub, e1]
    split at h4 <;> omega
  unfold lv
  show (IntOp.minsi (IntOp.maxsi l 1#32) 20#32 - 1#32).toNat < 20
  apply key
  · unfold IntOp.minsi IntOp.maxsi
    split <;> split <;> simp_all [BitVec.slt, BitVec.sle] <;> omega
  · unfold IntOp.minsi IntOp.maxsi
    split <;> split <;> simp_all [BitVec.slt, BitVec.sle] <;> omega

theorem pk_word (s d l : BitVec 32) : pk s d l = ((((s &&& 127#32) <<< 12) ||| d) <<< 5) ||| lv l := rfl

theorem pk_nat (s d l : BitVec 32) (hd : d.toNat < 4096) : (pk s d l).toNat = (s.toNat % 128 * 4096 + d.toNat) * 32 + (lv l).toNat := by
  have hl := lv_lt l
  have h127 : (s &&& 127#32).toNat = s.toNat % 128 := by
    rw [BitVec.toNat_and]; exact Nat.and_two_pow_sub_one_eq_mod s.toNat 7
  have e1 : ((s &&& 127#32) <<< 12).toNat = (s.toNat % 128) <<< 12 := by
    rw [BitVec.toNat_shiftLeft, h127, Nat.mod_eq_of_lt]
    rw [Nat.shiftLeft_eq]; omega
  have e2 : ((((s &&& 127#32) <<< 12) ||| d) : BitVec 32).toNat = s.toNat % 128 * 4096 + d.toNat := by
    rw [BitVec.toNat_or, e1, ← Nat.shiftLeft_add_eq_or_of_lt (by omega), Nat.shiftLeft_eq]
  have e3 : (((((s &&& 127#32) <<< 12) ||| d) <<< 5) : BitVec 32).toNat = (s.toNat % 128 * 4096 + d.toNat) <<< 5 := by
    rw [BitVec.toNat_shiftLeft, e2, Nat.mod_eq_of_lt]
    rw [Nat.shiftLeft_eq]; omega
  rw [pk_word, BitVec.toNat_or, e3, ← Nat.shiftLeft_add_eq_or_of_lt (by omega), Nat.shiftLeft_eq]

theorem pk_and (s d l : BitVec 32) (hd : d.toNat < 4096) : (pk s d l &&& 31#32).toNat = (lv l).toNat := by
  have hl := lv_lt l
  rw [BitVec.toNat_and]
  refine (Nat.and_two_pow_sub_one_eq_mod _ 5).trans ?_
  rw [pk_nat s d l hd]; omega

/-! ## Laying words down, cell by cell -/

theorem app_at {E : Type} (lo : ℕ) (u : BitVec 32 → E) (xs : List (BitVec 32)) (g : ℕ → E) (c : ℕ) (hc : c < 65536) :
    app lo u xs g c = xs.foldl (fun z p => if p.toNat / 32 = lo + c then u p else z) (g c) := by
  induction xs generalizing g with
  | nil => rfl
  | cons p ps ih =>
    show app lo u ps _ c = _
    rw [ih, List.foldl_cons]
    congr 1
    by_cases h : p.toNat / 32 = lo + c
    · rw [if_pos h, if_pos (show hit lo p from ⟨by omega, by omega⟩), show p.toNat / 32 - lo = c from by omega]
      exact Function.update_self ..
    · rw [if_neg h]
      by_cases h2 : hit lo p
      · rw [if_pos h2]
        have := h2.1
        exact Function.update_of_ne (by omega) _ _
      · rw [if_neg h2]

theorem cnt_surj (G : ℕ → ℕ) (g a N k : ℕ) (h : k < cnt G g a N) : ∃ j < N, G (a + j) = g ∧ cnt G g a j = k := by
  induction N with
  | zero => exact absurd h (Nat.not_lt_zero _)
  | succ N ih =>
    rw [cnt] at h
    by_cases h1 : k < cnt G g a N
    · obtain ⟨j, hj, e⟩ := ih h1
      exact ⟨j, by omega, e⟩
    · by_cases h2 : G (a + N) = g
      · rw [if_pos h2] at h
        exact ⟨N, by omega, h2, by omega⟩
      · rw [if_neg h2] at h
        omega

/-- The words of one run, and the paths of its tile. -/
theorem seg {E : Type} (G : ℕ → ℕ) (g a o : ℕ) (pw : ℕ → BitVec 32) (s : E → BitVec 32 → E) (s' : E → ℕ → E) (N : ℕ)
    (h1 : ∀ j < N, G (a + j) = g → ∀ z, s z (pw (o + cnt G g a j)) = s' z (a + j)) (h2 : ∀ j < N, G (a + j) ≠ g → ∀ z, s' z (a + j) = z) (z : E) :
    ((List.range (cnt G g a N)).map fun k => pw (o + k)).foldl s z = (List.range N).foldl (fun z j => s' z (a + j)) z := by
  induction N with
  | zero => rfl
  | succ N ih =>
    have ih' := ih (fun j hj => h1 j (by omega)) (fun j hj => h2 j (by omega))
    rw [List.range_succ (n := N), List.foldl_append, ← ih', cnt]
    by_cases h : G (a + N) = g
    · rw [if_pos h, List.range_succ, List.map_append, List.foldl_append]
      exact h1 N (by omega) h _
    · rw [if_neg h, Nat.add_zero]
      exact (h2 N (by omega) h _).symm

theorem range_split (a N : ℕ) {E : Type} (s' : E → ℕ → E) (z : E) : (List.range (a + N)).foldl s' z = (List.range N).foldl (fun z j => s' z (a + j)) ((List.range a).foldl s' z) := by
  induction N with
  | zero => rfl
  | succ N ih =>
    rw [← Nat.add_assoc, List.range_succ, List.foldl_append, ih, List.range_succ, List.foldl_append]
    rfl

theorem runs_fold {E : Type} (C O : ℕ → ℕ) (pw : ℕ → BitVec 32) (s : E → BitVec 32 → E) (s' : E → ℕ → E) (z : E)
    (h : ∀ w < 32, ∀ z, ((List.range (C w)).map fun k => pw (O w + k)).foldl s z = (List.range (nw w)).foldl (fun z j => s' z (31264 * w + j)) z) :
    (runs C O pw 32).foldl s z = (List.range 1000000).foldl s' z := by
  have hn : ∀ n ≤ 32, (runs C O pw n).foldl s z = (List.range (min (31264 * n) 1000000)).foldl s' z := by
    intro n
    induction n with
    | zero => intro _; rfl
    | succ n ih =>
      intro hn
      rw [runs, List.foldl_append, ih (by omega), h n (by omega), show min (31264 * (n + 1)) 1000000 = 31264 * n + nw n from by unfold nw; omega, range_split, show min (31264 * n) 1000000 = 31264 * n from by omega]
  exact hn 32 (by omega)

/-! ## What the words of the paths make of the result -/

variable {F : FTy → Type} [FloatOps F]

/-- The value of the last path of cell `n`, and zero if there is none. -/
def lastv (b : ℕ → Elt F .f32) (src dst len : ℕ → BitVec 32) (n : ℕ) : Elt F .f32 :=
  (List.range 1000000).foldl (fun z j => if (src j).toNat * 4096 + (dst j).toNat = n then b (lv (len j)).toNat else z) (zV (F := F))

/-- How many paths of tile `w` lie in group `g`. -/
def cfOf (src : ℕ → BitVec 32) (w g : ℕ) : ℕ := cnt (grp src) g (31264 * w) (nw w)

theorem cfOf_lt (src : ℕ → BitVec 32) (w g : ℕ) : cfOf src w g < 2 ^ 31 := by
  have := cnt_le (grp src) g (31264 * w) (nw w)
  unfold cfOf
  unfold nw at *; omega

/-- The words of all paths, where the second call put them. -/
def Packed (src dst len : ℕ → BitVec 32) (pw : ℕ → BitVec 32) : Prop :=
  ∀ w < 32, ∀ j < nw w, pw (31520 * w + pos (grp src) (31264 * w) (nw w) j) = pk (src (31264 * w + j)) (dst (31264 * w + j)) (len (31264 * w + j))

section Words
variable (i : grid2.Coords) (src dst len : ℕ → BitVec 32) (pw : ℕ → BitVec 32) (hp : Packed src dst len pw) (hs : ∀ k < 1000000, (src k).toNat < 4096) (hd : ∀ k < 1000000, (dst k).toNat < 4096)

include hp in
theorem word_at (w : ℕ) (hw : w < 32) (j : ℕ) (hj : j < nw w) (hg : grp src (31264 * w + j) = wd2 i) :
    pw (os i (cfOf src) w + cnt (grp src) (wd2 i) (31264 * w) j) = pk (src (31264 * w + j)) (dst (31264 * w + j)) (len (31264 * w + j)) := by
  have h := hp w hw j hj
  unfold pos at h
  rw [hg, ← Nat.add_assoc] at h
  exact h

theorem inPaths {w j : ℕ} (hj : j < nw w) : 31264 * w + j < 1000000 := by
  unfold nw at hj; omega

include hp in
theorem run_word (w : ℕ) (hw : w < 32) (k : ℕ) (hk : k < cs i (cfOf src) w) : ∃ j < 1000000, pw (os i (cfOf src) w + k) = pk (src j) (dst j) (len j) := by
  obtain ⟨j, hj, hg, rfl⟩ := cnt_surj (grp src) (wd2 i) (31264 * w) (nw w) k hk
  exact ⟨31264 * w + j, inPaths hj, word_at i src dst len pw hp w hw j hj hg⟩

include hp hd in
theorem runs_ok : Runs (cs i (cfOf src)) (os i (cfOf src)) pw where
  valid w hw k hk := by
    obtain ⟨j, hj, e⟩ := run_word i src dst len pw hp w hw k hk
    have h1 := hd j hj
    have h2 := lv_lt (len j)
    rw [e, pk_nat _ _ _ h1]; omega
  room w hw := by
    have h1 := offg_step (grp src) (31264 * w) (nw w) (wd2 i)
    have h2 := offg_le (grp src) (31264 * w) (nw w) (g := wd2 i + 1) (by have := wd2_lt i; omega)
    have h3 : nw w ≤ 31264 := by unfold nw; omega
    have e : os i (cfOf src) w + cs i (cfOf src) w = 31520 * w + (offg (grp src) (31264 * w) (nw w) (wd2 i) + cnt (grp src) (wd2 i) (31264 * w) (nw w)) := Nat.add_assoc _ _ _
    rw [e]; omega
  al w hw := (Nat.dvd_add_right ⟨3940 * w, by omega⟩).2 (psum_up_dvd _ _)
  tot := by
    have h : ∀ n, psum (cs i (cfOf src)) n ≤ n * 31264 := by
      intro n
      induction n with
      | zero => exact Nat.le_refl _
      | succ n ih =>
        have h1 := cnt_le (grp src) (wd2 i) (31264 * n) (nw n)
        have h2 : nw n ≤ 31264 := by unfold nw; omega
        have h3 : cs i (cfOf src) n ≤ 31264 := h1.trans h2
        show psum _ n + cs i (cfOf src) n ≤ _
        omega
    exact (h 32).trans_lt (by decide)

include hp hd in
theorem runs_small (p : BitVec 32) (h : p ∈ runs (cs i (cfOf src)) (os i (cfOf src)) pw 32) : (p &&& 31#32).toNat < 20 := by
  obtain ⟨w, hw, k, hk, e⟩ := runs_mem _ _ _ _ _ h
  obtain ⟨j, hj, e'⟩ := run_word i src dst len pw hp w hw k hk
  rw [e, e', pk_and _ _ _ (hd j hj)]
  exact lv_lt _

include hp hs hd in
theorem chunk_eq (b : ℕ → Elt F .f32) (t : ℕ) (ht : t < 8) (c : ℕ) (hc : c < 65536) :
    chunkOf (F := F) b (cs i (cfOf src)) (os i (cfOf src)) pw t c = lastv (F := F) b src dst len (524288 * wd2 i + 65536 * t + c) := by
  unfold chunkOf lastv
  rw [app_at _ _ _ _ c hc]
  refine runs_fold _ _ pw _ _ _ fun w hw z => ?_
  refine seg (grp src) (wd2 i) (31264 * w) (os i (cfOf src) w) pw (fun z p => if p.toNat / 32 = 65536 * t + c then uV (F := F) b p else z)
    (fun z j => if (src j).toNat * 4096 + (dst j).toNat = 524288 * wd2 i + 65536 * t + c then b (lv (len j)).toNat else z) (nw w) (fun j hj hg z => ?_) (fun j hj hg z => ?_) z
  · rw [word_at i src dst len pw hp w hw j hj hg]
    have h1 := hd _ (inPaths hj)
    have h2 := lv_lt (len (31264 * w + j))
    have h3 := pk_nat (src (31264 * w + j)) (dst (31264 * w + j)) (len (31264 * w + j)) h1
    have hg' : (src (31264 * w + j)).toNat / 128 = wd2 i := hg
    have hu : uV (F := F) b (pk (src (31264 * w + j)) (dst (31264 * w + j)) (len (31264 * w + j))) = b (lv (len (31264 * w + j))).toNat := congrArg b (pk_and _ _ _ h1)
    by_cases h : (src (31264 * w + j)).toNat * 4096 + (dst (31264 * w + j)).toNat = 524288 * wd2 i + 65536 * t + c
    · rw [if_pos h, if_pos (by rw [h3]; omega), hu]
    · rw [if_neg h, if_neg (by rw [h3]; omega)]
  · refine if_neg ?_
    have h1 := hd _ (inPaths hj)
    have hg' : ¬ (src (31264 * w + j)).toNat / 128 = wd2 i := hg
    omega

end Words

end Cert.Proof.Tile

end
-- ==== Proof.Deal.lean ====
/-
  What each tile is handed for each call, and what it brings back.
-/
module

public import proofs.«01_k».proof.Proof.K1
public import proofs.«01_k».proof.Proof.K2
public import proofs.«01_k».proof.Proof.Last
public import Idealize.ShloMosaic.Lib.SparseCore.Quiescent
public import Idealize.ShloMosaic.Lib.ValueIdxCore
public import Idealize.ShloMosaic.Lib.Routing.Shapes

@[expose] public section

noncomputable section

namespace Cert.Proof.Tile

open Cert.KernelIdeal Cert.KernelIdeal.Gen Cert.Proof.Pure Cert.Proof.Roll

open Idealize.ShloMosaic Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 3) (Elt F) ℕ UU ℕ

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## Arrays dealt among the two cores of sixteen tiles -/

section Deal

variable {ℓ : Loc nD τ sig} {q : PosShare TreeShare} {f : Buf (Elt F) ℓ}

/-- The share of tile `i` of core `c`. -/
abbrev tok (q : PosShare TreeShare) (c : Fin 2) (i : Fin 16) : PosShare TreeShare := Transfers.shareTok (Transfers.shareTok q 2 c) 16 i

/-- Read shares for all tiles, and the rest. -/
theorem deal_shares (S : Finset (Idx ℓ)) : (ℓ ↦[S]{q} f : sProp 𝕄)
    ⊢ iprop((ℓ ↦[S]{Transfers.shareDrop q 2} f) ∗ bigSep Finset.univ fun c : Fin 2 => bigSep Finset.univ fun i : Fin 16 => ℓ ↦[S]{tok q c i} f) := by
  iintro H
  ihave H := (Transfers.pointsTo_toks_split q 2) $$ H
  icases H with ⟨Hd, H⟩
  isplitl [Hd]; · iexact Hd
  have h : (bigSep Finset.univ fun c : Fin 2 => (ℓ ↦[S]{Transfers.shareTok q 2 c} f : sProp 𝕄)) ⊢ bigSep Finset.univ fun c : Fin 2 => bigSep Finset.univ fun i : Fin 16 => ℓ ↦[S]{tok q c i} f :=
    bigSep_mono fun c _ => BIBase.Entails.trans (Transfers.pointsTo_toks_split (Transfers.shareTok q 2 c) 16) sep_elim_right
  iapply h $$ H

/-- A buffer cut into the tiles' pieces. -/
theorem deal_parts (A : Fin 2 → Fin 16 → Finset (Idx ℓ)) (hd : ∀ c i c' i' x, x ∈ A c i → x ∈ A c' i' → c = c' ∧ i = i') :
    (ℓ ↦[Finset.univ.biUnion fun c => Finset.univ.biUnion fun i => A c i]{q} f : sProp 𝕄)
      = bigSep Finset.univ fun c : Fin 2 => bigSep Finset.univ fun i : Fin 16 => ℓ ↦[A c i]{q} f := by
  rw [pointsTo_biUnion Finset.univ]
  · refine bigSep_congr fun c _ => ?_
    rw [pointsTo_biUnion Finset.univ]
    exact fun i _ i' _ h => Finset.disjoint_left.2 fun x hx hx' => h (hd _ _ _ _ x hx hx').2
  · intro c _ c' _ h
    refine Finset.disjoint_left.2 fun x hx hx' => ?_
    obtain ⟨i, -, hi⟩ := Finset.mem_biUnion.1 hx
    obtain ⟨i', -, hi'⟩ := Finset.mem_biUnion.1 hx'
    exact h (hd _ _ _ _ x hi hi').1

/-- Pieces that hold something of their own, put together. -/
theorem gather_parts {I : Type} [Fintype I] [DecidableEq I] (A : I → Finset (Idx ℓ)) (Q : I → Buf (Elt F) ℓ → Prop)
    (hQ : ∀ i f g, (∀ x ∈ A i, f x = g x) → Q i f → Q i g) (hd : ∀ i j, i ≠ j → Disjoint (A i) (A j)) (f₀ : Buf (Elt F) ℓ) :
    (bigSep Finset.univ fun i : I => iprop(∃ f, ⌜Q i f⌝ ∗ ℓ ↦[A i]{q} f) : sProp 𝕄) ⊢ iprop(∃ f, ⌜∀ i, Q i f⌝ ∗ ℓ ↦[Finset.univ.biUnion A]{q} f) := by
  suffices h : ∀ s : Finset I, (bigSep s fun i : I => iprop(∃ f, ⌜Q i f⌝ ∗ ℓ ↦[A i]{q} f) : sProp 𝕄) ⊢ iprop(∃ f, ⌜∀ i ∈ s, Q i f⌝ ∗ ℓ ↦[s.biUnion A]{q} f) by
    refine (h Finset.univ).trans ?_
    iintro ⟨%f, %hf, H⟩
    iexists f
    isplitr
    · ipureintro; exact fun i => hf i (Finset.mem_univ i)
    · iexact H
  intro s
  induction s using Finset.induction_on with
  | empty =>
    iintro -
    iexists f₀
    isplitr
    · ipureintro; intro t ht; exact absurd ht (Finset.notMem_empty _)
    · rw [Finset.biUnion_empty, pointsTo_empty]; iempintro
  | insert t s ht ih =>
    rw [SparseCore.bigSep_insert' ht, Finset.biUnion_insert]
    have hj : Disjoint (A t) (s.biUnion A) := (Finset.disjoint_biUnion_right _ _ _).mpr fun t' ht' => hd t t' fun e => ht (e ▸ ht')
    iintro ⟨⟨%f, %hf, Ht⟩, HS⟩
    ihave H := (ih) $$ HS
    icases H with ⟨%g, %hg, HS⟩
    iexists (s.biUnion A).piecewise g f
    isplitr
    · ipureintro
      intro t' ht'
      rcases Finset.mem_insert.mp ht' with rfl | ht'
      · exact hQ _ _ _ (fun x hx => (Finset.piecewise_eq_of_notMem _ _ _ (Finset.disjoint_left.mp hj hx)).symm) hf
      · exact hQ _ _ _ (fun x hx => (Finset.piecewise_eq_of_mem _ _ _ (Finset.mem_biUnion.mpr ⟨t', ht', hx⟩)).symm) (hg t' ht')
    · iapply (pointsTo_join hj)
      isplitl [Ht]; · iexact Ht
      iexact HS

/-- A share cut down once, -/
abbrev D1 : PosShare TreeShare := Transfers.shareDrop fullShare 2
/-- twice, -/
abbrev D2 : PosShare TreeShare := Transfers.shareDrop D1 2
/-- and three times. -/
abbrev D3 : PosShare TreeShare := Transfers.shareDrop D2 2

/-- A share cut down. -/
theorem cut_share (S : Finset (Idx ℓ)) : (ℓ ↦[S]{q} f : sProp 𝕄) ⊢ ℓ ↦[S]{Transfers.shareDrop q 2} f :=
  (deal_shares S).trans sep_elim_left

end Deal

/-! ## A processor's own memory and semaphores -/

/-- Some of a family, and the rest. -/
theorem take_some {I : Type} [DecidableEq I] (Φ : I → sProp 𝕄) : ∀ (l : List I) (s : Finset I), l.Nodup → (∀ x ∈ l, x ∈ s) →
    bigSep s Φ = l.foldr (fun a R => iprop(Φ a ∗ R)) (bigSep (l.foldl Finset.erase s) Φ)
  | [], _, _, _ => rfl
  | a :: l, s, hn, hs => by
    have hn' := List.nodup_cons.1 hn
    rw [SparseCore.bigSep_erase' (hs a List.mem_cons_self), List.foldr_cons, List.foldl_cons,
      take_some Φ l (s.erase a) hn'.2 fun x hx => Finset.mem_erase.2 ⟨fun e => hn'.1 (e ▸ hx), hs x (List.mem_cons_of_mem _ hx)⟩]

theorem take_sems (d : Dev nD) (c : Fin τ.nSC) (i : Fin τ.nSub) (l : List (SemLoc sig)) (hn : l.Nodup) (hs : ∀ s ∈ l, s.isScoped .scVector = true) :
    (ownSems0 (V d c i) : sProp 𝕄) = (l.map fun s => ((V d c i : Thread nD τ), s)).foldr (fun g R => iprop(semVal g 0 ∗ R))
      (bigSep ((l.map fun s => ((V d c i : Thread nD τ), s)).foldl Finset.erase (ownCells (V d c i))) fun g => semVal g 0) := by
  unfold SparseCore.Cfg.ownSems0
  refine take_some _ _ _ (hn.map fun a b h => (Prod.mk.inj h).2) fun x hx => ?_
  obtain ⟨s, h, rfl⟩ := List.mem_map.1 hx
  exact mem_ownCells.mpr ⟨rfl, hs s h⟩

theorem take_bufs (d : Dev nD) (c : Fin τ.nSC) (i : Fin τ.nSub) (l : List (Ref sig .scVector)) (hn : l.Nodup)
    (hs : ∀ b ∈ l, ((Proc.scVector c i : Proc τ).devRef b).owner = .proc (.scVector c i)) :
    (ownBufs (V d c i) : sProp 𝕄) = (l.map fun b => (Proc.scVector c i : Proc τ).devRef b).foldr (fun b R => iprop((∃ f, ((d, b) : Loc nD τ sig) ↦{fullShare} f) ∗ R))
      (bigSep ((l.map fun b => (Proc.scVector c i : Proc τ).devRef b).foldl Finset.erase (ownRefs (τ := τ) (.scVector c i))) fun b => iprop(∃ f, ((d, b) : Loc nD τ sig) ↦{fullShare} f)) := by
  unfold SparseCore.Cfg.ownBufs
  refine take_some (F := F) (fun b : DevRef τ sig => iprop(∃ f, ((d, b) : Loc nD τ sig) ↦{fullShare} f)) _ _ (hn.map (Proc.devRef_injective _)) fun x hx => ?_
  obtain ⟨b, h, rfl⟩ := List.mem_map.1 hx
  exact SparseCore.Cfg.mem_ownRefs_of_owner (hs b h)

section Own

variable (d : Dev nD) (c : Fin τ.nSC) (i : Fin τ.nSub)
variable {sp : Space} {n : Fin 1 → ℕ} {e : EltTy} {m : Memref sig .scVector sp ⟨1, n⟩ e} {q : PosShare TreeShare}

/-- Whatever an array holds, it holds something. -/
theorem At1_any (h0 : 0 < n 0) (f : Buf (Elt F) (m.view.loc (V d c i))) : (m.view.loc (V d c i) ↦[m.view.set]{q} f : sProp 𝕄) ⊢ iprop(∃ g, At1 (F := F) d c i m q g) := by
  have hn : ∀ (k : ℕ) (a : Fin 1), (if k < n a then k else 0) < n a := fun k a => by
    obtain rfl : a = 0 := Subsingleton.elim _ _
    split <;> assumption
  iintro H
  iexists (fun k => m.view.read (Elt F) f (fun a => ⟨if k < n a then k else 0, hn k a⟩))
  unfold At1
  iapply (At_intro (F := F) d c i f (funext fun x => congrArg (m.view.read (Elt F) f) (funext fun a => ?_))) $$ H
  obtain rfl : a = 0 := Subsingleton.elim _ _
  exact Fin.ext (if_pos (x 0).isLt).symm

theorem At1E_back : At1E (F := F) d c i m ⊢ (iprop(∃ f, m.view.loc (V d c i) ↦[m.view.set]{fullShare} f) : sProp 𝕄) := by
  unfold At1E At1 At
  iintro ⟨%g, %f, -, H⟩
  iexists f
  iexact H

theorem buf_in (h0 : 0 < n 0) (hb : m.view.set = Finset.univ) :
    (iprop(∃ f, m.view.loc (V d c i) ↦{fullShare} f) : sProp 𝕄) ⊢ At1E (F := F) d c i m := by
  iintro ⟨%f, H⟩
  unfold At1E
  iapply (At1_any (F := F) d c i h0 f)
  rw [hb]
  iexact H

theorem buf_out (hb : m.view.set = Finset.univ) :
    At1E (F := F) d c i m ⊢ (iprop(∃ f, m.view.loc (V d c i) ↦{fullShare} f) : sProp 𝕄) := by
  have h := At1E_back (F := F) d c i (m := m)
  rw [hb] at h
  exact h

/-- A whole array, element by element. -/
theorem arr_in (hb : m.view.set = Finset.univ) (f : Buf (Elt F) (m.view.loc (V d c i))) (g : ℕ → Elt F e) (hg : ∀ x, m.view.read (Elt F) f x = g (x 0).val) :
    (m.view.loc (V d c i) ↦{q} f : sProp 𝕄) ⊢ At1 (F := F) d c i m q g := by
  unfold At1
  refine BIBase.Entails.trans ?_ (At_intro (F := F) d c i (m := m) f (funext hg))
  rw [hb]

end Own

/-! ## The arrays -/

section Rd

variable {α : Type} {N : ℕ}

/-- An array by element number. -/
def rd (hN : 0 < N) (v : (shape1 N).Idx → α) (k : ℕ) : α := v (ix1 ⟨k % N, Nat.mod_lt _ hN⟩)

theorem rd_at (hN : 0 < N) (v : (shape1 N).Idx → α) (x : (shape1 N).Idx) : v x = rd hN v (x 0).val :=
  (congrArg v (eq_ix1 x)).trans (congrArg (fun k => v (ix1 k)) (Fin.ext (Nat.mod_eq_of_lt (show (x 0).val < N from (x 0).isLt)).symm))

theorem rd_lt (hN : 0 < N) (v : (shape1 N).Idx → α) (k : ℕ) (h : k < N) : rd hN v k = v (ix1 ⟨k, h⟩) :=
  congrArg (fun k => v (ix1 k)) (Fin.ext (Nat.mod_eq_of_lt h))

end Rd

abbrev xLoc (d : Dev nD) : Loc nD τ sig := (d.tc : Thread nD τ).loc main_arg0
abbrev sLoc (d : Dev nD) : Loc nD τ sig := (d.tc : Thread nD τ).loc main_arg1
abbrev dLoc (d : Dev nD) : Loc nD τ sig := (d.tc : Thread nD τ).loc main_arg2
abbrev lLoc (d : Dev nD) : Loc nD τ sig := (d.tc : Thread nD τ).loc main_arg3
abbrev bLoc (d : Dev nD) : Loc nD τ sig := (d.tc : Thread nD τ).loc main_arg4
abbrev hLoc (d : Dev nD) : Loc nD τ sig := (d.tc : Thread nD τ).loc main_v0
abbrev pLoc (d : Dev nD) : Loc nD τ sig := (d.tc : Thread nD τ).loc main_v1
abbrev rLoc (d : Dev nD) : Loc nD τ sig := (d.tc : Thread nD τ).loc main_v2
abbrev zLoc (d : Dev nD) : Loc nD τ sig := (d.tc : Thread nD τ).loc main_v3

/-- The paths. -/
def srcOf (m : (ℓ : Loc nD τ sig) → Buf (Elt F) ℓ) (d : Dev nD) : ℕ → BitVec 32 := rd (N := 1000000) (by decide) (m (sLoc d) : S1000000.Idx → BitVec 32)
def dstOf (m : (ℓ : Loc nD τ sig) → Buf (Elt F) ℓ) (d : Dev nD) : ℕ → BitVec 32 := rd (N := 1000000) (by decide) (m (dLoc d) : S1000000.Idx → BitVec 32)
def lenOf (m : (ℓ : Loc nD τ sig) → Buf (Elt F) ℓ) (d : Dev nD) : ℕ → BitVec 32 := rd (N := 1000000) (by decide) (m (lLoc d) : S1000000.Idx → BitVec 32)
/-- The table of values. -/
def tabOf (m : (ℓ : Loc nD τ sig) → Buf (Elt F) ℓ) (d : Dev nD) : ℕ → Elt F .f32 := rd (N := 20) (by decide) (m (bLoc d) : S20.Idx → Elt F .f32)

/-- How many paths of window `k / 32` lie in group `k % 32`. -/
def histAt (m : (ℓ : Loc nD τ sig) → Buf (Elt F) ℓ) (d : Dev nD) (k : ℕ) : BitVec 32 := BitVec.ofNat 32 (cnt (grp (srcOf m d)) (k % 32) (31264 * (k / 32)) (nw (k / 32)))
def hist (m : (ℓ : Loc nD τ sig) → Buf (Elt F) ℓ) (d : Dev nD) : Buf (Elt F) (hLoc d) := fun x => histAt m d ((x : S1024.Idx) 0).val

/-- The words of the packed paths. -/
def pwOf {d : Dev nD} (f : Buf (Elt F) (pLoc d)) : ℕ → BitVec 32 := rd (N := 1010688) (by decide) (f : S1010688.Idx → BitVec 32)

/-- Window `w`'s words are its paths', in their places. -/
def Win (m : (ℓ : Loc nD τ sig) → Buf (Elt F) ℓ) (d : Dev nD) (w : ℕ) (f : Buf (Elt F) (pLoc d)) : Prop :=
  ∀ j < nw w, pwOf f (31520 * w + pos (grp (srcOf m d)) (31264 * w) (nw w) j) = pk (srcOf m d (31264 * w + j)) (dstOf m d (31264 * w + j)) (lenOf m d (31264 * w + j))

/-- What the run asks of the launch memory. -/
def PreOK (m : (ℓ : Loc nD τ sig) → Buf (Elt F) ℓ) : Prop := ∀ (d : Dev nD) (k : ℕ), k < 1000000 → (srcOf m d k).toNat < 4096 ∧ (dstOf m d k).toNat < 4096

/-- The result, laid out in one row. -/
def flat [FloatOps F] (m : (ℓ : Loc nD τ sig) → Buf (Elt F) ℓ) (d : Dev nD) : Buf (Elt F) (rLoc d) := fun x => lastv (F := F) (tabOf m d) (srcOf m d) (dstOf m d) (lenOf m d) ((x : S16777216.Idx) 0).val

local notation "sV" => (Memref.whole Cert.KernelIdeal.main_arg1_scv : Memref Cert.KernelIdeal.sig Kind.scVector Space.hbm Cert.KernelIdeal.S1000000 EltTy.i32)
local notation "hV" => (Memref.whole Cert.KernelIdeal.main_v0_scv : Memref Cert.KernelIdeal.sig Kind.scVector Space.hbm Cert.KernelIdeal.S1024 EltTy.i32)
local notation "pV" => (Memref.whole Cert.KernelIdeal.main_v1_scv : Memref Cert.KernelIdeal.sig Kind.scVector Space.hbm Cert.KernelIdeal.S1010688 EltTy.i32)
local notation "rV" => (Memref.whole Cert.KernelIdeal.main_v2_scv : Memref Cert.KernelIdeal.sig Kind.scVector Space.hbm Cert.KernelIdeal.S16777216 EltTy.f32)

/-- The tile's words of the counts, -/
abbrev oSl (L : grid0.Coords) : Memref sig .scVector .hbm S32 .i32 := (hV).slice (Rect.unit (s := S1024) (k0_off3 L) S32.size (k0_off3_inb L)) (fun _ => rfl)
/-- of the packed paths, -/
abbrev pSl (L : grid1.Coords) : Memref sig .scVector .hbm S31520 .i32 := (pV).slice (Rect.unit (s := S1010688) (k1_off4 L) S31520.size (k1_off4_inb L)) (fun _ => rfl)
/-- and of the result, chunk by chunk. -/
abbrev rSl (L : grid2.Coords) (t : Fin k2_t5_loop.trips) : Memref sig .scVector .hbm S65536 .f32 := piece L (rV) t

theorem oSl_val (L : grid0.Coords) (y : S32.Idx) : (((oSl L).view.emb y : S1024.Idx) 0).val = 32 * wd L + (y 0).val := by
  have h := (ix_eq (Rect.unit (s := S1024) (k0_off3 L) S32.size (k0_off3_inb L)) (fun _ => rfl) y).trans
    (congrArg (· + (y 0).val) (show k0_off3 L 0 = 512 * (L 0).val + 32 * (L 1).val by rw [k0_off3_eq]; rfl))
  refine h.trans ?_
  unfold wd; omega

theorem pSl_val (L : grid1.Coords) (y : S31520.Idx) : (((pSl L).view.emb y : S1010688.Idx) 0).val = 31520 * wd1 L + (y 0).val := by
  have h := (ix_eq (Rect.unit (s := S1010688) (k1_off4 L) S31520.size (k1_off4_inb L)) (fun _ => rfl) y).trans
    (congrArg (· + (y 0).val) (show k1_off4 L 0 = 504320 * (L 0).val + 31520 * (L 1).val by rw [k1_off4_eq]; rfl))
  refine h.trans ?_
  unfold wd1; omega

theorem rSl_val (L : grid2.Coords) (t : Fin k2_t5_loop.trips) (y : S65536.Idx) : (((rSl L t).view.emb y : S16777216.Idx) 0).val = 524288 * wd2 L + 65536 * t.val + (y 0).val := by
  have h := (ix_eq (Rect.unit (s := S16777216) (k2_off6 L t) S65536.size (k2_off6_inb L t)) (fun _ => rfl) y).trans
    (congrArg (· + (y 0).val) (show k2_off6 L t 0 = 8388608 * (L 0).val + 524288 * (L 1).val + 65536 * t.val by rw [k2_off6_eq]; rfl))
  refine h.trans ?_
  unfold wd2; omega

theorem mem_oSl (L : grid0.Coords) (x : S1024.Idx) : x ∈ ((oSl L).view.set : Finset S1024.Idx) ↔ (x 0).val / 32 = wd L := by
  constructor
  · intro h
    obtain ⟨y, -, rfl⟩ := Finset.mem_map.1 h
    have h1 := oSl_val L y
    have h2 : (y 0).val < 32 := (y 0).isLt
    omega
  · intro h
    have e : x = (oSl L).view.emb (ix1 (⟨(x 0).val - (32 * wd L), by omega⟩ : Fin 32)) := by
      refine (eq_ix1 x).trans (Eq.trans (congrArg ix1 (Fin.ext ?_)) (eq_ix1 (n := 1024) _).symm)
      rw [oSl_val]
      show (x 0).val = 32 * wd L + ((x 0).val - (32 * wd L))
      omega
    rw [e]
    exact View.emb_mem_set (v := (oSl L).view) _

theorem mem_pSl (L : grid1.Coords) (x : S1010688.Idx) : x ∈ ((pSl L).view.set : Finset S1010688.Idx) ↔ (x 0).val / 31520 = wd1 L := by
  constructor
  · intro h
    obtain ⟨y, -, rfl⟩ := Finset.mem_map.1 h
    have h1 := pSl_val L y
    have h2 : (y 0).val < 31520 := (y 0).isLt
    omega
  · intro h
    have e : x = (pSl L).view.emb (ix1 (⟨(x 0).val - (31520 * wd1 L), by omega⟩ : Fin 31520)) := by
      refine (eq_ix1 x).trans (Eq.trans (congrArg ix1 (Fin.ext ?_)) (eq_ix1 (n := 1010688) _).symm)
      rw [pSl_val]
      show (x 0).val = 31520 * wd1 L + ((x 0).val - (31520 * wd1 L))
      omega
    rw [e]
    exact View.emb_mem_set (v := (pSl L).view) _

theorem mem_rSl (L : grid2.Coords) (t : Fin k2_t5_loop.trips) (x : S16777216.Idx) : x ∈ ((rSl L t).view.set : Finset S16777216.Idx) ↔ (x 0).val / 65536 = 8 * wd2 L + t.val := by
  constructor
  · intro h
    obtain ⟨y, -, rfl⟩ := Finset.mem_map.1 h
    have h1 := rSl_val L t y
    have h2 : (y 0).val < 65536 := (y 0).isLt
    omega
  · intro h
    have e : x = (rSl L t).view.emb (ix1 (⟨(x 0).val - (524288 * wd2 L + 65536 * t.val), by omega⟩ : Fin 65536)) := by
      refine (eq_ix1 x).trans (Eq.trans (congrArg ix1 (Fin.ext ?_)) (eq_ix1 (n := 16777216) _).symm)
      rw [rSl_val]
      show (x 0).val = 524288 * wd2 L + 65536 * t.val + ((x 0).val - (524288 * wd2 L + 65536 * t.val))
      omega
    rw [e]
    exact View.emb_mem_set (v := (rSl L t).view) _

def coords0 (c : Fin (grid0.bound 0)) (s : Fin (grid0.bound 1)) : grid0.Coords :=
  fun | 0 => c | 1 => s | ⟨_ + 2, h⟩ => absurd h (Nat.not_lt.2 (Nat.le_add_left _ _))
def coords1 (c : Fin (grid1.bound 0)) (s : Fin (grid1.bound 1)) : grid1.Coords :=
  fun | 0 => c | 1 => s | ⟨_ + 2, h⟩ => absurd h (Nat.not_lt.2 (Nat.le_add_left _ _))
def coords2 (c : Fin (grid2.bound 0)) (s : Fin (grid2.bound 1)) : grid2.Coords :=
  fun | 0 => c | 1 => s | ⟨_ + 2, h⟩ => absurd h (Nat.not_lt.2 (Nat.le_add_left _ _))

/-- A tile's chunks of the result. -/
def rSet (d : Dev nD) (L : grid2.Coords) : Finset (Idx (rLoc d)) := Finset.univ.biUnion fun t : Fin k2_t5_loop.trips => (rSl L t).view.set

/-- What a tile is handed for the first call, -/
abbrev go0 (m : (ℓ : Loc nD τ sig) → Buf (Elt F) ℓ) (d : Dev nD) (L : grid0.Coords) : sProp 𝕄 := iprop((sLoc d ↦{tok fullShare (L 0) (L 1)} m (sLoc d)) ∗ hLoc d ↦[(oSl L).view.set]{fullShare} m (hLoc d))
/-- and what it brings back; -/
abbrev td0 (m : (ℓ : Loc nD τ sig) → Buf (Elt F) ℓ) (d : Dev nD) (L : grid0.Coords) : sProp 𝕄 := hLoc d ↦[(oSl L).view.set]{fullShare} hist m d
/-- for the second call, -/
abbrev go1 (m : (ℓ : Loc nD τ sig) → Buf (Elt F) ℓ) (d : Dev nD) (L : grid1.Coords) : sProp 𝕄 := iprop((sLoc d ↦{tok D1 (L 0) (L 1)} m (sLoc d)) ∗ (dLoc d ↦{tok D1 (L 0) (L 1)} m (dLoc d)) ∗ (lLoc d ↦{tok D1 (L 0) (L 1)} m (lLoc d))
  ∗ (hLoc d ↦{tok D1 (L 0) (L 1)} hist m d) ∗ pLoc d ↦[(pSl L).view.set]{fullShare} m (pLoc d))
abbrev td1 (m : (ℓ : Loc nD τ sig) → Buf (Elt F) ℓ) (d : Dev nD) (L : grid1.Coords) : sProp 𝕄 := iprop(∃ f, ⌜Win m d (wd1 L) f⌝ ∗ pLoc d ↦[(pSl L).view.set]{fullShare} f)
/-- and for the third. -/
abbrev go2 (m : (ℓ : Loc nD τ sig) → Buf (Elt F) ℓ) (d : Dev nD) (L : grid2.Coords) : sProp 𝕄 := iprop((∃ f : Buf (Elt F) (pLoc d), ⌜Packed (srcOf m d) (dstOf m d) (lenOf m d) (pwOf f)⌝ ∗ pLoc d ↦{tok D2 (L 0) (L 1)} f)
  ∗ (hLoc d ↦{tok D2 (L 0) (L 1)} hist m d) ∗ (bLoc d ↦{tok D2 (L 0) (L 1)} m (bLoc d)) ∗ rLoc d ↦[rSet d L]{fullShare} m (rLoc d))
abbrev td2 [FloatOps F] (m : (ℓ : Loc nD τ sig) → Buf (Elt F) ℓ) (d : Dev nD) (L : grid2.Coords) : sProp 𝕄 := rLoc d ↦[rSet d L]{fullShare} flat m d

def P [FloatOps F] (m : (ℓ : Loc nD τ sig) → Buf (Elt F) ℓ) : (K (F := F)).Pay (nD := nD) (Val := Elt F) (Name := ℕ) (U := UU) where
  st := fun q d c => match q with
    | 0 => bigSep Finset.univ fun i : Fin 16 => go0 m d (coords0 c i)
    | 1 => bigSep Finset.univ fun i : Fin 16 => go1 m d (coords1 c i)
    | 2 => bigSep Finset.univ fun i : Fin 16 => go2 m d (coords2 c i)
  dn := fun q d c => match q with
    | 0 => bigSep Finset.univ fun i : Fin 16 => td0 m d (coords0 c i)
    | 1 => bigSep Finset.univ fun i : Fin 16 => td1 m d (coords1 c i)
    | 2 => bigSep Finset.univ fun i : Fin 16 => td2 m d (coords2 c i)
  go := fun q d c i => match q with | 0 => go0 m d (coords0 c i) | 1 => go1 m d (coords1 c i) | 2 => go2 m d (coords2 c i)
  td := fun q d c i => match q with | 0 => td0 m d (coords0 c i) | 1 => td1 m d (coords1 c i) | 2 => td2 m d (coords2 c i)
  x := fun _ _ => iprop(emp)

instance P_storable [FloatOps F] (m : (ℓ : Loc nD τ sig) → Buf (Elt F) ℓ) : (P (F := F) m).IsStorable where
  st q d c := match q with
    | 0 => (inferInstance : BI.Storable (upEmb : UEmb _ 𝕄) (bigSep Finset.univ fun i : Fin 16 => go0 m d (coords0 c i)))
    | 1 => (inferInstance : BI.Storable (upEmb : UEmb _ 𝕄) (bigSep Finset.univ fun i : Fin 16 => go1 m d (coords1 c i)))
    | 2 => (inferInstance : BI.Storable (upEmb : UEmb _ 𝕄) (bigSep Finset.univ fun i : Fin 16 => go2 m d (coords2 c i)))
  dn q d c := match q with
    | 0 => (inferInstance : BI.Storable (upEmb : UEmb _ 𝕄) (bigSep Finset.univ fun i : Fin 16 => td0 m d (coords0 c i)))
    | 1 => (inferInstance : BI.Storable (upEmb : UEmb _ 𝕄) (bigSep Finset.univ fun i : Fin 16 => td1 m d (coords1 c i)))
    | 2 => (inferInstance : BI.Storable (upEmb : UEmb _ 𝕄) (bigSep Finset.univ fun i : Fin 16 => td2 m d (coords2 c i)))
  go q d c i := match q with
    | 0 => (inferInstance : BI.Storable (upEmb : UEmb _ 𝕄) (go0 m d (coords0 c i)))
    | 1 => (inferInstance : BI.Storable (upEmb : UEmb _ 𝕄) (go1 m d (coords1 c i)))
    | 2 => (inferInstance : BI.Storable (upEmb : UEmb _ 𝕄) (go2 m d (coords2 c i)))
  td q d c i := match q with
    | 0 => (inferInstance : BI.Storable (upEmb : UEmb _ 𝕄) (td0 m d (coords0 c i)))
    | 1 => (inferInstance : BI.Storable (upEmb : UEmb _ 𝕄) (td1 m d (coords1 c i)))
    | 2 => (inferInstance : BI.Storable (upEmb : UEmb _ 𝕄) (td2 m d (coords2 c i)))

theorem obl_post {thr : Thread nD τ} {A B C : sProp 𝕄} {O : CellTallies nD τ sig (HIx 3)} {W : Waits sig (HIx 3)} {q : Fin 3} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

end Cert.Proof.Tile

end
-- ==== Proof.Task0.lean ====
/-
  The first call, on one tile.
-/
module

public import proofs.«01_k».proof.Proof.Deal

@[expose] public section

noncomputable section

namespace Cert.Proof.Tile

open Cert.KernelIdeal Cert.KernelIdeal.Gen Cert.Proof.Pure Cert.Proof.Roll

open Idealize.ShloMosaic Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 3) (Elt F) ℕ UU ℕ

local notation "sV" => (Memref.whole Cert.KernelIdeal.main_arg1_scv : Memref Cert.KernelIdeal.sig Kind.scVector Space.hbm Cert.KernelIdeal.S1000000 EltTy.i32)
local notation "dV" => (Memref.whole Cert.KernelIdeal.main_arg2_scv : Memref Cert.KernelIdeal.sig Kind.scVector Space.hbm Cert.KernelIdeal.S1000000 EltTy.i32)
local notation "lV" => (Memref.whole Cert.KernelIdeal.main_arg3_scv : Memref Cert.KernelIdeal.sig Kind.scVector Space.hbm Cert.KernelIdeal.S1000000 EltTy.i32)
local notation "bV" => (Memref.whole Cert.KernelIdeal.main_arg4_scv : Memref Cert.KernelIdeal.sig Kind.scVector Space.hbm Cert.KernelIdeal.S20 EltTy.f32)
local notation "hV" => (Memref.whole Cert.KernelIdeal.main_v0_scv : Memref Cert.KernelIdeal.sig Kind.scVector Space.hbm Cert.KernelIdeal.S1024 EltTy.i32)
local notation "pV" => (Memref.whole Cert.KernelIdeal.main_v1_scv : Memref Cert.KernelIdeal.sig Kind.scVector Space.hbm Cert.KernelIdeal.S1010688 EltTy.i32)
local notation "rV" => (Memref.whole Cert.KernelIdeal.main_v2_scv : Memref Cert.KernelIdeal.sig Kind.scVector Space.hbm Cert.KernelIdeal.S16777216 EltTy.f32)

variable [FloatOps F] (m : (ℓ : Loc nD τ sig) → Buf (Elt F) ℓ) (d : Dev nD) (L : grid0.Coords)

theorem s_in0 (q : PosShare TreeShare) : (sLoc d ↦{q} (m (sLoc d)) : sProp 𝕄) ⊢ At1 (F := F) d (c0 L) (t0 L) (e := .i32) sV q (srcOf m d) :=
  arr_in (F := F) d (c0 L) (t0 L) (m := sV) (View.set_whole _) (m (sLoc d)) _ fun x => rd_at (N := 1000000) (by decide) (m (sLoc d) : S1000000.Idx → BitVec 32) x

theorem o_out : At1 (F := F) d (c0 L) (t0 L) (e := .i32) (n := S32.size) (oSl L) fullShare (fun g => BitVec.ofNat 32 (cnt (grp (srcOf m d)) g (31264 * wd L) (nw (wd L))))
    ⊢ (hLoc d ↦[(oSl L).view.set]{fullShare} hist m d : sProp 𝕄) := by
  unfold At1 At
  iintro ⟨%f, %hf, H⟩
  rw [← pointsTo_congr (f := f) (g := hist m d) (I := (oSl L).view.set) (q := fullShare) (ℓ := hLoc d) ?_]
  · iexact H
  · intro x hx
    obtain ⟨y, -, rfl⟩ := Finset.mem_map.1 hx
    refine (congrFun hf y).trans ?_
    show _ = histAt m d (((oSl L).view.emb y : S1024.Idx) 0).val
    have h2 : (y 0).val < 32 := (y 0).isLt
    rw [oSl_val]
    unfold histAt
    rw [show (32 * wd L + (y 0).val) % 32 = (y 0).val by omega, show (32 * wd L + (y 0).val) / 32 = wd L by omega]

set_option maxHeartbeats 1000000 in
theorem tile_body0 (hF : (K (F := F)).Facts) (hpre : PreOK m) (O : CellTallies nD τ sig (HIx 3)) (W : Waits sig (HIx 3)) (hO : ∀ g, O g none = 0) :
    iprop(levAts (K (F := F)).L (K (F := F)).lev ∗ emp ∗ go0 m d L
        ∗ scopedBufs (V d (c0 L) (t0 L)) ∗ scopedSems0 (V d (c0 L) (t0 L)) ∗ owes (V d (c0 L) (t0 L)) O W)
      ⊢ wp frame (wpE (defs₀ (F := F)) 𝒱₀ (V d (c0 L) (t0 L)) none) Set.univ
          (cc0__k1 L sV (Memref.isWhole_whole _) hV (Memref.isWhole_whole _) (Memref.whole cc0_scratch0) (Memref.isWhole_whole _) (Memref.whole cc0_scratch1) (Memref.isWhole_whole _) cc0_scoped0 cc0_scoped1 cc0_scoped2)
          fun _ => iprop(td0 m d L
            ∗ scopedBufs (V d (c0 L) (t0 L)) ∗ scopedSems0 (V d (c0 L) (t0 L))
            ∗ ∃ W', ⌜∀ p ∈ W', p ∈ W ∨ p.2 = none⌝ ∗ owes (V d (c0 L) (t0 L)) O W') := by
  rw [cc0_eq, (K (F := F)).scopedBufs_V hF d (c0 L) (t0 L), SparseCore.Cfg.scopedSems0_V (Val := Elt F) d (c0 L) (t0 L),
    take_sems (F := F) d (c0 L) (t0 L) [SemLoc.dma cc0_scoped0.sem, SemLoc.dma cc0_scoped1.sem, SemLoc.dma cc0_scoped2.sem] (by decide) (by decide),
    take_bufs (F := F) d (c0 L) (t0 L) [cc0_scratch0, cc0_scratch1] (by decide) (List.forall_mem_cons.2 ⟨rfl, List.forall_mem_cons.2 ⟨rfl, List.forall_mem_nil _⟩⟩)]
  simp only [List.map_cons, List.map_nil, List.foldr_cons, List.foldr_nil]
  iintro ⟨#Hlv, -, ⟨Ha, Ho⟩, ⟨HB0, HB1, Hbufs⟩, ⟨HS0, HS1, HS2, Hsems⟩, HO⟩
  ihave #Hmw := (show levAts (K (F := F)).L (K (F := F)).lev ⊢ Transfers.MayWaits (V d (c0 L) (t0 L)) (default : HIx 3) O from
    (K (F := F)).mayWaits_none (thr := (V d (c0 L) (t0 L))) hO) $$ Hlv
  ihave Ha := (s_in0 (F := F) m d L _) $$ Ha
  ihave Ho := (At1_any (F := F) d (c0 L) (t0 L) (m := oSl L) (by decide) (m (hLoc d))) $$ Ho
  ihave HB0 := (buf_in (F := F) d (c0 L) (t0 L) (m := (Memref.whole Cert.KernelIdeal.cc0_scratch0)) (by decide) (View.set_whole _)) $$ HB0
  ihave HB1 := (buf_in (F := F) d (c0 L) (t0 L) (m := (Memref.whole Cert.KernelIdeal.cc0_scratch1)) (by decide) (View.set_whole _)) $$ HB1
  iapply wp_wand_r
  isplitl [Ha Ho HB0 HB1 HS0 HS1 HS2 HO]
  · iapply (k1_body (F := F) d L sV hV (Memref.whole Cert.KernelIdeal.cc0_scratch0) (Memref.isWhole_whole _) (Memref.whole Cert.KernelIdeal.cc0_scratch1) (Memref.isWhole_whole _) cc0_scoped0 cc0_scoped1 cc0_scoped2 (O := O) (W := W) (srcOf m d) (fun k hk => (hpre d k hk).1)) $$ Hmw [Ha Ho HB0 HB1 HS0 HS1 HS2 HO]
    isplitl [Ha]; · iexact Ha
    isplitl [Ho]; · unfold At1E; iexact Ho
    isplitl [HB0]; · iexact HB0
    isplitl [HB1]; · iexact HB1
    isplitl [HS0]; · iexact HS0
    isplitl [HS1]; · iexact HS1
    isplitl [HS2]; · iexact HS2
    unfold Owe
    iexists W
    isplitr
    · ipureintro; exact fun p hp => .inl hp
    · iexact HO
  iintro %_ ⟨-, Ho, HB0, HB1, HS0, HS1, HS2, HO⟩
  isplitl [Ho]
  · iapply (o_out (F := F) m d L) $$ Ho
  isplitl [HB0 HB1 Hbufs]
  · isplitl [HB0]; · iapply (buf_out (F := F) d (c0 L) (t0 L) (m := (Memref.whole Cert.KernelIdeal.cc0_scratch0)) (View.set_whole _)) $$ HB0
    isplitl [HB1]; · iapply (buf_out (F := F) d (c0 L) (t0 L) (m := (Memref.whole Cert.KernelIdeal.cc0_scratch1)) (View.set_whole _)) $$ HB1
    iexact Hbufs
  isplitl [HS0 HS1 HS2 Hsems]
  · isplitl [HS0]; · iexact HS0
    isplitl [HS1]; · iexact HS1
    isplitl [HS2]; · iexact HS2
    iexact Hsems
  unfold Owe
  iexact HO

theorem defs₀_vector0 (c : Fin τ.nSC) (s : Fin τ.nSub) :
    defs₀ (F := F) (.scVector c s) 0 ()
      = SparseCore.onTile hcore0 hsub0 (fun c s => cc0__k1 (coords0 c s) sV (Memref.isWhole_whole _) hV (Memref.isWhole_whole _) (Memref.whole cc0_scratch0) (Memref.isWhole_whole _) (Memref.whole cc0_scratch1) (Memref.isWhole_whole _) cc0_scoped0 cc0_scoped1 cc0_scoped2) ⟨⟩ c s := rfl

set_option maxRecDepth 16384 in
set_option maxHeartbeats 2000000 in
theorem tileObl0 (hF : (K (F := F)).Facts) (hpre : PreOK m) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector0]; simp only [SparseCore.onTile, hci, and_self, ↓reduceDIte]
  exact (tile_body0 m d (coords0 ⟨_, hci.1⟩ ⟨_, hci.2⟩) hF hpre O W hO).trans (wp_mono frame _ _ fun _ => obl_post)

end Cert.Proof.Tile

end
-- ==== Proof.Task1.lean ====
/-
  The second call, on one tile.
-/
module

public import proofs.«01_k».proof.Proof.Deal

@[expose] public section

noncomputable section

namespace Cert.Proof.Tile

open Cert.KernelIdeal Cert.KernelIdeal.Gen Cert.Proof.Pure Cert.Proof.Roll

open Idealize.ShloMosaic Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 3) (Elt F) ℕ UU ℕ

local notation "sV" => (Memref.whole Cert.KernelIdeal.main_arg1_scv : Memref Cert.KernelIdeal.sig Kind.scVector Space.hbm Cert.KernelIdeal.S1000000 EltTy.i32)
local notation "dV" => (Memref.whole Cert.KernelIdeal.main_arg2_scv : Memref Cert.KernelIdeal.sig Kind.scVector Space.hbm Cert.KernelIdeal.S1000000 EltTy.i32)
local notation "lV" => (Memref.whole Cert.KernelIdeal.main_arg3_scv : Memref Cert.KernelIdeal.sig Kind.scVector Space.hbm Cert.KernelIdeal.S1000000 EltTy.i32)
local notation "bV" => (Memref.whole Cert.KernelIdeal.main_arg4_scv : Memref Cert.KernelIdeal.sig Kind.scVector Space.hbm Cert.KernelIdeal.S20 EltTy.f32)
local notation "hV" => (Memref.whole Cert.KernelIdeal.main_v0_scv : Memref Cert.KernelIdeal.sig Kind.scVector Space.hbm Cert.KernelIdeal.S1024 EltTy.i32)
local notation "pV" => (Memref.whole Cert.KernelIdeal.main_v1_scv : Memref Cert.KernelIdeal.sig Kind.scVector Space.hbm Cert.KernelIdeal.S1010688 EltTy.i32)
local notation "rV" => (Memref.whole Cert.KernelIdeal.main_v2_scv : Memref Cert.KernelIdeal.sig Kind.scVector Space.hbm Cert.KernelIdeal.S16777216 EltTy.f32)

variable [FloatOps F] (m : (ℓ : Loc nD τ sig) → Buf (Elt F) ℓ) (d : Dev nD) (L : grid1.Coords)

theorem s_in1 (q : PosShare TreeShare) : (sLoc d ↦{q} (m (sLoc d)) : sProp 𝕄) ⊢ At1 (F := F) d (c1 L) (t1 L) (e := .i32) sV q (srcOf m d) :=
  arr_in (F := F) d (c1 L) (t1 L) (m := sV) (View.set_whole _) (m (sLoc d)) _ fun x => rd_at (N := 1000000) (by decide) (m (sLoc d) : S1000000.Idx → BitVec 32) x

theorem d_in1 (q : PosShare TreeShare) : (dLoc d ↦{q} (m (dLoc d)) : sProp 𝕄) ⊢ At1 (F := F) d (c1 L) (t1 L) (e := .i32) dV q (dstOf m d) :=
  arr_in (F := F) d (c1 L) (t1 L) (m := dV) (View.set_whole _) (m (dLoc d)) _ fun x => rd_at (N := 1000000) (by decide) (m (dLoc d) : S1000000.Idx → BitVec 32) x

theorem l_in1 (q : PosShare TreeShare) : (lLoc d ↦{q} (m (lLoc d)) : sProp 𝕄) ⊢ At1 (F := F) d (c1 L) (t1 L) (e := .i32) lV q (lenOf m d) :=
  arr_in (F := F) d (c1 L) (t1 L) (m := lV) (View.set_whole _) (m (lLoc d)) _ fun x => rd_at (N := 1000000) (by decide) (m (lLoc d) : S1000000.Idx → BitVec 32) x

theorem h_in1 (q : PosShare TreeShare) : (hLoc d ↦{q} (hist m d) : sProp 𝕄) ⊢ At1 (F := F) d (c1 L) (t1 L) (e := .i32) hV q (histAt m d) :=
  arr_in (F := F) d (c1 L) (t1 L) (m := hV) (View.set_whole _) (hist m d) _ fun x => rfl

theorem p_out (st : ℕ → BitVec 32) (hw : wd1 L < 32) (hsrc : ∀ k < 1000000, (srcOf m d k).toNat < 4096)
    (hst : ∀ j < nw (wd1 L), st (pos (grp (srcOf m d)) (31264 * wd1 L) (nw (wd1 L)) j) = pk (srcOf m d (31264 * wd1 L + j)) (dstOf m d (31264 * wd1 L + j)) (lenOf m d (31264 * wd1 L + j))) :
    At1 (F := F) d (c1 L) (t1 L) (e := .i32) (n := S31520.size) (pSl L) fullShare st ⊢ td1 m d L := by
  unfold At1 At
  iintro ⟨%f, %hf, H⟩
  iexists f
  isplitr
  · ipureintro
    intro j hj
    have hN : nw (wd1 L) ≤ 31264 := by unfold nw; omega
    have hk : 31264 * wd1 L + j < 1000000 := by unfold nw at hj; omega
    have hg : grp (srcOf m d) (31264 * wd1 L + j) < 32 := by
      have := hsrc _ hk
      unfold grp; omega
    have h1 := pos_lt (grp (srcOf m d)) (31264 * wd1 L) (nw (wd1 L)) hj
    have h2 := offg_le (grp (srcOf m d)) (31264 * wd1 L) (nw (wd1 L)) (show grp (srcOf m d) (31264 * wd1 L + j) + 1 ≤ 32 from hg)
    rw [← hst j hj]
    generalize pos (grp (srcOf m d)) (31264 * wd1 L) (nw (wd1 L)) j = p at h1 ⊢
    have hp : p < 31520 := by omega
    refine Eq.trans ?_ (congrFun hf (ix1 (⟨p, hp⟩ : Fin 31520)))
    unfold pwOf
    rw [rd_lt _ _ _ (show 31520 * wd1 L + p < 1010688 by omega)]
    refine congrArg f (Eq.trans (congrArg ix1 (Fin.ext ?_)) (eq_ix1 (n := 1010688) _).symm)
    exact (pSl_val L (ix1 (⟨p, hp⟩ : Fin 31520))).symm
  · iexact H

set_option maxHeartbeats 1000000 in
theorem tile_body1 (hF : (K (F := F)).Facts) (hpre : PreOK m) (O : CellTallies nD τ sig (HIx 3)) (W : Waits sig (HIx 3)) (hO : ∀ g, O g none = 0) :
    iprop(levAts (K (F := F)).L (K (F := F)).lev ∗ emp ∗ go1 m d L
        ∗ scopedBufs (V d (c1 L) (t1 L)) ∗ scopedSems0 (V d (c1 L) (t1 L)) ∗ owes (V d (c1 L) (t1 L)) O W)
      ⊢ wp frame (wpE (defs₀ (F := F)) 𝒱₀ (V d (c1 L) (t1 L)) none) Set.univ
          (cc1__k2 L sV (Memref.isWhole_whole _) dV (Memref.isWhole_whole _) lV (Memref.isWhole_whole _) hV (Memref.isWhole_whole _) pV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scoped0 cc1_scoped1 cc1_scoped2 cc1_scoped3 cc1_scoped4)
          fun _ => iprop(td1 m d L
            ∗ scopedBufs (V d (c1 L) (t1 L)) ∗ scopedSems0 (V d (c1 L) (t1 L))
            ∗ ∃ W', ⌜∀ p ∈ W', p ∈ W ∨ p.2 = none⌝ ∗ owes (V d (c1 L) (t1 L)) O W') := by
  rw [cc1_eq, (K (F := F)).scopedBufs_V hF d (c1 L) (t1 L), SparseCore.Cfg.scopedSems0_V (Val := Elt F) d (c1 L) (t1 L),
    take_sems (F := F) d (c1 L) (t1 L) [SemLoc.dma cc1_scratch6.sem, SemLoc.dma cc1_scoped0.sem, SemLoc.dma cc1_scoped1.sem, SemLoc.dma cc1_scoped2.sem, SemLoc.dma cc1_scoped3.sem, SemLoc.dma cc1_scoped4.sem] (by decide) (by decide),
    take_bufs (F := F) d (c1 L) (t1 L) [cc1_scratch0, cc1_scratch1, cc1_scratch2, cc1_scratch3, cc1_scratch4, cc1_scratch5] (by decide) (List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_nil _⟩⟩⟩⟩⟩⟩)]
  simp only [List.map_cons, List.map_nil, List.foldr_cons, List.foldr_nil]
  iintro ⟨#Hlv, -, ⟨Hsr, Hd, Hln, Hh, Hp⟩, ⟨HB0, HB1, HB2, HB3, HB4, HB5, Hbufs⟩, ⟨HS0, HS1, HS2, HS3, HS4, HS5, Hsems⟩, HO⟩
  ihave #Hmw := (show levAts (K (F := F)).L (K (F := F)).lev ⊢ Transfers.MayWaits (V d (c1 L) (t1 L)) (default : HIx 3) O from
    (K (F := F)).mayWaits_none (thr := (V d (c1 L) (t1 L))) hO) $$ Hlv
  have hw := wd1_lt L
  have hh0 : ∀ k < 32, histAt m d (32 * wd1 L + k) = BitVec.ofNat 32 (cnt (grp (srcOf m d)) k (31264 * wd1 L) (nw (wd1 L))) := fun k hk => by
    unfold histAt
    rw [show (32 * wd1 L + k) % 32 = k by omega, show (32 * wd1 L + k) / 32 = wd1 L by omega]
  ihave Hsr := (s_in1 (F := F) m d L _) $$ Hsr
  ihave Hd := (d_in1 (F := F) m d L _) $$ Hd
  ihave Hln := (l_in1 (F := F) m d L _) $$ Hln
  ihave Hl := (h_in1 (F := F) m d L _) $$ Hh
  ihave Hl := (At1_lend (F := F) d (c1 L) (t1 L) (m := hV) (Rect.unit (s := S1024) (k1_off1 L) S32.size (k1_off1_inb L)) (fun _ => rfl) (32 * wd1 L) 32
    (show k1_off1 L 0 = 32 * wd1 L by rw [k1_off1_eq]; unfold wd1; show 512 * (L 0).val + 32 * (L 1).val = _; omega) rfl) $$ Hl
  ihave Hp := (At1_any (F := F) d (c1 L) (t1 L) (m := pSl L) (by decide) (m (pLoc d))) $$ Hp
  ihave HB0 := (buf_in (F := F) d (c1 L) (t1 L) (m := (Memref.whole Cert.KernelIdeal.cc1_scratch0)) (by decide) (View.set_whole _)) $$ HB0
  ihave HB1 := (buf_in (F := F) d (c1 L) (t1 L) (m := (Memref.whole Cert.KernelIdeal.cc1_scratch1)) (by decide) (View.set_whole _)) $$ HB1
  ihave HB2 := (buf_in (F := F) d (c1 L) (t1 L) (m := (Memref.whole Cert.KernelIdeal.cc1_scratch2)) (by decide) (View.set_whole _)) $$ HB2
  ihave HB3 := (buf_in (F := F) d (c1 L) (t1 L) (m := (Memref.whole Cert.KernelIdeal.cc1_scratch3)) (by decide) (View.set_whole _)) $$ HB3
  ihave HB4 := (buf_in (F := F) d (c1 L) (t1 L) (m := (Memref.whole Cert.KernelIdeal.cc1_scratch4)) (by decide) (View.set_whole _)) $$ HB4
  ihave HB5 := (buf_in (F := F) d (c1 L) (t1 L) (m := (Memref.whole Cert.KernelIdeal.cc1_scratch5)) (by decide) (View.set_whole _)) $$ HB5
  icases Hl with ⟨Hl, -⟩
  iapply wp_wand_r
  isplitl [Hsr Hd Hln Hl Hp HB0 HB1 HB2 HB3 HB4 HB5 HS0 HS1 HS2 HS3 HS4 HS5 HO]
  · iapply (k2_body (F := F) d L (Memref.whole Cert.KernelIdeal.cc1_scratch1) (Memref.whole Cert.KernelIdeal.cc1_scratch2) (Memref.whole Cert.KernelIdeal.cc1_scratch3) (Memref.whole Cert.KernelIdeal.cc1_scratch4) (Memref.whole Cert.KernelIdeal.cc1_scratch5) sV dV lV hV pV (Memref.whole Cert.KernelIdeal.cc1_scratch0) (Memref.isWhole_whole _) (Memref.isWhole_whole _) (Memref.isWhole_whole _) (Memref.isWhole_whole _) (Memref.isWhole_whole _) cc1_scratch6 cc1_scoped0 cc1_scoped1 cc1_scoped2 cc1_scoped3 cc1_scoped4 (q := tok D1 (L 0) (L 1)) (O := O) (W := W) rfl rfl (srcOf m d) (dstOf m d) (lenOf m d) (fun k hk => (hpre d k hk).1)
      (fun k => histAt m d (32 * wd1 L + k)) hh0) $$ Hmw [Hsr Hd Hln Hl Hp HB0 HB1 HB2 HB3 HB4 HB5 HS0 HS1 HS2 HS3 HS4 HS5 HO]
    isplitl [Hsr Hd Hln]
    · unfold Paths
      isplitl [Hsr]; · iexact Hsr
      isplitl [Hd]; · iexact Hd
      iexact Hln
    isplitl [Hl]; · iexact Hl
    isplitl [Hp]; · unfold At1E; iexact Hp
    isplitl [HB0 HB1 HB2 HB3 HB4 HB5]
    · isplitl [HB0]; · iexact HB0
      isplitl [HB1]; · iexact HB1
      isplitl [HB2]; · iexact HB2
      isplitl [HB3]; · iexact HB3
      isplitl [HB4]; · iexact HB4
      iexact HB5
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    unfold Owe
    iexists W
    isplitr
    · ipureintro; exact fun p hp => .inl hp
    · iexact HO
  iintro %_ ⟨-, -, ⟨%st, %hst, Ho⟩, ⟨HB0, HB1, HB2, HB3, HB4, HB5⟩, ⟨HS0, HS1, HS2, HS3, HS4, HS5⟩, HO⟩
  isplitl [Ho]
  · iapply (p_out (F := F) m d L st hw (fun k hk => (hpre d k hk).1) hst) $$ Ho
  isplitl [HB0 HB1 HB2 HB3 HB4 HB5 Hbufs]
  · isplitl [HB0]; · iapply (buf_out (F := F) d (c1 L) (t1 L) (m := (Memref.whole Cert.KernelIdeal.cc1_scratch0)) (View.set_whole _)) $$ HB0
    isplitl [HB1]; · iapply (buf_out (F := F) d (c1 L) (t1 L) (m := (Memref.whole Cert.KernelIdeal.cc1_scratch1)) (View.set_whole _)) $$ HB1
    isplitl [HB2]; · iapply (buf_out (F := F) d (c1 L) (t1 L) (m := (Memref.whole Cert.KernelIdeal.cc1_scratch2)) (View.set_whole _)) $$ HB2
    isplitl [HB3]; · iapply (buf_out (F := F) d (c1 L) (t1 L) (m := (Memref.whole Cert.KernelIdeal.cc1_scratch3)) (View.set_whole _)) $$ HB3
    isplitl [HB4]; · iapply (buf_out (F := F) d (c1 L) (t1 L) (m := (Memref.whole Cert.KernelIdeal.cc1_scratch4)) (View.set_whole _)) $$ HB4
    isplitl [HB5]; · iapply (buf_out (F := F) d (c1 L) (t1 L) (m := (Memref.whole Cert.KernelIdeal.cc1_scratch5)) (View.set_whole _)) $$ HB5
    iexact Hbufs
  isplitl [HS0 HS1 HS2 HS3 HS4 HS5 Hsems]
  · isplitl [HS0]; · iexact HS0
    isplitl [HS1]; · iexact HS1
    isplitl [HS2]; · iexact HS2
    isplitl [HS3]; · iexact HS3
    isplitl [HS4]; · iexact HS4
    isplitl [HS5]; · iexact HS5
    iexact Hsems
  unfold Owe
  iexact HO

theorem defs₀_vector1 (c : Fin τ.nSC) (s : Fin τ.nSub) :
    defs₀ (F := F) (.scVector c s) 1 ()
      = SparseCore.onTile hcore1 hsub1 (fun c s => cc1__k2 (coords1 c s) sV (Memref.isWhole_whole _) dV (Memref.isWhole_whole _) lV (Memref.isWhole_whole _) hV (Memref.isWhole_whole _) pV (Memref.isWhole_whole _) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) cc1_scratch6 cc1_scoped0 cc1_scoped1 cc1_scoped2 cc1_scoped3 cc1_scoped4) ⟨⟩ c s := rfl

set_option maxRecDepth 16384 in
set_option maxHeartbeats 2000000 in
theorem tileObl1 (hF : (K (F := F)).Facts) (hpre : PreOK m) : (K (F := F)).TileObl (D (F := F)) 𝒱 (P m) v₀ 1 := by
  intro d c i O W hO _ _
  simp only [show (P m).ox = fun _ _ => 0 from rfl, add_zero]
  have hci : ((K (F := F)).core 1 c).val < grid1.bound 0 ∧ ((K (F := F)).sub 1 i).val < grid1.bound 1 := ⟨c.isLt, i.isLt⟩
  change _ ⊢ wp _ _ _ (Pipeline.liftProg (defs₀ (F := F) (.scVector ((K (F := F)).core 1 c) ((K (F := F)).sub 1 i)) 1 ())) _
  refine BI.Entails.trans ?_ (Pipeline.wp_liftProg (D (F := F)) (Pipeline.defs_kernel pcfgs defs₀) 𝒱₀ _ Set.univ none _ _)
  rw [defs₀_vector1]; simp only [SparseCore.onTile, hci, and_self, ↓reduceDIte]
  exact (tile_body1 m d (coords1 ⟨_, hci.1⟩ ⟨_, hci.2⟩) hF hpre O W hO).trans (wp_mono frame _ _ fun _ => obl_post)

end Cert.Proof.Tile

end
-- ==== Proof.Task2.lean ====
/-
  The third call, on one tile.
-/
module

public import proofs.«01_k».proof.Proof.Deal

@[expose] public section

noncomputable section

namespace Cert.Proof.Tile

open Cert.KernelIdeal Cert.KernelIdeal.Gen Cert.Proof.Pure Cert.Proof.Roll

open Idealize.ShloMosaic Idealize.ShloMosaic.ValueIdx Idealize.ShloMosaic.Routing
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 3) (Elt F) ℕ UU ℕ

local notation "sV" => (Memref.whole Cert.KernelIdeal.main_arg1_scv : Memref Cert.KernelIdeal.sig Kind.scVector Space.hbm Cert.KernelIdeal.S1000000 EltTy.i32)
local notation "dV" => (Memref.whole Cert.KernelIdeal.main_arg2_scv : Memref Cert.KernelIdeal.sig Kind.scVector Space.hbm Cert.KernelIdeal.S1000000 EltTy.i32)
local notation "lV" => (Memref.whole Cert.KernelIdeal.main_arg3_scv : Memref Cert.KernelIdeal.sig Kind.scVector Space.hbm Cert.KernelIdeal.S1000000 EltTy.i32)
local notation "bV" => (Memref.whole Cert.KernelIdeal.main_arg4_scv : Memref Cert.KernelIdeal.sig Kind.scVector Space.hbm Cert.KernelIdeal.S20 EltTy.f32)
local notation "hV" => (Memref.whole Cert.KernelIdeal.main_v0_scv : Memref Cert.KernelIdeal.sig Kind.scVector Space.hbm Cert.KernelIdeal.S1024 EltTy.i32)
local notation "pV" => (Memref.whole Cert.KernelIdeal.main_v1_scv : Memref Cert.KernelIdeal.sig Kind.scVector Space.hbm Cert.KernelIdeal.S1010688 EltTy.i32)
local notation "rV" => (Memref.whole Cert.KernelIdeal.main_v2_scv : Memref Cert.KernelIdeal.sig Kind.scVector Space.hbm Cert.KernelIdeal.S16777216 EltTy.f32)

variable [FloatOps F] (m : (ℓ : Loc nD τ sig) → Buf (Elt F) ℓ) (d : Dev nD) (L : grid2.Coords)

theorem p_in2 (q : PosShare TreeShare) (f : Buf (Elt F) (pLoc d)) : (pLoc d ↦{q} f : sProp 𝕄) ⊢ At1 (F := F) d (c2 L) (t2 L) (e := .i32) pV q (pwOf f) :=
  arr_in (F := F) d (c2 L) (t2 L) (m := pV) (View.set_whole _) f _ fun x => rd_at (N := 1010688) (by decide) (f : S1010688.Idx → BitVec 32) x

theorem h_in2 (q : PosShare TreeShare) : (hLoc d ↦{q} (hist m d) : sProp 𝕄) ⊢ At1 (F := F) d (c2 L) (t2 L) (e := .i32) hV q (histAt m d) :=
  arr_in (F := F) d (c2 L) (t2 L) (m := hV) (View.set_whole _) (hist m d) _ fun x => rfl

theorem b_in2 (q : PosShare TreeShare) : (bLoc d ↦{q} (m (bLoc d)) : sProp 𝕄) ⊢ At1 (F := F) d (c2 L) (t2 L) (e := .f32) bV q (tabOf m d) :=
  arr_in (F := F) d (c2 L) (t2 L) (m := bV) (View.set_whole _) (m (bLoc d)) _ fun x => rd_at (N := 20) (by decide) (m (bLoc d) : S20.Idx → Elt F .f32) x

theorem r_disj : ∀ t ∈ (Finset.univ : Finset (Fin k2_t5_loop.trips)), ∀ t' ∈ Finset.univ, t ≠ t' → Disjoint ((rSl L t).view.set : Finset S16777216.Idx) ((rSl L t').view.set : Finset S16777216.Idx) :=
  fun t _ t' _ h => Finset.disjoint_left.2 fun x hx hx' => h (Fin.ext (by have h1 := (mem_rSl L t x).1 hx; have h2 := (mem_rSl L t' x).1 hx'; omega))

/-- A tile's chunks, before the first, -/
theorem done_in (b : ℕ → Elt F .f32) (C O' pw) : (rLoc d ↦[rSet d L]{fullShare} m (rLoc d) : sProp 𝕄) ⊢ Done (F := F) d L rV b C O' pw 0 := by
  unfold Done rSet
  rw [show (Finset.univ.filter fun t : Fin k2_t5_loop.trips => t.val < 0) = ∅ from Finset.filter_false_of_mem fun t _ => Nat.not_lt_zero _,
    show (Finset.univ.filter fun t : Fin k2_t5_loop.trips => 0 ≤ t.val) = Finset.univ from Finset.filter_true_of_mem fun t _ => Nat.zero_le _,
    pointsTo_biUnion Finset.univ _ (r_disj L)]
  iintro H
  isplitr
  · rw [bigSep_empty]; iempintro
  · have h : (bigSep Finset.univ fun t : Fin k2_t5_loop.trips => (rLoc d ↦[(rSl L t).view.set]{fullShare} m (rLoc d) : sProp 𝕄))
        ⊢ bigSep Finset.univ fun t : Fin k2_t5_loop.trips => At1E (F := F) d (c2 L) (t2 L) (n := S65536.size) (piece L (rV) t) :=
      bigSep_mono fun t _ => At1_any (F := F) d (c2 L) (t2 L) (m := rSl L t) (by decide) (m (rLoc d))
    iapply h $$ H

theorem r_out (hpre : PreOK m) (pw : ℕ → BitVec 32) (hp : Packed (srcOf m d) (dstOf m d) (lenOf m d) pw) (t : Fin k2_t5_loop.trips) :
    At1 (F := F) d (c2 L) (t2 L) (n := S65536.size) (e := .f32) (rSl L t) fullShare (chunkOf (F := F) (tabOf m d) (cs L (cfOf (srcOf m d))) (os L (cfOf (srcOf m d))) pw t.val)
      ⊢ (rLoc d ↦[(rSl L t).view.set]{fullShare} flat m d : sProp 𝕄) := by
  unfold At1 At
  iintro ⟨%f, %hf, H⟩
  rw [← pointsTo_congr (f := f) (g := flat m d) (I := (rSl L t).view.set) (q := fullShare) (ℓ := rLoc d) ?_]
  · iexact H
  · intro x hx
    obtain ⟨y, -, rfl⟩ := Finset.mem_map.1 hx
    refine (congrFun hf y).trans ?_
    refine (chunk_eq (F := F) L (srcOf m d) (dstOf m d) (lenOf m d) pw hp (fun k hk => (hpre d k hk).1) (fun k hk => (hpre d k hk).2) (tabOf m d) t.val (t.isLt.trans_eq t5_trips) (y 0).val (show (y 0).val < 65536 from (y 0).isLt)).trans ?_
    show _ = lastv (F := F) (tabOf m d) (srcOf m d) (dstOf m d) (lenOf m d) (((rSl L t).view.emb y : S16777216.Idx) 0).val
    rw [rSl_val]

/-- and after the last. -/
theorem done_out (hpre : PreOK m) (pw : ℕ → BitVec 32) (hp : Packed (srcOf m d) (dstOf m d) (lenOf m d) pw) :
    Done (F := F) d L rV (tabOf m d) (cs L (cfOf (srcOf m d))) (os L (cfOf (srcOf m d))) pw 8 ⊢ (rLoc d ↦[rSet d L]{fullShare} flat m d : sProp 𝕄) := by
  unfold Done rSet
  rw [show (Finset.univ.filter fun t : Fin k2_t5_loop.trips => t.val < 8) = Finset.univ from Finset.filter_true_of_mem fun t _ => t.isLt.trans_eq t5_trips,
    pointsTo_biUnion Finset.univ _ (r_disj L)]
  iintro ⟨H, -⟩
  have h : (bigSep Finset.univ fun t : Fin k2_t5_loop.trips => At1 (F := F) d (c2 L) (t2 L) (n := S65536.size) (e := .f32) (piece L (rV) t) fullShare
        (chunkOf (F := F) (tabOf m d) (cs L (cfOf (srcOf m d))) (os L (cfOf (srcOf m d))) pw t.val))
      ⊢ bigSep Finset.univ fun t : Fin k2_t5_loop.trips => (rLoc d ↦[(rSl L t).view.set]{fullShare} flat m d : sProp 𝕄) := by
    exact bigSep_mono fun t _ => r_out (F := F) m d L hpre pw hp t
  iapply h $$ H

set_option maxHeartbeats 1000000 in
theorem tile_body2 (hF : (K (F := F)).Facts) (hpre : PreOK m) (O : CellTallies nD τ sig (HIx 3)) (W : Waits sig (HIx 3)) (hO : ∀ g, O g none = 0) :
    iprop(levAts (K (F := F)).L (K (F := F)).lev ∗ emp ∗ go2 m d L
        ∗ scopedBufs (V d (c2 L) (t2 L)) ∗ scopedSems0 (V d (c2 L) (t2 L)) ∗ owes (V d (c2 L) (t2 L)) O W)
      ⊢ wp frame (wpE (defs₀ (F := F)) 𝒱₀ (V d (c2 L) (t2 L)) none) Set.univ
          (cc2__k3 L pV (Memref.isWhole_whole _) hV (Memref.isWhole_whole _) bV (Memref.isWhole_whole _) rV (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) cc2_scratch7 cc2_scoped0 cc2_scoped1 cc2_scoped2 cc2_scoped3 cc2_scoped4 cc2_scoped5 cc2_scoped6 cc2_scoped7 cc2_scoped8)
          fun _ => iprop(td2 m d L
            ∗ scopedBufs (V d (c2 L) (t2 L)) ∗ scopedSems0 (V d (c2 L) (t2 L))
            ∗ ∃ W', ⌜∀ p ∈ W', p ∈ W ∨ p.2 = none⌝ ∗ owes (V d (c2 L) (t2 L)) O W') := by
  rw [cc2_eq, (K (F := F)).scopedBufs_V hF d (c2 L) (t2 L), SparseCore.Cfg.scopedSems0_V (Val := Elt F) d (c2 L) (t2 L),
    take_sems (F := F) d (c2 L) (t2 L) [SemLoc.dma cc2_scoped0.sem, SemLoc.dma cc2_scoped1.sem, SemLoc.dma cc2_scoped2.sem, SemLoc.dma cc2_scoped4.sem, SemLoc.dma cc2_scoped6.sem, SemLoc.dma cc2_scoped7.sem] (by decide) (by decide),
    take_bufs (F := F) d (c2 L) (t2 L) [cc2_scratch0, cc2_scratch1, cc2_scratch2, cc2_scratch3, cc2_scratch4, cc2_scratch5, cc2_scratch6] (by decide) (List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_cons.2 ⟨rfl, List.forall_mem_nil _⟩⟩⟩⟩⟩⟩⟩)]
  simp only [List.map_cons, List.map_nil, List.foldr_cons, List.foldr_nil]
  iintro ⟨#Hlv, -, ⟨⟨%f, %hf, Hf⟩, Hh, Hb, Hr⟩, ⟨HB0, HB1, HB2, HB3, HB4, HB5, HB6, Hbufs⟩, ⟨HS0, HS1, HS2, HS3, HS4, HS5, Hsems⟩, HO⟩
  ihave #Hmw := (show levAts (K (F := F)).L (K (F := F)).lev ⊢ Transfers.MayWaits (V d (c2 L) (t2 L)) (default : HIx 3) O from
    (K (F := F)).mayWaits_none (thr := (V d (c2 L) (t2 L))) hO) $$ Hlv
  have hh : ∀ k < 32, ∀ g < 32, histAt m d (32 * k + g) = BitVec.ofNat 32 (cfOf (srcOf m d) k g) := fun k hk g hg => by
    unfold histAt cfOf
    rw [show (32 * k + g) % 32 = g by omega, show (32 * k + g) / 32 = k by omega]
  ihave Hf := (p_in2 (F := F) d L _ f) $$ Hf
  ihave Hh := (h_in2 (F := F) m d L _) $$ Hh
  ihave Hb := (b_in2 (F := F) m d L _) $$ Hb
  ihave Hr := (done_in (F := F) m d L (tabOf m d) (cs L (cfOf (srcOf m d))) (os L (cfOf (srcOf m d))) (pwOf f)) $$ Hr
  ihave HB0 := (buf_in (F := F) d (c2 L) (t2 L) (m := (Memref.whole Cert.KernelIdeal.cc2_scratch0)) (by decide) (View.set_whole _)) $$ HB0
  ihave HB1 := (buf_in (F := F) d (c2 L) (t2 L) (m := (Memref.whole Cert.KernelIdeal.cc2_scratch1)) (by decide) (View.set_whole _)) $$ HB1
  ihave HB2 := (buf_in (F := F) d (c2 L) (t2 L) (m := (Memref.whole Cert.KernelIdeal.cc2_scratch2)) (by decide) (View.set_whole _)) $$ HB2
  ihave HB3 := (buf_in (F := F) d (c2 L) (t2 L) (m := (Memref.whole Cert.KernelIdeal.cc2_scratch3)) (by decide) (View.set_whole _)) $$ HB3
  ihave HB4 := (buf_in (F := F) d (c2 L) (t2 L) (m := (Memref.whole Cert.KernelIdeal.cc2_scratch4)) (by decide) (View.set_whole _)) $$ HB4
  ihave HB5 := (buf_in (F := F) d (c2 L) (t2 L) (m := (Memref.whole Cert.KernelIdeal.cc2_scratch5)) (by decide) (View.set_whole _)) $$ HB5
  ihave HB6 := (buf_in (F := F) d (c2 L) (t2 L) (m := (Memref.whole Cert.KernelIdeal.cc2_scratch6)) (by decide) (View.set_whole _)) $$ HB6
  iapply wp_wand_r
  isplitl [Hf Hh Hb Hr HB0 HB1 HB2 HB3 HB4 HB5 HB6 HS0 HS1 HS2 HS3 HS4 HS5 HO]
  · iapply (k3_body (F := F) d L pV hV (Memref.isWhole_whole _) bV (Memref.isWhole_whole _) rV (Memref.whole Cert.KernelIdeal.cc2_scratch0) (Memref.isWhole_whole _) (Memref.whole Cert.KernelIdeal.cc2_scratch1) (Memref.isWhole_whole _) (Memref.whole Cert.KernelIdeal.cc2_scratch2) (Memref.whole Cert.KernelIdeal.cc2_scratch3) (Memref.whole Cert.KernelIdeal.cc2_scratch4) (Memref.whole Cert.KernelIdeal.cc2_scratch5) (Memref.isWhole_whole _) (Memref.whole Cert.KernelIdeal.cc2_scratch6) cc2_scoped0 cc2_scoped1 cc2_scoped2 cc2_scoped4 cc2_scoped6 cc2_scoped7 (q := tok D2 (L 0) (L 1)) (O := O) (W := W)
      (histAt m d) (cfOf (srcOf m d)) (cfOf_lt _) hh (tabOf m d) (pwOf f) (runs_ok L (srcOf m d) (dstOf m d) (lenOf m d) (pwOf f) hf (fun k hk => (hpre d k hk).2))
      (runs_small L (srcOf m d) (dstOf m d) (lenOf m d) (pwOf f) hf (fun k hk => (hpre d k hk).2))) $$ Hmw [Hf Hh Hb Hr HB0 HB1 HB2 HB3 HB4 HB5 HB6 HS0 HS1 HS2 HS3 HS4 HS5 HO]
    isplitl [Hf]; · iexact Hf
    isplitl [Hh]; · iexact Hh
    isplitl [Hb]; · iexact Hb
    isplitl [Hr]; · iexact Hr
    isplitl [HB0 HB1 HB2 HB3 HB4 HB5 HB6]
    · isplitl [HB0]; · iexact HB0
      isplitl [HB1]; · iexact HB1
      isplitl [HB2]; · iexact HB2
      isplitl [HB3]; · iexact HB3
      isplitl [HB4]; · iexact HB4
      isplitl [HB5]; · iexact HB5
      iexact HB6
    isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    unfold Owe
    iexists W
    isplitr
    · ipureintro; exact fun p hp => .inl hp
    · iexact HO
  iintro %_ ⟨-, -, -, Hr, ⟨HB0, HB1, HB2, HB3, HB4, HB5, HB6⟩, ⟨HS0, HS1, HS2, HS3, HS4, HS5⟩, HO⟩
  isplitl [Hr]
  · iapply (done_out (F := F) m d L hpre (pwOf f) hf) $$ Hr
  isplitl [HB0 HB1 HB2 HB3 HB4 HB5 HB6 Hbufs]
  · isplitl [HB0]; · iapply (buf_out (F := F) d (c2 L) (t2 L) (m := (Memref.whole Cert.KernelIdeal.cc2_scratch0)) (View.set_whole _)) $$ HB0
    isplitl [HB1]; · iapply (buf_out (F := F) d (c2 L) (t2 L) (m := (Memref.whole Cert.KernelIdeal.cc2_scratch1)) (View.set_whole _)) $$ HB1
    isplitl [HB2]; · iapply (buf_out (F := F) d (c2 L) (t2 L) (m := (Memref.whole Cert.KernelIdeal.cc2_scratch2)) (View.set_whole _)) $$ HB2
    isplitl [HB3]; · iapply (buf_out (F := F) d (c2 L) (t2 L) (m := (Memref.whole Cert.KernelIdeal.cc2_scratch3)) (View.set_whole _)) $$ HB3
    isplitl [HB4]; · iapply (buf_out (F := F) d (c2 L) (t2 L) (m := (Memref.whole Cert.KernelIdeal.cc2_scratch4)) (View.set_whole _)) $$ HB4
    isplitl [HB5]; · iapply (buf_out (F := F) d (c2 L) (t2 L) (m := (Memref.whole Cert.KernelIdeal.cc2_scratch5)) (View.set_whole _)) $$ HB5
    isplitl [HB6]; · iapply (buf_out (F := F) d (c2 L) (t2 L) (m := (Memref.whole Cert.KernelIdeal.cc2_scratch6)) (View.set_whole _)) $$ HB6
    iexact Hbufs
  isplitl [HS0 HS1 HS2 HS3 HS4 HS5 Hsems]
  · isplitl [HS0]; · iexact HS0
    isplitl [HS1]; · iexact HS1
    isplitl [HS2]; · iexact HS2
    isplitl [HS3]; · iexact HS3
    isplitl [HS4]; · iexact HS4
    isplitl [HS5]; · iexact HS5
    iexact Hsems
  unfold Owe
  iexact HO

theorem defs₀_vector2 (c : Fin τ.nSC) (s : Fin τ.nSub) :
    defs₀ (F := F) (.scVector c s) 2 ()
      = SparseCore.onTile hcore2 hsub2 (fun c s => cc2__k3 (coords2 c s) pV (Memref.isWhole_whole _) hV (Memref.isWhole_whole _) bV (Memref.isWhole_whole _) rV (Memref.isWhole_whole _) (Memref.whole cc2_scratch0) (Memref.isWhole_whole _) (Memref.whole cc2_scratch1) (Memref.isWhole_whole _) (Memref.whole cc2_scratch2) (Memref.isWhole_whole _) (Memref.whole cc2_scratch3) (Memref.isWhole_whole _) (Memref.whole cc2_scratch4) (Memref.isWhole_whole _) (Memref.whole cc2_scratch5) (Memref.isWhole_whole _) (Memref.whole cc2_scratch6) (Memref.isWhole_whole _) cc2_scratch7 cc2_scoped0 cc2_scoped1 cc2_scoped2 cc2_scoped3 cc2_scoped4 cc2_scoped5 cc2_scoped6 cc2_scoped7 cc2_scoped8) ⟨⟩ c s := rfl

set_option maxRecDepth 16384 in
set_option maxHeartbeats 2000000 in
theorem tileObl2 (hF : (K (F := F)).Facts) (hpre : PreOK m) : (K (F := F)).TileObl (D (F := F)) 𝒱 (P m) v₀ 2 := by
  intro d c i O W hO _ _
  simp only [show (P m).ox = fun _ _ => 0 from rfl, add_zero]
  have hci : ((K (F := F)).core 2 c).val < grid2.bound 0 ∧ ((K (F := F)).sub 2 i).val < grid2.bound 1 := ⟨c.isLt, i.isLt⟩
  change _ ⊢ wp _ _ _ (Pipeline.liftProg (defs₀ (F := F) (.scVector ((K (F := F)).core 2 c) ((K (F := F)).sub 2 i)) 2 ())) _
  refine BI.Entails.trans ?_ (Pipeline.wp_liftProg (D (F := F)) (Pipeline.defs_kernel pcfgs defs₀) 𝒱₀ _ Set.univ none _ _)
  rw [defs₀_vector2]; simp only [SparseCore.onTile, hci, and_self, ↓reduceDIte]
  exact (tile_body2 m d (coords2 ⟨_, hci.1⟩ ⟨_, hci.2⟩) hF hpre O W hO).trans (wp_mono frame _ _ fun _ => obl_post)

end Cert.Proof.Tile

end
-- ==== Proof.Launch.lean ====
/-
  The launch: what the tiles are handed, call by call, and the run of the whole program.
-/
module

public import proofs.«01_k».proof.Proof.Task0
public import proofs.«01_k».proof.Proof.Task1
public import proofs.«01_k».proof.Proof.Task2
public import Idealize.ShloMosaic.Lib.StableHlo.Run
public import Idealize.ShloMosaic.Lib.Pipeline.Value

@[expose] public section

noncomputable section

namespace Cert.Proof.Tile

open Cert.KernelIdeal Cert.KernelIdeal.Gen Cert.Proof.Pure Cert.Proof.Roll

open Idealize.ShloMosaic Idealize.ShloMosaic.ValueIdx Idealize.ShloMosaic.Routing
open Idealize.ShloMosaic.SparseCore (S V T)
open Idealize.ShloMosaic.StableHlo (held wp_hlo_within)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 3) (Elt F) ℕ UU ℕ

variable (m : (ℓ : Loc nD τ sig) → Buf (Elt F) ℓ)

theorem vecSplit0 : (K (F := F)).VecSplit' (P m) 0 := by
  intro d c
  show (bigSep Finset.univ fun i : Fin 16 => go0 m d (coords0 c i)) ⊢ |={Set.univ}=> iprop((bigSep Finset.univ fun i : Fin 16 => go0 m d (coords0 c i))
    ∗ ((bigSep Finset.univ fun i : Fin 16 => td0 m d (coords0 c i)) -∗ bigSep Finset.univ fun i : Fin 16 => td0 m d (coords0 c i)))
  iintro H
  imodintro
  isplitl [H]; · iexact H
  iintro H
  iexact H

theorem vecSplit1 : (K (F := F)).VecSplit' (P m) 1 := by
  intro d c
  show (bigSep Finset.univ fun i : Fin 16 => go1 m d (coords1 c i)) ⊢ |={Set.univ}=> iprop((bigSep Finset.univ fun i : Fin 16 => go1 m d (coords1 c i))
    ∗ ((bigSep Finset.univ fun i : Fin 16 => td1 m d (coords1 c i)) -∗ bigSep Finset.univ fun i : Fin 16 => td1 m d (coords1 c i)))
  iintro H
  imodintro
  isplitl [H]; · iexact H
  iintro H
  iexact H

theorem vecSplit2 : (K (F := F)).VecSplit' (P m) 2 := by
  intro d c
  show (bigSep Finset.univ fun i : Fin 16 => go2 m d (coords2 c i)) ⊢ |={Set.univ}=> iprop((bigSep Finset.univ fun i : Fin 16 => go2 m d (coords2 c i))
    ∗ ((bigSep Finset.univ fun i : Fin 16 => td2 m d (coords2 c i)) -∗ bigSep Finset.univ fun i : Fin 16 => td2 m d (coords2 c i)))
  iintro H
  imodintro
  isplitl [H]; · iexact H
  iintro H
  iexact H

/-! ## The whole program -/

def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 3 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 3 => (P (F := F) m).x q thr) = bigSep Finset.univ fun _ => iprop(emp) from
    bigSep_congr fun _ _ => bigSep_emp' _, bigSep_emp']
  iempintro

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ (sLoc d ↦{fullShare} W main_arg1) ∗ (dLoc d ↦{fullShare} W main_arg2) ∗ (lLoc d ↦{fullShare} W main_arg3) ∗ (bLoc d ↦{fullShare} W main_arg4) ∗ (hLoc d ↦{fullShare} W main_v0) ∗ (pLoc d ↦{fullShare} W main_v1) ∗ (rLoc d ↦{fullShare} W main_v2) ∗ (zLoc d ↦{fullShare} W main_v3)) := by
  unfold unscopedBufs
  rw [show (Finset.univ.filter fun b : Ref sig .tc => ¬ b.isScoped) = {main_arg0, main_arg1, main_arg2, main_arg3, main_arg4, main_v0, main_v1, main_v2, main_v3} by decide,
    SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), SparseCore.bigSep_insert' (by decide), bigSep_singleton]

/-! ## The tiles' pieces -/

abbrev oSet (d : Dev nD) (c : Fin 2) (i : Fin 16) : Finset (Idx (hLoc d)) := (oSl (coords0 c i)).view.set
abbrev pSet (d : Dev nD) (c : Fin 2) (i : Fin 16) : Finset (Idx (pLoc d)) := (pSl (coords1 c i)).view.set
abbrev rSt (d : Dev nD) (c : Fin 2) (i : Fin 16) : Finset (Idx (rLoc d)) := rSet d (coords2 c i)
abbrev pU (d : Dev nD) : Finset (Idx (pLoc d)) := Finset.univ.biUnion fun c : Fin 2 => Finset.univ.biUnion fun i : Fin 16 => pSet d c i

theorem mem_rSet (d : Dev nD) (L : grid2.Coords) (x : S16777216.Idx) : x ∈ (rSet d L : Finset S16777216.Idx) ↔ (x 0).val / 524288 = wd2 L := by
  have ht : k2_t5_loop.trips = 8 := t5_trips
  unfold rSet
  constructor
  · intro h
    obtain ⟨t, -, h⟩ := Finset.mem_biUnion.1 h
    have h1 := (mem_rSl L t x).1 h
    have h2 := t.isLt
    omega
  · intro h
    have ht' : (x 0).val / 65536 % 8 < k2_t5_loop.trips := by omega
    exact Finset.mem_biUnion.2 ⟨⟨(x 0).val / 65536 % 8, ht'⟩, Finset.mem_univ _, (mem_rSl L ⟨(x 0).val / 65536 % 8, ht'⟩ x).2 (by show (x 0).val / 65536 = 8 * wd2 L + (x 0).val / 65536 % 8; omega)⟩

omit [FloatOps F] in
theorem o_parts (d : Dev nD) (f : Buf (Elt F) (hLoc d)) : (hLoc d ↦{fullShare} f : sProp 𝕄)
    = bigSep Finset.univ fun c : Fin 2 => bigSep Finset.univ fun i : Fin 16 => hLoc d ↦[(oSl (coords0 c i)).view.set]{fullShare} f := by
  have hw : ∀ (c : Fin 2) (i : Fin 16), wd (coords0 c i) = 16 * c.val + i.val := fun _ _ => rfl
  have hU : (Finset.univ.biUnion fun c : Fin 2 => Finset.univ.biUnion fun i : Fin 16 => oSet d c i) = Finset.univ := by
    refine Finset.eq_univ_iff_forall.2 fun x => ?_
    have hx : ((x : S1024.Idx) 0).val < 1024 := ((x : S1024.Idx) 0).isLt
    refine Finset.mem_biUnion.2 ⟨⟨((x : S1024.Idx) 0).val / 512, by omega⟩, Finset.mem_univ _, Finset.mem_biUnion.2 ⟨⟨((x : S1024.Idx) 0).val / 32 % 16, by omega⟩, Finset.mem_univ _, ?_⟩⟩
    refine (mem_oSl _ x).2 ?_
    rw [hw]
    show _ = 16 * (((x : S1024.Idx) 0).val / 512) + ((x : S1024.Idx) 0).val / 32 % 16
    omega
  have hD : ∀ (c : Fin 2) (i : Fin 16) (c' : Fin 2) (i' : Fin 16) (x : Idx (hLoc d)), x ∈ oSet d c i →
      x ∈ oSet d c' i' → c = c' ∧ i = i' := by
    intro c i c' i' x h h'
    have h := (mem_oSl _ x).1 h
    have h' := (mem_oSl _ x).1 h'
    rw [hw] at h h'
    have := c.isLt; have := c'.isLt; have := i.isLt; have := i'.isLt
    exact ⟨Fin.ext (by omega), Fin.ext (by omega)⟩
  have h := deal_parts (F := F) (ℓ := hLoc d) (q := fullShare) (f := f) (fun c i => oSet d c i) hD
  rw [hU] at h
  exact h

omit [FloatOps F] in
theorem r_parts (d : Dev nD) (f : Buf (Elt F) (rLoc d)) : (rLoc d ↦{fullShare} f : sProp 𝕄)
    = bigSep Finset.univ fun c : Fin 2 => bigSep Finset.univ fun i : Fin 16 => rLoc d ↦[rSet d (coords2 c i)]{fullShare} f := by
  have hw : ∀ (c : Fin 2) (i : Fin 16), wd2 (coords2 c i) = 16 * c.val + i.val := fun _ _ => rfl
  have hU : (Finset.univ.biUnion fun c : Fin 2 => Finset.univ.biUnion fun i : Fin 16 => rSt d c i) = Finset.univ := by
    refine Finset.eq_univ_iff_forall.2 fun x => ?_
    have hx : ((x : S16777216.Idx) 0).val < 16777216 := ((x : S16777216.Idx) 0).isLt
    refine Finset.mem_biUnion.2 ⟨⟨((x : S16777216.Idx) 0).val / 8388608, by omega⟩, Finset.mem_univ _, Finset.mem_biUnion.2 ⟨⟨((x : S16777216.Idx) 0).val / 524288 % 16, by omega⟩, Finset.mem_univ _, ?_⟩⟩
    refine (mem_rSet d _ x).2 ?_
    rw [hw]
    show _ = 16 * (((x : S16777216.Idx) 0).val / 8388608) + ((x : S16777216.Idx) 0).val / 524288 % 16
    omega
  have hD : ∀ (c : Fin 2) (i : Fin 16) (c' : Fin 2) (i' : Fin 16) (x : Idx (rLoc d)), x ∈ rSt d c i →
      x ∈ rSt d c' i' → c = c' ∧ i = i' := by
    intro c i c' i' x h h'
    have h := (mem_rSet d _ x).1 h
    have h' := (mem_rSet d _ x).1 h'
    rw [hw] at h h'
    have := c.isLt; have := c'.isLt; have := i.isLt; have := i'.isLt
    exact ⟨Fin.ext (by omega), Fin.ext (by omega)⟩
  have h := deal_parts (F := F) (ℓ := rLoc d) (q := fullShare) (f := f) (fun c i => rSt d c i) hD
  rw [hU] at h
  exact h

theorem p_disj (d : Dev nD) (c : Fin 2) (i : Fin 16) (c' : Fin 2) (i' : Fin 16) (x : Idx (pLoc d)) (h : x ∈ pSet d c i) (h' : x ∈ pSet d c' i') : c = c' ∧ i = i' := by
  have hw : ∀ (c : Fin 2) (i : Fin 16), wd1 (coords1 c i) = 16 * c.val + i.val := fun _ _ => rfl
  have h := (mem_pSl _ x).1 h
  have h' := (mem_pSl _ x).1 h'
  rw [hw] at h h'
  have := c.isLt; have := c'.isLt; have := i.isLt; have := i'.isLt
  exact ⟨Fin.ext (by omega), Fin.ext (by omega)⟩

omit [FloatOps F] in
/-- The packed paths' words, window by window, and the words past them. -/
theorem p_parts (d : Dev nD) (f : Buf (Elt F) (pLoc d)) : (pLoc d ↦{fullShare} f : sProp 𝕄)
    ⊢ iprop((bigSep Finset.univ fun c : Fin 2 => bigSep Finset.univ fun i : Fin 16 => pLoc d ↦[(pSl (coords1 c i)).view.set]{fullShare} f) ∗ pLoc d ↦[Finset.univ \ pU d]{fullShare} f) := by
  have h := deal_parts (F := F) (ℓ := pLoc d) (q := fullShare) (f := f) (pSet d) (p_disj d)
  rw [← h]
  exact (pointsTo_split_subset (Finset.subset_univ _)).1

omit [FloatOps F] in
/-- What a window's words are reads only the window. -/
theorem win_congr (hpre : PreOK m) (d : Dev nD) (c : Fin 2) (i : Fin 16) (f g : Buf (Elt F) (pLoc d)) (h : ∀ x ∈ pSet d c i, f x = g x) (hf : Win m d (wd1 (coords1 c i)) f) :
    Win m d (wd1 (coords1 c i)) g := by
  have hw : wd1 (coords1 c i) < 32 := wd1_lt _
  intro j hj
  have hN : nw (wd1 (coords1 c i)) ≤ 31264 := by unfold nw; omega
  have hk : 31264 * wd1 (coords1 c i) + j < 1000000 := by unfold nw at hj; omega
  have hg : grp (srcOf m d) (31264 * wd1 (coords1 c i) + j) < 32 := by
    have := (hpre d _ hk).1
    unfold grp; omega
  have h1 := pos_lt (grp (srcOf m d)) (31264 * wd1 (coords1 c i)) (nw (wd1 (coords1 c i))) hj
  have h2 := offg_le (grp (srcOf m d)) (31264 * wd1 (coords1 c i)) (nw (wd1 (coords1 c i))) (show grp (srcOf m d) (31264 * wd1 (coords1 c i) + j) + 1 ≤ 32 from hg)
  refine Eq.trans ?_ (hf j hj)
  generalize pos (grp (srcOf m d)) (31264 * wd1 (coords1 c i)) (nw (wd1 (coords1 c i))) j = p at h1 ⊢
  have hp : p < 31520 := by omega
  unfold pwOf
  rw [rd_lt _ _ _ (show 31520 * wd1 (coords1 c i) + p < 1010688 by omega), rd_lt _ _ _ (show 31520 * wd1 (coords1 c i) + p < 1010688 by omega)]
  exact (h _ ((mem_pSl _ _).2 (by show (31520 * wd1 (coords1 c i) + p) / 31520 = _; omega))).symm

theorem p_gather (hpre : PreOK m) (d : Dev nD) (f₀ : Buf (Elt F) (pLoc d)) :
    (bigSep Finset.univ fun c : Fin 2 => bigSep Finset.univ fun i : Fin 16 => td1 m d (coords1 c i) : sProp 𝕄)
      ⊢ iprop(∃ f, ⌜∀ c i, Win m d (wd1 (coords1 c i)) f⌝ ∗ pLoc d ↦[pU d]{fullShare} f) := by
  have h1 : (bigSep Finset.univ fun c : Fin 2 => bigSep Finset.univ fun i : Fin 16 => td1 m d (coords1 c i) : sProp 𝕄)
      ⊢ bigSep Finset.univ fun c : Fin 2 => iprop(∃ f, ⌜∀ i : Fin 16, Win m d (wd1 (coords1 c i)) f⌝ ∗ pLoc d ↦[Finset.univ.biUnion fun i : Fin 16 => pSet d c i]{fullShare} f) :=
    bigSep_mono fun c _ => gather_parts (F := F) (ℓ := pLoc d) (q := fullShare) (fun i : Fin 16 => pSet d c i) (fun i f => Win m d (wd1 (coords1 c i)) f)
      (fun i f g h hf => win_congr m hpre d c i f g h hf)
      (fun i j hij => Finset.disjoint_left.2 fun x hx hx' => hij (p_disj d _ _ _ _ x hx hx').2) f₀
  refine h1.trans ?_
  exact gather_parts (F := F) (ℓ := pLoc d) (q := fullShare) (fun c : Fin 2 => Finset.univ.biUnion fun i : Fin 16 => pSet d c i) (fun c f => ∀ i : Fin 16, Win m d (wd1 (coords1 c i)) f)
    (fun c f g h hf i => win_congr m hpre d c i f g (fun x hx => h x (Finset.mem_biUnion.2 ⟨i, Finset.mem_univ _, hx⟩)) (hf i))
    (fun c c' hc => Finset.disjoint_left.2 fun x hx hx' => by
      obtain ⟨i, -, hi⟩ := Finset.mem_biUnion.1 hx
      obtain ⟨i', -, hi'⟩ := Finset.mem_biUnion.1 hx'
      exact hc (p_disj d _ _ _ _ x hi hi').1) f₀

omit [FloatOps F] in
/-- Part of an array and the rest of it. -/
theorem join_rest {ℓ : Loc nD τ sig} {q : PosShare TreeShare} (U : Finset (Idx ℓ)) (f f₀ : Buf (Elt F) ℓ) :
    iprop((ℓ ↦[U]{q} f) ∗ ℓ ↦[Finset.univ \ U]{q} f₀) ⊢ (iprop(∃ g, ⌜∀ x ∈ U, f x = g x⌝ ∗ ℓ ↦{q} g) : sProp 𝕄) := by
  iintro H
  iexists U.piecewise f f₀
  isplitr
  · ipureintro
    exact fun x hx => (Finset.piecewise_eq_of_mem _ _ _ hx).symm
  · iapply (pointsTo_join_subset (Finset.subset_univ U)) $$ H

/-- The packed paths, put together. -/
theorem p_join (hpre : PreOK m) (d : Dev nD) (f₀ : Buf (Elt F) (pLoc d)) :
    iprop((bigSep Finset.univ fun c : Fin 2 => bigSep Finset.univ fun i : Fin 16 => td1 m d (coords1 c i)) ∗ pLoc d ↦[Finset.univ \ pU d]{fullShare} f₀)
      ⊢ (iprop(∃ f : Buf (Elt F) (pLoc d), ⌜Packed (srcOf m d) (dstOf m d) (lenOf m d) (pwOf f)⌝ ∗ pLoc d ↦{fullShare} f) : sProp 𝕄) := by
  iintro ⟨H, HR⟩
  ihave H := (p_gather m hpre d f₀) $$ H
  icases H with ⟨%f, %hf, H⟩
  ihave H := (join_rest (F := F) (pU d) f f₀) $$ [H HR]
  · isplitl [H]; · iexact H
    iexact HR
  icases H with ⟨%g, %hg, H⟩
  iexists g
  isplitr
  · ipureintro
    intro w hw
    have hc : w / 16 < 2 := by omega
    have hi : w % 16 < 16 := by omega
    have e : wd1 (coords1 (⟨w / 16, hc⟩ : Fin 2) (⟨w % 16, hi⟩ : Fin 16)) = w := show 16 * (w / 16) + w % 16 = w by omega
    have h := win_congr m hpre d (⟨w / 16, hc⟩ : Fin 2) (⟨w % 16, hi⟩ : Fin 16) f g
      (fun x hx => hg x (Finset.mem_biUnion.2 ⟨_, Finset.mem_univ _, Finset.mem_biUnion.2 ⟨_, Finset.mem_univ _, hx⟩⟩)) (hf _ _)
    rw [e] at h
    exact h
  · iexact H

/-! ## What is handed over, array by array -/

omit [FloatOps F] in
theorem both (A B : Fin 2 → Fin 16 → sProp 𝕄) : (bigSep Finset.univ fun c : Fin 2 => bigSep Finset.univ fun i : Fin 16 => iprop(A c i ∗ B c i))
    = iprop((bigSep Finset.univ fun c : Fin 2 => bigSep Finset.univ fun i : Fin 16 => A c i) ∗ bigSep Finset.univ fun c : Fin 2 => bigSep Finset.univ fun i : Fin 16 => B c i) := by
  rw [← bigSep_sep']
  exact bigSep_congr fun c _ => bigSep_sep' _ _ _

/-- A share of an array for every tile, -/
abbrev toks {ℓ : Loc nD τ sig} (q : PosShare TreeShare) (f : Buf (Elt F) ℓ) : sProp 𝕄 := bigSep Finset.univ fun c : Fin 2 => bigSep Finset.univ fun i : Fin 16 => ℓ ↦{tok q c i} f
/-- and a piece for every tile. -/
abbrev oAll (d : Dev nD) (f : Buf (Elt F) (hLoc d)) : sProp 𝕄 := bigSep Finset.univ fun c : Fin 2 => bigSep Finset.univ fun i : Fin 16 => hLoc d ↦[(oSl (coords0 c i)).view.set]{fullShare} f
abbrev pAll (d : Dev nD) (f : Buf (Elt F) (pLoc d)) : sProp 𝕄 := bigSep Finset.univ fun c : Fin 2 => bigSep Finset.univ fun i : Fin 16 => pLoc d ↦[(pSl (coords1 c i)).view.set]{fullShare} f
abbrev rAll (d : Dev nD) (f : Buf (Elt F) (rLoc d)) : sProp 𝕄 := bigSep Finset.univ fun c : Fin 2 => bigSep Finset.univ fun i : Fin 16 => rLoc d ↦[rSet d (coords2 c i)]{fullShare} f
abbrev pToks (d : Dev nD) : sProp 𝕄 := bigSep Finset.univ fun c : Fin 2 => bigSep Finset.univ fun i : Fin 16 =>
  iprop(∃ f : Buf (Elt F) (pLoc d), ⌜Packed (srcOf m d) (dstOf m d) (lenOf m d) (pwOf f)⌝ ∗ pLoc d ↦{tok D2 c i} f)

theorem st0_eq (d : Dev nD) : (bigSep Finset.univ fun c : Fin ((K (F := F)).nCore 0) => (P m).st 0 d c) = iprop(toks fullShare (m (sLoc d)) ∗ oAll d (m (hLoc d))) :=
  both (fun c i => sLoc d ↦{tok fullShare c i} m (sLoc d)) (fun c i => hLoc d ↦[(oSl (coords0 c i)).view.set]{fullShare} m (hLoc d))
theorem dn0_eq (d : Dev nD) : (bigSep Finset.univ fun c : Fin ((K (F := F)).nCore 0) => (P m).dn 0 d c) = oAll d (hist m d) := rfl

theorem st1_eq (d : Dev nD) : (bigSep Finset.univ fun c : Fin ((K (F := F)).nCore 1) => (P m).st 1 d c)
    = iprop(toks D1 (m (sLoc d)) ∗ toks D1 (m (dLoc d)) ∗ toks D1 (m (lLoc d)) ∗ toks (ℓ := hLoc d) D1 (hist m d) ∗ pAll d (m (pLoc d))) := by
  have h3 := both (fun c i => hLoc d ↦{tok D1 c i} hist m d) (fun c i => pLoc d ↦[(pSl (coords1 c i)).view.set]{fullShare} m (pLoc d))
  have h2 := (both (fun c i => lLoc d ↦{tok D1 c i} m (lLoc d)) (fun c i => iprop((hLoc d ↦{tok D1 c i} hist m d) ∗ pLoc d ↦[(pSl (coords1 c i)).view.set]{fullShare} m (pLoc d)))).trans
    (congrArg (fun X : sProp 𝕄 => iprop(_ ∗ X)) h3)
  have h1 := (both (fun c i => dLoc d ↦{tok D1 c i} m (dLoc d)) (fun c i => iprop((lLoc d ↦{tok D1 c i} m (lLoc d)) ∗ (hLoc d ↦{tok D1 c i} hist m d) ∗ pLoc d ↦[(pSl (coords1 c i)).view.set]{fullShare} m (pLoc d)))).trans
    (congrArg (fun X : sProp 𝕄 => iprop(_ ∗ X)) h2)
  exact (both (fun c i => sLoc d ↦{tok D1 c i} m (sLoc d))
    (fun c i => iprop((dLoc d ↦{tok D1 c i} m (dLoc d)) ∗ (lLoc d ↦{tok D1 c i} m (lLoc d)) ∗ (hLoc d ↦{tok D1 c i} hist m d) ∗ pLoc d ↦[(pSl (coords1 c i)).view.set]{fullShare} m (pLoc d)))).trans
    (congrArg (fun X : sProp 𝕄 => iprop(_ ∗ X)) h1)
theorem dn1_eq (d : Dev nD) : (bigSep Finset.univ fun c : Fin ((K (F := F)).nCore 1) => (P m).dn 1 d c)
    = bigSep Finset.univ fun c : Fin 2 => bigSep Finset.univ fun i : Fin 16 => td1 m d (coords1 c i) := rfl

theorem st2_eq (d : Dev nD) : (bigSep Finset.univ fun c : Fin ((K (F := F)).nCore 2) => (P m).st 2 d c)
    = iprop(pToks m d ∗ toks (ℓ := hLoc d) D2 (hist m d) ∗ toks D2 (m (bLoc d)) ∗ rAll d (m (rLoc d))) := by
  have h2 := both (fun c i => bLoc d ↦{tok D2 c i} m (bLoc d)) (fun c i => rLoc d ↦[rSet d (coords2 c i)]{fullShare} m (rLoc d))
  have h1 := (both (fun c i => hLoc d ↦{tok D2 c i} hist m d) (fun c i => iprop((bLoc d ↦{tok D2 c i} m (bLoc d)) ∗ rLoc d ↦[rSet d (coords2 c i)]{fullShare} m (rLoc d)))).trans
    (congrArg (fun X : sProp 𝕄 => iprop(_ ∗ X)) h2)
  exact (both (fun c i => iprop(∃ f : Buf (Elt F) (pLoc d), ⌜Packed (srcOf m d) (dstOf m d) (lenOf m d) (pwOf f)⌝ ∗ pLoc d ↦{tok D2 c i} f))
    (fun c i => iprop((hLoc d ↦{tok D2 c i} hist m d) ∗ (bLoc d ↦{tok D2 c i} m (bLoc d)) ∗ rLoc d ↦[rSet d (coords2 c i)]{fullShare} m (rLoc d)))).trans
    (congrArg (fun X : sProp 𝕄 => iprop(_ ∗ X)) h1)
theorem dn2_eq (d : Dev nD) : (bigSep Finset.univ fun c : Fin ((K (F := F)).nCore 2) => (P m).dn 2 d c) = rAll d (flat m d) := rfl

omit [FloatOps F] in
theorem p_any (d : Dev nD) (q : PosShare TreeShare) (f : Buf (Elt F) (pLoc d)) (hf : Packed (srcOf m d) (dstOf m d) (lenOf m d) (pwOf f)) :
    (pLoc d ↦{q} f : sProp 𝕄) ⊢ iprop(∃ f : Buf (Elt F) (pLoc d), ⌜Packed (srcOf m d) (dstOf m d) (lenOf m d) (pwOf f)⌝ ∗ pLoc d ↦{q} f) := by
  iintro H
  iexists f
  isplitr
  · ipureintro; exact hf
  · iexact H

omit [FloatOps F] in
theorem p_toks (d : Dev nD) (f : Buf (Elt F) (pLoc d)) (hf : Packed (srcOf m d) (dstOf m d) (lenOf m d) (pwOf f)) : (toks D2 f : sProp 𝕄) ⊢ pToks m d :=
  bigSep_mono fun c _ => bigSep_mono fun i _ => p_any m d (tok D2 c i) f hf

/-! ## @main -/

abbrev r' : DevRef τ sig := Proc.devRef .tc (main_v2 : Ref sig .tc)
abbrev z' : DevRef τ sig := Proc.devRef .tc (main_v3 : Ref sig .tc)
abbrev opR : HloOp τ sig (Elt F) := StableHlo.reshape main_v2 main_v3 (rfl : (.f32 : EltTy) = .f32) shapeCasts_S16777216_S4096x4096

abbrev S2 : Finset (DevRef τ sig) := {r', z'}

omit [FloatOps F] in
theorem held_S2 (d : Dev nD) (W : Valuation τ sig (Elt F)) : (held (T d) S2 W : sProp 𝕄) = iprop((rLoc d ↦{fullShare} W r') ∗ zLoc d ↦{fullShare} W z') := by
  unfold held S2
  rw [SparseCore.bigSep_insert' (by decide), bigSep_singleton]

/-- The result. -/
def res (d : Dev nD) : Buf (Elt F) (zLoc d) := fun x =>
  lastv (F := F) (tabOf m d) (srcOf m d) (dstOf m d) (lenOf m d) (4096 * ((x : S4096x4096.Idx) 0).val + ((x : S4096x4096.Idx) 1).val)

def V0 (d : Dev nD) : Valuation τ sig (Elt F) := fun b => m (d, b)
def V1 (d : Dev nD) : Valuation τ sig (Elt F) := Function.update (V0 m d) r' (flat m d)

theorem V1_r (d : Dev nD) : V1 m d r' = flat m d := Function.update_self _ _ _
theorem V1_z (d : Dev nD) : V1 m d z' = m (zLoc d) := Function.update_of_ne (show z' ≠ r' by decide) _ _

theorem hR : (opR (F := F)).bufs ⊆ S2 := show ({r', z'} : Finset (DevRef τ sig)) ⊆ S2 by decide

theorem after_z (d : Dev nD) : (opR (F := F)).result (V1 m d) z' = res m d := by
  refine (StableHlo.reshape_result main_v2 main_v3 (rfl : (.f32 : EltTy) = .f32) shapeCasts_S16777216_S4096x4096 _ _ (V1 m d)).trans (funext fun x => ?_)
  show shapeCast S4096x4096 (V1 m d r') shapeCasts_S16777216_S4096x4096 x = _
  rw [V1_r]
  have h0 : ((x : S4096x4096.Idx) 0).val < 4096 := ((x : S4096x4096.Idx) 0).isLt
  have h1 : ((x : S4096x4096.Idx) 1).val < 4096 := ((x : S4096x4096.Idx) 1).isLt
  refine (shapeCast_apply (s := S16777216) (t := S4096x4096) (flat m d) _ x (ix1 (⟨4096 * ((x : S4096x4096.Idx) 0).val + ((x : S4096x4096.Idx) 1).val, by omega⟩ : Fin 16777216)) ?_).trans rfl
  rw [Shape.rowMajor_val_one, Shape.rowMajor_val_two]
  show 4096 * ((x : S4096x4096.Idx) 0).val + ((x : S4096x4096.Idx) 1).val = ((x : S4096x4096.Idx) 0).val * 4096 + ((x : S4096x4096.Idx) 1).val
  omega

abbrev FIN (d : Dev nD) : sProp 𝕄 := iprop((xLoc d ↦{fullShare} m (xLoc d)) ∗ (sLoc d ↦{D2} m (sLoc d)) ∗ (dLoc d ↦{D2} m (dLoc d)) ∗ (lLoc d ↦{D2} m (lLoc d)) ∗ (bLoc d ↦{D3} m (bLoc d)) ∗ zLoc d ↦{fullShare} res m d)

set_option maxHeartbeats 1000000 in
theorem hmain (hpre : PreOK m) (ρ : Dev nD → PrngReg) (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 3 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨HX, HS, HD, HL, HB, HH, HP, HR, HZ⟩, Hts, -⟩, -⟩
  ihave HS := (deal_shares (F := F) Finset.univ) $$ HS
  icases HS with ⟨HS, Hs⟩
  ihave HH := (Entails.of_eq (o_parts (F := F) d _)) $$ HH
  iapply ((K (F := F)).wp_run (D (F := F)) 𝒱 (EH := EH) (P := P m) κ d 0) $$ [Hst Hs HH HX HS HD HL HB HP HR HZ Hb Hts]
  isplitr; · iexact Hctx
  isplitl [Hst]; · iexact Hst
  isplitl [Hs HH]
  · rw [st0_eq]
    isplitl [Hs]; · iexact Hs
    iexact HH
  iintro ⟨Hst, HH⟩
  ihave HH := (Entails.of_eq (dn0_eq m d)) $$ HH
  ihave HH := (Entails.of_eq (o_parts (F := F) d _).symm) $$ HH
  ihave HH := (cut_share (F := F) Finset.univ) $$ HH
  ihave HH := (deal_shares (F := F) Finset.univ) $$ HH
  icases HH with ⟨HH, Hh⟩
  ihave HS := (deal_shares (F := F) Finset.univ) $$ HS
  icases HS with ⟨HS, Hs⟩
  ihave HD := (cut_share (F := F) Finset.univ) $$ HD
  ihave HD := (deal_shares (F := F) Finset.univ) $$ HD
  icases HD with ⟨HD, Hd⟩
  ihave HL := (cut_share (F := F) Finset.univ) $$ HL
  ihave HL := (deal_shares (F := F) Finset.univ) $$ HL
  icases HL with ⟨HL, Hl⟩
  ihave HP := (p_parts (F := F) d _) $$ HP
  icases HP with ⟨Hp, HP⟩
  iapply ((K (F := F)).wp_run (D (F := F)) 𝒱 (EH := EH) (P := P m) κ d 1) $$ [Hst Hs Hd Hl Hh Hp HH HX HS HD HL HB HP HR HZ Hb Hts]
  isplitr; · iexact Hctx
  isplitl [Hst]; · iexact Hst
  isplitl [Hs Hd Hl Hh Hp]
  · rw [st1_eq]
    isplitl [Hs]; · iexact Hs
    isplitl [Hd]; · iexact Hd
    isplitl [Hl]; · iexact Hl
    isplitl [Hh]; · iexact Hh
    iexact Hp
  iintro ⟨Hst, Hp⟩
  ihave Hp := (Entails.of_eq (dn1_eq m d)) $$ Hp
  ihave Hp := (p_join m hpre d (m (pLoc d))) $$ [Hp HP]
  · isplitl [Hp]; · iexact Hp
    iexact HP
  icases Hp with ⟨%f, %hf, Hp⟩
  ihave Hp := (cut_share (F := F) Finset.univ) $$ Hp
  ihave Hp := (cut_share (F := F) Finset.univ) $$ Hp
  ihave Hp := (deal_shares (F := F) Finset.univ) $$ Hp
  icases Hp with ⟨-, Hp⟩
  ihave Hp := (p_toks m d f hf) $$ Hp
  ihave HH := (deal_shares (F := F) Finset.univ) $$ HH
  icases HH with ⟨-, Hh⟩
  ihave HB := (cut_share (F := F) Finset.univ) $$ HB
  ihave HB := (cut_share (F := F) Finset.univ) $$ HB
  ihave HB := (deal_shares (F := F) Finset.univ) $$ HB
  icases HB with ⟨HB, HT⟩
  ihave HR := (Entails.of_eq (r_parts (F := F) d _)) $$ HR
  iapply ((K (F := F)).wp_run (D (F := F)) 𝒱 (EH := EH) (P := P m) κ d 2) $$ [Hst Hp Hh HT HR HX HS HD HL HB HZ Hb Hts]
  isplitr; · iexact Hctx
  isplitl [Hst]; · iexact Hst
  isplitl [Hp Hh HT HR]
  · rw [st2_eq]
    isplitl [Hp]; · iexact Hp
    isplitl [Hh]; · iexact Hh
    isplitl [HT]; · iexact HT
    iexact HR
  iintro ⟨Hst, HR⟩
  ihave HR := (Entails.of_eq (dn2_eq m d)) $$ HR
  ihave HR := (Entails.of_eq (r_parts (F := F) d _).symm) $$ HR
  iapply (wp_hlo_within 𝒱 (SparseCore.T d) none Set.univ (op := opR) (S := S2) hR (V := V1 m d)) $$ [Hb HR HZ]
  · isplitl [Hb]; · iexact Hb
    rw [held_S2, V1_r, V1_z]
    isplitl [HR]; · iexact HR
    iexact HZ
  iintro ⟨Hb, HZ⟩
  ihave HZ := (Entails.of_eq (held_S2 (F := F) d _)) $$ HZ
  icases HZ with ⟨-, HZ⟩
  ihave HZ := (Entails.of_eq (congrArg (fun f => (zLoc d ↦{fullShare} f : sProp 𝕄)) (after_z m d))) $$ HZ
  rw [Idealize.SL.Sem.wp_ret]; imodintro; imodintro
  isplitl [Hst]; · iexact Hst
  isplitr [Hb Hts]
  · isplitl [HX]; · iexact HX
    isplitl [HS]; · iexact HS
    isplitl [HD]; · iexact HD
    isplitl [HL]; · iexact HL
    isplitl [HB]; · iexact HB
    iexact HZ
  isplitl [Hb] <;> iassumption

def fq (d : Dev nD) (s' : Phys nD τ sig (Elt F)) : Prop := s'.mem.mem (zLoc d) = res m d ∧ s'.mem.mem (xLoc d) = m (xLoc d) ∧ s'.mem.mem (sLoc d) = m (sLoc d)
  ∧ s'.mem.mem (dLoc d) = m (dLoc d) ∧ s'.mem.mem (lLoc d) = m (lLoc d) ∧ s'.mem.mem (bLoc d) = m (bLoc d)

set_option maxRecDepth 16384 in
theorem hfin (d : Dev nD) (s' : Phys nD τ sig (Elt F)) : iprop(FIN m d ∗ SI s') ⊢ (⌜fq m d s'⌝ : sProp 𝕄) := by
  iintro ⟨⟨H1, H2, H3, H4, H5, H6⟩, HSI⟩
  ihave H := (persistent_entails_right (SI_pointsTo_agree (st := s') (ℓ := xLoc d) (I := Finset.univ) (q := fullShare) (f := m (xLoc d)))) $$ [HSI H1]
  · isplitl [HSI] <;> iassumption
  icases H with ⟨%h1, HSI, -⟩
  ihave H := (persistent_entails_right (SI_pointsTo_agree (st := s') (ℓ := sLoc d) (I := Finset.univ) (q := D2) (f := m (sLoc d)))) $$ [HSI H2]
  · isplitl [HSI] <;> iassumption
  icases H with ⟨%h2, HSI, -⟩
  ihave H := (persistent_entails_right (SI_pointsTo_agree (st := s') (ℓ := dLoc d) (I := Finset.univ) (q := D2) (f := m (dLoc d)))) $$ [HSI H3]
  · isplitl [HSI] <;> iassumption
  icases H with ⟨%h3, HSI, -⟩
  ihave H := (persistent_entails_right (SI_pointsTo_agree (st := s') (ℓ := lLoc d) (I := Finset.univ) (q := D2) (f := m (lLoc d)))) $$ [HSI H4]
  · isplitl [HSI] <;> iassumption
  icases H with ⟨%h4, HSI, -⟩
  ihave H := (persistent_entails_right (SI_pointsTo_agree (st := s') (ℓ := bLoc d) (I := Finset.univ) (q := D3) (f := m (bLoc d)))) $$ [HSI H5]
  · isplitl [HSI] <;> iassumption
  icases H with ⟨%h5, HSI, -⟩
  ihave H := (persistent_entails_right (SI_pointsTo_agree (st := s') (ℓ := zLoc d) (I := Finset.univ) (q := fullShare) (f := res m d))) $$ [HSI H6]
  · isplitl [HSI] <;> iassumption
  icases H with ⟨%h6, HSI, -⟩
  ipureintro
  exact ⟨funext fun i => h6 i (Finset.mem_univ i), funext fun i => h1 i (Finset.mem_univ i), funext fun i => h2 i (Finset.mem_univ i), funext fun i => h3 i (Finset.mem_univ i),
    funext fun i => h4 i (Finset.mem_univ i), funext fun i => h5 i (Finset.mem_univ i)⟩

def QC : PUnit × MemSt nD τ sig (Elt F) → Prop := fun r => (∀ c : Dev nD, r.2.mem (zLoc c) = res m c ∧ r.2.mem (xLoc c) = m (xLoc c) ∧ r.2.mem (sLoc c) = m (sLoc c)
  ∧ r.2.mem (dLoc c) = m (dLoc c) ∧ r.2.mem (lLoc c) = m (lLoc c) ∧ r.2.mem (bLoc c) = m (bLoc c)) ∧ r.2.sem = fun _ => 0

theorem run_main [∀ e, Nonempty (Elt F e)] (ρ : Dev nD → PrngReg) (hpre : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq | 1 => nomatch hq | 2 => nomatch hq)
    (fun q _ => match q with | 0 => tileObl0 m facts hpre | 1 => tileObl1 m facts hpre | 2 => tileObl2 m facts hpre)
    (fun q _ => match q with
      | 0 => SparseCore.Cfg.VecSplit.of_plain (vecSplit0 m)
      | 1 => SparseCore.Cfg.VecSplit.of_plain (vecSplit1 m)
      | 2 => SparseCore.Cfg.VecSplit.of_plain (vecSplit2 m))
    m ρ main (fun _ => iprop(emp)) (FIN m) (u₀ (F := F)) (sep_elim_left.trans (hu₀ m)) (hmain m hpre ρ) (fq m) (hfin m) (QC m) (fun _ h hz => ⟨h, hz⟩)

end Cert.Proof.Tile

end
-- ==== Proof.RefRun.lean ====
/-
  The reference's program as a list of its operations, and its run.
-/
module

public import proofs.«01_k».proof.Proof.Gen.ReferenceIdeal
public import Idealize.ShloMosaic.Lib.StableHlo.Run

@[expose] public section

noncomputable section

namespace Cert.Proof.RefRun

open Cert.ReferenceIdeal Cert.ReferenceIdeal.Gen Idealize.ShloMosaic Idealize.ShloMosaic.TcCoe Idealize.SL.Sem Idealize.ShloMosaic.StableHlo

variable {F : FTy → Type} [FloatOps F]

/-- The reference's operations, in order. -/
abbrev ops : List (HloOp τ sig (Elt F)) :=
  [ nullary main_c (constantI S_ 32 1#32),
    unary main_c main_v0 (broadcastInDim S1000000 ![] bcast_S_S1000000 : (⟨S_, .i32⟩ : BufTy).Contents (Elt F) → (⟨S1000000, .i32⟩ : BufTy).Contents (Elt F)),
    binary main_arg3 main_v0 main_v1 (maxsi : (⟨S1000000, .i32⟩ : BufTy).Contents (Elt F) → (⟨S1000000, .i32⟩ : BufTy).Contents (Elt F) → (⟨S1000000, .i32⟩ : BufTy).Contents (Elt F)),
    nullary main_c_0 (constantI S_ 32 20#32),
    unary main_c_0 main_v2 (broadcastInDim S1000000 ![] bcast_S_S1000000 : (⟨S_, .i32⟩ : BufTy).Contents (Elt F) → (⟨S1000000, .i32⟩ : BufTy).Contents (Elt F)),
    binary main_v1 main_v2 main_v3 (minsi : (⟨S1000000, .i32⟩ : BufTy).Contents (Elt F) → (⟨S1000000, .i32⟩ : BufTy).Contents (Elt F) → (⟨S1000000, .i32⟩ : BufTy).Contents (Elt F)),
    nullary main_c_1 (constantI S_ 32 1#32),
    unary main_c_1 main_v4 (broadcastInDim S1000000 ![] bcast_S_S1000000 : (⟨S_, .i32⟩ : BufTy).Contents (Elt F) → (⟨S1000000, .i32⟩ : BufTy).Contents (Elt F)),
    binary main_v3 main_v4 main_v5 (subi : (⟨S1000000, .i32⟩ : BufTy).Contents (Elt F) → (⟨S1000000, .i32⟩ : BufTy).Contents (Elt F) → (⟨S1000000, .i32⟩ : BufTy).Contents (Elt F)),
    nullary main_c_2 (constantI S_ 32 0#32),
    unary main_c_2 main_v6 (broadcastInDim S1000000 ![] bcast_S_S1000000 : (⟨S_, .i32⟩ : BufTy).Contents (Elt F) → (⟨S1000000, .i32⟩ : BufTy).Contents (Elt F)),
    binary main_v5 main_v6 main_v7 (cmpi .slt : (⟨S1000000, .i32⟩ : BufTy).Contents (Elt F) → (⟨S1000000, .i32⟩ : BufTy).Contents (Elt F) → (⟨S1000000, .i1⟩ : BufTy).Contents (Elt F)),
    nullary main_c_3 (constantI S_ 32 20#32),
    unary main_c_3 main_v8 (broadcastInDim S1000000 ![] bcast_S_S1000000 : (⟨S_, .i32⟩ : BufTy).Contents (Elt F) → (⟨S1000000, .i32⟩ : BufTy).Contents (Elt F)),
    binary main_v5 main_v8 main_v9 (addi : (⟨S1000000, .i32⟩ : BufTy).Contents (Elt F) → (⟨S1000000, .i32⟩ : BufTy).Contents (Elt F) → (⟨S1000000, .i32⟩ : BufTy).Contents (Elt F)),
    ternary main_v7 main_v9 main_v5 main_v10 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v10 main_v11 (broadcastInDim S1000000x1 ![0] bcast_S1000000_S1000000x1_0 : (⟨S1000000, .i32⟩ : BufTy).Contents (Elt F) → (⟨S1000000x1, .i32⟩ : BufTy).Contents (Elt F)),
    binary main_arg4 main_v11 main_v12 ((fun x i => Host.gather gather_S20_S1000000x1_S1000000_n_0_n_n_0_1_1 x i) : (⟨S20, .f32⟩ : BufTy).Contents (Elt F) → (⟨S1000000x1, .i32⟩ : BufTy).Contents (Elt F) → (⟨S1000000, .f32⟩ : BufTy).Contents (Elt F)),
    nullary main_cst (constant S_ .f32 0x00000000#32),
    unary main_cst main_v13 (broadcastInDim S4096x4096 ![] bcast_S_S4096x4096 : (⟨S_, .f32⟩ : BufTy).Contents (Elt F) → (⟨S4096x4096, .f32⟩ : BufTy).Contents (Elt F)),
    nullary main_c_4 (constantI S_ 32 0#32),
    unary main_c_4 main_v14 (broadcastInDim S1000000 ![] bcast_S_S1000000 : (⟨S_, .i32⟩ : BufTy).Contents (Elt F) → (⟨S1000000, .i32⟩ : BufTy).Contents (Elt F)),
    binary main_arg1 main_v14 main_v15 (cmpi .slt : (⟨S1000000, .i32⟩ : BufTy).Contents (Elt F) → (⟨S1000000, .i32⟩ : BufTy).Contents (Elt F) → (⟨S1000000, .i1⟩ : BufTy).Contents (Elt F)),
    nullary main_c_5 (constantI S_ 32 4096#32),
    unary main_c_5 main_v16 (broadcastInDim S1000000 ![] bcast_S_S1000000 : (⟨S_, .i32⟩ : BufTy).Contents (Elt F) → (⟨S1000000, .i32⟩ : BufTy).Contents (Elt F)),
    binary main_arg1 main_v16 main_v17 (addi : (⟨S1000000, .i32⟩ : BufTy).Contents (Elt F) → (⟨S1000000, .i32⟩ : BufTy).Contents (Elt F) → (⟨S1000000, .i32⟩ : BufTy).Contents (Elt F)),
    ternary main_v15 main_v17 main_arg1 main_v18 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    nullary main_c_6 (constantI S_ 32 0#32),
    unary main_c_6 main_v19 (broadcastInDim S1000000 ![] bcast_S_S1000000 : (⟨S_, .i32⟩ : BufTy).Contents (Elt F) → (⟨S1000000, .i32⟩ : BufTy).Contents (Elt F)),
    binary main_arg2 main_v19 main_v20 (cmpi .slt : (⟨S1000000, .i32⟩ : BufTy).Contents (Elt F) → (⟨S1000000, .i32⟩ : BufTy).Contents (Elt F) → (⟨S1000000, .i1⟩ : BufTy).Contents (Elt F)),
    nullary main_c_7 (constantI S_ 32 4096#32),
    unary main_c_7 main_v21 (broadcastInDim S1000000 ![] bcast_S_S1000000 : (⟨S_, .i32⟩ : BufTy).Contents (Elt F) → (⟨S1000000, .i32⟩ : BufTy).Contents (Elt F)),
    binary main_arg2 main_v21 main_v22 (addi : (⟨S1000000, .i32⟩ : BufTy).Contents (Elt F) → (⟨S1000000, .i32⟩ : BufTy).Contents (Elt F) → (⟨S1000000, .i32⟩ : BufTy).Contents (Elt F)),
    ternary main_v20 main_v22 main_arg2 main_v23 (select : (⟨S1000000, .i1⟩ : BufTy).Contents (Elt F) → (⟨S1000000, .i32⟩ : BufTy).Contents (Elt F) → (⟨S1000000, .i32⟩ : BufTy).Contents (Elt F) → (⟨S1000000, .i32⟩ : BufTy).Contents (Elt F)),
    unary main_v18 main_v24 (broadcastInDim S1000000x1 ![0] bcast_S1000000_S1000000x1_0 : (⟨S1000000, .i32⟩ : BufTy).Contents (Elt F) → (⟨S1000000x1, .i32⟩ : BufTy).Contents (Elt F)),
    unary main_v23 main_v25 (broadcastInDim S1000000x1 ![0] bcast_S1000000_S1000000x1_0 : (⟨S1000000, .i32⟩ : BufTy).Contents (Elt F) → (⟨S1000000x1, .i32⟩ : BufTy).Contents (Elt F)),
    binary main_v24 main_v25 main_v26 ((fun a b => concatenate S1000000x2 1 [⟨S1000000x1, a⟩, ⟨S1000000x1, b⟩] concatenates_S1000000x1_S1000000x1_S1000000x2_d1) : (⟨S1000000x1, .i32⟩ : BufTy).Contents (Elt F) → (⟨S1000000x1, .i32⟩ : BufTy).Contents (Elt F) → (⟨S1000000x2, .i32⟩ : BufTy).Contents (Elt F)),
    ternary main_v13 main_v26 main_v12 main_v27 ((fun x i u => Host.scatter scatter_S4096x4096_S1000000x2_S1000000_n_01_01_1 (fun _ b => b) x i u) : (⟨S4096x4096, .f32⟩ : BufTy).Contents (Elt F) → (⟨S1000000x2, .i32⟩ : BufTy).Contents (Elt F) → (⟨S1000000, .f32⟩ : BufTy).Contents (Elt F) → (⟨S4096x4096, .f32⟩ : BufTy).Contents (Elt F)) ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., unary_bufs_sub .., binary_bufs_sub .., ternary_bufs_sub ..⟩

/-- A place counted from the end, brought to the front. -/
def wrapI (v : IVec S1000000 32) (n : BitVec 32) : IVec S1000000 32 :=
  select (cmpi .slt v (broadcastInDim S1000000 ![] bcast_S_S1000000 (constantI S_ 32 0#32))) (addi v (broadcastInDim S1000000 ![] bcast_S_S1000000 (constantI S_ 32 n))) v

/-- A column of places. -/
def colI (v : IVec S1000000 32) : IVec S1000000x1 32 := broadcastInDim S1000000x1 ![0] bcast_S1000000_S1000000x1_0 v

/-- The place in the table of values of every path. -/
def lenI (v : IVec S1000000 32) : IVec S1000000 32 :=
  subi (minsi (maxsi v (broadcastInDim S1000000 ![] bcast_S_S1000000 (constantI S_ 32 1#32))) (broadcastInDim S1000000 ![] bcast_S_S1000000 (constantI S_ 32 20#32)))
    (broadcastInDim S1000000 ![] bcast_S_S1000000 (constantI S_ 32 1#32))

/-- The reference's result, from its arguments. -/
def out (s d l : IVec S1000000 32) (b : Vec F S20 .f32) : Vec F S4096x4096 .f32 :=
  Host.scatter scatter_S4096x4096_S1000000x2_S1000000_n_01_01_1 (fun _ b => b) (broadcastInDim S4096x4096 ![] bcast_S_S4096x4096 (constant S_ .f32 0x00000000#32))
    (concatenate S1000000x2 1 [⟨S1000000x1, colI (wrapI s 4096#32)⟩, ⟨S1000000x1, colI (wrapI d 4096#32)⟩] concatenates_S1000000x1_S1000000x1_S1000000x2_d1)
    (Host.gather gather_S20_S1000000x1_S1000000_n_0_n_n_0_1_1 b (colI (wrapI (lenI l) 20#32)))

set_option maxHeartbeats 4000000 in
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v27) = out (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c main_v27).trans (by after_results <;> rfl), (h c main_arg0).trans (by after_results <;> rfl),
      (h c main_arg1).trans (by after_results <;> rfl), (h c main_arg2).trans (by after_results <;> rfl), (h c main_arg3).trans (by after_results <;> rfl),
      (h c main_arg4).trans (by after_results <;> rfl)⟩)
    (run_seq scopedRefs_eq scopedSems_eq defs main (fun _ => ops) main_eq (fun _ => ops_sub) m ρ)

end Cert.Proof.RefRun

end
-- ==== Proof.RefVal.lean ====
/-
  What the reference computes: at every place, the value of the last path that names it.
-/
module

public import proofs.«01_k».proof.Proof.Launch
public import proofs.«01_k».proof.Proof.RefRun
public import proofs.«01_k».proof.Proof.Gen.Pre_in_range
public import Idealize.ShloMosaic.Lib.Routing.OpsPair
public import Idealize.ShloMosaic.Lib.Routing.OpsSet
public import Idealize.ShloMosaic.Lib.Routing.Ops
public import Idealize.ShloMosaic.Lib.Routing.Words
public import Idealize.ShloMosaic.Lib.Pipeline.Value
public import Idealize.ShloMosaic.Lib.ReduceAll

@[expose] public section

noncomputable section

namespace Cert.Proof.RefVal

open Cert.ReferenceIdeal Cert.ReferenceIdeal.Gen Cert.Proof.RefRun
open Cert.Proof.Tile (lastv lv lv_lt zV)
open Idealize.ShloMosaic Idealize.ShloMosaic.ValueIdx Idealize.ShloMosaic.Routing Idealize.ShloMosaic.WordCmp

/-- Where an update lands: at its two index words, read signed. -/
theorem lands (idx : IVec S1000000x2 32) (i : Fin 1000000) (r c : Fin 4096) :
    scatter_S4096x4096_S1000000x2_S1000000_n_01_01_1.resultIdx? (ix1 i : S1000000.Idx) idx = some (ix2 r c : S4096x4096.Idx)
      ↔ (idx (ix2 i (0 : Fin 2))).toInt = (r.val : Int) ∧ (idx (ix2 i (1 : Fin 2))).toInt = (c.val : Int) := by
  set d := scatter_S4096x4096_S1000000x2_S1000000_n_01_01_1 with hd
  have hiw : d.insertedWindowDims = [0, 1] := rfl
  have hsd : d.scatterDimsToOperandDims = [0, 1] := rfl
  have hivd : d.indexVectorDim = 1 := rfl
  have hm : ∀ q : Fin 2, q ∈ d.scatterDimsToOperandDims := fun q => by rw [hsd]; fin_cases q <;> simp
  have hwin : ∀ q : Fin 2, d.window (ix1 i : S1000000.Idx) q = 0 := fun q => by
    unfold ScatterDims.window
    rw [dif_neg fun h => (of_decide_eq_true (List.mem_filter.1 h).2) (by rw [hiw]; fin_cases q <;> simp)]
  have hsi : ∀ q : Fin 2, d.siIdx (ix1 i : S1000000.Idx) ⟨d.scatterDimsToOperandDims.idxOf q, List.idxOf_lt_length_iff.2 (hm q)⟩ = ix2 i q := fun q => by
    funext b'
    apply Fin.ext
    match b' with
    | ⟨0, _⟩ =>
      unfold ScatterDims.siIdx
      rw [dif_neg (by rw [hivd]; exact (by decide : (0 : ℕ) ≠ 1))]
      unfold ScatterDims.siCoord
      simp only [Fin.val_cast]
      have e : ∀ X : Fin 1, ((ix1 i : S1000000.Idx) X).val = i.val := fun X => by
        obtain rfl : X = 0 := Subsingleton.elim _ _
        rfl
      exact e _
    | ⟨1, _⟩ =>
      unfold ScatterDims.siIdx
      rw [dif_pos (by rw [hivd])]
      show List.idxOf q d.scatterDimsToOperandDims = q.val
      rw [hsd]
      fin_cases q <;> rfl
  have hstart : ∀ q : Fin 2, d.start (ix1 i : S1000000.Idx) idx q = (idx (ix2 i q)).toInt := fun q => by
    unfold ScatterDims.start
    rw [dif_pos (hm q), hsi]
  have h := resultIdx?_ix2 d (ix1 i : S1000000.Idx) idx r c
  rw [hstart, hstart, hwin, hwin] at h
  refine h.trans ?_
  omega

/-- A column read. -/
theorem col_at (v : IVec S1000000 32) (i : Fin 1000000) : colI v (ix2 i (0 : Fin 1)) = v (ix1 i) :=
  congrArg v (funext fun a => by
    obtain rfl : a = 0 := Subsingleton.elim _ _
    exact dif_neg (show ¬ (1000000 : ℕ) = 1 by decide))

/-- The wrap of negative places, at a place that is none. -/
theorem wrap_at (v : IVec S1000000 32) (n : BitVec 32) (i : Fin 1000000) (h : (v (ix1 i)).toNat < 2 ^ 31) : wrapI v n (ix1 i) = v (ix1 i) :=
  wrap_of_lt (v (ix1 i)) (IntOp.addi (v (ix1 i)) n) h

theorem toInt_small (w : BitVec 32) (h : w.toNat < 4096) : w.toInt = (w.toNat : Int) := by
  have h4 := BitVec.toInt_eq_toNat_cond w
  split at h4 <;> omega

/-- Two columns side by side. -/
theorem pair_left (x y : IVec S1000000x1 32) (i : Fin 1000000) :
    concatenate S1000000x2 1 [⟨S1000000x1, x⟩, ⟨S1000000x1, y⟩] concatenates_S1000000x1_S1000000x1_S1000000x2_d1 (ix2 i (0 : Fin 2)) = x (ix2 i (0 : Fin 1)) :=
  concatenate_pair_apply_left (t := S1000000x2) (s₁ := S1000000x1) (s₂ := S1000000x1) 1 x y concatenates_S1000000x1_S1000000x1_S1000000x2_d1 (ix2 i (0 : Fin 2)) rfl (ix2 i (0 : Fin 1)) fun b => by
    match b with
    | ⟨0, _⟩ => rfl
    | ⟨1, _⟩ => rfl

theorem pair_right (x y : IVec S1000000x1 32) (i : Fin 1000000) :
    concatenate S1000000x2 1 [⟨S1000000x1, x⟩, ⟨S1000000x1, y⟩] concatenates_S1000000x1_S1000000x1_S1000000x2_d1 (ix2 i (1 : Fin 2)) = y (ix2 i (0 : Fin 1)) :=
  concatenate_pair_apply_right (t := S1000000x2) (s₁ := S1000000x1) (s₂ := S1000000x1) 1 x y concatenates_S1000000x1_S1000000x1_S1000000x2_d1 (ix2 i (1 : Fin 2)) rfl rfl (ix2 i (0 : Fin 1))
    (fun b hb => by
      match b with
      | ⟨0, _⟩ => rfl
      | ⟨1, _⟩ => exact absurd rfl hb) rfl

theorem foldl_range {α : Type} (N : ℕ) (g : α → ℕ → α) (z : α) : (List.finRange N).foldl (fun a n => g a n.val) z = (List.range N).foldl g z := by
  rw [← List.map_coe_finRange_eq_range, List.foldl_map]

variable {F : FTy → Type} [FloatOps F]

theorem out_eq (s d l : IVec S1000000 32) (b : Vec F S20 .f32) (hs : ∀ i, (s i).toNat < 4096) (hd : ∀ i, (d i).toNat < 4096)
    (B : ℕ → Elt F .f32) (hB : ∀ i : Fin 20, b (ix1 i) = B i.val) (S D L : ℕ → BitVec 32) (hS : ∀ i : Fin 1000000, s (ix1 i) = S i.val) (hD : ∀ i : Fin 1000000, d (ix1 i) = D i.val)
    (hL : ∀ i : Fin 1000000, l (ix1 i) = L i.val) (x : S4096x4096.Idx) : out s d l b x = lastv (F := F) B S D L (4096 * (x 0).val + (x 1).val) := by
  have hg : ∀ k : Fin 1000000, Host.gather gather_S20_S1000000x1_S1000000_n_0_n_n_0_1_1 b (colI (wrapI (lenI l) 20#32)) (ix1 k) = B (lv (L k.val)).toNat := fun k => by
    have hlv : lenI l (ix1 k) = lv (L k.val) := (show lenI l (ix1 k) = lv (l (ix1 k)) from rfl).trans (congrArg lv (hL k))
    have h20 := lv_lt (L k.val)
    refine (gather_take1 gather_S20_S1000000x1_S1000000_n_0_n_n_0_1_1 rfl rfl rfl rfl b _ k ⟨(lv (L k.val)).toNat, h20⟩ ?_ (by omega)).trans (hB _)
    rw [col_at, wrap_at _ _ _ (by rw [hlv]; omega), hlv, BitVec.ofNat_toNat, BitVec.setWidth_eq]
  unfold out
  rw [scatter_at]
  have hstep : ∀ (li : List (Fin S1000000.numel)) (a : Elt F .f32),
      li.foldl (fun a n => if scatter_S4096x4096_S1000000x2_S1000000_n_01_01_1.resultIdx? (S1000000.rowMajor.symm n)
          (concatenate S1000000x2 1 [⟨S1000000x1, colI (wrapI s 4096#32)⟩, ⟨S1000000x1, colI (wrapI d 4096#32)⟩] concatenates_S1000000x1_S1000000x1_S1000000x2_d1) = some x
          then Host.gather gather_S20_S1000000x1_S1000000_n_0_n_n_0_1_1 b (colI (wrapI (lenI l) 20#32)) (S1000000.rowMajor.symm n) else a) a
        = li.foldl (fun a n => if (S n.val).toNat * 4096 + (D n.val).toNat = 4096 * (x 0).val + (x 1).val then B (lv (L n.val)).toNat else a) a := by
    intro li
    induction li with
    | nil => exact fun _ => rfl
    | cons n li ih =>
      intro a
      rw [List.foldl_cons, List.foldl_cons, ih]
      refine congrArg (fun b => List.foldl _ b li) ?_
      have hn : S1000000.rowMajor.symm n = ix1 (n.cast (numel1 1000000)) := symm1 n
      have e1 := hS (n.cast (numel1 1000000))
      have e2 := hD (n.cast (numel1 1000000))
      have h1 := hs (ix1 (n.cast (numel1 1000000)))
      have h2 := hd (ix1 (n.cast (numel1 1000000)))
      have e3 := hg (n.cast (numel1 1000000))
      have hc : (x 1).val < 4096 := (x 1).isLt
      have hl := lands (concatenate S1000000x2 1 [⟨S1000000x1, colI (wrapI s 4096#32)⟩, ⟨S1000000x1, colI (wrapI d 4096#32)⟩] concatenates_S1000000x1_S1000000x1_S1000000x2_d1)
        (n.cast (numel1 1000000)) (x 0) (x 1)
      rw [pair_left, pair_right, col_at, col_at, wrap_at _ _ _ (by omega), wrap_at _ _ _ (by omega), toInt_small _ h1, toInt_small _ h2, e1, e2] at hl
      rw [e1] at h1
      rw [e2] at h2
      simp only [Fin.val_cast] at hl h1 h2 e3
      have hx : (ix2 (x 0) (x 1) : S4096x4096.Idx) = x := (eq_ix2 x).symm
      rw [hx] at hl
      rw [hn, e3]
      refine if_congr (hl.trans ?_) rfl rfl
      omega
  refine (hstep _ _).trans ?_
  refine (foldl_range S1000000.numel (fun a n => if (S n).toNat * 4096 + (D n).toNat = 4096 * (x 0).val + (x 1).val then B (lv (L n)).toNat else a) _).trans ?_
  unfold lastv
  rw [show S1000000.numel = 1000000 from numel1 1000000]
  rfl

/-! ## The precondition -/

theorem and_one (a b : BitVec 1) (h : IntOp.andi a b = 1#1) : a = 1#1 ∧ b = 1#1 := by
  revert h
  rcases BitVec.eq_zero_or_eq_one a with rfl | rfl <;> rcases BitVec.eq_zero_or_eq_one b with rfl | rfl <;> decide

theorem row_of (w : BitVec 32) (h2 : IntOp.andi (IntOp.cmpi .sge w 0#32) (IntOp.cmpi .slt w 4096#32) = 1#1) : w.toNat < 4096 := by
  rw [cmpi_sge_eq, cmpi_slt_eq, andi_ofBool, ofBool_eq_one_iff, Bool.and_eq_true, decide_eq_true_eq, decide_eq_true_eq] at h2
  have e0 : (0#32 : BitVec 32).toInt = 0 := rfl
  have e1 : (4096#32 : BitVec 32).toInt = 4096 := rfl
  rw [e0, e1] at h2
  have h3 := w.isLt
  have h4 := BitVec.toInt_eq_toNat_cond w
  split at h4 <;> omega

/-- What the precondition says: every row and every column of a path is one of 4096. -/
theorem rows_of_pre (a0 : FVec F S4096x128 .f32) (s d l : IVec S1000000 32) (b : FVec F S20 .f32) (h : Cert.Pre_in_range.fn (F := F) a0 s d l b = fun _ => 1#1) :
    (∀ i, (s i).toNat < 4096) ∧ ∀ i, (d i).toNat < 4096 := by
  have h0 := congrFun h (fun a => a.elim0)
  obtain ⟨hs, hd⟩ := and_one _ _ h0
  exact ⟨fun i => row_of _ (Host.reduce_andi_all _ _ _ _ _ hs i), fun i => row_of _ (Host.reduce_andi_all _ _ _ _ _ hd i)⟩

end Cert.Proof.RefVal

end
-- ==== Proof.lean ====
/-
  The proof of `Cert.Claim`: the frames, and the kernel's result against the reference's.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Reference
public import proofs.«01_k».proof.Proof.Gen.Pre_in_range
public import proofs.«01_k».proof.Proof.Launch
public import proofs.«01_k».proof.Proof.RefVal

@[expose] public section

noncomputable section

namespace Cert.Proof

open Idealize.ShloMosaic Idealize.ShloMosaic.TcCoe Idealize.ShloMosaic.ValueIdx Idealize.SL.Sem Cert.Proof.Tile Cert.Proof.RefVal

variable {F : FTy → Type} [FloatOps F]

/-- The kernel's arguments are what they were, -/
abbrev KeptK (m : (ℓ : Loc Cert.KernelIdeal.nD Cert.KernelIdeal.τ Cert.KernelIdeal.sig) → Buf (Elt F) ℓ) (r : MemSt Cert.KernelIdeal.nD Cert.KernelIdeal.τ Cert.KernelIdeal.sig (Elt F)) (c : Dev Cert.KernelIdeal.nD) : Prop :=
  r.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.mem ((c.tc : Thread Cert.KernelIdeal.nD Cert.KernelIdeal.τ).loc Cert.KernelIdeal.main_arg4) = m ((c.tc : Thread Cert.KernelIdeal.nD Cert.KernelIdeal.τ).loc Cert.KernelIdeal.main_arg4)

/-- and the reference's. -/
abbrev KeptR (m : (ℓ : Loc Cert.ReferenceIdeal.nD Cert.ReferenceIdeal.τ Cert.ReferenceIdeal.sig) → Buf (Elt F) ℓ) (r : MemSt Cert.ReferenceIdeal.nD Cert.ReferenceIdeal.τ Cert.ReferenceIdeal.sig (Elt F)) (c : Dev Cert.ReferenceIdeal.nD) : Prop :=
  r.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)

/-- The precondition, of every device. -/
abbrev PreK (m : (ℓ : Loc Cert.KernelIdeal.nD Cert.KernelIdeal.τ Cert.KernelIdeal.sig) → Buf (Elt F) ℓ) : Prop := ∀ c : Dev Cert.KernelIdeal.nD, Cert.Pre_in_range.fn (F := F) (m (xLoc c)) (m (sLoc c)) (m (dLoc c)) (m (lLoc c)) (m (bLoc c)) = fun _ => 1#1

/-! ## The kernel's side -/

theorem ok_of_pre (m : (ℓ : Loc Cert.KernelIdeal.nD Cert.KernelIdeal.τ Cert.KernelIdeal.sig) → Buf (Elt F) ℓ) (hpre : PreK m) : PreOK m := fun c k hk => by
  have h := rows_of_pre (m (xLoc c)) (m (sLoc c)) (m (dLoc c)) (m (lLoc c)) (m (bLoc c)) (hpre c)
  unfold srcOf dstOf
  rw [rd_lt _ _ _ hk, rd_lt _ _ _ hk]
  exact ⟨h.1 _, h.2 _⟩

theorem kernel_run [∀ e, Nonempty (Elt F e)] (m : (ℓ : Loc Cert.KernelIdeal.nD Cert.KernelIdeal.τ Cert.KernelIdeal.sig) → Buf (Elt F) ℓ) (g : Dev Cert.KernelIdeal.nD → PrngReg) (hpre : PreK m) :
    θ_run (Cert.KernelIdeal.defs (F := F)) (Cert.KernelIdeal.threads (F := F)) ⟨m, fun _ => 0, g⟩ (fun r => ∀ c : Dev Cert.KernelIdeal.nD,
      r.2.mem ((c.tc : Thread Cert.KernelIdeal.nD Cert.KernelIdeal.τ).loc Cert.KernelIdeal.main_v3) = res m c
      ∧ KeptK m r.2 c) :=
  (θ_run _ _ _).mono (fun _ h => h.1) (run_main m g (ok_of_pre m hpre))

theorem kernel_frame [∀ e, Nonempty (Elt F e)] (m : (ℓ : Loc Cert.KernelIdeal.nD Cert.KernelIdeal.τ Cert.KernelIdeal.sig) → Buf (Elt F) ℓ) (g : Dev Cert.KernelIdeal.nD → PrngReg) (hpre : PreK m) :
    θ_run (Cert.KernelIdeal.defs (F := F)) (Cert.KernelIdeal.threads (F := F)) ⟨m, fun _ => 0, g⟩ (fun r => (∀ c : Dev Cert.KernelIdeal.nD,
      KeptK m r.2 c)
      ∧ r.2.sem = fun _ => 0) :=
  (θ_run _ _ _).mono (fun _ h => ⟨fun c => (h.1 c).2, h.2⟩) (run_main m g (ok_of_pre m hpre))

/-! ## The reference's side -/

theorem reference_frame (m : (ℓ : Loc Cert.ReferenceIdeal.nD Cert.ReferenceIdeal.τ Cert.ReferenceIdeal.sig) → Buf (Elt F) ℓ) (g : Dev Cert.ReferenceIdeal.nD → PrngReg) :
    θ_run (Cert.ReferenceIdeal.defs (F := F)) (onTc (τ := Cert.ReferenceIdeal.τ) (Cert.ReferenceIdeal.main (F := F))) ⟨m, fun _ => 0, g⟩ (fun r => (∀ c : Dev Cert.ReferenceIdeal.nD,
      KeptR m r.2 c)
      ∧ r.2.sem = fun _ => 0) :=
  (θ_run _ _ _).mono (fun r h => ⟨fun c => (h c).2, sem_eq_zero_of_no_sems rfl r.2⟩) (RefRun.run m g)

set_option maxHeartbeats 4000000 in
/-- The reference ends with the kernel's result, from memories agreeing on the arguments. -/
theorem reference_run (m : (ℓ : Loc Cert.KernelIdeal.nD Cert.KernelIdeal.τ Cert.KernelIdeal.sig) → Buf (Elt F) ℓ) (m' : (ℓ : Loc Cert.ReferenceIdeal.nD Cert.ReferenceIdeal.τ Cert.ReferenceIdeal.sig) → Buf (Elt F) ℓ) (g' : Dev Cert.ReferenceIdeal.nD → PrngReg) (hpre : PreK m)
    (he : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) :
    θ_run (Cert.ReferenceIdeal.defs (F := F)) (onTc (τ := Cert.ReferenceIdeal.τ) (Cert.ReferenceIdeal.main (F := F))) ⟨m', fun _ => 0, g'⟩ (fun r => ∀ c : Dev Cert.ReferenceIdeal.nD,
      r.2.mem ((c.tc : Thread Cert.ReferenceIdeal.nD Cert.ReferenceIdeal.τ).loc Cert.ReferenceIdeal.main_v27) = res m c
      ∧ KeptR m' r.2 c) := by
  refine (θ_run _ _ _).mono (fun _ h c => ⟨(h c).1.trans ?_, (h c).2⟩) (RefRun.run m' g')
  obtain ⟨-, e1, e2, e3, e4⟩ := he c
  rw [e1, e2, e3, e4]
  have hr := rows_of_pre (m (xLoc c)) (m (sLoc c)) (m (dLoc c)) (m (lLoc c)) (m (bLoc c)) (hpre c)
  refine funext fun x => ?_
  exact out_eq (m (sLoc c)) (m (dLoc c)) (m (lLoc c)) (m (bLoc c)) hr.1 hr.2 (tabOf m c) (fun i => (rd_lt _ _ i.val i.isLt).symm) (srcOf m c) (dstOf m c) (lenOf m c)
    (fun i => (rd_lt _ _ i.val i.isLt).symm) (fun i => (rd_lt _ _ i.val i.isLt).symm) (fun i => (rd_lt _ _ i.val i.isLt).symm) x

set_option maxHeartbeats 4000000 in
theorem claim : Cert.Claim := ⟨Cert.Kernel.Gen.facts, Cert.KernelIdeal.Gen.facts, Cert.ReferenceIdeal.Gen.facts, Cert.Reference.Gen.facts, Cert.Pre_in_range.Gen.facts,
  fun m g h => kernel_frame (F := Bits) m g h,
  fun m g h => kernel_frame (F := Ideal) m g h,
  fun m g _ => reference_frame (F := Ideal) m g,
  fun m g _ => reference_frame (F := Ideal) m g,
  fun m g _ => reference_frame (F := Bits) m g,
  trivial,
  fun m g m' g' h he => ⟨res m, kernel_run (F := Ideal) m g h, reference_run (F := Ideal) m m' g' h he⟩,
  fun m g m' g' h he => ⟨res (F := Bits) m, kernel_run (F := Bits) m g h, reference_run (F := Bits) m m' g' h he⟩⟩

end Cert.Proof

end
